-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualReferenceIdeal (m : (ℓ : Loc Cert.ResidualReferenceIdeal.nD Cert.ResidualReferenceIdeal.τ Cert.ResidualReferenceIdeal.sig) → Buf (Elt Ideal) ℓ) : Prop :=
  True

def Pre_Down [hPre_experts_in_range : Cert.Pre_experts_in_range.Facts] (m : (ℓ : Loc Cert.Down.nD Cert.Down.τ Cert.Down.sig) → Buf (Elt Bits) ℓ) : Prop :=
  ∀ c : Dev Cert.Down.nD,
    (Cert.Pre_experts_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_experts_in_range : Cert.Pre_experts_in_range.Facts] (m : (ℓ : Loc Cert.DownIdeal.nD Cert.DownIdeal.τ Cert.DownIdeal.sig) → Buf (Elt Ideal) ℓ) : Prop :=
  ∀ c : Dev Cert.DownIdeal.nD,
    (Cert.Pre_experts_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_experts_in_range [hPre_experts_in_range : Cert.Pre_experts_in_range.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_experts_in_range.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_Up [hPre_tables_in_range : Cert.Pre_tables_in_range.Facts] (m : (ℓ : Loc Cert.Up.nD Cert.Up.τ Cert.Up.sig) → Buf (Elt Bits) ℓ) : Prop :=
  ∀ c : Dev Cert.Up.nD,
    (Cert.Pre_tables_in_range.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5))) = (fun _ => 1#1)

def Pre_UpIdeal [hPre_tables_in_range : Cert.Pre_tables_in_range.Facts] (m : (ℓ : Loc Cert.UpIdeal.nD Cert.UpIdeal.τ Cert.UpIdeal.sig) → Buf (Elt Ideal) ℓ) : Prop :=
  ∀ c : Dev Cert.UpIdeal.nD,
    (Cert.Pre_tables_in_range.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_tables_in_range [hPre_tables_in_range : Cert.Pre_tables_in_range.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_tables_in_range.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualReferenceIdeal [hResidualReferenceIdeal : Cert.ResidualReferenceIdeal.Facts] : Prop :=
  ∀ (m : (ℓ : Loc Cert.ResidualReferenceIdeal.nD Cert.ResidualReferenceIdeal.τ Cert.ResidualReferenceIdeal.sig) → Buf (Elt Ideal) ℓ) (g : Dev Cert.ResidualReferenceIdeal.nD → PrngReg), Pre_ResidualReferenceIdeal m →
    θ_run (Cert.ResidualReferenceIdeal.defs (F := Ideal)) (onTc (τ := Cert.ResidualReferenceIdeal.τ) (Cert.ResidualReferenceIdeal.main (F := Ideal))) ⟨m, fun _ => 0, g⟩ (fun r => (∀ c : Dev Cert.ResidualReferenceIdeal.nD,
      r.2.mem ((c.tc : Thread Cert.ResidualReferenceIdeal.nD Cert.ResidualReferenceIdeal.τ).loc Cert.ResidualReferenceIdeal.main_arg0) = m ((c.tc : Thread Cert.ResidualReferenceIdeal.nD Cert.ResidualReferenceIdeal.τ).loc Cert.ResidualReferenceIdeal.main_arg0)
      ∧ r.2.mem ((c.tc : Thread Cert.ResidualReferenceIdeal.nD Cert.ResidualReferenceIdeal.τ).loc Cert.ResidualReferenceIdeal.main_arg1) = m ((c.tc : Thread Cert.ResidualReferenceIdeal.nD Cert.ResidualReferenceIdeal.τ).loc Cert.ResidualReferenceIdeal.main_arg1)
      ∧ r.2.mem ((c.tc : Thread Cert.ResidualReferenceIdeal.nD Cert.ResidualReferenceIdeal.τ).loc Cert.ResidualReferenceIdeal.main_arg2) = m ((c.tc : Thread Cert.ResidualReferenceIdeal.nD Cert.ResidualReferenceIdeal.τ).loc Cert.ResidualReferenceIdeal.main_arg2)
      ∧ r.2.mem ((c.tc : Thread Cert.ResidualReferenceIdeal.nD Cert.ResidualReferenceIdeal.τ).loc Cert.ResidualReferenceIdeal.main_arg3) = m ((c.tc : Thread Cert.ResidualReferenceIdeal.nD Cert.ResidualReferenceIdeal.τ).loc Cert.ResidualReferenceIdeal.main_arg3))
      ∧ r.2.sem = fun _ => 0)

def quiescent_Down [hDown : Cert.Down.Facts] [hPre_experts_in_range : Cert.Pre_experts_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_experts_in_range : Cert.Pre_experts_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_experts_in_range [hDownReferenceIdeal : Cert.DownReferenceIdeal.Facts] [hPre_experts_in_range : Cert.Pre_experts_in_range.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_experts_in_range m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Up [hUp : Cert.Up.Facts] [hPre_tables_in_range : Cert.Pre_tables_in_range.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] [hPre_tables_in_range : Cert.Pre_tables_in_range.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_UpReferenceIdeal_pre_tables_in_range [hUpReferenceIdeal : Cert.UpReferenceIdeal.Facts] [hPre_tables_in_range : Cert.Pre_tables_in_range.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_tables_in_range m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3)
      ∧ r.2.mem ((c.tc : Thread Cert.QueryReferenceIdeal.nD Cert.QueryReferenceIdeal.τ).loc Cert.QueryReferenceIdeal.main_arg4) = m ((c.tc : Thread Cert.QueryReferenceIdeal.nD Cert.QueryReferenceIdeal.τ).loc Cert.QueryReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Residual_ResidualIdeal : Prop :=
  True

def algebraic_ResidualIdeal_ResidualReferenceIdeal [hResidualIdeal : Cert.ResidualIdeal.Facts] [hResidualReferenceIdeal : Cert.ResidualReferenceIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualReferenceIdeal.nD Cert.ResidualReferenceIdeal.τ Cert.ResidualReferenceIdeal.sig) → Buf (Elt Ideal) ℓ) (g' : Dev Cert.ResidualReferenceIdeal.nD → PrngReg), Pre_ResidualIdeal m →
    (∀ c : Dev Cert.ResidualIdeal.nD,
      m' ((c.tc : Thread Cert.ResidualReferenceIdeal.nD Cert.ResidualReferenceIdeal.τ).loc Cert.ResidualReferenceIdeal.main_arg0) = m ((c.tc : Thread Cert.ResidualIdeal.nD Cert.ResidualIdeal.τ).loc Cert.ResidualIdeal.main_arg0)
      ∧ m' ((c.tc : Thread Cert.ResidualReferenceIdeal.nD Cert.ResidualReferenceIdeal.τ).loc Cert.ResidualReferenceIdeal.main_arg1) = m ((c.tc : Thread Cert.ResidualIdeal.nD Cert.ResidualIdeal.τ).loc Cert.ResidualIdeal.main_arg1)
      ∧ m' ((c.tc : Thread Cert.ResidualReferenceIdeal.nD Cert.ResidualReferenceIdeal.τ).loc Cert.ResidualReferenceIdeal.main_arg2) = m ((c.tc : Thread Cert.ResidualIdeal.nD Cert.ResidualIdeal.τ).loc Cert.ResidualIdeal.main_arg2)
      ∧ m' ((c.tc : Thread Cert.ResidualReferenceIdeal.nD Cert.ResidualReferenceIdeal.τ).loc Cert.ResidualReferenceIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0) = v0 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualReferenceIdeal.defs (F := Ideal)) (onTc (τ := Cert.ResidualReferenceIdeal.τ) (Cert.ResidualReferenceIdeal.main (F := Ideal))) ⟨m', fun _ => 0, g'⟩ (fun r => ∀ c : Dev Cert.ResidualReferenceIdeal.nD,
          r.2.mem ((c.tc : Thread Cert.ResidualReferenceIdeal.nD Cert.ResidualReferenceIdeal.τ).loc Cert.ResidualReferenceIdeal.main_v5) = v0 c
          ∧ r.2.mem ((c.tc : Thread Cert.ResidualReferenceIdeal.nD Cert.ResidualReferenceIdeal.τ).loc Cert.ResidualReferenceIdeal.main_arg0) = m' ((c.tc : Thread Cert.ResidualReferenceIdeal.nD Cert.ResidualReferenceIdeal.τ).loc Cert.ResidualReferenceIdeal.main_arg0)
          ∧ r.2.mem ((c.tc : Thread Cert.ResidualReferenceIdeal.nD Cert.ResidualReferenceIdeal.τ).loc Cert.ResidualReferenceIdeal.main_arg1) = m' ((c.tc : Thread Cert.ResidualReferenceIdeal.nD Cert.ResidualReferenceIdeal.τ).loc Cert.ResidualReferenceIdeal.main_arg1)
          ∧ r.2.mem ((c.tc : Thread Cert.ResidualReferenceIdeal.nD Cert.ResidualReferenceIdeal.τ).loc Cert.ResidualReferenceIdeal.main_arg2) = m' ((c.tc : Thread Cert.ResidualReferenceIdeal.nD Cert.ResidualReferenceIdeal.τ).loc Cert.ResidualReferenceIdeal.main_arg2)
          ∧ r.2.mem ((c.tc : Thread Cert.ResidualReferenceIdeal.nD Cert.ResidualReferenceIdeal.τ).loc Cert.ResidualReferenceIdeal.main_arg3) = m' ((c.tc : Thread Cert.ResidualReferenceIdeal.nD Cert.ResidualReferenceIdeal.τ).loc Cert.ResidualReferenceIdeal.main_arg3))

def preserves_Down_DownIdeal : Prop :=
  True

def algebraic_DownIdeal_DownReferenceIdeal [hDownIdeal : Cert.DownIdeal.Facts] [hDownReferenceIdeal : Cert.DownReferenceIdeal.Facts] [hPre_experts_in_range : Cert.Pre_experts_in_range.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v25) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Up_UpIdeal : Prop :=
  True

def algebraic_UpIdeal_UpReferenceIdeal [hUpIdeal : Cert.UpIdeal.Facts] [hUpReferenceIdeal : Cert.UpReferenceIdeal.Facts] [hPre_tables_in_range : Cert.Pre_tables_in_range.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v38) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)
      ∧ m' ((c.tc : Thread Cert.NormReferenceIdeal.nD Cert.NormReferenceIdeal.τ).loc Cert.NormReferenceIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v37) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_Query_QueryIdeal : Prop :=
  IdealRules.named_const.Statement Cert.QueryIdeal.κ "query_scale" .f32 0x3E0293EE#32 (((Real.sqrt 128)⁻¹ * (Real.log 2)⁻¹ : ℝ) : EReal)

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)
      ∧ m' ((c.tc : Thread Cert.QueryReferenceIdeal.nD Cert.QueryReferenceIdeal.τ).loc Cert.QueryReferenceIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v3)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v3) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v26) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3)
          ∧ r.2.mem ((c.tc : Thread Cert.QueryReferenceIdeal.nD Cert.QueryReferenceIdeal.τ).loc Cert.QueryReferenceIdeal.main_arg4) = m' ((c.tc : Thread Cert.QueryReferenceIdeal.nD Cert.QueryReferenceIdeal.τ).loc Cert.QueryReferenceIdeal.main_arg4))

def Claim : Prop :=
  ∃ (hKernel : Cert.Kernel.Facts) (hKernelIdeal : Cert.KernelIdeal.Facts) (hReferenceIdeal : Cert.ReferenceIdeal.Facts) (hResidual : Cert.Residual.Facts) (hResidualIdeal : Cert.ResidualIdeal.Facts) (hResidualReferenceIdeal : Cert.ResidualReferenceIdeal.Facts) (hDown : Cert.Down.Facts) (hDownIdeal : Cert.DownIdeal.Facts) (hDownReferenceIdeal : Cert.DownReferenceIdeal.Facts) (hUp : Cert.Up.Facts) (hUpIdeal : Cert.UpIdeal.Facts) (hUpReferenceIdeal : Cert.UpReferenceIdeal.Facts) (hNorm : Cert.Norm.Facts) (hNormIdeal : Cert.NormIdeal.Facts) (hNormReferenceIdeal : Cert.NormReferenceIdeal.Facts) (hQuery : Cert.Query.Facts) (hQueryIdeal : Cert.QueryIdeal.Facts) (hQueryReferenceIdeal : Cert.QueryReferenceIdeal.Facts) (hPre_finite_logits : Cert.Pre_finite_logits.Facts) (hPre_experts_in_range : Cert.Pre_experts_in_range.Facts) (hPre_tables_in_range : Cert.Pre_tables_in_range.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Residual (hResidual := hResidual)
    ∧ quiescent_ResidualIdeal (hResidualIdeal := hResidualIdeal)
    ∧ quiescent_ResidualReferenceIdeal (hResidualReferenceIdeal := hResidualReferenceIdeal)
    ∧ quiescent_Down (hDown := hDown) (hPre_experts_in_range := hPre_experts_in_range)
    ∧ quiescent_DownIdeal (hDownIdeal := hDownIdeal) (hPre_experts_in_range := hPre_experts_in_range)
    ∧ quiescent_DownReferenceIdeal (hDownReferenceIdeal := hDownReferenceIdeal)
    ∧ quiescent_DownReferenceIdeal_pre_experts_in_range (hDownReferenceIdeal := hDownReferenceIdeal) (hPre_experts_in_range := hPre_experts_in_range)
    ∧ quiescent_Up (hUp := hUp) (hPre_tables_in_range := hPre_tables_in_range)
    ∧ quiescent_UpIdeal (hUpIdeal := hUpIdeal) (hPre_tables_in_range := hPre_tables_in_range)
    ∧ quiescent_UpReferenceIdeal (hUpReferenceIdeal := hUpReferenceIdeal)
    ∧ quiescent_UpReferenceIdeal_pre_tables_in_range (hUpReferenceIdeal := hUpReferenceIdeal) (hPre_tables_in_range := hPre_tables_in_range)
    ∧ quiescent_Norm (hNorm := hNorm)
    ∧ quiescent_NormIdeal (hNormIdeal := hNormIdeal)
    ∧ quiescent_NormReferenceIdeal (hNormReferenceIdeal := hNormReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Residual_ResidualIdeal
    ∧ algebraic_ResidualIdeal_ResidualReferenceIdeal (hResidualIdeal := hResidualIdeal) (hResidualReferenceIdeal := hResidualReferenceIdeal)
    ∧ preserves_Down_DownIdeal
    ∧ algebraic_DownIdeal_DownReferenceIdeal (hDownIdeal := hDownIdeal) (hDownReferenceIdeal := hDownReferenceIdeal) (hPre_experts_in_range := hPre_experts_in_range)
    ∧ preserves_Up_UpIdeal
    ∧ algebraic_UpIdeal_UpReferenceIdeal (hUpIdeal := hUpIdeal) (hUpReferenceIdeal := hUpReferenceIdeal) (hPre_tables_in_range := hPre_tables_in_range)
    ∧ preserves_Norm_NormIdeal
    ∧ algebraic_NormIdeal_NormReferenceIdeal (hNormIdeal := hNormIdeal) (hNormReferenceIdeal := hNormReferenceIdeal)
    ∧ preserves_Query_QueryIdeal
    ∧ algebraic_QueryIdeal_QueryReferenceIdeal (hQueryIdeal := hQueryIdeal) (hQueryReferenceIdeal := hQueryReferenceIdeal)
-- ==== Pre_experts_in_range.lean ====
abbrev S37888x1024 : Shape := ⟨2, ![37888, 1024]⟩
abbrev S2x16x1024x4096 : Shape := ⟨4, ![2, 16, 1024, 4096]⟩
abbrev S148 : Shape := ⟨1, ![148]⟩
abbrev S1 : Shape := ⟨1, ![1]⟩
abbrev S_ : Shape := ⟨0, ![]⟩

class Facts : Prop where
  bcast_S_S148 : S_.BroadcastsInDim S148 (![] : Fin 0 → Fin S148.rank)
  reducesTo_S148_S_d0 : S148.ReducesTo [0] S_
  h_S_ : 0 < S_.numel

variable [Facts]

def fn {F : FTy → Type} [FloatOps F] (main_arg0 : FVec F S37888x1024 .bf16) (main_arg1 : FVec F S2x16x1024x4096 .bf16) (main_arg2 : IVec S148 32) (main_arg3 : IVec S1 32) : IVec S_ 1 :=
  let main_c : IVec S_ 32 := constantI S_ 32 0#32
  let main_v0 : IVec S148 32 := broadcastInDim S148 ![] bcast_S_S148 main_c
  let main_v1 : IVec S148 1 := cmpi .sge main_arg2 main_v0
  let main_c_0 : IVec S_ 32 := constantI S_ 32 16#32
  let main_v2 : IVec S148 32 := broadcastInDim S148 ![] bcast_S_S148 main_c_0
  let main_v3 : IVec S148 1 := cmpi .slt main_arg2 main_v2
  let main_v4 : IVec S148 1 := andi main_v1 main_v3
  let main_c_1 : IVec S_ 1 := constantI S_ 1 1#1
  let main_v5 : IVec S_ 1 := (fun x v => Host.reduce IntOp.andi x v reducesTo_S148_S_d0 h_S_) main_v4 main_c_1
  main_v5
-- ==== Pre_finite_logits.lean ====
abbrev S2x8192x4096 : Shape := ⟨3, ![2, 8192, 4096]⟩
abbrev S2x8704x2048 : Shape := ⟨3, ![2, 8704, 2048]⟩
abbrev S32x257 : Shape := ⟨2, ![32, 257]⟩
abbrev S2x8704x1024 : Shape := ⟨3, ![2, 8704, 1024]⟩
abbrev S_ : Shape := ⟨0, ![]⟩

class Facts : Prop where
  slices_S2x8704x2048_S2x8704x1024_0_0_0 : S2x8704x2048.Slices ![0, 0, 0] S2x8704x1024
  bitsLt_bf16_f32 : FTy.bits .bf16 < FTy.bits .f32
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel
  bcast_S_S2x8704x1024 : S_.BroadcastsInDim S2x8704x1024 (![] : Fin 0 → Fin S2x8704x1024.rank)
  reducesTo_S2x8704x1024_S_d0_1_2 : S2x8704x1024.ReducesTo [0, 1, 2] S_
  bcast_S_S32x257 : S_.BroadcastsInDim S32x257 (![] : Fin 0 → Fin S32x257.rank)
  reducesTo_S32x257_S_d0_1 : S32x257.ReducesTo [0, 1] S_

variable [Facts]

def fn {F : FTy → Type} [FloatOps F] (main_arg0 : FVec F S2x8192x4096 .bf16) (main_arg1 : FVec F S2x8704x2048 .bf16) (main_arg2 : FVec F S32x257 .f32) : IVec S_ 1 :=
  let main_v0 : FVec F S2x8704x1024 .bf16 := (extractStridedSlice S2x8704x1024 ![0, 0, 0] · slices_S2x8704x2048_S2x8704x1024_0_0_0) main_arg1
  let main_v1 : FVec F S2x8704x1024 .f32 := (extf .f32 · bitsLt_bf16_f32) main_v0
  let main_v2 : FVec F S2x8192x4096 .f32 := (extf .f32 · bitsLt_bf16_f32) main_arg0
  let main_v3 : FVec F S2x8192x4096 .f32 := Host.absf main_v2
  let main_cst : FVec F S_ .f32 := constant S_ .f32 0x7F800000#32
  let main_v4 : FVec F S2x8192x4096 .f32 := broadcastInDim S2x8192x4096 ![] bcast_S_S2x8192x4096 main_cst
  let main_v5 : IVec S2x8192x4096 1 := cmpf .olt main_v3 main_v4
  let main_c : IVec S_ 1 := constantI S_ 1 1#1
  let main_v6 : IVec S_ 1 := (fun x v => Host.reduce IntOp.andi x v reducesTo_S2x8192x4096_S_d0_1_2 h_S_) main_v5 main_c
  let main_v7 : FVec F S2x8704x1024 .f32 := Host.absf main_v1
  let main_cst_0 : FVec F S_ .f32 := constant S_ .f32 0x7F800000#32
  let main_v8 : FVec F S2x8704x1024 .f32 := broadcastInDim S2x8704x1024 ![] bcast_S_S2x8704x1024 main_cst_0
  let main_v9 : IVec S2x8704x1024 1 := cmpf .olt main_v7 main_v8
  let main_c_1 : IVec S_ 1 := constantI S_ 1 1#1
  let main_v10 : IVec S_ 1 := (fun x v => Host.reduce IntOp.andi x v reducesTo_S2x8704x1024_S_d0_1_2 h_S_) main_v9 main_c_1
  let main_v11 : IVec S_ 1 := andi main_v6 main_v10
  let main_v12 : FVec F S32x257 .f32 := Host.absf main_arg2
  let main_cst_2 : FVec F S_ .f32 := constant S_ .f32 0x7F800000#32
  let main_v13 : FVec F S32x257 .f32 := broadcastInDim S32x257 ![] bcast_S_S32x257 main_cst_2
  let main_v14 : IVec S32x257 1 := cmpf .olt main_v12 main_v13
  let main_c_3 : IVec S_ 1 := constantI S_ 1 1#1
  let main_v15 : IVec S_ 1 := (fun x v => Host.reduce IntOp.andi x v reducesTo_S32x257_S_d0_1 h_S_) main_v14 main_c_3
  let main_v16 : IVec S_ 1 := andi main_v11 main_v15
  main_v16
-- ==== Pre_tables_in_range.lean ====
abbrev S16896x4096 : Shape := ⟨2, ![16896, 4096]⟩
abbrev S37888 : Shape := ⟨1, ![37888]⟩
abbrev S2x16x4096x1024 : Shape := ⟨4, ![2, 16, 4096, 1024]⟩
abbrev S148 : Shape := ⟨1, ![148]⟩
abbrev S1 : Shape := ⟨1, ![1]⟩
abbrev S_ : Shape := ⟨0, ![]⟩

class Facts : Prop where
  bcast_S_S37888 : S_.BroadcastsInDim S37888 (![] : Fin 0 → Fin S37888.rank)
  reducesTo_S37888_S_d0 : S37888.ReducesTo [0] S_
  h_S_ : 0 < S_.numel
  bcast_S_S148 : S_.BroadcastsInDim S148 (![] : Fin 0 → Fin S148.rank)
  reducesTo_S148_S_d0 : S148.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : IVec S1 32) (main_v12 : IVec S_ 1) (main_v14 : IVec S1 1) (main_v15 : IVec S1 32) : IVec S_ 1 :=
  let main_v16 : IVec S1 1 := cmpi .sle main_arg5 main_v15
  let main_v17 : IVec S1 1 := andi main_v14 main_v16
  let main_c_7 : IVec S_ 1 := constantI S_ 1 1#1
  let main_v18 : IVec S_ 1 := (fun x v => Host.reduce IntOp.andi x v reducesTo_S1_S_d0 h_S_) main_v17 main_c_7
  let main_v19 : IVec S_ 1 := andi main_v12 main_v18
  main_v19

def fn {F : FTy → Type} [FloatOps F] (main_arg0 : FVec F S16896x4096 .f32) (main_arg1 : IVec S37888 32) (main_arg2 : FVec F S2x16x4096x1024 .bf16) (main_arg3 : FVec F S2x16x4096x1024 .bf16) (main_arg4 : IVec S148 32) (main_arg5 : IVec S1 32) : IVec S_ 1 :=
  let main_c : IVec S_ 32 := constantI S_ 32 0#32
  let main_v0 : IVec S37888 32 := broadcastInDim S37888 ![] bcast_S_S37888 main_c
  let main_v1 : IVec S37888 1 := cmpi .sge main_arg1 main_v0
  let main_c_0 : IVec S_ 32 := constantI S_ 32 16896#32
  let main_v2 : IVec S37888 32 := broadcastInDim S37888 ![] bcast_S_S37888 main_c_0
  let main_v3 : IVec S37888 1 := cmpi .slt main_arg1 main_v2
  let main_v4 : IVec S37888 1 := andi main_v1 main_v3
  let main_c_1 : IVec S_ 1 := constantI S_ 1 1#1
  let main_v5 : IVec S_ 1 := (fun x v => Host.reduce IntOp.andi x v reducesTo_S37888_S_d0 h_S_) main_v4 main_c_1
  let main_c_2 : IVec S_ 32 := constantI S_ 32 0#32
  let main_v6 : IVec S148 32 := broadcastInDim S148 ![] bcast_S_S148 main_c_2
  let main_v7 : IVec S148 1 := cmpi .sge main_arg4 main_v6
  let main_c_3 : IVec S_ 32 := constantI S_ 32 16#32
  let main_v8 : IVec S148 32 := broadcastInDim S148 ![] bcast_S_S148 main_c_3
  let main_v9 : IVec S148 1 := cmpi .slt main_arg4 main_v8
  let main_v10 : IVec S148 1 := andi main_v7 main_v9
  let main_c_4 : IVec S_ 1 := constantI S_ 1 1#1
  let main_v11 : IVec S_ 1 := (fun x v => Host.reduce IntOp.andi x v reducesTo_S148_S_d0 h_S_) main_v10 main_c_4
  let main_v12 : IVec S_ 1 := andi main_v5 main_v11
  let main_c_5 : IVec S_ 32 := constantI S_ 32 0#32
  let main_v13 : IVec S1 32 := broadcastInDim S1 ![] bcast_S_S1 main_c_5
  let main_v14 : IVec S1 1 := cmpi .sge main_arg5 main_v13
  let main_c_6 : IVec S_ 32 := constantI S_ 32 147#32
  let main_v15 : IVec S1 32 := broadcastInDim S1 ![] bcast_S_S1 main_c_6
  fn_part1 (F := F) main_arg5 main_v12 main_v14 main_v15
-- ==== Kernel.lean ====
abbrev S2x8192x4096 : Shape := ⟨3, ![2, 8192, 4096]⟩
abbrev S2x8704x2048 : Shape := ⟨3, ![2, 8704, 2048]⟩
abbrev S32x257 : Shape := ⟨2, ![32, 257]⟩
abbrev S767 : Shape := ⟨1, ![767]⟩
abbrev S_ : Shape := ⟨0, ![]⟩
abbrev S767x1 : Shape := ⟨2, ![767, 1]⟩
abbrev S32x767 : Shape := ⟨2, ![32, 767]⟩
abbrev S1x32x1x767 : Shape := ⟨4, ![1, 32, 1, 767]⟩
abbrev S1x32x128x767 : Shape := ⟨4, ![1, 32, 128, 767]⟩
abbrev S32x98176 : Shape := ⟨2, ![32, 98176]⟩
abbrev S32x98048 : Shape := ⟨2, ![32, 98048]⟩
abbrev S32x128x766 : Shape := ⟨3, ![32, 128, 766]⟩
abbrev S32x128x640 : Shape := ⟨3, ![32, 128, 640]⟩
abbrev S128 : Shape := ⟨1, ![128]⟩
abbrev S128x1 : Shape := ⟨2, ![128, 1]⟩
abbrev S640 : Shape := ⟨1, ![640]⟩
abbrev S1x640 : Shape := ⟨2, ![1, 640]⟩
abbrev S128x640 : Shape := ⟨2, ![128, 640]⟩
abbrev S1x128x640 : Shape := ⟨3, ![1, 128, 640]⟩
abbrev S1x512x512 : Shape := ⟨3, ![1, 512, 512]⟩
abbrev S1x8704x128 : Shape := ⟨3, ![1, 8704, 128]⟩
abbrev S4x128x640 : Shape := ⟨3, ![4, 128, 640]⟩
abbrev S640x128 : Shape := ⟨2, ![640, 128]⟩
abbrev S512x640 : Shape := ⟨2, ![512, 640]⟩
abbrev S1x640x128 : Shape := ⟨3, ![1, 640, 128]⟩
abbrev S640x256 : Shape := ⟨2, ![640, 256]⟩
abbrev S1x128x512 : Shape := ⟨3, ![1, 128, 512]⟩
abbrev S128x512 : Shape := ⟨2, ![128, 512]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x128x128 : Shape := ⟨3, ![1, 128, 128]⟩

abbrev nBuf : Space → Nat
  | .hbm => 97
  | .vmem => 10
  | .smem => 0
  | _ => 0

abbrev bufTy : (tb : Table) → Fin (tcTables nBuf tb) → BufTy
  | .hbm, ⟨0, _⟩ => ⟨S2x8192x4096, .bf16⟩
  | .hbm, ⟨1, _⟩ => ⟨S2x8704x2048, .bf16⟩
  | .hbm, ⟨2, _⟩ => ⟨S32x257, .f32⟩
  | .hbm, ⟨3, _⟩ => ⟨S767, .i32⟩
  | .hbm, ⟨4, _⟩ => ⟨S_, .i32⟩
  | .hbm, ⟨5, _⟩ => ⟨S767, .i32⟩
  | .hbm, ⟨6, _⟩ => ⟨S767, .i1⟩
  | .hbm, ⟨7, _⟩ => ⟨S_, .i32⟩
  | .hbm, ⟨8, _⟩ => ⟨S767, .i32⟩
  | .hbm, ⟨9, _⟩ => ⟨S767, .i32⟩
  | .hbm, ⟨10, _⟩ => ⟨S767, .i32⟩
  | .hbm, ⟨11, _⟩ => ⟨S_, .i32⟩
  | .hbm, ⟨12, _⟩ => ⟨S767, .i32⟩
  | .hbm, ⟨13, _⟩ => ⟨S767, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S767, .i32⟩
  | .hbm, ⟨18, _⟩ => ⟨S767, .i32⟩
  | .hbm, ⟨19, _⟩ => ⟨S_, .i32⟩
  | .hbm, ⟨20, _⟩ => ⟨S767, .i32⟩
  | .hbm, ⟨21, _⟩ => ⟨S767, .i32⟩
  | .hbm, ⟨22, _⟩ => ⟨S_, .i32⟩
  | .hbm, ⟨23, _⟩ => ⟨S767, .i32⟩
  | .hbm, ⟨24, _⟩ => ⟨S767, .i32⟩
  | .hbm, ⟨25, _⟩ => ⟨S_, .i32⟩
  | .hbm, ⟨26, _⟩ => ⟨S767, .i32⟩
  | .hbm, ⟨27, _⟩ => ⟨S767, .i1⟩
  | .hbm, ⟨28, _⟩ => ⟨S_, .i32⟩
  | .hbm, ⟨29, _⟩ => ⟨S767, .i32⟩
  | .hbm, ⟨30, _⟩ => ⟨S767, .i32⟩
  | .hbm, ⟨31, _⟩ => ⟨S767, .i32⟩
  | .hbm, ⟨32, _⟩ => ⟨S767x1, .i32⟩
  | .hbm, ⟨33, _⟩ => ⟨S32x767, .f32⟩
  | .hbm, ⟨34, _⟩ => ⟨S1x32x1x767, .f32⟩
  | .hbm, ⟨35, _⟩ => ⟨S1x32x128x767, .f32⟩
  | .hbm, ⟨36, _⟩ => ⟨S32x98176, .f32⟩
  | .hbm, ⟨37, _⟩ => ⟨S32x98048, .f32⟩
  | .hbm, ⟨38, _⟩ => ⟨S32x128x766, .f32⟩
  | .hbm, ⟨39, _⟩ => ⟨S32x128x640, .f32⟩
  | .hbm, ⟨40, _⟩ => ⟨S128, .i32⟩
  | .hbm, ⟨41, _⟩ => ⟨S128x1, .i32⟩
  | .hbm, ⟨42, _⟩ => ⟨S640, .i32⟩
  | .hbm, ⟨43, _⟩ => ⟨S1x640, .i32⟩
  | .hbm, ⟨44, _⟩ => ⟨S_, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S128x1, .i32⟩
  | .hbm, ⟨51, _⟩ => ⟨S128x1, .i1⟩
  | .hbm, ⟨52, _⟩ => ⟨S128x1, .i32⟩
  | .hbm, ⟨53, _⟩ => ⟨S128x1, .i32⟩
  | .hbm, ⟨54, _⟩ => ⟨S_, .i32⟩
  | .hbm, ⟨55, _⟩ => ⟨S128x1, .i32⟩
  | .hbm, ⟨56, _⟩ => ⟨S128x1, .i1⟩
  | .hbm, ⟨57, _⟩ => ⟨S128x1, .i1⟩
  | .hbm, ⟨58, _⟩ => ⟨S_, .i32⟩
  | .hbm, ⟨59, _⟩ => ⟨S128x1, .i32⟩
  | .hbm, ⟨60, _⟩ => ⟨S128x1, .i32⟩
  | .hbm, ⟨61, _⟩ => ⟨S128x1, .i32⟩
  | .hbm, ⟨62, _⟩ => ⟨S_, .i32⟩
  | .hbm, ⟨63, _⟩ => ⟨S_, .i32⟩
  | .hbm, ⟨64, _⟩ => ⟨S1x640, .i32⟩
  | .hbm, ⟨65, _⟩ => ⟨S1x640, .i32⟩
  | .hbm, ⟨66, _⟩ => ⟨S1x640, .i32⟩
  | .hbm, ⟨67, _⟩ => ⟨S_, .i32⟩
  | .hbm, ⟨68, _⟩ => ⟨S1x640, .i32⟩
  | .hbm, ⟨69, _⟩ => ⟨S1x640, .i1⟩
  | .hbm, ⟨70, _⟩ => ⟨S1x640, .i32⟩
  | .hbm, ⟨71, _⟩ => ⟨S1x640, .i32⟩
  | .hbm, ⟨72, _⟩ => ⟨S_, .i32⟩
  | .hbm, ⟨73, _⟩ => ⟨S1x640, .i32⟩
  | .hbm, ⟨74, _⟩ => ⟨S1x640, .i1⟩
  | .hbm, ⟨75, _⟩ => ⟨S1x640, .i1⟩
  | .hbm, ⟨76, _⟩ => ⟨S_, .i32⟩
  | .hbm, ⟨77, _⟩ => ⟨S1x640, .i32⟩
  | .hbm, ⟨78, _⟩ => ⟨S1x640, .i32⟩
  | .hbm, ⟨79, _⟩ => ⟨S1x640, .i32⟩
  | .hbm, ⟨80, _⟩ => ⟨S128x640, .i32⟩
  | .hbm, ⟨81, _⟩ => ⟨S128x640, .i32⟩
  | .hbm, ⟨82, _⟩ => ⟨S128x640, .i1⟩
  | .hbm, ⟨83, _⟩ => ⟨S_, .i32⟩
  | .hbm, ⟨84, _⟩ => ⟨S128x1, .i32⟩
  | .hbm, ⟨85, _⟩ => ⟨S128x1, .i32⟩
  | .hbm, ⟨86, _⟩ => ⟨S128x640, .i32⟩
  | .hbm, ⟨87, _⟩ => ⟨S128x640, .i32⟩
  | .hbm, ⟨88, _⟩ => ⟨S128x640, .i1⟩
  | .hbm, ⟨89, _⟩ => ⟨S128x640, .i1⟩
  | .hbm, ⟨90, _⟩ => ⟨S1x128x640, .i1⟩
  | .hbm, ⟨91, _⟩ => ⟨S_, .f32⟩
  | .hbm, ⟨92, _⟩ => ⟨S_, .f32⟩
  | .hbm, ⟨93, _⟩ => ⟨S32x128x640, .i1⟩
  | .hbm, ⟨94, _⟩ => ⟨S32x128x640, .f32⟩
  | .hbm, ⟨95, _⟩ => ⟨S32x128x640, .f32⟩
  | .hbm, ⟨96, _⟩ => ⟨S2x8192x4096, .bf16⟩
  | .local _ .vmem, ⟨0, _⟩ => ⟨S1x512x512, .bf16⟩
  | .local _ .vmem, ⟨1, _⟩ => ⟨S1x512x512, .bf16⟩
  | .local _ .vmem, ⟨2, _⟩ => ⟨S1x8704x128, .bf16⟩
  | .local _ .vmem, ⟨3, _⟩ => ⟨S1x8704x128, .bf16⟩
  | .local _ .vmem, ⟨4, _⟩ => ⟨S1x8704x128, .bf16⟩
  | .local _ .vmem, ⟨5, _⟩ => ⟨S1x8704x128, .bf16⟩
  | .local _ .vmem, ⟨6, _⟩ => ⟨S4x128x640, .f32⟩
  | .local _ .vmem, ⟨7, _⟩ => ⟨S4x128x640, .f32⟩
  | .local _ .vmem, ⟨8, _⟩ => ⟨S1x512x512, .bf16⟩
  | .local _ .vmem, ⟨9, _⟩ => ⟨S1x512x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_c_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v8 : Ref sig .tc := ⟨.hbm, 21, rfl⟩
abbrev main_c_4 : Ref sig .tc := ⟨.hbm, 22, rfl⟩
abbrev main_v9 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v28 : Ref sig .tc := ⟨.hbm, 61, rfl⟩
abbrev main_c_8 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_c : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_0 : Ref sig .tc := ⟨.hbm, 76, rfl⟩
abbrev main_call3_v12 : Ref sig .tc := ⟨.hbm, 77, rfl⟩
abbrev main_call3_v13 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_c_9 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v40 : Ref sig .tc := ⟨.hbm, 95, rfl⟩
abbrev main_v41 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

def k0_cond1 (i : grid0.Coords) : BitVec 1 :=
  let arg2 : BitVec 32 := BitVec.ofNat 32 (i 2).val
  let c1_i32 : BitVec 32 := 1#32
  let v1 : BitVec 1 := Scalar.cmpi .slt arg2 c1_i32
  let v2 : BitVec 32 := Scalar.extui v1
  let c0_i32 : BitVec 32 := 0#32
  let v3 : BitVec 1 := Scalar.cmpi .ne v2 c0_i32
  v3

def k0_mult1 (i : grid0.Coords) : BitVec 32 :=
  let arg2 : BitVec 32 := BitVec.ofNat 32 (i 2).val
  let c8_i32 : BitVec 32 := 8#32
  let v12 : BitVec 32 := Scalar.muli arg2 c8_i32
  let c0_i32_5 : BitVec 32 := 0#32
  let v13 : BitVec 32 := Scalar.addi v12 c0_i32_5
  let c64_i32 : BitVec 32 := 64#32
  let v14 : BitVec 32 := Scalar.muli v13 c64_i32
  v14
def k0_off1 (i : grid0.Coords) (c0_i32_5 : BitVec 32) : Fin 3 → Nat :=
  let c0_6 : Index := 0#32
  let arg2 : BitVec 32 := BitVec.ofNat 32 (i 2).val
  let c8_i32 : BitVec 32 := 8#32
  let v12 : BitVec 32 := Scalar.muli arg2 c8_i32
  let v13 : BitVec 32 := Scalar.addi v12 c0_i32_5
  let c64_i32 : BitVec 32 := 64#32
  let v14 : BitVec 32 := Scalar.muli v13 c64_i32
  let v15 : BitVec 32 := v14
  let v16 : Index := Scalar.indexCast v15
  let c0_7 : Index := 0#32
  ![0, v16.toNat, 0]
def k0_mult2 (i : grid0.Coords) : BitVec 32 :=
  let arg2 : BitVec 32 := BitVec.ofNat 32 (i 2).val
  let c8_i32_29 : BitVec 32 := 8#32
  let v72 : BitVec 32 := Scalar.muli arg2 c8_i32_29
  let c2_i32 : BitVec 32 := 2#32
  let v73 : BitVec 32 := Scalar.addi v72 c2_i32
  let c64_i32_30 : BitVec 32 := 64#32
  let v74 : BitVec 32 := Scalar.muli v73 c64_i32_30
  v74
def k0_mult3 (i : grid0.Coords) : BitVec 32 :=
  let arg2 : BitVec 32 := BitVec.ofNat 32 (i 2).val
  let c8_i32_57 : BitVec 32 := 8#32
  let v132 : BitVec 32 := Scalar.muli arg2 c8_i32_57
  let c4_i32 : BitVec 32 := 4#32
  let v133 : BitVec 32 := Scalar.addi v132 c4_i32
  let c64_i32_58 : BitVec 32 := 64#32
  let v134 : BitVec 32 := Scalar.muli v133 c64_i32_58
  v134
def k0_mult4 (i : grid0.Coords) : BitVec 32 :=
  let arg2 : BitVec 32 := BitVec.ofNat 32 (i 2).val
  let c8_i32_85 : BitVec 32 := 8#32
  let v192 : BitVec 32 := Scalar.muli arg2 c8_i32_85
  let c6_i32 : BitVec 32 := 6#32
  let v193 : BitVec 32 := Scalar.addi v192 c6_i32
  let c64_i32_86 : BitVec 32 := 64#32
  let v194 : BitVec 32 := Scalar.muli v193 c64_i32_86
  v194
def k0_cond2 (i : grid0.Coords) : BitVec 1 :=
  let arg2 : BitVec 32 := BitVec.ofNat 32 (i 2).val
  let c1_i32_0 : BitVec 32 := 1#32
  let v4 : BitVec 1 := Scalar.cmpi .sge arg2 c1_i32_0
  let v5 : BitVec 32 := Scalar.extui v4
  let c0_i32_1 : BitVec 32 := 0#32
  let v6 : BitVec 1 := Scalar.cmpi .ne v5 c0_i32_1
  v6

def k0_mult5 (i : grid0.Coords) : BitVec 32 :=
  let arg2 : BitVec 32 := BitVec.ofNat 32 (i 2).val
  let c8_i32 : BitVec 32 := 8#32
  let v12 : BitVec 32 := Scalar.muli arg2 c8_i32
  let c0_i32_5 : BitVec 32 := 0#32
  let v13 : BitVec 32 := Scalar.addi v12 c0_i32_5
  let c64_i32 : BitVec 32 := 64#32
  let v14 : BitVec 32 := Scalar.muli v13 c64_i32
  v14
def k0_off2 (i : grid0.Coords) (c0_i32_5 : BitVec 32) : Fin 3 → Nat :=
  let c0_6 : Index := 0#32
  let arg2 : BitVec 32 := BitVec.ofNat 32 (i 2).val
  let c8_i32 : BitVec 32 := 8#32
  let v12 : BitVec 32 := Scalar.muli arg2 c8_i32
  let v13 : BitVec 32 := Scalar.addi v12 c0_i32_5
  let c64_i32 : BitVec 32 := 64#32
  let v14 : BitVec 32 := Scalar.muli v13 c64_i32
  let v15 : BitVec 32 := v14
  let v16 : Index := Scalar.indexCast v15
  let c0_7 : Index := 0#32
  ![0, v16.toNat, 0]
def k0_mult6 (i : grid0.Coords) : BitVec 32 :=
  let arg2 : BitVec 32 := BitVec.ofNat 32 (i 2).val
  let c8_i32_26 : BitVec 32 := 8#32
  let v65 : BitVec 32 := Scalar.muli arg2 c8_i32_26
  let c2_i32 : BitVec 32 := 2#32
  let v66 : BitVec 32 := Scalar.addi v65 c2_i32
  let c64_i32_27 : BitVec 32 := 64#32
  let v67 : BitVec 32 := Scalar.muli v66 c64_i32_27
  v67
def k0_mult7 (i : grid0.Coords) : BitVec 32 :=
  let arg2 : BitVec 32 := BitVec.ofNat 32 (i 2).val
  let c8_i32_51 : BitVec 32 := 8#32
  let v118 : BitVec 32 := Scalar.muli arg2 c8_i32_51
  let c4_i32 : BitVec 32 := 4#32
  let v119 : BitVec 32 := Scalar.addi v118 c4_i32
  let c64_i32_52 : BitVec 32 := 64#32
  let v120 : BitVec 32 := Scalar.muli v119 c64_i32_52
  v120
def k0_mult8 (i : grid0.Coords) : BitVec 32 :=
  let arg2 : BitVec 32 := BitVec.ofNat 32 (i 2).val
  let c8_i32_76 : BitVec 32 := 8#32
  let v171 : BitVec 32 := Scalar.muli arg2 c8_i32_76
  let c6_i32 : BitVec 32 := 6#32
  let v172 : BitVec 32 := Scalar.addi v171 c6_i32
  let c64_i32_77 : BitVec 32 := 64#32
  let v173 : BitVec 32 := Scalar.muli v172 c64_i32_77
  v173
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2x8192x4096 : Shape := ⟨3, ![2, 8192, 4096]⟩
abbrev S2x8704x2048 : Shape := ⟨3, ![2, 8704, 2048]⟩
abbrev S32x257 : Shape := ⟨2, ![32, 257]⟩
abbrev S2x8704x2x8x128 : Shape := ⟨5, ![2, 8704, 2, 8, 128]⟩
abbrev S2x8704x1x8x128 : Shape := ⟨5, ![2, 8704, 1, 8, 128]⟩
abbrev S2x8704x8x128 : Shape := ⟨4, ![2, 8704, 8, 128]⟩
abbrev S8192 : Shape := ⟨1, ![8192]⟩
abbrev S8704 : Shape := ⟨1, ![8704]⟩
abbrev S_ : Shape := ⟨0, ![]⟩
abbrev S2x8192x8x4x128 : Shape := ⟨5, ![2, 8192, 8, 4, 128]⟩
abbrev S2x8x8704x8192x4 : Shape := ⟨5, ![2, 8, 8704, 8192, 4]⟩
abbrev S2x8x4x8192x8704 : Shape := ⟨5, ![2, 8, 4, 8192, 8704]⟩
abbrev S8192x1 : Shape := ⟨2, ![8192, 1]⟩
abbrev S1x8704 : Shape := ⟨2, ![1, 8704]⟩
abbrev S8192x8704 : Shape := ⟨2, ![8192, 8704]⟩
abbrev S8192x8704x1 : Shape := ⟨3, ![8192, 8704, 1]⟩
abbrev S32x8192x8704 : Shape := ⟨3, ![32, 8192, 8704]⟩
abbrev S8x4x8192x8704 : Shape := ⟨4, ![8, 4, 8192, 8704]⟩
abbrev S1x8x4x8192x8704 : Shape := ⟨5, ![1, 8, 4, 8192, 8704]⟩
abbrev S2x8x4x8192 : Shape := ⟨4, ![2, 8, 4, 8192]⟩
abbrev S2x8x4x8192x1 : Shape := ⟨5, ![2, 8, 4, 8192, 1]⟩
abbrev S2x8x128x4x8192 : Shape := ⟨5, ![2, 8, 128, 4, 8192]⟩

abbrev nBuf : Space → Nat
  | .hbm => 130
  | .vmem => 0
  | .smem => 0
  | _ => 0

abbrev hbmTy0_0 (i : Nat) : BufTy := match i % 128 with
  | 0 => ⟨S2x8192x4096, .bf16⟩
  | 1 => ⟨S2x8704x2048, .bf16⟩
  | 2 => ⟨S32x257, .f32⟩
  | 3 => ⟨S2x8704x2048, .f32⟩
  | 4 => ⟨S2x8704x2x8x128, .f32⟩
  | 5 => ⟨S2x8704x1x8x128, .f32⟩
  | 6 => ⟨S2x8704x8x128, .f32⟩
  | 7 => ⟨S2x8704x1x8x128, .f32⟩
  | 8 => ⟨S2x8704x8x128, .f32⟩
  | 9 => ⟨S8192, .i32⟩
  | 10 => ⟨S8704, .i32⟩
  | 11 => ⟨S_, .i32⟩
  | 12 => ⟨S8704, .i32⟩
  | 13 => ⟨S8704, .i32⟩
  | 14 => ⟨S2x8192x4096, .f32⟩
  | 15 => ⟨S2x8192x8x4x128, .f32⟩
  | 16 => ⟨S2x8x8704x8192x4, .f32⟩
  | 17 => ⟨S2x8x4x8192x8704, .f32⟩
  | 18 => ⟨S_, .f32⟩
  | 19 => ⟨S_, .f32⟩
  | 20 => ⟨S2x8x4x8192x8704, .f32⟩
  | 21 => ⟨S2x8x4x8192x8704, .f32⟩
  | 22 => ⟨S8192x1, .i32⟩
  | 23 => ⟨S1x8704, .i32⟩
  | 24 => ⟨S8192x8704, .i32⟩
  | 25 => ⟨S8192x8704, .i32⟩
  | 26 => ⟨S8192x8704, .i32⟩
  | 27 => ⟨S_, .i32⟩
  | 28 => ⟨S_, .i32⟩
  | 29 => ⟨S_, .i32⟩
  | 30 => ⟨S8192x8704, .i32⟩
  | 31 => ⟨S8192x8704, .i32⟩
  | 32 => ⟨S_, .i32⟩
  | 33 => ⟨S8192x8704, .i32⟩
  | 34 => ⟨S8192x8704, .i32⟩
  | 35 => ⟨S_, .i32⟩
  | 36 => ⟨S8192x8704, .i32⟩
  | 37 => ⟨S8192x8704, .i32⟩
  | 38 => ⟨S_, .i32⟩
  | 39 => ⟨S8192x8704, .i32⟩
  | 40 => ⟨S8192x8704, .i1⟩
  | 41 => ⟨S_, .i32⟩
  | 42 => ⟨S8192x8704, .i32⟩
  | 43 => ⟨S8192x8704, .i32⟩
  | 44 => ⟨S8192x8704, .i32⟩
  | 45 => ⟨S8192x8704x1, .i32⟩
  | 46 => ⟨S32x8192x8704, .f32⟩
  | 47 => ⟨S8x4x8192x8704, .f32⟩
  | 48 => ⟨S_, .i32⟩
  | 49 => ⟨S_, .i32⟩
  | 50 => ⟨S8192, .i32⟩
  | 51 => ⟨S8192, .i32⟩
  | 52 => ⟨S8192, .i32⟩
  | 53 => ⟨S_, .i32⟩
  | 54 => ⟨S8192, .i32⟩
  | 55 => ⟨S8192, .i1⟩
  | 56 => ⟨S8192, .i32⟩
  | 57 => ⟨S8192, .i32⟩
  | 58 => ⟨S_, .i32⟩
  | 59 => ⟨S8192, .i32⟩
  | 60 => ⟨S8192, .i1⟩
  | 61 => ⟨S8192, .i1⟩
  | 62 => ⟨S_, .i32⟩
  | 63 => ⟨S8192, .i32⟩
  | 64 => ⟨S8192, .i32⟩
  | 65 => ⟨S8192, .i32⟩
  | 66 => ⟨S_, .i32⟩
  | 67 => ⟨S_, .i32⟩
  | 68 => ⟨S8704, .i32⟩
  | 69 => ⟨S8704, .i32⟩
  | 70 => ⟨S8704, .i32⟩
  | 71 => ⟨S_, .i32⟩
  | 72 => ⟨S8704, .i32⟩
  | 73 => ⟨S8704, .i1⟩
  | 74 => ⟨S8704, .i32⟩
  | 75 => ⟨S8704, .i32⟩
  | 76 => ⟨S_, .i32⟩
  | 77 => ⟨S8704, .i32⟩
  | 78 => ⟨S8704, .i1⟩
  | 79 => ⟨S8704, .i1⟩
  | 80 => ⟨S_, .i32⟩
  | 81 => ⟨S8704, .i32⟩
  | 82 => ⟨S8704, .i32⟩
  | 83 => ⟨S8704, .i32⟩
  | 84 => ⟨S1x8704, .i32⟩
  | 85 => ⟨S_, .i32⟩
  | 86 => ⟨S1x8704, .i32⟩
  | 87 => ⟨S1x8704, .i1⟩
  | 88 => ⟨S1x8704, .i32⟩
  | 89 => ⟨S8192x1, .i32⟩
  | 90 => ⟨S8192x8704, .i32⟩
  | 91 => ⟨S8192x8704, .i32⟩
  | 92 => ⟨S8192x8704, .i1⟩
  | 93 => ⟨S8192x8704, .i1⟩
  | 94 => ⟨S8192x8704, .i1⟩
  | 95 => ⟨S1x8704, .i32⟩
  | 96 => ⟨S8192x1, .i32⟩
  | 97 => ⟨S_, .i32⟩
  | 98 => ⟨S8192x1, .i32⟩
  | 99 => ⟨S8192x1, .i32⟩
  | 100 => ⟨S8192x8704, .i32⟩
  | 101 => ⟨S8192x8704, .i32⟩
  | 102 => ⟨S8192x8704, .i1⟩
  | 103 => ⟨S8192x8704, .i1⟩
  | 104 => ⟨S1x8x4x8192x8704, .f32⟩
  | 105 => ⟨S2x8x4x8192x8704, .f32⟩
  | 106 => ⟨S2x8x4x8192x8704, .f32⟩
  | 107 => ⟨S_, .f32⟩
  | 108 => ⟨S_, .f32⟩
  | 109 => ⟨S2x8x4x8192x8704, .i1⟩
  | 110 => ⟨S2x8x4x8192x8704, .f32⟩
  | 111 => ⟨S2x8x4x8192x8704, .f32⟩
  | 112 => ⟨S_, .f32⟩
  | 113 => ⟨S2x8x4x8192, .f32⟩
  | 114 => ⟨S_, .f32⟩
  | 115 => ⟨S2x8x4x8192, .f32⟩
  | 116 => ⟨S2x8x4x8192, .f32⟩
  | 117 => ⟨S2x8x4x8192x1, .f32⟩
  | 118 => ⟨S2x8x4x8192x8704, .f32⟩
  | 119 => ⟨S2x8x4x8192x8704, .f32⟩
  | 120 => ⟨S2x8x4x8192x8704, .f32⟩
  | 121 => ⟨S_, .f32⟩
  | 122 => ⟨S2x8x4x8192, .f32⟩
  | 123 => ⟨S2x8x4x8192x1, .f32⟩
  | 124 => ⟨S2x8x4x8192x8704, .f32⟩
  | 125 => ⟨S2x8x4x8192x8704, .f32⟩
  | 126 => ⟨S2x8x128x4x8192, .f32⟩
  | 127 => ⟨S2x8192x8x4x128, .f32⟩
  | _ => ⟨S2x8192x4096, .bf16⟩

abbrev hbmTy0_1 (i : Nat) : BufTy := match i % 128 with
  | 0 => ⟨S2x8192x4096, .f32⟩
  | 1 => ⟨S2x8192x4096, .bf16⟩
  | _ => ⟨S2x8192x4096, .bf16⟩

abbrev hbmTy (i : Nat) : BufTy := match i / 128 with
  | 0 => hbmTy0_0 i
  | 1 => hbmTy0_1 i
  | _ => ⟨S2x8192x4096, .bf16⟩

abbrev bufTy : (tb : Table) → Fin (tcTables nBuf tb) → BufTy
  | .hbm, ⟨i, _⟩ => hbmTy i
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v33 : Ref sig .tc := ⟨.hbm, 65, rfl⟩
abbrev main_c_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_c : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_0 : Ref sig .tc := ⟨.hbm, 80, rfl⟩
abbrev main_call2_v12 : Ref sig .tc := ⟨.hbm, 81, rfl⟩
abbrev main_call2_v13 : Ref sig .tc := ⟨.hbm, 82, rfl⟩
abbrev main_v34 : Ref sig .tc := ⟨.hbm, 83, rfl⟩
abbrev main_v35 : Ref sig .tc := ⟨.hbm, 84, rfl⟩
abbrev main_c_7 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_c_8 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_9 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v56 : Ref sig .tc := ⟨.hbm, 111, rfl⟩
abbrev main_cst_10 : Ref sig .tc := ⟨.hbm, 112, rfl⟩
abbrev main_v57 : Ref sig .tc := ⟨.hbm, 113, rfl⟩
abbrev main_cst_11 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_12 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩

abbrev nD : Nat := 1
abbrev τ : Topo := Topo.v7x

variable {F : FTy → Type} [FloatOps F]
-- ==== Residual.lean ====
abbrev S2x8192x4096 : Shape := ⟨3, ![2, 8192, 4096]⟩
abbrev S4096x4096 : Shape := ⟨2, ![4096, 4096]⟩
abbrev S2x1x4096 : Shape := ⟨3, ![2, 1, 4096]⟩
abbrev S1x512x4096 : Shape := ⟨3, ![1, 512, 4096]⟩
abbrev S4096x1024 : Shape := ⟨2, ![4096, 1024]⟩
abbrev S1x512x1024 : Shape := ⟨3, ![1, 512, 1024]⟩
abbrev S1x1x1024 : Shape := ⟨3, ![1, 1, 1024]⟩
abbrev S512x4096 : Shape := ⟨2, ![512, 4096]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x4096, .bf16⟩
  | .hbm, ⟨1, _⟩ => ⟨S4096x4096, .bf16⟩
  | .hbm, ⟨2, _⟩ => ⟨S2x8192x4096, .f32⟩
  | .hbm, ⟨3, _⟩ => ⟨S2x1x4096, .f32⟩
  | .hbm, ⟨4, _⟩ => ⟨S2x8192x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ResidualReferenceIdeal.lean ====
abbrev S2x8192x4096 : Shape := ⟨3, ![2, 8192, 4096]⟩
abbrev S4096x4096 : Shape := ⟨2, ![4096, 4096]⟩
abbrev S2x1x4096 : Shape := ⟨3, ![2, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S4096x4096, .bf16⟩
  | .hbm, ⟨2, _⟩ => ⟨S2x8192x4096, .f32⟩
  | .hbm, ⟨3, _⟩ => ⟨S2x1x4096, .f32⟩
  | .hbm, ⟨4, _⟩ => ⟨S2x8192x4096, .f32⟩
  | .hbm, ⟨5, _⟩ => ⟨S4096x4096, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S37888x1024 : Shape := ⟨2, ![37888, 1024]⟩
abbrev S2x16x1024x4096 : Shape := ⟨4, ![2, 16, 1024, 4096]⟩
abbrev S148 : Shape := ⟨1, ![148]⟩
abbrev S1 : Shape := ⟨1, ![1]⟩
abbrev S37888x4096 : Shape := ⟨2, ![37888, 4096]⟩
abbrev S256x1024 : Shape := ⟨2, ![256, 1024]⟩
abbrev S1x1x1024x4096 : Shape := ⟨4, ![1, 1, 1024, 4096]⟩
abbrev S256x4096 : Shape := ⟨2, ![256, 4096]⟩
abbrev S1024x4096 : Shape := ⟨2, ![1024, 4096]⟩

abbrev nBuf : Space → Nat
  | .hbm => 3
  | .vmem => 6
  | .smem => 2
  | _ => 0

abbrev bufTy : (tb : Table) → Fin (tcTables nBuf tb) → BufTy
  | .hbm, ⟨0, _⟩ => ⟨S37888x1024, .bf16⟩
  | .hbm, ⟨1, _⟩ => ⟨S2x16x1024x4096, .bf16⟩
  | .hbm, ⟨2, _⟩ => ⟨S37888x4096, .f32⟩
  | .local _ .vmem, ⟨0, _⟩ => ⟨S256x1024, .bf16⟩
  | .local _ .vmem, ⟨1, _⟩ => ⟨S256x1024, .bf16⟩
  | .local _ .vmem, ⟨2, _⟩ => ⟨S1x1x1024x4096, .bf16⟩
  | .local _ .vmem, ⟨3, _⟩ => ⟨S1x1x1024x4096, .bf16⟩
  | .local _ .vmem, ⟨4, _⟩ => ⟨S256x4096, .f32⟩
  | .local _ .vmem, ⟨5, _⟩ => ⟨S256x4096, .f32⟩
  | .local _ .smem, ⟨0, _⟩ => ⟨S148, .i32⟩
  | .local _ .smem, ⟨1, _⟩ => ⟨S1, .i32⟩
  | _, _ => ⟨S37888x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![148], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S148.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S148) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S37888x1024 : Shape := ⟨2, ![37888, 1024]⟩
abbrev S2x16x1024x4096 : Shape := ⟨4, ![2, 16, 1024, 4096]⟩
abbrev S148 : Shape := ⟨1, ![148]⟩
abbrev S1 : Shape := ⟨1, ![1]⟩
abbrev S1x16x1024x4096 : Shape := ⟨4, ![1, 16, 1024, 4096]⟩
abbrev S16x1024x4096 : Shape := ⟨3, ![16, 1024, 4096]⟩
abbrev S37888 : Shape := ⟨1, ![37888]⟩
abbrev S_ : Shape := ⟨0, ![]⟩
abbrev S148x256 : Shape := ⟨2, ![148, 256]⟩
abbrev S37888x1 : Shape := ⟨2, ![37888, 1]⟩
abbrev S16 : Shape := ⟨1, ![16]⟩
abbrev S1x16 : Shape := ⟨2, ![1, 16]⟩
abbrev S37888x16 : Shape := ⟨2, ![37888, 16]⟩
abbrev S37888x16x1 : Shape := ⟨3, ![37888, 16, 1]⟩
abbrev S37888x16x4096 : Shape := ⟨3, ![37888, 16, 4096]⟩
abbrev S37888x4096 : Shape := ⟨2, ![37888, 4096]⟩

abbrev nBuf : Space → Nat
  | .hbm => 48
  | .vmem => 0
  | .smem => 0
  | _ => 0

abbrev bufTy : (tb : Table) → Fin (tcTables nBuf tb) → BufTy
  | .hbm, ⟨0, _⟩ => ⟨S37888x1024, .bf16⟩
  | .hbm, ⟨1, _⟩ => ⟨S2x16x1024x4096, .bf16⟩
  | .hbm, ⟨2, _⟩ => ⟨S148, .i32⟩
  | .hbm, ⟨3, _⟩ => ⟨S1, .i32⟩
  | .hbm, ⟨4, _⟩ => ⟨S37888x1024, .f32⟩
  | .hbm, ⟨5, _⟩ => ⟨S1x16x1024x4096, .bf16⟩
  | .hbm, ⟨6, _⟩ => ⟨S16x1024x4096, .bf16⟩
  | .hbm, ⟨7, _⟩ => ⟨S16x1024x4096, .f32⟩
  | .hbm, ⟨8, _⟩ => ⟨S37888, .i32⟩
  | .hbm, ⟨9, _⟩ => ⟨S_, .i32⟩
  | .hbm, ⟨10, _⟩ => ⟨S_, .i32⟩
  | .hbm, ⟨11, _⟩ => ⟨S37888, .i32⟩
  | .hbm, ⟨12, _⟩ => ⟨S37888, .i32⟩
  | .hbm, ⟨13, _⟩ => ⟨S37888, .i32⟩
  | .hbm, ⟨14, _⟩ => ⟨S_, .i32⟩
  | .hbm, ⟨15, _⟩ => ⟨S37888, .i32⟩
  | .hbm, ⟨16, _⟩ => ⟨S37888, .i1⟩
  | .hbm, ⟨17, _⟩ => ⟨S37888, .i32⟩
  | .hbm, ⟨18, _⟩ => ⟨S37888, .i32⟩
  | .hbm, ⟨19, _⟩ => ⟨S_, .i32⟩
  | .hbm, ⟨20, _⟩ => ⟨S37888, .i32⟩
  | .hbm, ⟨21, _⟩ => ⟨S37888, .i1⟩
  | .hbm, ⟨22, _⟩ => ⟨S37888, .i1⟩
  | .hbm, ⟨23, _⟩ => ⟨S_, .i32⟩
  | .hbm, ⟨24, _⟩ => ⟨S37888, .i32⟩
  | .hbm, ⟨25, _⟩ => ⟨S37888, .i32⟩
  | .hbm, ⟨26, _⟩ => ⟨S37888, .i32⟩
  | .hbm, ⟨27, _⟩ => ⟨S148x256, .i32⟩
  | .hbm, ⟨28, _⟩ => ⟨S37888, .i32⟩
  | .hbm, ⟨29, _⟩ => ⟨S37888x1, .i32⟩
  | .hbm, ⟨30, _⟩ => ⟨S16, .i32⟩
  | .hbm, ⟨31, _⟩ => ⟨S1x16, .i32⟩
  | .hbm, ⟨32, _⟩ => ⟨S37888x16, .i32⟩
  | .hbm, ⟨33, _⟩ => ⟨S37888x16, .i32⟩
  | .hbm, ⟨34, _⟩ => ⟨S37888x16, .i1⟩
  | .hbm, ⟨35, _⟩ => ⟨S_, .i32⟩
  | .hbm, ⟨36, _⟩ => ⟨S37888, .i32⟩
  | .hbm, ⟨37, _⟩ => ⟨S37888, .i1⟩
  | .hbm, ⟨38, _⟩ => ⟨S37888x1, .i1⟩
  | .hbm, ⟨39, _⟩ => ⟨S37888x16, .i1⟩
  | .hbm, ⟨40, _⟩ => ⟨S37888x16, .i1⟩
  | .hbm, ⟨41, _⟩ => ⟨S37888x16, .f32⟩
  | .hbm, ⟨42, _⟩ => ⟨S37888x16x1, .f32⟩
  | .hbm, ⟨43, _⟩ => ⟨S37888x16x4096, .f32⟩
  | .hbm, ⟨44, _⟩ => ⟨S37888x16x4096, .f32⟩
  | .hbm, ⟨45, _⟩ => ⟨S37888x16x4096, .f32⟩
  | .hbm, ⟨46, _⟩ => ⟨S_, .f32⟩
  | .hbm, ⟨47, _⟩ => ⟨S37888x4096, .f32⟩
  | _, _ => ⟨S37888x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Up.lean ====
abbrev S16896x4096 : Shape := ⟨2, ![16896, 4096]⟩
abbrev S37888 : Shape := ⟨1, ![37888]⟩
abbrev S2x16x4096x1024 : Shape := ⟨4, ![2, 16, 4096, 1024]⟩
abbrev S148 : Shape := ⟨1, ![148]⟩
abbrev S1 : Shape := ⟨1, ![1]⟩
abbrev S37888x1024 : Shape := ⟨2, ![37888, 1024]⟩
abbrev S1x1x4096x1024 : Shape := ⟨4, ![1, 1, 4096, 1024]⟩
abbrev S256x1024 : Shape := ⟨2, ![256, 1024]⟩
abbrev S2x256x4096 : Shape := ⟨3, ![2, 256, 4096]⟩
abbrev S2 : Shape := ⟨1, ![2]⟩
abbrev S_ : Shape := ⟨0, ![]⟩
abbrev S1x1x4096 : Shape := ⟨3, ![1, 1, 4096]⟩
abbrev S1x4096 : Shape := ⟨2, ![1, 4096]⟩
abbrev S1x256x4096 : Shape := ⟨3, ![1, 256, 4096]⟩
abbrev S256x4096 : Shape := ⟨2, ![256, 4096]⟩
abbrev S4096x1024 : Shape := ⟨2, ![4096, 1024]⟩

abbrev nBuf : Space → Nat
  | .hbm => 4
  | .vmem => 7
  | .smem => 3
  | _ => 0

abbrev bufTy : (tb : Table) → Fin (tcTables nBuf tb) → BufTy
  | .hbm, ⟨0, _⟩ => ⟨S16896x4096, .f32⟩
  | .hbm, ⟨1, _⟩ => ⟨S2x16x4096x1024, .bf16⟩
  | .hbm, ⟨2, _⟩ => ⟨S2x16x4096x1024, .bf16⟩
  | .hbm, ⟨3, _⟩ => ⟨S37888x1024, .bf16⟩
  | .local _ .vmem, ⟨0, _⟩ => ⟨S1x1x4096x1024, .bf16⟩
  | .local _ .vmem, ⟨1, _⟩ => ⟨S1x1x4096x1024, .bf16⟩
  | .local _ .vmem, ⟨2, _⟩ => ⟨S1x1x4096x1024, .bf16⟩
  | .local _ .vmem, ⟨3, _⟩ => ⟨S1x1x4096x1024, .bf16⟩
  | .local _ .vmem, ⟨4, _⟩ => ⟨S256x1024, .bf16⟩
  | .local _ .vmem, ⟨5, _⟩ => ⟨S256x1024, .bf16⟩
  | .local _ .vmem, ⟨6, _⟩ => ⟨S2x256x4096, .f32⟩
  | .local _ .smem, ⟨0, _⟩ => ⟨S37888, .i32⟩
  | .local _ .smem, ⟨1, _⟩ => ⟨S148, .i32⟩
  | .local _ .smem, ⟨2, _⟩ => ⟨S1, .i32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg1 : Ref sig .tc := ⟨.smem, 0, rfl⟩
abbrev main_arg4 : Ref sig .tc := ⟨.smem, 1, rfl⟩
abbrev main_arg5 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![148], ![false]⟩

abbrev pre0 : Pipeline.Prefetch sig := ⟨3, ![main_arg1.idx, main_arg4.idx, main_arg5.idx], fun | 0 => main_arg1.names | 1 => main_arg4.names | 2 => main_arg5.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_4 : BitVec 32 := 0#32
  let c256_i32 : BitVec 32 := 256#32
  let v13 : BitVec 32 := Scalar.addi c0_i32_4 c256_i32
  let c1_i32 : BitVec 32 := 1#32
  ⟨c0_i32_4, v13, c1_i32⟩
def k0_off2 (k0_t1 : Fin k0_t1_loop.trips) : Fin 1 → Nat :=
  let c0_i32_6 : BitVec 32 := 0#32
  let c0_i32_4 : BitVec 32 := 0#32
  let c1_i32 : BitVec 32 := 1#32
  let arg10 : BitVec 32 := Scf.iv c0_i32_4 c1_i32 k0_t1
  let v14 : BitVec 32 := Scalar.addi c0_i32_6 arg10
  let v15 : Index := Scalar.indexCast v14
  ![v15.toNat]
def k0_off3 (k0_t1 : Fin k0_t1_loop.trips) : Fin 3 → Nat :=
  let c0_i32_7 : BitVec 32 := 0#32
  let c0_i32_4 : BitVec 32 := 0#32
  let c1_i32 : BitVec 32 := 1#32
  let arg10 : BitVec 32 := Scf.iv c0_i32_4 c1_i32 k0_t1
  let c0_i32_9 : BitVec 32 := 0#32
  ![0, arg10.toNat, 0]
def k0_off4 (v16 : BitVec 32) : Fin 2 → Nat :=
  let c0_i32_10 : BitVec 32 := 0#32
  ![v16.toNat, 0]

def k0_chk1 (i : grid0.Coords) (v16 : BitVec 32) : Prop :=
  (∀ (k0_h1 : k0_cond1 i = 1#1), ∀ a, (k0_off4 v16) a + S1x4096.size a ≤ S16896x4096.size a)
theorem k0_off4_inb : ∀ (i : grid0.Coords) (v16 : BitVec 32) (k0_hw1 : k0_chk1 i v16), ∀ (k0_h1 : k0_cond1 i = 1#1), ∀ a, (k0_off4 v16) a + S1x4096.size a ≤ S16896x4096.size a := fun i v16 k0_hw1 k0_h1 => k0_hw1 k0_h1

@[reducible] def k0_t2_loop : Scf.Loop 32 :=
  let c0_i32_8 : BitVec 32 := 0#32
  let c256_i32 : BitVec 32 := 256#32
  let v23 : BitVec 32 := Scalar.addi c0_i32_8 c256_i32
  let c1_i32_9 : BitVec 32 := 1#32
  ⟨c0_i32_8, v23, c1_i32_9⟩
def k0_off5 (i : grid0.Coords) : Fin 1 → Nat :=
  let arg0 : BitVec 32 := BitVec.ofNat 32 (i 0).val
  let c2_i32 : BitVec 32 := 2#32
  let c0_i32_4 : BitVec 32 := 0#32
  let v13 : BitVec 1 := Scalar.cmpi .eq c2_i32 c0_i32_4
  let c1_i32 : BitVec 32 := 1#32
  let v14 : BitVec 32 := Scalar.select v13 c1_i32 c2_i32
  let v15 : BitVec 32 := Scalar.remsi arg0 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  ![v22.toNat]
def k0_off6 (i : grid0.Coords) (k0_t2 : Fin k0_t2_loop.trips) : Fin 3 → Nat :=
  let arg0 : BitVec 32 := BitVec.ofNat 32 (i 0).val
  let c2_i32 : BitVec 32 := 2#32
  let c0_i32_4 : BitVec 32 := 0#32
  let v13 : BitVec 1 := Scalar.cmpi .eq c2_i32 c0_i32_4
  let c1_i32 : BitVec 32 := 1#32
  let v14 : BitVec 32 := Scalar.select v13 c1_i32 c2_i32
  let v15 : BitVec 32 := Scalar.remsi arg0 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_8 : BitVec 32 := 0#32
  let c1_i32_9 : BitVec 32 := 1#32
  let arg10 : BitVec 32 := Scf.iv c0_i32_8 c1_i32_9 k0_t2
  let c0_i32_3108 : BitVec 32 := 0#32
  ![v22.toNat, arg10.toNat, 0]
def k0_off7 (i : grid0.Coords) : Fin 1 → Nat :=
  let arg0 : BitVec 32 := BitVec.ofNat 32 (i 0).val
  let c1_i32_11 : BitVec 32 := 1#32
  let v24 : BitVec 32 := Scalar.addi arg0 c1_i32_11
  let c256_i32_19 : BitVec 32 := 256#32
  let v36 : BitVec 32 := Scalar.muli v24 c256_i32_19
  let c0_i32_20 : BitVec 32 := 0#32
  let v37 : BitVec 32 := Scalar.addi v36 c0_i32_20
  let v38 : Index := Scalar.indexCast v37
  ![v38.toNat]
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_off8 (i : grid0.Coords) : Fin 1 → Nat :=
  let arg0 : BitVec 32 := BitVec.ofNat 32 (i 0).val
  let c1_i32_12 : BitVec 32 := 1#32
  let v25 : BitVec 32 := Scalar.addi arg0 c1_i32_12
  let c2_i32_13 : BitVec 32 := 2#32
  let c0_i32_14 : BitVec 32 := 0#32
  let v26 : BitVec 1 := Scalar.cmpi .eq c2_i32_13 c0_i32_14
  let c1_i32_15 : BitVec 32 := 1#32
  let v27 : BitVec 32 := Scalar.select v26 c1_i32_15 c2_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  ![v35.toNat]
def k0_off9 (i : grid0.Coords) : Fin 3 → Nat :=
  let arg0 : BitVec 32 := BitVec.ofNat 32 (i 0).val
  let c1_i32_12 : BitVec 32 := 1#32
  let v25 : BitVec 32 := Scalar.addi arg0 c1_i32_12
  let c2_i32_13 : BitVec 32 := 2#32
  let c0_i32_14 : BitVec 32 := 0#32
  let v26 : BitVec 1 := Scalar.cmpi .eq c2_i32_13 c0_i32_14
  let c1_i32_15 : BitVec 32 := 1#32
  let v27 : BitVec 32 := Scalar.select v26 c1_i32_15 c2_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c0_i32_21 : BitVec 32 := 0#32
  let c0_i32_22 : BitVec 32 := 0#32
  ![v35.toNat, 0, 0]
def k0_off10 (v39 : BitVec 32) : Fin 2 → Nat :=
  let c0_i32_23 : BitVec 32 := 0#32
  ![v39.toNat, 0]

def k0_chk3 (i : grid0.Coords) (v0 : BitVec 32) (v39 : BitVec 32) : Prop :=
  (∀ (k0_h2 : k0_cond2 i v0 = 1#1), ∀ a, (k0_off10 v39) a + S1x4096.size a ≤ S16896x4096.size a)
theorem k0_off10_inb : ∀ (i : grid0.Coords) (v0 : BitVec 32) (v39 : BitVec 32) (k0_hw3 : k0_chk3 i v0 v39), ∀ (k0_h2 : k0_cond2 i v0 = 1#1), ∀ a, (k0_off10 v39) a + S1x4096.size a ≤ S16896x4096.size a := fun i v0 v39 k0_hw3 k0_h2 => k0_hw3 k0_h2

def k0_off11 (i : grid0.Coords) : Fin 1 → Nat :=
  let arg0 : BitVec 32 := BitVec.ofNat 32 (i 0).val
  let c1_i32_24 : BitVec 32 := 1#32
  let v45 : BitVec 32 := Scalar.addi arg0 c1_i32_24
  let c256_i32_32 : BitVec 32 := 256#32
  let v57 : BitVec 32 := Scalar.muli v45 c256_i32_32
  let c1_i32_33 : BitVec 32 := 1#32
  let v58 : BitVec 32 := Scalar.addi v57 c1_i32_33
  let v59 : Index := Scalar.indexCast v58
  ![v59.toNat]
def k0_off12 (i : grid0.Coords) : Fin 1 → Nat :=
  let arg0 : BitVec 32 := BitVec.ofNat 32 (i 0).val
  let c1_i32_25 : BitVec 32 := 1#32
  let v46 : BitVec 32 := Scalar.addi arg0 c1_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  ![v56.toNat]
def k0_off13 (i : grid0.Coords) : Fin 3 → Nat :=
  let arg0 : BitVec 32 := BitVec.ofNat 32 (i 0).val
  let c1_i32_25 : BitVec 32 := 1#32
  let v46 : BitVec 32 := Scalar.addi arg0 c1_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_34 : BitVec 32 := 1#32
  let c0_i32_35 : BitVec 32 := 0#32
  ![v56.toNat, 1, 0]
def k0_off14 (v60 : BitVec 32) : Fin 2 → Nat :=
  let c0_i32_36 : BitVec 32 := 0#32
  ![v60.toNat, 0]

def k0_chk4 (i : grid0.Coords) (v0 : BitVec 32) (v60 : BitVec 32) : Prop :=
  (∀ (k0_h2 : k0_cond2 i v0 = 1#1), ∀ a, (k0_off14 v60) a + S1x4096.size a ≤ S16896x4096.size a)
theorem k0_off14_inb : ∀ (i : grid0.Coords) (v0 : BitVec 32) (v60 : BitVec 32) (k0_hw4 : k0_chk4 i v0 v60), ∀ (k0_h2 : k0_cond2 i v0 = 1#1), ∀ a, (k0_off14 v60) a + S1x4096.size a ≤ S16896x4096.size a := fun i v0 v60 k0_hw4 k0_h2 => k0_hw4 k0_h2

def k0_off15 (i : grid0.Coords) : Fin 1 → Nat :=
  let arg0 : BitVec 32 := BitVec.ofNat 32 (i 0).val
  let c1_i32_37 : BitVec 32 := 1#32
  let v66 : BitVec 32 := Scalar.addi arg0 c1_i32_37
  let c256_i32_45 : BitVec 32 := 256#32
  let v78 : BitVec 32 := Scalar.muli v66 c256_i32_45
  let c2_i32_46 : BitVec 32 := 2#32
  let v79 : BitVec 32 := Scalar.addi v78 c2_i32_46
  let v80 : Index := Scalar.indexCast v79
  ![v80.toNat]
def k0_off16 (i : grid0.Coords) : Fin 1 → Nat :=
  let arg0 : BitVec 32 := BitVec.ofNat 32 (i 0).val
  let c1_i32_38 : BitVec 32 := 1#32
  let v67 : BitVec 32 := Scalar.addi arg0 c1_i32_38
  let c2_i32_39 : BitVec 32 := 2#32
  let c0_i32_40 : BitVec 32 := 0#32
  let v68 : BitVec 1 := Scalar.cmpi .eq c2_i32_39 c0_i32_40
  let c1_i32_41 : BitVec 32 := 1#32
  let v69 : BitVec 32 := Scalar.select v68 c1_i32_41 c2_i32_39
  let v70 : BitVec 32 := Scalar.remsi v67 v69
  let c0_i32_43 : BitVec 32 := 0#32
  let v72 : BitVec 1 := Scalar.cmpi .slt v70 c0_i32_43
  let c0_i32_44 : BitVec 32 := 0#32
  let v73 : BitVec 1 := Scalar.cmpi .slt v69 c0_i32_44
  let v74 : BitVec 1 := Scalar.xori v72 v73
  let c0_i32_42 : BitVec 32 := 0#32
  let v71 : BitVec 1 := Scalar.cmpi .ne v70 c0_i32_42
  let v75 : BitVec 1 := Scalar.andi v74 v71
  let v76 : BitVec 32 := Scalar.addi v70 v69
  let v77 : BitVec 32 := Scalar.select v75 v76 v70
  ![v77.toNat]
def k0_off17 (i : grid0.Coords) : Fin 3 → Nat :=
  let arg0 : BitVec 32 := BitVec.ofNat 32 (i 0).val
  let c1_i32_38 : BitVec 32 := 1#32
  let v67 : BitVec 32 := Scalar.addi arg0 c1_i32_38
  let c2_i32_39 : BitVec 32 := 2#32
  let c0_i32_40 : BitVec 32 := 0#32
  let v68 : BitVec 1 := Scalar.cmpi .eq c2_i32_39 c0_i32_40
  let c1_i32_41 : BitVec 32 := 1#32
  let v69 : BitVec 32 := Scalar.select v68 c1_i32_41 c2_i32_39
  let v70 : BitVec 32 := Scalar.remsi v67 v69
  let c0_i32_43 : BitVec 32 := 0#32
  let v72 : BitVec 1 := Scalar.cmpi .slt v70 c0_i32_43
  let c0_i32_44 : BitVec 32 := 0#32
  let v73 : BitVec 1 := Scalar.cmpi .slt v69 c0_i32_44
  let v74 : BitVec 1 := Scalar.xori v72 v73
  let c0_i32_42 : BitVec 32 := 0#32
  let v71 : BitVec 1 := Scalar.cmpi .ne v70 c0_i32_42
  let v75 : BitVec 1 := Scalar.andi v74 v71
  let v76 : BitVec 32 := Scalar.addi v70 v69
  let v77 : BitVec 32 := Scalar.select v75 v76 v70
  let c2_i32_47 : BitVec 32 := 2#32
  let c0_i32_48 : BitVec 32 := 0#32
  ![v77.toNat, 2, 0]
def k0_off18 (v81 : BitVec 32) : Fin 2 → Nat :=
  let c0_i32_49 : BitVec 32 := 0#32
  ![v81.toNat, 0]

def k0_chk5 (i : grid0.Coords) (v0 : BitVec 32) (v81 : BitVec 32) : Prop :=
  (∀ (k0_h2 : k0_cond2 i v0 = 1#1), ∀ a, (k0_off18 v81) a + S1x4096.size a ≤ S16896x4096.size a)
theorem k0_off18_inb : ∀ (i : grid0.Coords) (v0 : BitVec 32) (v81 : BitVec 32) (k0_hw5 : k0_chk5 i v0 v81), ∀ (k0_h2 : k0_cond2 i v0 = 1#1), ∀ a, (k0_off18 v81) a + S1x4096.size a ≤ S16896x4096.size a := fun i v0 v81 k0_hw5 k0_h2 => k0_hw5 k0_h2

def k0_off19 (i : grid0.Coords) : Fin 1 → Nat :=
  let arg0 : BitVec 32 := BitVec.ofNat 32 (i 0).val
  let c1_i32_50 : BitVec 32 := 1#32
  let v87 : BitVec 32 := Scalar.addi arg0 c1_i32_50
  let c256_i32_58 : BitVec 32 := 256#32
  let v99 : BitVec 32 := Scalar.muli v87 c256_i32_58
  let c3_i32 : BitVec 32 := 3#32
  let v100 : BitVec 32 := Scalar.addi v99 c3_i32
  let v101 : Index := Scalar.indexCast v100
  ![v101.toNat]
def k0_off20 (i : grid0.Coords) : Fin 1 → Nat :=
  let arg0 : BitVec 32 := BitVec.ofNat 32 (i 0).val
  let c1_i32_51 : BitVec 32 := 1#32
  let v88 : BitVec 32 := Scalar.addi arg0 c1_i32_51
  let c2_i32_52 : BitVec 32 := 2#32
  let c0_i32_53 : BitVec 32 := 0#32
  let v89 : BitVec 1 := Scalar.cmpi .eq c2_i32_52 c0_i32_53
  let c1_i32_54 : BitVec 32 := 1#32
  let v90 : BitVec 32 := Scalar.select v89 c1_i32_54 c2_i32_52
  let v91 : BitVec 32 := Scalar.remsi v88 v90
  let c0_i32_56 : BitVec 32 := 0#32
  let v93 : BitVec 1 := Scalar.cmpi .slt v91 c0_i32_56
  let c0_i32_57 : BitVec 32 := 0#32
  let v94 : BitVec 1 := Scalar.cmpi .slt v90 c0_i32_57
  let v95 : BitVec 1 := Scalar.xori v93 v94
  let c0_i32_55 : BitVec 32 := 0#32
  let v92 : BitVec 1 := Scalar.cmpi .ne v91 c0_i32_55
  let v96 : BitVec 1 := Scalar.andi v95 v92
  let v97 : BitVec 32 := Scalar.addi v91 v90
  let v98 : BitVec 32 := Scalar.select v96 v97 v91
  ![v98.toNat]
def k0_off21 (i : grid0.Coords) : Fin 3 → Nat :=
  let arg0 : BitVec 32 := BitVec.ofNat 32 (i 0).val
  let c1_i32_51 : BitVec 32 := 1#32
  let v88 : BitVec 32 := Scalar.addi arg0 c1_i32_51
  let c2_i32_52 : BitVec 32 := 2#32
  let c0_i32_53 : BitVec 32 := 0#32
  let v89 : BitVec 1 := Scalar.cmpi .eq c2_i32_52 c0_i32_53
  let c1_i32_54 : BitVec 32 := 1#32
  let v90 : BitVec 32 := Scalar.select v89 c1_i32_54 c2_i32_52
  let v91 : BitVec 32 := Scalar.remsi v88 v90
  let c0_i32_56 : BitVec 32 := 0#32
  let v93 : BitVec 1 := Scalar.cmpi .slt v91 c0_i32_56
  let c0_i32_57 : BitVec 32 := 0#32
  let v94 : BitVec 1 := Scalar.cmpi .slt v90 c0_i32_57
  let v95 : BitVec 1 := Scalar.xori v93 v94
  let c0_i32_55 : BitVec 32 := 0#32
  let v92 : BitVec 1 := Scalar.cmpi .ne v91 c0_i32_55
  let v96 : BitVec 1 := Scalar.andi v95 v92
  let v97 : BitVec 32 := Scalar.addi v91 v90
  let v98 : BitVec 32 := Scalar.select v96 v97 v91
  let c3_i32_59 : BitVec 32 := 3#32
  let c0_i32_60 : BitVec 32 := 0#32
  ![v98.toNat, 3, 0]
def k0_off22 (v102 : BitVec 32) : Fin 2 → Nat :=
  let c0_i32_61 : BitVec 32 := 0#32
  ![v102.toNat, 0]

def k0_chk6 (i : grid0.Coords) (v0 : BitVec 32) (v102 : BitVec 32) : Prop :=
  (∀ (k0_h2 : k0_cond2 i v0 = 1#1), ∀ a, (k0_off22 v102) a + S1x4096.size a ≤ S16896x4096.size a)
theorem k0_off22_inb : ∀ (i : grid0.Coords) (v0 : BitVec 32) (v102 : BitVec 32) (k0_hw6 : k0_chk6 i v0 v102), ∀ (k0_h2 : k0_cond2 i v0 = 1#1), ∀ a, (k0_off22 v102) a + S1x4096.size a ≤ S16896x4096.size a := fun i v0 v102 k0_hw6 k0_h2 => k0_hw6 k0_h2

def k0_off23 (i : grid0.Coords) : Fin 1 → Nat :=
  let arg0 : BitVec 32 := BitVec.ofNat 32 (i 0).val
  let c1_i32_62 : BitVec 32 := 1#32
  let v108 : BitVec 32 := Scalar.addi arg0 c1_i32_62
  let c256_i32_70 : BitVec 32 := 256#32
  let v120 : BitVec 32 := Scalar.muli v108 c256_i32_70
  let c4_i32 : BitVec 32 := 4#32
  let v121 : BitVec 32 := Scalar.addi v120 c4_i32
  let v122 : Index := Scalar.indexCast v121
  ![v122.toNat]
def k0_off24 (i : grid0.Coords) : Fin 1 → Nat :=
  let arg0 : BitVec 32 := BitVec.ofNat 32 (i 0).val
  let c1_i32_63 : BitVec 32 := 1#32
  let v109 : BitVec 32 := Scalar.addi arg0 c1_i32_63
  let c2_i32_64 : BitVec 32 := 2#32
  let c0_i32_65 : BitVec 32 := 0#32
  let v110 : BitVec 1 := Scalar.cmpi .eq c2_i32_64 c0_i32_65
  let c1_i32_66 : BitVec 32 := 1#32
  let v111 : BitVec 32 := Scalar.select v110 c1_i32_66 c2_i32_64
  let v112 : BitVec 32 := Scalar.remsi v109 v111
  let c0_i32_68 : BitVec 32 := 0#32
  let v114 : BitVec 1 := Scalar.cmpi .slt v112 c0_i32_68
  let c0_i32_69 : BitVec 32 := 0#32
  let v115 : BitVec 1 := Scalar.cmpi .slt v111 c0_i32_69
  let v116 : BitVec 1 := Scalar.xori v114 v115
  let c0_i32_67 : BitVec 32 := 0#32
  let v113 : BitVec 1 := Scalar.cmpi .ne v112 c0_i32_67
  let v117 : BitVec 1 := Scalar.andi v116 v113
  let v118 : BitVec 32 := Scalar.addi v112 v111
  let v119 : BitVec 32 := Scalar.select v117 v118 v112
  ![v119.toNat]
def k0_off25 (i : grid0.Coords) : Fin 3 → Nat :=
  let arg0 : BitVec 32 := BitVec.ofNat 32 (i 0).val
  let c1_i32_63 : BitVec 32 := 1#32
  let v109 : BitVec 32 := Scalar.addi arg0 c1_i32_63
  let c2_i32_64 : BitVec 32 := 2#32
  let c0_i32_65 : BitVec 32 := 0#32
  let v110 : BitVec 1 := Scalar.cmpi .eq c2_i32_64 c0_i32_65
  let c1_i32_66 : BitVec 32 := 1#32
  let v111 : BitVec 32 := Scalar.select v110 c1_i32_66 c2_i32_64
  let v112 : BitVec 32 := Scalar.remsi v109 v111
  let c0_i32_68 : BitVec 32 := 0#32
  let v114 : BitVec 1 := Scalar.cmpi .slt v112 c0_i32_68
  let c0_i32_69 : BitVec 32 := 0#32
  let v115 : BitVec 1 := Scalar.cmpi .slt v111 c0_i32_69
  let v116 : BitVec 1 := Scalar.xori v114 v115
  let c0_i32_67 : BitVec 32 := 0#32
  let v113 : BitVec 1 := Scalar.cmpi .ne v112 c0_i32_67
  let v117 : BitVec 1 := Scalar.andi v116 v113
  let v118 : BitVec 32 := Scalar.addi v112 v111
  let v119 : BitVec 32 := Scalar.select v117 v118 v112
  let c4_i32_71 : BitVec 32 := 4#32
  let c0_i32_72 : BitVec 32 := 0#32
  ![v119.toNat, 4, 0]
def k0_off26 (v123 : BitVec 32) : Fin 2 → Nat :=
  let c0_i32_73 : BitVec 32 := 0#32
  ![v123.toNat, 0]

def k0_chk7 (i : grid0.Coords) (v0 : BitVec 32) (v123 : BitVec 32) : Prop :=
  (∀ (k0_h2 : k0_cond2 i v0 = 1#1), ∀ a, (k0_off26 v123) a + S1x4096.size a ≤ S16896x4096.size a)
theorem k0_off26_inb : ∀ (i : grid0.Coords) (v0 : BitVec 32) (v123 : BitVec 32) (k0_hw7 : k0_chk7 i v0 v123), ∀ (k0_h2 : k0_cond2 i v0 = 1#1), ∀ a, (k0_off26 v123) a + S1x4096.size a ≤ S16896x4096.size a := fun i v0 v123 k0_hw7 k0_h2 => k0_hw7 k0_h2

def k0_off27 (i : grid0.Coords) : Fin 1 → Nat :=
  let arg0 : BitVec 32 := BitVec.ofNat 32 (i 0).val
  let c1_i32_74 : BitVec 32 := 1#32
  let v129 : BitVec 32 := Scalar.addi arg0 c1_i32_74
  let c256_i32_82 : BitVec 32 := 256#32
  let v141 : BitVec 32 := Scalar.muli v129 c256_i32_82
  let c5_i32 : BitVec 32 := 5#32
  let v142 : BitVec 32 := Scalar.addi v141 c5_i32
  let v143 : Index := Scalar.indexCast v142
  ![v143.toNat]
def k0_off28 (i : grid0.Coords) : Fin 1 → Nat :=
  let arg0 : BitVec 32 := BitVec.ofNat 32 (i 0).val
  let c1_i32_75 : BitVec 32 := 1#32
  let v130 : BitVec 32 := Scalar.addi arg0 c1_i32_75
  let c2_i32_76 : BitVec 32 := 2#32
  let c0_i32_77 : BitVec 32 := 0#32
  let v131 : BitVec 1 := Scalar.cmpi .eq c2_i32_76 c0_i32_77
  let c1_i32_78 : BitVec 32 := 1#32
  let v132 : BitVec 32 := Scalar.select v131 c1_i32_78 c2_i32_76
  let v133 : BitVec 32 := Scalar.remsi v130 v132
  let c0_i32_80 : BitVec 32 := 0#32
  let v135 : BitVec 1 := Scalar.cmpi .slt v133 c0_i32_80
  let c0_i32_81 : BitVec 32 := 0#32
  let v136 : BitVec 1 := Scalar.cmpi .slt v132 c0_i32_81
  let v137 : BitVec 1 := Scalar.xori v135 v136
  let c0_i32_79 : BitVec 32 := 0#32
  let v134 : BitVec 1 := Scalar.cmpi .ne v133 c0_i32_79
  let v138 : BitVec 1 := Scalar.andi v137 v134
  let v139 : BitVec 32 := Scalar.addi v133 v132
  let v140 : BitVec 32 := Scalar.select v138 v139 v133
  ![v140.toNat]
def k0_off29 (i : grid0.Coords) : Fin 3 → Nat :=
  let arg0 : BitVec 32 := BitVec.ofNat 32 (i 0).val
  let c1_i32_75 : BitVec 32 := 1#32
  let v130 : BitVec 32 := Scalar.addi arg0 c1_i32_75
  let c2_i32_76 : BitVec 32 := 2#32
  let c0_i32_77 : BitVec 32 := 0#32
  let v131 : BitVec 1 := Scalar.cmpi .eq c2_i32_76 c0_i32_77
  let c1_i32_78 : BitVec 32 := 1#32
  let v132 : BitVec 32 := Scalar.select v131 c1_i32_78 c2_i32_76
  let v133 : BitVec 32 := Scalar.remsi v130 v132
  let c0_i32_80 : BitVec 32 := 0#32
  let v135 : BitVec 1 := Scalar.cmpi .slt v133 c0_i32_80
  let c0_i32_81 : BitVec 32 := 0#32
  let v136 : BitVec 1 := Scalar.cmpi .slt v132 c0_i32_81
  let v137 : BitVec 1 := Scalar.xori v135 v136
  let c0_i32_79 : BitVec 32 := 0#32
  let v134 : BitVec 1 := Scalar.cmpi .ne v133 c0_i32_79
  let v138 : BitVec 1 := Scalar.andi v137 v134
  let v139 : BitVec 32 := Scalar.addi v133 v132
  let v140 : BitVec 32 := Scalar.select v138 v139 v133
  let c5_i32_83 : BitVec 32 := 5#32
  let c0_i32_84 : BitVec 32 := 0#32
  ![v140.toNat, 5, 0]
def k0_off30 (v144 : BitVec 32) : Fin 2 → Nat :=
  let c0_i32_85 : BitVec 32 := 0#32
  ![v144.toNat, 0]

def k0_chk8 (i : grid0.Coords) (v0 : BitVec 32) (v144 : BitVec 32) : Prop :=
  (∀ (k0_h2 : k0_cond2 i v0 = 1#1), ∀ a, (k0_off30 v144) a + S1x4096.size a ≤ S16896x4096.size a)
theorem k0_off30_inb : ∀ (i : grid0.Coords) (v0 : BitVec 32) (v144 : BitVec 32) (k0_hw8 : k0_chk8 i v0 v144), ∀ (k0_h2 : k0_cond2 i v0 = 1#1), ∀ a, (k0_off30 v144) a + S1x4096.size a ≤ S16896x4096.size a := fun i v0 v144 k0_hw8 k0_h2 => k0_hw8 k0_h2

def k0_off31 (i : grid0.Coords) : Fin 1 → Nat :=
  let arg0 : BitVec 32 := BitVec.ofNat 32 (i 0).val
  let c1_i32_86 : BitVec 32 := 1#32
  let v150 : BitVec 32 := Scalar.addi arg0 c1_i32_86
  let c256_i32_94 : BitVec 32 := 256#32
  let v162 : BitVec 32 := Scalar.muli v150 c256_i32_94
  let c6_i32 : BitVec 32 := 6#32
  let v163 : BitVec 32 := Scalar.addi v162 c6_i32
  let v164 : Index := Scalar.indexCast v163
  ![v164.toNat]
def k0_off32 (i : grid0.Coords) : Fin 1 → Nat :=
  let arg0 : BitVec 32 := BitVec.ofNat 32 (i 0).val
  let c1_i32_87 : BitVec 32 := 1#32
  let v151 : BitVec 32 := Scalar.addi arg0 c1_i32_87
  let c2_i32_88 : BitVec 32 := 2#32
  let c0_i32_89 : BitVec 32 := 0#32
  let v152 : BitVec 1 := Scalar.cmpi .eq c2_i32_88 c0_i32_89
  let c1_i32_90 : BitVec 32 := 1#32
  let v153 : BitVec 32 := Scalar.select v152 c1_i32_90 c2_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  ![v161.toNat]
def k0_off33 (i : grid0.Coords) : Fin 3 → Nat :=
  let arg0 : BitVec 32 := BitVec.ofNat 32 (i 0).val
  let c1_i32_87 : BitVec 32 := 1#32
  let v151 : BitVec 32 := Scalar.addi arg0 c1_i32_87
  let c2_i32_88 : BitVec 32 := 2#32
  let c0_i32_89 : BitVec 32 := 0#32
  let v152 : BitVec 1 := Scalar.cmpi .eq c2_i32_88 c0_i32_89
  let c1_i32_90 : BitVec 32 := 1#32
  let v153 : BitVec 32 := Scalar.select v152 c1_i32_90 c2_i32_88
  let v154 : BitVec 32 := Scalar.remsi v151 v153
  let c0_i32_92 : BitVec 32 := 0#32
  let v156 : BitVec 1 := Scalar.cmpi .slt v154 c0_i32_92
  let c0_i32_93 : BitVec 32 := 0#32
  let v157 : BitVec 1 := Scalar.cmpi .slt v153 c0_i32_93
  let v158 : BitVec 1 := Scalar.xori v156 v157
  let c0_i32_91 : BitVec 32 := 0#32
  let v155 : BitVec 1 := Scalar.cmpi .ne v154 c0_i32_91
  let v159 : BitVec 1 := Scalar.andi v158 v155
  let v160 : BitVec 32 := Scalar.addi v154 v153
  let v161 : BitVec 32 := Scalar.select v159 v160 v154
  let c6_i32_95 : BitVec 32 := 6#32
  let c0_i32_96 : BitVec 32 := 0#32
  ![v161.toNat, 6, 0]
def k0_off34 (v165 : BitVec 32) : Fin 2 → Nat :=
  let c0_i32_97 : BitVec 32 := 0#32
  ![v165.toNat, 0]

def k0_chk9 (i : grid0.Coords) (v0 : BitVec 32) (v165 : BitVec 32) : Prop :=
  (∀ (k0_h2 : k0_cond2 i v0 = 1#1), ∀ a, (k0_off34 v165) a + S1x4096.size a ≤ S16896x4096.size a)
theorem k0_off34_inb : ∀ (i : grid0.Coords) (v0 : BitVec 32) (v165 : BitVec 32) (k0_hw9 : k0_chk9 i v0 v165), ∀ (k0_h2 : k0_cond2 i v0 = 1#1), ∀ a, (k0_off34 v165) a + S1x4096.size a ≤ S16896x4096.size a := fun i v0 v165 k0_hw9 k0_h2 => k0_hw9 k0_h2

def k0_off35 (i : grid0.Coords) : Fin 1 → Nat :=
  let arg0 : BitVec 32 := BitVec.ofNat 32 (i 0).val
  let c1_i32_98 : BitVec 32 := 1#32
  let v171 : BitVec 32 := Scalar.addi arg0 c1_i32_98
  let c256_i32_106 : BitVec 32 := 256#32
  let v183 : BitVec 32 := Scalar.muli v171 c256_i32_106
  let c7_i32 : BitVec 32 := 7#32
  let v184 : BitVec 32 := Scalar.addi v183 c7_i32
  let v185 : Index := Scalar.indexCast v184
  ![v185.toNat]
def k0_off36 (i : grid0.Coords) : Fin 1 → Nat :=
  let arg0 : BitVec 32 := BitVec.ofNat 32 (i 0).val
  let c1_i32_99 : BitVec 32 := 1#32
  let v172 : BitVec 32 := Scalar.addi arg0 c1_i32_99
  let c2_i32_100 : BitVec 32 := 2#32
  let c0_i32_101 : BitVec 32 := 0#32
  let v173 : BitVec 1 := Scalar.cmpi .eq c2_i32_100 c0_i32_101
  let c1_i32_102 : BitVec 32 := 1#32
  let v174 : BitVec 32 := Scalar.select v173 c1_i32_102 c2_i32_100
  let v175 : BitVec 32 := Scalar.remsi v172 v174
  let c0_i32_104 : BitVec 32 := 0#32
  let v177 : BitVec 1 := Scalar.cmpi .slt v175 c0_i32_104
  let c0_i32_105 : BitVec 32 := 0#32
  let v178 : BitVec 1 := Scalar.cmpi .slt v174 c0_i32_105
  let v179 : BitVec 1 := Scalar.xori v177 v178
  let c0_i32_103 : BitVec 32 := 0#32
  let v176 : BitVec 1 := Scalar.cmpi .ne v175 c0_i32_103
  let v180 : BitVec 1 := Scalar.andi v179 v176
  let v181 : BitVec 32 := Scalar.addi v175 v174
  let v182 : BitVec 32 := Scalar.select v180 v181 v175
  ![v182.toNat]
def k0_off37 (i : grid0.Coords) : Fin 3 → Nat :=
  let arg0 : BitVec 32 := BitVec.ofNat 32 (i 0).val
  let c1_i32_99 : BitVec 32 := 1#32
  let v172 : BitVec 32 := Scalar.addi arg0 c1_i32_99
  let c2_i32_100 : BitVec 32 := 2#32
  let c0_i32_101 : BitVec 32 := 0#32
  let v173 : BitVec 1 := Scalar.cmpi .eq c2_i32_100 c0_i32_101
  let c1_i32_102 : BitVec 32 := 1#32
  let v174 : BitVec 32 := Scalar.select v173 c1_i32_102 c2_i32_100
  let v175 : BitVec 32 := Scalar.remsi v172 v174
  let c0_i32_104 : BitVec 32 := 0#32
  let v177 : BitVec 1 := Scalar.cmpi .slt v175 c0_i32_104
  let c0_i32_105 : BitVec 32 := 0#32
  let v178 : BitVec 1 := Scalar.cmpi .slt v174 c0_i32_105
  let v179 : BitVec 1 := Scalar.xori v177 v178
  let c0_i32_103 : BitVec 32 := 0#32
  let v176 : BitVec 1 := Scalar.cmpi .ne v175 c0_i32_103
  let v180 : BitVec 1 := Scalar.andi v179 v176
  let v181 : BitVec 32 := Scalar.addi v175 v174
  let v182 : BitVec 32 := Scalar.select v180 v181 v175
  let c7_i32_107 : BitVec 32 := 7#32
  let c0_i32_108 : BitVec 32 := 0#32
  ![v182.toNat, 7, 0]
def k0_off38 (v186 : BitVec 32) : Fin 2 → Nat :=
  let c0_i32_109 : BitVec 32 := 0#32
  ![v186.toNat, 0]

def k0_chk10 (i : grid0.Coords) (v0 : BitVec 32) (v186 : BitVec 32) : Prop :=
  (∀ (k0_h2 : k0_cond2 i v0 = 1#1), ∀ a, (k0_off38 v186) a + S1x4096.size a ≤ S16896x4096.size a)
theorem k0_off38_inb : ∀ (i : grid0.Coords) (v0 : BitVec 32) (v186 : BitVec 32) (k0_hw10 : k0_chk10 i v0 v186), ∀ (k0_h2 : k0_cond2 i v0 = 1#1), ∀ a, (k0_off38 v186) a + S1x4096.size a ≤ S16896x4096.size a := fun i v0 v186 k0_hw10 k0_h2 => k0_hw10 k0_h2

def k0_off39 (i : grid0.Coords) : Fin 1 → Nat :=
  let arg0 : BitVec 32 := BitVec.ofNat 32 (i 0).val
  let c1_i32_110 : BitVec 32 := 1#32
  let v192 : BitVec 32 := Scalar.addi arg0 c1_i32_110
  let c256_i32_118 : BitVec 32 := 256#32
  let v204 : BitVec 32 := Scalar.muli v192 c256_i32_118
  let c8_i32 : BitVec 32 := 8#32
  let v205 : BitVec 32 := Scalar.addi v204 c8_i32
  let v206 : Index := Scalar.indexCast v205
  ![v206.toNat]
def k0_off40 (i : grid0.Coords) : Fin 1 → Nat :=
  let arg0 : BitVec 32 := BitVec.ofNat 32 (i 0).val
  let c1_i32_111 : BitVec 32 := 1#32
  let v193 : BitVec 32 := Scalar.addi arg0 c1_i32_111
  let c2_i32_112 : BitVec 32 := 2#32
  let c0_i32_113 : BitVec 32 := 0#32
  let v194 : BitVec 1 := Scalar.cmpi .eq c2_i32_112 c0_i32_113
  let c1_i32_114 : BitVec 32 := 1#32
  let v195 : BitVec 32 := Scalar.select v194 c1_i32_114 c2_i32_112
  let v196 : BitVec 32 := Scalar.remsi v193 v195
  let c0_i32_116 : BitVec 32 := 0#32
  let v198 : BitVec 1 := Scalar.cmpi .slt v196 c0_i32_116
  let c0_i32_117 : BitVec 32 := 0#32
  let v199 : BitVec 1 := Scalar.cmpi .slt v195 c0_i32_117
  let v200 : BitVec 1 := Scalar.xori v198 v199
  let c0_i32_115 : BitVec 32 := 0#32
  let v197 : BitVec 1 := Scalar.cmpi .ne v196 c0_i32_115
  let v201 : BitVec 1 := Scalar.andi v200 v197
  let v202 : BitVec 32 := Scalar.addi v196 v195
  let v203 : BitVec 32 := Scalar.select v201 v202 v196
  ![v203.toNat]
def k0_off41 (i : grid0.Coords) : Fin 3 → Nat :=
  let arg0 : BitVec 32 := BitVec.ofNat 32 (i 0).val
  let c1_i32_111 : BitVec 32 := 1#32
  let v193 : BitVec 32 := Scalar.addi arg0 c1_i32_111
  let c2_i32_112 : BitVec 32 := 2#32
  let c0_i32_113 : BitVec 32 := 0#32
  let v194 : BitVec 1 := Scalar.cmpi .eq c2_i32_112 c0_i32_113
  let c1_i32_114 : BitVec 32 := 1#32
  let v195 : BitVec 32 := Scalar.select v194 c1_i32_114 c2_i32_112
  let v196 : BitVec 32 := Scalar.remsi v193 v195
  let c0_i32_116 : BitVec 32 := 0#32
  let v198 : BitVec 1 := Scalar.cmpi .slt v196 c0_i32_116
  let c0_i32_117 : BitVec 32 := 0#32
  let v199 : BitVec 1 := Scalar.cmpi .slt v195 c0_i32_117
  let v200 : BitVec 1 := Scalar.xori v198 v199
  let c0_i32_115 : BitVec 32 := 0#32
  let v197 : BitVec 1 := Scalar.cmpi .ne v196 c0_i32_115
  let v201 : BitVec 1 := Scalar.andi v200 v197
  let v202 : BitVec 32 := Scalar.addi v196 v195
  let v203 : BitVec 32 := Scalar.select v201 v202 v196
  let c8_i32_119 : BitVec 32 := 8#32
  let c0_i32_120 : BitVec 32 := 0#32
  ![v203.toNat, 8, 0]
def k0_off42 (v207 : BitVec 32) : Fin 2 → Nat :=
  let c0_i32_121 : BitVec 32 := 0#32
  ![v207.toNat, 0]

def k0_chk11 (i : grid0.Coords) (v0 : BitVec 32) (v207 : BitVec 32) : Prop :=
  (∀ (k0_h2 : k0_cond2 i v0 = 1#1), ∀ a, (k0_off42 v207) a + S1x4096.size a ≤ S16896x4096.size a)
theorem k0_off42_inb : ∀ (i : grid0.Coords) (v0 : BitVec 32) (v207 : BitVec 32) (k0_hw11 : k0_chk11 i v0 v207), ∀ (k0_h2 : k0_cond2 i v0 = 1#1), ∀ a, (k0_off42 v207) a + S1x4096.size a ≤ S16896x4096.size a := fun i v0 v207 k0_hw11 k0_h2 => k0_hw11 k0_h2

def k0_off43 (i : grid0.Coords) : Fin 1 → Nat :=
  let arg0 : BitVec 32 := BitVec.ofNat 32 (i 0).val
  let c1_i32_122 : BitVec 32 := 1#32
  let v213 : BitVec 32 := Scalar.addi arg0 c1_i32_122
  let c256_i32_130 : BitVec 32 := 256#32
  let v225 : BitVec 32 := Scalar.muli v213 c256_i32_130
  let c9_i32 : BitVec 32 := 9#32
  let v226 : BitVec 32 := Scalar.addi v225 c9_i32
  let v227 : Index := Scalar.indexCast v226
  ![v227.toNat]
def k0_off44 (i : grid0.Coords) : Fin 1 → Nat :=
  let arg0 : BitVec 32 := BitVec.ofNat 32 (i 0).val
  let c1_i32_123 : BitVec 32 := 1#32
  let v214 : BitVec 32 := Scalar.addi arg0 c1_i32_123
  let c2_i32_124 : BitVec 32 := 2#32
  let c0_i32_125 : BitVec 32 := 0#32
  let v215 : BitVec 1 := Scalar.cmpi .eq c2_i32_124 c0_i32_125
  let c1_i32_126 : BitVec 32 := 1#32
  let v216 : BitVec 32 := Scalar.select v215 c1_i32_126 c2_i32_124
  let v217 : BitVec 32 := Scalar.remsi v214 v216
  let c0_i32_128 : BitVec 32 := 0#32
  let v219 : BitVec 1 := Scalar.cmpi .slt v217 c0_i32_128
  let c0_i32_129 : BitVec 32 := 0#32
  let v220 : BitVec 1 := Scalar.cmpi .slt v216 c0_i32_129
  let v221 : BitVec 1 := Scalar.xori v219 v220
  let c0_i32_127 : BitVec 32 := 0#32
  let v218 : BitVec 1 := Scalar.cmpi .ne v217 c0_i32_127
  let v222 : BitVec 1 := Scalar.andi v221 v218
  let v223 : BitVec 32 := Scalar.addi v217 v216
  let v224 : BitVec 32 := Scalar.select v222 v223 v217
  ![v224.toNat]
def k0_off45 (i : grid0.Coords) : Fin 3 → Nat :=
  let arg0 : BitVec 32 := BitVec.ofNat 32 (i 0).val
  let c1_i32_123 : BitVec 32 := 1#32
  let v214 : BitVec 32 := Scalar.addi arg0 c1_i32_123
  let c2_i32_124 : BitVec 32 := 2#32
  let c0_i32_125 : BitVec 32 := 0#32
  let v215 : BitVec 1 := Scalar.cmpi .eq c2_i32_124 c0_i32_125
  let c1_i32_126 : BitVec 32 := 1#32
  let v216 : BitVec 32 := Scalar.select v215 c1_i32_126 c2_i32_124
  let v217 : BitVec 32 := Scalar.remsi v214 v216
  let c0_i32_128 : BitVec 32 := 0#32
  let v219 : BitVec 1 := Scalar.cmpi .slt v217 c0_i32_128
  let c0_i32_129 : BitVec 32 := 0#32
  let v220 : BitVec 1 := Scalar.cmpi .slt v216 c0_i32_129
  let v221 : BitVec 1 := Scalar.xori v219 v220
  let c0_i32_127 : BitVec 32 := 0#32
  let v218 : BitVec 1 := Scalar.cmpi .ne v217 c0_i32_127
  let v222 : BitVec 1 := Scalar.andi v221 v218
  let v223 : BitVec 32 := Scalar.addi v217 v216
  let v224 : BitVec 32 := Scalar.select v222 v223 v217
  let c9_i32_131 : BitVec 32 := 9#32
  let c0_i32_132 : BitVec 32 := 0#32
  ![v224.toNat, 9, 0]
def k0_off46 (v228 : BitVec 32) : Fin 2 → Nat :=
  let c0_i32_133 : BitVec 32 := 0#32
  ![v228.toNat, 0]

def k0_chk12 (i : grid0.Coords) (v0 : BitVec 32) (v228 : BitVec 32) : Prop :=
  (∀ (k0_h2 : k0_cond2 i v0 = 1#1), ∀ a, (k0_off46 v228) a + S1x4096.size a ≤ S16896x4096.size a)
theorem k0_off46_inb : ∀ (i : grid0.Coords) (v0 : BitVec 32) (v228 : BitVec 32) (k0_hw12 : k0_chk12 i v0 v228), ∀ (k0_h2 : k0_cond2 i v0 = 1#1), ∀ a, (k0_off46 v228) a + S1x4096.size a ≤ S16896x4096.size a := fun i v0 v228 k0_hw12 k0_h2 => k0_hw12 k0_h2

def k0_off47 (i : grid0.Coords) : Fin 1 → Nat :=
  let arg0 : BitVec 32 := BitVec.ofNat 32 (i 0).val
  let c1_i32_134 : BitVec 32 := 1#32
  let v234 : BitVec 32 := Scalar.addi arg0 c1_i32_134
  let c256_i32_142 : BitVec 32 := 256#32
  let v246 : BitVec 32 := Scalar.muli v234 c256_i32_142
  let c10_i32 : BitVec 32 := 10#32
  let v247 : BitVec 32 := Scalar.addi v246 c10_i32
  let v248 : Index := Scalar.indexCast v247
  ![v248.toNat]
def k0_off48 (i : grid0.Coords) : Fin 1 → Nat :=
  let arg0 : BitVec 32 := BitVec.ofNat 32 (i 0).val
  let c1_i32_135 : BitVec 32 := 1#32
  let v235 : BitVec 32 := Scalar.addi arg0 c1_i32_135
  let c2_i32_136 : BitVec 32 := 2#32
  let c0_i32_137 : BitVec 32 := 0#32
  let v236 : BitVec 1 := Scalar.cmpi .eq c2_i32_136 c0_i32_137
  let c1_i32_138 : BitVec 32 := 1#32
  let v237 : BitVec 32 := Scalar.select v236 c1_i32_138 c2_i32_136
  let v238 : BitVec 32 := Scalar.remsi v235 v237
  let c0_i32_140 : BitVec 32 := 0#32
  let v240 : BitVec 1 := Scalar.cmpi .slt v238 c0_i32_140
  let c0_i32_141 : BitVec 32 := 0#32
  let v241 : BitVec 1 := Scalar.cmpi .slt v237 c0_i32_141
  let v242 : BitVec 1 := Scalar.xori v240 v241
  let c0_i32_139 : BitVec 32 := 0#32
  let v239 : BitVec 1 := Scalar.cmpi .ne v238 c0_i32_139
  let v243 : BitVec 1 := Scalar.andi v242 v239
  let v244 : BitVec 32 := Scalar.addi v238 v237
  let v245 : BitVec 32 := Scalar.select v243 v244 v238
  ![v245.toNat]
def k0_off49 (i : grid0.Coords) : Fin 3 → Nat :=
  let arg0 : BitVec 32 := BitVec.ofNat 32 (i 0).val
  let c1_i32_135 : BitVec 32 := 1#32
  let v235 : BitVec 32 := Scalar.addi arg0 c1_i32_135
  let c2_i32_136 : BitVec 32 := 2#32
  let c0_i32_137 : BitVec 32 := 0#32
  let v236 : BitVec 1 := Scalar.cmpi .eq c2_i32_136 c0_i32_137
  let c1_i32_138 : BitVec 32 := 1#32
  let v237 : BitVec 32 := Scalar.select v236 c1_i32_138 c2_i32_136
  let v238 : BitVec 32 := Scalar.remsi v235 v237
  let c0_i32_140 : BitVec 32 := 0#32
  let v240 : BitVec 1 := Scalar.cmpi .slt v238 c0_i32_140
  let c0_i32_141 : BitVec 32 := 0#32
  let v241 : BitVec 1 := Scalar.cmpi .slt v237 c0_i32_141
  let v242 : BitVec 1 := Scalar.xori v240 v241
  let c0_i32_139 : BitVec 32 := 0#32
  let v239 : BitVec 1 := Scalar.cmpi .ne v238 c0_i32_139
  let v243 : BitVec 1 := Scalar.andi v242 v239
  let v244 : BitVec 32 := Scalar.addi v238 v237
  let v245 : BitVec 32 := Scalar.select v243 v244 v238
  let c10_i32_143 : BitVec 32 := 10#32
  let c0_i32_144 : BitVec 32 := 0#32
  ![v245.toNat, 10, 0]
def k0_off50 (v249 : BitVec 32) : Fin 2 → Nat :=
  let c0_i32_145 : BitVec 32 := 0#32
  ![v249.toNat, 0]

def k0_chk13 (i : grid0.Coords) (v0 : BitVec 32) (v249 : BitVec 32) : Prop :=
  (∀ (k0_h2 : k0_cond2 i v0 = 1#1), ∀ a, (k0_off50 v249) a + S1x4096.size a ≤ S16896x4096.size a)
theorem k0_off50_inb : ∀ (i : grid0.Coords) (v0 : BitVec 32) (v249 : BitVec 32) (k0_hw13 : k0_chk13 i v0 v249), ∀ (k0_h2 : k0_cond2 i v0 = 1#1), ∀ a, (k0_off50 v249) a + S1x4096.size a ≤ S16896x4096.size a := fun i v0 v249 k0_hw13 k0_h2 => k0_hw13 k0_h2

def k0_off51 (i : grid0.Coords) : Fin 1 → Nat :=
  let arg0 : BitVec 32 := BitVec.ofNat 32 (i 0).val
  let c1_i32_146 : BitVec 32 := 1#32
  let v255 : BitVec 32 := Scalar.addi arg0 c1_i32_146
  let c256_i32_154 : BitVec 32 := 256#32
  let v267 : BitVec 32 := Scalar.muli v255 c256_i32_154
  let c11_i32 : BitVec 32 := 11#32
  let v268 : BitVec 32 := Scalar.addi v267 c11_i32
  let v269 : Index := Scalar.indexCast v268
  ![v269.toNat]
def k0_off52 (i : grid0.Coords) : Fin 1 → Nat :=
  let arg0 : BitVec 32 := BitVec.ofNat 32 (i 0).val
  let c1_i32_147 : BitVec 32 := 1#32
  let v256 : BitVec 32 := Scalar.addi arg0 c1_i32_147
  let c2_i32_148 : BitVec 32 := 2#32
  let c0_i32_149 : BitVec 32 := 0#32
  let v257 : BitVec 1 := Scalar.cmpi .eq c2_i32_148 c0_i32_149
  let c1_i32_150 : BitVec 32 := 1#32
  let v258 : BitVec 32 := Scalar.select v257 c1_i32_150 c2_i32_148
  let v259 : BitVec 32 := Scalar.remsi v256 v258
  let c0_i32_152 : BitVec 32 := 0#32
  let v261 : BitVec 1 := Scalar.cmpi .slt v259 c0_i32_152
  let c0_i32_153 : BitVec 32 := 0#32
  let v262 : BitVec 1 := Scalar.cmpi .slt v258 c0_i32_153
  let v263 : BitVec 1 := Scalar.xori v261 v262
  let c0_i32_151 : BitVec 32 := 0#32
  let v260 : BitVec 1 := Scalar.cmpi .ne v259 c0_i32_151
  let v264 : BitVec 1 := Scalar.andi v263 v260
  let v265 : BitVec 32 := Scalar.addi v259 v258
  let v266 : BitVec 32 := Scalar.select v264 v265 v259
  ![v266.toNat]
def k0_off53 (i : grid0.Coords) : Fin 3 → Nat :=
  let arg0 : BitVec 32 := BitVec.ofNat 32 (i 0).val
  let c1_i32_147 : BitVec 32 := 1#32
  let v256 : BitVec 32 := Scalar.addi arg0 c1_i32_147
  let c2_i32_148 : BitVec 32 := 2#32
  let c0_i32_149 : BitVec 32 := 0#32
  let v257 : BitVec 1 := Scalar.cmpi .eq c2_i32_148 c0_i32_149
  let c1_i32_150 : BitVec 32 := 1#32
  let v258 : BitVec 32 := Scalar.select v257 c1_i32_150 c2_i32_148
  let v259 : BitVec 32 := Scalar.remsi v256 v258
  let c0_i32_152 : BitVec 32 := 0#32
  let v261 : BitVec 1 := Scalar.cmpi .slt v259 c0_i32_152
  let c0_i32_153 : BitVec 32 := 0#32
  let v262 : BitVec 1 := Scalar.cmpi .slt v258 c0_i32_153
  let v263 : BitVec 1 := Scalar.xori v261 v262
  let c0_i32_151 : BitVec 32 := 0#32
  let v260 : BitVec 1 := Scalar.cmpi .ne v259 c0_i32_151
  let v264 : BitVec 1 := Scalar.andi v263 v260
  let v265 : BitVec 32 := Scalar.addi v259 v258
  let v266 : BitVec 32 := Scalar.select v264 v265 v259
  let c11_i32_155 : BitVec 32 := 11#32
  let c0_i32_156 : BitVec 32 := 0#32
  ![v266.toNat, 11, 0]
def k0_off54 (v270 : BitVec 32) : Fin 2 → Nat :=
  let c0_i32_157 : BitVec 32 := 0#32
  ![v270.toNat, 0]

def k0_chk14 (i : grid0.Coords) (v0 : BitVec 32) (v270 : BitVec 32) : Prop :=
  (∀ (k0_h2 : k0_cond2 i v0 = 1#1), ∀ a, (k0_off54 v270) a + S1x4096.size a ≤ S16896x4096.size a)
theorem k0_off54_inb : ∀ (i : grid0.Coords) (v0 : BitVec 32) (v270 : BitVec 32) (k0_hw14 : k0_chk14 i v0 v270), ∀ (k0_h2 : k0_cond2 i v0 = 1#1), ∀ a, (k0_off54 v270) a + S1x4096.size a ≤ S16896x4096.size a := fun i v0 v270 k0_hw14 k0_h2 => k0_hw14 k0_h2

def k0_off55 (i : grid0.Coords) : Fin 1 → Nat :=
  let arg0 : BitVec 32 := BitVec.ofNat 32 (i 0).val
  let c1_i32_158 : BitVec 32 := 1#32
  let v276 : BitVec 32 := Scalar.addi arg0 c1_i32_158
  let c256_i32_166 : BitVec 32 := 256#32
  let v288 : BitVec 32 := Scalar.muli v276 c256_i32_166
  let c12_i32 : BitVec 32 := 12#32
  let v289 : BitVec 32 := Scalar.addi v288 c12_i32
  let v290 : Index := Scalar.indexCast v289
  ![v290.toNat]
def k0_off56 (i : grid0.Coords) : Fin 1 → Nat :=
  let arg0 : BitVec 32 := BitVec.ofNat 32 (i 0).val
  let c1_i32_159 : BitVec 32 := 1#32
  let v277 : BitVec 32 := Scalar.addi arg0 c1_i32_159
  let c2_i32_160 : BitVec 32 := 2#32
  let c0_i32_161 : BitVec 32 := 0#32
  let v278 : BitVec 1 := Scalar.cmpi .eq c2_i32_160 c0_i32_161
  let c1_i32_162 : BitVec 32 := 1#32
  let v279 : BitVec 32 := Scalar.select v278 c1_i32_162 c2_i32_160
  let v280 : BitVec 32 := Scalar.remsi v277 v279
  let c0_i32_164 : BitVec 32 := 0#32
  let v282 : BitVec 1 := Scalar.cmpi .slt v280 c0_i32_164
  let c0_i32_165 : BitVec 32 := 0#32
  let v283 : BitVec 1 := Scalar.cmpi .slt v279 c0_i32_165
  let v284 : BitVec 1 := Scalar.xori v282 v283
  let c0_i32_163 : BitVec 32 := 0#32
  let v281 : BitVec 1 := Scalar.cmpi .ne v280 c0_i32_163
  let v285 : BitVec 1 := Scalar.andi v284 v281
  let v286 : BitVec 32 := Scalar.addi v280 v279
  let v287 : BitVec 32 := Scalar.select v285 v286 v280
  ![v287.toNat]
def k0_off57 (i : grid0.Coords) : Fin 3 → Nat :=
  let arg0 : BitVec 32 := BitVec.ofNat 32 (i 0).val
  let c1_i32_159 : BitVec 32 := 1#32
  let v277 : BitVec 32 := Scalar.addi arg0 c1_i32_159
  let c2_i32_160 : BitVec 32 := 2#32
  let c0_i32_161 : BitVec 32 := 0#32
  let v278 : BitVec 1 := Scalar.cmpi .eq c2_i32_160 c0_i32_161
  let c1_i32_162 : BitVec 32 := 1#32
  let v279 : BitVec 32 := Scalar.select v278 c1_i32_162 c2_i32_160
  let v280 : BitVec 32 := Scalar.remsi v277 v279
  let c0_i32_164 : BitVec 32 := 0#32
  let v282 : BitVec 1 := Scalar.cmpi .slt v280 c0_i32_164
  let c0_i32_165 : BitVec 32 := 0#32
  let v283 : BitVec 1 := Scalar.cmpi .slt v279 c0_i32_165
  let v284 : BitVec 1 := Scalar.xori v282 v283
  let c0_i32_163 : BitVec 32 := 0#32
  let v281 : BitVec 1 := Scalar.cmpi .ne v280 c0_i32_163
  let v285 : BitVec 1 := Scalar.andi v284 v281
  let v286 : BitVec 32 := Scalar.addi v280 v279
  let v287 : BitVec 32 := Scalar.select v285 v286 v280
  let c12_i32_167 : BitVec 32 := 12#32
  let c0_i32_168 : BitVec 32 := 0#32
  ![v287.toNat, 12, 0]
def k0_off58 (v291 : BitVec 32) : Fin 2 → Nat :=
  let c0_i32_169 : BitVec 32 := 0#32
  ![v291.toNat, 0]

def k0_chk15 (i : grid0.Coords) (v0 : BitVec 32) (v291 : BitVec 32) : Prop :=
  (∀ (k0_h2 : k0_cond2 i v0 = 1#1), ∀ a, (k0_off58 v291) a + S1x4096.size a ≤ S16896x4096.size a)
theorem k0_off58_inb : ∀ (i : grid0.Coords) (v0 : BitVec 32) (v291 : BitVec 32) (k0_hw15 : k0_chk15 i v0 v291), ∀ (k0_h2 : k0_cond2 i v0 = 1#1), ∀ a, (k0_off58 v291) a + S1x4096.size a ≤ S16896x4096.size a := fun i v0 v291 k0_hw15 k0_h2 => k0_hw15 k0_h2

def k0_off59 (i : grid0.Coords) : Fin 1 → Nat :=
  let arg0 : BitVec 32 := BitVec.ofNat 32 (i 0).val
  let c1_i32_170 : BitVec 32 := 1#32
  let v297 : BitVec 32 := Scalar.addi arg0 c1_i32_170
  let c256_i32_178 : BitVec 32 := 256#32
  let v309 : BitVec 32 := Scalar.muli v297 c256_i32_178
  let c13_i32 : BitVec 32 := 13#32
  let v310 : BitVec 32 := Scalar.addi v309 c13_i32
  let v311 : Index := Scalar.indexCast v310
  ![v311.toNat]
def k0_off60 (i : grid0.Coords) : Fin 1 → Nat :=
  let arg0 : BitVec 32 := BitVec.ofNat 32 (i 0).val
  let c1_i32_171 : BitVec 32 := 1#32
  let v298 : BitVec 32 := Scalar.addi arg0 c1_i32_171
  let c2_i32_172 : BitVec 32 := 2#32
  let c0_i32_173 : BitVec 32 := 0#32
  let v299 : BitVec 1 := Scalar.cmpi .eq c2_i32_172 c0_i32_173
  let c1_i32_174 : BitVec 32 := 1#32
  let v300 : BitVec 32 := Scalar.select v299 c1_i32_174 c2_i32_172
  let v301 : BitVec 32 := Scalar.remsi v298 v300
  let c0_i32_176 : BitVec 32 := 0#32
  let v303 : BitVec 1 := Scalar.cmpi .slt v301 c0_i32_176
  let c0_i32_177 : BitVec 32 := 0#32
  let v304 : BitVec 1 := Scalar.cmpi .slt v300 c0_i32_177
  let v305 : BitVec 1 := Scalar.xori v303 v304
  let c0_i32_175 : BitVec 32 := 0#32
  let v302 : BitVec 1 := Scalar.cmpi .ne v301 c0_i32_175
  let v306 : BitVec 1 := Scalar.andi v305 v302
  let v307 : BitVec 32 := Scalar.addi v301 v300
  let v308 : BitVec 32 := Scalar.select v306 v307 v301
  ![v308.toNat]
def k0_off61 (i : grid0.Coords) : Fin 3 → Nat :=
  let arg0 : BitVec 32 := BitVec.ofNat 32 (i 0).val
  let c1_i32_171 : BitVec 32 := 1#32
  let v298 : BitVec 32 := Scalar.addi arg0 c1_i32_171
  let c2_i32_172 : BitVec 32 := 2#32
  let c0_i32_173 : BitVec 32 := 0#32
  let v299 : BitVec 1 := Scalar.cmpi .eq c2_i32_172 c0_i32_173
  let c1_i32_174 : BitVec 32 := 1#32
  let v300 : BitVec 32 := Scalar.select v299 c1_i32_174 c2_i32_172
  let v301 : BitVec 32 := Scalar.remsi v298 v300
  let c0_i32_176 : BitVec 32 := 0#32
  let v303 : BitVec 1 := Scalar.cmpi .slt v301 c0_i32_176
  let c0_i32_177 : BitVec 32 := 0#32
  let v304 : BitVec 1 := Scalar.cmpi .slt v300 c0_i32_177
  let v305 : BitVec 1 := Scalar.xori v303 v304
  let c0_i32_175 : BitVec 32 := 0#32
  let v302 : BitVec 1 := Scalar.cmpi .ne v301 c0_i32_175
  let v306 : BitVec 1 := Scalar.andi v305 v302
  let v307 : BitVec 32 := Scalar.addi v301 v300
  let v308 : BitVec 32 := Scalar.select v306 v307 v301
  let c13_i32_179 : BitVec 32 := 13#32
  let c0_i32_180 : BitVec 32 := 0#32
  ![v308.toNat, 13, 0]
def k0_off62 (v312 : BitVec 32) : Fin 2 → Nat :=
  let c0_i32_181 : BitVec 32 := 0#32
  ![v312.toNat, 0]

def k0_chk16 (i : grid0.Coords) (v0 : BitVec 32) (v312 : BitVec 32) : Prop :=
  (∀ (k0_h2 : k0_cond2 i v0 = 1#1), ∀ a, (k0_off62 v312) a + S1x4096.size a ≤ S16896x4096.size a)
theorem k0_off62_inb : ∀ (i : grid0.Coords) (v0 : BitVec 32) (v312 : BitVec 32) (k0_hw16 : k0_chk16 i v0 v312), ∀ (k0_h2 : k0_cond2 i v0 = 1#1), ∀ a, (k0_off62 v312) a + S1x4096.size a ≤ S16896x4096.size a := fun i v0 v312 k0_hw16 k0_h2 => k0_hw16 k0_h2

def k0_off63 (i : grid0.Coords) : Fin 1 → Nat :=
  let arg0 : BitVec 32 := BitVec.ofNat 32 (i 0).val
  let c1_i32_182 : BitVec 32 := 1#32
  let v318 : BitVec 32 := Scalar.addi arg0 c1_i32_182
  let c256_i32_190 : BitVec 32 := 256#32
  let v330 : BitVec 32 := Scalar.muli v318 c256_i32_190
  let c14_i32 : BitVec 32 := 14#32
  let v331 : BitVec 32 := Scalar.addi v330 c14_i32
  let v332 : Index := Scalar.indexCast v331
  ![v332.toNat]
def k0_off64 (i : grid0.Coords) : Fin 1 → Nat :=
  let arg0 : BitVec 32 := BitVec.ofNat 32 (i 0).val
  let c1_i32_183 : BitVec 32 := 1#32
  let v319 : BitVec 32 := Scalar.addi arg0 c1_i32_183
  let c2_i32_184 : BitVec 32 := 2#32
  let c0_i32_185 : BitVec 32 := 0#32
  let v320 : BitVec 1 := Scalar.cmpi .eq c2_i32_184 c0_i32_185
  let c1_i32_186 : BitVec 32 := 1#32
  let v321 : BitVec 32 := Scalar.select v320 c1_i32_186 c2_i32_184
  let v322 : BitVec 32 := Scalar.remsi v319 v321
  let c0_i32_188 : BitVec 32 := 0#32
  let v324 : BitVec 1 := Scalar.cmpi .slt v322 c0_i32_188
  let c0_i32_189 : BitVec 32 := 0#32
  let v325 : BitVec 1 := Scalar.cmpi .slt v321 c0_i32_189
  let v326 : BitVec 1 := Scalar.xori v324 v325
  let c0_i32_187 : BitVec 32 := 0#32
  let v323 : BitVec 1 := Scalar.cmpi .ne v322 c0_i32_187
  let v327 : BitVec 1 := Scalar.andi v326 v323
  let v328 : BitVec 32 := Scalar.addi v322 v321
  let v329 : BitVec 32 := Scalar.select v327 v328 v322
  ![v329.toNat]
def k0_off65 (i : grid0.Coords) : Fin 3 → Nat :=
  let arg0 : BitVec 32 := BitVec.ofNat 32 (i 0).val
  let c1_i32_183 : BitVec 32 := 1#32
  let v319 : BitVec 32 := Scalar.addi arg0 c1_i32_183
  let c2_i32_184 : BitVec 32 := 2#32
  let c0_i32_185 : BitVec 32 := 0#32
  let v320 : BitVec 1 := Scalar.cmpi .eq c2_i32_184 c0_i32_185
  let c1_i32_186 : BitVec 32 := 1#32
  let v321 : BitVec 32 := Scalar.select v320 c1_i32_186 c2_i32_184
  let v322 : BitVec 32 := Scalar.remsi v319 v321
  let c0_i32_188 : BitVec 32 := 0#32
  let v324 : BitVec 1 := Scalar.cmpi .slt v322 c0_i32_188
  let c0_i32_189 : BitVec 32 := 0#32
  let v325 : BitVec 1 := Scalar.cmpi .slt v321 c0_i32_189
  let v326 : BitVec 1 := Scalar.xori v324 v325
  let c0_i32_187 : BitVec 32 := 0#32
  let v323 : BitVec 1 := Scalar.cmpi .ne v322 c0_i32_187
  let v327 : BitVec 1 := Scalar.andi v326 v323
  let v328 : BitVec 32 := Scalar.addi v322 v321
  let v329 : BitVec 32 := Scalar.select v327 v328 v322
  let c14_i32_191 : BitVec 32 := 14#32
  let c0_i32_192 : BitVec 32 := 0#32
  ![v329.toNat, 14, 0]
def k0_off66 (v333 : BitVec 32) : Fin 2 → Nat :=
  let c0_i32_193 : BitVec 32 := 0#32
  ![v333.toNat, 0]

def k0_chk17 (i : grid0.Coords) (v0 : BitVec 32) (v333 : BitVec 32) : Prop :=
  (∀ (k0_h2 : k0_cond2 i v0 = 1#1), ∀ a, (k0_off66 v333) a + S1x4096.size a ≤ S16896x4096.size a)
theorem k0_off66_inb : ∀ (i : grid0.Coords) (v0 : BitVec 32) (v333 : BitVec 32) (k0_hw17 : k0_chk17 i v0 v333), ∀ (k0_h2 : k0_cond2 i v0 = 1#1), ∀ a, (k0_off66 v333) a + S1x4096.size a ≤ S16896x4096.size a := fun i v0 v333 k0_hw17 k0_h2 => k0_hw17 k0_h2

def k0_off67 (i : grid0.Coords) : Fin 1 → Nat :=
  let arg0 : BitVec 32 := BitVec.ofNat 32 (i 0).val
  let c1_i32_194 : BitVec 32 := 1#32
  let v339 : BitVec 32 := Scalar.addi arg0 c1_i32_194
  let c256_i32_202 : BitVec 32 := 256#32
  let v351 : BitVec 32 := Scalar.muli v339 c256_i32_202
  let c15_i32 : BitVec 32 := 15#32
  let v352 : BitVec 32 := Scalar.addi v351 c15_i32
  let v353 : Index := Scalar.indexCast v352
  ![v353.toNat]
def k0_off68 (i : grid0.Coords) : Fin 1 → Nat :=
  let arg0 : BitVec 32 := BitVec.ofNat 32 (i 0).val
  let c1_i32_195 : BitVec 32 := 1#32
  let v340 : BitVec 32 := Scalar.addi arg0 c1_i32_195
  let c2_i32_196 : BitVec 32 := 2#32
  let c0_i32_197 : BitVec 32 := 0#32
  let v341 : BitVec 1 := Scalar.cmpi .eq c2_i32_196 c0_i32_197
  let c1_i32_198 : BitVec 32 := 1#32
  let v342 : BitVec 32 := Scalar.select v341 c1_i32_198 c2_i32_196
  let v343 : BitVec 32 := Scalar.remsi v340 v342
  let c0_i32_200 : BitVec 32 := 0#32
  let v345 : BitVec 1 := Scalar.cmpi .slt v343 c0_i32_200
  let c0_i32_201 : BitVec 32 := 0#32
  let v346 : BitVec 1 := Scalar.cmpi .slt v342 c0_i32_201
  let v347 : BitVec 1 := Scalar.xori v345 v346
  let c0_i32_199 : BitVec 32 := 0#32
  let v344 : BitVec 1 := Scalar.cmpi .ne v343 c0_i32_199
  let v348 : BitVec 1 := Scalar.andi v347 v344
  let v349 : BitVec 32 := Scalar.addi v343 v342
  let v350 : BitVec 32 := Scalar.select v348 v349 v343
  ![v350.toNat]
def k0_off69 (i : grid0.Coords) : Fin 3 → Nat :=
  let arg0 : BitVec 32 := BitVec.ofNat 32 (i 0).val
  let c1_i32_195 : BitVec 32 := 1#32
  let v340 : BitVec 32 := Scalar.addi arg0 c1_i32_195
  let c2_i32_196 : BitVec 32 := 2#32
  let c0_i32_197 : BitVec 32 := 0#32
  let v341 : BitVec 1 := Scalar.cmpi .eq c2_i32_196 c0_i32_197
  let c1_i32_198 : BitVec 32 := 1#32
  let v342 : BitVec 32 := Scalar.select v341 c1_i32_198 c2_i32_196
  let v343 : BitVec 32 := Scalar.remsi v340 v342
  let c0_i32_200 : BitVec 32 := 0#32
  let v345 : BitVec 1 := Scalar.cmpi .slt v343 c0_i32_200
  let c0_i32_201 : BitVec 32 := 0#32
  let v346 : BitVec 1 := Scalar.cmpi .slt v342 c0_i32_201
  let v347 : BitVec 1 := Scalar.xori v345 v346
  let c0_i32_199 : BitVec 32 := 0#32
  let v344 : BitVec 1 := Scalar.cmpi .ne v343 c0_i32_199
  let v348 : BitVec 1 := Scalar.andi v347 v344
  let v349 : BitVec 32 := Scalar.addi v343 v342
  let v350 : BitVec 32 := Scalar.select v348 v349 v343
  let c15_i32_203 : BitVec 32 := 15#32
  let c0_i32_204 : BitVec 32 := 0#32
  ![v350.toNat, 15, 0]
def k0_off70 (v354 : BitVec 32) : Fin 2 → Nat :=
  let c0_i32_205 : BitVec 32 := 0#32
  ![v354.toNat, 0]

def k0_chk18 (i : grid0.Coords) (v0 : BitVec 32) (v354 : BitVec 32) : Prop :=
  (∀ (k0_h2 : k0_cond2 i v0 = 1#1), ∀ a, (k0_off70 v354) a + S1x4096.size a ≤ S16896x4096.size a)
theorem k0_off70_inb : ∀ (i : grid0.Coords) (v0 : BitVec 32) (v354 : BitVec 32) (k0_hw18 : k0_chk18 i v0 v354), ∀ (k0_h2 : k0_cond2 i v0 = 1#1), ∀ a, (k0_off70 v354) a + S1x4096.size a ≤ S16896x4096.size a := fun i v0 v354 k0_hw18 k0_h2 => k0_hw18 k0_h2

def k0_off71 (i : grid0.Coords) : Fin 1 → Nat :=
  let arg0 : BitVec 32 := BitVec.ofNat 32 (i 0).val
  let c1_i32_206 : BitVec 32 := 1#32
  let v360 : BitVec 32 := Scalar.addi arg0 c1_i32_206
  let c256_i32_214 : BitVec 32 := 256#32
  let v372 : BitVec 32 := Scalar.muli v360 c256_i32_214
  let c16_i32 : BitVec 32 := 16#32
  let v373 : BitVec 32 := Scalar.addi v372 c16_i32
  let v374 : Index := Scalar.indexCast v373
  ![v374.toNat]
def k0_off72 (i : grid0.Coords) : Fin 1 → Nat :=
  let arg0 : BitVec 32 := BitVec.ofNat 32 (i 0).val
  let c1_i32_207 : BitVec 32 := 1#32
  let v361 : BitVec 32 := Scalar.addi arg0 c1_i32_207
  let c2_i32_208 : BitVec 32 := 2#32
  let c0_i32_209 : BitVec 32 := 0#32
  let v362 : BitVec 1 := Scalar.cmpi .eq c2_i32_208 c0_i32_209
  let c1_i32_210 : BitVec 32 := 1#32
  let v363 : BitVec 32 := Scalar.select v362 c1_i32_210 c2_i32_208
  let v364 : BitVec 32 := Scalar.remsi v361 v363
  let c0_i32_212 : BitVec 32 := 0#32
  let v366 : BitVec 1 := Scalar.cmpi .slt v364 c0_i32_212
  let c0_i32_213 : BitVec 32 := 0#32
  let v367 : BitVec 1 := Scalar.cmpi .slt v363 c0_i32_213
  let v368 : BitVec 1 := Scalar.xori v366 v367
  let c0_i32_211 : BitVec 32 := 0#32
  let v365 : BitVec 1 := Scalar.cmpi .ne v364 c0_i32_211
  let v369 : BitVec 1 := Scalar.andi v368 v365
  let v370 : BitVec 32 := Scalar.addi v364 v363
  let v371 : BitVec 32 := Scalar.select v369 v370 v364
  ![v371.toNat]
def k0_off73 (i : grid0.Coords) : Fin 3 → Nat :=
  let arg0 : BitVec 32 := BitVec.ofNat 32 (i 0).val
  let c1_i32_207 : BitVec 32 := 1#32
  let v361 : BitVec 32 := Scalar.addi arg0 c1_i32_207
  let c2_i32_208 : BitVec 32 := 2#32
  let c0_i32_209 : BitVec 32 := 0#32
  let v362 : BitVec 1 := Scalar.cmpi .eq c2_i32_208 c0_i32_209
  let c1_i32_210 : BitVec 32 := 1#32
  let v363 : BitVec 32 := Scalar.select v362 c1_i32_210 c2_i32_208
  let v364 : BitVec 32 := Scalar.remsi v361 v363
  let c0_i32_212 : BitVec 32 := 0#32
  let v366 : BitVec 1 := Scalar.cmpi .slt v364 c0_i32_212
  let c0_i32_213 : BitVec 32 := 0#32
  let v367 : BitVec 1 := Scalar.cmpi .slt v363 c0_i32_213
  let v368 : BitVec 1 := Scalar.xori v366 v367
  let c0_i32_211 : BitVec 32 := 0#32
  let v365 : BitVec 1 := Scalar.cmpi .ne v364 c0_i32_211
  let v369 : BitVec 1 := Scalar.andi v368 v365
  let v370 : BitVec 32 := Scalar.addi v364 v363
  let v371 : BitVec 32 := Scalar.select v369 v370 v364
  let c16_i32_215 : BitVec 32 := 16#32
  let c0_i32_216 : BitVec 32 := 0#32
  ![v371.toNat, 16, 0]
def k0_off74 (v375 : BitVec 32) : Fin 2 → Nat :=
  let c0_i32_217 : BitVec 32 := 0#32
  ![v375.toNat, 0]

def k0_chk19 (i : grid0.Coords) (v0 : BitVec 32) (v375 : BitVec 32) : Prop :=
  (∀ (k0_h2 : k0_cond2 i v0 = 1#1), ∀ a, (k0_off74 v375) a + S1x4096.size a ≤ S16896x4096.size a)
theorem k0_off74_inb : ∀ (i : grid0.Coords) (v0 : BitVec 32) (v375 : BitVec 32) (k0_hw19 : k0_chk19 i v0 v375), ∀ (k0_h2 : k0_cond2 i v0 = 1#1), ∀ a, (k0_off74 v375) a + S1x4096.size a ≤ S16896x4096.size a := fun i v0 v375 k0_hw19 k0_h2 => k0_hw19 k0_h2

def k0_off75 (i : grid0.Coords) : Fin 1 → Nat :=
  let arg0 : BitVec 32 := BitVec.ofNat 32 (i 0).val
  let c1_i32_218 : BitVec 32 := 1#32
  let v381 : BitVec 32 := Scalar.addi arg0 c1_i32_218
  let c256_i32_226 : BitVec 32 := 256#32
  let v393 : BitVec 32 := Scalar.muli v381 c256_i32_226
  let c17_i32 : BitVec 32 := 17#32
  let v394 : BitVec 32 := Scalar.addi v393 c17_i32
  let v395 : Index := Scalar.indexCast v394
  ![v395.toNat]
def k0_off76 (i : grid0.Coords) : Fin 1 → Nat :=
  let arg0 : BitVec 32 := BitVec.ofNat 32 (i 0).val
  let c1_i32_219 : BitVec 32 := 1#32
  let v382 : BitVec 32 := Scalar.addi arg0 c1_i32_219
  let c2_i32_220 : BitVec 32 := 2#32
  let c0_i32_221 : BitVec 32 := 0#32
  let v383 : BitVec 1 := Scalar.cmpi .eq c2_i32_220 c0_i32_221
  let c1_i32_222 : BitVec 32 := 1#32
  let v384 : BitVec 32 := Scalar.select v383 c1_i32_222 c2_i32_220
  let v385 : BitVec 32 := Scalar.remsi v382 v384
  let c0_i32_224 : BitVec 32 := 0#32
  let v387 : BitVec 1 := Scalar.cmpi .slt v385 c0_i32_224
  let c0_i32_225 : BitVec 32 := 0#32
  let v388 : BitVec 1 := Scalar.cmpi .slt v384 c0_i32_225
  let v389 : BitVec 1 := Scalar.xori v387 v388
  let c0_i32_223 : BitVec 32 := 0#32
  let v386 : BitVec 1 := Scalar.cmpi .ne v385 c0_i32_223
  let v390 : BitVec 1 := Scalar.andi v389 v386
  let v391 : BitVec 32 := Scalar.addi v385 v384
  let v392 : BitVec 32 := Scalar.select v390 v391 v385
  ![v392.toNat]
def k0_off77 (i : grid0.Coords) : Fin 3 → Nat :=
  let arg0 : BitVec 32 := BitVec.ofNat 32 (i 0).val
  let c1_i32_219 : BitVec 32 := 1#32
  let v382 : BitVec 32 := Scalar.addi arg0 c1_i32_219
  let c2_i32_220 : BitVec 32 := 2#32
  let c0_i32_221 : BitVec 32 := 0#32
  let v383 : BitVec 1 := Scalar.cmpi .eq c2_i32_220 c0_i32_221
  let c1_i32_222 : BitVec 32 := 1#32
  let v384 : BitVec 32 := Scalar.select v383 c1_i32_222 c2_i32_220
  let v385 : BitVec 32 := Scalar.remsi v382 v384
  let c0_i32_224 : BitVec 32 := 0#32
  let v387 : BitVec 1 := Scalar.cmpi .slt v385 c0_i32_224
  let c0_i32_225 : BitVec 32 := 0#32
  let v388 : BitVec 1 := Scalar.cmpi .slt v384 c0_i32_225
  let v389 : BitVec 1 := Scalar.xori v387 v388
  let c0_i32_223 : BitVec 32 := 0#32
  let v386 : BitVec 1 := Scalar.cmpi .ne v385 c0_i32_223
  let v390 : BitVec 1 := Scalar.andi v389 v386
  let v391 : BitVec 32 := Scalar.addi v385 v384
  let v392 : BitVec 32 := Scalar.select v390 v391 v385
  let c17_i32_227 : BitVec 32 := 17#32
  let c0_i32_228 : BitVec 32 := 0#32
  ![v392.toNat, 17, 0]
def k0_off78 (v396 : BitVec 32) : Fin 2 → Nat :=
  let c0_i32_229 : BitVec 32 := 0#32
  ![v396.toNat, 0]

def k0_chk20 (i : grid0.Coords) (v0 : BitVec 32) (v396 : BitVec 32) : Prop :=
  (∀ (k0_h2 : k0_cond2 i v0 = 1#1), ∀ a, (k0_off78 v396) a + S1x4096.size a ≤ S16896x4096.size a)
theorem k0_off78_inb : ∀ (i : grid0.Coords) (v0 : BitVec 32) (v396 : BitVec 32) (k0_hw20 : k0_chk20 i v0 v396), ∀ (k0_h2 : k0_cond2 i v0 = 1#1), ∀ a, (k0_off78 v396) a + S1x4096.size a ≤ S16896x4096.size a := fun i v0 v396 k0_hw20 k0_h2 => k0_hw20 k0_h2

def k0_off79 (i : grid0.Coords) : Fin 1 → Nat :=
  let arg0 : BitVec 32 := BitVec.ofNat 32 (i 0).val
  let c1_i32_230 : BitVec 32 := 1#32
  let v402 : BitVec 32 := Scalar.addi arg0 c1_i32_230
  let c256_i32_238 : BitVec 32 := 256#32
  let v414 : BitVec 32 := Scalar.muli v402 c256_i32_238
  let c18_i32 : BitVec 32 := 18#32
  let v415 : BitVec 32 := Scalar.addi v414 c18_i32
  let v416 : Index := Scalar.indexCast v415
  ![v416.toNat]
def k0_off80 (i : grid0.Coords) : Fin 1 → Nat :=
  let arg0 : BitVec 32 := BitVec.ofNat 32 (i 0).val
  let c1_i32_231 : BitVec 32 := 1#32
  let v403 : BitVec 32 := Scalar.addi arg0 c1_i32_231
  let c2_i32_232 : BitVec 32 := 2#32
  let c0_i32_233 : BitVec 32 := 0#32
  let v404 : BitVec 1 := Scalar.cmpi .eq c2_i32_232 c0_i32_233
  let c1_i32_234 : BitVec 32 := 1#32
  let v405 : BitVec 32 := Scalar.select v404 c1_i32_234 c2_i32_232
  let v406 : BitVec 32 := Scalar.remsi v403 v405
  let c0_i32_236 : BitVec 32 := 0#32
  let v408 : BitVec 1 := Scalar.cmpi .slt v406 c0_i32_236
  let c0_i32_237 : BitVec 32 := 0#32
  let v409 : BitVec 1 := Scalar.cmpi .slt v405 c0_i32_237
  let v410 : BitVec 1 := Scalar.xori v408 v409
  let c0_i32_235 : BitVec 32 := 0#32
  let v407 : BitVec 1 := Scalar.cmpi .ne v406 c0_i32_235
  let v411 : BitVec 1 := Scalar.andi v410 v407
  let v412 : BitVec 32 := Scalar.addi v406 v405
  let v413 : BitVec 32 := Scalar.select v411 v412 v406
  ![v413.toNat]
def k0_off81 (i : grid0.Coords) : Fin 3 → Nat :=
  let arg0 : BitVec 32 := BitVec.ofNat 32 (i 0).val
  let c1_i32_231 : BitVec 32 := 1#32
  let v403 : BitVec 32 := Scalar.addi arg0 c1_i32_231
  let c2_i32_232 : BitVec 32 := 2#32
  let c0_i32_233 : BitVec 32 := 0#32
  let v404 : BitVec 1 := Scalar.cmpi .eq c2_i32_232 c0_i32_233
  let c1_i32_234 : BitVec 32 := 1#32
  let v405 : BitVec 32 := Scalar.select v404 c1_i32_234 c2_i32_232
  let v406 : BitVec 32 := Scalar.remsi v403 v405
  let c0_i32_236 : BitVec 32 := 0#32
  let v408 : BitVec 1 := Scalar.cmpi .slt v406 c0_i32_236
  let c0_i32_237 : BitVec 32 := 0#32
  let v409 : BitVec 1 := Scalar.cmpi .slt v405 c0_i32_237
  let v410 : BitVec 1 := Scalar.xori v408 v409
  let c0_i32_235 : BitVec 32 := 0#32
  let v407 : BitVec 1 := Scalar.cmpi .ne v406 c0_i32_235
  let v411 : BitVec 1 := Scalar.andi v410 v407
  let v412 : BitVec 32 := Scalar.addi v406 v405
  let v413 : BitVec 32 := Scalar.select v411 v412 v406
  let c18_i32_239 : BitVec 32 := 18#32
  let c0_i32_240 : BitVec 32 := 0#32
  ![v413.toNat, 18, 0]
def k0_off82 (v417 : BitVec 32) : Fin 2 → Nat :=
  let c0_i32_241 : BitVec 32 := 0#32
  ![v417.toNat, 0]

def k0_chk21 (i : grid0.Coords) (v0 : BitVec 32) (v417 : BitVec 32) : Prop :=
  (∀ (k0_h2 : k0_cond2 i v0 = 1#1), ∀ a, (k0_off82 v417) a + S1x4096.size a ≤ S16896x4096.size a)
theorem k0_off82_inb : ∀ (i : grid0.Coords) (v0 : BitVec 32) (v417 : BitVec 32) (k0_hw21 : k0_chk21 i v0 v417), ∀ (k0_h2 : k0_cond2 i v0 = 1#1), ∀ a, (k0_off82 v417) a + S1x4096.size a ≤ S16896x4096.size a := fun i v0 v417 k0_hw21 k0_h2 => k0_hw21 k0_h2

def k0_off83 (i : grid0.Coords) : Fin 1 → Nat :=
  let arg0 : BitVec 32 := BitVec.ofNat 32 (i 0).val
  let c1_i32_242 : BitVec 32 := 1#32
  let v423 : BitVec 32 := Scalar.addi arg0 c1_i32_242
  let c256_i32_250 : BitVec 32 := 256#32
  let v435 : BitVec 32 := Scalar.muli v423 c256_i32_250
  let c19_i32 : BitVec 32 := 19#32
  let v436 : BitVec 32 := Scalar.addi v435 c19_i32
  let v437 : Index := Scalar.indexCast v436
  ![v437.toNat]
def k0_off84 (i : grid0.Coords) : Fin 1 → Nat :=
  let arg0 : BitVec 32 := BitVec.ofNat 32 (i 0).val
  let c1_i32_243 : BitVec 32 := 1#32
  let v424 : BitVec 32 := Scalar.addi arg0 c1_i32_243
  let c2_i32_244 : BitVec 32 := 2#32
  let c0_i32_245 : BitVec 32 := 0#32
  let v425 : BitVec 1 := Scalar.cmpi .eq c2_i32_244 c0_i32_245
  let c1_i32_246 : BitVec 32 := 1#32
  let v426 : BitVec 32 := Scalar.select v425 c1_i32_246 c2_i32_244
  let v427 : BitVec 32 := Scalar.remsi v424 v426
  let c0_i32_248 : BitVec 32 := 0#32
  let v429 : BitVec 1 := Scalar.cmpi .slt v427 c0_i32_248
  let c0_i32_249 : BitVec 32 := 0#32
  let v430 : BitVec 1 := Scalar.cmpi .slt v426 c0_i32_249
  let v431 : BitVec 1 := Scalar.xori v429 v430
  let c0_i32_247 : BitVec 32 := 0#32
  let v428 : BitVec 1 := Scalar.cmpi .ne v427 c0_i32_247
  let v432 : BitVec 1 := Scalar.andi v431 v428
  let v433 : BitVec 32 := Scalar.addi v427 v426
  let v434 : BitVec 32 := Scalar.select v432 v433 v427
  ![v434.toNat]
def k0_off85 (i : grid0.Coords) : Fin 3 → Nat :=
  let arg0 : BitVec 32 := BitVec.ofNat 32 (i 0).val
  let c1_i32_243 : BitVec 32 := 1#32
  let v424 : BitVec 32 := Scalar.addi arg0 c1_i32_243
  let c2_i32_244 : BitVec 32 := 2#32
  let c0_i32_245 : BitVec 32 := 0#32
  let v425 : BitVec 1 := Scalar.cmpi .eq c2_i32_244 c0_i32_245
  let c1_i32_246 : BitVec 32 := 1#32
  let v426 : BitVec 32 := Scalar.select v425 c1_i32_246 c2_i32_244
  let v427 : BitVec 32 := Scalar.remsi v424 v426
  let c0_i32_248 : BitVec 32 := 0#32
  let v429 : BitVec 1 := Scalar.cmpi .slt v427 c0_i32_248
  let c0_i32_249 : BitVec 32 := 0#32
  let v430 : BitVec 1 := Scalar.cmpi .slt v426 c0_i32_249
  let v431 : BitVec 1 := Scalar.xori v429 v430
  let c0_i32_247 : BitVec 32 := 0#32
  let v428 : BitVec 1 := Scalar.cmpi .ne v427 c0_i32_247
  let v432 : BitVec 1 := Scalar.andi v431 v428
  let v433 : BitVec 32 := Scalar.addi v427 v426
  let v434 : BitVec 32 := Scalar.select v432 v433 v427
  let c19_i32_251 : BitVec 32 := 19#32
  let c0_i32_252 : BitVec 32 := 0#32
  ![v434.toNat, 19, 0]
def k0_off86 (v438 : BitVec 32) : Fin 2 → Nat :=
  let c0_i32_253 : BitVec 32 := 0#32
  ![v438.toNat, 0]

def k0_chk22 (i : grid0.Coords) (v0 : BitVec 32) (v438 : BitVec 32) : Prop :=
  (∀ (k0_h2 : k0_cond2 i v0 = 1#1), ∀ a, (k0_off86 v438) a + S1x4096.size a ≤ S16896x4096.size a)
theorem k0_off86_inb : ∀ (i : grid0.Coords) (v0 : BitVec 32) (v438 : BitVec 32) (k0_hw22 : k0_chk22 i v0 v438), ∀ (k0_h2 : k0_cond2 i v0 = 1#1), ∀ a, (k0_off86 v438) a + S1x4096.size a ≤ S16896x4096.size a := fun i v0 v438 k0_hw22 k0_h2 => k0_hw22 k0_h2

def k0_off87 (i : grid0.Coords) : Fin 1 → Nat :=
  let arg0 : BitVec 32 := BitVec.ofNat 32 (i 0).val
  let c1_i32_254 : BitVec 32 := 1#32
  let v444 : BitVec 32 := Scalar.addi arg0 c1_i32_254
  let c256_i32_262 : BitVec 32 := 256#32
  let v456 : BitVec 32 := Scalar.muli v444 c256_i32_262
  let c20_i32 : BitVec 32 := 20#32
  let v457 : BitVec 32 := Scalar.addi v456 c20_i32
  let v458 : Index := Scalar.indexCast v457
  ![v458.toNat]
def k0_off88 (i : grid0.Coords) : Fin 1 → Nat :=
  let arg0 : BitVec 32 := BitVec.ofNat 32 (i 0).val
  let c1_i32_255 : BitVec 32 := 1#32
  let v445 : BitVec 32 := Scalar.addi arg0 c1_i32_255
  let c2_i32_256 : BitVec 32 := 2#32
  let c0_i32_257 : BitVec 32 := 0#32
  let v446 : BitVec 1 := Scalar.cmpi .eq c2_i32_256 c0_i32_257
  let c1_i32_258 : BitVec 32 := 1#32
  let v447 : BitVec 32 := Scalar.select v446 c1_i32_258 c2_i32_256
  let v448 : BitVec 32 := Scalar.remsi v445 v447
  let c0_i32_260 : BitVec 32 := 0#32
  let v450 : BitVec 1 := Scalar.cmpi .slt v448 c0_i32_260
  let c0_i32_261 : BitVec 32 := 0#32
  let v451 : BitVec 1 := Scalar.cmpi .slt v447 c0_i32_261
  let v452 : BitVec 1 := Scalar.xori v450 v451
  let c0_i32_259 : BitVec 32 := 0#32
  let v449 : BitVec 1 := Scalar.cmpi .ne v448 c0_i32_259
  let v453 : BitVec 1 := Scalar.andi v452 v449
  let v454 : BitVec 32 := Scalar.addi v448 v447
  let v455 : BitVec 32 := Scalar.select v453 v454 v448
  ![v455.toNat]
def k0_off89 (i : grid0.Coords) : Fin 3 → Nat :=
  let arg0 : BitVec 32 := BitVec.ofNat 32 (i 0).val
  let c1_i32_255 : BitVec 32 := 1#32
  let v445 : BitVec 32 := Scalar.addi arg0 c1_i32_255
  let c2_i32_256 : BitVec 32 := 2#32
  let c0_i32_257 : BitVec 32 := 0#32
  let v446 : BitVec 1 := Scalar.cmpi .eq c2_i32_256 c0_i32_257
  let c1_i32_258 : BitVec 32 := 1#32
  let v447 : BitVec 32 := Scalar.select v446 c1_i32_258 c2_i32_256
  let v448 : BitVec 32 := Scalar.remsi v445 v447
  let c0_i32_260 : BitVec 32 := 0#32
  let v450 : BitVec 1 := Scalar.cmpi .slt v448 c0_i32_260
  let c0_i32_261 : BitVec 32 := 0#32
  let v451 : BitVec 1 := Scalar.cmpi .slt v447 c0_i32_261
  let v452 : BitVec 1 := Scalar.xori v450 v451
  let c0_i32_259 : BitVec 32 := 0#32
  let v449 : BitVec 1 := Scalar.cmpi .ne v448 c0_i32_259
  let v453 : BitVec 1 := Scalar.andi v452 v449
  let v454 : BitVec 32 := Scalar.addi v448 v447
  let v455 : BitVec 32 := Scalar.select v453 v454 v448
  let c20_i32_263 : BitVec 32 := 20#32
  let c0_i32_264 : BitVec 32 := 0#32
  ![v455.toNat, 20, 0]
def k0_off90 (v459 : BitVec 32) : Fin 2 → Nat :=
  let c0_i32_265 : BitVec 32 := 0#32
  ![v459.toNat, 0]

def k0_chk23 (i : grid0.Coords) (v0 : BitVec 32) (v459 : BitVec 32) : Prop :=
  (∀ (k0_h2 : k0_cond2 i v0 = 1#1), ∀ a, (k0_off90 v459) a + S1x4096.size a ≤ S16896x4096.size a)
theorem k0_off90_inb : ∀ (i : grid0.Coords) (v0 : BitVec 32) (v459 : BitVec 32) (k0_hw23 : k0_chk23 i v0 v459), ∀ (k0_h2 : k0_cond2 i v0 = 1#1), ∀ a, (k0_off90 v459) a + S1x4096.size a ≤ S16896x4096.size a := fun i v0 v459 k0_hw23 k0_h2 => k0_hw23 k0_h2

def k0_off91 (i : grid0.Coords) : Fin 1 → Nat :=
  let arg0 : BitVec 32 := BitVec.ofNat 32 (i 0).val
  let c1_i32_266 : BitVec 32 := 1#32
  let v465 : BitVec 32 := Scalar.addi arg0 c1_i32_266
  let c256_i32_274 : BitVec 32 := 256#32
  let v477 : BitVec 32 := Scalar.muli v465 c256_i32_274
  let c21_i32 : BitVec 32 := 21#32
  let v478 : BitVec 32 := Scalar.addi v477 c21_i32
  let v479 : Index := Scalar.indexCast v478
  ![v479.toNat]
def k0_off92 (i : grid0.Coords) : Fin 1 → Nat :=
  let arg0 : BitVec 32 := BitVec.ofNat 32 (i 0).val
  let c1_i32_267 : BitVec 32 := 1#32
  let v466 : BitVec 32 := Scalar.addi arg0 c1_i32_267
  let c2_i32_268 : BitVec 32 := 2#32
  let c0_i32_269 : BitVec 32 := 0#32
  let v467 : BitVec 1 := Scalar.cmpi .eq c2_i32_268 c0_i32_269
  let c1_i32_270 : BitVec 32 := 1#32
  let v468 : BitVec 32 := Scalar.select v467 c1_i32_270 c2_i32_268
  let v469 : BitVec 32 := Scalar.remsi v466 v468
  let c0_i32_272 : BitVec 32 := 0#32
  let v471 : BitVec 1 := Scalar.cmpi .slt v469 c0_i32_272
  let c0_i32_273 : BitVec 32 := 0#32
  let v472 : BitVec 1 := Scalar.cmpi .slt v468 c0_i32_273
  let v473 : BitVec 1 := Scalar.xori v471 v472
  let c0_i32_271 : BitVec 32 := 0#32
  let v470 : BitVec 1 := Scalar.cmpi .ne v469 c0_i32_271
  let v474 : BitVec 1 := Scalar.andi v473 v470
  let v475 : BitVec 32 := Scalar.addi v469 v468
  let v476 : BitVec 32 := Scalar.select v474 v475 v469
  ![v476.toNat]
def k0_off93 (i : grid0.Coords) : Fin 3 → Nat :=
  let arg0 : BitVec 32 := BitVec.ofNat 32 (i 0).val
  let c1_i32_267 : BitVec 32 := 1#32
  let v466 : BitVec 32 := Scalar.addi arg0 c1_i32_267
  let c2_i32_268 : BitVec 32 := 2#32
  let c0_i32_269 : BitVec 32 := 0#32
  let v467 : BitVec 1 := Scalar.cmpi .eq c2_i32_268 c0_i32_269
  let c1_i32_270 : BitVec 32 := 1#32
  let v468 : BitVec 32 := Scalar.select v467 c1_i32_270 c2_i32_268
  let v469 : BitVec 32 := Scalar.remsi v466 v468
  let c0_i32_272 : BitVec 32 := 0#32
  let v471 : BitVec 1 := Scalar.cmpi .slt v469 c0_i32_272
  let c0_i32_273 : BitVec 32 := 0#32
  let v472 : BitVec 1 := Scalar.cmpi .slt v468 c0_i32_273
  let v473 : BitVec 1 := Scalar.xori v471 v472
  let c0_i32_271 : BitVec 32 := 0#32
  let v470 : BitVec 1 := Scalar.cmpi .ne v469 c0_i32_271
  let v474 : BitVec 1 := Scalar.andi v473 v470
  let v475 : BitVec 32 := Scalar.addi v469 v468
  let v476 : BitVec 32 := Scalar.select v474 v475 v469
  let c21_i32_275 : BitVec 32 := 21#32
  let c0_i32_276 : BitVec 32 := 0#32
  ![v476.toNat, 21, 0]
def k0_off94 (v480 : BitVec 32) : Fin 2 → Nat :=
  let c0_i32_277 : BitVec 32 := 0#32
  ![v480.toNat, 0]

def k0_chk24 (i : grid0.Coords) (v0 : BitVec 32) (v480 : BitVec 32) : Prop :=
  (∀ (k0_h2 : k0_cond2 i v0 = 1#1), ∀ a, (k0_off94 v480) a + S1x4096.size a ≤ S16896x4096.size a)
theorem k0_off94_inb : ∀ (i : grid0.Coords) (v0 : BitVec 32) (v480 : BitVec 32) (k0_hw24 : k0_chk24 i v0 v480), ∀ (k0_h2 : k0_cond2 i v0 = 1#1), ∀ a, (k0_off94 v480) a + S1x4096.size a ≤ S16896x4096.size a := fun i v0 v480 k0_hw24 k0_h2 => k0_hw24 k0_h2

def k0_off95 (i : grid0.Coords) : Fin 1 → Nat :=
  let arg0 : BitVec 32 := BitVec.ofNat 32 (i 0).val
  let c1_i32_278 : BitVec 32 := 1#32
  let v486 : BitVec 32 := Scalar.addi arg0 c1_i32_278
  let c256_i32_286 : BitVec 32 := 256#32
  let v498 : BitVec 32 := Scalar.muli v486 c256_i32_286
  let c22_i32 : BitVec 32 := 22#32
  let v499 : BitVec 32 := Scalar.addi v498 c22_i32
  let v500 : Index := Scalar.indexCast v499
  ![v500.toNat]
def k0_off96 (i : grid0.Coords) : Fin 1 → Nat :=
  let arg0 : BitVec 32 := BitVec.ofNat 32 (i 0).val
  let c1_i32_279 : BitVec 32 := 1#32
  let v487 : BitVec 32 := Scalar.addi arg0 c1_i32_279
  let c2_i32_280 : BitVec 32 := 2#32
  let c0_i32_281 : BitVec 32 := 0#32
  let v488 : BitVec 1 := Scalar.cmpi .eq c2_i32_280 c0_i32_281
  let c1_i32_282 : BitVec 32 := 1#32
  let v489 : BitVec 32 := Scalar.select v488 c1_i32_282 c2_i32_280
  let v490 : BitVec 32 := Scalar.remsi v487 v489
  let c0_i32_284 : BitVec 32 := 0#32
  let v492 : BitVec 1 := Scalar.cmpi .slt v490 c0_i32_284
  let c0_i32_285 : BitVec 32 := 0#32
  let v493 : BitVec 1 := Scalar.cmpi .slt v489 c0_i32_285
  let v494 : BitVec 1 := Scalar.xori v492 v493
  let c0_i32_283 : BitVec 32 := 0#32
  let v491 : BitVec 1 := Scalar.cmpi .ne v490 c0_i32_283
  let v495 : BitVec 1 := Scalar.andi v494 v491
  let v496 : BitVec 32 := Scalar.addi v490 v489
  let v497 : BitVec 32 := Scalar.select v495 v496 v490
  ![v497.toNat]
def k0_off97 (i : grid0.Coords) : Fin 3 → Nat :=
  let arg0 : BitVec 32 := BitVec.ofNat 32 (i 0).val
  let c1_i32_279 : BitVec 32 := 1#32
  let v487 : BitVec 32 := Scalar.addi arg0 c1_i32_279
  let c2_i32_280 : BitVec 32 := 2#32
  let c0_i32_281 : BitVec 32 := 0#32
  let v488 : BitVec 1 := Scalar.cmpi .eq c2_i32_280 c0_i32_281
  let c1_i32_282 : BitVec 32 := 1#32
  let v489 : BitVec 32 := Scalar.select v488 c1_i32_282 c2_i32_280
  let v490 : BitVec 32 := Scalar.remsi v487 v489
  let c0_i32_284 : BitVec 32 := 0#32
  let v492 : BitVec 1 := Scalar.cmpi .slt v490 c0_i32_284
  let c0_i32_285 : BitVec 32 := 0#32
  let v493 : BitVec 1 := Scalar.cmpi .slt v489 c0_i32_285
  let v494 : BitVec 1 := Scalar.xori v492 v493
  let c0_i32_283 : BitVec 32 := 0#32
  let v491 : BitVec 1 := Scalar.cmpi .ne v490 c0_i32_283
  let v495 : BitVec 1 := Scalar.andi v494 v491
  let v496 : BitVec 32 := Scalar.addi v490 v489
  let v497 : BitVec 32 := Scalar.select v495 v496 v490
  let c22_i32_287 : BitVec 32 := 22#32
  let c0_i32_288 : BitVec 32 := 0#32
  ![v497.toNat, 22, 0]
def k0_off98 (v501 : BitVec 32) : Fin 2 → Nat :=
  let c0_i32_289 : BitVec 32 := 0#32
  ![v501.toNat, 0]

def k0_chk25 (i : grid0.Coords) (v0 : BitVec 32) (v501 : BitVec 32) : Prop :=
  (∀ (k0_h2 : k0_cond2 i v0 = 1#1), ∀ a, (k0_off98 v501) a + S1x4096.size a ≤ S16896x4096.size a)
theorem k0_off98_inb : ∀ (i : grid0.Coords) (v0 : BitVec 32) (v501 : BitVec 32) (k0_hw25 : k0_chk25 i v0 v501), ∀ (k0_h2 : k0_cond2 i v0 = 1#1), ∀ a, (k0_off98 v501) a + S1x4096.size a ≤ S16896x4096.size a := fun i v0 v501 k0_hw25 k0_h2 => k0_hw25 k0_h2

def k0_off99 (i : grid0.Coords) : Fin 1 → Nat :=
  let arg0 : BitVec 32 := BitVec.ofNat 32 (i 0).val
  let c1_i32_290 : BitVec 32 := 1#32
  let v507 : BitVec 32 := Scalar.addi arg0 c1_i32_290
  let c256_i32_298 : BitVec 32 := 256#32
  let v519 : BitVec 32 := Scalar.muli v507 c256_i32_298
  let c23_i32 : BitVec 32 := 23#32
  let v520 : BitVec 32 := Scalar.addi v519 c23_i32
  let v521 : Index := Scalar.indexCast v520
  ![v521.toNat]
def k0_off100 (i : grid0.Coords) : Fin 1 → Nat :=
  let arg0 : BitVec 32 := BitVec.ofNat 32 (i 0).val
  let c1_i32_291 : BitVec 32 := 1#32
  let v508 : BitVec 32 := Scalar.addi arg0 c1_i32_291
  let c2_i32_292 : BitVec 32 := 2#32
  let c0_i32_293 : BitVec 32 := 0#32
  let v509 : BitVec 1 := Scalar.cmpi .eq c2_i32_292 c0_i32_293
  let c1_i32_294 : BitVec 32 := 1#32
  let v510 : BitVec 32 := Scalar.select v509 c1_i32_294 c2_i32_292
  let v511 : BitVec 32 := Scalar.remsi v508 v510
  let c0_i32_296 : BitVec 32 := 0#32
  let v513 : BitVec 1 := Scalar.cmpi .slt v511 c0_i32_296
  let c0_i32_297 : BitVec 32 := 0#32
  let v514 : BitVec 1 := Scalar.cmpi .slt v510 c0_i32_297
  let v515 : BitVec 1 := Scalar.xori v513 v514
  let c0_i32_295 : BitVec 32 := 0#32
  let v512 : BitVec 1 := Scalar.cmpi .ne v511 c0_i32_295
  let v516 : BitVec 1 := Scalar.andi v515 v512
  let v517 : BitVec 32 := Scalar.addi v511 v510
  let v518 : BitVec 32 := Scalar.select v516 v517 v511
  ![v518.toNat]
def k0_off101 (i : grid0.Coords) : Fin 3 → Nat :=
  let arg0 : BitVec 32 := BitVec.ofNat 32 (i 0).val
  let c1_i32_291 : BitVec 32 := 1#32
  let v508 : BitVec 32 := Scalar.addi arg0 c1_i32_291
  let c2_i32_292 : BitVec 32 := 2#32
  let c0_i32_293 : BitVec 32 := 0#32
  let v509 : BitVec 1 := Scalar.cmpi .eq c2_i32_292 c0_i32_293
  let c1_i32_294 : BitVec 32 := 1#32
  let v510 : BitVec 32 := Scalar.select v509 c1_i32_294 c2_i32_292
  let v511 : BitVec 32 := Scalar.remsi v508 v510
  let c0_i32_296 : BitVec 32 := 0#32
  let v513 : BitVec 1 := Scalar.cmpi .slt v511 c0_i32_296
  let c0_i32_297 : BitVec 32 := 0#32
  let v514 : BitVec 1 := Scalar.cmpi .slt v510 c0_i32_297
  let v515 : BitVec 1 := Scalar.xori v513 v514
  let c0_i32_295 : BitVec 32 := 0#32
  let v512 : BitVec 1 := Scalar.cmpi .ne v511 c0_i32_295
  let v516 : BitVec 1 := Scalar.andi v515 v512
  let v517 : BitVec 32 := Scalar.addi v511 v510
  let v518 : BitVec 32 := Scalar.select v516 v517 v511
  let c23_i32_299 : BitVec 32 := 23#32
  let c0_i32_300 : BitVec 32 := 0#32
  ![v518.toNat, 23, 0]
def k0_off102 (v522 : BitVec 32) : Fin 2 → Nat :=
  let c0_i32_301 : BitVec 32 := 0#32
  ![v522.toNat, 0]

def k0_chk26 (i : grid0.Coords) (v0 : BitVec 32) (v522 : BitVec 32) : Prop :=
  (∀ (k0_h2 : k0_cond2 i v0 = 1#1), ∀ a, (k0_off102 v522) a + S1x4096.size a ≤ S16896x4096.size a)
theorem k0_off102_inb : ∀ (i : grid0.Coords) (v0 : BitVec 32) (v522 : BitVec 32) (k0_hw26 : k0_chk26 i v0 v522), ∀ (k0_h2 : k0_cond2 i v0 = 1#1), ∀ a, (k0_off102 v522) a + S1x4096.size a ≤ S16896x4096.size a := fun i v0 v522 k0_hw26 k0_h2 => k0_hw26 k0_h2

def k0_off103 (i : grid0.Coords) : Fin 1 → Nat :=
  let arg0 : BitVec 32 := BitVec.ofNat 32 (i 0).val
  let c1_i32_302 : BitVec 32 := 1#32
  let v528 : BitVec 32 := Scalar.addi arg0 c1_i32_302
  let c256_i32_310 : BitVec 32 := 256#32
  let v540 : BitVec 32 := Scalar.muli v528 c256_i32_310
  let c24_i32 : BitVec 32 := 24#32
  let v541 : BitVec 32 := Scalar.addi v540 c24_i32
  let v542 : Index := Scalar.indexCast v541
  ![v542.toNat]
def k0_off104 (i : grid0.Coords) : Fin 1 → Nat :=
  let arg0 : BitVec 32 := BitVec.ofNat 32 (i 0).val
  let c1_i32_303 : BitVec 32 := 1#32
  let v529 : BitVec 32 := Scalar.addi arg0 c1_i32_303
  let c2_i32_304 : BitVec 32 := 2#32
  let c0_i32_305 : BitVec 32 := 0#32
  let v530 : BitVec 1 := Scalar.cmpi .eq c2_i32_304 c0_i32_305
  let c1_i32_306 : BitVec 32 := 1#32
  let v531 : BitVec 32 := Scalar.select v530 c1_i32_306 c2_i32_304
  let v532 : BitVec 32 := Scalar.remsi v529 v531
  let c0_i32_308 : BitVec 32 := 0#32
  let v534 : BitVec 1 := Scalar.cmpi .slt v532 c0_i32_308
  let c0_i32_309 : BitVec 32 := 0#32
  let v535 : BitVec 1 := Scalar.cmpi .slt v531 c0_i32_309
  let v536 : BitVec 1 := Scalar.xori v534 v535
  let c0_i32_307 : BitVec 32 := 0#32
  let v533 : BitVec 1 := Scalar.cmpi .ne v532 c0_i32_307
  let v537 : BitVec 1 := Scalar.andi v536 v533
  let v538 : BitVec 32 := Scalar.addi v532 v531
  let v539 : BitVec 32 := Scalar.select v537 v538 v532
  ![v539.toNat]
def k0_off105 (i : grid0.Coords) : Fin 3 → Nat :=
  let arg0 : BitVec 32 := BitVec.ofNat 32 (i 0).val
  let c1_i32_303 : BitVec 32 := 1#32
  let v529 : BitVec 32 := Scalar.addi arg0 c1_i32_303
  let c2_i32_304 : BitVec 32 := 2#32
  let c0_i32_305 : BitVec 32 := 0#32
  let v530 : BitVec 1 := Scalar.cmpi .eq c2_i32_304 c0_i32_305
  let c1_i32_306 : BitVec 32 := 1#32
  let v531 : BitVec 32 := Scalar.select v530 c1_i32_306 c2_i32_304
  let v532 : BitVec 32 := Scalar.remsi v529 v531
  let c0_i32_308 : BitVec 32 := 0#32
  let v534 : BitVec 1 := Scalar.cmpi .slt v532 c0_i32_308
  let c0_i32_309 : BitVec 32 := 0#32
  let v535 : BitVec 1 := Scalar.cmpi .slt v531 c0_i32_309
  let v536 : BitVec 1 := Scalar.xori v534 v535
  let c0_i32_307 : BitVec 32 := 0#32
  let v533 : BitVec 1 := Scalar.cmpi .ne v532 c0_i32_307
  let v537 : BitVec 1 := Scalar.andi v536 v533
  let v538 : BitVec 32 := Scalar.addi v532 v531
  let v539 : BitVec 32 := Scalar.select v537 v538 v532
  let c24_i32_311 : BitVec 32 := 24#32
  let c0_i32_312 : BitVec 32 := 0#32
  ![v539.toNat, 24, 0]
def k0_off106 (v543 : BitVec 32) : Fin 2 → Nat :=
  let c0_i32_313 : BitVec 32 := 0#32
  ![v543.toNat, 0]

def k0_chk27 (i : grid0.Coords) (v0 : BitVec 32) (v543 : BitVec 32) : Prop :=
  (∀ (k0_h2 : k0_cond2 i v0 = 1#1), ∀ a, (k0_off106 v543) a + S1x4096.size a ≤ S16896x4096.size a)
theorem k0_off106_inb : ∀ (i : grid0.Coords) (v0 : BitVec 32) (v543 : BitVec 32) (k0_hw27 : k0_chk27 i v0 v543), ∀ (k0_h2 : k0_cond2 i v0 = 1#1), ∀ a, (k0_off106 v543) a + S1x4096.size a ≤ S16896x4096.size a := fun i v0 v543 k0_hw27 k0_h2 => k0_hw27 k0_h2

def k0_off107 (i : grid0.Coords) : Fin 1 → Nat :=
  let arg0 : BitVec 32 := BitVec.ofNat 32 (i 0).val
  let c1_i32_314 : BitVec 32 := 1#32
  let v549 : BitVec 32 := Scalar.addi arg0 c1_i32_314
  let c256_i32_322 : BitVec 32 := 256#32
  let v561 : BitVec 32 := Scalar.muli v549 c256_i32_322
  let c25_i32 : BitVec 32 := 25#32
  let v562 : BitVec 32 := Scalar.addi v561 c25_i32
  let v563 : Index := Scalar.indexCast v562
  ![v563.toNat]
def k0_off108 (i : grid0.Coords) : Fin 1 → Nat :=
  let arg0 : BitVec 32 := BitVec.ofNat 32 (i 0).val
  let c1_i32_315 : BitVec 32 := 1#32
  let v550 : BitVec 32 := Scalar.addi arg0 c1_i32_315
  let c2_i32_316 : BitVec 32 := 2#32
  let c0_i32_317 : BitVec 32 := 0#32
  let v551 : BitVec 1 := Scalar.cmpi .eq c2_i32_316 c0_i32_317
  let c1_i32_318 : BitVec 32 := 1#32
  let v552 : BitVec 32 := Scalar.select v551 c1_i32_318 c2_i32_316
  let v553 : BitVec 32 := Scalar.remsi v550 v552
  let c0_i32_320 : BitVec 32 := 0#32
  let v555 : BitVec 1 := Scalar.cmpi .slt v553 c0_i32_320
  let c0_i32_321 : BitVec 32 := 0#32
  let v556 : BitVec 1 := Scalar.cmpi .slt v552 c0_i32_321
  let v557 : BitVec 1 := Scalar.xori v555 v556
  let c0_i32_319 : BitVec 32 := 0#32
  let v554 : BitVec 1 := Scalar.cmpi .ne v553 c0_i32_319
  let v558 : BitVec 1 := Scalar.andi v557 v554
  let v559 : BitVec 32 := Scalar.addi v553 v552
  let v560 : BitVec 32 := Scalar.select v558 v559 v553
  ![v560.toNat]
def k0_off109 (i : grid0.Coords) : Fin 3 → Nat :=
  let arg0 : BitVec 32 := BitVec.ofNat 32 (i 0).val
  let c1_i32_315 : BitVec 32 := 1#32
  let v550 : BitVec 32 := Scalar.addi arg0 c1_i32_315
  let c2_i32_316 : BitVec 32 := 2#32
  let c0_i32_317 : BitVec 32 := 0#32
  let v551 : BitVec 1 := Scalar.cmpi .eq c2_i32_316 c0_i32_317
  let c1_i32_318 : BitVec 32 := 1#32
  let v552 : BitVec 32 := Scalar.select v551 c1_i32_318 c2_i32_316
  let v553 : BitVec 32 := Scalar.remsi v550 v552
  let c0_i32_320 : BitVec 32 := 0#32
  let v555 : BitVec 1 := Scalar.cmpi .slt v553 c0_i32_320
  let c0_i32_321 : BitVec 32 := 0#32
  let v556 : BitVec 1 := Scalar.cmpi .slt v552 c0_i32_321
  let v557 : BitVec 1 := Scalar.xori v555 v556
  let c0_i32_319 : BitVec 32 := 0#32
  let v554 : BitVec 1 := Scalar.cmpi .ne v553 c0_i32_319
  let v558 : BitVec 1 := Scalar.andi v557 v554
  let v559 : BitVec 32 := Scalar.addi v553 v552
  let v560 : BitVec 32 := Scalar.select v558 v559 v553
  let c25_i32_323 : BitVec 32 := 25#32
  let c0_i32_324 : BitVec 32 := 0#32
  ![v560.toNat, 25, 0]
def k0_off110 (v564 : BitVec 32) : Fin 2 → Nat :=
  let c0_i32_325 : BitVec 32 := 0#32
  ![v564.toNat, 0]

def k0_chk28 (i : grid0.Coords) (v0 : BitVec 32) (v564 : BitVec 32) : Prop :=
  (∀ (k0_h2 : k0_cond2 i v0 = 1#1), ∀ a, (k0_off110 v564) a + S1x4096.size a ≤ S16896x4096.size a)
theorem k0_off110_inb : ∀ (i : grid0.Coords) (v0 : BitVec 32) (v564 : BitVec 32) (k0_hw28 : k0_chk28 i v0 v564), ∀ (k0_h2 : k0_cond2 i v0 = 1#1), ∀ a, (k0_off110 v564) a + S1x4096.size a ≤ S16896x4096.size a := fun i v0 v564 k0_hw28 k0_h2 => k0_hw28 k0_h2

def k0_off111 (i : grid0.Coords) : Fin 1 → Nat :=
  let arg0 : BitVec 32 := BitVec.ofNat 32 (i 0).val
  let c1_i32_326 : BitVec 32 := 1#32
  let v570 : BitVec 32 := Scalar.addi arg0 c1_i32_326
  let c256_i32_334 : BitVec 32 := 256#32
  let v582 : BitVec 32 := Scalar.muli v570 c256_i32_334
  let c26_i32 : BitVec 32 := 26#32
  let v583 : BitVec 32 := Scalar.addi v582 c26_i32
  let v584 : Index := Scalar.indexCast v583
  ![v584.toNat]
def k0_off112 (i : grid0.Coords) : Fin 1 → Nat :=
  let arg0 : BitVec 32 := BitVec.ofNat 32 (i 0).val
  let c1_i32_327 : BitVec 32 := 1#32
  let v571 : BitVec 32 := Scalar.addi arg0 c1_i32_327
  let c2_i32_328 : BitVec 32 := 2#32
  let c0_i32_329 : BitVec 32 := 0#32
  let v572 : BitVec 1 := Scalar.cmpi .eq c2_i32_328 c0_i32_329
  let c1_i32_330 : BitVec 32 := 1#32
  let v573 : BitVec 32 := Scalar.select v572 c1_i32_330 c2_i32_328
  let v574 : BitVec 32 := Scalar.remsi v571 v573
  let c0_i32_332 : BitVec 32 := 0#32
  let v576 : BitVec 1 := Scalar.cmpi .slt v574 c0_i32_332
  let c0_i32_333 : BitVec 32 := 0#32
  let v577 : BitVec 1 := Scalar.cmpi .slt v573 c0_i32_333
  let v578 : BitVec 1 := Scalar.xori v576 v577
  let c0_i32_331 : BitVec 32 := 0#32
  let v575 : BitVec 1 := Scalar.cmpi .ne v574 c0_i32_331
  let v579 : BitVec 1 := Scalar.andi v578 v575
  let v580 : BitVec 32 := Scalar.addi v574 v573
  let v581 : BitVec 32 := Scalar.select v579 v580 v574
  ![v581.toNat]
def k0_off113 (i : grid0.Coords) : Fin 3 → Nat :=
  let arg0 : BitVec 32 := BitVec.ofNat 32 (i 0).val
  let c1_i32_327 : BitVec 32 := 1#32
  let v571 : BitVec 32 := Scalar.addi arg0 c1_i32_327
  let c2_i32_328 : BitVec 32 := 2#32
  let c0_i32_329 : BitVec 32 := 0#32
  let v572 : BitVec 1 := Scalar.cmpi .eq c2_i32_328 c0_i32_329
  let c1_i32_330 : BitVec 32 := 1#32
  let v573 : BitVec 32 := Scalar.select v572 c1_i32_330 c2_i32_328
  let v574 : BitVec 32 := Scalar.remsi v571 v573
  let c0_i32_332 : BitVec 32 := 0#32
  let v576 : BitVec 1 := Scalar.cmpi .slt v574 c0_i32_332
  let c0_i32_333 : BitVec 32 := 0#32
  let v577 : BitVec 1 := Scalar.cmpi .slt v573 c0_i32_333
  let v578 : BitVec 1 := Scalar.xori v576 v577
  let c0_i32_331 : BitVec 32 := 0#32
  let v575 : BitVec 1 := Scalar.cmpi .ne v574 c0_i32_331
  let v579 : BitVec 1 := Scalar.andi v578 v575
  let v580 : BitVec 32 := Scalar.addi v574 v573
  let v581 : BitVec 32 := Scalar.select v579 v580 v574
  let c26_i32_335 : BitVec 32 := 26#32
  let c0_i32_336 : BitVec 32 := 0#32
  ![v581.toNat, 26, 0]
def k0_off114 (v585 : BitVec 32) : Fin 2 → Nat :=
  let c0_i32_337 : BitVec 32 := 0#32
  ![v585.toNat, 0]

def k0_chk29 (i : grid0.Coords) (v0 : BitVec 32) (v585 : BitVec 32) : Prop :=
  (∀ (k0_h2 : k0_cond2 i v0 = 1#1), ∀ a, (k0_off114 v585) a + S1x4096.size a ≤ S16896x4096.size a)
theorem k0_off114_inb : ∀ (i : grid0.Coords) (v0 : BitVec 32) (v585 : BitVec 32) (k0_hw29 : k0_chk29 i v0 v585), ∀ (k0_h2 : k0_cond2 i v0 = 1#1), ∀ a, (k0_off114 v585) a + S1x4096.size a ≤ S16896x4096.size a := fun i v0 v585 k0_hw29 k0_h2 => k0_hw29 k0_h2

def k0_off115 (i : grid0.Coords) : Fin 1 → Nat :=
  let arg0 : BitVec 32 := BitVec.ofNat 32 (i 0).val
  let c1_i32_338 : BitVec 32 := 1#32
  let v591 : BitVec 32 := Scalar.addi arg0 c1_i32_338
  let c256_i32_346 : BitVec 32 := 256#32
  let v603 : BitVec 32 := Scalar.muli v591 c256_i32_346
  let c27_i32 : BitVec 32 := 27#32
  let v604 : BitVec 32 := Scalar.addi v603 c27_i32
  let v605 : Index := Scalar.indexCast v604
  ![v605.toNat]
def k0_off116 (i : grid0.Coords) : Fin 1 → Nat :=
  let arg0 : BitVec 32 := BitVec.ofNat 32 (i 0).val
  let c1_i32_339 : BitVec 32 := 1#32
  let v592 : BitVec 32 := Scalar.addi arg0 c1_i32_339
  let c2_i32_340 : BitVec 32 := 2#32
  let c0_i32_341 : BitVec 32 := 0#32
  let v593 : BitVec 1 := Scalar.cmpi .eq c2_i32_340 c0_i32_341
  let c1_i32_342 : BitVec 32 := 1#32
  let v594 : BitVec 32 := Scalar.select v593 c1_i32_342 c2_i32_340
  let v595 : BitVec 32 := Scalar.remsi v592 v594
  let c0_i32_344 : BitVec 32 := 0#32
  let v597 : BitVec 1 := Scalar.cmpi .slt v595 c0_i32_344
  let c0_i32_345 : BitVec 32 := 0#32
  let v598 : BitVec 1 := Scalar.cmpi .slt v594 c0_i32_345
  let v599 : BitVec 1 := Scalar.xori v597 v598
  let c0_i32_343 : BitVec 32 := 0#32
  let v596 : BitVec 1 := Scalar.cmpi .ne v595 c0_i32_343
  let v600 : BitVec 1 := Scalar.andi v599 v596
  let v601 : BitVec 32 := Scalar.addi v595 v594
  let v602 : BitVec 32 := Scalar.select v600 v601 v595
  ![v602.toNat]
def k0_off117 (i : grid0.Coords) : Fin 3 → Nat :=
  let arg0 : BitVec 32 := BitVec.ofNat 32 (i 0).val
  let c1_i32_339 : BitVec 32 := 1#32
  let v592 : BitVec 32 := Scalar.addi arg0 c1_i32_339
  let c2_i32_340 : BitVec 32 := 2#32
  let c0_i32_341 : BitVec 32 := 0#32
  let v593 : BitVec 1 := Scalar.cmpi .eq c2_i32_340 c0_i32_341
  let c1_i32_342 : BitVec 32 := 1#32
  let v594 : BitVec 32 := Scalar.select v593 c1_i32_342 c2_i32_340
  let v595 : BitVec 32 := Scalar.remsi v592 v594
  let c0_i32_344 : BitVec 32 := 0#32
  let v597 : BitVec 1 := Scalar.cmpi .slt v595 c0_i32_344
  let c0_i32_345 : BitVec 32 := 0#32
  let v598 : BitVec 1 := Scalar.cmpi .slt v594 c0_i32_345
  let v599 : BitVec 1 := Scalar.xori v597 v598
  let c0_i32_343 : BitVec 32 := 0#32
  let v596 : BitVec 1 := Scalar.cmpi .ne v595 c0_i32_343
  let v600 : BitVec 1 := Scalar.andi v599 v596
  let v601 : BitVec 32 := Scalar.addi v595 v594
  let v602 : BitVec 32 := Scalar.select v600 v601 v595
  let c27_i32_347 : BitVec 32 := 27#32
  let c0_i32_348 : BitVec 32 := 0#32
  ![v602.toNat, 27, 0]
def k0_off118 (v606 : BitVec 32) : Fin 2 → Nat :=
  let c0_i32_349 : BitVec 32 := 0#32
  ![v606.toNat, 0]

def k0_chk30 (i : grid0.Coords) (v0 : BitVec 32) (v606 : BitVec 32) : Prop :=
  (∀ (k0_h2 : k0_cond2 i v0 = 1#1), ∀ a, (k0_off118 v606) a + S1x4096.size a ≤ S16896x4096.size a)
theorem k0_off118_inb : ∀ (i : grid0.Coords) (v0 : BitVec 32) (v606 : BitVec 32) (k0_hw30 : k0_chk30 i v0 v606), ∀ (k0_h2 : k0_cond2 i v0 = 1#1), ∀ a, (k0_off118 v606) a + S1x4096.size a ≤ S16896x4096.size a := fun i v0 v606 k0_hw30 k0_h2 => k0_hw30 k0_h2

def k0_off119 (i : grid0.Coords) : Fin 1 → Nat :=
  let arg0 : BitVec 32 := BitVec.ofNat 32 (i 0).val
  let c1_i32_350 : BitVec 32 := 1#32
  let v612 : BitVec 32 := Scalar.addi arg0 c1_i32_350
  let c256_i32_358 : BitVec 32 := 256#32
  let v624 : BitVec 32 := Scalar.muli v612 c256_i32_358
  let c28_i32 : BitVec 32 := 28#32
  let v625 : BitVec 32 := Scalar.addi v624 c28_i32
  let v626 : Index := Scalar.indexCast v625
  ![v626.toNat]
def k0_off120 (i : grid0.Coords) : Fin 1 → Nat :=
  let arg0 : BitVec 32 := BitVec.ofNat 32 (i 0).val
  let c1_i32_351 : BitVec 32 := 1#32
  let v613 : BitVec 32 := Scalar.addi arg0 c1_i32_351
  let c2_i32_352 : BitVec 32 := 2#32
  let c0_i32_353 : BitVec 32 := 0#32
  let v614 : BitVec 1 := Scalar.cmpi .eq c2_i32_352 c0_i32_353
  let c1_i32_354 : BitVec 32 := 1#32
  let v615 : BitVec 32 := Scalar.select v614 c1_i32_354 c2_i32_352
  let v616 : BitVec 32 := Scalar.remsi v613 v615
  let c0_i32_356 : BitVec 32 := 0#32
  let v618 : BitVec 1 := Scalar.cmpi .slt v616 c0_i32_356
  let c0_i32_357 : BitVec 32 := 0#32
  let v619 : BitVec 1 := Scalar.cmpi .slt v615 c0_i32_357
  let v620 : BitVec 1 := Scalar.xori v618 v619
  let c0_i32_355 : BitVec 32 := 0#32
  let v617 : BitVec 1 := Scalar.cmpi .ne v616 c0_i32_355
  let v621 : BitVec 1 := Scalar.andi v620 v617
  let v622 : BitVec 32 := Scalar.addi v616 v615
  let v623 : BitVec 32 := Scalar.select v621 v622 v616
  ![v623.toNat]
def k0_off121 (i : grid0.Coords) : Fin 3 → Nat :=
  let arg0 : BitVec 32 := BitVec.ofNat 32 (i 0).val
  let c1_i32_351 : BitVec 32 := 1#32
  let v613 : BitVec 32 := Scalar.addi arg0 c1_i32_351
  let c2_i32_352 : BitVec 32 := 2#32
  let c0_i32_353 : BitVec 32 := 0#32
  let v614 : BitVec 1 := Scalar.cmpi .eq c2_i32_352 c0_i32_353
  let c1_i32_354 : BitVec 32 := 1#32
  let v615 : BitVec 32 := Scalar.select v614 c1_i32_354 c2_i32_352
  let v616 : BitVec 32 := Scalar.remsi v613 v615
  let c0_i32_356 : BitVec 32 := 0#32
  let v618 : BitVec 1 := Scalar.cmpi .slt v616 c0_i32_356
  let c0_i32_357 : BitVec 32 := 0#32
  let v619 : BitVec 1 := Scalar.cmpi .slt v615 c0_i32_357
  let v620 : BitVec 1 := Scalar.xori v618 v619
  let c0_i32_355 : BitVec 32 := 0#32
  let v617 : BitVec 1 := Scalar.cmpi .ne v616 c0_i32_355
  let v621 : BitVec 1 := Scalar.andi v620 v617
  let v622 : BitVec 32 := Scalar.addi v616 v615
  let v623 : BitVec 32 := Scalar.select v621 v622 v616
  let c28_i32_359 : BitVec 32 := 28#32
  let c0_i32_360 : BitVec 32 := 0#32
  ![v623.toNat, 28, 0]
def k0_off122 (v627 : BitVec 32) : Fin 2 → Nat :=
  let c0_i32_361 : BitVec 32 := 0#32
  ![v627.toNat, 0]

def k0_chk31 (i : grid0.Coords) (v0 : BitVec 32) (v627 : BitVec 32) : Prop :=
  (∀ (k0_h2 : k0_cond2 i v0 = 1#1), ∀ a, (k0_off122 v627) a + S1x4096.size a ≤ S16896x4096.size a)
theorem k0_off122_inb : ∀ (i : grid0.Coords) (v0 : BitVec 32) (v627 : BitVec 32) (k0_hw31 : k0_chk31 i v0 v627), ∀ (k0_h2 : k0_cond2 i v0 = 1#1), ∀ a, (k0_off122 v627) a + S1x4096.size a ≤ S16896x4096.size a := fun i v0 v627 k0_hw31 k0_h2 => k0_hw31 k0_h2

def k0_off123 (i : grid0.Coords) : Fin 1 → Nat :=
  let arg0 : BitVec 32 := BitVec.ofNat 32 (i 0).val
  let c1_i32_362 : BitVec 32 := 1#32
  let v633 : BitVec 32 := Scalar.addi arg0 c1_i32_362
  let c256_i32_370 : BitVec 32 := 256#32
  let v645 : BitVec 32 := Scalar.muli v633 c256_i32_370
  let c29_i32 : BitVec 32 := 29#32
  let v646 : BitVec 32 := Scalar.addi v645 c29_i32
  let v647 : Index := Scalar.indexCast v646
  ![v647.toNat]
def k0_off124 (i : grid0.Coords) : Fin 1 → Nat :=
  let arg0 : BitVec 32 := BitVec.ofNat 32 (i 0).val
  let c1_i32_363 : BitVec 32 := 1#32
  let v634 : BitVec 32 := Scalar.addi arg0 c1_i32_363
  let c2_i32_364 : BitVec 32 := 2#32
  let c0_i32_365 : BitVec 32 := 0#32
  let v635 : BitVec 1 := Scalar.cmpi .eq c2_i32_364 c0_i32_365
  let c1_i32_366 : BitVec 32 := 1#32
  let v636 : BitVec 32 := Scalar.select v635 c1_i32_366 c2_i32_364
  let v637 : BitVec 32 := Scalar.remsi v634 v636
  let c0_i32_368 : BitVec 32 := 0#32
  let v639 : BitVec 1 := Scalar.cmpi .slt v637 c0_i32_368
  let c0_i32_369 : BitVec 32 := 0#32
  let v640 : BitVec 1 := Scalar.cmpi .slt v636 c0_i32_369
  let v641 : BitVec 1 := Scalar.xori v639 v640
  let c0_i32_367 : BitVec 32 := 0#32
  let v638 : BitVec 1 := Scalar.cmpi .ne v637 c0_i32_367
  let v642 : BitVec 1 := Scalar.andi v641 v638
  let v643 : BitVec 32 := Scalar.addi v637 v636
  let v644 : BitVec 32 := Scalar.select v642 v643 v637
  ![v644.toNat]
def k0_off125 (i : grid0.Coords) : Fin 3 → Nat :=
  let arg0 : BitVec 32 := BitVec.ofNat 32 (i 0).val
  let c1_i32_363 : BitVec 32 := 1#32
  let v634 : BitVec 32 := Scalar.addi arg0 c1_i32_363
  let c2_i32_364 : BitVec 32 := 2#32
  let c0_i32_365 : BitVec 32 := 0#32
  let v635 : BitVec 1 := Scalar.cmpi .eq c2_i32_364 c0_i32_365
  let c1_i32_366 : BitVec 32 := 1#32
  let v636 : BitVec 32 := Scalar.select v635 c1_i32_366 c2_i32_364
  let v637 : BitVec 32 := Scalar.remsi v634 v636
  let c0_i32_368 : BitVec 32 := 0#32
  let v639 : BitVec 1 := Scalar.cmpi .slt v637 c0_i32_368
  let c0_i32_369 : BitVec 32 := 0#32
  let v640 : BitVec 1 := Scalar.cmpi .slt v636 c0_i32_369
  let v641 : BitVec 1 := Scalar.xori v639 v640
  let c0_i32_367 : BitVec 32 := 0#32
  let v638 : BitVec 1 := Scalar.cmpi .ne v637 c0_i32_367
  let v642 : BitVec 1 := Scalar.andi v641 v638
  let v643 : BitVec 32 := Scalar.addi v637 v636
  let v644 : BitVec 32 := Scalar.select v642 v643 v637
  let c29_i32_371 : BitVec 32 := 29#32
  let c0_i32_372 : BitVec 32 := 0#32
  ![v644.toNat, 29, 0]
def k0_off126 (v648 : BitVec 32) : Fin 2 → Nat :=
  let c0_i32_373 : BitVec 32 := 0#32
  ![v648.toNat, 0]

def k0_chk32 (i : grid0.Coords) (v0 : BitVec 32) (v648 : BitVec 32) : Prop :=
  (∀ (k0_h2 : k0_cond2 i v0 = 1#1), ∀ a, (k0_off126 v648) a + S1x4096.size a ≤ S16896x4096.size a)
theorem k0_off126_inb : ∀ (i : grid0.Coords) (v0 : BitVec 32) (v648 : BitVec 32) (k0_hw32 : k0_chk32 i v0 v648), ∀ (k0_h2 : k0_cond2 i v0 = 1#1), ∀ a, (k0_off126 v648) a + S1x4096.size a ≤ S16896x4096.size a := fun i v0 v648 k0_hw32 k0_h2 => k0_hw32 k0_h2

def k0_off127 (i : grid0.Coords) : Fin 1 → Nat :=
  let arg0 : BitVec 32 := BitVec.ofNat 32 (i 0).val
  let c1_i32_374 : BitVec 32 := 1#32
  let v654 : BitVec 32 := Scalar.addi arg0 c1_i32_374
  let c256_i32_382 : BitVec 32 := 256#32
  let v666 : BitVec 32 := Scalar.muli v654 c256_i32_382
  let c30_i32 : BitVec 32 := 30#32
  let v667 : BitVec 32 := Scalar.addi v666 c30_i32
  let v668 : Index := Scalar.indexCast v667
  ![v668.toNat]
def k0_off128 (i : grid0.Coords) : Fin 1 → Nat :=
  let arg0 : BitVec 32 := BitVec.ofNat 32 (i 0).val
  let c1_i32_375 : BitVec 32 := 1#32
  let v655 : BitVec 32 := Scalar.addi arg0 c1_i32_375
  let c2_i32_376 : BitVec 32 := 2#32
  let c0_i32_377 : BitVec 32 := 0#32
  let v656 : BitVec 1 := Scalar.cmpi .eq c2_i32_376 c0_i32_377
  let c1_i32_378 : BitVec 32 := 1#32
  let v657 : BitVec 32 := Scalar.select v656 c1_i32_378 c2_i32_376
  let v658 : BitVec 32 := Scalar.remsi v655 v657
  let c0_i32_380 : BitVec 32 := 0#32
  let v660 : BitVec 1 := Scalar.cmpi .slt v658 c0_i32_380
  let c0_i32_381 : BitVec 32 := 0#32
  let v661 : BitVec 1 := Scalar.cmpi .slt v657 c0_i32_381
  let v662 : BitVec 1 := Scalar.xori v660 v661
  let c0_i32_379 : BitVec 32 := 0#32
  let v659 : BitVec 1 := Scalar.cmpi .ne v658 c0_i32_379
  let v663 : BitVec 1 := Scalar.andi v662 v659
  let v664 : BitVec 32 := Scalar.addi v658 v657
  let v665 : BitVec 32 := Scalar.select v663 v664 v658
  ![v665.toNat]
def k0_off129 (i : grid0.Coords) : Fin 3 → Nat :=
  let arg0 : BitVec 32 := BitVec.ofNat 32 (i 0).val
  let c1_i32_375 : BitVec 32 := 1#32
  let v655 : BitVec 32 := Scalar.addi arg0 c1_i32_375
  let c2_i32_376 : BitVec 32 := 2#32
  let c0_i32_377 : BitVec 32 := 0#32
  let v656 : BitVec 1 := Scalar.cmpi .eq c2_i32_376 c0_i32_377
  let c1_i32_378 : BitVec 32 := 1#32
  let v657 : BitVec 32 := Scalar.select v656 c1_i32_378 c2_i32_376
  let v658 : BitVec 32 := Scalar.remsi v655 v657
  let c0_i32_380 : BitVec 32 := 0#32
  let v660 : BitVec 1 := Scalar.cmpi .slt v658 c0_i32_380
  let c0_i32_381 : BitVec 32 := 0#32
  let v661 : BitVec 1 := Scalar.cmpi .slt v657 c0_i32_381
  let v662 : BitVec 1 := Scalar.xori v660 v661
  let c0_i32_379 : BitVec 32 := 0#32
  let v659 : BitVec 1 := Scalar.cmpi .ne v658 c0_i32_379
  let v663 : BitVec 1 := Scalar.andi v662 v659
  let v664 : BitVec 32 := Scalar.addi v658 v657
  let v665 : BitVec 32 := Scalar.select v663 v664 v658
  let c30_i32_383 : BitVec 32 := 30#32
  let c0_i32_384 : BitVec 32 := 0#32
  ![v665.toNat, 30, 0]
def k0_off130 (v669 : BitVec 32) : Fin 2 → Nat :=
  let c0_i32_385 : BitVec 32 := 0#32
  ![v669.toNat, 0]

def k0_chk33 (i : grid0.Coords) (v0 : BitVec 32) (v669 : BitVec 32) : Prop :=
  (∀ (k0_h2 : k0_cond2 i v0 = 1#1), ∀ a, (k0_off130 v669) a + S1x4096.size a ≤ S16896x4096.size a)
theorem k0_off130_inb : ∀ (i : grid0.Coords) (v0 : BitVec 32) (v669 : BitVec 32) (k0_hw33 : k0_chk33 i v0 v669), ∀ (k0_h2 : k0_cond2 i v0 = 1#1), ∀ a, (k0_off130 v669) a + S1x4096.size a ≤ S16896x4096.size a := fun i v0 v669 k0_hw33 k0_h2 => k0_hw33 k0_h2

def k0_off131 (i : grid0.Coords) : Fin 1 → Nat :=
  let arg0 : BitVec 32 := BitVec.ofNat 32 (i 0).val
  let c1_i32_386 : BitVec 32 := 1#32
  let v675 : BitVec 32 := Scalar.addi arg0 c1_i32_386
  let c256_i32_394 : BitVec 32 := 256#32
  let v687 : BitVec 32 := Scalar.muli v675 c256_i32_394
  let c31_i32 : BitVec 32 := 31#32
  let v688 : BitVec 32 := Scalar.addi v687 c31_i32
  let v689 : Index := Scalar.indexCast v688
  ![v689.toNat]
def k0_off132 (i : grid0.Coords) : Fin 1 → Nat :=
  let arg0 : BitVec 32 := BitVec.ofNat 32 (i 0).val
  let c1_i32_387 : BitVec 32 := 1#32
  let v676 : BitVec 32 := Scalar.addi arg0 c1_i32_387
  let c2_i32_388 : BitVec 32 := 2#32
  let c0_i32_389 : BitVec 32 := 0#32
  let v677 : BitVec 1 := Scalar.cmpi .eq c2_i32_388 c0_i32_389
  let c1_i32_390 : BitVec 32 := 1#32
  let v678 : BitVec 32 := Scalar.select v677 c1_i32_390 c2_i32_388
  let v679 : BitVec 32 := Scalar.remsi v676 v678
  let c0_i32_392 : BitVec 32 := 0#32
  let v681 : BitVec 1 := Scalar.cmpi .slt v679 c0_i32_392
  let c0_i32_393 : BitVec 32 := 0#32
  let v682 : BitVec 1 := Scalar.cmpi .slt v678 c0_i32_393
  let v683 : BitVec 1 := Scalar.xori v681 v682
  let c0_i32_391 : BitVec 32 := 0#32
  let v680 : BitVec 1 := Scalar.cmpi .ne v679 c0_i32_391
  let v684 : BitVec 1 := Scalar.andi v683 v680
  let v685 : BitVec 32 := Scalar.addi v679 v678
  let v686 : BitVec 32 := Scalar.select v684 v685 v679
  ![v686.toNat]
def k0_off133 (i : grid0.Coords) : Fin 3 → Nat :=
  let arg0 : BitVec 32 := BitVec.ofNat 32 (i 0).val
  let c1_i32_387 : BitVec 32 := 1#32
  let v676 : BitVec 32 := Scalar.addi arg0 c1_i32_387
  let c2_i32_388 : BitVec 32 := 2#32
  let c0_i32_389 : BitVec 32 := 0#32
  let v677 : BitVec 1 := Scalar.cmpi .eq c2_i32_388 c0_i32_389
  let c1_i32_390 : BitVec 32 := 1#32
  let v678 : BitVec 32 := Scalar.select v677 c1_i32_390 c2_i32_388
  let v679 : BitVec 32 := Scalar.remsi v676 v678
  let c0_i32_392 : BitVec 32 := 0#32
  let v681 : BitVec 1 := Scalar.cmpi .slt v679 c0_i32_392
  let c0_i32_393 : BitVec 32 := 0#32
  let v682 : BitVec 1 := Scalar.cmpi .slt v678 c0_i32_393
  let v683 : BitVec 1 := Scalar.xori v681 v682
  let c0_i32_391 : BitVec 32 := 0#32
  let v680 : BitVec 1 := Scalar.cmpi .ne v679 c0_i32_391
  let v684 : BitVec 1 := Scalar.andi v683 v680
  let v685 : BitVec 32 := Scalar.addi v679 v678
  let v686 : BitVec 32 := Scalar.select v684 v685 v679
  let c31_i32_395 : BitVec 32 := 31#32
  let c0_i32_396 : BitVec 32 := 0#32
  ![v686.toNat, 31, 0]
def k0_off134 (v690 : BitVec 32) : Fin 2 → Nat :=
  let c0_i32_397 : BitVec 32 := 0#32
  ![v690.toNat, 0]

def k0_chk34 (i : grid0.Coords) (v0 : BitVec 32) (v690 : BitVec 32) : Prop :=
  (∀ (k0_h2 : k0_cond2 i v0 = 1#1), ∀ a, (k0_off134 v690) a + S1x4096.size a ≤ S16896x4096.size a)
theorem k0_off134_inb : ∀ (i : grid0.Coords) (v0 : BitVec 32) (v690 : BitVec 32) (k0_hw34 : k0_chk34 i v0 v690), ∀ (k0_h2 : k0_cond2 i v0 = 1#1), ∀ a, (k0_off134 v690) a + S1x4096.size a ≤ S16896x4096.size a := fun i v0 v690 k0_hw34 k0_h2 => k0_hw34 k0_h2

def k0_off135 (i : grid0.Coords) : Fin 1 → Nat :=
  let arg0 : BitVec 32 := BitVec.ofNat 32 (i 0).val
  let c1_i32_398 : BitVec 32 := 1#32
  let v696 : BitVec 32 := Scalar.addi arg0 c1_i32_398
  let c256_i32_406 : BitVec 32 := 256#32
  let v708 : BitVec 32 := Scalar.muli v696 c256_i32_406
  let c32_i32 : BitVec 32 := 32#32
  let v709 : BitVec 32 := Scalar.addi v708 c32_i32
  let v710 : Index := Scalar.indexCast v709
  ![v710.toNat]
def k0_off136 (i : grid0.Coords) : Fin 1 → Nat :=
  let arg0 : BitVec 32 := BitVec.ofNat 32 (i 0).val
  let c1_i32_399 : BitVec 32 := 1#32
  let v697 : BitVec 32 := Scalar.addi arg0 c1_i32_399
  let c2_i32_400 : BitVec 32 := 2#32
  let c0_i32_401 : BitVec 32 := 0#32
  let v698 : BitVec 1 := Scalar.cmpi .eq c2_i32_400 c0_i32_401
  let c1_i32_402 : BitVec 32 := 1#32
  let v699 : BitVec 32 := Scalar.select v698 c1_i32_402 c2_i32_400
  let v700 : BitVec 32 := Scalar.remsi v697 v699
  let c0_i32_404 : BitVec 32 := 0#32
  let v702 : BitVec 1 := Scalar.cmpi .slt v700 c0_i32_404
  let c0_i32_405 : BitVec 32 := 0#32
  let v703 : BitVec 1 := Scalar.cmpi .slt v699 c0_i32_405
  let v704 : BitVec 1 := Scalar.xori v702 v703
  let c0_i32_403 : BitVec 32 := 0#32
  let v701 : BitVec 1 := Scalar.cmpi .ne v700 c0_i32_403
  let v705 : BitVec 1 := Scalar.andi v704 v701
  let v706 : BitVec 32 := Scalar.addi v700 v699
  let v707 : BitVec 32 := Scalar.select v705 v706 v700
  ![v707.toNat]
def k0_off137 (i : grid0.Coords) : Fin 3 → Nat :=
  let arg0 : BitVec 32 := BitVec.ofNat 32 (i 0).val
  let c1_i32_399 : BitVec 32 := 1#32
  let v697 : BitVec 32 := Scalar.addi arg0 c1_i32_399
  let c2_i32_400 : BitVec 32 := 2#32
  let c0_i32_401 : BitVec 32 := 0#32
  let v698 : BitVec 1 := Scalar.cmpi .eq c2_i32_400 c0_i32_401
  let c1_i32_402 : BitVec 32 := 1#32
  let v699 : BitVec 32 := Scalar.select v698 c1_i32_402 c2_i32_400
  let v700 : BitVec 32 := Scalar.remsi v697 v699
  let c0_i32_404 : BitVec 32 := 0#32
  let v702 : BitVec 1 := Scalar.cmpi .slt v700 c0_i32_404
  let c0_i32_405 : BitVec 32 := 0#32
  let v703 : BitVec 1 := Scalar.cmpi .slt v699 c0_i32_405
  let v704 : BitVec 1 := Scalar.xori v702 v703
  let c0_i32_403 : BitVec 32 := 0#32
  let v701 : BitVec 1 := Scalar.cmpi .ne v700 c0_i32_403
  let v705 : BitVec 1 := Scalar.andi v704 v701
  let v706 : BitVec 32 := Scalar.addi v700 v699
  let v707 : BitVec 32 := Scalar.select v705 v706 v700
  let c32_i32_407 : BitVec 32 := 32#32
  let c0_i32_408 : BitVec 32 := 0#32
  ![v707.toNat, 32, 0]
def k0_off138 (v711 : BitVec 32) : Fin 2 → Nat :=
  let c0_i32_409 : BitVec 32 := 0#32
  ![v711.toNat, 0]

def k0_chk35 (i : grid0.Coords) (v0 : BitVec 32) (v711 : BitVec 32) : Prop :=
  (∀ (k0_h2 : k0_cond2 i v0 = 1#1), ∀ a, (k0_off138 v711) a + S1x4096.size a ≤ S16896x4096.size a)
theorem k0_off138_inb : ∀ (i : grid0.Coords) (v0 : BitVec 32) (v711 : BitVec 32) (k0_hw35 : k0_chk35 i v0 v711), ∀ (k0_h2 : k0_cond2 i v0 = 1#1), ∀ a, (k0_off138 v711) a + S1x4096.size a ≤ S16896x4096.size a := fun i v0 v711 k0_hw35 k0_h2 => k0_hw35 k0_h2

def k0_off139 (i : grid0.Coords) : Fin 1 → Nat :=
  let arg0 : BitVec 32 := BitVec.ofNat 32 (i 0).val
  let c1_i32_410 : BitVec 32 := 1#32
  let v717 : BitVec 32 := Scalar.addi arg0 c1_i32_410
  let c256_i32_418 : BitVec 32 := 256#32
  let v729 : BitVec 32 := Scalar.muli v717 c256_i32_418
  let c33_i32 : BitVec 32 := 33#32
  let v730 : BitVec 32 := Scalar.addi v729 c33_i32
  let v731 : Index := Scalar.indexCast v730
  ![v731.toNat]
def k0_off140 (i : grid0.Coords) : Fin 1 → Nat :=
  let arg0 : BitVec 32 := BitVec.ofNat 32 (i 0).val
  let c1_i32_411 : BitVec 32 := 1#32
  let v718 : BitVec 32 := Scalar.addi arg0 c1_i32_411
  let c2_i32_412 : BitVec 32 := 2#32
  let c0_i32_413 : BitVec 32 := 0#32
  let v719 : BitVec 1 := Scalar.cmpi .eq c2_i32_412 c0_i32_413
  let c1_i32_414 : BitVec 32 := 1#32
  let v720 : BitVec 32 := Scalar.select v719 c1_i32_414 c2_i32_412
  let v721 : BitVec 32 := Scalar.remsi v718 v720
  let c0_i32_416 : BitVec 32 := 0#32
  let v723 : BitVec 1 := Scalar.cmpi .slt v721 c0_i32_416
  let c0_i32_417 : BitVec 32 := 0#32
  let v724 : BitVec 1 := Scalar.cmpi .slt v720 c0_i32_417
  let v725 : BitVec 1 := Scalar.xori v723 v724
  let c0_i32_415 : BitVec 32 := 0#32
  let v722 : BitVec 1 := Scalar.cmpi .ne v721 c0_i32_415
  let v726 : BitVec 1 := Scalar.andi v725 v722
  let v727 : BitVec 32 := Scalar.addi v721 v720
  let v728 : BitVec 32 := Scalar.select v726 v727 v721
  ![v728.toNat]
def k0_off141 (i : grid0.Coords) : Fin 3 → Nat :=
  let arg0 : BitVec 32 := BitVec.ofNat 32 (i 0).val
  let c1_i32_411 : BitVec 32 := 1#32
  let v718 : BitVec 32 := Scalar.addi arg0 c1_i32_411
  let c2_i32_412 : BitVec 32 := 2#32
  let c0_i32_413 : BitVec 32 := 0#32
  let v719 : BitVec 1 := Scalar.cmpi .eq c2_i32_412 c0_i32_413
  let c1_i32_414 : BitVec 32 := 1#32
  let v720 : BitVec 32 := Scalar.select v719 c1_i32_414 c2_i32_412
  let v721 : BitVec 32 := Scalar.remsi v718 v720
  let c0_i32_416 : BitVec 32 := 0#32
  let v723 : BitVec 1 := Scalar.cmpi .slt v721 c0_i32_416
  let c0_i32_417 : BitVec 32 := 0#32
  let v724 : BitVec 1 := Scalar.cmpi .slt v720 c0_i32_417
  let v725 : BitVec 1 := Scalar.xori v723 v724
  let c0_i32_415 : BitVec 32 := 0#32
  let v722 : BitVec 1 := Scalar.cmpi .ne v721 c0_i32_415
  let v726 : BitVec 1 := Scalar.andi v725 v722
  let v727 : BitVec 32 := Scalar.addi v721 v720
  let v728 : BitVec 32 := Scalar.select v726 v727 v721
  let c33_i32_419 : BitVec 32 := 33#32
  let c0_i32_420 : BitVec 32 := 0#32
  ![v728.toNat, 33, 0]
def k0_off142 (v732 : BitVec 32) : Fin 2 → Nat :=
  let c0_i32_421 : BitVec 32 := 0#32
  ![v732.toNat, 0]

def k0_chk36 (i : grid0.Coords) (v0 : BitVec 32) (v732 : BitVec 32) : Prop :=
  (∀ (k0_h2 : k0_cond2 i v0 = 1#1), ∀ a, (k0_off142 v732) a + S1x4096.size a ≤ S16896x4096.size a)
theorem k0_off142_inb : ∀ (i : grid0.Coords) (v0 : BitVec 32) (v732 : BitVec 32) (k0_hw36 : k0_chk36 i v0 v732), ∀ (k0_h2 : k0_cond2 i v0 = 1#1), ∀ a, (k0_off142 v732) a + S1x4096.size a ≤ S16896x4096.size a := fun i v0 v732 k0_hw36 k0_h2 => k0_hw36 k0_h2

def k0_off143 (i : grid0.Coords) : Fin 1 → Nat :=
  let arg0 : BitVec 32 := BitVec.ofNat 32 (i 0).val
  let c1_i32_422 : BitVec 32 := 1#32
  let v738 : BitVec 32 := Scalar.addi arg0 c1_i32_422
  let c256_i32_430 : BitVec 32 := 256#32
  let v750 : BitVec 32 := Scalar.muli v738 c256_i32_430
  let c34_i32 : BitVec 32 := 34#32
  let v751 : BitVec 32 := Scalar.addi v750 c34_i32
  let v752 : Index := Scalar.indexCast v751
  ![v752.toNat]
def k0_off144 (i : grid0.Coords) : Fin 1 → Nat :=
  let arg0 : BitVec 32 := BitVec.ofNat 32 (i 0).val
  let c1_i32_423 : BitVec 32 := 1#32
  let v739 : BitVec 32 := Scalar.addi arg0 c1_i32_423
  let c2_i32_424 : BitVec 32 := 2#32
  let c0_i32_425 : BitVec 32 := 0#32
  let v740 : BitVec 1 := Scalar.cmpi .eq c2_i32_424 c0_i32_425
  let c1_i32_426 : BitVec 32 := 1#32
  let v741 : BitVec 32 := Scalar.select v740 c1_i32_426 c2_i32_424
  let v742 : BitVec 32 := Scalar.remsi v739 v741
  let c0_i32_428 : BitVec 32 := 0#32
  let v744 : BitVec 1 := Scalar.cmpi .slt v742 c0_i32_428
  let c0_i32_429 : BitVec 32 := 0#32
  let v745 : BitVec 1 := Scalar.cmpi .slt v741 c0_i32_429
  let v746 : BitVec 1 := Scalar.xori v744 v745
  let c0_i32_427 : BitVec 32 := 0#32
  let v743 : BitVec 1 := Scalar.cmpi .ne v742 c0_i32_427
  let v747 : BitVec 1 := Scalar.andi v746 v743
  let v748 : BitVec 32 := Scalar.addi v742 v741
  let v749 : BitVec 32 := Scalar.select v747 v748 v742
  ![v749.toNat]
def k0_off145 (i : grid0.Coords) : Fin 3 → Nat :=
  let arg0 : BitVec 32 := BitVec.ofNat 32 (i 0).val
  let c1_i32_423 : BitVec 32 := 1#32
  let v739 : BitVec 32 := Scalar.addi arg0 c1_i32_423
  let c2_i32_424 : BitVec 32 := 2#32
  let c0_i32_425 : BitVec 32 := 0#32
  let v740 : BitVec 1 := Scalar.cmpi .eq c2_i32_424 c0_i32_425
  let c1_i32_426 : BitVec 32 := 1#32
  let v741 : BitVec 32 := Scalar.select v740 c1_i32_426 c2_i32_424
  let v742 : BitVec 32 := Scalar.remsi v739 v741
  let c0_i32_428 : BitVec 32 := 0#32
  let v744 : BitVec 1 := Scalar.cmpi .slt v742 c0_i32_428
  let c0_i32_429 : BitVec 32 := 0#32
  let v745 : BitVec 1 := Scalar.cmpi .slt v741 c0_i32_429
  let v746 : BitVec 1 := Scalar.xori v744 v745
  let c0_i32_427 : BitVec 32 := 0#32
  let v743 : BitVec 1 := Scalar.cmpi .ne v742 c0_i32_427
  let v747 : BitVec 1 := Scalar.andi v746 v743
  let v748 : BitVec 32 := Scalar.addi v742 v741
  let v749 : BitVec 32 := Scalar.select v747 v748 v742
  let c34_i32_431 : BitVec 32 := 34#32
  let c0_i32_432 : BitVec 32 := 0#32
  ![v749.toNat, 34, 0]
def k0_off146 (v753 : BitVec 32) : Fin 2 → Nat :=
  let c0_i32_433 : BitVec 32 := 0#32
  ![v753.toNat, 0]

def k0_chk37 (i : grid0.Coords) (v0 : BitVec 32) (v753 : BitVec 32) : Prop :=
  (∀ (k0_h2 : k0_cond2 i v0 = 1#1), ∀ a, (k0_off146 v753) a + S1x4096.size a ≤ S16896x4096.size a)
theorem k0_off146_inb : ∀ (i : grid0.Coords) (v0 : BitVec 32) (v753 : BitVec 32) (k0_hw37 : k0_chk37 i v0 v753), ∀ (k0_h2 : k0_cond2 i v0 = 1#1), ∀ a, (k0_off146 v753) a + S1x4096.size a ≤ S16896x4096.size a := fun i v0 v753 k0_hw37 k0_h2 => k0_hw37 k0_h2

def k0_off147 (i : grid0.Coords) : Fin 1 → Nat :=
  let arg0 : BitVec 32 := BitVec.ofNat 32 (i 0).val
  let c1_i32_434 : BitVec 32 := 1#32
  let v759 : BitVec 32 := Scalar.addi arg0 c1_i32_434
  let c256_i32_442 : BitVec 32 := 256#32
  let v771 : BitVec 32 := Scalar.muli v759 c256_i32_442
  let c35_i32 : BitVec 32 := 35#32
  let v772 : BitVec 32 := Scalar.addi v771 c35_i32
  let v773 : Index := Scalar.indexCast v772
  ![v773.toNat]
def k0_off148 (i : grid0.Coords) : Fin 1 → Nat :=
  let arg0 : BitVec 32 := BitVec.ofNat 32 (i 0).val
  let c1_i32_435 : BitVec 32 := 1#32
  let v760 : BitVec 32 := Scalar.addi arg0 c1_i32_435
  let c2_i32_436 : BitVec 32 := 2#32
  let c0_i32_437 : BitVec 32 := 0#32
  let v761 : BitVec 1 := Scalar.cmpi .eq c2_i32_436 c0_i32_437
  let c1_i32_438 : BitVec 32 := 1#32
  let v762 : BitVec 32 := Scalar.select v761 c1_i32_438 c2_i32_436
  let v763 : BitVec 32 := Scalar.remsi v760 v762
  let c0_i32_440 : BitVec 32 := 0#32
  let v765 : BitVec 1 := Scalar.cmpi .slt v763 c0_i32_440
  let c0_i32_441 : BitVec 32 := 0#32
  let v766 : BitVec 1 := Scalar.cmpi .slt v762 c0_i32_441
  let v767 : BitVec 1 := Scalar.xori v765 v766
  let c0_i32_439 : BitVec 32 := 0#32
  let v764 : BitVec 1 := Scalar.cmpi .ne v763 c0_i32_439
  let v768 : BitVec 1 := Scalar.andi v767 v764
  let v769 : BitVec 32 := Scalar.addi v763 v762
  let v770 : BitVec 32 := Scalar.select v768 v769 v763
  ![v770.toNat]
def k0_off149 (i : grid0.Coords) : Fin 3 → Nat :=
  let arg0 : BitVec 32 := BitVec.ofNat 32 (i 0).val
  let c1_i32_435 : BitVec 32 := 1#32
  let v760 : BitVec 32 := Scalar.addi arg0 c1_i32_435
  let c2_i32_436 : BitVec 32 := 2#32
  let c0_i32_437 : BitVec 32 := 0#32
  let v761 : BitVec 1 := Scalar.cmpi .eq c2_i32_436 c0_i32_437
  let c1_i32_438 : BitVec 32 := 1#32
  let v762 : BitVec 32 := Scalar.select v761 c1_i32_438 c2_i32_436
  let v763 : BitVec 32 := Scalar.remsi v760 v762
  let c0_i32_440 : BitVec 32 := 0#32
  let v765 : BitVec 1 := Scalar.cmpi .slt v763 c0_i32_440
  let c0_i32_441 : BitVec 32 := 0#32
  let v766 : BitVec 1 := Scalar.cmpi .slt v762 c0_i32_441
  let v767 : BitVec 1 := Scalar.xori v765 v766
  let c0_i32_439 : BitVec 32 := 0#32
  let v764 : BitVec 1 := Scalar.cmpi .ne v763 c0_i32_439
  let v768 : BitVec 1 := Scalar.andi v767 v764
  let v769 : BitVec 32 := Scalar.addi v763 v762
  let v770 : BitVec 32 := Scalar.select v768 v769 v763
  let c35_i32_443 : BitVec 32 := 35#32
  let c0_i32_444 : BitVec 32 := 0#32
  ![v770.toNat, 35, 0]
def k0_off150 (v774 : BitVec 32) : Fin 2 → Nat :=
  let c0_i32_445 : BitVec 32 := 0#32
  ![v774.toNat, 0]

def k0_chk38 (i : grid0.Coords) (v0 : BitVec 32) (v774 : BitVec 32) : Prop :=
  (∀ (k0_h2 : k0_cond2 i v0 = 1#1), ∀ a, (k0_off150 v774) a + S1x4096.size a ≤ S16896x4096.size a)
theorem k0_off150_inb : ∀ (i : grid0.Coords) (v0 : BitVec 32) (v774 : BitVec 32) (k0_hw38 : k0_chk38 i v0 v774), ∀ (k0_h2 : k0_cond2 i v0 = 1#1), ∀ a, (k0_off150 v774) a + S1x4096.size a ≤ S16896x4096.size a := fun i v0 v774 k0_hw38 k0_h2 => k0_hw38 k0_h2

def k0_off151 (i : grid0.Coords) : Fin 1 → Nat :=
  let arg0 : BitVec 32 := BitVec.ofNat 32 (i 0).val
  let c1_i32_446 : BitVec 32 := 1#32
  let v780 : BitVec 32 := Scalar.addi arg0 c1_i32_446
  let c256_i32_454 : BitVec 32 := 256#32
  let v792 : BitVec 32 := Scalar.muli v780 c256_i32_454
  let c36_i32 : BitVec 32 := 36#32
  let v793 : BitVec 32 := Scalar.addi v792 c36_i32
  let v794 : Index := Scalar.indexCast v793
  ![v794.toNat]
def k0_off152 (i : grid0.Coords) : Fin 1 → Nat :=
  let arg0 : BitVec 32 := BitVec.ofNat 32 (i 0).val
  let c1_i32_447 : BitVec 32 := 1#32
  let v781 : BitVec 32 := Scalar.addi arg0 c1_i32_447
  let c2_i32_448 : BitVec 32 := 2#32
  let c0_i32_449 : BitVec 32 := 0#32
  let v782 : BitVec 1 := Scalar.cmpi .eq c2_i32_448 c0_i32_449
  let c1_i32_450 : BitVec 32 := 1#32
  let v783 : BitVec 32 := Scalar.select v782 c1_i32_450 c2_i32_448
  let v784 : BitVec 32 := Scalar.remsi v781 v783
  let c0_i32_452 : BitVec 32 := 0#32
  let v786 : BitVec 1 := Scalar.cmpi .slt v784 c0_i32_452
  let c0_i32_453 : BitVec 32 := 0#32
  let v787 : BitVec 1 := Scalar.cmpi .slt v783 c0_i32_453
  let v788 : BitVec 1 := Scalar.xori v786 v787
  let c0_i32_451 : BitVec 32 := 0#32
  let v785 : BitVec 1 := Scalar.cmpi .ne v784 c0_i32_451
  let v789 : BitVec 1 := Scalar.andi v788 v785
  let v790 : BitVec 32 := Scalar.addi v784 v783
  let v791 : BitVec 32 := Scalar.select v789 v790 v784
  ![v791.toNat]
def k0_off153 (i : grid0.Coords) : Fin 3 → Nat :=
  let arg0 : BitVec 32 := BitVec.ofNat 32 (i 0).val
  let c1_i32_447 : BitVec 32 := 1#32
  let v781 : BitVec 32 := Scalar.addi arg0 c1_i32_447
  let c2_i32_448 : BitVec 32 := 2#32
  let c0_i32_449 : BitVec 32 := 0#32
  let v782 : BitVec 1 := Scalar.cmpi .eq c2_i32_448 c0_i32_449
  let c1_i32_450 : BitVec 32 := 1#32
  let v783 : BitVec 32 := Scalar.select v782 c1_i32_450 c2_i32_448
  let v784 : BitVec 32 := Scalar.remsi v781 v783
  let c0_i32_452 : BitVec 32 := 0#32
  let v786 : BitVec 1 := Scalar.cmpi .slt v784 c0_i32_452
  let c0_i32_453 : BitVec 32 := 0#32
  let v787 : BitVec 1 := Scalar.cmpi .slt v783 c0_i32_453
  let v788 : BitVec 1 := Scalar.xori v786 v787
  let c0_i32_451 : BitVec 32 := 0#32
  let v785 : BitVec 1 := Scalar.cmpi .ne v784 c0_i32_451
  let v789 : BitVec 1 := Scalar.andi v788 v785
  let v790 : BitVec 32 := Scalar.addi v784 v783
  let v791 : BitVec 32 := Scalar.select v789 v790 v784
  let c36_i32_455 : BitVec 32 := 36#32
  let c0_i32_456 : BitVec 32 := 0#32
  ![v791.toNat, 36, 0]
def k0_off154 (v795 : BitVec 32) : Fin 2 → Nat :=
  let c0_i32_457 : BitVec 32 := 0#32
  ![v795.toNat, 0]

def k0_chk39 (i : grid0.Coords) (v0 : BitVec 32) (v795 : BitVec 32) : Prop :=
  (∀ (k0_h2 : k0_cond2 i v0 = 1#1), ∀ a, (k0_off154 v795) a + S1x4096.size a ≤ S16896x4096.size a)
theorem k0_off154_inb : ∀ (i : grid0.Coords) (v0 : BitVec 32) (v795 : BitVec 32) (k0_hw39 : k0_chk39 i v0 v795), ∀ (k0_h2 : k0_cond2 i v0 = 1#1), ∀ a, (k0_off154 v795) a + S1x4096.size a ≤ S16896x4096.size a := fun i v0 v795 k0_hw39 k0_h2 => k0_hw39 k0_h2

def k0_off155 (i : grid0.Coords) : Fin 1 → Nat :=
  let arg0 : BitVec 32 := BitVec.ofNat 32 (i 0).val
  let c1_i32_458 : BitVec 32 := 1#32
  let v801 : BitVec 32 := Scalar.addi arg0 c1_i32_458
  let c256_i32_466 : BitVec 32 := 256#32
  let v813 : BitVec 32 := Scalar.muli v801 c256_i32_466
  let c37_i32 : BitVec 32 := 37#32
  let v814 : BitVec 32 := Scalar.addi v813 c37_i32
  let v815 : Index := Scalar.indexCast v814
  ![v815.toNat]
def k0_off156 (i : grid0.Coords) : Fin 1 → Nat :=
  let arg0 : BitVec 32 := BitVec.ofNat 32 (i 0).val
  let c1_i32_459 : BitVec 32 := 1#32
  let v802 : BitVec 32 := Scalar.addi arg0 c1_i32_459
  let c2_i32_460 : BitVec 32 := 2#32
  let c0_i32_461 : BitVec 32 := 0#32
  let v803 : BitVec 1 := Scalar.cmpi .eq c2_i32_460 c0_i32_461
  let c1_i32_462 : BitVec 32 := 1#32
  let v804 : BitVec 32 := Scalar.select v803 c1_i32_462 c2_i32_460
  let v805 : BitVec 32 := Scalar.remsi v802 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  ![v812.toNat]
def k0_off157 (i : grid0.Coords) : Fin 3 → Nat :=
  let arg0 : BitVec 32 := BitVec.ofNat 32 (i 0).val
  let c1_i32_459 : BitVec 32 := 1#32
  let v802 : BitVec 32 := Scalar.addi arg0 c1_i32_459
  let c2_i32_460 : BitVec 32 := 2#32
  let c0_i32_461 : BitVec 32 := 0#32
  let v803 : BitVec 1 := Scalar.cmpi .eq c2_i32_460 c0_i32_461
  let c1_i32_462 : BitVec 32 := 1#32
  let v804 : BitVec 32 := Scalar.select v803 c1_i32_462 c2_i32_460
  let v805 : BitVec 32 := Scalar.remsi v802 v804
  let c0_i32_464 : BitVec 32 := 0#32
  let v807 : BitVec 1 := Scalar.cmpi .slt v805 c0_i32_464
  let c0_i32_465 : BitVec 32 := 0#32
  let v808 : BitVec 1 := Scalar.cmpi .slt v804 c0_i32_465
  let v809 : BitVec 1 := Scalar.xori v807 v808
  let c0_i32_463 : BitVec 32 := 0#32
  let v806 : BitVec 1 := Scalar.cmpi .ne v805 c0_i32_463
  let v810 : BitVec 1 := Scalar.andi v809 v806
  let v811 : BitVec 32 := Scalar.addi v805 v804
  let v812 : BitVec 32 := Scalar.select v810 v811 v805
  let c37_i32_467 : BitVec 32 := 37#32
  let c0_i32_468 : BitVec 32 := 0#32
  ![v812.toNat, 37, 0]
def k0_off158 (v816 : BitVec 32) : Fin 2 → Nat :=
  let c0_i32_469 : BitVec 32 := 0#32
  ![v816.toNat, 0]

def k0_chk40 (i : grid0.Coords) (v0 : BitVec 32) (v816 : BitVec 32) : Prop :=
  (∀ (k0_h2 : k0_cond2 i v0 = 1#1), ∀ a, (k0_off158 v816) a + S1x4096.size a ≤ S16896x4096.size a)
theorem k0_off158_inb : ∀ (i : grid0.Coords) (v0 : BitVec 32) (v816 : BitVec 32) (k0_hw40 : k0_chk40 i v0 v816), ∀ (k0_h2 : k0_cond2 i v0 = 1#1), ∀ a, (k0_off158 v816) a + S1x4096.size a ≤ S16896x4096.size a := fun i v0 v816 k0_hw40 k0_h2 => k0_hw40 k0_h2

def k0_off159 (i : grid0.Coords) : Fin 1 → Nat :=
  let arg0 : BitVec 32 := BitVec.ofNat 32 (i 0).val
  let c1_i32_470 : BitVec 32 := 1#32
  let v822 : BitVec 32 := Scalar.addi arg0 c1_i32_470
  let c256_i32_478 : BitVec 32 := 256#32
  let v834 : BitVec 32 := Scalar.muli v822 c256_i32_478
  let c38_i32 : BitVec 32 := 38#32
  let v835 : BitVec 32 := Scalar.addi v834 c38_i32
  let v836 : Index := Scalar.indexCast v835
  ![v836.toNat]
def k0_off160 (i : grid0.Coords) : Fin 1 → Nat :=
  let arg0 : BitVec 32 := BitVec.ofNat 32 (i 0).val
  let c1_i32_471 : BitVec 32 := 1#32
  let v823 : BitVec 32 := Scalar.addi arg0 c1_i32_471
  let c2_i32_472 : BitVec 32 := 2#32
  let c0_i32_473 : BitVec 32 := 0#32
  let v824 : BitVec 1 := Scalar.cmpi .eq c2_i32_472 c0_i32_473
  let c1_i32_474 : BitVec 32 := 1#32
  let v825 : BitVec 32 := Scalar.select v824 c1_i32_474 c2_i32_472
  let v826 : BitVec 32 := Scalar.remsi v823 v825
  let c0_i32_476 : BitVec 32 := 0#32
  let v828 : BitVec 1 := Scalar.cmpi .slt v826 c0_i32_476
  let c0_i32_477 : BitVec 32 := 0#32
  let v829 : BitVec 1 := Scalar.cmpi .slt v825 c0_i32_477
  let v830 : BitVec 1 := Scalar.xori v828 v829
  let c0_i32_475 : BitVec 32 := 0#32
  let v827 : BitVec 1 := Scalar.cmpi .ne v826 c0_i32_475
  let v831 : BitVec 1 := Scalar.andi v830 v827
  let v832 : BitVec 32 := Scalar.addi v826 v825
  let v833 : BitVec 32 := Scalar.select v831 v832 v826
  ![v833.toNat]
def k0_off161 (i : grid0.Coords) : Fin 3 → Nat :=
  let arg0 : BitVec 32 := BitVec.ofNat 32 (i 0).val
  let c1_i32_471 : BitVec 32 := 1#32
  let v823 : BitVec 32 := Scalar.addi arg0 c1_i32_471
  let c2_i32_472 : BitVec 32 := 2#32
  let c0_i32_473 : BitVec 32 := 0#32
  let v824 : BitVec 1 := Scalar.cmpi .eq c2_i32_472 c0_i32_473
  let c1_i32_474 : BitVec 32 := 1#32
  let v825 : BitVec 32 := Scalar.select v824 c1_i32_474 c2_i32_472
  let v826 : BitVec 32 := Scalar.remsi v823 v825
  let c0_i32_476 : BitVec 32 := 0#32
  let v828 : BitVec 1 := Scalar.cmpi .slt v826 c0_i32_476
  let c0_i32_477 : BitVec 32 := 0#32
  let v829 : BitVec 1 := Scalar.cmpi .slt v825 c0_i32_477
  let v830 : BitVec 1 := Scalar.xori v828 v829
  let c0_i32_475 : BitVec 32 := 0#32
  let v827 : BitVec 1 := Scalar.cmpi .ne v826 c0_i32_475
  let v831 : BitVec 1 := Scalar.andi v830 v827
  let v832 : BitVec 32 := Scalar.addi v826 v825
  let v833 : BitVec 32 := Scalar.select v831 v832 v826
  let c38_i32_479 : BitVec 32 := 38#32
  let c0_i32_480 : BitVec 32 := 0#32
  ![v833.toNat, 38, 0]
def k0_off162 (v837 : BitVec 32) : Fin 2 → Nat :=
  let c0_i32_481 : BitVec 32 := 0#32
  ![v837.toNat, 0]

def k0_chk41 (i : grid0.Coords) (v0 : BitVec 32) (v837 : BitVec 32) : Prop :=
  (∀ (k0_h2 : k0_cond2 i v0 = 1#1), ∀ a, (k0_off162 v837) a + S1x4096.size a ≤ S16896x4096.size a)
theorem k0_off162_inb : ∀ (i : grid0.Coords) (v0 : BitVec 32) (v837 : BitVec 32) (k0_hw41 : k0_chk41 i v0 v837), ∀ (k0_h2 : k0_cond2 i v0 = 1#1), ∀ a, (k0_off162 v837) a + S1x4096.size a ≤ S16896x4096.size a := fun i v0 v837 k0_hw41 k0_h2 => k0_hw41 k0_h2

def k0_off163 (i : grid0.Coords) : Fin 1 → Nat :=
  let arg0 : BitVec 32 := BitVec.ofNat 32 (i 0).val
  let c1_i32_482 : BitVec 32 := 1#32
  let v843 : BitVec 32 := Scalar.addi arg0 c1_i32_482
  let c256_i32_490 : BitVec 32 := 256#32
  let v855 : BitVec 32 := Scalar.muli v843 c256_i32_490
  let c39_i32 : BitVec 32 := 39#32
  let v856 : BitVec 32 := Scalar.addi v855 c39_i32
  let v857 : Index := Scalar.indexCast v856
  ![v857.toNat]
def k0_off164 (i : grid0.Coords) : Fin 1 → Nat :=
  let arg0 : BitVec 32 := BitVec.ofNat 32 (i 0).val
  let c1_i32_483 : BitVec 32 := 1#32
  let v844 : BitVec 32 := Scalar.addi arg0 c1_i32_483
  let c2_i32_484 : BitVec 32 := 2#32
  let c0_i32_485 : BitVec 32 := 0#32
  let v845 : BitVec 1 := Scalar.cmpi .eq c2_i32_484 c0_i32_485
  let c1_i32_486 : BitVec 32 := 1#32
  let v846 : BitVec 32 := Scalar.select v845 c1_i32_486 c2_i32_484
  let v847 : BitVec 32 := Scalar.remsi v844 v846
  let c0_i32_488 : BitVec 32 := 0#32
  let v849 : BitVec 1 := Scalar.cmpi .slt v847 c0_i32_488
  let c0_i32_489 : BitVec 32 := 0#32
  let v850 : BitVec 1 := Scalar.cmpi .slt v846 c0_i32_489
  let v851 : BitVec 1 := Scalar.xori v849 v850
  let c0_i32_487 : BitVec 32 := 0#32
  let v848 : BitVec 1 := Scalar.cmpi .ne v847 c0_i32_487
  let v852 : BitVec 1 := Scalar.andi v851 v848
  let v853 : BitVec 32 := Scalar.addi v847 v846
  let v854 : BitVec 32 := Scalar.select v852 v853 v847
  ![v854.toNat]
def k0_off165 (i : grid0.Coords) : Fin 3 → Nat :=
  let arg0 : BitVec 32 := BitVec.ofNat 32 (i 0).val
  let c1_i32_483 : BitVec 32 := 1#32
  let v844 : BitVec 32 := Scalar.addi arg0 c1_i32_483
  let c2_i32_484 : BitVec 32 := 2#32
  let c0_i32_485 : BitVec 32 := 0#32
  let v845 : BitVec 1 := Scalar.cmpi .eq c2_i32_484 c0_i32_485
  let c1_i32_486 : BitVec 32 := 1#32
  let v846 : BitVec 32 := Scalar.select v845 c1_i32_486 c2_i32_484
  let v847 : BitVec 32 := Scalar.remsi v844 v846
  let c0_i32_488 : BitVec 32 := 0#32
  let v849 : BitVec 1 := Scalar.cmpi .slt v847 c0_i32_488
  let c0_i32_489 : BitVec 32 := 0#32
  let v850 : BitVec 1 := Scalar.cmpi .slt v846 c0_i32_489
  let v851 : BitVec 1 := Scalar.xori v849 v850
  let c0_i32_487 : BitVec 32 := 0#32
  let v848 : BitVec 1 := Scalar.cmpi .ne v847 c0_i32_487
  let v852 : BitVec 1 := Scalar.andi v851 v848
  let v853 : BitVec 32 := Scalar.addi v847 v846
  let v854 : BitVec 32 := Scalar.select v852 v853 v847
  let c39_i32_491 : BitVec 32 := 39#32
  let c0_i32_492 : BitVec 32 := 0#32
  ![v854.toNat, 39, 0]
def k0_off166 (v858 : BitVec 32) : Fin 2 → Nat :=
  let c0_i32_493 : BitVec 32 := 0#32
  ![v858.toNat, 0]

def k0_chk42 (i : grid0.Coords) (v0 : BitVec 32) (v858 : BitVec 32) : Prop :=
  (∀ (k0_h2 : k0_cond2 i v0 = 1#1), ∀ a, (k0_off166 v858) a + S1x4096.size a ≤ S16896x4096.size a)
theorem k0_off166_inb : ∀ (i : grid0.Coords) (v0 : BitVec 32) (v858 : BitVec 32) (k0_hw42 : k0_chk42 i v0 v858), ∀ (k0_h2 : k0_cond2 i v0 = 1#1), ∀ a, (k0_off166 v858) a + S1x4096.size a ≤ S16896x4096.size a := fun i v0 v858 k0_hw42 k0_h2 => k0_hw42 k0_h2

def k0_off167 (i : grid0.Coords) : Fin 1 → Nat :=
  let arg0 : BitVec 32 := BitVec.ofNat 32 (i 0).val
  let c1_i32_494 : BitVec 32 := 1#32
  let v864 : BitVec 32 := Scalar.addi arg0 c1_i32_494
  let c256_i32_502 : BitVec 32 := 256#32
  let v876 : BitVec 32 := Scalar.muli v864 c256_i32_502
  let c40_i32 : BitVec 32 := 40#32
  let v877 : BitVec 32 := Scalar.addi v876 c40_i32
  let v878 : Index := Scalar.indexCast v877
  ![v878.toNat]
def k0_off168 (i : grid0.Coords) : Fin 1 → Nat :=
  let arg0 : BitVec 32 := BitVec.ofNat 32 (i 0).val
  let c1_i32_495 : BitVec 32 := 1#32
  let v865 : BitVec 32 := Scalar.addi arg0 c1_i32_495
  let c2_i32_496 : BitVec 32 := 2#32
  let c0_i32_497 : BitVec 32 := 0#32
  let v866 : BitVec 1 := Scalar.cmpi .eq c2_i32_496 c0_i32_497
  let c1_i32_498 : BitVec 32 := 1#32
  let v867 : BitVec 32 := Scalar.select v866 c1_i32_498 c2_i32_496
  let v868 : BitVec 32 := Scalar.remsi v865 v867
  let c0_i32_500 : BitVec 32 := 0#32
  let v870 : BitVec 1 := Scalar.cmpi .slt v868 c0_i32_500
  let c0_i32_501 : BitVec 32 := 0#32
  let v871 : BitVec 1 := Scalar.cmpi .slt v867 c0_i32_501
  let v872 : BitVec 1 := Scalar.xori v870 v871
  let c0_i32_499 : BitVec 32 := 0#32
  let v869 : BitVec 1 := Scalar.cmpi .ne v868 c0_i32_499
  let v873 : BitVec 1 := Scalar.andi v872 v869
  let v874 : BitVec 32 := Scalar.addi v868 v867
  let v875 : BitVec 32 := Scalar.select v873 v874 v868
  ![v875.toNat]
def k0_off169 (i : grid0.Coords) : Fin 3 → Nat :=
  let arg0 : BitVec 32 := BitVec.ofNat 32 (i 0).val
  let c1_i32_495 : BitVec 32 := 1#32
  let v865 : BitVec 32 := Scalar.addi arg0 c1_i32_495
  let c2_i32_496 : BitVec 32 := 2#32
  let c0_i32_497 : BitVec 32 := 0#32
  let v866 : BitVec 1 := Scalar.cmpi .eq c2_i32_496 c0_i32_497
  let c1_i32_498 : BitVec 32 := 1#32
  let v867 : BitVec 32 := Scalar.select v866 c1_i32_498 c2_i32_496
  let v868 : BitVec 32 := Scalar.remsi v865 v867
  let c0_i32_500 : BitVec 32 := 0#32
  let v870 : BitVec 1 := Scalar.cmpi .slt v868 c0_i32_500
  let c0_i32_501 : BitVec 32 := 0#32
  let v871 : BitVec 1 := Scalar.cmpi .slt v867 c0_i32_501
  let v872 : BitVec 1 := Scalar.xori v870 v871
  let c0_i32_499 : BitVec 32 := 0#32
  let v869 : BitVec 1 := Scalar.cmpi .ne v868 c0_i32_499
  let v873 : BitVec 1 := Scalar.andi v872 v869
  let v874 : BitVec 32 := Scalar.addi v868 v867
  let v875 : BitVec 32 := Scalar.select v873 v874 v868
  let c40_i32_503 : BitVec 32 := 40#32
  let c0_i32_504 : BitVec 32 := 0#32
  ![v875.toNat, 40, 0]
def k0_off170 (v879 : BitVec 32) : Fin 2 → Nat :=
  let c0_i32_505 : BitVec 32 := 0#32
  ![v879.toNat, 0]

def k0_chk43 (i : grid0.Coords) (v0 : BitVec 32) (v879 : BitVec 32) : Prop :=
  (∀ (k0_h2 : k0_cond2 i v0 = 1#1), ∀ a, (k0_off170 v879) a + S1x4096.size a ≤ S16896x4096.size a)
theorem k0_off170_inb : ∀ (i : grid0.Coords) (v0 : BitVec 32) (v879 : BitVec 32) (k0_hw43 : k0_chk43 i v0 v879), ∀ (k0_h2 : k0_cond2 i v0 = 1#1), ∀ a, (k0_off170 v879) a + S1x4096.size a ≤ S16896x4096.size a := fun i v0 v879 k0_hw43 k0_h2 => k0_hw43 k0_h2

def k0_off171 (i : grid0.Coords) : Fin 1 → Nat :=
  let arg0 : BitVec 32 := BitVec.ofNat 32 (i 0).val
  let c1_i32_506 : BitVec 32 := 1#32
  let v885 : BitVec 32 := Scalar.addi arg0 c1_i32_506
  let c256_i32_514 : BitVec 32 := 256#32
  let v897 : BitVec 32 := Scalar.muli v885 c256_i32_514
  let c41_i32 : BitVec 32 := 41#32
  let v898 : BitVec 32 := Scalar.addi v897 c41_i32
  let v899 : Index := Scalar.indexCast v898
  ![v899.toNat]
def k0_off172 (i : grid0.Coords) : Fin 1 → Nat :=
  let arg0 : BitVec 32 := BitVec.ofNat 32 (i 0).val
  let c1_i32_507 : BitVec 32 := 1#32
  let v886 : BitVec 32 := Scalar.addi arg0 c1_i32_507
  let c2_i32_508 : BitVec 32 := 2#32
  let c0_i32_509 : BitVec 32 := 0#32
  let v887 : BitVec 1 := Scalar.cmpi .eq c2_i32_508 c0_i32_509
  let c1_i32_510 : BitVec 32 := 1#32
  let v888 : BitVec 32 := Scalar.select v887 c1_i32_510 c2_i32_508
  let v889 : BitVec 32 := Scalar.remsi v886 v888
  let c0_i32_512 : BitVec 32 := 0#32
  let v891 : BitVec 1 := Scalar.cmpi .slt v889 c0_i32_512
  let c0_i32_513 : BitVec 32 := 0#32
  let v892 : BitVec 1 := Scalar.cmpi .slt v888 c0_i32_513
  let v893 : BitVec 1 := Scalar.xori v891 v892
  let c0_i32_511 : BitVec 32 := 0#32
  let v890 : BitVec 1 := Scalar.cmpi .ne v889 c0_i32_511
  let v894 : BitVec 1 := Scalar.andi v893 v890
  let v895 : BitVec 32 := Scalar.addi v889 v888
  let v896 : BitVec 32 := Scalar.select v894 v895 v889
  ![v896.toNat]
def k0_off173 (i : grid0.Coords) : Fin 3 → Nat :=
  let arg0 : BitVec 32 := BitVec.ofNat 32 (i 0).val
  let c1_i32_507 : BitVec 32 := 1#32
  let v886 : BitVec 32 := Scalar.addi arg0 c1_i32_507
  let c2_i32_508 : BitVec 32 := 2#32
  let c0_i32_509 : BitVec 32 := 0#32
  let v887 : BitVec 1 := Scalar.cmpi .eq c2_i32_508 c0_i32_509
  let c1_i32_510 : BitVec 32 := 1#32
  let v888 : BitVec 32 := Scalar.select v887 c1_i32_510 c2_i32_508
  let v889 : BitVec 32 := Scalar.remsi v886 v888
  let c0_i32_512 : BitVec 32 := 0#32
  let v891 : BitVec 1 := Scalar.cmpi .slt v889 c0_i32_512
  let c0_i32_513 : BitVec 32 := 0#32
  let v892 : BitVec 1 := Scalar.cmpi .slt v888 c0_i32_513
  let v893 : BitVec 1 := Scalar.xori v891 v892
  let c0_i32_511 : BitVec 32 := 0#32
  let v890 : BitVec 1 := Scalar.cmpi .ne v889 c0_i32_511
  let v894 : BitVec 1 := Scalar.andi v893 v890
  let v895 : BitVec 32 := Scalar.addi v889 v888
  let v896 : BitVec 32 := Scalar.select v894 v895 v889
  let c41_i32_515 : BitVec 32 := 41#32
  let c0_i32_516 : BitVec 32 := 0#32
  ![v896.toNat, 41, 0]
def k0_off174 (v900 : BitVec 32) : Fin 2 → Nat :=
  let c0_i32_517 : BitVec 32 := 0#32
  ![v900.toNat, 0]

def k0_chk44 (i : grid0.Coords) (v0 : BitVec 32) (v900 : BitVec 32) : Prop :=
  (∀ (k0_h2 : k0_cond2 i v0 = 1#1), ∀ a, (k0_off174 v900) a + S1x4096.size a ≤ S16896x4096.size a)
theorem k0_off174_inb : ∀ (i : grid0.Coords) (v0 : BitVec 32) (v900 : BitVec 32) (k0_hw44 : k0_chk44 i v0 v900), ∀ (k0_h2 : k0_cond2 i v0 = 1#1), ∀ a, (k0_off174 v900) a + S1x4096.size a ≤ S16896x4096.size a := fun i v0 v900 k0_hw44 k0_h2 => k0_hw44 k0_h2

def k0_off175 (i : grid0.Coords) : Fin 1 → Nat :=
  let arg0 : BitVec 32 := BitVec.ofNat 32 (i 0).val
  let c1_i32_518 : BitVec 32 := 1#32
  let v906 : BitVec 32 := Scalar.addi arg0 c1_i32_518
  let c256_i32_526 : BitVec 32 := 256#32
  let v918 : BitVec 32 := Scalar.muli v906 c256_i32_526
  let c42_i32 : BitVec 32 := 42#32
  let v919 : BitVec 32 := Scalar.addi v918 c42_i32
  let v920 : Index := Scalar.indexCast v919
  ![v920.toNat]
def k0_off176 (i : grid0.Coords) : Fin 1 → Nat :=
  let arg0 : BitVec 32 := BitVec.ofNat 32 (i 0).val
  let c1_i32_519 : BitVec 32 := 1#32
  let v907 : BitVec 32 := Scalar.addi arg0 c1_i32_519
  let c2_i32_520 : BitVec 32 := 2#32
  let c0_i32_521 : BitVec 32 := 0#32
  let v908 : BitVec 1 := Scalar.cmpi .eq c2_i32_520 c0_i32_521
  let c1_i32_522 : BitVec 32 := 1#32
  let v909 : BitVec 32 := Scalar.select v908 c1_i32_522 c2_i32_520
  let v910 : BitVec 32 := Scalar.remsi v907 v909
  let c0_i32_524 : BitVec 32 := 0#32
  let v912 : BitVec 1 := Scalar.cmpi .slt v910 c0_i32_524
  let c0_i32_525 : BitVec 32 := 0#32
  let v913 : BitVec 1 := Scalar.cmpi .slt v909 c0_i32_525
  let v914 : BitVec 1 := Scalar.xori v912 v913
  let c0_i32_523 : BitVec 32 := 0#32
  let v911 : BitVec 1 := Scalar.cmpi .ne v910 c0_i32_523
  let v915 : BitVec 1 := Scalar.andi v914 v911
  let v916 : BitVec 32 := Scalar.addi v910 v909
  let v917 : BitVec 32 := Scalar.select v915 v916 v910
  ![v917.toNat]
def k0_off177 (i : grid0.Coords) : Fin 3 → Nat :=
  let arg0 : BitVec 32 := BitVec.ofNat 32 (i 0).val
  let c1_i32_519 : BitVec 32 := 1#32
  let v907 : BitVec 32 := Scalar.addi arg0 c1_i32_519
  let c2_i32_520 : BitVec 32 := 2#32
  let c0_i32_521 : BitVec 32 := 0#32
  let v908 : BitVec 1 := Scalar.cmpi .eq c2_i32_520 c0_i32_521
  let c1_i32_522 : BitVec 32 := 1#32
  let v909 : BitVec 32 := Scalar.select v908 c1_i32_522 c2_i32_520
  let v910 : BitVec 32 := Scalar.remsi v907 v909
  let c0_i32_524 : BitVec 32 := 0#32
  let v912 : BitVec 1 := Scalar.cmpi .slt v910 c0_i32_524
  let c0_i32_525 : BitVec 32 := 0#32
  let v913 : BitVec 1 := Scalar.cmpi .slt v909 c0_i32_525
  let v914 : BitVec 1 := Scalar.xori v912 v913
  let c0_i32_523 : BitVec 32 := 0#32
  let v911 : BitVec 1 := Scalar.cmpi .ne v910 c0_i32_523
  let v915 : BitVec 1 := Scalar.andi v914 v911
  let v916 : BitVec 32 := Scalar.addi v910 v909
  let v917 : BitVec 32 := Scalar.select v915 v916 v910
  let c42_i32_527 : BitVec 32 := 42#32
  let c0_i32_528 : BitVec 32 := 0#32
  ![v917.toNat, 42, 0]
def k0_off178 (v921 : BitVec 32) : Fin 2 → Nat :=
  let c0_i32_529 : BitVec 32 := 0#32
  ![v921.toNat, 0]

def k0_chk45 (i : grid0.Coords) (v0 : BitVec 32) (v921 : BitVec 32) : Prop :=
  (∀ (k0_h2 : k0_cond2 i v0 = 1#1), ∀ a, (k0_off178 v921) a + S1x4096.size a ≤ S16896x4096.size a)
theorem k0_off178_inb : ∀ (i : grid0.Coords) (v0 : BitVec 32) (v921 : BitVec 32) (k0_hw45 : k0_chk45 i v0 v921), ∀ (k0_h2 : k0_cond2 i v0 = 1#1), ∀ a, (k0_off178 v921) a + S1x4096.size a ≤ S16896x4096.size a := fun i v0 v921 k0_hw45 k0_h2 => k0_hw45 k0_h2

def k0_off179 (i : grid0.Coords) : Fin 1 → Nat :=
  let arg0 : BitVec 32 := BitVec.ofNat 32 (i 0).val
  let c1_i32_530 : BitVec 32 := 1#32
  let v927 : BitVec 32 := Scalar.addi arg0 c1_i32_530
  let c256_i32_538 : BitVec 32 := 256#32
  let v939 : BitVec 32 := Scalar.muli v927 c256_i32_538
  let c43_i32 : BitVec 32 := 43#32
  let v940 : BitVec 32 := Scalar.addi v939 c43_i32
  let v941 : Index := Scalar.indexCast v940
  ![v941.toNat]
def k0_off180 (i : grid0.Coords) : Fin 1 → Nat :=
  let arg0 : BitVec 32 := BitVec.ofNat 32 (i 0).val
  let c1_i32_531 : BitVec 32 := 1#32
  let v928 : BitVec 32 := Scalar.addi arg0 c1_i32_531
  let c2_i32_532 : BitVec 32 := 2#32
  let c0_i32_533 : BitVec 32 := 0#32
  let v929 : BitVec 1 := Scalar.cmpi .eq c2_i32_532 c0_i32_533
  let c1_i32_534 : BitVec 32 := 1#32
  let v930 : BitVec 32 := Scalar.select v929 c1_i32_534 c2_i32_532
  let v931 : BitVec 32 := Scalar.remsi v928 v930
  let c0_i32_536 : BitVec 32 := 0#32
  let v933 : BitVec 1 := Scalar.cmpi .slt v931 c0_i32_536
  let c0_i32_537 : BitVec 32 := 0#32
  let v934 : BitVec 1 := Scalar.cmpi .slt v930 c0_i32_537
  let v935 : BitVec 1 := Scalar.xori v933 v934
  let c0_i32_535 : BitVec 32 := 0#32
  let v932 : BitVec 1 := Scalar.cmpi .ne v931 c0_i32_535
  let v936 : BitVec 1 := Scalar.andi v935 v932
  let v937 : BitVec 32 := Scalar.addi v931 v930
  let v938 : BitVec 32 := Scalar.select v936 v937 v931
  ![v938.toNat]
def k0_off181 (i : grid0.Coords) : Fin 3 → Nat :=
  let arg0 : BitVec 32 := BitVec.ofNat 32 (i 0).val
  let c1_i32_531 : BitVec 32 := 1#32
  let v928 : BitVec 32 := Scalar.addi arg0 c1_i32_531
  let c2_i32_532 : BitVec 32 := 2#32
  let c0_i32_533 : BitVec 32 := 0#32
  let v929 : BitVec 1 := Scalar.cmpi .eq c2_i32_532 c0_i32_533
  let c1_i32_534 : BitVec 32 := 1#32
  let v930 : BitVec 32 := Scalar.select v929 c1_i32_534 c2_i32_532
  let v931 : BitVec 32 := Scalar.remsi v928 v930
  let c0_i32_536 : BitVec 32 := 0#32
  let v933 : BitVec 1 := Scalar.cmpi .slt v931 c0_i32_536
  let c0_i32_537 : BitVec 32 := 0#32
  let v934 : BitVec 1 := Scalar.cmpi .slt v930 c0_i32_537
  let v935 : BitVec 1 := Scalar.xori v933 v934
  let c0_i32_535 : BitVec 32 := 0#32
  let v932 : BitVec 1 := Scalar.cmpi .ne v931 c0_i32_535
  let v936 : BitVec 1 := Scalar.andi v935 v932
  let v937 : BitVec 32 := Scalar.addi v931 v930
  let v938 : BitVec 32 := Scalar.select v936 v937 v931
  let c43_i32_539 : BitVec 32 := 43#32
  let c0_i32_540 : BitVec 32 := 0#32
  ![v938.toNat, 43, 0]
def k0_off182 (v942 : BitVec 32) : Fin 2 → Nat :=
  let c0_i32_541 : BitVec 32 := 0#32
  ![v942.toNat, 0]

def k0_chk46 (i : grid0.Coords) (v0 : BitVec 32) (v942 : BitVec 32) : Prop :=
  (∀ (k0_h2 : k0_cond2 i v0 = 1#1), ∀ a, (k0_off182 v942) a + S1x4096.size a ≤ S16896x4096.size a)
theorem k0_off182_inb : ∀ (i : grid0.Coords) (v0 : BitVec 32) (v942 : BitVec 32) (k0_hw46 : k0_chk46 i v0 v942), ∀ (k0_h2 : k0_cond2 i v0 = 1#1), ∀ a, (k0_off182 v942) a + S1x4096.size a ≤ S16896x4096.size a := fun i v0 v942 k0_hw46 k0_h2 => k0_hw46 k0_h2

def k0_off183 (i : grid0.Coords) : Fin 1 → Nat :=
  let arg0 : BitVec 32 := BitVec.ofNat 32 (i 0).val
  let c1_i32_542 : BitVec 32 := 1#32
  let v948 : BitVec 32 := Scalar.addi arg0 c1_i32_542
  let c256_i32_550 : BitVec 32 := 256#32
  let v960 : BitVec 32 := Scalar.muli v948 c256_i32_550
  let c44_i32 : BitVec 32 := 44#32
  let v961 : BitVec 32 := Scalar.addi v960 c44_i32
  let v962 : Index := Scalar.indexCast v961
  ![v962.toNat]
def k0_off184 (i : grid0.Coords) : Fin 1 → Nat :=
  let arg0 : BitVec 32 := BitVec.ofNat 32 (i 0).val
  let c1_i32_543 : BitVec 32 := 1#32
  let v949 : BitVec 32 := Scalar.addi arg0 c1_i32_543
  let c2_i32_544 : BitVec 32 := 2#32
  let c0_i32_545 : BitVec 32 := 0#32
  let v950 : BitVec 1 := Scalar.cmpi .eq c2_i32_544 c0_i32_545
  let c1_i32_546 : BitVec 32 := 1#32
  let v951 : BitVec 32 := Scalar.select v950 c1_i32_546 c2_i32_544
  let v952 : BitVec 32 := Scalar.remsi v949 v951
  let c0_i32_548 : BitVec 32 := 0#32
  let v954 : BitVec 1 := Scalar.cmpi .slt v952 c0_i32_548
  let c0_i32_549 : BitVec 32 := 0#32
  let v955 : BitVec 1 := Scalar.cmpi .slt v951 c0_i32_549
  let v956 : BitVec 1 := Scalar.xori v954 v955
  let c0_i32_547 : BitVec 32 := 0#32
  let v953 : BitVec 1 := Scalar.cmpi .ne v952 c0_i32_547
  let v957 : BitVec 1 := Scalar.andi v956 v953
  let v958 : BitVec 32 := Scalar.addi v952 v951
  let v959 : BitVec 32 := Scalar.select v957 v958 v952
  ![v959.toNat]
def k0_off185 (i : grid0.Coords) : Fin 3 → Nat :=
  let arg0 : BitVec 32 := BitVec.ofNat 32 (i 0).val
  let c1_i32_543 : BitVec 32 := 1#32
  let v949 : BitVec 32 := Scalar.addi arg0 c1_i32_543
  let c2_i32_544 : BitVec 32 := 2#32
  let c0_i32_545 : BitVec 32 := 0#32
  let v950 : BitVec 1 := Scalar.cmpi .eq c2_i32_544 c0_i32_545
  let c1_i32_546 : BitVec 32 := 1#32
  let v951 : BitVec 32 := Scalar.select v950 c1_i32_546 c2_i32_544
  let v952 : BitVec 32 := Scalar.remsi v949 v951
  let c0_i32_548 : BitVec 32 := 0#32
  let v954 : BitVec 1 := Scalar.cmpi .slt v952 c0_i32_548
  let c0_i32_549 : BitVec 32 := 0#32
  let v955 : BitVec 1 := Scalar.cmpi .slt v951 c0_i32_549
  let v956 : BitVec 1 := Scalar.xori v954 v955
  let c0_i32_547 : BitVec 32 := 0#32
  let v953 : BitVec 1 := Scalar.cmpi .ne v952 c0_i32_547
  let v957 : BitVec 1 := Scalar.andi v956 v953
  let v958 : BitVec 32 := Scalar.addi v952 v951
  let v959 : BitVec 32 := Scalar.select v957 v958 v952
  let c44_i32_551 : BitVec 32 := 44#32
  let c0_i32_552 : BitVec 32 := 0#32
  ![v959.toNat, 44, 0]
def k0_off186 (v963 : BitVec 32) : Fin 2 → Nat :=
  let c0_i32_553 : BitVec 32 := 0#32
  ![v963.toNat, 0]

def k0_chk47 (i : grid0.Coords) (v0 : BitVec 32) (v963 : BitVec 32) : Prop :=
  (∀ (k0_h2 : k0_cond2 i v0 = 1#1), ∀ a, (k0_off186 v963) a + S1x4096.size a ≤ S16896x4096.size a)
theorem k0_off186_inb : ∀ (i : grid0.Coords) (v0 : BitVec 32) (v963 : BitVec 32) (k0_hw47 : k0_chk47 i v0 v963), ∀ (k0_h2 : k0_cond2 i v0 = 1#1), ∀ a, (k0_off186 v963) a + S1x4096.size a ≤ S16896x4096.size a := fun i v0 v963 k0_hw47 k0_h2 => k0_hw47 k0_h2

def k0_off187 (i : grid0.Coords) : Fin 1 → Nat :=
  let arg0 : BitVec 32 := BitVec.ofNat 32 (i 0).val
  let c1_i32_554 : BitVec 32 := 1#32
  let v969 : BitVec 32 := Scalar.addi arg0 c1_i32_554
  let c256_i32_562 : BitVec 32 := 256#32
  let v981 : BitVec 32 := Scalar.muli v969 c256_i32_562
  let c45_i32 : BitVec 32 := 45#32
  let v982 : BitVec 32 := Scalar.addi v981 c45_i32
  let v983 : Index := Scalar.indexCast v982
  ![v983.toNat]
def k0_off188 (i : grid0.Coords) : Fin 1 → Nat :=
  let arg0 : BitVec 32 := BitVec.ofNat 32 (i 0).val
  let c1_i32_555 : BitVec 32 := 1#32
  let v970 : BitVec 32 := Scalar.addi arg0 c1_i32_555
  let c2_i32_556 : BitVec 32 := 2#32
  let c0_i32_557 : BitVec 32 := 0#32
  let v971 : BitVec 1 := Scalar.cmpi .eq c2_i32_556 c0_i32_557
  let c1_i32_558 : BitVec 32 := 1#32
  let v972 : BitVec 32 := Scalar.select v971 c1_i32_558 c2_i32_556
  let v973 : BitVec 32 := Scalar.remsi v970 v972
  let c0_i32_560 : BitVec 32 := 0#32
  let v975 : BitVec 1 := Scalar.cmpi .slt v973 c0_i32_560
  let c0_i32_561 : BitVec 32 := 0#32
  let v976 : BitVec 1 := Scalar.cmpi .slt v972 c0_i32_561
  let v977 : BitVec 1 := Scalar.xori v975 v976
  let c0_i32_559 : BitVec 32 := 0#32
  let v974 : BitVec 1 := Scalar.cmpi .ne v973 c0_i32_559
  let v978 : BitVec 1 := Scalar.andi v977 v974
  let v979 : BitVec 32 := Scalar.addi v973 v972
  let v980 : BitVec 32 := Scalar.select v978 v979 v973
  ![v980.toNat]
def k0_off189 (i : grid0.Coords) : Fin 3 → Nat :=
  let arg0 : BitVec 32 := BitVec.ofNat 32 (i 0).val
  let c1_i32_555 : BitVec 32 := 1#32
  let v970 : BitVec 32 := Scalar.addi arg0 c1_i32_555
  let c2_i32_556 : BitVec 32 := 2#32
  let c0_i32_557 : BitVec 32 := 0#32
  let v971 : BitVec 1 := Scalar.cmpi .eq c2_i32_556 c0_i32_557
  let c1_i32_558 : BitVec 32 := 1#32
  let v972 : BitVec 32 := Scalar.select v971 c1_i32_558 c2_i32_556
  let v973 : BitVec 32 := Scalar.remsi v970 v972
  let c0_i32_560 : BitVec 32 := 0#32
  let v975 : BitVec 1 := Scalar.cmpi .slt v973 c0_i32_560
  let c0_i32_561 : BitVec 32 := 0#32
  let v976 : BitVec 1 := Scalar.cmpi .slt v972 c0_i32_561
  let v977 : BitVec 1 := Scalar.xori v975 v976
  let c0_i32_559 : BitVec 32 := 0#32
  let v974 : BitVec 1 := Scalar.cmpi .ne v973 c0_i32_559
  let v978 : BitVec 1 := Scalar.andi v977 v974
  let v979 : BitVec 32 := Scalar.addi v973 v972
  let v980 : BitVec 32 := Scalar.select v978 v979 v973
  let c45_i32_563 : BitVec 32 := 45#32
  let c0_i32_564 : BitVec 32 := 0#32
  ![v980.toNat, 45, 0]
def k0_off190 (v984 : BitVec 32) : Fin 2 → Nat :=
  let c0_i32_565 : BitVec 32 := 0#32
  ![v984.toNat, 0]

def k0_chk48 (i : grid0.Coords) (v0 : BitVec 32) (v984 : BitVec 32) : Prop :=
  (∀ (k0_h2 : k0_cond2 i v0 = 1#1), ∀ a, (k0_off190 v984) a + S1x4096.size a ≤ S16896x4096.size a)
theorem k0_off190_inb : ∀ (i : grid0.Coords) (v0 : BitVec 32) (v984 : BitVec 32) (k0_hw48 : k0_chk48 i v0 v984), ∀ (k0_h2 : k0_cond2 i v0 = 1#1), ∀ a, (k0_off190 v984) a + S1x4096.size a ≤ S16896x4096.size a := fun i v0 v984 k0_hw48 k0_h2 => k0_hw48 k0_h2

def k0_off191 (i : grid0.Coords) : Fin 1 → Nat :=
  let arg0 : BitVec 32 := BitVec.ofNat 32 (i 0).val
  let c1_i32_566 : BitVec 32 := 1#32
  let v990 : BitVec 32 := Scalar.addi arg0 c1_i32_566
  let c256_i32_574 : BitVec 32 := 256#32
  let v1002 : BitVec 32 := Scalar.muli v990 c256_i32_574
  let c46_i32 : BitVec 32 := 46#32
  let v1003 : BitVec 32 := Scalar.addi v1002 c46_i32
  let v1004 : Index := Scalar.indexCast v1003
  ![v1004.toNat]
def k0_off192 (i : grid0.Coords) : Fin 1 → Nat :=
  let arg0 : BitVec 32 := BitVec.ofNat 32 (i 0).val
  let c1_i32_567 : BitVec 32 := 1#32
  let v991 : BitVec 32 := Scalar.addi arg0 c1_i32_567
  let c2_i32_568 : BitVec 32 := 2#32
  let c0_i32_569 : BitVec 32 := 0#32
  let v992 : BitVec 1 := Scalar.cmpi .eq c2_i32_568 c0_i32_569
  let c1_i32_570 : BitVec 32 := 1#32
  let v993 : BitVec 32 := Scalar.select v992 c1_i32_570 c2_i32_568
  let v994 : BitVec 32 := Scalar.remsi v991 v993
  let c0_i32_572 : BitVec 32 := 0#32
  let v996 : BitVec 1 := Scalar.cmpi .slt v994 c0_i32_572
  let c0_i32_573 : BitVec 32 := 0#32
  let v997 : BitVec 1 := Scalar.cmpi .slt v993 c0_i32_573
  let v998 : BitVec 1 := Scalar.xori v996 v997
  let c0_i32_571 : BitVec 32 := 0#32
  let v995 : BitVec 1 := Scalar.cmpi .ne v994 c0_i32_571
  let v999 : BitVec 1 := Scalar.andi v998 v995
  let v1000 : BitVec 32 := Scalar.addi v994 v993
  let v1001 : BitVec 32 := Scalar.select v999 v1000 v994
  ![v1001.toNat]
def k0_off193 (i : grid0.Coords) : Fin 3 → Nat :=
  let arg0 : BitVec 32 := BitVec.ofNat 32 (i 0).val
  let c1_i32_567 : BitVec 32 := 1#32
  let v991 : BitVec 32 := Scalar.addi arg0 c1_i32_567
  let c2_i32_568 : BitVec 32 := 2#32
  let c0_i32_569 : BitVec 32 := 0#32
  let v992 : BitVec 1 := Scalar.cmpi .eq c2_i32_568 c0_i32_569
  let c1_i32_570 : BitVec 32 := 1#32
  let v993 : BitVec 32 := Scalar.select v992 c1_i32_570 c2_i32_568
  let v994 : BitVec 32 := Scalar.remsi v991 v993
  let c0_i32_572 : BitVec 32 := 0#32
  let v996 : BitVec 1 := Scalar.cmpi .slt v994 c0_i32_572
  let c0_i32_573 : BitVec 32 := 0#32
  let v997 : BitVec 1 := Scalar.cmpi .slt v993 c0_i32_573
  let v998 : BitVec 1 := Scalar.xori v996 v997
  let c0_i32_571 : BitVec 32 := 0#32
  let v995 : BitVec 1 := Scalar.cmpi .ne v994 c0_i32_571
  let v999 : BitVec 1 := Scalar.andi v998 v995
  let v1000 : BitVec 32 := Scalar.addi v994 v993
  let v1001 : BitVec 32 := Scalar.select v999 v1000 v994
  let c46_i32_575 : BitVec 32 := 46#32
  let c0_i32_576 : BitVec 32 := 0#32
  ![v1001.toNat, 46, 0]
def k0_off194 (v1005 : BitVec 32) : Fin 2 → Nat :=
  let c0_i32_577 : BitVec 32 := 0#32
  ![v1005.toNat, 0]

def k0_chk49 (i : grid0.Coords) (v0 : BitVec 32) (v1005 : BitVec 32) : Prop :=
  (∀ (k0_h2 : k0_cond2 i v0 = 1#1), ∀ a, (k0_off194 v1005) a + S1x4096.size a ≤ S16896x4096.size a)
theorem k0_off194_inb : ∀ (i : grid0.Coords) (v0 : BitVec 32) (v1005 : BitVec 32) (k0_hw49 : k0_chk49 i v0 v1005), ∀ (k0_h2 : k0_cond2 i v0 = 1#1), ∀ a, (k0_off194 v1005) a + S1x4096.size a ≤ S16896x4096.size a := fun i v0 v1005 k0_hw49 k0_h2 => k0_hw49 k0_h2

def k0_off195 (i : grid0.Coords) : Fin 1 → Nat :=
  let arg0 : BitVec 32 := BitVec.ofNat 32 (i 0).val
  let c1_i32_578 : BitVec 32 := 1#32
  let v1011 : BitVec 32 := Scalar.addi arg0 c1_i32_578
  let c256_i32_586 : BitVec 32 := 256#32
  let v1023 : BitVec 32 := Scalar.muli v1011 c256_i32_586
  let c47_i32 : BitVec 32 := 47#32
  let v1024 : BitVec 32 := Scalar.addi v1023 c47_i32
  let v1025 : Index := Scalar.indexCast v1024
  ![v1025.toNat]
def k0_off196 (i : grid0.Coords) : Fin 1 → Nat :=
  let arg0 : BitVec 32 := BitVec.ofNat 32 (i 0).val
  let c1_i32_579 : BitVec 32 := 1#32
  let v1012 : BitVec 32 := Scalar.addi arg0 c1_i32_579
  let c2_i32_580 : BitVec 32 := 2#32
  let c0_i32_581 : BitVec 32 := 0#32
  let v1013 : BitVec 1 := Scalar.cmpi .eq c2_i32_580 c0_i32_581
  let c1_i32_582 : BitVec 32 := 1#32
  let v1014 : BitVec 32 := Scalar.select v1013 c1_i32_582 c2_i32_580
  let v1015 : BitVec 32 := Scalar.remsi v1012 v1014
  let c0_i32_584 : BitVec 32 := 0#32
  let v1017 : BitVec 1 := Scalar.cmpi .slt v1015 c0_i32_584
  let c0_i32_585 : BitVec 32 := 0#32
  let v1018 : BitVec 1 := Scalar.cmpi .slt v1014 c0_i32_585
  let v1019 : BitVec 1 := Scalar.xori v1017 v1018
  let c0_i32_583 : BitVec 32 := 0#32
  let v1016 : BitVec 1 := Scalar.cmpi .ne v1015 c0_i32_583
  let v1020 : BitVec 1 := Scalar.andi v1019 v1016
  let v1021 : BitVec 32 := Scalar.addi v1015 v1014
  let v1022 : BitVec 32 := Scalar.select v1020 v1021 v1015
  ![v1022.toNat]
def k0_off197 (i : grid0.Coords) : Fin 3 → Nat :=
  let arg0 : BitVec 32 := BitVec.ofNat 32 (i 0).val
  let c1_i32_579 : BitVec 32 := 1#32
  let v1012 : BitVec 32 := Scalar.addi arg0 c1_i32_579
  let c2_i32_580 : BitVec 32 := 2#32
  let c0_i32_581 : BitVec 32 := 0#32
  let v1013 : BitVec 1 := Scalar.cmpi .eq c2_i32_580 c0_i32_581
  let c1_i32_582 : BitVec 32 := 1#32
  let v1014 : BitVec 32 := Scalar.select v1013 c1_i32_582 c2_i32_580
  let v1015 : BitVec 32 := Scalar.remsi v1012 v1014
  let c0_i32_584 : BitVec 32 := 0#32
  let v1017 : BitVec 1 := Scalar.cmpi .slt v1015 c0_i32_584
  let c0_i32_585 : BitVec 32 := 0#32
  let v1018 : BitVec 1 := Scalar.cmpi .slt v1014 c0_i32_585
  let v1019 : BitVec 1 := Scalar.xori v1017 v1018
  let c0_i32_583 : BitVec 32 := 0#32
  let v1016 : BitVec 1 := Scalar.cmpi .ne v1015 c0_i32_583
  let v1020 : BitVec 1 := Scalar.andi v1019 v1016
  let v1021 : BitVec 32 := Scalar.addi v1015 v1014
  let v1022 : BitVec 32 := Scalar.select v1020 v1021 v1015
  let c47_i32_587 : BitVec 32 := 47#32
  let c0_i32_588 : BitVec 32 := 0#32
  ![v1022.toNat, 47, 0]
def k0_off198 (v1026 : BitVec 32) : Fin 2 → Nat :=
  let c0_i32_589 : BitVec 32 := 0#32
  ![v1026.toNat, 0]

def k0_chk50 (i : grid0.Coords) (v0 : BitVec 32) (v1026 : BitVec 32) : Prop :=
  (∀ (k0_h2 : k0_cond2 i v0 = 1#1), ∀ a, (k0_off198 v1026) a + S1x4096.size a ≤ S16896x4096.size a)
theorem k0_off198_inb : ∀ (i : grid0.Coords) (v0 : BitVec 32) (v1026 : BitVec 32) (k0_hw50 : k0_chk50 i v0 v1026), ∀ (k0_h2 : k0_cond2 i v0 = 1#1), ∀ a, (k0_off198 v1026) a + S1x4096.size a ≤ S16896x4096.size a := fun i v0 v1026 k0_hw50 k0_h2 => k0_hw50 k0_h2

def k0_off199 (i : grid0.Coords) : Fin 1 → Nat :=
  let arg0 : BitVec 32 := BitVec.ofNat 32 (i 0).val
  let c1_i32_590 : BitVec 32 := 1#32
  let v1032 : BitVec 32 := Scalar.addi arg0 c1_i32_590
  let c256_i32_598 : BitVec 32 := 256#32
  let v1044 : BitVec 32 := Scalar.muli v1032 c256_i32_598
  let c48_i32 : BitVec 32 := 48#32
  let v1045 : BitVec 32 := Scalar.addi v1044 c48_i32
  let v1046 : Index := Scalar.indexCast v1045
  ![v1046.toNat]
def k0_off200 (i : grid0.Coords) : Fin 1 → Nat :=
  let arg0 : BitVec 32 := BitVec.ofNat 32 (i 0).val
  let c1_i32_591 : BitVec 32 := 1#32
  let v1033 : BitVec 32 := Scalar.addi arg0 c1_i32_591
  let c2_i32_592 : BitVec 32 := 2#32
  let c0_i32_593 : BitVec 32 := 0#32
  let v1034 : BitVec 1 := Scalar.cmpi .eq c2_i32_592 c0_i32_593
  let c1_i32_594 : BitVec 32 := 1#32
  let v1035 : BitVec 32 := Scalar.select v1034 c1_i32_594 c2_i32_592
  let v1036 : BitVec 32 := Scalar.remsi v1033 v1035
  let c0_i32_596 : BitVec 32 := 0#32
  let v1038 : BitVec 1 := Scalar.cmpi .slt v1036 c0_i32_596
  let c0_i32_597 : BitVec 32 := 0#32
  let v1039 : BitVec 1 := Scalar.cmpi .slt v1035 c0_i32_597
  let v1040 : BitVec 1 := Scalar.xori v1038 v1039
  let c0_i32_595 : BitVec 32 := 0#32
  let v1037 : BitVec 1 := Scalar.cmpi .ne v1036 c0_i32_595
  let v1041 : BitVec 1 := Scalar.andi v1040 v1037
  let v1042 : BitVec 32 := Scalar.addi v1036 v1035
  let v1043 : BitVec 32 := Scalar.select v1041 v1042 v1036
  ![v1043.toNat]
def k0_off201 (i : grid0.Coords) : Fin 3 → Nat :=
  let arg0 : BitVec 32 := BitVec.ofNat 32 (i 0).val
  let c1_i32_591 : BitVec 32 := 1#32
  let v1033 : BitVec 32 := Scalar.addi arg0 c1_i32_591
  let c2_i32_592 : BitVec 32 := 2#32
  let c0_i32_593 : BitVec 32 := 0#32
  let v1034 : BitVec 1 := Scalar.cmpi .eq c2_i32_592 c0_i32_593
  let c1_i32_594 : BitVec 32 := 1#32
  let v1035 : BitVec 32 := Scalar.select v1034 c1_i32_594 c2_i32_592
  let v1036 : BitVec 32 := Scalar.remsi v1033 v1035
  let c0_i32_596 : BitVec 32 := 0#32
  let v1038 : BitVec 1 := Scalar.cmpi .slt v1036 c0_i32_596
  let c0_i32_597 : BitVec 32 := 0#32
  let v1039 : BitVec 1 := Scalar.cmpi .slt v1035 c0_i32_597
  let v1040 : BitVec 1 := Scalar.xori v1038 v1039
  let c0_i32_595 : BitVec 32 := 0#32
  let v1037 : BitVec 1 := Scalar.cmpi .ne v1036 c0_i32_595
  let v1041 : BitVec 1 := Scalar.andi v1040 v1037
  let v1042 : BitVec 32 := Scalar.addi v1036 v1035
  let v1043 : BitVec 32 := Scalar.select v1041 v1042 v1036
  let c48_i32_599 : BitVec 32 := 48#32
  let c0_i32_600 : BitVec 32 := 0#32
  ![v1043.toNat, 48, 0]
def k0_off202 (v1047 : BitVec 32) : Fin 2 → Nat :=
  let c0_i32_601 : BitVec 32 := 0#32
  ![v1047.toNat, 0]

def k0_chk51 (i : grid0.Coords) (v0 : BitVec 32) (v1047 : BitVec 32) : Prop :=
  (∀ (k0_h2 : k0_cond2 i v0 = 1#1), ∀ a, (k0_off202 v1047) a + S1x4096.size a ≤ S16896x4096.size a)
theorem k0_off202_inb : ∀ (i : grid0.Coords) (v0 : BitVec 32) (v1047 : BitVec 32) (k0_hw51 : k0_chk51 i v0 v1047), ∀ (k0_h2 : k0_cond2 i v0 = 1#1), ∀ a, (k0_off202 v1047) a + S1x4096.size a ≤ S16896x4096.size a := fun i v0 v1047 k0_hw51 k0_h2 => k0_hw51 k0_h2

def k0_off203 (i : grid0.Coords) : Fin 1 → Nat :=
  let arg0 : BitVec 32 := BitVec.ofNat 32 (i 0).val
  let c1_i32_602 : BitVec 32 := 1#32
  let v1053 : BitVec 32 := Scalar.addi arg0 c1_i32_602
  let c256_i32_610 : BitVec 32 := 256#32
  let v1065 : BitVec 32 := Scalar.muli v1053 c256_i32_610
  let c49_i32 : BitVec 32 := 49#32
  let v1066 : BitVec 32 := Scalar.addi v1065 c49_i32
  let v1067 : Index := Scalar.indexCast v1066
  ![v1067.toNat]
def k0_off204 (i : grid0.Coords) : Fin 1 → Nat :=
  let arg0 : BitVec 32 := BitVec.ofNat 32 (i 0).val
  let c1_i32_603 : BitVec 32 := 1#32
  let v1054 : BitVec 32 := Scalar.addi arg0 c1_i32_603
  let c2_i32_604 : BitVec 32 := 2#32
  let c0_i32_605 : BitVec 32 := 0#32
  let v1055 : BitVec 1 := Scalar.cmpi .eq c2_i32_604 c0_i32_605
  let c1_i32_606 : BitVec 32 := 1#32
  let v1056 : BitVec 32 := Scalar.select v1055 c1_i32_606 c2_i32_604
  let v1057 : BitVec 32 := Scalar.remsi v1054 v1056
  let c0_i32_608 : BitVec 32 := 0#32
  let v1059 : BitVec 1 := Scalar.cmpi .slt v1057 c0_i32_608
  let c0_i32_609 : BitVec 32 := 0#32
  let v1060 : BitVec 1 := Scalar.cmpi .slt v1056 c0_i32_609
  let v1061 : BitVec 1 := Scalar.xori v1059 v1060
  let c0_i32_607 : BitVec 32 := 0#32
  let v1058 : BitVec 1 := Scalar.cmpi .ne v1057 c0_i32_607
  let v1062 : BitVec 1 := Scalar.andi v1061 v1058
  let v1063 : BitVec 32 := Scalar.addi v1057 v1056
  let v1064 : BitVec 32 := Scalar.select v1062 v1063 v1057
  ![v1064.toNat]
def k0_off205 (i : grid0.Coords) : Fin 3 → Nat :=
  let arg0 : BitVec 32 := BitVec.ofNat 32 (i 0).val
  let c1_i32_603 : BitVec 32 := 1#32
  let v1054 : BitVec 32 := Scalar.addi arg0 c1_i32_603
  let c2_i32_604 : BitVec 32 := 2#32
  let c0_i32_605 : BitVec 32 := 0#32
  let v1055 : BitVec 1 := Scalar.cmpi .eq c2_i32_604 c0_i32_605
  let c1_i32_606 : BitVec 32 := 1#32
  let v1056 : BitVec 32 := Scalar.select v1055 c1_i32_606 c2_i32_604
  let v1057 : BitVec 32 := Scalar.remsi v1054 v1056
  let c0_i32_608 : BitVec 32 := 0#32
  let v1059 : BitVec 1 := Scalar.cmpi .slt v1057 c0_i32_608
  let c0_i32_609 : BitVec 32 := 0#32
  let v1060 : BitVec 1 := Scalar.cmpi .slt v1056 c0_i32_609
  let v1061 : BitVec 1 := Scalar.xori v1059 v1060
  let c0_i32_607 : BitVec 32 := 0#32
  let v1058 : BitVec 1 := Scalar.cmpi .ne v1057 c0_i32_607
  let v1062 : BitVec 1 := Scalar.andi v1061 v1058
  let v1063 : BitVec 32 := Scalar.addi v1057 v1056
  let v1064 : BitVec 32 := Scalar.select v1062 v1063 v1057
  let c49_i32_611 : BitVec 32 := 49#32
  let c0_i32_612 : BitVec 32 := 0#32
  ![v1064.toNat, 49, 0]
def k0_off206 (v1068 : BitVec 32) : Fin 2 → Nat :=
  let c0_i32_613 : BitVec 32 := 0#32
  ![v1068.toNat, 0]

def k0_chk52 (i : grid0.Coords) (v0 : BitVec 32) (v1068 : BitVec 32) : Prop :=
  (∀ (k0_h2 : k0_cond2 i v0 = 1#1), ∀ a, (k0_off206 v1068) a + S1x4096.size a ≤ S16896x4096.size a)
theorem k0_off206_inb : ∀ (i : grid0.Coords) (v0 : BitVec 32) (v1068 : BitVec 32) (k0_hw52 : k0_chk52 i v0 v1068), ∀ (k0_h2 : k0_cond2 i v0 = 1#1), ∀ a, (k0_off206 v1068) a + S1x4096.size a ≤ S16896x4096.size a := fun i v0 v1068 k0_hw52 k0_h2 => k0_hw52 k0_h2

def k0_off207 (i : grid0.Coords) : Fin 1 → Nat :=
  let arg0 : BitVec 32 := BitVec.ofNat 32 (i 0).val
  let c1_i32_614 : BitVec 32 := 1#32
  let v1074 : BitVec 32 := Scalar.addi arg0 c1_i32_614
  let c256_i32_622 : BitVec 32 := 256#32
  let v1086 : BitVec 32 := Scalar.muli v1074 c256_i32_622
  let c50_i32 : BitVec 32 := 50#32
  let v1087 : BitVec 32 := Scalar.addi v1086 c50_i32
  let v1088 : Index := Scalar.indexCast v1087
  ![v1088.toNat]
def k0_off208 (i : grid0.Coords) : Fin 1 → Nat :=
  let arg0 : BitVec 32 := BitVec.ofNat 32 (i 0).val
  let c1_i32_615 : BitVec 32 := 1#32
  let v1075 : BitVec 32 := Scalar.addi arg0 c1_i32_615
  let c2_i32_616 : BitVec 32 := 2#32
  let c0_i32_617 : BitVec 32 := 0#32
  let v1076 : BitVec 1 := Scalar.cmpi .eq c2_i32_616 c0_i32_617
  let c1_i32_618 : BitVec 32 := 1#32
  let v1077 : BitVec 32 := Scalar.select v1076 c1_i32_618 c2_i32_616
  let v1078 : BitVec 32 := Scalar.remsi v1075 v1077
  let c0_i32_620 : BitVec 32 := 0#32
  let v1080 : BitVec 1 := Scalar.cmpi .slt v1078 c0_i32_620
  let c0_i32_621 : BitVec 32 := 0#32
  let v1081 : BitVec 1 := Scalar.cmpi .slt v1077 c0_i32_621
  let v1082 : BitVec 1 := Scalar.xori v1080 v1081
  let c0_i32_619 : BitVec 32 := 0#32
  let v1079 : BitVec 1 := Scalar.cmpi .ne v1078 c0_i32_619
  let v1083 : BitVec 1 := Scalar.andi v1082 v1079
  let v1084 : BitVec 32 := Scalar.addi v1078 v1077
  let v1085 : BitVec 32 := Scalar.select v1083 v1084 v1078
  ![v1085.toNat]
def k0_off209 (i : grid0.Coords) : Fin 3 → Nat :=
  let arg0 : BitVec 32 := BitVec.ofNat 32 (i 0).val
  let c1_i32_615 : BitVec 32 := 1#32
  let v1075 : BitVec 32 := Scalar.addi arg0 c1_i32_615
  let c2_i32_616 : BitVec 32 := 2#32
  let c0_i32_617 : BitVec 32 := 0#32
  let v1076 : BitVec 1 := Scalar.cmpi .eq c2_i32_616 c0_i32_617
  let c1_i32_618 : BitVec 32 := 1#32
  let v1077 : BitVec 32 := Scalar.select v1076 c1_i32_618 c2_i32_616
  let v1078 : BitVec 32 := Scalar.remsi v1075 v1077
  let c0_i32_620 : BitVec 32 := 0#32
  let v1080 : BitVec 1 := Scalar.cmpi .slt v1078 c0_i32_620
  let c0_i32_621 : BitVec 32 := 0#32
  let v1081 : BitVec 1 := Scalar.cmpi .slt v1077 c0_i32_621
  let v1082 : BitVec 1 := Scalar.xori v1080 v1081
  let c0_i32_619 : BitVec 32 := 0#32
  let v1079 : BitVec 1 := Scalar.cmpi .ne v1078 c0_i32_619
  let v1083 : BitVec 1 := Scalar.andi v1082 v1079
  let v1084 : BitVec 32 := Scalar.addi v1078 v1077
  let v1085 : BitVec 32 := Scalar.select v1083 v1084 v1078
  let c50_i32_623 : BitVec 32 := 50#32
  let c0_i32_624 : BitVec 32 := 0#32
  ![v1085.toNat, 50, 0]
def k0_off210 (v1089 : BitVec 32) : Fin 2 → Nat :=
  let c0_i32_625 : BitVec 32 := 0#32
  ![v1089.toNat, 0]

def k0_chk53 (i : grid0.Coords) (v0 : BitVec 32) (v1089 : BitVec 32) : Prop :=
  (∀ (k0_h2 : k0_cond2 i v0 = 1#1), ∀ a, (k0_off210 v1089) a + S1x4096.size a ≤ S16896x4096.size a)
theorem k0_off210_inb : ∀ (i : grid0.Coords) (v0 : BitVec 32) (v1089 : BitVec 32) (k0_hw53 : k0_chk53 i v0 v1089), ∀ (k0_h2 : k0_cond2 i v0 = 1#1), ∀ a, (k0_off210 v1089) a + S1x4096.size a ≤ S16896x4096.size a := fun i v0 v1089 k0_hw53 k0_h2 => k0_hw53 k0_h2

def k0_off211 (i : grid0.Coords) : Fin 1 → Nat :=
  let arg0 : BitVec 32 := BitVec.ofNat 32 (i 0).val
  let c1_i32_626 : BitVec 32 := 1#32
  let v1095 : BitVec 32 := Scalar.addi arg0 c1_i32_626
  let c256_i32_634 : BitVec 32 := 256#32
  let v1107 : BitVec 32 := Scalar.muli v1095 c256_i32_634
  let c51_i32 : BitVec 32 := 51#32
  let v1108 : BitVec 32 := Scalar.addi v1107 c51_i32
  let v1109 : Index := Scalar.indexCast v1108
  ![v1109.toNat]
def k0_off212 (i : grid0.Coords) : Fin 1 → Nat :=
  let arg0 : BitVec 32 := BitVec.ofNat 32 (i 0).val
  let c1_i32_627 : BitVec 32 := 1#32
  let v1096 : BitVec 32 := Scalar.addi arg0 c1_i32_627
  let c2_i32_628 : BitVec 32 := 2#32
  let c0_i32_629 : BitVec 32 := 0#32
  let v1097 : BitVec 1 := Scalar.cmpi .eq c2_i32_628 c0_i32_629
  let c1_i32_630 : BitVec 32 := 1#32
  let v1098 : BitVec 32 := Scalar.select v1097 c1_i32_630 c2_i32_628
  let v1099 : BitVec 32 := Scalar.remsi v1096 v1098
  let c0_i32_632 : BitVec 32 := 0#32
  let v1101 : BitVec 1 := Scalar.cmpi .slt v1099 c0_i32_632
  let c0_i32_633 : BitVec 32 := 0#32
  let v1102 : BitVec 1 := Scalar.cmpi .slt v1098 c0_i32_633
  let v1103 : BitVec 1 := Scalar.xori v1101 v1102
  let c0_i32_631 : BitVec 32 := 0#32
  let v1100 : BitVec 1 := Scalar.cmpi .ne v1099 c0_i32_631
  let v1104 : BitVec 1 := Scalar.andi v1103 v1100
  let v1105 : BitVec 32 := Scalar.addi v1099 v1098
  let v1106 : BitVec 32 := Scalar.select v1104 v1105 v1099
  ![v1106.toNat]
def k0_off213 (i : grid0.Coords) : Fin 3 → Nat :=
  let arg0 : BitVec 32 := BitVec.ofNat 32 (i 0).val
  let c1_i32_627 : BitVec 32 := 1#32
  let v1096 : BitVec 32 := Scalar.addi arg0 c1_i32_627
  let c2_i32_628 : BitVec 32 := 2#32
  let c0_i32_629 : BitVec 32 := 0#32
  let v1097 : BitVec 1 := Scalar.cmpi .eq c2_i32_628 c0_i32_629
  let c1_i32_630 : BitVec 32 := 1#32
  let v1098 : BitVec 32 := Scalar.select v1097 c1_i32_630 c2_i32_628
  let v1099 : BitVec 32 := Scalar.remsi v1096 v1098
  let c0_i32_632 : BitVec 32 := 0#32
  let v1101 : BitVec 1 := Scalar.cmpi .slt v1099 c0_i32_632
  let c0_i32_633 : BitVec 32 := 0#32
  let v1102 : BitVec 1 := Scalar.cmpi .slt v1098 c0_i32_633
  let v1103 : BitVec 1 := Scalar.xori v1101 v1102
  let c0_i32_631 : BitVec 32 := 0#32
  let v1100 : BitVec 1 := Scalar.cmpi .ne v1099 c0_i32_631
  let v1104 : BitVec 1 := Scalar.andi v1103 v1100
  let v1105 : BitVec 32 := Scalar.addi v1099 v1098
  let v1106 : BitVec 32 := Scalar.select v1104 v1105 v1099
  let c51_i32_635 : BitVec 32 := 51#32
  let c0_i32_636 : BitVec 32 := 0#32
  ![v1106.toNat, 51, 0]
def k0_off214 (v1110 : BitVec 32) : Fin 2 → Nat :=
  let c0_i32_637 : BitVec 32 := 0#32
  ![v1110.toNat, 0]

def k0_chk54 (i : grid0.Coords) (v0 : BitVec 32) (v1110 : BitVec 32) : Prop :=
  (∀ (k0_h2 : k0_cond2 i v0 = 1#1), ∀ a, (k0_off214 v1110) a + S1x4096.size a ≤ S16896x4096.size a)
theorem k0_off214_inb : ∀ (i : grid0.Coords) (v0 : BitVec 32) (v1110 : BitVec 32) (k0_hw54 : k0_chk54 i v0 v1110), ∀ (k0_h2 : k0_cond2 i v0 = 1#1), ∀ a, (k0_off214 v1110) a + S1x4096.size a ≤ S16896x4096.size a := fun i v0 v1110 k0_hw54 k0_h2 => k0_hw54 k0_h2

def k0_off215 (i : grid0.Coords) : Fin 1 → Nat :=
  let arg0 : BitVec 32 := BitVec.ofNat 32 (i 0).val
  let c1_i32_638 : BitVec 32 := 1#32
  let v1116 : BitVec 32 := Scalar.addi arg0 c1_i32_638
  let c256_i32_646 : BitVec 32 := 256#32
  let v1128 : BitVec 32 := Scalar.muli v1116 c256_i32_646
  let c52_i32 : BitVec 32 := 52#32
  let v1129 : BitVec 32 := Scalar.addi v1128 c52_i32
  let v1130 : Index := Scalar.indexCast v1129
  ![v1130.toNat]
def k0_off216 (i : grid0.Coords) : Fin 1 → Nat :=
  let arg0 : BitVec 32 := BitVec.ofNat 32 (i 0).val
  let c1_i32_639 : BitVec 32 := 1#32
  let v1117 : BitVec 32 := Scalar.addi arg0 c1_i32_639
  let c2_i32_640 : BitVec 32 := 2#32
  let c0_i32_641 : BitVec 32 := 0#32
  let v1118 : BitVec 1 := Scalar.cmpi .eq c2_i32_640 c0_i32_641
  let c1_i32_642 : BitVec 32 := 1#32
  let v1119 : BitVec 32 := Scalar.select v1118 c1_i32_642 c2_i32_640
  let v1120 : BitVec 32 := Scalar.remsi v1117 v1119
  let c0_i32_644 : BitVec 32 := 0#32
  let v1122 : BitVec 1 := Scalar.cmpi .slt v1120 c0_i32_644
  let c0_i32_645 : BitVec 32 := 0#32
  let v1123 : BitVec 1 := Scalar.cmpi .slt v1119 c0_i32_645
  let v1124 : BitVec 1 := Scalar.xori v1122 v1123
  let c0_i32_643 : BitVec 32 := 0#32
  let v1121 : BitVec 1 := Scalar.cmpi .ne v1120 c0_i32_643
  let v1125 : BitVec 1 := Scalar.andi v1124 v1121
  let v1126 : BitVec 32 := Scalar.addi v1120 v1119
  let v1127 : BitVec 32 := Scalar.select v1125 v1126 v1120
  ![v1127.toNat]
def k0_off217 (i : grid0.Coords) : Fin 3 → Nat :=
  let arg0 : BitVec 32 := BitVec.ofNat 32 (i 0).val
  let c1_i32_639 : BitVec 32 := 1#32
  let v1117 : BitVec 32 := Scalar.addi arg0 c1_i32_639
  let c2_i32_640 : BitVec 32 := 2#32
  let c0_i32_641 : BitVec 32 := 0#32
  let v1118 : BitVec 1 := Scalar.cmpi .eq c2_i32_640 c0_i32_641
  let c1_i32_642 : BitVec 32 := 1#32
  let v1119 : BitVec 32 := Scalar.select v1118 c1_i32_642 c2_i32_640
  let v1120 : BitVec 32 := Scalar.remsi v1117 v1119
  let c0_i32_644 : BitVec 32 := 0#32
  let v1122 : BitVec 1 := Scalar.cmpi .slt v1120 c0_i32_644
  let c0_i32_645 : BitVec 32 := 0#32
  let v1123 : BitVec 1 := Scalar.cmpi .slt v1119 c0_i32_645
  let v1124 : BitVec 1 := Scalar.xori v1122 v1123
  let c0_i32_643 : BitVec 32 := 0#32
  let v1121 : BitVec 1 := Scalar.cmpi .ne v1120 c0_i32_643
  let v1125 : BitVec 1 := Scalar.andi v1124 v1121
  let v1126 : BitVec 32 := Scalar.addi v1120 v1119
  let v1127 : BitVec 32 := Scalar.select v1125 v1126 v1120
  let c52_i32_647 : BitVec 32 := 52#32
  let c0_i32_648 : BitVec 32 := 0#32
  ![v1127.toNat, 52, 0]
def k0_off218 (v1131 : BitVec 32) : Fin 2 → Nat :=
  let c0_i32_649 : BitVec 32 := 0#32
  ![v1131.toNat, 0]

def k0_chk55 (i : grid0.Coords) (v0 : BitVec 32) (v1131 : BitVec 32) : Prop :=
  (∀ (k0_h2 : k0_cond2 i v0 = 1#1), ∀ a, (k0_off218 v1131) a + S1x4096.size a ≤ S16896x4096.size a)
theorem k0_off218_inb : ∀ (i : grid0.Coords) (v0 : BitVec 32) (v1131 : BitVec 32) (k0_hw55 : k0_chk55 i v0 v1131), ∀ (k0_h2 : k0_cond2 i v0 = 1#1), ∀ a, (k0_off218 v1131) a + S1x4096.size a ≤ S16896x4096.size a := fun i v0 v1131 k0_hw55 k0_h2 => k0_hw55 k0_h2

def k0_off219 (i : grid0.Coords) : Fin 1 → Nat :=
  let arg0 : BitVec 32 := BitVec.ofNat 32 (i 0).val
  let c1_i32_650 : BitVec 32 := 1#32
  let v1137 : BitVec 32 := Scalar.addi arg0 c1_i32_650
  let c256_i32_658 : BitVec 32 := 256#32
  let v1149 : BitVec 32 := Scalar.muli v1137 c256_i32_658
  let c53_i32 : BitVec 32 := 53#32
  let v1150 : BitVec 32 := Scalar.addi v1149 c53_i32
  let v1151 : Index := Scalar.indexCast v1150
  ![v1151.toNat]
def k0_off220 (i : grid0.Coords) : Fin 1 → Nat :=
  let arg0 : BitVec 32 := BitVec.ofNat 32 (i 0).val
  let c1_i32_651 : BitVec 32 := 1#32
  let v1138 : BitVec 32 := Scalar.addi arg0 c1_i32_651
  let c2_i32_652 : BitVec 32 := 2#32
  let c0_i32_653 : BitVec 32 := 0#32
  let v1139 : BitVec 1 := Scalar.cmpi .eq c2_i32_652 c0_i32_653
  let c1_i32_654 : BitVec 32 := 1#32
  let v1140 : BitVec 32 := Scalar.select v1139 c1_i32_654 c2_i32_652
  let v1141 : BitVec 32 := Scalar.remsi v1138 v1140
  let c0_i32_656 : BitVec 32 := 0#32
  let v1143 : BitVec 1 := Scalar.cmpi .slt v1141 c0_i32_656
  let c0_i32_657 : BitVec 32 := 0#32
  let v1144 : BitVec 1 := Scalar.cmpi .slt v1140 c0_i32_657
  let v1145 : BitVec 1 := Scalar.xori v1143 v1144
  let c0_i32_655 : BitVec 32 := 0#32
  let v1142 : BitVec 1 := Scalar.cmpi .ne v1141 c0_i32_655
  let v1146 : BitVec 1 := Scalar.andi v1145 v1142
  let v1147 : BitVec 32 := Scalar.addi v1141 v1140
  let v1148 : BitVec 32 := Scalar.select v1146 v1147 v1141
  ![v1148.toNat]
def k0_off221 (i : grid0.Coords) : Fin 3 → Nat :=
  let arg0 : BitVec 32 := BitVec.ofNat 32 (i 0).val
  let c1_i32_651 : BitVec 32 := 1#32
  let v1138 : BitVec 32 := Scalar.addi arg0 c1_i32_651
  let c2_i32_652 : BitVec 32 := 2#32
  let c0_i32_653 : BitVec 32 := 0#32
  let v1139 : BitVec 1 := Scalar.cmpi .eq c2_i32_652 c0_i32_653
  let c1_i32_654 : BitVec 32 := 1#32
  let v1140 : BitVec 32 := Scalar.select v1139 c1_i32_654 c2_i32_652
  let v1141 : BitVec 32 := Scalar.remsi v1138 v1140
  let c0_i32_656 : BitVec 32 := 0#32
  let v1143 : BitVec 1 := Scalar.cmpi .slt v1141 c0_i32_656
  let c0_i32_657 : BitVec 32 := 0#32
  let v1144 : BitVec 1 := Scalar.cmpi .slt v1140 c0_i32_657
  let v1145 : BitVec 1 := Scalar.xori v1143 v1144
  let c0_i32_655 : BitVec 32 := 0#32
  let v1142 : BitVec 1 := Scalar.cmpi .ne v1141 c0_i32_655
  let v1146 : BitVec 1 := Scalar.andi v1145 v1142
  let v1147 : BitVec 32 := Scalar.addi v1141 v1140
  let v1148 : BitVec 32 := Scalar.select v1146 v1147 v1141
  let c53_i32_659 : BitVec 32 := 53#32
  let c0_i32_660 : BitVec 32 := 0#32
  ![v1148.toNat, 53, 0]
def k0_off222 (v1152 : BitVec 32) : Fin 2 → Nat :=
  let c0_i32_661 : BitVec 32 := 0#32
  ![v1152.toNat, 0]

def k0_chk56 (i : grid0.Coords) (v0 : BitVec 32) (v1152 : BitVec 32) : Prop :=
  (∀ (k0_h2 : k0_cond2 i v0 = 1#1), ∀ a, (k0_off222 v1152) a + S1x4096.size a ≤ S16896x4096.size a)
theorem k0_off222_inb : ∀ (i : grid0.Coords) (v0 : BitVec 32) (v1152 : BitVec 32) (k0_hw56 : k0_chk56 i v0 v1152), ∀ (k0_h2 : k0_cond2 i v0 = 1#1), ∀ a, (k0_off222 v1152) a + S1x4096.size a ≤ S16896x4096.size a := fun i v0 v1152 k0_hw56 k0_h2 => k0_hw56 k0_h2

def k0_off223 (i : grid0.Coords) : Fin 1 → Nat :=
  let arg0 : BitVec 32 := BitVec.ofNat 32 (i 0).val
  let c1_i32_662 : BitVec 32 := 1#32
  let v1158 : BitVec 32 := Scalar.addi arg0 c1_i32_662
  let c256_i32_670 : BitVec 32 := 256#32
  let v1170 : BitVec 32 := Scalar.muli v1158 c256_i32_670
  let c54_i32 : BitVec 32 := 54#32
  let v1171 : BitVec 32 := Scalar.addi v1170 c54_i32
  let v1172 : Index := Scalar.indexCast v1171
  ![v1172.toNat]
def k0_off224 (i : grid0.Coords) : Fin 1 → Nat :=
  let arg0 : BitVec 32 := BitVec.ofNat 32 (i 0).val
  let c1_i32_663 : BitVec 32 := 1#32
  let v1159 : BitVec 32 := Scalar.addi arg0 c1_i32_663
  let c2_i32_664 : BitVec 32 := 2#32
  let c0_i32_665 : BitVec 32 := 0#32
  let v1160 : BitVec 1 := Scalar.cmpi .eq c2_i32_664 c0_i32_665
  let c1_i32_666 : BitVec 32 := 1#32
  let v1161 : BitVec 32 := Scalar.select v1160 c1_i32_666 c2_i32_664
  let v1162 : BitVec 32 := Scalar.remsi v1159 v1161
  let c0_i32_668 : BitVec 32 := 0#32
  let v1164 : BitVec 1 := Scalar.cmpi .slt v1162 c0_i32_668
  let c0_i32_669 : BitVec 32 := 0#32
  let v1165 : BitVec 1 := Scalar.cmpi .slt v1161 c0_i32_669
  let v1166 : BitVec 1 := Scalar.xori v1164 v1165
  let c0_i32_667 : BitVec 32 := 0#32
  let v1163 : BitVec 1 := Scalar.cmpi .ne v1162 c0_i32_667
  let v1167 : BitVec 1 := Scalar.andi v1166 v1163
  let v1168 : BitVec 32 := Scalar.addi v1162 v1161
  let v1169 : BitVec 32 := Scalar.select v1167 v1168 v1162
  ![v1169.toNat]
def k0_off225 (i : grid0.Coords) : Fin 3 → Nat :=
  let arg0 : BitVec 32 := BitVec.ofNat 32 (i 0).val
  let c1_i32_663 : BitVec 32 := 1#32
  let v1159 : BitVec 32 := Scalar.addi arg0 c1_i32_663
  let c2_i32_664 : BitVec 32 := 2#32
  let c0_i32_665 : BitVec 32 := 0#32
  let v1160 : BitVec 1 := Scalar.cmpi .eq c2_i32_664 c0_i32_665
  let c1_i32_666 : BitVec 32 := 1#32
  let v1161 : BitVec 32 := Scalar.select v1160 c1_i32_666 c2_i32_664
  let v1162 : BitVec 32 := Scalar.remsi v1159 v1161
  let c0_i32_668 : BitVec 32 := 0#32
  let v1164 : BitVec 1 := Scalar.cmpi .slt v1162 c0_i32_668
  let c0_i32_669 : BitVec 32 := 0#32
  let v1165 : BitVec 1 := Scalar.cmpi .slt v1161 c0_i32_669
  let v1166 : BitVec 1 := Scalar.xori v1164 v1165
  let c0_i32_667 : BitVec 32 := 0#32
  let v1163 : BitVec 1 := Scalar.cmpi .ne v1162 c0_i32_667
  let v1167 : BitVec 1 := Scalar.andi v1166 v1163
  let v1168 : BitVec 32 := Scalar.addi v1162 v1161
  let v1169 : BitVec 32 := Scalar.select v1167 v1168 v1162
  let c54_i32_671 : BitVec 32 := 54#32
  let c0_i32_672 : BitVec 32 := 0#32
  ![v1169.toNat, 54, 0]
def k0_off226 (v1173 : BitVec 32) : Fin 2 → Nat :=
  let c0_i32_673 : BitVec 32 := 0#32
  ![v1173.toNat, 0]

def k0_chk57 (i : grid0.Coords) (v0 : BitVec 32) (v1173 : BitVec 32) : Prop :=
  (∀ (k0_h2 : k0_cond2 i v0 = 1#1), ∀ a, (k0_off226 v1173) a + S1x4096.size a ≤ S16896x4096.size a)
theorem k0_off226_inb : ∀ (i : grid0.Coords) (v0 : BitVec 32) (v1173 : BitVec 32) (k0_hw57 : k0_chk57 i v0 v1173), ∀ (k0_h2 : k0_cond2 i v0 = 1#1), ∀ a, (k0_off226 v1173) a + S1x4096.size a ≤ S16896x4096.size a := fun i v0 v1173 k0_hw57 k0_h2 => k0_hw57 k0_h2

def k0_off227 (i : grid0.Coords) : Fin 1 → Nat :=
  let arg0 : BitVec 32 := BitVec.ofNat 32 (i 0).val
  let c1_i32_674 : BitVec 32 := 1#32
  let v1179 : BitVec 32 := Scalar.addi arg0 c1_i32_674
  let c256_i32_682 : BitVec 32 := 256#32
  let v1191 : BitVec 32 := Scalar.muli v1179 c256_i32_682
  let c55_i32 : BitVec 32 := 55#32
  let v1192 : BitVec 32 := Scalar.addi v1191 c55_i32
  let v1193 : Index := Scalar.indexCast v1192
  ![v1193.toNat]
def k0_off228 (i : grid0.Coords) : Fin 1 → Nat :=
  let arg0 : BitVec 32 := BitVec.ofNat 32 (i 0).val
  let c1_i32_675 : BitVec 32 := 1#32
  let v1180 : BitVec 32 := Scalar.addi arg0 c1_i32_675
  let c2_i32_676 : BitVec 32 := 2#32
  let c0_i32_677 : BitVec 32 := 0#32
  let v1181 : BitVec 1 := Scalar.cmpi .eq c2_i32_676 c0_i32_677
  let c1_i32_678 : BitVec 32 := 1#32
  let v1182 : BitVec 32 := Scalar.select v1181 c1_i32_678 c2_i32_676
  let v1183 : BitVec 32 := Scalar.remsi v1180 v1182
  let c0_i32_680 : BitVec 32 := 0#32
  let v1185 : BitVec 1 := Scalar.cmpi .slt v1183 c0_i32_680
  let c0_i32_681 : BitVec 32 := 0#32
  let v1186 : BitVec 1 := Scalar.cmpi .slt v1182 c0_i32_681
  let v1187 : BitVec 1 := Scalar.xori v1185 v1186
  let c0_i32_679 : BitVec 32 := 0#32
  let v1184 : BitVec 1 := Scalar.cmpi .ne v1183 c0_i32_679
  let v1188 : BitVec 1 := Scalar.andi v1187 v1184
  let v1189 : BitVec 32 := Scalar.addi v1183 v1182
  let v1190 : BitVec 32 := Scalar.select v1188 v1189 v1183
  ![v1190.toNat]
def k0_off229 (i : grid0.Coords) : Fin 3 → Nat :=
  let arg0 : BitVec 32 := BitVec.ofNat 32 (i 0).val
  let c1_i32_675 : BitVec 32 := 1#32
  let v1180 : BitVec 32 := Scalar.addi arg0 c1_i32_675
  let c2_i32_676 : BitVec 32 := 2#32
  let c0_i32_677 : BitVec 32 := 0#32
  let v1181 : BitVec 1 := Scalar.cmpi .eq c2_i32_676 c0_i32_677
  let c1_i32_678 : BitVec 32 := 1#32
  let v1182 : BitVec 32 := Scalar.select v1181 c1_i32_678 c2_i32_676
  let v1183 : BitVec 32 := Scalar.remsi v1180 v1182
  let c0_i32_680 : BitVec 32 := 0#32
  let v1185 : BitVec 1 := Scalar.cmpi .slt v1183 c0_i32_680
  let c0_i32_681 : BitVec 32 := 0#32
  let v1186 : BitVec 1 := Scalar.cmpi .slt v1182 c0_i32_681
  let v1187 : BitVec 1 := Scalar.xori v1185 v1186
  let c0_i32_679 : BitVec 32 := 0#32
  let v1184 : BitVec 1 := Scalar.cmpi .ne v1183 c0_i32_679
  let v1188 : BitVec 1 := Scalar.andi v1187 v1184
  let v1189 : BitVec 32 := Scalar.addi v1183 v1182
  let v1190 : BitVec 32 := Scalar.select v1188 v1189 v1183
  let c55_i32_683 : BitVec 32 := 55#32
  let c0_i32_684 : BitVec 32 := 0#32
  ![v1190.toNat, 55, 0]
def k0_off230 (v1194 : BitVec 32) : Fin 2 → Nat :=
  let c0_i32_685 : BitVec 32 := 0#32
  ![v1194.toNat, 0]

def k0_chk58 (i : grid0.Coords) (v0 : BitVec 32) (v1194 : BitVec 32) : Prop :=
  (∀ (k0_h2 : k0_cond2 i v0 = 1#1), ∀ a, (k0_off230 v1194) a + S1x4096.size a ≤ S16896x4096.size a)
theorem k0_off230_inb : ∀ (i : grid0.Coords) (v0 : BitVec 32) (v1194 : BitVec 32) (k0_hw58 : k0_chk58 i v0 v1194), ∀ (k0_h2 : k0_cond2 i v0 = 1#1), ∀ a, (k0_off230 v1194) a + S1x4096.size a ≤ S16896x4096.size a := fun i v0 v1194 k0_hw58 k0_h2 => k0_hw58 k0_h2

def k0_off231 (i : grid0.Coords) : Fin 1 → Nat :=
  let arg0 : BitVec 32 := BitVec.ofNat 32 (i 0).val
  let c1_i32_686 : BitVec 32 := 1#32
  let v1200 : BitVec 32 := Scalar.addi arg0 c1_i32_686
  let c256_i32_694 : BitVec 32 := 256#32
  let v1212 : BitVec 32 := Scalar.muli v1200 c256_i32_694
  let c56_i32 : BitVec 32 := 56#32
  let v1213 : BitVec 32 := Scalar.addi v1212 c56_i32
  let v1214 : Index := Scalar.indexCast v1213
  ![v1214.toNat]
def k0_off232 (i : grid0.Coords) : Fin 1 → Nat :=
  let arg0 : BitVec 32 := BitVec.ofNat 32 (i 0).val
  let c1_i32_687 : BitVec 32 := 1#32
  let v1201 : BitVec 32 := Scalar.addi arg0 c1_i32_687
  let c2_i32_688 : BitVec 32 := 2#32
  let c0_i32_689 : BitVec 32 := 0#32
  let v1202 : BitVec 1 := Scalar.cmpi .eq c2_i32_688 c0_i32_689
  let c1_i32_690 : BitVec 32 := 1#32
  let v1203 : BitVec 32 := Scalar.select v1202 c1_i32_690 c2_i32_688
  let v1204 : BitVec 32 := Scalar.remsi v1201 v1203
  let c0_i32_692 : BitVec 32 := 0#32
  let v1206 : BitVec 1 := Scalar.cmpi .slt v1204 c0_i32_692
  let c0_i32_693 : BitVec 32 := 0#32
  let v1207 : BitVec 1 := Scalar.cmpi .slt v1203 c0_i32_693
  let v1208 : BitVec 1 := Scalar.xori v1206 v1207
  let c0_i32_691 : BitVec 32 := 0#32
  let v1205 : BitVec 1 := Scalar.cmpi .ne v1204 c0_i32_691
  let v1209 : BitVec 1 := Scalar.andi v1208 v1205
  let v1210 : BitVec 32 := Scalar.addi v1204 v1203
  let v1211 : BitVec 32 := Scalar.select v1209 v1210 v1204
  ![v1211.toNat]
def k0_off233 (i : grid0.Coords) : Fin 3 → Nat :=
  let arg0 : BitVec 32 := BitVec.ofNat 32 (i 0).val
  let c1_i32_687 : BitVec 32 := 1#32
  let v1201 : BitVec 32 := Scalar.addi arg0 c1_i32_687
  let c2_i32_688 : BitVec 32 := 2#32
  let c0_i32_689 : BitVec 32 := 0#32
  let v1202 : BitVec 1 := Scalar.cmpi .eq c2_i32_688 c0_i32_689
  let c1_i32_690 : BitVec 32 := 1#32
  let v1203 : BitVec 32 := Scalar.select v1202 c1_i32_690 c2_i32_688
  let v1204 : BitVec 32 := Scalar.remsi v1201 v1203
  let c0_i32_692 : BitVec 32 := 0#32
  let v1206 : BitVec 1 := Scalar.cmpi .slt v1204 c0_i32_692
  let c0_i32_693 : BitVec 32 := 0#32
  let v1207 : BitVec 1 := Scalar.cmpi .slt v1203 c0_i32_693
  let v1208 : BitVec 1 := Scalar.xori v1206 v1207
  let c0_i32_691 : BitVec 32 := 0#32
  let v1205 : BitVec 1 := Scalar.cmpi .ne v1204 c0_i32_691
  let v1209 : BitVec 1 := Scalar.andi v1208 v1205
  let v1210 : BitVec 32 := Scalar.addi v1204 v1203
  let v1211 : BitVec 32 := Scalar.select v1209 v1210 v1204
  let c56_i32_695 : BitVec 32 := 56#32
  let c0_i32_696 : BitVec 32 := 0#32
  ![v1211.toNat, 56, 0]
def k0_off234 (v1215 : BitVec 32) : Fin 2 → Nat :=
  let c0_i32_697 : BitVec 32 := 0#32
  ![v1215.toNat, 0]

def k0_chk59 (i : grid0.Coords) (v0 : BitVec 32) (v1215 : BitVec 32) : Prop :=
  (∀ (k0_h2 : k0_cond2 i v0 = 1#1), ∀ a, (k0_off234 v1215) a + S1x4096.size a ≤ S16896x4096.size a)
theorem k0_off234_inb : ∀ (i : grid0.Coords) (v0 : BitVec 32) (v1215 : BitVec 32) (k0_hw59 : k0_chk59 i v0 v1215), ∀ (k0_h2 : k0_cond2 i v0 = 1#1), ∀ a, (k0_off234 v1215) a + S1x4096.size a ≤ S16896x4096.size a := fun i v0 v1215 k0_hw59 k0_h2 => k0_hw59 k0_h2

def k0_off235 (i : grid0.Coords) : Fin 1 → Nat :=
  let arg0 : BitVec 32 := BitVec.ofNat 32 (i 0).val
  let c1_i32_698 : BitVec 32 := 1#32
  let v1221 : BitVec 32 := Scalar.addi arg0 c1_i32_698
  let c256_i32_706 : BitVec 32 := 256#32
  let v1233 : BitVec 32 := Scalar.muli v1221 c256_i32_706
  let c57_i32 : BitVec 32 := 57#32
  let v1234 : BitVec 32 := Scalar.addi v1233 c57_i32
  let v1235 : Index := Scalar.indexCast v1234
  ![v1235.toNat]
def k0_off236 (i : grid0.Coords) : Fin 1 → Nat :=
  let arg0 : BitVec 32 := BitVec.ofNat 32 (i 0).val
  let c1_i32_699 : BitVec 32 := 1#32
  let v1222 : BitVec 32 := Scalar.addi arg0 c1_i32_699
  let c2_i32_700 : BitVec 32 := 2#32
  let c0_i32_701 : BitVec 32 := 0#32
  let v1223 : BitVec 1 := Scalar.cmpi .eq c2_i32_700 c0_i32_701
  let c1_i32_702 : BitVec 32 := 1#32
  let v1224 : BitVec 32 := Scalar.select v1223 c1_i32_702 c2_i32_700
  let v1225 : BitVec 32 := Scalar.remsi v1222 v1224
  let c0_i32_704 : BitVec 32 := 0#32
  let v1227 : BitVec 1 := Scalar.cmpi .slt v1225 c0_i32_704
  let c0_i32_705 : BitVec 32 := 0#32
  let v1228 : BitVec 1 := Scalar.cmpi .slt v1224 c0_i32_705
  let v1229 : BitVec 1 := Scalar.xori v1227 v1228
  let c0_i32_703 : BitVec 32 := 0#32
  let v1226 : BitVec 1 := Scalar.cmpi .ne v1225 c0_i32_703
  let v1230 : BitVec 1 := Scalar.andi v1229 v1226
  let v1231 : BitVec 32 := Scalar.addi v1225 v1224
  let v1232 : BitVec 32 := Scalar.select v1230 v1231 v1225
  ![v1232.toNat]
def k0_off237 (i : grid0.Coords) : Fin 3 → Nat :=
  let arg0 : BitVec 32 := BitVec.ofNat 32 (i 0).val
  let c1_i32_699 : BitVec 32 := 1#32
  let v1222 : BitVec 32 := Scalar.addi arg0 c1_i32_699
  let c2_i32_700 : BitVec 32 := 2#32
  let c0_i32_701 : BitVec 32 := 0#32
  let v1223 : BitVec 1 := Scalar.cmpi .eq c2_i32_700 c0_i32_701
  let c1_i32_702 : BitVec 32 := 1#32
  let v1224 : BitVec 32 := Scalar.select v1223 c1_i32_702 c2_i32_700
  let v1225 : BitVec 32 := Scalar.remsi v1222 v1224
  let c0_i32_704 : BitVec 32 := 0#32
  let v1227 : BitVec 1 := Scalar.cmpi .slt v1225 c0_i32_704
  let c0_i32_705 : BitVec 32 := 0#32
  let v1228 : BitVec 1 := Scalar.cmpi .slt v1224 c0_i32_705
  let v1229 : BitVec 1 := Scalar.xori v1227 v1228
  let c0_i32_703 : BitVec 32 := 0#32
  let v1226 : BitVec 1 := Scalar.cmpi .ne v1225 c0_i32_703
  let v1230 : BitVec 1 := Scalar.andi v1229 v1226
  let v1231 : BitVec 32 := Scalar.addi v1225 v1224
  let v1232 : BitVec 32 := Scalar.select v1230 v1231 v1225
  let c57_i32_707 : BitVec 32 := 57#32
  let c0_i32_708 : BitVec 32 := 0#32
  ![v1232.toNat, 57, 0]
def k0_off238 (v1236 : BitVec 32) : Fin 2 → Nat :=
  let c0_i32_709 : BitVec 32 := 0#32
  ![v1236.toNat, 0]

def k0_chk60 (i : grid0.Coords) (v0 : BitVec 32) (v1236 : BitVec 32) : Prop :=
  (∀ (k0_h2 : k0_cond2 i v0 = 1#1), ∀ a, (k0_off238 v1236) a + S1x4096.size a ≤ S16896x4096.size a)
theorem k0_off238_inb : ∀ (i : grid0.Coords) (v0 : BitVec 32) (v1236 : BitVec 32) (k0_hw60 : k0_chk60 i v0 v1236), ∀ (k0_h2 : k0_cond2 i v0 = 1#1), ∀ a, (k0_off238 v1236) a + S1x4096.size a ≤ S16896x4096.size a := fun i v0 v1236 k0_hw60 k0_h2 => k0_hw60 k0_h2

def k0_off239 (i : grid0.Coords) : Fin 1 → Nat :=
  let arg0 : BitVec 32 := BitVec.ofNat 32 (i 0).val
  let c1_i32_710 : BitVec 32 := 1#32
  let v1242 : BitVec 32 := Scalar.addi arg0 c1_i32_710
  let c256_i32_718 : BitVec 32 := 256#32
  let v1254 : BitVec 32 := Scalar.muli v1242 c256_i32_718
  let c58_i32 : BitVec 32 := 58#32
  let v1255 : BitVec 32 := Scalar.addi v1254 c58_i32
  let v1256 : Index := Scalar.indexCast v1255
  ![v1256.toNat]
def k0_off240 (i : grid0.Coords) : Fin 1 → Nat :=
  let arg0 : BitVec 32 := BitVec.ofNat 32 (i 0).val
  let c1_i32_711 : BitVec 32 := 1#32
  let v1243 : BitVec 32 := Scalar.addi arg0 c1_i32_711
  let c2_i32_712 : BitVec 32 := 2#32
  let c0_i32_713 : BitVec 32 := 0#32
  let v1244 : BitVec 1 := Scalar.cmpi .eq c2_i32_712 c0_i32_713
  let c1_i32_714 : BitVec 32 := 1#32
  let v1245 : BitVec 32 := Scalar.select v1244 c1_i32_714 c2_i32_712
  let v1246 : BitVec 32 := Scalar.remsi v1243 v1245
  let c0_i32_716 : BitVec 32 := 0#32
  let v1248 : BitVec 1 := Scalar.cmpi .slt v1246 c0_i32_716
  let c0_i32_717 : BitVec 32 := 0#32
  let v1249 : BitVec 1 := Scalar.cmpi .slt v1245 c0_i32_717
  let v1250 : BitVec 1 := Scalar.xori v1248 v1249
  let c0_i32_715 : BitVec 32 := 0#32
  let v1247 : BitVec 1 := Scalar.cmpi .ne v1246 c0_i32_715
  let v1251 : BitVec 1 := Scalar.andi v1250 v1247
  let v1252 : BitVec 32 := Scalar.addi v1246 v1245
  let v1253 : BitVec 32 := Scalar.select v1251 v1252 v1246
  ![v1253.toNat]
def k0_off241 (i : grid0.Coords) : Fin 3 → Nat :=
  let arg0 : BitVec 32 := BitVec.ofNat 32 (i 0).val
  let c1_i32_711 : BitVec 32 := 1#32
  let v1243 : BitVec 32 := Scalar.addi arg0 c1_i32_711
  let c2_i32_712 : BitVec 32 := 2#32
  let c0_i32_713 : BitVec 32 := 0#32
  let v1244 : BitVec 1 := Scalar.cmpi .eq c2_i32_712 c0_i32_713
  let c1_i32_714 : BitVec 32 := 1#32
  let v1245 : BitVec 32 := Scalar.select v1244 c1_i32_714 c2_i32_712
  let v1246 : BitVec 32 := Scalar.remsi v1243 v1245
  let c0_i32_716 : BitVec 32 := 0#32
  let v1248 : BitVec 1 := Scalar.cmpi .slt v1246 c0_i32_716
  let c0_i32_717 : BitVec 32 := 0#32
  let v1249 : BitVec 1 := Scalar.cmpi .slt v1245 c0_i32_717
  let v1250 : BitVec 1 := Scalar.xori v1248 v1249
  let c0_i32_715 : BitVec 32 := 0#32
  let v1247 : BitVec 1 := Scalar.cmpi .ne v1246 c0_i32_715
  let v1251 : BitVec 1 := Scalar.andi v1250 v1247
  let v1252 : BitVec 32 := Scalar.addi v1246 v1245
  let v1253 : BitVec 32 := Scalar.select v1251 v1252 v1246
  let c58_i32_719 : BitVec 32 := 58#32
  let c0_i32_720 : BitVec 32 := 0#32
  ![v1253.toNat, 58, 0]
def k0_off242 (v1257 : BitVec 32) : Fin 2 → Nat :=
  let c0_i32_721 : BitVec 32 := 0#32
  ![v1257.toNat, 0]

def k0_chk61 (i : grid0.Coords) (v0 : BitVec 32) (v1257 : BitVec 32) : Prop :=
  (∀ (k0_h2 : k0_cond2 i v0 = 1#1), ∀ a, (k0_off242 v1257) a + S1x4096.size a ≤ S16896x4096.size a)
theorem k0_off242_inb : ∀ (i : grid0.Coords) (v0 : BitVec 32) (v1257 : BitVec 32) (k0_hw61 : k0_chk61 i v0 v1257), ∀ (k0_h2 : k0_cond2 i v0 = 1#1), ∀ a, (k0_off242 v1257) a + S1x4096.size a ≤ S16896x4096.size a := fun i v0 v1257 k0_hw61 k0_h2 => k0_hw61 k0_h2

def k0_off243 (i : grid0.Coords) : Fin 1 → Nat :=
  let arg0 : BitVec 32 := BitVec.ofNat 32 (i 0).val
  let c1_i32_722 : BitVec 32 := 1#32
  let v1263 : BitVec 32 := Scalar.addi arg0 c1_i32_722
  let c256_i32_730 : BitVec 32 := 256#32
  let v1275 : BitVec 32 := Scalar.muli v1263 c256_i32_730
  let c59_i32 : BitVec 32 := 59#32
  let v1276 : BitVec 32 := Scalar.addi v1275 c59_i32
  let v1277 : Index := Scalar.indexCast v1276
  ![v1277.toNat]
def k0_off244 (i : grid0.Coords) : Fin 1 → Nat :=
  let arg0 : BitVec 32 := BitVec.ofNat 32 (i 0).val
  let c1_i32_723 : BitVec 32 := 1#32
  let v1264 : BitVec 32 := Scalar.addi arg0 c1_i32_723
  let c2_i32_724 : BitVec 32 := 2#32
  let c0_i32_725 : BitVec 32 := 0#32
  let v1265 : BitVec 1 := Scalar.cmpi .eq c2_i32_724 c0_i32_725
  let c1_i32_726 : BitVec 32 := 1#32
  let v1266 : BitVec 32 := Scalar.select v1265 c1_i32_726 c2_i32_724
  let v1267 : BitVec 32 := Scalar.remsi v1264 v1266
  let c0_i32_728 : BitVec 32 := 0#32
  let v1269 : BitVec 1 := Scalar.cmpi .slt v1267 c0_i32_728
  let c0_i32_729 : BitVec 32 := 0#32
  let v1270 : BitVec 1 := Scalar.cmpi .slt v1266 c0_i32_729
  let v1271 : BitVec 1 := Scalar.xori v1269 v1270
  let c0_i32_727 : BitVec 32 := 0#32
  let v1268 : BitVec 1 := Scalar.cmpi .ne v1267 c0_i32_727
  let v1272 : BitVec 1 := Scalar.andi v1271 v1268
  let v1273 : BitVec 32 := Scalar.addi v1267 v1266
  let v1274 : BitVec 32 := Scalar.select v1272 v1273 v1267
  ![v1274.toNat]
def k0_off245 (i : grid0.Coords) : Fin 3 → Nat :=
  let arg0 : BitVec 32 := BitVec.ofNat 32 (i 0).val
  let c1_i32_723 : BitVec 32 := 1#32
  let v1264 : BitVec 32 := Scalar.addi arg0 c1_i32_723
  let c2_i32_724 : BitVec 32 := 2#32
  let c0_i32_725 : BitVec 32 := 0#32
  let v1265 : BitVec 1 := Scalar.cmpi .eq c2_i32_724 c0_i32_725
  let c1_i32_726 : BitVec 32 := 1#32
  let v1266 : BitVec 32 := Scalar.select v1265 c1_i32_726 c2_i32_724
  let v1267 : BitVec 32 := Scalar.remsi v1264 v1266
  let c0_i32_728 : BitVec 32 := 0#32
  let v1269 : BitVec 1 := Scalar.cmpi .slt v1267 c0_i32_728
  let c0_i32_729 : BitVec 32 := 0#32
  let v1270 : BitVec 1 := Scalar.cmpi .slt v1266 c0_i32_729
  let v1271 : BitVec 1 := Scalar.xori v1269 v1270
  let c0_i32_727 : BitVec 32 := 0#32
  let v1268 : BitVec 1 := Scalar.cmpi .ne v1267 c0_i32_727
  let v1272 : BitVec 1 := Scalar.andi v1271 v1268
  let v1273 : BitVec 32 := Scalar.addi v1267 v1266
  let v1274 : BitVec 32 := Scalar.select v1272 v1273 v1267
  let c59_i32_731 : BitVec 32 := 59#32
  let c0_i32_732 : BitVec 32 := 0#32
  ![v1274.toNat, 59, 0]
def k0_off246 (v1278 : BitVec 32) : Fin 2 → Nat :=
  let c0_i32_733 : BitVec 32 := 0#32
  ![v1278.toNat, 0]

def k0_chk62 (i : grid0.Coords) (v0 : BitVec 32) (v1278 : BitVec 32) : Prop :=
  (∀ (k0_h2 : k0_cond2 i v0 = 1#1), ∀ a, (k0_off246 v1278) a + S1x4096.size a ≤ S16896x4096.size a)
theorem k0_off246_inb : ∀ (i : grid0.Coords) (v0 : BitVec 32) (v1278 : BitVec 32) (k0_hw62 : k0_chk62 i v0 v1278), ∀ (k0_h2 : k0_cond2 i v0 = 1#1), ∀ a, (k0_off246 v1278) a + S1x4096.size a ≤ S16896x4096.size a := fun i v0 v1278 k0_hw62 k0_h2 => k0_hw62 k0_h2

def k0_off247 (i : grid0.Coords) : Fin 1 → Nat :=
  let arg0 : BitVec 32 := BitVec.ofNat 32 (i 0).val
  let c1_i32_734 : BitVec 32 := 1#32
  let v1284 : BitVec 32 := Scalar.addi arg0 c1_i32_734
  let c256_i32_742 : BitVec 32 := 256#32
  let v1296 : BitVec 32 := Scalar.muli v1284 c256_i32_742
  let c60_i32 : BitVec 32 := 60#32
  let v1297 : BitVec 32 := Scalar.addi v1296 c60_i32
  let v1298 : Index := Scalar.indexCast v1297
  ![v1298.toNat]
def k0_off248 (i : grid0.Coords) : Fin 1 → Nat :=
  let arg0 : BitVec 32 := BitVec.ofNat 32 (i 0).val
  let c1_i32_735 : BitVec 32 := 1#32
  let v1285 : BitVec 32 := Scalar.addi arg0 c1_i32_735
  let c2_i32_736 : BitVec 32 := 2#32
  let c0_i32_737 : BitVec 32 := 0#32
  let v1286 : BitVec 1 := Scalar.cmpi .eq c2_i32_736 c0_i32_737
  let c1_i32_738 : BitVec 32 := 1#32
  let v1287 : BitVec 32 := Scalar.select v1286 c1_i32_738 c2_i32_736
  let v1288 : BitVec 32 := Scalar.remsi v1285 v1287
  let c0_i32_740 : BitVec 32 := 0#32
  let v1290 : BitVec 1 := Scalar.cmpi .slt v1288 c0_i32_740
  let c0_i32_741 : BitVec 32 := 0#32
  let v1291 : BitVec 1 := Scalar.cmpi .slt v1287 c0_i32_741
  let v1292 : BitVec 1 := Scalar.xori v1290 v1291
  let c0_i32_739 : BitVec 32 := 0#32
  let v1289 : BitVec 1 := Scalar.cmpi .ne v1288 c0_i32_739
  let v1293 : BitVec 1 := Scalar.andi v1292 v1289
  let v1294 : BitVec 32 := Scalar.addi v1288 v1287
  let v1295 : BitVec 32 := Scalar.select v1293 v1294 v1288
  ![v1295.toNat]
def k0_off249 (i : grid0.Coords) : Fin 3 → Nat :=
  let arg0 : BitVec 32 := BitVec.ofNat 32 (i 0).val
  let c1_i32_735 : BitVec 32 := 1#32
  let v1285 : BitVec 32 := Scalar.addi arg0 c1_i32_735
  let c2_i32_736 : BitVec 32 := 2#32
  let c0_i32_737 : BitVec 32 := 0#32
  let v1286 : BitVec 1 := Scalar.cmpi .eq c2_i32_736 c0_i32_737
  let c1_i32_738 : BitVec 32 := 1#32
  let v1287 : BitVec 32 := Scalar.select v1286 c1_i32_738 c2_i32_736
  let v1288 : BitVec 32 := Scalar.remsi v1285 v1287
  let c0_i32_740 : BitVec 32 := 0#32
  let v1290 : BitVec 1 := Scalar.cmpi .slt v1288 c0_i32_740
  let c0_i32_741 : BitVec 32 := 0#32
  let v1291 : BitVec 1 := Scalar.cmpi .slt v1287 c0_i32_741
  let v1292 : BitVec 1 := Scalar.xori v1290 v1291
  let c0_i32_739 : BitVec 32 := 0#32
  let v1289 : BitVec 1 := Scalar.cmpi .ne v1288 c0_i32_739
  let v1293 : BitVec 1 := Scalar.andi v1292 v1289
  let v1294 : BitVec 32 := Scalar.addi v1288 v1287
  let v1295 : BitVec 32 := Scalar.select v1293 v1294 v1288
  let c60_i32_743 : BitVec 32 := 60#32
  let c0_i32_744 : BitVec 32 := 0#32
  ![v1295.toNat, 60, 0]
def k0_off250 (v1299 : BitVec 32) : Fin 2 → Nat :=
  let c0_i32_745 : BitVec 32 := 0#32
  ![v1299.toNat, 0]

def k0_chk63 (i : grid0.Coords) (v0 : BitVec 32) (v1299 : BitVec 32) : Prop :=
  (∀ (k0_h2 : k0_cond2 i v0 = 1#1), ∀ a, (k0_off250 v1299) a + S1x4096.size a ≤ S16896x4096.size a)
theorem k0_off250_inb : ∀ (i : grid0.Coords) (v0 : BitVec 32) (v1299 : BitVec 32) (k0_hw63 : k0_chk63 i v0 v1299), ∀ (k0_h2 : k0_cond2 i v0 = 1#1), ∀ a, (k0_off250 v1299) a + S1x4096.size a ≤ S16896x4096.size a := fun i v0 v1299 k0_hw63 k0_h2 => k0_hw63 k0_h2

def k0_off251 (i : grid0.Coords) : Fin 1 → Nat :=
  let arg0 : BitVec 32 := BitVec.ofNat 32 (i 0).val
  let c1_i32_746 : BitVec 32 := 1#32
  let v1305 : BitVec 32 := Scalar.addi arg0 c1_i32_746
  let c256_i32_754 : BitVec 32 := 256#32
  let v1317 : BitVec 32 := Scalar.muli v1305 c256_i32_754
  let c61_i32 : BitVec 32 := 61#32
  let v1318 : BitVec 32 := Scalar.addi v1317 c61_i32
  let v1319 : Index := Scalar.indexCast v1318
  ![v1319.toNat]
def k0_off252 (i : grid0.Coords) : Fin 1 → Nat :=
  let arg0 : BitVec 32 := BitVec.ofNat 32 (i 0).val
  let c1_i32_747 : BitVec 32 := 1#32
  let v1306 : BitVec 32 := Scalar.addi arg0 c1_i32_747
  let c2_i32_748 : BitVec 32 := 2#32
  let c0_i32_749 : BitVec 32 := 0#32
  let v1307 : BitVec 1 := Scalar.cmpi .eq c2_i32_748 c0_i32_749
  let c1_i32_750 : BitVec 32 := 1#32
  let v1308 : BitVec 32 := Scalar.select v1307 c1_i32_750 c2_i32_748
  let v1309 : BitVec 32 := Scalar.remsi v1306 v1308
  let c0_i32_752 : BitVec 32 := 0#32
  let v1311 : BitVec 1 := Scalar.cmpi .slt v1309 c0_i32_752
  let c0_i32_753 : BitVec 32 := 0#32
  let v1312 : BitVec 1 := Scalar.cmpi .slt v1308 c0_i32_753
  let v1313 : BitVec 1 := Scalar.xori v1311 v1312
  let c0_i32_751 : BitVec 32 := 0#32
  let v1310 : BitVec 1 := Scalar.cmpi .ne v1309 c0_i32_751
  let v1314 : BitVec 1 := Scalar.andi v1313 v1310
  let v1315 : BitVec 32 := Scalar.addi v1309 v1308
  let v1316 : BitVec 32 := Scalar.select v1314 v1315 v1309
  ![v1316.toNat]
def k0_off253 (i : grid0.Coords) : Fin 3 → Nat :=
  let arg0 : BitVec 32 := BitVec.ofNat 32 (i 0).val
  let c1_i32_747 : BitVec 32 := 1#32
  let v1306 : BitVec 32 := Scalar.addi arg0 c1_i32_747
  let c2_i32_748 : BitVec 32 := 2#32
  let c0_i32_749 : BitVec 32 := 0#32
  let v1307 : BitVec 1 := Scalar.cmpi .eq c2_i32_748 c0_i32_749
  let c1_i32_750 : BitVec 32 := 1#32
  let v1308 : BitVec 32 := Scalar.select v1307 c1_i32_750 c2_i32_748
  let v1309 : BitVec 32 := Scalar.remsi v1306 v1308
  let c0_i32_752 : BitVec 32 := 0#32
  let v1311 : BitVec 1 := Scalar.cmpi .slt v1309 c0_i32_752
  let c0_i32_753 : BitVec 32 := 0#32
  let v1312 : BitVec 1 := Scalar.cmpi .slt v1308 c0_i32_753
  let v1313 : BitVec 1 := Scalar.xori v1311 v1312
  let c0_i32_751 : BitVec 32 := 0#32
  let v1310 : BitVec 1 := Scalar.cmpi .ne v1309 c0_i32_751
  let v1314 : BitVec 1 := Scalar.andi v1313 v1310
  let v1315 : BitVec 32 := Scalar.addi v1309 v1308
  let v1316 : BitVec 32 := Scalar.select v1314 v1315 v1309
  let c61_i32_755 : BitVec 32 := 61#32
  let c0_i32_756 : BitVec 32 := 0#32
  ![v1316.toNat, 61, 0]
def k0_off254 (v1320 : BitVec 32) : Fin 2 → Nat :=
  let c0_i32_757 : BitVec 32 := 0#32
  ![v1320.toNat, 0]

def k0_chk64 (i : grid0.Coords) (v0 : BitVec 32) (v1320 : BitVec 32) : Prop :=
  (∀ (k0_h2 : k0_cond2 i v0 = 1#1), ∀ a, (k0_off254 v1320) a + S1x4096.size a ≤ S16896x4096.size a)
theorem k0_off254_inb : ∀ (i : grid0.Coords) (v0 : BitVec 32) (v1320 : BitVec 32) (k0_hw64 : k0_chk64 i v0 v1320), ∀ (k0_h2 : k0_cond2 i v0 = 1#1), ∀ a, (k0_off254 v1320) a + S1x4096.size a ≤ S16896x4096.size a := fun i v0 v1320 k0_hw64 k0_h2 => k0_hw64 k0_h2

def k0_off255 (i : grid0.Coords) : Fin 1 → Nat :=
  let arg0 : BitVec 32 := BitVec.ofNat 32 (i 0).val
  let c1_i32_758 : BitVec 32 := 1#32
  let v1326 : BitVec 32 := Scalar.addi arg0 c1_i32_758
  let c256_i32_766 : BitVec 32 := 256#32
  let v1338 : BitVec 32 := Scalar.muli v1326 c256_i32_766
  let c62_i32 : BitVec 32 := 62#32
  let v1339 : BitVec 32 := Scalar.addi v1338 c62_i32
  let v1340 : Index := Scalar.indexCast v1339
  ![v1340.toNat]
def k0_off256 (i : grid0.Coords) : Fin 1 → Nat :=
  let arg0 : BitVec 32 := BitVec.ofNat 32 (i 0).val
  let c1_i32_759 : BitVec 32 := 1#32
  let v1327 : BitVec 32 := Scalar.addi arg0 c1_i32_759
  let c2_i32_760 : BitVec 32 := 2#32
  let c0_i32_761 : BitVec 32 := 0#32
  let v1328 : BitVec 1 := Scalar.cmpi .eq c2_i32_760 c0_i32_761
  let c1_i32_762 : BitVec 32 := 1#32
  let v1329 : BitVec 32 := Scalar.select v1328 c1_i32_762 c2_i32_760
  let v1330 : BitVec 32 := Scalar.remsi v1327 v1329
  let c0_i32_764 : BitVec 32 := 0#32
  let v1332 : BitVec 1 := Scalar.cmpi .slt v1330 c0_i32_764
  let c0_i32_765 : BitVec 32 := 0#32
  let v1333 : BitVec 1 := Scalar.cmpi .slt v1329 c0_i32_765
  let v1334 : BitVec 1 := Scalar.xori v1332 v1333
  let c0_i32_763 : BitVec 32 := 0#32
  let v1331 : BitVec 1 := Scalar.cmpi .ne v1330 c0_i32_763
  let v1335 : BitVec 1 := Scalar.andi v1334 v1331
  let v1336 : BitVec 32 := Scalar.addi v1330 v1329
  let v1337 : BitVec 32 := Scalar.select v1335 v1336 v1330
  ![v1337.toNat]
def k0_off257 (i : grid0.Coords) : Fin 3 → Nat :=
  let arg0 : BitVec 32 := BitVec.ofNat 32 (i 0).val
  let c1_i32_759 : BitVec 32 := 1#32
  let v1327 : BitVec 32 := Scalar.addi arg0 c1_i32_759
  let c2_i32_760 : BitVec 32 := 2#32
  let c0_i32_761 : BitVec 32 := 0#32
  let v1328 : BitVec 1 := Scalar.cmpi .eq c2_i32_760 c0_i32_761
  let c1_i32_762 : BitVec 32 := 1#32
  let v1329 : BitVec 32 := Scalar.select v1328 c1_i32_762 c2_i32_760
  let v1330 : BitVec 32 := Scalar.remsi v1327 v1329
  let c0_i32_764 : BitVec 32 := 0#32
  let v1332 : BitVec 1 := Scalar.cmpi .slt v1330 c0_i32_764
  let c0_i32_765 : BitVec 32 := 0#32
  let v1333 : BitVec 1 := Scalar.cmpi .slt v1329 c0_i32_765
  let v1334 : BitVec 1 := Scalar.xori v1332 v1333
  let c0_i32_763 : BitVec 32 := 0#32
  let v1331 : BitVec 1 := Scalar.cmpi .ne v1330 c0_i32_763
  let v1335 : BitVec 1 := Scalar.andi v1334 v1331
  let v1336 : BitVec 32 := Scalar.addi v1330 v1329
  let v1337 : BitVec 32 := Scalar.select v1335 v1336 v1330
  let c62_i32_767 : BitVec 32 := 62#32
  let c0_i32_768 : BitVec 32 := 0#32
  ![v1337.toNat, 62, 0]
def k0_off258 (v1341 : BitVec 32) : Fin 2 → Nat :=
  let c0_i32_769 : BitVec 32 := 0#32
  ![v1341.toNat, 0]

def k0_chk65 (i : grid0.Coords) (v0 : BitVec 32) (v1341 : BitVec 32) : Prop :=
  (∀ (k0_h2 : k0_cond2 i v0 = 1#1), ∀ a, (k0_off258 v1341) a + S1x4096.size a ≤ S16896x4096.size a)
theorem k0_off258_inb : ∀ (i : grid0.Coords) (v0 : BitVec 32) (v1341 : BitVec 32) (k0_hw65 : k0_chk65 i v0 v1341), ∀ (k0_h2 : k0_cond2 i v0 = 1#1), ∀ a, (k0_off258 v1341) a + S1x4096.size a ≤ S16896x4096.size a := fun i v0 v1341 k0_hw65 k0_h2 => k0_hw65 k0_h2

def k0_off259 (i : grid0.Coords) : Fin 1 → Nat :=
  let arg0 : BitVec 32 := BitVec.ofNat 32 (i 0).val
  let c1_i32_770 : BitVec 32 := 1#32
  let v1347 : BitVec 32 := Scalar.addi arg0 c1_i32_770
  let c256_i32_778 : BitVec 32 := 256#32
  let v1359 : BitVec 32 := Scalar.muli v1347 c256_i32_778
  let c63_i32 : BitVec 32 := 63#32
  let v1360 : BitVec 32 := Scalar.addi v1359 c63_i32
  let v1361 : Index := Scalar.indexCast v1360
  ![v1361.toNat]
def k0_off260 (i : grid0.Coords) : Fin 1 → Nat :=
  let arg0 : BitVec 32 := BitVec.ofNat 32 (i 0).val
  let c1_i32_771 : BitVec 32 := 1#32
  let v1348 : BitVec 32 := Scalar.addi arg0 c1_i32_771
  let c2_i32_772 : BitVec 32 := 2#32
  let c0_i32_773 : BitVec 32 := 0#32
  let v1349 : BitVec 1 := Scalar.cmpi .eq c2_i32_772 c0_i32_773
  let c1_i32_774 : BitVec 32 := 1#32
  let v1350 : BitVec 32 := Scalar.select v1349 c1_i32_774 c2_i32_772
  let v1351 : BitVec 32 := Scalar.remsi v1348 v1350
  let c0_i32_776 : BitVec 32 := 0#32
  let v1353 : BitVec 1 := Scalar.cmpi .slt v1351 c0_i32_776
  let c0_i32_777 : BitVec 32 := 0#32
  let v1354 : BitVec 1 := Scalar.cmpi .slt v1350 c0_i32_777
  let v1355 : BitVec 1 := Scalar.xori v1353 v1354
  let c0_i32_775 : BitVec 32 := 0#32
  let v1352 : BitVec 1 := Scalar.cmpi .ne v1351 c0_i32_775
  let v1356 : BitVec 1 := Scalar.andi v1355 v1352
  let v1357 : BitVec 32 := Scalar.addi v1351 v1350
  let v1358 : BitVec 32 := Scalar.select v1356 v1357 v1351
  ![v1358.toNat]
def k0_off261 (i : grid0.Coords) : Fin 3 → Nat :=
  let arg0 : BitVec 32 := BitVec.ofNat 32 (i 0).val
  let c1_i32_771 : BitVec 32 := 1#32
  let v1348 : BitVec 32 := Scalar.addi arg0 c1_i32_771
  let c2_i32_772 : BitVec 32 := 2#32
  let c0_i32_773 : BitVec 32 := 0#32
  let v1349 : BitVec 1 := Scalar.cmpi .eq c2_i32_772 c0_i32_773
  let c1_i32_774 : BitVec 32 := 1#32
  let v1350 : BitVec 32 := Scalar.select v1349 c1_i32_774 c2_i32_772
  let v1351 : BitVec 32 := Scalar.remsi v1348 v1350
  let c0_i32_776 : BitVec 32 := 0#32
  let v1353 : BitVec 1 := Scalar.cmpi .slt v1351 c0_i32_776
  let c0_i32_777 : BitVec 32 := 0#32
  let v1354 : BitVec 1 := Scalar.cmpi .slt v1350 c0_i32_777
  let v1355 : BitVec 1 := Scalar.xori v1353 v1354
  let c0_i32_775 : BitVec 32 := 0#32
  let v1352 : BitVec 1 := Scalar.cmpi .ne v1351 c0_i32_775
  let v1356 : BitVec 1 := Scalar.andi v1355 v1352
  let v1357 : BitVec 32 := Scalar.addi v1351 v1350
  let v1358 : BitVec 32 := Scalar.select v1356 v1357 v1351
  let c63_i32_779 : BitVec 32 := 63#32
  let c0_i32_780 : BitVec 32 := 0#32
  ![v1358.toNat, 63, 0]
def k0_off262 (v1362 : BitVec 32) : Fin 2 → Nat :=
  let c0_i32_781 : BitVec 32 := 0#32
  ![v1362.toNat, 0]

def k0_chk66 (i : grid0.Coords) (v0 : BitVec 32) (v1362 : BitVec 32) : Prop :=
  (∀ (k0_h2 : k0_cond2 i v0 = 1#1), ∀ a, (k0_off262 v1362) a + S1x4096.size a ≤ S16896x4096.size a)
theorem k0_off262_inb : ∀ (i : grid0.Coords) (v0 : BitVec 32) (v1362 : BitVec 32) (k0_hw66 : k0_chk66 i v0 v1362), ∀ (k0_h2 : k0_cond2 i v0 = 1#1), ∀ a, (k0_off262 v1362) a + S1x4096.size a ≤ S16896x4096.size a := fun i v0 v1362 k0_hw66 k0_h2 => k0_hw66 k0_h2

def k0_off263 (i : grid0.Coords) : Fin 1 → Nat :=
  let arg0 : BitVec 32 := BitVec.ofNat 32 (i 0).val
  let c1_i32_782 : BitVec 32 := 1#32
  let v1368 : BitVec 32 := Scalar.addi arg0 c1_i32_782
  let c256_i32_790 : BitVec 32 := 256#32
  let v1380 : BitVec 32 := Scalar.muli v1368 c256_i32_790
  let c64_i32 : BitVec 32 := 64#32
  let v1381 : BitVec 32 := Scalar.addi v1380 c64_i32
  let v1382 : Index := Scalar.indexCast v1381
  ![v1382.toNat]
def k0_off264 (i : grid0.Coords) : Fin 1 → Nat :=
  let arg0 : BitVec 32 := BitVec.ofNat 32 (i 0).val
  let c1_i32_783 : BitVec 32 := 1#32
  let v1369 : BitVec 32 := Scalar.addi arg0 c1_i32_783
  let c2_i32_784 : BitVec 32 := 2#32
  let c0_i32_785 : BitVec 32 := 0#32
  let v1370 : BitVec 1 := Scalar.cmpi .eq c2_i32_784 c0_i32_785
  let c1_i32_786 : BitVec 32 := 1#32
  let v1371 : BitVec 32 := Scalar.select v1370 c1_i32_786 c2_i32_784
  let v1372 : BitVec 32 := Scalar.remsi v1369 v1371
  let c0_i32_788 : BitVec 32 := 0#32
  let v1374 : BitVec 1 := Scalar.cmpi .slt v1372 c0_i32_788
  let c0_i32_789 : BitVec 32 := 0#32
  let v1375 : BitVec 1 := Scalar.cmpi .slt v1371 c0_i32_789
  let v1376 : BitVec 1 := Scalar.xori v1374 v1375
  let c0_i32_787 : BitVec 32 := 0#32
  let v1373 : BitVec 1 := Scalar.cmpi .ne v1372 c0_i32_787
  let v1377 : BitVec 1 := Scalar.andi v1376 v1373
  let v1378 : BitVec 32 := Scalar.addi v1372 v1371
  let v1379 : BitVec 32 := Scalar.select v1377 v1378 v1372
  ![v1379.toNat]
def k0_off265 (i : grid0.Coords) : Fin 3 → Nat :=
  let arg0 : BitVec 32 := BitVec.ofNat 32 (i 0).val
  let c1_i32_783 : BitVec 32 := 1#32
  let v1369 : BitVec 32 := Scalar.addi arg0 c1_i32_783
  let c2_i32_784 : BitVec 32 := 2#32
  let c0_i32_785 : BitVec 32 := 0#32
  let v1370 : BitVec 1 := Scalar.cmpi .eq c2_i32_784 c0_i32_785
  let c1_i32_786 : BitVec 32 := 1#32
  let v1371 : BitVec 32 := Scalar.select v1370 c1_i32_786 c2_i32_784
  let v1372 : BitVec 32 := Scalar.remsi v1369 v1371
  let c0_i32_788 : BitVec 32 := 0#32
  let v1374 : BitVec 1 := Scalar.cmpi .slt v1372 c0_i32_788
  let c0_i32_789 : BitVec 32 := 0#32
  let v1375 : BitVec 1 := Scalar.cmpi .slt v1371 c0_i32_789
  let v1376 : BitVec 1 := Scalar.xori v1374 v1375
  let c0_i32_787 : BitVec 32 := 0#32
  let v1373 : BitVec 1 := Scalar.cmpi .ne v1372 c0_i32_787
  let v1377 : BitVec 1 := Scalar.andi v1376 v1373
  let v1378 : BitVec 32 := Scalar.addi v1372 v1371
  let v1379 : BitVec 32 := Scalar.select v1377 v1378 v1372
  let c64_i32_791 : BitVec 32 := 64#32
  let c0_i32_792 : BitVec 32 := 0#32
  ![v1379.toNat, 64, 0]
def k0_off266 (v1383 : BitVec 32) : Fin 2 → Nat :=
  let c0_i32_793 : BitVec 32 := 0#32
  ![v1383.toNat, 0]

def k0_chk67 (i : grid0.Coords) (v0 : BitVec 32) (v1383 : BitVec 32) : Prop :=
  (∀ (k0_h2 : k0_cond2 i v0 = 1#1), ∀ a, (k0_off266 v1383) a + S1x4096.size a ≤ S16896x4096.size a)
theorem k0_off266_inb : ∀ (i : grid0.Coords) (v0 : BitVec 32) (v1383 : BitVec 32) (k0_hw67 : k0_chk67 i v0 v1383), ∀ (k0_h2 : k0_cond2 i v0 = 1#1), ∀ a, (k0_off266 v1383) a + S1x4096.size a ≤ S16896x4096.size a := fun i v0 v1383 k0_hw67 k0_h2 => k0_hw67 k0_h2

def k0_off267 (i : grid0.Coords) : Fin 1 → Nat :=
  let arg0 : BitVec 32 := BitVec.ofNat 32 (i 0).val
  let c1_i32_794 : BitVec 32 := 1#32
  let v1389 : BitVec 32 := Scalar.addi arg0 c1_i32_794
  let c256_i32_802 : BitVec 32 := 256#32
  let v1401 : BitVec 32 := Scalar.muli v1389 c256_i32_802
  let c65_i32 : BitVec 32 := 65#32
  let v1402 : BitVec 32 := Scalar.addi v1401 c65_i32
  let v1403 : Index := Scalar.indexCast v1402
  ![v1403.toNat]
def k0_off268 (i : grid0.Coords) : Fin 1 → Nat :=
  let arg0 : BitVec 32 := BitVec.ofNat 32 (i 0).val
  let c1_i32_795 : BitVec 32 := 1#32
  let v1390 : BitVec 32 := Scalar.addi arg0 c1_i32_795
  let c2_i32_796 : BitVec 32 := 2#32
  let c0_i32_797 : BitVec 32 := 0#32
  let v1391 : BitVec 1 := Scalar.cmpi .eq c2_i32_796 c0_i32_797
  let c1_i32_798 : BitVec 32 := 1#32
  let v1392 : BitVec 32 := Scalar.select v1391 c1_i32_798 c2_i32_796
  let v1393 : BitVec 32 := Scalar.remsi v1390 v1392
  let c0_i32_800 : BitVec 32 := 0#32
  let v1395 : BitVec 1 := Scalar.cmpi .slt v1393 c0_i32_800
  let c0_i32_801 : BitVec 32 := 0#32
  let v1396 : BitVec 1 := Scalar.cmpi .slt v1392 c0_i32_801
  let v1397 : BitVec 1 := Scalar.xori v1395 v1396
  let c0_i32_799 : BitVec 32 := 0#32
  let v1394 : BitVec 1 := Scalar.cmpi .ne v1393 c0_i32_799
  let v1398 : BitVec 1 := Scalar.andi v1397 v1394
  let v1399 : BitVec 32 := Scalar.addi v1393 v1392
  let v1400 : BitVec 32 := Scalar.select v1398 v1399 v1393
  ![v1400.toNat]
def k0_off269 (i : grid0.Coords) : Fin 3 → Nat :=
  let arg0 : BitVec 32 := BitVec.ofNat 32 (i 0).val
  let c1_i32_795 : BitVec 32 := 1#32
  let v1390 : BitVec 32 := Scalar.addi arg0 c1_i32_795
  let c2_i32_796 : BitVec 32 := 2#32
  let c0_i32_797 : BitVec 32 := 0#32
  let v1391 : BitVec 1 := Scalar.cmpi .eq c2_i32_796 c0_i32_797
  let c1_i32_798 : BitVec 32 := 1#32
  let v1392 : BitVec 32 := Scalar.select v1391 c1_i32_798 c2_i32_796
  let v1393 : BitVec 32 := Scalar.remsi v1390 v1392
  let c0_i32_800 : BitVec 32 := 0#32
  let v1395 : BitVec 1 := Scalar.cmpi .slt v1393 c0_i32_800
  let c0_i32_801 : BitVec 32 := 0#32
  let v1396 : BitVec 1 := Scalar.cmpi .slt v1392 c0_i32_801
  let v1397 : BitVec 1 := Scalar.xori v1395 v1396
  let c0_i32_799 : BitVec 32 := 0#32
  let v1394 : BitVec 1 := Scalar.cmpi .ne v1393 c0_i32_799
  let v1398 : BitVec 1 := Scalar.andi v1397 v1394
  let v1399 : BitVec 32 := Scalar.addi v1393 v1392
  let v1400 : BitVec 32 := Scalar.select v1398 v1399 v1393
  let c65_i32_803 : BitVec 32 := 65#32
  let c0_i32_804 : BitVec 32 := 0#32
  ![v1400.toNat, 65, 0]
def k0_off270 (v1404 : BitVec 32) : Fin 2 → Nat :=
  let c0_i32_805 : BitVec 32 := 0#32
  ![v1404.toNat, 0]

def k0_chk68 (i : grid0.Coords) (v0 : BitVec 32) (v1404 : BitVec 32) : Prop :=
  (∀ (k0_h2 : k0_cond2 i v0 = 1#1), ∀ a, (k0_off270 v1404) a + S1x4096.size a ≤ S16896x4096.size a)
theorem k0_off270_inb : ∀ (i : grid0.Coords) (v0 : BitVec 32) (v1404 : BitVec 32) (k0_hw68 : k0_chk68 i v0 v1404), ∀ (k0_h2 : k0_cond2 i v0 = 1#1), ∀ a, (k0_off270 v1404) a + S1x4096.size a ≤ S16896x4096.size a := fun i v0 v1404 k0_hw68 k0_h2 => k0_hw68 k0_h2

def k0_off271 (i : grid0.Coords) : Fin 1 → Nat :=
  let arg0 : BitVec 32 := BitVec.ofNat 32 (i 0).val
  let c1_i32_806 : BitVec 32 := 1#32
  let v1410 : BitVec 32 := Scalar.addi arg0 c1_i32_806
  let c256_i32_814 : BitVec 32 := 256#32
  let v1422 : BitVec 32 := Scalar.muli v1410 c256_i32_814
  let c66_i32 : BitVec 32 := 66#32
  let v1423 : BitVec 32 := Scalar.addi v1422 c66_i32
  let v1424 : Index := Scalar.indexCast v1423
  ![v1424.toNat]
def k0_off272 (i : grid0.Coords) : Fin 1 → Nat :=
  let arg0 : BitVec 32 := BitVec.ofNat 32 (i 0).val
  let c1_i32_807 : BitVec 32 := 1#32
  let v1411 : BitVec 32 := Scalar.addi arg0 c1_i32_807
  let c2_i32_808 : BitVec 32 := 2#32
  let c0_i32_809 : BitVec 32 := 0#32
  let v1412 : BitVec 1 := Scalar.cmpi .eq c2_i32_808 c0_i32_809
  let c1_i32_810 : BitVec 32 := 1#32
  let v1413 : BitVec 32 := Scalar.select v1412 c1_i32_810 c2_i32_808
  let v1414 : BitVec 32 := Scalar.remsi v1411 v1413
  let c0_i32_812 : BitVec 32 := 0#32
  let v1416 : BitVec 1 := Scalar.cmpi .slt v1414 c0_i32_812
  let c0_i32_813 : BitVec 32 := 0#32
  let v1417 : BitVec 1 := Scalar.cmpi .slt v1413 c0_i32_813
  let v1418 : BitVec 1 := Scalar.xori v1416 v1417
  let c0_i32_811 : BitVec 32 := 0#32
  let v1415 : BitVec 1 := Scalar.cmpi .ne v1414 c0_i32_811
  let v1419 : BitVec 1 := Scalar.andi v1418 v1415
  let v1420 : BitVec 32 := Scalar.addi v1414 v1413
  let v1421 : BitVec 32 := Scalar.select v1419 v1420 v1414
  ![v1421.toNat]
def k0_off273 (i : grid0.Coords) : Fin 3 → Nat :=
  let arg0 : BitVec 32 := BitVec.ofNat 32 (i 0).val
  let c1_i32_807 : BitVec 32 := 1#32
  let v1411 : BitVec 32 := Scalar.addi arg0 c1_i32_807
  let c2_i32_808 : BitVec 32 := 2#32
  let c0_i32_809 : BitVec 32 := 0#32
  let v1412 : BitVec 1 := Scalar.cmpi .eq c2_i32_808 c0_i32_809
  let c1_i32_810 : BitVec 32 := 1#32
  let v1413 : BitVec 32 := Scalar.select v1412 c1_i32_810 c2_i32_808
  let v1414 : BitVec 32 := Scalar.remsi v1411 v1413
  let c0_i32_812 : BitVec 32 := 0#32
  let v1416 : BitVec 1 := Scalar.cmpi .slt v1414 c0_i32_812
  let c0_i32_813 : BitVec 32 := 0#32
  let v1417 : BitVec 1 := Scalar.cmpi .slt v1413 c0_i32_813
  let v1418 : BitVec 1 := Scalar.xori v1416 v1417
  let c0_i32_811 : BitVec 32 := 0#32
  let v1415 : BitVec 1 := Scalar.cmpi .ne v1414 c0_i32_811
  let v1419 : BitVec 1 := Scalar.andi v1418 v1415
  let v1420 : BitVec 32 := Scalar.addi v1414 v1413
  let v1421 : BitVec 32 := Scalar.select v1419 v1420 v1414
  let c66_i32_815 : BitVec 32 := 66#32
  let c0_i32_816 : BitVec 32 := 0#32
  ![v1421.toNat, 66, 0]
def k0_off274 (v1425 : BitVec 32) : Fin 2 → Nat :=
  let c0_i32_817 : BitVec 32 := 0#32
  ![v1425.toNat, 0]

def k0_chk69 (i : grid0.Coords) (v0 : BitVec 32) (v1425 : BitVec 32) : Prop :=
  (∀ (k0_h2 : k0_cond2 i v0 = 1#1), ∀ a, (k0_off274 v1425) a + S1x4096.size a ≤ S16896x4096.size a)
theorem k0_off274_inb : ∀ (i : grid0.Coords) (v0 : BitVec 32) (v1425 : BitVec 32) (k0_hw69 : k0_chk69 i v0 v1425), ∀ (k0_h2 : k0_cond2 i v0 = 1#1), ∀ a, (k0_off274 v1425) a + S1x4096.size a ≤ S16896x4096.size a := fun i v0 v1425 k0_hw69 k0_h2 => k0_hw69 k0_h2

def k0_off275 (i : grid0.Coords) : Fin 1 → Nat :=
  let arg0 : BitVec 32 := BitVec.ofNat 32 (i 0).val
  let c1_i32_818 : BitVec 32 := 1#32
  let v1431 : BitVec 32 := Scalar.addi arg0 c1_i32_818
  let c256_i32_826 : BitVec 32 := 256#32
  let v1443 : BitVec 32 := Scalar.muli v1431 c256_i32_826
  let c67_i32 : BitVec 32 := 67#32
  let v1444 : BitVec 32 := Scalar.addi v1443 c67_i32
  let v1445 : Index := Scalar.indexCast v1444
  ![v1445.toNat]
def k0_off276 (i : grid0.Coords) : Fin 1 → Nat :=
  let arg0 : BitVec 32 := BitVec.ofNat 32 (i 0).val
  let c1_i32_819 : BitVec 32 := 1#32
  let v1432 : BitVec 32 := Scalar.addi arg0 c1_i32_819
  let c2_i32_820 : BitVec 32 := 2#32
  let c0_i32_821 : BitVec 32 := 0#32
  let v1433 : BitVec 1 := Scalar.cmpi .eq c2_i32_820 c0_i32_821
  let c1_i32_822 : BitVec 32 := 1#32
  let v1434 : BitVec 32 := Scalar.select v1433 c1_i32_822 c2_i32_820
  let v1435 : BitVec 32 := Scalar.remsi v1432 v1434
  let c0_i32_824 : BitVec 32 := 0#32
  let v1437 : BitVec 1 := Scalar.cmpi .slt v1435 c0_i32_824
  let c0_i32_825 : BitVec 32 := 0#32
  let v1438 : BitVec 1 := Scalar.cmpi .slt v1434 c0_i32_825
  let v1439 : BitVec 1 := Scalar.xori v1437 v1438
  let c0_i32_823 : BitVec 32 := 0#32
  let v1436 : BitVec 1 := Scalar.cmpi .ne v1435 c0_i32_823
  let v1440 : BitVec 1 := Scalar.andi v1439 v1436
  let v1441 : BitVec 32 := Scalar.addi v1435 v1434
  let v1442 : BitVec 32 := Scalar.select v1440 v1441 v1435
  ![v1442.toNat]
def k0_off277 (i : grid0.Coords) : Fin 3 → Nat :=
  let arg0 : BitVec 32 := BitVec.ofNat 32 (i 0).val
  let c1_i32_819 : BitVec 32 := 1#32
  let v1432 : BitVec 32 := Scalar.addi arg0 c1_i32_819
  let c2_i32_820 : BitVec 32 := 2#32
  let c0_i32_821 : BitVec 32 := 0#32
  let v1433 : BitVec 1 := Scalar.cmpi .eq c2_i32_820 c0_i32_821
  let c1_i32_822 : BitVec 32 := 1#32
  let v1434 : BitVec 32 := Scalar.select v1433 c1_i32_822 c2_i32_820
  let v1435 : BitVec 32 := Scalar.remsi v1432 v1434
  let c0_i32_824 : BitVec 32 := 0#32
  let v1437 : BitVec 1 := Scalar.cmpi .slt v1435 c0_i32_824
  let c0_i32_825 : BitVec 32 := 0#32
  let v1438 : BitVec 1 := Scalar.cmpi .slt v1434 c0_i32_825
  let v1439 : BitVec 1 := Scalar.xori v1437 v1438
  let c0_i32_823 : BitVec 32 := 0#32
  let v1436 : BitVec 1 := Scalar.cmpi .ne v1435 c0_i32_823
  let v1440 : BitVec 1 := Scalar.andi v1439 v1436
  let v1441 : BitVec 32 := Scalar.addi v1435 v1434
  let v1442 : BitVec 32 := Scalar.select v1440 v1441 v1435
  let c67_i32_827 : BitVec 32 := 67#32
  let c0_i32_828 : BitVec 32 := 0#32
  ![v1442.toNat, 67, 0]
def k0_off278 (v1446 : BitVec 32) : Fin 2 → Nat :=
  let c0_i32_829 : BitVec 32 := 0#32
  ![v1446.toNat, 0]

def k0_chk70 (i : grid0.Coords) (v0 : BitVec 32) (v1446 : BitVec 32) : Prop :=
  (∀ (k0_h2 : k0_cond2 i v0 = 1#1), ∀ a, (k0_off278 v1446) a + S1x4096.size a ≤ S16896x4096.size a)
theorem k0_off278_inb : ∀ (i : grid0.Coords) (v0 : BitVec 32) (v1446 : BitVec 32) (k0_hw70 : k0_chk70 i v0 v1446), ∀ (k0_h2 : k0_cond2 i v0 = 1#1), ∀ a, (k0_off278 v1446) a + S1x4096.size a ≤ S16896x4096.size a := fun i v0 v1446 k0_hw70 k0_h2 => k0_hw70 k0_h2

def k0_off279 (i : grid0.Coords) : Fin 1 → Nat :=
  let arg0 : BitVec 32 := BitVec.ofNat 32 (i 0).val
  let c1_i32_830 : BitVec 32 := 1#32
  let v1452 : BitVec 32 := Scalar.addi arg0 c1_i32_830
  let c256_i32_838 : BitVec 32 := 256#32
  let v1464 : BitVec 32 := Scalar.muli v1452 c256_i32_838
  let c68_i32 : BitVec 32 := 68#32
  let v1465 : BitVec 32 := Scalar.addi v1464 c68_i32
  let v1466 : Index := Scalar.indexCast v1465
  ![v1466.toNat]
def k0_off280 (i : grid0.Coords) : Fin 1 → Nat :=
  let arg0 : BitVec 32 := BitVec.ofNat 32 (i 0).val
  let c1_i32_831 : BitVec 32 := 1#32
  let v1453 : BitVec 32 := Scalar.addi arg0 c1_i32_831
  let c2_i32_832 : BitVec 32 := 2#32
  let c0_i32_833 : BitVec 32 := 0#32
  let v1454 : BitVec 1 := Scalar.cmpi .eq c2_i32_832 c0_i32_833
  let c1_i32_834 : BitVec 32 := 1#32
  let v1455 : BitVec 32 := Scalar.select v1454 c1_i32_834 c2_i32_832
  let v1456 : BitVec 32 := Scalar.remsi v1453 v1455
  let c0_i32_836 : BitVec 32 := 0#32
  let v1458 : BitVec 1 := Scalar.cmpi .slt v1456 c0_i32_836
  let c0_i32_837 : BitVec 32 := 0#32
  let v1459 : BitVec 1 := Scalar.cmpi .slt v1455 c0_i32_837
  let v1460 : BitVec 1 := Scalar.xori v1458 v1459
  let c0_i32_835 : BitVec 32 := 0#32
  let v1457 : BitVec 1 := Scalar.cmpi .ne v1456 c0_i32_835
  let v1461 : BitVec 1 := Scalar.andi v1460 v1457
  let v1462 : BitVec 32 := Scalar.addi v1456 v1455
  let v1463 : BitVec 32 := Scalar.select v1461 v1462 v1456
  ![v1463.toNat]
def k0_off281 (i : grid0.Coords) : Fin 3 → Nat :=
  let arg0 : BitVec 32 := BitVec.ofNat 32 (i 0).val
  let c1_i32_831 : BitVec 32 := 1#32
  let v1453 : BitVec 32 := Scalar.addi arg0 c1_i32_831
  let c2_i32_832 : BitVec 32 := 2#32
  let c0_i32_833 : BitVec 32 := 0#32
  let v1454 : BitVec 1 := Scalar.cmpi .eq c2_i32_832 c0_i32_833
  let c1_i32_834 : BitVec 32 := 1#32
  let v1455 : BitVec 32 := Scalar.select v1454 c1_i32_834 c2_i32_832
  let v1456 : BitVec 32 := Scalar.remsi v1453 v1455
  let c0_i32_836 : BitVec 32 := 0#32
  let v1458 : BitVec 1 := Scalar.cmpi .slt v1456 c0_i32_836
  let c0_i32_837 : BitVec 32 := 0#32
  let v1459 : BitVec 1 := Scalar.cmpi .slt v1455 c0_i32_837
  let v1460 : BitVec 1 := Scalar.xori v1458 v1459
  let c0_i32_835 : BitVec 32 := 0#32
  let v1457 : BitVec 1 := Scalar.cmpi .ne v1456 c0_i32_835
  let v1461 : BitVec 1 := Scalar.andi v1460 v1457
  let v1462 : BitVec 32 := Scalar.addi v1456 v1455
  let v1463 : BitVec 32 := Scalar.select v1461 v1462 v1456
  let c68_i32_839 : BitVec 32 := 68#32
  let c0_i32_840 : BitVec 32 := 0#32
  ![v1463.toNat, 68, 0]
def k0_off282 (v1467 : BitVec 32) : Fin 2 → Nat :=
  let c0_i32_841 : BitVec 32 := 0#32
  ![v1467.toNat, 0]

def k0_chk71 (i : grid0.Coords) (v0 : BitVec 32) (v1467 : BitVec 32) : Prop :=
  (∀ (k0_h2 : k0_cond2 i v0 = 1#1), ∀ a, (k0_off282 v1467) a + S1x4096.size a ≤ S16896x4096.size a)
theorem k0_off282_inb : ∀ (i : grid0.Coords) (v0 : BitVec 32) (v1467 : BitVec 32) (k0_hw71 : k0_chk71 i v0 v1467), ∀ (k0_h2 : k0_cond2 i v0 = 1#1), ∀ a, (k0_off282 v1467) a + S1x4096.size a ≤ S16896x4096.size a := fun i v0 v1467 k0_hw71 k0_h2 => k0_hw71 k0_h2

def k0_off283 (i : grid0.Coords) : Fin 1 → Nat :=
  let arg0 : BitVec 32 := BitVec.ofNat 32 (i 0).val
  let c1_i32_842 : BitVec 32 := 1#32
  let v1473 : BitVec 32 := Scalar.addi arg0 c1_i32_842
  let c256_i32_850 : BitVec 32 := 256#32
  let v1485 : BitVec 32 := Scalar.muli v1473 c256_i32_850
  let c69_i32 : BitVec 32 := 69#32
  let v1486 : BitVec 32 := Scalar.addi v1485 c69_i32
  let v1487 : Index := Scalar.indexCast v1486
  ![v1487.toNat]
def k0_off284 (i : grid0.Coords) : Fin 1 → Nat :=
  let arg0 : BitVec 32 := BitVec.ofNat 32 (i 0).val
  let c1_i32_843 : BitVec 32 := 1#32
  let v1474 : BitVec 32 := Scalar.addi arg0 c1_i32_843
  let c2_i32_844 : BitVec 32 := 2#32
  let c0_i32_845 : BitVec 32 := 0#32
  let v1475 : BitVec 1 := Scalar.cmpi .eq c2_i32_844 c0_i32_845
  let c1_i32_846 : BitVec 32 := 1#32
  let v1476 : BitVec 32 := Scalar.select v1475 c1_i32_846 c2_i32_844
  let v1477 : BitVec 32 := Scalar.remsi v1474 v1476
  let c0_i32_848 : BitVec 32 := 0#32
  let v1479 : BitVec 1 := Scalar.cmpi .slt v1477 c0_i32_848
  let c0_i32_849 : BitVec 32 := 0#32
  let v1480 : BitVec 1 := Scalar.cmpi .slt v1476 c0_i32_849
  let v1481 : BitVec 1 := Scalar.xori v1479 v1480
  let c0_i32_847 : BitVec 32 := 0#32
  let v1478 : BitVec 1 := Scalar.cmpi .ne v1477 c0_i32_847
  let v1482 : BitVec 1 := Scalar.andi v1481 v1478
  let v1483 : BitVec 32 := Scalar.addi v1477 v1476
  let v1484 : BitVec 32 := Scalar.select v1482 v1483 v1477
  ![v1484.toNat]
def k0_off285 (i : grid0.Coords) : Fin 3 → Nat :=
  let arg0 : BitVec 32 := BitVec.ofNat 32 (i 0).val
  let c1_i32_843 : BitVec 32 := 1#32
  let v1474 : BitVec 32 := Scalar.addi arg0 c1_i32_843
  let c2_i32_844 : BitVec 32 := 2#32
  let c0_i32_845 : BitVec 32 := 0#32
  let v1475 : BitVec 1 := Scalar.cmpi .eq c2_i32_844 c0_i32_845
  let c1_i32_846 : BitVec 32 := 1#32
  let v1476 : BitVec 32 := Scalar.select v1475 c1_i32_846 c2_i32_844
  let v1477 : BitVec 32 := Scalar.remsi v1474 v1476
  let c0_i32_848 : BitVec 32 := 0#32
  let v1479 : BitVec 1 := Scalar.cmpi .slt v1477 c0_i32_848
  let c0_i32_849 : BitVec 32 := 0#32
  let v1480 : BitVec 1 := Scalar.cmpi .slt v1476 c0_i32_849
  let v1481 : BitVec 1 := Scalar.xori v1479 v1480
  let c0_i32_847 : BitVec 32 := 0#32
  let v1478 : BitVec 1 := Scalar.cmpi .ne v1477 c0_i32_847
  let v1482 : BitVec 1 := Scalar.andi v1481 v1478
  let v1483 : BitVec 32 := Scalar.addi v1477 v1476
  let v1484 : BitVec 32 := Scalar.select v1482 v1483 v1477
  let c69_i32_851 : BitVec 32 := 69#32
  let c0_i32_852 : BitVec 32 := 0#32
  ![v1484.toNat, 69, 0]
def k0_off286 (v1488 : BitVec 32) : Fin 2 → Nat :=
  let c0_i32_853 : BitVec 32 := 0#32
  ![v1488.toNat, 0]

def k0_chk72 (i : grid0.Coords) (v0 : BitVec 32) (v1488 : BitVec 32) : Prop :=
  (∀ (k0_h2 : k0_cond2 i v0 = 1#1), ∀ a, (k0_off286 v1488) a + S1x4096.size a ≤ S16896x4096.size a)
theorem k0_off286_inb : ∀ (i : grid0.Coords) (v0 : BitVec 32) (v1488 : BitVec 32) (k0_hw72 : k0_chk72 i v0 v1488), ∀ (k0_h2 : k0_cond2 i v0 = 1#1), ∀ a, (k0_off286 v1488) a + S1x4096.size a ≤ S16896x4096.size a := fun i v0 v1488 k0_hw72 k0_h2 => k0_hw72 k0_h2

def k0_off287 (i : grid0.Coords) : Fin 1 → Nat :=
  let arg0 : BitVec 32 := BitVec.ofNat 32 (i 0).val
  let c1_i32_854 : BitVec 32 := 1#32
  let v1494 : BitVec 32 := Scalar.addi arg0 c1_i32_854
  let c256_i32_862 : BitVec 32 := 256#32
  let v1506 : BitVec 32 := Scalar.muli v1494 c256_i32_862
  let c70_i32 : BitVec 32 := 70#32
  let v1507 : BitVec 32 := Scalar.addi v1506 c70_i32
  let v1508 : Index := Scalar.indexCast v1507
  ![v1508.toNat]
def k0_off288 (i : grid0.Coords) : Fin 1 → Nat :=
  let arg0 : BitVec 32 := BitVec.ofNat 32 (i 0).val
  let c1_i32_855 : BitVec 32 := 1#32
  let v1495 : BitVec 32 := Scalar.addi arg0 c1_i32_855
  let c2_i32_856 : BitVec 32 := 2#32
  let c0_i32_857 : BitVec 32 := 0#32
  let v1496 : BitVec 1 := Scalar.cmpi .eq c2_i32_856 c0_i32_857
  let c1_i32_858 : BitVec 32 := 1#32
  let v1497 : BitVec 32 := Scalar.select v1496 c1_i32_858 c2_i32_856
  let v1498 : BitVec 32 := Scalar.remsi v1495 v1497
  let c0_i32_860 : BitVec 32 := 0#32
  let v1500 : BitVec 1 := Scalar.cmpi .slt v1498 c0_i32_860
  let c0_i32_861 : BitVec 32 := 0#32
  let v1501 : BitVec 1 := Scalar.cmpi .slt v1497 c0_i32_861
  let v1502 : BitVec 1 := Scalar.xori v1500 v1501
  let c0_i32_859 : BitVec 32 := 0#32
  let v1499 : BitVec 1 := Scalar.cmpi .ne v1498 c0_i32_859
  let v1503 : BitVec 1 := Scalar.andi v1502 v1499
  let v1504 : BitVec 32 := Scalar.addi v1498 v1497
  let v1505 : BitVec 32 := Scalar.select v1503 v1504 v1498
  ![v1505.toNat]
def k0_off289 (i : grid0.Coords) : Fin 3 → Nat :=
  let arg0 : BitVec 32 := BitVec.ofNat 32 (i 0).val
  let c1_i32_855 : BitVec 32 := 1#32
  let v1495 : BitVec 32 := Scalar.addi arg0 c1_i32_855
  let c2_i32_856 : BitVec 32 := 2#32
  let c0_i32_857 : BitVec 32 := 0#32
  let v1496 : BitVec 1 := Scalar.cmpi .eq c2_i32_856 c0_i32_857
  let c1_i32_858 : BitVec 32 := 1#32
  let v1497 : BitVec 32 := Scalar.select v1496 c1_i32_858 c2_i32_856
  let v1498 : BitVec 32 := Scalar.remsi v1495 v1497
  let c0_i32_860 : BitVec 32 := 0#32
  let v1500 : BitVec 1 := Scalar.cmpi .slt v1498 c0_i32_860
  let c0_i32_861 : BitVec 32 := 0#32
  let v1501 : BitVec 1 := Scalar.cmpi .slt v1497 c0_i32_861
  let v1502 : BitVec 1 := Scalar.xori v1500 v1501
  let c0_i32_859 : BitVec 32 := 0#32
  let v1499 : BitVec 1 := Scalar.cmpi .ne v1498 c0_i32_859
  let v1503 : BitVec 1 := Scalar.andi v1502 v1499
  let v1504 : BitVec 32 := Scalar.addi v1498 v1497
  let v1505 : BitVec 32 := Scalar.select v1503 v1504 v1498
  let c70_i32_863 : BitVec 32 := 70#32
  let c0_i32_864 : BitVec 32 := 0#32
  ![v1505.toNat, 70, 0]
def k0_off290 (v1509 : BitVec 32) : Fin 2 → Nat :=
  let c0_i32_865 : BitVec 32 := 0#32
  ![v1509.toNat, 0]

def k0_chk73 (i : grid0.Coords) (v0 : BitVec 32) (v1509 : BitVec 32) : Prop :=
  (∀ (k0_h2 : k0_cond2 i v0 = 1#1), ∀ a, (k0_off290 v1509) a + S1x4096.size a ≤ S16896x4096.size a)
theorem k0_off290_inb : ∀ (i : grid0.Coords) (v0 : BitVec 32) (v1509 : BitVec 32) (k0_hw73 : k0_chk73 i v0 v1509), ∀ (k0_h2 : k0_cond2 i v0 = 1#1), ∀ a, (k0_off290 v1509) a + S1x4096.size a ≤ S16896x4096.size a := fun i v0 v1509 k0_hw73 k0_h2 => k0_hw73 k0_h2

def k0_off291 (i : grid0.Coords) : Fin 1 → Nat :=
  let arg0 : BitVec 32 := BitVec.ofNat 32 (i 0).val
  let c1_i32_866 : BitVec 32 := 1#32
  let v1515 : BitVec 32 := Scalar.addi arg0 c1_i32_866
  let c256_i32_874 : BitVec 32 := 256#32
  let v1527 : BitVec 32 := Scalar.muli v1515 c256_i32_874
  let c71_i32 : BitVec 32 := 71#32
  let v1528 : BitVec 32 := Scalar.addi v1527 c71_i32
  let v1529 : Index := Scalar.indexCast v1528
  ![v1529.toNat]
def k0_off292 (i : grid0.Coords) : Fin 1 → Nat :=
  let arg0 : BitVec 32 := BitVec.ofNat 32 (i 0).val
  let c1_i32_867 : BitVec 32 := 1#32
  let v1516 : BitVec 32 := Scalar.addi arg0 c1_i32_867
  let c2_i32_868 : BitVec 32 := 2#32
  let c0_i32_869 : BitVec 32 := 0#32
  let v1517 : BitVec 1 := Scalar.cmpi .eq c2_i32_868 c0_i32_869
  let c1_i32_870 : BitVec 32 := 1#32
  let v1518 : BitVec 32 := Scalar.select v1517 c1_i32_870 c2_i32_868
  let v1519 : BitVec 32 := Scalar.remsi v1516 v1518
  let c0_i32_872 : BitVec 32 := 0#32
  let v1521 : BitVec 1 := Scalar.cmpi .slt v1519 c0_i32_872
  let c0_i32_873 : BitVec 32 := 0#32
  let v1522 : BitVec 1 := Scalar.cmpi .slt v1518 c0_i32_873
  let v1523 : BitVec 1 := Scalar.xori v1521 v1522
  let c0_i32_871 : BitVec 32 := 0#32
  let v1520 : BitVec 1 := Scalar.cmpi .ne v1519 c0_i32_871
  let v1524 : BitVec 1 := Scalar.andi v1523 v1520
  let v1525 : BitVec 32 := Scalar.addi v1519 v1518
  let v1526 : BitVec 32 := Scalar.select v1524 v1525 v1519
  ![v1526.toNat]
def k0_off293 (i : grid0.Coords) : Fin 3 → Nat :=
  let arg0 : BitVec 32 := BitVec.ofNat 32 (i 0).val
  let c1_i32_867 : BitVec 32 := 1#32
  let v1516 : BitVec 32 := Scalar.addi arg0 c1_i32_867
  let c2_i32_868 : BitVec 32 := 2#32
  let c0_i32_869 : BitVec 32 := 0#32
  let v1517 : BitVec 1 := Scalar.cmpi .eq c2_i32_868 c0_i32_869
  let c1_i32_870 : BitVec 32 := 1#32
  let v1518 : BitVec 32 := Scalar.select v1517 c1_i32_870 c2_i32_868
  let v1519 : BitVec 32 := Scalar.remsi v1516 v1518
  let c0_i32_872 : BitVec 32 := 0#32
  let v1521 : BitVec 1 := Scalar.cmpi .slt v1519 c0_i32_872
  let c0_i32_873 : BitVec 32 := 0#32
  let v1522 : BitVec 1 := Scalar.cmpi .slt v1518 c0_i32_873
  let v1523 : BitVec 1 := Scalar.xori v1521 v1522
  let c0_i32_871 : BitVec 32 := 0#32
  let v1520 : BitVec 1 := Scalar.cmpi .ne v1519 c0_i32_871
  let v1524 : BitVec 1 := Scalar.andi v1523 v1520
  let v1525 : BitVec 32 := Scalar.addi v1519 v1518
  let v1526 : BitVec 32 := Scalar.select v1524 v1525 v1519
  let c71_i32_875 : BitVec 32 := 71#32
  let c0_i32_876 : BitVec 32 := 0#32
  ![v1526.toNat, 71, 0]
def k0_off294 (v1530 : BitVec 32) : Fin 2 → Nat :=
  let c0_i32_877 : BitVec 32 := 0#32
  ![v1530.toNat, 0]

def k0_chk74 (i : grid0.Coords) (v0 : BitVec 32) (v1530 : BitVec 32) : Prop :=
  (∀ (k0_h2 : k0_cond2 i v0 = 1#1), ∀ a, (k0_off294 v1530) a + S1x4096.size a ≤ S16896x4096.size a)
theorem k0_off294_inb : ∀ (i : grid0.Coords) (v0 : BitVec 32) (v1530 : BitVec 32) (k0_hw74 : k0_chk74 i v0 v1530), ∀ (k0_h2 : k0_cond2 i v0 = 1#1), ∀ a, (k0_off294 v1530) a + S1x4096.size a ≤ S16896x4096.size a := fun i v0 v1530 k0_hw74 k0_h2 => k0_hw74 k0_h2

def k0_off295 (i : grid0.Coords) : Fin 1 → Nat :=
  let arg0 : BitVec 32 := BitVec.ofNat 32 (i 0).val
  let c1_i32_878 : BitVec 32 := 1#32
  let v1536 : BitVec 32 := Scalar.addi arg0 c1_i32_878
  let c256_i32_886 : BitVec 32 := 256#32
  let v1548 : BitVec 32 := Scalar.muli v1536 c256_i32_886
  let c72_i32 : BitVec 32 := 72#32
  let v1549 : BitVec 32 := Scalar.addi v1548 c72_i32
  let v1550 : Index := Scalar.indexCast v1549
  ![v1550.toNat]
def k0_off296 (i : grid0.Coords) : Fin 1 → Nat :=
  let arg0 : BitVec 32 := BitVec.ofNat 32 (i 0).val
  let c1_i32_879 : BitVec 32 := 1#32
  let v1537 : BitVec 32 := Scalar.addi arg0 c1_i32_879
  let c2_i32_880 : BitVec 32 := 2#32
  let c0_i32_881 : BitVec 32 := 0#32
  let v1538 : BitVec 1 := Scalar.cmpi .eq c2_i32_880 c0_i32_881
  let c1_i32_882 : BitVec 32 := 1#32
  let v1539 : BitVec 32 := Scalar.select v1538 c1_i32_882 c2_i32_880
  let v1540 : BitVec 32 := Scalar.remsi v1537 v1539
  let c0_i32_884 : BitVec 32 := 0#32
  let v1542 : BitVec 1 := Scalar.cmpi .slt v1540 c0_i32_884
  let c0_i32_885 : BitVec 32 := 0#32
  let v1543 : BitVec 1 := Scalar.cmpi .slt v1539 c0_i32_885
  let v1544 : BitVec 1 := Scalar.xori v1542 v1543
  let c0_i32_883 : BitVec 32 := 0#32
  let v1541 : BitVec 1 := Scalar.cmpi .ne v1540 c0_i32_883
  let v1545 : BitVec 1 := Scalar.andi v1544 v1541
  let v1546 : BitVec 32 := Scalar.addi v1540 v1539
  let v1547 : BitVec 32 := Scalar.select v1545 v1546 v1540
  ![v1547.toNat]
def k0_off297 (i : grid0.Coords) : Fin 3 → Nat :=
  let arg0 : BitVec 32 := BitVec.ofNat 32 (i 0).val
  let c1_i32_879 : BitVec 32 := 1#32
  let v1537 : BitVec 32 := Scalar.addi arg0 c1_i32_879
  let c2_i32_880 : BitVec 32 := 2#32
  let c0_i32_881 : BitVec 32 := 0#32
  let v1538 : BitVec 1 := Scalar.cmpi .eq c2_i32_880 c0_i32_881
  let c1_i32_882 : BitVec 32 := 1#32
  let v1539 : BitVec 32 := Scalar.select v1538 c1_i32_882 c2_i32_880
  let v1540 : BitVec 32 := Scalar.remsi v1537 v1539
  let c0_i32_884 : BitVec 32 := 0#32
  let v1542 : BitVec 1 := Scalar.cmpi .slt v1540 c0_i32_884
  let c0_i32_885 : BitVec 32 := 0#32
  let v1543 : BitVec 1 := Scalar.cmpi .slt v1539 c0_i32_885
  let v1544 : BitVec 1 := Scalar.xori v1542 v1543
  let c0_i32_883 : BitVec 32 := 0#32
  let v1541 : BitVec 1 := Scalar.cmpi .ne v1540 c0_i32_883
  let v1545 : BitVec 1 := Scalar.andi v1544 v1541
  let v1546 : BitVec 32 := Scalar.addi v1540 v1539
  let v1547 : BitVec 32 := Scalar.select v1545 v1546 v1540
  let c72_i32_887 : BitVec 32 := 72#32
  let c0_i32_888 : BitVec 32 := 0#32
  ![v1547.toNat, 72, 0]
def k0_off298 (v1551 : BitVec 32) : Fin 2 → Nat :=
  let c0_i32_889 : BitVec 32 := 0#32
  ![v1551.toNat, 0]

def k0_chk75 (i : grid0.Coords) (v0 : BitVec 32) (v1551 : BitVec 32) : Prop :=
  (∀ (k0_h2 : k0_cond2 i v0 = 1#1), ∀ a, (k0_off298 v1551) a + S1x4096.size a ≤ S16896x4096.size a)
theorem k0_off298_inb : ∀ (i : grid0.Coords) (v0 : BitVec 32) (v1551 : BitVec 32) (k0_hw75 : k0_chk75 i v0 v1551), ∀ (k0_h2 : k0_cond2 i v0 = 1#1), ∀ a, (k0_off298 v1551) a + S1x4096.size a ≤ S16896x4096.size a := fun i v0 v1551 k0_hw75 k0_h2 => k0_hw75 k0_h2

def k0_off299 (i : grid0.Coords) : Fin 1 → Nat :=
  let arg0 : BitVec 32 := BitVec.ofNat 32 (i 0).val
  let c1_i32_890 : BitVec 32 := 1#32
  let v1557 : BitVec 32 := Scalar.addi arg0 c1_i32_890
  let c256_i32_898 : BitVec 32 := 256#32
  let v1569 : BitVec 32 := Scalar.muli v1557 c256_i32_898
  let c73_i32 : BitVec 32 := 73#32
  let v1570 : BitVec 32 := Scalar.addi v1569 c73_i32
  let v1571 : Index := Scalar.indexCast v1570
  ![v1571.toNat]
def k0_off300 (i : grid0.Coords) : Fin 1 → Nat :=
  let arg0 : BitVec 32 := BitVec.ofNat 32 (i 0).val
  let c1_i32_891 : BitVec 32 := 1#32
  let v1558 : BitVec 32 := Scalar.addi arg0 c1_i32_891
  let c2_i32_892 : BitVec 32 := 2#32
  let c0_i32_893 : BitVec 32 := 0#32
  let v1559 : BitVec 1 := Scalar.cmpi .eq c2_i32_892 c0_i32_893
  let c1_i32_894 : BitVec 32 := 1#32
  let v1560 : BitVec 32 := Scalar.select v1559 c1_i32_894 c2_i32_892
  let v1561 : BitVec 32 := Scalar.remsi v1558 v1560
  let c0_i32_896 : BitVec 32 := 0#32
  let v1563 : BitVec 1 := Scalar.cmpi .slt v1561 c0_i32_896
  let c0_i32_897 : BitVec 32 := 0#32
  let v1564 : BitVec 1 := Scalar.cmpi .slt v1560 c0_i32_897
  let v1565 : BitVec 1 := Scalar.xori v1563 v1564
  let c0_i32_895 : BitVec 32 := 0#32
  let v1562 : BitVec 1 := Scalar.cmpi .ne v1561 c0_i32_895
  let v1566 : BitVec 1 := Scalar.andi v1565 v1562
  let v1567 : BitVec 32 := Scalar.addi v1561 v1560
  let v1568 : BitVec 32 := Scalar.select v1566 v1567 v1561
  ![v1568.toNat]
def k0_off301 (i : grid0.Coords) : Fin 3 → Nat :=
  let arg0 : BitVec 32 := BitVec.ofNat 32 (i 0).val
  let c1_i32_891 : BitVec 32 := 1#32
  let v1558 : BitVec 32 := Scalar.addi arg0 c1_i32_891
  let c2_i32_892 : BitVec 32 := 2#32
  let c0_i32_893 : BitVec 32 := 0#32
  let v1559 : BitVec 1 := Scalar.cmpi .eq c2_i32_892 c0_i32_893
  let c1_i32_894 : BitVec 32 := 1#32
  let v1560 : BitVec 32 := Scalar.select v1559 c1_i32_894 c2_i32_892
  let v1561 : BitVec 32 := Scalar.remsi v1558 v1560
  let c0_i32_896 : BitVec 32 := 0#32
  let v1563 : BitVec 1 := Scalar.cmpi .slt v1561 c0_i32_896
  let c0_i32_897 : BitVec 32 := 0#32
  let v1564 : BitVec 1 := Scalar.cmpi .slt v1560 c0_i32_897
  let v1565 : BitVec 1 := Scalar.xori v1563 v1564
  let c0_i32_895 : BitVec 32 := 0#32
  let v1562 : BitVec 1 := Scalar.cmpi .ne v1561 c0_i32_895
  let v1566 : BitVec 1 := Scalar.andi v1565 v1562
  let v1567 : BitVec 32 := Scalar.addi v1561 v1560
  let v1568 : BitVec 32 := Scalar.select v1566 v1567 v1561
  let c73_i32_899 : BitVec 32 := 73#32
  let c0_i32_900 : BitVec 32 := 0#32
  ![v1568.toNat, 73, 0]
def k0_off302 (v1572 : BitVec 32) : Fin 2 → Nat :=
  let c0_i32_901 : BitVec 32 := 0#32
  ![v1572.toNat, 0]

def k0_chk76 (i : grid0.Coords) (v0 : BitVec 32) (v1572 : BitVec 32) : Prop :=
  (∀ (k0_h2 : k0_cond2 i v0 = 1#1), ∀ a, (k0_off302 v1572) a + S1x4096.size a ≤ S16896x4096.size a)
theorem k0_off302_inb : ∀ (i : grid0.Coords) (v0 : BitVec 32) (v1572 : BitVec 32) (k0_hw76 : k0_chk76 i v0 v1572), ∀ (k0_h2 : k0_cond2 i v0 = 1#1), ∀ a, (k0_off302 v1572) a + S1x4096.size a ≤ S16896x4096.size a := fun i v0 v1572 k0_hw76 k0_h2 => k0_hw76 k0_h2

def k0_off303 (i : grid0.Coords) : Fin 1 → Nat :=
  let arg0 : BitVec 32 := BitVec.ofNat 32 (i 0).val
  let c1_i32_902 : BitVec 32 := 1#32
  let v1578 : BitVec 32 := Scalar.addi arg0 c1_i32_902
  let c256_i32_910 : BitVec 32 := 256#32
  let v1590 : BitVec 32 := Scalar.muli v1578 c256_i32_910
  let c74_i32 : BitVec 32 := 74#32
  let v1591 : BitVec 32 := Scalar.addi v1590 c74_i32
  let v1592 : Index := Scalar.indexCast v1591
  ![v1592.toNat]
def k0_off304 (i : grid0.Coords) : Fin 1 → Nat :=
  let arg0 : BitVec 32 := BitVec.ofNat 32 (i 0).val
  let c1_i32_903 : BitVec 32 := 1#32
  let v1579 : BitVec 32 := Scalar.addi arg0 c1_i32_903
  let c2_i32_904 : BitVec 32 := 2#32
  let c0_i32_905 : BitVec 32 := 0#32
  let v1580 : BitVec 1 := Scalar.cmpi .eq c2_i32_904 c0_i32_905
  let c1_i32_906 : BitVec 32 := 1#32
  let v1581 : BitVec 32 := Scalar.select v1580 c1_i32_906 c2_i32_904
  let v1582 : BitVec 32 := Scalar.remsi v1579 v1581
  let c0_i32_908 : BitVec 32 := 0#32
  let v1584 : BitVec 1 := Scalar.cmpi .slt v1582 c0_i32_908
  let c0_i32_909 : BitVec 32 := 0#32
  let v1585 : BitVec 1 := Scalar.cmpi .slt v1581 c0_i32_909
  let v1586 : BitVec 1 := Scalar.xori v1584 v1585
  let c0_i32_907 : BitVec 32 := 0#32
  let v1583 : BitVec 1 := Scalar.cmpi .ne v1582 c0_i32_907
  let v1587 : BitVec 1 := Scalar.andi v1586 v1583
  let v1588 : BitVec 32 := Scalar.addi v1582 v1581
  let v1589 : BitVec 32 := Scalar.select v1587 v1588 v1582
  ![v1589.toNat]
def k0_off305 (i : grid0.Coords) : Fin 3 → Nat :=
  let arg0 : BitVec 32 := BitVec.ofNat 32 (i 0).val
  let c1_i32_903 : BitVec 32 := 1#32
  let v1579 : BitVec 32 := Scalar.addi arg0 c1_i32_903
  let c2_i32_904 : BitVec 32 := 2#32
  let c0_i32_905 : BitVec 32 := 0#32
  let v1580 : BitVec 1 := Scalar.cmpi .eq c2_i32_904 c0_i32_905
  let c1_i32_906 : BitVec 32 := 1#32
  let v1581 : BitVec 32 := Scalar.select v1580 c1_i32_906 c2_i32_904
  let v1582 : BitVec 32 := Scalar.remsi v1579 v1581
  let c0_i32_908 : BitVec 32 := 0#32
  let v1584 : BitVec 1 := Scalar.cmpi .slt v1582 c0_i32_908
  let c0_i32_909 : BitVec 32 := 0#32
  let v1585 : BitVec 1 := Scalar.cmpi .slt v1581 c0_i32_909
  let v1586 : BitVec 1 := Scalar.xori v1584 v1585
  let c0_i32_907 : BitVec 32 := 0#32
  let v1583 : BitVec 1 := Scalar.cmpi .ne v1582 c0_i32_907
  let v1587 : BitVec 1 := Scalar.andi v1586 v1583
  let v1588 : BitVec 32 := Scalar.addi v1582 v1581
  let v1589 : BitVec 32 := Scalar.select v1587 v1588 v1582
  let c74_i32_911 : BitVec 32 := 74#32
  let c0_i32_912 : BitVec 32 := 0#32
  ![v1589.toNat, 74, 0]
def k0_off306 (v1593 : BitVec 32) : Fin 2 → Nat :=
  let c0_i32_913 : BitVec 32 := 0#32
  ![v1593.toNat, 0]

def k0_chk77 (i : grid0.Coords) (v0 : BitVec 32) (v1593 : BitVec 32) : Prop :=
  (∀ (k0_h2 : k0_cond2 i v0 = 1#1), ∀ a, (k0_off306 v1593) a + S1x4096.size a ≤ S16896x4096.size a)
theorem k0_off306_inb : ∀ (i : grid0.Coords) (v0 : BitVec 32) (v1593 : BitVec 32) (k0_hw77 : k0_chk77 i v0 v1593), ∀ (k0_h2 : k0_cond2 i v0 = 1#1), ∀ a, (k0_off306 v1593) a + S1x4096.size a ≤ S16896x4096.size a := fun i v0 v1593 k0_hw77 k0_h2 => k0_hw77 k0_h2

def k0_off307 (i : grid0.Coords) : Fin 1 → Nat :=
  let arg0 : BitVec 32 := BitVec.ofNat 32 (i 0).val
  let c1_i32_914 : BitVec 32 := 1#32
  let v1599 : BitVec 32 := Scalar.addi arg0 c1_i32_914
  let c256_i32_922 : BitVec 32 := 256#32
  let v1611 : BitVec 32 := Scalar.muli v1599 c256_i32_922
  let c75_i32 : BitVec 32 := 75#32
  let v1612 : BitVec 32 := Scalar.addi v1611 c75_i32
  let v1613 : Index := Scalar.indexCast v1612
  ![v1613.toNat]
def k0_off308 (i : grid0.Coords) : Fin 1 → Nat :=
  let arg0 : BitVec 32 := BitVec.ofNat 32 (i 0).val
  let c1_i32_915 : BitVec 32 := 1#32
  let v1600 : BitVec 32 := Scalar.addi arg0 c1_i32_915
  let c2_i32_916 : BitVec 32 := 2#32
  let c0_i32_917 : BitVec 32 := 0#32
  let v1601 : BitVec 1 := Scalar.cmpi .eq c2_i32_916 c0_i32_917
  let c1_i32_918 : BitVec 32 := 1#32
  let v1602 : BitVec 32 := Scalar.select v1601 c1_i32_918 c2_i32_916
  let v1603 : BitVec 32 := Scalar.remsi v1600 v1602
  let c0_i32_920 : BitVec 32 := 0#32
  let v1605 : BitVec 1 := Scalar.cmpi .slt v1603 c0_i32_920
  let c0_i32_921 : BitVec 32 := 0#32
  let v1606 : BitVec 1 := Scalar.cmpi .slt v1602 c0_i32_921
  let v1607 : BitVec 1 := Scalar.xori v1605 v1606
  let c0_i32_919 : BitVec 32 := 0#32
  let v1604 : BitVec 1 := Scalar.cmpi .ne v1603 c0_i32_919
  let v1608 : BitVec 1 := Scalar.andi v1607 v1604
  let v1609 : BitVec 32 := Scalar.addi v1603 v1602
  let v1610 : BitVec 32 := Scalar.select v1608 v1609 v1603
  ![v1610.toNat]
def k0_off309 (i : grid0.Coords) : Fin 3 → Nat :=
  let arg0 : BitVec 32 := BitVec.ofNat 32 (i 0).val
  let c1_i32_915 : BitVec 32 := 1#32
  let v1600 : BitVec 32 := Scalar.addi arg0 c1_i32_915
  let c2_i32_916 : BitVec 32 := 2#32
  let c0_i32_917 : BitVec 32 := 0#32
  let v1601 : BitVec 1 := Scalar.cmpi .eq c2_i32_916 c0_i32_917
  let c1_i32_918 : BitVec 32 := 1#32
  let v1602 : BitVec 32 := Scalar.select v1601 c1_i32_918 c2_i32_916
  let v1603 : BitVec 32 := Scalar.remsi v1600 v1602
  let c0_i32_920 : BitVec 32 := 0#32
  let v1605 : BitVec 1 := Scalar.cmpi .slt v1603 c0_i32_920
  let c0_i32_921 : BitVec 32 := 0#32
  let v1606 : BitVec 1 := Scalar.cmpi .slt v1602 c0_i32_921
  let v1607 : BitVec 1 := Scalar.xori v1605 v1606
  let c0_i32_919 : BitVec 32 := 0#32
  let v1604 : BitVec 1 := Scalar.cmpi .ne v1603 c0_i32_919
  let v1608 : BitVec 1 := Scalar.andi v1607 v1604
  let v1609 : BitVec 32 := Scalar.addi v1603 v1602
  let v1610 : BitVec 32 := Scalar.select v1608 v1609 v1603
  let c75_i32_923 : BitVec 32 := 75#32
  let c0_i32_924 : BitVec 32 := 0#32
  ![v1610.toNat, 75, 0]
def k0_off310 (v1614 : BitVec 32) : Fin 2 → Nat :=
  let c0_i32_925 : BitVec 32 := 0#32
  ![v1614.toNat, 0]

def k0_chk78 (i : grid0.Coords) (v0 : BitVec 32) (v1614 : BitVec 32) : Prop :=
  (∀ (k0_h2 : k0_cond2 i v0 = 1#1), ∀ a, (k0_off310 v1614) a + S1x4096.size a ≤ S16896x4096.size a)
theorem k0_off310_inb : ∀ (i : grid0.Coords) (v0 : BitVec 32) (v1614 : BitVec 32) (k0_hw78 : k0_chk78 i v0 v1614), ∀ (k0_h2 : k0_cond2 i v0 = 1#1), ∀ a, (k0_off310 v1614) a + S1x4096.size a ≤ S16896x4096.size a := fun i v0 v1614 k0_hw78 k0_h2 => k0_hw78 k0_h2

def k0_off311 (i : grid0.Coords) : Fin 1 → Nat :=
  let arg0 : BitVec 32 := BitVec.ofNat 32 (i 0).val
  let c1_i32_926 : BitVec 32 := 1#32
  let v1620 : BitVec 32 := Scalar.addi arg0 c1_i32_926
  let c256_i32_934 : BitVec 32 := 256#32
  let v1632 : BitVec 32 := Scalar.muli v1620 c256_i32_934
  let c76_i32 : BitVec 32 := 76#32
  let v1633 : BitVec 32 := Scalar.addi v1632 c76_i32
  let v1634 : Index := Scalar.indexCast v1633
  ![v1634.toNat]
def k0_off312 (i : grid0.Coords) : Fin 1 → Nat :=
  let arg0 : BitVec 32 := BitVec.ofNat 32 (i 0).val
  let c1_i32_927 : BitVec 32 := 1#32
  let v1621 : BitVec 32 := Scalar.addi arg0 c1_i32_927
  let c2_i32_928 : BitVec 32 := 2#32
  let c0_i32_929 : BitVec 32 := 0#32
  let v1622 : BitVec 1 := Scalar.cmpi .eq c2_i32_928 c0_i32_929
  let c1_i32_930 : BitVec 32 := 1#32
  let v1623 : BitVec 32 := Scalar.select v1622 c1_i32_930 c2_i32_928
  let v1624 : BitVec 32 := Scalar.remsi v1621 v1623
  let c0_i32_932 : BitVec 32 := 0#32
  let v1626 : BitVec 1 := Scalar.cmpi .slt v1624 c0_i32_932
  let c0_i32_933 : BitVec 32 := 0#32
  let v1627 : BitVec 1 := Scalar.cmpi .slt v1623 c0_i32_933
  let v1628 : BitVec 1 := Scalar.xori v1626 v1627
  let c0_i32_931 : BitVec 32 := 0#32
  let v1625 : BitVec 1 := Scalar.cmpi .ne v1624 c0_i32_931
  let v1629 : BitVec 1 := Scalar.andi v1628 v1625
  let v1630 : BitVec 32 := Scalar.addi v1624 v1623
  let v1631 : BitVec 32 := Scalar.select v1629 v1630 v1624
  ![v1631.toNat]
def k0_off313 (i : grid0.Coords) : Fin 3 → Nat :=
  let arg0 : BitVec 32 := BitVec.ofNat 32 (i 0).val
  let c1_i32_927 : BitVec 32 := 1#32
  let v1621 : BitVec 32 := Scalar.addi arg0 c1_i32_927
  let c2_i32_928 : BitVec 32 := 2#32
  let c0_i32_929 : BitVec 32 := 0#32
  let v1622 : BitVec 1 := Scalar.cmpi .eq c2_i32_928 c0_i32_929
  let c1_i32_930 : BitVec 32 := 1#32
  let v1623 : BitVec 32 := Scalar.select v1622 c1_i32_930 c2_i32_928
  let v1624 : BitVec 32 := Scalar.remsi v1621 v1623
  let c0_i32_932 : BitVec 32 := 0#32
  let v1626 : BitVec 1 := Scalar.cmpi .slt v1624 c0_i32_932
  let c0_i32_933 : BitVec 32 := 0#32
  let v1627 : BitVec 1 := Scalar.cmpi .slt v1623 c0_i32_933
  let v1628 : BitVec 1 := Scalar.xori v1626 v1627
  let c0_i32_931 : BitVec 32 := 0#32
  let v1625 : BitVec 1 := Scalar.cmpi .ne v1624 c0_i32_931
  let v1629 : BitVec 1 := Scalar.andi v1628 v1625
  let v1630 : BitVec 32 := Scalar.addi v1624 v1623
  let v1631 : BitVec 32 := Scalar.select v1629 v1630 v1624
  let c76_i32_935 : BitVec 32 := 76#32
  let c0_i32_936 : BitVec 32 := 0#32
  ![v1631.toNat, 76, 0]
def k0_off314 (v1635 : BitVec 32) : Fin 2 → Nat :=
  let c0_i32_937 : BitVec 32 := 0#32
  ![v1635.toNat, 0]

def k0_chk79 (i : grid0.Coords) (v0 : BitVec 32) (v1635 : BitVec 32) : Prop :=
  (∀ (k0_h2 : k0_cond2 i v0 = 1#1), ∀ a, (k0_off314 v1635) a + S1x4096.size a ≤ S16896x4096.size a)
theorem k0_off314_inb : ∀ (i : grid0.Coords) (v0 : BitVec 32) (v1635 : BitVec 32) (k0_hw79 : k0_chk79 i v0 v1635), ∀ (k0_h2 : k0_cond2 i v0 = 1#1), ∀ a, (k0_off314 v1635) a + S1x4096.size a ≤ S16896x4096.size a := fun i v0 v1635 k0_hw79 k0_h2 => k0_hw79 k0_h2

def k0_off315 (i : grid0.Coords) : Fin 1 → Nat :=
  let arg0 : BitVec 32 := BitVec.ofNat 32 (i 0).val
  let c1_i32_938 : BitVec 32 := 1#32
  let v1641 : BitVec 32 := Scalar.addi arg0 c1_i32_938
  let c256_i32_946 : BitVec 32 := 256#32
  let v1653 : BitVec 32 := Scalar.muli v1641 c256_i32_946
  let c77_i32 : BitVec 32 := 77#32
  let v1654 : BitVec 32 := Scalar.addi v1653 c77_i32
  let v1655 : Index := Scalar.indexCast v1654
  ![v1655.toNat]
def k0_off316 (i : grid0.Coords) : Fin 1 → Nat :=
  let arg0 : BitVec 32 := BitVec.ofNat 32 (i 0).val
  let c1_i32_939 : BitVec 32 := 1#32
  let v1642 : BitVec 32 := Scalar.addi arg0 c1_i32_939
  let c2_i32_940 : BitVec 32 := 2#32
  let c0_i32_941 : BitVec 32 := 0#32
  let v1643 : BitVec 1 := Scalar.cmpi .eq c2_i32_940 c0_i32_941
  let c1_i32_942 : BitVec 32 := 1#32
  let v1644 : BitVec 32 := Scalar.select v1643 c1_i32_942 c2_i32_940
  let v1645 : BitVec 32 := Scalar.remsi v1642 v1644
  let c0_i32_944 : BitVec 32 := 0#32
  let v1647 : BitVec 1 := Scalar.cmpi .slt v1645 c0_i32_944
  let c0_i32_945 : BitVec 32 := 0#32
  let v1648 : BitVec 1 := Scalar.cmpi .slt v1644 c0_i32_945
  let v1649 : BitVec 1 := Scalar.xori v1647 v1648
  let c0_i32_943 : BitVec 32 := 0#32
  let v1646 : BitVec 1 := Scalar.cmpi .ne v1645 c0_i32_943
  let v1650 : BitVec 1 := Scalar.andi v1649 v1646
  let v1651 : BitVec 32 := Scalar.addi v1645 v1644
  let v1652 : BitVec 32 := Scalar.select v1650 v1651 v1645
  ![v1652.toNat]
def k0_off317 (i : grid0.Coords) : Fin 3 → Nat :=
  let arg0 : BitVec 32 := BitVec.ofNat 32 (i 0).val
  let c1_i32_939 : BitVec 32 := 1#32
  let v1642 : BitVec 32 := Scalar.addi arg0 c1_i32_939
  let c2_i32_940 : BitVec 32 := 2#32
  let c0_i32_941 : BitVec 32 := 0#32
  let v1643 : BitVec 1 := Scalar.cmpi .eq c2_i32_940 c0_i32_941
  let c1_i32_942 : BitVec 32 := 1#32
  let v1644 : BitVec 32 := Scalar.select v1643 c1_i32_942 c2_i32_940
  let v1645 : BitVec 32 := Scalar.remsi v1642 v1644
  let c0_i32_944 : BitVec 32 := 0#32
  let v1647 : BitVec 1 := Scalar.cmpi .slt v1645 c0_i32_944
  let c0_i32_945 : BitVec 32 := 0#32
  let v1648 : BitVec 1 := Scalar.cmpi .slt v1644 c0_i32_945
  let v1649 : BitVec 1 := Scalar.xori v1647 v1648
  let c0_i32_943 : BitVec 32 := 0#32
  let v1646 : BitVec 1 := Scalar.cmpi .ne v1645 c0_i32_943
  let v1650 : BitVec 1 := Scalar.andi v1649 v1646
  let v1651 : BitVec 32 := Scalar.addi v1645 v1644
  let v1652 : BitVec 32 := Scalar.select v1650 v1651 v1645
  let c77_i32_947 : BitVec 32 := 77#32
  let c0_i32_948 : BitVec 32 := 0#32
  ![v1652.toNat, 77, 0]
def k0_off318 (v1656 : BitVec 32) : Fin 2 → Nat :=
  let c0_i32_949 : BitVec 32 := 0#32
  ![v1656.toNat, 0]

def k0_chk80 (i : grid0.Coords) (v0 : BitVec 32) (v1656 : BitVec 32) : Prop :=
  (∀ (k0_h2 : k0_cond2 i v0 = 1#1), ∀ a, (k0_off318 v1656) a + S1x4096.size a ≤ S16896x4096.size a)
theorem k0_off318_inb : ∀ (i : grid0.Coords) (v0 : BitVec 32) (v1656 : BitVec 32) (k0_hw80 : k0_chk80 i v0 v1656), ∀ (k0_h2 : k0_cond2 i v0 = 1#1), ∀ a, (k0_off318 v1656) a + S1x4096.size a ≤ S16896x4096.size a := fun i v0 v1656 k0_hw80 k0_h2 => k0_hw80 k0_h2

def k0_off319 (i : grid0.Coords) : Fin 1 → Nat :=
  let arg0 : BitVec 32 := BitVec.ofNat 32 (i 0).val
  let c1_i32_950 : BitVec 32 := 1#32
  let v1662 : BitVec 32 := Scalar.addi arg0 c1_i32_950
  let c256_i32_958 : BitVec 32 := 256#32
  let v1674 : BitVec 32 := Scalar.muli v1662 c256_i32_958
  let c78_i32 : BitVec 32 := 78#32
  let v1675 : BitVec 32 := Scalar.addi v1674 c78_i32
  let v1676 : Index := Scalar.indexCast v1675
  ![v1676.toNat]
def k0_off320 (i : grid0.Coords) : Fin 1 → Nat :=
  let arg0 : BitVec 32 := BitVec.ofNat 32 (i 0).val
  let c1_i32_951 : BitVec 32 := 1#32
  let v1663 : BitVec 32 := Scalar.addi arg0 c1_i32_951
  let c2_i32_952 : BitVec 32 := 2#32
  let c0_i32_953 : BitVec 32 := 0#32
  let v1664 : BitVec 1 := Scalar.cmpi .eq c2_i32_952 c0_i32_953
  let c1_i32_954 : BitVec 32 := 1#32
  let v1665 : BitVec 32 := Scalar.select v1664 c1_i32_954 c2_i32_952
  let v1666 : BitVec 32 := Scalar.remsi v1663 v1665
  let c0_i32_956 : BitVec 32 := 0#32
  let v1668 : BitVec 1 := Scalar.cmpi .slt v1666 c0_i32_956
  let c0_i32_957 : BitVec 32 := 0#32
  let v1669 : BitVec 1 := Scalar.cmpi .slt v1665 c0_i32_957
  let v1670 : BitVec 1 := Scalar.xori v1668 v1669
  let c0_i32_955 : BitVec 32 := 0#32
  let v1667 : BitVec 1 := Scalar.cmpi .ne v1666 c0_i32_955
  let v1671 : BitVec 1 := Scalar.andi v1670 v1667
  let v1672 : BitVec 32 := Scalar.addi v1666 v1665
  let v1673 : BitVec 32 := Scalar.select v1671 v1672 v1666
  ![v1673.toNat]
def k0_off321 (i : grid0.Coords) : Fin 3 → Nat :=
  let arg0 : BitVec 32 := BitVec.ofNat 32 (i 0).val
  let c1_i32_951 : BitVec 32 := 1#32
  let v1663 : BitVec 32 := Scalar.addi arg0 c1_i32_951
  let c2_i32_952 : BitVec 32 := 2#32
  let c0_i32_953 : BitVec 32 := 0#32
  let v1664 : BitVec 1 := Scalar.cmpi .eq c2_i32_952 c0_i32_953
  let c1_i32_954 : BitVec 32 := 1#32
  let v1665 : BitVec 32 := Scalar.select v1664 c1_i32_954 c2_i32_952
  let v1666 : BitVec 32 := Scalar.remsi v1663 v1665
  let c0_i32_956 : BitVec 32 := 0#32
  let v1668 : BitVec 1 := Scalar.cmpi .slt v1666 c0_i32_956
  let c0_i32_957 : BitVec 32 := 0#32
  let v1669 : BitVec 1 := Scalar.cmpi .slt v1665 c0_i32_957
  let v1670 : BitVec 1 := Scalar.xori v1668 v1669
  let c0_i32_955 : BitVec 32 := 0#32
  let v1667 : BitVec 1 := Scalar.cmpi .ne v1666 c0_i32_955
  let v1671 : BitVec 1 := Scalar.andi v1670 v1667
  let v1672 : BitVec 32 := Scalar.addi v1666 v1665
  let v1673 : BitVec 32 := Scalar.select v1671 v1672 v1666
  let c78_i32_959 : BitVec 32 := 78#32
  let c0_i32_960 : BitVec 32 := 0#32
  ![v1673.toNat, 78, 0]
def k0_off322 (v1677 : BitVec 32) : Fin 2 → Nat :=
  let c0_i32_961 : BitVec 32 := 0#32
  ![v1677.toNat, 0]

def k0_chk81 (i : grid0.Coords) (v0 : BitVec 32) (v1677 : BitVec 32) : Prop :=
  (∀ (k0_h2 : k0_cond2 i v0 = 1#1), ∀ a, (k0_off322 v1677) a + S1x4096.size a ≤ S16896x4096.size a)
theorem k0_off322_inb : ∀ (i : grid0.Coords) (v0 : BitVec 32) (v1677 : BitVec 32) (k0_hw81 : k0_chk81 i v0 v1677), ∀ (k0_h2 : k0_cond2 i v0 = 1#1), ∀ a, (k0_off322 v1677) a + S1x4096.size a ≤ S16896x4096.size a := fun i v0 v1677 k0_hw81 k0_h2 => k0_hw81 k0_h2

def k0_off323 (i : grid0.Coords) : Fin 1 → Nat :=
  let arg0 : BitVec 32 := BitVec.ofNat 32 (i 0).val
  let c1_i32_962 : BitVec 32 := 1#32
  let v1683 : BitVec 32 := Scalar.addi arg0 c1_i32_962
  let c256_i32_970 : BitVec 32 := 256#32
  let v1695 : BitVec 32 := Scalar.muli v1683 c256_i32_970
  let c79_i32 : BitVec 32 := 79#32
  let v1696 : BitVec 32 := Scalar.addi v1695 c79_i32
  let v1697 : Index := Scalar.indexCast v1696
  ![v1697.toNat]
def k0_off324 (i : grid0.Coords) : Fin 1 → Nat :=
  let arg0 : BitVec 32 := BitVec.ofNat 32 (i 0).val
  let c1_i32_963 : BitVec 32 := 1#32
  let v1684 : BitVec 32 := Scalar.addi arg0 c1_i32_963
  let c2_i32_964 : BitVec 32 := 2#32
  let c0_i32_965 : BitVec 32 := 0#32
  let v1685 : BitVec 1 := Scalar.cmpi .eq c2_i32_964 c0_i32_965
  let c1_i32_966 : BitVec 32 := 1#32
  let v1686 : BitVec 32 := Scalar.select v1685 c1_i32_966 c2_i32_964
  let v1687 : BitVec 32 := Scalar.remsi v1684 v1686
  let c0_i32_968 : BitVec 32 := 0#32
  let v1689 : BitVec 1 := Scalar.cmpi .slt v1687 c0_i32_968
  let c0_i32_969 : BitVec 32 := 0#32
  let v1690 : BitVec 1 := Scalar.cmpi .slt v1686 c0_i32_969
  let v1691 : BitVec 1 := Scalar.xori v1689 v1690
  let c0_i32_967 : BitVec 32 := 0#32
  let v1688 : BitVec 1 := Scalar.cmpi .ne v1687 c0_i32_967
  let v1692 : BitVec 1 := Scalar.andi v1691 v1688
  let v1693 : BitVec 32 := Scalar.addi v1687 v1686
  let v1694 : BitVec 32 := Scalar.select v1692 v1693 v1687
  ![v1694.toNat]
def k0_off325 (i : grid0.Coords) : Fin 3 → Nat :=
  let arg0 : BitVec 32 := BitVec.ofNat 32 (i 0).val
  let c1_i32_963 : BitVec 32 := 1#32
  let v1684 : BitVec 32 := Scalar.addi arg0 c1_i32_963
  let c2_i32_964 : BitVec 32 := 2#32
  let c0_i32_965 : BitVec 32 := 0#32
  let v1685 : BitVec 1 := Scalar.cmpi .eq c2_i32_964 c0_i32_965
  let c1_i32_966 : BitVec 32 := 1#32
  let v1686 : BitVec 32 := Scalar.select v1685 c1_i32_966 c2_i32_964
  let v1687 : BitVec 32 := Scalar.remsi v1684 v1686
  let c0_i32_968 : BitVec 32 := 0#32
  let v1689 : BitVec 1 := Scalar.cmpi .slt v1687 c0_i32_968
  let c0_i32_969 : BitVec 32 := 0#32
  let v1690 : BitVec 1 := Scalar.cmpi .slt v1686 c0_i32_969
  let v1691 : BitVec 1 := Scalar.xori v1689 v1690
  let c0_i32_967 : BitVec 32 := 0#32
  let v1688 : BitVec 1 := Scalar.cmpi .ne v1687 c0_i32_967
  let v1692 : BitVec 1 := Scalar.andi v1691 v1688
  let v1693 : BitVec 32 := Scalar.addi v1687 v1686
  let v1694 : BitVec 32 := Scalar.select v1692 v1693 v1687
  let c79_i32_971 : BitVec 32 := 79#32
  let c0_i32_972 : BitVec 32 := 0#32
  ![v1694.toNat, 79, 0]
def k0_off326 (v1698 : BitVec 32) : Fin 2 → Nat :=
  let c0_i32_973 : BitVec 32 := 0#32
  ![v1698.toNat, 0]

def k0_chk82 (i : grid0.Coords) (v0 : BitVec 32) (v1698 : BitVec 32) : Prop :=
  (∀ (k0_h2 : k0_cond2 i v0 = 1#1), ∀ a, (k0_off326 v1698) a + S1x4096.size a ≤ S16896x4096.size a)
theorem k0_off326_inb : ∀ (i : grid0.Coords) (v0 : BitVec 32) (v1698 : BitVec 32) (k0_hw82 : k0_chk82 i v0 v1698), ∀ (k0_h2 : k0_cond2 i v0 = 1#1), ∀ a, (k0_off326 v1698) a + S1x4096.size a ≤ S16896x4096.size a := fun i v0 v1698 k0_hw82 k0_h2 => k0_hw82 k0_h2

def k0_off327 (i : grid0.Coords) : Fin 1 → Nat :=
  let arg0 : BitVec 32 := BitVec.ofNat 32 (i 0).val
  let c1_i32_974 : BitVec 32 := 1#32
  let v1704 : BitVec 32 := Scalar.addi arg0 c1_i32_974
  let c256_i32_982 : BitVec 32 := 256#32
  let v1716 : BitVec 32 := Scalar.muli v1704 c256_i32_982
  let c80_i32 : BitVec 32 := 80#32
  let v1717 : BitVec 32 := Scalar.addi v1716 c80_i32
  let v1718 : Index := Scalar.indexCast v1717
  ![v1718.toNat]
def k0_off328 (i : grid0.Coords) : Fin 1 → Nat :=
  let arg0 : BitVec 32 := BitVec.ofNat 32 (i 0).val
  let c1_i32_975 : BitVec 32 := 1#32
  let v1705 : BitVec 32 := Scalar.addi arg0 c1_i32_975
  let c2_i32_976 : BitVec 32 := 2#32
  let c0_i32_977 : BitVec 32 := 0#32
  let v1706 : BitVec 1 := Scalar.cmpi .eq c2_i32_976 c0_i32_977
  let c1_i32_978 : BitVec 32 := 1#32
  let v1707 : BitVec 32 := Scalar.select v1706 c1_i32_978 c2_i32_976
  let v1708 : BitVec 32 := Scalar.remsi v1705 v1707
  let c0_i32_980 : BitVec 32 := 0#32
  let v1710 : BitVec 1 := Scalar.cmpi .slt v1708 c0_i32_980
  let c0_i32_981 : BitVec 32 := 0#32
  let v1711 : BitVec 1 := Scalar.cmpi .slt v1707 c0_i32_981
  let v1712 : BitVec 1 := Scalar.xori v1710 v1711
  let c0_i32_979 : BitVec 32 := 0#32
  let v1709 : BitVec 1 := Scalar.cmpi .ne v1708 c0_i32_979
  let v1713 : BitVec 1 := Scalar.andi v1712 v1709
  let v1714 : BitVec 32 := Scalar.addi v1708 v1707
  let v1715 : BitVec 32 := Scalar.select v1713 v1714 v1708
  ![v1715.toNat]
def k0_off329 (i : grid0.Coords) : Fin 3 → Nat :=
  let arg0 : BitVec 32 := BitVec.ofNat 32 (i 0).val
  let c1_i32_975 : BitVec 32 := 1#32
  let v1705 : BitVec 32 := Scalar.addi arg0 c1_i32_975
  let c2_i32_976 : BitVec 32 := 2#32
  let c0_i32_977 : BitVec 32 := 0#32
  let v1706 : BitVec 1 := Scalar.cmpi .eq c2_i32_976 c0_i32_977
  let c1_i32_978 : BitVec 32 := 1#32
  let v1707 : BitVec 32 := Scalar.select v1706 c1_i32_978 c2_i32_976
  let v1708 : BitVec 32 := Scalar.remsi v1705 v1707
  let c0_i32_980 : BitVec 32 := 0#32
  let v1710 : BitVec 1 := Scalar.cmpi .slt v1708 c0_i32_980
  let c0_i32_981 : BitVec 32 := 0#32
  let v1711 : BitVec 1 := Scalar.cmpi .slt v1707 c0_i32_981
  let v1712 : BitVec 1 := Scalar.xori v1710 v1711
  let c0_i32_979 : BitVec 32 := 0#32
  let v1709 : BitVec 1 := Scalar.cmpi .ne v1708 c0_i32_979
  let v1713 : BitVec 1 := Scalar.andi v1712 v1709
  let v1714 : BitVec 32 := Scalar.addi v1708 v1707
  let v1715 : BitVec 32 := Scalar.select v1713 v1714 v1708
  let c80_i32_983 : BitVec 32 := 80#32
  let c0_i32_984 : BitVec 32 := 0#32
  ![v1715.toNat, 80, 0]
def k0_off330 (v1719 : BitVec 32) : Fin 2 → Nat :=
  let c0_i32_985 : BitVec 32 := 0#32
  ![v1719.toNat, 0]

def k0_chk83 (i : grid0.Coords) (v0 : BitVec 32) (v1719 : BitVec 32) : Prop :=
  (∀ (k0_h2 : k0_cond2 i v0 = 1#1), ∀ a, (k0_off330 v1719) a + S1x4096.size a ≤ S16896x4096.size a)
theorem k0_off330_inb : ∀ (i : grid0.Coords) (v0 : BitVec 32) (v1719 : BitVec 32) (k0_hw83 : k0_chk83 i v0 v1719), ∀ (k0_h2 : k0_cond2 i v0 = 1#1), ∀ a, (k0_off330 v1719) a + S1x4096.size a ≤ S16896x4096.size a := fun i v0 v1719 k0_hw83 k0_h2 => k0_hw83 k0_h2

def k0_off331 (i : grid0.Coords) : Fin 1 → Nat :=
  let arg0 : BitVec 32 := BitVec.ofNat 32 (i 0).val
  let c1_i32_986 : BitVec 32 := 1#32
  let v1725 : BitVec 32 := Scalar.addi arg0 c1_i32_986
  let c256_i32_994 : BitVec 32 := 256#32
  let v1737 : BitVec 32 := Scalar.muli v1725 c256_i32_994
  let c81_i32 : BitVec 32 := 81#32
  let v1738 : BitVec 32 := Scalar.addi v1737 c81_i32
  let v1739 : Index := Scalar.indexCast v1738
  ![v1739.toNat]
def k0_off332 (i : grid0.Coords) : Fin 1 → Nat :=
  let arg0 : BitVec 32 := BitVec.ofNat 32 (i 0).val
  let c1_i32_987 : BitVec 32 := 1#32
  let v1726 : BitVec 32 := Scalar.addi arg0 c1_i32_987
  let c2_i32_988 : BitVec 32 := 2#32
  let c0_i32_989 : BitVec 32 := 0#32
  let v1727 : BitVec 1 := Scalar.cmpi .eq c2_i32_988 c0_i32_989
  let c1_i32_990 : BitVec 32 := 1#32
  let v1728 : BitVec 32 := Scalar.select v1727 c1_i32_990 c2_i32_988
  let v1729 : BitVec 32 := Scalar.remsi v1726 v1728
  let c0_i32_992 : BitVec 32 := 0#32
  let v1731 : BitVec 1 := Scalar.cmpi .slt v1729 c0_i32_992
  let c0_i32_993 : BitVec 32 := 0#32
  let v1732 : BitVec 1 := Scalar.cmpi .slt v1728 c0_i32_993
  let v1733 : BitVec 1 := Scalar.xori v1731 v1732
  let c0_i32_991 : BitVec 32 := 0#32
  let v1730 : BitVec 1 := Scalar.cmpi .ne v1729 c0_i32_991
  let v1734 : BitVec 1 := Scalar.andi v1733 v1730
  let v1735 : BitVec 32 := Scalar.addi v1729 v1728
  let v1736 : BitVec 32 := Scalar.select v1734 v1735 v1729
  ![v1736.toNat]
def k0_off333 (i : grid0.Coords) : Fin 3 → Nat :=
  let arg0 : BitVec 32 := BitVec.ofNat 32 (i 0).val
  let c1_i32_987 : BitVec 32 := 1#32
  let v1726 : BitVec 32 := Scalar.addi arg0 c1_i32_987
  let c2_i32_988 : BitVec 32 := 2#32
  let c0_i32_989 : BitVec 32 := 0#32
  let v1727 : BitVec 1 := Scalar.cmpi .eq c2_i32_988 c0_i32_989
  let c1_i32_990 : BitVec 32 := 1#32
  let v1728 : BitVec 32 := Scalar.select v1727 c1_i32_990 c2_i32_988
  let v1729 : BitVec 32 := Scalar.remsi v1726 v1728
  let c0_i32_992 : BitVec 32 := 0#32
  let v1731 : BitVec 1 := Scalar.cmpi .slt v1729 c0_i32_992
  let c0_i32_993 : BitVec 32 := 0#32
  let v1732 : BitVec 1 := Scalar.cmpi .slt v1728 c0_i32_993
  let v1733 : BitVec 1 := Scalar.xori v1731 v1732
  let c0_i32_991 : BitVec 32 := 0#32
  let v1730 : BitVec 1 := Scalar.cmpi .ne v1729 c0_i32_991
  let v1734 : BitVec 1 := Scalar.andi v1733 v1730
  let v1735 : BitVec 32 := Scalar.addi v1729 v1728
  let v1736 : BitVec 32 := Scalar.select v1734 v1735 v1729
  let c81_i32_995 : BitVec 32 := 81#32
  let c0_i32_996 : BitVec 32 := 0#32
  ![v1736.toNat, 81, 0]
def k0_off334 (v1740 : BitVec 32) : Fin 2 → Nat :=
  let c0_i32_997 : BitVec 32 := 0#32
  ![v1740.toNat, 0]

def k0_chk84 (i : grid0.Coords) (v0 : BitVec 32) (v1740 : BitVec 32) : Prop :=
  (∀ (k0_h2 : k0_cond2 i v0 = 1#1), ∀ a, (k0_off334 v1740) a + S1x4096.size a ≤ S16896x4096.size a)
theorem k0_off334_inb : ∀ (i : grid0.Coords) (v0 : BitVec 32) (v1740 : BitVec 32) (k0_hw84 : k0_chk84 i v0 v1740), ∀ (k0_h2 : k0_cond2 i v0 = 1#1), ∀ a, (k0_off334 v1740) a + S1x4096.size a ≤ S16896x4096.size a := fun i v0 v1740 k0_hw84 k0_h2 => k0_hw84 k0_h2

def k0_off335 (i : grid0.Coords) : Fin 1 → Nat :=
  let arg0 : BitVec 32 := BitVec.ofNat 32 (i 0).val
  let c1_i32_998 : BitVec 32 := 1#32
  let v1746 : BitVec 32 := Scalar.addi arg0 c1_i32_998
  let c256_i32_1006 : BitVec 32 := 256#32
  let v1758 : BitVec 32 := Scalar.muli v1746 c256_i32_1006
  let c82_i32 : BitVec 32 := 82#32
  let v1759 : BitVec 32 := Scalar.addi v1758 c82_i32
  let v1760 : Index := Scalar.indexCast v1759
  ![v1760.toNat]
def k0_off336 (i : grid0.Coords) : Fin 1 → Nat :=
  let arg0 : BitVec 32 := BitVec.ofNat 32 (i 0).val
  let c1_i32_999 : BitVec 32 := 1#32
  let v1747 : BitVec 32 := Scalar.addi arg0 c1_i32_999
  let c2_i32_1000 : BitVec 32 := 2#32
  let c0_i32_1001 : BitVec 32 := 0#32
  let v1748 : BitVec 1 := Scalar.cmpi .eq c2_i32_1000 c0_i32_1001
  let c1_i32_1002 : BitVec 32 := 1#32
  let v1749 : BitVec 32 := Scalar.select v1748 c1_i32_1002 c2_i32_1000
  let v1750 : BitVec 32 := Scalar.remsi v1747 v1749
  let c0_i32_1004 : BitVec 32 := 0#32
  let v1752 : BitVec 1 := Scalar.cmpi .slt v1750 c0_i32_1004
  let c0_i32_1005 : BitVec 32 := 0#32
  let v1753 : BitVec 1 := Scalar.cmpi .slt v1749 c0_i32_1005
  let v1754 : BitVec 1 := Scalar.xori v1752 v1753
  let c0_i32_1003 : BitVec 32 := 0#32
  let v1751 : BitVec 1 := Scalar.cmpi .ne v1750 c0_i32_1003
  let v1755 : BitVec 1 := Scalar.andi v1754 v1751
  let v1756 : BitVec 32 := Scalar.addi v1750 v1749
  let v1757 : BitVec 32 := Scalar.select v1755 v1756 v1750
  ![v1757.toNat]
def k0_off337 (i : grid0.Coords) : Fin 3 → Nat :=
  let arg0 : BitVec 32 := BitVec.ofNat 32 (i 0).val
  let c1_i32_999 : BitVec 32 := 1#32
  let v1747 : BitVec 32 := Scalar.addi arg0 c1_i32_999
  let c2_i32_1000 : BitVec 32 := 2#32
  let c0_i32_1001 : BitVec 32 := 0#32
  let v1748 : BitVec 1 := Scalar.cmpi .eq c2_i32_1000 c0_i32_1001
  let c1_i32_1002 : BitVec 32 := 1#32
  let v1749 : BitVec 32 := Scalar.select v1748 c1_i32_1002 c2_i32_1000
  let v1750 : BitVec 32 := Scalar.remsi v1747 v1749
  let c0_i32_1004 : BitVec 32 := 0#32
  let v1752 : BitVec 1 := Scalar.cmpi .slt v1750 c0_i32_1004
  let c0_i32_1005 : BitVec 32 := 0#32
  let v1753 : BitVec 1 := Scalar.cmpi .slt v1749 c0_i32_1005
  let v1754 : BitVec 1 := Scalar.xori v1752 v1753
  let c0_i32_1003 : BitVec 32 := 0#32
  let v1751 : BitVec 1 := Scalar.cmpi .ne v1750 c0_i32_1003
  let v1755 : BitVec 1 := Scalar.andi v1754 v1751
  let v1756 : BitVec 32 := Scalar.addi v1750 v1749
  let v1757 : BitVec 32 := Scalar.select v1755 v1756 v1750
  let c82_i32_1007 : BitVec 32 := 82#32
  let c0_i32_1008 : BitVec 32 := 0#32
  ![v1757.toNat, 82, 0]
def k0_off338 (v1761 : BitVec 32) : Fin 2 → Nat :=
  let c0_i32_1009 : BitVec 32 := 0#32
  ![v1761.toNat, 0]

def k0_chk85 (i : grid0.Coords) (v0 : BitVec 32) (v1761 : BitVec 32) : Prop :=
  (∀ (k0_h2 : k0_cond2 i v0 = 1#1), ∀ a, (k0_off338 v1761) a + S1x4096.size a ≤ S16896x4096.size a)
theorem k0_off338_inb : ∀ (i : grid0.Coords) (v0 : BitVec 32) (v1761 : BitVec 32) (k0_hw85 : k0_chk85 i v0 v1761), ∀ (k0_h2 : k0_cond2 i v0 = 1#1), ∀ a, (k0_off338 v1761) a + S1x4096.size a ≤ S16896x4096.size a := fun i v0 v1761 k0_hw85 k0_h2 => k0_hw85 k0_h2

def k0_off339 (i : grid0.Coords) : Fin 1 → Nat :=
  let arg0 : BitVec 32 := BitVec.ofNat 32 (i 0).val
  let c1_i32_1010 : BitVec 32 := 1#32
  let v1767 : BitVec 32 := Scalar.addi arg0 c1_i32_1010
  let c256_i32_1018 : BitVec 32 := 256#32
  let v1779 : BitVec 32 := Scalar.muli v1767 c256_i32_1018
  let c83_i32 : BitVec 32 := 83#32
  let v1780 : BitVec 32 := Scalar.addi v1779 c83_i32
  let v1781 : Index := Scalar.indexCast v1780
  ![v1781.toNat]
def k0_off340 (i : grid0.Coords) : Fin 1 → Nat :=
  let arg0 : BitVec 32 := BitVec.ofNat 32 (i 0).val
  let c1_i32_1011 : BitVec 32 := 1#32
  let v1768 : BitVec 32 := Scalar.addi arg0 c1_i32_1011
  let c2_i32_1012 : BitVec 32 := 2#32
  let c0_i32_1013 : BitVec 32 := 0#32
  let v1769 : BitVec 1 := Scalar.cmpi .eq c2_i32_1012 c0_i32_1013
  let c1_i32_1014 : BitVec 32 := 1#32
  let v1770 : BitVec 32 := Scalar.select v1769 c1_i32_1014 c2_i32_1012
  let v1771 : BitVec 32 := Scalar.remsi v1768 v1770
  let c0_i32_1016 : BitVec 32 := 0#32
  let v1773 : BitVec 1 := Scalar.cmpi .slt v1771 c0_i32_1016
  let c0_i32_1017 : BitVec 32 := 0#32
  let v1774 : BitVec 1 := Scalar.cmpi .slt v1770 c0_i32_1017
  let v1775 : BitVec 1 := Scalar.xori v1773 v1774
  let c0_i32_1015 : BitVec 32 := 0#32
  let v1772 : BitVec 1 := Scalar.cmpi .ne v1771 c0_i32_1015
  let v1776 : BitVec 1 := Scalar.andi v1775 v1772
  let v1777 : BitVec 32 := Scalar.addi v1771 v1770
  let v1778 : BitVec 32 := Scalar.select v1776 v1777 v1771
  ![v1778.toNat]
def k0_off341 (i : grid0.Coords) : Fin 3 → Nat :=
  let arg0 : BitVec 32 := BitVec.ofNat 32 (i 0).val
  let c1_i32_1011 : BitVec 32 := 1#32
  let v1768 : BitVec 32 := Scalar.addi arg0 c1_i32_1011
  let c2_i32_1012 : BitVec 32 := 2#32
  let c0_i32_1013 : BitVec 32 := 0#32
  let v1769 : BitVec 1 := Scalar.cmpi .eq c2_i32_1012 c0_i32_1013
  let c1_i32_1014 : BitVec 32 := 1#32
  let v1770 : BitVec 32 := Scalar.select v1769 c1_i32_1014 c2_i32_1012
  let v1771 : BitVec 32 := Scalar.remsi v1768 v1770
  let c0_i32_1016 : BitVec 32 := 0#32
  let v1773 : BitVec 1 := Scalar.cmpi .slt v1771 c0_i32_1016
  let c0_i32_1017 : BitVec 32 := 0#32
  let v1774 : BitVec 1 := Scalar.cmpi .slt v1770 c0_i32_1017
  let v1775 : BitVec 1 := Scalar.xori v1773 v1774
  let c0_i32_1015 : BitVec 32 := 0#32
  let v1772 : BitVec 1 := Scalar.cmpi .ne v1771 c0_i32_1015
  let v1776 : BitVec 1 := Scalar.andi v1775 v1772
  let v1777 : BitVec 32 := Scalar.addi v1771 v1770
  let v1778 : BitVec 32 := Scalar.select v1776 v1777 v1771
  let c83_i32_1019 : BitVec 32 := 83#32
  let c0_i32_1020 : BitVec 32 := 0#32
  ![v1778.toNat, 83, 0]
def k0_off342 (v1782 : BitVec 32) : Fin 2 → Nat :=
  let c0_i32_1021 : BitVec 32 := 0#32
  ![v1782.toNat, 0]

def k0_chk86 (i : grid0.Coords) (v0 : BitVec 32) (v1782 : BitVec 32) : Prop :=
  (∀ (k0_h2 : k0_cond2 i v0 = 1#1), ∀ a, (k0_off342 v1782) a + S1x4096.size a ≤ S16896x4096.size a)
theorem k0_off342_inb : ∀ (i : grid0.Coords) (v0 : BitVec 32) (v1782 : BitVec 32) (k0_hw86 : k0_chk86 i v0 v1782), ∀ (k0_h2 : k0_cond2 i v0 = 1#1), ∀ a, (k0_off342 v1782) a + S1x4096.size a ≤ S16896x4096.size a := fun i v0 v1782 k0_hw86 k0_h2 => k0_hw86 k0_h2

def k0_off343 (i : grid0.Coords) : Fin 1 → Nat :=
  let arg0 : BitVec 32 := BitVec.ofNat 32 (i 0).val
  let c1_i32_1022 : BitVec 32 := 1#32
  let v1788 : BitVec 32 := Scalar.addi arg0 c1_i32_1022
  let c256_i32_1030 : BitVec 32 := 256#32
  let v1800 : BitVec 32 := Scalar.muli v1788 c256_i32_1030
  let c84_i32 : BitVec 32 := 84#32
  let v1801 : BitVec 32 := Scalar.addi v1800 c84_i32
  let v1802 : Index := Scalar.indexCast v1801
  ![v1802.toNat]
def k0_off344 (i : grid0.Coords) : Fin 1 → Nat :=
  let arg0 : BitVec 32 := BitVec.ofNat 32 (i 0).val
  let c1_i32_1023 : BitVec 32 := 1#32
  let v1789 : BitVec 32 := Scalar.addi arg0 c1_i32_1023
  let c2_i32_1024 : BitVec 32 := 2#32
  let c0_i32_1025 : BitVec 32 := 0#32
  let v1790 : BitVec 1 := Scalar.cmpi .eq c2_i32_1024 c0_i32_1025
  let c1_i32_1026 : BitVec 32 := 1#32
  let v1791 : BitVec 32 := Scalar.select v1790 c1_i32_1026 c2_i32_1024
  let v1792 : BitVec 32 := Scalar.remsi v1789 v1791
  let c0_i32_1028 : BitVec 32 := 0#32
  let v1794 : BitVec 1 := Scalar.cmpi .slt v1792 c0_i32_1028
  let c0_i32_1029 : BitVec 32 := 0#32
  let v1795 : BitVec 1 := Scalar.cmpi .slt v1791 c0_i32_1029
  let v1796 : BitVec 1 := Scalar.xori v1794 v1795
  let c0_i32_1027 : BitVec 32 := 0#32
  let v1793 : BitVec 1 := Scalar.cmpi .ne v1792 c0_i32_1027
  let v1797 : BitVec 1 := Scalar.andi v1796 v1793
  let v1798 : BitVec 32 := Scalar.addi v1792 v1791
  let v1799 : BitVec 32 := Scalar.select v1797 v1798 v1792
  ![v1799.toNat]
def k0_off345 (i : grid0.Coords) : Fin 3 → Nat :=
  let arg0 : BitVec 32 := BitVec.ofNat 32 (i 0).val
  let c1_i32_1023 : BitVec 32 := 1#32
  let v1789 : BitVec 32 := Scalar.addi arg0 c1_i32_1023
  let c2_i32_1024 : BitVec 32 := 2#32
  let c0_i32_1025 : BitVec 32 := 0#32
  let v1790 : BitVec 1 := Scalar.cmpi .eq c2_i32_1024 c0_i32_1025
  let c1_i32_1026 : BitVec 32 := 1#32
  let v1791 : BitVec 32 := Scalar.select v1790 c1_i32_1026 c2_i32_1024
  let v1792 : BitVec 32 := Scalar.remsi v1789 v1791
  let c0_i32_1028 : BitVec 32 := 0#32
  let v1794 : BitVec 1 := Scalar.cmpi .slt v1792 c0_i32_1028
  let c0_i32_1029 : BitVec 32 := 0#32
  let v1795 : BitVec 1 := Scalar.cmpi .slt v1791 c0_i32_1029
  let v1796 : BitVec 1 := Scalar.xori v1794 v1795
  let c0_i32_1027 : BitVec 32 := 0#32
  let v1793 : BitVec 1 := Scalar.cmpi .ne v1792 c0_i32_1027
  let v1797 : BitVec 1 := Scalar.andi v1796 v1793
  let v1798 : BitVec 32 := Scalar.addi v1792 v1791
  let v1799 : BitVec 32 := Scalar.select v1797 v1798 v1792
  let c84_i32_1031 : BitVec 32 := 84#32
  let c0_i32_1032 : BitVec 32 := 0#32
  ![v1799.toNat, 84, 0]
def k0_off346 (v1803 : BitVec 32) : Fin 2 → Nat :=
  let c0_i32_1033 : BitVec 32 := 0#32
  ![v1803.toNat, 0]

def k0_chk87 (i : grid0.Coords) (v0 : BitVec 32) (v1803 : BitVec 32) : Prop :=
  (∀ (k0_h2 : k0_cond2 i v0 = 1#1), ∀ a, (k0_off346 v1803) a + S1x4096.size a ≤ S16896x4096.size a)
theorem k0_off346_inb : ∀ (i : grid0.Coords) (v0 : BitVec 32) (v1803 : BitVec 32) (k0_hw87 : k0_chk87 i v0 v1803), ∀ (k0_h2 : k0_cond2 i v0 = 1#1), ∀ a, (k0_off346 v1803) a + S1x4096.size a ≤ S16896x4096.size a := fun i v0 v1803 k0_hw87 k0_h2 => k0_hw87 k0_h2

def k0_off347 (i : grid0.Coords) : Fin 1 → Nat :=
  let arg0 : BitVec 32 := BitVec.ofNat 32 (i 0).val
  let c1_i32_1034 : BitVec 32 := 1#32
  let v1809 : BitVec 32 := Scalar.addi arg0 c1_i32_1034
  let c256_i32_1042 : BitVec 32 := 256#32
  let v1821 : BitVec 32 := Scalar.muli v1809 c256_i32_1042
  let c85_i32 : BitVec 32 := 85#32
  let v1822 : BitVec 32 := Scalar.addi v1821 c85_i32
  let v1823 : Index := Scalar.indexCast v1822
  ![v1823.toNat]
def k0_off348 (i : grid0.Coords) : Fin 1 → Nat :=
  let arg0 : BitVec 32 := BitVec.ofNat 32 (i 0).val
  let c1_i32_1035 : BitVec 32 := 1#32
  let v1810 : BitVec 32 := Scalar.addi arg0 c1_i32_1035
  let c2_i32_1036 : BitVec 32 := 2#32
  let c0_i32_1037 : BitVec 32 := 0#32
  let v1811 : BitVec 1 := Scalar.cmpi .eq c2_i32_1036 c0_i32_1037
  let c1_i32_1038 : BitVec 32 := 1#32
  let v1812 : BitVec 32 := Scalar.select v1811 c1_i32_1038 c2_i32_1036
  let v1813 : BitVec 32 := Scalar.remsi v1810 v1812
  let c0_i32_1040 : BitVec 32 := 0#32
  let v1815 : BitVec 1 := Scalar.cmpi .slt v1813 c0_i32_1040
  let c0_i32_1041 : BitVec 32 := 0#32
  let v1816 : BitVec 1 := Scalar.cmpi .slt v1812 c0_i32_1041
  let v1817 : BitVec 1 := Scalar.xori v1815 v1816
  let c0_i32_1039 : BitVec 32 := 0#32
  let v1814 : BitVec 1 := Scalar.cmpi .ne v1813 c0_i32_1039
  let v1818 : BitVec 1 := Scalar.andi v1817 v1814
  let v1819 : BitVec 32 := Scalar.addi v1813 v1812
  let v1820 : BitVec 32 := Scalar.select v1818 v1819 v1813
  ![v1820.toNat]
def k0_off349 (i : grid0.Coords) : Fin 3 → Nat :=
  let arg0 : BitVec 32 := BitVec.ofNat 32 (i 0).val
  let c1_i32_1035 : BitVec 32 := 1#32
  let v1810 : BitVec 32 := Scalar.addi arg0 c1_i32_1035
  let c2_i32_1036 : BitVec 32 := 2#32
  let c0_i32_1037 : BitVec 32 := 0#32
  let v1811 : BitVec 1 := Scalar.cmpi .eq c2_i32_1036 c0_i32_1037
  let c1_i32_1038 : BitVec 32 := 1#32
  let v1812 : BitVec 32 := Scalar.select v1811 c1_i32_1038 c2_i32_1036
  let v1813 : BitVec 32 := Scalar.remsi v1810 v1812
  let c0_i32_1040 : BitVec 32 := 0#32
  let v1815 : BitVec 1 := Scalar.cmpi .slt v1813 c0_i32_1040
  let c0_i32_1041 : BitVec 32 := 0#32
  let v1816 : BitVec 1 := Scalar.cmpi .slt v1812 c0_i32_1041
  let v1817 : BitVec 1 := Scalar.xori v1815 v1816
  let c0_i32_1039 : BitVec 32 := 0#32
  let v1814 : BitVec 1 := Scalar.cmpi .ne v1813 c0_i32_1039
  let v1818 : BitVec 1 := Scalar.andi v1817 v1814
  let v1819 : BitVec 32 := Scalar.addi v1813 v1812
  let v1820 : BitVec 32 := Scalar.select v1818 v1819 v1813
  let c85_i32_1043 : BitVec 32 := 85#32
  let c0_i32_1044 : BitVec 32 := 0#32
  ![v1820.toNat, 85, 0]
def k0_off350 (v1824 : BitVec 32) : Fin 2 → Nat :=
  let c0_i32_1045 : BitVec 32 := 0#32
  ![v1824.toNat, 0]

def k0_chk88 (i : grid0.Coords) (v0 : BitVec 32) (v1824 : BitVec 32) : Prop :=
  (∀ (k0_h2 : k0_cond2 i v0 = 1#1), ∀ a, (k0_off350 v1824) a + S1x4096.size a ≤ S16896x4096.size a)
theorem k0_off350_inb : ∀ (i : grid0.Coords) (v0 : BitVec 32) (v1824 : BitVec 32) (k0_hw88 : k0_chk88 i v0 v1824), ∀ (k0_h2 : k0_cond2 i v0 = 1#1), ∀ a, (k0_off350 v1824) a + S1x4096.size a ≤ S16896x4096.size a := fun i v0 v1824 k0_hw88 k0_h2 => k0_hw88 k0_h2

def k0_off351 (i : grid0.Coords) : Fin 1 → Nat :=
  let arg0 : BitVec 32 := BitVec.ofNat 32 (i 0).val
  let c1_i32_1046 : BitVec 32 := 1#32
  let v1830 : BitVec 32 := Scalar.addi arg0 c1_i32_1046
  let c256_i32_1054 : BitVec 32 := 256#32
  let v1842 : BitVec 32 := Scalar.muli v1830 c256_i32_1054
  let c86_i32 : BitVec 32 := 86#32
  let v1843 : BitVec 32 := Scalar.addi v1842 c86_i32
  let v1844 : Index := Scalar.indexCast v1843
  ![v1844.toNat]
def k0_off352 (i : grid0.Coords) : Fin 1 → Nat :=
  let arg0 : BitVec 32 := BitVec.ofNat 32 (i 0).val
  let c1_i32_1047 : BitVec 32 := 1#32
  let v1831 : BitVec 32 := Scalar.addi arg0 c1_i32_1047
  let c2_i32_1048 : BitVec 32 := 2#32
  let c0_i32_1049 : BitVec 32 := 0#32
  let v1832 : BitVec 1 := Scalar.cmpi .eq c2_i32_1048 c0_i32_1049
  let c1_i32_1050 : BitVec 32 := 1#32
  let v1833 : BitVec 32 := Scalar.select v1832 c1_i32_1050 c2_i32_1048
  let v1834 : BitVec 32 := Scalar.remsi v1831 v1833
  let c0_i32_1052 : BitVec 32 := 0#32
  let v1836 : BitVec 1 := Scalar.cmpi .slt v1834 c0_i32_1052
  let c0_i32_1053 : BitVec 32 := 0#32
  let v1837 : BitVec 1 := Scalar.cmpi .slt v1833 c0_i32_1053
  let v1838 : BitVec 1 := Scalar.xori v1836 v1837
  let c0_i32_1051 : BitVec 32 := 0#32
  let v1835 : BitVec 1 := Scalar.cmpi .ne v1834 c0_i32_1051
  let v1839 : BitVec 1 := Scalar.andi v1838 v1835
  let v1840 : BitVec 32 := Scalar.addi v1834 v1833
  let v1841 : BitVec 32 := Scalar.select v1839 v1840 v1834
  ![v1841.toNat]
def k0_off353 (i : grid0.Coords) : Fin 3 → Nat :=
  let arg0 : BitVec 32 := BitVec.ofNat 32 (i 0).val
  let c1_i32_1047 : BitVec 32 := 1#32
  let v1831 : BitVec 32 := Scalar.addi arg0 c1_i32_1047
  let c2_i32_1048 : BitVec 32 := 2#32
  let c0_i32_1049 : BitVec 32 := 0#32
  let v1832 : BitVec 1 := Scalar.cmpi .eq c2_i32_1048 c0_i32_1049
  let c1_i32_1050 : BitVec 32 := 1#32
  let v1833 : BitVec 32 := Scalar.select v1832 c1_i32_1050 c2_i32_1048
  let v1834 : BitVec 32 := Scalar.remsi v1831 v1833
  let c0_i32_1052 : BitVec 32 := 0#32
  let v1836 : BitVec 1 := Scalar.cmpi .slt v1834 c0_i32_1052
  let c0_i32_1053 : BitVec 32 := 0#32
  let v1837 : BitVec 1 := Scalar.cmpi .slt v1833 c0_i32_1053
  let v1838 : BitVec 1 := Scalar.xori v1836 v1837
  let c0_i32_1051 : BitVec 32 := 0#32
  let v1835 : BitVec 1 := Scalar.cmpi .ne v1834 c0_i32_1051
  let v1839 : BitVec 1 := Scalar.andi v1838 v1835
  let v1840 : BitVec 32 := Scalar.addi v1834 v1833
  let v1841 : BitVec 32 := Scalar.select v1839 v1840 v1834
  let c86_i32_1055 : BitVec 32 := 86#32
  let c0_i32_1056 : BitVec 32 := 0#32
  ![v1841.toNat, 86, 0]
def k0_off354 (v1845 : BitVec 32) : Fin 2 → Nat :=
  let c0_i32_1057 : BitVec 32 := 0#32
  ![v1845.toNat, 0]

def k0_chk89 (i : grid0.Coords) (v0 : BitVec 32) (v1845 : BitVec 32) : Prop :=
  (∀ (k0_h2 : k0_cond2 i v0 = 1#1), ∀ a, (k0_off354 v1845) a + S1x4096.size a ≤ S16896x4096.size a)
theorem k0_off354_inb : ∀ (i : grid0.Coords) (v0 : BitVec 32) (v1845 : BitVec 32) (k0_hw89 : k0_chk89 i v0 v1845), ∀ (k0_h2 : k0_cond2 i v0 = 1#1), ∀ a, (k0_off354 v1845) a + S1x4096.size a ≤ S16896x4096.size a := fun i v0 v1845 k0_hw89 k0_h2 => k0_hw89 k0_h2

def k0_off355 (i : grid0.Coords) : Fin 1 → Nat :=
  let arg0 : BitVec 32 := BitVec.ofNat 32 (i 0).val
  let c1_i32_1058 : BitVec 32 := 1#32
  let v1851 : BitVec 32 := Scalar.addi arg0 c1_i32_1058
  let c256_i32_1066 : BitVec 32 := 256#32
  let v1863 : BitVec 32 := Scalar.muli v1851 c256_i32_1066
  let c87_i32 : BitVec 32 := 87#32
  let v1864 : BitVec 32 := Scalar.addi v1863 c87_i32
  let v1865 : Index := Scalar.indexCast v1864
  ![v1865.toNat]
def k0_off356 (i : grid0.Coords) : Fin 1 → Nat :=
  let arg0 : BitVec 32 := BitVec.ofNat 32 (i 0).val
  let c1_i32_1059 : BitVec 32 := 1#32
  let v1852 : BitVec 32 := Scalar.addi arg0 c1_i32_1059
  let c2_i32_1060 : BitVec 32 := 2#32
  let c0_i32_1061 : BitVec 32 := 0#32
  let v1853 : BitVec 1 := Scalar.cmpi .eq c2_i32_1060 c0_i32_1061
  let c1_i32_1062 : BitVec 32 := 1#32
  let v1854 : BitVec 32 := Scalar.select v1853 c1_i32_1062 c2_i32_1060
  let v1855 : BitVec 32 := Scalar.remsi v1852 v1854
  let c0_i32_1064 : BitVec 32 := 0#32
  let v1857 : BitVec 1 := Scalar.cmpi .slt v1855 c0_i32_1064
  let c0_i32_1065 : BitVec 32 := 0#32
  let v1858 : BitVec 1 := Scalar.cmpi .slt v1854 c0_i32_1065
  let v1859 : BitVec 1 := Scalar.xori v1857 v1858
  let c0_i32_1063 : BitVec 32 := 0#32
  let v1856 : BitVec 1 := Scalar.cmpi .ne v1855 c0_i32_1063
  let v1860 : BitVec 1 := Scalar.andi v1859 v1856
  let v1861 : BitVec 32 := Scalar.addi v1855 v1854
  let v1862 : BitVec 32 := Scalar.select v1860 v1861 v1855
  ![v1862.toNat]
def k0_off357 (i : grid0.Coords) : Fin 3 → Nat :=
  let arg0 : BitVec 32 := BitVec.ofNat 32 (i 0).val
  let c1_i32_1059 : BitVec 32 := 1#32
  let v1852 : BitVec 32 := Scalar.addi arg0 c1_i32_1059
  let c2_i32_1060 : BitVec 32 := 2#32
  let c0_i32_1061 : BitVec 32 := 0#32
  let v1853 : BitVec 1 := Scalar.cmpi .eq c2_i32_1060 c0_i32_1061
  let c1_i32_1062 : BitVec 32 := 1#32
  let v1854 : BitVec 32 := Scalar.select v1853 c1_i32_1062 c2_i32_1060
  let v1855 : BitVec 32 := Scalar.remsi v1852 v1854
  let c0_i32_1064 : BitVec 32 := 0#32
  let v1857 : BitVec 1 := Scalar.cmpi .slt v1855 c0_i32_1064
  let c0_i32_1065 : BitVec 32 := 0#32
  let v1858 : BitVec 1 := Scalar.cmpi .slt v1854 c0_i32_1065
  let v1859 : BitVec 1 := Scalar.xori v1857 v1858
  let c0_i32_1063 : BitVec 32 := 0#32
  let v1856 : BitVec 1 := Scalar.cmpi .ne v1855 c0_i32_1063
  let v1860 : BitVec 1 := Scalar.andi v1859 v1856
  let v1861 : BitVec 32 := Scalar.addi v1855 v1854
  let v1862 : BitVec 32 := Scalar.select v1860 v1861 v1855
  let c87_i32_1067 : BitVec 32 := 87#32
  let c0_i32_1068 : BitVec 32 := 0#32
  ![v1862.toNat, 87, 0]
def k0_off358 (v1866 : BitVec 32) : Fin 2 → Nat :=
  let c0_i32_1069 : BitVec 32 := 0#32
  ![v1866.toNat, 0]

def k0_chk90 (i : grid0.Coords) (v0 : BitVec 32) (v1866 : BitVec 32) : Prop :=
  (∀ (k0_h2 : k0_cond2 i v0 = 1#1), ∀ a, (k0_off358 v1866) a + S1x4096.size a ≤ S16896x4096.size a)
theorem k0_off358_inb : ∀ (i : grid0.Coords) (v0 : BitVec 32) (v1866 : BitVec 32) (k0_hw90 : k0_chk90 i v0 v1866), ∀ (k0_h2 : k0_cond2 i v0 = 1#1), ∀ a, (k0_off358 v1866) a + S1x4096.size a ≤ S16896x4096.size a := fun i v0 v1866 k0_hw90 k0_h2 => k0_hw90 k0_h2

def k0_off359 (i : grid0.Coords) : Fin 1 → Nat :=
  let arg0 : BitVec 32 := BitVec.ofNat 32 (i 0).val
  let c1_i32_1070 : BitVec 32 := 1#32
  let v1872 : BitVec 32 := Scalar.addi arg0 c1_i32_1070
  let c256_i32_1078 : BitVec 32 := 256#32
  let v1884 : BitVec 32 := Scalar.muli v1872 c256_i32_1078
  let c88_i32 : BitVec 32 := 88#32
  let v1885 : BitVec 32 := Scalar.addi v1884 c88_i32
  let v1886 : Index := Scalar.indexCast v1885
  ![v1886.toNat]
def k0_off360 (i : grid0.Coords) : Fin 1 → Nat :=
  let arg0 : BitVec 32 := BitVec.ofNat 32 (i 0).val
  let c1_i32_1071 : BitVec 32 := 1#32
  let v1873 : BitVec 32 := Scalar.addi arg0 c1_i32_1071
  let c2_i32_1072 : BitVec 32 := 2#32
  let c0_i32_1073 : BitVec 32 := 0#32
  let v1874 : BitVec 1 := Scalar.cmpi .eq c2_i32_1072 c0_i32_1073
  let c1_i32_1074 : BitVec 32 := 1#32
  let v1875 : BitVec 32 := Scalar.select v1874 c1_i32_1074 c2_i32_1072
  let v1876 : BitVec 32 := Scalar.remsi v1873 v1875
  let c0_i32_1076 : BitVec 32 := 0#32
  let v1878 : BitVec 1 := Scalar.cmpi .slt v1876 c0_i32_1076
  let c0_i32_1077 : BitVec 32 := 0#32
  let v1879 : BitVec 1 := Scalar.cmpi .slt v1875 c0_i32_1077
  let v1880 : BitVec 1 := Scalar.xori v1878 v1879
  let c0_i32_1075 : BitVec 32 := 0#32
  let v1877 : BitVec 1 := Scalar.cmpi .ne v1876 c0_i32_1075
  let v1881 : BitVec 1 := Scalar.andi v1880 v1877
  let v1882 : BitVec 32 := Scalar.addi v1876 v1875
  let v1883 : BitVec 32 := Scalar.select v1881 v1882 v1876
  ![v1883.toNat]
def k0_off361 (i : grid0.Coords) : Fin 3 → Nat :=
  let arg0 : BitVec 32 := BitVec.ofNat 32 (i 0).val
  let c1_i32_1071 : BitVec 32 := 1#32
  let v1873 : BitVec 32 := Scalar.addi arg0 c1_i32_1071
  let c2_i32_1072 : BitVec 32 := 2#32
  let c0_i32_1073 : BitVec 32 := 0#32
  let v1874 : BitVec 1 := Scalar.cmpi .eq c2_i32_1072 c0_i32_1073
  let c1_i32_1074 : BitVec 32 := 1#32
  let v1875 : BitVec 32 := Scalar.select v1874 c1_i32_1074 c2_i32_1072
  let v1876 : BitVec 32 := Scalar.remsi v1873 v1875
  let c0_i32_1076 : BitVec 32 := 0#32
  let v1878 : BitVec 1 := Scalar.cmpi .slt v1876 c0_i32_1076
  let c0_i32_1077 : BitVec 32 := 0#32
  let v1879 : BitVec 1 := Scalar.cmpi .slt v1875 c0_i32_1077
  let v1880 : BitVec 1 := Scalar.xori v1878 v1879
  let c0_i32_1075 : BitVec 32 := 0#32
  let v1877 : BitVec 1 := Scalar.cmpi .ne v1876 c0_i32_1075
  let v1881 : BitVec 1 := Scalar.andi v1880 v1877
  let v1882 : BitVec 32 := Scalar.addi v1876 v1875
  let v1883 : BitVec 32 := Scalar.select v1881 v1882 v1876
  let c88_i32_1079 : BitVec 32 := 88#32
  let c0_i32_1080 : BitVec 32 := 0#32
  ![v1883.toNat, 88, 0]
def k0_off362 (v1887 : BitVec 32) : Fin 2 → Nat :=
  let c0_i32_1081 : BitVec 32 := 0#32
  ![v1887.toNat, 0]

def k0_chk91 (i : grid0.Coords) (v0 : BitVec 32) (v1887 : BitVec 32) : Prop :=
  (∀ (k0_h2 : k0_cond2 i v0 = 1#1), ∀ a, (k0_off362 v1887) a + S1x4096.size a ≤ S16896x4096.size a)
theorem k0_off362_inb : ∀ (i : grid0.Coords) (v0 : BitVec 32) (v1887 : BitVec 32) (k0_hw91 : k0_chk91 i v0 v1887), ∀ (k0_h2 : k0_cond2 i v0 = 1#1), ∀ a, (k0_off362 v1887) a + S1x4096.size a ≤ S16896x4096.size a := fun i v0 v1887 k0_hw91 k0_h2 => k0_hw91 k0_h2

def k0_off363 (i : grid0.Coords) : Fin 1 → Nat :=
  let arg0 : BitVec 32 := BitVec.ofNat 32 (i 0).val
  let c1_i32_1082 : BitVec 32 := 1#32
  let v1893 : BitVec 32 := Scalar.addi arg0 c1_i32_1082
  let c256_i32_1090 : BitVec 32 := 256#32
  let v1905 : BitVec 32 := Scalar.muli v1893 c256_i32_1090
  let c89_i32 : BitVec 32 := 89#32
  let v1906 : BitVec 32 := Scalar.addi v1905 c89_i32
  let v1907 : Index := Scalar.indexCast v1906
  ![v1907.toNat]
def k0_off364 (i : grid0.Coords) : Fin 1 → Nat :=
  let arg0 : BitVec 32 := BitVec.ofNat 32 (i 0).val
  let c1_i32_1083 : BitVec 32 := 1#32
  let v1894 : BitVec 32 := Scalar.addi arg0 c1_i32_1083
  let c2_i32_1084 : BitVec 32 := 2#32
  let c0_i32_1085 : BitVec 32 := 0#32
  let v1895 : BitVec 1 := Scalar.cmpi .eq c2_i32_1084 c0_i32_1085
  let c1_i32_1086 : BitVec 32 := 1#32
  let v1896 : BitVec 32 := Scalar.select v1895 c1_i32_1086 c2_i32_1084
  let v1897 : BitVec 32 := Scalar.remsi v1894 v1896
  let c0_i32_1088 : BitVec 32 := 0#32
  let v1899 : BitVec 1 := Scalar.cmpi .slt v1897 c0_i32_1088
  let c0_i32_1089 : BitVec 32 := 0#32
  let v1900 : BitVec 1 := Scalar.cmpi .slt v1896 c0_i32_1089
  let v1901 : BitVec 1 := Scalar.xori v1899 v1900
  let c0_i32_1087 : BitVec 32 := 0#32
  let v1898 : BitVec 1 := Scalar.cmpi .ne v1897 c0_i32_1087
  let v1902 : BitVec 1 := Scalar.andi v1901 v1898
  let v1903 : BitVec 32 := Scalar.addi v1897 v1896
  let v1904 : BitVec 32 := Scalar.select v1902 v1903 v1897
  ![v1904.toNat]
def k0_off365 (i : grid0.Coords) : Fin 3 → Nat :=
  let arg0 : BitVec 32 := BitVec.ofNat 32 (i 0).val
  let c1_i32_1083 : BitVec 32 := 1#32
  let v1894 : BitVec 32 := Scalar.addi arg0 c1_i32_1083
  let c2_i32_1084 : BitVec 32 := 2#32
  let c0_i32_1085 : BitVec 32 := 0#32
  let v1895 : BitVec 1 := Scalar.cmpi .eq c2_i32_1084 c0_i32_1085
  let c1_i32_1086 : BitVec 32 := 1#32
  let v1896 : BitVec 32 := Scalar.select v1895 c1_i32_1086 c2_i32_1084
  let v1897 : BitVec 32 := Scalar.remsi v1894 v1896
  let c0_i32_1088 : BitVec 32 := 0#32
  let v1899 : BitVec 1 := Scalar.cmpi .slt v1897 c0_i32_1088
  let c0_i32_1089 : BitVec 32 := 0#32
  let v1900 : BitVec 1 := Scalar.cmpi .slt v1896 c0_i32_1089
  let v1901 : BitVec 1 := Scalar.xori v1899 v1900
  let c0_i32_1087 : BitVec 32 := 0#32
  let v1898 : BitVec 1 := Scalar.cmpi .ne v1897 c0_i32_1087
  let v1902 : BitVec 1 := Scalar.andi v1901 v1898
  let v1903 : BitVec 32 := Scalar.addi v1897 v1896
  let v1904 : BitVec 32 := Scalar.select v1902 v1903 v1897
  let c89_i32_1091 : BitVec 32 := 89#32
  let c0_i32_1092 : BitVec 32 := 0#32
  ![v1904.toNat, 89, 0]
def k0_off366 (v1908 : BitVec 32) : Fin 2 → Nat :=
  let c0_i32_1093 : BitVec 32 := 0#32
  ![v1908.toNat, 0]

def k0_chk92 (i : grid0.Coords) (v0 : BitVec 32) (v1908 : BitVec 32) : Prop :=
  (∀ (k0_h2 : k0_cond2 i v0 = 1#1), ∀ a, (k0_off366 v1908) a + S1x4096.size a ≤ S16896x4096.size a)
theorem k0_off366_inb : ∀ (i : grid0.Coords) (v0 : BitVec 32) (v1908 : BitVec 32) (k0_hw92 : k0_chk92 i v0 v1908), ∀ (k0_h2 : k0_cond2 i v0 = 1#1), ∀ a, (k0_off366 v1908) a + S1x4096.size a ≤ S16896x4096.size a := fun i v0 v1908 k0_hw92 k0_h2 => k0_hw92 k0_h2

def k0_off367 (i : grid0.Coords) : Fin 1 → Nat :=
  let arg0 : BitVec 32 := BitVec.ofNat 32 (i 0).val
  let c1_i32_1094 : BitVec 32 := 1#32
  let v1914 : BitVec 32 := Scalar.addi arg0 c1_i32_1094
  let c256_i32_1102 : BitVec 32 := 256#32
  let v1926 : BitVec 32 := Scalar.muli v1914 c256_i32_1102
  let c90_i32 : BitVec 32 := 90#32
  let v1927 : BitVec 32 := Scalar.addi v1926 c90_i32
  let v1928 : Index := Scalar.indexCast v1927
  ![v1928.toNat]
def k0_off368 (i : grid0.Coords) : Fin 1 → Nat :=
  let arg0 : BitVec 32 := BitVec.ofNat 32 (i 0).val
  let c1_i32_1095 : BitVec 32 := 1#32
  let v1915 : BitVec 32 := Scalar.addi arg0 c1_i32_1095
  let c2_i32_1096 : BitVec 32 := 2#32
  let c0_i32_1097 : BitVec 32 := 0#32
  let v1916 : BitVec 1 := Scalar.cmpi .eq c2_i32_1096 c0_i32_1097
  let c1_i32_1098 : BitVec 32 := 1#32
  let v1917 : BitVec 32 := Scalar.select v1916 c1_i32_1098 c2_i32_1096
  let v1918 : BitVec 32 := Scalar.remsi v1915 v1917
  let c0_i32_1100 : BitVec 32 := 0#32
  let v1920 : BitVec 1 := Scalar.cmpi .slt v1918 c0_i32_1100
  let c0_i32_1101 : BitVec 32 := 0#32
  let v1921 : BitVec 1 := Scalar.cmpi .slt v1917 c0_i32_1101
  let v1922 : BitVec 1 := Scalar.xori v1920 v1921
  let c0_i32_1099 : BitVec 32 := 0#32
  let v1919 : BitVec 1 := Scalar.cmpi .ne v1918 c0_i32_1099
  let v1923 : BitVec 1 := Scalar.andi v1922 v1919
  let v1924 : BitVec 32 := Scalar.addi v1918 v1917
  let v1925 : BitVec 32 := Scalar.select v1923 v1924 v1918
  ![v1925.toNat]
def k0_off369 (i : grid0.Coords) : Fin 3 → Nat :=
  let arg0 : BitVec 32 := BitVec.ofNat 32 (i 0).val
  let c1_i32_1095 : BitVec 32 := 1#32
  let v1915 : BitVec 32 := Scalar.addi arg0 c1_i32_1095
  let c2_i32_1096 : BitVec 32 := 2#32
  let c0_i32_1097 : BitVec 32 := 0#32
  let v1916 : BitVec 1 := Scalar.cmpi .eq c2_i32_1096 c0_i32_1097
  let c1_i32_1098 : BitVec 32 := 1#32
  let v1917 : BitVec 32 := Scalar.select v1916 c1_i32_1098 c2_i32_1096
  let v1918 : BitVec 32 := Scalar.remsi v1915 v1917
  let c0_i32_1100 : BitVec 32 := 0#32
  let v1920 : BitVec 1 := Scalar.cmpi .slt v1918 c0_i32_1100
  let c0_i32_1101 : BitVec 32 := 0#32
  let v1921 : BitVec 1 := Scalar.cmpi .slt v1917 c0_i32_1101
  let v1922 : BitVec 1 := Scalar.xori v1920 v1921
  let c0_i32_1099 : BitVec 32 := 0#32
  let v1919 : BitVec 1 := Scalar.cmpi .ne v1918 c0_i32_1099
  let v1923 : BitVec 1 := Scalar.andi v1922 v1919
  let v1924 : BitVec 32 := Scalar.addi v1918 v1917
  let v1925 : BitVec 32 := Scalar.select v1923 v1924 v1918
  let c90_i32_1103 : BitVec 32 := 90#32
  let c0_i32_1104 : BitVec 32 := 0#32
  ![v1925.toNat, 90, 0]
def k0_off370 (v1929 : BitVec 32) : Fin 2 → Nat :=
  let c0_i32_1105 : BitVec 32 := 0#32
  ![v1929.toNat, 0]

def k0_chk93 (i : grid0.Coords) (v0 : BitVec 32) (v1929 : BitVec 32) : Prop :=
  (∀ (k0_h2 : k0_cond2 i v0 = 1#1), ∀ a, (k0_off370 v1929) a + S1x4096.size a ≤ S16896x4096.size a)
theorem k0_off370_inb : ∀ (i : grid0.Coords) (v0 : BitVec 32) (v1929 : BitVec 32) (k0_hw93 : k0_chk93 i v0 v1929), ∀ (k0_h2 : k0_cond2 i v0 = 1#1), ∀ a, (k0_off370 v1929) a + S1x4096.size a ≤ S16896x4096.size a := fun i v0 v1929 k0_hw93 k0_h2 => k0_hw93 k0_h2

def k0_off371 (i : grid0.Coords) : Fin 1 → Nat :=
  let arg0 : BitVec 32 := BitVec.ofNat 32 (i 0).val
  let c1_i32_1106 : BitVec 32 := 1#32
  let v1935 : BitVec 32 := Scalar.addi arg0 c1_i32_1106
  let c256_i32_1114 : BitVec 32 := 256#32
  let v1947 : BitVec 32 := Scalar.muli v1935 c256_i32_1114
  let c91_i32 : BitVec 32 := 91#32
  let v1948 : BitVec 32 := Scalar.addi v1947 c91_i32
  let v1949 : Index := Scalar.indexCast v1948
  ![v1949.toNat]
def k0_off372 (i : grid0.Coords) : Fin 1 → Nat :=
  let arg0 : BitVec 32 := BitVec.ofNat 32 (i 0).val
  let c1_i32_1107 : BitVec 32 := 1#32
  let v1936 : BitVec 32 := Scalar.addi arg0 c1_i32_1107
  let c2_i32_1108 : BitVec 32 := 2#32
  let c0_i32_1109 : BitVec 32 := 0#32
  let v1937 : BitVec 1 := Scalar.cmpi .eq c2_i32_1108 c0_i32_1109
  let c1_i32_1110 : BitVec 32 := 1#32
  let v1938 : BitVec 32 := Scalar.select v1937 c1_i32_1110 c2_i32_1108
  let v1939 : BitVec 32 := Scalar.remsi v1936 v1938
  let c0_i32_1112 : BitVec 32 := 0#32
  let v1941 : BitVec 1 := Scalar.cmpi .slt v1939 c0_i32_1112
  let c0_i32_1113 : BitVec 32 := 0#32
  let v1942 : BitVec 1 := Scalar.cmpi .slt v1938 c0_i32_1113
  let v1943 : BitVec 1 := Scalar.xori v1941 v1942
  let c0_i32_1111 : BitVec 32 := 0#32
  let v1940 : BitVec 1 := Scalar.cmpi .ne v1939 c0_i32_1111
  let v1944 : BitVec 1 := Scalar.andi v1943 v1940
  let v1945 : BitVec 32 := Scalar.addi v1939 v1938
  let v1946 : BitVec 32 := Scalar.select v1944 v1945 v1939
  ![v1946.toNat]
def k0_off373 (i : grid0.Coords) : Fin 3 → Nat :=
  let arg0 : BitVec 32 := BitVec.ofNat 32 (i 0).val
  let c1_i32_1107 : BitVec 32 := 1#32
  let v1936 : BitVec 32 := Scalar.addi arg0 c1_i32_1107
  let c2_i32_1108 : BitVec 32 := 2#32
  let c0_i32_1109 : BitVec 32 := 0#32
  let v1937 : BitVec 1 := Scalar.cmpi .eq c2_i32_1108 c0_i32_1109
  let c1_i32_1110 : BitVec 32 := 1#32
  let v1938 : BitVec 32 := Scalar.select v1937 c1_i32_1110 c2_i32_1108
  let v1939 : BitVec 32 := Scalar.remsi v1936 v1938
  let c0_i32_1112 : BitVec 32 := 0#32
  let v1941 : BitVec 1 := Scalar.cmpi .slt v1939 c0_i32_1112
  let c0_i32_1113 : BitVec 32 := 0#32
  let v1942 : BitVec 1 := Scalar.cmpi .slt v1938 c0_i32_1113
  let v1943 : BitVec 1 := Scalar.xori v1941 v1942
  let c0_i32_1111 : BitVec 32 := 0#32
  let v1940 : BitVec 1 := Scalar.cmpi .ne v1939 c0_i32_1111
  let v1944 : BitVec 1 := Scalar.andi v1943 v1940
  let v1945 : BitVec 32 := Scalar.addi v1939 v1938
  let v1946 : BitVec 32 := Scalar.select v1944 v1945 v1939
  let c91_i32_1115 : BitVec 32 := 91#32
  let c0_i32_1116 : BitVec 32 := 0#32
  ![v1946.toNat, 91, 0]
def k0_off374 (v1950 : BitVec 32) : Fin 2 → Nat :=
  let c0_i32_1117 : BitVec 32 := 0#32
  ![v1950.toNat, 0]

def k0_chk94 (i : grid0.Coords) (v0 : BitVec 32) (v1950 : BitVec 32) : Prop :=
  (∀ (k0_h2 : k0_cond2 i v0 = 1#1), ∀ a, (k0_off374 v1950) a + S1x4096.size a ≤ S16896x4096.size a)
theorem k0_off374_inb : ∀ (i : grid0.Coords) (v0 : BitVec 32) (v1950 : BitVec 32) (k0_hw94 : k0_chk94 i v0 v1950), ∀ (k0_h2 : k0_cond2 i v0 = 1#1), ∀ a, (k0_off374 v1950) a + S1x4096.size a ≤ S16896x4096.size a := fun i v0 v1950 k0_hw94 k0_h2 => k0_hw94 k0_h2

def k0_off375 (i : grid0.Coords) : Fin 1 → Nat :=
  let arg0 : BitVec 32 := BitVec.ofNat 32 (i 0).val
  let c1_i32_1118 : BitVec 32 := 1#32
  let v1956 : BitVec 32 := Scalar.addi arg0 c1_i32_1118
  let c256_i32_1126 : BitVec 32 := 256#32
  let v1968 : BitVec 32 := Scalar.muli v1956 c256_i32_1126
  let c92_i32 : BitVec 32 := 92#32
  let v1969 : BitVec 32 := Scalar.addi v1968 c92_i32
  let v1970 : Index := Scalar.indexCast v1969
  ![v1970.toNat]
def k0_off376 (i : grid0.Coords) : Fin 1 → Nat :=
  let arg0 : BitVec 32 := BitVec.ofNat 32 (i 0).val
  let c1_i32_1119 : BitVec 32 := 1#32
  let v1957 : BitVec 32 := Scalar.addi arg0 c1_i32_1119
  let c2_i32_1120 : BitVec 32 := 2#32
  let c0_i32_1121 : BitVec 32 := 0#32
  let v1958 : BitVec 1 := Scalar.cmpi .eq c2_i32_1120 c0_i32_1121
  let c1_i32_1122 : BitVec 32 := 1#32
  let v1959 : BitVec 32 := Scalar.select v1958 c1_i32_1122 c2_i32_1120
  let v1960 : BitVec 32 := Scalar.remsi v1957 v1959
  let c0_i32_1124 : BitVec 32 := 0#32
  let v1962 : BitVec 1 := Scalar.cmpi .slt v1960 c0_i32_1124
  let c0_i32_1125 : BitVec 32 := 0#32
  let v1963 : BitVec 1 := Scalar.cmpi .slt v1959 c0_i32_1125
  let v1964 : BitVec 1 := Scalar.xori v1962 v1963
  let c0_i32_1123 : BitVec 32 := 0#32
  let v1961 : BitVec 1 := Scalar.cmpi .ne v1960 c0_i32_1123
  let v1965 : BitVec 1 := Scalar.andi v1964 v1961
  let v1966 : BitVec 32 := Scalar.addi v1960 v1959
  let v1967 : BitVec 32 := Scalar.select v1965 v1966 v1960
  ![v1967.toNat]
def k0_off377 (i : grid0.Coords) : Fin 3 → Nat :=
  let arg0 : BitVec 32 := BitVec.ofNat 32 (i 0).val
  let c1_i32_1119 : BitVec 32 := 1#32
  let v1957 : BitVec 32 := Scalar.addi arg0 c1_i32_1119
  let c2_i32_1120 : BitVec 32 := 2#32
  let c0_i32_1121 : BitVec 32 := 0#32
  let v1958 : BitVec 1 := Scalar.cmpi .eq c2_i32_1120 c0_i32_1121
  let c1_i32_1122 : BitVec 32 := 1#32
  let v1959 : BitVec 32 := Scalar.select v1958 c1_i32_1122 c2_i32_1120
  let v1960 : BitVec 32 := Scalar.remsi v1957 v1959
  let c0_i32_1124 : BitVec 32 := 0#32
  let v1962 : BitVec 1 := Scalar.cmpi .slt v1960 c0_i32_1124
  let c0_i32_1125 : BitVec 32 := 0#32
  let v1963 : BitVec 1 := Scalar.cmpi .slt v1959 c0_i32_1125
  let v1964 : BitVec 1 := Scalar.xori v1962 v1963
  let c0_i32_1123 : BitVec 32 := 0#32
  let v1961 : BitVec 1 := Scalar.cmpi .ne v1960 c0_i32_1123
  let v1965 : BitVec 1 := Scalar.andi v1964 v1961
  let v1966 : BitVec 32 := Scalar.addi v1960 v1959
  let v1967 : BitVec 32 := Scalar.select v1965 v1966 v1960
  let c92_i32_1127 : BitVec 32 := 92#32
  let c0_i32_1128 : BitVec 32 := 0#32
  ![v1967.toNat, 92, 0]
def k0_off378 (v1971 : BitVec 32) : Fin 2 → Nat :=
  let c0_i32_1129 : BitVec 32 := 0#32
  ![v1971.toNat, 0]

def k0_chk95 (i : grid0.Coords) (v0 : BitVec 32) (v1971 : BitVec 32) : Prop :=
  (∀ (k0_h2 : k0_cond2 i v0 = 1#1), ∀ a, (k0_off378 v1971) a + S1x4096.size a ≤ S16896x4096.size a)
theorem k0_off378_inb : ∀ (i : grid0.Coords) (v0 : BitVec 32) (v1971 : BitVec 32) (k0_hw95 : k0_chk95 i v0 v1971), ∀ (k0_h2 : k0_cond2 i v0 = 1#1), ∀ a, (k0_off378 v1971) a + S1x4096.size a ≤ S16896x4096.size a := fun i v0 v1971 k0_hw95 k0_h2 => k0_hw95 k0_h2

def k0_off379 (i : grid0.Coords) : Fin 1 → Nat :=
  let arg0 : BitVec 32 := BitVec.ofNat 32 (i 0).val
  let c1_i32_1130 : BitVec 32 := 1#32
  let v1977 : BitVec 32 := Scalar.addi arg0 c1_i32_1130
  let c256_i32_1138 : BitVec 32 := 256#32
  let v1989 : BitVec 32 := Scalar.muli v1977 c256_i32_1138
  let c93_i32 : BitVec 32 := 93#32
  let v1990 : BitVec 32 := Scalar.addi v1989 c93_i32
  let v1991 : Index := Scalar.indexCast v1990
  ![v1991.toNat]
def k0_off380 (i : grid0.Coords) : Fin 1 → Nat :=
  let arg0 : BitVec 32 := BitVec.ofNat 32 (i 0).val
  let c1_i32_1131 : BitVec 32 := 1#32
  let v1978 : BitVec 32 := Scalar.addi arg0 c1_i32_1131
  let c2_i32_1132 : BitVec 32 := 2#32
  let c0_i32_1133 : BitVec 32 := 0#32
  let v1979 : BitVec 1 := Scalar.cmpi .eq c2_i32_1132 c0_i32_1133
  let c1_i32_1134 : BitVec 32 := 1#32
  let v1980 : BitVec 32 := Scalar.select v1979 c1_i32_1134 c2_i32_1132
  let v1981 : BitVec 32 := Scalar.remsi v1978 v1980
  let c0_i32_1136 : BitVec 32 := 0#32
  let v1983 : BitVec 1 := Scalar.cmpi .slt v1981 c0_i32_1136
  let c0_i32_1137 : BitVec 32 := 0#32
  let v1984 : BitVec 1 := Scalar.cmpi .slt v1980 c0_i32_1137
  let v1985 : BitVec 1 := Scalar.xori v1983 v1984
  let c0_i32_1135 : BitVec 32 := 0#32
  let v1982 : BitVec 1 := Scalar.cmpi .ne v1981 c0_i32_1135
  let v1986 : BitVec 1 := Scalar.andi v1985 v1982
  let v1987 : BitVec 32 := Scalar.addi v1981 v1980
  let v1988 : BitVec 32 := Scalar.select v1986 v1987 v1981
  ![v1988.toNat]
def k0_off381 (i : grid0.Coords) : Fin 3 → Nat :=
  let arg0 : BitVec 32 := BitVec.ofNat 32 (i 0).val
  let c1_i32_1131 : BitVec 32 := 1#32
  let v1978 : BitVec 32 := Scalar.addi arg0 c1_i32_1131
  let c2_i32_1132 : BitVec 32 := 2#32
  let c0_i32_1133 : BitVec 32 := 0#32
  let v1979 : BitVec 1 := Scalar.cmpi .eq c2_i32_1132 c0_i32_1133
  let c1_i32_1134 : BitVec 32 := 1#32
  let v1980 : BitVec 32 := Scalar.select v1979 c1_i32_1134 c2_i32_1132
  let v1981 : BitVec 32 := Scalar.remsi v1978 v1980
  let c0_i32_1136 : BitVec 32 := 0#32
  let v1983 : BitVec 1 := Scalar.cmpi .slt v1981 c0_i32_1136
  let c0_i32_1137 : BitVec 32 := 0#32
  let v1984 : BitVec 1 := Scalar.cmpi .slt v1980 c0_i32_1137
  let v1985 : BitVec 1 := Scalar.xori v1983 v1984
  let c0_i32_1135 : BitVec 32 := 0#32
  let v1982 : BitVec 1 := Scalar.cmpi .ne v1981 c0_i32_1135
  let v1986 : BitVec 1 := Scalar.andi v1985 v1982
  let v1987 : BitVec 32 := Scalar.addi v1981 v1980
  let v1988 : BitVec 32 := Scalar.select v1986 v1987 v1981
  let c93_i32_1139 : BitVec 32 := 93#32
  let c0_i32_1140 : BitVec 32 := 0#32
  ![v1988.toNat, 93, 0]
def k0_off382 (v1992 : BitVec 32) : Fin 2 → Nat :=
  let c0_i32_1141 : BitVec 32 := 0#32
  ![v1992.toNat, 0]

def k0_chk96 (i : grid0.Coords) (v0 : BitVec 32) (v1992 : BitVec 32) : Prop :=
  (∀ (k0_h2 : k0_cond2 i v0 = 1#1), ∀ a, (k0_off382 v1992) a + S1x4096.size a ≤ S16896x4096.size a)
theorem k0_off382_inb : ∀ (i : grid0.Coords) (v0 : BitVec 32) (v1992 : BitVec 32) (k0_hw96 : k0_chk96 i v0 v1992), ∀ (k0_h2 : k0_cond2 i v0 = 1#1), ∀ a, (k0_off382 v1992) a + S1x4096.size a ≤ S16896x4096.size a := fun i v0 v1992 k0_hw96 k0_h2 => k0_hw96 k0_h2

def k0_off383 (i : grid0.Coords) : Fin 1 → Nat :=
  let arg0 : BitVec 32 := BitVec.ofNat 32 (i 0).val
  let c1_i32_1142 : BitVec 32 := 1#32
  let v1998 : BitVec 32 := Scalar.addi arg0 c1_i32_1142
  let c256_i32_1150 : BitVec 32 := 256#32
  let v2010 : BitVec 32 := Scalar.muli v1998 c256_i32_1150
  let c94_i32 : BitVec 32 := 94#32
  let v2011 : BitVec 32 := Scalar.addi v2010 c94_i32
  let v2012 : Index := Scalar.indexCast v2011
  ![v2012.toNat]
def k0_off384 (i : grid0.Coords) : Fin 1 → Nat :=
  let arg0 : BitVec 32 := BitVec.ofNat 32 (i 0).val
  let c1_i32_1143 : BitVec 32 := 1#32
  let v1999 : BitVec 32 := Scalar.addi arg0 c1_i32_1143
  let c2_i32_1144 : BitVec 32 := 2#32
  let c0_i32_1145 : BitVec 32 := 0#32
  let v2000 : BitVec 1 := Scalar.cmpi .eq c2_i32_1144 c0_i32_1145
  let c1_i32_1146 : BitVec 32 := 1#32
  let v2001 : BitVec 32 := Scalar.select v2000 c1_i32_1146 c2_i32_1144
  let v2002 : BitVec 32 := Scalar.remsi v1999 v2001
  let c0_i32_1148 : BitVec 32 := 0#32
  let v2004 : BitVec 1 := Scalar.cmpi .slt v2002 c0_i32_1148
  let c0_i32_1149 : BitVec 32 := 0#32
  let v2005 : BitVec 1 := Scalar.cmpi .slt v2001 c0_i32_1149
  let v2006 : BitVec 1 := Scalar.xori v2004 v2005
  let c0_i32_1147 : BitVec 32 := 0#32
  let v2003 : BitVec 1 := Scalar.cmpi .ne v2002 c0_i32_1147
  let v2007 : BitVec 1 := Scalar.andi v2006 v2003
  let v2008 : BitVec 32 := Scalar.addi v2002 v2001
  let v2009 : BitVec 32 := Scalar.select v2007 v2008 v2002
  ![v2009.toNat]
def k0_off385 (i : grid0.Coords) : Fin 3 → Nat :=
  let arg0 : BitVec 32 := BitVec.ofNat 32 (i 0).val
  let c1_i32_1143 : BitVec 32 := 1#32
  let v1999 : BitVec 32 := Scalar.addi arg0 c1_i32_1143
  let c2_i32_1144 : BitVec 32 := 2#32
  let c0_i32_1145 : BitVec 32 := 0#32
  let v2000 : BitVec 1 := Scalar.cmpi .eq c2_i32_1144 c0_i32_1145
  let c1_i32_1146 : BitVec 32 := 1#32
  let v2001 : BitVec 32 := Scalar.select v2000 c1_i32_1146 c2_i32_1144
  let v2002 : BitVec 32 := Scalar.remsi v1999 v2001
  let c0_i32_1148 : BitVec 32 := 0#32
  let v2004 : BitVec 1 := Scalar.cmpi .slt v2002 c0_i32_1148
  let c0_i32_1149 : BitVec 32 := 0#32
  let v2005 : BitVec 1 := Scalar.cmpi .slt v2001 c0_i32_1149
  let v2006 : BitVec 1 := Scalar.xori v2004 v2005
  let c0_i32_1147 : BitVec 32 := 0#32
  let v2003 : BitVec 1 := Scalar.cmpi .ne v2002 c0_i32_1147
  let v2007 : BitVec 1 := Scalar.andi v2006 v2003
  let v2008 : BitVec 32 := Scalar.addi v2002 v2001
  let v2009 : BitVec 32 := Scalar.select v2007 v2008 v2002
  let c94_i32_1151 : BitVec 32 := 94#32
  let c0_i32_1152 : BitVec 32 := 0#32
  ![v2009.toNat, 94, 0]
def k0_off386 (v2013 : BitVec 32) : Fin 2 → Nat :=
  let c0_i32_1153 : BitVec 32 := 0#32
  ![v2013.toNat, 0]

def k0_chk97 (i : grid0.Coords) (v0 : BitVec 32) (v2013 : BitVec 32) : Prop :=
  (∀ (k0_h2 : k0_cond2 i v0 = 1#1), ∀ a, (k0_off386 v2013) a + S1x4096.size a ≤ S16896x4096.size a)
theorem k0_off386_inb : ∀ (i : grid0.Coords) (v0 : BitVec 32) (v2013 : BitVec 32) (k0_hw97 : k0_chk97 i v0 v2013), ∀ (k0_h2 : k0_cond2 i v0 = 1#1), ∀ a, (k0_off386 v2013) a + S1x4096.size a ≤ S16896x4096.size a := fun i v0 v2013 k0_hw97 k0_h2 => k0_hw97 k0_h2

def k0_off387 (i : grid0.Coords) : Fin 1 → Nat :=
  let arg0 : BitVec 32 := BitVec.ofNat 32 (i 0).val
  let c1_i32_1154 : BitVec 32 := 1#32
  let v2019 : BitVec 32 := Scalar.addi arg0 c1_i32_1154
  let c256_i32_1162 : BitVec 32 := 256#32
  let v2031 : BitVec 32 := Scalar.muli v2019 c256_i32_1162
  let c95_i32 : BitVec 32 := 95#32
  let v2032 : BitVec 32 := Scalar.addi v2031 c95_i32
  let v2033 : Index := Scalar.indexCast v2032
  ![v2033.toNat]
def k0_off388 (i : grid0.Coords) : Fin 1 → Nat :=
  let arg0 : BitVec 32 := BitVec.ofNat 32 (i 0).val
  let c1_i32_1155 : BitVec 32 := 1#32
  let v2020 : BitVec 32 := Scalar.addi arg0 c1_i32_1155
  let c2_i32_1156 : BitVec 32 := 2#32
  let c0_i32_1157 : BitVec 32 := 0#32
  let v2021 : BitVec 1 := Scalar.cmpi .eq c2_i32_1156 c0_i32_1157
  let c1_i32_1158 : BitVec 32 := 1#32
  let v2022 : BitVec 32 := Scalar.select v2021 c1_i32_1158 c2_i32_1156
  let v2023 : BitVec 32 := Scalar.remsi v2020 v2022
  let c0_i32_1160 : BitVec 32 := 0#32
  let v2025 : BitVec 1 := Scalar.cmpi .slt v2023 c0_i32_1160
  let c0_i32_1161 : BitVec 32 := 0#32
  let v2026 : BitVec 1 := Scalar.cmpi .slt v2022 c0_i32_1161
  let v2027 : BitVec 1 := Scalar.xori v2025 v2026
  let c0_i32_1159 : BitVec 32 := 0#32
  let v2024 : BitVec 1 := Scalar.cmpi .ne v2023 c0_i32_1159
  let v2028 : BitVec 1 := Scalar.andi v2027 v2024
  let v2029 : BitVec 32 := Scalar.addi v2023 v2022
  let v2030 : BitVec 32 := Scalar.select v2028 v2029 v2023
  ![v2030.toNat]
def k0_off389 (i : grid0.Coords) : Fin 3 → Nat :=
  let arg0 : BitVec 32 := BitVec.ofNat 32 (i 0).val
  let c1_i32_1155 : BitVec 32 := 1#32
  let v2020 : BitVec 32 := Scalar.addi arg0 c1_i32_1155
  let c2_i32_1156 : BitVec 32 := 2#32
  let c0_i32_1157 : BitVec 32 := 0#32
  let v2021 : BitVec 1 := Scalar.cmpi .eq c2_i32_1156 c0_i32_1157
  let c1_i32_1158 : BitVec 32 := 1#32
  let v2022 : BitVec 32 := Scalar.select v2021 c1_i32_1158 c2_i32_1156
  let v2023 : BitVec 32 := Scalar.remsi v2020 v2022
  let c0_i32_1160 : BitVec 32 := 0#32
  let v2025 : BitVec 1 := Scalar.cmpi .slt v2023 c0_i32_1160
  let c0_i32_1161 : BitVec 32 := 0#32
  let v2026 : BitVec 1 := Scalar.cmpi .slt v2022 c0_i32_1161
  let v2027 : BitVec 1 := Scalar.xori v2025 v2026
  let c0_i32_1159 : BitVec 32 := 0#32
  let v2024 : BitVec 1 := Scalar.cmpi .ne v2023 c0_i32_1159
  let v2028 : BitVec 1 := Scalar.andi v2027 v2024
  let v2029 : BitVec 32 := Scalar.addi v2023 v2022
  let v2030 : BitVec 32 := Scalar.select v2028 v2029 v2023
  let c95_i32_1163 : BitVec 32 := 95#32
  let c0_i32_1164 : BitVec 32 := 0#32
  ![v2030.toNat, 95, 0]
def k0_off390 (v2034 : BitVec 32) : Fin 2 → Nat :=
  let c0_i32_1165 : BitVec 32 := 0#32
  ![v2034.toNat, 0]

def k0_chk98 (i : grid0.Coords) (v0 : BitVec 32) (v2034 : BitVec 32) : Prop :=
  (∀ (k0_h2 : k0_cond2 i v0 = 1#1), ∀ a, (k0_off390 v2034) a + S1x4096.size a ≤ S16896x4096.size a)
theorem k0_off390_inb : ∀ (i : grid0.Coords) (v0 : BitVec 32) (v2034 : BitVec 32) (k0_hw98 : k0_chk98 i v0 v2034), ∀ (k0_h2 : k0_cond2 i v0 = 1#1), ∀ a, (k0_off390 v2034) a + S1x4096.size a ≤ S16896x4096.size a := fun i v0 v2034 k0_hw98 k0_h2 => k0_hw98 k0_h2

def k0_off391 (i : grid0.Coords) : Fin 1 → Nat :=
  let arg0 : BitVec 32 := BitVec.ofNat 32 (i 0).val
  let c1_i32_1166 : BitVec 32 := 1#32
  let v2040 : BitVec 32 := Scalar.addi arg0 c1_i32_1166
  let c256_i32_1174 : BitVec 32 := 256#32
  let v2052 : BitVec 32 := Scalar.muli v2040 c256_i32_1174
  let c96_i32 : BitVec 32 := 96#32
  let v2053 : BitVec 32 := Scalar.addi v2052 c96_i32
  let v2054 : Index := Scalar.indexCast v2053
  ![v2054.toNat]
def k0_off392 (i : grid0.Coords) : Fin 1 → Nat :=
  let arg0 : BitVec 32 := BitVec.ofNat 32 (i 0).val
  let c1_i32_1167 : BitVec 32 := 1#32
  let v2041 : BitVec 32 := Scalar.addi arg0 c1_i32_1167
  let c2_i32_1168 : BitVec 32 := 2#32
  let c0_i32_1169 : BitVec 32 := 0#32
  let v2042 : BitVec 1 := Scalar.cmpi .eq c2_i32_1168 c0_i32_1169
  let c1_i32_1170 : BitVec 32 := 1#32
  let v2043 : BitVec 32 := Scalar.select v2042 c1_i32_1170 c2_i32_1168
  let v2044 : BitVec 32 := Scalar.remsi v2041 v2043
  let c0_i32_1172 : BitVec 32 := 0#32
  let v2046 : BitVec 1 := Scalar.cmpi .slt v2044 c0_i32_1172
  let c0_i32_1173 : BitVec 32 := 0#32
  let v2047 : BitVec 1 := Scalar.cmpi .slt v2043 c0_i32_1173
  let v2048 : BitVec 1 := Scalar.xori v2046 v2047
  let c0_i32_1171 : BitVec 32 := 0#32
  let v2045 : BitVec 1 := Scalar.cmpi .ne v2044 c0_i32_1171
  let v2049 : BitVec 1 := Scalar.andi v2048 v2045
  let v2050 : BitVec 32 := Scalar.addi v2044 v2043
  let v2051 : BitVec 32 := Scalar.select v2049 v2050 v2044
  ![v2051.toNat]
def k0_off393 (i : grid0.Coords) : Fin 3 → Nat :=
  let arg0 : BitVec 32 := BitVec.ofNat 32 (i 0).val
  let c1_i32_1167 : BitVec 32 := 1#32
  let v2041 : BitVec 32 := Scalar.addi arg0 c1_i32_1167
  let c2_i32_1168 : BitVec 32 := 2#32
  let c0_i32_1169 : BitVec 32 := 0#32
  let v2042 : BitVec 1 := Scalar.cmpi .eq c2_i32_1168 c0_i32_1169
  let c1_i32_1170 : BitVec 32 := 1#32
  let v2043 : BitVec 32 := Scalar.select v2042 c1_i32_1170 c2_i32_1168
  let v2044 : BitVec 32 := Scalar.remsi v2041 v2043
  let c0_i32_1172 : BitVec 32 := 0#32
  let v2046 : BitVec 1 := Scalar.cmpi .slt v2044 c0_i32_1172
  let c0_i32_1173 : BitVec 32 := 0#32
  let v2047 : BitVec 1 := Scalar.cmpi .slt v2043 c0_i32_1173
  let v2048 : BitVec 1 := Scalar.xori v2046 v2047
  let c0_i32_1171 : BitVec 32 := 0#32
  let v2045 : BitVec 1 := Scalar.cmpi .ne v2044 c0_i32_1171
  let v2049 : BitVec 1 := Scalar.andi v2048 v2045
  let v2050 : BitVec 32 := Scalar.addi v2044 v2043
  let v2051 : BitVec 32 := Scalar.select v2049 v2050 v2044
  let c96_i32_1175 : BitVec 32 := 96#32
  let c0_i32_1176 : BitVec 32 := 0#32
  ![v2051.toNat, 96, 0]
def k0_off394 (v2055 : BitVec 32) : Fin 2 → Nat :=
  let c0_i32_1177 : BitVec 32 := 0#32
  ![v2055.toNat, 0]

def k0_chk99 (i : grid0.Coords) (v0 : BitVec 32) (v2055 : BitVec 32) : Prop :=
  (∀ (k0_h2 : k0_cond2 i v0 = 1#1), ∀ a, (k0_off394 v2055) a + S1x4096.size a ≤ S16896x4096.size a)
theorem k0_off394_inb : ∀ (i : grid0.Coords) (v0 : BitVec 32) (v2055 : BitVec 32) (k0_hw99 : k0_chk99 i v0 v2055), ∀ (k0_h2 : k0_cond2 i v0 = 1#1), ∀ a, (k0_off394 v2055) a + S1x4096.size a ≤ S16896x4096.size a := fun i v0 v2055 k0_hw99 k0_h2 => k0_hw99 k0_h2

def k0_off395 (i : grid0.Coords) : Fin 1 → Nat :=
  let arg0 : BitVec 32 := BitVec.ofNat 32 (i 0).val
  let c1_i32_1178 : BitVec 32 := 1#32
  let v2061 : BitVec 32 := Scalar.addi arg0 c1_i32_1178
  let c256_i32_1186 : BitVec 32 := 256#32
  let v2073 : BitVec 32 := Scalar.muli v2061 c256_i32_1186
  let c97_i32 : BitVec 32 := 97#32
  let v2074 : BitVec 32 := Scalar.addi v2073 c97_i32
  let v2075 : Index := Scalar.indexCast v2074
  ![v2075.toNat]
def k0_off396 (i : grid0.Coords) : Fin 1 → Nat :=
  let arg0 : BitVec 32 := BitVec.ofNat 32 (i 0).val
  let c1_i32_1179 : BitVec 32 := 1#32
  let v2062 : BitVec 32 := Scalar.addi arg0 c1_i32_1179
  let c2_i32_1180 : BitVec 32 := 2#32
  let c0_i32_1181 : BitVec 32 := 0#32
  let v2063 : BitVec 1 := Scalar.cmpi .eq c2_i32_1180 c0_i32_1181
  let c1_i32_1182 : BitVec 32 := 1#32
  let v2064 : BitVec 32 := Scalar.select v2063 c1_i32_1182 c2_i32_1180
  let v2065 : BitVec 32 := Scalar.remsi v2062 v2064
  let c0_i32_1184 : BitVec 32 := 0#32
  let v2067 : BitVec 1 := Scalar.cmpi .slt v2065 c0_i32_1184
  let c0_i32_1185 : BitVec 32 := 0#32
  let v2068 : BitVec 1 := Scalar.cmpi .slt v2064 c0_i32_1185
  let v2069 : BitVec 1 := Scalar.xori v2067 v2068
  let c0_i32_1183 : BitVec 32 := 0#32
  let v2066 : BitVec 1 := Scalar.cmpi .ne v2065 c0_i32_1183
  let v2070 : BitVec 1 := Scalar.andi v2069 v2066
  let v2071 : BitVec 32 := Scalar.addi v2065 v2064
  let v2072 : BitVec 32 := Scalar.select v2070 v2071 v2065
  ![v2072.toNat]
def k0_off397 (i : grid0.Coords) : Fin 3 → Nat :=
  let arg0 : BitVec 32 := BitVec.ofNat 32 (i 0).val
  let c1_i32_1179 : BitVec 32 := 1#32
  let v2062 : BitVec 32 := Scalar.addi arg0 c1_i32_1179
  let c2_i32_1180 : BitVec 32 := 2#32
  let c0_i32_1181 : BitVec 32 := 0#32
  let v2063 : BitVec 1 := Scalar.cmpi .eq c2_i32_1180 c0_i32_1181
  let c1_i32_1182 : BitVec 32 := 1#32
  let v2064 : BitVec 32 := Scalar.select v2063 c1_i32_1182 c2_i32_1180
  let v2065 : BitVec 32 := Scalar.remsi v2062 v2064
  let c0_i32_1184 : BitVec 32 := 0#32
  let v2067 : BitVec 1 := Scalar.cmpi .slt v2065 c0_i32_1184
  let c0_i32_1185 : BitVec 32 := 0#32
  let v2068 : BitVec 1 := Scalar.cmpi .slt v2064 c0_i32_1185
  let v2069 : BitVec 1 := Scalar.xori v2067 v2068
  let c0_i32_1183 : BitVec 32 := 0#32
  let v2066 : BitVec 1 := Scalar.cmpi .ne v2065 c0_i32_1183
  let v2070 : BitVec 1 := Scalar.andi v2069 v2066
  let v2071 : BitVec 32 := Scalar.addi v2065 v2064
  let v2072 : BitVec 32 := Scalar.select v2070 v2071 v2065
  let c97_i32_1187 : BitVec 32 := 97#32
  let c0_i32_1188 : BitVec 32 := 0#32
  ![v2072.toNat, 97, 0]
def k0_off398 (v2076 : BitVec 32) : Fin 2 → Nat :=
  let c0_i32_1189 : BitVec 32 := 0#32
  ![v2076.toNat, 0]

def k0_chk100 (i : grid0.Coords) (v0 : BitVec 32) (v2076 : BitVec 32) : Prop :=
  (∀ (k0_h2 : k0_cond2 i v0 = 1#1), ∀ a, (k0_off398 v2076) a + S1x4096.size a ≤ S16896x4096.size a)
theorem k0_off398_inb : ∀ (i : grid0.Coords) (v0 : BitVec 32) (v2076 : BitVec 32) (k0_hw100 : k0_chk100 i v0 v2076), ∀ (k0_h2 : k0_cond2 i v0 = 1#1), ∀ a, (k0_off398 v2076) a + S1x4096.size a ≤ S16896x4096.size a := fun i v0 v2076 k0_hw100 k0_h2 => k0_hw100 k0_h2

def k0_off399 (i : grid0.Coords) : Fin 1 → Nat :=
  let arg0 : BitVec 32 := BitVec.ofNat 32 (i 0).val
  let c1_i32_1190 : BitVec 32 := 1#32
  let v2082 : BitVec 32 := Scalar.addi arg0 c1_i32_1190
  let c256_i32_1198 : BitVec 32 := 256#32
  let v2094 : BitVec 32 := Scalar.muli v2082 c256_i32_1198
  let c98_i32 : BitVec 32 := 98#32
  let v2095 : BitVec 32 := Scalar.addi v2094 c98_i32
  let v2096 : Index := Scalar.indexCast v2095
  ![v2096.toNat]
def k0_off400 (i : grid0.Coords) : Fin 1 → Nat :=
  let arg0 : BitVec 32 := BitVec.ofNat 32 (i 0).val
  let c1_i32_1191 : BitVec 32 := 1#32
  let v2083 : BitVec 32 := Scalar.addi arg0 c1_i32_1191
  let c2_i32_1192 : BitVec 32 := 2#32
  let c0_i32_1193 : BitVec 32 := 0#32
  let v2084 : BitVec 1 := Scalar.cmpi .eq c2_i32_1192 c0_i32_1193
  let c1_i32_1194 : BitVec 32 := 1#32
  let v2085 : BitVec 32 := Scalar.select v2084 c1_i32_1194 c2_i32_1192
  let v2086 : BitVec 32 := Scalar.remsi v2083 v2085
  let c0_i32_1196 : BitVec 32 := 0#32
  let v2088 : BitVec 1 := Scalar.cmpi .slt v2086 c0_i32_1196
  let c0_i32_1197 : BitVec 32 := 0#32
  let v2089 : BitVec 1 := Scalar.cmpi .slt v2085 c0_i32_1197
  let v2090 : BitVec 1 := Scalar.xori v2088 v2089
  let c0_i32_1195 : BitVec 32 := 0#32
  let v2087 : BitVec 1 := Scalar.cmpi .ne v2086 c0_i32_1195
  let v2091 : BitVec 1 := Scalar.andi v2090 v2087
  let v2092 : BitVec 32 := Scalar.addi v2086 v2085
  let v2093 : BitVec 32 := Scalar.select v2091 v2092 v2086
  ![v2093.toNat]
def k0_off401 (i : grid0.Coords) : Fin 3 → Nat :=
  let arg0 : BitVec 32 := BitVec.ofNat 32 (i 0).val
  let c1_i32_1191 : BitVec 32 := 1#32
  let v2083 : BitVec 32 := Scalar.addi arg0 c1_i32_1191
  let c2_i32_1192 : BitVec 32 := 2#32
  let c0_i32_1193 : BitVec 32 := 0#32
  let v2084 : BitVec 1 := Scalar.cmpi .eq c2_i32_1192 c0_i32_1193
  let c1_i32_1194 : BitVec 32 := 1#32
  let v2085 : BitVec 32 := Scalar.select v2084 c1_i32_1194 c2_i32_1192
  let v2086 : BitVec 32 := Scalar.remsi v2083 v2085
  let c0_i32_1196 : BitVec 32 := 0#32
  let v2088 : BitVec 1 := Scalar.cmpi .slt v2086 c0_i32_1196
  let c0_i32_1197 : BitVec 32 := 0#32
  let v2089 : BitVec 1 := Scalar.cmpi .slt v2085 c0_i32_1197
  let v2090 : BitVec 1 := Scalar.xori v2088 v2089
  let c0_i32_1195 : BitVec 32 := 0#32
  let v2087 : BitVec 1 := Scalar.cmpi .ne v2086 c0_i32_1195
  let v2091 : BitVec 1 := Scalar.andi v2090 v2087
  let v2092 : BitVec 32 := Scalar.addi v2086 v2085
  let v2093 : BitVec 32 := Scalar.select v2091 v2092 v2086
  let c98_i32_1199 : BitVec 32 := 98#32
  let c0_i32_1200 : BitVec 32 := 0#32
  ![v2093.toNat, 98, 0]
def k0_off402 (v2097 : BitVec 32) : Fin 2 → Nat :=
  let c0_i32_1201 : BitVec 32 := 0#32
  ![v2097.toNat, 0]

def k0_chk101 (i : grid0.Coords) (v0 : BitVec 32) (v2097 : BitVec 32) : Prop :=
  (∀ (k0_h2 : k0_cond2 i v0 = 1#1), ∀ a, (k0_off402 v2097) a + S1x4096.size a ≤ S16896x4096.size a)
theorem k0_off402_inb : ∀ (i : grid0.Coords) (v0 : BitVec 32) (v2097 : BitVec 32) (k0_hw101 : k0_chk101 i v0 v2097), ∀ (k0_h2 : k0_cond2 i v0 = 1#1), ∀ a, (k0_off402 v2097) a + S1x4096.size a ≤ S16896x4096.size a := fun i v0 v2097 k0_hw101 k0_h2 => k0_hw101 k0_h2

def k0_off403 (i : grid0.Coords) : Fin 1 → Nat :=
  let arg0 : BitVec 32 := BitVec.ofNat 32 (i 0).val
  let c1_i32_1202 : BitVec 32 := 1#32
  let v2103 : BitVec 32 := Scalar.addi arg0 c1_i32_1202
  let c256_i32_1210 : BitVec 32 := 256#32
  let v2115 : BitVec 32 := Scalar.muli v2103 c256_i32_1210
  let c99_i32 : BitVec 32 := 99#32
  let v2116 : BitVec 32 := Scalar.addi v2115 c99_i32
  let v2117 : Index := Scalar.indexCast v2116
  ![v2117.toNat]
def k0_off404 (i : grid0.Coords) : Fin 1 → Nat :=
  let arg0 : BitVec 32 := BitVec.ofNat 32 (i 0).val
  let c1_i32_1203 : BitVec 32 := 1#32
  let v2104 : BitVec 32 := Scalar.addi arg0 c1_i32_1203
  let c2_i32_1204 : BitVec 32 := 2#32
  let c0_i32_1205 : BitVec 32 := 0#32
  let v2105 : BitVec 1 := Scalar.cmpi .eq c2_i32_1204 c0_i32_1205
  let c1_i32_1206 : BitVec 32 := 1#32
  let v2106 : BitVec 32 := Scalar.select v2105 c1_i32_1206 c2_i32_1204
  let v2107 : BitVec 32 := Scalar.remsi v2104 v2106
  let c0_i32_1208 : BitVec 32 := 0#32
  let v2109 : BitVec 1 := Scalar.cmpi .slt v2107 c0_i32_1208
  let c0_i32_1209 : BitVec 32 := 0#32
  let v2110 : BitVec 1 := Scalar.cmpi .slt v2106 c0_i32_1209
  let v2111 : BitVec 1 := Scalar.xori v2109 v2110
  let c0_i32_1207 : BitVec 32 := 0#32
  let v2108 : BitVec 1 := Scalar.cmpi .ne v2107 c0_i32_1207
  let v2112 : BitVec 1 := Scalar.andi v2111 v2108
  let v2113 : BitVec 32 := Scalar.addi v2107 v2106
  let v2114 : BitVec 32 := Scalar.select v2112 v2113 v2107
  ![v2114.toNat]
def k0_off405 (i : grid0.Coords) : Fin 3 → Nat :=
  let arg0 : BitVec 32 := BitVec.ofNat 32 (i 0).val
  let c1_i32_1203 : BitVec 32 := 1#32
  let v2104 : BitVec 32 := Scalar.addi arg0 c1_i32_1203
  let c2_i32_1204 : BitVec 32 := 2#32
  let c0_i32_1205 : BitVec 32 := 0#32
  let v2105 : BitVec 1 := Scalar.cmpi .eq c2_i32_1204 c0_i32_1205
  let c1_i32_1206 : BitVec 32 := 1#32
  let v2106 : BitVec 32 := Scalar.select v2105 c1_i32_1206 c2_i32_1204
  let v2107 : BitVec 32 := Scalar.remsi v2104 v2106
  let c0_i32_1208 : BitVec 32 := 0#32
  let v2109 : BitVec 1 := Scalar.cmpi .slt v2107 c0_i32_1208
  let c0_i32_1209 : BitVec 32 := 0#32
  let v2110 : BitVec 1 := Scalar.cmpi .slt v2106 c0_i32_1209
  let v2111 : BitVec 1 := Scalar.xori v2109 v2110
  let c0_i32_1207 : BitVec 32 := 0#32
  let v2108 : BitVec 1 := Scalar.cmpi .ne v2107 c0_i32_1207
  let v2112 : BitVec 1 := Scalar.andi v2111 v2108
  let v2113 : BitVec 32 := Scalar.addi v2107 v2106
  let v2114 : BitVec 32 := Scalar.select v2112 v2113 v2107
  let c99_i32_1211 : BitVec 32 := 99#32
  let c0_i32_1212 : BitVec 32 := 0#32
  ![v2114.toNat, 99, 0]
def k0_off406 (v2118 : BitVec 32) : Fin 2 → Nat :=
  let c0_i32_1213 : BitVec 32 := 0#32
  ![v2118.toNat, 0]

def k0_chk102 (i : grid0.Coords) (v0 : BitVec 32) (v2118 : BitVec 32) : Prop :=
  (∀ (k0_h2 : k0_cond2 i v0 = 1#1), ∀ a, (k0_off406 v2118) a + S1x4096.size a ≤ S16896x4096.size a)
theorem k0_off406_inb : ∀ (i : grid0.Coords) (v0 : BitVec 32) (v2118 : BitVec 32) (k0_hw102 : k0_chk102 i v0 v2118), ∀ (k0_h2 : k0_cond2 i v0 = 1#1), ∀ a, (k0_off406 v2118) a + S1x4096.size a ≤ S16896x4096.size a := fun i v0 v2118 k0_hw102 k0_h2 => k0_hw102 k0_h2

def k0_off407 (i : grid0.Coords) : Fin 1 → Nat :=
  let arg0 : BitVec 32 := BitVec.ofNat 32 (i 0).val
  let c1_i32_1214 : BitVec 32 := 1#32
  let v2124 : BitVec 32 := Scalar.addi arg0 c1_i32_1214
  let c256_i32_1222 : BitVec 32 := 256#32
  let v2136 : BitVec 32 := Scalar.muli v2124 c256_i32_1222
  let c100_i32 : BitVec 32 := 100#32
  let v2137 : BitVec 32 := Scalar.addi v2136 c100_i32
  let v2138 : Index := Scalar.indexCast v2137
  ![v2138.toNat]
def k0_off408 (i : grid0.Coords) : Fin 1 → Nat :=
  let arg0 : BitVec 32 := BitVec.ofNat 32 (i 0).val
  let c1_i32_1215 : BitVec 32 := 1#32
  let v2125 : BitVec 32 := Scalar.addi arg0 c1_i32_1215
  let c2_i32_1216 : BitVec 32 := 2#32
  let c0_i32_1217 : BitVec 32 := 0#32
  let v2126 : BitVec 1 := Scalar.cmpi .eq c2_i32_1216 c0_i32_1217
  let c1_i32_1218 : BitVec 32 := 1#32
  let v2127 : BitVec 32 := Scalar.select v2126 c1_i32_1218 c2_i32_1216
  let v2128 : BitVec 32 := Scalar.remsi v2125 v2127
  let c0_i32_1220 : BitVec 32 := 0#32
  let v2130 : BitVec 1 := Scalar.cmpi .slt v2128 c0_i32_1220
  let c0_i32_1221 : BitVec 32 := 0#32
  let v2131 : BitVec 1 := Scalar.cmpi .slt v2127 c0_i32_1221
  let v2132 : BitVec 1 := Scalar.xori v2130 v2131
  let c0_i32_1219 : BitVec 32 := 0#32
  let v2129 : BitVec 1 := Scalar.cmpi .ne v2128 c0_i32_1219
  let v2133 : BitVec 1 := Scalar.andi v2132 v2129
  let v2134 : BitVec 32 := Scalar.addi v2128 v2127
  let v2135 : BitVec 32 := Scalar.select v2133 v2134 v2128
  ![v2135.toNat]
def k0_off409 (i : grid0.Coords) : Fin 3 → Nat :=
  let arg0 : BitVec 32 := BitVec.ofNat 32 (i 0).val
  let c1_i32_1215 : BitVec 32 := 1#32
  let v2125 : BitVec 32 := Scalar.addi arg0 c1_i32_1215
  let c2_i32_1216 : BitVec 32 := 2#32
  let c0_i32_1217 : BitVec 32 := 0#32
  let v2126 : BitVec 1 := Scalar.cmpi .eq c2_i32_1216 c0_i32_1217
  let c1_i32_1218 : BitVec 32 := 1#32
  let v2127 : BitVec 32 := Scalar.select v2126 c1_i32_1218 c2_i32_1216
  let v2128 : BitVec 32 := Scalar.remsi v2125 v2127
  let c0_i32_1220 : BitVec 32 := 0#32
  let v2130 : BitVec 1 := Scalar.cmpi .slt v2128 c0_i32_1220
  let c0_i32_1221 : BitVec 32 := 0#32
  let v2131 : BitVec 1 := Scalar.cmpi .slt v2127 c0_i32_1221
  let v2132 : BitVec 1 := Scalar.xori v2130 v2131
  let c0_i32_1219 : BitVec 32 := 0#32
  let v2129 : BitVec 1 := Scalar.cmpi .ne v2128 c0_i32_1219
  let v2133 : BitVec 1 := Scalar.andi v2132 v2129
  let v2134 : BitVec 32 := Scalar.addi v2128 v2127
  let v2135 : BitVec 32 := Scalar.select v2133 v2134 v2128
  let c100_i32_1223 : BitVec 32 := 100#32
  let c0_i32_1224 : BitVec 32 := 0#32
  ![v2135.toNat, 100, 0]
def k0_off410 (v2139 : BitVec 32) : Fin 2 → Nat :=
  let c0_i32_1225 : BitVec 32 := 0#32
  ![v2139.toNat, 0]

def k0_chk103 (i : grid0.Coords) (v0 : BitVec 32) (v2139 : BitVec 32) : Prop :=
  (∀ (k0_h2 : k0_cond2 i v0 = 1#1), ∀ a, (k0_off410 v2139) a + S1x4096.size a ≤ S16896x4096.size a)
theorem k0_off410_inb : ∀ (i : grid0.Coords) (v0 : BitVec 32) (v2139 : BitVec 32) (k0_hw103 : k0_chk103 i v0 v2139), ∀ (k0_h2 : k0_cond2 i v0 = 1#1), ∀ a, (k0_off410 v2139) a + S1x4096.size a ≤ S16896x4096.size a := fun i v0 v2139 k0_hw103 k0_h2 => k0_hw103 k0_h2

def k0_off411 (i : grid0.Coords) : Fin 1 → Nat :=
  let arg0 : BitVec 32 := BitVec.ofNat 32 (i 0).val
  let c1_i32_1226 : BitVec 32 := 1#32
  let v2145 : BitVec 32 := Scalar.addi arg0 c1_i32_1226
  let c256_i32_1234 : BitVec 32 := 256#32
  let v2157 : BitVec 32 := Scalar.muli v2145 c256_i32_1234
  let c101_i32 : BitVec 32 := 101#32
  let v2158 : BitVec 32 := Scalar.addi v2157 c101_i32
  let v2159 : Index := Scalar.indexCast v2158
  ![v2159.toNat]
def k0_off412 (i : grid0.Coords) : Fin 1 → Nat :=
  let arg0 : BitVec 32 := BitVec.ofNat 32 (i 0).val
  let c1_i32_1227 : BitVec 32 := 1#32
  let v2146 : BitVec 32 := Scalar.addi arg0 c1_i32_1227
  let c2_i32_1228 : BitVec 32 := 2#32
  let c0_i32_1229 : BitVec 32 := 0#32
  let v2147 : BitVec 1 := Scalar.cmpi .eq c2_i32_1228 c0_i32_1229
  let c1_i32_1230 : BitVec 32 := 1#32
  let v2148 : BitVec 32 := Scalar.select v2147 c1_i32_1230 c2_i32_1228
  let v2149 : BitVec 32 := Scalar.remsi v2146 v2148
  let c0_i32_1232 : BitVec 32 := 0#32
  let v2151 : BitVec 1 := Scalar.cmpi .slt v2149 c0_i32_1232
  let c0_i32_1233 : BitVec 32 := 0#32
  let v2152 : BitVec 1 := Scalar.cmpi .slt v2148 c0_i32_1233
  let v2153 : BitVec 1 := Scalar.xori v2151 v2152
  let c0_i32_1231 : BitVec 32 := 0#32
  let v2150 : BitVec 1 := Scalar.cmpi .ne v2149 c0_i32_1231
  let v2154 : BitVec 1 := Scalar.andi v2153 v2150
  let v2155 : BitVec 32 := Scalar.addi v2149 v2148
  let v2156 : BitVec 32 := Scalar.select v2154 v2155 v2149
  ![v2156.toNat]
def k0_off413 (i : grid0.Coords) : Fin 3 → Nat :=
  let arg0 : BitVec 32 := BitVec.ofNat 32 (i 0).val
  let c1_i32_1227 : BitVec 32 := 1#32
  let v2146 : BitVec 32 := Scalar.addi arg0 c1_i32_1227
  let c2_i32_1228 : BitVec 32 := 2#32
  let c0_i32_1229 : BitVec 32 := 0#32
  let v2147 : BitVec 1 := Scalar.cmpi .eq c2_i32_1228 c0_i32_1229
  let c1_i32_1230 : BitVec 32 := 1#32
  let v2148 : BitVec 32 := Scalar.select v2147 c1_i32_1230 c2_i32_1228
  let v2149 : BitVec 32 := Scalar.remsi v2146 v2148
  let c0_i32_1232 : BitVec 32 := 0#32
  let v2151 : BitVec 1 := Scalar.cmpi .slt v2149 c0_i32_1232
  let c0_i32_1233 : BitVec 32 := 0#32
  let v2152 : BitVec 1 := Scalar.cmpi .slt v2148 c0_i32_1233
  let v2153 : BitVec 1 := Scalar.xori v2151 v2152
  let c0_i32_1231 : BitVec 32 := 0#32
  let v2150 : BitVec 1 := Scalar.cmpi .ne v2149 c0_i32_1231
  let v2154 : BitVec 1 := Scalar.andi v2153 v2150
  let v2155 : BitVec 32 := Scalar.addi v2149 v2148
  let v2156 : BitVec 32 := Scalar.select v2154 v2155 v2149
  let c101_i32_1235 : BitVec 32 := 101#32
  let c0_i32_1236 : BitVec 32 := 0#32
  ![v2156.toNat, 101, 0]
def k0_off414 (v2160 : BitVec 32) : Fin 2 → Nat :=
  let c0_i32_1237 : BitVec 32 := 0#32
  ![v2160.toNat, 0]

def k0_chk104 (i : grid0.Coords) (v0 : BitVec 32) (v2160 : BitVec 32) : Prop :=
  (∀ (k0_h2 : k0_cond2 i v0 = 1#1), ∀ a, (k0_off414 v2160) a + S1x4096.size a ≤ S16896x4096.size a)
theorem k0_off414_inb : ∀ (i : grid0.Coords) (v0 : BitVec 32) (v2160 : BitVec 32) (k0_hw104 : k0_chk104 i v0 v2160), ∀ (k0_h2 : k0_cond2 i v0 = 1#1), ∀ a, (k0_off414 v2160) a + S1x4096.size a ≤ S16896x4096.size a := fun i v0 v2160 k0_hw104 k0_h2 => k0_hw104 k0_h2

def k0_off415 (i : grid0.Coords) : Fin 1 → Nat :=
  let arg0 : BitVec 32 := BitVec.ofNat 32 (i 0).val
  let c1_i32_1238 : BitVec 32 := 1#32
  let v2166 : BitVec 32 := Scalar.addi arg0 c1_i32_1238
  let c256_i32_1246 : BitVec 32 := 256#32
  let v2178 : BitVec 32 := Scalar.muli v2166 c256_i32_1246
  let c102_i32 : BitVec 32 := 102#32
  let v2179 : BitVec 32 := Scalar.addi v2178 c102_i32
  let v2180 : Index := Scalar.indexCast v2179
  ![v2180.toNat]
def k0_off416 (i : grid0.Coords) : Fin 1 → Nat :=
  let arg0 : BitVec 32 := BitVec.ofNat 32 (i 0).val
  let c1_i32_1239 : BitVec 32 := 1#32
  let v2167 : BitVec 32 := Scalar.addi arg0 c1_i32_1239
  let c2_i32_1240 : BitVec 32 := 2#32
  let c0_i32_1241 : BitVec 32 := 0#32
  let v2168 : BitVec 1 := Scalar.cmpi .eq c2_i32_1240 c0_i32_1241
  let c1_i32_1242 : BitVec 32 := 1#32
  let v2169 : BitVec 32 := Scalar.select v2168 c1_i32_1242 c2_i32_1240
  let v2170 : BitVec 32 := Scalar.remsi v2167 v2169
  let c0_i32_1244 : BitVec 32 := 0#32
  let v2172 : BitVec 1 := Scalar.cmpi .slt v2170 c0_i32_1244
  let c0_i32_1245 : BitVec 32 := 0#32
  let v2173 : BitVec 1 := Scalar.cmpi .slt v2169 c0_i32_1245
  let v2174 : BitVec 1 := Scalar.xori v2172 v2173
  let c0_i32_1243 : BitVec 32 := 0#32
  let v2171 : BitVec 1 := Scalar.cmpi .ne v2170 c0_i32_1243
  let v2175 : BitVec 1 := Scalar.andi v2174 v2171
  let v2176 : BitVec 32 := Scalar.addi v2170 v2169
  let v2177 : BitVec 32 := Scalar.select v2175 v2176 v2170
  ![v2177.toNat]
def k0_off417 (i : grid0.Coords) : Fin 3 → Nat :=
  let arg0 : BitVec 32 := BitVec.ofNat 32 (i 0).val
  let c1_i32_1239 : BitVec 32 := 1#32
  let v2167 : BitVec 32 := Scalar.addi arg0 c1_i32_1239
  let c2_i32_1240 : BitVec 32 := 2#32
  let c0_i32_1241 : BitVec 32 := 0#32
  let v2168 : BitVec 1 := Scalar.cmpi .eq c2_i32_1240 c0_i32_1241
  let c1_i32_1242 : BitVec 32 := 1#32
  let v2169 : BitVec 32 := Scalar.select v2168 c1_i32_1242 c2_i32_1240
  let v2170 : BitVec 32 := Scalar.remsi v2167 v2169
  let c0_i32_1244 : BitVec 32 := 0#32
  let v2172 : BitVec 1 := Scalar.cmpi .slt v2170 c0_i32_1244
  let c0_i32_1245 : BitVec 32 := 0#32
  let v2173 : BitVec 1 := Scalar.cmpi .slt v2169 c0_i32_1245
  let v2174 : BitVec 1 := Scalar.xori v2172 v2173
  let c0_i32_1243 : BitVec 32 := 0#32
  let v2171 : BitVec 1 := Scalar.cmpi .ne v2170 c0_i32_1243
  let v2175 : BitVec 1 := Scalar.andi v2174 v2171
  let v2176 : BitVec 32 := Scalar.addi v2170 v2169
  let v2177 : BitVec 32 := Scalar.select v2175 v2176 v2170
  let c102_i32_1247 : BitVec 32 := 102#32
  let c0_i32_1248 : BitVec 32 := 0#32
  ![v2177.toNat, 102, 0]
def k0_off418 (v2181 : BitVec 32) : Fin 2 → Nat :=
  let c0_i32_1249 : BitVec 32 := 0#32
  ![v2181.toNat, 0]

def k0_chk105 (i : grid0.Coords) (v0 : BitVec 32) (v2181 : BitVec 32) : Prop :=
  (∀ (k0_h2 : k0_cond2 i v0 = 1#1), ∀ a, (k0_off418 v2181) a + S1x4096.size a ≤ S16896x4096.size a)
theorem k0_off418_inb : ∀ (i : grid0.Coords) (v0 : BitVec 32) (v2181 : BitVec 32) (k0_hw105 : k0_chk105 i v0 v2181), ∀ (k0_h2 : k0_cond2 i v0 = 1#1), ∀ a, (k0_off418 v2181) a + S1x4096.size a ≤ S16896x4096.size a := fun i v0 v2181 k0_hw105 k0_h2 => k0_hw105 k0_h2

def k0_off419 (i : grid0.Coords) : Fin 1 → Nat :=
  let arg0 : BitVec 32 := BitVec.ofNat 32 (i 0).val
  let c1_i32_1250 : BitVec 32 := 1#32
  let v2187 : BitVec 32 := Scalar.addi arg0 c1_i32_1250
  let c256_i32_1258 : BitVec 32 := 256#32
  let v2199 : BitVec 32 := Scalar.muli v2187 c256_i32_1258
  let c103_i32 : BitVec 32 := 103#32
  let v2200 : BitVec 32 := Scalar.addi v2199 c103_i32
  let v2201 : Index := Scalar.indexCast v2200
  ![v2201.toNat]
def k0_off420 (i : grid0.Coords) : Fin 1 → Nat :=
  let arg0 : BitVec 32 := BitVec.ofNat 32 (i 0).val
  let c1_i32_1251 : BitVec 32 := 1#32
  let v2188 : BitVec 32 := Scalar.addi arg0 c1_i32_1251
  let c2_i32_1252 : BitVec 32 := 2#32
  let c0_i32_1253 : BitVec 32 := 0#32
  let v2189 : BitVec 1 := Scalar.cmpi .eq c2_i32_1252 c0_i32_1253
  let c1_i32_1254 : BitVec 32 := 1#32
  let v2190 : BitVec 32 := Scalar.select v2189 c1_i32_1254 c2_i32_1252
  let v2191 : BitVec 32 := Scalar.remsi v2188 v2190
  let c0_i32_1256 : BitVec 32 := 0#32
  let v2193 : BitVec 1 := Scalar.cmpi .slt v2191 c0_i32_1256
  let c0_i32_1257 : BitVec 32 := 0#32
  let v2194 : BitVec 1 := Scalar.cmpi .slt v2190 c0_i32_1257
  let v2195 : BitVec 1 := Scalar.xori v2193 v2194
  let c0_i32_1255 : BitVec 32 := 0#32
  let v2192 : BitVec 1 := Scalar.cmpi .ne v2191 c0_i32_1255
  let v2196 : BitVec 1 := Scalar.andi v2195 v2192
  let v2197 : BitVec 32 := Scalar.addi v2191 v2190
  let v2198 : BitVec 32 := Scalar.select v2196 v2197 v2191
  ![v2198.toNat]
def k0_off421 (i : grid0.Coords) : Fin 3 → Nat :=
  let arg0 : BitVec 32 := BitVec.ofNat 32 (i 0).val
  let c1_i32_1251 : BitVec 32 := 1#32
  let v2188 : BitVec 32 := Scalar.addi arg0 c1_i32_1251
  let c2_i32_1252 : BitVec 32 := 2#32
  let c0_i32_1253 : BitVec 32 := 0#32
  let v2189 : BitVec 1 := Scalar.cmpi .eq c2_i32_1252 c0_i32_1253
  let c1_i32_1254 : BitVec 32 := 1#32
  let v2190 : BitVec 32 := Scalar.select v2189 c1_i32_1254 c2_i32_1252
  let v2191 : BitVec 32 := Scalar.remsi v2188 v2190
  let c0_i32_1256 : BitVec 32 := 0#32
  let v2193 : BitVec 1 := Scalar.cmpi .slt v2191 c0_i32_1256
  let c0_i32_1257 : BitVec 32 := 0#32
  let v2194 : BitVec 1 := Scalar.cmpi .slt v2190 c0_i32_1257
  let v2195 : BitVec 1 := Scalar.xori v2193 v2194
  let c0_i32_1255 : BitVec 32 := 0#32
  let v2192 : BitVec 1 := Scalar.cmpi .ne v2191 c0_i32_1255
  let v2196 : BitVec 1 := Scalar.andi v2195 v2192
  let v2197 : BitVec 32 := Scalar.addi v2191 v2190
  let v2198 : BitVec 32 := Scalar.select v2196 v2197 v2191
  let c103_i32_1259 : BitVec 32 := 103#32
  let c0_i32_1260 : BitVec 32 := 0#32
  ![v2198.toNat, 103, 0]
def k0_off422 (v2202 : BitVec 32) : Fin 2 → Nat :=
  let c0_i32_1261 : BitVec 32 := 0#32
  ![v2202.toNat, 0]

def k0_chk106 (i : grid0.Coords) (v0 : BitVec 32) (v2202 : BitVec 32) : Prop :=
  (∀ (k0_h2 : k0_cond2 i v0 = 1#1), ∀ a, (k0_off422 v2202) a + S1x4096.size a ≤ S16896x4096.size a)
theorem k0_off422_inb : ∀ (i : grid0.Coords) (v0 : BitVec 32) (v2202 : BitVec 32) (k0_hw106 : k0_chk106 i v0 v2202), ∀ (k0_h2 : k0_cond2 i v0 = 1#1), ∀ a, (k0_off422 v2202) a + S1x4096.size a ≤ S16896x4096.size a := fun i v0 v2202 k0_hw106 k0_h2 => k0_hw106 k0_h2

def k0_off423 (i : grid0.Coords) : Fin 1 → Nat :=
  let arg0 : BitVec 32 := BitVec.ofNat 32 (i 0).val
  let c1_i32_1262 : BitVec 32 := 1#32
  let v2208 : BitVec 32 := Scalar.addi arg0 c1_i32_1262
  let c256_i32_1270 : BitVec 32 := 256#32
  let v2220 : BitVec 32 := Scalar.muli v2208 c256_i32_1270
  let c104_i32 : BitVec 32 := 104#32
  let v2221 : BitVec 32 := Scalar.addi v2220 c104_i32
  let v2222 : Index := Scalar.indexCast v2221
  ![v2222.toNat]
def k0_off424 (i : grid0.Coords) : Fin 1 → Nat :=
  let arg0 : BitVec 32 := BitVec.ofNat 32 (i 0).val
  let c1_i32_1263 : BitVec 32 := 1#32
  let v2209 : BitVec 32 := Scalar.addi arg0 c1_i32_1263
  let c2_i32_1264 : BitVec 32 := 2#32
  let c0_i32_1265 : BitVec 32 := 0#32
  let v2210 : BitVec 1 := Scalar.cmpi .eq c2_i32_1264 c0_i32_1265
  let c1_i32_1266 : BitVec 32 := 1#32
  let v2211 : BitVec 32 := Scalar.select v2210 c1_i32_1266 c2_i32_1264
  let v2212 : BitVec 32 := Scalar.remsi v2209 v2211
  let c0_i32_1268 : BitVec 32 := 0#32
  let v2214 : BitVec 1 := Scalar.cmpi .slt v2212 c0_i32_1268
  let c0_i32_1269 : BitVec 32 := 0#32
  let v2215 : BitVec 1 := Scalar.cmpi .slt v2211 c0_i32_1269
  let v2216 : BitVec 1 := Scalar.xori v2214 v2215
  let c0_i32_1267 : BitVec 32 := 0#32
  let v2213 : BitVec 1 := Scalar.cmpi .ne v2212 c0_i32_1267
  let v2217 : BitVec 1 := Scalar.andi v2216 v2213
  let v2218 : BitVec 32 := Scalar.addi v2212 v2211
  let v2219 : BitVec 32 := Scalar.select v2217 v2218 v2212
  ![v2219.toNat]
def k0_off425 (i : grid0.Coords) : Fin 3 → Nat :=
  let arg0 : BitVec 32 := BitVec.ofNat 32 (i 0).val
  let c1_i32_1263 : BitVec 32 := 1#32
  let v2209 : BitVec 32 := Scalar.addi arg0 c1_i32_1263
  let c2_i32_1264 : BitVec 32 := 2#32
  let c0_i32_1265 : BitVec 32 := 0#32
  let v2210 : BitVec 1 := Scalar.cmpi .eq c2_i32_1264 c0_i32_1265
  let c1_i32_1266 : BitVec 32 := 1#32
  let v2211 : BitVec 32 := Scalar.select v2210 c1_i32_1266 c2_i32_1264
  let v2212 : BitVec 32 := Scalar.remsi v2209 v2211
  let c0_i32_1268 : BitVec 32 := 0#32
  let v2214 : BitVec 1 := Scalar.cmpi .slt v2212 c0_i32_1268
  let c0_i32_1269 : BitVec 32 := 0#32
  let v2215 : BitVec 1 := Scalar.cmpi .slt v2211 c0_i32_1269
  let v2216 : BitVec 1 := Scalar.xori v2214 v2215
  let c0_i32_1267 : BitVec 32 := 0#32
  let v2213 : BitVec 1 := Scalar.cmpi .ne v2212 c0_i32_1267
  let v2217 : BitVec 1 := Scalar.andi v2216 v2213
  let v2218 : BitVec 32 := Scalar.addi v2212 v2211
  let v2219 : BitVec 32 := Scalar.select v2217 v2218 v2212
  let c104_i32_1271 : BitVec 32 := 104#32
  let c0_i32_1272 : BitVec 32 := 0#32
  ![v2219.toNat, 104, 0]
def k0_off426 (v2223 : BitVec 32) : Fin 2 → Nat :=
  let c0_i32_1273 : BitVec 32 := 0#32
  ![v2223.toNat, 0]

def k0_chk107 (i : grid0.Coords) (v0 : BitVec 32) (v2223 : BitVec 32) : Prop :=
  (∀ (k0_h2 : k0_cond2 i v0 = 1#1), ∀ a, (k0_off426 v2223) a + S1x4096.size a ≤ S16896x4096.size a)
theorem k0_off426_inb : ∀ (i : grid0.Coords) (v0 : BitVec 32) (v2223 : BitVec 32) (k0_hw107 : k0_chk107 i v0 v2223), ∀ (k0_h2 : k0_cond2 i v0 = 1#1), ∀ a, (k0_off426 v2223) a + S1x4096.size a ≤ S16896x4096.size a := fun i v0 v2223 k0_hw107 k0_h2 => k0_hw107 k0_h2

def k0_off427 (i : grid0.Coords) : Fin 1 → Nat :=
  let arg0 : BitVec 32 := BitVec.ofNat 32 (i 0).val
  let c1_i32_1274 : BitVec 32 := 1#32
  let v2229 : BitVec 32 := Scalar.addi arg0 c1_i32_1274
  let c256_i32_1282 : BitVec 32 := 256#32
  let v2241 : BitVec 32 := Scalar.muli v2229 c256_i32_1282
  let c105_i32 : BitVec 32 := 105#32
  let v2242 : BitVec 32 := Scalar.addi v2241 c105_i32
  let v2243 : Index := Scalar.indexCast v2242
  ![v2243.toNat]
def k0_off428 (i : grid0.Coords) : Fin 1 → Nat :=
  let arg0 : BitVec 32 := BitVec.ofNat 32 (i 0).val
  let c1_i32_1275 : BitVec 32 := 1#32
  let v2230 : BitVec 32 := Scalar.addi arg0 c1_i32_1275
  let c2_i32_1276 : BitVec 32 := 2#32
  let c0_i32_1277 : BitVec 32 := 0#32
  let v2231 : BitVec 1 := Scalar.cmpi .eq c2_i32_1276 c0_i32_1277
  let c1_i32_1278 : BitVec 32 := 1#32
  let v2232 : BitVec 32 := Scalar.select v2231 c1_i32_1278 c2_i32_1276
  let v2233 : BitVec 32 := Scalar.remsi v2230 v2232
  let c0_i32_1280 : BitVec 32 := 0#32
  let v2235 : BitVec 1 := Scalar.cmpi .slt v2233 c0_i32_1280
  let c0_i32_1281 : BitVec 32 := 0#32
  let v2236 : BitVec 1 := Scalar.cmpi .slt v2232 c0_i32_1281
  let v2237 : BitVec 1 := Scalar.xori v2235 v2236
  let c0_i32_1279 : BitVec 32 := 0#32
  let v2234 : BitVec 1 := Scalar.cmpi .ne v2233 c0_i32_1279
  let v2238 : BitVec 1 := Scalar.andi v2237 v2234
  let v2239 : BitVec 32 := Scalar.addi v2233 v2232
  let v2240 : BitVec 32 := Scalar.select v2238 v2239 v2233
  ![v2240.toNat]
def k0_off429 (i : grid0.Coords) : Fin 3 → Nat :=
  let arg0 : BitVec 32 := BitVec.ofNat 32 (i 0).val
  let c1_i32_1275 : BitVec 32 := 1#32
  let v2230 : BitVec 32 := Scalar.addi arg0 c1_i32_1275
  let c2_i32_1276 : BitVec 32 := 2#32
  let c0_i32_1277 : BitVec 32 := 0#32
  let v2231 : BitVec 1 := Scalar.cmpi .eq c2_i32_1276 c0_i32_1277
  let c1_i32_1278 : BitVec 32 := 1#32
  let v2232 : BitVec 32 := Scalar.select v2231 c1_i32_1278 c2_i32_1276
  let v2233 : BitVec 32 := Scalar.remsi v2230 v2232
  let c0_i32_1280 : BitVec 32 := 0#32
  let v2235 : BitVec 1 := Scalar.cmpi .slt v2233 c0_i32_1280
  let c0_i32_1281 : BitVec 32 := 0#32
  let v2236 : BitVec 1 := Scalar.cmpi .slt v2232 c0_i32_1281
  let v2237 : BitVec 1 := Scalar.xori v2235 v2236
  let c0_i32_1279 : BitVec 32 := 0#32
  let v2234 : BitVec 1 := Scalar.cmpi .ne v2233 c0_i32_1279
  let v2238 : BitVec 1 := Scalar.andi v2237 v2234
  let v2239 : BitVec 32 := Scalar.addi v2233 v2232
  let v2240 : BitVec 32 := Scalar.select v2238 v2239 v2233
  let c105_i32_1283 : BitVec 32 := 105#32
  let c0_i32_1284 : BitVec 32 := 0#32
  ![v2240.toNat, 105, 0]
def k0_off430 (v2244 : BitVec 32) : Fin 2 → Nat :=
  let c0_i32_1285 : BitVec 32 := 0#32
  ![v2244.toNat, 0]

def k0_chk108 (i : grid0.Coords) (v0 : BitVec 32) (v2244 : BitVec 32) : Prop :=
  (∀ (k0_h2 : k0_cond2 i v0 = 1#1), ∀ a, (k0_off430 v2244) a + S1x4096.size a ≤ S16896x4096.size a)
theorem k0_off430_inb : ∀ (i : grid0.Coords) (v0 : BitVec 32) (v2244 : BitVec 32) (k0_hw108 : k0_chk108 i v0 v2244), ∀ (k0_h2 : k0_cond2 i v0 = 1#1), ∀ a, (k0_off430 v2244) a + S1x4096.size a ≤ S16896x4096.size a := fun i v0 v2244 k0_hw108 k0_h2 => k0_hw108 k0_h2

def k0_off431 (i : grid0.Coords) : Fin 1 → Nat :=
  let arg0 : BitVec 32 := BitVec.ofNat 32 (i 0).val
  let c1_i32_1286 : BitVec 32 := 1#32
  let v2250 : BitVec 32 := Scalar.addi arg0 c1_i32_1286
  let c256_i32_1294 : BitVec 32 := 256#32
  let v2262 : BitVec 32 := Scalar.muli v2250 c256_i32_1294
  let c106_i32 : BitVec 32 := 106#32
  let v2263 : BitVec 32 := Scalar.addi v2262 c106_i32
  let v2264 : Index := Scalar.indexCast v2263
  ![v2264.toNat]
def k0_off432 (i : grid0.Coords) : Fin 1 → Nat :=
  let arg0 : BitVec 32 := BitVec.ofNat 32 (i 0).val
  let c1_i32_1287 : BitVec 32 := 1#32
  let v2251 : BitVec 32 := Scalar.addi arg0 c1_i32_1287
  let c2_i32_1288 : BitVec 32 := 2#32
  let c0_i32_1289 : BitVec 32 := 0#32
  let v2252 : BitVec 1 := Scalar.cmpi .eq c2_i32_1288 c0_i32_1289
  let c1_i32_1290 : BitVec 32 := 1#32
  let v2253 : BitVec 32 := Scalar.select v2252 c1_i32_1290 c2_i32_1288
  let v2254 : BitVec 32 := Scalar.remsi v2251 v2253
  let c0_i32_1292 : BitVec 32 := 0#32
  let v2256 : BitVec 1 := Scalar.cmpi .slt v2254 c0_i32_1292
  let c0_i32_1293 : BitVec 32 := 0#32
  let v2257 : BitVec 1 := Scalar.cmpi .slt v2253 c0_i32_1293
  let v2258 : BitVec 1 := Scalar.xori v2256 v2257
  let c0_i32_1291 : BitVec 32 := 0#32
  let v2255 : BitVec 1 := Scalar.cmpi .ne v2254 c0_i32_1291
  let v2259 : BitVec 1 := Scalar.andi v2258 v2255
  let v2260 : BitVec 32 := Scalar.addi v2254 v2253
  let v2261 : BitVec 32 := Scalar.select v2259 v2260 v2254
  ![v2261.toNat]
def k0_off433 (i : grid0.Coords) : Fin 3 → Nat :=
  let arg0 : BitVec 32 := BitVec.ofNat 32 (i 0).val
  let c1_i32_1287 : BitVec 32 := 1#32
  let v2251 : BitVec 32 := Scalar.addi arg0 c1_i32_1287
  let c2_i32_1288 : BitVec 32 := 2#32
  let c0_i32_1289 : BitVec 32 := 0#32
  let v2252 : BitVec 1 := Scalar.cmpi .eq c2_i32_1288 c0_i32_1289
  let c1_i32_1290 : BitVec 32 := 1#32
  let v2253 : BitVec 32 := Scalar.select v2252 c1_i32_1290 c2_i32_1288
  let v2254 : BitVec 32 := Scalar.remsi v2251 v2253
  let c0_i32_1292 : BitVec 32 := 0#32
  let v2256 : BitVec 1 := Scalar.cmpi .slt v2254 c0_i32_1292
  let c0_i32_1293 : BitVec 32 := 0#32
  let v2257 : BitVec 1 := Scalar.cmpi .slt v2253 c0_i32_1293
  let v2258 : BitVec 1 := Scalar.xori v2256 v2257
  let c0_i32_1291 : BitVec 32 := 0#32
  let v2255 : BitVec 1 := Scalar.cmpi .ne v2254 c0_i32_1291
  let v2259 : BitVec 1 := Scalar.andi v2258 v2255
  let v2260 : BitVec 32 := Scalar.addi v2254 v2253
  let v2261 : BitVec 32 := Scalar.select v2259 v2260 v2254
  let c106_i32_1295 : BitVec 32 := 106#32
  let c0_i32_1296 : BitVec 32 := 0#32
  ![v2261.toNat, 106, 0]
def k0_off434 (v2265 : BitVec 32) : Fin 2 → Nat :=
  let c0_i32_1297 : BitVec 32 := 0#32
  ![v2265.toNat, 0]

def k0_chk109 (i : grid0.Coords) (v0 : BitVec 32) (v2265 : BitVec 32) : Prop :=
  (∀ (k0_h2 : k0_cond2 i v0 = 1#1), ∀ a, (k0_off434 v2265) a + S1x4096.size a ≤ S16896x4096.size a)
theorem k0_off434_inb : ∀ (i : grid0.Coords) (v0 : BitVec 32) (v2265 : BitVec 32) (k0_hw109 : k0_chk109 i v0 v2265), ∀ (k0_h2 : k0_cond2 i v0 = 1#1), ∀ a, (k0_off434 v2265) a + S1x4096.size a ≤ S16896x4096.size a := fun i v0 v2265 k0_hw109 k0_h2 => k0_hw109 k0_h2

def k0_off435 (i : grid0.Coords) : Fin 1 → Nat :=
  let arg0 : BitVec 32 := BitVec.ofNat 32 (i 0).val
  let c1_i32_1298 : BitVec 32 := 1#32
  let v2271 : BitVec 32 := Scalar.addi arg0 c1_i32_1298
  let c256_i32_1306 : BitVec 32 := 256#32
  let v2283 : BitVec 32 := Scalar.muli v2271 c256_i32_1306
  let c107_i32 : BitVec 32 := 107#32
  let v2284 : BitVec 32 := Scalar.addi v2283 c107_i32
  let v2285 : Index := Scalar.indexCast v2284
  ![v2285.toNat]
def k0_off436 (i : grid0.Coords) : Fin 1 → Nat :=
  let arg0 : BitVec 32 := BitVec.ofNat 32 (i 0).val
  let c1_i32_1299 : BitVec 32 := 1#32
  let v2272 : BitVec 32 := Scalar.addi arg0 c1_i32_1299
  let c2_i32_1300 : BitVec 32 := 2#32
  let c0_i32_1301 : BitVec 32 := 0#32
  let v2273 : BitVec 1 := Scalar.cmpi .eq c2_i32_1300 c0_i32_1301
  let c1_i32_1302 : BitVec 32 := 1#32
  let v2274 : BitVec 32 := Scalar.select v2273 c1_i32_1302 c2_i32_1300
  let v2275 : BitVec 32 := Scalar.remsi v2272 v2274
  let c0_i32_1304 : BitVec 32 := 0#32
  let v2277 : BitVec 1 := Scalar.cmpi .slt v2275 c0_i32_1304
  let c0_i32_1305 : BitVec 32 := 0#32
  let v2278 : BitVec 1 := Scalar.cmpi .slt v2274 c0_i32_1305
  let v2279 : BitVec 1 := Scalar.xori v2277 v2278
  let c0_i32_1303 : BitVec 32 := 0#32
  let v2276 : BitVec 1 := Scalar.cmpi .ne v2275 c0_i32_1303
  let v2280 : BitVec 1 := Scalar.andi v2279 v2276
  let v2281 : BitVec 32 := Scalar.addi v2275 v2274
  let v2282 : BitVec 32 := Scalar.select v2280 v2281 v2275
  ![v2282.toNat]
def k0_off437 (i : grid0.Coords) : Fin 3 → Nat :=
  let arg0 : BitVec 32 := BitVec.ofNat 32 (i 0).val
  let c1_i32_1299 : BitVec 32 := 1#32
  let v2272 : BitVec 32 := Scalar.addi arg0 c1_i32_1299
  let c2_i32_1300 : BitVec 32 := 2#32
  let c0_i32_1301 : BitVec 32 := 0#32
  let v2273 : BitVec 1 := Scalar.cmpi .eq c2_i32_1300 c0_i32_1301
  let c1_i32_1302 : BitVec 32 := 1#32
  let v2274 : BitVec 32 := Scalar.select v2273 c1_i32_1302 c2_i32_1300
  let v2275 : BitVec 32 := Scalar.remsi v2272 v2274
  let c0_i32_1304 : BitVec 32 := 0#32
  let v2277 : BitVec 1 := Scalar.cmpi .slt v2275 c0_i32_1304
  let c0_i32_1305 : BitVec 32 := 0#32
  let v2278 : BitVec 1 := Scalar.cmpi .slt v2274 c0_i32_1305
  let v2279 : BitVec 1 := Scalar.xori v2277 v2278
  let c0_i32_1303 : BitVec 32 := 0#32
  let v2276 : BitVec 1 := Scalar.cmpi .ne v2275 c0_i32_1303
  let v2280 : BitVec 1 := Scalar.andi v2279 v2276
  let v2281 : BitVec 32 := Scalar.addi v2275 v2274
  let v2282 : BitVec 32 := Scalar.select v2280 v2281 v2275
  let c107_i32_1307 : BitVec 32 := 107#32
  let c0_i32_1308 : BitVec 32 := 0#32
  ![v2282.toNat, 107, 0]
def k0_off438 (v2286 : BitVec 32) : Fin 2 → Nat :=
  let c0_i32_1309 : BitVec 32 := 0#32
  ![v2286.toNat, 0]

def k0_chk110 (i : grid0.Coords) (v0 : BitVec 32) (v2286 : BitVec 32) : Prop :=
  (∀ (k0_h2 : k0_cond2 i v0 = 1#1), ∀ a, (k0_off438 v2286) a + S1x4096.size a ≤ S16896x4096.size a)
theorem k0_off438_inb : ∀ (i : grid0.Coords) (v0 : BitVec 32) (v2286 : BitVec 32) (k0_hw110 : k0_chk110 i v0 v2286), ∀ (k0_h2 : k0_cond2 i v0 = 1#1), ∀ a, (k0_off438 v2286) a + S1x4096.size a ≤ S16896x4096.size a := fun i v0 v2286 k0_hw110 k0_h2 => k0_hw110 k0_h2

def k0_off439 (i : grid0.Coords) : Fin 1 → Nat :=
  let arg0 : BitVec 32 := BitVec.ofNat 32 (i 0).val
  let c1_i32_1310 : BitVec 32 := 1#32
  let v2292 : BitVec 32 := Scalar.addi arg0 c1_i32_1310
  let c256_i32_1318 : BitVec 32 := 256#32
  let v2304 : BitVec 32 := Scalar.muli v2292 c256_i32_1318
  let c108_i32 : BitVec 32 := 108#32
  let v2305 : BitVec 32 := Scalar.addi v2304 c108_i32
  let v2306 : Index := Scalar.indexCast v2305
  ![v2306.toNat]
def k0_off440 (i : grid0.Coords) : Fin 1 → Nat :=
  let arg0 : BitVec 32 := BitVec.ofNat 32 (i 0).val
  let c1_i32_1311 : BitVec 32 := 1#32
  let v2293 : BitVec 32 := Scalar.addi arg0 c1_i32_1311
  let c2_i32_1312 : BitVec 32 := 2#32
  let c0_i32_1313 : BitVec 32 := 0#32
  let v2294 : BitVec 1 := Scalar.cmpi .eq c2_i32_1312 c0_i32_1313
  let c1_i32_1314 : BitVec 32 := 1#32
  let v2295 : BitVec 32 := Scalar.select v2294 c1_i32_1314 c2_i32_1312
  let v2296 : BitVec 32 := Scalar.remsi v2293 v2295
  let c0_i32_1316 : BitVec 32 := 0#32
  let v2298 : BitVec 1 := Scalar.cmpi .slt v2296 c0_i32_1316
  let c0_i32_1317 : BitVec 32 := 0#32
  let v2299 : BitVec 1 := Scalar.cmpi .slt v2295 c0_i32_1317
  let v2300 : BitVec 1 := Scalar.xori v2298 v2299
  let c0_i32_1315 : BitVec 32 := 0#32
  let v2297 : BitVec 1 := Scalar.cmpi .ne v2296 c0_i32_1315
  let v2301 : BitVec 1 := Scalar.andi v2300 v2297
  let v2302 : BitVec 32 := Scalar.addi v2296 v2295
  let v2303 : BitVec 32 := Scalar.select v2301 v2302 v2296
  ![v2303.toNat]
def k0_off441 (i : grid0.Coords) : Fin 3 → Nat :=
  let arg0 : BitVec 32 := BitVec.ofNat 32 (i 0).val
  let c1_i32_1311 : BitVec 32 := 1#32
  let v2293 : BitVec 32 := Scalar.addi arg0 c1_i32_1311
  let c2_i32_1312 : BitVec 32 := 2#32
  let c0_i32_1313 : BitVec 32 := 0#32
  let v2294 : BitVec 1 := Scalar.cmpi .eq c2_i32_1312 c0_i32_1313
  let c1_i32_1314 : BitVec 32 := 1#32
  let v2295 : BitVec 32 := Scalar.select v2294 c1_i32_1314 c2_i32_1312
  let v2296 : BitVec 32 := Scalar.remsi v2293 v2295
  let c0_i32_1316 : BitVec 32 := 0#32
  let v2298 : BitVec 1 := Scalar.cmpi .slt v2296 c0_i32_1316
  let c0_i32_1317 : BitVec 32 := 0#32
  let v2299 : BitVec 1 := Scalar.cmpi .slt v2295 c0_i32_1317
  let v2300 : BitVec 1 := Scalar.xori v2298 v2299
  let c0_i32_1315 : BitVec 32 := 0#32
  let v2297 : BitVec 1 := Scalar.cmpi .ne v2296 c0_i32_1315
  let v2301 : BitVec 1 := Scalar.andi v2300 v2297
  let v2302 : BitVec 32 := Scalar.addi v2296 v2295
  let v2303 : BitVec 32 := Scalar.select v2301 v2302 v2296
  let c108_i32_1319 : BitVec 32 := 108#32
  let c0_i32_1320 : BitVec 32 := 0#32
  ![v2303.toNat, 108, 0]
def k0_off442 (v2307 : BitVec 32) : Fin 2 → Nat :=
  let c0_i32_1321 : BitVec 32 := 0#32
  ![v2307.toNat, 0]

def k0_chk111 (i : grid0.Coords) (v0 : BitVec 32) (v2307 : BitVec 32) : Prop :=
  (∀ (k0_h2 : k0_cond2 i v0 = 1#1), ∀ a, (k0_off442 v2307) a + S1x4096.size a ≤ S16896x4096.size a)
theorem k0_off442_inb : ∀ (i : grid0.Coords) (v0 : BitVec 32) (v2307 : BitVec 32) (k0_hw111 : k0_chk111 i v0 v2307), ∀ (k0_h2 : k0_cond2 i v0 = 1#1), ∀ a, (k0_off442 v2307) a + S1x4096.size a ≤ S16896x4096.size a := fun i v0 v2307 k0_hw111 k0_h2 => k0_hw111 k0_h2

def k0_off443 (i : grid0.Coords) : Fin 1 → Nat :=
  let arg0 : BitVec 32 := BitVec.ofNat 32 (i 0).val
  let c1_i32_1322 : BitVec 32 := 1#32
  let v2313 : BitVec 32 := Scalar.addi arg0 c1_i32_1322
  let c256_i32_1330 : BitVec 32 := 256#32
  let v2325 : BitVec 32 := Scalar.muli v2313 c256_i32_1330
  let c109_i32 : BitVec 32 := 109#32
  let v2326 : BitVec 32 := Scalar.addi v2325 c109_i32
  let v2327 : Index := Scalar.indexCast v2326
  ![v2327.toNat]
def k0_off444 (i : grid0.Coords) : Fin 1 → Nat :=
  let arg0 : BitVec 32 := BitVec.ofNat 32 (i 0).val
  let c1_i32_1323 : BitVec 32 := 1#32
  let v2314 : BitVec 32 := Scalar.addi arg0 c1_i32_1323
  let c2_i32_1324 : BitVec 32 := 2#32
  let c0_i32_1325 : BitVec 32 := 0#32
  let v2315 : BitVec 1 := Scalar.cmpi .eq c2_i32_1324 c0_i32_1325
  let c1_i32_1326 : BitVec 32 := 1#32
  let v2316 : BitVec 32 := Scalar.select v2315 c1_i32_1326 c2_i32_1324
  let v2317 : BitVec 32 := Scalar.remsi v2314 v2316
  let c0_i32_1328 : BitVec 32 := 0#32
  let v2319 : BitVec 1 := Scalar.cmpi .slt v2317 c0_i32_1328
  let c0_i32_1329 : BitVec 32 := 0#32
  let v2320 : BitVec 1 := Scalar.cmpi .slt v2316 c0_i32_1329
  let v2321 : BitVec 1 := Scalar.xori v2319 v2320
  let c0_i32_1327 : BitVec 32 := 0#32
  let v2318 : BitVec 1 := Scalar.cmpi .ne v2317 c0_i32_1327
  let v2322 : BitVec 1 := Scalar.andi v2321 v2318
  let v2323 : BitVec 32 := Scalar.addi v2317 v2316
  let v2324 : BitVec 32 := Scalar.select v2322 v2323 v2317
  ![v2324.toNat]
def k0_off445 (i : grid0.Coords) : Fin 3 → Nat :=
  let arg0 : BitVec 32 := BitVec.ofNat 32 (i 0).val
  let c1_i32_1323 : BitVec 32 := 1#32
  let v2314 : BitVec 32 := Scalar.addi arg0 c1_i32_1323
  let c2_i32_1324 : BitVec 32 := 2#32
  let c0_i32_1325 : BitVec 32 := 0#32
  let v2315 : BitVec 1 := Scalar.cmpi .eq c2_i32_1324 c0_i32_1325
  let c1_i32_1326 : BitVec 32 := 1#32
  let v2316 : BitVec 32 := Scalar.select v2315 c1_i32_1326 c2_i32_1324
  let v2317 : BitVec 32 := Scalar.remsi v2314 v2316
  let c0_i32_1328 : BitVec 32 := 0#32
  let v2319 : BitVec 1 := Scalar.cmpi .slt v2317 c0_i32_1328
  let c0_i32_1329 : BitVec 32 := 0#32
  let v2320 : BitVec 1 := Scalar.cmpi .slt v2316 c0_i32_1329
  let v2321 : BitVec 1 := Scalar.xori v2319 v2320
  let c0_i32_1327 : BitVec 32 := 0#32
  let v2318 : BitVec 1 := Scalar.cmpi .ne v2317 c0_i32_1327
  let v2322 : BitVec 1 := Scalar.andi v2321 v2318
  let v2323 : BitVec 32 := Scalar.addi v2317 v2316
  let v2324 : BitVec 32 := Scalar.select v2322 v2323 v2317
  let c109_i32_1331 : BitVec 32 := 109#32
  let c0_i32_1332 : BitVec 32 := 0#32
  ![v2324.toNat, 109, 0]
def k0_off446 (v2328 : BitVec 32) : Fin 2 → Nat :=
  let c0_i32_1333 : BitVec 32 := 0#32
  ![v2328.toNat, 0]

def k0_chk112 (i : grid0.Coords) (v0 : BitVec 32) (v2328 : BitVec 32) : Prop :=
  (∀ (k0_h2 : k0_cond2 i v0 = 1#1), ∀ a, (k0_off446 v2328) a + S1x4096.size a ≤ S16896x4096.size a)
theorem k0_off446_inb : ∀ (i : grid0.Coords) (v0 : BitVec 32) (v2328 : BitVec 32) (k0_hw112 : k0_chk112 i v0 v2328), ∀ (k0_h2 : k0_cond2 i v0 = 1#1), ∀ a, (k0_off446 v2328) a + S1x4096.size a ≤ S16896x4096.size a := fun i v0 v2328 k0_hw112 k0_h2 => k0_hw112 k0_h2

def k0_off447 (i : grid0.Coords) : Fin 1 → Nat :=
  let arg0 : BitVec 32 := BitVec.ofNat 32 (i 0).val
  let c1_i32_1334 : BitVec 32 := 1#32
  let v2334 : BitVec 32 := Scalar.addi arg0 c1_i32_1334
  let c256_i32_1342 : BitVec 32 := 256#32
  let v2346 : BitVec 32 := Scalar.muli v2334 c256_i32_1342
  let c110_i32 : BitVec 32 := 110#32
  let v2347 : BitVec 32 := Scalar.addi v2346 c110_i32
  let v2348 : Index := Scalar.indexCast v2347
  ![v2348.toNat]
def k0_off448 (i : grid0.Coords) : Fin 1 → Nat :=
  let arg0 : BitVec 32 := BitVec.ofNat 32 (i 0).val
  let c1_i32_1335 : BitVec 32 := 1#32
  let v2335 : BitVec 32 := Scalar.addi arg0 c1_i32_1335
  let c2_i32_1336 : BitVec 32 := 2#32
  let c0_i32_1337 : BitVec 32 := 0#32
  let v2336 : BitVec 1 := Scalar.cmpi .eq c2_i32_1336 c0_i32_1337
  let c1_i32_1338 : BitVec 32 := 1#32
  let v2337 : BitVec 32 := Scalar.select v2336 c1_i32_1338 c2_i32_1336
  let v2338 : BitVec 32 := Scalar.remsi v2335 v2337
  let c0_i32_1340 : BitVec 32 := 0#32
  let v2340 : BitVec 1 := Scalar.cmpi .slt v2338 c0_i32_1340
  let c0_i32_1341 : BitVec 32 := 0#32
  let v2341 : BitVec 1 := Scalar.cmpi .slt v2337 c0_i32_1341
  let v2342 : BitVec 1 := Scalar.xori v2340 v2341
  let c0_i32_1339 : BitVec 32 := 0#32
  let v2339 : BitVec 1 := Scalar.cmpi .ne v2338 c0_i32_1339
  let v2343 : BitVec 1 := Scalar.andi v2342 v2339
  let v2344 : BitVec 32 := Scalar.addi v2338 v2337
  let v2345 : BitVec 32 := Scalar.select v2343 v2344 v2338
  ![v2345.toNat]
def k0_off449 (i : grid0.Coords) : Fin 3 → Nat :=
  let arg0 : BitVec 32 := BitVec.ofNat 32 (i 0).val
  let c1_i32_1335 : BitVec 32 := 1#32
  let v2335 : BitVec 32 := Scalar.addi arg0 c1_i32_1335
  let c2_i32_1336 : BitVec 32 := 2#32
  let c0_i32_1337 : BitVec 32 := 0#32
  let v2336 : BitVec 1 := Scalar.cmpi .eq c2_i32_1336 c0_i32_1337
  let c1_i32_1338 : BitVec 32 := 1#32
  let v2337 : BitVec 32 := Scalar.select v2336 c1_i32_1338 c2_i32_1336
  let v2338 : BitVec 32 := Scalar.remsi v2335 v2337
  let c0_i32_1340 : BitVec 32 := 0#32
  let v2340 : BitVec 1 := Scalar.cmpi .slt v2338 c0_i32_1340
  let c0_i32_1341 : BitVec 32 := 0#32
  let v2341 : BitVec 1 := Scalar.cmpi .slt v2337 c0_i32_1341
  let v2342 : BitVec 1 := Scalar.xori v2340 v2341
  let c0_i32_1339 : BitVec 32 := 0#32
  let v2339 : BitVec 1 := Scalar.cmpi .ne v2338 c0_i32_1339
  let v2343 : BitVec 1 := Scalar.andi v2342 v2339
  let v2344 : BitVec 32 := Scalar.addi v2338 v2337
  let v2345 : BitVec 32 := Scalar.select v2343 v2344 v2338
  let c110_i32_1343 : BitVec 32 := 110#32
  let c0_i32_1344 : BitVec 32 := 0#32
  ![v2345.toNat, 110, 0]
def k0_off450 (v2349 : BitVec 32) : Fin 2 → Nat :=
  let c0_i32_1345 : BitVec 32 := 0#32
  ![v2349.toNat, 0]

def k0_chk113 (i : grid0.Coords) (v0 : BitVec 32) (v2349 : BitVec 32) : Prop :=
  (∀ (k0_h2 : k0_cond2 i v0 = 1#1), ∀ a, (k0_off450 v2349) a + S1x4096.size a ≤ S16896x4096.size a)
theorem k0_off450_inb : ∀ (i : grid0.Coords) (v0 : BitVec 32) (v2349 : BitVec 32) (k0_hw113 : k0_chk113 i v0 v2349), ∀ (k0_h2 : k0_cond2 i v0 = 1#1), ∀ a, (k0_off450 v2349) a + S1x4096.size a ≤ S16896x4096.size a := fun i v0 v2349 k0_hw113 k0_h2 => k0_hw113 k0_h2

def k0_off451 (i : grid0.Coords) : Fin 1 → Nat :=
  let arg0 : BitVec 32 := BitVec.ofNat 32 (i 0).val
  let c1_i32_1346 : BitVec 32 := 1#32
  let v2355 : BitVec 32 := Scalar.addi arg0 c1_i32_1346
  let c256_i32_1354 : BitVec 32 := 256#32
  let v2367 : BitVec 32 := Scalar.muli v2355 c256_i32_1354
  let c111_i32 : BitVec 32 := 111#32
  let v2368 : BitVec 32 := Scalar.addi v2367 c111_i32
  let v2369 : Index := Scalar.indexCast v2368
  ![v2369.toNat]
def k0_off452 (i : grid0.Coords) : Fin 1 → Nat :=
  let arg0 : BitVec 32 := BitVec.ofNat 32 (i 0).val
  let c1_i32_1347 : BitVec 32 := 1#32
  let v2356 : BitVec 32 := Scalar.addi arg0 c1_i32_1347
  let c2_i32_1348 : BitVec 32 := 2#32
  let c0_i32_1349 : BitVec 32 := 0#32
  let v2357 : BitVec 1 := Scalar.cmpi .eq c2_i32_1348 c0_i32_1349
  let c1_i32_1350 : BitVec 32 := 1#32
  let v2358 : BitVec 32 := Scalar.select v2357 c1_i32_1350 c2_i32_1348
  let v2359 : BitVec 32 := Scalar.remsi v2356 v2358
  let c0_i32_1352 : BitVec 32 := 0#32
  let v2361 : BitVec 1 := Scalar.cmpi .slt v2359 c0_i32_1352
  let c0_i32_1353 : BitVec 32 := 0#32
  let v2362 : BitVec 1 := Scalar.cmpi .slt v2358 c0_i32_1353
  let v2363 : BitVec 1 := Scalar.xori v2361 v2362
  let c0_i32_1351 : BitVec 32 := 0#32
  let v2360 : BitVec 1 := Scalar.cmpi .ne v2359 c0_i32_1351
  let v2364 : BitVec 1 := Scalar.andi v2363 v2360
  let v2365 : BitVec 32 := Scalar.addi v2359 v2358
  let v2366 : BitVec 32 := Scalar.select v2364 v2365 v2359
  ![v2366.toNat]
def k0_off453 (i : grid0.Coords) : Fin 3 → Nat :=
  let arg0 : BitVec 32 := BitVec.ofNat 32 (i 0).val
  let c1_i32_1347 : BitVec 32 := 1#32
  let v2356 : BitVec 32 := Scalar.addi arg0 c1_i32_1347
  let c2_i32_1348 : BitVec 32 := 2#32
  let c0_i32_1349 : BitVec 32 := 0#32
  let v2357 : BitVec 1 := Scalar.cmpi .eq c2_i32_1348 c0_i32_1349
  let c1_i32_1350 : BitVec 32 := 1#32
  let v2358 : BitVec 32 := Scalar.select v2357 c1_i32_1350 c2_i32_1348
  let v2359 : BitVec 32 := Scalar.remsi v2356 v2358
  let c0_i32_1352 : BitVec 32 := 0#32
  let v2361 : BitVec 1 := Scalar.cmpi .slt v2359 c0_i32_1352
  let c0_i32_1353 : BitVec 32 := 0#32
  let v2362 : BitVec 1 := Scalar.cmpi .slt v2358 c0_i32_1353
  let v2363 : BitVec 1 := Scalar.xori v2361 v2362
  let c0_i32_1351 : BitVec 32 := 0#32
  let v2360 : BitVec 1 := Scalar.cmpi .ne v2359 c0_i32_1351
  let v2364 : BitVec 1 := Scalar.andi v2363 v2360
  let v2365 : BitVec 32 := Scalar.addi v2359 v2358
  let v2366 : BitVec 32 := Scalar.select v2364 v2365 v2359
  let c111_i32_1355 : BitVec 32 := 111#32
  let c0_i32_1356 : BitVec 32 := 0#32
  ![v2366.toNat, 111, 0]
def k0_off454 (v2370 : BitVec 32) : Fin 2 → Nat :=
  let c0_i32_1357 : BitVec 32 := 0#32
  ![v2370.toNat, 0]

def k0_chk114 (i : grid0.Coords) (v0 : BitVec 32) (v2370 : BitVec 32) : Prop :=
  (∀ (k0_h2 : k0_cond2 i v0 = 1#1), ∀ a, (k0_off454 v2370) a + S1x4096.size a ≤ S16896x4096.size a)
theorem k0_off454_inb : ∀ (i : grid0.Coords) (v0 : BitVec 32) (v2370 : BitVec 32) (k0_hw114 : k0_chk114 i v0 v2370), ∀ (k0_h2 : k0_cond2 i v0 = 1#1), ∀ a, (k0_off454 v2370) a + S1x4096.size a ≤ S16896x4096.size a := fun i v0 v2370 k0_hw114 k0_h2 => k0_hw114 k0_h2

def k0_off455 (i : grid0.Coords) : Fin 1 → Nat :=
  let arg0 : BitVec 32 := BitVec.ofNat 32 (i 0).val
  let c1_i32_1358 : BitVec 32 := 1#32
  let v2376 : BitVec 32 := Scalar.addi arg0 c1_i32_1358
  let c256_i32_1366 : BitVec 32 := 256#32
  let v2388 : BitVec 32 := Scalar.muli v2376 c256_i32_1366
  let c112_i32 : BitVec 32 := 112#32
  let v2389 : BitVec 32 := Scalar.addi v2388 c112_i32
  let v2390 : Index := Scalar.indexCast v2389
  ![v2390.toNat]
def k0_off456 (i : grid0.Coords) : Fin 1 → Nat :=
  let arg0 : BitVec 32 := BitVec.ofNat 32 (i 0).val
  let c1_i32_1359 : BitVec 32 := 1#32
  let v2377 : BitVec 32 := Scalar.addi arg0 c1_i32_1359
  let c2_i32_1360 : BitVec 32 := 2#32
  let c0_i32_1361 : BitVec 32 := 0#32
  let v2378 : BitVec 1 := Scalar.cmpi .eq c2_i32_1360 c0_i32_1361
  let c1_i32_1362 : BitVec 32 := 1#32
  let v2379 : BitVec 32 := Scalar.select v2378 c1_i32_1362 c2_i32_1360
  let v2380 : BitVec 32 := Scalar.remsi v2377 v2379
  let c0_i32_1364 : BitVec 32 := 0#32
  let v2382 : BitVec 1 := Scalar.cmpi .slt v2380 c0_i32_1364
  let c0_i32_1365 : BitVec 32 := 0#32
  let v2383 : BitVec 1 := Scalar.cmpi .slt v2379 c0_i32_1365
  let v2384 : BitVec 1 := Scalar.xori v2382 v2383
  let c0_i32_1363 : BitVec 32 := 0#32
  let v2381 : BitVec 1 := Scalar.cmpi .ne v2380 c0_i32_1363
  let v2385 : BitVec 1 := Scalar.andi v2384 v2381
  let v2386 : BitVec 32 := Scalar.addi v2380 v2379
  let v2387 : BitVec 32 := Scalar.select v2385 v2386 v2380
  ![v2387.toNat]
def k0_off457 (i : grid0.Coords) : Fin 3 → Nat :=
  let arg0 : BitVec 32 := BitVec.ofNat 32 (i 0).val
  let c1_i32_1359 : BitVec 32 := 1#32
  let v2377 : BitVec 32 := Scalar.addi arg0 c1_i32_1359
  let c2_i32_1360 : BitVec 32 := 2#32
  let c0_i32_1361 : BitVec 32 := 0#32
  let v2378 : BitVec 1 := Scalar.cmpi .eq c2_i32_1360 c0_i32_1361
  let c1_i32_1362 : BitVec 32 := 1#32
  let v2379 : BitVec 32 := Scalar.select v2378 c1_i32_1362 c2_i32_1360
  let v2380 : BitVec 32 := Scalar.remsi v2377 v2379
  let c0_i32_1364 : BitVec 32 := 0#32
  let v2382 : BitVec 1 := Scalar.cmpi .slt v2380 c0_i32_1364
  let c0_i32_1365 : BitVec 32 := 0#32
  let v2383 : BitVec 1 := Scalar.cmpi .slt v2379 c0_i32_1365
  let v2384 : BitVec 1 := Scalar.xori v2382 v2383
  let c0_i32_1363 : BitVec 32 := 0#32
  let v2381 : BitVec 1 := Scalar.cmpi .ne v2380 c0_i32_1363
  let v2385 : BitVec 1 := Scalar.andi v2384 v2381
  let v2386 : BitVec 32 := Scalar.addi v2380 v2379
  let v2387 : BitVec 32 := Scalar.select v2385 v2386 v2380
  let c112_i32_1367 : BitVec 32 := 112#32
  let c0_i32_1368 : BitVec 32 := 0#32
  ![v2387.toNat, 112, 0]
def k0_off458 (v2391 : BitVec 32) : Fin 2 → Nat :=
  let c0_i32_1369 : BitVec 32 := 0#32
  ![v2391.toNat, 0]

def k0_chk115 (i : grid0.Coords) (v0 : BitVec 32) (v2391 : BitVec 32) : Prop :=
  (∀ (k0_h2 : k0_cond2 i v0 = 1#1), ∀ a, (k0_off458 v2391) a + S1x4096.size a ≤ S16896x4096.size a)
theorem k0_off458_inb : ∀ (i : grid0.Coords) (v0 : BitVec 32) (v2391 : BitVec 32) (k0_hw115 : k0_chk115 i v0 v2391), ∀ (k0_h2 : k0_cond2 i v0 = 1#1), ∀ a, (k0_off458 v2391) a + S1x4096.size a ≤ S16896x4096.size a := fun i v0 v2391 k0_hw115 k0_h2 => k0_hw115 k0_h2

def k0_off459 (i : grid0.Coords) : Fin 1 → Nat :=
  let arg0 : BitVec 32 := BitVec.ofNat 32 (i 0).val
  let c1_i32_1370 : BitVec 32 := 1#32
  let v2397 : BitVec 32 := Scalar.addi arg0 c1_i32_1370
  let c256_i32_1378 : BitVec 32 := 256#32
  let v2409 : BitVec 32 := Scalar.muli v2397 c256_i32_1378
  let c113_i32 : BitVec 32 := 113#32
  let v2410 : BitVec 32 := Scalar.addi v2409 c113_i32
  let v2411 : Index := Scalar.indexCast v2410
  ![v2411.toNat]
def k0_off460 (i : grid0.Coords) : Fin 1 → Nat :=
  let arg0 : BitVec 32 := BitVec.ofNat 32 (i 0).val
  let c1_i32_1371 : BitVec 32 := 1#32
  let v2398 : BitVec 32 := Scalar.addi arg0 c1_i32_1371
  let c2_i32_1372 : BitVec 32 := 2#32
  let c0_i32_1373 : BitVec 32 := 0#32
  let v2399 : BitVec 1 := Scalar.cmpi .eq c2_i32_1372 c0_i32_1373
  let c1_i32_1374 : BitVec 32 := 1#32
  let v2400 : BitVec 32 := Scalar.select v2399 c1_i32_1374 c2_i32_1372
  let v2401 : BitVec 32 := Scalar.remsi v2398 v2400
  let c0_i32_1376 : BitVec 32 := 0#32
  let v2403 : BitVec 1 := Scalar.cmpi .slt v2401 c0_i32_1376
  let c0_i32_1377 : BitVec 32 := 0#32
  let v2404 : BitVec 1 := Scalar.cmpi .slt v2400 c0_i32_1377
  let v2405 : BitVec 1 := Scalar.xori v2403 v2404
  let c0_i32_1375 : BitVec 32 := 0#32
  let v2402 : BitVec 1 := Scalar.cmpi .ne v2401 c0_i32_1375
  let v2406 : BitVec 1 := Scalar.andi v2405 v2402
  let v2407 : BitVec 32 := Scalar.addi v2401 v2400
  let v2408 : BitVec 32 := Scalar.select v2406 v2407 v2401
  ![v2408.toNat]
def k0_off461 (i : grid0.Coords) : Fin 3 → Nat :=
  let arg0 : BitVec 32 := BitVec.ofNat 32 (i 0).val
  let c1_i32_1371 : BitVec 32 := 1#32
  let v2398 : BitVec 32 := Scalar.addi arg0 c1_i32_1371
  let c2_i32_1372 : BitVec 32 := 2#32
  let c0_i32_1373 : BitVec 32 := 0#32
  let v2399 : BitVec 1 := Scalar.cmpi .eq c2_i32_1372 c0_i32_1373
  let c1_i32_1374 : BitVec 32 := 1#32
  let v2400 : BitVec 32 := Scalar.select v2399 c1_i32_1374 c2_i32_1372
  let v2401 : BitVec 32 := Scalar.remsi v2398 v2400
  let c0_i32_1376 : BitVec 32 := 0#32
  let v2403 : BitVec 1 := Scalar.cmpi .slt v2401 c0_i32_1376
  let c0_i32_1377 : BitVec 32 := 0#32
  let v2404 : BitVec 1 := Scalar.cmpi .slt v2400 c0_i32_1377
  let v2405 : BitVec 1 := Scalar.xori v2403 v2404
  let c0_i32_1375 : BitVec 32 := 0#32
  let v2402 : BitVec 1 := Scalar.cmpi .ne v2401 c0_i32_1375
  let v2406 : BitVec 1 := Scalar.andi v2405 v2402
  let v2407 : BitVec 32 := Scalar.addi v2401 v2400
  let v2408 : BitVec 32 := Scalar.select v2406 v2407 v2401
  let c113_i32_1379 : BitVec 32 := 113#32
  let c0_i32_1380 : BitVec 32 := 0#32
  ![v2408.toNat, 113, 0]
def k0_off462 (v2412 : BitVec 32) : Fin 2 → Nat :=
  let c0_i32_1381 : BitVec 32 := 0#32
  ![v2412.toNat, 0]

def k0_chk116 (i : grid0.Coords) (v0 : BitVec 32) (v2412 : BitVec 32) : Prop :=
  (∀ (k0_h2 : k0_cond2 i v0 = 1#1), ∀ a, (k0_off462 v2412) a + S1x4096.size a ≤ S16896x4096.size a)
theorem k0_off462_inb : ∀ (i : grid0.Coords) (v0 : BitVec 32) (v2412 : BitVec 32) (k0_hw116 : k0_chk116 i v0 v2412), ∀ (k0_h2 : k0_cond2 i v0 = 1#1), ∀ a, (k0_off462 v2412) a + S1x4096.size a ≤ S16896x4096.size a := fun i v0 v2412 k0_hw116 k0_h2 => k0_hw116 k0_h2

def k0_off463 (i : grid0.Coords) : Fin 1 → Nat :=
  let arg0 : BitVec 32 := BitVec.ofNat 32 (i 0).val
  let c1_i32_1382 : BitVec 32 := 1#32
  let v2418 : BitVec 32 := Scalar.addi arg0 c1_i32_1382
  let c256_i32_1390 : BitVec 32 := 256#32
  let v2430 : BitVec 32 := Scalar.muli v2418 c256_i32_1390
  let c114_i32 : BitVec 32 := 114#32
  let v2431 : BitVec 32 := Scalar.addi v2430 c114_i32
  let v2432 : Index := Scalar.indexCast v2431
  ![v2432.toNat]
def k0_off464 (i : grid0.Coords) : Fin 1 → Nat :=
  let arg0 : BitVec 32 := BitVec.ofNat 32 (i 0).val
  let c1_i32_1383 : BitVec 32 := 1#32
  let v2419 : BitVec 32 := Scalar.addi arg0 c1_i32_1383
  let c2_i32_1384 : BitVec 32 := 2#32
  let c0_i32_1385 : BitVec 32 := 0#32
  let v2420 : BitVec 1 := Scalar.cmpi .eq c2_i32_1384 c0_i32_1385
  let c1_i32_1386 : BitVec 32 := 1#32
  let v2421 : BitVec 32 := Scalar.select v2420 c1_i32_1386 c2_i32_1384
  let v2422 : BitVec 32 := Scalar.remsi v2419 v2421
  let c0_i32_1388 : BitVec 32 := 0#32
  let v2424 : BitVec 1 := Scalar.cmpi .slt v2422 c0_i32_1388
  let c0_i32_1389 : BitVec 32 := 0#32
  let v2425 : BitVec 1 := Scalar.cmpi .slt v2421 c0_i32_1389
  let v2426 : BitVec 1 := Scalar.xori v2424 v2425
  let c0_i32_1387 : BitVec 32 := 0#32
  let v2423 : BitVec 1 := Scalar.cmpi .ne v2422 c0_i32_1387
  let v2427 : BitVec 1 := Scalar.andi v2426 v2423
  let v2428 : BitVec 32 := Scalar.addi v2422 v2421
  let v2429 : BitVec 32 := Scalar.select v2427 v2428 v2422
  ![v2429.toNat]
def k0_off465 (i : grid0.Coords) : Fin 3 → Nat :=
  let arg0 : BitVec 32 := BitVec.ofNat 32 (i 0).val
  let c1_i32_1383 : BitVec 32 := 1#32
  let v2419 : BitVec 32 := Scalar.addi arg0 c1_i32_1383
  let c2_i32_1384 : BitVec 32 := 2#32
  let c0_i32_1385 : BitVec 32 := 0#32
  let v2420 : BitVec 1 := Scalar.cmpi .eq c2_i32_1384 c0_i32_1385
  let c1_i32_1386 : BitVec 32 := 1#32
  let v2421 : BitVec 32 := Scalar.select v2420 c1_i32_1386 c2_i32_1384
  let v2422 : BitVec 32 := Scalar.remsi v2419 v2421
  let c0_i32_1388 : BitVec 32 := 0#32
  let v2424 : BitVec 1 := Scalar.cmpi .slt v2422 c0_i32_1388
  let c0_i32_1389 : BitVec 32 := 0#32
  let v2425 : BitVec 1 := Scalar.cmpi .slt v2421 c0_i32_1389
  let v2426 : BitVec 1 := Scalar.xori v2424 v2425
  let c0_i32_1387 : BitVec 32 := 0#32
  let v2423 : BitVec 1 := Scalar.cmpi .ne v2422 c0_i32_1387
  let v2427 : BitVec 1 := Scalar.andi v2426 v2423
  let v2428 : BitVec 32 := Scalar.addi v2422 v2421
  let v2429 : BitVec 32 := Scalar.select v2427 v2428 v2422
  let c114_i32_1391 : BitVec 32 := 114#32
  let c0_i32_1392 : BitVec 32 := 0#32
  ![v2429.toNat, 114, 0]
def k0_off466 (v2433 : BitVec 32) : Fin 2 → Nat :=
  let c0_i32_1393 : BitVec 32 := 0#32
  ![v2433.toNat, 0]

def k0_chk117 (i : grid0.Coords) (v0 : BitVec 32) (v2433 : BitVec 32) : Prop :=
  (∀ (k0_h2 : k0_cond2 i v0 = 1#1), ∀ a, (k0_off466 v2433) a + S1x4096.size a ≤ S16896x4096.size a)
theorem k0_off466_inb : ∀ (i : grid0.Coords) (v0 : BitVec 32) (v2433 : BitVec 32) (k0_hw117 : k0_chk117 i v0 v2433), ∀ (k0_h2 : k0_cond2 i v0 = 1#1), ∀ a, (k0_off466 v2433) a + S1x4096.size a ≤ S16896x4096.size a := fun i v0 v2433 k0_hw117 k0_h2 => k0_hw117 k0_h2

def k0_off467 (i : grid0.Coords) : Fin 1 → Nat :=
  let arg0 : BitVec 32 := BitVec.ofNat 32 (i 0).val
  let c1_i32_1394 : BitVec 32 := 1#32
  let v2439 : BitVec 32 := Scalar.addi arg0 c1_i32_1394
  let c256_i32_1402 : BitVec 32 := 256#32
  let v2451 : BitVec 32 := Scalar.muli v2439 c256_i32_1402
  let c115_i32 : BitVec 32 := 115#32
  let v2452 : BitVec 32 := Scalar.addi v2451 c115_i32
  let v2453 : Index := Scalar.indexCast v2452
  ![v2453.toNat]
def k0_off468 (i : grid0.Coords) : Fin 1 → Nat :=
  let arg0 : BitVec 32 := BitVec.ofNat 32 (i 0).val
  let c1_i32_1395 : BitVec 32 := 1#32
  let v2440 : BitVec 32 := Scalar.addi arg0 c1_i32_1395
  let c2_i32_1396 : BitVec 32 := 2#32
  let c0_i32_1397 : BitVec 32 := 0#32
  let v2441 : BitVec 1 := Scalar.cmpi .eq c2_i32_1396 c0_i32_1397
  let c1_i32_1398 : BitVec 32 := 1#32
  let v2442 : BitVec 32 := Scalar.select v2441 c1_i32_1398 c2_i32_1396
  let v2443 : BitVec 32 := Scalar.remsi v2440 v2442
  let c0_i32_1400 : BitVec 32 := 0#32
  let v2445 : BitVec 1 := Scalar.cmpi .slt v2443 c0_i32_1400
  let c0_i32_1401 : BitVec 32 := 0#32
  let v2446 : BitVec 1 := Scalar.cmpi .slt v2442 c0_i32_1401
  let v2447 : BitVec 1 := Scalar.xori v2445 v2446
  let c0_i32_1399 : BitVec 32 := 0#32
  let v2444 : BitVec 1 := Scalar.cmpi .ne v2443 c0_i32_1399
  let v2448 : BitVec 1 := Scalar.andi v2447 v2444
  let v2449 : BitVec 32 := Scalar.addi v2443 v2442
  let v2450 : BitVec 32 := Scalar.select v2448 v2449 v2443
  ![v2450.toNat]
def k0_off469 (i : grid0.Coords) : Fin 3 → Nat :=
  let arg0 : BitVec 32 := BitVec.ofNat 32 (i 0).val
  let c1_i32_1395 : BitVec 32 := 1#32
  let v2440 : BitVec 32 := Scalar.addi arg0 c1_i32_1395
  let c2_i32_1396 : BitVec 32 := 2#32
  let c0_i32_1397 : BitVec 32 := 0#32
  let v2441 : BitVec 1 := Scalar.cmpi .eq c2_i32_1396 c0_i32_1397
  let c1_i32_1398 : BitVec 32 := 1#32
  let v2442 : BitVec 32 := Scalar.select v2441 c1_i32_1398 c2_i32_1396
  let v2443 : BitVec 32 := Scalar.remsi v2440 v2442
  let c0_i32_1400 : BitVec 32 := 0#32
  let v2445 : BitVec 1 := Scalar.cmpi .slt v2443 c0_i32_1400
  let c0_i32_1401 : BitVec 32 := 0#32
  let v2446 : BitVec 1 := Scalar.cmpi .slt v2442 c0_i32_1401
  let v2447 : BitVec 1 := Scalar.xori v2445 v2446
  let c0_i32_1399 : BitVec 32 := 0#32
  let v2444 : BitVec 1 := Scalar.cmpi .ne v2443 c0_i32_1399
  let v2448 : BitVec 1 := Scalar.andi v2447 v2444
  let v2449 : BitVec 32 := Scalar.addi v2443 v2442
  let v2450 : BitVec 32 := Scalar.select v2448 v2449 v2443
  let c115_i32_1403 : BitVec 32 := 115#32
  let c0_i32_1404 : BitVec 32 := 0#32
  ![v2450.toNat, 115, 0]
def k0_off470 (v2454 : BitVec 32) : Fin 2 → Nat :=
  let c0_i32_1405 : BitVec 32 := 0#32
  ![v2454.toNat, 0]

def k0_chk118 (i : grid0.Coords) (v0 : BitVec 32) (v2454 : BitVec 32) : Prop :=
  (∀ (k0_h2 : k0_cond2 i v0 = 1#1), ∀ a, (k0_off470 v2454) a + S1x4096.size a ≤ S16896x4096.size a)
theorem k0_off470_inb : ∀ (i : grid0.Coords) (v0 : BitVec 32) (v2454 : BitVec 32) (k0_hw118 : k0_chk118 i v0 v2454), ∀ (k0_h2 : k0_cond2 i v0 = 1#1), ∀ a, (k0_off470 v2454) a + S1x4096.size a ≤ S16896x4096.size a := fun i v0 v2454 k0_hw118 k0_h2 => k0_hw118 k0_h2

def k0_off471 (i : grid0.Coords) : Fin 1 → Nat :=
  let arg0 : BitVec 32 := BitVec.ofNat 32 (i 0).val
  let c1_i32_1406 : BitVec 32 := 1#32
  let v2460 : BitVec 32 := Scalar.addi arg0 c1_i32_1406
  let c256_i32_1414 : BitVec 32 := 256#32
  let v2472 : BitVec 32 := Scalar.muli v2460 c256_i32_1414
  let c116_i32 : BitVec 32 := 116#32
  let v2473 : BitVec 32 := Scalar.addi v2472 c116_i32
  let v2474 : Index := Scalar.indexCast v2473
  ![v2474.toNat]
def k0_off472 (i : grid0.Coords) : Fin 1 → Nat :=
  let arg0 : BitVec 32 := BitVec.ofNat 32 (i 0).val
  let c1_i32_1407 : BitVec 32 := 1#32
  let v2461 : BitVec 32 := Scalar.addi arg0 c1_i32_1407
  let c2_i32_1408 : BitVec 32 := 2#32
  let c0_i32_1409 : BitVec 32 := 0#32
  let v2462 : BitVec 1 := Scalar.cmpi .eq c2_i32_1408 c0_i32_1409
  let c1_i32_1410 : BitVec 32 := 1#32
  let v2463 : BitVec 32 := Scalar.select v2462 c1_i32_1410 c2_i32_1408
  let v2464 : BitVec 32 := Scalar.remsi v2461 v2463
  let c0_i32_1412 : BitVec 32 := 0#32
  let v2466 : BitVec 1 := Scalar.cmpi .slt v2464 c0_i32_1412
  let c0_i32_1413 : BitVec 32 := 0#32
  let v2467 : BitVec 1 := Scalar.cmpi .slt v2463 c0_i32_1413
  let v2468 : BitVec 1 := Scalar.xori v2466 v2467
  let c0_i32_1411 : BitVec 32 := 0#32
  let v2465 : BitVec 1 := Scalar.cmpi .ne v2464 c0_i32_1411
  let v2469 : BitVec 1 := Scalar.andi v2468 v2465
  let v2470 : BitVec 32 := Scalar.addi v2464 v2463
  let v2471 : BitVec 32 := Scalar.select v2469 v2470 v2464
  ![v2471.toNat]
def k0_off473 (i : grid0.Coords) : Fin 3 → Nat :=
  let arg0 : BitVec 32 := BitVec.ofNat 32 (i 0).val
  let c1_i32_1407 : BitVec 32 := 1#32
  let v2461 : BitVec 32 := Scalar.addi arg0 c1_i32_1407
  let c2_i32_1408 : BitVec 32 := 2#32
  let c0_i32_1409 : BitVec 32 := 0#32
  let v2462 : BitVec 1 := Scalar.cmpi .eq c2_i32_1408 c0_i32_1409
  let c1_i32_1410 : BitVec 32 := 1#32
  let v2463 : BitVec 32 := Scalar.select v2462 c1_i32_1410 c2_i32_1408
  let v2464 : BitVec 32 := Scalar.remsi v2461 v2463
  let c0_i32_1412 : BitVec 32 := 0#32
  let v2466 : BitVec 1 := Scalar.cmpi .slt v2464 c0_i32_1412
  let c0_i32_1413 : BitVec 32 := 0#32
  let v2467 : BitVec 1 := Scalar.cmpi .slt v2463 c0_i32_1413
  let v2468 : BitVec 1 := Scalar.xori v2466 v2467
  let c0_i32_1411 : BitVec 32 := 0#32
  let v2465 : BitVec 1 := Scalar.cmpi .ne v2464 c0_i32_1411
  let v2469 : BitVec 1 := Scalar.andi v2468 v2465
  let v2470 : BitVec 32 := Scalar.addi v2464 v2463
  let v2471 : BitVec 32 := Scalar.select v2469 v2470 v2464
  let c116_i32_1415 : BitVec 32 := 116#32
  let c0_i32_1416 : BitVec 32 := 0#32
  ![v2471.toNat, 116, 0]
def k0_off474 (v2475 : BitVec 32) : Fin 2 → Nat :=
  let c0_i32_1417 : BitVec 32 := 0#32
  ![v2475.toNat, 0]

def k0_chk119 (i : grid0.Coords) (v0 : BitVec 32) (v2475 : BitVec 32) : Prop :=
  (∀ (k0_h2 : k0_cond2 i v0 = 1#1), ∀ a, (k0_off474 v2475) a + S1x4096.size a ≤ S16896x4096.size a)
theorem k0_off474_inb : ∀ (i : grid0.Coords) (v0 : BitVec 32) (v2475 : BitVec 32) (k0_hw119 : k0_chk119 i v0 v2475), ∀ (k0_h2 : k0_cond2 i v0 = 1#1), ∀ a, (k0_off474 v2475) a + S1x4096.size a ≤ S16896x4096.size a := fun i v0 v2475 k0_hw119 k0_h2 => k0_hw119 k0_h2

def k0_off475 (i : grid0.Coords) : Fin 1 → Nat :=
  let arg0 : BitVec 32 := BitVec.ofNat 32 (i 0).val
  let c1_i32_1418 : BitVec 32 := 1#32
  let v2481 : BitVec 32 := Scalar.addi arg0 c1_i32_1418
  let c256_i32_1426 : BitVec 32 := 256#32
  let v2493 : BitVec 32 := Scalar.muli v2481 c256_i32_1426
  let c117_i32 : BitVec 32 := 117#32
  let v2494 : BitVec 32 := Scalar.addi v2493 c117_i32
  let v2495 : Index := Scalar.indexCast v2494
  ![v2495.toNat]
def k0_off476 (i : grid0.Coords) : Fin 1 → Nat :=
  let arg0 : BitVec 32 := BitVec.ofNat 32 (i 0).val
  let c1_i32_1419 : BitVec 32 := 1#32
  let v2482 : BitVec 32 := Scalar.addi arg0 c1_i32_1419
  let c2_i32_1420 : BitVec 32 := 2#32
  let c0_i32_1421 : BitVec 32 := 0#32
  let v2483 : BitVec 1 := Scalar.cmpi .eq c2_i32_1420 c0_i32_1421
  let c1_i32_1422 : BitVec 32 := 1#32
  let v2484 : BitVec 32 := Scalar.select v2483 c1_i32_1422 c2_i32_1420
  let v2485 : BitVec 32 := Scalar.remsi v2482 v2484
  let c0_i32_1424 : BitVec 32 := 0#32
  let v2487 : BitVec 1 := Scalar.cmpi .slt v2485 c0_i32_1424
  let c0_i32_1425 : BitVec 32 := 0#32
  let v2488 : BitVec 1 := Scalar.cmpi .slt v2484 c0_i32_1425
  let v2489 : BitVec 1 := Scalar.xori v2487 v2488
  let c0_i32_1423 : BitVec 32 := 0#32
  let v2486 : BitVec 1 := Scalar.cmpi .ne v2485 c0_i32_1423
  let v2490 : BitVec 1 := Scalar.andi v2489 v2486
  let v2491 : BitVec 32 := Scalar.addi v2485 v2484
  let v2492 : BitVec 32 := Scalar.select v2490 v2491 v2485
  ![v2492.toNat]
def k0_off477 (i : grid0.Coords) : Fin 3 → Nat :=
  let arg0 : BitVec 32 := BitVec.ofNat 32 (i 0).val
  let c1_i32_1419 : BitVec 32 := 1#32
  let v2482 : BitVec 32 := Scalar.addi arg0 c1_i32_1419
  let c2_i32_1420 : BitVec 32 := 2#32
  let c0_i32_1421 : BitVec 32 := 0#32
  let v2483 : BitVec 1 := Scalar.cmpi .eq c2_i32_1420 c0_i32_1421
  let c1_i32_1422 : BitVec 32 := 1#32
  let v2484 : BitVec 32 := Scalar.select v2483 c1_i32_1422 c2_i32_1420
  let v2485 : BitVec 32 := Scalar.remsi v2482 v2484
  let c0_i32_1424 : BitVec 32 := 0#32
  let v2487 : BitVec 1 := Scalar.cmpi .slt v2485 c0_i32_1424
  let c0_i32_1425 : BitVec 32 := 0#32
  let v2488 : BitVec 1 := Scalar.cmpi .slt v2484 c0_i32_1425
  let v2489 : BitVec 1 := Scalar.xori v2487 v2488
  let c0_i32_1423 : BitVec 32 := 0#32
  let v2486 : BitVec 1 := Scalar.cmpi .ne v2485 c0_i32_1423
  let v2490 : BitVec 1 := Scalar.andi v2489 v2486
  let v2491 : BitVec 32 := Scalar.addi v2485 v2484
  let v2492 : BitVec 32 := Scalar.select v2490 v2491 v2485
  let c117_i32_1427 : BitVec 32 := 117#32
  let c0_i32_1428 : BitVec 32 := 0#32
  ![v2492.toNat, 117, 0]
def k0_off478 (v2496 : BitVec 32) : Fin 2 → Nat :=
  let c0_i32_1429 : BitVec 32 := 0#32
  ![v2496.toNat, 0]

def k0_chk120 (i : grid0.Coords) (v0 : BitVec 32) (v2496 : BitVec 32) : Prop :=
  (∀ (k0_h2 : k0_cond2 i v0 = 1#1), ∀ a, (k0_off478 v2496) a + S1x4096.size a ≤ S16896x4096.size a)
theorem k0_off478_inb : ∀ (i : grid0.Coords) (v0 : BitVec 32) (v2496 : BitVec 32) (k0_hw120 : k0_chk120 i v0 v2496), ∀ (k0_h2 : k0_cond2 i v0 = 1#1), ∀ a, (k0_off478 v2496) a + S1x4096.size a ≤ S16896x4096.size a := fun i v0 v2496 k0_hw120 k0_h2 => k0_hw120 k0_h2

def k0_off479 (i : grid0.Coords) : Fin 1 → Nat :=
  let arg0 : BitVec 32 := BitVec.ofNat 32 (i 0).val
  let c1_i32_1430 : BitVec 32 := 1#32
  let v2502 : BitVec 32 := Scalar.addi arg0 c1_i32_1430
  let c256_i32_1438 : BitVec 32 := 256#32
  let v2514 : BitVec 32 := Scalar.muli v2502 c256_i32_1438
  let c118_i32 : BitVec 32 := 118#32
  let v2515 : BitVec 32 := Scalar.addi v2514 c118_i32
  let v2516 : Index := Scalar.indexCast v2515
  ![v2516.toNat]
def k0_off480 (i : grid0.Coords) : Fin 1 → Nat :=
  let arg0 : BitVec 32 := BitVec.ofNat 32 (i 0).val
  let c1_i32_1431 : BitVec 32 := 1#32
  let v2503 : BitVec 32 := Scalar.addi arg0 c1_i32_1431
  let c2_i32_1432 : BitVec 32 := 2#32
  let c0_i32_1433 : BitVec 32 := 0#32
  let v2504 : BitVec 1 := Scalar.cmpi .eq c2_i32_1432 c0_i32_1433
  let c1_i32_1434 : BitVec 32 := 1#32
  let v2505 : BitVec 32 := Scalar.select v2504 c1_i32_1434 c2_i32_1432
  let v2506 : BitVec 32 := Scalar.remsi v2503 v2505
  let c0_i32_1436 : BitVec 32 := 0#32
  let v2508 : BitVec 1 := Scalar.cmpi .slt v2506 c0_i32_1436
  let c0_i32_1437 : BitVec 32 := 0#32
  let v2509 : BitVec 1 := Scalar.cmpi .slt v2505 c0_i32_1437
  let v2510 : BitVec 1 := Scalar.xori v2508 v2509
  let c0_i32_1435 : BitVec 32 := 0#32
  let v2507 : BitVec 1 := Scalar.cmpi .ne v2506 c0_i32_1435
  let v2511 : BitVec 1 := Scalar.andi v2510 v2507
  let v2512 : BitVec 32 := Scalar.addi v2506 v2505
  let v2513 : BitVec 32 := Scalar.select v2511 v2512 v2506
  ![v2513.toNat]
def k0_off481 (i : grid0.Coords) : Fin 3 → Nat :=
  let arg0 : BitVec 32 := BitVec.ofNat 32 (i 0).val
  let c1_i32_1431 : BitVec 32 := 1#32
  let v2503 : BitVec 32 := Scalar.addi arg0 c1_i32_1431
  let c2_i32_1432 : BitVec 32 := 2#32
  let c0_i32_1433 : BitVec 32 := 0#32
  let v2504 : BitVec 1 := Scalar.cmpi .eq c2_i32_1432 c0_i32_1433
  let c1_i32_1434 : BitVec 32 := 1#32
  let v2505 : BitVec 32 := Scalar.select v2504 c1_i32_1434 c2_i32_1432
  let v2506 : BitVec 32 := Scalar.remsi v2503 v2505
  let c0_i32_1436 : BitVec 32 := 0#32
  let v2508 : BitVec 1 := Scalar.cmpi .slt v2506 c0_i32_1436
  let c0_i32_1437 : BitVec 32 := 0#32
  let v2509 : BitVec 1 := Scalar.cmpi .slt v2505 c0_i32_1437
  let v2510 : BitVec 1 := Scalar.xori v2508 v2509
  let c0_i32_1435 : BitVec 32 := 0#32
  let v2507 : BitVec 1 := Scalar.cmpi .ne v2506 c0_i32_1435
  let v2511 : BitVec 1 := Scalar.andi v2510 v2507
  let v2512 : BitVec 32 := Scalar.addi v2506 v2505
  let v2513 : BitVec 32 := Scalar.select v2511 v2512 v2506
  let c118_i32_1439 : BitVec 32 := 118#32
  let c0_i32_1440 : BitVec 32 := 0#32
  ![v2513.toNat, 118, 0]
def k0_off482 (v2517 : BitVec 32) : Fin 2 → Nat :=
  let c0_i32_1441 : BitVec 32 := 0#32
  ![v2517.toNat, 0]

def k0_chk121 (i : grid0.Coords) (v0 : BitVec 32) (v2517 : BitVec 32) : Prop :=
  (∀ (k0_h2 : k0_cond2 i v0 = 1#1), ∀ a, (k0_off482 v2517) a + S1x4096.size a ≤ S16896x4096.size a)
theorem k0_off482_inb : ∀ (i : grid0.Coords) (v0 : BitVec 32) (v2517 : BitVec 32) (k0_hw121 : k0_chk121 i v0 v2517), ∀ (k0_h2 : k0_cond2 i v0 = 1#1), ∀ a, (k0_off482 v2517) a + S1x4096.size a ≤ S16896x4096.size a := fun i v0 v2517 k0_hw121 k0_h2 => k0_hw121 k0_h2

def k0_off483 (i : grid0.Coords) : Fin 1 → Nat :=
  let arg0 : BitVec 32 := BitVec.ofNat 32 (i 0).val
  let c1_i32_1442 : BitVec 32 := 1#32
  let v2523 : BitVec 32 := Scalar.addi arg0 c1_i32_1442
  let c256_i32_1450 : BitVec 32 := 256#32
  let v2535 : BitVec 32 := Scalar.muli v2523 c256_i32_1450
  let c119_i32 : BitVec 32 := 119#32
  let v2536 : BitVec 32 := Scalar.addi v2535 c119_i32
  let v2537 : Index := Scalar.indexCast v2536
  ![v2537.toNat]
def k0_off484 (i : grid0.Coords) : Fin 1 → Nat :=
  let arg0 : BitVec 32 := BitVec.ofNat 32 (i 0).val
  let c1_i32_1443 : BitVec 32 := 1#32
  let v2524 : BitVec 32 := Scalar.addi arg0 c1_i32_1443
  let c2_i32_1444 : BitVec 32 := 2#32
  let c0_i32_1445 : BitVec 32 := 0#32
  let v2525 : BitVec 1 := Scalar.cmpi .eq c2_i32_1444 c0_i32_1445
  let c1_i32_1446 : BitVec 32 := 1#32
  let v2526 : BitVec 32 := Scalar.select v2525 c1_i32_1446 c2_i32_1444
  let v2527 : BitVec 32 := Scalar.remsi v2524 v2526
  let c0_i32_1448 : BitVec 32 := 0#32
  let v2529 : BitVec 1 := Scalar.cmpi .slt v2527 c0_i32_1448
  let c0_i32_1449 : BitVec 32 := 0#32
  let v2530 : BitVec 1 := Scalar.cmpi .slt v2526 c0_i32_1449
  let v2531 : BitVec 1 := Scalar.xori v2529 v2530
  let c0_i32_1447 : BitVec 32 := 0#32
  let v2528 : BitVec 1 := Scalar.cmpi .ne v2527 c0_i32_1447
  let v2532 : BitVec 1 := Scalar.andi v2531 v2528
  let v2533 : BitVec 32 := Scalar.addi v2527 v2526
  let v2534 : BitVec 32 := Scalar.select v2532 v2533 v2527
  ![v2534.toNat]
def k0_off485 (i : grid0.Coords) : Fin 3 → Nat :=
  let arg0 : BitVec 32 := BitVec.ofNat 32 (i 0).val
  let c1_i32_1443 : BitVec 32 := 1#32
  let v2524 : BitVec 32 := Scalar.addi arg0 c1_i32_1443
  let c2_i32_1444 : BitVec 32 := 2#32
  let c0_i32_1445 : BitVec 32 := 0#32
  let v2525 : BitVec 1 := Scalar.cmpi .eq c2_i32_1444 c0_i32_1445
  let c1_i32_1446 : BitVec 32 := 1#32
  let v2526 : BitVec 32 := Scalar.select v2525 c1_i32_1446 c2_i32_1444
  let v2527 : BitVec 32 := Scalar.remsi v2524 v2526
  let c0_i32_1448 : BitVec 32 := 0#32
  let v2529 : BitVec 1 := Scalar.cmpi .slt v2527 c0_i32_1448
  let c0_i32_1449 : BitVec 32 := 0#32
  let v2530 : BitVec 1 := Scalar.cmpi .slt v2526 c0_i32_1449
  let v2531 : BitVec 1 := Scalar.xori v2529 v2530
  let c0_i32_1447 : BitVec 32 := 0#32
  let v2528 : BitVec 1 := Scalar.cmpi .ne v2527 c0_i32_1447
  let v2532 : BitVec 1 := Scalar.andi v2531 v2528
  let v2533 : BitVec 32 := Scalar.addi v2527 v2526
  let v2534 : BitVec 32 := Scalar.select v2532 v2533 v2527
  let c119_i32_1451 : BitVec 32 := 119#32
  let c0_i32_1452 : BitVec 32 := 0#32
  ![v2534.toNat, 119, 0]
def k0_off486 (v2538 : BitVec 32) : Fin 2 → Nat :=
  let c0_i32_1453 : BitVec 32 := 0#32
  ![v2538.toNat, 0]

def k0_chk122 (i : grid0.Coords) (v0 : BitVec 32) (v2538 : BitVec 32) : Prop :=
  (∀ (k0_h2 : k0_cond2 i v0 = 1#1), ∀ a, (k0_off486 v2538) a + S1x4096.size a ≤ S16896x4096.size a)
theorem k0_off486_inb : ∀ (i : grid0.Coords) (v0 : BitVec 32) (v2538 : BitVec 32) (k0_hw122 : k0_chk122 i v0 v2538), ∀ (k0_h2 : k0_cond2 i v0 = 1#1), ∀ a, (k0_off486 v2538) a + S1x4096.size a ≤ S16896x4096.size a := fun i v0 v2538 k0_hw122 k0_h2 => k0_hw122 k0_h2

def k0_off487 (i : grid0.Coords) : Fin 1 → Nat :=
  let arg0 : BitVec 32 := BitVec.ofNat 32 (i 0).val
  let c1_i32_1454 : BitVec 32 := 1#32
  let v2544 : BitVec 32 := Scalar.addi arg0 c1_i32_1454
  let c256_i32_1462 : BitVec 32 := 256#32
  let v2556 : BitVec 32 := Scalar.muli v2544 c256_i32_1462
  let c120_i32 : BitVec 32 := 120#32
  let v2557 : BitVec 32 := Scalar.addi v2556 c120_i32
  let v2558 : Index := Scalar.indexCast v2557
  ![v2558.toNat]
def k0_off488 (i : grid0.Coords) : Fin 1 → Nat :=
  let arg0 : BitVec 32 := BitVec.ofNat 32 (i 0).val
  let c1_i32_1455 : BitVec 32 := 1#32
  let v2545 : BitVec 32 := Scalar.addi arg0 c1_i32_1455
  let c2_i32_1456 : BitVec 32 := 2#32
  let c0_i32_1457 : BitVec 32 := 0#32
  let v2546 : BitVec 1 := Scalar.cmpi .eq c2_i32_1456 c0_i32_1457
  let c1_i32_1458 : BitVec 32 := 1#32
  let v2547 : BitVec 32 := Scalar.select v2546 c1_i32_1458 c2_i32_1456
  let v2548 : BitVec 32 := Scalar.remsi v2545 v2547
  let c0_i32_1460 : BitVec 32 := 0#32
  let v2550 : BitVec 1 := Scalar.cmpi .slt v2548 c0_i32_1460
  let c0_i32_1461 : BitVec 32 := 0#32
  let v2551 : BitVec 1 := Scalar.cmpi .slt v2547 c0_i32_1461
  let v2552 : BitVec 1 := Scalar.xori v2550 v2551
  let c0_i32_1459 : BitVec 32 := 0#32
  let v2549 : BitVec 1 := Scalar.cmpi .ne v2548 c0_i32_1459
  let v2553 : BitVec 1 := Scalar.andi v2552 v2549
  let v2554 : BitVec 32 := Scalar.addi v2548 v2547
  let v2555 : BitVec 32 := Scalar.select v2553 v2554 v2548
  ![v2555.toNat]
def k0_off489 (i : grid0.Coords) : Fin 3 → Nat :=
  let arg0 : BitVec 32 := BitVec.ofNat 32 (i 0).val
  let c1_i32_1455 : BitVec 32 := 1#32
  let v2545 : BitVec 32 := Scalar.addi arg0 c1_i32_1455
  let c2_i32_1456 : BitVec 32 := 2#32
  let c0_i32_1457 : BitVec 32 := 0#32
  let v2546 : BitVec 1 := Scalar.cmpi .eq c2_i32_1456 c0_i32_1457
  let c1_i32_1458 : BitVec 32 := 1#32
  let v2547 : BitVec 32 := Scalar.select v2546 c1_i32_1458 c2_i32_1456
  let v2548 : BitVec 32 := Scalar.remsi v2545 v2547
  let c0_i32_1460 : BitVec 32 := 0#32
  let v2550 : BitVec 1 := Scalar.cmpi .slt v2548 c0_i32_1460
  let c0_i32_1461 : BitVec 32 := 0#32
  let v2551 : BitVec 1 := Scalar.cmpi .slt v2547 c0_i32_1461
  let v2552 : BitVec 1 := Scalar.xori v2550 v2551
  let c0_i32_1459 : BitVec 32 := 0#32
  let v2549 : BitVec 1 := Scalar.cmpi .ne v2548 c0_i32_1459
  let v2553 : BitVec 1 := Scalar.andi v2552 v2549
  let v2554 : BitVec 32 := Scalar.addi v2548 v2547
  let v2555 : BitVec 32 := Scalar.select v2553 v2554 v2548
  let c120_i32_1463 : BitVec 32 := 120#32
  let c0_i32_1464 : BitVec 32 := 0#32
  ![v2555.toNat, 120, 0]
def k0_off490 (v2559 : BitVec 32) : Fin 2 → Nat :=
  let c0_i32_1465 : BitVec 32 := 0#32
  ![v2559.toNat, 0]

def k0_chk123 (i : grid0.Coords) (v0 : BitVec 32) (v2559 : BitVec 32) : Prop :=
  (∀ (k0_h2 : k0_cond2 i v0 = 1#1), ∀ a, (k0_off490 v2559) a + S1x4096.size a ≤ S16896x4096.size a)
theorem k0_off490_inb : ∀ (i : grid0.Coords) (v0 : BitVec 32) (v2559 : BitVec 32) (k0_hw123 : k0_chk123 i v0 v2559), ∀ (k0_h2 : k0_cond2 i v0 = 1#1), ∀ a, (k0_off490 v2559) a + S1x4096.size a ≤ S16896x4096.size a := fun i v0 v2559 k0_hw123 k0_h2 => k0_hw123 k0_h2

def k0_off491 (i : grid0.Coords) : Fin 1 → Nat :=
  let arg0 : BitVec 32 := BitVec.ofNat 32 (i 0).val
  let c1_i32_1466 : BitVec 32 := 1#32
  let v2565 : BitVec 32 := Scalar.addi arg0 c1_i32_1466
  let c256_i32_1474 : BitVec 32 := 256#32
  let v2577 : BitVec 32 := Scalar.muli v2565 c256_i32_1474
  let c121_i32 : BitVec 32 := 121#32
  let v2578 : BitVec 32 := Scalar.addi v2577 c121_i32
  let v2579 : Index := Scalar.indexCast v2578
  ![v2579.toNat]
def k0_off492 (i : grid0.Coords) : Fin 1 → Nat :=
  let arg0 : BitVec 32 := BitVec.ofNat 32 (i 0).val
  let c1_i32_1467 : BitVec 32 := 1#32
  let v2566 : BitVec 32 := Scalar.addi arg0 c1_i32_1467
  let c2_i32_1468 : BitVec 32 := 2#32
  let c0_i32_1469 : BitVec 32 := 0#32
  let v2567 : BitVec 1 := Scalar.cmpi .eq c2_i32_1468 c0_i32_1469
  let c1_i32_1470 : BitVec 32 := 1#32
  let v2568 : BitVec 32 := Scalar.select v2567 c1_i32_1470 c2_i32_1468
  let v2569 : BitVec 32 := Scalar.remsi v2566 v2568
  let c0_i32_1472 : BitVec 32 := 0#32
  let v2571 : BitVec 1 := Scalar.cmpi .slt v2569 c0_i32_1472
  let c0_i32_1473 : BitVec 32 := 0#32
  let v2572 : BitVec 1 := Scalar.cmpi .slt v2568 c0_i32_1473
  let v2573 : BitVec 1 := Scalar.xori v2571 v2572
  let c0_i32_1471 : BitVec 32 := 0#32
  let v2570 : BitVec 1 := Scalar.cmpi .ne v2569 c0_i32_1471
  let v2574 : BitVec 1 := Scalar.andi v2573 v2570
  let v2575 : BitVec 32 := Scalar.addi v2569 v2568
  let v2576 : BitVec 32 := Scalar.select v2574 v2575 v2569
  ![v2576.toNat]
def k0_off493 (i : grid0.Coords) : Fin 3 → Nat :=
  let arg0 : BitVec 32 := BitVec.ofNat 32 (i 0).val
  let c1_i32_1467 : BitVec 32 := 1#32
  let v2566 : BitVec 32 := Scalar.addi arg0 c1_i32_1467
  let c2_i32_1468 : BitVec 32 := 2#32
  let c0_i32_1469 : BitVec 32 := 0#32
  let v2567 : BitVec 1 := Scalar.cmpi .eq c2_i32_1468 c0_i32_1469
  let c1_i32_1470 : BitVec 32 := 1#32
  let v2568 : BitVec 32 := Scalar.select v2567 c1_i32_1470 c2_i32_1468
  let v2569 : BitVec 32 := Scalar.remsi v2566 v2568
  let c0_i32_1472 : BitVec 32 := 0#32
  let v2571 : BitVec 1 := Scalar.cmpi .slt v2569 c0_i32_1472
  let c0_i32_1473 : BitVec 32 := 0#32
  let v2572 : BitVec 1 := Scalar.cmpi .slt v2568 c0_i32_1473
  let v2573 : BitVec 1 := Scalar.xori v2571 v2572
  let c0_i32_1471 : BitVec 32 := 0#32
  let v2570 : BitVec 1 := Scalar.cmpi .ne v2569 c0_i32_1471
  let v2574 : BitVec 1 := Scalar.andi v2573 v2570
  let v2575 : BitVec 32 := Scalar.addi v2569 v2568
  let v2576 : BitVec 32 := Scalar.select v2574 v2575 v2569
  let c121_i32_1475 : BitVec 32 := 121#32
  let c0_i32_1476 : BitVec 32 := 0#32
  ![v2576.toNat, 121, 0]
def k0_off494 (v2580 : BitVec 32) : Fin 2 → Nat :=
  let c0_i32_1477 : BitVec 32 := 0#32
  ![v2580.toNat, 0]

def k0_chk124 (i : grid0.Coords) (v0 : BitVec 32) (v2580 : BitVec 32) : Prop :=
  (∀ (k0_h2 : k0_cond2 i v0 = 1#1), ∀ a, (k0_off494 v2580) a + S1x4096.size a ≤ S16896x4096.size a)
theorem k0_off494_inb : ∀ (i : grid0.Coords) (v0 : BitVec 32) (v2580 : BitVec 32) (k0_hw124 : k0_chk124 i v0 v2580), ∀ (k0_h2 : k0_cond2 i v0 = 1#1), ∀ a, (k0_off494 v2580) a + S1x4096.size a ≤ S16896x4096.size a := fun i v0 v2580 k0_hw124 k0_h2 => k0_hw124 k0_h2

def k0_off495 (i : grid0.Coords) : Fin 1 → Nat :=
  let arg0 : BitVec 32 := BitVec.ofNat 32 (i 0).val
  let c1_i32_1478 : BitVec 32 := 1#32
  let v2586 : BitVec 32 := Scalar.addi arg0 c1_i32_1478
  let c256_i32_1486 : BitVec 32 := 256#32
  let v2598 : BitVec 32 := Scalar.muli v2586 c256_i32_1486
  let c122_i32 : BitVec 32 := 122#32
  let v2599 : BitVec 32 := Scalar.addi v2598 c122_i32
  let v2600 : Index := Scalar.indexCast v2599
  ![v2600.toNat]
def k0_off496 (i : grid0.Coords) : Fin 1 → Nat :=
  let arg0 : BitVec 32 := BitVec.ofNat 32 (i 0).val
  let c1_i32_1479 : BitVec 32 := 1#32
  let v2587 : BitVec 32 := Scalar.addi arg0 c1_i32_1479
  let c2_i32_1480 : BitVec 32 := 2#32
  let c0_i32_1481 : BitVec 32 := 0#32
  let v2588 : BitVec 1 := Scalar.cmpi .eq c2_i32_1480 c0_i32_1481
  let c1_i32_1482 : BitVec 32 := 1#32
  let v2589 : BitVec 32 := Scalar.select v2588 c1_i32_1482 c2_i32_1480
  let v2590 : BitVec 32 := Scalar.remsi v2587 v2589
  let c0_i32_1484 : BitVec 32 := 0#32
  let v2592 : BitVec 1 := Scalar.cmpi .slt v2590 c0_i32_1484
  let c0_i32_1485 : BitVec 32 := 0#32
  let v2593 : BitVec 1 := Scalar.cmpi .slt v2589 c0_i32_1485
  let v2594 : BitVec 1 := Scalar.xori v2592 v2593
  let c0_i32_1483 : BitVec 32 := 0#32
  let v2591 : BitVec 1 := Scalar.cmpi .ne v2590 c0_i32_1483
  let v2595 : BitVec 1 := Scalar.andi v2594 v2591
  let v2596 : BitVec 32 := Scalar.addi v2590 v2589
  let v2597 : BitVec 32 := Scalar.select v2595 v2596 v2590
  ![v2597.toNat]
def k0_off497 (i : grid0.Coords) : Fin 3 → Nat :=
  let arg0 : BitVec 32 := BitVec.ofNat 32 (i 0).val
  let c1_i32_1479 : BitVec 32 := 1#32
  let v2587 : BitVec 32 := Scalar.addi arg0 c1_i32_1479
  let c2_i32_1480 : BitVec 32 := 2#32
  let c0_i32_1481 : BitVec 32 := 0#32
  let v2588 : BitVec 1 := Scalar.cmpi .eq c2_i32_1480 c0_i32_1481
  let c1_i32_1482 : BitVec 32 := 1#32
  let v2589 : BitVec 32 := Scalar.select v2588 c1_i32_1482 c2_i32_1480
  let v2590 : BitVec 32 := Scalar.remsi v2587 v2589
  let c0_i32_1484 : BitVec 32 := 0#32
  let v2592 : BitVec 1 := Scalar.cmpi .slt v2590 c0_i32_1484
  let c0_i32_1485 : BitVec 32 := 0#32
  let v2593 : BitVec 1 := Scalar.cmpi .slt v2589 c0_i32_1485
  let v2594 : BitVec 1 := Scalar.xori v2592 v2593
  let c0_i32_1483 : BitVec 32 := 0#32
  let v2591 : BitVec 1 := Scalar.cmpi .ne v2590 c0_i32_1483
  let v2595 : BitVec 1 := Scalar.andi v2594 v2591
  let v2596 : BitVec 32 := Scalar.addi v2590 v2589
  let v2597 : BitVec 32 := Scalar.select v2595 v2596 v2590
  let c122_i32_1487 : BitVec 32 := 122#32
  let c0_i32_1488 : BitVec 32 := 0#32
  ![v2597.toNat, 122, 0]
def k0_off498 (v2601 : BitVec 32) : Fin 2 → Nat :=
  let c0_i32_1489 : BitVec 32 := 0#32
  ![v2601.toNat, 0]

def k0_chk125 (i : grid0.Coords) (v0 : BitVec 32) (v2601 : BitVec 32) : Prop :=
  (∀ (k0_h2 : k0_cond2 i v0 = 1#1), ∀ a, (k0_off498 v2601) a + S1x4096.size a ≤ S16896x4096.size a)
theorem k0_off498_inb : ∀ (i : grid0.Coords) (v0 : BitVec 32) (v2601 : BitVec 32) (k0_hw125 : k0_chk125 i v0 v2601), ∀ (k0_h2 : k0_cond2 i v0 = 1#1), ∀ a, (k0_off498 v2601) a + S1x4096.size a ≤ S16896x4096.size a := fun i v0 v2601 k0_hw125 k0_h2 => k0_hw125 k0_h2

def k0_off499 (i : grid0.Coords) : Fin 1 → Nat :=
  let arg0 : BitVec 32 := BitVec.ofNat 32 (i 0).val
  let c1_i32_1490 : BitVec 32 := 1#32
  let v2607 : BitVec 32 := Scalar.addi arg0 c1_i32_1490
  let c256_i32_1498 : BitVec 32 := 256#32
  let v2619 : BitVec 32 := Scalar.muli v2607 c256_i32_1498
  let c123_i32 : BitVec 32 := 123#32
  let v2620 : BitVec 32 := Scalar.addi v2619 c123_i32
  let v2621 : Index := Scalar.indexCast v2620
  ![v2621.toNat]
def k0_off500 (i : grid0.Coords) : Fin 1 → Nat :=
  let arg0 : BitVec 32 := BitVec.ofNat 32 (i 0).val
  let c1_i32_1491 : BitVec 32 := 1#32
  let v2608 : BitVec 32 := Scalar.addi arg0 c1_i32_1491
  let c2_i32_1492 : BitVec 32 := 2#32
  let c0_i32_1493 : BitVec 32 := 0#32
  let v2609 : BitVec 1 := Scalar.cmpi .eq c2_i32_1492 c0_i32_1493
  let c1_i32_1494 : BitVec 32 := 1#32
  let v2610 : BitVec 32 := Scalar.select v2609 c1_i32_1494 c2_i32_1492
  let v2611 : BitVec 32 := Scalar.remsi v2608 v2610
  let c0_i32_1496 : BitVec 32 := 0#32
  let v2613 : BitVec 1 := Scalar.cmpi .slt v2611 c0_i32_1496
  let c0_i32_1497 : BitVec 32 := 0#32
  let v2614 : BitVec 1 := Scalar.cmpi .slt v2610 c0_i32_1497
  let v2615 : BitVec 1 := Scalar.xori v2613 v2614
  let c0_i32_1495 : BitVec 32 := 0#32
  let v2612 : BitVec 1 := Scalar.cmpi .ne v2611 c0_i32_1495
  let v2616 : BitVec 1 := Scalar.andi v2615 v2612
  let v2617 : BitVec 32 := Scalar.addi v2611 v2610
  let v2618 : BitVec 32 := Scalar.select v2616 v2617 v2611
  ![v2618.toNat]
def k0_off501 (i : grid0.Coords) : Fin 3 → Nat :=
  let arg0 : BitVec 32 := BitVec.ofNat 32 (i 0).val
  let c1_i32_1491 : BitVec 32 := 1#32
  let v2608 : BitVec 32 := Scalar.addi arg0 c1_i32_1491
  let c2_i32_1492 : BitVec 32 := 2#32
  let c0_i32_1493 : BitVec 32 := 0#32
  let v2609 : BitVec 1 := Scalar.cmpi .eq c2_i32_1492 c0_i32_1493
  let c1_i32_1494 : BitVec 32 := 1#32
  let v2610 : BitVec 32 := Scalar.select v2609 c1_i32_1494 c2_i32_1492
  let v2611 : BitVec 32 := Scalar.remsi v2608 v2610
  let c0_i32_1496 : BitVec 32 := 0#32
  let v2613 : BitVec 1 := Scalar.cmpi .slt v2611 c0_i32_1496
  let c0_i32_1497 : BitVec 32 := 0#32
  let v2614 : BitVec 1 := Scalar.cmpi .slt v2610 c0_i32_1497
  let v2615 : BitVec 1 := Scalar.xori v2613 v2614
  let c0_i32_1495 : BitVec 32 := 0#32
  let v2612 : BitVec 1 := Scalar.cmpi .ne v2611 c0_i32_1495
  let v2616 : BitVec 1 := Scalar.andi v2615 v2612
  let v2617 : BitVec 32 := Scalar.addi v2611 v2610
  let v2618 : BitVec 32 := Scalar.select v2616 v2617 v2611
  let c123_i32_1499 : BitVec 32 := 123#32
  let c0_i32_1500 : BitVec 32 := 0#32
  ![v2618.toNat, 123, 0]
def k0_off502 (v2622 : BitVec 32) : Fin 2 → Nat :=
  let c0_i32_1501 : BitVec 32 := 0#32
  ![v2622.toNat, 0]

def k0_chk126 (i : grid0.Coords) (v0 : BitVec 32) (v2622 : BitVec 32) : Prop :=
  (∀ (k0_h2 : k0_cond2 i v0 = 1#1), ∀ a, (k0_off502 v2622) a + S1x4096.size a ≤ S16896x4096.size a)
theorem k0_off502_inb : ∀ (i : grid0.Coords) (v0 : BitVec 32) (v2622 : BitVec 32) (k0_hw126 : k0_chk126 i v0 v2622), ∀ (k0_h2 : k0_cond2 i v0 = 1#1), ∀ a, (k0_off502 v2622) a + S1x4096.size a ≤ S16896x4096.size a := fun i v0 v2622 k0_hw126 k0_h2 => k0_hw126 k0_h2

def k0_off503 (i : grid0.Coords) : Fin 1 → Nat :=
  let arg0 : BitVec 32 := BitVec.ofNat 32 (i 0).val
  let c1_i32_1502 : BitVec 32 := 1#32
  let v2628 : BitVec 32 := Scalar.addi arg0 c1_i32_1502
  let c256_i32_1510 : BitVec 32 := 256#32
  let v2640 : BitVec 32 := Scalar.muli v2628 c256_i32_1510
  let c124_i32 : BitVec 32 := 124#32
  let v2641 : BitVec 32 := Scalar.addi v2640 c124_i32
  let v2642 : Index := Scalar.indexCast v2641
  ![v2642.toNat]
def k0_off504 (i : grid0.Coords) : Fin 1 → Nat :=
  let arg0 : BitVec 32 := BitVec.ofNat 32 (i 0).val
  let c1_i32_1503 : BitVec 32 := 1#32
  let v2629 : BitVec 32 := Scalar.addi arg0 c1_i32_1503
  let c2_i32_1504 : BitVec 32 := 2#32
  let c0_i32_1505 : BitVec 32 := 0#32
  let v2630 : BitVec 1 := Scalar.cmpi .eq c2_i32_1504 c0_i32_1505
  let c1_i32_1506 : BitVec 32 := 1#32
  let v2631 : BitVec 32 := Scalar.select v2630 c1_i32_1506 c2_i32_1504
  let v2632 : BitVec 32 := Scalar.remsi v2629 v2631
  let c0_i32_1508 : BitVec 32 := 0#32
  let v2634 : BitVec 1 := Scalar.cmpi .slt v2632 c0_i32_1508
  let c0_i32_1509 : BitVec 32 := 0#32
  let v2635 : BitVec 1 := Scalar.cmpi .slt v2631 c0_i32_1509
  let v2636 : BitVec 1 := Scalar.xori v2634 v2635
  let c0_i32_1507 : BitVec 32 := 0#32
  let v2633 : BitVec 1 := Scalar.cmpi .ne v2632 c0_i32_1507
  let v2637 : BitVec 1 := Scalar.andi v2636 v2633
  let v2638 : BitVec 32 := Scalar.addi v2632 v2631
  let v2639 : BitVec 32 := Scalar.select v2637 v2638 v2632
  ![v2639.toNat]
def k0_off505 (i : grid0.Coords) : Fin 3 → Nat :=
  let arg0 : BitVec 32 := BitVec.ofNat 32 (i 0).val
  let c1_i32_1503 : BitVec 32 := 1#32
  let v2629 : BitVec 32 := Scalar.addi arg0 c1_i32_1503
  let c2_i32_1504 : BitVec 32 := 2#32
  let c0_i32_1505 : BitVec 32 := 0#32
  let v2630 : BitVec 1 := Scalar.cmpi .eq c2_i32_1504 c0_i32_1505
  let c1_i32_1506 : BitVec 32 := 1#32
  let v2631 : BitVec 32 := Scalar.select v2630 c1_i32_1506 c2_i32_1504
  let v2632 : BitVec 32 := Scalar.remsi v2629 v2631
  let c0_i32_1508 : BitVec 32 := 0#32
  let v2634 : BitVec 1 := Scalar.cmpi .slt v2632 c0_i32_1508
  let c0_i32_1509 : BitVec 32 := 0#32
  let v2635 : BitVec 1 := Scalar.cmpi .slt v2631 c0_i32_1509
  let v2636 : BitVec 1 := Scalar.xori v2634 v2635
  let c0_i32_1507 : BitVec 32 := 0#32
  let v2633 : BitVec 1 := Scalar.cmpi .ne v2632 c0_i32_1507
  let v2637 : BitVec 1 := Scalar.andi v2636 v2633
  let v2638 : BitVec 32 := Scalar.addi v2632 v2631
  let v2639 : BitVec 32 := Scalar.select v2637 v2638 v2632
  let c124_i32_1511 : BitVec 32 := 124#32
  let c0_i32_1512 : BitVec 32 := 0#32
  ![v2639.toNat, 124, 0]
def k0_off506 (v2643 : BitVec 32) : Fin 2 → Nat :=
  let c0_i32_1513 : BitVec 32 := 0#32
  ![v2643.toNat, 0]

def k0_chk127 (i : grid0.Coords) (v0 : BitVec 32) (v2643 : BitVec 32) : Prop :=
  (∀ (k0_h2 : k0_cond2 i v0 = 1#1), ∀ a, (k0_off506 v2643) a + S1x4096.size a ≤ S16896x4096.size a)
theorem k0_off506_inb : ∀ (i : grid0.Coords) (v0 : BitVec 32) (v2643 : BitVec 32) (k0_hw127 : k0_chk127 i v0 v2643), ∀ (k0_h2 : k0_cond2 i v0 = 1#1), ∀ a, (k0_off506 v2643) a + S1x4096.size a ≤ S16896x4096.size a := fun i v0 v2643 k0_hw127 k0_h2 => k0_hw127 k0_h2

def k0_off507 (i : grid0.Coords) : Fin 1 → Nat :=
  let arg0 : BitVec 32 := BitVec.ofNat 32 (i 0).val
  let c1_i32_1514 : BitVec 32 := 1#32
  let v2649 : BitVec 32 := Scalar.addi arg0 c1_i32_1514
  let c256_i32_1522 : BitVec 32 := 256#32
  let v2661 : BitVec 32 := Scalar.muli v2649 c256_i32_1522
  let c125_i32 : BitVec 32 := 125#32
  let v2662 : BitVec 32 := Scalar.addi v2661 c125_i32
  let v2663 : Index := Scalar.indexCast v2662
  ![v2663.toNat]
def k0_off508 (i : grid0.Coords) : Fin 1 → Nat :=
  let arg0 : BitVec 32 := BitVec.ofNat 32 (i 0).val
  let c1_i32_1515 : BitVec 32 := 1#32
  let v2650 : BitVec 32 := Scalar.addi arg0 c1_i32_1515
  let c2_i32_1516 : BitVec 32 := 2#32
  let c0_i32_1517 : BitVec 32 := 0#32
  let v2651 : BitVec 1 := Scalar.cmpi .eq c2_i32_1516 c0_i32_1517
  let c1_i32_1518 : BitVec 32 := 1#32
  let v2652 : BitVec 32 := Scalar.select v2651 c1_i32_1518 c2_i32_1516
  let v2653 : BitVec 32 := Scalar.remsi v2650 v2652
  let c0_i32_1520 : BitVec 32 := 0#32
  let v2655 : BitVec 1 := Scalar.cmpi .slt v2653 c0_i32_1520
  let c0_i32_1521 : BitVec 32 := 0#32
  let v2656 : BitVec 1 := Scalar.cmpi .slt v2652 c0_i32_1521
  let v2657 : BitVec 1 := Scalar.xori v2655 v2656
  let c0_i32_1519 : BitVec 32 := 0#32
  let v2654 : BitVec 1 := Scalar.cmpi .ne v2653 c0_i32_1519
  let v2658 : BitVec 1 := Scalar.andi v2657 v2654
  let v2659 : BitVec 32 := Scalar.addi v2653 v2652
  let v2660 : BitVec 32 := Scalar.select v2658 v2659 v2653
  ![v2660.toNat]
def k0_off509 (i : grid0.Coords) : Fin 3 → Nat :=
  let arg0 : BitVec 32 := BitVec.ofNat 32 (i 0).val
  let c1_i32_1515 : BitVec 32 := 1#32
  let v2650 : BitVec 32 := Scalar.addi arg0 c1_i32_1515
  let c2_i32_1516 : BitVec 32 := 2#32
  let c0_i32_1517 : BitVec 32 := 0#32
  let v2651 : BitVec 1 := Scalar.cmpi .eq c2_i32_1516 c0_i32_1517
  let c1_i32_1518 : BitVec 32 := 1#32
  let v2652 : BitVec 32 := Scalar.select v2651 c1_i32_1518 c2_i32_1516
  let v2653 : BitVec 32 := Scalar.remsi v2650 v2652
  let c0_i32_1520 : BitVec 32 := 0#32
  let v2655 : BitVec 1 := Scalar.cmpi .slt v2653 c0_i32_1520
  let c0_i32_1521 : BitVec 32 := 0#32
  let v2656 : BitVec 1 := Scalar.cmpi .slt v2652 c0_i32_1521
  let v2657 : BitVec 1 := Scalar.xori v2655 v2656
  let c0_i32_1519 : BitVec 32 := 0#32
  let v2654 : BitVec 1 := Scalar.cmpi .ne v2653 c0_i32_1519
  let v2658 : BitVec 1 := Scalar.andi v2657 v2654
  let v2659 : BitVec 32 := Scalar.addi v2653 v2652
  let v2660 : BitVec 32 := Scalar.select v2658 v2659 v2653
  let c125_i32_1523 : BitVec 32 := 125#32
  let c0_i32_1524 : BitVec 32 := 0#32
  ![v2660.toNat, 125, 0]
def k0_off510 (v2664 : BitVec 32) : Fin 2 → Nat :=
  let c0_i32_1525 : BitVec 32 := 0#32
  ![v2664.toNat, 0]

def k0_chk128 (i : grid0.Coords) (v0 : BitVec 32) (v2664 : BitVec 32) : Prop :=
  (∀ (k0_h2 : k0_cond2 i v0 = 1#1), ∀ a, (k0_off510 v2664) a + S1x4096.size a ≤ S16896x4096.size a)
theorem k0_off510_inb : ∀ (i : grid0.Coords) (v0 : BitVec 32) (v2664 : BitVec 32) (k0_hw128 : k0_chk128 i v0 v2664), ∀ (k0_h2 : k0_cond2 i v0 = 1#1), ∀ a, (k0_off510 v2664) a + S1x4096.size a ≤ S16896x4096.size a := fun i v0 v2664 k0_hw128 k0_h2 => k0_hw128 k0_h2

def k0_off511 (i : grid0.Coords) : Fin 1 → Nat :=
  let arg0 : BitVec 32 := BitVec.ofNat 32 (i 0).val
  let c1_i32_1526 : BitVec 32 := 1#32
  let v2670 : BitVec 32 := Scalar.addi arg0 c1_i32_1526
  let c256_i32_1534 : BitVec 32 := 256#32
  let v2682 : BitVec 32 := Scalar.muli v2670 c256_i32_1534
  let c126_i32 : BitVec 32 := 126#32
  let v2683 : BitVec 32 := Scalar.addi v2682 c126_i32
  let v2684 : Index := Scalar.indexCast v2683
  ![v2684.toNat]
def k0_off512 (i : grid0.Coords) : Fin 1 → Nat :=
  let arg0 : BitVec 32 := BitVec.ofNat 32 (i 0).val
  let c1_i32_1527 : BitVec 32 := 1#32
  let v2671 : BitVec 32 := Scalar.addi arg0 c1_i32_1527
  let c2_i32_1528 : BitVec 32 := 2#32
  let c0_i32_1529 : BitVec 32 := 0#32
  let v2672 : BitVec 1 := Scalar.cmpi .eq c2_i32_1528 c0_i32_1529
  let c1_i32_1530 : BitVec 32 := 1#32
  let v2673 : BitVec 32 := Scalar.select v2672 c1_i32_1530 c2_i32_1528
  let v2674 : BitVec 32 := Scalar.remsi v2671 v2673
  let c0_i32_1532 : BitVec 32 := 0#32
  let v2676 : BitVec 1 := Scalar.cmpi .slt v2674 c0_i32_1532
  let c0_i32_1533 : BitVec 32 := 0#32
  let v2677 : BitVec 1 := Scalar.cmpi .slt v2673 c0_i32_1533
  let v2678 : BitVec 1 := Scalar.xori v2676 v2677
  let c0_i32_1531 : BitVec 32 := 0#32
  let v2675 : BitVec 1 := Scalar.cmpi .ne v2674 c0_i32_1531
  let v2679 : BitVec 1 := Scalar.andi v2678 v2675
  let v2680 : BitVec 32 := Scalar.addi v2674 v2673
  let v2681 : BitVec 32 := Scalar.select v2679 v2680 v2674
  ![v2681.toNat]
def k0_off513 (i : grid0.Coords) : Fin 3 → Nat :=
  let arg0 : BitVec 32 := BitVec.ofNat 32 (i 0).val
  let c1_i32_1527 : BitVec 32 := 1#32
  let v2671 : BitVec 32 := Scalar.addi arg0 c1_i32_1527
  let c2_i32_1528 : BitVec 32 := 2#32
  let c0_i32_1529 : BitVec 32 := 0#32
  let v2672 : BitVec 1 := Scalar.cmpi .eq c2_i32_1528 c0_i32_1529
  let c1_i32_1530 : BitVec 32 := 1#32
  let v2673 : BitVec 32 := Scalar.select v2672 c1_i32_1530 c2_i32_1528
  let v2674 : BitVec 32 := Scalar.remsi v2671 v2673
  let c0_i32_1532 : BitVec 32 := 0#32
  let v2676 : BitVec 1 := Scalar.cmpi .slt v2674 c0_i32_1532
  let c0_i32_1533 : BitVec 32 := 0#32
  let v2677 : BitVec 1 := Scalar.cmpi .slt v2673 c0_i32_1533
  let v2678 : BitVec 1 := Scalar.xori v2676 v2677
  let c0_i32_1531 : BitVec 32 := 0#32
  let v2675 : BitVec 1 := Scalar.cmpi .ne v2674 c0_i32_1531
  let v2679 : BitVec 1 := Scalar.andi v2678 v2675
  let v2680 : BitVec 32 := Scalar.addi v2674 v2673
  let v2681 : BitVec 32 := Scalar.select v2679 v2680 v2674
  let c126_i32_1535 : BitVec 32 := 126#32
  let c0_i32_1536 : BitVec 32 := 0#32
  ![v2681.toNat, 126, 0]
def k0_off514 (v2685 : BitVec 32) : Fin 2 → Nat :=
  let c0_i32_1537 : BitVec 32 := 0#32
  ![v2685.toNat, 0]

def k0_chk129 (i : grid0.Coords) (v0 : BitVec 32) (v2685 : BitVec 32) : Prop :=
  (∀ (k0_h2 : k0_cond2 i v0 = 1#1), ∀ a, (k0_off514 v2685) a + S1x4096.size a ≤ S16896x4096.size a)
theorem k0_off514_inb : ∀ (i : grid0.Coords) (v0 : BitVec 32) (v2685 : BitVec 32) (k0_hw129 : k0_chk129 i v0 v2685), ∀ (k0_h2 : k0_cond2 i v0 = 1#1), ∀ a, (k0_off514 v2685) a + S1x4096.size a ≤ S16896x4096.size a := fun i v0 v2685 k0_hw129 k0_h2 => k0_hw129 k0_h2

def k0_off515 (i : grid0.Coords) : Fin 1 → Nat :=
  let arg0 : BitVec 32 := BitVec.ofNat 32 (i 0).val
  let c1_i32_1538 : BitVec 32 := 1#32
  let v2691 : BitVec 32 := Scalar.addi arg0 c1_i32_1538
  let c256_i32_1546 : BitVec 32 := 256#32
  let v2703 : BitVec 32 := Scalar.muli v2691 c256_i32_1546
  let c127_i32 : BitVec 32 := 127#32
  let v2704 : BitVec 32 := Scalar.addi v2703 c127_i32
  let v2705 : Index := Scalar.indexCast v2704
  ![v2705.toNat]
def k0_off516 (i : grid0.Coords) : Fin 1 → Nat :=
  let arg0 : BitVec 32 := BitVec.ofNat 32 (i 0).val
  let c1_i32_1539 : BitVec 32 := 1#32
  let v2692 : BitVec 32 := Scalar.addi arg0 c1_i32_1539
  let c2_i32_1540 : BitVec 32 := 2#32
  let c0_i32_1541 : BitVec 32 := 0#32
  let v2693 : BitVec 1 := Scalar.cmpi .eq c2_i32_1540 c0_i32_1541
  let c1_i32_1542 : BitVec 32 := 1#32
  let v2694 : BitVec 32 := Scalar.select v2693 c1_i32_1542 c2_i32_1540
  let v2695 : BitVec 32 := Scalar.remsi v2692 v2694
  let c0_i32_1544 : BitVec 32 := 0#32
  let v2697 : BitVec 1 := Scalar.cmpi .slt v2695 c0_i32_1544
  let c0_i32_1545 : BitVec 32 := 0#32
  let v2698 : BitVec 1 := Scalar.cmpi .slt v2694 c0_i32_1545
  let v2699 : BitVec 1 := Scalar.xori v2697 v2698
  let c0_i32_1543 : BitVec 32 := 0#32
  let v2696 : BitVec 1 := Scalar.cmpi .ne v2695 c0_i32_1543
  let v2700 : BitVec 1 := Scalar.andi v2699 v2696
  let v2701 : BitVec 32 := Scalar.addi v2695 v2694
  let v2702 : BitVec 32 := Scalar.select v2700 v2701 v2695
  ![v2702.toNat]
def k0_off517 (i : grid0.Coords) : Fin 3 → Nat :=
  let arg0 : BitVec 32 := BitVec.ofNat 32 (i 0).val
  let c1_i32_1539 : BitVec 32 := 1#32
  let v2692 : BitVec 32 := Scalar.addi arg0 c1_i32_1539
  let c2_i32_1540 : BitVec 32 := 2#32
  let c0_i32_1541 : BitVec 32 := 0#32
  let v2693 : BitVec 1 := Scalar.cmpi .eq c2_i32_1540 c0_i32_1541
  let c1_i32_1542 : BitVec 32 := 1#32
  let v2694 : BitVec 32 := Scalar.select v2693 c1_i32_1542 c2_i32_1540
  let v2695 : BitVec 32 := Scalar.remsi v2692 v2694
  let c0_i32_1544 : BitVec 32 := 0#32
  let v2697 : BitVec 1 := Scalar.cmpi .slt v2695 c0_i32_1544
  let c0_i32_1545 : BitVec 32 := 0#32
  let v2698 : BitVec 1 := Scalar.cmpi .slt v2694 c0_i32_1545
  let v2699 : BitVec 1 := Scalar.xori v2697 v2698
  let c0_i32_1543 : BitVec 32 := 0#32
  let v2696 : BitVec 1 := Scalar.cmpi .ne v2695 c0_i32_1543
  let v2700 : BitVec 1 := Scalar.andi v2699 v2696
  let v2701 : BitVec 32 := Scalar.addi v2695 v2694
  let v2702 : BitVec 32 := Scalar.select v2700 v2701 v2695
  let c127_i32_1547 : BitVec 32 := 127#32
  let c0_i32_1548 : BitVec 32 := 0#32
  ![v2702.toNat, 127, 0]
def k0_off518 (v2706 : BitVec 32) : Fin 2 → Nat :=
  let c0_i32_1549 : BitVec 32 := 0#32
  ![v2706.toNat, 0]

def k0_chk130 (i : grid0.Coords) (v0 : BitVec 32) (v2706 : BitVec 32) : Prop :=
  (∀ (k0_h2 : k0_cond2 i v0 = 1#1), ∀ a, (k0_off518 v2706) a + S1x4096.size a ≤ S16896x4096.size a)
theorem k0_off518_inb : ∀ (i : grid0.Coords) (v0 : BitVec 32) (v2706 : BitVec 32) (k0_hw130 : k0_chk130 i v0 v2706), ∀ (k0_h2 : k0_cond2 i v0 = 1#1), ∀ a, (k0_off518 v2706) a + S1x4096.size a ≤ S16896x4096.size a := fun i v0 v2706 k0_hw130 k0_h2 => k0_hw130 k0_h2

def k0_off519 (i : grid0.Coords) : Fin 1 → Nat :=
  let arg0 : BitVec 32 := BitVec.ofNat 32 (i 0).val
  let c1_i32_1550 : BitVec 32 := 1#32
  let v2712 : BitVec 32 := Scalar.addi arg0 c1_i32_1550
  let c256_i32_1558 : BitVec 32 := 256#32
  let v2724 : BitVec 32 := Scalar.muli v2712 c256_i32_1558
  let c128_i32 : BitVec 32 := 128#32
  let v2725 : BitVec 32 := Scalar.addi v2724 c128_i32
  let v2726 : Index := Scalar.indexCast v2725
  ![v2726.toNat]
def k0_off520 (i : grid0.Coords) : Fin 1 → Nat :=
  let arg0 : BitVec 32 := BitVec.ofNat 32 (i 0).val
  let c1_i32_1551 : BitVec 32 := 1#32
  let v2713 : BitVec 32 := Scalar.addi arg0 c1_i32_1551
  let c2_i32_1552 : BitVec 32 := 2#32
  let c0_i32_1553 : BitVec 32 := 0#32
  let v2714 : BitVec 1 := Scalar.cmpi .eq c2_i32_1552 c0_i32_1553
  let c1_i32_1554 : BitVec 32 := 1#32
  let v2715 : BitVec 32 := Scalar.select v2714 c1_i32_1554 c2_i32_1552
  let v2716 : BitVec 32 := Scalar.remsi v2713 v2715
  let c0_i32_1556 : BitVec 32 := 0#32
  let v2718 : BitVec 1 := Scalar.cmpi .slt v2716 c0_i32_1556
  let c0_i32_1557 : BitVec 32 := 0#32
  let v2719 : BitVec 1 := Scalar.cmpi .slt v2715 c0_i32_1557
  let v2720 : BitVec 1 := Scalar.xori v2718 v2719
  let c0_i32_1555 : BitVec 32 := 0#32
  let v2717 : BitVec 1 := Scalar.cmpi .ne v2716 c0_i32_1555
  let v2721 : BitVec 1 := Scalar.andi v2720 v2717
  let v2722 : BitVec 32 := Scalar.addi v2716 v2715
  let v2723 : BitVec 32 := Scalar.select v2721 v2722 v2716
  ![v2723.toNat]
def k0_off521 (i : grid0.Coords) : Fin 3 → Nat :=
  let arg0 : BitVec 32 := BitVec.ofNat 32 (i 0).val
  let c1_i32_1551 : BitVec 32 := 1#32
  let v2713 : BitVec 32 := Scalar.addi arg0 c1_i32_1551
  let c2_i32_1552 : BitVec 32 := 2#32
  let c0_i32_1553 : BitVec 32 := 0#32
  let v2714 : BitVec 1 := Scalar.cmpi .eq c2_i32_1552 c0_i32_1553
  let c1_i32_1554 : BitVec 32 := 1#32
  let v2715 : BitVec 32 := Scalar.select v2714 c1_i32_1554 c2_i32_1552
  let v2716 : BitVec 32 := Scalar.remsi v2713 v2715
  let c0_i32_1556 : BitVec 32 := 0#32
  let v2718 : BitVec 1 := Scalar.cmpi .slt v2716 c0_i32_1556
  let c0_i32_1557 : BitVec 32 := 0#32
  let v2719 : BitVec 1 := Scalar.cmpi .slt v2715 c0_i32_1557
  let v2720 : BitVec 1 := Scalar.xori v2718 v2719
  let c0_i32_1555 : BitVec 32 := 0#32
  let v2717 : BitVec 1 := Scalar.cmpi .ne v2716 c0_i32_1555
  let v2721 : BitVec 1 := Scalar.andi v2720 v2717
  let v2722 : BitVec 32 := Scalar.addi v2716 v2715
  let v2723 : BitVec 32 := Scalar.select v2721 v2722 v2716
  let c128_i32_1559 : BitVec 32 := 128#32
  let c0_i32_1560 : BitVec 32 := 0#32
  ![v2723.toNat, 128, 0]
def k0_off522 (v2727 : BitVec 32) : Fin 2 → Nat :=
  let c0_i32_1561 : BitVec 32 := 0#32
  ![v2727.toNat, 0]

def k0_chk131 (i : grid0.Coords) (v0 : BitVec 32) (v2727 : BitVec 32) : Prop :=
  (∀ (k0_h2 : k0_cond2 i v0 = 1#1), ∀ a, (k0_off522 v2727) a + S1x4096.size a ≤ S16896x4096.size a)
theorem k0_off522_inb : ∀ (i : grid0.Coords) (v0 : BitVec 32) (v2727 : BitVec 32) (k0_hw131 : k0_chk131 i v0 v2727), ∀ (k0_h2 : k0_cond2 i v0 = 1#1), ∀ a, (k0_off522 v2727) a + S1x4096.size a ≤ S16896x4096.size a := fun i v0 v2727 k0_hw131 k0_h2 => k0_hw131 k0_h2

def k0_off523 (i : grid0.Coords) : Fin 1 → Nat :=
  let arg0 : BitVec 32 := BitVec.ofNat 32 (i 0).val
  let c1_i32_1562 : BitVec 32 := 1#32
  let v2733 : BitVec 32 := Scalar.addi arg0 c1_i32_1562
  let c256_i32_1570 : BitVec 32 := 256#32
  let v2745 : BitVec 32 := Scalar.muli v2733 c256_i32_1570
  let c129_i32 : BitVec 32 := 129#32
  let v2746 : BitVec 32 := Scalar.addi v2745 c129_i32
  let v2747 : Index := Scalar.indexCast v2746
  ![v2747.toNat]
def k0_off524 (i : grid0.Coords) : Fin 1 → Nat :=
  let arg0 : BitVec 32 := BitVec.ofNat 32 (i 0).val
  let c1_i32_1563 : BitVec 32 := 1#32
  let v2734 : BitVec 32 := Scalar.addi arg0 c1_i32_1563
  let c2_i32_1564 : BitVec 32 := 2#32
  let c0_i32_1565 : BitVec 32 := 0#32
  let v2735 : BitVec 1 := Scalar.cmpi .eq c2_i32_1564 c0_i32_1565
  let c1_i32_1566 : BitVec 32 := 1#32
  let v2736 : BitVec 32 := Scalar.select v2735 c1_i32_1566 c2_i32_1564
  let v2737 : BitVec 32 := Scalar.remsi v2734 v2736
  let c0_i32_1568 : BitVec 32 := 0#32
  let v2739 : BitVec 1 := Scalar.cmpi .slt v2737 c0_i32_1568
  let c0_i32_1569 : BitVec 32 := 0#32
  let v2740 : BitVec 1 := Scalar.cmpi .slt v2736 c0_i32_1569
  let v2741 : BitVec 1 := Scalar.xori v2739 v2740
  let c0_i32_1567 : BitVec 32 := 0#32
  let v2738 : BitVec 1 := Scalar.cmpi .ne v2737 c0_i32_1567
  let v2742 : BitVec 1 := Scalar.andi v2741 v2738
  let v2743 : BitVec 32 := Scalar.addi v2737 v2736
  let v2744 : BitVec 32 := Scalar.select v2742 v2743 v2737
  ![v2744.toNat]
def k0_off525 (i : grid0.Coords) : Fin 3 → Nat :=
  let arg0 : BitVec 32 := BitVec.ofNat 32 (i 0).val
  let c1_i32_1563 : BitVec 32 := 1#32
  let v2734 : BitVec 32 := Scalar.addi arg0 c1_i32_1563
  let c2_i32_1564 : BitVec 32 := 2#32
  let c0_i32_1565 : BitVec 32 := 0#32
  let v2735 : BitVec 1 := Scalar.cmpi .eq c2_i32_1564 c0_i32_1565
  let c1_i32_1566 : BitVec 32 := 1#32
  let v2736 : BitVec 32 := Scalar.select v2735 c1_i32_1566 c2_i32_1564
  let v2737 : BitVec 32 := Scalar.remsi v2734 v2736
  let c0_i32_1568 : BitVec 32 := 0#32
  let v2739 : BitVec 1 := Scalar.cmpi .slt v2737 c0_i32_1568
  let c0_i32_1569 : BitVec 32 := 0#32
  let v2740 : BitVec 1 := Scalar.cmpi .slt v2736 c0_i32_1569
  let v2741 : BitVec 1 := Scalar.xori v2739 v2740
  let c0_i32_1567 : BitVec 32 := 0#32
  let v2738 : BitVec 1 := Scalar.cmpi .ne v2737 c0_i32_1567
  let v2742 : BitVec 1 := Scalar.andi v2741 v2738
  let v2743 : BitVec 32 := Scalar.addi v2737 v2736
  let v2744 : BitVec 32 := Scalar.select v2742 v2743 v2737
  let c129_i32_1571 : BitVec 32 := 129#32
  let c0_i32_1572 : BitVec 32 := 0#32
  ![v2744.toNat, 129, 0]
def k0_off526 (v2748 : BitVec 32) : Fin 2 → Nat :=
  let c0_i32_1573 : BitVec 32 := 0#32
  ![v2748.toNat, 0]

def k0_chk132 (i : grid0.Coords) (v0 : BitVec 32) (v2748 : BitVec 32) : Prop :=
  (∀ (k0_h2 : k0_cond2 i v0 = 1#1), ∀ a, (k0_off526 v2748) a + S1x4096.size a ≤ S16896x4096.size a)
theorem k0_off526_inb : ∀ (i : grid0.Coords) (v0 : BitVec 32) (v2748 : BitVec 32) (k0_hw132 : k0_chk132 i v0 v2748), ∀ (k0_h2 : k0_cond2 i v0 = 1#1), ∀ a, (k0_off526 v2748) a + S1x4096.size a ≤ S16896x4096.size a := fun i v0 v2748 k0_hw132 k0_h2 => k0_hw132 k0_h2

def k0_off527 (i : grid0.Coords) : Fin 1 → Nat :=
  let arg0 : BitVec 32 := BitVec.ofNat 32 (i 0).val
  let c1_i32_1574 : BitVec 32 := 1#32
  let v2754 : BitVec 32 := Scalar.addi arg0 c1_i32_1574
  let c256_i32_1582 : BitVec 32 := 256#32
  let v2766 : BitVec 32 := Scalar.muli v2754 c256_i32_1582
  let c130_i32 : BitVec 32 := 130#32
  let v2767 : BitVec 32 := Scalar.addi v2766 c130_i32
  let v2768 : Index := Scalar.indexCast v2767
  ![v2768.toNat]
def k0_off528 (i : grid0.Coords) : Fin 1 → Nat :=
  let arg0 : BitVec 32 := BitVec.ofNat 32 (i 0).val
  let c1_i32_1575 : BitVec 32 := 1#32
  let v2755 : BitVec 32 := Scalar.addi arg0 c1_i32_1575
  let c2_i32_1576 : BitVec 32 := 2#32
  let c0_i32_1577 : BitVec 32 := 0#32
  let v2756 : BitVec 1 := Scalar.cmpi .eq c2_i32_1576 c0_i32_1577
  let c1_i32_1578 : BitVec 32 := 1#32
  let v2757 : BitVec 32 := Scalar.select v2756 c1_i32_1578 c2_i32_1576
  let v2758 : BitVec 32 := Scalar.remsi v2755 v2757
  let c0_i32_1580 : BitVec 32 := 0#32
  let v2760 : BitVec 1 := Scalar.cmpi .slt v2758 c0_i32_1580
  let c0_i32_1581 : BitVec 32 := 0#32
  let v2761 : BitVec 1 := Scalar.cmpi .slt v2757 c0_i32_1581
  let v2762 : BitVec 1 := Scalar.xori v2760 v2761
  let c0_i32_1579 : BitVec 32 := 0#32
  let v2759 : BitVec 1 := Scalar.cmpi .ne v2758 c0_i32_1579
  let v2763 : BitVec 1 := Scalar.andi v2762 v2759
  let v2764 : BitVec 32 := Scalar.addi v2758 v2757
  let v2765 : BitVec 32 := Scalar.select v2763 v2764 v2758
  ![v2765.toNat]
def k0_off529 (i : grid0.Coords) : Fin 3 → Nat :=
  let arg0 : BitVec 32 := BitVec.ofNat 32 (i 0).val
  let c1_i32_1575 : BitVec 32 := 1#32
  let v2755 : BitVec 32 := Scalar.addi arg0 c1_i32_1575
  let c2_i32_1576 : BitVec 32 := 2#32
  let c0_i32_1577 : BitVec 32 := 0#32
  let v2756 : BitVec 1 := Scalar.cmpi .eq c2_i32_1576 c0_i32_1577
  let c1_i32_1578 : BitVec 32 := 1#32
  let v2757 : BitVec 32 := Scalar.select v2756 c1_i32_1578 c2_i32_1576
  let v2758 : BitVec 32 := Scalar.remsi v2755 v2757
  let c0_i32_1580 : BitVec 32 := 0#32
  let v2760 : BitVec 1 := Scalar.cmpi .slt v2758 c0_i32_1580
  let c0_i32_1581 : BitVec 32 := 0#32
  let v2761 : BitVec 1 := Scalar.cmpi .slt v2757 c0_i32_1581
  let v2762 : BitVec 1 := Scalar.xori v2760 v2761
  let c0_i32_1579 : BitVec 32 := 0#32
  let v2759 : BitVec 1 := Scalar.cmpi .ne v2758 c0_i32_1579
  let v2763 : BitVec 1 := Scalar.andi v2762 v2759
  let v2764 : BitVec 32 := Scalar.addi v2758 v2757
  let v2765 : BitVec 32 := Scalar.select v2763 v2764 v2758
  let c130_i32_1583 : BitVec 32 := 130#32
  let c0_i32_1584 : BitVec 32 := 0#32
  ![v2765.toNat, 130, 0]
def k0_off530 (v2769 : BitVec 32) : Fin 2 → Nat :=
  let c0_i32_1585 : BitVec 32 := 0#32
  ![v2769.toNat, 0]

def k0_chk133 (i : grid0.Coords) (v0 : BitVec 32) (v2769 : BitVec 32) : Prop :=
  (∀ (k0_h2 : k0_cond2 i v0 = 1#1), ∀ a, (k0_off530 v2769) a + S1x4096.size a ≤ S16896x4096.size a)
theorem k0_off530_inb : ∀ (i : grid0.Coords) (v0 : BitVec 32) (v2769 : BitVec 32) (k0_hw133 : k0_chk133 i v0 v2769), ∀ (k0_h2 : k0_cond2 i v0 = 1#1), ∀ a, (k0_off530 v2769) a + S1x4096.size a ≤ S16896x4096.size a := fun i v0 v2769 k0_hw133 k0_h2 => k0_hw133 k0_h2

def k0_off531 (i : grid0.Coords) : Fin 1 → Nat :=
  let arg0 : BitVec 32 := BitVec.ofNat 32 (i 0).val
  let c1_i32_1586 : BitVec 32 := 1#32
  let v2775 : BitVec 32 := Scalar.addi arg0 c1_i32_1586
  let c256_i32_1594 : BitVec 32 := 256#32
  let v2787 : BitVec 32 := Scalar.muli v2775 c256_i32_1594
  let c131_i32 : BitVec 32 := 131#32
  let v2788 : BitVec 32 := Scalar.addi v2787 c131_i32
  let v2789 : Index := Scalar.indexCast v2788
  ![v2789.toNat]
def k0_off532 (i : grid0.Coords) : Fin 1 → Nat :=
  let arg0 : BitVec 32 := BitVec.ofNat 32 (i 0).val
  let c1_i32_1587 : BitVec 32 := 1#32
  let v2776 : BitVec 32 := Scalar.addi arg0 c1_i32_1587
  let c2_i32_1588 : BitVec 32 := 2#32
  let c0_i32_1589 : BitVec 32 := 0#32
  let v2777 : BitVec 1 := Scalar.cmpi .eq c2_i32_1588 c0_i32_1589
  let c1_i32_1590 : BitVec 32 := 1#32
  let v2778 : BitVec 32 := Scalar.select v2777 c1_i32_1590 c2_i32_1588
  let v2779 : BitVec 32 := Scalar.remsi v2776 v2778
  let c0_i32_1592 : BitVec 32 := 0#32
  let v2781 : BitVec 1 := Scalar.cmpi .slt v2779 c0_i32_1592
  let c0_i32_1593 : BitVec 32 := 0#32
  let v2782 : BitVec 1 := Scalar.cmpi .slt v2778 c0_i32_1593
  let v2783 : BitVec 1 := Scalar.xori v2781 v2782
  let c0_i32_1591 : BitVec 32 := 0#32
  let v2780 : BitVec 1 := Scalar.cmpi .ne v2779 c0_i32_1591
  let v2784 : BitVec 1 := Scalar.andi v2783 v2780
  let v2785 : BitVec 32 := Scalar.addi v2779 v2778
  let v2786 : BitVec 32 := Scalar.select v2784 v2785 v2779
  ![v2786.toNat]
def k0_off533 (i : grid0.Coords) : Fin 3 → Nat :=
  let arg0 : BitVec 32 := BitVec.ofNat 32 (i 0).val
  let c1_i32_1587 : BitVec 32 := 1#32
  let v2776 : BitVec 32 := Scalar.addi arg0 c1_i32_1587
  let c2_i32_1588 : BitVec 32 := 2#32
  let c0_i32_1589 : BitVec 32 := 0#32
  let v2777 : BitVec 1 := Scalar.cmpi .eq c2_i32_1588 c0_i32_1589
  let c1_i32_1590 : BitVec 32 := 1#32
  let v2778 : BitVec 32 := Scalar.select v2777 c1_i32_1590 c2_i32_1588
  let v2779 : BitVec 32 := Scalar.remsi v2776 v2778
  let c0_i32_1592 : BitVec 32 := 0#32
  let v2781 : BitVec 1 := Scalar.cmpi .slt v2779 c0_i32_1592
  let c0_i32_1593 : BitVec 32 := 0#32
  let v2782 : BitVec 1 := Scalar.cmpi .slt v2778 c0_i32_1593
  let v2783 : BitVec 1 := Scalar.xori v2781 v2782
  let c0_i32_1591 : BitVec 32 := 0#32
  let v2780 : BitVec 1 := Scalar.cmpi .ne v2779 c0_i32_1591
  let v2784 : BitVec 1 := Scalar.andi v2783 v2780
  let v2785 : BitVec 32 := Scalar.addi v2779 v2778
  let v2786 : BitVec 32 := Scalar.select v2784 v2785 v2779
  let c131_i32_1595 : BitVec 32 := 131#32
  let c0_i32_1596 : BitVec 32 := 0#32
  ![v2786.toNat, 131, 0]
def k0_off534 (v2790 : BitVec 32) : Fin 2 → Nat :=
  let c0_i32_1597 : BitVec 32 := 0#32
  ![v2790.toNat, 0]

def k0_chk134 (i : grid0.Coords) (v0 : BitVec 32) (v2790 : BitVec 32) : Prop :=
  (∀ (k0_h2 : k0_cond2 i v0 = 1#1), ∀ a, (k0_off534 v2790) a + S1x4096.size a ≤ S16896x4096.size a)
theorem k0_off534_inb : ∀ (i : grid0.Coords) (v0 : BitVec 32) (v2790 : BitVec 32) (k0_hw134 : k0_chk134 i v0 v2790), ∀ (k0_h2 : k0_cond2 i v0 = 1#1), ∀ a, (k0_off534 v2790) a + S1x4096.size a ≤ S16896x4096.size a := fun i v0 v2790 k0_hw134 k0_h2 => k0_hw134 k0_h2

def k0_off535 (i : grid0.Coords) : Fin 1 → Nat :=
  let arg0 : BitVec 32 := BitVec.ofNat 32 (i 0).val
  let c1_i32_1598 : BitVec 32 := 1#32
  let v2796 : BitVec 32 := Scalar.addi arg0 c1_i32_1598
  let c256_i32_1606 : BitVec 32 := 256#32
  let v2808 : BitVec 32 := Scalar.muli v2796 c256_i32_1606
  let c132_i32 : BitVec 32 := 132#32
  let v2809 : BitVec 32 := Scalar.addi v2808 c132_i32
  let v2810 : Index := Scalar.indexCast v2809
  ![v2810.toNat]
def k0_off536 (i : grid0.Coords) : Fin 1 → Nat :=
  let arg0 : BitVec 32 := BitVec.ofNat 32 (i 0).val
  let c1_i32_1599 : BitVec 32 := 1#32
  let v2797 : BitVec 32 := Scalar.addi arg0 c1_i32_1599
  let c2_i32_1600 : BitVec 32 := 2#32
  let c0_i32_1601 : BitVec 32 := 0#32
  let v2798 : BitVec 1 := Scalar.cmpi .eq c2_i32_1600 c0_i32_1601
  let c1_i32_1602 : BitVec 32 := 1#32
  let v2799 : BitVec 32 := Scalar.select v2798 c1_i32_1602 c2_i32_1600
  let v2800 : BitVec 32 := Scalar.remsi v2797 v2799
  let c0_i32_1604 : BitVec 32 := 0#32
  let v2802 : BitVec 1 := Scalar.cmpi .slt v2800 c0_i32_1604
  let c0_i32_1605 : BitVec 32 := 0#32
  let v2803 : BitVec 1 := Scalar.cmpi .slt v2799 c0_i32_1605
  let v2804 : BitVec 1 := Scalar.xori v2802 v2803
  let c0_i32_1603 : BitVec 32 := 0#32
  let v2801 : BitVec 1 := Scalar.cmpi .ne v2800 c0_i32_1603
  let v2805 : BitVec 1 := Scalar.andi v2804 v2801
  let v2806 : BitVec 32 := Scalar.addi v2800 v2799
  let v2807 : BitVec 32 := Scalar.select v2805 v2806 v2800
  ![v2807.toNat]
def k0_off537 (i : grid0.Coords) : Fin 3 → Nat :=
  let arg0 : BitVec 32 := BitVec.ofNat 32 (i 0).val
  let c1_i32_1599 : BitVec 32 := 1#32
  let v2797 : BitVec 32 := Scalar.addi arg0 c1_i32_1599
  let c2_i32_1600 : BitVec 32 := 2#32
  let c0_i32_1601 : BitVec 32 := 0#32
  let v2798 : BitVec 1 := Scalar.cmpi .eq c2_i32_1600 c0_i32_1601
  let c1_i32_1602 : BitVec 32 := 1#32
  let v2799 : BitVec 32 := Scalar.select v2798 c1_i32_1602 c2_i32_1600
  let v2800 : BitVec 32 := Scalar.remsi v2797 v2799
  let c0_i32_1604 : BitVec 32 := 0#32
  let v2802 : BitVec 1 := Scalar.cmpi .slt v2800 c0_i32_1604
  let c0_i32_1605 : BitVec 32 := 0#32
  let v2803 : BitVec 1 := Scalar.cmpi .slt v2799 c0_i32_1605
  let v2804 : BitVec 1 := Scalar.xori v2802 v2803
  let c0_i32_1603 : BitVec 32 := 0#32
  let v2801 : BitVec 1 := Scalar.cmpi .ne v2800 c0_i32_1603
  let v2805 : BitVec 1 := Scalar.andi v2804 v2801
  let v2806 : BitVec 32 := Scalar.addi v2800 v2799
  let v2807 : BitVec 32 := Scalar.select v2805 v2806 v2800
  let c132_i32_1607 : BitVec 32 := 132#32
  let c0_i32_1608 : BitVec 32 := 0#32
  ![v2807.toNat, 132, 0]
def k0_off538 (v2811 : BitVec 32) : Fin 2 → Nat :=
  let c0_i32_1609 : BitVec 32 := 0#32
  ![v2811.toNat, 0]

def k0_chk135 (i : grid0.Coords) (v0 : BitVec 32) (v2811 : BitVec 32) : Prop :=
  (∀ (k0_h2 : k0_cond2 i v0 = 1#1), ∀ a, (k0_off538 v2811) a + S1x4096.size a ≤ S16896x4096.size a)
theorem k0_off538_inb : ∀ (i : grid0.Coords) (v0 : BitVec 32) (v2811 : BitVec 32) (k0_hw135 : k0_chk135 i v0 v2811), ∀ (k0_h2 : k0_cond2 i v0 = 1#1), ∀ a, (k0_off538 v2811) a + S1x4096.size a ≤ S16896x4096.size a := fun i v0 v2811 k0_hw135 k0_h2 => k0_hw135 k0_h2

def k0_off539 (i : grid0.Coords) : Fin 1 → Nat :=
  let arg0 : BitVec 32 := BitVec.ofNat 32 (i 0).val
  let c1_i32_1610 : BitVec 32 := 1#32
  let v2817 : BitVec 32 := Scalar.addi arg0 c1_i32_1610
  let c256_i32_1618 : BitVec 32 := 256#32
  let v2829 : BitVec 32 := Scalar.muli v2817 c256_i32_1618
  let c133_i32 : BitVec 32 := 133#32
  let v2830 : BitVec 32 := Scalar.addi v2829 c133_i32
  let v2831 : Index := Scalar.indexCast v2830
  ![v2831.toNat]
def k0_off540 (i : grid0.Coords) : Fin 1 → Nat :=
  let arg0 : BitVec 32 := BitVec.ofNat 32 (i 0).val
  let c1_i32_1611 : BitVec 32 := 1#32
  let v2818 : BitVec 32 := Scalar.addi arg0 c1_i32_1611
  let c2_i32_1612 : BitVec 32 := 2#32
  let c0_i32_1613 : BitVec 32 := 0#32
  let v2819 : BitVec 1 := Scalar.cmpi .eq c2_i32_1612 c0_i32_1613
  let c1_i32_1614 : BitVec 32 := 1#32
  let v2820 : BitVec 32 := Scalar.select v2819 c1_i32_1614 c2_i32_1612
  let v2821 : BitVec 32 := Scalar.remsi v2818 v2820
  let c0_i32_1616 : BitVec 32 := 0#32
  let v2823 : BitVec 1 := Scalar.cmpi .slt v2821 c0_i32_1616
  let c0_i32_1617 : BitVec 32 := 0#32
  let v2824 : BitVec 1 := Scalar.cmpi .slt v2820 c0_i32_1617
  let v2825 : BitVec 1 := Scalar.xori v2823 v2824
  let c0_i32_1615 : BitVec 32 := 0#32
  let v2822 : BitVec 1 := Scalar.cmpi .ne v2821 c0_i32_1615
  let v2826 : BitVec 1 := Scalar.andi v2825 v2822
  let v2827 : BitVec 32 := Scalar.addi v2821 v2820
  let v2828 : BitVec 32 := Scalar.select v2826 v2827 v2821
  ![v2828.toNat]
def k0_off541 (i : grid0.Coords) : Fin 3 → Nat :=
  let arg0 : BitVec 32 := BitVec.ofNat 32 (i 0).val
  let c1_i32_1611 : BitVec 32 := 1#32
  let v2818 : BitVec 32 := Scalar.addi arg0 c1_i32_1611
  let c2_i32_1612 : BitVec 32 := 2#32
  let c0_i32_1613 : BitVec 32 := 0#32
  let v2819 : BitVec 1 := Scalar.cmpi .eq c2_i32_1612 c0_i32_1613
  let c1_i32_1614 : BitVec 32 := 1#32
  let v2820 : BitVec 32 := Scalar.select v2819 c1_i32_1614 c2_i32_1612
  let v2821 : BitVec 32 := Scalar.remsi v2818 v2820
  let c0_i32_1616 : BitVec 32 := 0#32
  let v2823 : BitVec 1 := Scalar.cmpi .slt v2821 c0_i32_1616
  let c0_i32_1617 : BitVec 32 := 0#32
  let v2824 : BitVec 1 := Scalar.cmpi .slt v2820 c0_i32_1617
  let v2825 : BitVec 1 := Scalar.xori v2823 v2824
  let c0_i32_1615 : BitVec 32 := 0#32
  let v2822 : BitVec 1 := Scalar.cmpi .ne v2821 c0_i32_1615
  let v2826 : BitVec 1 := Scalar.andi v2825 v2822
  let v2827 : BitVec 32 := Scalar.addi v2821 v2820
  let v2828 : BitVec 32 := Scalar.select v2826 v2827 v2821
  let c133_i32_1619 : BitVec 32 := 133#32
  let c0_i32_1620 : BitVec 32 := 0#32
  ![v2828.toNat, 133, 0]
def k0_off542 (v2832 : BitVec 32) : Fin 2 → Nat :=
  let c0_i32_1621 : BitVec 32 := 0#32
  ![v2832.toNat, 0]

def k0_chk136 (i : grid0.Coords) (v0 : BitVec 32) (v2832 : BitVec 32) : Prop :=
  (∀ (k0_h2 : k0_cond2 i v0 = 1#1), ∀ a, (k0_off542 v2832) a + S1x4096.size a ≤ S16896x4096.size a)
theorem k0_off542_inb : ∀ (i : grid0.Coords) (v0 : BitVec 32) (v2832 : BitVec 32) (k0_hw136 : k0_chk136 i v0 v2832), ∀ (k0_h2 : k0_cond2 i v0 = 1#1), ∀ a, (k0_off542 v2832) a + S1x4096.size a ≤ S16896x4096.size a := fun i v0 v2832 k0_hw136 k0_h2 => k0_hw136 k0_h2

def k0_off543 (i : grid0.Coords) : Fin 1 → Nat :=
  let arg0 : BitVec 32 := BitVec.ofNat 32 (i 0).val
  let c1_i32_1622 : BitVec 32 := 1#32
  let v2838 : BitVec 32 := Scalar.addi arg0 c1_i32_1622
  let c256_i32_1630 : BitVec 32 := 256#32
  let v2850 : BitVec 32 := Scalar.muli v2838 c256_i32_1630
  let c134_i32 : BitVec 32 := 134#32
  let v2851 : BitVec 32 := Scalar.addi v2850 c134_i32
  let v2852 : Index := Scalar.indexCast v2851
  ![v2852.toNat]
def k0_off544 (i : grid0.Coords) : Fin 1 → Nat :=
  let arg0 : BitVec 32 := BitVec.ofNat 32 (i 0).val
  let c1_i32_1623 : BitVec 32 := 1#32
  let v2839 : BitVec 32 := Scalar.addi arg0 c1_i32_1623
  let c2_i32_1624 : BitVec 32 := 2#32
  let c0_i32_1625 : BitVec 32 := 0#32
  let v2840 : BitVec 1 := Scalar.cmpi .eq c2_i32_1624 c0_i32_1625
  let c1_i32_1626 : BitVec 32 := 1#32
  let v2841 : BitVec 32 := Scalar.select v2840 c1_i32_1626 c2_i32_1624
  let v2842 : BitVec 32 := Scalar.remsi v2839 v2841
  let c0_i32_1628 : BitVec 32 := 0#32
  let v2844 : BitVec 1 := Scalar.cmpi .slt v2842 c0_i32_1628
  let c0_i32_1629 : BitVec 32 := 0#32
  let v2845 : BitVec 1 := Scalar.cmpi .slt v2841 c0_i32_1629
  let v2846 : BitVec 1 := Scalar.xori v2844 v2845
  let c0_i32_1627 : BitVec 32 := 0#32
  let v2843 : BitVec 1 := Scalar.cmpi .ne v2842 c0_i32_1627
  let v2847 : BitVec 1 := Scalar.andi v2846 v2843
  let v2848 : BitVec 32 := Scalar.addi v2842 v2841
  let v2849 : BitVec 32 := Scalar.select v2847 v2848 v2842
  ![v2849.toNat]
def k0_off545 (i : grid0.Coords) : Fin 3 → Nat :=
  let arg0 : BitVec 32 := BitVec.ofNat 32 (i 0).val
  let c1_i32_1623 : BitVec 32 := 1#32
  let v2839 : BitVec 32 := Scalar.addi arg0 c1_i32_1623
  let c2_i32_1624 : BitVec 32 := 2#32
  let c0_i32_1625 : BitVec 32 := 0#32
  let v2840 : BitVec 1 := Scalar.cmpi .eq c2_i32_1624 c0_i32_1625
  let c1_i32_1626 : BitVec 32 := 1#32
  let v2841 : BitVec 32 := Scalar.select v2840 c1_i32_1626 c2_i32_1624
  let v2842 : BitVec 32 := Scalar.remsi v2839 v2841
  let c0_i32_1628 : BitVec 32 := 0#32
  let v2844 : BitVec 1 := Scalar.cmpi .slt v2842 c0_i32_1628
  let c0_i32_1629 : BitVec 32 := 0#32
  let v2845 : BitVec 1 := Scalar.cmpi .slt v2841 c0_i32_1629
  let v2846 : BitVec 1 := Scalar.xori v2844 v2845
  let c0_i32_1627 : BitVec 32 := 0#32
  let v2843 : BitVec 1 := Scalar.cmpi .ne v2842 c0_i32_1627
  let v2847 : BitVec 1 := Scalar.andi v2846 v2843
  let v2848 : BitVec 32 := Scalar.addi v2842 v2841
  let v2849 : BitVec 32 := Scalar.select v2847 v2848 v2842
  let c134_i32_1631 : BitVec 32 := 134#32
  let c0_i32_1632 : BitVec 32 := 0#32
  ![v2849.toNat, 134, 0]
def k0_off546 (v2853 : BitVec 32) : Fin 2 → Nat :=
  let c0_i32_1633 : BitVec 32 := 0#32
  ![v2853.toNat, 0]

def k0_chk137 (i : grid0.Coords) (v0 : BitVec 32) (v2853 : BitVec 32) : Prop :=
  (∀ (k0_h2 : k0_cond2 i v0 = 1#1), ∀ a, (k0_off546 v2853) a + S1x4096.size a ≤ S16896x4096.size a)
theorem k0_off546_inb : ∀ (i : grid0.Coords) (v0 : BitVec 32) (v2853 : BitVec 32) (k0_hw137 : k0_chk137 i v0 v2853), ∀ (k0_h2 : k0_cond2 i v0 = 1#1), ∀ a, (k0_off546 v2853) a + S1x4096.size a ≤ S16896x4096.size a := fun i v0 v2853 k0_hw137 k0_h2 => k0_hw137 k0_h2

def k0_off547 (i : grid0.Coords) : Fin 1 → Nat :=
  let arg0 : BitVec 32 := BitVec.ofNat 32 (i 0).val
  let c1_i32_1634 : BitVec 32 := 1#32
  let v2859 : BitVec 32 := Scalar.addi arg0 c1_i32_1634
  let c256_i32_1642 : BitVec 32 := 256#32
  let v2871 : BitVec 32 := Scalar.muli v2859 c256_i32_1642
  let c135_i32 : BitVec 32 := 135#32
  let v2872 : BitVec 32 := Scalar.addi v2871 c135_i32
  let v2873 : Index := Scalar.indexCast v2872
  ![v2873.toNat]
def k0_off548 (i : grid0.Coords) : Fin 1 → Nat :=
  let arg0 : BitVec 32 := BitVec.ofNat 32 (i 0).val
  let c1_i32_1635 : BitVec 32 := 1#32
  let v2860 : BitVec 32 := Scalar.addi arg0 c1_i32_1635
  let c2_i32_1636 : BitVec 32 := 2#32
  let c0_i32_1637 : BitVec 32 := 0#32
  let v2861 : BitVec 1 := Scalar.cmpi .eq c2_i32_1636 c0_i32_1637
  let c1_i32_1638 : BitVec 32 := 1#32
  let v2862 : BitVec 32 := Scalar.select v2861 c1_i32_1638 c2_i32_1636
  let v2863 : BitVec 32 := Scalar.remsi v2860 v2862
  let c0_i32_1640 : BitVec 32 := 0#32
  let v2865 : BitVec 1 := Scalar.cmpi .slt v2863 c0_i32_1640
  let c0_i32_1641 : BitVec 32 := 0#32
  let v2866 : BitVec 1 := Scalar.cmpi .slt v2862 c0_i32_1641
  let v2867 : BitVec 1 := Scalar.xori v2865 v2866
  let c0_i32_1639 : BitVec 32 := 0#32
  let v2864 : BitVec 1 := Scalar.cmpi .ne v2863 c0_i32_1639
  let v2868 : BitVec 1 := Scalar.andi v2867 v2864
  let v2869 : BitVec 32 := Scalar.addi v2863 v2862
  let v2870 : BitVec 32 := Scalar.select v2868 v2869 v2863
  ![v2870.toNat]
def k0_off549 (i : grid0.Coords) : Fin 3 → Nat :=
  let arg0 : BitVec 32 := BitVec.ofNat 32 (i 0).val
  let c1_i32_1635 : BitVec 32 := 1#32
  let v2860 : BitVec 32 := Scalar.addi arg0 c1_i32_1635
  let c2_i32_1636 : BitVec 32 := 2#32
  let c0_i32_1637 : BitVec 32 := 0#32
  let v2861 : BitVec 1 := Scalar.cmpi .eq c2_i32_1636 c0_i32_1637
  let c1_i32_1638 : BitVec 32 := 1#32
  let v2862 : BitVec 32 := Scalar.select v2861 c1_i32_1638 c2_i32_1636
  let v2863 : BitVec 32 := Scalar.remsi v2860 v2862
  let c0_i32_1640 : BitVec 32 := 0#32
  let v2865 : BitVec 1 := Scalar.cmpi .slt v2863 c0_i32_1640
  let c0_i32_1641 : BitVec 32 := 0#32
  let v2866 : BitVec 1 := Scalar.cmpi .slt v2862 c0_i32_1641
  let v2867 : BitVec 1 := Scalar.xori v2865 v2866
  let c0_i32_1639 : BitVec 32 := 0#32
  let v2864 : BitVec 1 := Scalar.cmpi .ne v2863 c0_i32_1639
  let v2868 : BitVec 1 := Scalar.andi v2867 v2864
  let v2869 : BitVec 32 := Scalar.addi v2863 v2862
  let v2870 : BitVec 32 := Scalar.select v2868 v2869 v2863
  let c135_i32_1643 : BitVec 32 := 135#32
  let c0_i32_1644 : BitVec 32 := 0#32
  ![v2870.toNat, 135, 0]
def k0_off550 (v2874 : BitVec 32) : Fin 2 → Nat :=
  let c0_i32_1645 : BitVec 32 := 0#32
  ![v2874.toNat, 0]

def k0_chk138 (i : grid0.Coords) (v0 : BitVec 32) (v2874 : BitVec 32) : Prop :=
  (∀ (k0_h2 : k0_cond2 i v0 = 1#1), ∀ a, (k0_off550 v2874) a + S1x4096.size a ≤ S16896x4096.size a)
theorem k0_off550_inb : ∀ (i : grid0.Coords) (v0 : BitVec 32) (v2874 : BitVec 32) (k0_hw138 : k0_chk138 i v0 v2874), ∀ (k0_h2 : k0_cond2 i v0 = 1#1), ∀ a, (k0_off550 v2874) a + S1x4096.size a ≤ S16896x4096.size a := fun i v0 v2874 k0_hw138 k0_h2 => k0_hw138 k0_h2

def k0_off551 (i : grid0.Coords) : Fin 1 → Nat :=
  let arg0 : BitVec 32 := BitVec.ofNat 32 (i 0).val
  let c1_i32_1646 : BitVec 32 := 1#32
  let v2880 : BitVec 32 := Scalar.addi arg0 c1_i32_1646
  let c256_i32_1654 : BitVec 32 := 256#32
  let v2892 : BitVec 32 := Scalar.muli v2880 c256_i32_1654
  let c136_i32 : BitVec 32 := 136#32
  let v2893 : BitVec 32 := Scalar.addi v2892 c136_i32
  let v2894 : Index := Scalar.indexCast v2893
  ![v2894.toNat]
def k0_off552 (i : grid0.Coords) : Fin 1 → Nat :=
  let arg0 : BitVec 32 := BitVec.ofNat 32 (i 0).val
  let c1_i32_1647 : BitVec 32 := 1#32
  let v2881 : BitVec 32 := Scalar.addi arg0 c1_i32_1647
  let c2_i32_1648 : BitVec 32 := 2#32
  let c0_i32_1649 : BitVec 32 := 0#32
  let v2882 : BitVec 1 := Scalar.cmpi .eq c2_i32_1648 c0_i32_1649
  let c1_i32_1650 : BitVec 32 := 1#32
  let v2883 : BitVec 32 := Scalar.select v2882 c1_i32_1650 c2_i32_1648
  let v2884 : BitVec 32 := Scalar.remsi v2881 v2883
  let c0_i32_1652 : BitVec 32 := 0#32
  let v2886 : BitVec 1 := Scalar.cmpi .slt v2884 c0_i32_1652
  let c0_i32_1653 : BitVec 32 := 0#32
  let v2887 : BitVec 1 := Scalar.cmpi .slt v2883 c0_i32_1653
  let v2888 : BitVec 1 := Scalar.xori v2886 v2887
  let c0_i32_1651 : BitVec 32 := 0#32
  let v2885 : BitVec 1 := Scalar.cmpi .ne v2884 c0_i32_1651
  let v2889 : BitVec 1 := Scalar.andi v2888 v2885
  let v2890 : BitVec 32 := Scalar.addi v2884 v2883
  let v2891 : BitVec 32 := Scalar.select v2889 v2890 v2884
  ![v2891.toNat]
def k0_off553 (i : grid0.Coords) : Fin 3 → Nat :=
  let arg0 : BitVec 32 := BitVec.ofNat 32 (i 0).val
  let c1_i32_1647 : BitVec 32 := 1#32
  let v2881 : BitVec 32 := Scalar.addi arg0 c1_i32_1647
  let c2_i32_1648 : BitVec 32 := 2#32
  let c0_i32_1649 : BitVec 32 := 0#32
  let v2882 : BitVec 1 := Scalar.cmpi .eq c2_i32_1648 c0_i32_1649
  let c1_i32_1650 : BitVec 32 := 1#32
  let v2883 : BitVec 32 := Scalar.select v2882 c1_i32_1650 c2_i32_1648
  let v2884 : BitVec 32 := Scalar.remsi v2881 v2883
  let c0_i32_1652 : BitVec 32 := 0#32
  let v2886 : BitVec 1 := Scalar.cmpi .slt v2884 c0_i32_1652
  let c0_i32_1653 : BitVec 32 := 0#32
  let v2887 : BitVec 1 := Scalar.cmpi .slt v2883 c0_i32_1653
  let v2888 : BitVec 1 := Scalar.xori v2886 v2887
  let c0_i32_1651 : BitVec 32 := 0#32
  let v2885 : BitVec 1 := Scalar.cmpi .ne v2884 c0_i32_1651
  let v2889 : BitVec 1 := Scalar.andi v2888 v2885
  let v2890 : BitVec 32 := Scalar.addi v2884 v2883
  let v2891 : BitVec 32 := Scalar.select v2889 v2890 v2884
  let c136_i32_1655 : BitVec 32 := 136#32
  let c0_i32_1656 : BitVec 32 := 0#32
  ![v2891.toNat, 136, 0]
def k0_off554 (v2895 : BitVec 32) : Fin 2 → Nat :=
  let c0_i32_1657 : BitVec 32 := 0#32
  ![v2895.toNat, 0]

def k0_chk139 (i : grid0.Coords) (v0 : BitVec 32) (v2895 : BitVec 32) : Prop :=
  (∀ (k0_h2 : k0_cond2 i v0 = 1#1), ∀ a, (k0_off554 v2895) a + S1x4096.size a ≤ S16896x4096.size a)
theorem k0_off554_inb : ∀ (i : grid0.Coords) (v0 : BitVec 32) (v2895 : BitVec 32) (k0_hw139 : k0_chk139 i v0 v2895), ∀ (k0_h2 : k0_cond2 i v0 = 1#1), ∀ a, (k0_off554 v2895) a + S1x4096.size a ≤ S16896x4096.size a := fun i v0 v2895 k0_hw139 k0_h2 => k0_hw139 k0_h2

def k0_off555 (i : grid0.Coords) : Fin 1 → Nat :=
  let arg0 : BitVec 32 := BitVec.ofNat 32 (i 0).val
  let c1_i32_1658 : BitVec 32 := 1#32
  let v2901 : BitVec 32 := Scalar.addi arg0 c1_i32_1658
  let c256_i32_1666 : BitVec 32 := 256#32
  let v2913 : BitVec 32 := Scalar.muli v2901 c256_i32_1666
  let c137_i32 : BitVec 32 := 137#32
  let v2914 : BitVec 32 := Scalar.addi v2913 c137_i32
  let v2915 : Index := Scalar.indexCast v2914
  ![v2915.toNat]
def k0_off556 (i : grid0.Coords) : Fin 1 → Nat :=
  let arg0 : BitVec 32 := BitVec.ofNat 32 (i 0).val
  let c1_i32_1659 : BitVec 32 := 1#32
  let v2902 : BitVec 32 := Scalar.addi arg0 c1_i32_1659
  let c2_i32_1660 : BitVec 32 := 2#32
  let c0_i32_1661 : BitVec 32 := 0#32
  let v2903 : BitVec 1 := Scalar.cmpi .eq c2_i32_1660 c0_i32_1661
  let c1_i32_1662 : BitVec 32 := 1#32
  let v2904 : BitVec 32 := Scalar.select v2903 c1_i32_1662 c2_i32_1660
  let v2905 : BitVec 32 := Scalar.remsi v2902 v2904
  let c0_i32_1664 : BitVec 32 := 0#32
  let v2907 : BitVec 1 := Scalar.cmpi .slt v2905 c0_i32_1664
  let c0_i32_1665 : BitVec 32 := 0#32
  let v2908 : BitVec 1 := Scalar.cmpi .slt v2904 c0_i32_1665
  let v2909 : BitVec 1 := Scalar.xori v2907 v2908
  let c0_i32_1663 : BitVec 32 := 0#32
  let v2906 : BitVec 1 := Scalar.cmpi .ne v2905 c0_i32_1663
  let v2910 : BitVec 1 := Scalar.andi v2909 v2906
  let v2911 : BitVec 32 := Scalar.addi v2905 v2904
  let v2912 : BitVec 32 := Scalar.select v2910 v2911 v2905
  ![v2912.toNat]
def k0_off557 (i : grid0.Coords) : Fin 3 → Nat :=
  let arg0 : BitVec 32 := BitVec.ofNat 32 (i 0).val
  let c1_i32_1659 : BitVec 32 := 1#32
  let v2902 : BitVec 32 := Scalar.addi arg0 c1_i32_1659
  let c2_i32_1660 : BitVec 32 := 2#32
  let c0_i32_1661 : BitVec 32 := 0#32
  let v2903 : BitVec 1 := Scalar.cmpi .eq c2_i32_1660 c0_i32_1661
  let c1_i32_1662 : BitVec 32 := 1#32
  let v2904 : BitVec 32 := Scalar.select v2903 c1_i32_1662 c2_i32_1660
  let v2905 : BitVec 32 := Scalar.remsi v2902 v2904
  let c0_i32_1664 : BitVec 32 := 0#32
  let v2907 : BitVec 1 := Scalar.cmpi .slt v2905 c0_i32_1664
  let c0_i32_1665 : BitVec 32 := 0#32
  let v2908 : BitVec 1 := Scalar.cmpi .slt v2904 c0_i32_1665
  let v2909 : BitVec 1 := Scalar.xori v2907 v2908
  let c0_i32_1663 : BitVec 32 := 0#32
  let v2906 : BitVec 1 := Scalar.cmpi .ne v2905 c0_i32_1663
  let v2910 : BitVec 1 := Scalar.andi v2909 v2906
  let v2911 : BitVec 32 := Scalar.addi v2905 v2904
  let v2912 : BitVec 32 := Scalar.select v2910 v2911 v2905
  let c137_i32_1667 : BitVec 32 := 137#32
  let c0_i32_1668 : BitVec 32 := 0#32
  ![v2912.toNat, 137, 0]
def k0_off558 (v2916 : BitVec 32) : Fin 2 → Nat :=
  let c0_i32_1669 : BitVec 32 := 0#32
  ![v2916.toNat, 0]

def k0_chk140 (i : grid0.Coords) (v0 : BitVec 32) (v2916 : BitVec 32) : Prop :=
  (∀ (k0_h2 : k0_cond2 i v0 = 1#1), ∀ a, (k0_off558 v2916) a + S1x4096.size a ≤ S16896x4096.size a)
theorem k0_off558_inb : ∀ (i : grid0.Coords) (v0 : BitVec 32) (v2916 : BitVec 32) (k0_hw140 : k0_chk140 i v0 v2916), ∀ (k0_h2 : k0_cond2 i v0 = 1#1), ∀ a, (k0_off558 v2916) a + S1x4096.size a ≤ S16896x4096.size a := fun i v0 v2916 k0_hw140 k0_h2 => k0_hw140 k0_h2

def k0_off559 (i : grid0.Coords) : Fin 1 → Nat :=
  let arg0 : BitVec 32 := BitVec.ofNat 32 (i 0).val
  let c1_i32_1670 : BitVec 32 := 1#32
  let v2922 : BitVec 32 := Scalar.addi arg0 c1_i32_1670
  let c256_i32_1678 : BitVec 32 := 256#32
  let v2934 : BitVec 32 := Scalar.muli v2922 c256_i32_1678
  let c138_i32 : BitVec 32 := 138#32
  let v2935 : BitVec 32 := Scalar.addi v2934 c138_i32
  let v2936 : Index := Scalar.indexCast v2935
  ![v2936.toNat]
def k0_off560 (i : grid0.Coords) : Fin 1 → Nat :=
  let arg0 : BitVec 32 := BitVec.ofNat 32 (i 0).val
  let c1_i32_1671 : BitVec 32 := 1#32
  let v2923 : BitVec 32 := Scalar.addi arg0 c1_i32_1671
  let c2_i32_1672 : BitVec 32 := 2#32
  let c0_i32_1673 : BitVec 32 := 0#32
  let v2924 : BitVec 1 := Scalar.cmpi .eq c2_i32_1672 c0_i32_1673
  let c1_i32_1674 : BitVec 32 := 1#32
  let v2925 : BitVec 32 := Scalar.select v2924 c1_i32_1674 c2_i32_1672
  let v2926 : BitVec 32 := Scalar.remsi v2923 v2925
  let c0_i32_1676 : BitVec 32 := 0#32
  let v2928 : BitVec 1 := Scalar.cmpi .slt v2926 c0_i32_1676
  let c0_i32_1677 : BitVec 32 := 0#32
  let v2929 : BitVec 1 := Scalar.cmpi .slt v2925 c0_i32_1677
  let v2930 : BitVec 1 := Scalar.xori v2928 v2929
  let c0_i32_1675 : BitVec 32 := 0#32
  let v2927 : BitVec 1 := Scalar.cmpi .ne v2926 c0_i32_1675
  let v2931 : BitVec 1 := Scalar.andi v2930 v2927
  let v2932 : BitVec 32 := Scalar.addi v2926 v2925
  let v2933 : BitVec 32 := Scalar.select v2931 v2932 v2926
  ![v2933.toNat]
def k0_off561 (i : grid0.Coords) : Fin 3 → Nat :=
  let arg0 : BitVec 32 := BitVec.ofNat 32 (i 0).val
  let c1_i32_1671 : BitVec 32 := 1#32
  let v2923 : BitVec 32 := Scalar.addi arg0 c1_i32_1671
  let c2_i32_1672 : BitVec 32 := 2#32
  let c0_i32_1673 : BitVec 32 := 0#32
  let v2924 : BitVec 1 := Scalar.cmpi .eq c2_i32_1672 c0_i32_1673
  let c1_i32_1674 : BitVec 32 := 1#32
  let v2925 : BitVec 32 := Scalar.select v2924 c1_i32_1674 c2_i32_1672
  let v2926 : BitVec 32 := Scalar.remsi v2923 v2925
  let c0_i32_1676 : BitVec 32 := 0#32
  let v2928 : BitVec 1 := Scalar.cmpi .slt v2926 c0_i32_1676
  let c0_i32_1677 : BitVec 32 := 0#32
  let v2929 : BitVec 1 := Scalar.cmpi .slt v2925 c0_i32_1677
  let v2930 : BitVec 1 := Scalar.xori v2928 v2929
  let c0_i32_1675 : BitVec 32 := 0#32
  let v2927 : BitVec 1 := Scalar.cmpi .ne v2926 c0_i32_1675
  let v2931 : BitVec 1 := Scalar.andi v2930 v2927
  let v2932 : BitVec 32 := Scalar.addi v2926 v2925
  let v2933 : BitVec 32 := Scalar.select v2931 v2932 v2926
  let c138_i32_1679 : BitVec 32 := 138#32
  let c0_i32_1680 : BitVec 32 := 0#32
  ![v2933.toNat, 138, 0]
def k0_off562 (v2937 : BitVec 32) : Fin 2 → Nat :=
  let c0_i32_1681 : BitVec 32 := 0#32
  ![v2937.toNat, 0]

def k0_chk141 (i : grid0.Coords) (v0 : BitVec 32) (v2937 : BitVec 32) : Prop :=
  (∀ (k0_h2 : k0_cond2 i v0 = 1#1), ∀ a, (k0_off562 v2937) a + S1x4096.size a ≤ S16896x4096.size a)
theorem k0_off562_inb : ∀ (i : grid0.Coords) (v0 : BitVec 32) (v2937 : BitVec 32) (k0_hw141 : k0_chk141 i v0 v2937), ∀ (k0_h2 : k0_cond2 i v0 = 1#1), ∀ a, (k0_off562 v2937) a + S1x4096.size a ≤ S16896x4096.size a := fun i v0 v2937 k0_hw141 k0_h2 => k0_hw141 k0_h2

def k0_off563 (i : grid0.Coords) : Fin 1 → Nat :=
  let arg0 : BitVec 32 := BitVec.ofNat 32 (i 0).val
  let c1_i32_1682 : BitVec 32 := 1#32
  let v2943 : BitVec 32 := Scalar.addi arg0 c1_i32_1682
  let c256_i32_1690 : BitVec 32 := 256#32
  let v2955 : BitVec 32 := Scalar.muli v2943 c256_i32_1690
  let c139_i32 : BitVec 32 := 139#32
  let v2956 : BitVec 32 := Scalar.addi v2955 c139_i32
  let v2957 : Index := Scalar.indexCast v2956
  ![v2957.toNat]
def k0_off564 (i : grid0.Coords) : Fin 1 → Nat :=
  let arg0 : BitVec 32 := BitVec.ofNat 32 (i 0).val
  let c1_i32_1683 : BitVec 32 := 1#32
  let v2944 : BitVec 32 := Scalar.addi arg0 c1_i32_1683
  let c2_i32_1684 : BitVec 32 := 2#32
  let c0_i32_1685 : BitVec 32 := 0#32
  let v2945 : BitVec 1 := Scalar.cmpi .eq c2_i32_1684 c0_i32_1685
  let c1_i32_1686 : BitVec 32 := 1#32
  let v2946 : BitVec 32 := Scalar.select v2945 c1_i32_1686 c2_i32_1684
  let v2947 : BitVec 32 := Scalar.remsi v2944 v2946
  let c0_i32_1688 : BitVec 32 := 0#32
  let v2949 : BitVec 1 := Scalar.cmpi .slt v2947 c0_i32_1688
  let c0_i32_1689 : BitVec 32 := 0#32
  let v2950 : BitVec 1 := Scalar.cmpi .slt v2946 c0_i32_1689
  let v2951 : BitVec 1 := Scalar.xori v2949 v2950
  let c0_i32_1687 : BitVec 32 := 0#32
  let v2948 : BitVec 1 := Scalar.cmpi .ne v2947 c0_i32_1687
  let v2952 : BitVec 1 := Scalar.andi v2951 v2948
  let v2953 : BitVec 32 := Scalar.addi v2947 v2946
  let v2954 : BitVec 32 := Scalar.select v2952 v2953 v2947
  ![v2954.toNat]
def k0_off565 (i : grid0.Coords) : Fin 3 → Nat :=
  let arg0 : BitVec 32 := BitVec.ofNat 32 (i 0).val
  let c1_i32_1683 : BitVec 32 := 1#32
  let v2944 : BitVec 32 := Scalar.addi arg0 c1_i32_1683
  let c2_i32_1684 : BitVec 32 := 2#32
  let c0_i32_1685 : BitVec 32 := 0#32
  let v2945 : BitVec 1 := Scalar.cmpi .eq c2_i32_1684 c0_i32_1685
  let c1_i32_1686 : BitVec 32 := 1#32
  let v2946 : BitVec 32 := Scalar.select v2945 c1_i32_1686 c2_i32_1684
  let v2947 : BitVec 32 := Scalar.remsi v2944 v2946
  let c0_i32_1688 : BitVec 32 := 0#32
  let v2949 : BitVec 1 := Scalar.cmpi .slt v2947 c0_i32_1688
  let c0_i32_1689 : BitVec 32 := 0#32
  let v2950 : BitVec 1 := Scalar.cmpi .slt v2946 c0_i32_1689
  let v2951 : BitVec 1 := Scalar.xori v2949 v2950
  let c0_i32_1687 : BitVec 32 := 0#32
  let v2948 : BitVec 1 := Scalar.cmpi .ne v2947 c0_i32_1687
  let v2952 : BitVec 1 := Scalar.andi v2951 v2948
  let v2953 : BitVec 32 := Scalar.addi v2947 v2946
  let v2954 : BitVec 32 := Scalar.select v2952 v2953 v2947
  let c139_i32_1691 : BitVec 32 := 139#32
  let c0_i32_1692 : BitVec 32 := 0#32
  ![v2954.toNat, 139, 0]
def k0_off566 (v2958 : BitVec 32) : Fin 2 → Nat :=
  let c0_i32_1693 : BitVec 32 := 0#32
  ![v2958.toNat, 0]

def k0_chk142 (i : grid0.Coords) (v0 : BitVec 32) (v2958 : BitVec 32) : Prop :=
  (∀ (k0_h2 : k0_cond2 i v0 = 1#1), ∀ a, (k0_off566 v2958) a + S1x4096.size a ≤ S16896x4096.size a)
theorem k0_off566_inb : ∀ (i : grid0.Coords) (v0 : BitVec 32) (v2958 : BitVec 32) (k0_hw142 : k0_chk142 i v0 v2958), ∀ (k0_h2 : k0_cond2 i v0 = 1#1), ∀ a, (k0_off566 v2958) a + S1x4096.size a ≤ S16896x4096.size a := fun i v0 v2958 k0_hw142 k0_h2 => k0_hw142 k0_h2

def k0_off567 (i : grid0.Coords) : Fin 1 → Nat :=
  let arg0 : BitVec 32 := BitVec.ofNat 32 (i 0).val
  let c1_i32_1694 : BitVec 32 := 1#32
  let v2964 : BitVec 32 := Scalar.addi arg0 c1_i32_1694
  let c256_i32_1702 : BitVec 32 := 256#32
  let v2976 : BitVec 32 := Scalar.muli v2964 c256_i32_1702
  let c140_i32 : BitVec 32 := 140#32
  let v2977 : BitVec 32 := Scalar.addi v2976 c140_i32
  let v2978 : Index := Scalar.indexCast v2977
  ![v2978.toNat]
def k0_off568 (i : grid0.Coords) : Fin 1 → Nat :=
  let arg0 : BitVec 32 := BitVec.ofNat 32 (i 0).val
  let c1_i32_1695 : BitVec 32 := 1#32
  let v2965 : BitVec 32 := Scalar.addi arg0 c1_i32_1695
  let c2_i32_1696 : BitVec 32 := 2#32
  let c0_i32_1697 : BitVec 32 := 0#32
  let v2966 : BitVec 1 := Scalar.cmpi .eq c2_i32_1696 c0_i32_1697
  let c1_i32_1698 : BitVec 32 := 1#32
  let v2967 : BitVec 32 := Scalar.select v2966 c1_i32_1698 c2_i32_1696
  let v2968 : BitVec 32 := Scalar.remsi v2965 v2967
  let c0_i32_1700 : BitVec 32 := 0#32
  let v2970 : BitVec 1 := Scalar.cmpi .slt v2968 c0_i32_1700
  let c0_i32_1701 : BitVec 32 := 0#32
  let v2971 : BitVec 1 := Scalar.cmpi .slt v2967 c0_i32_1701
  let v2972 : BitVec 1 := Scalar.xori v2970 v2971
  let c0_i32_1699 : BitVec 32 := 0#32
  let v2969 : BitVec 1 := Scalar.cmpi .ne v2968 c0_i32_1699
  let v2973 : BitVec 1 := Scalar.andi v2972 v2969
  let v2974 : BitVec 32 := Scalar.addi v2968 v2967
  let v2975 : BitVec 32 := Scalar.select v2973 v2974 v2968
  ![v2975.toNat]
def k0_off569 (i : grid0.Coords) : Fin 3 → Nat :=
  let arg0 : BitVec 32 := BitVec.ofNat 32 (i 0).val
  let c1_i32_1695 : BitVec 32 := 1#32
  let v2965 : BitVec 32 := Scalar.addi arg0 c1_i32_1695
  let c2_i32_1696 : BitVec 32 := 2#32
  let c0_i32_1697 : BitVec 32 := 0#32
  let v2966 : BitVec 1 := Scalar.cmpi .eq c2_i32_1696 c0_i32_1697
  let c1_i32_1698 : BitVec 32 := 1#32
  let v2967 : BitVec 32 := Scalar.select v2966 c1_i32_1698 c2_i32_1696
  let v2968 : BitVec 32 := Scalar.remsi v2965 v2967
  let c0_i32_1700 : BitVec 32 := 0#32
  let v2970 : BitVec 1 := Scalar.cmpi .slt v2968 c0_i32_1700
  let c0_i32_1701 : BitVec 32 := 0#32
  let v2971 : BitVec 1 := Scalar.cmpi .slt v2967 c0_i32_1701
  let v2972 : BitVec 1 := Scalar.xori v2970 v2971
  let c0_i32_1699 : BitVec 32 := 0#32
  let v2969 : BitVec 1 := Scalar.cmpi .ne v2968 c0_i32_1699
  let v2973 : BitVec 1 := Scalar.andi v2972 v2969
  let v2974 : BitVec 32 := Scalar.addi v2968 v2967
  let v2975 : BitVec 32 := Scalar.select v2973 v2974 v2968
  let c140_i32_1703 : BitVec 32 := 140#32
  let c0_i32_1704 : BitVec 32 := 0#32
  ![v2975.toNat, 140, 0]
def k0_off570 (v2979 : BitVec 32) : Fin 2 → Nat :=
  let c0_i32_1705 : BitVec 32 := 0#32
  ![v2979.toNat, 0]

def k0_chk143 (i : grid0.Coords) (v0 : BitVec 32) (v2979 : BitVec 32) : Prop :=
  (∀ (k0_h2 : k0_cond2 i v0 = 1#1), ∀ a, (k0_off570 v2979) a + S1x4096.size a ≤ S16896x4096.size a)
theorem k0_off570_inb : ∀ (i : grid0.Coords) (v0 : BitVec 32) (v2979 : BitVec 32) (k0_hw143 : k0_chk143 i v0 v2979), ∀ (k0_h2 : k0_cond2 i v0 = 1#1), ∀ a, (k0_off570 v2979) a + S1x4096.size a ≤ S16896x4096.size a := fun i v0 v2979 k0_hw143 k0_h2 => k0_hw143 k0_h2

def k0_off571 (i : grid0.Coords) : Fin 1 → Nat :=
  let arg0 : BitVec 32 := BitVec.ofNat 32 (i 0).val
  let c1_i32_1706 : BitVec 32 := 1#32
  let v2985 : BitVec 32 := Scalar.addi arg0 c1_i32_1706
  let c256_i32_1714 : BitVec 32 := 256#32
  let v2997 : BitVec 32 := Scalar.muli v2985 c256_i32_1714
  let c141_i32 : BitVec 32 := 141#32
  let v2998 : BitVec 32 := Scalar.addi v2997 c141_i32
  let v2999 : Index := Scalar.indexCast v2998
  ![v2999.toNat]
def k0_off572 (i : grid0.Coords) : Fin 1 → Nat :=
  let arg0 : BitVec 32 := BitVec.ofNat 32 (i 0).val
  let c1_i32_1707 : BitVec 32 := 1#32
  let v2986 : BitVec 32 := Scalar.addi arg0 c1_i32_1707
  let c2_i32_1708 : BitVec 32 := 2#32
  let c0_i32_1709 : BitVec 32 := 0#32
  let v2987 : BitVec 1 := Scalar.cmpi .eq c2_i32_1708 c0_i32_1709
  let c1_i32_1710 : BitVec 32 := 1#32
  let v2988 : BitVec 32 := Scalar.select v2987 c1_i32_1710 c2_i32_1708
  let v2989 : BitVec 32 := Scalar.remsi v2986 v2988
  let c0_i32_1712 : BitVec 32 := 0#32
  let v2991 : BitVec 1 := Scalar.cmpi .slt v2989 c0_i32_1712
  let c0_i32_1713 : BitVec 32 := 0#32
  let v2992 : BitVec 1 := Scalar.cmpi .slt v2988 c0_i32_1713
  let v2993 : BitVec 1 := Scalar.xori v2991 v2992
  let c0_i32_1711 : BitVec 32 := 0#32
  let v2990 : BitVec 1 := Scalar.cmpi .ne v2989 c0_i32_1711
  let v2994 : BitVec 1 := Scalar.andi v2993 v2990
  let v2995 : BitVec 32 := Scalar.addi v2989 v2988
  let v2996 : BitVec 32 := Scalar.select v2994 v2995 v2989
  ![v2996.toNat]
def k0_off573 (i : grid0.Coords) : Fin 3 → Nat :=
  let arg0 : BitVec 32 := BitVec.ofNat 32 (i 0).val
  let c1_i32_1707 : BitVec 32 := 1#32
  let v2986 : BitVec 32 := Scalar.addi arg0 c1_i32_1707
  let c2_i32_1708 : BitVec 32 := 2#32
  let c0_i32_1709 : BitVec 32 := 0#32
  let v2987 : BitVec 1 := Scalar.cmpi .eq c2_i32_1708 c0_i32_1709
  let c1_i32_1710 : BitVec 32 := 1#32
  let v2988 : BitVec 32 := Scalar.select v2987 c1_i32_1710 c2_i32_1708
  let v2989 : BitVec 32 := Scalar.remsi v2986 v2988
  let c0_i32_1712 : BitVec 32 := 0#32
  let v2991 : BitVec 1 := Scalar.cmpi .slt v2989 c0_i32_1712
  let c0_i32_1713 : BitVec 32 := 0#32
  let v2992 : BitVec 1 := Scalar.cmpi .slt v2988 c0_i32_1713
  let v2993 : BitVec 1 := Scalar.xori v2991 v2992
  let c0_i32_1711 : BitVec 32 := 0#32
  let v2990 : BitVec 1 := Scalar.cmpi .ne v2989 c0_i32_1711
  let v2994 : BitVec 1 := Scalar.andi v2993 v2990
  let v2995 : BitVec 32 := Scalar.addi v2989 v2988
  let v2996 : BitVec 32 := Scalar.select v2994 v2995 v2989
  let c141_i32_1715 : BitVec 32 := 141#32
  let c0_i32_1716 : BitVec 32 := 0#32
  ![v2996.toNat, 141, 0]
def k0_off574 (v3000 : BitVec 32) : Fin 2 → Nat :=
  let c0_i32_1717 : BitVec 32 := 0#32
  ![v3000.toNat, 0]

def k0_chk144 (i : grid0.Coords) (v0 : BitVec 32) (v3000 : BitVec 32) : Prop :=
  (∀ (k0_h2 : k0_cond2 i v0 = 1#1), ∀ a, (k0_off574 v3000) a + S1x4096.size a ≤ S16896x4096.size a)
theorem k0_off574_inb : ∀ (i : grid0.Coords) (v0 : BitVec 32) (v3000 : BitVec 32) (k0_hw144 : k0_chk144 i v0 v3000), ∀ (k0_h2 : k0_cond2 i v0 = 1#1), ∀ a, (k0_off574 v3000) a + S1x4096.size a ≤ S16896x4096.size a := fun i v0 v3000 k0_hw144 k0_h2 => k0_hw144 k0_h2

def k0_off575 (i : grid0.Coords) : Fin 1 → Nat :=
  let arg0 : BitVec 32 := BitVec.ofNat 32 (i 0).val
  let c1_i32_1718 : BitVec 32 := 1#32
  let v3006 : BitVec 32 := Scalar.addi arg0 c1_i32_1718
  let c256_i32_1726 : BitVec 32 := 256#32
  let v3018 : BitVec 32 := Scalar.muli v3006 c256_i32_1726
  let c142_i32 : BitVec 32 := 142#32
  let v3019 : BitVec 32 := Scalar.addi v3018 c142_i32
  let v3020 : Index := Scalar.indexCast v3019
  ![v3020.toNat]
def k0_off576 (i : grid0.Coords) : Fin 1 → Nat :=
  let arg0 : BitVec 32 := BitVec.ofNat 32 (i 0).val
  let c1_i32_1719 : BitVec 32 := 1#32
  let v3007 : BitVec 32 := Scalar.addi arg0 c1_i32_1719
  let c2_i32_1720 : BitVec 32 := 2#32
  let c0_i32_1721 : BitVec 32 := 0#32
  let v3008 : BitVec 1 := Scalar.cmpi .eq c2_i32_1720 c0_i32_1721
  let c1_i32_1722 : BitVec 32 := 1#32
  let v3009 : BitVec 32 := Scalar.select v3008 c1_i32_1722 c2_i32_1720
  let v3010 : BitVec 32 := Scalar.remsi v3007 v3009
  let c0_i32_1724 : BitVec 32 := 0#32
  let v3012 : BitVec 1 := Scalar.cmpi .slt v3010 c0_i32_1724
  let c0_i32_1725 : BitVec 32 := 0#32
  let v3013 : BitVec 1 := Scalar.cmpi .slt v3009 c0_i32_1725
  let v3014 : BitVec 1 := Scalar.xori v3012 v3013
  let c0_i32_1723 : BitVec 32 := 0#32
  let v3011 : BitVec 1 := Scalar.cmpi .ne v3010 c0_i32_1723
  let v3015 : BitVec 1 := Scalar.andi v3014 v3011
  let v3016 : BitVec 32 := Scalar.addi v3010 v3009
  let v3017 : BitVec 32 := Scalar.select v3015 v3016 v3010
  ![v3017.toNat]
def k0_off577 (i : grid0.Coords) : Fin 3 → Nat :=
  let arg0 : BitVec 32 := BitVec.ofNat 32 (i 0).val
  let c1_i32_1719 : BitVec 32 := 1#32
  let v3007 : BitVec 32 := Scalar.addi arg0 c1_i32_1719
  let c2_i32_1720 : BitVec 32 := 2#32
  let c0_i32_1721 : BitVec 32 := 0#32
  let v3008 : BitVec 1 := Scalar.cmpi .eq c2_i32_1720 c0_i32_1721
  let c1_i32_1722 : BitVec 32 := 1#32
  let v3009 : BitVec 32 := Scalar.select v3008 c1_i32_1722 c2_i32_1720
  let v3010 : BitVec 32 := Scalar.remsi v3007 v3009
  let c0_i32_1724 : BitVec 32 := 0#32
  let v3012 : BitVec 1 := Scalar.cmpi .slt v3010 c0_i32_1724
  let c0_i32_1725 : BitVec 32 := 0#32
  let v3013 : BitVec 1 := Scalar.cmpi .slt v3009 c0_i32_1725
  let v3014 : BitVec 1 := Scalar.xori v3012 v3013
  let c0_i32_1723 : BitVec 32 := 0#32
  let v3011 : BitVec 1 := Scalar.cmpi .ne v3010 c0_i32_1723
  let v3015 : BitVec 1 := Scalar.andi v3014 v3011
  let v3016 : BitVec 32 := Scalar.addi v3010 v3009
  let v3017 : BitVec 32 := Scalar.select v3015 v3016 v3010
  let c142_i32_1727 : BitVec 32 := 142#32
  let c0_i32_1728 : BitVec 32 := 0#32
  ![v3017.toNat, 142, 0]
def k0_off578 (v3021 : BitVec 32) : Fin 2 → Nat :=
  let c0_i32_1729 : BitVec 32 := 0#32
  ![v3021.toNat, 0]

def k0_chk145 (i : grid0.Coords) (v0 : BitVec 32) (v3021 : BitVec 32) : Prop :=
  (∀ (k0_h2 : k0_cond2 i v0 = 1#1), ∀ a, (k0_off578 v3021) a + S1x4096.size a ≤ S16896x4096.size a)
theorem k0_off578_inb : ∀ (i : grid0.Coords) (v0 : BitVec 32) (v3021 : BitVec 32) (k0_hw145 : k0_chk145 i v0 v3021), ∀ (k0_h2 : k0_cond2 i v0 = 1#1), ∀ a, (k0_off578 v3021) a + S1x4096.size a ≤ S16896x4096.size a := fun i v0 v3021 k0_hw145 k0_h2 => k0_hw145 k0_h2

def k0_off579 (i : grid0.Coords) : Fin 1 → Nat :=
  let arg0 : BitVec 32 := BitVec.ofNat 32 (i 0).val
  let c1_i32_1730 : BitVec 32 := 1#32
  let v3027 : BitVec 32 := Scalar.addi arg0 c1_i32_1730
  let c256_i32_1738 : BitVec 32 := 256#32
  let v3039 : BitVec 32 := Scalar.muli v3027 c256_i32_1738
  let c143_i32 : BitVec 32 := 143#32
  let v3040 : BitVec 32 := Scalar.addi v3039 c143_i32
  let v3041 : Index := Scalar.indexCast v3040
  ![v3041.toNat]
def k0_off580 (i : grid0.Coords) : Fin 1 → Nat :=
  let arg0 : BitVec 32 := BitVec.ofNat 32 (i 0).val
  let c1_i32_1731 : BitVec 32 := 1#32
  let v3028 : BitVec 32 := Scalar.addi arg0 c1_i32_1731
  let c2_i32_1732 : BitVec 32 := 2#32
  let c0_i32_1733 : BitVec 32 := 0#32
  let v3029 : BitVec 1 := Scalar.cmpi .eq c2_i32_1732 c0_i32_1733
  let c1_i32_1734 : BitVec 32 := 1#32
  let v3030 : BitVec 32 := Scalar.select v3029 c1_i32_1734 c2_i32_1732
  let v3031 : BitVec 32 := Scalar.remsi v3028 v3030
  let c0_i32_1736 : BitVec 32 := 0#32
  let v3033 : BitVec 1 := Scalar.cmpi .slt v3031 c0_i32_1736
  let c0_i32_1737 : BitVec 32 := 0#32
  let v3034 : BitVec 1 := Scalar.cmpi .slt v3030 c0_i32_1737
  let v3035 : BitVec 1 := Scalar.xori v3033 v3034
  let c0_i32_1735 : BitVec 32 := 0#32
  let v3032 : BitVec 1 := Scalar.cmpi .ne v3031 c0_i32_1735
  let v3036 : BitVec 1 := Scalar.andi v3035 v3032
  let v3037 : BitVec 32 := Scalar.addi v3031 v3030
  let v3038 : BitVec 32 := Scalar.select v3036 v3037 v3031
  ![v3038.toNat]
def k0_off581 (i : grid0.Coords) : Fin 3 → Nat :=
  let arg0 : BitVec 32 := BitVec.ofNat 32 (i 0).val
  let c1_i32_1731 : BitVec 32 := 1#32
  let v3028 : BitVec 32 := Scalar.addi arg0 c1_i32_1731
  let c2_i32_1732 : BitVec 32 := 2#32
  let c0_i32_1733 : BitVec 32 := 0#32
  let v3029 : BitVec 1 := Scalar.cmpi .eq c2_i32_1732 c0_i32_1733
  let c1_i32_1734 : BitVec 32 := 1#32
  let v3030 : BitVec 32 := Scalar.select v3029 c1_i32_1734 c2_i32_1732
  let v3031 : BitVec 32 := Scalar.remsi v3028 v3030
  let c0_i32_1736 : BitVec 32 := 0#32
  let v3033 : BitVec 1 := Scalar.cmpi .slt v3031 c0_i32_1736
  let c0_i32_1737 : BitVec 32 := 0#32
  let v3034 : BitVec 1 := Scalar.cmpi .slt v3030 c0_i32_1737
  let v3035 : BitVec 1 := Scalar.xori v3033 v3034
  let c0_i32_1735 : BitVec 32 := 0#32
  let v3032 : BitVec 1 := Scalar.cmpi .ne v3031 c0_i32_1735
  let v3036 : BitVec 1 := Scalar.andi v3035 v3032
  let v3037 : BitVec 32 := Scalar.addi v3031 v3030
  let v3038 : BitVec 32 := Scalar.select v3036 v3037 v3031
  let c143_i32_1739 : BitVec 32 := 143#32
  let c0_i32_1740 : BitVec 32 := 0#32
  ![v3038.toNat, 143, 0]
def k0_off582 (v3042 : BitVec 32) : Fin 2 → Nat :=
  let c0_i32_1741 : BitVec 32 := 0#32
  ![v3042.toNat, 0]

def k0_chk146 (i : grid0.Coords) (v0 : BitVec 32) (v3042 : BitVec 32) : Prop :=
  (∀ (k0_h2 : k0_cond2 i v0 = 1#1), ∀ a, (k0_off582 v3042) a + S1x4096.size a ≤ S16896x4096.size a)
theorem k0_off582_inb : ∀ (i : grid0.Coords) (v0 : BitVec 32) (v3042 : BitVec 32) (k0_hw146 : k0_chk146 i v0 v3042), ∀ (k0_h2 : k0_cond2 i v0 = 1#1), ∀ a, (k0_off582 v3042) a + S1x4096.size a ≤ S16896x4096.size a := fun i v0 v3042 k0_hw146 k0_h2 => k0_hw146 k0_h2

def k0_off583 (i : grid0.Coords) : Fin 1 → Nat :=
  let arg0 : BitVec 32 := BitVec.ofNat 32 (i 0).val
  let c1_i32_1742 : BitVec 32 := 1#32
  let v3048 : BitVec 32 := Scalar.addi arg0 c1_i32_1742
  let c256_i32_1750 : BitVec 32 := 256#32
  let v3060 : BitVec 32 := Scalar.muli v3048 c256_i32_1750
  let c144_i32 : BitVec 32 := 144#32
  let v3061 : BitVec 32 := Scalar.addi v3060 c144_i32
  let v3062 : Index := Scalar.indexCast v3061
  ![v3062.toNat]
def k0_off584 (i : grid0.Coords) : Fin 1 → Nat :=
  let arg0 : BitVec 32 := BitVec.ofNat 32 (i 0).val
  let c1_i32_1743 : BitVec 32 := 1#32
  let v3049 : BitVec 32 := Scalar.addi arg0 c1_i32_1743
  let c2_i32_1744 : BitVec 32 := 2#32
  let c0_i32_1745 : BitVec 32 := 0#32
  let v3050 : BitVec 1 := Scalar.cmpi .eq c2_i32_1744 c0_i32_1745
  let c1_i32_1746 : BitVec 32 := 1#32
  let v3051 : BitVec 32 := Scalar.select v3050 c1_i32_1746 c2_i32_1744
  let v3052 : BitVec 32 := Scalar.remsi v3049 v3051
  let c0_i32_1748 : BitVec 32 := 0#32
  let v3054 : BitVec 1 := Scalar.cmpi .slt v3052 c0_i32_1748
  let c0_i32_1749 : BitVec 32 := 0#32
  let v3055 : BitVec 1 := Scalar.cmpi .slt v3051 c0_i32_1749
  let v3056 : BitVec 1 := Scalar.xori v3054 v3055
  let c0_i32_1747 : BitVec 32 := 0#32
  let v3053 : BitVec 1 := Scalar.cmpi .ne v3052 c0_i32_1747
  let v3057 : BitVec 1 := Scalar.andi v3056 v3053
  let v3058 : BitVec 32 := Scalar.addi v3052 v3051
  let v3059 : BitVec 32 := Scalar.select v3057 v3058 v3052
  ![v3059.toNat]
def k0_off585 (i : grid0.Coords) : Fin 3 → Nat :=
  let arg0 : BitVec 32 := BitVec.ofNat 32 (i 0).val
  let c1_i32_1743 : BitVec 32 := 1#32
  let v3049 : BitVec 32 := Scalar.addi arg0 c1_i32_1743
  let c2_i32_1744 : BitVec 32 := 2#32
  let c0_i32_1745 : BitVec 32 := 0#32
  let v3050 : BitVec 1 := Scalar.cmpi .eq c2_i32_1744 c0_i32_1745
  let c1_i32_1746 : BitVec 32 := 1#32
  let v3051 : BitVec 32 := Scalar.select v3050 c1_i32_1746 c2_i32_1744
  let v3052 : BitVec 32 := Scalar.remsi v3049 v3051
  let c0_i32_1748 : BitVec 32 := 0#32
  let v3054 : BitVec 1 := Scalar.cmpi .slt v3052 c0_i32_1748
  let c0_i32_1749 : BitVec 32 := 0#32
  let v3055 : BitVec 1 := Scalar.cmpi .slt v3051 c0_i32_1749
  let v3056 : BitVec 1 := Scalar.xori v3054 v3055
  let c0_i32_1747 : BitVec 32 := 0#32
  let v3053 : BitVec 1 := Scalar.cmpi .ne v3052 c0_i32_1747
  let v3057 : BitVec 1 := Scalar.andi v3056 v3053
  let v3058 : BitVec 32 := Scalar.addi v3052 v3051
  let v3059 : BitVec 32 := Scalar.select v3057 v3058 v3052
  let c144_i32_1751 : BitVec 32 := 144#32
  let c0_i32_1752 : BitVec 32 := 0#32
  ![v3059.toNat, 144, 0]
def k0_off586 (v3063 : BitVec 32) : Fin 2 → Nat :=
  let c0_i32_1753 : BitVec 32 := 0#32
  ![v3063.toNat, 0]

def k0_chk147 (i : grid0.Coords) (v0 : BitVec 32) (v3063 : BitVec 32) : Prop :=
  (∀ (k0_h2 : k0_cond2 i v0 = 1#1), ∀ a, (k0_off586 v3063) a + S1x4096.size a ≤ S16896x4096.size a)
theorem k0_off586_inb : ∀ (i : grid0.Coords) (v0 : BitVec 32) (v3063 : BitVec 32) (k0_hw147 : k0_chk147 i v0 v3063), ∀ (k0_h2 : k0_cond2 i v0 = 1#1), ∀ a, (k0_off586 v3063) a + S1x4096.size a ≤ S16896x4096.size a := fun i v0 v3063 k0_hw147 k0_h2 => k0_hw147 k0_h2

def k0_off587 (i : grid0.Coords) : Fin 1 → Nat :=
  let arg0 : BitVec 32 := BitVec.ofNat 32 (i 0).val
  let c1_i32_1754 : BitVec 32 := 1#32
  let v3069 : BitVec 32 := Scalar.addi arg0 c1_i32_1754
  let c256_i32_1762 : BitVec 32 := 256#32
  let v3081 : BitVec 32 := Scalar.muli v3069 c256_i32_1762
  let c145_i32 : BitVec 32 := 145#32
  let v3082 : BitVec 32 := Scalar.addi v3081 c145_i32
  let v3083 : Index := Scalar.indexCast v3082
  ![v3083.toNat]
def k0_off588 (i : grid0.Coords) : Fin 1 → Nat :=
  let arg0 : BitVec 32 := BitVec.ofNat 32 (i 0).val
  let c1_i32_1755 : BitVec 32 := 1#32
  let v3070 : BitVec 32 := Scalar.addi arg0 c1_i32_1755
  let c2_i32_1756 : BitVec 32 := 2#32
  let c0_i32_1757 : BitVec 32 := 0#32
  let v3071 : BitVec 1 := Scalar.cmpi .eq c2_i32_1756 c0_i32_1757
  let c1_i32_1758 : BitVec 32 := 1#32
  let v3072 : BitVec 32 := Scalar.select v3071 c1_i32_1758 c2_i32_1756
  let v3073 : BitVec 32 := Scalar.remsi v3070 v3072
  let c0_i32_1760 : BitVec 32 := 0#32
  let v3075 : BitVec 1 := Scalar.cmpi .slt v3073 c0_i32_1760
  let c0_i32_1761 : BitVec 32 := 0#32
  let v3076 : BitVec 1 := Scalar.cmpi .slt v3072 c0_i32_1761
  let v3077 : BitVec 1 := Scalar.xori v3075 v3076
  let c0_i32_1759 : BitVec 32 := 0#32
  let v3074 : BitVec 1 := Scalar.cmpi .ne v3073 c0_i32_1759
  let v3078 : BitVec 1 := Scalar.andi v3077 v3074
  let v3079 : BitVec 32 := Scalar.addi v3073 v3072
  let v3080 : BitVec 32 := Scalar.select v3078 v3079 v3073
  ![v3080.toNat]
def k0_off589 (i : grid0.Coords) : Fin 3 → Nat :=
  let arg0 : BitVec 32 := BitVec.ofNat 32 (i 0).val
  let c1_i32_1755 : BitVec 32 := 1#32
  let v3070 : BitVec 32 := Scalar.addi arg0 c1_i32_1755
  let c2_i32_1756 : BitVec 32 := 2#32
  let c0_i32_1757 : BitVec 32 := 0#32
  let v3071 : BitVec 1 := Scalar.cmpi .eq c2_i32_1756 c0_i32_1757
  let c1_i32_1758 : BitVec 32 := 1#32
  let v3072 : BitVec 32 := Scalar.select v3071 c1_i32_1758 c2_i32_1756
  let v3073 : BitVec 32 := Scalar.remsi v3070 v3072
  let c0_i32_1760 : BitVec 32 := 0#32
  let v3075 : BitVec 1 := Scalar.cmpi .slt v3073 c0_i32_1760
  let c0_i32_1761 : BitVec 32 := 0#32
  let v3076 : BitVec 1 := Scalar.cmpi .slt v3072 c0_i32_1761
  let v3077 : BitVec 1 := Scalar.xori v3075 v3076
  let c0_i32_1759 : BitVec 32 := 0#32
  let v3074 : BitVec 1 := Scalar.cmpi .ne v3073 c0_i32_1759
  let v3078 : BitVec 1 := Scalar.andi v3077 v3074
  let v3079 : BitVec 32 := Scalar.addi v3073 v3072
  let v3080 : BitVec 32 := Scalar.select v3078 v3079 v3073
  let c145_i32_1763 : BitVec 32 := 145#32
  let c0_i32_1764 : BitVec 32 := 0#32
  ![v3080.toNat, 145, 0]
def k0_off590 (v3084 : BitVec 32) : Fin 2 → Nat :=
  let c0_i32_1765 : BitVec 32 := 0#32
  ![v3084.toNat, 0]

def k0_chk148 (i : grid0.Coords) (v0 : BitVec 32) (v3084 : BitVec 32) : Prop :=
  (∀ (k0_h2 : k0_cond2 i v0 = 1#1), ∀ a, (k0_off590 v3084) a + S1x4096.size a ≤ S16896x4096.size a)
theorem k0_off590_inb : ∀ (i : grid0.Coords) (v0 : BitVec 32) (v3084 : BitVec 32) (k0_hw148 : k0_chk148 i v0 v3084), ∀ (k0_h2 : k0_cond2 i v0 = 1#1), ∀ a, (k0_off590 v3084) a + S1x4096.size a ≤ S16896x4096.size a := fun i v0 v3084 k0_hw148 k0_h2 => k0_hw148 k0_h2

def k0_off591 (i : grid0.Coords) : Fin 1 → Nat :=
  let arg0 : BitVec 32 := BitVec.ofNat 32 (i 0).val
  let c1_i32_1766 : BitVec 32 := 1#32
  let v3090 : BitVec 32 := Scalar.addi arg0 c1_i32_1766
  let c256_i32_1774 : BitVec 32 := 256#32
  let v3102 : BitVec 32 := Scalar.muli v3090 c256_i32_1774
  let c146_i32 : BitVec 32 := 146#32
  let v3103 : BitVec 32 := Scalar.addi v3102 c146_i32
  let v3104 : Index := Scalar.indexCast v3103
  ![v3104.toNat]
def k0_off592 (i : grid0.Coords) : Fin 1 → Nat :=
  let arg0 : BitVec 32 := BitVec.ofNat 32 (i 0).val
  let c1_i32_1767 : BitVec 32 := 1#32
  let v3091 : BitVec 32 := Scalar.addi arg0 c1_i32_1767
  let c2_i32_1768 : BitVec 32 := 2#32
  let c0_i32_1769 : BitVec 32 := 0#32
  let v3092 : BitVec 1 := Scalar.cmpi .eq c2_i32_1768 c0_i32_1769
  let c1_i32_1770 : BitVec 32 := 1#32
  let v3093 : BitVec 32 := Scalar.select v3092 c1_i32_1770 c2_i32_1768
  let v3094 : BitVec 32 := Scalar.remsi v3091 v3093
  let c0_i32_1772 : BitVec 32 := 0#32
  let v3096 : BitVec 1 := Scalar.cmpi .slt v3094 c0_i32_1772
  let c0_i32_1773 : BitVec 32 := 0#32
  let v3097 : BitVec 1 := Scalar.cmpi .slt v3093 c0_i32_1773
  let v3098 : BitVec 1 := Scalar.xori v3096 v3097
  let c0_i32_1771 : BitVec 32 := 0#32
  let v3095 : BitVec 1 := Scalar.cmpi .ne v3094 c0_i32_1771
  let v3099 : BitVec 1 := Scalar.andi v3098 v3095
  let v3100 : BitVec 32 := Scalar.addi v3094 v3093
  let v3101 : BitVec 32 := Scalar.select v3099 v3100 v3094
  ![v3101.toNat]
def k0_off593 (i : grid0.Coords) : Fin 3 → Nat :=
  let arg0 : BitVec 32 := BitVec.ofNat 32 (i 0).val
  let c1_i32_1767 : BitVec 32 := 1#32
  let v3091 : BitVec 32 := Scalar.addi arg0 c1_i32_1767
  let c2_i32_1768 : BitVec 32 := 2#32
  let c0_i32_1769 : BitVec 32 := 0#32
  let v3092 : BitVec 1 := Scalar.cmpi .eq c2_i32_1768 c0_i32_1769
  let c1_i32_1770 : BitVec 32 := 1#32
  let v3093 : BitVec 32 := Scalar.select v3092 c1_i32_1770 c2_i32_1768
  let v3094 : BitVec 32 := Scalar.remsi v3091 v3093
  let c0_i32_1772 : BitVec 32 := 0#32
  let v3096 : BitVec 1 := Scalar.cmpi .slt v3094 c0_i32_1772
  let c0_i32_1773 : BitVec 32 := 0#32
  let v3097 : BitVec 1 := Scalar.cmpi .slt v3093 c0_i32_1773
  let v3098 : BitVec 1 := Scalar.xori v3096 v3097
  let c0_i32_1771 : BitVec 32 := 0#32
  let v3095 : BitVec 1 := Scalar.cmpi .ne v3094 c0_i32_1771
  let v3099 : BitVec 1 := Scalar.andi v3098 v3095
  let v3100 : BitVec 32 := Scalar.addi v3094 v3093
  let v3101 : BitVec 32 := Scalar.select v3099 v3100 v3094
  let c146_i32_1775 : BitVec 32 := 146#32
  let c0_i32_1776 : BitVec 32 := 0#32
  ![v3101.toNat, 146, 0]
def k0_off594 (v3105 : BitVec 32) : Fin 2 → Nat :=
  let c0_i32_1777 : BitVec 32 := 0#32
  ![v3105.toNat, 0]

def k0_chk149 (i : grid0.Coords) (v0 : BitVec 32) (v3105 : BitVec 32) : Prop :=
  (∀ (k0_h2 : k0_cond2 i v0 = 1#1), ∀ a, (k0_off594 v3105) a + S1x4096.size a ≤ S16896x4096.size a)
theorem k0_off594_inb : ∀ (i : grid0.Coords) (v0 : BitVec 32) (v3105 : BitVec 32) (k0_hw149 : k0_chk149 i v0 v3105), ∀ (k0_h2 : k0_cond2 i v0 = 1#1), ∀ a, (k0_off594 v3105) a + S1x4096.size a ≤ S16896x4096.size a := fun i v0 v3105 k0_hw149 k0_h2 => k0_hw149 k0_h2

def k0_off595 (i : grid0.Coords) : Fin 1 → Nat :=
  let arg0 : BitVec 32 := BitVec.ofNat 32 (i 0).val
  let c1_i32_1778 : BitVec 32 := 1#32
  let v3111 : BitVec 32 := Scalar.addi arg0 c1_i32_1778
  let c256_i32_1786 : BitVec 32 := 256#32
  let v3123 : BitVec 32 := Scalar.muli v3111 c256_i32_1786
  let c147_i32 : BitVec 32 := 147#32
  let v3124 : BitVec 32 := Scalar.addi v3123 c147_i32
  let v3125 : Index := Scalar.indexCast v3124
  ![v3125.toNat]
def k0_off596 (i : grid0.Coords) : Fin 1 → Nat :=
  let arg0 : BitVec 32 := BitVec.ofNat 32 (i 0).val
  let c1_i32_1779 : BitVec 32 := 1#32
  let v3112 : BitVec 32 := Scalar.addi arg0 c1_i32_1779
  let c2_i32_1780 : BitVec 32 := 2#32
  let c0_i32_1781 : BitVec 32 := 0#32
  let v3113 : BitVec 1 := Scalar.cmpi .eq c2_i32_1780 c0_i32_1781
  let c1_i32_1782 : BitVec 32 := 1#32
  let v3114 : BitVec 32 := Scalar.select v3113 c1_i32_1782 c2_i32_1780
  let v3115 : BitVec 32 := Scalar.remsi v3112 v3114
  let c0_i32_1784 : BitVec 32 := 0#32
  let v3117 : BitVec 1 := Scalar.cmpi .slt v3115 c0_i32_1784
  let c0_i32_1785 : BitVec 32 := 0#32
  let v3118 : BitVec 1 := Scalar.cmpi .slt v3114 c0_i32_1785
  let v3119 : BitVec 1 := Scalar.xori v3117 v3118
  let c0_i32_1783 : BitVec 32 := 0#32
  let v3116 : BitVec 1 := Scalar.cmpi .ne v3115 c0_i32_1783
  let v3120 : BitVec 1 := Scalar.andi v3119 v3116
  let v3121 : BitVec 32 := Scalar.addi v3115 v3114
  let v3122 : BitVec 32 := Scalar.select v3120 v3121 v3115
  ![v3122.toNat]
def k0_off597 (i : grid0.Coords) : Fin 3 → Nat :=
  let arg0 : BitVec 32 := BitVec.ofNat 32 (i 0).val
  let c1_i32_1779 : BitVec 32 := 1#32
  let v3112 : BitVec 32 := Scalar.addi arg0 c1_i32_1779
  let c2_i32_1780 : BitVec 32 := 2#32
  let c0_i32_1781 : BitVec 32 := 0#32
  let v3113 : BitVec 1 := Scalar.cmpi .eq c2_i32_1780 c0_i32_1781
  let c1_i32_1782 : BitVec 32 := 1#32
  let v3114 : BitVec 32 := Scalar.select v3113 c1_i32_1782 c2_i32_1780
  let v3115 : BitVec 32 := Scalar.remsi v3112 v3114
  let c0_i32_1784 : BitVec 32 := 0#32
  let v3117 : BitVec 1 := Scalar.cmpi .slt v3115 c0_i32_1784
  let c0_i32_1785 : BitVec 32 := 0#32
  let v3118 : BitVec 1 := Scalar.cmpi .slt v3114 c0_i32_1785
  let v3119 : BitVec 1 := Scalar.xori v3117 v3118
  let c0_i32_1783 : BitVec 32 := 0#32
  let v3116 : BitVec 1 := Scalar.cmpi .ne v3115 c0_i32_1783
  let v3120 : BitVec 1 := Scalar.andi v3119 v3116
  let v3121 : BitVec 32 := Scalar.addi v3115 v3114
  let v3122 : BitVec 32 := Scalar.select v3120 v3121 v3115
  let c147_i32_1787 : BitVec 32 := 147#32
  let c0_i32_1788 : BitVec 32 := 0#32
  ![v3122.toNat, 147, 0]
def k0_off598 (v3126 : BitVec 32) : Fin 2 → Nat :=
  let c0_i32_1789 : BitVec 32 := 0#32
  ![v3126.toNat, 0]

def k0_chk150 (i : grid0.Coords) (v0 : BitVec 32) (v3126 : BitVec 32) : Prop :=
  (∀ (k0_h2 : k0_cond2 i v0 = 1#1), ∀ a, (k0_off598 v3126) a + S1x4096.size a ≤ S16896x4096.size a)
theorem k0_off598_inb : ∀ (i : grid0.Coords) (v0 : BitVec 32) (v3126 : BitVec 32) (k0_hw150 : k0_chk150 i v0 v3126), ∀ (k0_h2 : k0_cond2 i v0 = 1#1), ∀ a, (k0_off598 v3126) a + S1x4096.size a ≤ S16896x4096.size a := fun i v0 v3126 k0_hw150 k0_h2 => k0_hw150 k0_h2

def k0_off599 (i : grid0.Coords) : Fin 1 → Nat :=
  let arg0 : BitVec 32 := BitVec.ofNat 32 (i 0).val
  let c1_i32_1790 : BitVec 32 := 1#32
  let v3132 : BitVec 32 := Scalar.addi arg0 c1_i32_1790
  let c256_i32_1798 : BitVec 32 := 256#32
  let v3144 : BitVec 32 := Scalar.muli v3132 c256_i32_1798
  let c148_i32 : BitVec 32 := 148#32
  let v3145 : BitVec 32 := Scalar.addi v3144 c148_i32
  let v3146 : Index := Scalar.indexCast v3145
  ![v3146.toNat]
def k0_off600 (i : grid0.Coords) : Fin 1 → Nat :=
  let arg0 : BitVec 32 := BitVec.ofNat 32 (i 0).val
  let c1_i32_1791 : BitVec 32 := 1#32
  let v3133 : BitVec 32 := Scalar.addi arg0 c1_i32_1791
  let c2_i32_1792 : BitVec 32 := 2#32
  let c0_i32_1793 : BitVec 32 := 0#32
  let v3134 : BitVec 1 := Scalar.cmpi .eq c2_i32_1792 c0_i32_1793
  let c1_i32_1794 : BitVec 32 := 1#32
  let v3135 : BitVec 32 := Scalar.select v3134 c1_i32_1794 c2_i32_1792
  let v3136 : BitVec 32 := Scalar.remsi v3133 v3135
  let c0_i32_1796 : BitVec 32 := 0#32
  let v3138 : BitVec 1 := Scalar.cmpi .slt v3136 c0_i32_1796
  let c0_i32_1797 : BitVec 32 := 0#32
  let v3139 : BitVec 1 := Scalar.cmpi .slt v3135 c0_i32_1797
  let v3140 : BitVec 1 := Scalar.xori v3138 v3139
  let c0_i32_1795 : BitVec 32 := 0#32
  let v3137 : BitVec 1 := Scalar.cmpi .ne v3136 c0_i32_1795
  let v3141 : BitVec 1 := Scalar.andi v3140 v3137
  let v3142 : BitVec 32 := Scalar.addi v3136 v3135
  let v3143 : BitVec 32 := Scalar.select v3141 v3142 v3136
  ![v3143.toNat]
def k0_off601 (i : grid0.Coords) : Fin 3 → Nat :=
  let arg0 : BitVec 32 := BitVec.ofNat 32 (i 0).val
  let c1_i32_1791 : BitVec 32 := 1#32
  let v3133 : BitVec 32 := Scalar.addi arg0 c1_i32_1791
  let c2_i32_1792 : BitVec 32 := 2#32
  let c0_i32_1793 : BitVec 32 := 0#32
  let v3134 : BitVec 1 := Scalar.cmpi .eq c2_i32_1792 c0_i32_1793
  let c1_i32_1794 : BitVec 32 := 1#32
  let v3135 : BitVec 32 := Scalar.select v3134 c1_i32_1794 c2_i32_1792
  let v3136 : BitVec 32 := Scalar.remsi v3133 v3135
  let c0_i32_1796 : BitVec 32 := 0#32
  let v3138 : BitVec 1 := Scalar.cmpi .slt v3136 c0_i32_1796
  let c0_i32_1797 : BitVec 32 := 0#32
  let v3139 : BitVec 1 := Scalar.cmpi .slt v3135 c0_i32_1797
  let v3140 : BitVec 1 := Scalar.xori v3138 v3139
  let c0_i32_1795 : BitVec 32 := 0#32
  let v3137 : BitVec 1 := Scalar.cmpi .ne v3136 c0_i32_1795
  let v3141 : BitVec 1 := Scalar.andi v3140 v3137
  let v3142 : BitVec 32 := Scalar.addi v3136 v3135
  let v3143 : BitVec 32 := Scalar.select v3141 v3142 v3136
  let c148_i32_1799 : BitVec 32 := 148#32
  let c0_i32_1800 : BitVec 32 := 0#32
  ![v3143.toNat, 148, 0]
def k0_off602 (v3147 : BitVec 32) : Fin 2 → Nat :=
  let c0_i32_1801 : BitVec 32 := 0#32
  ![v3147.toNat, 0]

def k0_chk151 (i : grid0.Coords) (v0 : BitVec 32) (v3147 : BitVec 32) : Prop :=
  (∀ (k0_h2 : k0_cond2 i v0 = 1#1), ∀ a, (k0_off602 v3147) a + S1x4096.size a ≤ S16896x4096.size a)
theorem k0_off602_inb : ∀ (i : grid0.Coords) (v0 : BitVec 32) (v3147 : BitVec 32) (k0_hw151 : k0_chk151 i v0 v3147), ∀ (k0_h2 : k0_cond2 i v0 = 1#1), ∀ a, (k0_off602 v3147) a + S1x4096.size a ≤ S16896x4096.size a := fun i v0 v3147 k0_hw151 k0_h2 => k0_hw151 k0_h2

def k0_off603 (i : grid0.Coords) : Fin 1 → Nat :=
  let arg0 : BitVec 32 := BitVec.ofNat 32 (i 0).val
  let c1_i32_1802 : BitVec 32 := 1#32
  let v3153 : BitVec 32 := Scalar.addi arg0 c1_i32_1802
  let c256_i32_1810 : BitVec 32 := 256#32
  let v3165 : BitVec 32 := Scalar.muli v3153 c256_i32_1810
  let c149_i32 : BitVec 32 := 149#32
  let v3166 : BitVec 32 := Scalar.addi v3165 c149_i32
  let v3167 : Index := Scalar.indexCast v3166
  ![v3167.toNat]
def k0_off604 (i : grid0.Coords) : Fin 1 → Nat :=
  let arg0 : BitVec 32 := BitVec.ofNat 32 (i 0).val
  let c1_i32_1803 : BitVec 32 := 1#32
  let v3154 : BitVec 32 := Scalar.addi arg0 c1_i32_1803
  let c2_i32_1804 : BitVec 32 := 2#32
  let c0_i32_1805 : BitVec 32 := 0#32
  let v3155 : BitVec 1 := Scalar.cmpi .eq c2_i32_1804 c0_i32_1805
  let c1_i32_1806 : BitVec 32 := 1#32
  let v3156 : BitVec 32 := Scalar.select v3155 c1_i32_1806 c2_i32_1804
  let v3157 : BitVec 32 := Scalar.remsi v3154 v3156
  let c0_i32_1808 : BitVec 32 := 0#32
  let v3159 : BitVec 1 := Scalar.cmpi .slt v3157 c0_i32_1808
  let c0_i32_1809 : BitVec 32 := 0#32
  let v3160 : BitVec 1 := Scalar.cmpi .slt v3156 c0_i32_1809
  let v3161 : BitVec 1 := Scalar.xori v3159 v3160
  let c0_i32_1807 : BitVec 32 := 0#32
  let v3158 : BitVec 1 := Scalar.cmpi .ne v3157 c0_i32_1807
  let v3162 : BitVec 1 := Scalar.andi v3161 v3158
  let v3163 : BitVec 32 := Scalar.addi v3157 v3156
  let v3164 : BitVec 32 := Scalar.select v3162 v3163 v3157
  ![v3164.toNat]
def k0_off605 (i : grid0.Coords) : Fin 3 → Nat :=
  let arg0 : BitVec 32 := BitVec.ofNat 32 (i 0).val
  let c1_i32_1803 : BitVec 32 := 1#32
  let v3154 : BitVec 32 := Scalar.addi arg0 c1_i32_1803
  let c2_i32_1804 : BitVec 32 := 2#32
  let c0_i32_1805 : BitVec 32 := 0#32
  let v3155 : BitVec 1 := Scalar.cmpi .eq c2_i32_1804 c0_i32_1805
  let c1_i32_1806 : BitVec 32 := 1#32
  let v3156 : BitVec 32 := Scalar.select v3155 c1_i32_1806 c2_i32_1804
  let v3157 : BitVec 32 := Scalar.remsi v3154 v3156
  let c0_i32_1808 : BitVec 32 := 0#32
  let v3159 : BitVec 1 := Scalar.cmpi .slt v3157 c0_i32_1808
  let c0_i32_1809 : BitVec 32 := 0#32
  let v3160 : BitVec 1 := Scalar.cmpi .slt v3156 c0_i32_1809
  let v3161 : BitVec 1 := Scalar.xori v3159 v3160
  let c0_i32_1807 : BitVec 32 := 0#32
  let v3158 : BitVec 1 := Scalar.cmpi .ne v3157 c0_i32_1807
  let v3162 : BitVec 1 := Scalar.andi v3161 v3158
  let v3163 : BitVec 32 := Scalar.addi v3157 v3156
  let v3164 : BitVec 32 := Scalar.select v3162 v3163 v3157
  let c149_i32_1811 : BitVec 32 := 149#32
  let c0_i32_1812 : BitVec 32 := 0#32
  ![v3164.toNat, 149, 0]
def k0_off606 (v3168 : BitVec 32) : Fin 2 → Nat :=
  let c0_i32_1813 : BitVec 32 := 0#32
  ![v3168.toNat, 0]

def k0_chk152 (i : grid0.Coords) (v0 : BitVec 32) (v3168 : BitVec 32) : Prop :=
  (∀ (k0_h2 : k0_cond2 i v0 = 1#1), ∀ a, (k0_off606 v3168) a + S1x4096.size a ≤ S16896x4096.size a)
theorem k0_off606_inb : ∀ (i : grid0.Coords) (v0 : BitVec 32) (v3168 : BitVec 32) (k0_hw152 : k0_chk152 i v0 v3168), ∀ (k0_h2 : k0_cond2 i v0 = 1#1), ∀ a, (k0_off606 v3168) a + S1x4096.size a ≤ S16896x4096.size a := fun i v0 v3168 k0_hw152 k0_h2 => k0_hw152 k0_h2

def k0_off607 (i : grid0.Coords) : Fin 1 → Nat :=
  let arg0 : BitVec 32 := BitVec.ofNat 32 (i 0).val
  let c1_i32_1814 : BitVec 32 := 1#32
  let v3174 : BitVec 32 := Scalar.addi arg0 c1_i32_1814
  let c256_i32_1822 : BitVec 32 := 256#32
  let v3186 : BitVec 32 := Scalar.muli v3174 c256_i32_1822
  let c150_i32 : BitVec 32 := 150#32
  let v3187 : BitVec 32 := Scalar.addi v3186 c150_i32
  let v3188 : Index := Scalar.indexCast v3187
  ![v3188.toNat]
def k0_off608 (i : grid0.Coords) : Fin 1 → Nat :=
  let arg0 : BitVec 32 := BitVec.ofNat 32 (i 0).val
  let c1_i32_1815 : BitVec 32 := 1#32
  let v3175 : BitVec 32 := Scalar.addi arg0 c1_i32_1815
  let c2_i32_1816 : BitVec 32 := 2#32
  let c0_i32_1817 : BitVec 32 := 0#32
  let v3176 : BitVec 1 := Scalar.cmpi .eq c2_i32_1816 c0_i32_1817
  let c1_i32_1818 : BitVec 32 := 1#32
  let v3177 : BitVec 32 := Scalar.select v3176 c1_i32_1818 c2_i32_1816
  let v3178 : BitVec 32 := Scalar.remsi v3175 v3177
  let c0_i32_1820 : BitVec 32 := 0#32
  let v3180 : BitVec 1 := Scalar.cmpi .slt v3178 c0_i32_1820
  let c0_i32_1821 : BitVec 32 := 0#32
  let v3181 : BitVec 1 := Scalar.cmpi .slt v3177 c0_i32_1821
  let v3182 : BitVec 1 := Scalar.xori v3180 v3181
  let c0_i32_1819 : BitVec 32 := 0#32
  let v3179 : BitVec 1 := Scalar.cmpi .ne v3178 c0_i32_1819
  let v3183 : BitVec 1 := Scalar.andi v3182 v3179
  let v3184 : BitVec 32 := Scalar.addi v3178 v3177
  let v3185 : BitVec 32 := Scalar.select v3183 v3184 v3178
  ![v3185.toNat]
def k0_off609 (i : grid0.Coords) : Fin 3 → Nat :=
  let arg0 : BitVec 32 := BitVec.ofNat 32 (i 0).val
  let c1_i32_1815 : BitVec 32 := 1#32
  let v3175 : BitVec 32 := Scalar.addi arg0 c1_i32_1815
  let c2_i32_1816 : BitVec 32 := 2#32
  let c0_i32_1817 : BitVec 32 := 0#32
  let v3176 : BitVec 1 := Scalar.cmpi .eq c2_i32_1816 c0_i32_1817
  let c1_i32_1818 : BitVec 32 := 1#32
  let v3177 : BitVec 32 := Scalar.select v3176 c1_i32_1818 c2_i32_1816
  let v3178 : BitVec 32 := Scalar.remsi v3175 v3177
  let c0_i32_1820 : BitVec 32 := 0#32
  let v3180 : BitVec 1 := Scalar.cmpi .slt v3178 c0_i32_1820
  let c0_i32_1821 : BitVec 32 := 0#32
  let v3181 : BitVec 1 := Scalar.cmpi .slt v3177 c0_i32_1821
  let v3182 : BitVec 1 := Scalar.xori v3180 v3181
  let c0_i32_1819 : BitVec 32 := 0#32
  let v3179 : BitVec 1 := Scalar.cmpi .ne v3178 c0_i32_1819
  let v3183 : BitVec 1 := Scalar.andi v3182 v3179
  let v3184 : BitVec 32 := Scalar.addi v3178 v3177
  let v3185 : BitVec 32 := Scalar.select v3183 v3184 v3178
  let c150_i32_1823 : BitVec 32 := 150#32
  let c0_i32_1824 : BitVec 32 := 0#32
  ![v3185.toNat, 150, 0]
def k0_off610 (v3189 : BitVec 32) : Fin 2 → Nat :=
  let c0_i32_1825 : BitVec 32 := 0#32
  ![v3189.toNat, 0]

def k0_chk153 (i : grid0.Coords) (v0 : BitVec 32) (v3189 : BitVec 32) : Prop :=
  (∀ (k0_h2 : k0_cond2 i v0 = 1#1), ∀ a, (k0_off610 v3189) a + S1x4096.size a ≤ S16896x4096.size a)
theorem k0_off610_inb : ∀ (i : grid0.Coords) (v0 : BitVec 32) (v3189 : BitVec 32) (k0_hw153 : k0_chk153 i v0 v3189), ∀ (k0_h2 : k0_cond2 i v0 = 1#1), ∀ a, (k0_off610 v3189) a + S1x4096.size a ≤ S16896x4096.size a := fun i v0 v3189 k0_hw153 k0_h2 => k0_hw153 k0_h2

def k0_off611 (i : grid0.Coords) : Fin 1 → Nat :=
  let arg0 : BitVec 32 := BitVec.ofNat 32 (i 0).val
  let c1_i32_1826 : BitVec 32 := 1#32
  let v3195 : BitVec 32 := Scalar.addi arg0 c1_i32_1826
  let c256_i32_1834 : BitVec 32 := 256#32
  let v3207 : BitVec 32 := Scalar.muli v3195 c256_i32_1834
  let c151_i32 : BitVec 32 := 151#32
  let v3208 : BitVec 32 := Scalar.addi v3207 c151_i32
  let v3209 : Index := Scalar.indexCast v3208
  ![v3209.toNat]
def k0_off612 (i : grid0.Coords) : Fin 1 → Nat :=
  let arg0 : BitVec 32 := BitVec.ofNat 32 (i 0).val
  let c1_i32_1827 : BitVec 32 := 1#32
  let v3196 : BitVec 32 := Scalar.addi arg0 c1_i32_1827
  let c2_i32_1828 : BitVec 32 := 2#32
  let c0_i32_1829 : BitVec 32 := 0#32
  let v3197 : BitVec 1 := Scalar.cmpi .eq c2_i32_1828 c0_i32_1829
  let c1_i32_1830 : BitVec 32 := 1#32
  let v3198 : BitVec 32 := Scalar.select v3197 c1_i32_1830 c2_i32_1828
  let v3199 : BitVec 32 := Scalar.remsi v3196 v3198
  let c0_i32_1832 : BitVec 32 := 0#32
  let v3201 : BitVec 1 := Scalar.cmpi .slt v3199 c0_i32_1832
  let c0_i32_1833 : BitVec 32 := 0#32
  let v3202 : BitVec 1 := Scalar.cmpi .slt v3198 c0_i32_1833
  let v3203 : BitVec 1 := Scalar.xori v3201 v3202
  let c0_i32_1831 : BitVec 32 := 0#32
  let v3200 : BitVec 1 := Scalar.cmpi .ne v3199 c0_i32_1831
  let v3204 : BitVec 1 := Scalar.andi v3203 v3200
  let v3205 : BitVec 32 := Scalar.addi v3199 v3198
  let v3206 : BitVec 32 := Scalar.select v3204 v3205 v3199
  ![v3206.toNat]
def k0_off613 (i : grid0.Coords) : Fin 3 → Nat :=
  let arg0 : BitVec 32 := BitVec.ofNat 32 (i 0).val
  let c1_i32_1827 : BitVec 32 := 1#32
  let v3196 : BitVec 32 := Scalar.addi arg0 c1_i32_1827
  let c2_i32_1828 : BitVec 32 := 2#32
  let c0_i32_1829 : BitVec 32 := 0#32
  let v3197 : BitVec 1 := Scalar.cmpi .eq c2_i32_1828 c0_i32_1829
  let c1_i32_1830 : BitVec 32 := 1#32
  let v3198 : BitVec 32 := Scalar.select v3197 c1_i32_1830 c2_i32_1828
  let v3199 : BitVec 32 := Scalar.remsi v3196 v3198
  let c0_i32_1832 : BitVec 32 := 0#32
  let v3201 : BitVec 1 := Scalar.cmpi .slt v3199 c0_i32_1832
  let c0_i32_1833 : BitVec 32 := 0#32
  let v3202 : BitVec 1 := Scalar.cmpi .slt v3198 c0_i32_1833
  let v3203 : BitVec 1 := Scalar.xori v3201 v3202
  let c0_i32_1831 : BitVec 32 := 0#32
  let v3200 : BitVec 1 := Scalar.cmpi .ne v3199 c0_i32_1831
  let v3204 : BitVec 1 := Scalar.andi v3203 v3200
  let v3205 : BitVec 32 := Scalar.addi v3199 v3198
  let v3206 : BitVec 32 := Scalar.select v3204 v3205 v3199
  let c151_i32_1835 : BitVec 32 := 151#32
  let c0_i32_1836 : BitVec 32 := 0#32
  ![v3206.toNat, 151, 0]
def k0_off614 (v3210 : BitVec 32) : Fin 2 → Nat :=
  let c0_i32_1837 : BitVec 32 := 0#32
  ![v3210.toNat, 0]

def k0_chk154 (i : grid0.Coords) (v0 : BitVec 32) (v3210 : BitVec 32) : Prop :=
  (∀ (k0_h2 : k0_cond2 i v0 = 1#1), ∀ a, (k0_off614 v3210) a + S1x4096.size a ≤ S16896x4096.size a)
theorem k0_off614_inb : ∀ (i : grid0.Coords) (v0 : BitVec 32) (v3210 : BitVec 32) (k0_hw154 : k0_chk154 i v0 v3210), ∀ (k0_h2 : k0_cond2 i v0 = 1#1), ∀ a, (k0_off614 v3210) a + S1x4096.size a ≤ S16896x4096.size a := fun i v0 v3210 k0_hw154 k0_h2 => k0_hw154 k0_h2

def k0_off615 (i : grid0.Coords) : Fin 1 → Nat :=
  let arg0 : BitVec 32 := BitVec.ofNat 32 (i 0).val
  let c1_i32_1838 : BitVec 32 := 1#32
  let v3216 : BitVec 32 := Scalar.addi arg0 c1_i32_1838
  let c256_i32_1846 : BitVec 32 := 256#32
  let v3228 : BitVec 32 := Scalar.muli v3216 c256_i32_1846
  let c152_i32 : BitVec 32 := 152#32
  let v3229 : BitVec 32 := Scalar.addi v3228 c152_i32
  let v3230 : Index := Scalar.indexCast v3229
  ![v3230.toNat]
def k0_off616 (i : grid0.Coords) : Fin 1 → Nat :=
  let arg0 : BitVec 32 := BitVec.ofNat 32 (i 0).val
  let c1_i32_1839 : BitVec 32 := 1#32
  let v3217 : BitVec 32 := Scalar.addi arg0 c1_i32_1839
  let c2_i32_1840 : BitVec 32 := 2#32
  let c0_i32_1841 : BitVec 32 := 0#32
  let v3218 : BitVec 1 := Scalar.cmpi .eq c2_i32_1840 c0_i32_1841
  let c1_i32_1842 : BitVec 32 := 1#32
  let v3219 : BitVec 32 := Scalar.select v3218 c1_i32_1842 c2_i32_1840
  let v3220 : BitVec 32 := Scalar.remsi v3217 v3219
  let c0_i32_1844 : BitVec 32 := 0#32
  let v3222 : BitVec 1 := Scalar.cmpi .slt v3220 c0_i32_1844
  let c0_i32_1845 : BitVec 32 := 0#32
  let v3223 : BitVec 1 := Scalar.cmpi .slt v3219 c0_i32_1845
  let v3224 : BitVec 1 := Scalar.xori v3222 v3223
  let c0_i32_1843 : BitVec 32 := 0#32
  let v3221 : BitVec 1 := Scalar.cmpi .ne v3220 c0_i32_1843
  let v3225 : BitVec 1 := Scalar.andi v3224 v3221
  let v3226 : BitVec 32 := Scalar.addi v3220 v3219
  let v3227 : BitVec 32 := Scalar.select v3225 v3226 v3220
  ![v3227.toNat]
def k0_off617 (i : grid0.Coords) : Fin 3 → Nat :=
  let arg0 : BitVec 32 := BitVec.ofNat 32 (i 0).val
  let c1_i32_1839 : BitVec 32 := 1#32
  let v3217 : BitVec 32 := Scalar.addi arg0 c1_i32_1839
  let c2_i32_1840 : BitVec 32 := 2#32
  let c0_i32_1841 : BitVec 32 := 0#32
  let v3218 : BitVec 1 := Scalar.cmpi .eq c2_i32_1840 c0_i32_1841
  let c1_i32_1842 : BitVec 32 := 1#32
  let v3219 : BitVec 32 := Scalar.select v3218 c1_i32_1842 c2_i32_1840
  let v3220 : BitVec 32 := Scalar.remsi v3217 v3219
  let c0_i32_1844 : BitVec 32 := 0#32
  let v3222 : BitVec 1 := Scalar.cmpi .slt v3220 c0_i32_1844
  let c0_i32_1845 : BitVec 32 := 0#32
  let v3223 : BitVec 1 := Scalar.cmpi .slt v3219 c0_i32_1845
  let v3224 : BitVec 1 := Scalar.xori v3222 v3223
  let c0_i32_1843 : BitVec 32 := 0#32
  let v3221 : BitVec 1 := Scalar.cmpi .ne v3220 c0_i32_1843
  let v3225 : BitVec 1 := Scalar.andi v3224 v3221
  let v3226 : BitVec 32 := Scalar.addi v3220 v3219
  let v3227 : BitVec 32 := Scalar.select v3225 v3226 v3220
  let c152_i32_1847 : BitVec 32 := 152#32
  let c0_i32_1848 : BitVec 32 := 0#32
  ![v3227.toNat, 152, 0]
def k0_off618 (v3231 : BitVec 32) : Fin 2 → Nat :=
  let c0_i32_1849 : BitVec 32 := 0#32
  ![v3231.toNat, 0]

def k0_chk155 (i : grid0.Coords) (v0 : BitVec 32) (v3231 : BitVec 32) : Prop :=
  (∀ (k0_h2 : k0_cond2 i v0 = 1#1), ∀ a, (k0_off618 v3231) a + S1x4096.size a ≤ S16896x4096.size a)
theorem k0_off618_inb : ∀ (i : grid0.Coords) (v0 : BitVec 32) (v3231 : BitVec 32) (k0_hw155 : k0_chk155 i v0 v3231), ∀ (k0_h2 : k0_cond2 i v0 = 1#1), ∀ a, (k0_off618 v3231) a + S1x4096.size a ≤ S16896x4096.size a := fun i v0 v3231 k0_hw155 k0_h2 => k0_hw155 k0_h2

def k0_off619 (i : grid0.Coords) : Fin 1 → Nat :=
  let arg0 : BitVec 32 := BitVec.ofNat 32 (i 0).val
  let c1_i32_1850 : BitVec 32 := 1#32
  let v3237 : BitVec 32 := Scalar.addi arg0 c1_i32_1850
  let c256_i32_1858 : BitVec 32 := 256#32
  let v3249 : BitVec 32 := Scalar.muli v3237 c256_i32_1858
  let c153_i32 : BitVec 32 := 153#32
  let v3250 : BitVec 32 := Scalar.addi v3249 c153_i32
  let v3251 : Index := Scalar.indexCast v3250
  ![v3251.toNat]
def k0_off620 (i : grid0.Coords) : Fin 1 → Nat :=
  let arg0 : BitVec 32 := BitVec.ofNat 32 (i 0).val
  let c1_i32_1851 : BitVec 32 := 1#32
  let v3238 : BitVec 32 := Scalar.addi arg0 c1_i32_1851
  let c2_i32_1852 : BitVec 32 := 2#32
  let c0_i32_1853 : BitVec 32 := 0#32
  let v3239 : BitVec 1 := Scalar.cmpi .eq c2_i32_1852 c0_i32_1853
  let c1_i32_1854 : BitVec 32 := 1#32
  let v3240 : BitVec 32 := Scalar.select v3239 c1_i32_1854 c2_i32_1852
  let v3241 : BitVec 32 := Scalar.remsi v3238 v3240
  let c0_i32_1856 : BitVec 32 := 0#32
  let v3243 : BitVec 1 := Scalar.cmpi .slt v3241 c0_i32_1856
  let c0_i32_1857 : BitVec 32 := 0#32
  let v3244 : BitVec 1 := Scalar.cmpi .slt v3240 c0_i32_1857
  let v3245 : BitVec 1 := Scalar.xori v3243 v3244
  let c0_i32_1855 : BitVec 32 := 0#32
  let v3242 : BitVec 1 := Scalar.cmpi .ne v3241 c0_i32_1855
  let v3246 : BitVec 1 := Scalar.andi v3245 v3242
  let v3247 : BitVec 32 := Scalar.addi v3241 v3240
  let v3248 : BitVec 32 := Scalar.select v3246 v3247 v3241
  ![v3248.toNat]
def k0_off621 (i : grid0.Coords) : Fin 3 → Nat :=
  let arg0 : BitVec 32 := BitVec.ofNat 32 (i 0).val
  let c1_i32_1851 : BitVec 32 := 1#32
  let v3238 : BitVec 32 := Scalar.addi arg0 c1_i32_1851
  let c2_i32_1852 : BitVec 32 := 2#32
  let c0_i32_1853 : BitVec 32 := 0#32
  let v3239 : BitVec 1 := Scalar.cmpi .eq c2_i32_1852 c0_i32_1853
  let c1_i32_1854 : BitVec 32 := 1#32
  let v3240 : BitVec 32 := Scalar.select v3239 c1_i32_1854 c2_i32_1852
  let v3241 : BitVec 32 := Scalar.remsi v3238 v3240
  let c0_i32_1856 : BitVec 32 := 0#32
  let v3243 : BitVec 1 := Scalar.cmpi .slt v3241 c0_i32_1856
  let c0_i32_1857 : BitVec 32 := 0#32
  let v3244 : BitVec 1 := Scalar.cmpi .slt v3240 c0_i32_1857
  let v3245 : BitVec 1 := Scalar.xori v3243 v3244
  let c0_i32_1855 : BitVec 32 := 0#32
  let v3242 : BitVec 1 := Scalar.cmpi .ne v3241 c0_i32_1855
  let v3246 : BitVec 1 := Scalar.andi v3245 v3242
  let v3247 : BitVec 32 := Scalar.addi v3241 v3240
  let v3248 : BitVec 32 := Scalar.select v3246 v3247 v3241
  let c153_i32_1859 : BitVec 32 := 153#32
  let c0_i32_1860 : BitVec 32 := 0#32
  ![v3248.toNat, 153, 0]
def k0_off622 (v3252 : BitVec 32) : Fin 2 → Nat :=
  let c0_i32_1861 : BitVec 32 := 0#32
  ![v3252.toNat, 0]

def k0_chk156 (i : grid0.Coords) (v0 : BitVec 32) (v3252 : BitVec 32) : Prop :=
  (∀ (k0_h2 : k0_cond2 i v0 = 1#1), ∀ a, (k0_off622 v3252) a + S1x4096.size a ≤ S16896x4096.size a)
theorem k0_off622_inb : ∀ (i : grid0.Coords) (v0 : BitVec 32) (v3252 : BitVec 32) (k0_hw156 : k0_chk156 i v0 v3252), ∀ (k0_h2 : k0_cond2 i v0 = 1#1), ∀ a, (k0_off622 v3252) a + S1x4096.size a ≤ S16896x4096.size a := fun i v0 v3252 k0_hw156 k0_h2 => k0_hw156 k0_h2

def k0_off623 (i : grid0.Coords) : Fin 1 → Nat :=
  let arg0 : BitVec 32 := BitVec.ofNat 32 (i 0).val
  let c1_i32_1862 : BitVec 32 := 1#32
  let v3258 : BitVec 32 := Scalar.addi arg0 c1_i32_1862
  let c256_i32_1870 : BitVec 32 := 256#32
  let v3270 : BitVec 32 := Scalar.muli v3258 c256_i32_1870
  let c154_i32 : BitVec 32 := 154#32
  let v3271 : BitVec 32 := Scalar.addi v3270 c154_i32
  let v3272 : Index := Scalar.indexCast v3271
  ![v3272.toNat]
def k0_off624 (i : grid0.Coords) : Fin 1 → Nat :=
  let arg0 : BitVec 32 := BitVec.ofNat 32 (i 0).val
  let c1_i32_1863 : BitVec 32 := 1#32
  let v3259 : BitVec 32 := Scalar.addi arg0 c1_i32_1863
  let c2_i32_1864 : BitVec 32 := 2#32
  let c0_i32_1865 : BitVec 32 := 0#32
  let v3260 : BitVec 1 := Scalar.cmpi .eq c2_i32_1864 c0_i32_1865
  let c1_i32_1866 : BitVec 32 := 1#32
  let v3261 : BitVec 32 := Scalar.select v3260 c1_i32_1866 c2_i32_1864
  let v3262 : BitVec 32 := Scalar.remsi v3259 v3261
  let c0_i32_1868 : BitVec 32 := 0#32
  let v3264 : BitVec 1 := Scalar.cmpi .slt v3262 c0_i32_1868
  let c0_i32_1869 : BitVec 32 := 0#32
  let v3265 : BitVec 1 := Scalar.cmpi .slt v3261 c0_i32_1869
  let v3266 : BitVec 1 := Scalar.xori v3264 v3265
  let c0_i32_1867 : BitVec 32 := 0#32
  let v3263 : BitVec 1 := Scalar.cmpi .ne v3262 c0_i32_1867
  let v3267 : BitVec 1 := Scalar.andi v3266 v3263
  let v3268 : BitVec 32 := Scalar.addi v3262 v3261
  let v3269 : BitVec 32 := Scalar.select v3267 v3268 v3262
  ![v3269.toNat]
def k0_off625 (i : grid0.Coords) : Fin 3 → Nat :=
  let arg0 : BitVec 32 := BitVec.ofNat 32 (i 0).val
  let c1_i32_1863 : BitVec 32 := 1#32
  let v3259 : BitVec 32 := Scalar.addi arg0 c1_i32_1863
  let c2_i32_1864 : BitVec 32 := 2#32
  let c0_i32_1865 : BitVec 32 := 0#32
  let v3260 : BitVec 1 := Scalar.cmpi .eq c2_i32_1864 c0_i32_1865
  let c1_i32_1866 : BitVec 32 := 1#32
  let v3261 : BitVec 32 := Scalar.select v3260 c1_i32_1866 c2_i32_1864
  let v3262 : BitVec 32 := Scalar.remsi v3259 v3261
  let c0_i32_1868 : BitVec 32 := 0#32
  let v3264 : BitVec 1 := Scalar.cmpi .slt v3262 c0_i32_1868
  let c0_i32_1869 : BitVec 32 := 0#32
  let v3265 : BitVec 1 := Scalar.cmpi .slt v3261 c0_i32_1869
  let v3266 : BitVec 1 := Scalar.xori v3264 v3265
  let c0_i32_1867 : BitVec 32 := 0#32
  let v3263 : BitVec 1 := Scalar.cmpi .ne v3262 c0_i32_1867
  let v3267 : BitVec 1 := Scalar.andi v3266 v3263
  let v3268 : BitVec 32 := Scalar.addi v3262 v3261
  let v3269 : BitVec 32 := Scalar.select v3267 v3268 v3262
  let c154_i32_1871 : BitVec 32 := 154#32
  let c0_i32_1872 : BitVec 32 := 0#32
  ![v3269.toNat, 154, 0]
def k0_off626 (v3273 : BitVec 32) : Fin 2 → Nat :=
  let c0_i32_1873 : BitVec 32 := 0#32
  ![v3273.toNat, 0]

def k0_chk157 (i : grid0.Coords) (v0 : BitVec 32) (v3273 : BitVec 32) : Prop :=
  (∀ (k0_h2 : k0_cond2 i v0 = 1#1), ∀ a, (k0_off626 v3273) a + S1x4096.size a ≤ S16896x4096.size a)
theorem k0_off626_inb : ∀ (i : grid0.Coords) (v0 : BitVec 32) (v3273 : BitVec 32) (k0_hw157 : k0_chk157 i v0 v3273), ∀ (k0_h2 : k0_cond2 i v0 = 1#1), ∀ a, (k0_off626 v3273) a + S1x4096.size a ≤ S16896x4096.size a := fun i v0 v3273 k0_hw157 k0_h2 => k0_hw157 k0_h2

def k0_off627 (i : grid0.Coords) : Fin 1 → Nat :=
  let arg0 : BitVec 32 := BitVec.ofNat 32 (i 0).val
  let c1_i32_1874 : BitVec 32 := 1#32
  let v3279 : BitVec 32 := Scalar.addi arg0 c1_i32_1874
  let c256_i32_1882 : BitVec 32 := 256#32
  let v3291 : BitVec 32 := Scalar.muli v3279 c256_i32_1882
  let c155_i32 : BitVec 32 := 155#32
  let v3292 : BitVec 32 := Scalar.addi v3291 c155_i32
  let v3293 : Index := Scalar.indexCast v3292
  ![v3293.toNat]
def k0_off628 (i : grid0.Coords) : Fin 1 → Nat :=
  let arg0 : BitVec 32 := BitVec.ofNat 32 (i 0).val
  let c1_i32_1875 : BitVec 32 := 1#32
  let v3280 : BitVec 32 := Scalar.addi arg0 c1_i32_1875
  let c2_i32_1876 : BitVec 32 := 2#32
  let c0_i32_1877 : BitVec 32 := 0#32
  let v3281 : BitVec 1 := Scalar.cmpi .eq c2_i32_1876 c0_i32_1877
  let c1_i32_1878 : BitVec 32 := 1#32
  let v3282 : BitVec 32 := Scalar.select v3281 c1_i32_1878 c2_i32_1876
  let v3283 : BitVec 32 := Scalar.remsi v3280 v3282
  let c0_i32_1880 : BitVec 32 := 0#32
  let v3285 : BitVec 1 := Scalar.cmpi .slt v3283 c0_i32_1880
  let c0_i32_1881 : BitVec 32 := 0#32
  let v3286 : BitVec 1 := Scalar.cmpi .slt v3282 c0_i32_1881
  let v3287 : BitVec 1 := Scalar.xori v3285 v3286
  let c0_i32_1879 : BitVec 32 := 0#32
  let v3284 : BitVec 1 := Scalar.cmpi .ne v3283 c0_i32_1879
  let v3288 : BitVec 1 := Scalar.andi v3287 v3284
  let v3289 : BitVec 32 := Scalar.addi v3283 v3282
  let v3290 : BitVec 32 := Scalar.select v3288 v3289 v3283
  ![v3290.toNat]
def k0_off629 (i : grid0.Coords) : Fin 3 → Nat :=
  let arg0 : BitVec 32 := BitVec.ofNat 32 (i 0).val
  let c1_i32_1875 : BitVec 32 := 1#32
  let v3280 : BitVec 32 := Scalar.addi arg0 c1_i32_1875
  let c2_i32_1876 : BitVec 32 := 2#32
  let c0_i32_1877 : BitVec 32 := 0#32
  let v3281 : BitVec 1 := Scalar.cmpi .eq c2_i32_1876 c0_i32_1877
  let c1_i32_1878 : BitVec 32 := 1#32
  let v3282 : BitVec 32 := Scalar.select v3281 c1_i32_1878 c2_i32_1876
  let v3283 : BitVec 32 := Scalar.remsi v3280 v3282
  let c0_i32_1880 : BitVec 32 := 0#32
  let v3285 : BitVec 1 := Scalar.cmpi .slt v3283 c0_i32_1880
  let c0_i32_1881 : BitVec 32 := 0#32
  let v3286 : BitVec 1 := Scalar.cmpi .slt v3282 c0_i32_1881
  let v3287 : BitVec 1 := Scalar.xori v3285 v3286
  let c0_i32_1879 : BitVec 32 := 0#32
  let v3284 : BitVec 1 := Scalar.cmpi .ne v3283 c0_i32_1879
  let v3288 : BitVec 1 := Scalar.andi v3287 v3284
  let v3289 : BitVec 32 := Scalar.addi v3283 v3282
  let v3290 : BitVec 32 := Scalar.select v3288 v3289 v3283
  let c155_i32_1883 : BitVec 32 := 155#32
  let c0_i32_1884 : BitVec 32 := 0#32
  ![v3290.toNat, 155, 0]
def k0_off630 (v3294 : BitVec 32) : Fin 2 → Nat :=
  let c0_i32_1885 : BitVec 32 := 0#32
  ![v3294.toNat, 0]

def k0_chk158 (i : grid0.Coords) (v0 : BitVec 32) (v3294 : BitVec 32) : Prop :=
  (∀ (k0_h2 : k0_cond2 i v0 = 1#1), ∀ a, (k0_off630 v3294) a + S1x4096.size a ≤ S16896x4096.size a)
theorem k0_off630_inb : ∀ (i : grid0.Coords) (v0 : BitVec 32) (v3294 : BitVec 32) (k0_hw158 : k0_chk158 i v0 v3294), ∀ (k0_h2 : k0_cond2 i v0 = 1#1), ∀ a, (k0_off630 v3294) a + S1x4096.size a ≤ S16896x4096.size a := fun i v0 v3294 k0_hw158 k0_h2 => k0_hw158 k0_h2

def k0_off631 (i : grid0.Coords) : Fin 1 → Nat :=
  let arg0 : BitVec 32 := BitVec.ofNat 32 (i 0).val
  let c1_i32_1886 : BitVec 32 := 1#32
  let v3300 : BitVec 32 := Scalar.addi arg0 c1_i32_1886
  let c256_i32_1894 : BitVec 32 := 256#32
  let v3312 : BitVec 32 := Scalar.muli v3300 c256_i32_1894
  let c156_i32 : BitVec 32 := 156#32
  let v3313 : BitVec 32 := Scalar.addi v3312 c156_i32
  let v3314 : Index := Scalar.indexCast v3313
  ![v3314.toNat]
def k0_off632 (i : grid0.Coords) : Fin 1 → Nat :=
  let arg0 : BitVec 32 := BitVec.ofNat 32 (i 0).val
  let c1_i32_1887 : BitVec 32 := 1#32
  let v3301 : BitVec 32 := Scalar.addi arg0 c1_i32_1887
  let c2_i32_1888 : BitVec 32 := 2#32
  let c0_i32_1889 : BitVec 32 := 0#32
  let v3302 : BitVec 1 := Scalar.cmpi .eq c2_i32_1888 c0_i32_1889
  let c1_i32_1890 : BitVec 32 := 1#32
  let v3303 : BitVec 32 := Scalar.select v3302 c1_i32_1890 c2_i32_1888
  let v3304 : BitVec 32 := Scalar.remsi v3301 v3303
  let c0_i32_1892 : BitVec 32 := 0#32
  let v3306 : BitVec 1 := Scalar.cmpi .slt v3304 c0_i32_1892
  let c0_i32_1893 : BitVec 32 := 0#32
  let v3307 : BitVec 1 := Scalar.cmpi .slt v3303 c0_i32_1893
  let v3308 : BitVec 1 := Scalar.xori v3306 v3307
  let c0_i32_1891 : BitVec 32 := 0#32
  let v3305 : BitVec 1 := Scalar.cmpi .ne v3304 c0_i32_1891
  let v3309 : BitVec 1 := Scalar.andi v3308 v3305
  let v3310 : BitVec 32 := Scalar.addi v3304 v3303
  let v3311 : BitVec 32 := Scalar.select v3309 v3310 v3304
  ![v3311.toNat]
def k0_off633 (i : grid0.Coords) : Fin 3 → Nat :=
  let arg0 : BitVec 32 := BitVec.ofNat 32 (i 0).val
  let c1_i32_1887 : BitVec 32 := 1#32
  let v3301 : BitVec 32 := Scalar.addi arg0 c1_i32_1887
  let c2_i32_1888 : BitVec 32 := 2#32
  let c0_i32_1889 : BitVec 32 := 0#32
  let v3302 : BitVec 1 := Scalar.cmpi .eq c2_i32_1888 c0_i32_1889
  let c1_i32_1890 : BitVec 32 := 1#32
  let v3303 : BitVec 32 := Scalar.select v3302 c1_i32_1890 c2_i32_1888
  let v3304 : BitVec 32 := Scalar.remsi v3301 v3303
  let c0_i32_1892 : BitVec 32 := 0#32
  let v3306 : BitVec 1 := Scalar.cmpi .slt v3304 c0_i32_1892
  let c0_i32_1893 : BitVec 32 := 0#32
  let v3307 : BitVec 1 := Scalar.cmpi .slt v3303 c0_i32_1893
  let v3308 : BitVec 1 := Scalar.xori v3306 v3307
  let c0_i32_1891 : BitVec 32 := 0#32
  let v3305 : BitVec 1 := Scalar.cmpi .ne v3304 c0_i32_1891
  let v3309 : BitVec 1 := Scalar.andi v3308 v3305
  let v3310 : BitVec 32 := Scalar.addi v3304 v3303
  let v3311 : BitVec 32 := Scalar.select v3309 v3310 v3304
  let c156_i32_1895 : BitVec 32 := 156#32
  let c0_i32_1896 : BitVec 32 := 0#32
  ![v3311.toNat, 156, 0]
def k0_off634 (v3315 : BitVec 32) : Fin 2 → Nat :=
  let c0_i32_1897 : BitVec 32 := 0#32
  ![v3315.toNat, 0]

def k0_chk159 (i : grid0.Coords) (v0 : BitVec 32) (v3315 : BitVec 32) : Prop :=
  (∀ (k0_h2 : k0_cond2 i v0 = 1#1), ∀ a, (k0_off634 v3315) a + S1x4096.size a ≤ S16896x4096.size a)
theorem k0_off634_inb : ∀ (i : grid0.Coords) (v0 : BitVec 32) (v3315 : BitVec 32) (k0_hw159 : k0_chk159 i v0 v3315), ∀ (k0_h2 : k0_cond2 i v0 = 1#1), ∀ a, (k0_off634 v3315) a + S1x4096.size a ≤ S16896x4096.size a := fun i v0 v3315 k0_hw159 k0_h2 => k0_hw159 k0_h2

def k0_off635 (i : grid0.Coords) : Fin 1 → Nat :=
  let arg0 : BitVec 32 := BitVec.ofNat 32 (i 0).val
  let c1_i32_1898 : BitVec 32 := 1#32
  let v3321 : BitVec 32 := Scalar.addi arg0 c1_i32_1898
  let c256_i32_1906 : BitVec 32 := 256#32
  let v3333 : BitVec 32 := Scalar.muli v3321 c256_i32_1906
  let c157_i32 : BitVec 32 := 157#32
  let v3334 : BitVec 32 := Scalar.addi v3333 c157_i32
  let v3335 : Index := Scalar.indexCast v3334
  ![v3335.toNat]
def k0_off636 (i : grid0.Coords) : Fin 1 → Nat :=
  let arg0 : BitVec 32 := BitVec.ofNat 32 (i 0).val
  let c1_i32_1899 : BitVec 32 := 1#32
  let v3322 : BitVec 32 := Scalar.addi arg0 c1_i32_1899
  let c2_i32_1900 : BitVec 32 := 2#32
  let c0_i32_1901 : BitVec 32 := 0#32
  let v3323 : BitVec 1 := Scalar.cmpi .eq c2_i32_1900 c0_i32_1901
  let c1_i32_1902 : BitVec 32 := 1#32
  let v3324 : BitVec 32 := Scalar.select v3323 c1_i32_1902 c2_i32_1900
  let v3325 : BitVec 32 := Scalar.remsi v3322 v3324
  let c0_i32_1904 : BitVec 32 := 0#32
  let v3327 : BitVec 1 := Scalar.cmpi .slt v3325 c0_i32_1904
  let c0_i32_1905 : BitVec 32 := 0#32
  let v3328 : BitVec 1 := Scalar.cmpi .slt v3324 c0_i32_1905
  let v3329 : BitVec 1 := Scalar.xori v3327 v3328
  let c0_i32_1903 : BitVec 32 := 0#32
  let v3326 : BitVec 1 := Scalar.cmpi .ne v3325 c0_i32_1903
  let v3330 : BitVec 1 := Scalar.andi v3329 v3326
  let v3331 : BitVec 32 := Scalar.addi v3325 v3324
  let v3332 : BitVec 32 := Scalar.select v3330 v3331 v3325
  ![v3332.toNat]
def k0_off637 (i : grid0.Coords) : Fin 3 → Nat :=
  let arg0 : BitVec 32 := BitVec.ofNat 32 (i 0).val
  let c1_i32_1899 : BitVec 32 := 1#32
  let v3322 : BitVec 32 := Scalar.addi arg0 c1_i32_1899
  let c2_i32_1900 : BitVec 32 := 2#32
  let c0_i32_1901 : BitVec 32 := 0#32
  let v3323 : BitVec 1 := Scalar.cmpi .eq c2_i32_1900 c0_i32_1901
  let c1_i32_1902 : BitVec 32 := 1#32
  let v3324 : BitVec 32 := Scalar.select v3323 c1_i32_1902 c2_i32_1900
  let v3325 : BitVec 32 := Scalar.remsi v3322 v3324
  let c0_i32_1904 : BitVec 32 := 0#32
  let v3327 : BitVec 1 := Scalar.cmpi .slt v3325 c0_i32_1904
  let c0_i32_1905 : BitVec 32 := 0#32
  let v3328 : BitVec 1 := Scalar.cmpi .slt v3324 c0_i32_1905
  let v3329 : BitVec 1 := Scalar.xori v3327 v3328
  let c0_i32_1903 : BitVec 32 := 0#32
  let v3326 : BitVec 1 := Scalar.cmpi .ne v3325 c0_i32_1903
  let v3330 : BitVec 1 := Scalar.andi v3329 v3326
  let v3331 : BitVec 32 := Scalar.addi v3325 v3324
  let v3332 : BitVec 32 := Scalar.select v3330 v3331 v3325
  let c157_i32_1907 : BitVec 32 := 157#32
  let c0_i32_1908 : BitVec 32 := 0#32
  ![v3332.toNat, 157, 0]
def k0_off638 (v3336 : BitVec 32) : Fin 2 → Nat :=
  let c0_i32_1909 : BitVec 32 := 0#32
  ![v3336.toNat, 0]

def k0_chk160 (i : grid0.Coords) (v0 : BitVec 32) (v3336 : BitVec 32) : Prop :=
  (∀ (k0_h2 : k0_cond2 i v0 = 1#1), ∀ a, (k0_off638 v3336) a + S1x4096.size a ≤ S16896x4096.size a)
theorem k0_off638_inb : ∀ (i : grid0.Coords) (v0 : BitVec 32) (v3336 : BitVec 32) (k0_hw160 : k0_chk160 i v0 v3336), ∀ (k0_h2 : k0_cond2 i v0 = 1#1), ∀ a, (k0_off638 v3336) a + S1x4096.size a ≤ S16896x4096.size a := fun i v0 v3336 k0_hw160 k0_h2 => k0_hw160 k0_h2

def k0_off639 (i : grid0.Coords) : Fin 1 → Nat :=
  let arg0 : BitVec 32 := BitVec.ofNat 32 (i 0).val
  let c1_i32_1910 : BitVec 32 := 1#32
  let v3342 : BitVec 32 := Scalar.addi arg0 c1_i32_1910
  let c256_i32_1918 : BitVec 32 := 256#32
  let v3354 : BitVec 32 := Scalar.muli v3342 c256_i32_1918
  let c158_i32 : BitVec 32 := 158#32
  let v3355 : BitVec 32 := Scalar.addi v3354 c158_i32
  let v3356 : Index := Scalar.indexCast v3355
  ![v3356.toNat]
def k0_off640 (i : grid0.Coords) : Fin 1 → Nat :=
  let arg0 : BitVec 32 := BitVec.ofNat 32 (i 0).val
  let c1_i32_1911 : BitVec 32 := 1#32
  let v3343 : BitVec 32 := Scalar.addi arg0 c1_i32_1911
  let c2_i32_1912 : BitVec 32 := 2#32
  let c0_i32_1913 : BitVec 32 := 0#32
  let v3344 : BitVec 1 := Scalar.cmpi .eq c2_i32_1912 c0_i32_1913
  let c1_i32_1914 : BitVec 32 := 1#32
  let v3345 : BitVec 32 := Scalar.select v3344 c1_i32_1914 c2_i32_1912
  let v3346 : BitVec 32 := Scalar.remsi v3343 v3345
  let c0_i32_1916 : BitVec 32 := 0#32
  let v3348 : BitVec 1 := Scalar.cmpi .slt v3346 c0_i32_1916
  let c0_i32_1917 : BitVec 32 := 0#32
  let v3349 : BitVec 1 := Scalar.cmpi .slt v3345 c0_i32_1917
  let v3350 : BitVec 1 := Scalar.xori v3348 v3349
  let c0_i32_1915 : BitVec 32 := 0#32
  let v3347 : BitVec 1 := Scalar.cmpi .ne v3346 c0_i32_1915
  let v3351 : BitVec 1 := Scalar.andi v3350 v3347
  let v3352 : BitVec 32 := Scalar.addi v3346 v3345
  let v3353 : BitVec 32 := Scalar.select v3351 v3352 v3346
  ![v3353.toNat]
def k0_off641 (i : grid0.Coords) : Fin 3 → Nat :=
  let arg0 : BitVec 32 := BitVec.ofNat 32 (i 0).val
  let c1_i32_1911 : BitVec 32 := 1#32
  let v3343 : BitVec 32 := Scalar.addi arg0 c1_i32_1911
  let c2_i32_1912 : BitVec 32 := 2#32
  let c0_i32_1913 : BitVec 32 := 0#32
  let v3344 : BitVec 1 := Scalar.cmpi .eq c2_i32_1912 c0_i32_1913
  let c1_i32_1914 : BitVec 32 := 1#32
  let v3345 : BitVec 32 := Scalar.select v3344 c1_i32_1914 c2_i32_1912
  let v3346 : BitVec 32 := Scalar.remsi v3343 v3345
  let c0_i32_1916 : BitVec 32 := 0#32
  let v3348 : BitVec 1 := Scalar.cmpi .slt v3346 c0_i32_1916
  let c0_i32_1917 : BitVec 32 := 0#32
  let v3349 : BitVec 1 := Scalar.cmpi .slt v3345 c0_i32_1917
  let v3350 : BitVec 1 := Scalar.xori v3348 v3349
  let c0_i32_1915 : BitVec 32 := 0#32
  let v3347 : BitVec 1 := Scalar.cmpi .ne v3346 c0_i32_1915
  let v3351 : BitVec 1 := Scalar.andi v3350 v3347
  let v3352 : BitVec 32 := Scalar.addi v3346 v3345
  let v3353 : BitVec 32 := Scalar.select v3351 v3352 v3346
  let c158_i32_1919 : BitVec 32 := 158#32
  let c0_i32_1920 : BitVec 32 := 0#32
  ![v3353.toNat, 158, 0]
def k0_off642 (v3357 : BitVec 32) : Fin 2 → Nat :=
  let c0_i32_1921 : BitVec 32 := 0#32
  ![v3357.toNat, 0]

def k0_chk161 (i : grid0.Coords) (v0 : BitVec 32) (v3357 : BitVec 32) : Prop :=
  (∀ (k0_h2 : k0_cond2 i v0 = 1#1), ∀ a, (k0_off642 v3357) a + S1x4096.size a ≤ S16896x4096.size a)
theorem k0_off642_inb : ∀ (i : grid0.Coords) (v0 : BitVec 32) (v3357 : BitVec 32) (k0_hw161 : k0_chk161 i v0 v3357), ∀ (k0_h2 : k0_cond2 i v0 = 1#1), ∀ a, (k0_off642 v3357) a + S1x4096.size a ≤ S16896x4096.size a := fun i v0 v3357 k0_hw161 k0_h2 => k0_hw161 k0_h2

def k0_off643 (i : grid0.Coords) : Fin 1 → Nat :=
  let arg0 : BitVec 32 := BitVec.ofNat 32 (i 0).val
  let c1_i32_1922 : BitVec 32 := 1#32
  let v3363 : BitVec 32 := Scalar.addi arg0 c1_i32_1922
  let c256_i32_1930 : BitVec 32 := 256#32
  let v3375 : BitVec 32 := Scalar.muli v3363 c256_i32_1930
  let c159_i32 : BitVec 32 := 159#32
  let v3376 : BitVec 32 := Scalar.addi v3375 c159_i32
  let v3377 : Index := Scalar.indexCast v3376
  ![v3377.toNat]
def k0_off644 (i : grid0.Coords) : Fin 1 → Nat :=
  let arg0 : BitVec 32 := BitVec.ofNat 32 (i 0).val
  let c1_i32_1923 : BitVec 32 := 1#32
  let v3364 : BitVec 32 := Scalar.addi arg0 c1_i32_1923
  let c2_i32_1924 : BitVec 32 := 2#32
  let c0_i32_1925 : BitVec 32 := 0#32
  let v3365 : BitVec 1 := Scalar.cmpi .eq c2_i32_1924 c0_i32_1925
  let c1_i32_1926 : BitVec 32 := 1#32
  let v3366 : BitVec 32 := Scalar.select v3365 c1_i32_1926 c2_i32_1924
  let v3367 : BitVec 32 := Scalar.remsi v3364 v3366
  let c0_i32_1928 : BitVec 32 := 0#32
  let v3369 : BitVec 1 := Scalar.cmpi .slt v3367 c0_i32_1928
  let c0_i32_1929 : BitVec 32 := 0#32
  let v3370 : BitVec 1 := Scalar.cmpi .slt v3366 c0_i32_1929
  let v3371 : BitVec 1 := Scalar.xori v3369 v3370
  let c0_i32_1927 : BitVec 32 := 0#32
  let v3368 : BitVec 1 := Scalar.cmpi .ne v3367 c0_i32_1927
  let v3372 : BitVec 1 := Scalar.andi v3371 v3368
  let v3373 : BitVec 32 := Scalar.addi v3367 v3366
  let v3374 : BitVec 32 := Scalar.select v3372 v3373 v3367
  ![v3374.toNat]
def k0_off645 (i : grid0.Coords) : Fin 3 → Nat :=
  let arg0 : BitVec 32 := BitVec.ofNat 32 (i 0).val
  let c1_i32_1923 : BitVec 32 := 1#32
  let v3364 : BitVec 32 := Scalar.addi arg0 c1_i32_1923
  let c2_i32_1924 : BitVec 32 := 2#32
  let c0_i32_1925 : BitVec 32 := 0#32
  let v3365 : BitVec 1 := Scalar.cmpi .eq c2_i32_1924 c0_i32_1925
  let c1_i32_1926 : BitVec 32 := 1#32
  let v3366 : BitVec 32 := Scalar.select v3365 c1_i32_1926 c2_i32_1924
  let v3367 : BitVec 32 := Scalar.remsi v3364 v3366
  let c0_i32_1928 : BitVec 32 := 0#32
  let v3369 : BitVec 1 := Scalar.cmpi .slt v3367 c0_i32_1928
  let c0_i32_1929 : BitVec 32 := 0#32
  let v3370 : BitVec 1 := Scalar.cmpi .slt v3366 c0_i32_1929
  let v3371 : BitVec 1 := Scalar.xori v3369 v3370
  let c0_i32_1927 : BitVec 32 := 0#32
  let v3368 : BitVec 1 := Scalar.cmpi .ne v3367 c0_i32_1927
  let v3372 : BitVec 1 := Scalar.andi v3371 v3368
  let v3373 : BitVec 32 := Scalar.addi v3367 v3366
  let v3374 : BitVec 32 := Scalar.select v3372 v3373 v3367
  let c159_i32_1931 : BitVec 32 := 159#32
  let c0_i32_1932 : BitVec 32 := 0#32
  ![v3374.toNat, 159, 0]
def k0_off646 (v3378 : BitVec 32) : Fin 2 → Nat :=
  let c0_i32_1933 : BitVec 32 := 0#32
  ![v3378.toNat, 0]

def k0_chk162 (i : grid0.Coords) (v0 : BitVec 32) (v3378 : BitVec 32) : Prop :=
  (∀ (k0_h2 : k0_cond2 i v0 = 1#1), ∀ a, (k0_off646 v3378) a + S1x4096.size a ≤ S16896x4096.size a)
theorem k0_off646_inb : ∀ (i : grid0.Coords) (v0 : BitVec 32) (v3378 : BitVec 32) (k0_hw162 : k0_chk162 i v0 v3378), ∀ (k0_h2 : k0_cond2 i v0 = 1#1), ∀ a, (k0_off646 v3378) a + S1x4096.size a ≤ S16896x4096.size a := fun i v0 v3378 k0_hw162 k0_h2 => k0_hw162 k0_h2

def k0_off647 (i : grid0.Coords) : Fin 1 → Nat :=
  let arg0 : BitVec 32 := BitVec.ofNat 32 (i 0).val
  let c1_i32_1934 : BitVec 32 := 1#32
  let v3384 : BitVec 32 := Scalar.addi arg0 c1_i32_1934
  let c256_i32_1942 : BitVec 32 := 256#32
  let v3396 : BitVec 32 := Scalar.muli v3384 c256_i32_1942
  let c160_i32 : BitVec 32 := 160#32
  let v3397 : BitVec 32 := Scalar.addi v3396 c160_i32
  let v3398 : Index := Scalar.indexCast v3397
  ![v3398.toNat]
def k0_off648 (i : grid0.Coords) : Fin 1 → Nat :=
  let arg0 : BitVec 32 := BitVec.ofNat 32 (i 0).val
  let c1_i32_1935 : BitVec 32 := 1#32
  let v3385 : BitVec 32 := Scalar.addi arg0 c1_i32_1935
  let c2_i32_1936 : BitVec 32 := 2#32
  let c0_i32_1937 : BitVec 32 := 0#32
  let v3386 : BitVec 1 := Scalar.cmpi .eq c2_i32_1936 c0_i32_1937
  let c1_i32_1938 : BitVec 32 := 1#32
  let v3387 : BitVec 32 := Scalar.select v3386 c1_i32_1938 c2_i32_1936
  let v3388 : BitVec 32 := Scalar.remsi v3385 v3387
  let c0_i32_1940 : BitVec 32 := 0#32
  let v3390 : BitVec 1 := Scalar.cmpi .slt v3388 c0_i32_1940
  let c0_i32_1941 : BitVec 32 := 0#32
  let v3391 : BitVec 1 := Scalar.cmpi .slt v3387 c0_i32_1941
  let v3392 : BitVec 1 := Scalar.xori v3390 v3391
  let c0_i32_1939 : BitVec 32 := 0#32
  let v3389 : BitVec 1 := Scalar.cmpi .ne v3388 c0_i32_1939
  let v3393 : BitVec 1 := Scalar.andi v3392 v3389
  let v3394 : BitVec 32 := Scalar.addi v3388 v3387
  let v3395 : BitVec 32 := Scalar.select v3393 v3394 v3388
  ![v3395.toNat]
def k0_off649 (i : grid0.Coords) : Fin 3 → Nat :=
  let arg0 : BitVec 32 := BitVec.ofNat 32 (i 0).val
  let c1_i32_1935 : BitVec 32 := 1#32
  let v3385 : BitVec 32 := Scalar.addi arg0 c1_i32_1935
  let c2_i32_1936 : BitVec 32 := 2#32
  let c0_i32_1937 : BitVec 32 := 0#32
  let v3386 : BitVec 1 := Scalar.cmpi .eq c2_i32_1936 c0_i32_1937
  let c1_i32_1938 : BitVec 32 := 1#32
  let v3387 : BitVec 32 := Scalar.select v3386 c1_i32_1938 c2_i32_1936
  let v3388 : BitVec 32 := Scalar.remsi v3385 v3387
  let c0_i32_1940 : BitVec 32 := 0#32
  let v3390 : BitVec 1 := Scalar.cmpi .slt v3388 c0_i32_1940
  let c0_i32_1941 : BitVec 32 := 0#32
  let v3391 : BitVec 1 := Scalar.cmpi .slt v3387 c0_i32_1941
  let v3392 : BitVec 1 := Scalar.xori v3390 v3391
  let c0_i32_1939 : BitVec 32 := 0#32
  let v3389 : BitVec 1 := Scalar.cmpi .ne v3388 c0_i32_1939
  let v3393 : BitVec 1 := Scalar.andi v3392 v3389
  let v3394 : BitVec 32 := Scalar.addi v3388 v3387
  let v3395 : BitVec 32 := Scalar.select v3393 v3394 v3388
  let c160_i32_1943 : BitVec 32 := 160#32
  let c0_i32_1944 : BitVec 32 := 0#32
  ![v3395.toNat, 160, 0]
def k0_off650 (v3399 : BitVec 32) : Fin 2 → Nat :=
  let c0_i32_1945 : BitVec 32 := 0#32
  ![v3399.toNat, 0]

def k0_chk163 (i : grid0.Coords) (v0 : BitVec 32) (v3399 : BitVec 32) : Prop :=
  (∀ (k0_h2 : k0_cond2 i v0 = 1#1), ∀ a, (k0_off650 v3399) a + S1x4096.size a ≤ S16896x4096.size a)
theorem k0_off650_inb : ∀ (i : grid0.Coords) (v0 : BitVec 32) (v3399 : BitVec 32) (k0_hw163 : k0_chk163 i v0 v3399), ∀ (k0_h2 : k0_cond2 i v0 = 1#1), ∀ a, (k0_off650 v3399) a + S1x4096.size a ≤ S16896x4096.size a := fun i v0 v3399 k0_hw163 k0_h2 => k0_hw163 k0_h2

def k0_off651 (i : grid0.Coords) : Fin 1 → Nat :=
  let arg0 : BitVec 32 := BitVec.ofNat 32 (i 0).val
  let c1_i32_1946 : BitVec 32 := 1#32
  let v3405 : BitVec 32 := Scalar.addi arg0 c1_i32_1946
  let c256_i32_1954 : BitVec 32 := 256#32
  let v3417 : BitVec 32 := Scalar.muli v3405 c256_i32_1954
  let c161_i32 : BitVec 32 := 161#32
  let v3418 : BitVec 32 := Scalar.addi v3417 c161_i32
  let v3419 : Index := Scalar.indexCast v3418
  ![v3419.toNat]
def k0_off652 (i : grid0.Coords) : Fin 1 → Nat :=
  let arg0 : BitVec 32 := BitVec.ofNat 32 (i 0).val
  let c1_i32_1947 : BitVec 32 := 1#32
  let v3406 : BitVec 32 := Scalar.addi arg0 c1_i32_1947
  let c2_i32_1948 : BitVec 32 := 2#32
  let c0_i32_1949 : BitVec 32 := 0#32
  let v3407 : BitVec 1 := Scalar.cmpi .eq c2_i32_1948 c0_i32_1949
  let c1_i32_1950 : BitVec 32 := 1#32
  let v3408 : BitVec 32 := Scalar.select v3407 c1_i32_1950 c2_i32_1948
  let v3409 : BitVec 32 := Scalar.remsi v3406 v3408
  let c0_i32_1952 : BitVec 32 := 0#32
  let v3411 : BitVec 1 := Scalar.cmpi .slt v3409 c0_i32_1952
  let c0_i32_1953 : BitVec 32 := 0#32
  let v3412 : BitVec 1 := Scalar.cmpi .slt v3408 c0_i32_1953
  let v3413 : BitVec 1 := Scalar.xori v3411 v3412
  let c0_i32_1951 : BitVec 32 := 0#32
  let v3410 : BitVec 1 := Scalar.cmpi .ne v3409 c0_i32_1951
  let v3414 : BitVec 1 := Scalar.andi v3413 v3410
  let v3415 : BitVec 32 := Scalar.addi v3409 v3408
  let v3416 : BitVec 32 := Scalar.select v3414 v3415 v3409
  ![v3416.toNat]
def k0_off653 (i : grid0.Coords) : Fin 3 → Nat :=
  let arg0 : BitVec 32 := BitVec.ofNat 32 (i 0).val
  let c1_i32_1947 : BitVec 32 := 1#32
  let v3406 : BitVec 32 := Scalar.addi arg0 c1_i32_1947
  let c2_i32_1948 : BitVec 32 := 2#32
  let c0_i32_1949 : BitVec 32 := 0#32
  let v3407 : BitVec 1 := Scalar.cmpi .eq c2_i32_1948 c0_i32_1949
  let c1_i32_1950 : BitVec 32 := 1#32
  let v3408 : BitVec 32 := Scalar.select v3407 c1_i32_1950 c2_i32_1948
  let v3409 : BitVec 32 := Scalar.remsi v3406 v3408
  let c0_i32_1952 : BitVec 32 := 0#32
  let v3411 : BitVec 1 := Scalar.cmpi .slt v3409 c0_i32_1952
  let c0_i32_1953 : BitVec 32 := 0#32
  let v3412 : BitVec 1 := Scalar.cmpi .slt v3408 c0_i32_1953
  let v3413 : BitVec 1 := Scalar.xori v3411 v3412
  let c0_i32_1951 : BitVec 32 := 0#32
  let v3410 : BitVec 1 := Scalar.cmpi .ne v3409 c0_i32_1951
  let v3414 : BitVec 1 := Scalar.andi v3413 v3410
  let v3415 : BitVec 32 := Scalar.addi v3409 v3408
  let v3416 : BitVec 32 := Scalar.select v3414 v3415 v3409
  let c161_i32_1955 : BitVec 32 := 161#32
  let c0_i32_1956 : BitVec 32 := 0#32
  ![v3416.toNat, 161, 0]
def k0_off654 (v3420 : BitVec 32) : Fin 2 → Nat :=
  let c0_i32_1957 : BitVec 32 := 0#32
  ![v3420.toNat, 0]

def k0_chk164 (i : grid0.Coords) (v0 : BitVec 32) (v3420 : BitVec 32) : Prop :=
  (∀ (k0_h2 : k0_cond2 i v0 = 1#1), ∀ a, (k0_off654 v3420) a + S1x4096.size a ≤ S16896x4096.size a)
theorem k0_off654_inb : ∀ (i : grid0.Coords) (v0 : BitVec 32) (v3420 : BitVec 32) (k0_hw164 : k0_chk164 i v0 v3420), ∀ (k0_h2 : k0_cond2 i v0 = 1#1), ∀ a, (k0_off654 v3420) a + S1x4096.size a ≤ S16896x4096.size a := fun i v0 v3420 k0_hw164 k0_h2 => k0_hw164 k0_h2

def k0_off655 (i : grid0.Coords) : Fin 1 → Nat :=
  let arg0 : BitVec 32 := BitVec.ofNat 32 (i 0).val
  let c1_i32_1958 : BitVec 32 := 1#32
  let v3426 : BitVec 32 := Scalar.addi arg0 c1_i32_1958
  let c256_i32_1966 : BitVec 32 := 256#32
  let v3438 : BitVec 32 := Scalar.muli v3426 c256_i32_1966
  let c162_i32 : BitVec 32 := 162#32
  let v3439 : BitVec 32 := Scalar.addi v3438 c162_i32
  let v3440 : Index := Scalar.indexCast v3439
  ![v3440.toNat]
def k0_off656 (i : grid0.Coords) : Fin 1 → Nat :=
  let arg0 : BitVec 32 := BitVec.ofNat 32 (i 0).val
  let c1_i32_1959 : BitVec 32 := 1#32
  let v3427 : BitVec 32 := Scalar.addi arg0 c1_i32_1959
  let c2_i32_1960 : BitVec 32 := 2#32
  let c0_i32_1961 : BitVec 32 := 0#32
  let v3428 : BitVec 1 := Scalar.cmpi .eq c2_i32_1960 c0_i32_1961
  let c1_i32_1962 : BitVec 32 := 1#32
  let v3429 : BitVec 32 := Scalar.select v3428 c1_i32_1962 c2_i32_1960
  let v3430 : BitVec 32 := Scalar.remsi v3427 v3429
  let c0_i32_1964 : BitVec 32 := 0#32
  let v3432 : BitVec 1 := Scalar.cmpi .slt v3430 c0_i32_1964
  let c0_i32_1965 : BitVec 32 := 0#32
  let v3433 : BitVec 1 := Scalar.cmpi .slt v3429 c0_i32_1965
  let v3434 : BitVec 1 := Scalar.xori v3432 v3433
  let c0_i32_1963 : BitVec 32 := 0#32
  let v3431 : BitVec 1 := Scalar.cmpi .ne v3430 c0_i32_1963
  let v3435 : BitVec 1 := Scalar.andi v3434 v3431
  let v3436 : BitVec 32 := Scalar.addi v3430 v3429
  let v3437 : BitVec 32 := Scalar.select v3435 v3436 v3430
  ![v3437.toNat]
def k0_off657 (i : grid0.Coords) : Fin 3 → Nat :=
  let arg0 : BitVec 32 := BitVec.ofNat 32 (i 0).val
  let c1_i32_1959 : BitVec 32 := 1#32
  let v3427 : BitVec 32 := Scalar.addi arg0 c1_i32_1959
  let c2_i32_1960 : BitVec 32 := 2#32
  let c0_i32_1961 : BitVec 32 := 0#32
  let v3428 : BitVec 1 := Scalar.cmpi .eq c2_i32_1960 c0_i32_1961
  let c1_i32_1962 : BitVec 32 := 1#32
  let v3429 : BitVec 32 := Scalar.select v3428 c1_i32_1962 c2_i32_1960
  let v3430 : BitVec 32 := Scalar.remsi v3427 v3429
  let c0_i32_1964 : BitVec 32 := 0#32
  let v3432 : BitVec 1 := Scalar.cmpi .slt v3430 c0_i32_1964
  let c0_i32_1965 : BitVec 32 := 0#32
  let v3433 : BitVec 1 := Scalar.cmpi .slt v3429 c0_i32_1965
  let v3434 : BitVec 1 := Scalar.xori v3432 v3433
  let c0_i32_1963 : BitVec 32 := 0#32
  let v3431 : BitVec 1 := Scalar.cmpi .ne v3430 c0_i32_1963
  let v3435 : BitVec 1 := Scalar.andi v3434 v3431
  let v3436 : BitVec 32 := Scalar.addi v3430 v3429
  let v3437 : BitVec 32 := Scalar.select v3435 v3436 v3430
  let c162_i32_1967 : BitVec 32 := 162#32
  let c0_i32_1968 : BitVec 32 := 0#32
  ![v3437.toNat, 162, 0]
def k0_off658 (v3441 : BitVec 32) : Fin 2 → Nat :=
  let c0_i32_1969 : BitVec 32 := 0#32
  ![v3441.toNat, 0]

def k0_chk165 (i : grid0.Coords) (v0 : BitVec 32) (v3441 : BitVec 32) : Prop :=
  (∀ (k0_h2 : k0_cond2 i v0 = 1#1), ∀ a, (k0_off658 v3441) a + S1x4096.size a ≤ S16896x4096.size a)
theorem k0_off658_inb : ∀ (i : grid0.Coords) (v0 : BitVec 32) (v3441 : BitVec 32) (k0_hw165 : k0_chk165 i v0 v3441), ∀ (k0_h2 : k0_cond2 i v0 = 1#1), ∀ a, (k0_off658 v3441) a + S1x4096.size a ≤ S16896x4096.size a := fun i v0 v3441 k0_hw165 k0_h2 => k0_hw165 k0_h2

def k0_off659 (i : grid0.Coords) : Fin 1 → Nat :=
  let arg0 : BitVec 32 := BitVec.ofNat 32 (i 0).val
  let c1_i32_1970 : BitVec 32 := 1#32
  let v3447 : BitVec 32 := Scalar.addi arg0 c1_i32_1970
  let c256_i32_1978 : BitVec 32 := 256#32
  let v3459 : BitVec 32 := Scalar.muli v3447 c256_i32_1978
  let c163_i32 : BitVec 32 := 163#32
  let v3460 : BitVec 32 := Scalar.addi v3459 c163_i32
  let v3461 : Index := Scalar.indexCast v3460
  ![v3461.toNat]
def k0_off660 (i : grid0.Coords) : Fin 1 → Nat :=
  let arg0 : BitVec 32 := BitVec.ofNat 32 (i 0).val
  let c1_i32_1971 : BitVec 32 := 1#32
  let v3448 : BitVec 32 := Scalar.addi arg0 c1_i32_1971
  let c2_i32_1972 : BitVec 32 := 2#32
  let c0_i32_1973 : BitVec 32 := 0#32
  let v3449 : BitVec 1 := Scalar.cmpi .eq c2_i32_1972 c0_i32_1973
  let c1_i32_1974 : BitVec 32 := 1#32
  let v3450 : BitVec 32 := Scalar.select v3449 c1_i32_1974 c2_i32_1972
  let v3451 : BitVec 32 := Scalar.remsi v3448 v3450
  let c0_i32_1976 : BitVec 32 := 0#32
  let v3453 : BitVec 1 := Scalar.cmpi .slt v3451 c0_i32_1976
  let c0_i32_1977 : BitVec 32 := 0#32
  let v3454 : BitVec 1 := Scalar.cmpi .slt v3450 c0_i32_1977
  let v3455 : BitVec 1 := Scalar.xori v3453 v3454
  let c0_i32_1975 : BitVec 32 := 0#32
  let v3452 : BitVec 1 := Scalar.cmpi .ne v3451 c0_i32_1975
  let v3456 : BitVec 1 := Scalar.andi v3455 v3452
  let v3457 : BitVec 32 := Scalar.addi v3451 v3450
  let v3458 : BitVec 32 := Scalar.select v3456 v3457 v3451
  ![v3458.toNat]
def k0_off661 (i : grid0.Coords) : Fin 3 → Nat :=
  let arg0 : BitVec 32 := BitVec.ofNat 32 (i 0).val
  let c1_i32_1971 : BitVec 32 := 1#32
  let v3448 : BitVec 32 := Scalar.addi arg0 c1_i32_1971
  let c2_i32_1972 : BitVec 32 := 2#32
  let c0_i32_1973 : BitVec 32 := 0#32
  let v3449 : BitVec 1 := Scalar.cmpi .eq c2_i32_1972 c0_i32_1973
  let c1_i32_1974 : BitVec 32 := 1#32
  let v3450 : BitVec 32 := Scalar.select v3449 c1_i32_1974 c2_i32_1972
  let v3451 : BitVec 32 := Scalar.remsi v3448 v3450
  let c0_i32_1976 : BitVec 32 := 0#32
  let v3453 : BitVec 1 := Scalar.cmpi .slt v3451 c0_i32_1976
  let c0_i32_1977 : BitVec 32 := 0#32
  let v3454 : BitVec 1 := Scalar.cmpi .slt v3450 c0_i32_1977
  let v3455 : BitVec 1 := Scalar.xori v3453 v3454
  let c0_i32_1975 : BitVec 32 := 0#32
  let v3452 : BitVec 1 := Scalar.cmpi .ne v3451 c0_i32_1975
  let v3456 : BitVec 1 := Scalar.andi v3455 v3452
  let v3457 : BitVec 32 := Scalar.addi v3451 v3450
  let v3458 : BitVec 32 := Scalar.select v3456 v3457 v3451
  let c163_i32_1979 : BitVec 32 := 163#32
  let c0_i32_1980 : BitVec 32 := 0#32
  ![v3458.toNat, 163, 0]
def k0_off662 (v3462 : BitVec 32) : Fin 2 → Nat :=
  let c0_i32_1981 : BitVec 32 := 0#32
  ![v3462.toNat, 0]

def k0_chk166 (i : grid0.Coords) (v0 : BitVec 32) (v3462 : BitVec 32) : Prop :=
  (∀ (k0_h2 : k0_cond2 i v0 = 1#1), ∀ a, (k0_off662 v3462) a + S1x4096.size a ≤ S16896x4096.size a)
theorem k0_off662_inb : ∀ (i : grid0.Coords) (v0 : BitVec 32) (v3462 : BitVec 32) (k0_hw166 : k0_chk166 i v0 v3462), ∀ (k0_h2 : k0_cond2 i v0 = 1#1), ∀ a, (k0_off662 v3462) a + S1x4096.size a ≤ S16896x4096.size a := fun i v0 v3462 k0_hw166 k0_h2 => k0_hw166 k0_h2

def k0_off663 (i : grid0.Coords) : Fin 1 → Nat :=
  let arg0 : BitVec 32 := BitVec.ofNat 32 (i 0).val
  let c1_i32_1982 : BitVec 32 := 1#32
  let v3468 : BitVec 32 := Scalar.addi arg0 c1_i32_1982
  let c256_i32_1990 : BitVec 32 := 256#32
  let v3480 : BitVec 32 := Scalar.muli v3468 c256_i32_1990
  let c164_i32 : BitVec 32 := 164#32
  let v3481 : BitVec 32 := Scalar.addi v3480 c164_i32
  let v3482 : Index := Scalar.indexCast v3481
  ![v3482.toNat]
def k0_off664 (i : grid0.Coords) : Fin 1 → Nat :=
  let arg0 : BitVec 32 := BitVec.ofNat 32 (i 0).val
  let c1_i32_1983 : BitVec 32 := 1#32
  let v3469 : BitVec 32 := Scalar.addi arg0 c1_i32_1983
  let c2_i32_1984 : BitVec 32 := 2#32
  let c0_i32_1985 : BitVec 32 := 0#32
  let v3470 : BitVec 1 := Scalar.cmpi .eq c2_i32_1984 c0_i32_1985
  let c1_i32_1986 : BitVec 32 := 1#32
  let v3471 : BitVec 32 := Scalar.select v3470 c1_i32_1986 c2_i32_1984
  let v3472 : BitVec 32 := Scalar.remsi v3469 v3471
  let c0_i32_1988 : BitVec 32 := 0#32
  let v3474 : BitVec 1 := Scalar.cmpi .slt v3472 c0_i32_1988
  let c0_i32_1989 : BitVec 32 := 0#32
  let v3475 : BitVec 1 := Scalar.cmpi .slt v3471 c0_i32_1989
  let v3476 : BitVec 1 := Scalar.xori v3474 v3475
  let c0_i32_1987 : BitVec 32 := 0#32
  let v3473 : BitVec 1 := Scalar.cmpi .ne v3472 c0_i32_1987
  let v3477 : BitVec 1 := Scalar.andi v3476 v3473
  let v3478 : BitVec 32 := Scalar.addi v3472 v3471
  let v3479 : BitVec 32 := Scalar.select v3477 v3478 v3472
  ![v3479.toNat]
def k0_off665 (i : grid0.Coords) : Fin 3 → Nat :=
  let arg0 : BitVec 32 := BitVec.ofNat 32 (i 0).val
  let c1_i32_1983 : BitVec 32 := 1#32
  let v3469 : BitVec 32 := Scalar.addi arg0 c1_i32_1983
  let c2_i32_1984 : BitVec 32 := 2#32
  let c0_i32_1985 : BitVec 32 := 0#32
  let v3470 : BitVec 1 := Scalar.cmpi .eq c2_i32_1984 c0_i32_1985
  let c1_i32_1986 : BitVec 32 := 1#32
  let v3471 : BitVec 32 := Scalar.select v3470 c1_i32_1986 c2_i32_1984
  let v3472 : BitVec 32 := Scalar.remsi v3469 v3471
  let c0_i32_1988 : BitVec 32 := 0#32
  let v3474 : BitVec 1 := Scalar.cmpi .slt v3472 c0_i32_1988
  let c0_i32_1989 : BitVec 32 := 0#32
  let v3475 : BitVec 1 := Scalar.cmpi .slt v3471 c0_i32_1989
  let v3476 : BitVec 1 := Scalar.xori v3474 v3475
  let c0_i32_1987 : BitVec 32 := 0#32
  let v3473 : BitVec 1 := Scalar.cmpi .ne v3472 c0_i32_1987
  let v3477 : BitVec 1 := Scalar.andi v3476 v3473
  let v3478 : BitVec 32 := Scalar.addi v3472 v3471
  let v3479 : BitVec 32 := Scalar.select v3477 v3478 v3472
  let c164_i32_1991 : BitVec 32 := 164#32
  let c0_i32_1992 : BitVec 32 := 0#32
  ![v3479.toNat, 164, 0]
def k0_off666 (v3483 : BitVec 32) : Fin 2 → Nat :=
  let c0_i32_1993 : BitVec 32 := 0#32
  ![v3483.toNat, 0]

def k0_chk167 (i : grid0.Coords) (v0 : BitVec 32) (v3483 : BitVec 32) : Prop :=
  (∀ (k0_h2 : k0_cond2 i v0 = 1#1), ∀ a, (k0_off666 v3483) a + S1x4096.size a ≤ S16896x4096.size a)
theorem k0_off666_inb : ∀ (i : grid0.Coords) (v0 : BitVec 32) (v3483 : BitVec 32) (k0_hw167 : k0_chk167 i v0 v3483), ∀ (k0_h2 : k0_cond2 i v0 = 1#1), ∀ a, (k0_off666 v3483) a + S1x4096.size a ≤ S16896x4096.size a := fun i v0 v3483 k0_hw167 k0_h2 => k0_hw167 k0_h2

def k0_off667 (i : grid0.Coords) : Fin 1 → Nat :=
  let arg0 : BitVec 32 := BitVec.ofNat 32 (i 0).val
  let c1_i32_1994 : BitVec 32 := 1#32
  let v3489 : BitVec 32 := Scalar.addi arg0 c1_i32_1994
  let c256_i32_2002 : BitVec 32 := 256#32
  let v3501 : BitVec 32 := Scalar.muli v3489 c256_i32_2002
  let c165_i32 : BitVec 32 := 165#32
  let v3502 : BitVec 32 := Scalar.addi v3501 c165_i32
  let v3503 : Index := Scalar.indexCast v3502
  ![v3503.toNat]
def k0_off668 (i : grid0.Coords) : Fin 1 → Nat :=
  let arg0 : BitVec 32 := BitVec.ofNat 32 (i 0).val
  let c1_i32_1995 : BitVec 32 := 1#32
  let v3490 : BitVec 32 := Scalar.addi arg0 c1_i32_1995
  let c2_i32_1996 : BitVec 32 := 2#32
  let c0_i32_1997 : BitVec 32 := 0#32
  let v3491 : BitVec 1 := Scalar.cmpi .eq c2_i32_1996 c0_i32_1997
  let c1_i32_1998 : BitVec 32 := 1#32
  let v3492 : BitVec 32 := Scalar.select v3491 c1_i32_1998 c2_i32_1996
  let v3493 : BitVec 32 := Scalar.remsi v3490 v3492
  let c0_i32_2000 : BitVec 32 := 0#32
  let v3495 : BitVec 1 := Scalar.cmpi .slt v3493 c0_i32_2000
  let c0_i32_2001 : BitVec 32 := 0#32
  let v3496 : BitVec 1 := Scalar.cmpi .slt v3492 c0_i32_2001
  let v3497 : BitVec 1 := Scalar.xori v3495 v3496
  let c0_i32_1999 : BitVec 32 := 0#32
  let v3494 : BitVec 1 := Scalar.cmpi .ne v3493 c0_i32_1999
  let v3498 : BitVec 1 := Scalar.andi v3497 v3494
  let v3499 : BitVec 32 := Scalar.addi v3493 v3492
  let v3500 : BitVec 32 := Scalar.select v3498 v3499 v3493
  ![v3500.toNat]
def k0_off669 (i : grid0.Coords) : Fin 3 → Nat :=
  let arg0 : BitVec 32 := BitVec.ofNat 32 (i 0).val
  let c1_i32_1995 : BitVec 32 := 1#32
  let v3490 : BitVec 32 := Scalar.addi arg0 c1_i32_1995
  let c2_i32_1996 : BitVec 32 := 2#32
  let c0_i32_1997 : BitVec 32 := 0#32
  let v3491 : BitVec 1 := Scalar.cmpi .eq c2_i32_1996 c0_i32_1997
  let c1_i32_1998 : BitVec 32 := 1#32
  let v3492 : BitVec 32 := Scalar.select v3491 c1_i32_1998 c2_i32_1996
  let v3493 : BitVec 32 := Scalar.remsi v3490 v3492
  let c0_i32_2000 : BitVec 32 := 0#32
  let v3495 : BitVec 1 := Scalar.cmpi .slt v3493 c0_i32_2000
  let c0_i32_2001 : BitVec 32 := 0#32
  let v3496 : BitVec 1 := Scalar.cmpi .slt v3492 c0_i32_2001
  let v3497 : BitVec 1 := Scalar.xori v3495 v3496
  let c0_i32_1999 : BitVec 32 := 0#32
  let v3494 : BitVec 1 := Scalar.cmpi .ne v3493 c0_i32_1999
  let v3498 : BitVec 1 := Scalar.andi v3497 v3494
  let v3499 : BitVec 32 := Scalar.addi v3493 v3492
  let v3500 : BitVec 32 := Scalar.select v3498 v3499 v3493
  let c165_i32_2003 : BitVec 32 := 165#32
  let c0_i32_2004 : BitVec 32 := 0#32
  ![v3500.toNat, 165, 0]
def k0_off670 (v3504 : BitVec 32) : Fin 2 → Nat :=
  let c0_i32_2005 : BitVec 32 := 0#32
  ![v3504.toNat, 0]

def k0_chk168 (i : grid0.Coords) (v0 : BitVec 32) (v3504 : BitVec 32) : Prop :=
  (∀ (k0_h2 : k0_cond2 i v0 = 1#1), ∀ a, (k0_off670 v3504) a + S1x4096.size a ≤ S16896x4096.size a)
theorem k0_off670_inb : ∀ (i : grid0.Coords) (v0 : BitVec 32) (v3504 : BitVec 32) (k0_hw168 : k0_chk168 i v0 v3504), ∀ (k0_h2 : k0_cond2 i v0 = 1#1), ∀ a, (k0_off670 v3504) a + S1x4096.size a ≤ S16896x4096.size a := fun i v0 v3504 k0_hw168 k0_h2 => k0_hw168 k0_h2

def k0_off671 (i : grid0.Coords) : Fin 1 → Nat :=
  let arg0 : BitVec 32 := BitVec.ofNat 32 (i 0).val
  let c1_i32_2006 : BitVec 32 := 1#32
  let v3510 : BitVec 32 := Scalar.addi arg0 c1_i32_2006
  let c256_i32_2014 : BitVec 32 := 256#32
  let v3522 : BitVec 32 := Scalar.muli v3510 c256_i32_2014
  let c166_i32 : BitVec 32 := 166#32
  let v3523 : BitVec 32 := Scalar.addi v3522 c166_i32
  let v3524 : Index := Scalar.indexCast v3523
  ![v3524.toNat]
def k0_off672 (i : grid0.Coords) : Fin 1 → Nat :=
  let arg0 : BitVec 32 := BitVec.ofNat 32 (i 0).val
  let c1_i32_2007 : BitVec 32 := 1#32
  let v3511 : BitVec 32 := Scalar.addi arg0 c1_i32_2007
  let c2_i32_2008 : BitVec 32 := 2#32
  let c0_i32_2009 : BitVec 32 := 0#32
  let v3512 : BitVec 1 := Scalar.cmpi .eq c2_i32_2008 c0_i32_2009
  let c1_i32_2010 : BitVec 32 := 1#32
  let v3513 : BitVec 32 := Scalar.select v3512 c1_i32_2010 c2_i32_2008
  let v3514 : BitVec 32 := Scalar.remsi v3511 v3513
  let c0_i32_2012 : BitVec 32 := 0#32
  let v3516 : BitVec 1 := Scalar.cmpi .slt v3514 c0_i32_2012
  let c0_i32_2013 : BitVec 32 := 0#32
  let v3517 : BitVec 1 := Scalar.cmpi .slt v3513 c0_i32_2013
  let v3518 : BitVec 1 := Scalar.xori v3516 v3517
  let c0_i32_2011 : BitVec 32 := 0#32
  let v3515 : BitVec 1 := Scalar.cmpi .ne v3514 c0_i32_2011
  let v3519 : BitVec 1 := Scalar.andi v3518 v3515
  let v3520 : BitVec 32 := Scalar.addi v3514 v3513
  let v3521 : BitVec 32 := Scalar.select v3519 v3520 v3514
  ![v3521.toNat]
def k0_off673 (i : grid0.Coords) : Fin 3 → Nat :=
  let arg0 : BitVec 32 := BitVec.ofNat 32 (i 0).val
  let c1_i32_2007 : BitVec 32 := 1#32
  let v3511 : BitVec 32 := Scalar.addi arg0 c1_i32_2007
  let c2_i32_2008 : BitVec 32 := 2#32
  let c0_i32_2009 : BitVec 32 := 0#32
  let v3512 : BitVec 1 := Scalar.cmpi .eq c2_i32_2008 c0_i32_2009
  let c1_i32_2010 : BitVec 32 := 1#32
  let v3513 : BitVec 32 := Scalar.select v3512 c1_i32_2010 c2_i32_2008
  let v3514 : BitVec 32 := Scalar.remsi v3511 v3513
  let c0_i32_2012 : BitVec 32 := 0#32
  let v3516 : BitVec 1 := Scalar.cmpi .slt v3514 c0_i32_2012
  let c0_i32_2013 : BitVec 32 := 0#32
  let v3517 : BitVec 1 := Scalar.cmpi .slt v3513 c0_i32_2013
  let v3518 : BitVec 1 := Scalar.xori v3516 v3517
  let c0_i32_2011 : BitVec 32 := 0#32
  let v3515 : BitVec 1 := Scalar.cmpi .ne v3514 c0_i32_2011
  let v3519 : BitVec 1 := Scalar.andi v3518 v3515
  let v3520 : BitVec 32 := Scalar.addi v3514 v3513
  let v3521 : BitVec 32 := Scalar.select v3519 v3520 v3514
  let c166_i32_2015 : BitVec 32 := 166#32
  let c0_i32_2016 : BitVec 32 := 0#32
  ![v3521.toNat, 166, 0]
def k0_off674 (v3525 : BitVec 32) : Fin 2 → Nat :=
  let c0_i32_2017 : BitVec 32 := 0#32
  ![v3525.toNat, 0]

def k0_chk169 (i : grid0.Coords) (v0 : BitVec 32) (v3525 : BitVec 32) : Prop :=
  (∀ (k0_h2 : k0_cond2 i v0 = 1#1), ∀ a, (k0_off674 v3525) a + S1x4096.size a ≤ S16896x4096.size a)
theorem k0_off674_inb : ∀ (i : grid0.Coords) (v0 : BitVec 32) (v3525 : BitVec 32) (k0_hw169 : k0_chk169 i v0 v3525), ∀ (k0_h2 : k0_cond2 i v0 = 1#1), ∀ a, (k0_off674 v3525) a + S1x4096.size a ≤ S16896x4096.size a := fun i v0 v3525 k0_hw169 k0_h2 => k0_hw169 k0_h2

def k0_off675 (i : grid0.Coords) : Fin 1 → Nat :=
  let arg0 : BitVec 32 := BitVec.ofNat 32 (i 0).val
  let c1_i32_2018 : BitVec 32 := 1#32
  let v3531 : BitVec 32 := Scalar.addi arg0 c1_i32_2018
  let c256_i32_2026 : BitVec 32 := 256#32
  let v3543 : BitVec 32 := Scalar.muli v3531 c256_i32_2026
  let c167_i32 : BitVec 32 := 167#32
  let v3544 : BitVec 32 := Scalar.addi v3543 c167_i32
  let v3545 : Index := Scalar.indexCast v3544
  ![v3545.toNat]
def k0_off676 (i : grid0.Coords) : Fin 1 → Nat :=
  let arg0 : BitVec 32 := BitVec.ofNat 32 (i 0).val
  let c1_i32_2019 : BitVec 32 := 1#32
  let v3532 : BitVec 32 := Scalar.addi arg0 c1_i32_2019
  let c2_i32_2020 : BitVec 32 := 2#32
  let c0_i32_2021 : BitVec 32 := 0#32
  let v3533 : BitVec 1 := Scalar.cmpi .eq c2_i32_2020 c0_i32_2021
  let c1_i32_2022 : BitVec 32 := 1#32
  let v3534 : BitVec 32 := Scalar.select v3533 c1_i32_2022 c2_i32_2020
  let v3535 : BitVec 32 := Scalar.remsi v3532 v3534
  let c0_i32_2024 : BitVec 32 := 0#32
  let v3537 : BitVec 1 := Scalar.cmpi .slt v3535 c0_i32_2024
  let c0_i32_2025 : BitVec 32 := 0#32
  let v3538 : BitVec 1 := Scalar.cmpi .slt v3534 c0_i32_2025
  let v3539 : BitVec 1 := Scalar.xori v3537 v3538
  let c0_i32_2023 : BitVec 32 := 0#32
  let v3536 : BitVec 1 := Scalar.cmpi .ne v3535 c0_i32_2023
  let v3540 : BitVec 1 := Scalar.andi v3539 v3536
  let v3541 : BitVec 32 := Scalar.addi v3535 v3534
  let v3542 : BitVec 32 := Scalar.select v3540 v3541 v3535
  ![v3542.toNat]
def k0_off677 (i : grid0.Coords) : Fin 3 → Nat :=
  let arg0 : BitVec 32 := BitVec.ofNat 32 (i 0).val
  let c1_i32_2019 : BitVec 32 := 1#32
  let v3532 : BitVec 32 := Scalar.addi arg0 c1_i32_2019
  let c2_i32_2020 : BitVec 32 := 2#32
  let c0_i32_2021 : BitVec 32 := 0#32
  let v3533 : BitVec 1 := Scalar.cmpi .eq c2_i32_2020 c0_i32_2021
  let c1_i32_2022 : BitVec 32 := 1#32
  let v3534 : BitVec 32 := Scalar.select v3533 c1_i32_2022 c2_i32_2020
  let v3535 : BitVec 32 := Scalar.remsi v3532 v3534
  let c0_i32_2024 : BitVec 32 := 0#32
  let v3537 : BitVec 1 := Scalar.cmpi .slt v3535 c0_i32_2024
  let c0_i32_2025 : BitVec 32 := 0#32
  let v3538 : BitVec 1 := Scalar.cmpi .slt v3534 c0_i32_2025
  let v3539 : BitVec 1 := Scalar.xori v3537 v3538
  let c0_i32_2023 : BitVec 32 := 0#32
  let v3536 : BitVec 1 := Scalar.cmpi .ne v3535 c0_i32_2023
  let v3540 : BitVec 1 := Scalar.andi v3539 v3536
  let v3541 : BitVec 32 := Scalar.addi v3535 v3534
  let v3542 : BitVec 32 := Scalar.select v3540 v3541 v3535
  let c167_i32_2027 : BitVec 32 := 167#32
  let c0_i32_2028 : BitVec 32 := 0#32
  ![v3542.toNat, 167, 0]
def k0_off678 (v3546 : BitVec 32) : Fin 2 → Nat :=
  let c0_i32_2029 : BitVec 32 := 0#32
  ![v3546.toNat, 0]

def k0_chk170 (i : grid0.Coords) (v0 : BitVec 32) (v3546 : BitVec 32) : Prop :=
  (∀ (k0_h2 : k0_cond2 i v0 = 1#1), ∀ a, (k0_off678 v3546) a + S1x4096.size a ≤ S16896x4096.size a)
theorem k0_off678_inb : ∀ (i : grid0.Coords) (v0 : BitVec 32) (v3546 : BitVec 32) (k0_hw170 : k0_chk170 i v0 v3546), ∀ (k0_h2 : k0_cond2 i v0 = 1#1), ∀ a, (k0_off678 v3546) a + S1x4096.size a ≤ S16896x4096.size a := fun i v0 v3546 k0_hw170 k0_h2 => k0_hw170 k0_h2

def k0_off679 (i : grid0.Coords) : Fin 1 → Nat :=
  let arg0 : BitVec 32 := BitVec.ofNat 32 (i 0).val
  let c1_i32_2030 : BitVec 32 := 1#32
  let v3552 : BitVec 32 := Scalar.addi arg0 c1_i32_2030
  let c256_i32_2038 : BitVec 32 := 256#32
  let v3564 : BitVec 32 := Scalar.muli v3552 c256_i32_2038
  let c168_i32 : BitVec 32 := 168#32
  let v3565 : BitVec 32 := Scalar.addi v3564 c168_i32
  let v3566 : Index := Scalar.indexCast v3565
  ![v3566.toNat]
def k0_off680 (i : grid0.Coords) : Fin 1 → Nat :=
  let arg0 : BitVec 32 := BitVec.ofNat 32 (i 0).val
  let c1_i32_2031 : BitVec 32 := 1#32
  let v3553 : BitVec 32 := Scalar.addi arg0 c1_i32_2031
  let c2_i32_2032 : BitVec 32 := 2#32
  let c0_i32_2033 : BitVec 32 := 0#32
  let v3554 : BitVec 1 := Scalar.cmpi .eq c2_i32_2032 c0_i32_2033
  let c1_i32_2034 : BitVec 32 := 1#32
  let v3555 : BitVec 32 := Scalar.select v3554 c1_i32_2034 c2_i32_2032
  let v3556 : BitVec 32 := Scalar.remsi v3553 v3555
  let c0_i32_2036 : BitVec 32 := 0#32
  let v3558 : BitVec 1 := Scalar.cmpi .slt v3556 c0_i32_2036
  let c0_i32_2037 : BitVec 32 := 0#32
  let v3559 : BitVec 1 := Scalar.cmpi .slt v3555 c0_i32_2037
  let v3560 : BitVec 1 := Scalar.xori v3558 v3559
  let c0_i32_2035 : BitVec 32 := 0#32
  let v3557 : BitVec 1 := Scalar.cmpi .ne v3556 c0_i32_2035
  let v3561 : BitVec 1 := Scalar.andi v3560 v3557
  let v3562 : BitVec 32 := Scalar.addi v3556 v3555
  let v3563 : BitVec 32 := Scalar.select v3561 v3562 v3556
  ![v3563.toNat]
def k0_off681 (i : grid0.Coords) : Fin 3 → Nat :=
  let arg0 : BitVec 32 := BitVec.ofNat 32 (i 0).val
  let c1_i32_2031 : BitVec 32 := 1#32
  let v3553 : BitVec 32 := Scalar.addi arg0 c1_i32_2031
  let c2_i32_2032 : BitVec 32 := 2#32
  let c0_i32_2033 : BitVec 32 := 0#32
  let v3554 : BitVec 1 := Scalar.cmpi .eq c2_i32_2032 c0_i32_2033
  let c1_i32_2034 : BitVec 32 := 1#32
  let v3555 : BitVec 32 := Scalar.select v3554 c1_i32_2034 c2_i32_2032
  let v3556 : BitVec 32 := Scalar.remsi v3553 v3555
  let c0_i32_2036 : BitVec 32 := 0#32
  let v3558 : BitVec 1 := Scalar.cmpi .slt v3556 c0_i32_2036
  let c0_i32_2037 : BitVec 32 := 0#32
  let v3559 : BitVec 1 := Scalar.cmpi .slt v3555 c0_i32_2037
  let v3560 : BitVec 1 := Scalar.xori v3558 v3559
  let c0_i32_2035 : BitVec 32 := 0#32
  let v3557 : BitVec 1 := Scalar.cmpi .ne v3556 c0_i32_2035
  let v3561 : BitVec 1 := Scalar.andi v3560 v3557
  let v3562 : BitVec 32 := Scalar.addi v3556 v3555
  let v3563 : BitVec 32 := Scalar.select v3561 v3562 v3556
  let c168_i32_2039 : BitVec 32 := 168#32
  let c0_i32_2040 : BitVec 32 := 0#32
  ![v3563.toNat, 168, 0]
def k0_off682 (v3567 : BitVec 32) : Fin 2 → Nat :=
  let c0_i32_2041 : BitVec 32 := 0#32
  ![v3567.toNat, 0]

def k0_chk171 (i : grid0.Coords) (v0 : BitVec 32) (v3567 : BitVec 32) : Prop :=
  (∀ (k0_h2 : k0_cond2 i v0 = 1#1), ∀ a, (k0_off682 v3567) a + S1x4096.size a ≤ S16896x4096.size a)
theorem k0_off682_inb : ∀ (i : grid0.Coords) (v0 : BitVec 32) (v3567 : BitVec 32) (k0_hw171 : k0_chk171 i v0 v3567), ∀ (k0_h2 : k0_cond2 i v0 = 1#1), ∀ a, (k0_off682 v3567) a + S1x4096.size a ≤ S16896x4096.size a := fun i v0 v3567 k0_hw171 k0_h2 => k0_hw171 k0_h2

def k0_off683 (i : grid0.Coords) : Fin 1 → Nat :=
  let arg0 : BitVec 32 := BitVec.ofNat 32 (i 0).val
  let c1_i32_2042 : BitVec 32 := 1#32
  let v3573 : BitVec 32 := Scalar.addi arg0 c1_i32_2042
  let c256_i32_2050 : BitVec 32 := 256#32
  let v3585 : BitVec 32 := Scalar.muli v3573 c256_i32_2050
  let c169_i32 : BitVec 32 := 169#32
  let v3586 : BitVec 32 := Scalar.addi v3585 c169_i32
  let v3587 : Index := Scalar.indexCast v3586
  ![v3587.toNat]
def k0_off684 (i : grid0.Coords) : Fin 1 → Nat :=
  let arg0 : BitVec 32 := BitVec.ofNat 32 (i 0).val
  let c1_i32_2043 : BitVec 32 := 1#32
  let v3574 : BitVec 32 := Scalar.addi arg0 c1_i32_2043
  let c2_i32_2044 : BitVec 32 := 2#32
  let c0_i32_2045 : BitVec 32 := 0#32
  let v3575 : BitVec 1 := Scalar.cmpi .eq c2_i32_2044 c0_i32_2045
  let c1_i32_2046 : BitVec 32 := 1#32
  let v3576 : BitVec 32 := Scalar.select v3575 c1_i32_2046 c2_i32_2044
  let v3577 : BitVec 32 := Scalar.remsi v3574 v3576
  let c0_i32_2048 : BitVec 32 := 0#32
  let v3579 : BitVec 1 := Scalar.cmpi .slt v3577 c0_i32_2048
  let c0_i32_2049 : BitVec 32 := 0#32
  let v3580 : BitVec 1 := Scalar.cmpi .slt v3576 c0_i32_2049
  let v3581 : BitVec 1 := Scalar.xori v3579 v3580
  let c0_i32_2047 : BitVec 32 := 0#32
  let v3578 : BitVec 1 := Scalar.cmpi .ne v3577 c0_i32_2047
  let v3582 : BitVec 1 := Scalar.andi v3581 v3578
  let v3583 : BitVec 32 := Scalar.addi v3577 v3576
  let v3584 : BitVec 32 := Scalar.select v3582 v3583 v3577
  ![v3584.toNat]
def k0_off685 (i : grid0.Coords) : Fin 3 → Nat :=
  let arg0 : BitVec 32 := BitVec.ofNat 32 (i 0).val
  let c1_i32_2043 : BitVec 32 := 1#32
  let v3574 : BitVec 32 := Scalar.addi arg0 c1_i32_2043
  let c2_i32_2044 : BitVec 32 := 2#32
  let c0_i32_2045 : BitVec 32 := 0#32
  let v3575 : BitVec 1 := Scalar.cmpi .eq c2_i32_2044 c0_i32_2045
  let c1_i32_2046 : BitVec 32 := 1#32
  let v3576 : BitVec 32 := Scalar.select v3575 c1_i32_2046 c2_i32_2044
  let v3577 : BitVec 32 := Scalar.remsi v3574 v3576
  let c0_i32_2048 : BitVec 32 := 0#32
  let v3579 : BitVec 1 := Scalar.cmpi .slt v3577 c0_i32_2048
  let c0_i32_2049 : BitVec 32 := 0#32
  let v3580 : BitVec 1 := Scalar.cmpi .slt v3576 c0_i32_2049
  let v3581 : BitVec 1 := Scalar.xori v3579 v3580
  let c0_i32_2047 : BitVec 32 := 0#32
  let v3578 : BitVec 1 := Scalar.cmpi .ne v3577 c0_i32_2047
  let v3582 : BitVec 1 := Scalar.andi v3581 v3578
  let v3583 : BitVec 32 := Scalar.addi v3577 v3576
  let v3584 : BitVec 32 := Scalar.select v3582 v3583 v3577
  let c169_i32_2051 : BitVec 32 := 169#32
  let c0_i32_2052 : BitVec 32 := 0#32
  ![v3584.toNat, 169, 0]
def k0_off686 (v3588 : BitVec 32) : Fin 2 → Nat :=
  let c0_i32_2053 : BitVec 32 := 0#32
  ![v3588.toNat, 0]

def k0_chk172 (i : grid0.Coords) (v0 : BitVec 32) (v3588 : BitVec 32) : Prop :=
  (∀ (k0_h2 : k0_cond2 i v0 = 1#1), ∀ a, (k0_off686 v3588) a + S1x4096.size a ≤ S16896x4096.size a)
theorem k0_off686_inb : ∀ (i : grid0.Coords) (v0 : BitVec 32) (v3588 : BitVec 32) (k0_hw172 : k0_chk172 i v0 v3588), ∀ (k0_h2 : k0_cond2 i v0 = 1#1), ∀ a, (k0_off686 v3588) a + S1x4096.size a ≤ S16896x4096.size a := fun i v0 v3588 k0_hw172 k0_h2 => k0_hw172 k0_h2

def k0_off687 (i : grid0.Coords) : Fin 1 → Nat :=
  let arg0 : BitVec 32 := BitVec.ofNat 32 (i 0).val
  let c1_i32_2054 : BitVec 32 := 1#32
  let v3594 : BitVec 32 := Scalar.addi arg0 c1_i32_2054
  let c256_i32_2062 : BitVec 32 := 256#32
  let v3606 : BitVec 32 := Scalar.muli v3594 c256_i32_2062
  let c170_i32 : BitVec 32 := 170#32
  let v3607 : BitVec 32 := Scalar.addi v3606 c170_i32
  let v3608 : Index := Scalar.indexCast v3607
  ![v3608.toNat]
def k0_off688 (i : grid0.Coords) : Fin 1 → Nat :=
  let arg0 : BitVec 32 := BitVec.ofNat 32 (i 0).val
  let c1_i32_2055 : BitVec 32 := 1#32
  let v3595 : BitVec 32 := Scalar.addi arg0 c1_i32_2055
  let c2_i32_2056 : BitVec 32 := 2#32
  let c0_i32_2057 : BitVec 32 := 0#32
  let v3596 : BitVec 1 := Scalar.cmpi .eq c2_i32_2056 c0_i32_2057
  let c1_i32_2058 : BitVec 32 := 1#32
  let v3597 : BitVec 32 := Scalar.select v3596 c1_i32_2058 c2_i32_2056
  let v3598 : BitVec 32 := Scalar.remsi v3595 v3597
  let c0_i32_2060 : BitVec 32 := 0#32
  let v3600 : BitVec 1 := Scalar.cmpi .slt v3598 c0_i32_2060
  let c0_i32_2061 : BitVec 32 := 0#32
  let v3601 : BitVec 1 := Scalar.cmpi .slt v3597 c0_i32_2061
  let v3602 : BitVec 1 := Scalar.xori v3600 v3601
  let c0_i32_2059 : BitVec 32 := 0#32
  let v3599 : BitVec 1 := Scalar.cmpi .ne v3598 c0_i32_2059
  let v3603 : BitVec 1 := Scalar.andi v3602 v3599
  let v3604 : BitVec 32 := Scalar.addi v3598 v3597
  let v3605 : BitVec 32 := Scalar.select v3603 v3604 v3598
  ![v3605.toNat]
def k0_off689 (i : grid0.Coords) : Fin 3 → Nat :=
  let arg0 : BitVec 32 := BitVec.ofNat 32 (i 0).val
  let c1_i32_2055 : BitVec 32 := 1#32
  let v3595 : BitVec 32 := Scalar.addi arg0 c1_i32_2055
  let c2_i32_2056 : BitVec 32 := 2#32
  let c0_i32_2057 : BitVec 32 := 0#32
  let v3596 : BitVec 1 := Scalar.cmpi .eq c2_i32_2056 c0_i32_2057
  let c1_i32_2058 : BitVec 32 := 1#32
  let v3597 : BitVec 32 := Scalar.select v3596 c1_i32_2058 c2_i32_2056
  let v3598 : BitVec 32 := Scalar.remsi v3595 v3597
  let c0_i32_2060 : BitVec 32 := 0#32
  let v3600 : BitVec 1 := Scalar.cmpi .slt v3598 c0_i32_2060
  let c0_i32_2061 : BitVec 32 := 0#32
  let v3601 : BitVec 1 := Scalar.cmpi .slt v3597 c0_i32_2061
  let v3602 : BitVec 1 := Scalar.xori v3600 v3601
  let c0_i32_2059 : BitVec 32 := 0#32
  let v3599 : BitVec 1 := Scalar.cmpi .ne v3598 c0_i32_2059
  let v3603 : BitVec 1 := Scalar.andi v3602 v3599
  let v3604 : BitVec 32 := Scalar.addi v3598 v3597
  let v3605 : BitVec 32 := Scalar.select v3603 v3604 v3598
  let c170_i32_2063 : BitVec 32 := 170#32
  let c0_i32_2064 : BitVec 32 := 0#32
  ![v3605.toNat, 170, 0]
def k0_off690 (v3609 : BitVec 32) : Fin 2 → Nat :=
  let c0_i32_2065 : BitVec 32 := 0#32
  ![v3609.toNat, 0]

def k0_chk173 (i : grid0.Coords) (v0 : BitVec 32) (v3609 : BitVec 32) : Prop :=
  (∀ (k0_h2 : k0_cond2 i v0 = 1#1), ∀ a, (k0_off690 v3609) a + S1x4096.size a ≤ S16896x4096.size a)
theorem k0_off690_inb : ∀ (i : grid0.Coords) (v0 : BitVec 32) (v3609 : BitVec 32) (k0_hw173 : k0_chk173 i v0 v3609), ∀ (k0_h2 : k0_cond2 i v0 = 1#1), ∀ a, (k0_off690 v3609) a + S1x4096.size a ≤ S16896x4096.size a := fun i v0 v3609 k0_hw173 k0_h2 => k0_hw173 k0_h2

def k0_off691 (i : grid0.Coords) : Fin 1 → Nat :=
  let arg0 : BitVec 32 := BitVec.ofNat 32 (i 0).val
  let c1_i32_2066 : BitVec 32 := 1#32
  let v3615 : BitVec 32 := Scalar.addi arg0 c1_i32_2066
  let c256_i32_2074 : BitVec 32 := 256#32
  let v3627 : BitVec 32 := Scalar.muli v3615 c256_i32_2074
  let c171_i32 : BitVec 32 := 171#32
  let v3628 : BitVec 32 := Scalar.addi v3627 c171_i32
  let v3629 : Index := Scalar.indexCast v3628
  ![v3629.toNat]
def k0_off692 (i : grid0.Coords) : Fin 1 → Nat :=
  let arg0 : BitVec 32 := BitVec.ofNat 32 (i 0).val
  let c1_i32_2067 : BitVec 32 := 1#32
  let v3616 : BitVec 32 := Scalar.addi arg0 c1_i32_2067
  let c2_i32_2068 : BitVec 32 := 2#32
  let c0_i32_2069 : BitVec 32 := 0#32
  let v3617 : BitVec 1 := Scalar.cmpi .eq c2_i32_2068 c0_i32_2069
  let c1_i32_2070 : BitVec 32 := 1#32
  let v3618 : BitVec 32 := Scalar.select v3617 c1_i32_2070 c2_i32_2068
  let v3619 : BitVec 32 := Scalar.remsi v3616 v3618
  let c0_i32_2072 : BitVec 32 := 0#32
  let v3621 : BitVec 1 := Scalar.cmpi .slt v3619 c0_i32_2072
  let c0_i32_2073 : BitVec 32 := 0#32
  let v3622 : BitVec 1 := Scalar.cmpi .slt v3618 c0_i32_2073
  let v3623 : BitVec 1 := Scalar.xori v3621 v3622
  let c0_i32_2071 : BitVec 32 := 0#32
  let v3620 : BitVec 1 := Scalar.cmpi .ne v3619 c0_i32_2071
  let v3624 : BitVec 1 := Scalar.andi v3623 v3620
  let v3625 : BitVec 32 := Scalar.addi v3619 v3618
  let v3626 : BitVec 32 := Scalar.select v3624 v3625 v3619
  ![v3626.toNat]
def k0_off693 (i : grid0.Coords) : Fin 3 → Nat :=
  let arg0 : BitVec 32 := BitVec.ofNat 32 (i 0).val
  let c1_i32_2067 : BitVec 32 := 1#32
  let v3616 : BitVec 32 := Scalar.addi arg0 c1_i32_2067
  let c2_i32_2068 : BitVec 32 := 2#32
  let c0_i32_2069 : BitVec 32 := 0#32
  let v3617 : BitVec 1 := Scalar.cmpi .eq c2_i32_2068 c0_i32_2069
  let c1_i32_2070 : BitVec 32 := 1#32
  let v3618 : BitVec 32 := Scalar.select v3617 c1_i32_2070 c2_i32_2068
  let v3619 : BitVec 32 := Scalar.remsi v3616 v3618
  let c0_i32_2072 : BitVec 32 := 0#32
  let v3621 : BitVec 1 := Scalar.cmpi .slt v3619 c0_i32_2072
  let c0_i32_2073 : BitVec 32 := 0#32
  let v3622 : BitVec 1 := Scalar.cmpi .slt v3618 c0_i32_2073
  let v3623 : BitVec 1 := Scalar.xori v3621 v3622
  let c0_i32_2071 : BitVec 32 := 0#32
  let v3620 : BitVec 1 := Scalar.cmpi .ne v3619 c0_i32_2071
  let v3624 : BitVec 1 := Scalar.andi v3623 v3620
  let v3625 : BitVec 32 := Scalar.addi v3619 v3618
  let v3626 : BitVec 32 := Scalar.select v3624 v3625 v3619
  let c171_i32_2075 : BitVec 32 := 171#32
  let c0_i32_2076 : BitVec 32 := 0#32
  ![v3626.toNat, 171, 0]
def k0_off694 (v3630 : BitVec 32) : Fin 2 → Nat :=
  let c0_i32_2077 : BitVec 32 := 0#32
  ![v3630.toNat, 0]

def k0_chk174 (i : grid0.Coords) (v0 : BitVec 32) (v3630 : BitVec 32) : Prop :=
  (∀ (k0_h2 : k0_cond2 i v0 = 1#1), ∀ a, (k0_off694 v3630) a + S1x4096.size a ≤ S16896x4096.size a)
theorem k0_off694_inb : ∀ (i : grid0.Coords) (v0 : BitVec 32) (v3630 : BitVec 32) (k0_hw174 : k0_chk174 i v0 v3630), ∀ (k0_h2 : k0_cond2 i v0 = 1#1), ∀ a, (k0_off694 v3630) a + S1x4096.size a ≤ S16896x4096.size a := fun i v0 v3630 k0_hw174 k0_h2 => k0_hw174 k0_h2

def k0_off695 (i : grid0.Coords) : Fin 1 → Nat :=
  let arg0 : BitVec 32 := BitVec.ofNat 32 (i 0).val
  let c1_i32_2078 : BitVec 32 := 1#32
  let v3636 : BitVec 32 := Scalar.addi arg0 c1_i32_2078
  let c256_i32_2086 : BitVec 32 := 256#32
  let v3648 : BitVec 32 := Scalar.muli v3636 c256_i32_2086
  let c172_i32 : BitVec 32 := 172#32
  let v3649 : BitVec 32 := Scalar.addi v3648 c172_i32
  let v3650 : Index := Scalar.indexCast v3649
  ![v3650.toNat]
def k0_off696 (i : grid0.Coords) : Fin 1 → Nat :=
  let arg0 : BitVec 32 := BitVec.ofNat 32 (i 0).val
  let c1_i32_2079 : BitVec 32 := 1#32
  let v3637 : BitVec 32 := Scalar.addi arg0 c1_i32_2079
  let c2_i32_2080 : BitVec 32 := 2#32
  let c0_i32_2081 : BitVec 32 := 0#32
  let v3638 : BitVec 1 := Scalar.cmpi .eq c2_i32_2080 c0_i32_2081
  let c1_i32_2082 : BitVec 32 := 1#32
  let v3639 : BitVec 32 := Scalar.select v3638 c1_i32_2082 c2_i32_2080
  let v3640 : BitVec 32 := Scalar.remsi v3637 v3639
  let c0_i32_2084 : BitVec 32 := 0#32
  let v3642 : BitVec 1 := Scalar.cmpi .slt v3640 c0_i32_2084
  let c0_i32_2085 : BitVec 32 := 0#32
  let v3643 : BitVec 1 := Scalar.cmpi .slt v3639 c0_i32_2085
  let v3644 : BitVec 1 := Scalar.xori v3642 v3643
  let c0_i32_2083 : BitVec 32 := 0#32
  let v3641 : BitVec 1 := Scalar.cmpi .ne v3640 c0_i32_2083
  let v3645 : BitVec 1 := Scalar.andi v3644 v3641
  let v3646 : BitVec 32 := Scalar.addi v3640 v3639
  let v3647 : BitVec 32 := Scalar.select v3645 v3646 v3640
  ![v3647.toNat]
def k0_off697 (i : grid0.Coords) : Fin 3 → Nat :=
  let arg0 : BitVec 32 := BitVec.ofNat 32 (i 0).val
  let c1_i32_2079 : BitVec 32 := 1#32
  let v3637 : BitVec 32 := Scalar.addi arg0 c1_i32_2079
  let c2_i32_2080 : BitVec 32 := 2#32
  let c0_i32_2081 : BitVec 32 := 0#32
  let v3638 : BitVec 1 := Scalar.cmpi .eq c2_i32_2080 c0_i32_2081
  let c1_i32_2082 : BitVec 32 := 1#32
  let v3639 : BitVec 32 := Scalar.select v3638 c1_i32_2082 c2_i32_2080
  let v3640 : BitVec 32 := Scalar.remsi v3637 v3639
  let c0_i32_2084 : BitVec 32 := 0#32
  let v3642 : BitVec 1 := Scalar.cmpi .slt v3640 c0_i32_2084
  let c0_i32_2085 : BitVec 32 := 0#32
  let v3643 : BitVec 1 := Scalar.cmpi .slt v3639 c0_i32_2085
  let v3644 : BitVec 1 := Scalar.xori v3642 v3643
  let c0_i32_2083 : BitVec 32 := 0#32
  let v3641 : BitVec 1 := Scalar.cmpi .ne v3640 c0_i32_2083
  let v3645 : BitVec 1 := Scalar.andi v3644 v3641
  let v3646 : BitVec 32 := Scalar.addi v3640 v3639
  let v3647 : BitVec 32 := Scalar.select v3645 v3646 v3640
  let c172_i32_2087 : BitVec 32 := 172#32
  let c0_i32_2088 : BitVec 32 := 0#32
  ![v3647.toNat, 172, 0]
def k0_off698 (v3651 : BitVec 32) : Fin 2 → Nat :=
  let c0_i32_2089 : BitVec 32 := 0#32
  ![v3651.toNat, 0]

def k0_chk175 (i : grid0.Coords) (v0 : BitVec 32) (v3651 : BitVec 32) : Prop :=
  (∀ (k0_h2 : k0_cond2 i v0 = 1#1), ∀ a, (k0_off698 v3651) a + S1x4096.size a ≤ S16896x4096.size a)
theorem k0_off698_inb : ∀ (i : grid0.Coords) (v0 : BitVec 32) (v3651 : BitVec 32) (k0_hw175 : k0_chk175 i v0 v3651), ∀ (k0_h2 : k0_cond2 i v0 = 1#1), ∀ a, (k0_off698 v3651) a + S1x4096.size a ≤ S16896x4096.size a := fun i v0 v3651 k0_hw175 k0_h2 => k0_hw175 k0_h2

def k0_off699 (i : grid0.Coords) : Fin 1 → Nat :=
  let arg0 : BitVec 32 := BitVec.ofNat 32 (i 0).val
  let c1_i32_2090 : BitVec 32 := 1#32
  let v3657 : BitVec 32 := Scalar.addi arg0 c1_i32_2090
  let c256_i32_2098 : BitVec 32 := 256#32
  let v3669 : BitVec 32 := Scalar.muli v3657 c256_i32_2098
  let c173_i32 : BitVec 32 := 173#32
  let v3670 : BitVec 32 := Scalar.addi v3669 c173_i32
  let v3671 : Index := Scalar.indexCast v3670
  ![v3671.toNat]
def k0_off700 (i : grid0.Coords) : Fin 1 → Nat :=
  let arg0 : BitVec 32 := BitVec.ofNat 32 (i 0).val
  let c1_i32_2091 : BitVec 32 := 1#32
  let v3658 : BitVec 32 := Scalar.addi arg0 c1_i32_2091
  let c2_i32_2092 : BitVec 32 := 2#32
  let c0_i32_2093 : BitVec 32 := 0#32
  let v3659 : BitVec 1 := Scalar.cmpi .eq c2_i32_2092 c0_i32_2093
  let c1_i32_2094 : BitVec 32 := 1#32
  let v3660 : BitVec 32 := Scalar.select v3659 c1_i32_2094 c2_i32_2092
  let v3661 : BitVec 32 := Scalar.remsi v3658 v3660
  let c0_i32_2096 : BitVec 32 := 0#32
  let v3663 : BitVec 1 := Scalar.cmpi .slt v3661 c0_i32_2096
  let c0_i32_2097 : BitVec 32 := 0#32
  let v3664 : BitVec 1 := Scalar.cmpi .slt v3660 c0_i32_2097
  let v3665 : BitVec 1 := Scalar.xori v3663 v3664
  let c0_i32_2095 : BitVec 32 := 0#32
  let v3662 : BitVec 1 := Scalar.cmpi .ne v3661 c0_i32_2095
  let v3666 : BitVec 1 := Scalar.andi v3665 v3662
  let v3667 : BitVec 32 := Scalar.addi v3661 v3660
  let v3668 : BitVec 32 := Scalar.select v3666 v3667 v3661
  ![v3668.toNat]
def k0_off701 (i : grid0.Coords) : Fin 3 → Nat :=
  let arg0 : BitVec 32 := BitVec.ofNat 32 (i 0).val
  let c1_i32_2091 : BitVec 32 := 1#32
  let v3658 : BitVec 32 := Scalar.addi arg0 c1_i32_2091
  let c2_i32_2092 : BitVec 32 := 2#32
  let c0_i32_2093 : BitVec 32 := 0#32
  let v3659 : BitVec 1 := Scalar.cmpi .eq c2_i32_2092 c0_i32_2093
  let c1_i32_2094 : BitVec 32 := 1#32
  let v3660 : BitVec 32 := Scalar.select v3659 c1_i32_2094 c2_i32_2092
  let v3661 : BitVec 32 := Scalar.remsi v3658 v3660
  let c0_i32_2096 : BitVec 32 := 0#32
  let v3663 : BitVec 1 := Scalar.cmpi .slt v3661 c0_i32_2096
  let c0_i32_2097 : BitVec 32 := 0#32
  let v3664 : BitVec 1 := Scalar.cmpi .slt v3660 c0_i32_2097
  let v3665 : BitVec 1 := Scalar.xori v3663 v3664
  let c0_i32_2095 : BitVec 32 := 0#32
  let v3662 : BitVec 1 := Scalar.cmpi .ne v3661 c0_i32_2095
  let v3666 : BitVec 1 := Scalar.andi v3665 v3662
  let v3667 : BitVec 32 := Scalar.addi v3661 v3660
  let v3668 : BitVec 32 := Scalar.select v3666 v3667 v3661
  let c173_i32_2099 : BitVec 32 := 173#32
  let c0_i32_2100 : BitVec 32 := 0#32
  ![v3668.toNat, 173, 0]
def k0_off702 (v3672 : BitVec 32) : Fin 2 → Nat :=
  let c0_i32_2101 : BitVec 32 := 0#32
  ![v3672.toNat, 0]

def k0_chk176 (i : grid0.Coords) (v0 : BitVec 32) (v3672 : BitVec 32) : Prop :=
  (∀ (k0_h2 : k0_cond2 i v0 = 1#1), ∀ a, (k0_off702 v3672) a + S1x4096.size a ≤ S16896x4096.size a)
theorem k0_off702_inb : ∀ (i : grid0.Coords) (v0 : BitVec 32) (v3672 : BitVec 32) (k0_hw176 : k0_chk176 i v0 v3672), ∀ (k0_h2 : k0_cond2 i v0 = 1#1), ∀ a, (k0_off702 v3672) a + S1x4096.size a ≤ S16896x4096.size a := fun i v0 v3672 k0_hw176 k0_h2 => k0_hw176 k0_h2

def k0_off703 (i : grid0.Coords) : Fin 1 → Nat :=
  let arg0 : BitVec 32 := BitVec.ofNat 32 (i 0).val
  let c1_i32_2102 : BitVec 32 := 1#32
  let v3678 : BitVec 32 := Scalar.addi arg0 c1_i32_2102
  let c256_i32_2110 : BitVec 32 := 256#32
  let v3690 : BitVec 32 := Scalar.muli v3678 c256_i32_2110
  let c174_i32 : BitVec 32 := 174#32
  let v3691 : BitVec 32 := Scalar.addi v3690 c174_i32
  let v3692 : Index := Scalar.indexCast v3691
  ![v3692.toNat]
def k0_off704 (i : grid0.Coords) : Fin 1 → Nat :=
  let arg0 : BitVec 32 := BitVec.ofNat 32 (i 0).val
  let c1_i32_2103 : BitVec 32 := 1#32
  let v3679 : BitVec 32 := Scalar.addi arg0 c1_i32_2103
  let c2_i32_2104 : BitVec 32 := 2#32
  let c0_i32_2105 : BitVec 32 := 0#32
  let v3680 : BitVec 1 := Scalar.cmpi .eq c2_i32_2104 c0_i32_2105
  let c1_i32_2106 : BitVec 32 := 1#32
  let v3681 : BitVec 32 := Scalar.select v3680 c1_i32_2106 c2_i32_2104
  let v3682 : BitVec 32 := Scalar.remsi v3679 v3681
  let c0_i32_2108 : BitVec 32 := 0#32
  let v3684 : BitVec 1 := Scalar.cmpi .slt v3682 c0_i32_2108
  let c0_i32_2109 : BitVec 32 := 0#32
  let v3685 : BitVec 1 := Scalar.cmpi .slt v3681 c0_i32_2109
  let v3686 : BitVec 1 := Scalar.xori v3684 v3685
  let c0_i32_2107 : BitVec 32 := 0#32
  let v3683 : BitVec 1 := Scalar.cmpi .ne v3682 c0_i32_2107
  let v3687 : BitVec 1 := Scalar.andi v3686 v3683
  let v3688 : BitVec 32 := Scalar.addi v3682 v3681
  let v3689 : BitVec 32 := Scalar.select v3687 v3688 v3682
  ![v3689.toNat]
def k0_off705 (i : grid0.Coords) : Fin 3 → Nat :=
  let arg0 : BitVec 32 := BitVec.ofNat 32 (i 0).val
  let c1_i32_2103 : BitVec 32 := 1#32
  let v3679 : BitVec 32 := Scalar.addi arg0 c1_i32_2103
  let c2_i32_2104 : BitVec 32 := 2#32
  let c0_i32_2105 : BitVec 32 := 0#32
  let v3680 : BitVec 1 := Scalar.cmpi .eq c2_i32_2104 c0_i32_2105
  let c1_i32_2106 : BitVec 32 := 1#32
  let v3681 : BitVec 32 := Scalar.select v3680 c1_i32_2106 c2_i32_2104
  let v3682 : BitVec 32 := Scalar.remsi v3679 v3681
  let c0_i32_2108 : BitVec 32 := 0#32
  let v3684 : BitVec 1 := Scalar.cmpi .slt v3682 c0_i32_2108
  let c0_i32_2109 : BitVec 32 := 0#32
  let v3685 : BitVec 1 := Scalar.cmpi .slt v3681 c0_i32_2109
  let v3686 : BitVec 1 := Scalar.xori v3684 v3685
  let c0_i32_2107 : BitVec 32 := 0#32
  let v3683 : BitVec 1 := Scalar.cmpi .ne v3682 c0_i32_2107
  let v3687 : BitVec 1 := Scalar.andi v3686 v3683
  let v3688 : BitVec 32 := Scalar.addi v3682 v3681
  let v3689 : BitVec 32 := Scalar.select v3687 v3688 v3682
  let c174_i32_2111 : BitVec 32 := 174#32
  let c0_i32_2112 : BitVec 32 := 0#32
  ![v3689.toNat, 174, 0]
def k0_off706 (v3693 : BitVec 32) : Fin 2 → Nat :=
  let c0_i32_2113 : BitVec 32 := 0#32
  ![v3693.toNat, 0]

def k0_chk177 (i : grid0.Coords) (v0 : BitVec 32) (v3693 : BitVec 32) : Prop :=
  (∀ (k0_h2 : k0_cond2 i v0 = 1#1), ∀ a, (k0_off706 v3693) a + S1x4096.size a ≤ S16896x4096.size a)
theorem k0_off706_inb : ∀ (i : grid0.Coords) (v0 : BitVec 32) (v3693 : BitVec 32) (k0_hw177 : k0_chk177 i v0 v3693), ∀ (k0_h2 : k0_cond2 i v0 = 1#1), ∀ a, (k0_off706 v3693) a + S1x4096.size a ≤ S16896x4096.size a := fun i v0 v3693 k0_hw177 k0_h2 => k0_hw177 k0_h2

def k0_off707 (i : grid0.Coords) : Fin 1 → Nat :=
  let arg0 : BitVec 32 := BitVec.ofNat 32 (i 0).val
  let c1_i32_2114 : BitVec 32 := 1#32
  let v3699 : BitVec 32 := Scalar.addi arg0 c1_i32_2114
  let c256_i32_2122 : BitVec 32 := 256#32
  let v3711 : BitVec 32 := Scalar.muli v3699 c256_i32_2122
  let c175_i32 : BitVec 32 := 175#32
  let v3712 : BitVec 32 := Scalar.addi v3711 c175_i32
  let v3713 : Index := Scalar.indexCast v3712
  ![v3713.toNat]
def k0_off708 (i : grid0.Coords) : Fin 1 → Nat :=
  let arg0 : BitVec 32 := BitVec.ofNat 32 (i 0).val
  let c1_i32_2115 : BitVec 32 := 1#32
  let v3700 : BitVec 32 := Scalar.addi arg0 c1_i32_2115
  let c2_i32_2116 : BitVec 32 := 2#32
  let c0_i32_2117 : BitVec 32 := 0#32
  let v3701 : BitVec 1 := Scalar.cmpi .eq c2_i32_2116 c0_i32_2117
  let c1_i32_2118 : BitVec 32 := 1#32
  let v3702 : BitVec 32 := Scalar.select v3701 c1_i32_2118 c2_i32_2116
  let v3703 : BitVec 32 := Scalar.remsi v3700 v3702
  let c0_i32_2120 : BitVec 32 := 0#32
  let v3705 : BitVec 1 := Scalar.cmpi .slt v3703 c0_i32_2120
  let c0_i32_2121 : BitVec 32 := 0#32
  let v3706 : BitVec 1 := Scalar.cmpi .slt v3702 c0_i32_2121
  let v3707 : BitVec 1 := Scalar.xori v3705 v3706
  let c0_i32_2119 : BitVec 32 := 0#32
  let v3704 : BitVec 1 := Scalar.cmpi .ne v3703 c0_i32_2119
  let v3708 : BitVec 1 := Scalar.andi v3707 v3704
  let v3709 : BitVec 32 := Scalar.addi v3703 v3702
  let v3710 : BitVec 32 := Scalar.select v3708 v3709 v3703
  ![v3710.toNat]
def k0_off709 (i : grid0.Coords) : Fin 3 → Nat :=
  let arg0 : BitVec 32 := BitVec.ofNat 32 (i 0).val
  let c1_i32_2115 : BitVec 32 := 1#32
  let v3700 : BitVec 32 := Scalar.addi arg0 c1_i32_2115
  let c2_i32_2116 : BitVec 32 := 2#32
  let c0_i32_2117 : BitVec 32 := 0#32
  let v3701 : BitVec 1 := Scalar.cmpi .eq c2_i32_2116 c0_i32_2117
  let c1_i32_2118 : BitVec 32 := 1#32
  let v3702 : BitVec 32 := Scalar.select v3701 c1_i32_2118 c2_i32_2116
  let v3703 : BitVec 32 := Scalar.remsi v3700 v3702
  let c0_i32_2120 : BitVec 32 := 0#32
  let v3705 : BitVec 1 := Scalar.cmpi .slt v3703 c0_i32_2120
  let c0_i32_2121 : BitVec 32 := 0#32
  let v3706 : BitVec 1 := Scalar.cmpi .slt v3702 c0_i32_2121
  let v3707 : BitVec 1 := Scalar.xori v3705 v3706
  let c0_i32_2119 : BitVec 32 := 0#32
  let v3704 : BitVec 1 := Scalar.cmpi .ne v3703 c0_i32_2119
  let v3708 : BitVec 1 := Scalar.andi v3707 v3704
  let v3709 : BitVec 32 := Scalar.addi v3703 v3702
  let v3710 : BitVec 32 := Scalar.select v3708 v3709 v3703
  let c175_i32_2123 : BitVec 32 := 175#32
  let c0_i32_2124 : BitVec 32 := 0#32
  ![v3710.toNat, 175, 0]
def k0_off710 (v3714 : BitVec 32) : Fin 2 → Nat :=
  let c0_i32_2125 : BitVec 32 := 0#32
  ![v3714.toNat, 0]

def k0_chk178 (i : grid0.Coords) (v0 : BitVec 32) (v3714 : BitVec 32) : Prop :=
  (∀ (k0_h2 : k0_cond2 i v0 = 1#1), ∀ a, (k0_off710 v3714) a + S1x4096.size a ≤ S16896x4096.size a)
theorem k0_off710_inb : ∀ (i : grid0.Coords) (v0 : BitVec 32) (v3714 : BitVec 32) (k0_hw178 : k0_chk178 i v0 v3714), ∀ (k0_h2 : k0_cond2 i v0 = 1#1), ∀ a, (k0_off710 v3714) a + S1x4096.size a ≤ S16896x4096.size a := fun i v0 v3714 k0_hw178 k0_h2 => k0_hw178 k0_h2

def k0_off711 (i : grid0.Coords) : Fin 1 → Nat :=
  let arg0 : BitVec 32 := BitVec.ofNat 32 (i 0).val
  let c1_i32_2126 : BitVec 32 := 1#32
  let v3720 : BitVec 32 := Scalar.addi arg0 c1_i32_2126
  let c256_i32_2134 : BitVec 32 := 256#32
  let v3732 : BitVec 32 := Scalar.muli v3720 c256_i32_2134
  let c176_i32 : BitVec 32 := 176#32
  let v3733 : BitVec 32 := Scalar.addi v3732 c176_i32
  let v3734 : Index := Scalar.indexCast v3733
  ![v3734.toNat]
def k0_off712 (i : grid0.Coords) : Fin 1 → Nat :=
  let arg0 : BitVec 32 := BitVec.ofNat 32 (i 0).val
  let c1_i32_2127 : BitVec 32 := 1#32
  let v3721 : BitVec 32 := Scalar.addi arg0 c1_i32_2127
  let c2_i32_2128 : BitVec 32 := 2#32
  let c0_i32_2129 : BitVec 32 := 0#32
  let v3722 : BitVec 1 := Scalar.cmpi .eq c2_i32_2128 c0_i32_2129
  let c1_i32_2130 : BitVec 32 := 1#32
  let v3723 : BitVec 32 := Scalar.select v3722 c1_i32_2130 c2_i32_2128
  let v3724 : BitVec 32 := Scalar.remsi v3721 v3723
  let c0_i32_2132 : BitVec 32 := 0#32
  let v3726 : BitVec 1 := Scalar.cmpi .slt v3724 c0_i32_2132
  let c0_i32_2133 : BitVec 32 := 0#32
  let v3727 : BitVec 1 := Scalar.cmpi .slt v3723 c0_i32_2133
  let v3728 : BitVec 1 := Scalar.xori v3726 v3727
  let c0_i32_2131 : BitVec 32 := 0#32
  let v3725 : BitVec 1 := Scalar.cmpi .ne v3724 c0_i32_2131
  let v3729 : BitVec 1 := Scalar.andi v3728 v3725
  let v3730 : BitVec 32 := Scalar.addi v3724 v3723
  let v3731 : BitVec 32 := Scalar.select v3729 v3730 v3724
  ![v3731.toNat]
def k0_off713 (i : grid0.Coords) : Fin 3 → Nat :=
  let arg0 : BitVec 32 := BitVec.ofNat 32 (i 0).val
  let c1_i32_2127 : BitVec 32 := 1#32
  let v3721 : BitVec 32 := Scalar.addi arg0 c1_i32_2127
  let c2_i32_2128 : BitVec 32 := 2#32
  let c0_i32_2129 : BitVec 32 := 0#32
  let v3722 : BitVec 1 := Scalar.cmpi .eq c2_i32_2128 c0_i32_2129
  let c1_i32_2130 : BitVec 32 := 1#32
  let v3723 : BitVec 32 := Scalar.select v3722 c1_i32_2130 c2_i32_2128
  let v3724 : BitVec 32 := Scalar.remsi v3721 v3723
  let c0_i32_2132 : BitVec 32 := 0#32
  let v3726 : BitVec 1 := Scalar.cmpi .slt v3724 c0_i32_2132
  let c0_i32_2133 : BitVec 32 := 0#32
  let v3727 : BitVec 1 := Scalar.cmpi .slt v3723 c0_i32_2133
  let v3728 : BitVec 1 := Scalar.xori v3726 v3727
  let c0_i32_2131 : BitVec 32 := 0#32
  let v3725 : BitVec 1 := Scalar.cmpi .ne v3724 c0_i32_2131
  let v3729 : BitVec 1 := Scalar.andi v3728 v3725
  let v3730 : BitVec 32 := Scalar.addi v3724 v3723
  let v3731 : BitVec 32 := Scalar.select v3729 v3730 v3724
  let c176_i32_2135 : BitVec 32 := 176#32
  let c0_i32_2136 : BitVec 32 := 0#32
  ![v3731.toNat, 176, 0]
def k0_off714 (v3735 : BitVec 32) : Fin 2 → Nat :=
  let c0_i32_2137 : BitVec 32 := 0#32
  ![v3735.toNat, 0]

def k0_chk179 (i : grid0.Coords) (v0 : BitVec 32) (v3735 : BitVec 32) : Prop :=
  (∀ (k0_h2 : k0_cond2 i v0 = 1#1), ∀ a, (k0_off714 v3735) a + S1x4096.size a ≤ S16896x4096.size a)
theorem k0_off714_inb : ∀ (i : grid0.Coords) (v0 : BitVec 32) (v3735 : BitVec 32) (k0_hw179 : k0_chk179 i v0 v3735), ∀ (k0_h2 : k0_cond2 i v0 = 1#1), ∀ a, (k0_off714 v3735) a + S1x4096.size a ≤ S16896x4096.size a := fun i v0 v3735 k0_hw179 k0_h2 => k0_hw179 k0_h2

def k0_off715 (i : grid0.Coords) : Fin 1 → Nat :=
  let arg0 : BitVec 32 := BitVec.ofNat 32 (i 0).val
  let c1_i32_2138 : BitVec 32 := 1#32
  let v3741 : BitVec 32 := Scalar.addi arg0 c1_i32_2138
  let c256_i32_2146 : BitVec 32 := 256#32
  let v3753 : BitVec 32 := Scalar.muli v3741 c256_i32_2146
  let c177_i32 : BitVec 32 := 177#32
  let v3754 : BitVec 32 := Scalar.addi v3753 c177_i32
  let v3755 : Index := Scalar.indexCast v3754
  ![v3755.toNat]
def k0_off716 (i : grid0.Coords) : Fin 1 → Nat :=
  let arg0 : BitVec 32 := BitVec.ofNat 32 (i 0).val
  let c1_i32_2139 : BitVec 32 := 1#32
  let v3742 : BitVec 32 := Scalar.addi arg0 c1_i32_2139
  let c2_i32_2140 : BitVec 32 := 2#32
  let c0_i32_2141 : BitVec 32 := 0#32
  let v3743 : BitVec 1 := Scalar.cmpi .eq c2_i32_2140 c0_i32_2141
  let c1_i32_2142 : BitVec 32 := 1#32
  let v3744 : BitVec 32 := Scalar.select v3743 c1_i32_2142 c2_i32_2140
  let v3745 : BitVec 32 := Scalar.remsi v3742 v3744
  let c0_i32_2144 : BitVec 32 := 0#32
  let v3747 : BitVec 1 := Scalar.cmpi .slt v3745 c0_i32_2144
  let c0_i32_2145 : BitVec 32 := 0#32
  let v3748 : BitVec 1 := Scalar.cmpi .slt v3744 c0_i32_2145
  let v3749 : BitVec 1 := Scalar.xori v3747 v3748
  let c0_i32_2143 : BitVec 32 := 0#32
  let v3746 : BitVec 1 := Scalar.cmpi .ne v3745 c0_i32_2143
  let v3750 : BitVec 1 := Scalar.andi v3749 v3746
  let v3751 : BitVec 32 := Scalar.addi v3745 v3744
  let v3752 : BitVec 32 := Scalar.select v3750 v3751 v3745
  ![v3752.toNat]
def k0_off717 (i : grid0.Coords) : Fin 3 → Nat :=
  let arg0 : BitVec 32 := BitVec.ofNat 32 (i 0).val
  let c1_i32_2139 : BitVec 32 := 1#32
  let v3742 : BitVec 32 := Scalar.addi arg0 c1_i32_2139
  let c2_i32_2140 : BitVec 32 := 2#32
  let c0_i32_2141 : BitVec 32 := 0#32
  let v3743 : BitVec 1 := Scalar.cmpi .eq c2_i32_2140 c0_i32_2141
  let c1_i32_2142 : BitVec 32 := 1#32
  let v3744 : BitVec 32 := Scalar.select v3743 c1_i32_2142 c2_i32_2140
  let v3745 : BitVec 32 := Scalar.remsi v3742 v3744
  let c0_i32_2144 : BitVec 32 := 0#32
  let v3747 : BitVec 1 := Scalar.cmpi .slt v3745 c0_i32_2144
  let c0_i32_2145 : BitVec 32 := 0#32
  let v3748 : BitVec 1 := Scalar.cmpi .slt v3744 c0_i32_2145
  let v3749 : BitVec 1 := Scalar.xori v3747 v3748
  let c0_i32_2143 : BitVec 32 := 0#32
  let v3746 : BitVec 1 := Scalar.cmpi .ne v3745 c0_i32_2143
  let v3750 : BitVec 1 := Scalar.andi v3749 v3746
  let v3751 : BitVec 32 := Scalar.addi v3745 v3744
  let v3752 : BitVec 32 := Scalar.select v3750 v3751 v3745
  let c177_i32_2147 : BitVec 32 := 177#32
  let c0_i32_2148 : BitVec 32 := 0#32
  ![v3752.toNat, 177, 0]
def k0_off718 (v3756 : BitVec 32) : Fin 2 → Nat :=
  let c0_i32_2149 : BitVec 32 := 0#32
  ![v3756.toNat, 0]

def k0_chk180 (i : grid0.Coords) (v0 : BitVec 32) (v3756 : BitVec 32) : Prop :=
  (∀ (k0_h2 : k0_cond2 i v0 = 1#1), ∀ a, (k0_off718 v3756) a + S1x4096.size a ≤ S16896x4096.size a)
theorem k0_off718_inb : ∀ (i : grid0.Coords) (v0 : BitVec 32) (v3756 : BitVec 32) (k0_hw180 : k0_chk180 i v0 v3756), ∀ (k0_h2 : k0_cond2 i v0 = 1#1), ∀ a, (k0_off718 v3756) a + S1x4096.size a ≤ S16896x4096.size a := fun i v0 v3756 k0_hw180 k0_h2 => k0_hw180 k0_h2

def k0_off719 (i : grid0.Coords) : Fin 1 → Nat :=
  let arg0 : BitVec 32 := BitVec.ofNat 32 (i 0).val
  let c1_i32_2150 : BitVec 32 := 1#32
  let v3762 : BitVec 32 := Scalar.addi arg0 c1_i32_2150
  let c256_i32_2158 : BitVec 32 := 256#32
  let v3774 : BitVec 32 := Scalar.muli v3762 c256_i32_2158
  let c178_i32 : BitVec 32 := 178#32
  let v3775 : BitVec 32 := Scalar.addi v3774 c178_i32
  let v3776 : Index := Scalar.indexCast v3775
  ![v3776.toNat]
def k0_off720 (i : grid0.Coords) : Fin 1 → Nat :=
  let arg0 : BitVec 32 := BitVec.ofNat 32 (i 0).val
  let c1_i32_2151 : BitVec 32 := 1#32
  let v3763 : BitVec 32 := Scalar.addi arg0 c1_i32_2151
  let c2_i32_2152 : BitVec 32 := 2#32
  let c0_i32_2153 : BitVec 32 := 0#32
  let v3764 : BitVec 1 := Scalar.cmpi .eq c2_i32_2152 c0_i32_2153
  let c1_i32_2154 : BitVec 32 := 1#32
  let v3765 : BitVec 32 := Scalar.select v3764 c1_i32_2154 c2_i32_2152
  let v3766 : BitVec 32 := Scalar.remsi v3763 v3765
  let c0_i32_2156 : BitVec 32 := 0#32
  let v3768 : BitVec 1 := Scalar.cmpi .slt v3766 c0_i32_2156
  let c0_i32_2157 : BitVec 32 := 0#32
  let v3769 : BitVec 1 := Scalar.cmpi .slt v3765 c0_i32_2157
  let v3770 : BitVec 1 := Scalar.xori v3768 v3769
  let c0_i32_2155 : BitVec 32 := 0#32
  let v3767 : BitVec 1 := Scalar.cmpi .ne v3766 c0_i32_2155
  let v3771 : BitVec 1 := Scalar.andi v3770 v3767
  let v3772 : BitVec 32 := Scalar.addi v3766 v3765
  let v3773 : BitVec 32 := Scalar.select v3771 v3772 v3766
  ![v3773.toNat]
def k0_off721 (i : grid0.Coords) : Fin 3 → Nat :=
  let arg0 : BitVec 32 := BitVec.ofNat 32 (i 0).val
  let c1_i32_2151 : BitVec 32 := 1#32
  let v3763 : BitVec 32 := Scalar.addi arg0 c1_i32_2151
  let c2_i32_2152 : BitVec 32 := 2#32
  let c0_i32_2153 : BitVec 32 := 0#32
  let v3764 : BitVec 1 := Scalar.cmpi .eq c2_i32_2152 c0_i32_2153
  let c1_i32_2154 : BitVec 32 := 1#32
  let v3765 : BitVec 32 := Scalar.select v3764 c1_i32_2154 c2_i32_2152
  let v3766 : BitVec 32 := Scalar.remsi v3763 v3765
  let c0_i32_2156 : BitVec 32 := 0#32
  let v3768 : BitVec 1 := Scalar.cmpi .slt v3766 c0_i32_2156
  let c0_i32_2157 : BitVec 32 := 0#32
  let v3769 : BitVec 1 := Scalar.cmpi .slt v3765 c0_i32_2157
  let v3770 : BitVec 1 := Scalar.xori v3768 v3769
  let c0_i32_2155 : BitVec 32 := 0#32
  let v3767 : BitVec 1 := Scalar.cmpi .ne v3766 c0_i32_2155
  let v3771 : BitVec 1 := Scalar.andi v3770 v3767
  let v3772 : BitVec 32 := Scalar.addi v3766 v3765
  let v3773 : BitVec 32 := Scalar.select v3771 v3772 v3766
  let c178_i32_2159 : BitVec 32 := 178#32
  let c0_i32_2160 : BitVec 32 := 0#32
  ![v3773.toNat, 178, 0]
def k0_off722 (v3777 : BitVec 32) : Fin 2 → Nat :=
  let c0_i32_2161 : BitVec 32 := 0#32
  ![v3777.toNat, 0]

def k0_chk181 (i : grid0.Coords) (v0 : BitVec 32) (v3777 : BitVec 32) : Prop :=
  (∀ (k0_h2 : k0_cond2 i v0 = 1#1), ∀ a, (k0_off722 v3777) a + S1x4096.size a ≤ S16896x4096.size a)
theorem k0_off722_inb : ∀ (i : grid0.Coords) (v0 : BitVec 32) (v3777 : BitVec 32) (k0_hw181 : k0_chk181 i v0 v3777), ∀ (k0_h2 : k0_cond2 i v0 = 1#1), ∀ a, (k0_off722 v3777) a + S1x4096.size a ≤ S16896x4096.size a := fun i v0 v3777 k0_hw181 k0_h2 => k0_hw181 k0_h2

def k0_off723 (i : grid0.Coords) : Fin 1 → Nat :=
  let arg0 : BitVec 32 := BitVec.ofNat 32 (i 0).val
  let c1_i32_2162 : BitVec 32 := 1#32
  let v3783 : BitVec 32 := Scalar.addi arg0 c1_i32_2162
  let c256_i32_2170 : BitVec 32 := 256#32
  let v3795 : BitVec 32 := Scalar.muli v3783 c256_i32_2170
  let c179_i32 : BitVec 32 := 179#32
  let v3796 : BitVec 32 := Scalar.addi v3795 c179_i32
  let v3797 : Index := Scalar.indexCast v3796
  ![v3797.toNat]
def k0_off724 (i : grid0.Coords) : Fin 1 → Nat :=
  let arg0 : BitVec 32 := BitVec.ofNat 32 (i 0).val
  let c1_i32_2163 : BitVec 32 := 1#32
  let v3784 : BitVec 32 := Scalar.addi arg0 c1_i32_2163
  let c2_i32_2164 : BitVec 32 := 2#32
  let c0_i32_2165 : BitVec 32 := 0#32
  let v3785 : BitVec 1 := Scalar.cmpi .eq c2_i32_2164 c0_i32_2165
  let c1_i32_2166 : BitVec 32 := 1#32
  let v3786 : BitVec 32 := Scalar.select v3785 c1_i32_2166 c2_i32_2164
  let v3787 : BitVec 32 := Scalar.remsi v3784 v3786
  let c0_i32_2168 : BitVec 32 := 0#32
  let v3789 : BitVec 1 := Scalar.cmpi .slt v3787 c0_i32_2168
  let c0_i32_2169 : BitVec 32 := 0#32
  let v3790 : BitVec 1 := Scalar.cmpi .slt v3786 c0_i32_2169
  let v3791 : BitVec 1 := Scalar.xori v3789 v3790
  let c0_i32_2167 : BitVec 32 := 0#32
  let v3788 : BitVec 1 := Scalar.cmpi .ne v3787 c0_i32_2167
  let v3792 : BitVec 1 := Scalar.andi v3791 v3788
  let v3793 : BitVec 32 := Scalar.addi v3787 v3786
  let v3794 : BitVec 32 := Scalar.select v3792 v3793 v3787
  ![v3794.toNat]
def k0_off725 (i : grid0.Coords) : Fin 3 → Nat :=
  let arg0 : BitVec 32 := BitVec.ofNat 32 (i 0).val
  let c1_i32_2163 : BitVec 32 := 1#32
  let v3784 : BitVec 32 := Scalar.addi arg0 c1_i32_2163
  let c2_i32_2164 : BitVec 32 := 2#32
  let c0_i32_2165 : BitVec 32 := 0#32
  let v3785 : BitVec 1 := Scalar.cmpi .eq c2_i32_2164 c0_i32_2165
  let c1_i32_2166 : BitVec 32 := 1#32
  let v3786 : BitVec 32 := Scalar.select v3785 c1_i32_2166 c2_i32_2164
  let v3787 : BitVec 32 := Scalar.remsi v3784 v3786
  let c0_i32_2168 : BitVec 32 := 0#32
  let v3789 : BitVec 1 := Scalar.cmpi .slt v3787 c0_i32_2168
  let c0_i32_2169 : BitVec 32 := 0#32
  let v3790 : BitVec 1 := Scalar.cmpi .slt v3786 c0_i32_2169
  let v3791 : BitVec 1 := Scalar.xori v3789 v3790
  let c0_i32_2167 : BitVec 32 := 0#32
  let v3788 : BitVec 1 := Scalar.cmpi .ne v3787 c0_i32_2167
  let v3792 : BitVec 1 := Scalar.andi v3791 v3788
  let v3793 : BitVec 32 := Scalar.addi v3787 v3786
  let v3794 : BitVec 32 := Scalar.select v3792 v3793 v3787
  let c179_i32_2171 : BitVec 32 := 179#32
  let c0_i32_2172 : BitVec 32 := 0#32
  ![v3794.toNat, 179, 0]
def k0_off726 (v3798 : BitVec 32) : Fin 2 → Nat :=
  let c0_i32_2173 : BitVec 32 := 0#32
  ![v3798.toNat, 0]

def k0_chk182 (i : grid0.Coords) (v0 : BitVec 32) (v3798 : BitVec 32) : Prop :=
  (∀ (k0_h2 : k0_cond2 i v0 = 1#1), ∀ a, (k0_off726 v3798) a + S1x4096.size a ≤ S16896x4096.size a)
theorem k0_off726_inb : ∀ (i : grid0.Coords) (v0 : BitVec 32) (v3798 : BitVec 32) (k0_hw182 : k0_chk182 i v0 v3798), ∀ (k0_h2 : k0_cond2 i v0 = 1#1), ∀ a, (k0_off726 v3798) a + S1x4096.size a ≤ S16896x4096.size a := fun i v0 v3798 k0_hw182 k0_h2 => k0_hw182 k0_h2

def k0_off727 (i : grid0.Coords) : Fin 1 → Nat :=
  let arg0 : BitVec 32 := BitVec.ofNat 32 (i 0).val
  let c1_i32_2174 : BitVec 32 := 1#32
  let v3804 : BitVec 32 := Scalar.addi arg0 c1_i32_2174
  let c256_i32_2182 : BitVec 32 := 256#32
  let v3816 : BitVec 32 := Scalar.muli v3804 c256_i32_2182
  let c180_i32 : BitVec 32 := 180#32
  let v3817 : BitVec 32 := Scalar.addi v3816 c180_i32
  let v3818 : Index := Scalar.indexCast v3817
  ![v3818.toNat]
def k0_off728 (i : grid0.Coords) : Fin 1 → Nat :=
  let arg0 : BitVec 32 := BitVec.ofNat 32 (i 0).val
  let c1_i32_2175 : BitVec 32 := 1#32
  let v3805 : BitVec 32 := Scalar.addi arg0 c1_i32_2175
  let c2_i32_2176 : BitVec 32 := 2#32
  let c0_i32_2177 : BitVec 32 := 0#32
  let v3806 : BitVec 1 := Scalar.cmpi .eq c2_i32_2176 c0_i32_2177
  let c1_i32_2178 : BitVec 32 := 1#32
  let v3807 : BitVec 32 := Scalar.select v3806 c1_i32_2178 c2_i32_2176
  let v3808 : BitVec 32 := Scalar.remsi v3805 v3807
  let c0_i32_2180 : BitVec 32 := 0#32
  let v3810 : BitVec 1 := Scalar.cmpi .slt v3808 c0_i32_2180
  let c0_i32_2181 : BitVec 32 := 0#32
  let v3811 : BitVec 1 := Scalar.cmpi .slt v3807 c0_i32_2181
  let v3812 : BitVec 1 := Scalar.xori v3810 v3811
  let c0_i32_2179 : BitVec 32 := 0#32
  let v3809 : BitVec 1 := Scalar.cmpi .ne v3808 c0_i32_2179
  let v3813 : BitVec 1 := Scalar.andi v3812 v3809
  let v3814 : BitVec 32 := Scalar.addi v3808 v3807
  let v3815 : BitVec 32 := Scalar.select v3813 v3814 v3808
  ![v3815.toNat]
def k0_off729 (i : grid0.Coords) : Fin 3 → Nat :=
  let arg0 : BitVec 32 := BitVec.ofNat 32 (i 0).val
  let c1_i32_2175 : BitVec 32 := 1#32
  let v3805 : BitVec 32 := Scalar.addi arg0 c1_i32_2175
  let c2_i32_2176 : BitVec 32 := 2#32
  let c0_i32_2177 : BitVec 32 := 0#32
  let v3806 : BitVec 1 := Scalar.cmpi .eq c2_i32_2176 c0_i32_2177
  let c1_i32_2178 : BitVec 32 := 1#32
  let v3807 : BitVec 32 := Scalar.select v3806 c1_i32_2178 c2_i32_2176
  let v3808 : BitVec 32 := Scalar.remsi v3805 v3807
  let c0_i32_2180 : BitVec 32 := 0#32
  let v3810 : BitVec 1 := Scalar.cmpi .slt v3808 c0_i32_2180
  let c0_i32_2181 : BitVec 32 := 0#32
  let v3811 : BitVec 1 := Scalar.cmpi .slt v3807 c0_i32_2181
  let v3812 : BitVec 1 := Scalar.xori v3810 v3811
  let c0_i32_2179 : BitVec 32 := 0#32
  let v3809 : BitVec 1 := Scalar.cmpi .ne v3808 c0_i32_2179
  let v3813 : BitVec 1 := Scalar.andi v3812 v3809
  let v3814 : BitVec 32 := Scalar.addi v3808 v3807
  let v3815 : BitVec 32 := Scalar.select v3813 v3814 v3808
  let c180_i32_2183 : BitVec 32 := 180#32
  let c0_i32_2184 : BitVec 32 := 0#32
  ![v3815.toNat, 180, 0]
def k0_off730 (v3819 : BitVec 32) : Fin 2 → Nat :=
  let c0_i32_2185 : BitVec 32 := 0#32
  ![v3819.toNat, 0]

def k0_chk183 (i : grid0.Coords) (v0 : BitVec 32) (v3819 : BitVec 32) : Prop :=
  (∀ (k0_h2 : k0_cond2 i v0 = 1#1), ∀ a, (k0_off730 v3819) a + S1x4096.size a ≤ S16896x4096.size a)
theorem k0_off730_inb : ∀ (i : grid0.Coords) (v0 : BitVec 32) (v3819 : BitVec 32) (k0_hw183 : k0_chk183 i v0 v3819), ∀ (k0_h2 : k0_cond2 i v0 = 1#1), ∀ a, (k0_off730 v3819) a + S1x4096.size a ≤ S16896x4096.size a := fun i v0 v3819 k0_hw183 k0_h2 => k0_hw183 k0_h2

def k0_off731 (i : grid0.Coords) : Fin 1 → Nat :=
  let arg0 : BitVec 32 := BitVec.ofNat 32 (i 0).val
  let c1_i32_2186 : BitVec 32 := 1#32
  let v3825 : BitVec 32 := Scalar.addi arg0 c1_i32_2186
  let c256_i32_2194 : BitVec 32 := 256#32
  let v3837 : BitVec 32 := Scalar.muli v3825 c256_i32_2194
  let c181_i32 : BitVec 32 := 181#32
  let v3838 : BitVec 32 := Scalar.addi v3837 c181_i32
  let v3839 : Index := Scalar.indexCast v3838
  ![v3839.toNat]
def k0_off732 (i : grid0.Coords) : Fin 1 → Nat :=
  let arg0 : BitVec 32 := BitVec.ofNat 32 (i 0).val
  let c1_i32_2187 : BitVec 32 := 1#32
  let v3826 : BitVec 32 := Scalar.addi arg0 c1_i32_2187
  let c2_i32_2188 : BitVec 32 := 2#32
  let c0_i32_2189 : BitVec 32 := 0#32
  let v3827 : BitVec 1 := Scalar.cmpi .eq c2_i32_2188 c0_i32_2189
  let c1_i32_2190 : BitVec 32 := 1#32
  let v3828 : BitVec 32 := Scalar.select v3827 c1_i32_2190 c2_i32_2188
  let v3829 : BitVec 32 := Scalar.remsi v3826 v3828
  let c0_i32_2192 : BitVec 32 := 0#32
  let v3831 : BitVec 1 := Scalar.cmpi .slt v3829 c0_i32_2192
  let c0_i32_2193 : BitVec 32 := 0#32
  let v3832 : BitVec 1 := Scalar.cmpi .slt v3828 c0_i32_2193
  let v3833 : BitVec 1 := Scalar.xori v3831 v3832
  let c0_i32_2191 : BitVec 32 := 0#32
  let v3830 : BitVec 1 := Scalar.cmpi .ne v3829 c0_i32_2191
  let v3834 : BitVec 1 := Scalar.andi v3833 v3830
  let v3835 : BitVec 32 := Scalar.addi v3829 v3828
  let v3836 : BitVec 32 := Scalar.select v3834 v3835 v3829
  ![v3836.toNat]
def k0_off733 (i : grid0.Coords) : Fin 3 → Nat :=
  let arg0 : BitVec 32 := BitVec.ofNat 32 (i 0).val
  let c1_i32_2187 : BitVec 32 := 1#32
  let v3826 : BitVec 32 := Scalar.addi arg0 c1_i32_2187
  let c2_i32_2188 : BitVec 32 := 2#32
  let c0_i32_2189 : BitVec 32 := 0#32
  let v3827 : BitVec 1 := Scalar.cmpi .eq c2_i32_2188 c0_i32_2189
  let c1_i32_2190 : BitVec 32 := 1#32
  let v3828 : BitVec 32 := Scalar.select v3827 c1_i32_2190 c2_i32_2188
  let v3829 : BitVec 32 := Scalar.remsi v3826 v3828
  let c0_i32_2192 : BitVec 32 := 0#32
  let v3831 : BitVec 1 := Scalar.cmpi .slt v3829 c0_i32_2192
  let c0_i32_2193 : BitVec 32 := 0#32
  let v3832 : BitVec 1 := Scalar.cmpi .slt v3828 c0_i32_2193
  let v3833 : BitVec 1 := Scalar.xori v3831 v3832
  let c0_i32_2191 : BitVec 32 := 0#32
  let v3830 : BitVec 1 := Scalar.cmpi .ne v3829 c0_i32_2191
  let v3834 : BitVec 1 := Scalar.andi v3833 v3830
  let v3835 : BitVec 32 := Scalar.addi v3829 v3828
  let v3836 : BitVec 32 := Scalar.select v3834 v3835 v3829
  let c181_i32_2195 : BitVec 32 := 181#32
  let c0_i32_2196 : BitVec 32 := 0#32
  ![v3836.toNat, 181, 0]
def k0_off734 (v3840 : BitVec 32) : Fin 2 → Nat :=
  let c0_i32_2197 : BitVec 32 := 0#32
  ![v3840.toNat, 0]

def k0_chk184 (i : grid0.Coords) (v0 : BitVec 32) (v3840 : BitVec 32) : Prop :=
  (∀ (k0_h2 : k0_cond2 i v0 = 1#1), ∀ a, (k0_off734 v3840) a + S1x4096.size a ≤ S16896x4096.size a)
theorem k0_off734_inb : ∀ (i : grid0.Coords) (v0 : BitVec 32) (v3840 : BitVec 32) (k0_hw184 : k0_chk184 i v0 v3840), ∀ (k0_h2 : k0_cond2 i v0 = 1#1), ∀ a, (k0_off734 v3840) a + S1x4096.size a ≤ S16896x4096.size a := fun i v0 v3840 k0_hw184 k0_h2 => k0_hw184 k0_h2

def k0_off735 (i : grid0.Coords) : Fin 1 → Nat :=
  let arg0 : BitVec 32 := BitVec.ofNat 32 (i 0).val
  let c1_i32_2198 : BitVec 32 := 1#32
  let v3846 : BitVec 32 := Scalar.addi arg0 c1_i32_2198
  let c256_i32_2206 : BitVec 32 := 256#32
  let v3858 : BitVec 32 := Scalar.muli v3846 c256_i32_2206
  let c182_i32 : BitVec 32 := 182#32
  let v3859 : BitVec 32 := Scalar.addi v3858 c182_i32
  let v3860 : Index := Scalar.indexCast v3859
  ![v3860.toNat]
def k0_off736 (i : grid0.Coords) : Fin 1 → Nat :=
  let arg0 : BitVec 32 := BitVec.ofNat 32 (i 0).val
  let c1_i32_2199 : BitVec 32 := 1#32
  let v3847 : BitVec 32 := Scalar.addi arg0 c1_i32_2199
  let c2_i32_2200 : BitVec 32 := 2#32
  let c0_i32_2201 : BitVec 32 := 0#32
  let v3848 : BitVec 1 := Scalar.cmpi .eq c2_i32_2200 c0_i32_2201
  let c1_i32_2202 : BitVec 32 := 1#32
  let v3849 : BitVec 32 := Scalar.select v3848 c1_i32_2202 c2_i32_2200
  let v3850 : BitVec 32 := Scalar.remsi v3847 v3849
  let c0_i32_2204 : BitVec 32 := 0#32
  let v3852 : BitVec 1 := Scalar.cmpi .slt v3850 c0_i32_2204
  let c0_i32_2205 : BitVec 32 := 0#32
  let v3853 : BitVec 1 := Scalar.cmpi .slt v3849 c0_i32_2205
  let v3854 : BitVec 1 := Scalar.xori v3852 v3853
  let c0_i32_2203 : BitVec 32 := 0#32
  let v3851 : BitVec 1 := Scalar.cmpi .ne v3850 c0_i32_2203
  let v3855 : BitVec 1 := Scalar.andi v3854 v3851
  let v3856 : BitVec 32 := Scalar.addi v3850 v3849
  let v3857 : BitVec 32 := Scalar.select v3855 v3856 v3850
  ![v3857.toNat]
def k0_off737 (i : grid0.Coords) : Fin 3 → Nat :=
  let arg0 : BitVec 32 := BitVec.ofNat 32 (i 0).val
  let c1_i32_2199 : BitVec 32 := 1#32
  let v3847 : BitVec 32 := Scalar.addi arg0 c1_i32_2199
  let c2_i32_2200 : BitVec 32 := 2#32
  let c0_i32_2201 : BitVec 32 := 0#32
  let v3848 : BitVec 1 := Scalar.cmpi .eq c2_i32_2200 c0_i32_2201
  let c1_i32_2202 : BitVec 32 := 1#32
  let v3849 : BitVec 32 := Scalar.select v3848 c1_i32_2202 c2_i32_2200
  let v3850 : BitVec 32 := Scalar.remsi v3847 v3849
  let c0_i32_2204 : BitVec 32 := 0#32
  let v3852 : BitVec 1 := Scalar.cmpi .slt v3850 c0_i32_2204
  let c0_i32_2205 : BitVec 32 := 0#32
  let v3853 : BitVec 1 := Scalar.cmpi .slt v3849 c0_i32_2205
  let v3854 : BitVec 1 := Scalar.xori v3852 v3853
  let c0_i32_2203 : BitVec 32 := 0#32
  let v3851 : BitVec 1 := Scalar.cmpi .ne v3850 c0_i32_2203
  let v3855 : BitVec 1 := Scalar.andi v3854 v3851
  let v3856 : BitVec 32 := Scalar.addi v3850 v3849
  let v3857 : BitVec 32 := Scalar.select v3855 v3856 v3850
  let c182_i32_2207 : BitVec 32 := 182#32
  let c0_i32_2208 : BitVec 32 := 0#32
  ![v3857.toNat, 182, 0]
def k0_off738 (v3861 : BitVec 32) : Fin 2 → Nat :=
  let c0_i32_2209 : BitVec 32 := 0#32
  ![v3861.toNat, 0]

def k0_chk185 (i : grid0.Coords) (v0 : BitVec 32) (v3861 : BitVec 32) : Prop :=
  (∀ (k0_h2 : k0_cond2 i v0 = 1#1), ∀ a, (k0_off738 v3861) a + S1x4096.size a ≤ S16896x4096.size a)
theorem k0_off738_inb : ∀ (i : grid0.Coords) (v0 : BitVec 32) (v3861 : BitVec 32) (k0_hw185 : k0_chk185 i v0 v3861), ∀ (k0_h2 : k0_cond2 i v0 = 1#1), ∀ a, (k0_off738 v3861) a + S1x4096.size a ≤ S16896x4096.size a := fun i v0 v3861 k0_hw185 k0_h2 => k0_hw185 k0_h2

def k0_off739 (i : grid0.Coords) : Fin 1 → Nat :=
  let arg0 : BitVec 32 := BitVec.ofNat 32 (i 0).val
  let c1_i32_2210 : BitVec 32 := 1#32
  let v3867 : BitVec 32 := Scalar.addi arg0 c1_i32_2210
  let c256_i32_2218 : BitVec 32 := 256#32
  let v3879 : BitVec 32 := Scalar.muli v3867 c256_i32_2218
  let c183_i32 : BitVec 32 := 183#32
  let v3880 : BitVec 32 := Scalar.addi v3879 c183_i32
  let v3881 : Index := Scalar.indexCast v3880
  ![v3881.toNat]
def k0_off740 (i : grid0.Coords) : Fin 1 → Nat :=
  let arg0 : BitVec 32 := BitVec.ofNat 32 (i 0).val
  let c1_i32_2211 : BitVec 32 := 1#32
  let v3868 : BitVec 32 := Scalar.addi arg0 c1_i32_2211
  let c2_i32_2212 : BitVec 32 := 2#32
  let c0_i32_2213 : BitVec 32 := 0#32
  let v3869 : BitVec 1 := Scalar.cmpi .eq c2_i32_2212 c0_i32_2213
  let c1_i32_2214 : BitVec 32 := 1#32
  let v3870 : BitVec 32 := Scalar.select v3869 c1_i32_2214 c2_i32_2212
  let v3871 : BitVec 32 := Scalar.remsi v3868 v3870
  let c0_i32_2216 : BitVec 32 := 0#32
  let v3873 : BitVec 1 := Scalar.cmpi .slt v3871 c0_i32_2216
  let c0_i32_2217 : BitVec 32 := 0#32
  let v3874 : BitVec 1 := Scalar.cmpi .slt v3870 c0_i32_2217
  let v3875 : BitVec 1 := Scalar.xori v3873 v3874
  let c0_i32_2215 : BitVec 32 := 0#32
  let v3872 : BitVec 1 := Scalar.cmpi .ne v3871 c0_i32_2215
  let v3876 : BitVec 1 := Scalar.andi v3875 v3872
  let v3877 : BitVec 32 := Scalar.addi v3871 v3870
  let v3878 : BitVec 32 := Scalar.select v3876 v3877 v3871
  ![v3878.toNat]
def k0_off741 (i : grid0.Coords) : Fin 3 → Nat :=
  let arg0 : BitVec 32 := BitVec.ofNat 32 (i 0).val
  let c1_i32_2211 : BitVec 32 := 1#32
  let v3868 : BitVec 32 := Scalar.addi arg0 c1_i32_2211
  let c2_i32_2212 : BitVec 32 := 2#32
  let c0_i32_2213 : BitVec 32 := 0#32
  let v3869 : BitVec 1 := Scalar.cmpi .eq c2_i32_2212 c0_i32_2213
  let c1_i32_2214 : BitVec 32 := 1#32
  let v3870 : BitVec 32 := Scalar.select v3869 c1_i32_2214 c2_i32_2212
  let v3871 : BitVec 32 := Scalar.remsi v3868 v3870
  let c0_i32_2216 : BitVec 32 := 0#32
  let v3873 : BitVec 1 := Scalar.cmpi .slt v3871 c0_i32_2216
  let c0_i32_2217 : BitVec 32 := 0#32
  let v3874 : BitVec 1 := Scalar.cmpi .slt v3870 c0_i32_2217
  let v3875 : BitVec 1 := Scalar.xori v3873 v3874
  let c0_i32_2215 : BitVec 32 := 0#32
  let v3872 : BitVec 1 := Scalar.cmpi .ne v3871 c0_i32_2215
  let v3876 : BitVec 1 := Scalar.andi v3875 v3872
  let v3877 : BitVec 32 := Scalar.addi v3871 v3870
  let v3878 : BitVec 32 := Scalar.select v3876 v3877 v3871
  let c183_i32_2219 : BitVec 32 := 183#32
  let c0_i32_2220 : BitVec 32 := 0#32
  ![v3878.toNat, 183, 0]
def k0_off742 (v3882 : BitVec 32) : Fin 2 → Nat :=
  let c0_i32_2221 : BitVec 32 := 0#32
  ![v3882.toNat, 0]

def k0_chk186 (i : grid0.Coords) (v0 : BitVec 32) (v3882 : BitVec 32) : Prop :=
  (∀ (k0_h2 : k0_cond2 i v0 = 1#1), ∀ a, (k0_off742 v3882) a + S1x4096.size a ≤ S16896x4096.size a)
theorem k0_off742_inb : ∀ (i : grid0.Coords) (v0 : BitVec 32) (v3882 : BitVec 32) (k0_hw186 : k0_chk186 i v0 v3882), ∀ (k0_h2 : k0_cond2 i v0 = 1#1), ∀ a, (k0_off742 v3882) a + S1x4096.size a ≤ S16896x4096.size a := fun i v0 v3882 k0_hw186 k0_h2 => k0_hw186 k0_h2

def k0_off743 (i : grid0.Coords) : Fin 1 → Nat :=
  let arg0 : BitVec 32 := BitVec.ofNat 32 (i 0).val
  let c1_i32_2222 : BitVec 32 := 1#32
  let v3888 : BitVec 32 := Scalar.addi arg0 c1_i32_2222
  let c256_i32_2230 : BitVec 32 := 256#32
  let v3900 : BitVec 32 := Scalar.muli v3888 c256_i32_2230
  let c184_i32 : BitVec 32 := 184#32
  let v3901 : BitVec 32 := Scalar.addi v3900 c184_i32
  let v3902 : Index := Scalar.indexCast v3901
  ![v3902.toNat]
def k0_off744 (i : grid0.Coords) : Fin 1 → Nat :=
  let arg0 : BitVec 32 := BitVec.ofNat 32 (i 0).val
  let c1_i32_2223 : BitVec 32 := 1#32
  let v3889 : BitVec 32 := Scalar.addi arg0 c1_i32_2223
  let c2_i32_2224 : BitVec 32 := 2#32
  let c0_i32_2225 : BitVec 32 := 0#32
  let v3890 : BitVec 1 := Scalar.cmpi .eq c2_i32_2224 c0_i32_2225
  let c1_i32_2226 : BitVec 32 := 1#32
  let v3891 : BitVec 32 := Scalar.select v3890 c1_i32_2226 c2_i32_2224
  let v3892 : BitVec 32 := Scalar.remsi v3889 v3891
  let c0_i32_2228 : BitVec 32 := 0#32
  let v3894 : BitVec 1 := Scalar.cmpi .slt v3892 c0_i32_2228
  let c0_i32_2229 : BitVec 32 := 0#32
  let v3895 : BitVec 1 := Scalar.cmpi .slt v3891 c0_i32_2229
  let v3896 : BitVec 1 := Scalar.xori v3894 v3895
  let c0_i32_2227 : BitVec 32 := 0#32
  let v3893 : BitVec 1 := Scalar.cmpi .ne v3892 c0_i32_2227
  let v3897 : BitVec 1 := Scalar.andi v3896 v3893
  let v3898 : BitVec 32 := Scalar.addi v3892 v3891
  let v3899 : BitVec 32 := Scalar.select v3897 v3898 v3892
  ![v3899.toNat]
def k0_off745 (i : grid0.Coords) : Fin 3 → Nat :=
  let arg0 : BitVec 32 := BitVec.ofNat 32 (i 0).val
  let c1_i32_2223 : BitVec 32 := 1#32
  let v3889 : BitVec 32 := Scalar.addi arg0 c1_i32_2223
  let c2_i32_2224 : BitVec 32 := 2#32
  let c0_i32_2225 : BitVec 32 := 0#32
  let v3890 : BitVec 1 := Scalar.cmpi .eq c2_i32_2224 c0_i32_2225
  let c1_i32_2226 : BitVec 32 := 1#32
  let v3891 : BitVec 32 := Scalar.select v3890 c1_i32_2226 c2_i32_2224
  let v3892 : BitVec 32 := Scalar.remsi v3889 v3891
  let c0_i32_2228 : BitVec 32 := 0#32
  let v3894 : BitVec 1 := Scalar.cmpi .slt v3892 c0_i32_2228
  let c0_i32_2229 : BitVec 32 := 0#32
  let v3895 : BitVec 1 := Scalar.cmpi .slt v3891 c0_i32_2229
  let v3896 : BitVec 1 := Scalar.xori v3894 v3895
  let c0_i32_2227 : BitVec 32 := 0#32
  let v3893 : BitVec 1 := Scalar.cmpi .ne v3892 c0_i32_2227
  let v3897 : BitVec 1 := Scalar.andi v3896 v3893
  let v3898 : BitVec 32 := Scalar.addi v3892 v3891
  let v3899 : BitVec 32 := Scalar.select v3897 v3898 v3892
  let c184_i32_2231 : BitVec 32 := 184#32
  let c0_i32_2232 : BitVec 32 := 0#32
  ![v3899.toNat, 184, 0]
def k0_off746 (v3903 : BitVec 32) : Fin 2 → Nat :=
  let c0_i32_2233 : BitVec 32 := 0#32
  ![v3903.toNat, 0]

def k0_chk187 (i : grid0.Coords) (v0 : BitVec 32) (v3903 : BitVec 32) : Prop :=
  (∀ (k0_h2 : k0_cond2 i v0 = 1#1), ∀ a, (k0_off746 v3903) a + S1x4096.size a ≤ S16896x4096.size a)
theorem k0_off746_inb : ∀ (i : grid0.Coords) (v0 : BitVec 32) (v3903 : BitVec 32) (k0_hw187 : k0_chk187 i v0 v3903), ∀ (k0_h2 : k0_cond2 i v0 = 1#1), ∀ a, (k0_off746 v3903) a + S1x4096.size a ≤ S16896x4096.size a := fun i v0 v3903 k0_hw187 k0_h2 => k0_hw187 k0_h2

def k0_off747 (i : grid0.Coords) : Fin 1 → Nat :=
  let arg0 : BitVec 32 := BitVec.ofNat 32 (i 0).val
  let c1_i32_2234 : BitVec 32 := 1#32
  let v3909 : BitVec 32 := Scalar.addi arg0 c1_i32_2234
  let c256_i32_2242 : BitVec 32 := 256#32
  let v3921 : BitVec 32 := Scalar.muli v3909 c256_i32_2242
  let c185_i32 : BitVec 32 := 185#32
  let v3922 : BitVec 32 := Scalar.addi v3921 c185_i32
  let v3923 : Index := Scalar.indexCast v3922
  ![v3923.toNat]
def k0_off748 (i : grid0.Coords) : Fin 1 → Nat :=
  let arg0 : BitVec 32 := BitVec.ofNat 32 (i 0).val
  let c1_i32_2235 : BitVec 32 := 1#32
  let v3910 : BitVec 32 := Scalar.addi arg0 c1_i32_2235
  let c2_i32_2236 : BitVec 32 := 2#32
  let c0_i32_2237 : BitVec 32 := 0#32
  let v3911 : BitVec 1 := Scalar.cmpi .eq c2_i32_2236 c0_i32_2237
  let c1_i32_2238 : BitVec 32 := 1#32
  let v3912 : BitVec 32 := Scalar.select v3911 c1_i32_2238 c2_i32_2236
  let v3913 : BitVec 32 := Scalar.remsi v3910 v3912
  let c0_i32_2240 : BitVec 32 := 0#32
  let v3915 : BitVec 1 := Scalar.cmpi .slt v3913 c0_i32_2240
  let c0_i32_2241 : BitVec 32 := 0#32
  let v3916 : BitVec 1 := Scalar.cmpi .slt v3912 c0_i32_2241
  let v3917 : BitVec 1 := Scalar.xori v3915 v3916
  let c0_i32_2239 : BitVec 32 := 0#32
  let v3914 : BitVec 1 := Scalar.cmpi .ne v3913 c0_i32_2239
  let v3918 : BitVec 1 := Scalar.andi v3917 v3914
  let v3919 : BitVec 32 := Scalar.addi v3913 v3912
  let v3920 : BitVec 32 := Scalar.select v3918 v3919 v3913
  ![v3920.toNat]
def k0_off749 (i : grid0.Coords) : Fin 3 → Nat :=
  let arg0 : BitVec 32 := BitVec.ofNat 32 (i 0).val
  let c1_i32_2235 : BitVec 32 := 1#32
  let v3910 : BitVec 32 := Scalar.addi arg0 c1_i32_2235
  let c2_i32_2236 : BitVec 32 := 2#32
  let c0_i32_2237 : BitVec 32 := 0#32
  let v3911 : BitVec 1 := Scalar.cmpi .eq c2_i32_2236 c0_i32_2237
  let c1_i32_2238 : BitVec 32 := 1#32
  let v3912 : BitVec 32 := Scalar.select v3911 c1_i32_2238 c2_i32_2236
  let v3913 : BitVec 32 := Scalar.remsi v3910 v3912
  let c0_i32_2240 : BitVec 32 := 0#32
  let v3915 : BitVec 1 := Scalar.cmpi .slt v3913 c0_i32_2240
  let c0_i32_2241 : BitVec 32 := 0#32
  let v3916 : BitVec 1 := Scalar.cmpi .slt v3912 c0_i32_2241
  let v3917 : BitVec 1 := Scalar.xori v3915 v3916
  let c0_i32_2239 : BitVec 32 := 0#32
  let v3914 : BitVec 1 := Scalar.cmpi .ne v3913 c0_i32_2239
  let v3918 : BitVec 1 := Scalar.andi v3917 v3914
  let v3919 : BitVec 32 := Scalar.addi v3913 v3912
  let v3920 : BitVec 32 := Scalar.select v3918 v3919 v3913
  let c185_i32_2243 : BitVec 32 := 185#32
  let c0_i32_2244 : BitVec 32 := 0#32
  ![v3920.toNat, 185, 0]
def k0_off750 (v3924 : BitVec 32) : Fin 2 → Nat :=
  let c0_i32_2245 : BitVec 32 := 0#32
  ![v3924.toNat, 0]

def k0_chk188 (i : grid0.Coords) (v0 : BitVec 32) (v3924 : BitVec 32) : Prop :=
  (∀ (k0_h2 : k0_cond2 i v0 = 1#1), ∀ a, (k0_off750 v3924) a + S1x4096.size a ≤ S16896x4096.size a)
theorem k0_off750_inb : ∀ (i : grid0.Coords) (v0 : BitVec 32) (v3924 : BitVec 32) (k0_hw188 : k0_chk188 i v0 v3924), ∀ (k0_h2 : k0_cond2 i v0 = 1#1), ∀ a, (k0_off750 v3924) a + S1x4096.size a ≤ S16896x4096.size a := fun i v0 v3924 k0_hw188 k0_h2 => k0_hw188 k0_h2

def k0_off751 (i : grid0.Coords) : Fin 1 → Nat :=
  let arg0 : BitVec 32 := BitVec.ofNat 32 (i 0).val
  let c1_i32_2246 : BitVec 32 := 1#32
  let v3930 : BitVec 32 := Scalar.addi arg0 c1_i32_2246
  let c256_i32_2254 : BitVec 32 := 256#32
  let v3942 : BitVec 32 := Scalar.muli v3930 c256_i32_2254
  let c186_i32 : BitVec 32 := 186#32
  let v3943 : BitVec 32 := Scalar.addi v3942 c186_i32
  let v3944 : Index := Scalar.indexCast v3943
  ![v3944.toNat]
def k0_off752 (i : grid0.Coords) : Fin 1 → Nat :=
  let arg0 : BitVec 32 := BitVec.ofNat 32 (i 0).val
  let c1_i32_2247 : BitVec 32 := 1#32
  let v3931 : BitVec 32 := Scalar.addi arg0 c1_i32_2247
  let c2_i32_2248 : BitVec 32 := 2#32
  let c0_i32_2249 : BitVec 32 := 0#32
  let v3932 : BitVec 1 := Scalar.cmpi .eq c2_i32_2248 c0_i32_2249
  let c1_i32_2250 : BitVec 32 := 1#32
  let v3933 : BitVec 32 := Scalar.select v3932 c1_i32_2250 c2_i32_2248
  let v3934 : BitVec 32 := Scalar.remsi v3931 v3933
  let c0_i32_2252 : BitVec 32 := 0#32
  let v3936 : BitVec 1 := Scalar.cmpi .slt v3934 c0_i32_2252
  let c0_i32_2253 : BitVec 32 := 0#32
  let v3937 : BitVec 1 := Scalar.cmpi .slt v3933 c0_i32_2253
  let v3938 : BitVec 1 := Scalar.xori v3936 v3937
  let c0_i32_2251 : BitVec 32 := 0#32
  let v3935 : BitVec 1 := Scalar.cmpi .ne v3934 c0_i32_2251
  let v3939 : BitVec 1 := Scalar.andi v3938 v3935
  let v3940 : BitVec 32 := Scalar.addi v3934 v3933
  let v3941 : BitVec 32 := Scalar.select v3939 v3940 v3934
  ![v3941.toNat]
def k0_off753 (i : grid0.Coords) : Fin 3 → Nat :=
  let arg0 : BitVec 32 := BitVec.ofNat 32 (i 0).val
  let c1_i32_2247 : BitVec 32 := 1#32
  let v3931 : BitVec 32 := Scalar.addi arg0 c1_i32_2247
  let c2_i32_2248 : BitVec 32 := 2#32
  let c0_i32_2249 : BitVec 32 := 0#32
  let v3932 : BitVec 1 := Scalar.cmpi .eq c2_i32_2248 c0_i32_2249
  let c1_i32_2250 : BitVec 32 := 1#32
  let v3933 : BitVec 32 := Scalar.select v3932 c1_i32_2250 c2_i32_2248
  let v3934 : BitVec 32 := Scalar.remsi v3931 v3933
  let c0_i32_2252 : BitVec 32 := 0#32
  let v3936 : BitVec 1 := Scalar.cmpi .slt v3934 c0_i32_2252
  let c0_i32_2253 : BitVec 32 := 0#32
  let v3937 : BitVec 1 := Scalar.cmpi .slt v3933 c0_i32_2253
  let v3938 : BitVec 1 := Scalar.xori v3936 v3937
  let c0_i32_2251 : BitVec 32 := 0#32
  let v3935 : BitVec 1 := Scalar.cmpi .ne v3934 c0_i32_2251
  let v3939 : BitVec 1 := Scalar.andi v3938 v3935
  let v3940 : BitVec 32 := Scalar.addi v3934 v3933
  let v3941 : BitVec 32 := Scalar.select v3939 v3940 v3934
  let c186_i32_2255 : BitVec 32 := 186#32
  let c0_i32_2256 : BitVec 32 := 0#32
  ![v3941.toNat, 186, 0]
def k0_off754 (v3945 : BitVec 32) : Fin 2 → Nat :=
  let c0_i32_2257 : BitVec 32 := 0#32
  ![v3945.toNat, 0]

def k0_chk189 (i : grid0.Coords) (v0 : BitVec 32) (v3945 : BitVec 32) : Prop :=
  (∀ (k0_h2 : k0_cond2 i v0 = 1#1), ∀ a, (k0_off754 v3945) a + S1x4096.size a ≤ S16896x4096.size a)
theorem k0_off754_inb : ∀ (i : grid0.Coords) (v0 : BitVec 32) (v3945 : BitVec 32) (k0_hw189 : k0_chk189 i v0 v3945), ∀ (k0_h2 : k0_cond2 i v0 = 1#1), ∀ a, (k0_off754 v3945) a + S1x4096.size a ≤ S16896x4096.size a := fun i v0 v3945 k0_hw189 k0_h2 => k0_hw189 k0_h2

def k0_off755 (i : grid0.Coords) : Fin 1 → Nat :=
  let arg0 : BitVec 32 := BitVec.ofNat 32 (i 0).val
  let c1_i32_2258 : BitVec 32 := 1#32
  let v3951 : BitVec 32 := Scalar.addi arg0 c1_i32_2258
  let c256_i32_2266 : BitVec 32 := 256#32
  let v3963 : BitVec 32 := Scalar.muli v3951 c256_i32_2266
  let c187_i32 : BitVec 32 := 187#32
  let v3964 : BitVec 32 := Scalar.addi v3963 c187_i32
  let v3965 : Index := Scalar.indexCast v3964
  ![v3965.toNat]
def k0_off756 (i : grid0.Coords) : Fin 1 → Nat :=
  let arg0 : BitVec 32 := BitVec.ofNat 32 (i 0).val
  let c1_i32_2259 : BitVec 32 := 1#32
  let v3952 : BitVec 32 := Scalar.addi arg0 c1_i32_2259
  let c2_i32_2260 : BitVec 32 := 2#32
  let c0_i32_2261 : BitVec 32 := 0#32
  let v3953 : BitVec 1 := Scalar.cmpi .eq c2_i32_2260 c0_i32_2261
  let c1_i32_2262 : BitVec 32 := 1#32
  let v3954 : BitVec 32 := Scalar.select v3953 c1_i32_2262 c2_i32_2260
  let v3955 : BitVec 32 := Scalar.remsi v3952 v3954
  let c0_i32_2264 : BitVec 32 := 0#32
  let v3957 : BitVec 1 := Scalar.cmpi .slt v3955 c0_i32_2264
  let c0_i32_2265 : BitVec 32 := 0#32
  let v3958 : BitVec 1 := Scalar.cmpi .slt v3954 c0_i32_2265
  let v3959 : BitVec 1 := Scalar.xori v3957 v3958
  let c0_i32_2263 : BitVec 32 := 0#32
  let v3956 : BitVec 1 := Scalar.cmpi .ne v3955 c0_i32_2263
  let v3960 : BitVec 1 := Scalar.andi v3959 v3956
  let v3961 : BitVec 32 := Scalar.addi v3955 v3954
  let v3962 : BitVec 32 := Scalar.select v3960 v3961 v3955
  ![v3962.toNat]
def k0_off757 (i : grid0.Coords) : Fin 3 → Nat :=
  let arg0 : BitVec 32 := BitVec.ofNat 32 (i 0).val
  let c1_i32_2259 : BitVec 32 := 1#32
  let v3952 : BitVec 32 := Scalar.addi arg0 c1_i32_2259
  let c2_i32_2260 : BitVec 32 := 2#32
  let c0_i32_2261 : BitVec 32 := 0#32
  let v3953 : BitVec 1 := Scalar.cmpi .eq c2_i32_2260 c0_i32_2261
  let c1_i32_2262 : BitVec 32 := 1#32
  let v3954 : BitVec 32 := Scalar.select v3953 c1_i32_2262 c2_i32_2260
  let v3955 : BitVec 32 := Scalar.remsi v3952 v3954
  let c0_i32_2264 : BitVec 32 := 0#32
  let v3957 : BitVec 1 := Scalar.cmpi .slt v3955 c0_i32_2264
  let c0_i32_2265 : BitVec 32 := 0#32
  let v3958 : BitVec 1 := Scalar.cmpi .slt v3954 c0_i32_2265
  let v3959 : BitVec 1 := Scalar.xori v3957 v3958
  let c0_i32_2263 : BitVec 32 := 0#32
  let v3956 : BitVec 1 := Scalar.cmpi .ne v3955 c0_i32_2263
  let v3960 : BitVec 1 := Scalar.andi v3959 v3956
  let v3961 : BitVec 32 := Scalar.addi v3955 v3954
  let v3962 : BitVec 32 := Scalar.select v3960 v3961 v3955
  let c187_i32_2267 : BitVec 32 := 187#32
  let c0_i32_2268 : BitVec 32 := 0#32
  ![v3962.toNat, 187, 0]
def k0_off758 (v3966 : BitVec 32) : Fin 2 → Nat :=
  let c0_i32_2269 : BitVec 32 := 0#32
  ![v3966.toNat, 0]

def k0_chk190 (i : grid0.Coords) (v0 : BitVec 32) (v3966 : BitVec 32) : Prop :=
  (∀ (k0_h2 : k0_cond2 i v0 = 1#1), ∀ a, (k0_off758 v3966) a + S1x4096.size a ≤ S16896x4096.size a)
theorem k0_off758_inb : ∀ (i : grid0.Coords) (v0 : BitVec 32) (v3966 : BitVec 32) (k0_hw190 : k0_chk190 i v0 v3966), ∀ (k0_h2 : k0_cond2 i v0 = 1#1), ∀ a, (k0_off758 v3966) a + S1x4096.size a ≤ S16896x4096.size a := fun i v0 v3966 k0_hw190 k0_h2 => k0_hw190 k0_h2

def k0_off759 (i : grid0.Coords) : Fin 1 → Nat :=
  let arg0 : BitVec 32 := BitVec.ofNat 32 (i 0).val
  let c1_i32_2270 : BitVec 32 := 1#32
  let v3972 : BitVec 32 := Scalar.addi arg0 c1_i32_2270
  let c256_i32_2278 : BitVec 32 := 256#32
  let v3984 : BitVec 32 := Scalar.muli v3972 c256_i32_2278
  let c188_i32 : BitVec 32 := 188#32
  let v3985 : BitVec 32 := Scalar.addi v3984 c188_i32
  let v3986 : Index := Scalar.indexCast v3985
  ![v3986.toNat]
def k0_off760 (i : grid0.Coords) : Fin 1 → Nat :=
  let arg0 : BitVec 32 := BitVec.ofNat 32 (i 0).val
  let c1_i32_2271 : BitVec 32 := 1#32
  let v3973 : BitVec 32 := Scalar.addi arg0 c1_i32_2271
  let c2_i32_2272 : BitVec 32 := 2#32
  let c0_i32_2273 : BitVec 32 := 0#32
  let v3974 : BitVec 1 := Scalar.cmpi .eq c2_i32_2272 c0_i32_2273
  let c1_i32_2274 : BitVec 32 := 1#32
  let v3975 : BitVec 32 := Scalar.select v3974 c1_i32_2274 c2_i32_2272
  let v3976 : BitVec 32 := Scalar.remsi v3973 v3975
  let c0_i32_2276 : BitVec 32 := 0#32
  let v3978 : BitVec 1 := Scalar.cmpi .slt v3976 c0_i32_2276
  let c0_i32_2277 : BitVec 32 := 0#32
  let v3979 : BitVec 1 := Scalar.cmpi .slt v3975 c0_i32_2277
  let v3980 : BitVec 1 := Scalar.xori v3978 v3979
  let c0_i32_2275 : BitVec 32 := 0#32
  let v3977 : BitVec 1 := Scalar.cmpi .ne v3976 c0_i32_2275
  let v3981 : BitVec 1 := Scalar.andi v3980 v3977
  let v3982 : BitVec 32 := Scalar.addi v3976 v3975
  let v3983 : BitVec 32 := Scalar.select v3981 v3982 v3976
  ![v3983.toNat]
def k0_off761 (i : grid0.Coords) : Fin 3 → Nat :=
  let arg0 : BitVec 32 := BitVec.ofNat 32 (i 0).val
  let c1_i32_2271 : BitVec 32 := 1#32
  let v3973 : BitVec 32 := Scalar.addi arg0 c1_i32_2271
  let c2_i32_2272 : BitVec 32 := 2#32
  let c0_i32_2273 : BitVec 32 := 0#32
  let v3974 : BitVec 1 := Scalar.cmpi .eq c2_i32_2272 c0_i32_2273
  let c1_i32_2274 : BitVec 32 := 1#32
  let v3975 : BitVec 32 := Scalar.select v3974 c1_i32_2274 c2_i32_2272
  let v3976 : BitVec 32 := Scalar.remsi v3973 v3975
  let c0_i32_2276 : BitVec 32 := 0#32
  let v3978 : BitVec 1 := Scalar.cmpi .slt v3976 c0_i32_2276
  let c0_i32_2277 : BitVec 32 := 0#32
  let v3979 : BitVec 1 := Scalar.cmpi .slt v3975 c0_i32_2277
  let v3980 : BitVec 1 := Scalar.xori v3978 v3979
  let c0_i32_2275 : BitVec 32 := 0#32
  let v3977 : BitVec 1 := Scalar.cmpi .ne v3976 c0_i32_2275
  let v3981 : BitVec 1 := Scalar.andi v3980 v3977
  let v3982 : BitVec 32 := Scalar.addi v3976 v3975
  let v3983 : BitVec 32 := Scalar.select v3981 v3982 v3976
  let c188_i32_2279 : BitVec 32 := 188#32
  let c0_i32_2280 : BitVec 32 := 0#32
  ![v3983.toNat, 188, 0]
def k0_off762 (v3987 : BitVec 32) : Fin 2 → Nat :=
  let c0_i32_2281 : BitVec 32 := 0#32
  ![v3987.toNat, 0]

def k0_chk191 (i : grid0.Coords) (v0 : BitVec 32) (v3987 : BitVec 32) : Prop :=
  (∀ (k0_h2 : k0_cond2 i v0 = 1#1), ∀ a, (k0_off762 v3987) a + S1x4096.size a ≤ S16896x4096.size a)
theorem k0_off762_inb : ∀ (i : grid0.Coords) (v0 : BitVec 32) (v3987 : BitVec 32) (k0_hw191 : k0_chk191 i v0 v3987), ∀ (k0_h2 : k0_cond2 i v0 = 1#1), ∀ a, (k0_off762 v3987) a + S1x4096.size a ≤ S16896x4096.size a := fun i v0 v3987 k0_hw191 k0_h2 => k0_hw191 k0_h2

def k0_off763 (i : grid0.Coords) : Fin 1 → Nat :=
  let arg0 : BitVec 32 := BitVec.ofNat 32 (i 0).val
  let c1_i32_2282 : BitVec 32 := 1#32
  let v3993 : BitVec 32 := Scalar.addi arg0 c1_i32_2282
  let c256_i32_2290 : BitVec 32 := 256#32
  let v4005 : BitVec 32 := Scalar.muli v3993 c256_i32_2290
  let c189_i32 : BitVec 32 := 189#32
  let v4006 : BitVec 32 := Scalar.addi v4005 c189_i32
  let v4007 : Index := Scalar.indexCast v4006
  ![v4007.toNat]
def k0_off764 (i : grid0.Coords) : Fin 1 → Nat :=
  let arg0 : BitVec 32 := BitVec.ofNat 32 (i 0).val
  let c1_i32_2283 : BitVec 32 := 1#32
  let v3994 : BitVec 32 := Scalar.addi arg0 c1_i32_2283
  let c2_i32_2284 : BitVec 32 := 2#32
  let c0_i32_2285 : BitVec 32 := 0#32
  let v3995 : BitVec 1 := Scalar.cmpi .eq c2_i32_2284 c0_i32_2285
  let c1_i32_2286 : BitVec 32 := 1#32
  let v3996 : BitVec 32 := Scalar.select v3995 c1_i32_2286 c2_i32_2284
  let v3997 : BitVec 32 := Scalar.remsi v3994 v3996
  let c0_i32_2288 : BitVec 32 := 0#32
  let v3999 : BitVec 1 := Scalar.cmpi .slt v3997 c0_i32_2288
  let c0_i32_2289 : BitVec 32 := 0#32
  let v4000 : BitVec 1 := Scalar.cmpi .slt v3996 c0_i32_2289
  let v4001 : BitVec 1 := Scalar.xori v3999 v4000
  let c0_i32_2287 : BitVec 32 := 0#32
  let v3998 : BitVec 1 := Scalar.cmpi .ne v3997 c0_i32_2287
  let v4002 : BitVec 1 := Scalar.andi v4001 v3998
  let v4003 : BitVec 32 := Scalar.addi v3997 v3996
  let v4004 : BitVec 32 := Scalar.select v4002 v4003 v3997
  ![v4004.toNat]
def k0_off765 (i : grid0.Coords) : Fin 3 → Nat :=
  let arg0 : BitVec 32 := BitVec.ofNat 32 (i 0).val
  let c1_i32_2283 : BitVec 32 := 1#32
  let v3994 : BitVec 32 := Scalar.addi arg0 c1_i32_2283
  let c2_i32_2284 : BitVec 32 := 2#32
  let c0_i32_2285 : BitVec 32 := 0#32
  let v3995 : BitVec 1 := Scalar.cmpi .eq c2_i32_2284 c0_i32_2285
  let c1_i32_2286 : BitVec 32 := 1#32
  let v3996 : BitVec 32 := Scalar.select v3995 c1_i32_2286 c2_i32_2284
  let v3997 : BitVec 32 := Scalar.remsi v3994 v3996
  let c0_i32_2288 : BitVec 32 := 0#32
  let v3999 : BitVec 1 := Scalar.cmpi .slt v3997 c0_i32_2288
  let c0_i32_2289 : BitVec 32 := 0#32
  let v4000 : BitVec 1 := Scalar.cmpi .slt v3996 c0_i32_2289
  let v4001 : BitVec 1 := Scalar.xori v3999 v4000
  let c0_i32_2287 : BitVec 32 := 0#32
  let v3998 : BitVec 1 := Scalar.cmpi .ne v3997 c0_i32_2287
  let v4002 : BitVec 1 := Scalar.andi v4001 v3998
  let v4003 : BitVec 32 := Scalar.addi v3997 v3996
  let v4004 : BitVec 32 := Scalar.select v4002 v4003 v3997
  let c189_i32_2291 : BitVec 32 := 189#32
  let c0_i32_2292 : BitVec 32 := 0#32
  ![v4004.toNat, 189, 0]
def k0_off766 (v4008 : BitVec 32) : Fin 2 → Nat :=
  let c0_i32_2293 : BitVec 32 := 0#32
  ![v4008.toNat, 0]

def k0_chk192 (i : grid0.Coords) (v0 : BitVec 32) (v4008 : BitVec 32) : Prop :=
  (∀ (k0_h2 : k0_cond2 i v0 = 1#1), ∀ a, (k0_off766 v4008) a + S1x4096.size a ≤ S16896x4096.size a)
theorem k0_off766_inb : ∀ (i : grid0.Coords) (v0 : BitVec 32) (v4008 : BitVec 32) (k0_hw192 : k0_chk192 i v0 v4008), ∀ (k0_h2 : k0_cond2 i v0 = 1#1), ∀ a, (k0_off766 v4008) a + S1x4096.size a ≤ S16896x4096.size a := fun i v0 v4008 k0_hw192 k0_h2 => k0_hw192 k0_h2

def k0_off767 (i : grid0.Coords) : Fin 1 → Nat :=
  let arg0 : BitVec 32 := BitVec.ofNat 32 (i 0).val
  let c1_i32_2294 : BitVec 32 := 1#32
  let v4014 : BitVec 32 := Scalar.addi arg0 c1_i32_2294
  let c256_i32_2302 : BitVec 32 := 256#32
  let v4026 : BitVec 32 := Scalar.muli v4014 c256_i32_2302
  let c190_i32 : BitVec 32 := 190#32
  let v4027 : BitVec 32 := Scalar.addi v4026 c190_i32
  let v4028 : Index := Scalar.indexCast v4027
  ![v4028.toNat]
def k0_off768 (i : grid0.Coords) : Fin 1 → Nat :=
  let arg0 : BitVec 32 := BitVec.ofNat 32 (i 0).val
  let c1_i32_2295 : BitVec 32 := 1#32
  let v4015 : BitVec 32 := Scalar.addi arg0 c1_i32_2295
  let c2_i32_2296 : BitVec 32 := 2#32
  let c0_i32_2297 : BitVec 32 := 0#32
  let v4016 : BitVec 1 := Scalar.cmpi .eq c2_i32_2296 c0_i32_2297
  let c1_i32_2298 : BitVec 32 := 1#32
  let v4017 : BitVec 32 := Scalar.select v4016 c1_i32_2298 c2_i32_2296
  let v4018 : BitVec 32 := Scalar.remsi v4015 v4017
  let c0_i32_2300 : BitVec 32 := 0#32
  let v4020 : BitVec 1 := Scalar.cmpi .slt v4018 c0_i32_2300
  let c0_i32_2301 : BitVec 32 := 0#32
  let v4021 : BitVec 1 := Scalar.cmpi .slt v4017 c0_i32_2301
  let v4022 : BitVec 1 := Scalar.xori v4020 v4021
  let c0_i32_2299 : BitVec 32 := 0#32
  let v4019 : BitVec 1 := Scalar.cmpi .ne v4018 c0_i32_2299
  let v4023 : BitVec 1 := Scalar.andi v4022 v4019
  let v4024 : BitVec 32 := Scalar.addi v4018 v4017
  let v4025 : BitVec 32 := Scalar.select v4023 v4024 v4018
  ![v4025.toNat]
def k0_off769 (i : grid0.Coords) : Fin 3 → Nat :=
  let arg0 : BitVec 32 := BitVec.ofNat 32 (i 0).val
  let c1_i32_2295 : BitVec 32 := 1#32
  let v4015 : BitVec 32 := Scalar.addi arg0 c1_i32_2295
  let c2_i32_2296 : BitVec 32 := 2#32
  let c0_i32_2297 : BitVec 32 := 0#32
  let v4016 : BitVec 1 := Scalar.cmpi .eq c2_i32_2296 c0_i32_2297
  let c1_i32_2298 : BitVec 32 := 1#32
  let v4017 : BitVec 32 := Scalar.select v4016 c1_i32_2298 c2_i32_2296
  let v4018 : BitVec 32 := Scalar.remsi v4015 v4017
  let c0_i32_2300 : BitVec 32 := 0#32
  let v4020 : BitVec 1 := Scalar.cmpi .slt v4018 c0_i32_2300
  let c0_i32_2301 : BitVec 32 := 0#32
  let v4021 : BitVec 1 := Scalar.cmpi .slt v4017 c0_i32_2301
  let v4022 : BitVec 1 := Scalar.xori v4020 v4021
  let c0_i32_2299 : BitVec 32 := 0#32
  let v4019 : BitVec 1 := Scalar.cmpi .ne v4018 c0_i32_2299
  let v4023 : BitVec 1 := Scalar.andi v4022 v4019
  let v4024 : BitVec 32 := Scalar.addi v4018 v4017
  let v4025 : BitVec 32 := Scalar.select v4023 v4024 v4018
  let c190_i32_2303 : BitVec 32 := 190#32
  let c0_i32_2304 : BitVec 32 := 0#32
  ![v4025.toNat, 190, 0]
def k0_off770 (v4029 : BitVec 32) : Fin 2 → Nat :=
  let c0_i32_2305 : BitVec 32 := 0#32
  ![v4029.toNat, 0]

def k0_chk193 (i : grid0.Coords) (v0 : BitVec 32) (v4029 : BitVec 32) : Prop :=
  (∀ (k0_h2 : k0_cond2 i v0 = 1#1), ∀ a, (k0_off770 v4029) a + S1x4096.size a ≤ S16896x4096.size a)
theorem k0_off770_inb : ∀ (i : grid0.Coords) (v0 : BitVec 32) (v4029 : BitVec 32) (k0_hw193 : k0_chk193 i v0 v4029), ∀ (k0_h2 : k0_cond2 i v0 = 1#1), ∀ a, (k0_off770 v4029) a + S1x4096.size a ≤ S16896x4096.size a := fun i v0 v4029 k0_hw193 k0_h2 => k0_hw193 k0_h2

def k0_off771 (i : grid0.Coords) : Fin 1 → Nat :=
  let arg0 : BitVec 32 := BitVec.ofNat 32 (i 0).val
  let c1_i32_2306 : BitVec 32 := 1#32
  let v4035 : BitVec 32 := Scalar.addi arg0 c1_i32_2306
  let c256_i32_2314 : BitVec 32 := 256#32
  let v4047 : BitVec 32 := Scalar.muli v4035 c256_i32_2314
  let c191_i32 : BitVec 32 := 191#32
  let v4048 : BitVec 32 := Scalar.addi v4047 c191_i32
  let v4049 : Index := Scalar.indexCast v4048
  ![v4049.toNat]
def k0_off772 (i : grid0.Coords) : Fin 1 → Nat :=
  let arg0 : BitVec 32 := BitVec.ofNat 32 (i 0).val
  let c1_i32_2307 : BitVec 32 := 1#32
  let v4036 : BitVec 32 := Scalar.addi arg0 c1_i32_2307
  let c2_i32_2308 : BitVec 32 := 2#32
  let c0_i32_2309 : BitVec 32 := 0#32
  let v4037 : BitVec 1 := Scalar.cmpi .eq c2_i32_2308 c0_i32_2309
  let c1_i32_2310 : BitVec 32 := 1#32
  let v4038 : BitVec 32 := Scalar.select v4037 c1_i32_2310 c2_i32_2308
  let v4039 : BitVec 32 := Scalar.remsi v4036 v4038
  let c0_i32_2312 : BitVec 32 := 0#32
  let v4041 : BitVec 1 := Scalar.cmpi .slt v4039 c0_i32_2312
  let c0_i32_2313 : BitVec 32 := 0#32
  let v4042 : BitVec 1 := Scalar.cmpi .slt v4038 c0_i32_2313
  let v4043 : BitVec 1 := Scalar.xori v4041 v4042
  let c0_i32_2311 : BitVec 32 := 0#32
  let v4040 : BitVec 1 := Scalar.cmpi .ne v4039 c0_i32_2311
  let v4044 : BitVec 1 := Scalar.andi v4043 v4040
  let v4045 : BitVec 32 := Scalar.addi v4039 v4038
  let v4046 : BitVec 32 := Scalar.select v4044 v4045 v4039
  ![v4046.toNat]
def k0_off773 (i : grid0.Coords) : Fin 3 → Nat :=
  let arg0 : BitVec 32 := BitVec.ofNat 32 (i 0).val
  let c1_i32_2307 : BitVec 32 := 1#32
  let v4036 : BitVec 32 := Scalar.addi arg0 c1_i32_2307
  let c2_i32_2308 : BitVec 32 := 2#32
  let c0_i32_2309 : BitVec 32 := 0#32
  let v4037 : BitVec 1 := Scalar.cmpi .eq c2_i32_2308 c0_i32_2309
  let c1_i32_2310 : BitVec 32 := 1#32
  let v4038 : BitVec 32 := Scalar.select v4037 c1_i32_2310 c2_i32_2308
  let v4039 : BitVec 32 := Scalar.remsi v4036 v4038
  let c0_i32_2312 : BitVec 32 := 0#32
  let v4041 : BitVec 1 := Scalar.cmpi .slt v4039 c0_i32_2312
  let c0_i32_2313 : BitVec 32 := 0#32
  let v4042 : BitVec 1 := Scalar.cmpi .slt v4038 c0_i32_2313
  let v4043 : BitVec 1 := Scalar.xori v4041 v4042
  let c0_i32_2311 : BitVec 32 := 0#32
  let v4040 : BitVec 1 := Scalar.cmpi .ne v4039 c0_i32_2311
  let v4044 : BitVec 1 := Scalar.andi v4043 v4040
  let v4045 : BitVec 32 := Scalar.addi v4039 v4038
  let v4046 : BitVec 32 := Scalar.select v4044 v4045 v4039
  let c191_i32_2315 : BitVec 32 := 191#32
  let c0_i32_2316 : BitVec 32 := 0#32
  ![v4046.toNat, 191, 0]
def k0_off774 (v4050 : BitVec 32) : Fin 2 → Nat :=
  let c0_i32_2317 : BitVec 32 := 0#32
  ![v4050.toNat, 0]

def k0_chk194 (i : grid0.Coords) (v0 : BitVec 32) (v4050 : BitVec 32) : Prop :=
  (∀ (k0_h2 : k0_cond2 i v0 = 1#1), ∀ a, (k0_off774 v4050) a + S1x4096.size a ≤ S16896x4096.size a)
theorem k0_off774_inb : ∀ (i : grid0.Coords) (v0 : BitVec 32) (v4050 : BitVec 32) (k0_hw194 : k0_chk194 i v0 v4050), ∀ (k0_h2 : k0_cond2 i v0 = 1#1), ∀ a, (k0_off774 v4050) a + S1x4096.size a ≤ S16896x4096.size a := fun i v0 v4050 k0_hw194 k0_h2 => k0_hw194 k0_h2

def k0_off775 (i : grid0.Coords) : Fin 1 → Nat :=
  let arg0 : BitVec 32 := BitVec.ofNat 32 (i 0).val
  let c1_i32_2318 : BitVec 32 := 1#32
  let v4056 : BitVec 32 := Scalar.addi arg0 c1_i32_2318
  let c256_i32_2326 : BitVec 32 := 256#32
  let v4068 : BitVec 32 := Scalar.muli v4056 c256_i32_2326
  let c192_i32 : BitVec 32 := 192#32
  let v4069 : BitVec 32 := Scalar.addi v4068 c192_i32
  let v4070 : Index := Scalar.indexCast v4069
  ![v4070.toNat]
def k0_off776 (i : grid0.Coords) : Fin 1 → Nat :=
  let arg0 : BitVec 32 := BitVec.ofNat 32 (i 0).val
  let c1_i32_2319 : BitVec 32 := 1#32
  let v4057 : BitVec 32 := Scalar.addi arg0 c1_i32_2319
  let c2_i32_2320 : BitVec 32 := 2#32
  let c0_i32_2321 : BitVec 32 := 0#32
  let v4058 : BitVec 1 := Scalar.cmpi .eq c2_i32_2320 c0_i32_2321
  let c1_i32_2322 : BitVec 32 := 1#32
  let v4059 : BitVec 32 := Scalar.select v4058 c1_i32_2322 c2_i32_2320
  let v4060 : BitVec 32 := Scalar.remsi v4057 v4059
  let c0_i32_2324 : BitVec 32 := 0#32
  let v4062 : BitVec 1 := Scalar.cmpi .slt v4060 c0_i32_2324
  let c0_i32_2325 : BitVec 32 := 0#32
  let v4063 : BitVec 1 := Scalar.cmpi .slt v4059 c0_i32_2325
  let v4064 : BitVec 1 := Scalar.xori v4062 v4063
  let c0_i32_2323 : BitVec 32 := 0#32
  let v4061 : BitVec 1 := Scalar.cmpi .ne v4060 c0_i32_2323
  let v4065 : BitVec 1 := Scalar.andi v4064 v4061
  let v4066 : BitVec 32 := Scalar.addi v4060 v4059
  let v4067 : BitVec 32 := Scalar.select v4065 v4066 v4060
  ![v4067.toNat]
def k0_off777 (i : grid0.Coords) : Fin 3 → Nat :=
  let arg0 : BitVec 32 := BitVec.ofNat 32 (i 0).val
  let c1_i32_2319 : BitVec 32 := 1#32
  let v4057 : BitVec 32 := Scalar.addi arg0 c1_i32_2319
  let c2_i32_2320 : BitVec 32 := 2#32
  let c0_i32_2321 : BitVec 32 := 0#32
  let v4058 : BitVec 1 := Scalar.cmpi .eq c2_i32_2320 c0_i32_2321
  let c1_i32_2322 : BitVec 32 := 1#32
  let v4059 : BitVec 32 := Scalar.select v4058 c1_i32_2322 c2_i32_2320
  let v4060 : BitVec 32 := Scalar.remsi v4057 v4059
  let c0_i32_2324 : BitVec 32 := 0#32
  let v4062 : BitVec 1 := Scalar.cmpi .slt v4060 c0_i32_2324
  let c0_i32_2325 : BitVec 32 := 0#32
  let v4063 : BitVec 1 := Scalar.cmpi .slt v4059 c0_i32_2325
  let v4064 : BitVec 1 := Scalar.xori v4062 v4063
  let c0_i32_2323 : BitVec 32 := 0#32
  let v4061 : BitVec 1 := Scalar.cmpi .ne v4060 c0_i32_2323
  let v4065 : BitVec 1 := Scalar.andi v4064 v4061
  let v4066 : BitVec 32 := Scalar.addi v4060 v4059
  let v4067 : BitVec 32 := Scalar.select v4065 v4066 v4060
  let c192_i32_2327 : BitVec 32 := 192#32
  let c0_i32_2328 : BitVec 32 := 0#32
  ![v4067.toNat, 192, 0]
def k0_off778 (v4071 : BitVec 32) : Fin 2 → Nat :=
  let c0_i32_2329 : BitVec 32 := 0#32
  ![v4071.toNat, 0]

def k0_chk195 (i : grid0.Coords) (v0 : BitVec 32) (v4071 : BitVec 32) : Prop :=
  (∀ (k0_h2 : k0_cond2 i v0 = 1#1), ∀ a, (k0_off778 v4071) a + S1x4096.size a ≤ S16896x4096.size a)
theorem k0_off778_inb : ∀ (i : grid0.Coords) (v0 : BitVec 32) (v4071 : BitVec 32) (k0_hw195 : k0_chk195 i v0 v4071), ∀ (k0_h2 : k0_cond2 i v0 = 1#1), ∀ a, (k0_off778 v4071) a + S1x4096.size a ≤ S16896x4096.size a := fun i v0 v4071 k0_hw195 k0_h2 => k0_hw195 k0_h2

def k0_off779 (i : grid0.Coords) : Fin 1 → Nat :=
  let arg0 : BitVec 32 := BitVec.ofNat 32 (i 0).val
  let c1_i32_2330 : BitVec 32 := 1#32
  let v4077 : BitVec 32 := Scalar.addi arg0 c1_i32_2330
  let c256_i32_2338 : BitVec 32 := 256#32
  let v4089 : BitVec 32 := Scalar.muli v4077 c256_i32_2338
  let c193_i32 : BitVec 32 := 193#32
  let v4090 : BitVec 32 := Scalar.addi v4089 c193_i32
  let v4091 : Index := Scalar.indexCast v4090
  ![v4091.toNat]
def k0_off780 (i : grid0.Coords) : Fin 1 → Nat :=
  let arg0 : BitVec 32 := BitVec.ofNat 32 (i 0).val
  let c1_i32_2331 : BitVec 32 := 1#32
  let v4078 : BitVec 32 := Scalar.addi arg0 c1_i32_2331
  let c2_i32_2332 : BitVec 32 := 2#32
  let c0_i32_2333 : BitVec 32 := 0#32
  let v4079 : BitVec 1 := Scalar.cmpi .eq c2_i32_2332 c0_i32_2333
  let c1_i32_2334 : BitVec 32 := 1#32
  let v4080 : BitVec 32 := Scalar.select v4079 c1_i32_2334 c2_i32_2332
  let v4081 : BitVec 32 := Scalar.remsi v4078 v4080
  let c0_i32_2336 : BitVec 32 := 0#32
  let v4083 : BitVec 1 := Scalar.cmpi .slt v4081 c0_i32_2336
  let c0_i32_2337 : BitVec 32 := 0#32
  let v4084 : BitVec 1 := Scalar.cmpi .slt v4080 c0_i32_2337
  let v4085 : BitVec 1 := Scalar.xori v4083 v4084
  let c0_i32_2335 : BitVec 32 := 0#32
  let v4082 : BitVec 1 := Scalar.cmpi .ne v4081 c0_i32_2335
  let v4086 : BitVec 1 := Scalar.andi v4085 v4082
  let v4087 : BitVec 32 := Scalar.addi v4081 v4080
  let v4088 : BitVec 32 := Scalar.select v4086 v4087 v4081
  ![v4088.toNat]
def k0_off781 (i : grid0.Coords) : Fin 3 → Nat :=
  let arg0 : BitVec 32 := BitVec.ofNat 32 (i 0).val
  let c1_i32_2331 : BitVec 32 := 1#32
  let v4078 : BitVec 32 := Scalar.addi arg0 c1_i32_2331
  let c2_i32_2332 : BitVec 32 := 2#32
  let c0_i32_2333 : BitVec 32 := 0#32
  let v4079 : BitVec 1 := Scalar.cmpi .eq c2_i32_2332 c0_i32_2333
  let c1_i32_2334 : BitVec 32 := 1#32
  let v4080 : BitVec 32 := Scalar.select v4079 c1_i32_2334 c2_i32_2332
  let v4081 : BitVec 32 := Scalar.remsi v4078 v4080
  let c0_i32_2336 : BitVec 32 := 0#32
  let v4083 : BitVec 1 := Scalar.cmpi .slt v4081 c0_i32_2336
  let c0_i32_2337 : BitVec 32 := 0#32
  let v4084 : BitVec 1 := Scalar.cmpi .slt v4080 c0_i32_2337
  let v4085 : BitVec 1 := Scalar.xori v4083 v4084
  let c0_i32_2335 : BitVec 32 := 0#32
  let v4082 : BitVec 1 := Scalar.cmpi .ne v4081 c0_i32_2335
  let v4086 : BitVec 1 := Scalar.andi v4085 v4082
  let v4087 : BitVec 32 := Scalar.addi v4081 v4080
  let v4088 : BitVec 32 := Scalar.select v4086 v4087 v4081
  let c193_i32_2339 : BitVec 32 := 193#32
  let c0_i32_2340 : BitVec 32 := 0#32
  ![v4088.toNat, 193, 0]
def k0_off782 (v4092 : BitVec 32) : Fin 2 → Nat :=
  let c0_i32_2341 : BitVec 32 := 0#32
  ![v4092.toNat, 0]

def k0_chk196 (i : grid0.Coords) (v0 : BitVec 32) (v4092 : BitVec 32) : Prop :=
  (∀ (k0_h2 : k0_cond2 i v0 = 1#1), ∀ a, (k0_off782 v4092) a + S1x4096.size a ≤ S16896x4096.size a)
theorem k0_off782_inb : ∀ (i : grid0.Coords) (v0 : BitVec 32) (v4092 : BitVec 32) (k0_hw196 : k0_chk196 i v0 v4092), ∀ (k0_h2 : k0_cond2 i v0 = 1#1), ∀ a, (k0_off782 v4092) a + S1x4096.size a ≤ S16896x4096.size a := fun i v0 v4092 k0_hw196 k0_h2 => k0_hw196 k0_h2

def k0_off783 (i : grid0.Coords) : Fin 1 → Nat :=
  let arg0 : BitVec 32 := BitVec.ofNat 32 (i 0).val
  let c1_i32_2342 : BitVec 32 := 1#32
  let v4098 : BitVec 32 := Scalar.addi arg0 c1_i32_2342
  let c256_i32_2350 : BitVec 32 := 256#32
  let v4110 : BitVec 32 := Scalar.muli v4098 c256_i32_2350
  let c194_i32 : BitVec 32 := 194#32
  let v4111 : BitVec 32 := Scalar.addi v4110 c194_i32
  let v4112 : Index := Scalar.indexCast v4111
  ![v4112.toNat]
def k0_off784 (i : grid0.Coords) : Fin 1 → Nat :=
  let arg0 : BitVec 32 := BitVec.ofNat 32 (i 0).val
  let c1_i32_2343 : BitVec 32 := 1#32
  let v4099 : BitVec 32 := Scalar.addi arg0 c1_i32_2343
  let c2_i32_2344 : BitVec 32 := 2#32
  let c0_i32_2345 : BitVec 32 := 0#32
  let v4100 : BitVec 1 := Scalar.cmpi .eq c2_i32_2344 c0_i32_2345
  let c1_i32_2346 : BitVec 32 := 1#32
  let v4101 : BitVec 32 := Scalar.select v4100 c1_i32_2346 c2_i32_2344
  let v4102 : BitVec 32 := Scalar.remsi v4099 v4101
  let c0_i32_2348 : BitVec 32 := 0#32
  let v4104 : BitVec 1 := Scalar.cmpi .slt v4102 c0_i32_2348
  let c0_i32_2349 : BitVec 32 := 0#32
  let v4105 : BitVec 1 := Scalar.cmpi .slt v4101 c0_i32_2349
  let v4106 : BitVec 1 := Scalar.xori v4104 v4105
  let c0_i32_2347 : BitVec 32 := 0#32
  let v4103 : BitVec 1 := Scalar.cmpi .ne v4102 c0_i32_2347
  let v4107 : BitVec 1 := Scalar.andi v4106 v4103
  let v4108 : BitVec 32 := Scalar.addi v4102 v4101
  let v4109 : BitVec 32 := Scalar.select v4107 v4108 v4102
  ![v4109.toNat]
def k0_off785 (i : grid0.Coords) : Fin 3 → Nat :=
  let arg0 : BitVec 32 := BitVec.ofNat 32 (i 0).val
  let c1_i32_2343 : BitVec 32 := 1#32
  let v4099 : BitVec 32 := Scalar.addi arg0 c1_i32_2343
  let c2_i32_2344 : BitVec 32 := 2#32
  let c0_i32_2345 : BitVec 32 := 0#32
  let v4100 : BitVec 1 := Scalar.cmpi .eq c2_i32_2344 c0_i32_2345
  let c1_i32_2346 : BitVec 32 := 1#32
  let v4101 : BitVec 32 := Scalar.select v4100 c1_i32_2346 c2_i32_2344
  let v4102 : BitVec 32 := Scalar.remsi v4099 v4101
  let c0_i32_2348 : BitVec 32 := 0#32
  let v4104 : BitVec 1 := Scalar.cmpi .slt v4102 c0_i32_2348
  let c0_i32_2349 : BitVec 32 := 0#32
  let v4105 : BitVec 1 := Scalar.cmpi .slt v4101 c0_i32_2349
  let v4106 : BitVec 1 := Scalar.xori v4104 v4105
  let c0_i32_2347 : BitVec 32 := 0#32
  let v4103 : BitVec 1 := Scalar.cmpi .ne v4102 c0_i32_2347
  let v4107 : BitVec 1 := Scalar.andi v4106 v4103
  let v4108 : BitVec 32 := Scalar.addi v4102 v4101
  let v4109 : BitVec 32 := Scalar.select v4107 v4108 v4102
  let c194_i32_2351 : BitVec 32 := 194#32
  let c0_i32_2352 : BitVec 32 := 0#32
  ![v4109.toNat, 194, 0]
def k0_off786 (v4113 : BitVec 32) : Fin 2 → Nat :=
  let c0_i32_2353 : BitVec 32 := 0#32
  ![v4113.toNat, 0]

def k0_chk197 (i : grid0.Coords) (v0 : BitVec 32) (v4113 : BitVec 32) : Prop :=
  (∀ (k0_h2 : k0_cond2 i v0 = 1#1), ∀ a, (k0_off786 v4113) a + S1x4096.size a ≤ S16896x4096.size a)
theorem k0_off786_inb : ∀ (i : grid0.Coords) (v0 : BitVec 32) (v4113 : BitVec 32) (k0_hw197 : k0_chk197 i v0 v4113), ∀ (k0_h2 : k0_cond2 i v0 = 1#1), ∀ a, (k0_off786 v4113) a + S1x4096.size a ≤ S16896x4096.size a := fun i v0 v4113 k0_hw197 k0_h2 => k0_hw197 k0_h2

def k0_off787 (i : grid0.Coords) : Fin 1 → Nat :=
  let arg0 : BitVec 32 := BitVec.ofNat 32 (i 0).val
  let c1_i32_2354 : BitVec 32 := 1#32
  let v4119 : BitVec 32 := Scalar.addi arg0 c1_i32_2354
  let c256_i32_2362 : BitVec 32 := 256#32
  let v4131 : BitVec 32 := Scalar.muli v4119 c256_i32_2362
  let c195_i32 : BitVec 32 := 195#32
  let v4132 : BitVec 32 := Scalar.addi v4131 c195_i32
  let v4133 : Index := Scalar.indexCast v4132
  ![v4133.toNat]
def k0_off788 (i : grid0.Coords) : Fin 1 → Nat :=
  let arg0 : BitVec 32 := BitVec.ofNat 32 (i 0).val
  let c1_i32_2355 : BitVec 32 := 1#32
  let v4120 : BitVec 32 := Scalar.addi arg0 c1_i32_2355
  let c2_i32_2356 : BitVec 32 := 2#32
  let c0_i32_2357 : BitVec 32 := 0#32
  let v4121 : BitVec 1 := Scalar.cmpi .eq c2_i32_2356 c0_i32_2357
  let c1_i32_2358 : BitVec 32 := 1#32
  let v4122 : BitVec 32 := Scalar.select v4121 c1_i32_2358 c2_i32_2356
  let v4123 : BitVec 32 := Scalar.remsi v4120 v4122
  let c0_i32_2360 : BitVec 32 := 0#32
  let v4125 : BitVec 1 := Scalar.cmpi .slt v4123 c0_i32_2360
  let c0_i32_2361 : BitVec 32 := 0#32
  let v4126 : BitVec 1 := Scalar.cmpi .slt v4122 c0_i32_2361
  let v4127 : BitVec 1 := Scalar.xori v4125 v4126
  let c0_i32_2359 : BitVec 32 := 0#32
  let v4124 : BitVec 1 := Scalar.cmpi .ne v4123 c0_i32_2359
  let v4128 : BitVec 1 := Scalar.andi v4127 v4124
  let v4129 : BitVec 32 := Scalar.addi v4123 v4122
  let v4130 : BitVec 32 := Scalar.select v4128 v4129 v4123
  ![v4130.toNat]
def k0_off789 (i : grid0.Coords) : Fin 3 → Nat :=
  let arg0 : BitVec 32 := BitVec.ofNat 32 (i 0).val
  let c1_i32_2355 : BitVec 32 := 1#32
  let v4120 : BitVec 32 := Scalar.addi arg0 c1_i32_2355
  let c2_i32_2356 : BitVec 32 := 2#32
  let c0_i32_2357 : BitVec 32 := 0#32
  let v4121 : BitVec 1 := Scalar.cmpi .eq c2_i32_2356 c0_i32_2357
  let c1_i32_2358 : BitVec 32 := 1#32
  let v4122 : BitVec 32 := Scalar.select v4121 c1_i32_2358 c2_i32_2356
  let v4123 : BitVec 32 := Scalar.remsi v4120 v4122
  let c0_i32_2360 : BitVec 32 := 0#32
  let v4125 : BitVec 1 := Scalar.cmpi .slt v4123 c0_i32_2360
  let c0_i32_2361 : BitVec 32 := 0#32
  let v4126 : BitVec 1 := Scalar.cmpi .slt v4122 c0_i32_2361
  let v4127 : BitVec 1 := Scalar.xori v4125 v4126
  let c0_i32_2359 : BitVec 32 := 0#32
  let v4124 : BitVec 1 := Scalar.cmpi .ne v4123 c0_i32_2359
  let v4128 : BitVec 1 := Scalar.andi v4127 v4124
  let v4129 : BitVec 32 := Scalar.addi v4123 v4122
  let v4130 : BitVec 32 := Scalar.select v4128 v4129 v4123
  let c195_i32_2363 : BitVec 32 := 195#32
  let c0_i32_2364 : BitVec 32 := 0#32
  ![v4130.toNat, 195, 0]
def k0_off790 (v4134 : BitVec 32) : Fin 2 → Nat :=
  let c0_i32_2365 : BitVec 32 := 0#32
  ![v4134.toNat, 0]

def k0_chk198 (i : grid0.Coords) (v0 : BitVec 32) (v4134 : BitVec 32) : Prop :=
  (∀ (k0_h2 : k0_cond2 i v0 = 1#1), ∀ a, (k0_off790 v4134) a + S1x4096.size a ≤ S16896x4096.size a)
theorem k0_off790_inb : ∀ (i : grid0.Coords) (v0 : BitVec 32) (v4134 : BitVec 32) (k0_hw198 : k0_chk198 i v0 v4134), ∀ (k0_h2 : k0_cond2 i v0 = 1#1), ∀ a, (k0_off790 v4134) a + S1x4096.size a ≤ S16896x4096.size a := fun i v0 v4134 k0_hw198 k0_h2 => k0_hw198 k0_h2

def k0_off791 (i : grid0.Coords) : Fin 1 → Nat :=
  let arg0 : BitVec 32 := BitVec.ofNat 32 (i 0).val
  let c1_i32_2366 : BitVec 32 := 1#32
  let v4140 : BitVec 32 := Scalar.addi arg0 c1_i32_2366
  let c256_i32_2374 : BitVec 32 := 256#32
  let v4152 : BitVec 32 := Scalar.muli v4140 c256_i32_2374
  let c196_i32 : BitVec 32 := 196#32
  let v4153 : BitVec 32 := Scalar.addi v4152 c196_i32
  let v4154 : Index := Scalar.indexCast v4153
  ![v4154.toNat]
def k0_off792 (i : grid0.Coords) : Fin 1 → Nat :=
  let arg0 : BitVec 32 := BitVec.ofNat 32 (i 0).val
  let c1_i32_2367 : BitVec 32 := 1#32
  let v4141 : BitVec 32 := Scalar.addi arg0 c1_i32_2367
  let c2_i32_2368 : BitVec 32 := 2#32
  let c0_i32_2369 : BitVec 32 := 0#32
  let v4142 : BitVec 1 := Scalar.cmpi .eq c2_i32_2368 c0_i32_2369
  let c1_i32_2370 : BitVec 32 := 1#32
  let v4143 : BitVec 32 := Scalar.select v4142 c1_i32_2370 c2_i32_2368
  let v4144 : BitVec 32 := Scalar.remsi v4141 v4143
  let c0_i32_2372 : BitVec 32 := 0#32
  let v4146 : BitVec 1 := Scalar.cmpi .slt v4144 c0_i32_2372
  let c0_i32_2373 : BitVec 32 := 0#32
  let v4147 : BitVec 1 := Scalar.cmpi .slt v4143 c0_i32_2373
  let v4148 : BitVec 1 := Scalar.xori v4146 v4147
  let c0_i32_2371 : BitVec 32 := 0#32
  let v4145 : BitVec 1 := Scalar.cmpi .ne v4144 c0_i32_2371
  let v4149 : BitVec 1 := Scalar.andi v4148 v4145
  let v4150 : BitVec 32 := Scalar.addi v4144 v4143
  let v4151 : BitVec 32 := Scalar.select v4149 v4150 v4144
  ![v4151.toNat]
def k0_off793 (i : grid0.Coords) : Fin 3 → Nat :=
  let arg0 : BitVec 32 := BitVec.ofNat 32 (i 0).val
  let c1_i32_2367 : BitVec 32 := 1#32
  let v4141 : BitVec 32 := Scalar.addi arg0 c1_i32_2367
  let c2_i32_2368 : BitVec 32 := 2#32
  let c0_i32_2369 : BitVec 32 := 0#32
  let v4142 : BitVec 1 := Scalar.cmpi .eq c2_i32_2368 c0_i32_2369
  let c1_i32_2370 : BitVec 32 := 1#32
  let v4143 : BitVec 32 := Scalar.select v4142 c1_i32_2370 c2_i32_2368
  let v4144 : BitVec 32 := Scalar.remsi v4141 v4143
  let c0_i32_2372 : BitVec 32 := 0#32
  let v4146 : BitVec 1 := Scalar.cmpi .slt v4144 c0_i32_2372
  let c0_i32_2373 : BitVec 32 := 0#32
  let v4147 : BitVec 1 := Scalar.cmpi .slt v4143 c0_i32_2373
  let v4148 : BitVec 1 := Scalar.xori v4146 v4147
  let c0_i32_2371 : BitVec 32 := 0#32
  let v4145 : BitVec 1 := Scalar.cmpi .ne v4144 c0_i32_2371
  let v4149 : BitVec 1 := Scalar.andi v4148 v4145
  let v4150 : BitVec 32 := Scalar.addi v4144 v4143
  let v4151 : BitVec 32 := Scalar.select v4149 v4150 v4144
  let c196_i32_2375 : BitVec 32 := 196#32
  let c0_i32_2376 : BitVec 32 := 0#32
  ![v4151.toNat, 196, 0]
def k0_off794 (v4155 : BitVec 32) : Fin 2 → Nat :=
  let c0_i32_2377 : BitVec 32 := 0#32
  ![v4155.toNat, 0]

def k0_chk199 (i : grid0.Coords) (v0 : BitVec 32) (v4155 : BitVec 32) : Prop :=
  (∀ (k0_h2 : k0_cond2 i v0 = 1#1), ∀ a, (k0_off794 v4155) a + S1x4096.size a ≤ S16896x4096.size a)
theorem k0_off794_inb : ∀ (i : grid0.Coords) (v0 : BitVec 32) (v4155 : BitVec 32) (k0_hw199 : k0_chk199 i v0 v4155), ∀ (k0_h2 : k0_cond2 i v0 = 1#1), ∀ a, (k0_off794 v4155) a + S1x4096.size a ≤ S16896x4096.size a := fun i v0 v4155 k0_hw199 k0_h2 => k0_hw199 k0_h2

def k0_off795 (i : grid0.Coords) : Fin 1 → Nat :=
  let arg0 : BitVec 32 := BitVec.ofNat 32 (i 0).val
  let c1_i32_2378 : BitVec 32 := 1#32
  let v4161 : BitVec 32 := Scalar.addi arg0 c1_i32_2378
  let c256_i32_2386 : BitVec 32 := 256#32
  let v4173 : BitVec 32 := Scalar.muli v4161 c256_i32_2386
  let c197_i32 : BitVec 32 := 197#32
  let v4174 : BitVec 32 := Scalar.addi v4173 c197_i32
  let v4175 : Index := Scalar.indexCast v4174
  ![v4175.toNat]
def k0_off796 (i : grid0.Coords) : Fin 1 → Nat :=
  let arg0 : BitVec 32 := BitVec.ofNat 32 (i 0).val
  let c1_i32_2379 : BitVec 32 := 1#32
  let v4162 : BitVec 32 := Scalar.addi arg0 c1_i32_2379
  let c2_i32_2380 : BitVec 32 := 2#32
  let c0_i32_2381 : BitVec 32 := 0#32
  let v4163 : BitVec 1 := Scalar.cmpi .eq c2_i32_2380 c0_i32_2381
  let c1_i32_2382 : BitVec 32 := 1#32
  let v4164 : BitVec 32 := Scalar.select v4163 c1_i32_2382 c2_i32_2380
  let v4165 : BitVec 32 := Scalar.remsi v4162 v4164
  let c0_i32_2384 : BitVec 32 := 0#32
  let v4167 : BitVec 1 := Scalar.cmpi .slt v4165 c0_i32_2384
  let c0_i32_2385 : BitVec 32 := 0#32
  let v4168 : BitVec 1 := Scalar.cmpi .slt v4164 c0_i32_2385
  let v4169 : BitVec 1 := Scalar.xori v4167 v4168
  let c0_i32_2383 : BitVec 32 := 0#32
  let v4166 : BitVec 1 := Scalar.cmpi .ne v4165 c0_i32_2383
  let v4170 : BitVec 1 := Scalar.andi v4169 v4166
  let v4171 : BitVec 32 := Scalar.addi v4165 v4164
  let v4172 : BitVec 32 := Scalar.select v4170 v4171 v4165
  ![v4172.toNat]
def k0_off797 (i : grid0.Coords) : Fin 3 → Nat :=
  let arg0 : BitVec 32 := BitVec.ofNat 32 (i 0).val
  let c1_i32_2379 : BitVec 32 := 1#32
  let v4162 : BitVec 32 := Scalar.addi arg0 c1_i32_2379
  let c2_i32_2380 : BitVec 32 := 2#32
  let c0_i32_2381 : BitVec 32 := 0#32
  let v4163 : BitVec 1 := Scalar.cmpi .eq c2_i32_2380 c0_i32_2381
  let c1_i32_2382 : BitVec 32 := 1#32
  let v4164 : BitVec 32 := Scalar.select v4163 c1_i32_2382 c2_i32_2380
  let v4165 : BitVec 32 := Scalar.remsi v4162 v4164
  let c0_i32_2384 : BitVec 32 := 0#32
  let v4167 : BitVec 1 := Scalar.cmpi .slt v4165 c0_i32_2384
  let c0_i32_2385 : BitVec 32 := 0#32
  let v4168 : BitVec 1 := Scalar.cmpi .slt v4164 c0_i32_2385
  let v4169 : BitVec 1 := Scalar.xori v4167 v4168
  let c0_i32_2383 : BitVec 32 := 0#32
  let v4166 : BitVec 1 := Scalar.cmpi .ne v4165 c0_i32_2383
  let v4170 : BitVec 1 := Scalar.andi v4169 v4166
  let v4171 : BitVec 32 := Scalar.addi v4165 v4164
  let v4172 : BitVec 32 := Scalar.select v4170 v4171 v4165
  let c197_i32_2387 : BitVec 32 := 197#32
  let c0_i32_2388 : BitVec 32 := 0#32
  ![v4172.toNat, 197, 0]
def k0_off798 (v4176 : BitVec 32) : Fin 2 → Nat :=
  let c0_i32_2389 : BitVec 32 := 0#32
  ![v4176.toNat, 0]

def k0_chk200 (i : grid0.Coords) (v0 : BitVec 32) (v4176 : BitVec 32) : Prop :=
  (∀ (k0_h2 : k0_cond2 i v0 = 1#1), ∀ a, (k0_off798 v4176) a + S1x4096.size a ≤ S16896x4096.size a)
theorem k0_off798_inb : ∀ (i : grid0.Coords) (v0 : BitVec 32) (v4176 : BitVec 32) (k0_hw200 : k0_chk200 i v0 v4176), ∀ (k0_h2 : k0_cond2 i v0 = 1#1), ∀ a, (k0_off798 v4176) a + S1x4096.size a ≤ S16896x4096.size a := fun i v0 v4176 k0_hw200 k0_h2 => k0_hw200 k0_h2

def k0_off799 (i : grid0.Coords) : Fin 1 → Nat :=
  let arg0 : BitVec 32 := BitVec.ofNat 32 (i 0).val
  let c1_i32_2390 : BitVec 32 := 1#32
  let v4182 : BitVec 32 := Scalar.addi arg0 c1_i32_2390
  let c256_i32_2398 : BitVec 32 := 256#32
  let v4194 : BitVec 32 := Scalar.muli v4182 c256_i32_2398
  let c198_i32 : BitVec 32 := 198#32
  let v4195 : BitVec 32 := Scalar.addi v4194 c198_i32
  let v4196 : Index := Scalar.indexCast v4195
  ![v4196.toNat]
def k0_off800 (i : grid0.Coords) : Fin 1 → Nat :=
  let arg0 : BitVec 32 := BitVec.ofNat 32 (i 0).val
  let c1_i32_2391 : BitVec 32 := 1#32
  let v4183 : BitVec 32 := Scalar.addi arg0 c1_i32_2391
  let c2_i32_2392 : BitVec 32 := 2#32
  let c0_i32_2393 : BitVec 32 := 0#32
  let v4184 : BitVec 1 := Scalar.cmpi .eq c2_i32_2392 c0_i32_2393
  let c1_i32_2394 : BitVec 32 := 1#32
  let v4185 : BitVec 32 := Scalar.select v4184 c1_i32_2394 c2_i32_2392
  let v4186 : BitVec 32 := Scalar.remsi v4183 v4185
  let c0_i32_2396 : BitVec 32 := 0#32
  let v4188 : BitVec 1 := Scalar.cmpi .slt v4186 c0_i32_2396
  let c0_i32_2397 : BitVec 32 := 0#32
  let v4189 : BitVec 1 := Scalar.cmpi .slt v4185 c0_i32_2397
  let v4190 : BitVec 1 := Scalar.xori v4188 v4189
  let c0_i32_2395 : BitVec 32 := 0#32
  let v4187 : BitVec 1 := Scalar.cmpi .ne v4186 c0_i32_2395
  let v4191 : BitVec 1 := Scalar.andi v4190 v4187
  let v4192 : BitVec 32 := Scalar.addi v4186 v4185
  let v4193 : BitVec 32 := Scalar.select v4191 v4192 v4186
  ![v4193.toNat]
def k0_off801 (i : grid0.Coords) : Fin 3 → Nat :=
  let arg0 : BitVec 32 := BitVec.ofNat 32 (i 0).val
  let c1_i32_2391 : BitVec 32 := 1#32
  let v4183 : BitVec 32 := Scalar.addi arg0 c1_i32_2391
  let c2_i32_2392 : BitVec 32 := 2#32
  let c0_i32_2393 : BitVec 32 := 0#32
  let v4184 : BitVec 1 := Scalar.cmpi .eq c2_i32_2392 c0_i32_2393
  let c1_i32_2394 : BitVec 32 := 1#32
  let v4185 : BitVec 32 := Scalar.select v4184 c1_i32_2394 c2_i32_2392
  let v4186 : BitVec 32 := Scalar.remsi v4183 v4185
  let c0_i32_2396 : BitVec 32 := 0#32
  let v4188 : BitVec 1 := Scalar.cmpi .slt v4186 c0_i32_2396
  let c0_i32_2397 : BitVec 32 := 0#32
  let v4189 : BitVec 1 := Scalar.cmpi .slt v4185 c0_i32_2397
  let v4190 : BitVec 1 := Scalar.xori v4188 v4189
  let c0_i32_2395 : BitVec 32 := 0#32
  let v4187 : BitVec 1 := Scalar.cmpi .ne v4186 c0_i32_2395
  let v4191 : BitVec 1 := Scalar.andi v4190 v4187
  let v4192 : BitVec 32 := Scalar.addi v4186 v4185
  let v4193 : BitVec 32 := Scalar.select v4191 v4192 v4186
  let c198_i32_2399 : BitVec 32 := 198#32
  let c0_i32_2400 : BitVec 32 := 0#32
  ![v4193.toNat, 198, 0]
def k0_off802 (v4197 : BitVec 32) : Fin 2 → Nat :=
  let c0_i32_2401 : BitVec 32 := 0#32
  ![v4197.toNat, 0]

def k0_chk201 (i : grid0.Coords) (v0 : BitVec 32) (v4197 : BitVec 32) : Prop :=
  (∀ (k0_h2 : k0_cond2 i v0 = 1#1), ∀ a, (k0_off802 v4197) a + S1x4096.size a ≤ S16896x4096.size a)
theorem k0_off802_inb : ∀ (i : grid0.Coords) (v0 : BitVec 32) (v4197 : BitVec 32) (k0_hw201 : k0_chk201 i v0 v4197), ∀ (k0_h2 : k0_cond2 i v0 = 1#1), ∀ a, (k0_off802 v4197) a + S1x4096.size a ≤ S16896x4096.size a := fun i v0 v4197 k0_hw201 k0_h2 => k0_hw201 k0_h2

def k0_off803 (i : grid0.Coords) : Fin 1 → Nat :=
  let arg0 : BitVec 32 := BitVec.ofNat 32 (i 0).val
  let c1_i32_2402 : BitVec 32 := 1#32
  let v4203 : BitVec 32 := Scalar.addi arg0 c1_i32_2402
  let c256_i32_2410 : BitVec 32 := 256#32
  let v4215 : BitVec 32 := Scalar.muli v4203 c256_i32_2410
  let c199_i32 : BitVec 32 := 199#32
  let v4216 : BitVec 32 := Scalar.addi v4215 c199_i32
  let v4217 : Index := Scalar.indexCast v4216
  ![v4217.toNat]
def k0_off804 (i : grid0.Coords) : Fin 1 → Nat :=
  let arg0 : BitVec 32 := BitVec.ofNat 32 (i 0).val
  let c1_i32_2403 : BitVec 32 := 1#32
  let v4204 : BitVec 32 := Scalar.addi arg0 c1_i32_2403
  let c2_i32_2404 : BitVec 32 := 2#32
  let c0_i32_2405 : BitVec 32 := 0#32
  let v4205 : BitVec 1 := Scalar.cmpi .eq c2_i32_2404 c0_i32_2405
  let c1_i32_2406 : BitVec 32 := 1#32
  let v4206 : BitVec 32 := Scalar.select v4205 c1_i32_2406 c2_i32_2404
  let v4207 : BitVec 32 := Scalar.remsi v4204 v4206
  let c0_i32_2408 : BitVec 32 := 0#32
  let v4209 : BitVec 1 := Scalar.cmpi .slt v4207 c0_i32_2408
  let c0_i32_2409 : BitVec 32 := 0#32
  let v4210 : BitVec 1 := Scalar.cmpi .slt v4206 c0_i32_2409
  let v4211 : BitVec 1 := Scalar.xori v4209 v4210
  let c0_i32_2407 : BitVec 32 := 0#32
  let v4208 : BitVec 1 := Scalar.cmpi .ne v4207 c0_i32_2407
  let v4212 : BitVec 1 := Scalar.andi v4211 v4208
  let v4213 : BitVec 32 := Scalar.addi v4207 v4206
  let v4214 : BitVec 32 := Scalar.select v4212 v4213 v4207
  ![v4214.toNat]
def k0_off805 (i : grid0.Coords) : Fin 3 → Nat :=
  let arg0 : BitVec 32 := BitVec.ofNat 32 (i 0).val
  let c1_i32_2403 : BitVec 32 := 1#32
  let v4204 : BitVec 32 := Scalar.addi arg0 c1_i32_2403
  let c2_i32_2404 : BitVec 32 := 2#32
  let c0_i32_2405 : BitVec 32 := 0#32
  let v4205 : BitVec 1 := Scalar.cmpi .eq c2_i32_2404 c0_i32_2405
  let c1_i32_2406 : BitVec 32 := 1#32
  let v4206 : BitVec 32 := Scalar.select v4205 c1_i32_2406 c2_i32_2404
  let v4207 : BitVec 32 := Scalar.remsi v4204 v4206
  let c0_i32_2408 : BitVec 32 := 0#32
  let v4209 : BitVec 1 := Scalar.cmpi .slt v4207 c0_i32_2408
  let c0_i32_2409 : BitVec 32 := 0#32
  let v4210 : BitVec 1 := Scalar.cmpi .slt v4206 c0_i32_2409
  let v4211 : BitVec 1 := Scalar.xori v4209 v4210
  let c0_i32_2407 : BitVec 32 := 0#32
  let v4208 : BitVec 1 := Scalar.cmpi .ne v4207 c0_i32_2407
  let v4212 : BitVec 1 := Scalar.andi v4211 v4208
  let v4213 : BitVec 32 := Scalar.addi v4207 v4206
  let v4214 : BitVec 32 := Scalar.select v4212 v4213 v4207
  let c199_i32_2411 : BitVec 32 := 199#32
  let c0_i32_2412 : BitVec 32 := 0#32
  ![v4214.toNat, 199, 0]
def k0_off806 (v4218 : BitVec 32) : Fin 2 → Nat :=
  let c0_i32_2413 : BitVec 32 := 0#32
  ![v4218.toNat, 0]

def k0_chk202 (i : grid0.Coords) (v0 : BitVec 32) (v4218 : BitVec 32) : Prop :=
  (∀ (k0_h2 : k0_cond2 i v0 = 1#1), ∀ a, (k0_off806 v4218) a + S1x4096.size a ≤ S16896x4096.size a)
theorem k0_off806_inb : ∀ (i : grid0.Coords) (v0 : BitVec 32) (v4218 : BitVec 32) (k0_hw202 : k0_chk202 i v0 v4218), ∀ (k0_h2 : k0_cond2 i v0 = 1#1), ∀ a, (k0_off806 v4218) a + S1x4096.size a ≤ S16896x4096.size a := fun i v0 v4218 k0_hw202 k0_h2 => k0_hw202 k0_h2

def k0_off807 (i : grid0.Coords) : Fin 1 → Nat :=
  let arg0 : BitVec 32 := BitVec.ofNat 32 (i 0).val
  let c1_i32_2414 : BitVec 32 := 1#32
  let v4224 : BitVec 32 := Scalar.addi arg0 c1_i32_2414
  let c256_i32_2422 : BitVec 32 := 256#32
  let v4236 : BitVec 32 := Scalar.muli v4224 c256_i32_2422
  let c200_i32 : BitVec 32 := 200#32
  let v4237 : BitVec 32 := Scalar.addi v4236 c200_i32
  let v4238 : Index := Scalar.indexCast v4237
  ![v4238.toNat]
def k0_off808 (i : grid0.Coords) : Fin 1 → Nat :=
  let arg0 : BitVec 32 := BitVec.ofNat 32 (i 0).val
  let c1_i32_2415 : BitVec 32 := 1#32
  let v4225 : BitVec 32 := Scalar.addi arg0 c1_i32_2415
  let c2_i32_2416 : BitVec 32 := 2#32
  let c0_i32_2417 : BitVec 32 := 0#32
  let v4226 : BitVec 1 := Scalar.cmpi .eq c2_i32_2416 c0_i32_2417
  let c1_i32_2418 : BitVec 32 := 1#32
  let v4227 : BitVec 32 := Scalar.select v4226 c1_i32_2418 c2_i32_2416
  let v4228 : BitVec 32 := Scalar.remsi v4225 v4227
  let c0_i32_2420 : BitVec 32 := 0#32
  let v4230 : BitVec 1 := Scalar.cmpi .slt v4228 c0_i32_2420
  let c0_i32_2421 : BitVec 32 := 0#32
  let v4231 : BitVec 1 := Scalar.cmpi .slt v4227 c0_i32_2421
  let v4232 : BitVec 1 := Scalar.xori v4230 v4231
  let c0_i32_2419 : BitVec 32 := 0#32
  let v4229 : BitVec 1 := Scalar.cmpi .ne v4228 c0_i32_2419
  let v4233 : BitVec 1 := Scalar.andi v4232 v4229
  let v4234 : BitVec 32 := Scalar.addi v4228 v4227
  let v4235 : BitVec 32 := Scalar.select v4233 v4234 v4228
  ![v4235.toNat]
def k0_off809 (i : grid0.Coords) : Fin 3 → Nat :=
  let arg0 : BitVec 32 := BitVec.ofNat 32 (i 0).val
  let c1_i32_2415 : BitVec 32 := 1#32
  let v4225 : BitVec 32 := Scalar.addi arg0 c1_i32_2415
  let c2_i32_2416 : BitVec 32 := 2#32
  let c0_i32_2417 : BitVec 32 := 0#32
  let v4226 : BitVec 1 := Scalar.cmpi .eq c2_i32_2416 c0_i32_2417
  let c1_i32_2418 : BitVec 32 := 1#32
  let v4227 : BitVec 32 := Scalar.select v4226 c1_i32_2418 c2_i32_2416
  let v4228 : BitVec 32 := Scalar.remsi v4225 v4227
  let c0_i32_2420 : BitVec 32 := 0#32
  let v4230 : BitVec 1 := Scalar.cmpi .slt v4228 c0_i32_2420
  let c0_i32_2421 : BitVec 32 := 0#32
  let v4231 : BitVec 1 := Scalar.cmpi .slt v4227 c0_i32_2421
  let v4232 : BitVec 1 := Scalar.xori v4230 v4231
  let c0_i32_2419 : BitVec 32 := 0#32
  let v4229 : BitVec 1 := Scalar.cmpi .ne v4228 c0_i32_2419
  let v4233 : BitVec 1 := Scalar.andi v4232 v4229
  let v4234 : BitVec 32 := Scalar.addi v4228 v4227
  let v4235 : BitVec 32 := Scalar.select v4233 v4234 v4228
  let c200_i32_2423 : BitVec 32 := 200#32
  let c0_i32_2424 : BitVec 32 := 0#32
  ![v4235.toNat, 200, 0]
def k0_off810 (v4239 : BitVec 32) : Fin 2 → Nat :=
  let c0_i32_2425 : BitVec 32 := 0#32
  ![v4239.toNat, 0]

def k0_chk203 (i : grid0.Coords) (v0 : BitVec 32) (v4239 : BitVec 32) : Prop :=
  (∀ (k0_h2 : k0_cond2 i v0 = 1#1), ∀ a, (k0_off810 v4239) a + S1x4096.size a ≤ S16896x4096.size a)
theorem k0_off810_inb : ∀ (i : grid0.Coords) (v0 : BitVec 32) (v4239 : BitVec 32) (k0_hw203 : k0_chk203 i v0 v4239), ∀ (k0_h2 : k0_cond2 i v0 = 1#1), ∀ a, (k0_off810 v4239) a + S1x4096.size a ≤ S16896x4096.size a := fun i v0 v4239 k0_hw203 k0_h2 => k0_hw203 k0_h2

def k0_off811 (i : grid0.Coords) : Fin 1 → Nat :=
  let arg0 : BitVec 32 := BitVec.ofNat 32 (i 0).val
  let c1_i32_2426 : BitVec 32 := 1#32
  let v4245 : BitVec 32 := Scalar.addi arg0 c1_i32_2426
  let c256_i32_2434 : BitVec 32 := 256#32
  let v4257 : BitVec 32 := Scalar.muli v4245 c256_i32_2434
  let c201_i32 : BitVec 32 := 201#32
  let v4258 : BitVec 32 := Scalar.addi v4257 c201_i32
  let v4259 : Index := Scalar.indexCast v4258
  ![v4259.toNat]
def k0_off812 (i : grid0.Coords) : Fin 1 → Nat :=
  let arg0 : BitVec 32 := BitVec.ofNat 32 (i 0).val
  let c1_i32_2427 : BitVec 32 := 1#32
  let v4246 : BitVec 32 := Scalar.addi arg0 c1_i32_2427
  let c2_i32_2428 : BitVec 32 := 2#32
  let c0_i32_2429 : BitVec 32 := 0#32
  let v4247 : BitVec 1 := Scalar.cmpi .eq c2_i32_2428 c0_i32_2429
  let c1_i32_2430 : BitVec 32 := 1#32
  let v4248 : BitVec 32 := Scalar.select v4247 c1_i32_2430 c2_i32_2428
  let v4249 : BitVec 32 := Scalar.remsi v4246 v4248
  let c0_i32_2432 : BitVec 32 := 0#32
  let v4251 : BitVec 1 := Scalar.cmpi .slt v4249 c0_i32_2432
  let c0_i32_2433 : BitVec 32 := 0#32
  let v4252 : BitVec 1 := Scalar.cmpi .slt v4248 c0_i32_2433
  let v4253 : BitVec 1 := Scalar.xori v4251 v4252
  let c0_i32_2431 : BitVec 32 := 0#32
  let v4250 : BitVec 1 := Scalar.cmpi .ne v4249 c0_i32_2431
  let v4254 : BitVec 1 := Scalar.andi v4253 v4250
  let v4255 : BitVec 32 := Scalar.addi v4249 v4248
  let v4256 : BitVec 32 := Scalar.select v4254 v4255 v4249
  ![v4256.toNat]
def k0_off813 (i : grid0.Coords) : Fin 3 → Nat :=
  let arg0 : BitVec 32 := BitVec.ofNat 32 (i 0).val
  let c1_i32_2427 : BitVec 32 := 1#32
  let v4246 : BitVec 32 := Scalar.addi arg0 c1_i32_2427
  let c2_i32_2428 : BitVec 32 := 2#32
  let c0_i32_2429 : BitVec 32 := 0#32
  let v4247 : BitVec 1 := Scalar.cmpi .eq c2_i32_2428 c0_i32_2429
  let c1_i32_2430 : BitVec 32 := 1#32
  let v4248 : BitVec 32 := Scalar.select v4247 c1_i32_2430 c2_i32_2428
  let v4249 : BitVec 32 := Scalar.remsi v4246 v4248
  let c0_i32_2432 : BitVec 32 := 0#32
  let v4251 : BitVec 1 := Scalar.cmpi .slt v4249 c0_i32_2432
  let c0_i32_2433 : BitVec 32 := 0#32
  let v4252 : BitVec 1 := Scalar.cmpi .slt v4248 c0_i32_2433
  let v4253 : BitVec 1 := Scalar.xori v4251 v4252
  let c0_i32_2431 : BitVec 32 := 0#32
  let v4250 : BitVec 1 := Scalar.cmpi .ne v4249 c0_i32_2431
  let v4254 : BitVec 1 := Scalar.andi v4253 v4250
  let v4255 : BitVec 32 := Scalar.addi v4249 v4248
  let v4256 : BitVec 32 := Scalar.select v4254 v4255 v4249
  let c201_i32_2435 : BitVec 32 := 201#32
  let c0_i32_2436 : BitVec 32 := 0#32
  ![v4256.toNat, 201, 0]
def k0_off814 (v4260 : BitVec 32) : Fin 2 → Nat :=
  let c0_i32_2437 : BitVec 32 := 0#32
  ![v4260.toNat, 0]

def k0_chk204 (i : grid0.Coords) (v0 : BitVec 32) (v4260 : BitVec 32) : Prop :=
  (∀ (k0_h2 : k0_cond2 i v0 = 1#1), ∀ a, (k0_off814 v4260) a + S1x4096.size a ≤ S16896x4096.size a)
theorem k0_off814_inb : ∀ (i : grid0.Coords) (v0 : BitVec 32) (v4260 : BitVec 32) (k0_hw204 : k0_chk204 i v0 v4260), ∀ (k0_h2 : k0_cond2 i v0 = 1#1), ∀ a, (k0_off814 v4260) a + S1x4096.size a ≤ S16896x4096.size a := fun i v0 v4260 k0_hw204 k0_h2 => k0_hw204 k0_h2

def k0_off815 (i : grid0.Coords) : Fin 1 → Nat :=
  let arg0 : BitVec 32 := BitVec.ofNat 32 (i 0).val
  let c1_i32_2438 : BitVec 32 := 1#32
  let v4266 : BitVec 32 := Scalar.addi arg0 c1_i32_2438
  let c256_i32_2446 : BitVec 32 := 256#32
  let v4278 : BitVec 32 := Scalar.muli v4266 c256_i32_2446
  let c202_i32 : BitVec 32 := 202#32
  let v4279 : BitVec 32 := Scalar.addi v4278 c202_i32
  let v4280 : Index := Scalar.indexCast v4279
  ![v4280.toNat]
def k0_off816 (i : grid0.Coords) : Fin 1 → Nat :=
  let arg0 : BitVec 32 := BitVec.ofNat 32 (i 0).val
  let c1_i32_2439 : BitVec 32 := 1#32
  let v4267 : BitVec 32 := Scalar.addi arg0 c1_i32_2439
  let c2_i32_2440 : BitVec 32 := 2#32
  let c0_i32_2441 : BitVec 32 := 0#32
  let v4268 : BitVec 1 := Scalar.cmpi .eq c2_i32_2440 c0_i32_2441
  let c1_i32_2442 : BitVec 32 := 1#32
  let v4269 : BitVec 32 := Scalar.select v4268 c1_i32_2442 c2_i32_2440
  let v4270 : BitVec 32 := Scalar.remsi v4267 v4269
  let c0_i32_2444 : BitVec 32 := 0#32
  let v4272 : BitVec 1 := Scalar.cmpi .slt v4270 c0_i32_2444
  let c0_i32_2445 : BitVec 32 := 0#32
  let v4273 : BitVec 1 := Scalar.cmpi .slt v4269 c0_i32_2445
  let v4274 : BitVec 1 := Scalar.xori v4272 v4273
  let c0_i32_2443 : BitVec 32 := 0#32
  let v4271 : BitVec 1 := Scalar.cmpi .ne v4270 c0_i32_2443
  let v4275 : BitVec 1 := Scalar.andi v4274 v4271
  let v4276 : BitVec 32 := Scalar.addi v4270 v4269
  let v4277 : BitVec 32 := Scalar.select v4275 v4276 v4270
  ![v4277.toNat]
def k0_off817 (i : grid0.Coords) : Fin 3 → Nat :=
  let arg0 : BitVec 32 := BitVec.ofNat 32 (i 0).val
  let c1_i32_2439 : BitVec 32 := 1#32
  let v4267 : BitVec 32 := Scalar.addi arg0 c1_i32_2439
  let c2_i32_2440 : BitVec 32 := 2#32
  let c0_i32_2441 : BitVec 32 := 0#32
  let v4268 : BitVec 1 := Scalar.cmpi .eq c2_i32_2440 c0_i32_2441
  let c1_i32_2442 : BitVec 32 := 1#32
  let v4269 : BitVec 32 := Scalar.select v4268 c1_i32_2442 c2_i32_2440
  let v4270 : BitVec 32 := Scalar.remsi v4267 v4269
  let c0_i32_2444 : BitVec 32 := 0#32
  let v4272 : BitVec 1 := Scalar.cmpi .slt v4270 c0_i32_2444
  let c0_i32_2445 : BitVec 32 := 0#32
  let v4273 : BitVec 1 := Scalar.cmpi .slt v4269 c0_i32_2445
  let v4274 : BitVec 1 := Scalar.xori v4272 v4273
  let c0_i32_2443 : BitVec 32 := 0#32
  let v4271 : BitVec 1 := Scalar.cmpi .ne v4270 c0_i32_2443
  let v4275 : BitVec 1 := Scalar.andi v4274 v4271
  let v4276 : BitVec 32 := Scalar.addi v4270 v4269
  let v4277 : BitVec 32 := Scalar.select v4275 v4276 v4270
  let c202_i32_2447 : BitVec 32 := 202#32
  let c0_i32_2448 : BitVec 32 := 0#32
  ![v4277.toNat, 202, 0]
def k0_off818 (v4281 : BitVec 32) : Fin 2 → Nat :=
  let c0_i32_2449 : BitVec 32 := 0#32
  ![v4281.toNat, 0]

def k0_chk205 (i : grid0.Coords) (v0 : BitVec 32) (v4281 : BitVec 32) : Prop :=
  (∀ (k0_h2 : k0_cond2 i v0 = 1#1), ∀ a, (k0_off818 v4281) a + S1x4096.size a ≤ S16896x4096.size a)
theorem k0_off818_inb : ∀ (i : grid0.Coords) (v0 : BitVec 32) (v4281 : BitVec 32) (k0_hw205 : k0_chk205 i v0 v4281), ∀ (k0_h2 : k0_cond2 i v0 = 1#1), ∀ a, (k0_off818 v4281) a + S1x4096.size a ≤ S16896x4096.size a := fun i v0 v4281 k0_hw205 k0_h2 => k0_hw205 k0_h2

def k0_off819 (i : grid0.Coords) : Fin 1 → Nat :=
  let arg0 : BitVec 32 := BitVec.ofNat 32 (i 0).val
  let c1_i32_2450 : BitVec 32 := 1#32
  let v4287 : BitVec 32 := Scalar.addi arg0 c1_i32_2450
  let c256_i32_2458 : BitVec 32 := 256#32
  let v4299 : BitVec 32 := Scalar.muli v4287 c256_i32_2458
  let c203_i32 : BitVec 32 := 203#32
  let v4300 : BitVec 32 := Scalar.addi v4299 c203_i32
  let v4301 : Index := Scalar.indexCast v4300
  ![v4301.toNat]
def k0_off820 (i : grid0.Coords) : Fin 1 → Nat :=
  let arg0 : BitVec 32 := BitVec.ofNat 32 (i 0).val
  let c1_i32_2451 : BitVec 32 := 1#32
  let v4288 : BitVec 32 := Scalar.addi arg0 c1_i32_2451
  let c2_i32_2452 : BitVec 32 := 2#32
  let c0_i32_2453 : BitVec 32 := 0#32
  let v4289 : BitVec 1 := Scalar.cmpi .eq c2_i32_2452 c0_i32_2453
  let c1_i32_2454 : BitVec 32 := 1#32
  let v4290 : BitVec 32 := Scalar.select v4289 c1_i32_2454 c2_i32_2452
  let v4291 : BitVec 32 := Scalar.remsi v4288 v4290
  let c0_i32_2456 : BitVec 32 := 0#32
  let v4293 : BitVec 1 := Scalar.cmpi .slt v4291 c0_i32_2456
  let c0_i32_2457 : BitVec 32 := 0#32
  let v4294 : BitVec 1 := Scalar.cmpi .slt v4290 c0_i32_2457
  let v4295 : BitVec 1 := Scalar.xori v4293 v4294
  let c0_i32_2455 : BitVec 32 := 0#32
  let v4292 : BitVec 1 := Scalar.cmpi .ne v4291 c0_i32_2455
  let v4296 : BitVec 1 := Scalar.andi v4295 v4292
  let v4297 : BitVec 32 := Scalar.addi v4291 v4290
  let v4298 : BitVec 32 := Scalar.select v4296 v4297 v4291
  ![v4298.toNat]
def k0_off821 (i : grid0.Coords) : Fin 3 → Nat :=
  let arg0 : BitVec 32 := BitVec.ofNat 32 (i 0).val
  let c1_i32_2451 : BitVec 32 := 1#32
  let v4288 : BitVec 32 := Scalar.addi arg0 c1_i32_2451
  let c2_i32_2452 : BitVec 32 := 2#32
  let c0_i32_2453 : BitVec 32 := 0#32
  let v4289 : BitVec 1 := Scalar.cmpi .eq c2_i32_2452 c0_i32_2453
  let c1_i32_2454 : BitVec 32 := 1#32
  let v4290 : BitVec 32 := Scalar.select v4289 c1_i32_2454 c2_i32_2452
  let v4291 : BitVec 32 := Scalar.remsi v4288 v4290
  let c0_i32_2456 : BitVec 32 := 0#32
  let v4293 : BitVec 1 := Scalar.cmpi .slt v4291 c0_i32_2456
  let c0_i32_2457 : BitVec 32 := 0#32
  let v4294 : BitVec 1 := Scalar.cmpi .slt v4290 c0_i32_2457
  let v4295 : BitVec 1 := Scalar.xori v4293 v4294
  let c0_i32_2455 : BitVec 32 := 0#32
  let v4292 : BitVec 1 := Scalar.cmpi .ne v4291 c0_i32_2455
  let v4296 : BitVec 1 := Scalar.andi v4295 v4292
  let v4297 : BitVec 32 := Scalar.addi v4291 v4290
  let v4298 : BitVec 32 := Scalar.select v4296 v4297 v4291
  let c203_i32_2459 : BitVec 32 := 203#32
  let c0_i32_2460 : BitVec 32 := 0#32
  ![v4298.toNat, 203, 0]
def k0_off822 (v4302 : BitVec 32) : Fin 2 → Nat :=
  let c0_i32_2461 : BitVec 32 := 0#32
  ![v4302.toNat, 0]

def k0_chk206 (i : grid0.Coords) (v0 : BitVec 32) (v4302 : BitVec 32) : Prop :=
  (∀ (k0_h2 : k0_cond2 i v0 = 1#1), ∀ a, (k0_off822 v4302) a + S1x4096.size a ≤ S16896x4096.size a)
theorem k0_off822_inb : ∀ (i : grid0.Coords) (v0 : BitVec 32) (v4302 : BitVec 32) (k0_hw206 : k0_chk206 i v0 v4302), ∀ (k0_h2 : k0_cond2 i v0 = 1#1), ∀ a, (k0_off822 v4302) a + S1x4096.size a ≤ S16896x4096.size a := fun i v0 v4302 k0_hw206 k0_h2 => k0_hw206 k0_h2

def k0_off823 (i : grid0.Coords) : Fin 1 → Nat :=
  let arg0 : BitVec 32 := BitVec.ofNat 32 (i 0).val
  let c1_i32_2462 : BitVec 32 := 1#32
  let v4308 : BitVec 32 := Scalar.addi arg0 c1_i32_2462
  let c256_i32_2470 : BitVec 32 := 256#32
  let v4320 : BitVec 32 := Scalar.muli v4308 c256_i32_2470
  let c204_i32 : BitVec 32 := 204#32
  let v4321 : BitVec 32 := Scalar.addi v4320 c204_i32
  let v4322 : Index := Scalar.indexCast v4321
  ![v4322.toNat]
def k0_off824 (i : grid0.Coords) : Fin 1 → Nat :=
  let arg0 : BitVec 32 := BitVec.ofNat 32 (i 0).val
  let c1_i32_2463 : BitVec 32 := 1#32
  let v4309 : BitVec 32 := Scalar.addi arg0 c1_i32_2463
  let c2_i32_2464 : BitVec 32 := 2#32
  let c0_i32_2465 : BitVec 32 := 0#32
  let v4310 : BitVec 1 := Scalar.cmpi .eq c2_i32_2464 c0_i32_2465
  let c1_i32_2466 : BitVec 32 := 1#32
  let v4311 : BitVec 32 := Scalar.select v4310 c1_i32_2466 c2_i32_2464
  let v4312 : BitVec 32 := Scalar.remsi v4309 v4311
  let c0_i32_2468 : BitVec 32 := 0#32
  let v4314 : BitVec 1 := Scalar.cmpi .slt v4312 c0_i32_2468
  let c0_i32_2469 : BitVec 32 := 0#32
  let v4315 : BitVec 1 := Scalar.cmpi .slt v4311 c0_i32_2469
  let v4316 : BitVec 1 := Scalar.xori v4314 v4315
  let c0_i32_2467 : BitVec 32 := 0#32
  let v4313 : BitVec 1 := Scalar.cmpi .ne v4312 c0_i32_2467
  let v4317 : BitVec 1 := Scalar.andi v4316 v4313
  let v4318 : BitVec 32 := Scalar.addi v4312 v4311
  let v4319 : BitVec 32 := Scalar.select v4317 v4318 v4312
  ![v4319.toNat]
def k0_off825 (i : grid0.Coords) : Fin 3 → Nat :=
  let arg0 : BitVec 32 := BitVec.ofNat 32 (i 0).val
  let c1_i32_2463 : BitVec 32 := 1#32
  let v4309 : BitVec 32 := Scalar.addi arg0 c1_i32_2463
  let c2_i32_2464 : BitVec 32 := 2#32
  let c0_i32_2465 : BitVec 32 := 0#32
  let v4310 : BitVec 1 := Scalar.cmpi .eq c2_i32_2464 c0_i32_2465
  let c1_i32_2466 : BitVec 32 := 1#32
  let v4311 : BitVec 32 := Scalar.select v4310 c1_i32_2466 c2_i32_2464
  let v4312 : BitVec 32 := Scalar.remsi v4309 v4311
  let c0_i32_2468 : BitVec 32 := 0#32
  let v4314 : BitVec 1 := Scalar.cmpi .slt v4312 c0_i32_2468
  let c0_i32_2469 : BitVec 32 := 0#32
  let v4315 : BitVec 1 := Scalar.cmpi .slt v4311 c0_i32_2469
  let v4316 : BitVec 1 := Scalar.xori v4314 v4315
  let c0_i32_2467 : BitVec 32 := 0#32
  let v4313 : BitVec 1 := Scalar.cmpi .ne v4312 c0_i32_2467
  let v4317 : BitVec 1 := Scalar.andi v4316 v4313
  let v4318 : BitVec 32 := Scalar.addi v4312 v4311
  let v4319 : BitVec 32 := Scalar.select v4317 v4318 v4312
  let c204_i32_2471 : BitVec 32 := 204#32
  let c0_i32_2472 : BitVec 32 := 0#32
  ![v4319.toNat, 204, 0]
def k0_off826 (v4323 : BitVec 32) : Fin 2 → Nat :=
  let c0_i32_2473 : BitVec 32 := 0#32
  ![v4323.toNat, 0]

def k0_chk207 (i : grid0.Coords) (v0 : BitVec 32) (v4323 : BitVec 32) : Prop :=
  (∀ (k0_h2 : k0_cond2 i v0 = 1#1), ∀ a, (k0_off826 v4323) a + S1x4096.size a ≤ S16896x4096.size a)
theorem k0_off826_inb : ∀ (i : grid0.Coords) (v0 : BitVec 32) (v4323 : BitVec 32) (k0_hw207 : k0_chk207 i v0 v4323), ∀ (k0_h2 : k0_cond2 i v0 = 1#1), ∀ a, (k0_off826 v4323) a + S1x4096.size a ≤ S16896x4096.size a := fun i v0 v4323 k0_hw207 k0_h2 => k0_hw207 k0_h2

def k0_off827 (i : grid0.Coords) : Fin 1 → Nat :=
  let arg0 : BitVec 32 := BitVec.ofNat 32 (i 0).val
  let c1_i32_2474 : BitVec 32 := 1#32
  let v4329 : BitVec 32 := Scalar.addi arg0 c1_i32_2474
  let c256_i32_2482 : BitVec 32 := 256#32
  let v4341 : BitVec 32 := Scalar.muli v4329 c256_i32_2482
  let c205_i32 : BitVec 32 := 205#32
  let v4342 : BitVec 32 := Scalar.addi v4341 c205_i32
  let v4343 : Index := Scalar.indexCast v4342
  ![v4343.toNat]
def k0_off828 (i : grid0.Coords) : Fin 1 → Nat :=
  let arg0 : BitVec 32 := BitVec.ofNat 32 (i 0).val
  let c1_i32_2475 : BitVec 32 := 1#32
  let v4330 : BitVec 32 := Scalar.addi arg0 c1_i32_2475
  let c2_i32_2476 : BitVec 32 := 2#32
  let c0_i32_2477 : BitVec 32 := 0#32
  let v4331 : BitVec 1 := Scalar.cmpi .eq c2_i32_2476 c0_i32_2477
  let c1_i32_2478 : BitVec 32 := 1#32
  let v4332 : BitVec 32 := Scalar.select v4331 c1_i32_2478 c2_i32_2476
  let v4333 : BitVec 32 := Scalar.remsi v4330 v4332
  let c0_i32_2480 : BitVec 32 := 0#32
  let v4335 : BitVec 1 := Scalar.cmpi .slt v4333 c0_i32_2480
  let c0_i32_2481 : BitVec 32 := 0#32
  let v4336 : BitVec 1 := Scalar.cmpi .slt v4332 c0_i32_2481
  let v4337 : BitVec 1 := Scalar.xori v4335 v4336
  let c0_i32_2479 : BitVec 32 := 0#32
  let v4334 : BitVec 1 := Scalar.cmpi .ne v4333 c0_i32_2479
  let v4338 : BitVec 1 := Scalar.andi v4337 v4334
  let v4339 : BitVec 32 := Scalar.addi v4333 v4332
  let v4340 : BitVec 32 := Scalar.select v4338 v4339 v4333
  ![v4340.toNat]
def k0_off829 (i : grid0.Coords) : Fin 3 → Nat :=
  let arg0 : BitVec 32 := BitVec.ofNat 32 (i 0).val
  let c1_i32_2475 : BitVec 32 := 1#32
  let v4330 : BitVec 32 := Scalar.addi arg0 c1_i32_2475
  let c2_i32_2476 : BitVec 32 := 2#32
  let c0_i32_2477 : BitVec 32 := 0#32
  let v4331 : BitVec 1 := Scalar.cmpi .eq c2_i32_2476 c0_i32_2477
  let c1_i32_2478 : BitVec 32 := 1#32
  let v4332 : BitVec 32 := Scalar.select v4331 c1_i32_2478 c2_i32_2476
  let v4333 : BitVec 32 := Scalar.remsi v4330 v4332
  let c0_i32_2480 : BitVec 32 := 0#32
  let v4335 : BitVec 1 := Scalar.cmpi .slt v4333 c0_i32_2480
  let c0_i32_2481 : BitVec 32 := 0#32
  let v4336 : BitVec 1 := Scalar.cmpi .slt v4332 c0_i32_2481
  let v4337 : BitVec 1 := Scalar.xori v4335 v4336
  let c0_i32_2479 : BitVec 32 := 0#32
  let v4334 : BitVec 1 := Scalar.cmpi .ne v4333 c0_i32_2479
  let v4338 : BitVec 1 := Scalar.andi v4337 v4334
  let v4339 : BitVec 32 := Scalar.addi v4333 v4332
  let v4340 : BitVec 32 := Scalar.select v4338 v4339 v4333
  let c205_i32_2483 : BitVec 32 := 205#32
  let c0_i32_2484 : BitVec 32 := 0#32
  ![v4340.toNat, 205, 0]
def k0_off830 (v4344 : BitVec 32) : Fin 2 → Nat :=
  let c0_i32_2485 : BitVec 32 := 0#32
  ![v4344.toNat, 0]

def k0_chk208 (i : grid0.Coords) (v0 : BitVec 32) (v4344 : BitVec 32) : Prop :=
  (∀ (k0_h2 : k0_cond2 i v0 = 1#1), ∀ a, (k0_off830 v4344) a + S1x4096.size a ≤ S16896x4096.size a)
theorem k0_off830_inb : ∀ (i : grid0.Coords) (v0 : BitVec 32) (v4344 : BitVec 32) (k0_hw208 : k0_chk208 i v0 v4344), ∀ (k0_h2 : k0_cond2 i v0 = 1#1), ∀ a, (k0_off830 v4344) a + S1x4096.size a ≤ S16896x4096.size a := fun i v0 v4344 k0_hw208 k0_h2 => k0_hw208 k0_h2

def k0_off831 (i : grid0.Coords) : Fin 1 → Nat :=
  let arg0 : BitVec 32 := BitVec.ofNat 32 (i 0).val
  let c1_i32_2486 : BitVec 32 := 1#32
  let v4350 : BitVec 32 := Scalar.addi arg0 c1_i32_2486
  let c256_i32_2494 : BitVec 32 := 256#32
  let v4362 : BitVec 32 := Scalar.muli v4350 c256_i32_2494
  let c206_i32 : BitVec 32 := 206#32
  let v4363 : BitVec 32 := Scalar.addi v4362 c206_i32
  let v4364 : Index := Scalar.indexCast v4363
  ![v4364.toNat]
def k0_off832 (i : grid0.Coords) : Fin 1 → Nat :=
  let arg0 : BitVec 32 := BitVec.ofNat 32 (i 0).val
  let c1_i32_2487 : BitVec 32 := 1#32
  let v4351 : BitVec 32 := Scalar.addi arg0 c1_i32_2487
  let c2_i32_2488 : BitVec 32 := 2#32
  let c0_i32_2489 : BitVec 32 := 0#32
  let v4352 : BitVec 1 := Scalar.cmpi .eq c2_i32_2488 c0_i32_2489
  let c1_i32_2490 : BitVec 32 := 1#32
  let v4353 : BitVec 32 := Scalar.select v4352 c1_i32_2490 c2_i32_2488
  let v4354 : BitVec 32 := Scalar.remsi v4351 v4353
  let c0_i32_2492 : BitVec 32 := 0#32
  let v4356 : BitVec 1 := Scalar.cmpi .slt v4354 c0_i32_2492
  let c0_i32_2493 : BitVec 32 := 0#32
  let v4357 : BitVec 1 := Scalar.cmpi .slt v4353 c0_i32_2493
  let v4358 : BitVec 1 := Scalar.xori v4356 v4357
  let c0_i32_2491 : BitVec 32 := 0#32
  let v4355 : BitVec 1 := Scalar.cmpi .ne v4354 c0_i32_2491
  let v4359 : BitVec 1 := Scalar.andi v4358 v4355
  let v4360 : BitVec 32 := Scalar.addi v4354 v4353
  let v4361 : BitVec 32 := Scalar.select v4359 v4360 v4354
  ![v4361.toNat]
def k0_off833 (i : grid0.Coords) : Fin 3 → Nat :=
  let arg0 : BitVec 32 := BitVec.ofNat 32 (i 0).val
  let c1_i32_2487 : BitVec 32 := 1#32
  let v4351 : BitVec 32 := Scalar.addi arg0 c1_i32_2487
  let c2_i32_2488 : BitVec 32 := 2#32
  let c0_i32_2489 : BitVec 32 := 0#32
  let v4352 : BitVec 1 := Scalar.cmpi .eq c2_i32_2488 c0_i32_2489
  let c1_i32_2490 : BitVec 32 := 1#32
  let v4353 : BitVec 32 := Scalar.select v4352 c1_i32_2490 c2_i32_2488
  let v4354 : BitVec 32 := Scalar.remsi v4351 v4353
  let c0_i32_2492 : BitVec 32 := 0#32
  let v4356 : BitVec 1 := Scalar.cmpi .slt v4354 c0_i32_2492
  let c0_i32_2493 : BitVec 32 := 0#32
  let v4357 : BitVec 1 := Scalar.cmpi .slt v4353 c0_i32_2493
  let v4358 : BitVec 1 := Scalar.xori v4356 v4357
  let c0_i32_2491 : BitVec 32 := 0#32
  let v4355 : BitVec 1 := Scalar.cmpi .ne v4354 c0_i32_2491
  let v4359 : BitVec 1 := Scalar.andi v4358 v4355
  let v4360 : BitVec 32 := Scalar.addi v4354 v4353
  let v4361 : BitVec 32 := Scalar.select v4359 v4360 v4354
  let c206_i32_2495 : BitVec 32 := 206#32
  let c0_i32_2496 : BitVec 32 := 0#32
  ![v4361.toNat, 206, 0]
def k0_off834 (v4365 : BitVec 32) : Fin 2 → Nat :=
  let c0_i32_2497 : BitVec 32 := 0#32
  ![v4365.toNat, 0]

def k0_chk209 (i : grid0.Coords) (v0 : BitVec 32) (v4365 : BitVec 32) : Prop :=
  (∀ (k0_h2 : k0_cond2 i v0 = 1#1), ∀ a, (k0_off834 v4365) a + S1x4096.size a ≤ S16896x4096.size a)
theorem k0_off834_inb : ∀ (i : grid0.Coords) (v0 : BitVec 32) (v4365 : BitVec 32) (k0_hw209 : k0_chk209 i v0 v4365), ∀ (k0_h2 : k0_cond2 i v0 = 1#1), ∀ a, (k0_off834 v4365) a + S1x4096.size a ≤ S16896x4096.size a := fun i v0 v4365 k0_hw209 k0_h2 => k0_hw209 k0_h2

def k0_off835 (i : grid0.Coords) : Fin 1 → Nat :=
  let arg0 : BitVec 32 := BitVec.ofNat 32 (i 0).val
  let c1_i32_2498 : BitVec 32 := 1#32
  let v4371 : BitVec 32 := Scalar.addi arg0 c1_i32_2498
  let c256_i32_2506 : BitVec 32 := 256#32
  let v4383 : BitVec 32 := Scalar.muli v4371 c256_i32_2506
  let c207_i32 : BitVec 32 := 207#32
  let v4384 : BitVec 32 := Scalar.addi v4383 c207_i32
  let v4385 : Index := Scalar.indexCast v4384
  ![v4385.toNat]
def k0_off836 (i : grid0.Coords) : Fin 1 → Nat :=
  let arg0 : BitVec 32 := BitVec.ofNat 32 (i 0).val
  let c1_i32_2499 : BitVec 32 := 1#32
  let v4372 : BitVec 32 := Scalar.addi arg0 c1_i32_2499
  let c2_i32_2500 : BitVec 32 := 2#32
  let c0_i32_2501 : BitVec 32 := 0#32
  let v4373 : BitVec 1 := Scalar.cmpi .eq c2_i32_2500 c0_i32_2501
  let c1_i32_2502 : BitVec 32 := 1#32
  let v4374 : BitVec 32 := Scalar.select v4373 c1_i32_2502 c2_i32_2500
  let v4375 : BitVec 32 := Scalar.remsi v4372 v4374
  let c0_i32_2504 : BitVec 32 := 0#32
  let v4377 : BitVec 1 := Scalar.cmpi .slt v4375 c0_i32_2504
  let c0_i32_2505 : BitVec 32 := 0#32
  let v4378 : BitVec 1 := Scalar.cmpi .slt v4374 c0_i32_2505
  let v4379 : BitVec 1 := Scalar.xori v4377 v4378
  let c0_i32_2503 : BitVec 32 := 0#32
  let v4376 : BitVec 1 := Scalar.cmpi .ne v4375 c0_i32_2503
  let v4380 : BitVec 1 := Scalar.andi v4379 v4376
  let v4381 : BitVec 32 := Scalar.addi v4375 v4374
  let v4382 : BitVec 32 := Scalar.select v4380 v4381 v4375
  ![v4382.toNat]
def k0_off837 (i : grid0.Coords) : Fin 3 → Nat :=
  let arg0 : BitVec 32 := BitVec.ofNat 32 (i 0).val
  let c1_i32_2499 : BitVec 32 := 1#32
  let v4372 : BitVec 32 := Scalar.addi arg0 c1_i32_2499
  let c2_i32_2500 : BitVec 32 := 2#32
  let c0_i32_2501 : BitVec 32 := 0#32
  let v4373 : BitVec 1 := Scalar.cmpi .eq c2_i32_2500 c0_i32_2501
  let c1_i32_2502 : BitVec 32 := 1#32
  let v4374 : BitVec 32 := Scalar.select v4373 c1_i32_2502 c2_i32_2500
  let v4375 : BitVec 32 := Scalar.remsi v4372 v4374
  let c0_i32_2504 : BitVec 32 := 0#32
  let v4377 : BitVec 1 := Scalar.cmpi .slt v4375 c0_i32_2504
  let c0_i32_2505 : BitVec 32 := 0#32
  let v4378 : BitVec 1 := Scalar.cmpi .slt v4374 c0_i32_2505
  let v4379 : BitVec 1 := Scalar.xori v4377 v4378
  let c0_i32_2503 : BitVec 32 := 0#32
  let v4376 : BitVec 1 := Scalar.cmpi .ne v4375 c0_i32_2503
  let v4380 : BitVec 1 := Scalar.andi v4379 v4376
  let v4381 : BitVec 32 := Scalar.addi v4375 v4374
  let v4382 : BitVec 32 := Scalar.select v4380 v4381 v4375
  let c207_i32_2507 : BitVec 32 := 207#32
  let c0_i32_2508 : BitVec 32 := 0#32
  ![v4382.toNat, 207, 0]
def k0_off838 (v4386 : BitVec 32) : Fin 2 → Nat :=
  let c0_i32_2509 : BitVec 32 := 0#32
  ![v4386.toNat, 0]

def k0_chk210 (i : grid0.Coords) (v0 : BitVec 32) (v4386 : BitVec 32) : Prop :=
  (∀ (k0_h2 : k0_cond2 i v0 = 1#1), ∀ a, (k0_off838 v4386) a + S1x4096.size a ≤ S16896x4096.size a)
theorem k0_off838_inb : ∀ (i : grid0.Coords) (v0 : BitVec 32) (v4386 : BitVec 32) (k0_hw210 : k0_chk210 i v0 v4386), ∀ (k0_h2 : k0_cond2 i v0 = 1#1), ∀ a, (k0_off838 v4386) a + S1x4096.size a ≤ S16896x4096.size a := fun i v0 v4386 k0_hw210 k0_h2 => k0_hw210 k0_h2

def k0_off839 (i : grid0.Coords) : Fin 1 → Nat :=
  let arg0 : BitVec 32 := BitVec.ofNat 32 (i 0).val
  let c1_i32_2510 : BitVec 32 := 1#32
  let v4392 : BitVec 32 := Scalar.addi arg0 c1_i32_2510
  let c256_i32_2518 : BitVec 32 := 256#32
  let v4404 : BitVec 32 := Scalar.muli v4392 c256_i32_2518
  let c208_i32 : BitVec 32 := 208#32
  let v4405 : BitVec 32 := Scalar.addi v4404 c208_i32
  let v4406 : Index := Scalar.indexCast v4405
  ![v4406.toNat]
def k0_off840 (i : grid0.Coords) : Fin 1 → Nat :=
  let arg0 : BitVec 32 := BitVec.ofNat 32 (i 0).val
  let c1_i32_2511 : BitVec 32 := 1#32
  let v4393 : BitVec 32 := Scalar.addi arg0 c1_i32_2511
  let c2_i32_2512 : BitVec 32 := 2#32
  let c0_i32_2513 : BitVec 32 := 0#32
  let v4394 : BitVec 1 := Scalar.cmpi .eq c2_i32_2512 c0_i32_2513
  let c1_i32_2514 : BitVec 32 := 1#32
  let v4395 : BitVec 32 := Scalar.select v4394 c1_i32_2514 c2_i32_2512
  let v4396 : BitVec 32 := Scalar.remsi v4393 v4395
  let c0_i32_2516 : BitVec 32 := 0#32
  let v4398 : BitVec 1 := Scalar.cmpi .slt v4396 c0_i32_2516
  let c0_i32_2517 : BitVec 32 := 0#32
  let v4399 : BitVec 1 := Scalar.cmpi .slt v4395 c0_i32_2517
  let v4400 : BitVec 1 := Scalar.xori v4398 v4399
  let c0_i32_2515 : BitVec 32 := 0#32
  let v4397 : BitVec 1 := Scalar.cmpi .ne v4396 c0_i32_2515
  let v4401 : BitVec 1 := Scalar.andi v4400 v4397
  let v4402 : BitVec 32 := Scalar.addi v4396 v4395
  let v4403 : BitVec 32 := Scalar.select v4401 v4402 v4396
  ![v4403.toNat]
def k0_off841 (i : grid0.Coords) : Fin 3 → Nat :=
  let arg0 : BitVec 32 := BitVec.ofNat 32 (i 0).val
  let c1_i32_2511 : BitVec 32 := 1#32
  let v4393 : BitVec 32 := Scalar.addi arg0 c1_i32_2511
  let c2_i32_2512 : BitVec 32 := 2#32
  let c0_i32_2513 : BitVec 32 := 0#32
  let v4394 : BitVec 1 := Scalar.cmpi .eq c2_i32_2512 c0_i32_2513
  let c1_i32_2514 : BitVec 32 := 1#32
  let v4395 : BitVec 32 := Scalar.select v4394 c1_i32_2514 c2_i32_2512
  let v4396 : BitVec 32 := Scalar.remsi v4393 v4395
  let c0_i32_2516 : BitVec 32 := 0#32
  let v4398 : BitVec 1 := Scalar.cmpi .slt v4396 c0_i32_2516
  let c0_i32_2517 : BitVec 32 := 0#32
  let v4399 : BitVec 1 := Scalar.cmpi .slt v4395 c0_i32_2517
  let v4400 : BitVec 1 := Scalar.xori v4398 v4399
  let c0_i32_2515 : BitVec 32 := 0#32
  let v4397 : BitVec 1 := Scalar.cmpi .ne v4396 c0_i32_2515
  let v4401 : BitVec 1 := Scalar.andi v4400 v4397
  let v4402 : BitVec 32 := Scalar.addi v4396 v4395
  let v4403 : BitVec 32 := Scalar.select v4401 v4402 v4396
  let c208_i32_2519 : BitVec 32 := 208#32
  let c0_i32_2520 : BitVec 32 := 0#32
  ![v4403.toNat, 208, 0]
def k0_off842 (v4407 : BitVec 32) : Fin 2 → Nat :=
  let c0_i32_2521 : BitVec 32 := 0#32
  ![v4407.toNat, 0]

def k0_chk211 (i : grid0.Coords) (v0 : BitVec 32) (v4407 : BitVec 32) : Prop :=
  (∀ (k0_h2 : k0_cond2 i v0 = 1#1), ∀ a, (k0_off842 v4407) a + S1x4096.size a ≤ S16896x4096.size a)
theorem k0_off842_inb : ∀ (i : grid0.Coords) (v0 : BitVec 32) (v4407 : BitVec 32) (k0_hw211 : k0_chk211 i v0 v4407), ∀ (k0_h2 : k0_cond2 i v0 = 1#1), ∀ a, (k0_off842 v4407) a + S1x4096.size a ≤ S16896x4096.size a := fun i v0 v4407 k0_hw211 k0_h2 => k0_hw211 k0_h2

def k0_off843 (i : grid0.Coords) : Fin 1 → Nat :=
  let arg0 : BitVec 32 := BitVec.ofNat 32 (i 0).val
  let c1_i32_2522 : BitVec 32 := 1#32
  let v4413 : BitVec 32 := Scalar.addi arg0 c1_i32_2522
  let c256_i32_2530 : BitVec 32 := 256#32
  let v4425 : BitVec 32 := Scalar.muli v4413 c256_i32_2530
  let c209_i32 : BitVec 32 := 209#32
  let v4426 : BitVec 32 := Scalar.addi v4425 c209_i32
  let v4427 : Index := Scalar.indexCast v4426
  ![v4427.toNat]
def k0_off844 (i : grid0.Coords) : Fin 1 → Nat :=
  let arg0 : BitVec 32 := BitVec.ofNat 32 (i 0).val
  let c1_i32_2523 : BitVec 32 := 1#32
  let v4414 : BitVec 32 := Scalar.addi arg0 c1_i32_2523
  let c2_i32_2524 : BitVec 32 := 2#32
  let c0_i32_2525 : BitVec 32 := 0#32
  let v4415 : BitVec 1 := Scalar.cmpi .eq c2_i32_2524 c0_i32_2525
  let c1_i32_2526 : BitVec 32 := 1#32
  let v4416 : BitVec 32 := Scalar.select v4415 c1_i32_2526 c2_i32_2524
  let v4417 : BitVec 32 := Scalar.remsi v4414 v4416
  let c0_i32_2528 : BitVec 32 := 0#32
  let v4419 : BitVec 1 := Scalar.cmpi .slt v4417 c0_i32_2528
  let c0_i32_2529 : BitVec 32 := 0#32
  let v4420 : BitVec 1 := Scalar.cmpi .slt v4416 c0_i32_2529
  let v4421 : BitVec 1 := Scalar.xori v4419 v4420
  let c0_i32_2527 : BitVec 32 := 0#32
  let v4418 : BitVec 1 := Scalar.cmpi .ne v4417 c0_i32_2527
  let v4422 : BitVec 1 := Scalar.andi v4421 v4418
  let v4423 : BitVec 32 := Scalar.addi v4417 v4416
  let v4424 : BitVec 32 := Scalar.select v4422 v4423 v4417
  ![v4424.toNat]
def k0_off845 (i : grid0.Coords) : Fin 3 → Nat :=
  let arg0 : BitVec 32 := BitVec.ofNat 32 (i 0).val
  let c1_i32_2523 : BitVec 32 := 1#32
  let v4414 : BitVec 32 := Scalar.addi arg0 c1_i32_2523
  let c2_i32_2524 : BitVec 32 := 2#32
  let c0_i32_2525 : BitVec 32 := 0#32
  let v4415 : BitVec 1 := Scalar.cmpi .eq c2_i32_2524 c0_i32_2525
  let c1_i32_2526 : BitVec 32 := 1#32
  let v4416 : BitVec 32 := Scalar.select v4415 c1_i32_2526 c2_i32_2524
  let v4417 : BitVec 32 := Scalar.remsi v4414 v4416
  let c0_i32_2528 : BitVec 32 := 0#32
  let v4419 : BitVec 1 := Scalar.cmpi .slt v4417 c0_i32_2528
  let c0_i32_2529 : BitVec 32 := 0#32
  let v4420 : BitVec 1 := Scalar.cmpi .slt v4416 c0_i32_2529
  let v4421 : BitVec 1 := Scalar.xori v4419 v4420
  let c0_i32_2527 : BitVec 32 := 0#32
  let v4418 : BitVec 1 := Scalar.cmpi .ne v4417 c0_i32_2527
  let v4422 : BitVec 1 := Scalar.andi v4421 v4418
  let v4423 : BitVec 32 := Scalar.addi v4417 v4416
  let v4424 : BitVec 32 := Scalar.select v4422 v4423 v4417
  let c209_i32_2531 : BitVec 32 := 209#32
  let c0_i32_2532 : BitVec 32 := 0#32
  ![v4424.toNat, 209, 0]
def k0_off846 (v4428 : BitVec 32) : Fin 2 → Nat :=
  let c0_i32_2533 : BitVec 32 := 0#32
  ![v4428.toNat, 0]

def k0_chk212 (i : grid0.Coords) (v0 : BitVec 32) (v4428 : BitVec 32) : Prop :=
  (∀ (k0_h2 : k0_cond2 i v0 = 1#1), ∀ a, (k0_off846 v4428) a + S1x4096.size a ≤ S16896x4096.size a)
theorem k0_off846_inb : ∀ (i : grid0.Coords) (v0 : BitVec 32) (v4428 : BitVec 32) (k0_hw212 : k0_chk212 i v0 v4428), ∀ (k0_h2 : k0_cond2 i v0 = 1#1), ∀ a, (k0_off846 v4428) a + S1x4096.size a ≤ S16896x4096.size a := fun i v0 v4428 k0_hw212 k0_h2 => k0_hw212 k0_h2

def k0_off847 (i : grid0.Coords) : Fin 1 → Nat :=
  let arg0 : BitVec 32 := BitVec.ofNat 32 (i 0).val
  let c1_i32_2534 : BitVec 32 := 1#32
  let v4434 : BitVec 32 := Scalar.addi arg0 c1_i32_2534
  let c256_i32_2542 : BitVec 32 := 256#32
  let v4446 : BitVec 32 := Scalar.muli v4434 c256_i32_2542
  let c210_i32 : BitVec 32 := 210#32
  let v4447 : BitVec 32 := Scalar.addi v4446 c210_i32
  let v4448 : Index := Scalar.indexCast v4447
  ![v4448.toNat]
def k0_off848 (i : grid0.Coords) : Fin 1 → Nat :=
  let arg0 : BitVec 32 := BitVec.ofNat 32 (i 0).val
  let c1_i32_2535 : BitVec 32 := 1#32
  let v4435 : BitVec 32 := Scalar.addi arg0 c1_i32_2535
  let c2_i32_2536 : BitVec 32 := 2#32
  let c0_i32_2537 : BitVec 32 := 0#32
  let v4436 : BitVec 1 := Scalar.cmpi .eq c2_i32_2536 c0_i32_2537
  let c1_i32_2538 : BitVec 32 := 1#32
  let v4437 : BitVec 32 := Scalar.select v4436 c1_i32_2538 c2_i32_2536
  let v4438 : BitVec 32 := Scalar.remsi v4435 v4437
  let c0_i32_2540 : BitVec 32 := 0#32
  let v4440 : BitVec 1 := Scalar.cmpi .slt v4438 c0_i32_2540
  let c0_i32_2541 : BitVec 32 := 0#32
  let v4441 : BitVec 1 := Scalar.cmpi .slt v4437 c0_i32_2541
  let v4442 : BitVec 1 := Scalar.xori v4440 v4441
  let c0_i32_2539 : BitVec 32 := 0#32
  let v4439 : BitVec 1 := Scalar.cmpi .ne v4438 c0_i32_2539
  let v4443 : BitVec 1 := Scalar.andi v4442 v4439
  let v4444 : BitVec 32 := Scalar.addi v4438 v4437
  let v4445 : BitVec 32 := Scalar.select v4443 v4444 v4438
  ![v4445.toNat]
def k0_off849 (i : grid0.Coords) : Fin 3 → Nat :=
  let arg0 : BitVec 32 := BitVec.ofNat 32 (i 0).val
  let c1_i32_2535 : BitVec 32 := 1#32
  let v4435 : BitVec 32 := Scalar.addi arg0 c1_i32_2535
  let c2_i32_2536 : BitVec 32 := 2#32
  let c0_i32_2537 : BitVec 32 := 0#32
  let v4436 : BitVec 1 := Scalar.cmpi .eq c2_i32_2536 c0_i32_2537
  let c1_i32_2538 : BitVec 32 := 1#32
  let v4437 : BitVec 32 := Scalar.select v4436 c1_i32_2538 c2_i32_2536
  let v4438 : BitVec 32 := Scalar.remsi v4435 v4437
  let c0_i32_2540 : BitVec 32 := 0#32
  let v4440 : BitVec 1 := Scalar.cmpi .slt v4438 c0_i32_2540
  let c0_i32_2541 : BitVec 32 := 0#32
  let v4441 : BitVec 1 := Scalar.cmpi .slt v4437 c0_i32_2541
  let v4442 : BitVec 1 := Scalar.xori v4440 v4441
  let c0_i32_2539 : BitVec 32 := 0#32
  let v4439 : BitVec 1 := Scalar.cmpi .ne v4438 c0_i32_2539
  let v4443 : BitVec 1 := Scalar.andi v4442 v4439
  let v4444 : BitVec 32 := Scalar.addi v4438 v4437
  let v4445 : BitVec 32 := Scalar.select v4443 v4444 v4438
  let c210_i32_2543 : BitVec 32 := 210#32
  let c0_i32_2544 : BitVec 32 := 0#32
  ![v4445.toNat, 210, 0]
def k0_off850 (v4449 : BitVec 32) : Fin 2 → Nat :=
  let c0_i32_2545 : BitVec 32 := 0#32
  ![v4449.toNat, 0]

def k0_chk213 (i : grid0.Coords) (v0 : BitVec 32) (v4449 : BitVec 32) : Prop :=
  (∀ (k0_h2 : k0_cond2 i v0 = 1#1), ∀ a, (k0_off850 v4449) a + S1x4096.size a ≤ S16896x4096.size a)
theorem k0_off850_inb : ∀ (i : grid0.Coords) (v0 : BitVec 32) (v4449 : BitVec 32) (k0_hw213 : k0_chk213 i v0 v4449), ∀ (k0_h2 : k0_cond2 i v0 = 1#1), ∀ a, (k0_off850 v4449) a + S1x4096.size a ≤ S16896x4096.size a := fun i v0 v4449 k0_hw213 k0_h2 => k0_hw213 k0_h2

def k0_off851 (i : grid0.Coords) : Fin 1 → Nat :=
  let arg0 : BitVec 32 := BitVec.ofNat 32 (i 0).val
  let c1_i32_2546 : BitVec 32 := 1#32
  let v4455 : BitVec 32 := Scalar.addi arg0 c1_i32_2546
  let c256_i32_2554 : BitVec 32 := 256#32
  let v4467 : BitVec 32 := Scalar.muli v4455 c256_i32_2554
  let c211_i32 : BitVec 32 := 211#32
  let v4468 : BitVec 32 := Scalar.addi v4467 c211_i32
  let v4469 : Index := Scalar.indexCast v4468
  ![v4469.toNat]
def k0_off852 (i : grid0.Coords) : Fin 1 → Nat :=
  let arg0 : BitVec 32 := BitVec.ofNat 32 (i 0).val
  let c1_i32_2547 : BitVec 32 := 1#32
  let v4456 : BitVec 32 := Scalar.addi arg0 c1_i32_2547
  let c2_i32_2548 : BitVec 32 := 2#32
  let c0_i32_2549 : BitVec 32 := 0#32
  let v4457 : BitVec 1 := Scalar.cmpi .eq c2_i32_2548 c0_i32_2549
  let c1_i32_2550 : BitVec 32 := 1#32
  let v4458 : BitVec 32 := Scalar.select v4457 c1_i32_2550 c2_i32_2548
  let v4459 : BitVec 32 := Scalar.remsi v4456 v4458
  let c0_i32_2552 : BitVec 32 := 0#32
  let v4461 : BitVec 1 := Scalar.cmpi .slt v4459 c0_i32_2552
  let c0_i32_2553 : BitVec 32 := 0#32
  let v4462 : BitVec 1 := Scalar.cmpi .slt v4458 c0_i32_2553
  let v4463 : BitVec 1 := Scalar.xori v4461 v4462
  let c0_i32_2551 : BitVec 32 := 0#32
  let v4460 : BitVec 1 := Scalar.cmpi .ne v4459 c0_i32_2551
  let v4464 : BitVec 1 := Scalar.andi v4463 v4460
  let v4465 : BitVec 32 := Scalar.addi v4459 v4458
  let v4466 : BitVec 32 := Scalar.select v4464 v4465 v4459
  ![v4466.toNat]
def k0_off853 (i : grid0.Coords) : Fin 3 → Nat :=
  let arg0 : BitVec 32 := BitVec.ofNat 32 (i 0).val
  let c1_i32_2547 : BitVec 32 := 1#32
  let v4456 : BitVec 32 := Scalar.addi arg0 c1_i32_2547
  let c2_i32_2548 : BitVec 32 := 2#32
  let c0_i32_2549 : BitVec 32 := 0#32
  let v4457 : BitVec 1 := Scalar.cmpi .eq c2_i32_2548 c0_i32_2549
  let c1_i32_2550 : BitVec 32 := 1#32
  let v4458 : BitVec 32 := Scalar.select v4457 c1_i32_2550 c2_i32_2548
  let v4459 : BitVec 32 := Scalar.remsi v4456 v4458
  let c0_i32_2552 : BitVec 32 := 0#32
  let v4461 : BitVec 1 := Scalar.cmpi .slt v4459 c0_i32_2552
  let c0_i32_2553 : BitVec 32 := 0#32
  let v4462 : BitVec 1 := Scalar.cmpi .slt v4458 c0_i32_2553
  let v4463 : BitVec 1 := Scalar.xori v4461 v4462
  let c0_i32_2551 : BitVec 32 := 0#32
  let v4460 : BitVec 1 := Scalar.cmpi .ne v4459 c0_i32_2551
  let v4464 : BitVec 1 := Scalar.andi v4463 v4460
  let v4465 : BitVec 32 := Scalar.addi v4459 v4458
  let v4466 : BitVec 32 := Scalar.select v4464 v4465 v4459
  let c211_i32_2555 : BitVec 32 := 211#32
  let c0_i32_2556 : BitVec 32 := 0#32
  ![v4466.toNat, 211, 0]
def k0_off854 (v4470 : BitVec 32) : Fin 2 → Nat :=
  let c0_i32_2557 : BitVec 32 := 0#32
  ![v4470.toNat, 0]

def k0_chk214 (i : grid0.Coords) (v0 : BitVec 32) (v4470 : BitVec 32) : Prop :=
  (∀ (k0_h2 : k0_cond2 i v0 = 1#1), ∀ a, (k0_off854 v4470) a + S1x4096.size a ≤ S16896x4096.size a)
theorem k0_off854_inb : ∀ (i : grid0.Coords) (v0 : BitVec 32) (v4470 : BitVec 32) (k0_hw214 : k0_chk214 i v0 v4470), ∀ (k0_h2 : k0_cond2 i v0 = 1#1), ∀ a, (k0_off854 v4470) a + S1x4096.size a ≤ S16896x4096.size a := fun i v0 v4470 k0_hw214 k0_h2 => k0_hw214 k0_h2

def k0_off855 (i : grid0.Coords) : Fin 1 → Nat :=
  let arg0 : BitVec 32 := BitVec.ofNat 32 (i 0).val
  let c1_i32_2558 : BitVec 32 := 1#32
  let v4476 : BitVec 32 := Scalar.addi arg0 c1_i32_2558
  let c256_i32_2566 : BitVec 32 := 256#32
  let v4488 : BitVec 32 := Scalar.muli v4476 c256_i32_2566
  let c212_i32 : BitVec 32 := 212#32
  let v4489 : BitVec 32 := Scalar.addi v4488 c212_i32
  let v4490 : Index := Scalar.indexCast v4489
  ![v4490.toNat]
def k0_off856 (i : grid0.Coords) : Fin 1 → Nat :=
  let arg0 : BitVec 32 := BitVec.ofNat 32 (i 0).val
  let c1_i32_2559 : BitVec 32 := 1#32
  let v4477 : BitVec 32 := Scalar.addi arg0 c1_i32_2559
  let c2_i32_2560 : BitVec 32 := 2#32
  let c0_i32_2561 : BitVec 32 := 0#32
  let v4478 : BitVec 1 := Scalar.cmpi .eq c2_i32_2560 c0_i32_2561
  let c1_i32_2562 : BitVec 32 := 1#32
  let v4479 : BitVec 32 := Scalar.select v4478 c1_i32_2562 c2_i32_2560
  let v4480 : BitVec 32 := Scalar.remsi v4477 v4479
  let c0_i32_2564 : BitVec 32 := 0#32
  let v4482 : BitVec 1 := Scalar.cmpi .slt v4480 c0_i32_2564
  let c0_i32_2565 : BitVec 32 := 0#32
  let v4483 : BitVec 1 := Scalar.cmpi .slt v4479 c0_i32_2565
  let v4484 : BitVec 1 := Scalar.xori v4482 v4483
  let c0_i32_2563 : BitVec 32 := 0#32
  let v4481 : BitVec 1 := Scalar.cmpi .ne v4480 c0_i32_2563
  let v4485 : BitVec 1 := Scalar.andi v4484 v4481
  let v4486 : BitVec 32 := Scalar.addi v4480 v4479
  let v4487 : BitVec 32 := Scalar.select v4485 v4486 v4480
  ![v4487.toNat]
def k0_off857 (i : grid0.Coords) : Fin 3 → Nat :=
  let arg0 : BitVec 32 := BitVec.ofNat 32 (i 0).val
  let c1_i32_2559 : BitVec 32 := 1#32
  let v4477 : BitVec 32 := Scalar.addi arg0 c1_i32_2559
  let c2_i32_2560 : BitVec 32 := 2#32
  let c0_i32_2561 : BitVec 32 := 0#32
  let v4478 : BitVec 1 := Scalar.cmpi .eq c2_i32_2560 c0_i32_2561
  let c1_i32_2562 : BitVec 32 := 1#32
  let v4479 : BitVec 32 := Scalar.select v4478 c1_i32_2562 c2_i32_2560
  let v4480 : BitVec 32 := Scalar.remsi v4477 v4479
  let c0_i32_2564 : BitVec 32 := 0#32
  let v4482 : BitVec 1 := Scalar.cmpi .slt v4480 c0_i32_2564
  let c0_i32_2565 : BitVec 32 := 0#32
  let v4483 : BitVec 1 := Scalar.cmpi .slt v4479 c0_i32_2565
  let v4484 : BitVec 1 := Scalar.xori v4482 v4483
  let c0_i32_2563 : BitVec 32 := 0#32
  let v4481 : BitVec 1 := Scalar.cmpi .ne v4480 c0_i32_2563
  let v4485 : BitVec 1 := Scalar.andi v4484 v4481
  let v4486 : BitVec 32 := Scalar.addi v4480 v4479
  let v4487 : BitVec 32 := Scalar.select v4485 v4486 v4480
  let c212_i32_2567 : BitVec 32 := 212#32
  let c0_i32_2568 : BitVec 32 := 0#32
  ![v4487.toNat, 212, 0]
def k0_off858 (v4491 : BitVec 32) : Fin 2 → Nat :=
  let c0_i32_2569 : BitVec 32 := 0#32
  ![v4491.toNat, 0]

def k0_chk215 (i : grid0.Coords) (v0 : BitVec 32) (v4491 : BitVec 32) : Prop :=
  (∀ (k0_h2 : k0_cond2 i v0 = 1#1), ∀ a, (k0_off858 v4491) a + S1x4096.size a ≤ S16896x4096.size a)
theorem k0_off858_inb : ∀ (i : grid0.Coords) (v0 : BitVec 32) (v4491 : BitVec 32) (k0_hw215 : k0_chk215 i v0 v4491), ∀ (k0_h2 : k0_cond2 i v0 = 1#1), ∀ a, (k0_off858 v4491) a + S1x4096.size a ≤ S16896x4096.size a := fun i v0 v4491 k0_hw215 k0_h2 => k0_hw215 k0_h2

def k0_off859 (i : grid0.Coords) : Fin 1 → Nat :=
  let arg0 : BitVec 32 := BitVec.ofNat 32 (i 0).val
  let c1_i32_2570 : BitVec 32 := 1#32
  let v4497 : BitVec 32 := Scalar.addi arg0 c1_i32_2570
  let c256_i32_2578 : BitVec 32 := 256#32
  let v4509 : BitVec 32 := Scalar.muli v4497 c256_i32_2578
  let c213_i32 : BitVec 32 := 213#32
  let v4510 : BitVec 32 := Scalar.addi v4509 c213_i32
  let v4511 : Index := Scalar.indexCast v4510
  ![v4511.toNat]
def k0_off860 (i : grid0.Coords) : Fin 1 → Nat :=
  let arg0 : BitVec 32 := BitVec.ofNat 32 (i 0).val
  let c1_i32_2571 : BitVec 32 := 1#32
  let v4498 : BitVec 32 := Scalar.addi arg0 c1_i32_2571
  let c2_i32_2572 : BitVec 32 := 2#32
  let c0_i32_2573 : BitVec 32 := 0#32
  let v4499 : BitVec 1 := Scalar.cmpi .eq c2_i32_2572 c0_i32_2573
  let c1_i32_2574 : BitVec 32 := 1#32
  let v4500 : BitVec 32 := Scalar.select v4499 c1_i32_2574 c2_i32_2572
  let v4501 : BitVec 32 := Scalar.remsi v4498 v4500
  let c0_i32_2576 : BitVec 32 := 0#32
  let v4503 : BitVec 1 := Scalar.cmpi .slt v4501 c0_i32_2576
  let c0_i32_2577 : BitVec 32 := 0#32
  let v4504 : BitVec 1 := Scalar.cmpi .slt v4500 c0_i32_2577
  let v4505 : BitVec 1 := Scalar.xori v4503 v4504
  let c0_i32_2575 : BitVec 32 := 0#32
  let v4502 : BitVec 1 := Scalar.cmpi .ne v4501 c0_i32_2575
  let v4506 : BitVec 1 := Scalar.andi v4505 v4502
  let v4507 : BitVec 32 := Scalar.addi v4501 v4500
  let v4508 : BitVec 32 := Scalar.select v4506 v4507 v4501
  ![v4508.toNat]
def k0_off861 (i : grid0.Coords) : Fin 3 → Nat :=
  let arg0 : BitVec 32 := BitVec.ofNat 32 (i 0).val
  let c1_i32_2571 : BitVec 32 := 1#32
  let v4498 : BitVec 32 := Scalar.addi arg0 c1_i32_2571
  let c2_i32_2572 : BitVec 32 := 2#32
  let c0_i32_2573 : BitVec 32 := 0#32
  let v4499 : BitVec 1 := Scalar.cmpi .eq c2_i32_2572 c0_i32_2573
  let c1_i32_2574 : BitVec 32 := 1#32
  let v4500 : BitVec 32 := Scalar.select v4499 c1_i32_2574 c2_i32_2572
  let v4501 : BitVec 32 := Scalar.remsi v4498 v4500
  let c0_i32_2576 : BitVec 32 := 0#32
  let v4503 : BitVec 1 := Scalar.cmpi .slt v4501 c0_i32_2576
  let c0_i32_2577 : BitVec 32 := 0#32
  let v4504 : BitVec 1 := Scalar.cmpi .slt v4500 c0_i32_2577
  let v4505 : BitVec 1 := Scalar.xori v4503 v4504
  let c0_i32_2575 : BitVec 32 := 0#32
  let v4502 : BitVec 1 := Scalar.cmpi .ne v4501 c0_i32_2575
  let v4506 : BitVec 1 := Scalar.andi v4505 v4502
  let v4507 : BitVec 32 := Scalar.addi v4501 v4500
  let v4508 : BitVec 32 := Scalar.select v4506 v4507 v4501
  let c213_i32_2579 : BitVec 32 := 213#32
  let c0_i32_2580 : BitVec 32 := 0#32
  ![v4508.toNat, 213, 0]
def k0_off862 (v4512 : BitVec 32) : Fin 2 → Nat :=
  let c0_i32_2581 : BitVec 32 := 0#32
  ![v4512.toNat, 0]

def k0_chk216 (i : grid0.Coords) (v0 : BitVec 32) (v4512 : BitVec 32) : Prop :=
  (∀ (k0_h2 : k0_cond2 i v0 = 1#1), ∀ a, (k0_off862 v4512) a + S1x4096.size a ≤ S16896x4096.size a)
theorem k0_off862_inb : ∀ (i : grid0.Coords) (v0 : BitVec 32) (v4512 : BitVec 32) (k0_hw216 : k0_chk216 i v0 v4512), ∀ (k0_h2 : k0_cond2 i v0 = 1#1), ∀ a, (k0_off862 v4512) a + S1x4096.size a ≤ S16896x4096.size a := fun i v0 v4512 k0_hw216 k0_h2 => k0_hw216 k0_h2

def k0_off863 (i : grid0.Coords) : Fin 1 → Nat :=
  let arg0 : BitVec 32 := BitVec.ofNat 32 (i 0).val
  let c1_i32_2582 : BitVec 32 := 1#32
  let v4518 : BitVec 32 := Scalar.addi arg0 c1_i32_2582
  let c256_i32_2590 : BitVec 32 := 256#32
  let v4530 : BitVec 32 := Scalar.muli v4518 c256_i32_2590
  let c214_i32 : BitVec 32 := 214#32
  let v4531 : BitVec 32 := Scalar.addi v4530 c214_i32
  let v4532 : Index := Scalar.indexCast v4531
  ![v4532.toNat]
def k0_off864 (i : grid0.Coords) : Fin 1 → Nat :=
  let arg0 : BitVec 32 := BitVec.ofNat 32 (i 0).val
  let c1_i32_2583 : BitVec 32 := 1#32
  let v4519 : BitVec 32 := Scalar.addi arg0 c1_i32_2583
  let c2_i32_2584 : BitVec 32 := 2#32
  let c0_i32_2585 : BitVec 32 := 0#32
  let v4520 : BitVec 1 := Scalar.cmpi .eq c2_i32_2584 c0_i32_2585
  let c1_i32_2586 : BitVec 32 := 1#32
  let v4521 : BitVec 32 := Scalar.select v4520 c1_i32_2586 c2_i32_2584
  let v4522 : BitVec 32 := Scalar.remsi v4519 v4521
  let c0_i32_2588 : BitVec 32 := 0#32
  let v4524 : BitVec 1 := Scalar.cmpi .slt v4522 c0_i32_2588
  let c0_i32_2589 : BitVec 32 := 0#32
  let v4525 : BitVec 1 := Scalar.cmpi .slt v4521 c0_i32_2589
  let v4526 : BitVec 1 := Scalar.xori v4524 v4525
  let c0_i32_2587 : BitVec 32 := 0#32
  let v4523 : BitVec 1 := Scalar.cmpi .ne v4522 c0_i32_2587
  let v4527 : BitVec 1 := Scalar.andi v4526 v4523
  let v4528 : BitVec 32 := Scalar.addi v4522 v4521
  let v4529 : BitVec 32 := Scalar.select v4527 v4528 v4522
  ![v4529.toNat]
def k0_off865 (i : grid0.Coords) : Fin 3 → Nat :=
  let arg0 : BitVec 32 := BitVec.ofNat 32 (i 0).val
  let c1_i32_2583 : BitVec 32 := 1#32
  let v4519 : BitVec 32 := Scalar.addi arg0 c1_i32_2583
  let c2_i32_2584 : BitVec 32 := 2#32
  let c0_i32_2585 : BitVec 32 := 0#32
  let v4520 : BitVec 1 := Scalar.cmpi .eq c2_i32_2584 c0_i32_2585
  let c1_i32_2586 : BitVec 32 := 1#32
  let v4521 : BitVec 32 := Scalar.select v4520 c1_i32_2586 c2_i32_2584
  let v4522 : BitVec 32 := Scalar.remsi v4519 v4521
  let c0_i32_2588 : BitVec 32 := 0#32
  let v4524 : BitVec 1 := Scalar.cmpi .slt v4522 c0_i32_2588
  let c0_i32_2589 : BitVec 32 := 0#32
  let v4525 : BitVec 1 := Scalar.cmpi .slt v4521 c0_i32_2589
  let v4526 : BitVec 1 := Scalar.xori v4524 v4525
  let c0_i32_2587 : BitVec 32 := 0#32
  let v4523 : BitVec 1 := Scalar.cmpi .ne v4522 c0_i32_2587
  let v4527 : BitVec 1 := Scalar.andi v4526 v4523
  let v4528 : BitVec 32 := Scalar.addi v4522 v4521
  let v4529 : BitVec 32 := Scalar.select v4527 v4528 v4522
  let c214_i32_2591 : BitVec 32 := 214#32
  let c0_i32_2592 : BitVec 32 := 0#32
  ![v4529.toNat, 214, 0]
def k0_off866 (v4533 : BitVec 32) : Fin 2 → Nat :=
  let c0_i32_2593 : BitVec 32 := 0#32
  ![v4533.toNat, 0]

def k0_chk217 (i : grid0.Coords) (v0 : BitVec 32) (v4533 : BitVec 32) : Prop :=
  (∀ (k0_h2 : k0_cond2 i v0 = 1#1), ∀ a, (k0_off866 v4533) a + S1x4096.size a ≤ S16896x4096.size a)
theorem k0_off866_inb : ∀ (i : grid0.Coords) (v0 : BitVec 32) (v4533 : BitVec 32) (k0_hw217 : k0_chk217 i v0 v4533), ∀ (k0_h2 : k0_cond2 i v0 = 1#1), ∀ a, (k0_off866 v4533) a + S1x4096.size a ≤ S16896x4096.size a := fun i v0 v4533 k0_hw217 k0_h2 => k0_hw217 k0_h2

def k0_off867 (i : grid0.Coords) : Fin 1 → Nat :=
  let arg0 : BitVec 32 := BitVec.ofNat 32 (i 0).val
  let c1_i32_2594 : BitVec 32 := 1#32
  let v4539 : BitVec 32 := Scalar.addi arg0 c1_i32_2594
  let c256_i32_2602 : BitVec 32 := 256#32
  let v4551 : BitVec 32 := Scalar.muli v4539 c256_i32_2602
  let c215_i32 : BitVec 32 := 215#32
  let v4552 : BitVec 32 := Scalar.addi v4551 c215_i32
  let v4553 : Index := Scalar.indexCast v4552
  ![v4553.toNat]
def k0_off868 (i : grid0.Coords) : Fin 1 → Nat :=
  let arg0 : BitVec 32 := BitVec.ofNat 32 (i 0).val
  let c1_i32_2595 : BitVec 32 := 1#32
  let v4540 : BitVec 32 := Scalar.addi arg0 c1_i32_2595
  let c2_i32_2596 : BitVec 32 := 2#32
  let c0_i32_2597 : BitVec 32 := 0#32
  let v4541 : BitVec 1 := Scalar.cmpi .eq c2_i32_2596 c0_i32_2597
  let c1_i32_2598 : BitVec 32 := 1#32
  let v4542 : BitVec 32 := Scalar.select v4541 c1_i32_2598 c2_i32_2596
  let v4543 : BitVec 32 := Scalar.remsi v4540 v4542
  let c0_i32_2600 : BitVec 32 := 0#32
  let v4545 : BitVec 1 := Scalar.cmpi .slt v4543 c0_i32_2600
  let c0_i32_2601 : BitVec 32 := 0#32
  let v4546 : BitVec 1 := Scalar.cmpi .slt v4542 c0_i32_2601
  let v4547 : BitVec 1 := Scalar.xori v4545 v4546
  let c0_i32_2599 : BitVec 32 := 0#32
  let v4544 : BitVec 1 := Scalar.cmpi .ne v4543 c0_i32_2599
  let v4548 : BitVec 1 := Scalar.andi v4547 v4544
  let v4549 : BitVec 32 := Scalar.addi v4543 v4542
  let v4550 : BitVec 32 := Scalar.select v4548 v4549 v4543
  ![v4550.toNat]
def k0_off869 (i : grid0.Coords) : Fin 3 → Nat :=
  let arg0 : BitVec 32 := BitVec.ofNat 32 (i 0).val
  let c1_i32_2595 : BitVec 32 := 1#32
  let v4540 : BitVec 32 := Scalar.addi arg0 c1_i32_2595
  let c2_i32_2596 : BitVec 32 := 2#32
  let c0_i32_2597 : BitVec 32 := 0#32
  let v4541 : BitVec 1 := Scalar.cmpi .eq c2_i32_2596 c0_i32_2597
  let c1_i32_2598 : BitVec 32 := 1#32
  let v4542 : BitVec 32 := Scalar.select v4541 c1_i32_2598 c2_i32_2596
  let v4543 : BitVec 32 := Scalar.remsi v4540 v4542
  let c0_i32_2600 : BitVec 32 := 0#32
  let v4545 : BitVec 1 := Scalar.cmpi .slt v4543 c0_i32_2600
  let c0_i32_2601 : BitVec 32 := 0#32
  let v4546 : BitVec 1 := Scalar.cmpi .slt v4542 c0_i32_2601
  let v4547 : BitVec 1 := Scalar.xori v4545 v4546
  let c0_i32_2599 : BitVec 32 := 0#32
  let v4544 : BitVec 1 := Scalar.cmpi .ne v4543 c0_i32_2599
  let v4548 : BitVec 1 := Scalar.andi v4547 v4544
  let v4549 : BitVec 32 := Scalar.addi v4543 v4542
  let v4550 : BitVec 32 := Scalar.select v4548 v4549 v4543
  let c215_i32_2603 : BitVec 32 := 215#32
  let c0_i32_2604 : BitVec 32 := 0#32
  ![v4550.toNat, 215, 0]
def k0_off870 (v4554 : BitVec 32) : Fin 2 → Nat :=
  let c0_i32_2605 : BitVec 32 := 0#32
  ![v4554.toNat, 0]

def k0_chk218 (i : grid0.Coords) (v0 : BitVec 32) (v4554 : BitVec 32) : Prop :=
  (∀ (k0_h2 : k0_cond2 i v0 = 1#1), ∀ a, (k0_off870 v4554) a + S1x4096.size a ≤ S16896x4096.size a)
theorem k0_off870_inb : ∀ (i : grid0.Coords) (v0 : BitVec 32) (v4554 : BitVec 32) (k0_hw218 : k0_chk218 i v0 v4554), ∀ (k0_h2 : k0_cond2 i v0 = 1#1), ∀ a, (k0_off870 v4554) a + S1x4096.size a ≤ S16896x4096.size a := fun i v0 v4554 k0_hw218 k0_h2 => k0_hw218 k0_h2

def k0_off871 (i : grid0.Coords) : Fin 1 → Nat :=
  let arg0 : BitVec 32 := BitVec.ofNat 32 (i 0).val
  let c1_i32_2606 : BitVec 32 := 1#32
  let v4560 : BitVec 32 := Scalar.addi arg0 c1_i32_2606
  let c256_i32_2614 : BitVec 32 := 256#32
  let v4572 : BitVec 32 := Scalar.muli v4560 c256_i32_2614
  let c216_i32 : BitVec 32 := 216#32
  let v4573 : BitVec 32 := Scalar.addi v4572 c216_i32
  let v4574 : Index := Scalar.indexCast v4573
  ![v4574.toNat]
def k0_off872 (i : grid0.Coords) : Fin 1 → Nat :=
  let arg0 : BitVec 32 := BitVec.ofNat 32 (i 0).val
  let c1_i32_2607 : BitVec 32 := 1#32
  let v4561 : BitVec 32 := Scalar.addi arg0 c1_i32_2607
  let c2_i32_2608 : BitVec 32 := 2#32
  let c0_i32_2609 : BitVec 32 := 0#32
  let v4562 : BitVec 1 := Scalar.cmpi .eq c2_i32_2608 c0_i32_2609
  let c1_i32_2610 : BitVec 32 := 1#32
  let v4563 : BitVec 32 := Scalar.select v4562 c1_i32_2610 c2_i32_2608
  let v4564 : BitVec 32 := Scalar.remsi v4561 v4563
  let c0_i32_2612 : BitVec 32 := 0#32
  let v4566 : BitVec 1 := Scalar.cmpi .slt v4564 c0_i32_2612
  let c0_i32_2613 : BitVec 32 := 0#32
  let v4567 : BitVec 1 := Scalar.cmpi .slt v4563 c0_i32_2613
  let v4568 : BitVec 1 := Scalar.xori v4566 v4567
  let c0_i32_2611 : BitVec 32 := 0#32
  let v4565 : BitVec 1 := Scalar.cmpi .ne v4564 c0_i32_2611
  let v4569 : BitVec 1 := Scalar.andi v4568 v4565
  let v4570 : BitVec 32 := Scalar.addi v4564 v4563
  let v4571 : BitVec 32 := Scalar.select v4569 v4570 v4564
  ![v4571.toNat]
def k0_off873 (i : grid0.Coords) : Fin 3 → Nat :=
  let arg0 : BitVec 32 := BitVec.ofNat 32 (i 0).val
  let c1_i32_2607 : BitVec 32 := 1#32
  let v4561 : BitVec 32 := Scalar.addi arg0 c1_i32_2607
  let c2_i32_2608 : BitVec 32 := 2#32
  let c0_i32_2609 : BitVec 32 := 0#32
  let v4562 : BitVec 1 := Scalar.cmpi .eq c2_i32_2608 c0_i32_2609
  let c1_i32_2610 : BitVec 32 := 1#32
  let v4563 : BitVec 32 := Scalar.select v4562 c1_i32_2610 c2_i32_2608
  let v4564 : BitVec 32 := Scalar.remsi v4561 v4563
  let c0_i32_2612 : BitVec 32 := 0#32
  let v4566 : BitVec 1 := Scalar.cmpi .slt v4564 c0_i32_2612
  let c0_i32_2613 : BitVec 32 := 0#32
  let v4567 : BitVec 1 := Scalar.cmpi .slt v4563 c0_i32_2613
  let v4568 : BitVec 1 := Scalar.xori v4566 v4567
  let c0_i32_2611 : BitVec 32 := 0#32
  let v4565 : BitVec 1 := Scalar.cmpi .ne v4564 c0_i32_2611
  let v4569 : BitVec 1 := Scalar.andi v4568 v4565
  let v4570 : BitVec 32 := Scalar.addi v4564 v4563
  let v4571 : BitVec 32 := Scalar.select v4569 v4570 v4564
  let c216_i32_2615 : BitVec 32 := 216#32
  let c0_i32_2616 : BitVec 32 := 0#32
  ![v4571.toNat, 216, 0]
def k0_off874 (v4575 : BitVec 32) : Fin 2 → Nat :=
  let c0_i32_2617 : BitVec 32 := 0#32
  ![v4575.toNat, 0]

def k0_chk219 (i : grid0.Coords) (v0 : BitVec 32) (v4575 : BitVec 32) : Prop :=
  (∀ (k0_h2 : k0_cond2 i v0 = 1#1), ∀ a, (k0_off874 v4575) a + S1x4096.size a ≤ S16896x4096.size a)
theorem k0_off874_inb : ∀ (i : grid0.Coords) (v0 : BitVec 32) (v4575 : BitVec 32) (k0_hw219 : k0_chk219 i v0 v4575), ∀ (k0_h2 : k0_cond2 i v0 = 1#1), ∀ a, (k0_off874 v4575) a + S1x4096.size a ≤ S16896x4096.size a := fun i v0 v4575 k0_hw219 k0_h2 => k0_hw219 k0_h2

def k0_off875 (i : grid0.Coords) : Fin 1 → Nat :=
  let arg0 : BitVec 32 := BitVec.ofNat 32 (i 0).val
  let c1_i32_2618 : BitVec 32 := 1#32
  let v4581 : BitVec 32 := Scalar.addi arg0 c1_i32_2618
  let c256_i32_2626 : BitVec 32 := 256#32
  let v4593 : BitVec 32 := Scalar.muli v4581 c256_i32_2626
  let c217_i32 : BitVec 32 := 217#32
  let v4594 : BitVec 32 := Scalar.addi v4593 c217_i32
  let v4595 : Index := Scalar.indexCast v4594
  ![v4595.toNat]
def k0_off876 (i : grid0.Coords) : Fin 1 → Nat :=
  let arg0 : BitVec 32 := BitVec.ofNat 32 (i 0).val
  let c1_i32_2619 : BitVec 32 := 1#32
  let v4582 : BitVec 32 := Scalar.addi arg0 c1_i32_2619
  let c2_i32_2620 : BitVec 32 := 2#32
  let c0_i32_2621 : BitVec 32 := 0#32
  let v4583 : BitVec 1 := Scalar.cmpi .eq c2_i32_2620 c0_i32_2621
  let c1_i32_2622 : BitVec 32 := 1#32
  let v4584 : BitVec 32 := Scalar.select v4583 c1_i32_2622 c2_i32_2620
  let v4585 : BitVec 32 := Scalar.remsi v4582 v4584
  let c0_i32_2624 : BitVec 32 := 0#32
  let v4587 : BitVec 1 := Scalar.cmpi .slt v4585 c0_i32_2624
  let c0_i32_2625 : BitVec 32 := 0#32
  let v4588 : BitVec 1 := Scalar.cmpi .slt v4584 c0_i32_2625
  let v4589 : BitVec 1 := Scalar.xori v4587 v4588
  let c0_i32_2623 : BitVec 32 := 0#32
  let v4586 : BitVec 1 := Scalar.cmpi .ne v4585 c0_i32_2623
  let v4590 : BitVec 1 := Scalar.andi v4589 v4586
  let v4591 : BitVec 32 := Scalar.addi v4585 v4584
  let v4592 : BitVec 32 := Scalar.select v4590 v4591 v4585
  ![v4592.toNat]
def k0_off877 (i : grid0.Coords) : Fin 3 → Nat :=
  let arg0 : BitVec 32 := BitVec.ofNat 32 (i 0).val
  let c1_i32_2619 : BitVec 32 := 1#32
  let v4582 : BitVec 32 := Scalar.addi arg0 c1_i32_2619
  let c2_i32_2620 : BitVec 32 := 2#32
  let c0_i32_2621 : BitVec 32 := 0#32
  let v4583 : BitVec 1 := Scalar.cmpi .eq c2_i32_2620 c0_i32_2621
  let c1_i32_2622 : BitVec 32 := 1#32
  let v4584 : BitVec 32 := Scalar.select v4583 c1_i32_2622 c2_i32_2620
  let v4585 : BitVec 32 := Scalar.remsi v4582 v4584
  let c0_i32_2624 : BitVec 32 := 0#32
  let v4587 : BitVec 1 := Scalar.cmpi .slt v4585 c0_i32_2624
  let c0_i32_2625 : BitVec 32 := 0#32
  let v4588 : BitVec 1 := Scalar.cmpi .slt v4584 c0_i32_2625
  let v4589 : BitVec 1 := Scalar.xori v4587 v4588
  let c0_i32_2623 : BitVec 32 := 0#32
  let v4586 : BitVec 1 := Scalar.cmpi .ne v4585 c0_i32_2623
  let v4590 : BitVec 1 := Scalar.andi v4589 v4586
  let v4591 : BitVec 32 := Scalar.addi v4585 v4584
  let v4592 : BitVec 32 := Scalar.select v4590 v4591 v4585
  let c217_i32_2627 : BitVec 32 := 217#32
  let c0_i32_2628 : BitVec 32 := 0#32
  ![v4592.toNat, 217, 0]
def k0_off878 (v4596 : BitVec 32) : Fin 2 → Nat :=
  let c0_i32_2629 : BitVec 32 := 0#32
  ![v4596.toNat, 0]

def k0_chk220 (i : grid0.Coords) (v0 : BitVec 32) (v4596 : BitVec 32) : Prop :=
  (∀ (k0_h2 : k0_cond2 i v0 = 1#1), ∀ a, (k0_off878 v4596) a + S1x4096.size a ≤ S16896x4096.size a)
theorem k0_off878_inb : ∀ (i : grid0.Coords) (v0 : BitVec 32) (v4596 : BitVec 32) (k0_hw220 : k0_chk220 i v0 v4596), ∀ (k0_h2 : k0_cond2 i v0 = 1#1), ∀ a, (k0_off878 v4596) a + S1x4096.size a ≤ S16896x4096.size a := fun i v0 v4596 k0_hw220 k0_h2 => k0_hw220 k0_h2

def k0_off879 (i : grid0.Coords) : Fin 1 → Nat :=
  let arg0 : BitVec 32 := BitVec.ofNat 32 (i 0).val
  let c1_i32_2630 : BitVec 32 := 1#32
  let v4602 : BitVec 32 := Scalar.addi arg0 c1_i32_2630
  let c256_i32_2638 : BitVec 32 := 256#32
  let v4614 : BitVec 32 := Scalar.muli v4602 c256_i32_2638
  let c218_i32 : BitVec 32 := 218#32
  let v4615 : BitVec 32 := Scalar.addi v4614 c218_i32
  let v4616 : Index := Scalar.indexCast v4615
  ![v4616.toNat]
def k0_off880 (i : grid0.Coords) : Fin 1 → Nat :=
  let arg0 : BitVec 32 := BitVec.ofNat 32 (i 0).val
  let c1_i32_2631 : BitVec 32 := 1#32
  let v4603 : BitVec 32 := Scalar.addi arg0 c1_i32_2631
  let c2_i32_2632 : BitVec 32 := 2#32
  let c0_i32_2633 : BitVec 32 := 0#32
  let v4604 : BitVec 1 := Scalar.cmpi .eq c2_i32_2632 c0_i32_2633
  let c1_i32_2634 : BitVec 32 := 1#32
  let v4605 : BitVec 32 := Scalar.select v4604 c1_i32_2634 c2_i32_2632
  let v4606 : BitVec 32 := Scalar.remsi v4603 v4605
  let c0_i32_2636 : BitVec 32 := 0#32
  let v4608 : BitVec 1 := Scalar.cmpi .slt v4606 c0_i32_2636
  let c0_i32_2637 : BitVec 32 := 0#32
  let v4609 : BitVec 1 := Scalar.cmpi .slt v4605 c0_i32_2637
  let v4610 : BitVec 1 := Scalar.xori v4608 v4609
  let c0_i32_2635 : BitVec 32 := 0#32
  let v4607 : BitVec 1 := Scalar.cmpi .ne v4606 c0_i32_2635
  let v4611 : BitVec 1 := Scalar.andi v4610 v4607
  let v4612 : BitVec 32 := Scalar.addi v4606 v4605
  let v4613 : BitVec 32 := Scalar.select v4611 v4612 v4606
  ![v4613.toNat]
def k0_off881 (i : grid0.Coords) : Fin 3 → Nat :=
  let arg0 : BitVec 32 := BitVec.ofNat 32 (i 0).val
  let c1_i32_2631 : BitVec 32 := 1#32
  let v4603 : BitVec 32 := Scalar.addi arg0 c1_i32_2631
  let c2_i32_2632 : BitVec 32 := 2#32
  let c0_i32_2633 : BitVec 32 := 0#32
  let v4604 : BitVec 1 := Scalar.cmpi .eq c2_i32_2632 c0_i32_2633
  let c1_i32_2634 : BitVec 32 := 1#32
  let v4605 : BitVec 32 := Scalar.select v4604 c1_i32_2634 c2_i32_2632
  let v4606 : BitVec 32 := Scalar.remsi v4603 v4605
  let c0_i32_2636 : BitVec 32 := 0#32
  let v4608 : BitVec 1 := Scalar.cmpi .slt v4606 c0_i32_2636
  let c0_i32_2637 : BitVec 32 := 0#32
  let v4609 : BitVec 1 := Scalar.cmpi .slt v4605 c0_i32_2637
  let v4610 : BitVec 1 := Scalar.xori v4608 v4609
  let c0_i32_2635 : BitVec 32 := 0#32
  let v4607 : BitVec 1 := Scalar.cmpi .ne v4606 c0_i32_2635
  let v4611 : BitVec 1 := Scalar.andi v4610 v4607
  let v4612 : BitVec 32 := Scalar.addi v4606 v4605
  let v4613 : BitVec 32 := Scalar.select v4611 v4612 v4606
  let c218_i32_2639 : BitVec 32 := 218#32
  let c0_i32_2640 : BitVec 32 := 0#32
  ![v4613.toNat, 218, 0]
def k0_off882 (v4617 : BitVec 32) : Fin 2 → Nat :=
  let c0_i32_2641 : BitVec 32 := 0#32
  ![v4617.toNat, 0]

def k0_chk221 (i : grid0.Coords) (v0 : BitVec 32) (v4617 : BitVec 32) : Prop :=
  (∀ (k0_h2 : k0_cond2 i v0 = 1#1), ∀ a, (k0_off882 v4617) a + S1x4096.size a ≤ S16896x4096.size a)
theorem k0_off882_inb : ∀ (i : grid0.Coords) (v0 : BitVec 32) (v4617 : BitVec 32) (k0_hw221 : k0_chk221 i v0 v4617), ∀ (k0_h2 : k0_cond2 i v0 = 1#1), ∀ a, (k0_off882 v4617) a + S1x4096.size a ≤ S16896x4096.size a := fun i v0 v4617 k0_hw221 k0_h2 => k0_hw221 k0_h2

def k0_off883 (i : grid0.Coords) : Fin 1 → Nat :=
  let arg0 : BitVec 32 := BitVec.ofNat 32 (i 0).val
  let c1_i32_2642 : BitVec 32 := 1#32
  let v4623 : BitVec 32 := Scalar.addi arg0 c1_i32_2642
  let c256_i32_2650 : BitVec 32 := 256#32
  let v4635 : BitVec 32 := Scalar.muli v4623 c256_i32_2650
  let c219_i32 : BitVec 32 := 219#32
  let v4636 : BitVec 32 := Scalar.addi v4635 c219_i32
  let v4637 : Index := Scalar.indexCast v4636
  ![v4637.toNat]
def k0_off884 (i : grid0.Coords) : Fin 1 → Nat :=
  let arg0 : BitVec 32 := BitVec.ofNat 32 (i 0).val
  let c1_i32_2643 : BitVec 32 := 1#32
  let v4624 : BitVec 32 := Scalar.addi arg0 c1_i32_2643
  let c2_i32_2644 : BitVec 32 := 2#32
  let c0_i32_2645 : BitVec 32 := 0#32
  let v4625 : BitVec 1 := Scalar.cmpi .eq c2_i32_2644 c0_i32_2645
  let c1_i32_2646 : BitVec 32 := 1#32
  let v4626 : BitVec 32 := Scalar.select v4625 c1_i32_2646 c2_i32_2644
  let v4627 : BitVec 32 := Scalar.remsi v4624 v4626
  let c0_i32_2648 : BitVec 32 := 0#32
  let v4629 : BitVec 1 := Scalar.cmpi .slt v4627 c0_i32_2648
  let c0_i32_2649 : BitVec 32 := 0#32
  let v4630 : BitVec 1 := Scalar.cmpi .slt v4626 c0_i32_2649
  let v4631 : BitVec 1 := Scalar.xori v4629 v4630
  let c0_i32_2647 : BitVec 32 := 0#32
  let v4628 : BitVec 1 := Scalar.cmpi .ne v4627 c0_i32_2647
  let v4632 : BitVec 1 := Scalar.andi v4631 v4628
  let v4633 : BitVec 32 := Scalar.addi v4627 v4626
  let v4634 : BitVec 32 := Scalar.select v4632 v4633 v4627
  ![v4634.toNat]
def k0_off885 (i : grid0.Coords) : Fin 3 → Nat :=
  let arg0 : BitVec 32 := BitVec.ofNat 32 (i 0).val
  let c1_i32_2643 : BitVec 32 := 1#32
  let v4624 : BitVec 32 := Scalar.addi arg0 c1_i32_2643
  let c2_i32_2644 : BitVec 32 := 2#32
  let c0_i32_2645 : BitVec 32 := 0#32
  let v4625 : BitVec 1 := Scalar.cmpi .eq c2_i32_2644 c0_i32_2645
  let c1_i32_2646 : BitVec 32 := 1#32
  let v4626 : BitVec 32 := Scalar.select v4625 c1_i32_2646 c2_i32_2644
  let v4627 : BitVec 32 := Scalar.remsi v4624 v4626
  let c0_i32_2648 : BitVec 32 := 0#32
  let v4629 : BitVec 1 := Scalar.cmpi .slt v4627 c0_i32_2648
  let c0_i32_2649 : BitVec 32 := 0#32
  let v4630 : BitVec 1 := Scalar.cmpi .slt v4626 c0_i32_2649
  let v4631 : BitVec 1 := Scalar.xori v4629 v4630
  let c0_i32_2647 : BitVec 32 := 0#32
  let v4628 : BitVec 1 := Scalar.cmpi .ne v4627 c0_i32_2647
  let v4632 : BitVec 1 := Scalar.andi v4631 v4628
  let v4633 : BitVec 32 := Scalar.addi v4627 v4626
  let v4634 : BitVec 32 := Scalar.select v4632 v4633 v4627
  let c219_i32_2651 : BitVec 32 := 219#32
  let c0_i32_2652 : BitVec 32 := 0#32
  ![v4634.toNat, 219, 0]
def k0_off886 (v4638 : BitVec 32) : Fin 2 → Nat :=
  let c0_i32_2653 : BitVec 32 := 0#32
  ![v4638.toNat, 0]

def k0_chk222 (i : grid0.Coords) (v0 : BitVec 32) (v4638 : BitVec 32) : Prop :=
  (∀ (k0_h2 : k0_cond2 i v0 = 1#1), ∀ a, (k0_off886 v4638) a + S1x4096.size a ≤ S16896x4096.size a)
theorem k0_off886_inb : ∀ (i : grid0.Coords) (v0 : BitVec 32) (v4638 : BitVec 32) (k0_hw222 : k0_chk222 i v0 v4638), ∀ (k0_h2 : k0_cond2 i v0 = 1#1), ∀ a, (k0_off886 v4638) a + S1x4096.size a ≤ S16896x4096.size a := fun i v0 v4638 k0_hw222 k0_h2 => k0_hw222 k0_h2

def k0_off887 (i : grid0.Coords) : Fin 1 → Nat :=
  let arg0 : BitVec 32 := BitVec.ofNat 32 (i 0).val
  let c1_i32_2654 : BitVec 32 := 1#32
  let v4644 : BitVec 32 := Scalar.addi arg0 c1_i32_2654
  let c256_i32_2662 : BitVec 32 := 256#32
  let v4656 : BitVec 32 := Scalar.muli v4644 c256_i32_2662
  let c220_i32 : BitVec 32 := 220#32
  let v4657 : BitVec 32 := Scalar.addi v4656 c220_i32
  let v4658 : Index := Scalar.indexCast v4657
  ![v4658.toNat]
def k0_off888 (i : grid0.Coords) : Fin 1 → Nat :=
  let arg0 : BitVec 32 := BitVec.ofNat 32 (i 0).val
  let c1_i32_2655 : BitVec 32 := 1#32
  let v4645 : BitVec 32 := Scalar.addi arg0 c1_i32_2655
  let c2_i32_2656 : BitVec 32 := 2#32
  let c0_i32_2657 : BitVec 32 := 0#32
  let v4646 : BitVec 1 := Scalar.cmpi .eq c2_i32_2656 c0_i32_2657
  let c1_i32_2658 : BitVec 32 := 1#32
  let v4647 : BitVec 32 := Scalar.select v4646 c1_i32_2658 c2_i32_2656
  let v4648 : BitVec 32 := Scalar.remsi v4645 v4647
  let c0_i32_2660 : BitVec 32 := 0#32
  let v4650 : BitVec 1 := Scalar.cmpi .slt v4648 c0_i32_2660
  let c0_i32_2661 : BitVec 32 := 0#32
  let v4651 : BitVec 1 := Scalar.cmpi .slt v4647 c0_i32_2661
  let v4652 : BitVec 1 := Scalar.xori v4650 v4651
  let c0_i32_2659 : BitVec 32 := 0#32
  let v4649 : BitVec 1 := Scalar.cmpi .ne v4648 c0_i32_2659
  let v4653 : BitVec 1 := Scalar.andi v4652 v4649
  let v4654 : BitVec 32 := Scalar.addi v4648 v4647
  let v4655 : BitVec 32 := Scalar.select v4653 v4654 v4648
  ![v4655.toNat]
def k0_off889 (i : grid0.Coords) : Fin 3 → Nat :=
  let arg0 : BitVec 32 := BitVec.ofNat 32 (i 0).val
  let c1_i32_2655 : BitVec 32 := 1#32
  let v4645 : BitVec 32 := Scalar.addi arg0 c1_i32_2655
  let c2_i32_2656 : BitVec 32 := 2#32
  let c0_i32_2657 : BitVec 32 := 0#32
  let v4646 : BitVec 1 := Scalar.cmpi .eq c2_i32_2656 c0_i32_2657
  let c1_i32_2658 : BitVec 32 := 1#32
  let v4647 : BitVec 32 := Scalar.select v4646 c1_i32_2658 c2_i32_2656
  let v4648 : BitVec 32 := Scalar.remsi v4645 v4647
  let c0_i32_2660 : BitVec 32 := 0#32
  let v4650 : BitVec 1 := Scalar.cmpi .slt v4648 c0_i32_2660
  let c0_i32_2661 : BitVec 32 := 0#32
  let v4651 : BitVec 1 := Scalar.cmpi .slt v4647 c0_i32_2661
  let v4652 : BitVec 1 := Scalar.xori v4650 v4651
  let c0_i32_2659 : BitVec 32 := 0#32
  let v4649 : BitVec 1 := Scalar.cmpi .ne v4648 c0_i32_2659
  let v4653 : BitVec 1 := Scalar.andi v4652 v4649
  let v4654 : BitVec 32 := Scalar.addi v4648 v4647
  let v4655 : BitVec 32 := Scalar.select v4653 v4654 v4648
  let c220_i32_2663 : BitVec 32 := 220#32
  let c0_i32_2664 : BitVec 32 := 0#32
  ![v4655.toNat, 220, 0]
def k0_off890 (v4659 : BitVec 32) : Fin 2 → Nat :=
  let c0_i32_2665 : BitVec 32 := 0#32
  ![v4659.toNat, 0]

def k0_chk223 (i : grid0.Coords) (v0 : BitVec 32) (v4659 : BitVec 32) : Prop :=
  (∀ (k0_h2 : k0_cond2 i v0 = 1#1), ∀ a, (k0_off890 v4659) a + S1x4096.size a ≤ S16896x4096.size a)
theorem k0_off890_inb : ∀ (i : grid0.Coords) (v0 : BitVec 32) (v4659 : BitVec 32) (k0_hw223 : k0_chk223 i v0 v4659), ∀ (k0_h2 : k0_cond2 i v0 = 1#1), ∀ a, (k0_off890 v4659) a + S1x4096.size a ≤ S16896x4096.size a := fun i v0 v4659 k0_hw223 k0_h2 => k0_hw223 k0_h2

def k0_off891 (i : grid0.Coords) : Fin 1 → Nat :=
  let arg0 : BitVec 32 := BitVec.ofNat 32 (i 0).val
  let c1_i32_2666 : BitVec 32 := 1#32
  let v4665 : BitVec 32 := Scalar.addi arg0 c1_i32_2666
  let c256_i32_2674 : BitVec 32 := 256#32
  let v4677 : BitVec 32 := Scalar.muli v4665 c256_i32_2674
  let c221_i32 : BitVec 32 := 221#32
  let v4678 : BitVec 32 := Scalar.addi v4677 c221_i32
  let v4679 : Index := Scalar.indexCast v4678
  ![v4679.toNat]
def k0_off892 (i : grid0.Coords) : Fin 1 → Nat :=
  let arg0 : BitVec 32 := BitVec.ofNat 32 (i 0).val
  let c1_i32_2667 : BitVec 32 := 1#32
  let v4666 : BitVec 32 := Scalar.addi arg0 c1_i32_2667
  let c2_i32_2668 : BitVec 32 := 2#32
  let c0_i32_2669 : BitVec 32 := 0#32
  let v4667 : BitVec 1 := Scalar.cmpi .eq c2_i32_2668 c0_i32_2669
  let c1_i32_2670 : BitVec 32 := 1#32
  let v4668 : BitVec 32 := Scalar.select v4667 c1_i32_2670 c2_i32_2668
  let v4669 : BitVec 32 := Scalar.remsi v4666 v4668
  let c0_i32_2672 : BitVec 32 := 0#32
  let v4671 : BitVec 1 := Scalar.cmpi .slt v4669 c0_i32_2672
  let c0_i32_2673 : BitVec 32 := 0#32
  let v4672 : BitVec 1 := Scalar.cmpi .slt v4668 c0_i32_2673
  let v4673 : BitVec 1 := Scalar.xori v4671 v4672
  let c0_i32_2671 : BitVec 32 := 0#32
  let v4670 : BitVec 1 := Scalar.cmpi .ne v4669 c0_i32_2671
  let v4674 : BitVec 1 := Scalar.andi v4673 v4670
  let v4675 : BitVec 32 := Scalar.addi v4669 v4668
  let v4676 : BitVec 32 := Scalar.select v4674 v4675 v4669
  ![v4676.toNat]
def k0_off893 (i : grid0.Coords) : Fin 3 → Nat :=
  let arg0 : BitVec 32 := BitVec.ofNat 32 (i 0).val
  let c1_i32_2667 : BitVec 32 := 1#32
  let v4666 : BitVec 32 := Scalar.addi arg0 c1_i32_2667
  let c2_i32_2668 : BitVec 32 := 2#32
  let c0_i32_2669 : BitVec 32 := 0#32
  let v4667 : BitVec 1 := Scalar.cmpi .eq c2_i32_2668 c0_i32_2669
  let c1_i32_2670 : BitVec 32 := 1#32
  let v4668 : BitVec 32 := Scalar.select v4667 c1_i32_2670 c2_i32_2668
  let v4669 : BitVec 32 := Scalar.remsi v4666 v4668
  let c0_i32_2672 : BitVec 32 := 0#32
  let v4671 : BitVec 1 := Scalar.cmpi .slt v4669 c0_i32_2672
  let c0_i32_2673 : BitVec 32 := 0#32
  let v4672 : BitVec 1 := Scalar.cmpi .slt v4668 c0_i32_2673
  let v4673 : BitVec 1 := Scalar.xori v4671 v4672
  let c0_i32_2671 : BitVec 32 := 0#32
  let v4670 : BitVec 1 := Scalar.cmpi .ne v4669 c0_i32_2671
  let v4674 : BitVec 1 := Scalar.andi v4673 v4670
  let v4675 : BitVec 32 := Scalar.addi v4669 v4668
  let v4676 : BitVec 32 := Scalar.select v4674 v4675 v4669
  let c221_i32_2675 : BitVec 32 := 221#32
  let c0_i32_2676 : BitVec 32 := 0#32
  ![v4676.toNat, 221, 0]
def k0_off894 (v4680 : BitVec 32) : Fin 2 → Nat :=
  let c0_i32_2677 : BitVec 32 := 0#32
  ![v4680.toNat, 0]

def k0_chk224 (i : grid0.Coords) (v0 : BitVec 32) (v4680 : BitVec 32) : Prop :=
  (∀ (k0_h2 : k0_cond2 i v0 = 1#1), ∀ a, (k0_off894 v4680) a + S1x4096.size a ≤ S16896x4096.size a)
theorem k0_off894_inb : ∀ (i : grid0.Coords) (v0 : BitVec 32) (v4680 : BitVec 32) (k0_hw224 : k0_chk224 i v0 v4680), ∀ (k0_h2 : k0_cond2 i v0 = 1#1), ∀ a, (k0_off894 v4680) a + S1x4096.size a ≤ S16896x4096.size a := fun i v0 v4680 k0_hw224 k0_h2 => k0_hw224 k0_h2

def k0_off895 (i : grid0.Coords) : Fin 1 → Nat :=
  let arg0 : BitVec 32 := BitVec.ofNat 32 (i 0).val
  let c1_i32_2678 : BitVec 32 := 1#32
  let v4686 : BitVec 32 := Scalar.addi arg0 c1_i32_2678
  let c256_i32_2686 : BitVec 32 := 256#32
  let v4698 : BitVec 32 := Scalar.muli v4686 c256_i32_2686
  let c222_i32 : BitVec 32 := 222#32
  let v4699 : BitVec 32 := Scalar.addi v4698 c222_i32
  let v4700 : Index := Scalar.indexCast v4699
  ![v4700.toNat]
def k0_off896 (i : grid0.Coords) : Fin 1 → Nat :=
  let arg0 : BitVec 32 := BitVec.ofNat 32 (i 0).val
  let c1_i32_2679 : BitVec 32 := 1#32
  let v4687 : BitVec 32 := Scalar.addi arg0 c1_i32_2679
  let c2_i32_2680 : BitVec 32 := 2#32
  let c0_i32_2681 : BitVec 32 := 0#32
  let v4688 : BitVec 1 := Scalar.cmpi .eq c2_i32_2680 c0_i32_2681
  let c1_i32_2682 : BitVec 32 := 1#32
  let v4689 : BitVec 32 := Scalar.select v4688 c1_i32_2682 c2_i32_2680
  let v4690 : BitVec 32 := Scalar.remsi v4687 v4689
  let c0_i32_2684 : BitVec 32 := 0#32
  let v4692 : BitVec 1 := Scalar.cmpi .slt v4690 c0_i32_2684
  let c0_i32_2685 : BitVec 32 := 0#32
  let v4693 : BitVec 1 := Scalar.cmpi .slt v4689 c0_i32_2685
  let v4694 : BitVec 1 := Scalar.xori v4692 v4693
  let c0_i32_2683 : BitVec 32 := 0#32
  let v4691 : BitVec 1 := Scalar.cmpi .ne v4690 c0_i32_2683
  let v4695 : BitVec 1 := Scalar.andi v4694 v4691
  let v4696 : BitVec 32 := Scalar.addi v4690 v4689
  let v4697 : BitVec 32 := Scalar.select v4695 v4696 v4690
  ![v4697.toNat]
def k0_off897 (i : grid0.Coords) : Fin 3 → Nat :=
  let arg0 : BitVec 32 := BitVec.ofNat 32 (i 0).val
  let c1_i32_2679 : BitVec 32 := 1#32
  let v4687 : BitVec 32 := Scalar.addi arg0 c1_i32_2679
  let c2_i32_2680 : BitVec 32 := 2#32
  let c0_i32_2681 : BitVec 32 := 0#32
  let v4688 : BitVec 1 := Scalar.cmpi .eq c2_i32_2680 c0_i32_2681
  let c1_i32_2682 : BitVec 32 := 1#32
  let v4689 : BitVec 32 := Scalar.select v4688 c1_i32_2682 c2_i32_2680
  let v4690 : BitVec 32 := Scalar.remsi v4687 v4689
  let c0_i32_2684 : BitVec 32 := 0#32
  let v4692 : BitVec 1 := Scalar.cmpi .slt v4690 c0_i32_2684
  let c0_i32_2685 : BitVec 32 := 0#32
  let v4693 : BitVec 1 := Scalar.cmpi .slt v4689 c0_i32_2685
  let v4694 : BitVec 1 := Scalar.xori v4692 v4693
  let c0_i32_2683 : BitVec 32 := 0#32
  let v4691 : BitVec 1 := Scalar.cmpi .ne v4690 c0_i32_2683
  let v4695 : BitVec 1 := Scalar.andi v4694 v4691
  let v4696 : BitVec 32 := Scalar.addi v4690 v4689
  let v4697 : BitVec 32 := Scalar.select v4695 v4696 v4690
  let c222_i32_2687 : BitVec 32 := 222#32
  let c0_i32_2688 : BitVec 32 := 0#32
  ![v4697.toNat, 222, 0]
def k0_off898 (v4701 : BitVec 32) : Fin 2 → Nat :=
  let c0_i32_2689 : BitVec 32 := 0#32
  ![v4701.toNat, 0]

def k0_chk225 (i : grid0.Coords) (v0 : BitVec 32) (v4701 : BitVec 32) : Prop :=
  (∀ (k0_h2 : k0_cond2 i v0 = 1#1), ∀ a, (k0_off898 v4701) a + S1x4096.size a ≤ S16896x4096.size a)
theorem k0_off898_inb : ∀ (i : grid0.Coords) (v0 : BitVec 32) (v4701 : BitVec 32) (k0_hw225 : k0_chk225 i v0 v4701), ∀ (k0_h2 : k0_cond2 i v0 = 1#1), ∀ a, (k0_off898 v4701) a + S1x4096.size a ≤ S16896x4096.size a := fun i v0 v4701 k0_hw225 k0_h2 => k0_hw225 k0_h2

def k0_off899 (i : grid0.Coords) : Fin 1 → Nat :=
  let arg0 : BitVec 32 := BitVec.ofNat 32 (i 0).val
  let c1_i32_2690 : BitVec 32 := 1#32
  let v4707 : BitVec 32 := Scalar.addi arg0 c1_i32_2690
  let c256_i32_2698 : BitVec 32 := 256#32
  let v4719 : BitVec 32 := Scalar.muli v4707 c256_i32_2698
  let c223_i32 : BitVec 32 := 223#32
  let v4720 : BitVec 32 := Scalar.addi v4719 c223_i32
  let v4721 : Index := Scalar.indexCast v4720
  ![v4721.toNat]
def k0_off900 (i : grid0.Coords) : Fin 1 → Nat :=
  let arg0 : BitVec 32 := BitVec.ofNat 32 (i 0).val
  let c1_i32_2691 : BitVec 32 := 1#32
  let v4708 : BitVec 32 := Scalar.addi arg0 c1_i32_2691
  let c2_i32_2692 : BitVec 32 := 2#32
  let c0_i32_2693 : BitVec 32 := 0#32
  let v4709 : BitVec 1 := Scalar.cmpi .eq c2_i32_2692 c0_i32_2693
  let c1_i32_2694 : BitVec 32 := 1#32
  let v4710 : BitVec 32 := Scalar.select v4709 c1_i32_2694 c2_i32_2692
  let v4711 : BitVec 32 := Scalar.remsi v4708 v4710
  let c0_i32_2696 : BitVec 32 := 0#32
  let v4713 : BitVec 1 := Scalar.cmpi .slt v4711 c0_i32_2696
  let c0_i32_2697 : BitVec 32 := 0#32
  let v4714 : BitVec 1 := Scalar.cmpi .slt v4710 c0_i32_2697
  let v4715 : BitVec 1 := Scalar.xori v4713 v4714
  let c0_i32_2695 : BitVec 32 := 0#32
  let v4712 : BitVec 1 := Scalar.cmpi .ne v4711 c0_i32_2695
  let v4716 : BitVec 1 := Scalar.andi v4715 v4712
  let v4717 : BitVec 32 := Scalar.addi v4711 v4710
  let v4718 : BitVec 32 := Scalar.select v4716 v4717 v4711
  ![v4718.toNat]
def k0_off901 (i : grid0.Coords) : Fin 3 → Nat :=
  let arg0 : BitVec 32 := BitVec.ofNat 32 (i 0).val
  let c1_i32_2691 : BitVec 32 := 1#32
  let v4708 : BitVec 32 := Scalar.addi arg0 c1_i32_2691
  let c2_i32_2692 : BitVec 32 := 2#32
  let c0_i32_2693 : BitVec 32 := 0#32
  let v4709 : BitVec 1 := Scalar.cmpi .eq c2_i32_2692 c0_i32_2693
  let c1_i32_2694 : BitVec 32 := 1#32
  let v4710 : BitVec 32 := Scalar.select v4709 c1_i32_2694 c2_i32_2692
  let v4711 : BitVec 32 := Scalar.remsi v4708 v4710
  let c0_i32_2696 : BitVec 32 := 0#32
  let v4713 : BitVec 1 := Scalar.cmpi .slt v4711 c0_i32_2696
  let c0_i32_2697 : BitVec 32 := 0#32
  let v4714 : BitVec 1 := Scalar.cmpi .slt v4710 c0_i32_2697
  let v4715 : BitVec 1 := Scalar.xori v4713 v4714
  let c0_i32_2695 : BitVec 32 := 0#32
  let v4712 : BitVec 1 := Scalar.cmpi .ne v4711 c0_i32_2695
  let v4716 : BitVec 1 := Scalar.andi v4715 v4712
  let v4717 : BitVec 32 := Scalar.addi v4711 v4710
  let v4718 : BitVec 32 := Scalar.select v4716 v4717 v4711
  let c223_i32_2699 : BitVec 32 := 223#32
  let c0_i32_2700 : BitVec 32 := 0#32
  ![v4718.toNat, 223, 0]
def k0_off902 (v4722 : BitVec 32) : Fin 2 → Nat :=
  let c0_i32_2701 : BitVec 32 := 0#32
  ![v4722.toNat, 0]

def k0_chk226 (i : grid0.Coords) (v0 : BitVec 32) (v4722 : BitVec 32) : Prop :=
  (∀ (k0_h2 : k0_cond2 i v0 = 1#1), ∀ a, (k0_off902 v4722) a + S1x4096.size a ≤ S16896x4096.size a)
theorem k0_off902_inb : ∀ (i : grid0.Coords) (v0 : BitVec 32) (v4722 : BitVec 32) (k0_hw226 : k0_chk226 i v0 v4722), ∀ (k0_h2 : k0_cond2 i v0 = 1#1), ∀ a, (k0_off902 v4722) a + S1x4096.size a ≤ S16896x4096.size a := fun i v0 v4722 k0_hw226 k0_h2 => k0_hw226 k0_h2

def k0_off903 (i : grid0.Coords) : Fin 1 → Nat :=
  let arg0 : BitVec 32 := BitVec.ofNat 32 (i 0).val
  let c1_i32_2702 : BitVec 32 := 1#32
  let v4728 : BitVec 32 := Scalar.addi arg0 c1_i32_2702
  let c256_i32_2710 : BitVec 32 := 256#32
  let v4740 : BitVec 32 := Scalar.muli v4728 c256_i32_2710
  let c224_i32 : BitVec 32 := 224#32
  let v4741 : BitVec 32 := Scalar.addi v4740 c224_i32
  let v4742 : Index := Scalar.indexCast v4741
  ![v4742.toNat]
def k0_off904 (i : grid0.Coords) : Fin 1 → Nat :=
  let arg0 : BitVec 32 := BitVec.ofNat 32 (i 0).val
  let c1_i32_2703 : BitVec 32 := 1#32
  let v4729 : BitVec 32 := Scalar.addi arg0 c1_i32_2703
  let c2_i32_2704 : BitVec 32 := 2#32
  let c0_i32_2705 : BitVec 32 := 0#32
  let v4730 : BitVec 1 := Scalar.cmpi .eq c2_i32_2704 c0_i32_2705
  let c1_i32_2706 : BitVec 32 := 1#32
  let v4731 : BitVec 32 := Scalar.select v4730 c1_i32_2706 c2_i32_2704
  let v4732 : BitVec 32 := Scalar.remsi v4729 v4731
  let c0_i32_2708 : BitVec 32 := 0#32
  let v4734 : BitVec 1 := Scalar.cmpi .slt v4732 c0_i32_2708
  let c0_i32_2709 : BitVec 32 := 0#32
  let v4735 : BitVec 1 := Scalar.cmpi .slt v4731 c0_i32_2709
  let v4736 : BitVec 1 := Scalar.xori v4734 v4735
  let c0_i32_2707 : BitVec 32 := 0#32
  let v4733 : BitVec 1 := Scalar.cmpi .ne v4732 c0_i32_2707
  let v4737 : BitVec 1 := Scalar.andi v4736 v4733
  let v4738 : BitVec 32 := Scalar.addi v4732 v4731
  let v4739 : BitVec 32 := Scalar.select v4737 v4738 v4732
  ![v4739.toNat]
def k0_off905 (i : grid0.Coords) : Fin 3 → Nat :=
  let arg0 : BitVec 32 := BitVec.ofNat 32 (i 0).val
  let c1_i32_2703 : BitVec 32 := 1#32
  let v4729 : BitVec 32 := Scalar.addi arg0 c1_i32_2703
  let c2_i32_2704 : BitVec 32 := 2#32
  let c0_i32_2705 : BitVec 32 := 0#32
  let v4730 : BitVec 1 := Scalar.cmpi .eq c2_i32_2704 c0_i32_2705
  let c1_i32_2706 : BitVec 32 := 1#32
  let v4731 : BitVec 32 := Scalar.select v4730 c1_i32_2706 c2_i32_2704
  let v4732 : BitVec 32 := Scalar.remsi v4729 v4731
  let c0_i32_2708 : BitVec 32 := 0#32
  let v4734 : BitVec 1 := Scalar.cmpi .slt v4732 c0_i32_2708
  let c0_i32_2709 : BitVec 32 := 0#32
  let v4735 : BitVec 1 := Scalar.cmpi .slt v4731 c0_i32_2709
  let v4736 : BitVec 1 := Scalar.xori v4734 v4735
  let c0_i32_2707 : BitVec 32 := 0#32
  let v4733 : BitVec 1 := Scalar.cmpi .ne v4732 c0_i32_2707
  let v4737 : BitVec 1 := Scalar.andi v4736 v4733
  let v4738 : BitVec 32 := Scalar.addi v4732 v4731
  let v4739 : BitVec 32 := Scalar.select v4737 v4738 v4732
  let c224_i32_2711 : BitVec 32 := 224#32
  let c0_i32_2712 : BitVec 32 := 0#32
  ![v4739.toNat, 224, 0]
def k0_off906 (v4743 : BitVec 32) : Fin 2 → Nat :=
  let c0_i32_2713 : BitVec 32 := 0#32
  ![v4743.toNat, 0]

def k0_chk227 (i : grid0.Coords) (v0 : BitVec 32) (v4743 : BitVec 32) : Prop :=
  (∀ (k0_h2 : k0_cond2 i v0 = 1#1), ∀ a, (k0_off906 v4743) a + S1x4096.size a ≤ S16896x4096.size a)
theorem k0_off906_inb : ∀ (i : grid0.Coords) (v0 : BitVec 32) (v4743 : BitVec 32) (k0_hw227 : k0_chk227 i v0 v4743), ∀ (k0_h2 : k0_cond2 i v0 = 1#1), ∀ a, (k0_off906 v4743) a + S1x4096.size a ≤ S16896x4096.size a := fun i v0 v4743 k0_hw227 k0_h2 => k0_hw227 k0_h2

def k0_off907 (i : grid0.Coords) : Fin 1 → Nat :=
  let arg0 : BitVec 32 := BitVec.ofNat 32 (i 0).val
  let c1_i32_2714 : BitVec 32 := 1#32
  let v4749 : BitVec 32 := Scalar.addi arg0 c1_i32_2714
  let c256_i32_2722 : BitVec 32 := 256#32
  let v4761 : BitVec 32 := Scalar.muli v4749 c256_i32_2722
  let c225_i32 : BitVec 32 := 225#32
  let v4762 : BitVec 32 := Scalar.addi v4761 c225_i32
  let v4763 : Index := Scalar.indexCast v4762
  ![v4763.toNat]
def k0_off908 (i : grid0.Coords) : Fin 1 → Nat :=
  let arg0 : BitVec 32 := BitVec.ofNat 32 (i 0).val
  let c1_i32_2715 : BitVec 32 := 1#32
  let v4750 : BitVec 32 := Scalar.addi arg0 c1_i32_2715
  let c2_i32_2716 : BitVec 32 := 2#32
  let c0_i32_2717 : BitVec 32 := 0#32
  let v4751 : BitVec 1 := Scalar.cmpi .eq c2_i32_2716 c0_i32_2717
  let c1_i32_2718 : BitVec 32 := 1#32
  let v4752 : BitVec 32 := Scalar.select v4751 c1_i32_2718 c2_i32_2716
  let v4753 : BitVec 32 := Scalar.remsi v4750 v4752
  let c0_i32_2720 : BitVec 32 := 0#32
  let v4755 : BitVec 1 := Scalar.cmpi .slt v4753 c0_i32_2720
  let c0_i32_2721 : BitVec 32 := 0#32
  let v4756 : BitVec 1 := Scalar.cmpi .slt v4752 c0_i32_2721
  let v4757 : BitVec 1 := Scalar.xori v4755 v4756
  let c0_i32_2719 : BitVec 32 := 0#32
  let v4754 : BitVec 1 := Scalar.cmpi .ne v4753 c0_i32_2719
  let v4758 : BitVec 1 := Scalar.andi v4757 v4754
  let v4759 : BitVec 32 := Scalar.addi v4753 v4752
  let v4760 : BitVec 32 := Scalar.select v4758 v4759 v4753
  ![v4760.toNat]
def k0_off909 (i : grid0.Coords) : Fin 3 → Nat :=
  let arg0 : BitVec 32 := BitVec.ofNat 32 (i 0).val
  let c1_i32_2715 : BitVec 32 := 1#32
  let v4750 : BitVec 32 := Scalar.addi arg0 c1_i32_2715
  let c2_i32_2716 : BitVec 32 := 2#32
  let c0_i32_2717 : BitVec 32 := 0#32
  let v4751 : BitVec 1 := Scalar.cmpi .eq c2_i32_2716 c0_i32_2717
  let c1_i32_2718 : BitVec 32 := 1#32
  let v4752 : BitVec 32 := Scalar.select v4751 c1_i32_2718 c2_i32_2716
  let v4753 : BitVec 32 := Scalar.remsi v4750 v4752
  let c0_i32_2720 : BitVec 32 := 0#32
  let v4755 : BitVec 1 := Scalar.cmpi .slt v4753 c0_i32_2720
  let c0_i32_2721 : BitVec 32 := 0#32
  let v4756 : BitVec 1 := Scalar.cmpi .slt v4752 c0_i32_2721
  let v4757 : BitVec 1 := Scalar.xori v4755 v4756
  let c0_i32_2719 : BitVec 32 := 0#32
  let v4754 : BitVec 1 := Scalar.cmpi .ne v4753 c0_i32_2719
  let v4758 : BitVec 1 := Scalar.andi v4757 v4754
  let v4759 : BitVec 32 := Scalar.addi v4753 v4752
  let v4760 : BitVec 32 := Scalar.select v4758 v4759 v4753
  let c225_i32_2723 : BitVec 32 := 225#32
  let c0_i32_2724 : BitVec 32 := 0#32
  ![v4760.toNat, 225, 0]
def k0_off910 (v4764 : BitVec 32) : Fin 2 → Nat :=
  let c0_i32_2725 : BitVec 32 := 0#32
  ![v4764.toNat, 0]

def k0_chk228 (i : grid0.Coords) (v0 : BitVec 32) (v4764 : BitVec 32) : Prop :=
  (∀ (k0_h2 : k0_cond2 i v0 = 1#1), ∀ a, (k0_off910 v4764) a + S1x4096.size a ≤ S16896x4096.size a)
theorem k0_off910_inb : ∀ (i : grid0.Coords) (v0 : BitVec 32) (v4764 : BitVec 32) (k0_hw228 : k0_chk228 i v0 v4764), ∀ (k0_h2 : k0_cond2 i v0 = 1#1), ∀ a, (k0_off910 v4764) a + S1x4096.size a ≤ S16896x4096.size a := fun i v0 v4764 k0_hw228 k0_h2 => k0_hw228 k0_h2

def k0_off911 (i : grid0.Coords) : Fin 1 → Nat :=
  let arg0 : BitVec 32 := BitVec.ofNat 32 (i 0).val
  let c1_i32_2726 : BitVec 32 := 1#32
  let v4770 : BitVec 32 := Scalar.addi arg0 c1_i32_2726
  let c256_i32_2734 : BitVec 32 := 256#32
  let v4782 : BitVec 32 := Scalar.muli v4770 c256_i32_2734
  let c226_i32 : BitVec 32 := 226#32
  let v4783 : BitVec 32 := Scalar.addi v4782 c226_i32
  let v4784 : Index := Scalar.indexCast v4783
  ![v4784.toNat]
def k0_off912 (i : grid0.Coords) : Fin 1 → Nat :=
  let arg0 : BitVec 32 := BitVec.ofNat 32 (i 0).val
  let c1_i32_2727 : BitVec 32 := 1#32
  let v4771 : BitVec 32 := Scalar.addi arg0 c1_i32_2727
  let c2_i32_2728 : BitVec 32 := 2#32
  let c0_i32_2729 : BitVec 32 := 0#32
  let v4772 : BitVec 1 := Scalar.cmpi .eq c2_i32_2728 c0_i32_2729
  let c1_i32_2730 : BitVec 32 := 1#32
  let v4773 : BitVec 32 := Scalar.select v4772 c1_i32_2730 c2_i32_2728
  let v4774 : BitVec 32 := Scalar.remsi v4771 v4773
  let c0_i32_2732 : BitVec 32 := 0#32
  let v4776 : BitVec 1 := Scalar.cmpi .slt v4774 c0_i32_2732
  let c0_i32_2733 : BitVec 32 := 0#32
  let v4777 : BitVec 1 := Scalar.cmpi .slt v4773 c0_i32_2733
  let v4778 : BitVec 1 := Scalar.xori v4776 v4777
  let c0_i32_2731 : BitVec 32 := 0#32
  let v4775 : BitVec 1 := Scalar.cmpi .ne v4774 c0_i32_2731
  let v4779 : BitVec 1 := Scalar.andi v4778 v4775
  let v4780 : BitVec 32 := Scalar.addi v4774 v4773
  let v4781 : BitVec 32 := Scalar.select v4779 v4780 v4774
  ![v4781.toNat]
def k0_off913 (i : grid0.Coords) : Fin 3 → Nat :=
  let arg0 : BitVec 32 := BitVec.ofNat 32 (i 0).val
  let c1_i32_2727 : BitVec 32 := 1#32
  let v4771 : BitVec 32 := Scalar.addi arg0 c1_i32_2727
  let c2_i32_2728 : BitVec 32 := 2#32
  let c0_i32_2729 : BitVec 32 := 0#32
  let v4772 : BitVec 1 := Scalar.cmpi .eq c2_i32_2728 c0_i32_2729
  let c1_i32_2730 : BitVec 32 := 1#32
  let v4773 : BitVec 32 := Scalar.select v4772 c1_i32_2730 c2_i32_2728
  let v4774 : BitVec 32 := Scalar.remsi v4771 v4773
  let c0_i32_2732 : BitVec 32 := 0#32
  let v4776 : BitVec 1 := Scalar.cmpi .slt v4774 c0_i32_2732
  let c0_i32_2733 : BitVec 32 := 0#32
  let v4777 : BitVec 1 := Scalar.cmpi .slt v4773 c0_i32_2733
  let v4778 : BitVec 1 := Scalar.xori v4776 v4777
  let c0_i32_2731 : BitVec 32 := 0#32
  let v4775 : BitVec 1 := Scalar.cmpi .ne v4774 c0_i32_2731
  let v4779 : BitVec 1 := Scalar.andi v4778 v4775
  let v4780 : BitVec 32 := Scalar.addi v4774 v4773
  let v4781 : BitVec 32 := Scalar.select v4779 v4780 v4774
  let c226_i32_2735 : BitVec 32 := 226#32
  let c0_i32_2736 : BitVec 32 := 0#32
  ![v4781.toNat, 226, 0]
def k0_off914 (v4785 : BitVec 32) : Fin 2 → Nat :=
  let c0_i32_2737 : BitVec 32 := 0#32
  ![v4785.toNat, 0]

def k0_chk229 (i : grid0.Coords) (v0 : BitVec 32) (v4785 : BitVec 32) : Prop :=
  (∀ (k0_h2 : k0_cond2 i v0 = 1#1), ∀ a, (k0_off914 v4785) a + S1x4096.size a ≤ S16896x4096.size a)
theorem k0_off914_inb : ∀ (i : grid0.Coords) (v0 : BitVec 32) (v4785 : BitVec 32) (k0_hw229 : k0_chk229 i v0 v4785), ∀ (k0_h2 : k0_cond2 i v0 = 1#1), ∀ a, (k0_off914 v4785) a + S1x4096.size a ≤ S16896x4096.size a := fun i v0 v4785 k0_hw229 k0_h2 => k0_hw229 k0_h2

def k0_off915 (i : grid0.Coords) : Fin 1 → Nat :=
  let arg0 : BitVec 32 := BitVec.ofNat 32 (i 0).val
  let c1_i32_2738 : BitVec 32 := 1#32
  let v4791 : BitVec 32 := Scalar.addi arg0 c1_i32_2738
  let c256_i32_2746 : BitVec 32 := 256#32
  let v4803 : BitVec 32 := Scalar.muli v4791 c256_i32_2746
  let c227_i32 : BitVec 32 := 227#32
  let v4804 : BitVec 32 := Scalar.addi v4803 c227_i32
  let v4805 : Index := Scalar.indexCast v4804
  ![v4805.toNat]
def k0_off916 (i : grid0.Coords) : Fin 1 → Nat :=
  let arg0 : BitVec 32 := BitVec.ofNat 32 (i 0).val
  let c1_i32_2739 : BitVec 32 := 1#32
  let v4792 : BitVec 32 := Scalar.addi arg0 c1_i32_2739
  let c2_i32_2740 : BitVec 32 := 2#32
  let c0_i32_2741 : BitVec 32 := 0#32
  let v4793 : BitVec 1 := Scalar.cmpi .eq c2_i32_2740 c0_i32_2741
  let c1_i32_2742 : BitVec 32 := 1#32
  let v4794 : BitVec 32 := Scalar.select v4793 c1_i32_2742 c2_i32_2740
  let v4795 : BitVec 32 := Scalar.remsi v4792 v4794
  let c0_i32_2744 : BitVec 32 := 0#32
  let v4797 : BitVec 1 := Scalar.cmpi .slt v4795 c0_i32_2744
  let c0_i32_2745 : BitVec 32 := 0#32
  let v4798 : BitVec 1 := Scalar.cmpi .slt v4794 c0_i32_2745
  let v4799 : BitVec 1 := Scalar.xori v4797 v4798
  let c0_i32_2743 : BitVec 32 := 0#32
  let v4796 : BitVec 1 := Scalar.cmpi .ne v4795 c0_i32_2743
  let v4800 : BitVec 1 := Scalar.andi v4799 v4796
  let v4801 : BitVec 32 := Scalar.addi v4795 v4794
  let v4802 : BitVec 32 := Scalar.select v4800 v4801 v4795
  ![v4802.toNat]
def k0_off917 (i : grid0.Coords) : Fin 3 → Nat :=
  let arg0 : BitVec 32 := BitVec.ofNat 32 (i 0).val
  let c1_i32_2739 : BitVec 32 := 1#32
  let v4792 : BitVec 32 := Scalar.addi arg0 c1_i32_2739
  let c2_i32_2740 : BitVec 32 := 2#32
  let c0_i32_2741 : BitVec 32 := 0#32
  let v4793 : BitVec 1 := Scalar.cmpi .eq c2_i32_2740 c0_i32_2741
  let c1_i32_2742 : BitVec 32 := 1#32
  let v4794 : BitVec 32 := Scalar.select v4793 c1_i32_2742 c2_i32_2740
  let v4795 : BitVec 32 := Scalar.remsi v4792 v4794
  let c0_i32_2744 : BitVec 32 := 0#32
  let v4797 : BitVec 1 := Scalar.cmpi .slt v4795 c0_i32_2744
  let c0_i32_2745 : BitVec 32 := 0#32
  let v4798 : BitVec 1 := Scalar.cmpi .slt v4794 c0_i32_2745
  let v4799 : BitVec 1 := Scalar.xori v4797 v4798
  let c0_i32_2743 : BitVec 32 := 0#32
  let v4796 : BitVec 1 := Scalar.cmpi .ne v4795 c0_i32_2743
  let v4800 : BitVec 1 := Scalar.andi v4799 v4796
  let v4801 : BitVec 32 := Scalar.addi v4795 v4794
  let v4802 : BitVec 32 := Scalar.select v4800 v4801 v4795
  let c227_i32_2747 : BitVec 32 := 227#32
  let c0_i32_2748 : BitVec 32 := 0#32
  ![v4802.toNat, 227, 0]
def k0_off918 (v4806 : BitVec 32) : Fin 2 → Nat :=
  let c0_i32_2749 : BitVec 32 := 0#32
  ![v4806.toNat, 0]

def k0_chk230 (i : grid0.Coords) (v0 : BitVec 32) (v4806 : BitVec 32) : Prop :=
  (∀ (k0_h2 : k0_cond2 i v0 = 1#1), ∀ a, (k0_off918 v4806) a + S1x4096.size a ≤ S16896x4096.size a)
theorem k0_off918_inb : ∀ (i : grid0.Coords) (v0 : BitVec 32) (v4806 : BitVec 32) (k0_hw230 : k0_chk230 i v0 v4806), ∀ (k0_h2 : k0_cond2 i v0 = 1#1), ∀ a, (k0_off918 v4806) a + S1x4096.size a ≤ S16896x4096.size a := fun i v0 v4806 k0_hw230 k0_h2 => k0_hw230 k0_h2

def k0_off919 (i : grid0.Coords) : Fin 1 → Nat :=
  let arg0 : BitVec 32 := BitVec.ofNat 32 (i 0).val
  let c1_i32_2750 : BitVec 32 := 1#32
  let v4812 : BitVec 32 := Scalar.addi arg0 c1_i32_2750
  let c256_i32_2758 : BitVec 32 := 256#32
  let v4824 : BitVec 32 := Scalar.muli v4812 c256_i32_2758
  let c228_i32 : BitVec 32 := 228#32
  let v4825 : BitVec 32 := Scalar.addi v4824 c228_i32
  let v4826 : Index := Scalar.indexCast v4825
  ![v4826.toNat]
def k0_off920 (i : grid0.Coords) : Fin 1 → Nat :=
  let arg0 : BitVec 32 := BitVec.ofNat 32 (i 0).val
  let c1_i32_2751 : BitVec 32 := 1#32
  let v4813 : BitVec 32 := Scalar.addi arg0 c1_i32_2751
  let c2_i32_2752 : BitVec 32 := 2#32
  let c0_i32_2753 : BitVec 32 := 0#32
  let v4814 : BitVec 1 := Scalar.cmpi .eq c2_i32_2752 c0_i32_2753
  let c1_i32_2754 : BitVec 32 := 1#32
  let v4815 : BitVec 32 := Scalar.select v4814 c1_i32_2754 c2_i32_2752
  let v4816 : BitVec 32 := Scalar.remsi v4813 v4815
  let c0_i32_2756 : BitVec 32 := 0#32
  let v4818 : BitVec 1 := Scalar.cmpi .slt v4816 c0_i32_2756
  let c0_i32_2757 : BitVec 32 := 0#32
  let v4819 : BitVec 1 := Scalar.cmpi .slt v4815 c0_i32_2757
  let v4820 : BitVec 1 := Scalar.xori v4818 v4819
  let c0_i32_2755 : BitVec 32 := 0#32
  let v4817 : BitVec 1 := Scalar.cmpi .ne v4816 c0_i32_2755
  let v4821 : BitVec 1 := Scalar.andi v4820 v4817
  let v4822 : BitVec 32 := Scalar.addi v4816 v4815
  let v4823 : BitVec 32 := Scalar.select v4821 v4822 v4816
  ![v4823.toNat]
def k0_off921 (i : grid0.Coords) : Fin 3 → Nat :=
  let arg0 : BitVec 32 := BitVec.ofNat 32 (i 0).val
  let c1_i32_2751 : BitVec 32 := 1#32
  let v4813 : BitVec 32 := Scalar.addi arg0 c1_i32_2751
  let c2_i32_2752 : BitVec 32 := 2#32
  let c0_i32_2753 : BitVec 32 := 0#32
  let v4814 : BitVec 1 := Scalar.cmpi .eq c2_i32_2752 c0_i32_2753
  let c1_i32_2754 : BitVec 32 := 1#32
  let v4815 : BitVec 32 := Scalar.select v4814 c1_i32_2754 c2_i32_2752
  let v4816 : BitVec 32 := Scalar.remsi v4813 v4815
  let c0_i32_2756 : BitVec 32 := 0#32
  let v4818 : BitVec 1 := Scalar.cmpi .slt v4816 c0_i32_2756
  let c0_i32_2757 : BitVec 32 := 0#32
  let v4819 : BitVec 1 := Scalar.cmpi .slt v4815 c0_i32_2757
  let v4820 : BitVec 1 := Scalar.xori v4818 v4819
  let c0_i32_2755 : BitVec 32 := 0#32
  let v4817 : BitVec 1 := Scalar.cmpi .ne v4816 c0_i32_2755
  let v4821 : BitVec 1 := Scalar.andi v4820 v4817
  let v4822 : BitVec 32 := Scalar.addi v4816 v4815
  let v4823 : BitVec 32 := Scalar.select v4821 v4822 v4816
  let c228_i32_2759 : BitVec 32 := 228#32
  let c0_i32_2760 : BitVec 32 := 0#32
  ![v4823.toNat, 228, 0]
def k0_off922 (v4827 : BitVec 32) : Fin 2 → Nat :=
  let c0_i32_2761 : BitVec 32 := 0#32
  ![v4827.toNat, 0]

def k0_chk231 (i : grid0.Coords) (v0 : BitVec 32) (v4827 : BitVec 32) : Prop :=
  (∀ (k0_h2 : k0_cond2 i v0 = 1#1), ∀ a, (k0_off922 v4827) a + S1x4096.size a ≤ S16896x4096.size a)
theorem k0_off922_inb : ∀ (i : grid0.Coords) (v0 : BitVec 32) (v4827 : BitVec 32) (k0_hw231 : k0_chk231 i v0 v4827), ∀ (k0_h2 : k0_cond2 i v0 = 1#1), ∀ a, (k0_off922 v4827) a + S1x4096.size a ≤ S16896x4096.size a := fun i v0 v4827 k0_hw231 k0_h2 => k0_hw231 k0_h2

def k0_off923 (i : grid0.Coords) : Fin 1 → Nat :=
  let arg0 : BitVec 32 := BitVec.ofNat 32 (i 0).val
  let c1_i32_2762 : BitVec 32 := 1#32
  let v4833 : BitVec 32 := Scalar.addi arg0 c1_i32_2762
  let c256_i32_2770 : BitVec 32 := 256#32
  let v4845 : BitVec 32 := Scalar.muli v4833 c256_i32_2770
  let c229_i32 : BitVec 32 := 229#32
  let v4846 : BitVec 32 := Scalar.addi v4845 c229_i32
  let v4847 : Index := Scalar.indexCast v4846
  ![v4847.toNat]
def k0_off924 (i : grid0.Coords) : Fin 1 → Nat :=
  let arg0 : BitVec 32 := BitVec.ofNat 32 (i 0).val
  let c1_i32_2763 : BitVec 32 := 1#32
  let v4834 : BitVec 32 := Scalar.addi arg0 c1_i32_2763
  let c2_i32_2764 : BitVec 32 := 2#32
  let c0_i32_2765 : BitVec 32 := 0#32
  let v4835 : BitVec 1 := Scalar.cmpi .eq c2_i32_2764 c0_i32_2765
  let c1_i32_2766 : BitVec 32 := 1#32
  let v4836 : BitVec 32 := Scalar.select v4835 c1_i32_2766 c2_i32_2764
  let v4837 : BitVec 32 := Scalar.remsi v4834 v4836
  let c0_i32_2768 : BitVec 32 := 0#32
  let v4839 : BitVec 1 := Scalar.cmpi .slt v4837 c0_i32_2768
  let c0_i32_2769 : BitVec 32 := 0#32
  let v4840 : BitVec 1 := Scalar.cmpi .slt v4836 c0_i32_2769
  let v4841 : BitVec 1 := Scalar.xori v4839 v4840
  let c0_i32_2767 : BitVec 32 := 0#32
  let v4838 : BitVec 1 := Scalar.cmpi .ne v4837 c0_i32_2767
  let v4842 : BitVec 1 := Scalar.andi v4841 v4838
  let v4843 : BitVec 32 := Scalar.addi v4837 v4836
  let v4844 : BitVec 32 := Scalar.select v4842 v4843 v4837
  ![v4844.toNat]
def k0_off925 (i : grid0.Coords) : Fin 3 → Nat :=
  let arg0 : BitVec 32 := BitVec.ofNat 32 (i 0).val
  let c1_i32_2763 : BitVec 32 := 1#32
  let v4834 : BitVec 32 := Scalar.addi arg0 c1_i32_2763
  let c2_i32_2764 : BitVec 32 := 2#32
  let c0_i32_2765 : BitVec 32 := 0#32
  let v4835 : BitVec 1 := Scalar.cmpi .eq c2_i32_2764 c0_i32_2765
  let c1_i32_2766 : BitVec 32 := 1#32
  let v4836 : BitVec 32 := Scalar.select v4835 c1_i32_2766 c2_i32_2764
  let v4837 : BitVec 32 := Scalar.remsi v4834 v4836
  let c0_i32_2768 : BitVec 32 := 0#32
  let v4839 : BitVec 1 := Scalar.cmpi .slt v4837 c0_i32_2768
  let c0_i32_2769 : BitVec 32 := 0#32
  let v4840 : BitVec 1 := Scalar.cmpi .slt v4836 c0_i32_2769
  let v4841 : BitVec 1 := Scalar.xori v4839 v4840
  let c0_i32_2767 : BitVec 32 := 0#32
  let v4838 : BitVec 1 := Scalar.cmpi .ne v4837 c0_i32_2767
  let v4842 : BitVec 1 := Scalar.andi v4841 v4838
  let v4843 : BitVec 32 := Scalar.addi v4837 v4836
  let v4844 : BitVec 32 := Scalar.select v4842 v4843 v4837
  let c229_i32_2771 : BitVec 32 := 229#32
  let c0_i32_2772 : BitVec 32 := 0#32
  ![v4844.toNat, 229, 0]
def k0_off926 (v4848 : BitVec 32) : Fin 2 → Nat :=
  let c0_i32_2773 : BitVec 32 := 0#32
  ![v4848.toNat, 0]

def k0_chk232 (i : grid0.Coords) (v0 : BitVec 32) (v4848 : BitVec 32) : Prop :=
  (∀ (k0_h2 : k0_cond2 i v0 = 1#1), ∀ a, (k0_off926 v4848) a + S1x4096.size a ≤ S16896x4096.size a)
theorem k0_off926_inb : ∀ (i : grid0.Coords) (v0 : BitVec 32) (v4848 : BitVec 32) (k0_hw232 : k0_chk232 i v0 v4848), ∀ (k0_h2 : k0_cond2 i v0 = 1#1), ∀ a, (k0_off926 v4848) a + S1x4096.size a ≤ S16896x4096.size a := fun i v0 v4848 k0_hw232 k0_h2 => k0_hw232 k0_h2

def k0_off927 (i : grid0.Coords) : Fin 1 → Nat :=
  let arg0 : BitVec 32 := BitVec.ofNat 32 (i 0).val
  let c1_i32_2774 : BitVec 32 := 1#32
  let v4854 : BitVec 32 := Scalar.addi arg0 c1_i32_2774
  let c256_i32_2782 : BitVec 32 := 256#32
  let v4866 : BitVec 32 := Scalar.muli v4854 c256_i32_2782
  let c230_i32 : BitVec 32 := 230#32
  let v4867 : BitVec 32 := Scalar.addi v4866 c230_i32
  let v4868 : Index := Scalar.indexCast v4867
  ![v4868.toNat]
def k0_off928 (i : grid0.Coords) : Fin 1 → Nat :=
  let arg0 : BitVec 32 := BitVec.ofNat 32 (i 0).val
  let c1_i32_2775 : BitVec 32 := 1#32
  let v4855 : BitVec 32 := Scalar.addi arg0 c1_i32_2775
  let c2_i32_2776 : BitVec 32 := 2#32
  let c0_i32_2777 : BitVec 32 := 0#32
  let v4856 : BitVec 1 := Scalar.cmpi .eq c2_i32_2776 c0_i32_2777
  let c1_i32_2778 : BitVec 32 := 1#32
  let v4857 : BitVec 32 := Scalar.select v4856 c1_i32_2778 c2_i32_2776
  let v4858 : BitVec 32 := Scalar.remsi v4855 v4857
  let c0_i32_2780 : BitVec 32 := 0#32
  let v4860 : BitVec 1 := Scalar.cmpi .slt v4858 c0_i32_2780
  let c0_i32_2781 : BitVec 32 := 0#32
  let v4861 : BitVec 1 := Scalar.cmpi .slt v4857 c0_i32_2781
  let v4862 : BitVec 1 := Scalar.xori v4860 v4861
  let c0_i32_2779 : BitVec 32 := 0#32
  let v4859 : BitVec 1 := Scalar.cmpi .ne v4858 c0_i32_2779
  let v4863 : BitVec 1 := Scalar.andi v4862 v4859
  let v4864 : BitVec 32 := Scalar.addi v4858 v4857
  let v4865 : BitVec 32 := Scalar.select v4863 v4864 v4858
  ![v4865.toNat]
def k0_off929 (i : grid0.Coords) : Fin 3 → Nat :=
  let arg0 : BitVec 32 := BitVec.ofNat 32 (i 0).val
  let c1_i32_2775 : BitVec 32 := 1#32
  let v4855 : BitVec 32 := Scalar.addi arg0 c1_i32_2775
  let c2_i32_2776 : BitVec 32 := 2#32
  let c0_i32_2777 : BitVec 32 := 0#32
  let v4856 : BitVec 1 := Scalar.cmpi .eq c2_i32_2776 c0_i32_2777
  let c1_i32_2778 : BitVec 32 := 1#32
  let v4857 : BitVec 32 := Scalar.select v4856 c1_i32_2778 c2_i32_2776
  let v4858 : BitVec 32 := Scalar.remsi v4855 v4857
  let c0_i32_2780 : BitVec 32 := 0#32
  let v4860 : BitVec 1 := Scalar.cmpi .slt v4858 c0_i32_2780
  let c0_i32_2781 : BitVec 32 := 0#32
  let v4861 : BitVec 1 := Scalar.cmpi .slt v4857 c0_i32_2781
  let v4862 : BitVec 1 := Scalar.xori v4860 v4861
  let c0_i32_2779 : BitVec 32 := 0#32
  let v4859 : BitVec 1 := Scalar.cmpi .ne v4858 c0_i32_2779
  let v4863 : BitVec 1 := Scalar.andi v4862 v4859
  let v4864 : BitVec 32 := Scalar.addi v4858 v4857
  let v4865 : BitVec 32 := Scalar.select v4863 v4864 v4858
  let c230_i32_2783 : BitVec 32 := 230#32
  let c0_i32_2784 : BitVec 32 := 0#32
  ![v4865.toNat, 230, 0]
def k0_off930 (v4869 : BitVec 32) : Fin 2 → Nat :=
  let c0_i32_2785 : BitVec 32 := 0#32
  ![v4869.toNat, 0]

def k0_chk233 (i : grid0.Coords) (v0 : BitVec 32) (v4869 : BitVec 32) : Prop :=
  (∀ (k0_h2 : k0_cond2 i v0 = 1#1), ∀ a, (k0_off930 v4869) a + S1x4096.size a ≤ S16896x4096.size a)
theorem k0_off930_inb : ∀ (i : grid0.Coords) (v0 : BitVec 32) (v4869 : BitVec 32) (k0_hw233 : k0_chk233 i v0 v4869), ∀ (k0_h2 : k0_cond2 i v0 = 1#1), ∀ a, (k0_off930 v4869) a + S1x4096.size a ≤ S16896x4096.size a := fun i v0 v4869 k0_hw233 k0_h2 => k0_hw233 k0_h2

def k0_off931 (i : grid0.Coords) : Fin 1 → Nat :=
  let arg0 : BitVec 32 := BitVec.ofNat 32 (i 0).val
  let c1_i32_2786 : BitVec 32 := 1#32
  let v4875 : BitVec 32 := Scalar.addi arg0 c1_i32_2786
  let c256_i32_2794 : BitVec 32 := 256#32
  let v4887 : BitVec 32 := Scalar.muli v4875 c256_i32_2794
  let c231_i32 : BitVec 32 := 231#32
  let v4888 : BitVec 32 := Scalar.addi v4887 c231_i32
  let v4889 : Index := Scalar.indexCast v4888
  ![v4889.toNat]
def k0_off932 (i : grid0.Coords) : Fin 1 → Nat :=
  let arg0 : BitVec 32 := BitVec.ofNat 32 (i 0).val
  let c1_i32_2787 : BitVec 32 := 1#32
  let v4876 : BitVec 32 := Scalar.addi arg0 c1_i32_2787
  let c2_i32_2788 : BitVec 32 := 2#32
  let c0_i32_2789 : BitVec 32 := 0#32
  let v4877 : BitVec 1 := Scalar.cmpi .eq c2_i32_2788 c0_i32_2789
  let c1_i32_2790 : BitVec 32 := 1#32
  let v4878 : BitVec 32 := Scalar.select v4877 c1_i32_2790 c2_i32_2788
  let v4879 : BitVec 32 := Scalar.remsi v4876 v4878
  let c0_i32_2792 : BitVec 32 := 0#32
  let v4881 : BitVec 1 := Scalar.cmpi .slt v4879 c0_i32_2792
  let c0_i32_2793 : BitVec 32 := 0#32
  let v4882 : BitVec 1 := Scalar.cmpi .slt v4878 c0_i32_2793
  let v4883 : BitVec 1 := Scalar.xori v4881 v4882
  let c0_i32_2791 : BitVec 32 := 0#32
  let v4880 : BitVec 1 := Scalar.cmpi .ne v4879 c0_i32_2791
  let v4884 : BitVec 1 := Scalar.andi v4883 v4880
  let v4885 : BitVec 32 := Scalar.addi v4879 v4878
  let v4886 : BitVec 32 := Scalar.select v4884 v4885 v4879
  ![v4886.toNat]
def k0_off933 (i : grid0.Coords) : Fin 3 → Nat :=
  let arg0 : BitVec 32 := BitVec.ofNat 32 (i 0).val
  let c1_i32_2787 : BitVec 32 := 1#32
  let v4876 : BitVec 32 := Scalar.addi arg0 c1_i32_2787
  let c2_i32_2788 : BitVec 32 := 2#32
  let c0_i32_2789 : BitVec 32 := 0#32
  let v4877 : BitVec 1 := Scalar.cmpi .eq c2_i32_2788 c0_i32_2789
  let c1_i32_2790 : BitVec 32 := 1#32
  let v4878 : BitVec 32 := Scalar.select v4877 c1_i32_2790 c2_i32_2788
  let v4879 : BitVec 32 := Scalar.remsi v4876 v4878
  let c0_i32_2792 : BitVec 32 := 0#32
  let v4881 : BitVec 1 := Scalar.cmpi .slt v4879 c0_i32_2792
  let c0_i32_2793 : BitVec 32 := 0#32
  let v4882 : BitVec 1 := Scalar.cmpi .slt v4878 c0_i32_2793
  let v4883 : BitVec 1 := Scalar.xori v4881 v4882
  let c0_i32_2791 : BitVec 32 := 0#32
  let v4880 : BitVec 1 := Scalar.cmpi .ne v4879 c0_i32_2791
  let v4884 : BitVec 1 := Scalar.andi v4883 v4880
  let v4885 : BitVec 32 := Scalar.addi v4879 v4878
  let v4886 : BitVec 32 := Scalar.select v4884 v4885 v4879
  let c231_i32_2795 : BitVec 32 := 231#32
  let c0_i32_2796 : BitVec 32 := 0#32
  ![v4886.toNat, 231, 0]
def k0_off934 (v4890 : BitVec 32) : Fin 2 → Nat :=
  let c0_i32_2797 : BitVec 32 := 0#32
  ![v4890.toNat, 0]

def k0_chk234 (i : grid0.Coords) (v0 : BitVec 32) (v4890 : BitVec 32) : Prop :=
  (∀ (k0_h2 : k0_cond2 i v0 = 1#1), ∀ a, (k0_off934 v4890) a + S1x4096.size a ≤ S16896x4096.size a)
theorem k0_off934_inb : ∀ (i : grid0.Coords) (v0 : BitVec 32) (v4890 : BitVec 32) (k0_hw234 : k0_chk234 i v0 v4890), ∀ (k0_h2 : k0_cond2 i v0 = 1#1), ∀ a, (k0_off934 v4890) a + S1x4096.size a ≤ S16896x4096.size a := fun i v0 v4890 k0_hw234 k0_h2 => k0_hw234 k0_h2

def k0_off935 (i : grid0.Coords) : Fin 1 → Nat :=
  let arg0 : BitVec 32 := BitVec.ofNat 32 (i 0).val
  let c1_i32_2798 : BitVec 32 := 1#32
  let v4896 : BitVec 32 := Scalar.addi arg0 c1_i32_2798
  let c256_i32_2806 : BitVec 32 := 256#32
  let v4908 : BitVec 32 := Scalar.muli v4896 c256_i32_2806
  let c232_i32 : BitVec 32 := 232#32
  let v4909 : BitVec 32 := Scalar.addi v4908 c232_i32
  let v4910 : Index := Scalar.indexCast v4909
  ![v4910.toNat]
def k0_off936 (i : grid0.Coords) : Fin 1 → Nat :=
  let arg0 : BitVec 32 := BitVec.ofNat 32 (i 0).val
  let c1_i32_2799 : BitVec 32 := 1#32
  let v4897 : BitVec 32 := Scalar.addi arg0 c1_i32_2799
  let c2_i32_2800 : BitVec 32 := 2#32
  let c0_i32_2801 : BitVec 32 := 0#32
  let v4898 : BitVec 1 := Scalar.cmpi .eq c2_i32_2800 c0_i32_2801
  let c1_i32_2802 : BitVec 32 := 1#32
  let v4899 : BitVec 32 := Scalar.select v4898 c1_i32_2802 c2_i32_2800
  let v4900 : BitVec 32 := Scalar.remsi v4897 v4899
  let c0_i32_2804 : BitVec 32 := 0#32
  let v4902 : BitVec 1 := Scalar.cmpi .slt v4900 c0_i32_2804
  let c0_i32_2805 : BitVec 32 := 0#32
  let v4903 : BitVec 1 := Scalar.cmpi .slt v4899 c0_i32_2805
  let v4904 : BitVec 1 := Scalar.xori v4902 v4903
  let c0_i32_2803 : BitVec 32 := 0#32
  let v4901 : BitVec 1 := Scalar.cmpi .ne v4900 c0_i32_2803
  let v4905 : BitVec 1 := Scalar.andi v4904 v4901
  let v4906 : BitVec 32 := Scalar.addi v4900 v4899
  let v4907 : BitVec 32 := Scalar.select v4905 v4906 v4900
  ![v4907.toNat]
def k0_off937 (i : grid0.Coords) : Fin 3 → Nat :=
  let arg0 : BitVec 32 := BitVec.ofNat 32 (i 0).val
  let c1_i32_2799 : BitVec 32 := 1#32
  let v4897 : BitVec 32 := Scalar.addi arg0 c1_i32_2799
  let c2_i32_2800 : BitVec 32 := 2#32
  let c0_i32_2801 : BitVec 32 := 0#32
  let v4898 : BitVec 1 := Scalar.cmpi .eq c2_i32_2800 c0_i32_2801
  let c1_i32_2802 : BitVec 32 := 1#32
  let v4899 : BitVec 32 := Scalar.select v4898 c1_i32_2802 c2_i32_2800
  let v4900 : BitVec 32 := Scalar.remsi v4897 v4899
  let c0_i32_2804 : BitVec 32 := 0#32
  let v4902 : BitVec 1 := Scalar.cmpi .slt v4900 c0_i32_2804
  let c0_i32_2805 : BitVec 32 := 0#32
  let v4903 : BitVec 1 := Scalar.cmpi .slt v4899 c0_i32_2805
  let v4904 : BitVec 1 := Scalar.xori v4902 v4903
  let c0_i32_2803 : BitVec 32 := 0#32
  let v4901 : BitVec 1 := Scalar.cmpi .ne v4900 c0_i32_2803
  let v4905 : BitVec 1 := Scalar.andi v4904 v4901
  let v4906 : BitVec 32 := Scalar.addi v4900 v4899
  let v4907 : BitVec 32 := Scalar.select v4905 v4906 v4900
  let c232_i32_2807 : BitVec 32 := 232#32
  let c0_i32_2808 : BitVec 32 := 0#32
  ![v4907.toNat, 232, 0]
def k0_off938 (v4911 : BitVec 32) : Fin 2 → Nat :=
  let c0_i32_2809 : BitVec 32 := 0#32
  ![v4911.toNat, 0]

def k0_chk235 (i : grid0.Coords) (v0 : BitVec 32) (v4911 : BitVec 32) : Prop :=
  (∀ (k0_h2 : k0_cond2 i v0 = 1#1), ∀ a, (k0_off938 v4911) a + S1x4096.size a ≤ S16896x4096.size a)
theorem k0_off938_inb : ∀ (i : grid0.Coords) (v0 : BitVec 32) (v4911 : BitVec 32) (k0_hw235 : k0_chk235 i v0 v4911), ∀ (k0_h2 : k0_cond2 i v0 = 1#1), ∀ a, (k0_off938 v4911) a + S1x4096.size a ≤ S16896x4096.size a := fun i v0 v4911 k0_hw235 k0_h2 => k0_hw235 k0_h2

def k0_off939 (i : grid0.Coords) : Fin 1 → Nat :=
  let arg0 : BitVec 32 := BitVec.ofNat 32 (i 0).val
  let c1_i32_2810 : BitVec 32 := 1#32
  let v4917 : BitVec 32 := Scalar.addi arg0 c1_i32_2810
  let c256_i32_2818 : BitVec 32 := 256#32
  let v4929 : BitVec 32 := Scalar.muli v4917 c256_i32_2818
  let c233_i32 : BitVec 32 := 233#32
  let v4930 : BitVec 32 := Scalar.addi v4929 c233_i32
  let v4931 : Index := Scalar.indexCast v4930
  ![v4931.toNat]
def k0_off940 (i : grid0.Coords) : Fin 1 → Nat :=
  let arg0 : BitVec 32 := BitVec.ofNat 32 (i 0).val
  let c1_i32_2811 : BitVec 32 := 1#32
  let v4918 : BitVec 32 := Scalar.addi arg0 c1_i32_2811
  let c2_i32_2812 : BitVec 32 := 2#32
  let c0_i32_2813 : BitVec 32 := 0#32
  let v4919 : BitVec 1 := Scalar.cmpi .eq c2_i32_2812 c0_i32_2813
  let c1_i32_2814 : BitVec 32 := 1#32
  let v4920 : BitVec 32 := Scalar.select v4919 c1_i32_2814 c2_i32_2812
  let v4921 : BitVec 32 := Scalar.remsi v4918 v4920
  let c0_i32_2816 : BitVec 32 := 0#32
  let v4923 : BitVec 1 := Scalar.cmpi .slt v4921 c0_i32_2816
  let c0_i32_2817 : BitVec 32 := 0#32
  let v4924 : BitVec 1 := Scalar.cmpi .slt v4920 c0_i32_2817
  let v4925 : BitVec 1 := Scalar.xori v4923 v4924
  let c0_i32_2815 : BitVec 32 := 0#32
  let v4922 : BitVec 1 := Scalar.cmpi .ne v4921 c0_i32_2815
  let v4926 : BitVec 1 := Scalar.andi v4925 v4922
  let v4927 : BitVec 32 := Scalar.addi v4921 v4920
  let v4928 : BitVec 32 := Scalar.select v4926 v4927 v4921
  ![v4928.toNat]
def k0_off941 (i : grid0.Coords) : Fin 3 → Nat :=
  let arg0 : BitVec 32 := BitVec.ofNat 32 (i 0).val
  let c1_i32_2811 : BitVec 32 := 1#32
  let v4918 : BitVec 32 := Scalar.addi arg0 c1_i32_2811
  let c2_i32_2812 : BitVec 32 := 2#32
  let c0_i32_2813 : BitVec 32 := 0#32
  let v4919 : BitVec 1 := Scalar.cmpi .eq c2_i32_2812 c0_i32_2813
  let c1_i32_2814 : BitVec 32 := 1#32
  let v4920 : BitVec 32 := Scalar.select v4919 c1_i32_2814 c2_i32_2812
  let v4921 : BitVec 32 := Scalar.remsi v4918 v4920
  let c0_i32_2816 : BitVec 32 := 0#32
  let v4923 : BitVec 1 := Scalar.cmpi .slt v4921 c0_i32_2816
  let c0_i32_2817 : BitVec 32 := 0#32
  let v4924 : BitVec 1 := Scalar.cmpi .slt v4920 c0_i32_2817
  let v4925 : BitVec 1 := Scalar.xori v4923 v4924
  let c0_i32_2815 : BitVec 32 := 0#32
  let v4922 : BitVec 1 := Scalar.cmpi .ne v4921 c0_i32_2815
  let v4926 : BitVec 1 := Scalar.andi v4925 v4922
  let v4927 : BitVec 32 := Scalar.addi v4921 v4920
  let v4928 : BitVec 32 := Scalar.select v4926 v4927 v4921
  let c233_i32_2819 : BitVec 32 := 233#32
  let c0_i32_2820 : BitVec 32 := 0#32
  ![v4928.toNat, 233, 0]
def k0_off942 (v4932 : BitVec 32) : Fin 2 → Nat :=
  let c0_i32_2821 : BitVec 32 := 0#32
  ![v4932.toNat, 0]

def k0_chk236 (i : grid0.Coords) (v0 : BitVec 32) (v4932 : BitVec 32) : Prop :=
  (∀ (k0_h2 : k0_cond2 i v0 = 1#1), ∀ a, (k0_off942 v4932) a + S1x4096.size a ≤ S16896x4096.size a)
theorem k0_off942_inb : ∀ (i : grid0.Coords) (v0 : BitVec 32) (v4932 : BitVec 32) (k0_hw236 : k0_chk236 i v0 v4932), ∀ (k0_h2 : k0_cond2 i v0 = 1#1), ∀ a, (k0_off942 v4932) a + S1x4096.size a ≤ S16896x4096.size a := fun i v0 v4932 k0_hw236 k0_h2 => k0_hw236 k0_h2

def k0_off943 (i : grid0.Coords) : Fin 1 → Nat :=
  let arg0 : BitVec 32 := BitVec.ofNat 32 (i 0).val
  let c1_i32_2822 : BitVec 32 := 1#32
  let v4938 : BitVec 32 := Scalar.addi arg0 c1_i32_2822
  let c256_i32_2830 : BitVec 32 := 256#32
  let v4950 : BitVec 32 := Scalar.muli v4938 c256_i32_2830
  let c234_i32 : BitVec 32 := 234#32
  let v4951 : BitVec 32 := Scalar.addi v4950 c234_i32
  let v4952 : Index := Scalar.indexCast v4951
  ![v4952.toNat]
def k0_off944 (i : grid0.Coords) : Fin 1 → Nat :=
  let arg0 : BitVec 32 := BitVec.ofNat 32 (i 0).val
  let c1_i32_2823 : BitVec 32 := 1#32
  let v4939 : BitVec 32 := Scalar.addi arg0 c1_i32_2823
  let c2_i32_2824 : BitVec 32 := 2#32
  let c0_i32_2825 : BitVec 32 := 0#32
  let v4940 : BitVec 1 := Scalar.cmpi .eq c2_i32_2824 c0_i32_2825
  let c1_i32_2826 : BitVec 32 := 1#32
  let v4941 : BitVec 32 := Scalar.select v4940 c1_i32_2826 c2_i32_2824
  let v4942 : BitVec 32 := Scalar.remsi v4939 v4941
  let c0_i32_2828 : BitVec 32 := 0#32
  let v4944 : BitVec 1 := Scalar.cmpi .slt v4942 c0_i32_2828
  let c0_i32_2829 : BitVec 32 := 0#32
  let v4945 : BitVec 1 := Scalar.cmpi .slt v4941 c0_i32_2829
  let v4946 : BitVec 1 := Scalar.xori v4944 v4945
  let c0_i32_2827 : BitVec 32 := 0#32
  let v4943 : BitVec 1 := Scalar.cmpi .ne v4942 c0_i32_2827
  let v4947 : BitVec 1 := Scalar.andi v4946 v4943
  let v4948 : BitVec 32 := Scalar.addi v4942 v4941
  let v4949 : BitVec 32 := Scalar.select v4947 v4948 v4942
  ![v4949.toNat]
def k0_off945 (i : grid0.Coords) : Fin 3 → Nat :=
  let arg0 : BitVec 32 := BitVec.ofNat 32 (i 0).val
  let c1_i32_2823 : BitVec 32 := 1#32
  let v4939 : BitVec 32 := Scalar.addi arg0 c1_i32_2823
  let c2_i32_2824 : BitVec 32 := 2#32
  let c0_i32_2825 : BitVec 32 := 0#32
  let v4940 : BitVec 1 := Scalar.cmpi .eq c2_i32_2824 c0_i32_2825
  let c1_i32_2826 : BitVec 32 := 1#32
  let v4941 : BitVec 32 := Scalar.select v4940 c1_i32_2826 c2_i32_2824
  let v4942 : BitVec 32 := Scalar.remsi v4939 v4941
  let c0_i32_2828 : BitVec 32 := 0#32
  let v4944 : BitVec 1 := Scalar.cmpi .slt v4942 c0_i32_2828
  let c0_i32_2829 : BitVec 32 := 0#32
  let v4945 : BitVec 1 := Scalar.cmpi .slt v4941 c0_i32_2829
  let v4946 : BitVec 1 := Scalar.xori v4944 v4945
  let c0_i32_2827 : BitVec 32 := 0#32
  let v4943 : BitVec 1 := Scalar.cmpi .ne v4942 c0_i32_2827
  let v4947 : BitVec 1 := Scalar.andi v4946 v4943
  let v4948 : BitVec 32 := Scalar.addi v4942 v4941
  let v4949 : BitVec 32 := Scalar.select v4947 v4948 v4942
  let c234_i32_2831 : BitVec 32 := 234#32
  let c0_i32_2832 : BitVec 32 := 0#32
  ![v4949.toNat, 234, 0]
def k0_off946 (v4953 : BitVec 32) : Fin 2 → Nat :=
  let c0_i32_2833 : BitVec 32 := 0#32
  ![v4953.toNat, 0]

def k0_chk237 (i : grid0.Coords) (v0 : BitVec 32) (v4953 : BitVec 32) : Prop :=
  (∀ (k0_h2 : k0_cond2 i v0 = 1#1), ∀ a, (k0_off946 v4953) a + S1x4096.size a ≤ S16896x4096.size a)
theorem k0_off946_inb : ∀ (i : grid0.Coords) (v0 : BitVec 32) (v4953 : BitVec 32) (k0_hw237 : k0_chk237 i v0 v4953), ∀ (k0_h2 : k0_cond2 i v0 = 1#1), ∀ a, (k0_off946 v4953) a + S1x4096.size a ≤ S16896x4096.size a := fun i v0 v4953 k0_hw237 k0_h2 => k0_hw237 k0_h2

def k0_off947 (i : grid0.Coords) : Fin 1 → Nat :=
  let arg0 : BitVec 32 := BitVec.ofNat 32 (i 0).val
  let c1_i32_2834 : BitVec 32 := 1#32
  let v4959 : BitVec 32 := Scalar.addi arg0 c1_i32_2834
  let c256_i32_2842 : BitVec 32 := 256#32
  let v4971 : BitVec 32 := Scalar.muli v4959 c256_i32_2842
  let c235_i32 : BitVec 32 := 235#32
  let v4972 : BitVec 32 := Scalar.addi v4971 c235_i32
  let v4973 : Index := Scalar.indexCast v4972
  ![v4973.toNat]
def k0_off948 (i : grid0.Coords) : Fin 1 → Nat :=
  let arg0 : BitVec 32 := BitVec.ofNat 32 (i 0).val
  let c1_i32_2835 : BitVec 32 := 1#32
  let v4960 : BitVec 32 := Scalar.addi arg0 c1_i32_2835
  let c2_i32_2836 : BitVec 32 := 2#32
  let c0_i32_2837 : BitVec 32 := 0#32
  let v4961 : BitVec 1 := Scalar.cmpi .eq c2_i32_2836 c0_i32_2837
  let c1_i32_2838 : BitVec 32 := 1#32
  let v4962 : BitVec 32 := Scalar.select v4961 c1_i32_2838 c2_i32_2836
  let v4963 : BitVec 32 := Scalar.remsi v4960 v4962
  let c0_i32_2840 : BitVec 32 := 0#32
  let v4965 : BitVec 1 := Scalar.cmpi .slt v4963 c0_i32_2840
  let c0_i32_2841 : BitVec 32 := 0#32
  let v4966 : BitVec 1 := Scalar.cmpi .slt v4962 c0_i32_2841
  let v4967 : BitVec 1 := Scalar.xori v4965 v4966
  let c0_i32_2839 : BitVec 32 := 0#32
  let v4964 : BitVec 1 := Scalar.cmpi .ne v4963 c0_i32_2839
  let v4968 : BitVec 1 := Scalar.andi v4967 v4964
  let v4969 : BitVec 32 := Scalar.addi v4963 v4962
  let v4970 : BitVec 32 := Scalar.select v4968 v4969 v4963
  ![v4970.toNat]
def k0_off949 (i : grid0.Coords) : Fin 3 → Nat :=
  let arg0 : BitVec 32 := BitVec.ofNat 32 (i 0).val
  let c1_i32_2835 : BitVec 32 := 1#32
  let v4960 : BitVec 32 := Scalar.addi arg0 c1_i32_2835
  let c2_i32_2836 : BitVec 32 := 2#32
  let c0_i32_2837 : BitVec 32 := 0#32
  let v4961 : BitVec 1 := Scalar.cmpi .eq c2_i32_2836 c0_i32_2837
  let c1_i32_2838 : BitVec 32 := 1#32
  let v4962 : BitVec 32 := Scalar.select v4961 c1_i32_2838 c2_i32_2836
  let v4963 : BitVec 32 := Scalar.remsi v4960 v4962
  let c0_i32_2840 : BitVec 32 := 0#32
  let v4965 : BitVec 1 := Scalar.cmpi .slt v4963 c0_i32_2840
  let c0_i32_2841 : BitVec 32 := 0#32
  let v4966 : BitVec 1 := Scalar.cmpi .slt v4962 c0_i32_2841
  let v4967 : BitVec 1 := Scalar.xori v4965 v4966
  let c0_i32_2839 : BitVec 32 := 0#32
  let v4964 : BitVec 1 := Scalar.cmpi .ne v4963 c0_i32_2839
  let v4968 : BitVec 1 := Scalar.andi v4967 v4964
  let v4969 : BitVec 32 := Scalar.addi v4963 v4962
  let v4970 : BitVec 32 := Scalar.select v4968 v4969 v4963
  let c235_i32_2843 : BitVec 32 := 235#32
  let c0_i32_2844 : BitVec 32 := 0#32
  ![v4970.toNat, 235, 0]
def k0_off950 (v4974 : BitVec 32) : Fin 2 → Nat :=
  let c0_i32_2845 : BitVec 32 := 0#32
  ![v4974.toNat, 0]

def k0_chk238 (i : grid0.Coords) (v0 : BitVec 32) (v4974 : BitVec 32) : Prop :=
  (∀ (k0_h2 : k0_cond2 i v0 = 1#1), ∀ a, (k0_off950 v4974) a + S1x4096.size a ≤ S16896x4096.size a)
theorem k0_off950_inb : ∀ (i : grid0.Coords) (v0 : BitVec 32) (v4974 : BitVec 32) (k0_hw238 : k0_chk238 i v0 v4974), ∀ (k0_h2 : k0_cond2 i v0 = 1#1), ∀ a, (k0_off950 v4974) a + S1x4096.size a ≤ S16896x4096.size a := fun i v0 v4974 k0_hw238 k0_h2 => k0_hw238 k0_h2

def k0_off951 (i : grid0.Coords) : Fin 1 → Nat :=
  let arg0 : BitVec 32 := BitVec.ofNat 32 (i 0).val
  let c1_i32_2846 : BitVec 32 := 1#32
  let v4980 : BitVec 32 := Scalar.addi arg0 c1_i32_2846
  let c256_i32_2854 : BitVec 32 := 256#32
  let v4992 : BitVec 32 := Scalar.muli v4980 c256_i32_2854
  let c236_i32 : BitVec 32 := 236#32
  let v4993 : BitVec 32 := Scalar.addi v4992 c236_i32
  let v4994 : Index := Scalar.indexCast v4993
  ![v4994.toNat]
def k0_off952 (i : grid0.Coords) : Fin 1 → Nat :=
  let arg0 : BitVec 32 := BitVec.ofNat 32 (i 0).val
  let c1_i32_2847 : BitVec 32 := 1#32
  let v4981 : BitVec 32 := Scalar.addi arg0 c1_i32_2847
  let c2_i32_2848 : BitVec 32 := 2#32
  let c0_i32_2849 : BitVec 32 := 0#32
  let v4982 : BitVec 1 := Scalar.cmpi .eq c2_i32_2848 c0_i32_2849
  let c1_i32_2850 : BitVec 32 := 1#32
  let v4983 : BitVec 32 := Scalar.select v4982 c1_i32_2850 c2_i32_2848
  let v4984 : BitVec 32 := Scalar.remsi v4981 v4983
  let c0_i32_2852 : BitVec 32 := 0#32
  let v4986 : BitVec 1 := Scalar.cmpi .slt v4984 c0_i32_2852
  let c0_i32_2853 : BitVec 32 := 0#32
  let v4987 : BitVec 1 := Scalar.cmpi .slt v4983 c0_i32_2853
  let v4988 : BitVec 1 := Scalar.xori v4986 v4987
  let c0_i32_2851 : BitVec 32 := 0#32
  let v4985 : BitVec 1 := Scalar.cmpi .ne v4984 c0_i32_2851
  let v4989 : BitVec 1 := Scalar.andi v4988 v4985
  let v4990 : BitVec 32 := Scalar.addi v4984 v4983
  let v4991 : BitVec 32 := Scalar.select v4989 v4990 v4984
  ![v4991.toNat]
def k0_off953 (i : grid0.Coords) : Fin 3 → Nat :=
  let arg0 : BitVec 32 := BitVec.ofNat 32 (i 0).val
  let c1_i32_2847 : BitVec 32 := 1#32
  let v4981 : BitVec 32 := Scalar.addi arg0 c1_i32_2847
  let c2_i32_2848 : BitVec 32 := 2#32
  let c0_i32_2849 : BitVec 32 := 0#32
  let v4982 : BitVec 1 := Scalar.cmpi .eq c2_i32_2848 c0_i32_2849
  let c1_i32_2850 : BitVec 32 := 1#32
  let v4983 : BitVec 32 := Scalar.select v4982 c1_i32_2850 c2_i32_2848
  let v4984 : BitVec 32 := Scalar.remsi v4981 v4983
  let c0_i32_2852 : BitVec 32 := 0#32
  let v4986 : BitVec 1 := Scalar.cmpi .slt v4984 c0_i32_2852
  let c0_i32_2853 : BitVec 32 := 0#32
  let v4987 : BitVec 1 := Scalar.cmpi .slt v4983 c0_i32_2853
  let v4988 : BitVec 1 := Scalar.xori v4986 v4987
  let c0_i32_2851 : BitVec 32 := 0#32
  let v4985 : BitVec 1 := Scalar.cmpi .ne v4984 c0_i32_2851
  let v4989 : BitVec 1 := Scalar.andi v4988 v4985
  let v4990 : BitVec 32 := Scalar.addi v4984 v4983
  let v4991 : BitVec 32 := Scalar.select v4989 v4990 v4984
  let c236_i32_2855 : BitVec 32 := 236#32
  let c0_i32_2856 : BitVec 32 := 0#32
  ![v4991.toNat, 236, 0]
def k0_off954 (v4995 : BitVec 32) : Fin 2 → Nat :=
  let c0_i32_2857 : BitVec 32 := 0#32
  ![v4995.toNat, 0]

def k0_chk239 (i : grid0.Coords) (v0 : BitVec 32) (v4995 : BitVec 32) : Prop :=
  (∀ (k0_h2 : k0_cond2 i v0 = 1#1), ∀ a, (k0_off954 v4995) a + S1x4096.size a ≤ S16896x4096.size a)
theorem k0_off954_inb : ∀ (i : grid0.Coords) (v0 : BitVec 32) (v4995 : BitVec 32) (k0_hw239 : k0_chk239 i v0 v4995), ∀ (k0_h2 : k0_cond2 i v0 = 1#1), ∀ a, (k0_off954 v4995) a + S1x4096.size a ≤ S16896x4096.size a := fun i v0 v4995 k0_hw239 k0_h2 => k0_hw239 k0_h2

def k0_off955 (i : grid0.Coords) : Fin 1 → Nat :=
  let arg0 : BitVec 32 := BitVec.ofNat 32 (i 0).val
  let c1_i32_2858 : BitVec 32 := 1#32
  let v5001 : BitVec 32 := Scalar.addi arg0 c1_i32_2858
  let c256_i32_2866 : BitVec 32 := 256#32
  let v5013 : BitVec 32 := Scalar.muli v5001 c256_i32_2866
  let c237_i32 : BitVec 32 := 237#32
  let v5014 : BitVec 32 := Scalar.addi v5013 c237_i32
  let v5015 : Index := Scalar.indexCast v5014
  ![v5015.toNat]
def k0_off956 (i : grid0.Coords) : Fin 1 → Nat :=
  let arg0 : BitVec 32 := BitVec.ofNat 32 (i 0).val
  let c1_i32_2859 : BitVec 32 := 1#32
  let v5002 : BitVec 32 := Scalar.addi arg0 c1_i32_2859
  let c2_i32_2860 : BitVec 32 := 2#32
  let c0_i32_2861 : BitVec 32 := 0#32
  let v5003 : BitVec 1 := Scalar.cmpi .eq c2_i32_2860 c0_i32_2861
  let c1_i32_2862 : BitVec 32 := 1#32
  let v5004 : BitVec 32 := Scalar.select v5003 c1_i32_2862 c2_i32_2860
  let v5005 : BitVec 32 := Scalar.remsi v5002 v5004
  let c0_i32_2864 : BitVec 32 := 0#32
  let v5007 : BitVec 1 := Scalar.cmpi .slt v5005 c0_i32_2864
  let c0_i32_2865 : BitVec 32 := 0#32
  let v5008 : BitVec 1 := Scalar.cmpi .slt v5004 c0_i32_2865
  let v5009 : BitVec 1 := Scalar.xori v5007 v5008
  let c0_i32_2863 : BitVec 32 := 0#32
  let v5006 : BitVec 1 := Scalar.cmpi .ne v5005 c0_i32_2863
  let v5010 : BitVec 1 := Scalar.andi v5009 v5006
  let v5011 : BitVec 32 := Scalar.addi v5005 v5004
  let v5012 : BitVec 32 := Scalar.select v5010 v5011 v5005
  ![v5012.toNat]
def k0_off957 (i : grid0.Coords) : Fin 3 → Nat :=
  let arg0 : BitVec 32 := BitVec.ofNat 32 (i 0).val
  let c1_i32_2859 : BitVec 32 := 1#32
  let v5002 : BitVec 32 := Scalar.addi arg0 c1_i32_2859
  let c2_i32_2860 : BitVec 32 := 2#32
  let c0_i32_2861 : BitVec 32 := 0#32
  let v5003 : BitVec 1 := Scalar.cmpi .eq c2_i32_2860 c0_i32_2861
  let c1_i32_2862 : BitVec 32 := 1#32
  let v5004 : BitVec 32 := Scalar.select v5003 c1_i32_2862 c2_i32_2860
  let v5005 : BitVec 32 := Scalar.remsi v5002 v5004
  let c0_i32_2864 : BitVec 32 := 0#32
  let v5007 : BitVec 1 := Scalar.cmpi .slt v5005 c0_i32_2864
  let c0_i32_2865 : BitVec 32 := 0#32
  let v5008 : BitVec 1 := Scalar.cmpi .slt v5004 c0_i32_2865
  let v5009 : BitVec 1 := Scalar.xori v5007 v5008
  let c0_i32_2863 : BitVec 32 := 0#32
  let v5006 : BitVec 1 := Scalar.cmpi .ne v5005 c0_i32_2863
  let v5010 : BitVec 1 := Scalar.andi v5009 v5006
  let v5011 : BitVec 32 := Scalar.addi v5005 v5004
  let v5012 : BitVec 32 := Scalar.select v5010 v5011 v5005
  let c237_i32_2867 : BitVec 32 := 237#32
  let c0_i32_2868 : BitVec 32 := 0#32
  ![v5012.toNat, 237, 0]
def k0_off958 (v5016 : BitVec 32) : Fin 2 → Nat :=
  let c0_i32_2869 : BitVec 32 := 0#32
  ![v5016.toNat, 0]

def k0_chk240 (i : grid0.Coords) (v0 : BitVec 32) (v5016 : BitVec 32) : Prop :=
  (∀ (k0_h2 : k0_cond2 i v0 = 1#1), ∀ a, (k0_off958 v5016) a + S1x4096.size a ≤ S16896x4096.size a)
theorem k0_off958_inb : ∀ (i : grid0.Coords) (v0 : BitVec 32) (v5016 : BitVec 32) (k0_hw240 : k0_chk240 i v0 v5016), ∀ (k0_h2 : k0_cond2 i v0 = 1#1), ∀ a, (k0_off958 v5016) a + S1x4096.size a ≤ S16896x4096.size a := fun i v0 v5016 k0_hw240 k0_h2 => k0_hw240 k0_h2

def k0_off959 (i : grid0.Coords) : Fin 1 → Nat :=
  let arg0 : BitVec 32 := BitVec.ofNat 32 (i 0).val
  let c1_i32_2870 : BitVec 32 := 1#32
  let v5022 : BitVec 32 := Scalar.addi arg0 c1_i32_2870
  let c256_i32_2878 : BitVec 32 := 256#32
  let v5034 : BitVec 32 := Scalar.muli v5022 c256_i32_2878
  let c238_i32 : BitVec 32 := 238#32
  let v5035 : BitVec 32 := Scalar.addi v5034 c238_i32
  let v5036 : Index := Scalar.indexCast v5035
  ![v5036.toNat]
def k0_off960 (i : grid0.Coords) : Fin 1 → Nat :=
  let arg0 : BitVec 32 := BitVec.ofNat 32 (i 0).val
  let c1_i32_2871 : BitVec 32 := 1#32
  let v5023 : BitVec 32 := Scalar.addi arg0 c1_i32_2871
  let c2_i32_2872 : BitVec 32 := 2#32
  let c0_i32_2873 : BitVec 32 := 0#32
  let v5024 : BitVec 1 := Scalar.cmpi .eq c2_i32_2872 c0_i32_2873
  let c1_i32_2874 : BitVec 32 := 1#32
  let v5025 : BitVec 32 := Scalar.select v5024 c1_i32_2874 c2_i32_2872
  let v5026 : BitVec 32 := Scalar.remsi v5023 v5025
  let c0_i32_2876 : BitVec 32 := 0#32
  let v5028 : BitVec 1 := Scalar.cmpi .slt v5026 c0_i32_2876
  let c0_i32_2877 : BitVec 32 := 0#32
  let v5029 : BitVec 1 := Scalar.cmpi .slt v5025 c0_i32_2877
  let v5030 : BitVec 1 := Scalar.xori v5028 v5029
  let c0_i32_2875 : BitVec 32 := 0#32
  let v5027 : BitVec 1 := Scalar.cmpi .ne v5026 c0_i32_2875
  let v5031 : BitVec 1 := Scalar.andi v5030 v5027
  let v5032 : BitVec 32 := Scalar.addi v5026 v5025
  let v5033 : BitVec 32 := Scalar.select v5031 v5032 v5026
  ![v5033.toNat]
def k0_off961 (i : grid0.Coords) : Fin 3 → Nat :=
  let arg0 : BitVec 32 := BitVec.ofNat 32 (i 0).val
  let c1_i32_2871 : BitVec 32 := 1#32
  let v5023 : BitVec 32 := Scalar.addi arg0 c1_i32_2871
  let c2_i32_2872 : BitVec 32 := 2#32
  let c0_i32_2873 : BitVec 32 := 0#32
  let v5024 : BitVec 1 := Scalar.cmpi .eq c2_i32_2872 c0_i32_2873
  let c1_i32_2874 : BitVec 32 := 1#32
  let v5025 : BitVec 32 := Scalar.select v5024 c1_i32_2874 c2_i32_2872
  let v5026 : BitVec 32 := Scalar.remsi v5023 v5025
  let c0_i32_2876 : BitVec 32 := 0#32
  let v5028 : BitVec 1 := Scalar.cmpi .slt v5026 c0_i32_2876
  let c0_i32_2877 : BitVec 32 := 0#32
  let v5029 : BitVec 1 := Scalar.cmpi .slt v5025 c0_i32_2877
  let v5030 : BitVec 1 := Scalar.xori v5028 v5029
  let c0_i32_2875 : BitVec 32 := 0#32
  let v5027 : BitVec 1 := Scalar.cmpi .ne v5026 c0_i32_2875
  let v5031 : BitVec 1 := Scalar.andi v5030 v5027
  let v5032 : BitVec 32 := Scalar.addi v5026 v5025
  let v5033 : BitVec 32 := Scalar.select v5031 v5032 v5026
  let c238_i32_2879 : BitVec 32 := 238#32
  let c0_i32_2880 : BitVec 32 := 0#32
  ![v5033.toNat, 238, 0]
def k0_off962 (v5037 : BitVec 32) : Fin 2 → Nat :=
  let c0_i32_2881 : BitVec 32 := 0#32
  ![v5037.toNat, 0]

def k0_chk241 (i : grid0.Coords) (v0 : BitVec 32) (v5037 : BitVec 32) : Prop :=
  (∀ (k0_h2 : k0_cond2 i v0 = 1#1), ∀ a, (k0_off962 v5037) a + S1x4096.size a ≤ S16896x4096.size a)
theorem k0_off962_inb : ∀ (i : grid0.Coords) (v0 : BitVec 32) (v5037 : BitVec 32) (k0_hw241 : k0_chk241 i v0 v5037), ∀ (k0_h2 : k0_cond2 i v0 = 1#1), ∀ a, (k0_off962 v5037) a + S1x4096.size a ≤ S16896x4096.size a := fun i v0 v5037 k0_hw241 k0_h2 => k0_hw241 k0_h2

def k0_off963 (i : grid0.Coords) : Fin 1 → Nat :=
  let arg0 : BitVec 32 := BitVec.ofNat 32 (i 0).val
  let c1_i32_2882 : BitVec 32 := 1#32
  let v5043 : BitVec 32 := Scalar.addi arg0 c1_i32_2882
  let c256_i32_2890 : BitVec 32 := 256#32
  let v5055 : BitVec 32 := Scalar.muli v5043 c256_i32_2890
  let c239_i32 : BitVec 32 := 239#32
  let v5056 : BitVec 32 := Scalar.addi v5055 c239_i32
  let v5057 : Index := Scalar.indexCast v5056
  ![v5057.toNat]
def k0_off964 (i : grid0.Coords) : Fin 1 → Nat :=
  let arg0 : BitVec 32 := BitVec.ofNat 32 (i 0).val
  let c1_i32_2883 : BitVec 32 := 1#32
  let v5044 : BitVec 32 := Scalar.addi arg0 c1_i32_2883
  let c2_i32_2884 : BitVec 32 := 2#32
  let c0_i32_2885 : BitVec 32 := 0#32
  let v5045 : BitVec 1 := Scalar.cmpi .eq c2_i32_2884 c0_i32_2885
  let c1_i32_2886 : BitVec 32 := 1#32
  let v5046 : BitVec 32 := Scalar.select v5045 c1_i32_2886 c2_i32_2884
  let v5047 : BitVec 32 := Scalar.remsi v5044 v5046
  let c0_i32_2888 : BitVec 32 := 0#32
  let v5049 : BitVec 1 := Scalar.cmpi .slt v5047 c0_i32_2888
  let c0_i32_2889 : BitVec 32 := 0#32
  let v5050 : BitVec 1 := Scalar.cmpi .slt v5046 c0_i32_2889
  let v5051 : BitVec 1 := Scalar.xori v5049 v5050
  let c0_i32_2887 : BitVec 32 := 0#32
  let v5048 : BitVec 1 := Scalar.cmpi .ne v5047 c0_i32_2887
  let v5052 : BitVec 1 := Scalar.andi v5051 v5048
  let v5053 : BitVec 32 := Scalar.addi v5047 v5046
  let v5054 : BitVec 32 := Scalar.select v5052 v5053 v5047
  ![v5054.toNat]
def k0_off965 (i : grid0.Coords) : Fin 3 → Nat :=
  let arg0 : BitVec 32 := BitVec.ofNat 32 (i 0).val
  let c1_i32_2883 : BitVec 32 := 1#32
  let v5044 : BitVec 32 := Scalar.addi arg0 c1_i32_2883
  let c2_i32_2884 : BitVec 32 := 2#32
  let c0_i32_2885 : BitVec 32 := 0#32
  let v5045 : BitVec 1 := Scalar.cmpi .eq c2_i32_2884 c0_i32_2885
  let c1_i32_2886 : BitVec 32 := 1#32
  let v5046 : BitVec 32 := Scalar.select v5045 c1_i32_2886 c2_i32_2884
  let v5047 : BitVec 32 := Scalar.remsi v5044 v5046
  let c0_i32_2888 : BitVec 32 := 0#32
  let v5049 : BitVec 1 := Scalar.cmpi .slt v5047 c0_i32_2888
  let c0_i32_2889 : BitVec 32 := 0#32
  let v5050 : BitVec 1 := Scalar.cmpi .slt v5046 c0_i32_2889
  let v5051 : BitVec 1 := Scalar.xori v5049 v5050
  let c0_i32_2887 : BitVec 32 := 0#32
  let v5048 : BitVec 1 := Scalar.cmpi .ne v5047 c0_i32_2887
  let v5052 : BitVec 1 := Scalar.andi v5051 v5048
  let v5053 : BitVec 32 := Scalar.addi v5047 v5046
  let v5054 : BitVec 32 := Scalar.select v5052 v5053 v5047
  let c239_i32_2891 : BitVec 32 := 239#32
  let c0_i32_2892 : BitVec 32 := 0#32
  ![v5054.toNat, 239, 0]
def k0_off966 (v5058 : BitVec 32) : Fin 2 → Nat :=
  let c0_i32_2893 : BitVec 32 := 0#32
  ![v5058.toNat, 0]

def k0_chk242 (i : grid0.Coords) (v0 : BitVec 32) (v5058 : BitVec 32) : Prop :=
  (∀ (k0_h2 : k0_cond2 i v0 = 1#1), ∀ a, (k0_off966 v5058) a + S1x4096.size a ≤ S16896x4096.size a)
theorem k0_off966_inb : ∀ (i : grid0.Coords) (v0 : BitVec 32) (v5058 : BitVec 32) (k0_hw242 : k0_chk242 i v0 v5058), ∀ (k0_h2 : k0_cond2 i v0 = 1#1), ∀ a, (k0_off966 v5058) a + S1x4096.size a ≤ S16896x4096.size a := fun i v0 v5058 k0_hw242 k0_h2 => k0_hw242 k0_h2

def k0_off967 (i : grid0.Coords) : Fin 1 → Nat :=
  let arg0 : BitVec 32 := BitVec.ofNat 32 (i 0).val
  let c1_i32_2894 : BitVec 32 := 1#32
  let v5064 : BitVec 32 := Scalar.addi arg0 c1_i32_2894
  let c256_i32_2902 : BitVec 32 := 256#32
  let v5076 : BitVec 32 := Scalar.muli v5064 c256_i32_2902
  let c240_i32 : BitVec 32 := 240#32
  let v5077 : BitVec 32 := Scalar.addi v5076 c240_i32
  let v5078 : Index := Scalar.indexCast v5077
  ![v5078.toNat]
def k0_off968 (i : grid0.Coords) : Fin 1 → Nat :=
  let arg0 : BitVec 32 := BitVec.ofNat 32 (i 0).val
  let c1_i32_2895 : BitVec 32 := 1#32
  let v5065 : BitVec 32 := Scalar.addi arg0 c1_i32_2895
  let c2_i32_2896 : BitVec 32 := 2#32
  let c0_i32_2897 : BitVec 32 := 0#32
  let v5066 : BitVec 1 := Scalar.cmpi .eq c2_i32_2896 c0_i32_2897
  let c1_i32_2898 : BitVec 32 := 1#32
  let v5067 : BitVec 32 := Scalar.select v5066 c1_i32_2898 c2_i32_2896
  let v5068 : BitVec 32 := Scalar.remsi v5065 v5067
  let c0_i32_2900 : BitVec 32 := 0#32
  let v5070 : BitVec 1 := Scalar.cmpi .slt v5068 c0_i32_2900
  let c0_i32_2901 : BitVec 32 := 0#32
  let v5071 : BitVec 1 := Scalar.cmpi .slt v5067 c0_i32_2901
  let v5072 : BitVec 1 := Scalar.xori v5070 v5071
  let c0_i32_2899 : BitVec 32 := 0#32
  let v5069 : BitVec 1 := Scalar.cmpi .ne v5068 c0_i32_2899
  let v5073 : BitVec 1 := Scalar.andi v5072 v5069
  let v5074 : BitVec 32 := Scalar.addi v5068 v5067
  let v5075 : BitVec 32 := Scalar.select v5073 v5074 v5068
  ![v5075.toNat]
def k0_off969 (i : grid0.Coords) : Fin 3 → Nat :=
  let arg0 : BitVec 32 := BitVec.ofNat 32 (i 0).val
  let c1_i32_2895 : BitVec 32 := 1#32
  let v5065 : BitVec 32 := Scalar.addi arg0 c1_i32_2895
  let c2_i32_2896 : BitVec 32 := 2#32
  let c0_i32_2897 : BitVec 32 := 0#32
  let v5066 : BitVec 1 := Scalar.cmpi .eq c2_i32_2896 c0_i32_2897
  let c1_i32_2898 : BitVec 32 := 1#32
  let v5067 : BitVec 32 := Scalar.select v5066 c1_i32_2898 c2_i32_2896
  let v5068 : BitVec 32 := Scalar.remsi v5065 v5067
  let c0_i32_2900 : BitVec 32 := 0#32
  let v5070 : BitVec 1 := Scalar.cmpi .slt v5068 c0_i32_2900
  let c0_i32_2901 : BitVec 32 := 0#32
  let v5071 : BitVec 1 := Scalar.cmpi .slt v5067 c0_i32_2901
  let v5072 : BitVec 1 := Scalar.xori v5070 v5071
  let c0_i32_2899 : BitVec 32 := 0#32
  let v5069 : BitVec 1 := Scalar.cmpi .ne v5068 c0_i32_2899
  let v5073 : BitVec 1 := Scalar.andi v5072 v5069
  let v5074 : BitVec 32 := Scalar.addi v5068 v5067
  let v5075 : BitVec 32 := Scalar.select v5073 v5074 v5068
  let c240_i32_2903 : BitVec 32 := 240#32
  let c0_i32_2904 : BitVec 32 := 0#32
  ![v5075.toNat, 240, 0]
def k0_off970 (v5079 : BitVec 32) : Fin 2 → Nat :=
  let c0_i32_2905 : BitVec 32 := 0#32
  ![v5079.toNat, 0]

def k0_chk243 (i : grid0.Coords) (v0 : BitVec 32) (v5079 : BitVec 32) : Prop :=
  (∀ (k0_h2 : k0_cond2 i v0 = 1#1), ∀ a, (k0_off970 v5079) a + S1x4096.size a ≤ S16896x4096.size a)
theorem k0_off970_inb : ∀ (i : grid0.Coords) (v0 : BitVec 32) (v5079 : BitVec 32) (k0_hw243 : k0_chk243 i v0 v5079), ∀ (k0_h2 : k0_cond2 i v0 = 1#1), ∀ a, (k0_off970 v5079) a + S1x4096.size a ≤ S16896x4096.size a := fun i v0 v5079 k0_hw243 k0_h2 => k0_hw243 k0_h2

def k0_off971 (i : grid0.Coords) : Fin 1 → Nat :=
  let arg0 : BitVec 32 := BitVec.ofNat 32 (i 0).val
  let c1_i32_2906 : BitVec 32 := 1#32
  let v5085 : BitVec 32 := Scalar.addi arg0 c1_i32_2906
  let c256_i32_2914 : BitVec 32 := 256#32
  let v5097 : BitVec 32 := Scalar.muli v5085 c256_i32_2914
  let c241_i32 : BitVec 32 := 241#32
  let v5098 : BitVec 32 := Scalar.addi v5097 c241_i32
  let v5099 : Index := Scalar.indexCast v5098
  ![v5099.toNat]
def k0_off972 (i : grid0.Coords) : Fin 1 → Nat :=
  let arg0 : BitVec 32 := BitVec.ofNat 32 (i 0).val
  let c1_i32_2907 : BitVec 32 := 1#32
  let v5086 : BitVec 32 := Scalar.addi arg0 c1_i32_2907
  let c2_i32_2908 : BitVec 32 := 2#32
  let c0_i32_2909 : BitVec 32 := 0#32
  let v5087 : BitVec 1 := Scalar.cmpi .eq c2_i32_2908 c0_i32_2909
  let c1_i32_2910 : BitVec 32 := 1#32
  let v5088 : BitVec 32 := Scalar.select v5087 c1_i32_2910 c2_i32_2908
  let v5089 : BitVec 32 := Scalar.remsi v5086 v5088
  let c0_i32_2912 : BitVec 32 := 0#32
  let v5091 : BitVec 1 := Scalar.cmpi .slt v5089 c0_i32_2912
  let c0_i32_2913 : BitVec 32 := 0#32
  let v5092 : BitVec 1 := Scalar.cmpi .slt v5088 c0_i32_2913
  let v5093 : BitVec 1 := Scalar.xori v5091 v5092
  let c0_i32_2911 : BitVec 32 := 0#32
  let v5090 : BitVec 1 := Scalar.cmpi .ne v5089 c0_i32_2911
  let v5094 : BitVec 1 := Scalar.andi v5093 v5090
  let v5095 : BitVec 32 := Scalar.addi v5089 v5088
  let v5096 : BitVec 32 := Scalar.select v5094 v5095 v5089
  ![v5096.toNat]
def k0_off973 (i : grid0.Coords) : Fin 3 → Nat :=
  let arg0 : BitVec 32 := BitVec.ofNat 32 (i 0).val
  let c1_i32_2907 : BitVec 32 := 1#32
  let v5086 : BitVec 32 := Scalar.addi arg0 c1_i32_2907
  let c2_i32_2908 : BitVec 32 := 2#32
  let c0_i32_2909 : BitVec 32 := 0#32
  let v5087 : BitVec 1 := Scalar.cmpi .eq c2_i32_2908 c0_i32_2909
  let c1_i32_2910 : BitVec 32 := 1#32
  let v5088 : BitVec 32 := Scalar.select v5087 c1_i32_2910 c2_i32_2908
  let v5089 : BitVec 32 := Scalar.remsi v5086 v5088
  let c0_i32_2912 : BitVec 32 := 0#32
  let v5091 : BitVec 1 := Scalar.cmpi .slt v5089 c0_i32_2912
  let c0_i32_2913 : BitVec 32 := 0#32
  let v5092 : BitVec 1 := Scalar.cmpi .slt v5088 c0_i32_2913
  let v5093 : BitVec 1 := Scalar.xori v5091 v5092
  let c0_i32_2911 : BitVec 32 := 0#32
  let v5090 : BitVec 1 := Scalar.cmpi .ne v5089 c0_i32_2911
  let v5094 : BitVec 1 := Scalar.andi v5093 v5090
  let v5095 : BitVec 32 := Scalar.addi v5089 v5088
  let v5096 : BitVec 32 := Scalar.select v5094 v5095 v5089
  let c241_i32_2915 : BitVec 32 := 241#32
  let c0_i32_2916 : BitVec 32 := 0#32
  ![v5096.toNat, 241, 0]
def k0_off974 (v5100 : BitVec 32) : Fin 2 → Nat :=
  let c0_i32_2917 : BitVec 32 := 0#32
  ![v5100.toNat, 0]

def k0_chk244 (i : grid0.Coords) (v0 : BitVec 32) (v5100 : BitVec 32) : Prop :=
  (∀ (k0_h2 : k0_cond2 i v0 = 1#1), ∀ a, (k0_off974 v5100) a + S1x4096.size a ≤ S16896x4096.size a)
theorem k0_off974_inb : ∀ (i : grid0.Coords) (v0 : BitVec 32) (v5100 : BitVec 32) (k0_hw244 : k0_chk244 i v0 v5100), ∀ (k0_h2 : k0_cond2 i v0 = 1#1), ∀ a, (k0_off974 v5100) a + S1x4096.size a ≤ S16896x4096.size a := fun i v0 v5100 k0_hw244 k0_h2 => k0_hw244 k0_h2

def k0_off975 (i : grid0.Coords) : Fin 1 → Nat :=
  let arg0 : BitVec 32 := BitVec.ofNat 32 (i 0).val
  let c1_i32_2918 : BitVec 32 := 1#32
  let v5106 : BitVec 32 := Scalar.addi arg0 c1_i32_2918
  let c256_i32_2926 : BitVec 32 := 256#32
  let v5118 : BitVec 32 := Scalar.muli v5106 c256_i32_2926
  let c242_i32 : BitVec 32 := 242#32
  let v5119 : BitVec 32 := Scalar.addi v5118 c242_i32
  let v5120 : Index := Scalar.indexCast v5119
  ![v5120.toNat]
def k0_off976 (i : grid0.Coords) : Fin 1 → Nat :=
  let arg0 : BitVec 32 := BitVec.ofNat 32 (i 0).val
  let c1_i32_2919 : BitVec 32 := 1#32
  let v5107 : BitVec 32 := Scalar.addi arg0 c1_i32_2919
  let c2_i32_2920 : BitVec 32 := 2#32
  let c0_i32_2921 : BitVec 32 := 0#32
  let v5108 : BitVec 1 := Scalar.cmpi .eq c2_i32_2920 c0_i32_2921
  let c1_i32_2922 : BitVec 32 := 1#32
  let v5109 : BitVec 32 := Scalar.select v5108 c1_i32_2922 c2_i32_2920
  let v5110 : BitVec 32 := Scalar.remsi v5107 v5109
  let c0_i32_2924 : BitVec 32 := 0#32
  let v5112 : BitVec 1 := Scalar.cmpi .slt v5110 c0_i32_2924
  let c0_i32_2925 : BitVec 32 := 0#32
  let v5113 : BitVec 1 := Scalar.cmpi .slt v5109 c0_i32_2925
  let v5114 : BitVec 1 := Scalar.xori v5112 v5113
  let c0_i32_2923 : BitVec 32 := 0#32
  let v5111 : BitVec 1 := Scalar.cmpi .ne v5110 c0_i32_2923
  let v5115 : BitVec 1 := Scalar.andi v5114 v5111
  let v5116 : BitVec 32 := Scalar.addi v5110 v5109
  let v5117 : BitVec 32 := Scalar.select v5115 v5116 v5110
  ![v5117.toNat]
def k0_off977 (i : grid0.Coords) : Fin 3 → Nat :=
  let arg0 : BitVec 32 := BitVec.ofNat 32 (i 0).val
  let c1_i32_2919 : BitVec 32 := 1#32
  let v5107 : BitVec 32 := Scalar.addi arg0 c1_i32_2919
  let c2_i32_2920 : BitVec 32 := 2#32
  let c0_i32_2921 : BitVec 32 := 0#32
  let v5108 : BitVec 1 := Scalar.cmpi .eq c2_i32_2920 c0_i32_2921
  let c1_i32_2922 : BitVec 32 := 1#32
  let v5109 : BitVec 32 := Scalar.select v5108 c1_i32_2922 c2_i32_2920
  let v5110 : BitVec 32 := Scalar.remsi v5107 v5109
  let c0_i32_2924 : BitVec 32 := 0#32
  let v5112 : BitVec 1 := Scalar.cmpi .slt v5110 c0_i32_2924
  let c0_i32_2925 : BitVec 32 := 0#32
  let v5113 : BitVec 1 := Scalar.cmpi .slt v5109 c0_i32_2925
  let v5114 : BitVec 1 := Scalar.xori v5112 v5113
  let c0_i32_2923 : BitVec 32 := 0#32
  let v5111 : BitVec 1 := Scalar.cmpi .ne v5110 c0_i32_2923
  let v5115 : BitVec 1 := Scalar.andi v5114 v5111
  let v5116 : BitVec 32 := Scalar.addi v5110 v5109
  let v5117 : BitVec 32 := Scalar.select v5115 v5116 v5110
  let c242_i32_2927 : BitVec 32 := 242#32
  let c0_i32_2928 : BitVec 32 := 0#32
  ![v5117.toNat, 242, 0]
def k0_off978 (v5121 : BitVec 32) : Fin 2 → Nat :=
  let c0_i32_2929 : BitVec 32 := 0#32
  ![v5121.toNat, 0]

def k0_chk245 (i : grid0.Coords) (v0 : BitVec 32) (v5121 : BitVec 32) : Prop :=
  (∀ (k0_h2 : k0_cond2 i v0 = 1#1), ∀ a, (k0_off978 v5121) a + S1x4096.size a ≤ S16896x4096.size a)
theorem k0_off978_inb : ∀ (i : grid0.Coords) (v0 : BitVec 32) (v5121 : BitVec 32) (k0_hw245 : k0_chk245 i v0 v5121), ∀ (k0_h2 : k0_cond2 i v0 = 1#1), ∀ a, (k0_off978 v5121) a + S1x4096.size a ≤ S16896x4096.size a := fun i v0 v5121 k0_hw245 k0_h2 => k0_hw245 k0_h2

def k0_off979 (i : grid0.Coords) : Fin 1 → Nat :=
  let arg0 : BitVec 32 := BitVec.ofNat 32 (i 0).val
  let c1_i32_2930 : BitVec 32 := 1#32
  let v5127 : BitVec 32 := Scalar.addi arg0 c1_i32_2930
  let c256_i32_2938 : BitVec 32 := 256#32
  let v5139 : BitVec 32 := Scalar.muli v5127 c256_i32_2938
  let c243_i32 : BitVec 32 := 243#32
  let v5140 : BitVec 32 := Scalar.addi v5139 c243_i32
  let v5141 : Index := Scalar.indexCast v5140
  ![v5141.toNat]
def k0_off980 (i : grid0.Coords) : Fin 1 → Nat :=
  let arg0 : BitVec 32 := BitVec.ofNat 32 (i 0).val
  let c1_i32_2931 : BitVec 32 := 1#32
  let v5128 : BitVec 32 := Scalar.addi arg0 c1_i32_2931
  let c2_i32_2932 : BitVec 32 := 2#32
  let c0_i32_2933 : BitVec 32 := 0#32
  let v5129 : BitVec 1 := Scalar.cmpi .eq c2_i32_2932 c0_i32_2933
  let c1_i32_2934 : BitVec 32 := 1#32
  let v5130 : BitVec 32 := Scalar.select v5129 c1_i32_2934 c2_i32_2932
  let v5131 : BitVec 32 := Scalar.remsi v5128 v5130
  let c0_i32_2936 : BitVec 32 := 0#32
  let v5133 : BitVec 1 := Scalar.cmpi .slt v5131 c0_i32_2936
  let c0_i32_2937 : BitVec 32 := 0#32
  let v5134 : BitVec 1 := Scalar.cmpi .slt v5130 c0_i32_2937
  let v5135 : BitVec 1 := Scalar.xori v5133 v5134
  let c0_i32_2935 : BitVec 32 := 0#32
  let v5132 : BitVec 1 := Scalar.cmpi .ne v5131 c0_i32_2935
  let v5136 : BitVec 1 := Scalar.andi v5135 v5132
  let v5137 : BitVec 32 := Scalar.addi v5131 v5130
  let v5138 : BitVec 32 := Scalar.select v5136 v5137 v5131
  ![v5138.toNat]
def k0_off981 (i : grid0.Coords) : Fin 3 → Nat :=
  let arg0 : BitVec 32 := BitVec.ofNat 32 (i 0).val
  let c1_i32_2931 : BitVec 32 := 1#32
  let v5128 : BitVec 32 := Scalar.addi arg0 c1_i32_2931
  let c2_i32_2932 : BitVec 32 := 2#32
  let c0_i32_2933 : BitVec 32 := 0#32
  let v5129 : BitVec 1 := Scalar.cmpi .eq c2_i32_2932 c0_i32_2933
  let c1_i32_2934 : BitVec 32 := 1#32
  let v5130 : BitVec 32 := Scalar.select v5129 c1_i32_2934 c2_i32_2932
  let v5131 : BitVec 32 := Scalar.remsi v5128 v5130
  let c0_i32_2936 : BitVec 32 := 0#32
  let v5133 : BitVec 1 := Scalar.cmpi .slt v5131 c0_i32_2936
  let c0_i32_2937 : BitVec 32 := 0#32
  let v5134 : BitVec 1 := Scalar.cmpi .slt v5130 c0_i32_2937
  let v5135 : BitVec 1 := Scalar.xori v5133 v5134
  let c0_i32_2935 : BitVec 32 := 0#32
  let v5132 : BitVec 1 := Scalar.cmpi .ne v5131 c0_i32_2935
  let v5136 : BitVec 1 := Scalar.andi v5135 v5132
  let v5137 : BitVec 32 := Scalar.addi v5131 v5130
  let v5138 : BitVec 32 := Scalar.select v5136 v5137 v5131
  let c243_i32_2939 : BitVec 32 := 243#32
  let c0_i32_2940 : BitVec 32 := 0#32
  ![v5138.toNat, 243, 0]
def k0_off982 (v5142 : BitVec 32) : Fin 2 → Nat :=
  let c0_i32_2941 : BitVec 32 := 0#32
  ![v5142.toNat, 0]

def k0_chk246 (i : grid0.Coords) (v0 : BitVec 32) (v5142 : BitVec 32) : Prop :=
  (∀ (k0_h2 : k0_cond2 i v0 = 1#1), ∀ a, (k0_off982 v5142) a + S1x4096.size a ≤ S16896x4096.size a)
theorem k0_off982_inb : ∀ (i : grid0.Coords) (v0 : BitVec 32) (v5142 : BitVec 32) (k0_hw246 : k0_chk246 i v0 v5142), ∀ (k0_h2 : k0_cond2 i v0 = 1#1), ∀ a, (k0_off982 v5142) a + S1x4096.size a ≤ S16896x4096.size a := fun i v0 v5142 k0_hw246 k0_h2 => k0_hw246 k0_h2

def k0_off983 (i : grid0.Coords) : Fin 1 → Nat :=
  let arg0 : BitVec 32 := BitVec.ofNat 32 (i 0).val
  let c1_i32_2942 : BitVec 32 := 1#32
  let v5148 : BitVec 32 := Scalar.addi arg0 c1_i32_2942
  let c256_i32_2950 : BitVec 32 := 256#32
  let v5160 : BitVec 32 := Scalar.muli v5148 c256_i32_2950
  let c244_i32 : BitVec 32 := 244#32
  let v5161 : BitVec 32 := Scalar.addi v5160 c244_i32
  let v5162 : Index := Scalar.indexCast v5161
  ![v5162.toNat]
def k0_off984 (i : grid0.Coords) : Fin 1 → Nat :=
  let arg0 : BitVec 32 := BitVec.ofNat 32 (i 0).val
  let c1_i32_2943 : BitVec 32 := 1#32
  let v5149 : BitVec 32 := Scalar.addi arg0 c1_i32_2943
  let c2_i32_2944 : BitVec 32 := 2#32
  let c0_i32_2945 : BitVec 32 := 0#32
  let v5150 : BitVec 1 := Scalar.cmpi .eq c2_i32_2944 c0_i32_2945
  let c1_i32_2946 : BitVec 32 := 1#32
  let v5151 : BitVec 32 := Scalar.select v5150 c1_i32_2946 c2_i32_2944
  let v5152 : BitVec 32 := Scalar.remsi v5149 v5151
  let c0_i32_2948 : BitVec 32 := 0#32
  let v5154 : BitVec 1 := Scalar.cmpi .slt v5152 c0_i32_2948
  let c0_i32_2949 : BitVec 32 := 0#32
  let v5155 : BitVec 1 := Scalar.cmpi .slt v5151 c0_i32_2949
  let v5156 : BitVec 1 := Scalar.xori v5154 v5155
  let c0_i32_2947 : BitVec 32 := 0#32
  let v5153 : BitVec 1 := Scalar.cmpi .ne v5152 c0_i32_2947
  let v5157 : BitVec 1 := Scalar.andi v5156 v5153
  let v5158 : BitVec 32 := Scalar.addi v5152 v5151
  let v5159 : BitVec 32 := Scalar.select v5157 v5158 v5152
  ![v5159.toNat]
def k0_off985 (i : grid0.Coords) : Fin 3 → Nat :=
  let arg0 : BitVec 32 := BitVec.ofNat 32 (i 0).val
  let c1_i32_2943 : BitVec 32 := 1#32
  let v5149 : BitVec 32 := Scalar.addi arg0 c1_i32_2943
  let c2_i32_2944 : BitVec 32 := 2#32
  let c0_i32_2945 : BitVec 32 := 0#32
  let v5150 : BitVec 1 := Scalar.cmpi .eq c2_i32_2944 c0_i32_2945
  let c1_i32_2946 : BitVec 32 := 1#32
  let v5151 : BitVec 32 := Scalar.select v5150 c1_i32_2946 c2_i32_2944
  let v5152 : BitVec 32 := Scalar.remsi v5149 v5151
  let c0_i32_2948 : BitVec 32 := 0#32
  let v5154 : BitVec 1 := Scalar.cmpi .slt v5152 c0_i32_2948
  let c0_i32_2949 : BitVec 32 := 0#32
  let v5155 : BitVec 1 := Scalar.cmpi .slt v5151 c0_i32_2949
  let v5156 : BitVec 1 := Scalar.xori v5154 v5155
  let c0_i32_2947 : BitVec 32 := 0#32
  let v5153 : BitVec 1 := Scalar.cmpi .ne v5152 c0_i32_2947
  let v5157 : BitVec 1 := Scalar.andi v5156 v5153
  let v5158 : BitVec 32 := Scalar.addi v5152 v5151
  let v5159 : BitVec 32 := Scalar.select v5157 v5158 v5152
  let c244_i32_2951 : BitVec 32 := 244#32
  let c0_i32_2952 : BitVec 32 := 0#32
  ![v5159.toNat, 244, 0]
def k0_off986 (v5163 : BitVec 32) : Fin 2 → Nat :=
  let c0_i32_2953 : BitVec 32 := 0#32
  ![v5163.toNat, 0]

def k0_chk247 (i : grid0.Coords) (v0 : BitVec 32) (v5163 : BitVec 32) : Prop :=
  (∀ (k0_h2 : k0_cond2 i v0 = 1#1), ∀ a, (k0_off986 v5163) a + S1x4096.size a ≤ S16896x4096.size a)
theorem k0_off986_inb : ∀ (i : grid0.Coords) (v0 : BitVec 32) (v5163 : BitVec 32) (k0_hw247 : k0_chk247 i v0 v5163), ∀ (k0_h2 : k0_cond2 i v0 = 1#1), ∀ a, (k0_off986 v5163) a + S1x4096.size a ≤ S16896x4096.size a := fun i v0 v5163 k0_hw247 k0_h2 => k0_hw247 k0_h2

def k0_off987 (i : grid0.Coords) : Fin 1 → Nat :=
  let arg0 : BitVec 32 := BitVec.ofNat 32 (i 0).val
  let c1_i32_2954 : BitVec 32 := 1#32
  let v5169 : BitVec 32 := Scalar.addi arg0 c1_i32_2954
  let c256_i32_2962 : BitVec 32 := 256#32
  let v5181 : BitVec 32 := Scalar.muli v5169 c256_i32_2962
  let c245_i32 : BitVec 32 := 245#32
  let v5182 : BitVec 32 := Scalar.addi v5181 c245_i32
  let v5183 : Index := Scalar.indexCast v5182
  ![v5183.toNat]
def k0_off988 (i : grid0.Coords) : Fin 1 → Nat :=
  let arg0 : BitVec 32 := BitVec.ofNat 32 (i 0).val
  let c1_i32_2955 : BitVec 32 := 1#32
  let v5170 : BitVec 32 := Scalar.addi arg0 c1_i32_2955
  let c2_i32_2956 : BitVec 32 := 2#32
  let c0_i32_2957 : BitVec 32 := 0#32
  let v5171 : BitVec 1 := Scalar.cmpi .eq c2_i32_2956 c0_i32_2957
  let c1_i32_2958 : BitVec 32 := 1#32
  let v5172 : BitVec 32 := Scalar.select v5171 c1_i32_2958 c2_i32_2956
  let v5173 : BitVec 32 := Scalar.remsi v5170 v5172
  let c0_i32_2960 : BitVec 32 := 0#32
  let v5175 : BitVec 1 := Scalar.cmpi .slt v5173 c0_i32_2960
  let c0_i32_2961 : BitVec 32 := 0#32
  let v5176 : BitVec 1 := Scalar.cmpi .slt v5172 c0_i32_2961
  let v5177 : BitVec 1 := Scalar.xori v5175 v5176
  let c0_i32_2959 : BitVec 32 := 0#32
  let v5174 : BitVec 1 := Scalar.cmpi .ne v5173 c0_i32_2959
  let v5178 : BitVec 1 := Scalar.andi v5177 v5174
  let v5179 : BitVec 32 := Scalar.addi v5173 v5172
  let v5180 : BitVec 32 := Scalar.select v5178 v5179 v5173
  ![v5180.toNat]
def k0_off989 (i : grid0.Coords) : Fin 3 → Nat :=
  let arg0 : BitVec 32 := BitVec.ofNat 32 (i 0).val
  let c1_i32_2955 : BitVec 32 := 1#32
  let v5170 : BitVec 32 := Scalar.addi arg0 c1_i32_2955
  let c2_i32_2956 : BitVec 32 := 2#32
  let c0_i32_2957 : BitVec 32 := 0#32
  let v5171 : BitVec 1 := Scalar.cmpi .eq c2_i32_2956 c0_i32_2957
  let c1_i32_2958 : BitVec 32 := 1#32
  let v5172 : BitVec 32 := Scalar.select v5171 c1_i32_2958 c2_i32_2956
  let v5173 : BitVec 32 := Scalar.remsi v5170 v5172
  let c0_i32_2960 : BitVec 32 := 0#32
  let v5175 : BitVec 1 := Scalar.cmpi .slt v5173 c0_i32_2960
  let c0_i32_2961 : BitVec 32 := 0#32
  let v5176 : BitVec 1 := Scalar.cmpi .slt v5172 c0_i32_2961
  let v5177 : BitVec 1 := Scalar.xori v5175 v5176
  let c0_i32_2959 : BitVec 32 := 0#32
  let v5174 : BitVec 1 := Scalar.cmpi .ne v5173 c0_i32_2959
  let v5178 : BitVec 1 := Scalar.andi v5177 v5174
  let v5179 : BitVec 32 := Scalar.addi v5173 v5172
  let v5180 : BitVec 32 := Scalar.select v5178 v5179 v5173
  let c245_i32_2963 : BitVec 32 := 245#32
  let c0_i32_2964 : BitVec 32 := 0#32
  ![v5180.toNat, 245, 0]
def k0_off990 (v5184 : BitVec 32) : Fin 2 → Nat :=
  let c0_i32_2965 : BitVec 32 := 0#32
  ![v5184.toNat, 0]

def k0_chk248 (i : grid0.Coords) (v0 : BitVec 32) (v5184 : BitVec 32) : Prop :=
  (∀ (k0_h2 : k0_cond2 i v0 = 1#1), ∀ a, (k0_off990 v5184) a + S1x4096.size a ≤ S16896x4096.size a)
theorem k0_off990_inb : ∀ (i : grid0.Coords) (v0 : BitVec 32) (v5184 : BitVec 32) (k0_hw248 : k0_chk248 i v0 v5184), ∀ (k0_h2 : k0_cond2 i v0 = 1#1), ∀ a, (k0_off990 v5184) a + S1x4096.size a ≤ S16896x4096.size a := fun i v0 v5184 k0_hw248 k0_h2 => k0_hw248 k0_h2

def k0_off991 (i : grid0.Coords) : Fin 1 → Nat :=
  let arg0 : BitVec 32 := BitVec.ofNat 32 (i 0).val
  let c1_i32_2966 : BitVec 32 := 1#32
  let v5190 : BitVec 32 := Scalar.addi arg0 c1_i32_2966
  let c256_i32_2974 : BitVec 32 := 256#32
  let v5202 : BitVec 32 := Scalar.muli v5190 c256_i32_2974
  let c246_i32 : BitVec 32 := 246#32
  let v5203 : BitVec 32 := Scalar.addi v5202 c246_i32
  let v5204 : Index := Scalar.indexCast v5203
  ![v5204.toNat]
def k0_off992 (i : grid0.Coords) : Fin 1 → Nat :=
  let arg0 : BitVec 32 := BitVec.ofNat 32 (i 0).val
  let c1_i32_2967 : BitVec 32 := 1#32
  let v5191 : BitVec 32 := Scalar.addi arg0 c1_i32_2967
  let c2_i32_2968 : BitVec 32 := 2#32
  let c0_i32_2969 : BitVec 32 := 0#32
  let v5192 : BitVec 1 := Scalar.cmpi .eq c2_i32_2968 c0_i32_2969
  let c1_i32_2970 : BitVec 32 := 1#32
  let v5193 : BitVec 32 := Scalar.select v5192 c1_i32_2970 c2_i32_2968
  let v5194 : BitVec 32 := Scalar.remsi v5191 v5193
  let c0_i32_2972 : BitVec 32 := 0#32
  let v5196 : BitVec 1 := Scalar.cmpi .slt v5194 c0_i32_2972
  let c0_i32_2973 : BitVec 32 := 0#32
  let v5197 : BitVec 1 := Scalar.cmpi .slt v5193 c0_i32_2973
  let v5198 : BitVec 1 := Scalar.xori v5196 v5197
  let c0_i32_2971 : BitVec 32 := 0#32
  let v5195 : BitVec 1 := Scalar.cmpi .ne v5194 c0_i32_2971
  let v5199 : BitVec 1 := Scalar.andi v5198 v5195
  let v5200 : BitVec 32 := Scalar.addi v5194 v5193
  let v5201 : BitVec 32 := Scalar.select v5199 v5200 v5194
  ![v5201.toNat]
def k0_off993 (i : grid0.Coords) : Fin 3 → Nat :=
  let arg0 : BitVec 32 := BitVec.ofNat 32 (i 0).val
  let c1_i32_2967 : BitVec 32 := 1#32
  let v5191 : BitVec 32 := Scalar.addi arg0 c1_i32_2967
  let c2_i32_2968 : BitVec 32 := 2#32
  let c0_i32_2969 : BitVec 32 := 0#32
  let v5192 : BitVec 1 := Scalar.cmpi .eq c2_i32_2968 c0_i32_2969
  let c1_i32_2970 : BitVec 32 := 1#32
  let v5193 : BitVec 32 := Scalar.select v5192 c1_i32_2970 c2_i32_2968
  let v5194 : BitVec 32 := Scalar.remsi v5191 v5193
  let c0_i32_2972 : BitVec 32 := 0#32
  let v5196 : BitVec 1 := Scalar.cmpi .slt v5194 c0_i32_2972
  let c0_i32_2973 : BitVec 32 := 0#32
  let v5197 : BitVec 1 := Scalar.cmpi .slt v5193 c0_i32_2973
  let v5198 : BitVec 1 := Scalar.xori v5196 v5197
  let c0_i32_2971 : BitVec 32 := 0#32
  let v5195 : BitVec 1 := Scalar.cmpi .ne v5194 c0_i32_2971
  let v5199 : BitVec 1 := Scalar.andi v5198 v5195
  let v5200 : BitVec 32 := Scalar.addi v5194 v5193
  let v5201 : BitVec 32 := Scalar.select v5199 v5200 v5194
  let c246_i32_2975 : BitVec 32 := 246#32
  let c0_i32_2976 : BitVec 32 := 0#32
  ![v5201.toNat, 246, 0]
def k0_off994 (v5205 : BitVec 32) : Fin 2 → Nat :=
  let c0_i32_2977 : BitVec 32 := 0#32
  ![v5205.toNat, 0]

def k0_chk249 (i : grid0.Coords) (v0 : BitVec 32) (v5205 : BitVec 32) : Prop :=
  (∀ (k0_h2 : k0_cond2 i v0 = 1#1), ∀ a, (k0_off994 v5205) a + S1x4096.size a ≤ S16896x4096.size a)
theorem k0_off994_inb : ∀ (i : grid0.Coords) (v0 : BitVec 32) (v5205 : BitVec 32) (k0_hw249 : k0_chk249 i v0 v5205), ∀ (k0_h2 : k0_cond2 i v0 = 1#1), ∀ a, (k0_off994 v5205) a + S1x4096.size a ≤ S16896x4096.size a := fun i v0 v5205 k0_hw249 k0_h2 => k0_hw249 k0_h2

def k0_off995 (i : grid0.Coords) : Fin 1 → Nat :=
  let arg0 : BitVec 32 := BitVec.ofNat 32 (i 0).val
  let c1_i32_2978 : BitVec 32 := 1#32
  let v5211 : BitVec 32 := Scalar.addi arg0 c1_i32_2978
  let c256_i32_2986 : BitVec 32 := 256#32
  let v5223 : BitVec 32 := Scalar.muli v5211 c256_i32_2986
  let c247_i32 : BitVec 32 := 247#32
  let v5224 : BitVec 32 := Scalar.addi v5223 c247_i32
  let v5225 : Index := Scalar.indexCast v5224
  ![v5225.toNat]
def k0_off996 (i : grid0.Coords) : Fin 1 → Nat :=
  let arg0 : BitVec 32 := BitVec.ofNat 32 (i 0).val
  let c1_i32_2979 : BitVec 32 := 1#32
  let v5212 : BitVec 32 := Scalar.addi arg0 c1_i32_2979
  let c2_i32_2980 : BitVec 32 := 2#32
  let c0_i32_2981 : BitVec 32 := 0#32
  let v5213 : BitVec 1 := Scalar.cmpi .eq c2_i32_2980 c0_i32_2981
  let c1_i32_2982 : BitVec 32 := 1#32
  let v5214 : BitVec 32 := Scalar.select v5213 c1_i32_2982 c2_i32_2980
  let v5215 : BitVec 32 := Scalar.remsi v5212 v5214
  let c0_i32_2984 : BitVec 32 := 0#32
  let v5217 : BitVec 1 := Scalar.cmpi .slt v5215 c0_i32_2984
  let c0_i32_2985 : BitVec 32 := 0#32
  let v5218 : BitVec 1 := Scalar.cmpi .slt v5214 c0_i32_2985
  let v5219 : BitVec 1 := Scalar.xori v5217 v5218
  let c0_i32_2983 : BitVec 32 := 0#32
  let v5216 : BitVec 1 := Scalar.cmpi .ne v5215 c0_i32_2983
  let v5220 : BitVec 1 := Scalar.andi v5219 v5216
  let v5221 : BitVec 32 := Scalar.addi v5215 v5214
  let v5222 : BitVec 32 := Scalar.select v5220 v5221 v5215
  ![v5222.toNat]
def k0_off997 (i : grid0.Coords) : Fin 3 → Nat :=
  let arg0 : BitVec 32 := BitVec.ofNat 32 (i 0).val
  let c1_i32_2979 : BitVec 32 := 1#32
  let v5212 : BitVec 32 := Scalar.addi arg0 c1_i32_2979
  let c2_i32_2980 : BitVec 32 := 2#32
  let c0_i32_2981 : BitVec 32 := 0#32
  let v5213 : BitVec 1 := Scalar.cmpi .eq c2_i32_2980 c0_i32_2981
  let c1_i32_2982 : BitVec 32 := 1#32
  let v5214 : BitVec 32 := Scalar.select v5213 c1_i32_2982 c2_i32_2980
  let v5215 : BitVec 32 := Scalar.remsi v5212 v5214
  let c0_i32_2984 : BitVec 32 := 0#32
  let v5217 : BitVec 1 := Scalar.cmpi .slt v5215 c0_i32_2984
  let c0_i32_2985 : BitVec 32 := 0#32
  let v5218 : BitVec 1 := Scalar.cmpi .slt v5214 c0_i32_2985
  let v5219 : BitVec 1 := Scalar.xori v5217 v5218
  let c0_i32_2983 : BitVec 32 := 0#32
  let v5216 : BitVec 1 := Scalar.cmpi .ne v5215 c0_i32_2983
  let v5220 : BitVec 1 := Scalar.andi v5219 v5216
  let v5221 : BitVec 32 := Scalar.addi v5215 v5214
  let v5222 : BitVec 32 := Scalar.select v5220 v5221 v5215
  let c247_i32_2987 : BitVec 32 := 247#32
  let c0_i32_2988 : BitVec 32 := 0#32
  ![v5222.toNat, 247, 0]
def k0_off998 (v5226 : BitVec 32) : Fin 2 → Nat :=
  let c0_i32_2989 : BitVec 32 := 0#32
  ![v5226.toNat, 0]

def k0_chk250 (i : grid0.Coords) (v0 : BitVec 32) (v5226 : BitVec 32) : Prop :=
  (∀ (k0_h2 : k0_cond2 i v0 = 1#1), ∀ a, (k0_off998 v5226) a + S1x4096.size a ≤ S16896x4096.size a)
theorem k0_off998_inb : ∀ (i : grid0.Coords) (v0 : BitVec 32) (v5226 : BitVec 32) (k0_hw250 : k0_chk250 i v0 v5226), ∀ (k0_h2 : k0_cond2 i v0 = 1#1), ∀ a, (k0_off998 v5226) a + S1x4096.size a ≤ S16896x4096.size a := fun i v0 v5226 k0_hw250 k0_h2 => k0_hw250 k0_h2

def k0_off999 (i : grid0.Coords) : Fin 1 → Nat :=
  let arg0 : BitVec 32 := BitVec.ofNat 32 (i 0).val
  let c1_i32_2990 : BitVec 32 := 1#32
  let v5232 : BitVec 32 := Scalar.addi arg0 c1_i32_2990
  let c256_i32_2998 : BitVec 32 := 256#32
  let v5244 : BitVec 32 := Scalar.muli v5232 c256_i32_2998
  let c248_i32 : BitVec 32 := 248#32
  let v5245 : BitVec 32 := Scalar.addi v5244 c248_i32
  let v5246 : Index := Scalar.indexCast v5245
  ![v5246.toNat]
def k0_off1000 (i : grid0.Coords) : Fin 1 → Nat :=
  let arg0 : BitVec 32 := BitVec.ofNat 32 (i 0).val
  let c1_i32_2991 : BitVec 32 := 1#32
  let v5233 : BitVec 32 := Scalar.addi arg0 c1_i32_2991
  let c2_i32_2992 : BitVec 32 := 2#32
  let c0_i32_2993 : BitVec 32 := 0#32
  let v5234 : BitVec 1 := Scalar.cmpi .eq c2_i32_2992 c0_i32_2993
  let c1_i32_2994 : BitVec 32 := 1#32
  let v5235 : BitVec 32 := Scalar.select v5234 c1_i32_2994 c2_i32_2992
  let v5236 : BitVec 32 := Scalar.remsi v5233 v5235
  let c0_i32_2996 : BitVec 32 := 0#32
  let v5238 : BitVec 1 := Scalar.cmpi .slt v5236 c0_i32_2996
  let c0_i32_2997 : BitVec 32 := 0#32
  let v5239 : BitVec 1 := Scalar.cmpi .slt v5235 c0_i32_2997
  let v5240 : BitVec 1 := Scalar.xori v5238 v5239
  let c0_i32_2995 : BitVec 32 := 0#32
  let v5237 : BitVec 1 := Scalar.cmpi .ne v5236 c0_i32_2995
  let v5241 : BitVec 1 := Scalar.andi v5240 v5237
  let v5242 : BitVec 32 := Scalar.addi v5236 v5235
  let v5243 : BitVec 32 := Scalar.select v5241 v5242 v5236
  ![v5243.toNat]
def k0_off1001 (i : grid0.Coords) : Fin 3 → Nat :=
  let arg0 : BitVec 32 := BitVec.ofNat 32 (i 0).val
  let c1_i32_2991 : BitVec 32 := 1#32
  let v5233 : BitVec 32 := Scalar.addi arg0 c1_i32_2991
  let c2_i32_2992 : BitVec 32 := 2#32
  let c0_i32_2993 : BitVec 32 := 0#32
  let v5234 : BitVec 1 := Scalar.cmpi .eq c2_i32_2992 c0_i32_2993
  let c1_i32_2994 : BitVec 32 := 1#32
  let v5235 : BitVec 32 := Scalar.select v5234 c1_i32_2994 c2_i32_2992
  let v5236 : BitVec 32 := Scalar.remsi v5233 v5235
  let c0_i32_2996 : BitVec 32 := 0#32
  let v5238 : BitVec 1 := Scalar.cmpi .slt v5236 c0_i32_2996
  let c0_i32_2997 : BitVec 32 := 0#32
  let v5239 : BitVec 1 := Scalar.cmpi .slt v5235 c0_i32_2997
  let v5240 : BitVec 1 := Scalar.xori v5238 v5239
  let c0_i32_2995 : BitVec 32 := 0#32
  let v5237 : BitVec 1 := Scalar.cmpi .ne v5236 c0_i32_2995
  let v5241 : BitVec 1 := Scalar.andi v5240 v5237
  let v5242 : BitVec 32 := Scalar.addi v5236 v5235
  let v5243 : BitVec 32 := Scalar.select v5241 v5242 v5236
  let c248_i32_2999 : BitVec 32 := 248#32
  let c0_i32_3000 : BitVec 32 := 0#32
  ![v5243.toNat, 248, 0]
def k0_off1002 (v5247 : BitVec 32) : Fin 2 → Nat :=
  let c0_i32_3001 : BitVec 32 := 0#32
  ![v5247.toNat, 0]

def k0_chk251 (i : grid0.Coords) (v0 : BitVec 32) (v5247 : BitVec 32) : Prop :=
  (∀ (k0_h2 : k0_cond2 i v0 = 1#1), ∀ a, (k0_off1002 v5247) a + S1x4096.size a ≤ S16896x4096.size a)
theorem k0_off1002_inb : ∀ (i : grid0.Coords) (v0 : BitVec 32) (v5247 : BitVec 32) (k0_hw251 : k0_chk251 i v0 v5247), ∀ (k0_h2 : k0_cond2 i v0 = 1#1), ∀ a, (k0_off1002 v5247) a + S1x4096.size a ≤ S16896x4096.size a := fun i v0 v5247 k0_hw251 k0_h2 => k0_hw251 k0_h2

def k0_off1003 (i : grid0.Coords) : Fin 1 → Nat :=
  let arg0 : BitVec 32 := BitVec.ofNat 32 (i 0).val
  let c1_i32_3002 : BitVec 32 := 1#32
  let v5253 : BitVec 32 := Scalar.addi arg0 c1_i32_3002
  let c256_i32_3010 : BitVec 32 := 256#32
  let v5265 : BitVec 32 := Scalar.muli v5253 c256_i32_3010
  let c249_i32 : BitVec 32 := 249#32
  let v5266 : BitVec 32 := Scalar.addi v5265 c249_i32
  let v5267 : Index := Scalar.indexCast v5266
  ![v5267.toNat]
def k0_off1004 (i : grid0.Coords) : Fin 1 → Nat :=
  let arg0 : BitVec 32 := BitVec.ofNat 32 (i 0).val
  let c1_i32_3003 : BitVec 32 := 1#32
  let v5254 : BitVec 32 := Scalar.addi arg0 c1_i32_3003
  let c2_i32_3004 : BitVec 32 := 2#32
  let c0_i32_3005 : BitVec 32 := 0#32
  let v5255 : BitVec 1 := Scalar.cmpi .eq c2_i32_3004 c0_i32_3005
  let c1_i32_3006 : BitVec 32 := 1#32
  let v5256 : BitVec 32 := Scalar.select v5255 c1_i32_3006 c2_i32_3004
  let v5257 : BitVec 32 := Scalar.remsi v5254 v5256
  let c0_i32_3008 : BitVec 32 := 0#32
  let v5259 : BitVec 1 := Scalar.cmpi .slt v5257 c0_i32_3008
  let c0_i32_3009 : BitVec 32 := 0#32
  let v5260 : BitVec 1 := Scalar.cmpi .slt v5256 c0_i32_3009
  let v5261 : BitVec 1 := Scalar.xori v5259 v5260
  let c0_i32_3007 : BitVec 32 := 0#32
  let v5258 : BitVec 1 := Scalar.cmpi .ne v5257 c0_i32_3007
  let v5262 : BitVec 1 := Scalar.andi v5261 v5258
  let v5263 : BitVec 32 := Scalar.addi v5257 v5256
  let v5264 : BitVec 32 := Scalar.select v5262 v5263 v5257
  ![v5264.toNat]
def k0_off1005 (i : grid0.Coords) : Fin 3 → Nat :=
  let arg0 : BitVec 32 := BitVec.ofNat 32 (i 0).val
  let c1_i32_3003 : BitVec 32 := 1#32
  let v5254 : BitVec 32 := Scalar.addi arg0 c1_i32_3003
  let c2_i32_3004 : BitVec 32 := 2#32
  let c0_i32_3005 : BitVec 32 := 0#32
  let v5255 : BitVec 1 := Scalar.cmpi .eq c2_i32_3004 c0_i32_3005
  let c1_i32_3006 : BitVec 32 := 1#32
  let v5256 : BitVec 32 := Scalar.select v5255 c1_i32_3006 c2_i32_3004
  let v5257 : BitVec 32 := Scalar.remsi v5254 v5256
  let c0_i32_3008 : BitVec 32 := 0#32
  let v5259 : BitVec 1 := Scalar.cmpi .slt v5257 c0_i32_3008
  let c0_i32_3009 : BitVec 32 := 0#32
  let v5260 : BitVec 1 := Scalar.cmpi .slt v5256 c0_i32_3009
  let v5261 : BitVec 1 := Scalar.xori v5259 v5260
  let c0_i32_3007 : BitVec 32 := 0#32
  let v5258 : BitVec 1 := Scalar.cmpi .ne v5257 c0_i32_3007
  let v5262 : BitVec 1 := Scalar.andi v5261 v5258
  let v5263 : BitVec 32 := Scalar.addi v5257 v5256
  let v5264 : BitVec 32 := Scalar.select v5262 v5263 v5257
  let c249_i32_3011 : BitVec 32 := 249#32
  let c0_i32_3012 : BitVec 32 := 0#32
  ![v5264.toNat, 249, 0]
def k0_off1006 (v5268 : BitVec 32) : Fin 2 → Nat :=
  let c0_i32_3013 : BitVec 32 := 0#32
  ![v5268.toNat, 0]

def k0_chk252 (i : grid0.Coords) (v0 : BitVec 32) (v5268 : BitVec 32) : Prop :=
  (∀ (k0_h2 : k0_cond2 i v0 = 1#1), ∀ a, (k0_off1006 v5268) a + S1x4096.size a ≤ S16896x4096.size a)
theorem k0_off1006_inb : ∀ (i : grid0.Coords) (v0 : BitVec 32) (v5268 : BitVec 32) (k0_hw252 : k0_chk252 i v0 v5268), ∀ (k0_h2 : k0_cond2 i v0 = 1#1), ∀ a, (k0_off1006 v5268) a + S1x4096.size a ≤ S16896x4096.size a := fun i v0 v5268 k0_hw252 k0_h2 => k0_hw252 k0_h2

def k0_off1007 (i : grid0.Coords) : Fin 1 → Nat :=
  let arg0 : BitVec 32 := BitVec.ofNat 32 (i 0).val
  let c1_i32_3014 : BitVec 32 := 1#32
  let v5274 : BitVec 32 := Scalar.addi arg0 c1_i32_3014
  let c256_i32_3022 : BitVec 32 := 256#32
  let v5286 : BitVec 32 := Scalar.muli v5274 c256_i32_3022
  let c250_i32 : BitVec 32 := 250#32
  let v5287 : BitVec 32 := Scalar.addi v5286 c250_i32
  let v5288 : Index := Scalar.indexCast v5287
  ![v5288.toNat]
def k0_off1008 (i : grid0.Coords) : Fin 1 → Nat :=
  let arg0 : BitVec 32 := BitVec.ofNat 32 (i 0).val
  let c1_i32_3015 : BitVec 32 := 1#32
  let v5275 : BitVec 32 := Scalar.addi arg0 c1_i32_3015
  let c2_i32_3016 : BitVec 32 := 2#32
  let c0_i32_3017 : BitVec 32 := 0#32
  let v5276 : BitVec 1 := Scalar.cmpi .eq c2_i32_3016 c0_i32_3017
  let c1_i32_3018 : BitVec 32 := 1#32
  let v5277 : BitVec 32 := Scalar.select v5276 c1_i32_3018 c2_i32_3016
  let v5278 : BitVec 32 := Scalar.remsi v5275 v5277
  let c0_i32_3020 : BitVec 32 := 0#32
  let v5280 : BitVec 1 := Scalar.cmpi .slt v5278 c0_i32_3020
  let c0_i32_3021 : BitVec 32 := 0#32
  let v5281 : BitVec 1 := Scalar.cmpi .slt v5277 c0_i32_3021
  let v5282 : BitVec 1 := Scalar.xori v5280 v5281
  let c0_i32_3019 : BitVec 32 := 0#32
  let v5279 : BitVec 1 := Scalar.cmpi .ne v5278 c0_i32_3019
  let v5283 : BitVec 1 := Scalar.andi v5282 v5279
  let v5284 : BitVec 32 := Scalar.addi v5278 v5277
  let v5285 : BitVec 32 := Scalar.select v5283 v5284 v5278
  ![v5285.toNat]
def k0_off1009 (i : grid0.Coords) : Fin 3 → Nat :=
  let arg0 : BitVec 32 := BitVec.ofNat 32 (i 0).val
  let c1_i32_3015 : BitVec 32 := 1#32
  let v5275 : BitVec 32 := Scalar.addi arg0 c1_i32_3015
  let c2_i32_3016 : BitVec 32 := 2#32
  let c0_i32_3017 : BitVec 32 := 0#32
  let v5276 : BitVec 1 := Scalar.cmpi .eq c2_i32_3016 c0_i32_3017
  let c1_i32_3018 : BitVec 32 := 1#32
  let v5277 : BitVec 32 := Scalar.select v5276 c1_i32_3018 c2_i32_3016
  let v5278 : BitVec 32 := Scalar.remsi v5275 v5277
  let c0_i32_3020 : BitVec 32 := 0#32
  let v5280 : BitVec 1 := Scalar.cmpi .slt v5278 c0_i32_3020
  let c0_i32_3021 : BitVec 32 := 0#32
  let v5281 : BitVec 1 := Scalar.cmpi .slt v5277 c0_i32_3021
  let v5282 : BitVec 1 := Scalar.xori v5280 v5281
  let c0_i32_3019 : BitVec 32 := 0#32
  let v5279 : BitVec 1 := Scalar.cmpi .ne v5278 c0_i32_3019
  let v5283 : BitVec 1 := Scalar.andi v5282 v5279
  let v5284 : BitVec 32 := Scalar.addi v5278 v5277
  let v5285 : BitVec 32 := Scalar.select v5283 v5284 v5278
  let c250_i32_3023 : BitVec 32 := 250#32
  let c0_i32_3024 : BitVec 32 := 0#32
  ![v5285.toNat, 250, 0]
def k0_off1010 (v5289 : BitVec 32) : Fin 2 → Nat :=
  let c0_i32_3025 : BitVec 32 := 0#32
  ![v5289.toNat, 0]

def k0_chk253 (i : grid0.Coords) (v0 : BitVec 32) (v5289 : BitVec 32) : Prop :=
  (∀ (k0_h2 : k0_cond2 i v0 = 1#1), ∀ a, (k0_off1010 v5289) a + S1x4096.size a ≤ S16896x4096.size a)
theorem k0_off1010_inb : ∀ (i : grid0.Coords) (v0 : BitVec 32) (v5289 : BitVec 32) (k0_hw253 : k0_chk253 i v0 v5289), ∀ (k0_h2 : k0_cond2 i v0 = 1#1), ∀ a, (k0_off1010 v5289) a + S1x4096.size a ≤ S16896x4096.size a := fun i v0 v5289 k0_hw253 k0_h2 => k0_hw253 k0_h2

def k0_off1011 (i : grid0.Coords) : Fin 1 → Nat :=
  let arg0 : BitVec 32 := BitVec.ofNat 32 (i 0).val
  let c1_i32_3026 : BitVec 32 := 1#32
  let v5295 : BitVec 32 := Scalar.addi arg0 c1_i32_3026
  let c256_i32_3034 : BitVec 32 := 256#32
  let v5307 : BitVec 32 := Scalar.muli v5295 c256_i32_3034
  let c251_i32 : BitVec 32 := 251#32
  let v5308 : BitVec 32 := Scalar.addi v5307 c251_i32
  let v5309 : Index := Scalar.indexCast v5308
  ![v5309.toNat]
def k0_off1012 (i : grid0.Coords) : Fin 1 → Nat :=
  let arg0 : BitVec 32 := BitVec.ofNat 32 (i 0).val
  let c1_i32_3027 : BitVec 32 := 1#32
  let v5296 : BitVec 32 := Scalar.addi arg0 c1_i32_3027
  let c2_i32_3028 : BitVec 32 := 2#32
  let c0_i32_3029 : BitVec 32 := 0#32
  let v5297 : BitVec 1 := Scalar.cmpi .eq c2_i32_3028 c0_i32_3029
  let c1_i32_3030 : BitVec 32 := 1#32
  let v5298 : BitVec 32 := Scalar.select v5297 c1_i32_3030 c2_i32_3028
  let v5299 : BitVec 32 := Scalar.remsi v5296 v5298
  let c0_i32_3032 : BitVec 32 := 0#32
  let v5301 : BitVec 1 := Scalar.cmpi .slt v5299 c0_i32_3032
  let c0_i32_3033 : BitVec 32 := 0#32
  let v5302 : BitVec 1 := Scalar.cmpi .slt v5298 c0_i32_3033
  let v5303 : BitVec 1 := Scalar.xori v5301 v5302
  let c0_i32_3031 : BitVec 32 := 0#32
  let v5300 : BitVec 1 := Scalar.cmpi .ne v5299 c0_i32_3031
  let v5304 : BitVec 1 := Scalar.andi v5303 v5300
  let v5305 : BitVec 32 := Scalar.addi v5299 v5298
  let v5306 : BitVec 32 := Scalar.select v5304 v5305 v5299
  ![v5306.toNat]
def k0_off1013 (i : grid0.Coords) : Fin 3 → Nat :=
  let arg0 : BitVec 32 := BitVec.ofNat 32 (i 0).val
  let c1_i32_3027 : BitVec 32 := 1#32
  let v5296 : BitVec 32 := Scalar.addi arg0 c1_i32_3027
  let c2_i32_3028 : BitVec 32 := 2#32
  let c0_i32_3029 : BitVec 32 := 0#32
  let v5297 : BitVec 1 := Scalar.cmpi .eq c2_i32_3028 c0_i32_3029
  let c1_i32_3030 : BitVec 32 := 1#32
  let v5298 : BitVec 32 := Scalar.select v5297 c1_i32_3030 c2_i32_3028
  let v5299 : BitVec 32 := Scalar.remsi v5296 v5298
  let c0_i32_3032 : BitVec 32 := 0#32
  let v5301 : BitVec 1 := Scalar.cmpi .slt v5299 c0_i32_3032
  let c0_i32_3033 : BitVec 32 := 0#32
  let v5302 : BitVec 1 := Scalar.cmpi .slt v5298 c0_i32_3033
  let v5303 : BitVec 1 := Scalar.xori v5301 v5302
  let c0_i32_3031 : BitVec 32 := 0#32
  let v5300 : BitVec 1 := Scalar.cmpi .ne v5299 c0_i32_3031
  let v5304 : BitVec 1 := Scalar.andi v5303 v5300
  let v5305 : BitVec 32 := Scalar.addi v5299 v5298
  let v5306 : BitVec 32 := Scalar.select v5304 v5305 v5299
  let c251_i32_3035 : BitVec 32 := 251#32
  let c0_i32_3036 : BitVec 32 := 0#32
  ![v5306.toNat, 251, 0]
def k0_off1014 (v5310 : BitVec 32) : Fin 2 → Nat :=
  let c0_i32_3037 : BitVec 32 := 0#32
  ![v5310.toNat, 0]

def k0_chk254 (i : grid0.Coords) (v0 : BitVec 32) (v5310 : BitVec 32) : Prop :=
  (∀ (k0_h2 : k0_cond2 i v0 = 1#1), ∀ a, (k0_off1014 v5310) a + S1x4096.size a ≤ S16896x4096.size a)
theorem k0_off1014_inb : ∀ (i : grid0.Coords) (v0 : BitVec 32) (v5310 : BitVec 32) (k0_hw254 : k0_chk254 i v0 v5310), ∀ (k0_h2 : k0_cond2 i v0 = 1#1), ∀ a, (k0_off1014 v5310) a + S1x4096.size a ≤ S16896x4096.size a := fun i v0 v5310 k0_hw254 k0_h2 => k0_hw254 k0_h2

def k0_off1015 (i : grid0.Coords) : Fin 1 → Nat :=
  let arg0 : BitVec 32 := BitVec.ofNat 32 (i 0).val
  let c1_i32_3038 : BitVec 32 := 1#32
  let v5316 : BitVec 32 := Scalar.addi arg0 c1_i32_3038
  let c256_i32_3046 : BitVec 32 := 256#32
  let v5328 : BitVec 32 := Scalar.muli v5316 c256_i32_3046
  let c252_i32 : BitVec 32 := 252#32
  let v5329 : BitVec 32 := Scalar.addi v5328 c252_i32
  let v5330 : Index := Scalar.indexCast v5329
  ![v5330.toNat]
def k0_off1016 (i : grid0.Coords) : Fin 1 → Nat :=
  let arg0 : BitVec 32 := BitVec.ofNat 32 (i 0).val
  let c1_i32_3039 : BitVec 32 := 1#32
  let v5317 : BitVec 32 := Scalar.addi arg0 c1_i32_3039
  let c2_i32_3040 : BitVec 32 := 2#32
  let c0_i32_3041 : BitVec 32 := 0#32
  let v5318 : BitVec 1 := Scalar.cmpi .eq c2_i32_3040 c0_i32_3041
  let c1_i32_3042 : BitVec 32 := 1#32
  let v5319 : BitVec 32 := Scalar.select v5318 c1_i32_3042 c2_i32_3040
  let v5320 : BitVec 32 := Scalar.remsi v5317 v5319
  let c0_i32_3044 : BitVec 32 := 0#32
  let v5322 : BitVec 1 := Scalar.cmpi .slt v5320 c0_i32_3044
  let c0_i32_3045 : BitVec 32 := 0#32
  let v5323 : BitVec 1 := Scalar.cmpi .slt v5319 c0_i32_3045
  let v5324 : BitVec 1 := Scalar.xori v5322 v5323
  let c0_i32_3043 : BitVec 32 := 0#32
  let v5321 : BitVec 1 := Scalar.cmpi .ne v5320 c0_i32_3043
  let v5325 : BitVec 1 := Scalar.andi v5324 v5321
  let v5326 : BitVec 32 := Scalar.addi v5320 v5319
  let v5327 : BitVec 32 := Scalar.select v5325 v5326 v5320
  ![v5327.toNat]
def k0_off1017 (i : grid0.Coords) : Fin 3 → Nat :=
  let arg0 : BitVec 32 := BitVec.ofNat 32 (i 0).val
  let c1_i32_3039 : BitVec 32 := 1#32
  let v5317 : BitVec 32 := Scalar.addi arg0 c1_i32_3039
  let c2_i32_3040 : BitVec 32 := 2#32
  let c0_i32_3041 : BitVec 32 := 0#32
  let v5318 : BitVec 1 := Scalar.cmpi .eq c2_i32_3040 c0_i32_3041
  let c1_i32_3042 : BitVec 32 := 1#32
  let v5319 : BitVec 32 := Scalar.select v5318 c1_i32_3042 c2_i32_3040
  let v5320 : BitVec 32 := Scalar.remsi v5317 v5319
  let c0_i32_3044 : BitVec 32 := 0#32
  let v5322 : BitVec 1 := Scalar.cmpi .slt v5320 c0_i32_3044
  let c0_i32_3045 : BitVec 32 := 0#32
  let v5323 : BitVec 1 := Scalar.cmpi .slt v5319 c0_i32_3045
  let v5324 : BitVec 1 := Scalar.xori v5322 v5323
  let c0_i32_3043 : BitVec 32 := 0#32
  let v5321 : BitVec 1 := Scalar.cmpi .ne v5320 c0_i32_3043
  let v5325 : BitVec 1 := Scalar.andi v5324 v5321
  let v5326 : BitVec 32 := Scalar.addi v5320 v5319
  let v5327 : BitVec 32 := Scalar.select v5325 v5326 v5320
  let c252_i32_3047 : BitVec 32 := 252#32
  let c0_i32_3048 : BitVec 32 := 0#32
  ![v5327.toNat, 252, 0]
def k0_off1018 (v5331 : BitVec 32) : Fin 2 → Nat :=
  let c0_i32_3049 : BitVec 32 := 0#32
  ![v5331.toNat, 0]

def k0_chk255 (i : grid0.Coords) (v0 : BitVec 32) (v5331 : BitVec 32) : Prop :=
  (∀ (k0_h2 : k0_cond2 i v0 = 1#1), ∀ a, (k0_off1018 v5331) a + S1x4096.size a ≤ S16896x4096.size a)
theorem k0_off1018_inb : ∀ (i : grid0.Coords) (v0 : BitVec 32) (v5331 : BitVec 32) (k0_hw255 : k0_chk255 i v0 v5331), ∀ (k0_h2 : k0_cond2 i v0 = 1#1), ∀ a, (k0_off1018 v5331) a + S1x4096.size a ≤ S16896x4096.size a := fun i v0 v5331 k0_hw255 k0_h2 => k0_hw255 k0_h2

def k0_off1019 (i : grid0.Coords) : Fin 1 → Nat :=
  let arg0 : BitVec 32 := BitVec.ofNat 32 (i 0).val
  let c1_i32_3050 : BitVec 32 := 1#32
  let v5337 : BitVec 32 := Scalar.addi arg0 c1_i32_3050
  let c256_i32_3058 : BitVec 32 := 256#32
  let v5349 : BitVec 32 := Scalar.muli v5337 c256_i32_3058
  let c253_i32 : BitVec 32 := 253#32
  let v5350 : BitVec 32 := Scalar.addi v5349 c253_i32
  let v5351 : Index := Scalar.indexCast v5350
  ![v5351.toNat]
def k0_off1020 (i : grid0.Coords) : Fin 1 → Nat :=
  let arg0 : BitVec 32 := BitVec.ofNat 32 (i 0).val
  let c1_i32_3051 : BitVec 32 := 1#32
  let v5338 : BitVec 32 := Scalar.addi arg0 c1_i32_3051
  let c2_i32_3052 : BitVec 32 := 2#32
  let c0_i32_3053 : BitVec 32 := 0#32
  let v5339 : BitVec 1 := Scalar.cmpi .eq c2_i32_3052 c0_i32_3053
  let c1_i32_3054 : BitVec 32 := 1#32
  let v5340 : BitVec 32 := Scalar.select v5339 c1_i32_3054 c2_i32_3052
  let v5341 : BitVec 32 := Scalar.remsi v5338 v5340
  let c0_i32_3056 : BitVec 32 := 0#32
  let v5343 : BitVec 1 := Scalar.cmpi .slt v5341 c0_i32_3056
  let c0_i32_3057 : BitVec 32 := 0#32
  let v5344 : BitVec 1 := Scalar.cmpi .slt v5340 c0_i32_3057
  let v5345 : BitVec 1 := Scalar.xori v5343 v5344
  let c0_i32_3055 : BitVec 32 := 0#32
  let v5342 : BitVec 1 := Scalar.cmpi .ne v5341 c0_i32_3055
  let v5346 : BitVec 1 := Scalar.andi v5345 v5342
  let v5347 : BitVec 32 := Scalar.addi v5341 v5340
  let v5348 : BitVec 32 := Scalar.select v5346 v5347 v5341
  ![v5348.toNat]
def k0_off1021 (i : grid0.Coords) : Fin 3 → Nat :=
  let arg0 : BitVec 32 := BitVec.ofNat 32 (i 0).val
  let c1_i32_3051 : BitVec 32 := 1#32
  let v5338 : BitVec 32 := Scalar.addi arg0 c1_i32_3051
  let c2_i32_3052 : BitVec 32 := 2#32
  let c0_i32_3053 : BitVec 32 := 0#32
  let v5339 : BitVec 1 := Scalar.cmpi .eq c2_i32_3052 c0_i32_3053
  let c1_i32_3054 : BitVec 32 := 1#32
  let v5340 : BitVec 32 := Scalar.select v5339 c1_i32_3054 c2_i32_3052
  let v5341 : BitVec 32 := Scalar.remsi v5338 v5340
  let c0_i32_3056 : BitVec 32 := 0#32
  let v5343 : BitVec 1 := Scalar.cmpi .slt v5341 c0_i32_3056
  let c0_i32_3057 : BitVec 32 := 0#32
  let v5344 : BitVec 1 := Scalar.cmpi .slt v5340 c0_i32_3057
  let v5345 : BitVec 1 := Scalar.xori v5343 v5344
  let c0_i32_3055 : BitVec 32 := 0#32
  let v5342 : BitVec 1 := Scalar.cmpi .ne v5341 c0_i32_3055
  let v5346 : BitVec 1 := Scalar.andi v5345 v5342
  let v5347 : BitVec 32 := Scalar.addi v5341 v5340
  let v5348 : BitVec 32 := Scalar.select v5346 v5347 v5341
  let c253_i32_3059 : BitVec 32 := 253#32
  let c0_i32_3060 : BitVec 32 := 0#32
  ![v5348.toNat, 253, 0]
def k0_off1022 (v5352 : BitVec 32) : Fin 2 → Nat :=
  let c0_i32_3061 : BitVec 32 := 0#32
  ![v5352.toNat, 0]

def k0_chk256 (i : grid0.Coords) (v0 : BitVec 32) (v5352 : BitVec 32) : Prop :=
  (∀ (k0_h2 : k0_cond2 i v0 = 1#1), ∀ a, (k0_off1022 v5352) a + S1x4096.size a ≤ S16896x4096.size a)
theorem k0_off1022_inb : ∀ (i : grid0.Coords) (v0 : BitVec 32) (v5352 : BitVec 32) (k0_hw256 : k0_chk256 i v0 v5352), ∀ (k0_h2 : k0_cond2 i v0 = 1#1), ∀ a, (k0_off1022 v5352) a + S1x4096.size a ≤ S16896x4096.size a := fun i v0 v5352 k0_hw256 k0_h2 => k0_hw256 k0_h2

def k0_off1023 (i : grid0.Coords) : Fin 1 → Nat :=
  let arg0 : BitVec 32 := BitVec.ofNat 32 (i 0).val
  let c1_i32_3062 : BitVec 32 := 1#32
  let v5358 : BitVec 32 := Scalar.addi arg0 c1_i32_3062
  let c256_i32_3070 : BitVec 32 := 256#32
  let v5370 : BitVec 32 := Scalar.muli v5358 c256_i32_3070
  let c254_i32 : BitVec 32 := 254#32
  let v5371 : BitVec 32 := Scalar.addi v5370 c254_i32
  let v5372 : Index := Scalar.indexCast v5371
  ![v5372.toNat]
def k0_off1024 (i : grid0.Coords) : Fin 1 → Nat :=
  let arg0 : BitVec 32 := BitVec.ofNat 32 (i 0).val
  let c1_i32_3063 : BitVec 32 := 1#32
  let v5359 : BitVec 32 := Scalar.addi arg0 c1_i32_3063
  let c2_i32_3064 : BitVec 32 := 2#32
  let c0_i32_3065 : BitVec 32 := 0#32
  let v5360 : BitVec 1 := Scalar.cmpi .eq c2_i32_3064 c0_i32_3065
  let c1_i32_3066 : BitVec 32 := 1#32
  let v5361 : BitVec 32 := Scalar.select v5360 c1_i32_3066 c2_i32_3064
  let v5362 : BitVec 32 := Scalar.remsi v5359 v5361
  let c0_i32_3068 : BitVec 32 := 0#32
  let v5364 : BitVec 1 := Scalar.cmpi .slt v5362 c0_i32_3068
  let c0_i32_3069 : BitVec 32 := 0#32
  let v5365 : BitVec 1 := Scalar.cmpi .slt v5361 c0_i32_3069
  let v5366 : BitVec 1 := Scalar.xori v5364 v5365
  let c0_i32_3067 : BitVec 32 := 0#32
  let v5363 : BitVec 1 := Scalar.cmpi .ne v5362 c0_i32_3067
  let v5367 : BitVec 1 := Scalar.andi v5366 v5363
  let v5368 : BitVec 32 := Scalar.addi v5362 v5361
  let v5369 : BitVec 32 := Scalar.select v5367 v5368 v5362
  ![v5369.toNat]
def k0_off1025 (i : grid0.Coords) : Fin 3 → Nat :=
  let arg0 : BitVec 32 := BitVec.ofNat 32 (i 0).val
  let c1_i32_3063 : BitVec 32 := 1#32
  let v5359 : BitVec 32 := Scalar.addi arg0 c1_i32_3063
  let c2_i32_3064 : BitVec 32 := 2#32
  let c0_i32_3065 : BitVec 32 := 0#32
  let v5360 : BitVec 1 := Scalar.cmpi .eq c2_i32_3064 c0_i32_3065
  let c1_i32_3066 : BitVec 32 := 1#32
  let v5361 : BitVec 32 := Scalar.select v5360 c1_i32_3066 c2_i32_3064
  let v5362 : BitVec 32 := Scalar.remsi v5359 v5361
  let c0_i32_3068 : BitVec 32 := 0#32
  let v5364 : BitVec 1 := Scalar.cmpi .slt v5362 c0_i32_3068
  let c0_i32_3069 : BitVec 32 := 0#32
  let v5365 : BitVec 1 := Scalar.cmpi .slt v5361 c0_i32_3069
  let v5366 : BitVec 1 := Scalar.xori v5364 v5365
  let c0_i32_3067 : BitVec 32 := 0#32
  let v5363 : BitVec 1 := Scalar.cmpi .ne v5362 c0_i32_3067
  let v5367 : BitVec 1 := Scalar.andi v5366 v5363
  let v5368 : BitVec 32 := Scalar.addi v5362 v5361
  let v5369 : BitVec 32 := Scalar.select v5367 v5368 v5362
  let c254_i32_3071 : BitVec 32 := 254#32
  let c0_i32_3072 : BitVec 32 := 0#32
  ![v5369.toNat, 254, 0]
def k0_off1026 (v5373 : BitVec 32) : Fin 2 → Nat :=
  let c0_i32_3073 : BitVec 32 := 0#32
  ![v5373.toNat, 0]

def k0_chk257 (i : grid0.Coords) (v0 : BitVec 32) (v5373 : BitVec 32) : Prop :=
  (∀ (k0_h2 : k0_cond2 i v0 = 1#1), ∀ a, (k0_off1026 v5373) a + S1x4096.size a ≤ S16896x4096.size a)
theorem k0_off1026_inb : ∀ (i : grid0.Coords) (v0 : BitVec 32) (v5373 : BitVec 32) (k0_hw257 : k0_chk257 i v0 v5373), ∀ (k0_h2 : k0_cond2 i v0 = 1#1), ∀ a, (k0_off1026 v5373) a + S1x4096.size a ≤ S16896x4096.size a := fun i v0 v5373 k0_hw257 k0_h2 => k0_hw257 k0_h2

def k0_off1027 (i : grid0.Coords) : Fin 1 → Nat :=
  let arg0 : BitVec 32 := BitVec.ofNat 32 (i 0).val
  let c1_i32_3074 : BitVec 32 := 1#32
  let v5379 : BitVec 32 := Scalar.addi arg0 c1_i32_3074
  let c256_i32_3082 : BitVec 32 := 256#32
  let v5391 : BitVec 32 := Scalar.muli v5379 c256_i32_3082
  let c255_i32 : BitVec 32 := 255#32
  let v5392 : BitVec 32 := Scalar.addi v5391 c255_i32
  let v5393 : Index := Scalar.indexCast v5392
  ![v5393.toNat]

def k0_chk2_0 (i : grid0.Coords) (v0 : BitVec 32) : Prop :=
  (∀ (k0_h2 : k0_cond2 i v0 = 1#1), ∀ a, (k0_off7 i) a + S1.size a ≤ S37888.size a) ∧
  (∀ (k0_h2 : k0_cond2 i v0 = 1#1), ∀ a, (k0_off11 i) a + S1.size a ≤ S37888.size a) ∧
  (∀ (k0_h2 : k0_cond2 i v0 = 1#1), ∀ a, (k0_off15 i) a + S1.size a ≤ S37888.size a) ∧
  (∀ (k0_h2 : k0_cond2 i v0 = 1#1), ∀ a, (k0_off19 i) a + S1.size a ≤ S37888.size a) ∧
  (∀ (k0_h2 : k0_cond2 i v0 = 1#1), ∀ a, (k0_off23 i) a + S1.size a ≤ S37888.size a) ∧
  (∀ (k0_h2 : k0_cond2 i v0 = 1#1), ∀ a, (k0_off27 i) a + S1.size a ≤ S37888.size a) ∧
  (∀ (k0_h2 : k0_cond2 i v0 = 1#1), ∀ a, (k0_off31 i) a + S1.size a ≤ S37888.size a) ∧
  (∀ (k0_h2 : k0_cond2 i v0 = 1#1), ∀ a, (k0_off35 i) a + S1.size a ≤ S37888.size a) ∧
  (∀ (k0_h2 : k0_cond2 i v0 = 1#1), ∀ a, (k0_off39 i) a + S1.size a ≤ S37888.size a) ∧
  (∀ (k0_h2 : k0_cond2 i v0 = 1#1), ∀ a, (k0_off43 i) a + S1.size a ≤ S37888.size a) ∧
  (∀ (k0_h2 : k0_cond2 i v0 = 1#1), ∀ a, (k0_off47 i) a + S1.size a ≤ S37888.size a) ∧
  (∀ (k0_h2 : k0_cond2 i v0 = 1#1), ∀ a, (k0_off51 i) a + S1.size a ≤ S37888.size a) ∧
  (∀ (k0_h2 : k0_cond2 i v0 = 1#1), ∀ a, (k0_off55 i) a + S1.size a ≤ S37888.size a) ∧
  (∀ (k0_h2 : k0_cond2 i v0 = 1#1), ∀ a, (k0_off59 i) a + S1.size a ≤ S37888.size a) ∧
  (∀ (k0_h2 : k0_cond2 i v0 = 1#1), ∀ a, (k0_off63 i) a + S1.size a ≤ S37888.size a) ∧
  (∀ (k0_h2 : k0_cond2 i v0 = 1#1), ∀ a, (k0_off67 i) a + S1.size a ≤ S37888.size a) ∧
  (∀ (k0_h2 : k0_cond2 i v0 = 1#1), ∀ a, (k0_off71 i) a + S1.size a ≤ S37888.size a) ∧
  (∀ (k0_h2 : k0_cond2 i v0 = 1#1), ∀ a, (k0_off75 i) a + S1.size a ≤ S37888.size a) ∧
  (∀ (k0_h2 : k0_cond2 i v0 = 1#1), ∀ a, (k0_off79 i) a + S1.size a ≤ S37888.size a) ∧
  (∀ (k0_h2 : k0_cond2 i v0 = 1#1), ∀ a, (k0_off83 i) a + S1.size a ≤ S37888.size a) ∧
  (∀ (k0_h2 : k0_cond2 i v0 = 1#1), ∀ a, (k0_off87 i) a + S1.size a ≤ S37888.size a) ∧
  (∀ (k0_h2 : k0_cond2 i v0 = 1#1), ∀ a, (k0_off91 i) a + S1.size a ≤ S37888.size a) ∧
  (∀ (k0_h2 : k0_cond2 i v0 = 1#1), ∀ a, (k0_off95 i) a + S1.size a ≤ S37888.size a) ∧
  (∀ (k0_h2 : k0_cond2 i v0 = 1#1), ∀ a, (k0_off99 i) a + S1.size a ≤ S37888.size a) ∧
  (∀ (k0_h2 : k0_cond2 i v0 = 1#1), ∀ a, (k0_off103 i) a + S1.size a ≤ S37888.size a) ∧
  (∀ (k0_h2 : k0_cond2 i v0 = 1#1), ∀ a, (k0_off107 i) a + S1.size a ≤ S37888.size a) ∧
  (∀ (k0_h2 : k0_cond2 i v0 = 1#1), ∀ a, (k0_off111 i) a + S1.size a ≤ S37888.size a) ∧
  (∀ (k0_h2 : k0_cond2 i v0 = 1#1), ∀ a, (k0_off115 i) a + S1.size a ≤ S37888.size a) ∧
  (∀ (k0_h2 : k0_cond2 i v0 = 1#1), ∀ a, (k0_off119 i) a + S1.size a ≤ S37888.size a) ∧
  (∀ (k0_h2 : k0_cond2 i v0 = 1#1), ∀ a, (k0_off123 i) a + S1.size a ≤ S37888.size a) ∧
  (∀ (k0_h2 : k0_cond2 i v0 = 1#1), ∀ a, (k0_off127 i) a + S1.size a ≤ S37888.size a) ∧
  (∀ (k0_h2 : k0_cond2 i v0 = 1#1), ∀ a, (k0_off131 i) a + S1.size a ≤ S37888.size a)
def k0_chk2_1 (i : grid0.Coords) (v0 : BitVec 32) : Prop :=
  (∀ (k0_h2 : k0_cond2 i v0 = 1#1), ∀ a, (k0_off135 i) a + S1.size a ≤ S37888.size a) ∧
  (∀ (k0_h2 : k0_cond2 i v0 = 1#1), ∀ a, (k0_off139 i) a + S1.size a ≤ S37888.size a) ∧
  (∀ (k0_h2 : k0_cond2 i v0 = 1#1), ∀ a, (k0_off143 i) a + S1.size a ≤ S37888.size a) ∧
  (∀ (k0_h2 : k0_cond2 i v0 = 1#1), ∀ a, (k0_off147 i) a + S1.size a ≤ S37888.size a) ∧
  (∀ (k0_h2 : k0_cond2 i v0 = 1#1), ∀ a, (k0_off151 i) a + S1.size a ≤ S37888.size a) ∧
  (∀ (k0_h2 : k0_cond2 i v0 = 1#1), ∀ a, (k0_off155 i) a + S1.size a ≤ S37888.size a) ∧
  (∀ (k0_h2 : k0_cond2 i v0 = 1#1), ∀ a, (k0_off159 i) a + S1.size a ≤ S37888.size a) ∧
  (∀ (k0_h2 : k0_cond2 i v0 = 1#1), ∀ a, (k0_off163 i) a + S1.size a ≤ S37888.size a) ∧
  (∀ (k0_h2 : k0_cond2 i v0 = 1#1), ∀ a, (k0_off167 i) a + S1.size a ≤ S37888.size a) ∧
  (∀ (k0_h2 : k0_cond2 i v0 = 1#1), ∀ a, (k0_off171 i) a + S1.size a ≤ S37888.size a) ∧
  (∀ (k0_h2 : k0_cond2 i v0 = 1#1), ∀ a, (k0_off175 i) a + S1.size a ≤ S37888.size a) ∧
  (∀ (k0_h2 : k0_cond2 i v0 = 1#1), ∀ a, (k0_off179 i) a + S1.size a ≤ S37888.size a) ∧
  (∀ (k0_h2 : k0_cond2 i v0 = 1#1), ∀ a, (k0_off183 i) a + S1.size a ≤ S37888.size a) ∧
  (∀ (k0_h2 : k0_cond2 i v0 = 1#1), ∀ a, (k0_off187 i) a + S1.size a ≤ S37888.size a) ∧
  (∀ (k0_h2 : k0_cond2 i v0 = 1#1), ∀ a, (k0_off191 i) a + S1.size a ≤ S37888.size a) ∧
  (∀ (k0_h2 : k0_cond2 i v0 = 1#1), ∀ a, (k0_off195 i) a + S1.size a ≤ S37888.size a) ∧
  (∀ (k0_h2 : k0_cond2 i v0 = 1#1), ∀ a, (k0_off199 i) a + S1.size a ≤ S37888.size a) ∧
  (∀ (k0_h2 : k0_cond2 i v0 = 1#1), ∀ a, (k0_off203 i) a + S1.size a ≤ S37888.size a) ∧
  (∀ (k0_h2 : k0_cond2 i v0 = 1#1), ∀ a, (k0_off207 i) a + S1.size a ≤ S37888.size a) ∧
  (∀ (k0_h2 : k0_cond2 i v0 = 1#1), ∀ a, (k0_off211 i) a + S1.size a ≤ S37888.size a) ∧
  (∀ (k0_h2 : k0_cond2 i v0 = 1#1), ∀ a, (k0_off215 i) a + S1.size a ≤ S37888.size a) ∧
  (∀ (k0_h2 : k0_cond2 i v0 = 1#1), ∀ a, (k0_off219 i) a + S1.size a ≤ S37888.size a) ∧
  (∀ (k0_h2 : k0_cond2 i v0 = 1#1), ∀ a, (k0_off223 i) a + S1.size a ≤ S37888.size a) ∧
  (∀ (k0_h2 : k0_cond2 i v0 = 1#1), ∀ a, (k0_off227 i) a + S1.size a ≤ S37888.size a) ∧
  (∀ (k0_h2 : k0_cond2 i v0 = 1#1), ∀ a, (k0_off231 i) a + S1.size a ≤ S37888.size a) ∧
  (∀ (k0_h2 : k0_cond2 i v0 = 1#1), ∀ a, (k0_off235 i) a + S1.size a ≤ S37888.size a) ∧
  (∀ (k0_h2 : k0_cond2 i v0 = 1#1), ∀ a, (k0_off239 i) a + S1.size a ≤ S37888.size a) ∧
  (∀ (k0_h2 : k0_cond2 i v0 = 1#1), ∀ a, (k0_off243 i) a + S1.size a ≤ S37888.size a) ∧
  (∀ (k0_h2 : k0_cond2 i v0 = 1#1), ∀ a, (k0_off247 i) a + S1.size a ≤ S37888.size a) ∧
  (∀ (k0_h2 : k0_cond2 i v0 = 1#1), ∀ a, (k0_off251 i) a + S1.size a ≤ S37888.size a) ∧
  (∀ (k0_h2 : k0_cond2 i v0 = 1#1), ∀ a, (k0_off255 i) a + S1.size a ≤ S37888.size a) ∧
  (∀ (k0_h2 : k0_cond2 i v0 = 1#1), ∀ a, (k0_off259 i) a + S1.size a ≤ S37888.size a)
def k0_chk2_2 (i : grid0.Coords) (v0 : BitVec 32) : Prop :=
  (∀ (k0_h2 : k0_cond2 i v0 = 1#1), ∀ a, (k0_off263 i) a + S1.size a ≤ S37888.size a) ∧
  (∀ (k0_h2 : k0_cond2 i v0 = 1#1), ∀ a, (k0_off267 i) a + S1.size a ≤ S37888.size a) ∧
  (∀ (k0_h2 : k0_cond2 i v0 = 1#1), ∀ a, (k0_off271 i) a + S1.size a ≤ S37888.size a) ∧
  (∀ (k0_h2 : k0_cond2 i v0 = 1#1), ∀ a, (k0_off275 i) a + S1.size a ≤ S37888.size a) ∧
  (∀ (k0_h2 : k0_cond2 i v0 = 1#1), ∀ a, (k0_off279 i) a + S1.size a ≤ S37888.size a) ∧
  (∀ (k0_h2 : k0_cond2 i v0 = 1#1), ∀ a, (k0_off283 i) a + S1.size a ≤ S37888.size a) ∧
  (∀ (k0_h2 : k0_cond2 i v0 = 1#1), ∀ a, (k0_off287 i) a + S1.size a ≤ S37888.size a) ∧
  (∀ (k0_h2 : k0_cond2 i v0 = 1#1), ∀ a, (k0_off291 i) a + S1.size a ≤ S37888.size a) ∧
  (∀ (k0_h2 : k0_cond2 i v0 = 1#1), ∀ a, (k0_off295 i) a + S1.size a ≤ S37888.size a) ∧
  (∀ (k0_h2 : k0_cond2 i v0 = 1#1), ∀ a, (k0_off299 i) a + S1.size a ≤ S37888.size a) ∧
  (∀ (k0_h2 : k0_cond2 i v0 = 1#1), ∀ a, (k0_off303 i) a + S1.size a ≤ S37888.size a) ∧
  (∀ (k0_h2 : k0_cond2 i v0 = 1#1), ∀ a, (k0_off307 i) a + S1.size a ≤ S37888.size a) ∧
  (∀ (k0_h2 : k0_cond2 i v0 = 1#1), ∀ a, (k0_off311 i) a + S1.size a ≤ S37888.size a) ∧
  (∀ (k0_h2 : k0_cond2 i v0 = 1#1), ∀ a, (k0_off315 i) a + S1.size a ≤ S37888.size a) ∧
  (∀ (k0_h2 : k0_cond2 i v0 = 1#1), ∀ a, (k0_off319 i) a + S1.size a ≤ S37888.size a) ∧
  (∀ (k0_h2 : k0_cond2 i v0 = 1#1), ∀ a, (k0_off323 i) a + S1.size a ≤ S37888.size a) ∧
  (∀ (k0_h2 : k0_cond2 i v0 = 1#1), ∀ a, (k0_off327 i) a + S1.size a ≤ S37888.size a) ∧
  (∀ (k0_h2 : k0_cond2 i v0 = 1#1), ∀ a, (k0_off331 i) a + S1.size a ≤ S37888.size a) ∧
  (∀ (k0_h2 : k0_cond2 i v0 = 1#1), ∀ a, (k0_off335 i) a + S1.size a ≤ S37888.size a) ∧
  (∀ (k0_h2 : k0_cond2 i v0 = 1#1), ∀ a, (k0_off339 i) a + S1.size a ≤ S37888.size a) ∧
  (∀ (k0_h2 : k0_cond2 i v0 = 1#1), ∀ a, (k0_off343 i) a + S1.size a ≤ S37888.size a) ∧
  (∀ (k0_h2 : k0_cond2 i v0 = 1#1), ∀ a, (k0_off347 i) a + S1.size a ≤ S37888.size a) ∧
  (∀ (k0_h2 : k0_cond2 i v0 = 1#1), ∀ a, (k0_off351 i) a + S1.size a ≤ S37888.size a) ∧
  (∀ (k0_h2 : k0_cond2 i v0 = 1#1), ∀ a, (k0_off355 i) a + S1.size a ≤ S37888.size a) ∧
  (∀ (k0_h2 : k0_cond2 i v0 = 1#1), ∀ a, (k0_off359 i) a + S1.size a ≤ S37888.size a) ∧
  (∀ (k0_h2 : k0_cond2 i v0 = 1#1), ∀ a, (k0_off363 i) a + S1.size a ≤ S37888.size a) ∧
  (∀ (k0_h2 : k0_cond2 i v0 = 1#1), ∀ a, (k0_off367 i) a + S1.size a ≤ S37888.size a) ∧
  (∀ (k0_h2 : k0_cond2 i v0 = 1#1), ∀ a, (k0_off371 i) a + S1.size a ≤ S37888.size a) ∧
  (∀ (k0_h2 : k0_cond2 i v0 = 1#1), ∀ a, (k0_off375 i) a + S1.size a ≤ S37888.size a) ∧
  (∀ (k0_h2 : k0_cond2 i v0 = 1#1), ∀ a, (k0_off379 i) a + S1.size a ≤ S37888.size a) ∧
  (∀ (k0_h2 : k0_cond2 i v0 = 1#1), ∀ a, (k0_off383 i) a + S1.size a ≤ S37888.size a) ∧
  (∀ (k0_h2 : k0_cond2 i v0 = 1#1), ∀ a, (k0_off387 i) a + S1.size a ≤ S37888.size a)
def k0_chk2_3 (i : grid0.Coords) (v0 : BitVec 32) : Prop :=
  (∀ (k0_h2 : k0_cond2 i v0 = 1#1), ∀ a, (k0_off391 i) a + S1.size a ≤ S37888.size a) ∧
  (∀ (k0_h2 : k0_cond2 i v0 = 1#1), ∀ a, (k0_off395 i) a + S1.size a ≤ S37888.size a) ∧
  (∀ (k0_h2 : k0_cond2 i v0 = 1#1), ∀ a, (k0_off399 i) a + S1.size a ≤ S37888.size a) ∧
  (∀ (k0_h2 : k0_cond2 i v0 = 1#1), ∀ a, (k0_off403 i) a + S1.size a ≤ S37888.size a) ∧
  (∀ (k0_h2 : k0_cond2 i v0 = 1#1), ∀ a, (k0_off407 i) a + S1.size a ≤ S37888.size a) ∧
  (∀ (k0_h2 : k0_cond2 i v0 = 1#1), ∀ a, (k0_off411 i) a + S1.size a ≤ S37888.size a) ∧
  (∀ (k0_h2 : k0_cond2 i v0 = 1#1), ∀ a, (k0_off415 i) a + S1.size a ≤ S37888.size a) ∧
  (∀ (k0_h2 : k0_cond2 i v0 = 1#1), ∀ a, (k0_off419 i) a + S1.size a ≤ S37888.size a) ∧
  (∀ (k0_h2 : k0_cond2 i v0 = 1#1), ∀ a, (k0_off423 i) a + S1.size a ≤ S37888.size a) ∧
  (∀ (k0_h2 : k0_cond2 i v0 = 1#1), ∀ a, (k0_off427 i) a + S1.size a ≤ S37888.size a) ∧
  (∀ (k0_h2 : k0_cond2 i v0 = 1#1), ∀ a, (k0_off431 i) a + S1.size a ≤ S37888.size a) ∧
  (∀ (k0_h2 : k0_cond2 i v0 = 1#1), ∀ a, (k0_off435 i) a + S1.size a ≤ S37888.size a) ∧
  (∀ (k0_h2 : k0_cond2 i v0 = 1#1), ∀ a, (k0_off439 i) a + S1.size a ≤ S37888.size a) ∧
  (∀ (k0_h2 : k0_cond2 i v0 = 1#1), ∀ a, (k0_off443 i) a + S1.size a ≤ S37888.size a) ∧
  (∀ (k0_h2 : k0_cond2 i v0 = 1#1), ∀ a, (k0_off447 i) a + S1.size a ≤ S37888.size a) ∧
  (∀ (k0_h2 : k0_cond2 i v0 = 1#1), ∀ a, (k0_off451 i) a + S1.size a ≤ S37888.size a) ∧
  (∀ (k0_h2 : k0_cond2 i v0 = 1#1), ∀ a, (k0_off455 i) a + S1.size a ≤ S37888.size a) ∧
  (∀ (k0_h2 : k0_cond2 i v0 = 1#1), ∀ a, (k0_off459 i) a + S1.size a ≤ S37888.size a) ∧
  (∀ (k0_h2 : k0_cond2 i v0 = 1#1), ∀ a, (k0_off463 i) a + S1.size a ≤ S37888.size a) ∧
  (∀ (k0_h2 : k0_cond2 i v0 = 1#1), ∀ a, (k0_off467 i) a + S1.size a ≤ S37888.size a) ∧
  (∀ (k0_h2 : k0_cond2 i v0 = 1#1), ∀ a, (k0_off471 i) a + S1.size a ≤ S37888.size a) ∧
  (∀ (k0_h2 : k0_cond2 i v0 = 1#1), ∀ a, (k0_off475 i) a + S1.size a ≤ S37888.size a) ∧
  (∀ (k0_h2 : k0_cond2 i v0 = 1#1), ∀ a, (k0_off479 i) a + S1.size a ≤ S37888.size a) ∧
  (∀ (k0_h2 : k0_cond2 i v0 = 1#1), ∀ a, (k0_off483 i) a + S1.size a ≤ S37888.size a) ∧
  (∀ (k0_h2 : k0_cond2 i v0 = 1#1), ∀ a, (k0_off487 i) a + S1.size a ≤ S37888.size a) ∧
  (∀ (k0_h2 : k0_cond2 i v0 = 1#1), ∀ a, (k0_off491 i) a + S1.size a ≤ S37888.size a) ∧
  (∀ (k0_h2 : k0_cond2 i v0 = 1#1), ∀ a, (k0_off495 i) a + S1.size a ≤ S37888.size a) ∧
  (∀ (k0_h2 : k0_cond2 i v0 = 1#1), ∀ a, (k0_off499 i) a + S1.size a ≤ S37888.size a) ∧
  (∀ (k0_h2 : k0_cond2 i v0 = 1#1), ∀ a, (k0_off503 i) a + S1.size a ≤ S37888.size a) ∧
  (∀ (k0_h2 : k0_cond2 i v0 = 1#1), ∀ a, (k0_off507 i) a + S1.size a ≤ S37888.size a) ∧
  (∀ (k0_h2 : k0_cond2 i v0 = 1#1), ∀ a, (k0_off511 i) a + S1.size a ≤ S37888.size a) ∧
  (∀ (k0_h2 : k0_cond2 i v0 = 1#1), ∀ a, (k0_off515 i) a + S1.size a ≤ S37888.size a)
def k0_chk2_4 (i : grid0.Coords) (v0 : BitVec 32) : Prop :=
  (∀ (k0_h2 : k0_cond2 i v0 = 1#1), ∀ a, (k0_off519 i) a + S1.size a ≤ S37888.size a) ∧
  (∀ (k0_h2 : k0_cond2 i v0 = 1#1), ∀ a, (k0_off523 i) a + S1.size a ≤ S37888.size a) ∧
  (∀ (k0_h2 : k0_cond2 i v0 = 1#1), ∀ a, (k0_off527 i) a + S1.size a ≤ S37888.size a) ∧
  (∀ (k0_h2 : k0_cond2 i v0 = 1#1), ∀ a, (k0_off531 i) a + S1.size a ≤ S37888.size a) ∧
  (∀ (k0_h2 : k0_cond2 i v0 = 1#1), ∀ a, (k0_off535 i) a + S1.size a ≤ S37888.size a) ∧
  (∀ (k0_h2 : k0_cond2 i v0 = 1#1), ∀ a, (k0_off539 i) a + S1.size a ≤ S37888.size a) ∧
  (∀ (k0_h2 : k0_cond2 i v0 = 1#1), ∀ a, (k0_off543 i) a + S1.size a ≤ S37888.size a) ∧
  (∀ (k0_h2 : k0_cond2 i v0 = 1#1), ∀ a, (k0_off547 i) a + S1.size a ≤ S37888.size a) ∧
  (∀ (k0_h2 : k0_cond2 i v0 = 1#1), ∀ a, (k0_off551 i) a + S1.size a ≤ S37888.size a) ∧
  (∀ (k0_h2 : k0_cond2 i v0 = 1#1), ∀ a, (k0_off555 i) a + S1.size a ≤ S37888.size a) ∧
  (∀ (k0_h2 : k0_cond2 i v0 = 1#1), ∀ a, (k0_off559 i) a + S1.size a ≤ S37888.size a) ∧
  (∀ (k0_h2 : k0_cond2 i v0 = 1#1), ∀ a, (k0_off563 i) a + S1.size a ≤ S37888.size a) ∧
  (∀ (k0_h2 : k0_cond2 i v0 = 1#1), ∀ a, (k0_off567 i) a + S1.size a ≤ S37888.size a) ∧
  (∀ (k0_h2 : k0_cond2 i v0 = 1#1), ∀ a, (k0_off571 i) a + S1.size a ≤ S37888.size a) ∧
  (∀ (k0_h2 : k0_cond2 i v0 = 1#1), ∀ a, (k0_off575 i) a + S1.size a ≤ S37888.size a) ∧
  (∀ (k0_h2 : k0_cond2 i v0 = 1#1), ∀ a, (k0_off579 i) a + S1.size a ≤ S37888.size a) ∧
  (∀ (k0_h2 : k0_cond2 i v0 = 1#1), ∀ a, (k0_off583 i) a + S1.size a ≤ S37888.size a) ∧
  (∀ (k0_h2 : k0_cond2 i v0 = 1#1), ∀ a, (k0_off587 i) a + S1.size a ≤ S37888.size a) ∧
  (∀ (k0_h2 : k0_cond2 i v0 = 1#1), ∀ a, (k0_off591 i) a + S1.size a ≤ S37888.size a) ∧
  (∀ (k0_h2 : k0_cond2 i v0 = 1#1), ∀ a, (k0_off595 i) a + S1.size a ≤ S37888.size a) ∧
  (∀ (k0_h2 : k0_cond2 i v0 = 1#1), ∀ a, (k0_off599 i) a + S1.size a ≤ S37888.size a) ∧
  (∀ (k0_h2 : k0_cond2 i v0 = 1#1), ∀ a, (k0_off603 i) a + S1.size a ≤ S37888.size a) ∧
  (∀ (k0_h2 : k0_cond2 i v0 = 1#1), ∀ a, (k0_off607 i) a + S1.size a ≤ S37888.size a) ∧
  (∀ (k0_h2 : k0_cond2 i v0 = 1#1), ∀ a, (k0_off611 i) a + S1.size a ≤ S37888.size a) ∧
  (∀ (k0_h2 : k0_cond2 i v0 = 1#1), ∀ a, (k0_off615 i) a + S1.size a ≤ S37888.size a) ∧
  (∀ (k0_h2 : k0_cond2 i v0 = 1#1), ∀ a, (k0_off619 i) a + S1.size a ≤ S37888.size a) ∧
  (∀ (k0_h2 : k0_cond2 i v0 = 1#1), ∀ a, (k0_off623 i) a + S1.size a ≤ S37888.size a) ∧
  (∀ (k0_h2 : k0_cond2 i v0 = 1#1), ∀ a, (k0_off627 i) a + S1.size a ≤ S37888.size a) ∧
  (∀ (k0_h2 : k0_cond2 i v0 = 1#1), ∀ a, (k0_off631 i) a + S1.size a ≤ S37888.size a) ∧
  (∀ (k0_h2 : k0_cond2 i v0 = 1#1), ∀ a, (k0_off635 i) a + S1.size a ≤ S37888.size a) ∧
  (∀ (k0_h2 : k0_cond2 i v0 = 1#1), ∀ a, (k0_off639 i) a + S1.size a ≤ S37888.size a) ∧
  (∀ (k0_h2 : k0_cond2 i v0 = 1#1), ∀ a, (k0_off643 i) a + S1.size a ≤ S37888.size a)
def k0_chk2_5 (i : grid0.Coords) (v0 : BitVec 32) : Prop :=
  (∀ (k0_h2 : k0_cond2 i v0 = 1#1), ∀ a, (k0_off647 i) a + S1.size a ≤ S37888.size a) ∧
  (∀ (k0_h2 : k0_cond2 i v0 = 1#1), ∀ a, (k0_off651 i) a + S1.size a ≤ S37888.size a) ∧
  (∀ (k0_h2 : k0_cond2 i v0 = 1#1), ∀ a, (k0_off655 i) a + S1.size a ≤ S37888.size a) ∧
  (∀ (k0_h2 : k0_cond2 i v0 = 1#1), ∀ a, (k0_off659 i) a + S1.size a ≤ S37888.size a) ∧
  (∀ (k0_h2 : k0_cond2 i v0 = 1#1), ∀ a, (k0_off663 i) a + S1.size a ≤ S37888.size a) ∧
  (∀ (k0_h2 : k0_cond2 i v0 = 1#1), ∀ a, (k0_off667 i) a + S1.size a ≤ S37888.size a) ∧
  (∀ (k0_h2 : k0_cond2 i v0 = 1#1), ∀ a, (k0_off671 i) a + S1.size a ≤ S37888.size a) ∧
  (∀ (k0_h2 : k0_cond2 i v0 = 1#1), ∀ a, (k0_off675 i) a + S1.size a ≤ S37888.size a) ∧
  (∀ (k0_h2 : k0_cond2 i v0 = 1#1), ∀ a, (k0_off679 i) a + S1.size a ≤ S37888.size a) ∧
  (∀ (k0_h2 : k0_cond2 i v0 = 1#1), ∀ a, (k0_off683 i) a + S1.size a ≤ S37888.size a) ∧
  (∀ (k0_h2 : k0_cond2 i v0 = 1#1), ∀ a, (k0_off687 i) a + S1.size a ≤ S37888.size a) ∧
  (∀ (k0_h2 : k0_cond2 i v0 = 1#1), ∀ a, (k0_off691 i) a + S1.size a ≤ S37888.size a) ∧
  (∀ (k0_h2 : k0_cond2 i v0 = 1#1), ∀ a, (k0_off695 i) a + S1.size a ≤ S37888.size a) ∧
  (∀ (k0_h2 : k0_cond2 i v0 = 1#1), ∀ a, (k0_off699 i) a + S1.size a ≤ S37888.size a) ∧
  (∀ (k0_h2 : k0_cond2 i v0 = 1#1), ∀ a, (k0_off703 i) a + S1.size a ≤ S37888.size a) ∧
  (∀ (k0_h2 : k0_cond2 i v0 = 1#1), ∀ a, (k0_off707 i) a + S1.size a ≤ S37888.size a) ∧
  (∀ (k0_h2 : k0_cond2 i v0 = 1#1), ∀ a, (k0_off711 i) a + S1.size a ≤ S37888.size a) ∧
  (∀ (k0_h2 : k0_cond2 i v0 = 1#1), ∀ a, (k0_off715 i) a + S1.size a ≤ S37888.size a) ∧
  (∀ (k0_h2 : k0_cond2 i v0 = 1#1), ∀ a, (k0_off719 i) a + S1.size a ≤ S37888.size a) ∧
  (∀ (k0_h2 : k0_cond2 i v0 = 1#1), ∀ a, (k0_off723 i) a + S1.size a ≤ S37888.size a) ∧
  (∀ (k0_h2 : k0_cond2 i v0 = 1#1), ∀ a, (k0_off727 i) a + S1.size a ≤ S37888.size a) ∧
  (∀ (k0_h2 : k0_cond2 i v0 = 1#1), ∀ a, (k0_off731 i) a + S1.size a ≤ S37888.size a) ∧
  (∀ (k0_h2 : k0_cond2 i v0 = 1#1), ∀ a, (k0_off735 i) a + S1.size a ≤ S37888.size a) ∧
  (∀ (k0_h2 : k0_cond2 i v0 = 1#1), ∀ a, (k0_off739 i) a + S1.size a ≤ S37888.size a) ∧
  (∀ (k0_h2 : k0_cond2 i v0 = 1#1), ∀ a, (k0_off743 i) a + S1.size a ≤ S37888.size a) ∧
  (∀ (k0_h2 : k0_cond2 i v0 = 1#1), ∀ a, (k0_off747 i) a + S1.size a ≤ S37888.size a) ∧
  (∀ (k0_h2 : k0_cond2 i v0 = 1#1), ∀ a, (k0_off751 i) a + S1.size a ≤ S37888.size a) ∧
  (∀ (k0_h2 : k0_cond2 i v0 = 1#1), ∀ a, (k0_off755 i) a + S1.size a ≤ S37888.size a) ∧
  (∀ (k0_h2 : k0_cond2 i v0 = 1#1), ∀ a, (k0_off759 i) a + S1.size a ≤ S37888.size a) ∧
  (∀ (k0_h2 : k0_cond2 i v0 = 1#1), ∀ a, (k0_off763 i) a + S1.size a ≤ S37888.size a) ∧
  (∀ (k0_h2 : k0_cond2 i v0 = 1#1), ∀ a, (k0_off767 i) a + S1.size a ≤ S37888.size a) ∧
  (∀ (k0_h2 : k0_cond2 i v0 = 1#1), ∀ a, (k0_off771 i) a + S1.size a ≤ S37888.size a)
def k0_chk2_6 (i : grid0.Coords) (v0 : BitVec 32) : Prop :=
  (∀ (k0_h2 : k0_cond2 i v0 = 1#1), ∀ a, (k0_off775 i) a + S1.size a ≤ S37888.size a) ∧
  (∀ (k0_h2 : k0_cond2 i v0 = 1#1), ∀ a, (k0_off779 i) a + S1.size a ≤ S37888.size a) ∧
  (∀ (k0_h2 : k0_cond2 i v0 = 1#1), ∀ a, (k0_off783 i) a + S1.size a ≤ S37888.size a) ∧
  (∀ (k0_h2 : k0_cond2 i v0 = 1#1), ∀ a, (k0_off787 i) a + S1.size a ≤ S37888.size a) ∧
  (∀ (k0_h2 : k0_cond2 i v0 = 1#1), ∀ a, (k0_off791 i) a + S1.size a ≤ S37888.size a) ∧
  (∀ (k0_h2 : k0_cond2 i v0 = 1#1), ∀ a, (k0_off795 i) a + S1.size a ≤ S37888.size a) ∧
  (∀ (k0_h2 : k0_cond2 i v0 = 1#1), ∀ a, (k0_off799 i) a + S1.size a ≤ S37888.size a) ∧
  (∀ (k0_h2 : k0_cond2 i v0 = 1#1), ∀ a, (k0_off803 i) a + S1.size a ≤ S37888.size a) ∧
  (∀ (k0_h2 : k0_cond2 i v0 = 1#1), ∀ a, (k0_off807 i) a + S1.size a ≤ S37888.size a) ∧
  (∀ (k0_h2 : k0_cond2 i v0 = 1#1), ∀ a, (k0_off811 i) a + S1.size a ≤ S37888.size a) ∧
  (∀ (k0_h2 : k0_cond2 i v0 = 1#1), ∀ a, (k0_off815 i) a + S1.size a ≤ S37888.size a) ∧
  (∀ (k0_h2 : k0_cond2 i v0 = 1#1), ∀ a, (k0_off819 i) a + S1.size a ≤ S37888.size a) ∧
  (∀ (k0_h2 : k0_cond2 i v0 = 1#1), ∀ a, (k0_off823 i) a + S1.size a ≤ S37888.size a) ∧
  (∀ (k0_h2 : k0_cond2 i v0 = 1#1), ∀ a, (k0_off827 i) a + S1.size a ≤ S37888.size a) ∧
  (∀ (k0_h2 : k0_cond2 i v0 = 1#1), ∀ a, (k0_off831 i) a + S1.size a ≤ S37888.size a) ∧
  (∀ (k0_h2 : k0_cond2 i v0 = 1#1), ∀ a, (k0_off835 i) a + S1.size a ≤ S37888.size a) ∧
  (∀ (k0_h2 : k0_cond2 i v0 = 1#1), ∀ a, (k0_off839 i) a + S1.size a ≤ S37888.size a) ∧
  (∀ (k0_h2 : k0_cond2 i v0 = 1#1), ∀ a, (k0_off843 i) a + S1.size a ≤ S37888.size a) ∧
  (∀ (k0_h2 : k0_cond2 i v0 = 1#1), ∀ a, (k0_off847 i) a + S1.size a ≤ S37888.size a) ∧
  (∀ (k0_h2 : k0_cond2 i v0 = 1#1), ∀ a, (k0_off851 i) a + S1.size a ≤ S37888.size a) ∧
  (∀ (k0_h2 : k0_cond2 i v0 = 1#1), ∀ a, (k0_off855 i) a + S1.size a ≤ S37888.size a) ∧
  (∀ (k0_h2 : k0_cond2 i v0 = 1#1), ∀ a, (k0_off859 i) a + S1.size a ≤ S37888.size a) ∧
  (∀ (k0_h2 : k0_cond2 i v0 = 1#1), ∀ a, (k0_off863 i) a + S1.size a ≤ S37888.size a) ∧
  (∀ (k0_h2 : k0_cond2 i v0 = 1#1), ∀ a, (k0_off867 i) a + S1.size a ≤ S37888.size a) ∧
  (∀ (k0_h2 : k0_cond2 i v0 = 1#1), ∀ a, (k0_off871 i) a + S1.size a ≤ S37888.size a) ∧
  (∀ (k0_h2 : k0_cond2 i v0 = 1#1), ∀ a, (k0_off875 i) a + S1.size a ≤ S37888.size a) ∧
  (∀ (k0_h2 : k0_cond2 i v0 = 1#1), ∀ a, (k0_off879 i) a + S1.size a ≤ S37888.size a) ∧
  (∀ (k0_h2 : k0_cond2 i v0 = 1#1), ∀ a, (k0_off883 i) a + S1.size a ≤ S37888.size a) ∧
  (∀ (k0_h2 : k0_cond2 i v0 = 1#1), ∀ a, (k0_off887 i) a + S1.size a ≤ S37888.size a) ∧
  (∀ (k0_h2 : k0_cond2 i v0 = 1#1), ∀ a, (k0_off891 i) a + S1.size a ≤ S37888.size a) ∧
  (∀ (k0_h2 : k0_cond2 i v0 = 1#1), ∀ a, (k0_off895 i) a + S1.size a ≤ S37888.size a) ∧
  (∀ (k0_h2 : k0_cond2 i v0 = 1#1), ∀ a, (k0_off899 i) a + S1.size a ≤ S37888.size a)
def k0_chk2_7 (i : grid0.Coords) (v0 : BitVec 32) : Prop :=
  (∀ (k0_h2 : k0_cond2 i v0 = 1#1), ∀ a, (k0_off903 i) a + S1.size a ≤ S37888.size a) ∧
  (∀ (k0_h2 : k0_cond2 i v0 = 1#1), ∀ a, (k0_off907 i) a + S1.size a ≤ S37888.size a) ∧
  (∀ (k0_h2 : k0_cond2 i v0 = 1#1), ∀ a, (k0_off911 i) a + S1.size a ≤ S37888.size a) ∧
  (∀ (k0_h2 : k0_cond2 i v0 = 1#1), ∀ a, (k0_off915 i) a + S1.size a ≤ S37888.size a) ∧
  (∀ (k0_h2 : k0_cond2 i v0 = 1#1), ∀ a, (k0_off919 i) a + S1.size a ≤ S37888.size a) ∧
  (∀ (k0_h2 : k0_cond2 i v0 = 1#1), ∀ a, (k0_off923 i) a + S1.size a ≤ S37888.size a) ∧
  (∀ (k0_h2 : k0_cond2 i v0 = 1#1), ∀ a, (k0_off927 i) a + S1.size a ≤ S37888.size a) ∧
  (∀ (k0_h2 : k0_cond2 i v0 = 1#1), ∀ a, (k0_off931 i) a + S1.size a ≤ S37888.size a) ∧
  (∀ (k0_h2 : k0_cond2 i v0 = 1#1), ∀ a, (k0_off935 i) a + S1.size a ≤ S37888.size a) ∧
  (∀ (k0_h2 : k0_cond2 i v0 = 1#1), ∀ a, (k0_off939 i) a + S1.size a ≤ S37888.size a) ∧
  (∀ (k0_h2 : k0_cond2 i v0 = 1#1), ∀ a, (k0_off943 i) a + S1.size a ≤ S37888.size a) ∧
  (∀ (k0_h2 : k0_cond2 i v0 = 1#1), ∀ a, (k0_off947 i) a + S1.size a ≤ S37888.size a) ∧
  (∀ (k0_h2 : k0_cond2 i v0 = 1#1), ∀ a, (k0_off951 i) a + S1.size a ≤ S37888.size a) ∧
  (∀ (k0_h2 : k0_cond2 i v0 = 1#1), ∀ a, (k0_off955 i) a + S1.size a ≤ S37888.size a) ∧
  (∀ (k0_h2 : k0_cond2 i v0 = 1#1), ∀ a, (k0_off959 i) a + S1.size a ≤ S37888.size a) ∧
  (∀ (k0_h2 : k0_cond2 i v0 = 1#1), ∀ a, (k0_off963 i) a + S1.size a ≤ S37888.size a) ∧
  (∀ (k0_h2 : k0_cond2 i v0 = 1#1), ∀ a, (k0_off967 i) a + S1.size a ≤ S37888.size a) ∧
  (∀ (k0_h2 : k0_cond2 i v0 = 1#1), ∀ a, (k0_off971 i) a + S1.size a ≤ S37888.size a) ∧
  (∀ (k0_h2 : k0_cond2 i v0 = 1#1), ∀ a, (k0_off975 i) a + S1.size a ≤ S37888.size a) ∧
  (∀ (k0_h2 : k0_cond2 i v0 = 1#1), ∀ a, (k0_off979 i) a + S1.size a ≤ S37888.size a) ∧
  (∀ (k0_h2 : k0_cond2 i v0 = 1#1), ∀ a, (k0_off983 i) a + S1.size a ≤ S37888.size a) ∧
  (∀ (k0_h2 : k0_cond2 i v0 = 1#1), ∀ a, (k0_off987 i) a + S1.size a ≤ S37888.size a) ∧
  (∀ (k0_h2 : k0_cond2 i v0 = 1#1), ∀ a, (k0_off991 i) a + S1.size a ≤ S37888.size a) ∧
  (∀ (k0_h2 : k0_cond2 i v0 = 1#1), ∀ a, (k0_off995 i) a + S1.size a ≤ S37888.size a) ∧
  (∀ (k0_h2 : k0_cond2 i v0 = 1#1), ∀ a, (k0_off999 i) a + S1.size a ≤ S37888.size a) ∧
  (∀ (k0_h2 : k0_cond2 i v0 = 1#1), ∀ a, (k0_off1003 i) a + S1.size a ≤ S37888.size a) ∧
  (∀ (k0_h2 : k0_cond2 i v0 = 1#1), ∀ a, (k0_off1007 i) a + S1.size a ≤ S37888.size a) ∧
  (∀ (k0_h2 : k0_cond2 i v0 = 1#1), ∀ a, (k0_off1011 i) a + S1.size a ≤ S37888.size a) ∧
  (∀ (k0_h2 : k0_cond2 i v0 = 1#1), ∀ a, (k0_off1015 i) a + S1.size a ≤ S37888.size a) ∧
  (∀ (k0_h2 : k0_cond2 i v0 = 1#1), ∀ a, (k0_off1019 i) a + S1.size a ≤ S37888.size a) ∧
  (∀ (k0_h2 : k0_cond2 i v0 = 1#1), ∀ a, (k0_off1023 i) a + S1.size a ≤ S37888.size a) ∧
  (∀ (k0_h2 : k0_cond2 i v0 = 1#1), ∀ a, (k0_off1027 i) a + S1.size a ≤ S37888.size a)
def k0_chk2 (i : grid0.Coords) (v0 : BitVec 32) : Prop :=
  k0_chk2_0 i v0 ∧
  k0_chk2_1 i v0 ∧
  k0_chk2_2 i v0 ∧
  k0_chk2_3 i v0 ∧
  k0_chk2_4 i v0 ∧
  k0_chk2_5 i v0 ∧
  k0_chk2_6 i v0 ∧
  k0_chk2_7 i v0
theorem k0_off7_inb : ∀ (i : grid0.Coords) (v0 : BitVec 32) (k0_hw2 : k0_chk2 i v0), ∀ (k0_h2 : k0_cond2 i v0 = 1#1), ∀ a, (k0_off7 i) a + S1.size a ≤ S37888.size a := fun i v0 k0_hw2 k0_h2 => k0_hw2.1.1 k0_h2
theorem k0_off11_inb : ∀ (i : grid0.Coords) (v0 : BitVec 32) (k0_hw2 : k0_chk2 i v0), ∀ (k0_h2 : k0_cond2 i v0 = 1#1), ∀ a, (k0_off11 i) a + S1.size a ≤ S37888.size a := fun i v0 k0_hw2 k0_h2 => k0_hw2.1.2.1 k0_h2
theorem k0_off15_inb : ∀ (i : grid0.Coords) (v0 : BitVec 32) (k0_hw2 : k0_chk2 i v0), ∀ (k0_h2 : k0_cond2 i v0 = 1#1), ∀ a, (k0_off15 i) a + S1.size a ≤ S37888.size a := fun i v0 k0_hw2 k0_h2 => k0_hw2.1.2.2.1 k0_h2
theorem k0_off19_inb : ∀ (i : grid0.Coords) (v0 : BitVec 32) (k0_hw2 : k0_chk2 i v0), ∀ (k0_h2 : k0_cond2 i v0 = 1#1), ∀ a, (k0_off19 i) a + S1.size a ≤ S37888.size a := fun i v0 k0_hw2 k0_h2 => k0_hw2.1.2.2.2.1 k0_h2
theorem k0_off23_inb : ∀ (i : grid0.Coords) (v0 : BitVec 32) (k0_hw2 : k0_chk2 i v0), ∀ (k0_h2 : k0_cond2 i v0 = 1#1), ∀ a, (k0_off23 i) a + S1.size a ≤ S37888.size a := fun i v0 k0_hw2 k0_h2 => k0_hw2.1.2.2.2.2.1 k0_h2
theorem k0_off27_inb : ∀ (i : grid0.Coords) (v0 : BitVec 32) (k0_hw2 : k0_chk2 i v0), ∀ (k0_h2 : k0_cond2 i v0 = 1#1), ∀ a, (k0_off27 i) a + S1.size a ≤ S37888.size a := fun i v0 k0_hw2 k0_h2 => k0_hw2.1.2.2.2.2.2.1 k0_h2
theorem k0_off31_inb : ∀ (i : grid0.Coords) (v0 : BitVec 32) (k0_hw2 : k0_chk2 i v0), ∀ (k0_h2 : k0_cond2 i v0 = 1#1), ∀ a, (k0_off31 i) a + S1.size a ≤ S37888.size a := fun i v0 k0_hw2 k0_h2 => k0_hw2.1.2.2.2.2.2.2.1 k0_h2
theorem k0_off35_inb : ∀ (i : grid0.Coords) (v0 : BitVec 32) (k0_hw2 : k0_chk2 i v0), ∀ (k0_h2 : k0_cond2 i v0 = 1#1), ∀ a, (k0_off35 i) a + S1.size a ≤ S37888.size a := fun i v0 k0_hw2 k0_h2 => k0_hw2.1.2.2.2.2.2.2.2.1 k0_h2
theorem k0_off39_inb : ∀ (i : grid0.Coords) (v0 : BitVec 32) (k0_hw2 : k0_chk2 i v0), ∀ (k0_h2 : k0_cond2 i v0 = 1#1), ∀ a, (k0_off39 i) a + S1.size a ≤ S37888.size a := fun i v0 k0_hw2 k0_h2 => k0_hw2.1.2.2.2.2.2.2.2.2.1 k0_h2
theorem k0_off43_inb : ∀ (i : grid0.Coords) (v0 : BitVec 32) (k0_hw2 : k0_chk2 i v0), ∀ (k0_h2 : k0_cond2 i v0 = 1#1), ∀ a, (k0_off43 i) a + S1.size a ≤ S37888.size a := fun i v0 k0_hw2 k0_h2 => k0_hw2.1.2.2.2.2.2.2.2.2.2.1 k0_h2
theorem k0_off47_inb : ∀ (i : grid0.Coords) (v0 : BitVec 32) (k0_hw2 : k0_chk2 i v0), ∀ (k0_h2 : k0_cond2 i v0 = 1#1), ∀ a, (k0_off47 i) a + S1.size a ≤ S37888.size a := fun i v0 k0_hw2 k0_h2 => k0_hw2.1.2.2.2.2.2.2.2.2.2.2.1 k0_h2
theorem k0_off51_inb : ∀ (i : grid0.Coords) (v0 : BitVec 32) (k0_hw2 : k0_chk2 i v0), ∀ (k0_h2 : k0_cond2 i v0 = 1#1), ∀ a, (k0_off51 i) a + S1.size a ≤ S37888.size a := fun i v0 k0_hw2 k0_h2 => k0_hw2.1.2.2.2.2.2.2.2.2.2.2.2.1 k0_h2
theorem k0_off55_inb : ∀ (i : grid0.Coords) (v0 : BitVec 32) (k0_hw2 : k0_chk2 i v0), ∀ (k0_h2 : k0_cond2 i v0 = 1#1), ∀ a, (k0_off55 i) a + S1.size a ≤ S37888.size a := fun i v0 k0_hw2 k0_h2 => k0_hw2.1.2.2.2.2.2.2.2.2.2.2.2.2.1 k0_h2
theorem k0_off59_inb : ∀ (i : grid0.Coords) (v0 : BitVec 32) (k0_hw2 : k0_chk2 i v0), ∀ (k0_h2 : k0_cond2 i v0 = 1#1), ∀ a, (k0_off59 i) a + S1.size a ≤ S37888.size a := fun i v0 k0_hw2 k0_h2 => k0_hw2.1.2.2.2.2.2.2.2.2.2.2.2.2.2.1 k0_h2
theorem k0_off63_inb : ∀ (i : grid0.Coords) (v0 : BitVec 32) (k0_hw2 : k0_chk2 i v0), ∀ (k0_h2 : k0_cond2 i v0 = 1#1), ∀ a, (k0_off63 i) a + S1.size a ≤ S37888.size a := fun i v0 k0_hw2 k0_h2 => k0_hw2.1.2.2.2.2.2.2.2.2.2.2.2.2.2.2.1 k0_h2
theorem k0_off67_inb : ∀ (i : grid0.Coords) (v0 : BitVec 32) (k0_hw2 : k0_chk2 i v0), ∀ (k0_h2 : k0_cond2 i v0 = 1#1), ∀ a, (k0_off67 i) a + S1.size a ≤ S37888.size a := fun i v0 k0_hw2 k0_h2 => k0_hw2.1.2.2.2.2.2.2.2.2.2.2.2.2.2.2.2.1 k0_h2
theorem k0_off71_inb : ∀ (i : grid0.Coords) (v0 : BitVec 32) (k0_hw2 : k0_chk2 i v0), ∀ (k0_h2 : k0_cond2 i v0 = 1#1), ∀ a, (k0_off71 i) a + S1.size a ≤ S37888.size a := fun i v0 k0_hw2 k0_h2 => k0_hw2.1.2.2.2.2.2.2.2.2.2.2.2.2.2.2.2.2.1 k0_h2
theorem k0_off75_inb : ∀ (i : grid0.Coords) (v0 : BitVec 32) (k0_hw2 : k0_chk2 i v0), ∀ (k0_h2 : k0_cond2 i v0 = 1#1), ∀ a, (k0_off75 i) a + S1.size a ≤ S37888.size a := fun i v0 k0_hw2 k0_h2 => k0_hw2.1.2.2.2.2.2.2.2.2.2.2.2.2.2.2.2.2.2.1 k0_h2
theorem k0_off79_inb : ∀ (i : grid0.Coords) (v0 : BitVec 32) (k0_hw2 : k0_chk2 i v0), ∀ (k0_h2 : k0_cond2 i v0 = 1#1), ∀ a, (k0_off79 i) a + S1.size a ≤ S37888.size a := fun i v0 k0_hw2 k0_h2 => k0_hw2.1.2.2.2.2.2.2.2.2.2.2.2.2.2.2.2.2.2.2.1 k0_h2
theorem k0_off83_inb : ∀ (i : grid0.Coords) (v0 : BitVec 32) (k0_hw2 : k0_chk2 i v0), ∀ (k0_h2 : k0_cond2 i v0 = 1#1), ∀ a, (k0_off83 i) a + S1.size a ≤ S37888.size a := fun i v0 k0_hw2 k0_h2 => k0_hw2.1.2.2.2.2.2.2.2.2.2.2.2.2.2.2.2.2.2.2.2.1 k0_h2
theorem k0_off87_inb : ∀ (i : grid0.Coords) (v0 : BitVec 32) (k0_hw2 : k0_chk2 i v0), ∀ (k0_h2 : k0_cond2 i v0 = 1#1), ∀ a, (k0_off87 i) a + S1.size a ≤ S37888.size a := fun i v0 k0_hw2 k0_h2 => k0_hw2.1.2.2.2.2.2.2.2.2.2.2.2.2.2.2.2.2.2.2.2.2.1 k0_h2
theorem k0_off91_inb : ∀ (i : grid0.Coords) (v0 : BitVec 32) (k0_hw2 : k0_chk2 i v0), ∀ (k0_h2 : k0_cond2 i v0 = 1#1), ∀ a, (k0_off91 i) a + S1.size a ≤ S37888.size a := fun i v0 k0_hw2 k0_h2 => k0_hw2.1.2.2.2.2.2.2.2.2.2.2.2.2.2.2.2.2.2.2.2.2.2.1 k0_h2
theorem k0_off95_inb : ∀ (i : grid0.Coords) (v0 : BitVec 32) (k0_hw2 : k0_chk2 i v0), ∀ (k0_h2 : k0_cond2 i v0 = 1#1), ∀ a, (k0_off95 i) a + S1.size a ≤ S37888.size a := fun i v0 k0_hw2 k0_h2 => k0_hw2.1.2.2.2.2.2.2.2.2.2.2.2.2.2.2.2.2.2.2.2.2.2.2.1 k0_h2
theorem k0_off99_inb : ∀ (i : grid0.Coords) (v0 : BitVec 32) (k0_hw2 : k0_chk2 i v0), ∀ (k0_h2 : k0_cond2 i v0 = 1#1), ∀ a, (k0_off99 i) a + S1.size a ≤ S37888.size a := fun i v0 k0_hw2 k0_h2 => k0_hw2.1.2.2.2.2.2.2.2.2.2.2.2.2.2.2.2.2.2.2.2.2.2.2.2.1 k0_h2
theorem k0_off103_inb : ∀ (i : grid0.Coords) (v0 : BitVec 32) (k0_hw2 : k0_chk2 i v0), ∀ (k0_h2 : k0_cond2 i v0 = 1#1), ∀ a, (k0_off103 i) a + S1.size a ≤ S37888.size a := fun i v0 k0_hw2 k0_h2 => k0_hw2.1.2.2.2.2.2.2.2.2.2.2.2.2.2.2.2.2.2.2.2.2.2.2.2.2.1 k0_h2
theorem k0_off107_inb : ∀ (i : grid0.Coords) (v0 : BitVec 32) (k0_hw2 : k0_chk2 i v0), ∀ (k0_h2 : k0_cond2 i v0 = 1#1), ∀ a, (k0_off107 i) a + S1.size a ≤ S37888.size a := fun i v0 k0_hw2 k0_h2 => k0_hw2.1.2.2.2.2.2.2.2.2.2.2.2.2.2.2.2.2.2.2.2.2.2.2.2.2.2.1 k0_h2
theorem k0_off111_inb : ∀ (i : grid0.Coords) (v0 : BitVec 32) (k0_hw2 : k0_chk2 i v0), ∀ (k0_h2 : k0_cond2 i v0 = 1#1), ∀ a, (k0_off111 i) a + S1.size a ≤ S37888.size a := fun i v0 k0_hw2 k0_h2 => k0_hw2.1.2.2.2.2.2.2.2.2.2.2.2.2.2.2.2.2.2.2.2.2.2.2.2.2.2.2.1 k0_h2
theorem k0_off115_inb : ∀ (i : grid0.Coords) (v0 : BitVec 32) (k0_hw2 : k0_chk2 i v0), ∀ (k0_h2 : k0_cond2 i v0 = 1#1), ∀ a, (k0_off115 i) a + S1.size a ≤ S37888.size a := fun i v0 k0_hw2 k0_h2 => k0_hw2.1.2.2.2.2.2.2.2.2.2.2.2.2.2.2.2.2.2.2.2.2.2.2.2.2.2.2.2.1 k0_h2
theorem k0_off119_inb : ∀ (i : grid0.Coords) (v0 : BitVec 32) (k0_hw2 : k0_chk2 i v0), ∀ (k0_h2 : k0_cond2 i v0 = 1#1), ∀ a, (k0_off119 i) a + S1.size a ≤ S37888.size a := fun i v0 k0_hw2 k0_h2 => k0_hw2.1.2.2.2.2.2.2.2.2.2.2.2.2.2.2.2.2.2.2.2.2.2.2.2.2.2.2.2.2.1 k0_h2
theorem k0_off123_inb : ∀ (i : grid0.Coords) (v0 : BitVec 32) (k0_hw2 : k0_chk2 i v0), ∀ (k0_h2 : k0_cond2 i v0 = 1#1), ∀ a, (k0_off123 i) a + S1.size a ≤ S37888.size a := fun i v0 k0_hw2 k0_h2 => k0_hw2.1.2.2.2.2.2.2.2.2.2.2.2.2.2.2.2.2.2.2.2.2.2.2.2.2.2.2.2.2.2.1 k0_h2
theorem k0_off127_inb : ∀ (i : grid0.Coords) (v0 : BitVec 32) (k0_hw2 : k0_chk2 i v0), ∀ (k0_h2 : k0_cond2 i v0 = 1#1), ∀ a, (k0_off127 i) a + S1.size a ≤ S37888.size a := fun i v0 k0_hw2 k0_h2 => k0_hw2.1.2.2.2.2.2.2.2.2.2.2.2.2.2.2.2.2.2.2.2.2.2.2.2.2.2.2.2.2.2.2.1 k0_h2
theorem k0_off131_inb : ∀ (i : grid0.Coords) (v0 : BitVec 32) (k0_hw2 : k0_chk2 i v0), ∀ (k0_h2 : k0_cond2 i v0 = 1#1), ∀ a, (k0_off131 i) a + S1.size a ≤ S37888.size a := fun i v0 k0_hw2 k0_h2 => k0_hw2.1.2.2.2.2.2.2.2.2.2.2.2.2.2.2.2.2.2.2.2.2.2.2.2.2.2.2.2.2.2.2.2 k0_h2
theorem k0_off135_inb : ∀ (i : grid0.Coords) (v0 : BitVec 32) (k0_hw2 : k0_chk2 i v0), ∀ (k0_h2 : k0_cond2 i v0 = 1#1), ∀ a, (k0_off135 i) a + S1.size a ≤ S37888.size a := fun i v0 k0_hw2 k0_h2 => k0_hw2.2.1.1 k0_h2
theorem k0_off139_inb : ∀ (i : grid0.Coords) (v0 : BitVec 32) (k0_hw2 : k0_chk2 i v0), ∀ (k0_h2 : k0_cond2 i v0 = 1#1), ∀ a, (k0_off139 i) a + S1.size a ≤ S37888.size a := fun i v0 k0_hw2 k0_h2 => k0_hw2.2.1.2.1 k0_h2
theorem k0_off143_inb : ∀ (i : grid0.Coords) (v0 : BitVec 32) (k0_hw2 : k0_chk2 i v0), ∀ (k0_h2 : k0_cond2 i v0 = 1#1), ∀ a, (k0_off143 i) a + S1.size a ≤ S37888.size a := fun i v0 k0_hw2 k0_h2 => k0_hw2.2.1.2.2.1 k0_h2
theorem k0_off147_inb : ∀ (i : grid0.Coords) (v0 : BitVec 32) (k0_hw2 : k0_chk2 i v0), ∀ (k0_h2 : k0_cond2 i v0 = 1#1), ∀ a, (k0_off147 i) a + S1.size a ≤ S37888.size a := fun i v0 k0_hw2 k0_h2 => k0_hw2.2.1.2.2.2.1 k0_h2
theorem k0_off151_inb : ∀ (i : grid0.Coords) (v0 : BitVec 32) (k0_hw2 : k0_chk2 i v0), ∀ (k0_h2 : k0_cond2 i v0 = 1#1), ∀ a, (k0_off151 i) a + S1.size a ≤ S37888.size a := fun i v0 k0_hw2 k0_h2 => k0_hw2.2.1.2.2.2.2.1 k0_h2
theorem k0_off155_inb : ∀ (i : grid0.Coords) (v0 : BitVec 32) (k0_hw2 : k0_chk2 i v0), ∀ (k0_h2 : k0_cond2 i v0 = 1#1), ∀ a, (k0_off155 i) a + S1.size a ≤ S37888.size a := fun i v0 k0_hw2 k0_h2 => k0_hw2.2.1.2.2.2.2.2.1 k0_h2
theorem k0_off159_inb : ∀ (i : grid0.Coords) (v0 : BitVec 32) (k0_hw2 : k0_chk2 i v0), ∀ (k0_h2 : k0_cond2 i v0 = 1#1), ∀ a, (k0_off159 i) a + S1.size a ≤ S37888.size a := fun i v0 k0_hw2 k0_h2 => k0_hw2.2.1.2.2.2.2.2.2.1 k0_h2
theorem k0_off163_inb : ∀ (i : grid0.Coords) (v0 : BitVec 32) (k0_hw2 : k0_chk2 i v0), ∀ (k0_h2 : k0_cond2 i v0 = 1#1), ∀ a, (k0_off163 i) a + S1.size a ≤ S37888.size a := fun i v0 k0_hw2 k0_h2 => k0_hw2.2.1.2.2.2.2.2.2.2.1 k0_h2
theorem k0_off167_inb : ∀ (i : grid0.Coords) (v0 : BitVec 32) (k0_hw2 : k0_chk2 i v0), ∀ (k0_h2 : k0_cond2 i v0 = 1#1), ∀ a, (k0_off167 i) a + S1.size a ≤ S37888.size a := fun i v0 k0_hw2 k0_h2 => k0_hw2.2.1.2.2.2.2.2.2.2.2.1 k0_h2
theorem k0_off171_inb : ∀ (i : grid0.Coords) (v0 : BitVec 32) (k0_hw2 : k0_chk2 i v0), ∀ (k0_h2 : k0_cond2 i v0 = 1#1), ∀ a, (k0_off171 i) a + S1.size a ≤ S37888.size a := fun i v0 k0_hw2 k0_h2 => k0_hw2.2.1.2.2.2.2.2.2.2.2.2.1 k0_h2
theorem k0_off175_inb : ∀ (i : grid0.Coords) (v0 : BitVec 32) (k0_hw2 : k0_chk2 i v0), ∀ (k0_h2 : k0_cond2 i v0 = 1#1), ∀ a, (k0_off175 i) a + S1.size a ≤ S37888.size a := fun i v0 k0_hw2 k0_h2 => k0_hw2.2.1.2.2.2.2.2.2.2.2.2.2.1 k0_h2
theorem k0_off179_inb : ∀ (i : grid0.Coords) (v0 : BitVec 32) (k0_hw2 : k0_chk2 i v0), ∀ (k0_h2 : k0_cond2 i v0 = 1#1), ∀ a, (k0_off179 i) a + S1.size a ≤ S37888.size a := fun i v0 k0_hw2 k0_h2 => k0_hw2.2.1.2.2.2.2.2.2.2.2.2.2.2.1 k0_h2
theorem k0_off183_inb : ∀ (i : grid0.Coords) (v0 : BitVec 32) (k0_hw2 : k0_chk2 i v0), ∀ (k0_h2 : k0_cond2 i v0 = 1#1), ∀ a, (k0_off183 i) a + S1.size a ≤ S37888.size a := fun i v0 k0_hw2 k0_h2 => k0_hw2.2.1.2.2.2.2.2.2.2.2.2.2.2.2.1 k0_h2
theorem k0_off187_inb : ∀ (i : grid0.Coords) (v0 : BitVec 32) (k0_hw2 : k0_chk2 i v0), ∀ (k0_h2 : k0_cond2 i v0 = 1#1), ∀ a, (k0_off187 i) a + S1.size a ≤ S37888.size a := fun i v0 k0_hw2 k0_h2 => k0_hw2.2.1.2.2.2.2.2.2.2.2.2.2.2.2.2.1 k0_h2
theorem k0_off191_inb : ∀ (i : grid0.Coords) (v0 : BitVec 32) (k0_hw2 : k0_chk2 i v0), ∀ (k0_h2 : k0_cond2 i v0 = 1#1), ∀ a, (k0_off191 i) a + S1.size a ≤ S37888.size a := fun i v0 k0_hw2 k0_h2 => k0_hw2.2.1.2.2.2.2.2.2.2.2.2.2.2.2.2.2.1 k0_h2
theorem k0_off195_inb : ∀ (i : grid0.Coords) (v0 : BitVec 32) (k0_hw2 : k0_chk2 i v0), ∀ (k0_h2 : k0_cond2 i v0 = 1#1), ∀ a, (k0_off195 i) a + S1.size a ≤ S37888.size a := fun i v0 k0_hw2 k0_h2 => k0_hw2.2.1.2.2.2.2.2.2.2.2.2.2.2.2.2.2.2.1 k0_h2
theorem k0_off199_inb : ∀ (i : grid0.Coords) (v0 : BitVec 32) (k0_hw2 : k0_chk2 i v0), ∀ (k0_h2 : k0_cond2 i v0 = 1#1), ∀ a, (k0_off199 i) a + S1.size a ≤ S37888.size a := fun i v0 k0_hw2 k0_h2 => k0_hw2.2.1.2.2.2.2.2.2.2.2.2.2.2.2.2.2.2.2.1 k0_h2
theorem k0_off203_inb : ∀ (i : grid0.Coords) (v0 : BitVec 32) (k0_hw2 : k0_chk2 i v0), ∀ (k0_h2 : k0_cond2 i v0 = 1#1), ∀ a, (k0_off203 i) a + S1.size a ≤ S37888.size a := fun i v0 k0_hw2 k0_h2 => k0_hw2.2.1.2.2.2.2.2.2.2.2.2.2.2.2.2.2.2.2.2.1 k0_h2
theorem k0_off207_inb : ∀ (i : grid0.Coords) (v0 : BitVec 32) (k0_hw2 : k0_chk2 i v0), ∀ (k0_h2 : k0_cond2 i v0 = 1#1), ∀ a, (k0_off207 i) a + S1.size a ≤ S37888.size a := fun i v0 k0_hw2 k0_h2 => k0_hw2.2.1.2.2.2.2.2.2.2.2.2.2.2.2.2.2.2.2.2.2.1 k0_h2
theorem k0_off211_inb : ∀ (i : grid0.Coords) (v0 : BitVec 32) (k0_hw2 : k0_chk2 i v0), ∀ (k0_h2 : k0_cond2 i v0 = 1#1), ∀ a, (k0_off211 i) a + S1.size a ≤ S37888.size a := fun i v0 k0_hw2 k0_h2 => k0_hw2.2.1.2.2.2.2.2.2.2.2.2.2.2.2.2.2.2.2.2.2.2.1 k0_h2
theorem k0_off215_inb : ∀ (i : grid0.Coords) (v0 : BitVec 32) (k0_hw2 : k0_chk2 i v0), ∀ (k0_h2 : k0_cond2 i v0 = 1#1), ∀ a, (k0_off215 i) a + S1.size a ≤ S37888.size a := fun i v0 k0_hw2 k0_h2 => k0_hw2.2.1.2.2.2.2.2.2.2.2.2.2.2.2.2.2.2.2.2.2.2.2.1 k0_h2
theorem k0_off219_inb : ∀ (i : grid0.Coords) (v0 : BitVec 32) (k0_hw2 : k0_chk2 i v0), ∀ (k0_h2 : k0_cond2 i v0 = 1#1), ∀ a, (k0_off219 i) a + S1.size a ≤ S37888.size a := fun i v0 k0_hw2 k0_h2 => k0_hw2.2.1.2.2.2.2.2.2.2.2.2.2.2.2.2.2.2.2.2.2.2.2.2.1 k0_h2
theorem k0_off223_inb : ∀ (i : grid0.Coords) (v0 : BitVec 32) (k0_hw2 : k0_chk2 i v0), ∀ (k0_h2 : k0_cond2 i v0 = 1#1), ∀ a, (k0_off223 i) a + S1.size a ≤ S37888.size a := fun i v0 k0_hw2 k0_h2 => k0_hw2.2.1.2.2.2.2.2.2.2.2.2.2.2.2.2.2.2.2.2.2.2.2.2.2.1 k0_h2
theorem k0_off227_inb : ∀ (i : grid0.Coords) (v0 : BitVec 32) (k0_hw2 : k0_chk2 i v0), ∀ (k0_h2 : k0_cond2 i v0 = 1#1), ∀ a, (k0_off227 i) a + S1.size a ≤ S37888.size a := fun i v0 k0_hw2 k0_h2 => k0_hw2.2.1.2.2.2.2.2.2.2.2.2.2.2.2.2.2.2.2.2.2.2.2.2.2.2.1 k0_h2
theorem k0_off231_inb : ∀ (i : grid0.Coords) (v0 : BitVec 32) (k0_hw2 : k0_chk2 i v0), ∀ (k0_h2 : k0_cond2 i v0 = 1#1), ∀ a, (k0_off231 i) a + S1.size a ≤ S37888.size a := fun i v0 k0_hw2 k0_h2 => k0_hw2.2.1.2.2.2.2.2.2.2.2.2.2.2.2.2.2.2.2.2.2.2.2.2.2.2.2.1 k0_h2
theorem k0_off235_inb : ∀ (i : grid0.Coords) (v0 : BitVec 32) (k0_hw2 : k0_chk2 i v0), ∀ (k0_h2 : k0_cond2 i v0 = 1#1), ∀ a, (k0_off235 i) a + S1.size a ≤ S37888.size a := fun i v0 k0_hw2 k0_h2 => k0_hw2.2.1.2.2.2.2.2.2.2.2.2.2.2.2.2.2.2.2.2.2.2.2.2.2.2.2.2.1 k0_h2
theorem k0_off239_inb : ∀ (i : grid0.Coords) (v0 : BitVec 32) (k0_hw2 : k0_chk2 i v0), ∀ (k0_h2 : k0_cond2 i v0 = 1#1), ∀ a, (k0_off239 i) a + S1.size a ≤ S37888.size a := fun i v0 k0_hw2 k0_h2 => k0_hw2.2.1.2.2.2.2.2.2.2.2.2.2.2.2.2.2.2.2.2.2.2.2.2.2.2.2.2.2.1 k0_h2
theorem k0_off243_inb : ∀ (i : grid0.Coords) (v0 : BitVec 32) (k0_hw2 : k0_chk2 i v0), ∀ (k0_h2 : k0_cond2 i v0 = 1#1), ∀ a, (k0_off243 i) a + S1.size a ≤ S37888.size a := fun i v0 k0_hw2 k0_h2 => k0_hw2.2.1.2.2.2.2.2.2.2.2.2.2.2.2.2.2.2.2.2.2.2.2.2.2.2.2.2.2.2.1 k0_h2
theorem k0_off247_inb : ∀ (i : grid0.Coords) (v0 : BitVec 32) (k0_hw2 : k0_chk2 i v0), ∀ (k0_h2 : k0_cond2 i v0 = 1#1), ∀ a, (k0_off247 i) a + S1.size a ≤ S37888.size a := fun i v0 k0_hw2 k0_h2 => k0_hw2.2.1.2.2.2.2.2.2.2.2.2.2.2.2.2.2.2.2.2.2.2.2.2.2.2.2.2.2.2.2.1 k0_h2
theorem k0_off251_inb : ∀ (i : grid0.Coords) (v0 : BitVec 32) (k0_hw2 : k0_chk2 i v0), ∀ (k0_h2 : k0_cond2 i v0 = 1#1), ∀ a, (k0_off251 i) a + S1.size a ≤ S37888.size a := fun i v0 k0_hw2 k0_h2 => k0_hw2.2.1.2.2.2.2.2.2.2.2.2.2.2.2.2.2.2.2.2.2.2.2.2.2.2.2.2.2.2.2.2.1 k0_h2
theorem k0_off255_inb : ∀ (i : grid0.Coords) (v0 : BitVec 32) (k0_hw2 : k0_chk2 i v0), ∀ (k0_h2 : k0_cond2 i v0 = 1#1), ∀ a, (k0_off255 i) a + S1.size a ≤ S37888.size a := fun i v0 k0_hw2 k0_h2 => k0_hw2.2.1.2.2.2.2.2.2.2.2.2.2.2.2.2.2.2.2.2.2.2.2.2.2.2.2.2.2.2.2.2.2.1 k0_h2
theorem k0_off259_inb : ∀ (i : grid0.Coords) (v0 : BitVec 32) (k0_hw2 : k0_chk2 i v0), ∀ (k0_h2 : k0_cond2 i v0 = 1#1), ∀ a, (k0_off259 i) a + S1.size a ≤ S37888.size a := fun i v0 k0_hw2 k0_h2 => k0_hw2.2.1.2.2.2.2.2.2.2.2.2.2.2.2.2.2.2.2.2.2.2.2.2.2.2.2.2.2.2.2.2.2.2 k0_h2
theorem k0_off263_inb : ∀ (i : grid0.Coords) (v0 : BitVec 32) (k0_hw2 : k0_chk2 i v0), ∀ (k0_h2 : k0_cond2 i v0 = 1#1), ∀ a, (k0_off263 i) a + S1.size a ≤ S37888.size a := fun i v0 k0_hw2 k0_h2 => k0_hw2.2.2.1.1 k0_h2
theorem k0_off267_inb : ∀ (i : grid0.Coords) (v0 : BitVec 32) (k0_hw2 : k0_chk2 i v0), ∀ (k0_h2 : k0_cond2 i v0 = 1#1), ∀ a, (k0_off267 i) a + S1.size a ≤ S37888.size a := fun i v0 k0_hw2 k0_h2 => k0_hw2.2.2.1.2.1 k0_h2
theorem k0_off271_inb : ∀ (i : grid0.Coords) (v0 : BitVec 32) (k0_hw2 : k0_chk2 i v0), ∀ (k0_h2 : k0_cond2 i v0 = 1#1), ∀ a, (k0_off271 i) a + S1.size a ≤ S37888.size a := fun i v0 k0_hw2 k0_h2 => k0_hw2.2.2.1.2.2.1 k0_h2
theorem k0_off275_inb : ∀ (i : grid0.Coords) (v0 : BitVec 32) (k0_hw2 : k0_chk2 i v0), ∀ (k0_h2 : k0_cond2 i v0 = 1#1), ∀ a, (k0_off275 i) a + S1.size a ≤ S37888.size a := fun i v0 k0_hw2 k0_h2 => k0_hw2.2.2.1.2.2.2.1 k0_h2
theorem k0_off279_inb : ∀ (i : grid0.Coords) (v0 : BitVec 32) (k0_hw2 : k0_chk2 i v0), ∀ (k0_h2 : k0_cond2 i v0 = 1#1), ∀ a, (k0_off279 i) a + S1.size a ≤ S37888.size a := fun i v0 k0_hw2 k0_h2 => k0_hw2.2.2.1.2.2.2.2.1 k0_h2
theorem k0_off283_inb : ∀ (i : grid0.Coords) (v0 : BitVec 32) (k0_hw2 : k0_chk2 i v0), ∀ (k0_h2 : k0_cond2 i v0 = 1#1), ∀ a, (k0_off283 i) a + S1.size a ≤ S37888.size a := fun i v0 k0_hw2 k0_h2 => k0_hw2.2.2.1.2.2.2.2.2.1 k0_h2
theorem k0_off287_inb : ∀ (i : grid0.Coords) (v0 : BitVec 32) (k0_hw2 : k0_chk2 i v0), ∀ (k0_h2 : k0_cond2 i v0 = 1#1), ∀ a, (k0_off287 i) a + S1.size a ≤ S37888.size a := fun i v0 k0_hw2 k0_h2 => k0_hw2.2.2.1.2.2.2.2.2.2.1 k0_h2
theorem k0_off291_inb : ∀ (i : grid0.Coords) (v0 : BitVec 32) (k0_hw2 : k0_chk2 i v0), ∀ (k0_h2 : k0_cond2 i v0 = 1#1), ∀ a, (k0_off291 i) a + S1.size a ≤ S37888.size a := fun i v0 k0_hw2 k0_h2 => k0_hw2.2.2.1.2.2.2.2.2.2.2.1 k0_h2
theorem k0_off295_inb : ∀ (i : grid0.Coords) (v0 : BitVec 32) (k0_hw2 : k0_chk2 i v0), ∀ (k0_h2 : k0_cond2 i v0 = 1#1), ∀ a, (k0_off295 i) a + S1.size a ≤ S37888.size a := fun i v0 k0_hw2 k0_h2 => k0_hw2.2.2.1.2.2.2.2.2.2.2.2.1 k0_h2
theorem k0_off299_inb : ∀ (i : grid0.Coords) (v0 : BitVec 32) (k0_hw2 : k0_chk2 i v0), ∀ (k0_h2 : k0_cond2 i v0 = 1#1), ∀ a, (k0_off299 i) a + S1.size a ≤ S37888.size a := fun i v0 k0_hw2 k0_h2 => k0_hw2.2.2.1.2.2.2.2.2.2.2.2.2.1 k0_h2
theorem k0_off303_inb : ∀ (i : grid0.Coords) (v0 : BitVec 32) (k0_hw2 : k0_chk2 i v0), ∀ (k0_h2 : k0_cond2 i v0 = 1#1), ∀ a, (k0_off303 i) a + S1.size a ≤ S37888.size a := fun i v0 k0_hw2 k0_h2 => k0_hw2.2.2.1.2.2.2.2.2.2.2.2.2.2.1 k0_h2
theorem k0_off307_inb : ∀ (i : grid0.Coords) (v0 : BitVec 32) (k0_hw2 : k0_chk2 i v0), ∀ (k0_h2 : k0_cond2 i v0 = 1#1), ∀ a, (k0_off307 i) a + S1.size a ≤ S37888.size a := fun i v0 k0_hw2 k0_h2 => k0_hw2.2.2.1.2.2.2.2.2.2.2.2.2.2.2.1 k0_h2
theorem k0_off311_inb : ∀ (i : grid0.Coords) (v0 : BitVec 32) (k0_hw2 : k0_chk2 i v0), ∀ (k0_h2 : k0_cond2 i v0 = 1#1), ∀ a, (k0_off311 i) a + S1.size a ≤ S37888.size a := fun i v0 k0_hw2 k0_h2 => k0_hw2.2.2.1.2.2.2.2.2.2.2.2.2.2.2.2.1 k0_h2
theorem k0_off315_inb : ∀ (i : grid0.Coords) (v0 : BitVec 32) (k0_hw2 : k0_chk2 i v0), ∀ (k0_h2 : k0_cond2 i v0 = 1#1), ∀ a, (k0_off315 i) a + S1.size a ≤ S37888.size a := fun i v0 k0_hw2 k0_h2 => k0_hw2.2.2.1.2.2.2.2.2.2.2.2.2.2.2.2.2.1 k0_h2
theorem k0_off319_inb : ∀ (i : grid0.Coords) (v0 : BitVec 32) (k0_hw2 : k0_chk2 i v0), ∀ (k0_h2 : k0_cond2 i v0 = 1#1), ∀ a, (k0_off319 i) a + S1.size a ≤ S37888.size a := fun i v0 k0_hw2 k0_h2 => k0_hw2.2.2.1.2.2.2.2.2.2.2.2.2.2.2.2.2.2.1 k0_h2
theorem k0_off323_inb : ∀ (i : grid0.Coords) (v0 : BitVec 32) (k0_hw2 : k0_chk2 i v0), ∀ (k0_h2 : k0_cond2 i v0 = 1#1), ∀ a, (k0_off323 i) a + S1.size a ≤ S37888.size a := fun i v0 k0_hw2 k0_h2 => k0_hw2.2.2.1.2.2.2.2.2.2.2.2.2.2.2.2.2.2.2.1 k0_h2
theorem k0_off327_inb : ∀ (i : grid0.Coords) (v0 : BitVec 32) (k0_hw2 : k0_chk2 i v0), ∀ (k0_h2 : k0_cond2 i v0 = 1#1), ∀ a, (k0_off327 i) a + S1.size a ≤ S37888.size a := fun i v0 k0_hw2 k0_h2 => k0_hw2.2.2.1.2.2.2.2.2.2.2.2.2.2.2.2.2.2.2.2.1 k0_h2
theorem k0_off331_inb : ∀ (i : grid0.Coords) (v0 : BitVec 32) (k0_hw2 : k0_chk2 i v0), ∀ (k0_h2 : k0_cond2 i v0 = 1#1), ∀ a, (k0_off331 i) a + S1.size a ≤ S37888.size a := fun i v0 k0_hw2 k0_h2 => k0_hw2.2.2.1.2.2.2.2.2.2.2.2.2.2.2.2.2.2.2.2.2.1 k0_h2
theorem k0_off335_inb : ∀ (i : grid0.Coords) (v0 : BitVec 32) (k0_hw2 : k0_chk2 i v0), ∀ (k0_h2 : k0_cond2 i v0 = 1#1), ∀ a, (k0_off335 i) a + S1.size a ≤ S37888.size a := fun i v0 k0_hw2 k0_h2 => k0_hw2.2.2.1.2.2.2.2.2.2.2.2.2.2.2.2.2.2.2.2.2.2.1 k0_h2
theorem k0_off339_inb : ∀ (i : grid0.Coords) (v0 : BitVec 32) (k0_hw2 : k0_chk2 i v0), ∀ (k0_h2 : k0_cond2 i v0 = 1#1), ∀ a, (k0_off339 i) a + S1.size a ≤ S37888.size a := fun i v0 k0_hw2 k0_h2 => k0_hw2.2.2.1.2.2.2.2.2.2.2.2.2.2.2.2.2.2.2.2.2.2.2.1 k0_h2
theorem k0_off343_inb : ∀ (i : grid0.Coords) (v0 : BitVec 32) (k0_hw2 : k0_chk2 i v0), ∀ (k0_h2 : k0_cond2 i v0 = 1#1), ∀ a, (k0_off343 i) a + S1.size a ≤ S37888.size a := fun i v0 k0_hw2 k0_h2 => k0_hw2.2.2.1.2.2.2.2.2.2.2.2.2.2.2.2.2.2.2.2.2.2.2.2.1 k0_h2
theorem k0_off347_inb : ∀ (i : grid0.Coords) (v0 : BitVec 32) (k0_hw2 : k0_chk2 i v0), ∀ (k0_h2 : k0_cond2 i v0 = 1#1), ∀ a, (k0_off347 i) a + S1.size a ≤ S37888.size a := fun i v0 k0_hw2 k0_h2 => k0_hw2.2.2.1.2.2.2.2.2.2.2.2.2.2.2.2.2.2.2.2.2.2.2.2.2.1 k0_h2
theorem k0_off351_inb : ∀ (i : grid0.Coords) (v0 : BitVec 32) (k0_hw2 : k0_chk2 i v0), ∀ (k0_h2 : k0_cond2 i v0 = 1#1), ∀ a, (k0_off351 i) a + S1.size a ≤ S37888.size a := fun i v0 k0_hw2 k0_h2 => k0_hw2.2.2.1.2.2.2.2.2.2.2.2.2.2.2.2.2.2.2.2.2.2.2.2.2.2.1 k0_h2
theorem k0_off355_inb : ∀ (i : grid0.Coords) (v0 : BitVec 32) (k0_hw2 : k0_chk2 i v0), ∀ (k0_h2 : k0_cond2 i v0 = 1#1), ∀ a, (k0_off355 i) a + S1.size a ≤ S37888.size a := fun i v0 k0_hw2 k0_h2 => k0_hw2.2.2.1.2.2.2.2.2.2.2.2.2.2.2.2.2.2.2.2.2.2.2.2.2.2.2.1 k0_h2
theorem k0_off359_inb : ∀ (i : grid0.Coords) (v0 : BitVec 32) (k0_hw2 : k0_chk2 i v0), ∀ (k0_h2 : k0_cond2 i v0 = 1#1), ∀ a, (k0_off359 i) a + S1.size a ≤ S37888.size a := fun i v0 k0_hw2 k0_h2 => k0_hw2.2.2.1.2.2.2.2.2.2.2.2.2.2.2.2.2.2.2.2.2.2.2.2.2.2.2.2.1 k0_h2
theorem k0_off363_inb : ∀ (i : grid0.Coords) (v0 : BitVec 32) (k0_hw2 : k0_chk2 i v0), ∀ (k0_h2 : k0_cond2 i v0 = 1#1), ∀ a, (k0_off363 i) a + S1.size a ≤ S37888.size a := fun i v0 k0_hw2 k0_h2 => k0_hw2.2.2.1.2.2.2.2.2.2.2.2.2.2.2.2.2.2.2.2.2.2.2.2.2.2.2.2.2.1 k0_h2
theorem k0_off367_inb : ∀ (i : grid0.Coords) (v0 : BitVec 32) (k0_hw2 : k0_chk2 i v0), ∀ (k0_h2 : k0_cond2 i v0 = 1#1), ∀ a, (k0_off367 i) a + S1.size a ≤ S37888.size a := fun i v0 k0_hw2 k0_h2 => k0_hw2.2.2.1.2.2.2.2.2.2.2.2.2.2.2.2.2.2.2.2.2.2.2.2.2.2.2.2.2.2.1 k0_h2
theorem k0_off371_inb : ∀ (i : grid0.Coords) (v0 : BitVec 32) (k0_hw2 : k0_chk2 i v0), ∀ (k0_h2 : k0_cond2 i v0 = 1#1), ∀ a, (k0_off371 i) a + S1.size a ≤ S37888.size a := fun i v0 k0_hw2 k0_h2 => k0_hw2.2.2.1.2.2.2.2.2.2.2.2.2.2.2.2.2.2.2.2.2.2.2.2.2.2.2.2.2.2.2.1 k0_h2
theorem k0_off375_inb : ∀ (i : grid0.Coords) (v0 : BitVec 32) (k0_hw2 : k0_chk2 i v0), ∀ (k0_h2 : k0_cond2 i v0 = 1#1), ∀ a, (k0_off375 i) a + S1.size a ≤ S37888.size a := fun i v0 k0_hw2 k0_h2 => k0_hw2.2.2.1.2.2.2.2.2.2.2.2.2.2.2.2.2.2.2.2.2.2.2.2.2.2.2.2.2.2.2.2.1 k0_h2
theorem k0_off379_inb : ∀ (i : grid0.Coords) (v0 : BitVec 32) (k0_hw2 : k0_chk2 i v0), ∀ (k0_h2 : k0_cond2 i v0 = 1#1), ∀ a, (k0_off379 i) a + S1.size a ≤ S37888.size a := fun i v0 k0_hw2 k0_h2 => k0_hw2.2.2.1.2.2.2.2.2.2.2.2.2.2.2.2.2.2.2.2.2.2.2.2.2.2.2.2.2.2.2.2.2.1 k0_h2
theorem k0_off383_inb : ∀ (i : grid0.Coords) (v0 : BitVec 32) (k0_hw2 : k0_chk2 i v0), ∀ (k0_h2 : k0_cond2 i v0 = 1#1), ∀ a, (k0_off383 i) a + S1.size a ≤ S37888.size a := fun i v0 k0_hw2 k0_h2 => k0_hw2.2.2.1.2.2.2.2.2.2.2.2.2.2.2.2.2.2.2.2.2.2.2.2.2.2.2.2.2.2.2.2.2.2.1 k0_h2
theorem k0_off387_inb : ∀ (i : grid0.Coords) (v0 : BitVec 32) (k0_hw2 : k0_chk2 i v0), ∀ (k0_h2 : k0_cond2 i v0 = 1#1), ∀ a, (k0_off387 i) a + S1.size a ≤ S37888.size a := fun i v0 k0_hw2 k0_h2 => k0_hw2.2.2.1.2.2.2.2.2.2.2.2.2.2.2.2.2.2.2.2.2.2.2.2.2.2.2.2.2.2.2.2.2.2.2 k0_h2
theorem k0_off391_inb : ∀ (i : grid0.Coords) (v0 : BitVec 32) (k0_hw2 : k0_chk2 i v0), ∀ (k0_h2 : k0_cond2 i v0 = 1#1), ∀ a, (k0_off391 i) a + S1.size a ≤ S37888.size a := fun i v0 k0_hw2 k0_h2 => k0_hw2.2.2.2.1.1 k0_h2
theorem k0_off395_inb : ∀ (i : grid0.Coords) (v0 : BitVec 32) (k0_hw2 : k0_chk2 i v0), ∀ (k0_h2 : k0_cond2 i v0 = 1#1), ∀ a, (k0_off395 i) a + S1.size a ≤ S37888.size a := fun i v0 k0_hw2 k0_h2 => k0_hw2.2.2.2.1.2.1 k0_h2
theorem k0_off399_inb : ∀ (i : grid0.Coords) (v0 : BitVec 32) (k0_hw2 : k0_chk2 i v0), ∀ (k0_h2 : k0_cond2 i v0 = 1#1), ∀ a, (k0_off399 i) a + S1.size a ≤ S37888.size a := fun i v0 k0_hw2 k0_h2 => k0_hw2.2.2.2.1.2.2.1 k0_h2
theorem k0_off403_inb : ∀ (i : grid0.Coords) (v0 : BitVec 32) (k0_hw2 : k0_chk2 i v0), ∀ (k0_h2 : k0_cond2 i v0 = 1#1), ∀ a, (k0_off403 i) a + S1.size a ≤ S37888.size a := fun i v0 k0_hw2 k0_h2 => k0_hw2.2.2.2.1.2.2.2.1 k0_h2
theorem k0_off407_inb : ∀ (i : grid0.Coords) (v0 : BitVec 32) (k0_hw2 : k0_chk2 i v0), ∀ (k0_h2 : k0_cond2 i v0 = 1#1), ∀ a, (k0_off407 i) a + S1.size a ≤ S37888.size a := fun i v0 k0_hw2 k0_h2 => k0_hw2.2.2.2.1.2.2.2.2.1 k0_h2
theorem k0_off411_inb : ∀ (i : grid0.Coords) (v0 : BitVec 32) (k0_hw2 : k0_chk2 i v0), ∀ (k0_h2 : k0_cond2 i v0 = 1#1), ∀ a, (k0_off411 i) a + S1.size a ≤ S37888.size a := fun i v0 k0_hw2 k0_h2 => k0_hw2.2.2.2.1.2.2.2.2.2.1 k0_h2
theorem k0_off415_inb : ∀ (i : grid0.Coords) (v0 : BitVec 32) (k0_hw2 : k0_chk2 i v0), ∀ (k0_h2 : k0_cond2 i v0 = 1#1), ∀ a, (k0_off415 i) a + S1.size a ≤ S37888.size a := fun i v0 k0_hw2 k0_h2 => k0_hw2.2.2.2.1.2.2.2.2.2.2.1 k0_h2
theorem k0_off419_inb : ∀ (i : grid0.Coords) (v0 : BitVec 32) (k0_hw2 : k0_chk2 i v0), ∀ (k0_h2 : k0_cond2 i v0 = 1#1), ∀ a, (k0_off419 i) a + S1.size a ≤ S37888.size a := fun i v0 k0_hw2 k0_h2 => k0_hw2.2.2.2.1.2.2.2.2.2.2.2.1 k0_h2
theorem k0_off423_inb : ∀ (i : grid0.Coords) (v0 : BitVec 32) (k0_hw2 : k0_chk2 i v0), ∀ (k0_h2 : k0_cond2 i v0 = 1#1), ∀ a, (k0_off423 i) a + S1.size a ≤ S37888.size a := fun i v0 k0_hw2 k0_h2 => k0_hw2.2.2.2.1.2.2.2.2.2.2.2.2.1 k0_h2
theorem k0_off427_inb : ∀ (i : grid0.Coords) (v0 : BitVec 32) (k0_hw2 : k0_chk2 i v0), ∀ (k0_h2 : k0_cond2 i v0 = 1#1), ∀ a, (k0_off427 i) a + S1.size a ≤ S37888.size a := fun i v0 k0_hw2 k0_h2 => k0_hw2.2.2.2.1.2.2.2.2.2.2.2.2.2.1 k0_h2
theorem k0_off431_inb : ∀ (i : grid0.Coords) (v0 : BitVec 32) (k0_hw2 : k0_chk2 i v0), ∀ (k0_h2 : k0_cond2 i v0 = 1#1), ∀ a, (k0_off431 i) a + S1.size a ≤ S37888.size a := fun i v0 k0_hw2 k0_h2 => k0_hw2.2.2.2.1.2.2.2.2.2.2.2.2.2.2.1 k0_h2
theorem k0_off435_inb : ∀ (i : grid0.Coords) (v0 : BitVec 32) (k0_hw2 : k0_chk2 i v0), ∀ (k0_h2 : k0_cond2 i v0 = 1#1), ∀ a, (k0_off435 i) a + S1.size a ≤ S37888.size a := fun i v0 k0_hw2 k0_h2 => k0_hw2.2.2.2.1.2.2.2.2.2.2.2.2.2.2.2.1 k0_h2
theorem k0_off439_inb : ∀ (i : grid0.Coords) (v0 : BitVec 32) (k0_hw2 : k0_chk2 i v0), ∀ (k0_h2 : k0_cond2 i v0 = 1#1), ∀ a, (k0_off439 i) a + S1.size a ≤ S37888.size a := fun i v0 k0_hw2 k0_h2 => k0_hw2.2.2.2.1.2.2.2.2.2.2.2.2.2.2.2.2.1 k0_h2
theorem k0_off443_inb : ∀ (i : grid0.Coords) (v0 : BitVec 32) (k0_hw2 : k0_chk2 i v0), ∀ (k0_h2 : k0_cond2 i v0 = 1#1), ∀ a, (k0_off443 i) a + S1.size a ≤ S37888.size a := fun i v0 k0_hw2 k0_h2 => k0_hw2.2.2.2.1.2.2.2.2.2.2.2.2.2.2.2.2.2.1 k0_h2
theorem k0_off447_inb : ∀ (i : grid0.Coords) (v0 : BitVec 32) (k0_hw2 : k0_chk2 i v0), ∀ (k0_h2 : k0_cond2 i v0 = 1#1), ∀ a, (k0_off447 i) a + S1.size a ≤ S37888.size a := fun i v0 k0_hw2 k0_h2 => k0_hw2.2.2.2.1.2.2.2.2.2.2.2.2.2.2.2.2.2.2.1 k0_h2
theorem k0_off451_inb : ∀ (i : grid0.Coords) (v0 : BitVec 32) (k0_hw2 : k0_chk2 i v0), ∀ (k0_h2 : k0_cond2 i v0 = 1#1), ∀ a, (k0_off451 i) a + S1.size a ≤ S37888.size a := fun i v0 k0_hw2 k0_h2 => k0_hw2.2.2.2.1.2.2.2.2.2.2.2.2.2.2.2.2.2.2.2.1 k0_h2
theorem k0_off455_inb : ∀ (i : grid0.Coords) (v0 : BitVec 32) (k0_hw2 : k0_chk2 i v0), ∀ (k0_h2 : k0_cond2 i v0 = 1#1), ∀ a, (k0_off455 i) a + S1.size a ≤ S37888.size a := fun i v0 k0_hw2 k0_h2 => k0_hw2.2.2.2.1.2.2.2.2.2.2.2.2.2.2.2.2.2.2.2.2.1 k0_h2
theorem k0_off459_inb : ∀ (i : grid0.Coords) (v0 : BitVec 32) (k0_hw2 : k0_chk2 i v0), ∀ (k0_h2 : k0_cond2 i v0 = 1#1), ∀ a, (k0_off459 i) a + S1.size a ≤ S37888.size a := fun i v0 k0_hw2 k0_h2 => k0_hw2.2.2.2.1.2.2.2.2.2.2.2.2.2.2.2.2.2.2.2.2.2.1 k0_h2
theorem k0_off463_inb : ∀ (i : grid0.Coords) (v0 : BitVec 32) (k0_hw2 : k0_chk2 i v0), ∀ (k0_h2 : k0_cond2 i v0 = 1#1), ∀ a, (k0_off463 i) a + S1.size a ≤ S37888.size a := fun i v0 k0_hw2 k0_h2 => k0_hw2.2.2.2.1.2.2.2.2.2.2.2.2.2.2.2.2.2.2.2.2.2.2.1 k0_h2
theorem k0_off467_inb : ∀ (i : grid0.Coords) (v0 : BitVec 32) (k0_hw2 : k0_chk2 i v0), ∀ (k0_h2 : k0_cond2 i v0 = 1#1), ∀ a, (k0_off467 i) a + S1.size a ≤ S37888.size a := fun i v0 k0_hw2 k0_h2 => k0_hw2.2.2.2.1.2.2.2.2.2.2.2.2.2.2.2.2.2.2.2.2.2.2.2.1 k0_h2
theorem k0_off471_inb : ∀ (i : grid0.Coords) (v0 : BitVec 32) (k0_hw2 : k0_chk2 i v0), ∀ (k0_h2 : k0_cond2 i v0 = 1#1), ∀ a, (k0_off471 i) a + S1.size a ≤ S37888.size a := fun i v0 k0_hw2 k0_h2 => k0_hw2.2.2.2.1.2.2.2.2.2.2.2.2.2.2.2.2.2.2.2.2.2.2.2.2.1 k0_h2
theorem k0_off475_inb : ∀ (i : grid0.Coords) (v0 : BitVec 32) (k0_hw2 : k0_chk2 i v0), ∀ (k0_h2 : k0_cond2 i v0 = 1#1), ∀ a, (k0_off475 i) a + S1.size a ≤ S37888.size a := fun i v0 k0_hw2 k0_h2 => k0_hw2.2.2.2.1.2.2.2.2.2.2.2.2.2.2.2.2.2.2.2.2.2.2.2.2.2.1 k0_h2
theorem k0_off479_inb : ∀ (i : grid0.Coords) (v0 : BitVec 32) (k0_hw2 : k0_chk2 i v0), ∀ (k0_h2 : k0_cond2 i v0 = 1#1), ∀ a, (k0_off479 i) a + S1.size a ≤ S37888.size a := fun i v0 k0_hw2 k0_h2 => k0_hw2.2.2.2.1.2.2.2.2.2.2.2.2.2.2.2.2.2.2.2.2.2.2.2.2.2.2.1 k0_h2
theorem k0_off483_inb : ∀ (i : grid0.Coords) (v0 : BitVec 32) (k0_hw2 : k0_chk2 i v0), ∀ (k0_h2 : k0_cond2 i v0 = 1#1), ∀ a, (k0_off483 i) a + S1.size a ≤ S37888.size a := fun i v0 k0_hw2 k0_h2 => k0_hw2.2.2.2.1.2.2.2.2.2.2.2.2.2.2.2.2.2.2.2.2.2.2.2.2.2.2.2.1 k0_h2
theorem k0_off487_inb : ∀ (i : grid0.Coords) (v0 : BitVec 32) (k0_hw2 : k0_chk2 i v0), ∀ (k0_h2 : k0_cond2 i v0 = 1#1), ∀ a, (k0_off487 i) a + S1.size a ≤ S37888.size a := fun i v0 k0_hw2 k0_h2 => k0_hw2.2.2.2.1.2.2.2.2.2.2.2.2.2.2.2.2.2.2.2.2.2.2.2.2.2.2.2.2.1 k0_h2
theorem k0_off491_inb : ∀ (i : grid0.Coords) (v0 : BitVec 32) (k0_hw2 : k0_chk2 i v0), ∀ (k0_h2 : k0_cond2 i v0 = 1#1), ∀ a, (k0_off491 i) a + S1.size a ≤ S37888.size a := fun i v0 k0_hw2 k0_h2 => k0_hw2.2.2.2.1.2.2.2.2.2.2.2.2.2.2.2.2.2.2.2.2.2.2.2.2.2.2.2.2.2.1 k0_h2
theorem k0_off495_inb : ∀ (i : grid0.Coords) (v0 : BitVec 32) (k0_hw2 : k0_chk2 i v0), ∀ (k0_h2 : k0_cond2 i v0 = 1#1), ∀ a, (k0_off495 i) a + S1.size a ≤ S37888.size a := fun i v0 k0_hw2 k0_h2 => k0_hw2.2.2.2.1.2.2.2.2.2.2.2.2.2.2.2.2.2.2.2.2.2.2.2.2.2.2.2.2.2.2.1 k0_h2
theorem k0_off499_inb : ∀ (i : grid0.Coords) (v0 : BitVec 32) (k0_hw2 : k0_chk2 i v0), ∀ (k0_h2 : k0_cond2 i v0 = 1#1), ∀ a, (k0_off499 i) a + S1.size a ≤ S37888.size a := fun i v0 k0_hw2 k0_h2 => k0_hw2.2.2.2.1.2.2.2.2.2.2.2.2.2.2.2.2.2.2.2.2.2.2.2.2.2.2.2.2.2.2.2.1 k0_h2
theorem k0_off503_inb : ∀ (i : grid0.Coords) (v0 : BitVec 32) (k0_hw2 : k0_chk2 i v0), ∀ (k0_h2 : k0_cond2 i v0 = 1#1), ∀ a, (k0_off503 i) a + S1.size a ≤ S37888.size a := fun i v0 k0_hw2 k0_h2 => k0_hw2.2.2.2.1.2.2.2.2.2.2.2.2.2.2.2.2.2.2.2.2.2.2.2.2.2.2.2.2.2.2.2.2.1 k0_h2
theorem k0_off507_inb : ∀ (i : grid0.Coords) (v0 : BitVec 32) (k0_hw2 : k0_chk2 i v0), ∀ (k0_h2 : k0_cond2 i v0 = 1#1), ∀ a, (k0_off507 i) a + S1.size a ≤ S37888.size a := fun i v0 k0_hw2 k0_h2 => k0_hw2.2.2.2.1.2.2.2.2.2.2.2.2.2.2.2.2.2.2.2.2.2.2.2.2.2.2.2.2.2.2.2.2.2.1 k0_h2
theorem k0_off511_inb : ∀ (i : grid0.Coords) (v0 : BitVec 32) (k0_hw2 : k0_chk2 i v0), ∀ (k0_h2 : k0_cond2 i v0 = 1#1), ∀ a, (k0_off511 i) a + S1.size a ≤ S37888.size a := fun i v0 k0_hw2 k0_h2 => k0_hw2.2.2.2.1.2.2.2.2.2.2.2.2.2.2.2.2.2.2.2.2.2.2.2.2.2.2.2.2.2.2.2.2.2.2.1 k0_h2
theorem k0_off515_inb : ∀ (i : grid0.Coords) (v0 : BitVec 32) (k0_hw2 : k0_chk2 i v0), ∀ (k0_h2 : k0_cond2 i v0 = 1#1), ∀ a, (k0_off515 i) a + S1.size a ≤ S37888.size a := fun i v0 k0_hw2 k0_h2 => k0_hw2.2.2.2.1.2.2.2.2.2.2.2.2.2.2.2.2.2.2.2.2.2.2.2.2.2.2.2.2.2.2.2.2.2.2.2 k0_h2
theorem k0_off519_inb : ∀ (i : grid0.Coords) (v0 : BitVec 32) (k0_hw2 : k0_chk2 i v0), ∀ (k0_h2 : k0_cond2 i v0 = 1#1), ∀ a, (k0_off519 i) a + S1.size a ≤ S37888.size a := fun i v0 k0_hw2 k0_h2 => k0_hw2.2.2.2.2.1.1 k0_h2
theorem k0_off523_inb : ∀ (i : grid0.Coords) (v0 : BitVec 32) (k0_hw2 : k0_chk2 i v0), ∀ (k0_h2 : k0_cond2 i v0 = 1#1), ∀ a, (k0_off523 i) a + S1.size a ≤ S37888.size a := fun i v0 k0_hw2 k0_h2 => k0_hw2.2.2.2.2.1.2.1 k0_h2
theorem k0_off527_inb : ∀ (i : grid0.Coords) (v0 : BitVec 32) (k0_hw2 : k0_chk2 i v0), ∀ (k0_h2 : k0_cond2 i v0 = 1#1), ∀ a, (k0_off527 i) a + S1.size a ≤ S37888.size a := fun i v0 k0_hw2 k0_h2 => k0_hw2.2.2.2.2.1.2.2.1 k0_h2
theorem k0_off531_inb : ∀ (i : grid0.Coords) (v0 : BitVec 32) (k0_hw2 : k0_chk2 i v0), ∀ (k0_h2 : k0_cond2 i v0 = 1#1), ∀ a, (k0_off531 i) a + S1.size a ≤ S37888.size a := fun i v0 k0_hw2 k0_h2 => k0_hw2.2.2.2.2.1.2.2.2.1 k0_h2
theorem k0_off535_inb : ∀ (i : grid0.Coords) (v0 : BitVec 32) (k0_hw2 : k0_chk2 i v0), ∀ (k0_h2 : k0_cond2 i v0 = 1#1), ∀ a, (k0_off535 i) a + S1.size a ≤ S37888.size a := fun i v0 k0_hw2 k0_h2 => k0_hw2.2.2.2.2.1.2.2.2.2.1 k0_h2
theorem k0_off539_inb : ∀ (i : grid0.Coords) (v0 : BitVec 32) (k0_hw2 : k0_chk2 i v0), ∀ (k0_h2 : k0_cond2 i v0 = 1#1), ∀ a, (k0_off539 i) a + S1.size a ≤ S37888.size a := fun i v0 k0_hw2 k0_h2 => k0_hw2.2.2.2.2.1.2.2.2.2.2.1 k0_h2
theorem k0_off543_inb : ∀ (i : grid0.Coords) (v0 : BitVec 32) (k0_hw2 : k0_chk2 i v0), ∀ (k0_h2 : k0_cond2 i v0 = 1#1), ∀ a, (k0_off543 i) a + S1.size a ≤ S37888.size a := fun i v0 k0_hw2 k0_h2 => k0_hw2.2.2.2.2.1.2.2.2.2.2.2.1 k0_h2
theorem k0_off547_inb : ∀ (i : grid0.Coords) (v0 : BitVec 32) (k0_hw2 : k0_chk2 i v0), ∀ (k0_h2 : k0_cond2 i v0 = 1#1), ∀ a, (k0_off547 i) a + S1.size a ≤ S37888.size a := fun i v0 k0_hw2 k0_h2 => k0_hw2.2.2.2.2.1.2.2.2.2.2.2.2.1 k0_h2
theorem k0_off551_inb : ∀ (i : grid0.Coords) (v0 : BitVec 32) (k0_hw2 : k0_chk2 i v0), ∀ (k0_h2 : k0_cond2 i v0 = 1#1), ∀ a, (k0_off551 i) a + S1.size a ≤ S37888.size a := fun i v0 k0_hw2 k0_h2 => k0_hw2.2.2.2.2.1.2.2.2.2.2.2.2.2.1 k0_h2
theorem k0_off555_inb : ∀ (i : grid0.Coords) (v0 : BitVec 32) (k0_hw2 : k0_chk2 i v0), ∀ (k0_h2 : k0_cond2 i v0 = 1#1), ∀ a, (k0_off555 i) a + S1.size a ≤ S37888.size a := fun i v0 k0_hw2 k0_h2 => k0_hw2.2.2.2.2.1.2.2.2.2.2.2.2.2.2.1 k0_h2
theorem k0_off559_inb : ∀ (i : grid0.Coords) (v0 : BitVec 32) (k0_hw2 : k0_chk2 i v0), ∀ (k0_h2 : k0_cond2 i v0 = 1#1), ∀ a, (k0_off559 i) a + S1.size a ≤ S37888.size a := fun i v0 k0_hw2 k0_h2 => k0_hw2.2.2.2.2.1.2.2.2.2.2.2.2.2.2.2.1 k0_h2
theorem k0_off563_inb : ∀ (i : grid0.Coords) (v0 : BitVec 32) (k0_hw2 : k0_chk2 i v0), ∀ (k0_h2 : k0_cond2 i v0 = 1#1), ∀ a, (k0_off563 i) a + S1.size a ≤ S37888.size a := fun i v0 k0_hw2 k0_h2 => k0_hw2.2.2.2.2.1.2.2.2.2.2.2.2.2.2.2.2.1 k0_h2
theorem k0_off567_inb : ∀ (i : grid0.Coords) (v0 : BitVec 32) (k0_hw2 : k0_chk2 i v0), ∀ (k0_h2 : k0_cond2 i v0 = 1#1), ∀ a, (k0_off567 i) a + S1.size a ≤ S37888.size a := fun i v0 k0_hw2 k0_h2 => k0_hw2.2.2.2.2.1.2.2.2.2.2.2.2.2.2.2.2.2.1 k0_h2
theorem k0_off571_inb : ∀ (i : grid0.Coords) (v0 : BitVec 32) (k0_hw2 : k0_chk2 i v0), ∀ (k0_h2 : k0_cond2 i v0 = 1#1), ∀ a, (k0_off571 i) a + S1.size a ≤ S37888.size a := fun i v0 k0_hw2 k0_h2 => k0_hw2.2.2.2.2.1.2.2.2.2.2.2.2.2.2.2.2.2.2.1 k0_h2
theorem k0_off575_inb : ∀ (i : grid0.Coords) (v0 : BitVec 32) (k0_hw2 : k0_chk2 i v0), ∀ (k0_h2 : k0_cond2 i v0 = 1#1), ∀ a, (k0_off575 i) a + S1.size a ≤ S37888.size a := fun i v0 k0_hw2 k0_h2 => k0_hw2.2.2.2.2.1.2.2.2.2.2.2.2.2.2.2.2.2.2.2.1 k0_h2
theorem k0_off579_inb : ∀ (i : grid0.Coords) (v0 : BitVec 32) (k0_hw2 : k0_chk2 i v0), ∀ (k0_h2 : k0_cond2 i v0 = 1#1), ∀ a, (k0_off579 i) a + S1.size a ≤ S37888.size a := fun i v0 k0_hw2 k0_h2 => k0_hw2.2.2.2.2.1.2.2.2.2.2.2.2.2.2.2.2.2.2.2.2.1 k0_h2
theorem k0_off583_inb : ∀ (i : grid0.Coords) (v0 : BitVec 32) (k0_hw2 : k0_chk2 i v0), ∀ (k0_h2 : k0_cond2 i v0 = 1#1), ∀ a, (k0_off583 i) a + S1.size a ≤ S37888.size a := fun i v0 k0_hw2 k0_h2 => k0_hw2.2.2.2.2.1.2.2.2.2.2.2.2.2.2.2.2.2.2.2.2.2.1 k0_h2
theorem k0_off587_inb : ∀ (i : grid0.Coords) (v0 : BitVec 32) (k0_hw2 : k0_chk2 i v0), ∀ (k0_h2 : k0_cond2 i v0 = 1#1), ∀ a, (k0_off587 i) a + S1.size a ≤ S37888.size a := fun i v0 k0_hw2 k0_h2 => k0_hw2.2.2.2.2.1.2.2.2.2.2.2.2.2.2.2.2.2.2.2.2.2.2.1 k0_h2
theorem k0_off591_inb : ∀ (i : grid0.Coords) (v0 : BitVec 32) (k0_hw2 : k0_chk2 i v0), ∀ (k0_h2 : k0_cond2 i v0 = 1#1), ∀ a, (k0_off591 i) a + S1.size a ≤ S37888.size a := fun i v0 k0_hw2 k0_h2 => k0_hw2.2.2.2.2.1.2.2.2.2.2.2.2.2.2.2.2.2.2.2.2.2.2.2.1 k0_h2
theorem k0_off595_inb : ∀ (i : grid0.Coords) (v0 : BitVec 32) (k0_hw2 : k0_chk2 i v0), ∀ (k0_h2 : k0_cond2 i v0 = 1#1), ∀ a, (k0_off595 i) a + S1.size a ≤ S37888.size a := fun i v0 k0_hw2 k0_h2 => k0_hw2.2.2.2.2.1.2.2.2.2.2.2.2.2.2.2.2.2.2.2.2.2.2.2.2.1 k0_h2
theorem k0_off599_inb : ∀ (i : grid0.Coords) (v0 : BitVec 32) (k0_hw2 : k0_chk2 i v0), ∀ (k0_h2 : k0_cond2 i v0 = 1#1), ∀ a, (k0_off599 i) a + S1.size a ≤ S37888.size a := fun i v0 k0_hw2 k0_h2 => k0_hw2.2.2.2.2.1.2.2.2.2.2.2.2.2.2.2.2.2.2.2.2.2.2.2.2.2.1 k0_h2
theorem k0_off603_inb : ∀ (i : grid0.Coords) (v0 : BitVec 32) (k0_hw2 : k0_chk2 i v0), ∀ (k0_h2 : k0_cond2 i v0 = 1#1), ∀ a, (k0_off603 i) a + S1.size a ≤ S37888.size a := fun i v0 k0_hw2 k0_h2 => k0_hw2.2.2.2.2.1.2.2.2.2.2.2.2.2.2.2.2.2.2.2.2.2.2.2.2.2.2.1 k0_h2
theorem k0_off607_inb : ∀ (i : grid0.Coords) (v0 : BitVec 32) (k0_hw2 : k0_chk2 i v0), ∀ (k0_h2 : k0_cond2 i v0 = 1#1), ∀ a, (k0_off607 i) a + S1.size a ≤ S37888.size a := fun i v0 k0_hw2 k0_h2 => k0_hw2.2.2.2.2.1.2.2.2.2.2.2.2.2.2.2.2.2.2.2.2.2.2.2.2.2.2.2.1 k0_h2
theorem k0_off611_inb : ∀ (i : grid0.Coords) (v0 : BitVec 32) (k0_hw2 : k0_chk2 i v0), ∀ (k0_h2 : k0_cond2 i v0 = 1#1), ∀ a, (k0_off611 i) a + S1.size a ≤ S37888.size a := fun i v0 k0_hw2 k0_h2 => k0_hw2.2.2.2.2.1.2.2.2.2.2.2.2.2.2.2.2.2.2.2.2.2.2.2.2.2.2.2.2.1 k0_h2
theorem k0_off615_inb : ∀ (i : grid0.Coords) (v0 : BitVec 32) (k0_hw2 : k0_chk2 i v0), ∀ (k0_h2 : k0_cond2 i v0 = 1#1), ∀ a, (k0_off615 i) a + S1.size a ≤ S37888.size a := fun i v0 k0_hw2 k0_h2 => k0_hw2.2.2.2.2.1.2.2.2.2.2.2.2.2.2.2.2.2.2.2.2.2.2.2.2.2.2.2.2.2.1 k0_h2
theorem k0_off619_inb : ∀ (i : grid0.Coords) (v0 : BitVec 32) (k0_hw2 : k0_chk2 i v0), ∀ (k0_h2 : k0_cond2 i v0 = 1#1), ∀ a, (k0_off619 i) a + S1.size a ≤ S37888.size a := fun i v0 k0_hw2 k0_h2 => k0_hw2.2.2.2.2.1.2.2.2.2.2.2.2.2.2.2.2.2.2.2.2.2.2.2.2.2.2.2.2.2.2.1 k0_h2
theorem k0_off623_inb : ∀ (i : grid0.Coords) (v0 : BitVec 32) (k0_hw2 : k0_chk2 i v0), ∀ (k0_h2 : k0_cond2 i v0 = 1#1), ∀ a, (k0_off623 i) a + S1.size a ≤ S37888.size a := fun i v0 k0_hw2 k0_h2 => k0_hw2.2.2.2.2.1.2.2.2.2.2.2.2.2.2.2.2.2.2.2.2.2.2.2.2.2.2.2.2.2.2.2.1 k0_h2
theorem k0_off627_inb : ∀ (i : grid0.Coords) (v0 : BitVec 32) (k0_hw2 : k0_chk2 i v0), ∀ (k0_h2 : k0_cond2 i v0 = 1#1), ∀ a, (k0_off627 i) a + S1.size a ≤ S37888.size a := fun i v0 k0_hw2 k0_h2 => k0_hw2.2.2.2.2.1.2.2.2.2.2.2.2.2.2.2.2.2.2.2.2.2.2.2.2.2.2.2.2.2.2.2.2.1 k0_h2
theorem k0_off631_inb : ∀ (i : grid0.Coords) (v0 : BitVec 32) (k0_hw2 : k0_chk2 i v0), ∀ (k0_h2 : k0_cond2 i v0 = 1#1), ∀ a, (k0_off631 i) a + S1.size a ≤ S37888.size a := fun i v0 k0_hw2 k0_h2 => k0_hw2.2.2.2.2.1.2.2.2.2.2.2.2.2.2.2.2.2.2.2.2.2.2.2.2.2.2.2.2.2.2.2.2.2.1 k0_h2
theorem k0_off635_inb : ∀ (i : grid0.Coords) (v0 : BitVec 32) (k0_hw2 : k0_chk2 i v0), ∀ (k0_h2 : k0_cond2 i v0 = 1#1), ∀ a, (k0_off635 i) a + S1.size a ≤ S37888.size a := fun i v0 k0_hw2 k0_h2 => k0_hw2.2.2.2.2.1.2.2.2.2.2.2.2.2.2.2.2.2.2.2.2.2.2.2.2.2.2.2.2.2.2.2.2.2.2.1 k0_h2
theorem k0_off639_inb : ∀ (i : grid0.Coords) (v0 : BitVec 32) (k0_hw2 : k0_chk2 i v0), ∀ (k0_h2 : k0_cond2 i v0 = 1#1), ∀ a, (k0_off639 i) a + S1.size a ≤ S37888.size a := fun i v0 k0_hw2 k0_h2 => k0_hw2.2.2.2.2.1.2.2.2.2.2.2.2.2.2.2.2.2.2.2.2.2.2.2.2.2.2.2.2.2.2.2.2.2.2.2.1 k0_h2
theorem k0_off643_inb : ∀ (i : grid0.Coords) (v0 : BitVec 32) (k0_hw2 : k0_chk2 i v0), ∀ (k0_h2 : k0_cond2 i v0 = 1#1), ∀ a, (k0_off643 i) a + S1.size a ≤ S37888.size a := fun i v0 k0_hw2 k0_h2 => k0_hw2.2.2.2.2.1.2.2.2.2.2.2.2.2.2.2.2.2.2.2.2.2.2.2.2.2.2.2.2.2.2.2.2.2.2.2.2 k0_h2
theorem k0_off647_inb : ∀ (i : grid0.Coords) (v0 : BitVec 32) (k0_hw2 : k0_chk2 i v0), ∀ (k0_h2 : k0_cond2 i v0 = 1#1), ∀ a, (k0_off647 i) a + S1.size a ≤ S37888.size a := fun i v0 k0_hw2 k0_h2 => k0_hw2.2.2.2.2.2.1.1 k0_h2
theorem k0_off651_inb : ∀ (i : grid0.Coords) (v0 : BitVec 32) (k0_hw2 : k0_chk2 i v0), ∀ (k0_h2 : k0_cond2 i v0 = 1#1), ∀ a, (k0_off651 i) a + S1.size a ≤ S37888.size a := fun i v0 k0_hw2 k0_h2 => k0_hw2.2.2.2.2.2.1.2.1 k0_h2
theorem k0_off655_inb : ∀ (i : grid0.Coords) (v0 : BitVec 32) (k0_hw2 : k0_chk2 i v0), ∀ (k0_h2 : k0_cond2 i v0 = 1#1), ∀ a, (k0_off655 i) a + S1.size a ≤ S37888.size a := fun i v0 k0_hw2 k0_h2 => k0_hw2.2.2.2.2.2.1.2.2.1 k0_h2
theorem k0_off659_inb : ∀ (i : grid0.Coords) (v0 : BitVec 32) (k0_hw2 : k0_chk2 i v0), ∀ (k0_h2 : k0_cond2 i v0 = 1#1), ∀ a, (k0_off659 i) a + S1.size a ≤ S37888.size a := fun i v0 k0_hw2 k0_h2 => k0_hw2.2.2.2.2.2.1.2.2.2.1 k0_h2
theorem k0_off663_inb : ∀ (i : grid0.Coords) (v0 : BitVec 32) (k0_hw2 : k0_chk2 i v0), ∀ (k0_h2 : k0_cond2 i v0 = 1#1), ∀ a, (k0_off663 i) a + S1.size a ≤ S37888.size a := fun i v0 k0_hw2 k0_h2 => k0_hw2.2.2.2.2.2.1.2.2.2.2.1 k0_h2
theorem k0_off667_inb : ∀ (i : grid0.Coords) (v0 : BitVec 32) (k0_hw2 : k0_chk2 i v0), ∀ (k0_h2 : k0_cond2 i v0 = 1#1), ∀ a, (k0_off667 i) a + S1.size a ≤ S37888.size a := fun i v0 k0_hw2 k0_h2 => k0_hw2.2.2.2.2.2.1.2.2.2.2.2.1 k0_h2
theorem k0_off671_inb : ∀ (i : grid0.Coords) (v0 : BitVec 32) (k0_hw2 : k0_chk2 i v0), ∀ (k0_h2 : k0_cond2 i v0 = 1#1), ∀ a, (k0_off671 i) a + S1.size a ≤ S37888.size a := fun i v0 k0_hw2 k0_h2 => k0_hw2.2.2.2.2.2.1.2.2.2.2.2.2.1 k0_h2
theorem k0_off675_inb : ∀ (i : grid0.Coords) (v0 : BitVec 32) (k0_hw2 : k0_chk2 i v0), ∀ (k0_h2 : k0_cond2 i v0 = 1#1), ∀ a, (k0_off675 i) a + S1.size a ≤ S37888.size a := fun i v0 k0_hw2 k0_h2 => k0_hw2.2.2.2.2.2.1.2.2.2.2.2.2.2.1 k0_h2
theorem k0_off679_inb : ∀ (i : grid0.Coords) (v0 : BitVec 32) (k0_hw2 : k0_chk2 i v0), ∀ (k0_h2 : k0_cond2 i v0 = 1#1), ∀ a, (k0_off679 i) a + S1.size a ≤ S37888.size a := fun i v0 k0_hw2 k0_h2 => k0_hw2.2.2.2.2.2.1.2.2.2.2.2.2.2.2.1 k0_h2
theorem k0_off683_inb : ∀ (i : grid0.Coords) (v0 : BitVec 32) (k0_hw2 : k0_chk2 i v0), ∀ (k0_h2 : k0_cond2 i v0 = 1#1), ∀ a, (k0_off683 i) a + S1.size a ≤ S37888.size a := fun i v0 k0_hw2 k0_h2 => k0_hw2.2.2.2.2.2.1.2.2.2.2.2.2.2.2.2.1 k0_h2
theorem k0_off687_inb : ∀ (i : grid0.Coords) (v0 : BitVec 32) (k0_hw2 : k0_chk2 i v0), ∀ (k0_h2 : k0_cond2 i v0 = 1#1), ∀ a, (k0_off687 i) a + S1.size a ≤ S37888.size a := fun i v0 k0_hw2 k0_h2 => k0_hw2.2.2.2.2.2.1.2.2.2.2.2.2.2.2.2.2.1 k0_h2
theorem k0_off691_inb : ∀ (i : grid0.Coords) (v0 : BitVec 32) (k0_hw2 : k0_chk2 i v0), ∀ (k0_h2 : k0_cond2 i v0 = 1#1), ∀ a, (k0_off691 i) a + S1.size a ≤ S37888.size a := fun i v0 k0_hw2 k0_h2 => k0_hw2.2.2.2.2.2.1.2.2.2.2.2.2.2.2.2.2.2.1 k0_h2
theorem k0_off695_inb : ∀ (i : grid0.Coords) (v0 : BitVec 32) (k0_hw2 : k0_chk2 i v0), ∀ (k0_h2 : k0_cond2 i v0 = 1#1), ∀ a, (k0_off695 i) a + S1.size a ≤ S37888.size a := fun i v0 k0_hw2 k0_h2 => k0_hw2.2.2.2.2.2.1.2.2.2.2.2.2.2.2.2.2.2.2.1 k0_h2
theorem k0_off699_inb : ∀ (i : grid0.Coords) (v0 : BitVec 32) (k0_hw2 : k0_chk2 i v0), ∀ (k0_h2 : k0_cond2 i v0 = 1#1), ∀ a, (k0_off699 i) a + S1.size a ≤ S37888.size a := fun i v0 k0_hw2 k0_h2 => k0_hw2.2.2.2.2.2.1.2.2.2.2.2.2.2.2.2.2.2.2.2.1 k0_h2
theorem k0_off703_inb : ∀ (i : grid0.Coords) (v0 : BitVec 32) (k0_hw2 : k0_chk2 i v0), ∀ (k0_h2 : k0_cond2 i v0 = 1#1), ∀ a, (k0_off703 i) a + S1.size a ≤ S37888.size a := fun i v0 k0_hw2 k0_h2 => k0_hw2.2.2.2.2.2.1.2.2.2.2.2.2.2.2.2.2.2.2.2.2.1 k0_h2
theorem k0_off707_inb : ∀ (i : grid0.Coords) (v0 : BitVec 32) (k0_hw2 : k0_chk2 i v0), ∀ (k0_h2 : k0_cond2 i v0 = 1#1), ∀ a, (k0_off707 i) a + S1.size a ≤ S37888.size a := fun i v0 k0_hw2 k0_h2 => k0_hw2.2.2.2.2.2.1.2.2.2.2.2.2.2.2.2.2.2.2.2.2.2.1 k0_h2
theorem k0_off711_inb : ∀ (i : grid0.Coords) (v0 : BitVec 32) (k0_hw2 : k0_chk2 i v0), ∀ (k0_h2 : k0_cond2 i v0 = 1#1), ∀ a, (k0_off711 i) a + S1.size a ≤ S37888.size a := fun i v0 k0_hw2 k0_h2 => k0_hw2.2.2.2.2.2.1.2.2.2.2.2.2.2.2.2.2.2.2.2.2.2.2.1 k0_h2
theorem k0_off715_inb : ∀ (i : grid0.Coords) (v0 : BitVec 32) (k0_hw2 : k0_chk2 i v0), ∀ (k0_h2 : k0_cond2 i v0 = 1#1), ∀ a, (k0_off715 i) a + S1.size a ≤ S37888.size a := fun i v0 k0_hw2 k0_h2 => k0_hw2.2.2.2.2.2.1.2.2.2.2.2.2.2.2.2.2.2.2.2.2.2.2.2.1 k0_h2
theorem k0_off719_inb : ∀ (i : grid0.Coords) (v0 : BitVec 32) (k0_hw2 : k0_chk2 i v0), ∀ (k0_h2 : k0_cond2 i v0 = 1#1), ∀ a, (k0_off719 i) a + S1.size a ≤ S37888.size a := fun i v0 k0_hw2 k0_h2 => k0_hw2.2.2.2.2.2.1.2.2.2.2.2.2.2.2.2.2.2.2.2.2.2.2.2.2.1 k0_h2
theorem k0_off723_inb : ∀ (i : grid0.Coords) (v0 : BitVec 32) (k0_hw2 : k0_chk2 i v0), ∀ (k0_h2 : k0_cond2 i v0 = 1#1), ∀ a, (k0_off723 i) a + S1.size a ≤ S37888.size a := fun i v0 k0_hw2 k0_h2 => k0_hw2.2.2.2.2.2.1.2.2.2.2.2.2.2.2.2.2.2.2.2.2.2.2.2.2.2.1 k0_h2
theorem k0_off727_inb : ∀ (i : grid0.Coords) (v0 : BitVec 32) (k0_hw2 : k0_chk2 i v0), ∀ (k0_h2 : k0_cond2 i v0 = 1#1), ∀ a, (k0_off727 i) a + S1.size a ≤ S37888.size a := fun i v0 k0_hw2 k0_h2 => k0_hw2.2.2.2.2.2.1.2.2.2.2.2.2.2.2.2.2.2.2.2.2.2.2.2.2.2.2.1 k0_h2
theorem k0_off731_inb : ∀ (i : grid0.Coords) (v0 : BitVec 32) (k0_hw2 : k0_chk2 i v0), ∀ (k0_h2 : k0_cond2 i v0 = 1#1), ∀ a, (k0_off731 i) a + S1.size a ≤ S37888.size a := fun i v0 k0_hw2 k0_h2 => k0_hw2.2.2.2.2.2.1.2.2.2.2.2.2.2.2.2.2.2.2.2.2.2.2.2.2.2.2.2.1 k0_h2
theorem k0_off735_inb : ∀ (i : grid0.Coords) (v0 : BitVec 32) (k0_hw2 : k0_chk2 i v0), ∀ (k0_h2 : k0_cond2 i v0 = 1#1), ∀ a, (k0_off735 i) a + S1.size a ≤ S37888.size a := fun i v0 k0_hw2 k0_h2 => k0_hw2.2.2.2.2.2.1.2.2.2.2.2.2.2.2.2.2.2.2.2.2.2.2.2.2.2.2.2.2.1 k0_h2
theorem k0_off739_inb : ∀ (i : grid0.Coords) (v0 : BitVec 32) (k0_hw2 : k0_chk2 i v0), ∀ (k0_h2 : k0_cond2 i v0 = 1#1), ∀ a, (k0_off739 i) a + S1.size a ≤ S37888.size a := fun i v0 k0_hw2 k0_h2 => k0_hw2.2.2.2.2.2.1.2.2.2.2.2.2.2.2.2.2.2.2.2.2.2.2.2.2.2.2.2.2.2.1 k0_h2
theorem k0_off743_inb : ∀ (i : grid0.Coords) (v0 : BitVec 32) (k0_hw2 : k0_chk2 i v0), ∀ (k0_h2 : k0_cond2 i v0 = 1#1), ∀ a, (k0_off743 i) a + S1.size a ≤ S37888.size a := fun i v0 k0_hw2 k0_h2 => k0_hw2.2.2.2.2.2.1.2.2.2.2.2.2.2.2.2.2.2.2.2.2.2.2.2.2.2.2.2.2.2.2.1 k0_h2
theorem k0_off747_inb : ∀ (i : grid0.Coords) (v0 : BitVec 32) (k0_hw2 : k0_chk2 i v0), ∀ (k0_h2 : k0_cond2 i v0 = 1#1), ∀ a, (k0_off747 i) a + S1.size a ≤ S37888.size a := fun i v0 k0_hw2 k0_h2 => k0_hw2.2.2.2.2.2.1.2.2.2.2.2.2.2.2.2.2.2.2.2.2.2.2.2.2.2.2.2.2.2.2.2.1 k0_h2
theorem k0_off751_inb : ∀ (i : grid0.Coords) (v0 : BitVec 32) (k0_hw2 : k0_chk2 i v0), ∀ (k0_h2 : k0_cond2 i v0 = 1#1), ∀ a, (k0_off751 i) a + S1.size a ≤ S37888.size a := fun i v0 k0_hw2 k0_h2 => k0_hw2.2.2.2.2.2.1.2.2.2.2.2.2.2.2.2.2.2.2.2.2.2.2.2.2.2.2.2.2.2.2.2.2.1 k0_h2
theorem k0_off755_inb : ∀ (i : grid0.Coords) (v0 : BitVec 32) (k0_hw2 : k0_chk2 i v0), ∀ (k0_h2 : k0_cond2 i v0 = 1#1), ∀ a, (k0_off755 i) a + S1.size a ≤ S37888.size a := fun i v0 k0_hw2 k0_h2 => k0_hw2.2.2.2.2.2.1.2.2.2.2.2.2.2.2.2.2.2.2.2.2.2.2.2.2.2.2.2.2.2.2.2.2.2.1 k0_h2
theorem k0_off759_inb : ∀ (i : grid0.Coords) (v0 : BitVec 32) (k0_hw2 : k0_chk2 i v0), ∀ (k0_h2 : k0_cond2 i v0 = 1#1), ∀ a, (k0_off759 i) a + S1.size a ≤ S37888.size a := fun i v0 k0_hw2 k0_h2 => k0_hw2.2.2.2.2.2.1.2.2.2.2.2.2.2.2.2.2.2.2.2.2.2.2.2.2.2.2.2.2.2.2.2.2.2.2.1 k0_h2
theorem k0_off763_inb : ∀ (i : grid0.Coords) (v0 : BitVec 32) (k0_hw2 : k0_chk2 i v0), ∀ (k0_h2 : k0_cond2 i v0 = 1#1), ∀ a, (k0_off763 i) a + S1.size a ≤ S37888.size a := fun i v0 k0_hw2 k0_h2 => k0_hw2.2.2.2.2.2.1.2.2.2.2.2.2.2.2.2.2.2.2.2.2.2.2.2.2.2.2.2.2.2.2.2.2.2.2.2.1 k0_h2
theorem k0_off767_inb : ∀ (i : grid0.Coords) (v0 : BitVec 32) (k0_hw2 : k0_chk2 i v0), ∀ (k0_h2 : k0_cond2 i v0 = 1#1), ∀ a, (k0_off767 i) a + S1.size a ≤ S37888.size a := fun i v0 k0_hw2 k0_h2 => k0_hw2.2.2.2.2.2.1.2.2.2.2.2.2.2.2.2.2.2.2.2.2.2.2.2.2.2.2.2.2.2.2.2.2.2.2.2.2.1 k0_h2
theorem k0_off771_inb : ∀ (i : grid0.Coords) (v0 : BitVec 32) (k0_hw2 : k0_chk2 i v0), ∀ (k0_h2 : k0_cond2 i v0 = 1#1), ∀ a, (k0_off771 i) a + S1.size a ≤ S37888.size a := fun i v0 k0_hw2 k0_h2 => k0_hw2.2.2.2.2.2.1.2.2.2.2.2.2.2.2.2.2.2.2.2.2.2.2.2.2.2.2.2.2.2.2.2.2.2.2.2.2.2 k0_h2
theorem k0_off775_inb : ∀ (i : grid0.Coords) (v0 : BitVec 32) (k0_hw2 : k0_chk2 i v0), ∀ (k0_h2 : k0_cond2 i v0 = 1#1), ∀ a, (k0_off775 i) a + S1.size a ≤ S37888.size a := fun i v0 k0_hw2 k0_h2 => k0_hw2.2.2.2.2.2.2.1.1 k0_h2
theorem k0_off779_inb : ∀ (i : grid0.Coords) (v0 : BitVec 32) (k0_hw2 : k0_chk2 i v0), ∀ (k0_h2 : k0_cond2 i v0 = 1#1), ∀ a, (k0_off779 i) a + S1.size a ≤ S37888.size a := fun i v0 k0_hw2 k0_h2 => k0_hw2.2.2.2.2.2.2.1.2.1 k0_h2
theorem k0_off783_inb : ∀ (i : grid0.Coords) (v0 : BitVec 32) (k0_hw2 : k0_chk2 i v0), ∀ (k0_h2 : k0_cond2 i v0 = 1#1), ∀ a, (k0_off783 i) a + S1.size a ≤ S37888.size a := fun i v0 k0_hw2 k0_h2 => k0_hw2.2.2.2.2.2.2.1.2.2.1 k0_h2
theorem k0_off787_inb : ∀ (i : grid0.Coords) (v0 : BitVec 32) (k0_hw2 : k0_chk2 i v0), ∀ (k0_h2 : k0_cond2 i v0 = 1#1), ∀ a, (k0_off787 i) a + S1.size a ≤ S37888.size a := fun i v0 k0_hw2 k0_h2 => k0_hw2.2.2.2.2.2.2.1.2.2.2.1 k0_h2
theorem k0_off791_inb : ∀ (i : grid0.Coords) (v0 : BitVec 32) (k0_hw2 : k0_chk2 i v0), ∀ (k0_h2 : k0_cond2 i v0 = 1#1), ∀ a, (k0_off791 i) a + S1.size a ≤ S37888.size a := fun i v0 k0_hw2 k0_h2 => k0_hw2.2.2.2.2.2.2.1.2.2.2.2.1 k0_h2
theorem k0_off795_inb : ∀ (i : grid0.Coords) (v0 : BitVec 32) (k0_hw2 : k0_chk2 i v0), ∀ (k0_h2 : k0_cond2 i v0 = 1#1), ∀ a, (k0_off795 i) a + S1.size a ≤ S37888.size a := fun i v0 k0_hw2 k0_h2 => k0_hw2.2.2.2.2.2.2.1.2.2.2.2.2.1 k0_h2
theorem k0_off799_inb : ∀ (i : grid0.Coords) (v0 : BitVec 32) (k0_hw2 : k0_chk2 i v0), ∀ (k0_h2 : k0_cond2 i v0 = 1#1), ∀ a, (k0_off799 i) a + S1.size a ≤ S37888.size a := fun i v0 k0_hw2 k0_h2 => k0_hw2.2.2.2.2.2.2.1.2.2.2.2.2.2.1 k0_h2
theorem k0_off803_inb : ∀ (i : grid0.Coords) (v0 : BitVec 32) (k0_hw2 : k0_chk2 i v0), ∀ (k0_h2 : k0_cond2 i v0 = 1#1), ∀ a, (k0_off803 i) a + S1.size a ≤ S37888.size a := fun i v0 k0_hw2 k0_h2 => k0_hw2.2.2.2.2.2.2.1.2.2.2.2.2.2.2.1 k0_h2
theorem k0_off807_inb : ∀ (i : grid0.Coords) (v0 : BitVec 32) (k0_hw2 : k0_chk2 i v0), ∀ (k0_h2 : k0_cond2 i v0 = 1#1), ∀ a, (k0_off807 i) a + S1.size a ≤ S37888.size a := fun i v0 k0_hw2 k0_h2 => k0_hw2.2.2.2.2.2.2.1.2.2.2.2.2.2.2.2.1 k0_h2
theorem k0_off811_inb : ∀ (i : grid0.Coords) (v0 : BitVec 32) (k0_hw2 : k0_chk2 i v0), ∀ (k0_h2 : k0_cond2 i v0 = 1#1), ∀ a, (k0_off811 i) a + S1.size a ≤ S37888.size a := fun i v0 k0_hw2 k0_h2 => k0_hw2.2.2.2.2.2.2.1.2.2.2.2.2.2.2.2.2.1 k0_h2
theorem k0_off815_inb : ∀ (i : grid0.Coords) (v0 : BitVec 32) (k0_hw2 : k0_chk2 i v0), ∀ (k0_h2 : k0_cond2 i v0 = 1#1), ∀ a, (k0_off815 i) a + S1.size a ≤ S37888.size a := fun i v0 k0_hw2 k0_h2 => k0_hw2.2.2.2.2.2.2.1.2.2.2.2.2.2.2.2.2.2.1 k0_h2
theorem k0_off819_inb : ∀ (i : grid0.Coords) (v0 : BitVec 32) (k0_hw2 : k0_chk2 i v0), ∀ (k0_h2 : k0_cond2 i v0 = 1#1), ∀ a, (k0_off819 i) a + S1.size a ≤ S37888.size a := fun i v0 k0_hw2 k0_h2 => k0_hw2.2.2.2.2.2.2.1.2.2.2.2.2.2.2.2.2.2.2.1 k0_h2
theorem k0_off823_inb : ∀ (i : grid0.Coords) (v0 : BitVec 32) (k0_hw2 : k0_chk2 i v0), ∀ (k0_h2 : k0_cond2 i v0 = 1#1), ∀ a, (k0_off823 i) a + S1.size a ≤ S37888.size a := fun i v0 k0_hw2 k0_h2 => k0_hw2.2.2.2.2.2.2.1.2.2.2.2.2.2.2.2.2.2.2.2.1 k0_h2
theorem k0_off827_inb : ∀ (i : grid0.Coords) (v0 : BitVec 32) (k0_hw2 : k0_chk2 i v0), ∀ (k0_h2 : k0_cond2 i v0 = 1#1), ∀ a, (k0_off827 i) a + S1.size a ≤ S37888.size a := fun i v0 k0_hw2 k0_h2 => k0_hw2.2.2.2.2.2.2.1.2.2.2.2.2.2.2.2.2.2.2.2.2.1 k0_h2
theorem k0_off831_inb : ∀ (i : grid0.Coords) (v0 : BitVec 32) (k0_hw2 : k0_chk2 i v0), ∀ (k0_h2 : k0_cond2 i v0 = 1#1), ∀ a, (k0_off831 i) a + S1.size a ≤ S37888.size a := fun i v0 k0_hw2 k0_h2 => k0_hw2.2.2.2.2.2.2.1.2.2.2.2.2.2.2.2.2.2.2.2.2.2.1 k0_h2
theorem k0_off835_inb : ∀ (i : grid0.Coords) (v0 : BitVec 32) (k0_hw2 : k0_chk2 i v0), ∀ (k0_h2 : k0_cond2 i v0 = 1#1), ∀ a, (k0_off835 i) a + S1.size a ≤ S37888.size a := fun i v0 k0_hw2 k0_h2 => k0_hw2.2.2.2.2.2.2.1.2.2.2.2.2.2.2.2.2.2.2.2.2.2.2.1 k0_h2
theorem k0_off839_inb : ∀ (i : grid0.Coords) (v0 : BitVec 32) (k0_hw2 : k0_chk2 i v0), ∀ (k0_h2 : k0_cond2 i v0 = 1#1), ∀ a, (k0_off839 i) a + S1.size a ≤ S37888.size a := fun i v0 k0_hw2 k0_h2 => k0_hw2.2.2.2.2.2.2.1.2.2.2.2.2.2.2.2.2.2.2.2.2.2.2.2.1 k0_h2
theorem k0_off843_inb : ∀ (i : grid0.Coords) (v0 : BitVec 32) (k0_hw2 : k0_chk2 i v0), ∀ (k0_h2 : k0_cond2 i v0 = 1#1), ∀ a, (k0_off843 i) a + S1.size a ≤ S37888.size a := fun i v0 k0_hw2 k0_h2 => k0_hw2.2.2.2.2.2.2.1.2.2.2.2.2.2.2.2.2.2.2.2.2.2.2.2.2.1 k0_h2
theorem k0_off847_inb : ∀ (i : grid0.Coords) (v0 : BitVec 32) (k0_hw2 : k0_chk2 i v0), ∀ (k0_h2 : k0_cond2 i v0 = 1#1), ∀ a, (k0_off847 i) a + S1.size a ≤ S37888.size a := fun i v0 k0_hw2 k0_h2 => k0_hw2.2.2.2.2.2.2.1.2.2.2.2.2.2.2.2.2.2.2.2.2.2.2.2.2.2.1 k0_h2
theorem k0_off851_inb : ∀ (i : grid0.Coords) (v0 : BitVec 32) (k0_hw2 : k0_chk2 i v0), ∀ (k0_h2 : k0_cond2 i v0 = 1#1), ∀ a, (k0_off851 i) a + S1.size a ≤ S37888.size a := fun i v0 k0_hw2 k0_h2 => k0_hw2.2.2.2.2.2.2.1.2.2.2.2.2.2.2.2.2.2.2.2.2.2.2.2.2.2.2.1 k0_h2
theorem k0_off855_inb : ∀ (i : grid0.Coords) (v0 : BitVec 32) (k0_hw2 : k0_chk2 i v0), ∀ (k0_h2 : k0_cond2 i v0 = 1#1), ∀ a, (k0_off855 i) a + S1.size a ≤ S37888.size a := fun i v0 k0_hw2 k0_h2 => k0_hw2.2.2.2.2.2.2.1.2.2.2.2.2.2.2.2.2.2.2.2.2.2.2.2.2.2.2.2.1 k0_h2
theorem k0_off859_inb : ∀ (i : grid0.Coords) (v0 : BitVec 32) (k0_hw2 : k0_chk2 i v0), ∀ (k0_h2 : k0_cond2 i v0 = 1#1), ∀ a, (k0_off859 i) a + S1.size a ≤ S37888.size a := fun i v0 k0_hw2 k0_h2 => k0_hw2.2.2.2.2.2.2.1.2.2.2.2.2.2.2.2.2.2.2.2.2.2.2.2.2.2.2.2.2.1 k0_h2
theorem k0_off863_inb : ∀ (i : grid0.Coords) (v0 : BitVec 32) (k0_hw2 : k0_chk2 i v0), ∀ (k0_h2 : k0_cond2 i v0 = 1#1), ∀ a, (k0_off863 i) a + S1.size a ≤ S37888.size a := fun i v0 k0_hw2 k0_h2 => k0_hw2.2.2.2.2.2.2.1.2.2.2.2.2.2.2.2.2.2.2.2.2.2.2.2.2.2.2.2.2.2.1 k0_h2
theorem k0_off867_inb : ∀ (i : grid0.Coords) (v0 : BitVec 32) (k0_hw2 : k0_chk2 i v0), ∀ (k0_h2 : k0_cond2 i v0 = 1#1), ∀ a, (k0_off867 i) a + S1.size a ≤ S37888.size a := fun i v0 k0_hw2 k0_h2 => k0_hw2.2.2.2.2.2.2.1.2.2.2.2.2.2.2.2.2.2.2.2.2.2.2.2.2.2.2.2.2.2.2.1 k0_h2
theorem k0_off871_inb : ∀ (i : grid0.Coords) (v0 : BitVec 32) (k0_hw2 : k0_chk2 i v0), ∀ (k0_h2 : k0_cond2 i v0 = 1#1), ∀ a, (k0_off871 i) a + S1.size a ≤ S37888.size a := fun i v0 k0_hw2 k0_h2 => k0_hw2.2.2.2.2.2.2.1.2.2.2.2.2.2.2.2.2.2.2.2.2.2.2.2.2.2.2.2.2.2.2.2.1 k0_h2
theorem k0_off875_inb : ∀ (i : grid0.Coords) (v0 : BitVec 32) (k0_hw2 : k0_chk2 i v0), ∀ (k0_h2 : k0_cond2 i v0 = 1#1), ∀ a, (k0_off875 i) a + S1.size a ≤ S37888.size a := fun i v0 k0_hw2 k0_h2 => k0_hw2.2.2.2.2.2.2.1.2.2.2.2.2.2.2.2.2.2.2.2.2.2.2.2.2.2.2.2.2.2.2.2.2.1 k0_h2
theorem k0_off879_inb : ∀ (i : grid0.Coords) (v0 : BitVec 32) (k0_hw2 : k0_chk2 i v0), ∀ (k0_h2 : k0_cond2 i v0 = 1#1), ∀ a, (k0_off879 i) a + S1.size a ≤ S37888.size a := fun i v0 k0_hw2 k0_h2 => k0_hw2.2.2.2.2.2.2.1.2.2.2.2.2.2.2.2.2.2.2.2.2.2.2.2.2.2.2.2.2.2.2.2.2.2.1 k0_h2
theorem k0_off883_inb : ∀ (i : grid0.Coords) (v0 : BitVec 32) (k0_hw2 : k0_chk2 i v0), ∀ (k0_h2 : k0_cond2 i v0 = 1#1), ∀ a, (k0_off883 i) a + S1.size a ≤ S37888.size a := fun i v0 k0_hw2 k0_h2 => k0_hw2.2.2.2.2.2.2.1.2.2.2.2.2.2.2.2.2.2.2.2.2.2.2.2.2.2.2.2.2.2.2.2.2.2.2.1 k0_h2
theorem k0_off887_inb : ∀ (i : grid0.Coords) (v0 : BitVec 32) (k0_hw2 : k0_chk2 i v0), ∀ (k0_h2 : k0_cond2 i v0 = 1#1), ∀ a, (k0_off887 i) a + S1.size a ≤ S37888.size a := fun i v0 k0_hw2 k0_h2 => k0_hw2.2.2.2.2.2.2.1.2.2.2.2.2.2.2.2.2.2.2.2.2.2.2.2.2.2.2.2.2.2.2.2.2.2.2.2.1 k0_h2
theorem k0_off891_inb : ∀ (i : grid0.Coords) (v0 : BitVec 32) (k0_hw2 : k0_chk2 i v0), ∀ (k0_h2 : k0_cond2 i v0 = 1#1), ∀ a, (k0_off891 i) a + S1.size a ≤ S37888.size a := fun i v0 k0_hw2 k0_h2 => k0_hw2.2.2.2.2.2.2.1.2.2.2.2.2.2.2.2.2.2.2.2.2.2.2.2.2.2.2.2.2.2.2.2.2.2.2.2.2.1 k0_h2
theorem k0_off895_inb : ∀ (i : grid0.Coords) (v0 : BitVec 32) (k0_hw2 : k0_chk2 i v0), ∀ (k0_h2 : k0_cond2 i v0 = 1#1), ∀ a, (k0_off895 i) a + S1.size a ≤ S37888.size a := fun i v0 k0_hw2 k0_h2 => k0_hw2.2.2.2.2.2.2.1.2.2.2.2.2.2.2.2.2.2.2.2.2.2.2.2.2.2.2.2.2.2.2.2.2.2.2.2.2.2.1 k0_h2
theorem k0_off899_inb : ∀ (i : grid0.Coords) (v0 : BitVec 32) (k0_hw2 : k0_chk2 i v0), ∀ (k0_h2 : k0_cond2 i v0 = 1#1), ∀ a, (k0_off899 i) a + S1.size a ≤ S37888.size a := fun i v0 k0_hw2 k0_h2 => k0_hw2.2.2.2.2.2.2.1.2.2.2.2.2.2.2.2.2.2.2.2.2.2.2.2.2.2.2.2.2.2.2.2.2.2.2.2.2.2.2 k0_h2
theorem k0_off903_inb : ∀ (i : grid0.Coords) (v0 : BitVec 32) (k0_hw2 : k0_chk2 i v0), ∀ (k0_h2 : k0_cond2 i v0 = 1#1), ∀ a, (k0_off903 i) a + S1.size a ≤ S37888.size a := fun i v0 k0_hw2 k0_h2 => k0_hw2.2.2.2.2.2.2.2.1 k0_h2
theorem k0_off907_inb : ∀ (i : grid0.Coords) (v0 : BitVec 32) (k0_hw2 : k0_chk2 i v0), ∀ (k0_h2 : k0_cond2 i v0 = 1#1), ∀ a, (k0_off907 i) a + S1.size a ≤ S37888.size a := fun i v0 k0_hw2 k0_h2 => k0_hw2.2.2.2.2.2.2.2.2.1 k0_h2
theorem k0_off911_inb : ∀ (i : grid0.Coords) (v0 : BitVec 32) (k0_hw2 : k0_chk2 i v0), ∀ (k0_h2 : k0_cond2 i v0 = 1#1), ∀ a, (k0_off911 i) a + S1.size a ≤ S37888.size a := fun i v0 k0_hw2 k0_h2 => k0_hw2.2.2.2.2.2.2.2.2.2.1 k0_h2
theorem k0_off915_inb : ∀ (i : grid0.Coords) (v0 : BitVec 32) (k0_hw2 : k0_chk2 i v0), ∀ (k0_h2 : k0_cond2 i v0 = 1#1), ∀ a, (k0_off915 i) a + S1.size a ≤ S37888.size a := fun i v0 k0_hw2 k0_h2 => k0_hw2.2.2.2.2.2.2.2.2.2.2.1 k0_h2
theorem k0_off919_inb : ∀ (i : grid0.Coords) (v0 : BitVec 32) (k0_hw2 : k0_chk2 i v0), ∀ (k0_h2 : k0_cond2 i v0 = 1#1), ∀ a, (k0_off919 i) a + S1.size a ≤ S37888.size a := fun i v0 k0_hw2 k0_h2 => k0_hw2.2.2.2.2.2.2.2.2.2.2.2.1 k0_h2
theorem k0_off923_inb : ∀ (i : grid0.Coords) (v0 : BitVec 32) (k0_hw2 : k0_chk2 i v0), ∀ (k0_h2 : k0_cond2 i v0 = 1#1), ∀ a, (k0_off923 i) a + S1.size a ≤ S37888.size a := fun i v0 k0_hw2 k0_h2 => k0_hw2.2.2.2.2.2.2.2.2.2.2.2.2.1 k0_h2
theorem k0_off927_inb : ∀ (i : grid0.Coords) (v0 : BitVec 32) (k0_hw2 : k0_chk2 i v0), ∀ (k0_h2 : k0_cond2 i v0 = 1#1), ∀ a, (k0_off927 i) a + S1.size a ≤ S37888.size a := fun i v0 k0_hw2 k0_h2 => k0_hw2.2.2.2.2.2.2.2.2.2.2.2.2.2.1 k0_h2
theorem k0_off931_inb : ∀ (i : grid0.Coords) (v0 : BitVec 32) (k0_hw2 : k0_chk2 i v0), ∀ (k0_h2 : k0_cond2 i v0 = 1#1), ∀ a, (k0_off931 i) a + S1.size a ≤ S37888.size a := fun i v0 k0_hw2 k0_h2 => k0_hw2.2.2.2.2.2.2.2.2.2.2.2.2.2.2.1 k0_h2
theorem k0_off935_inb : ∀ (i : grid0.Coords) (v0 : BitVec 32) (k0_hw2 : k0_chk2 i v0), ∀ (k0_h2 : k0_cond2 i v0 = 1#1), ∀ a, (k0_off935 i) a + S1.size a ≤ S37888.size a := fun i v0 k0_hw2 k0_h2 => k0_hw2.2.2.2.2.2.2.2.2.2.2.2.2.2.2.2.1 k0_h2
theorem k0_off939_inb : ∀ (i : grid0.Coords) (v0 : BitVec 32) (k0_hw2 : k0_chk2 i v0), ∀ (k0_h2 : k0_cond2 i v0 = 1#1), ∀ a, (k0_off939 i) a + S1.size a ≤ S37888.size a := fun i v0 k0_hw2 k0_h2 => k0_hw2.2.2.2.2.2.2.2.2.2.2.2.2.2.2.2.2.1 k0_h2
theorem k0_off943_inb : ∀ (i : grid0.Coords) (v0 : BitVec 32) (k0_hw2 : k0_chk2 i v0), ∀ (k0_h2 : k0_cond2 i v0 = 1#1), ∀ a, (k0_off943 i) a + S1.size a ≤ S37888.size a := fun i v0 k0_hw2 k0_h2 => k0_hw2.2.2.2.2.2.2.2.2.2.2.2.2.2.2.2.2.2.1 k0_h2
theorem k0_off947_inb : ∀ (i : grid0.Coords) (v0 : BitVec 32) (k0_hw2 : k0_chk2 i v0), ∀ (k0_h2 : k0_cond2 i v0 = 1#1), ∀ a, (k0_off947 i) a + S1.size a ≤ S37888.size a := fun i v0 k0_hw2 k0_h2 => k0_hw2.2.2.2.2.2.2.2.2.2.2.2.2.2.2.2.2.2.2.1 k0_h2
theorem k0_off951_inb : ∀ (i : grid0.Coords) (v0 : BitVec 32) (k0_hw2 : k0_chk2 i v0), ∀ (k0_h2 : k0_cond2 i v0 = 1#1), ∀ a, (k0_off951 i) a + S1.size a ≤ S37888.size a := fun i v0 k0_hw2 k0_h2 => k0_hw2.2.2.2.2.2.2.2.2.2.2.2.2.2.2.2.2.2.2.2.1 k0_h2
theorem k0_off955_inb : ∀ (i : grid0.Coords) (v0 : BitVec 32) (k0_hw2 : k0_chk2 i v0), ∀ (k0_h2 : k0_cond2 i v0 = 1#1), ∀ a, (k0_off955 i) a + S1.size a ≤ S37888.size a := fun i v0 k0_hw2 k0_h2 => k0_hw2.2.2.2.2.2.2.2.2.2.2.2.2.2.2.2.2.2.2.2.2.1 k0_h2
theorem k0_off959_inb : ∀ (i : grid0.Coords) (v0 : BitVec 32) (k0_hw2 : k0_chk2 i v0), ∀ (k0_h2 : k0_cond2 i v0 = 1#1), ∀ a, (k0_off959 i) a + S1.size a ≤ S37888.size a := fun i v0 k0_hw2 k0_h2 => k0_hw2.2.2.2.2.2.2.2.2.2.2.2.2.2.2.2.2.2.2.2.2.2.1 k0_h2
theorem k0_off963_inb : ∀ (i : grid0.Coords) (v0 : BitVec 32) (k0_hw2 : k0_chk2 i v0), ∀ (k0_h2 : k0_cond2 i v0 = 1#1), ∀ a, (k0_off963 i) a + S1.size a ≤ S37888.size a := fun i v0 k0_hw2 k0_h2 => k0_hw2.2.2.2.2.2.2.2.2.2.2.2.2.2.2.2.2.2.2.2.2.2.2.1 k0_h2
theorem k0_off967_inb : ∀ (i : grid0.Coords) (v0 : BitVec 32) (k0_hw2 : k0_chk2 i v0), ∀ (k0_h2 : k0_cond2 i v0 = 1#1), ∀ a, (k0_off967 i) a + S1.size a ≤ S37888.size a := fun i v0 k0_hw2 k0_h2 => k0_hw2.2.2.2.2.2.2.2.2.2.2.2.2.2.2.2.2.2.2.2.2.2.2.2.1 k0_h2
theorem k0_off971_inb : ∀ (i : grid0.Coords) (v0 : BitVec 32) (k0_hw2 : k0_chk2 i v0), ∀ (k0_h2 : k0_cond2 i v0 = 1#1), ∀ a, (k0_off971 i) a + S1.size a ≤ S37888.size a := fun i v0 k0_hw2 k0_h2 => k0_hw2.2.2.2.2.2.2.2.2.2.2.2.2.2.2.2.2.2.2.2.2.2.2.2.2.1 k0_h2
theorem k0_off975_inb : ∀ (i : grid0.Coords) (v0 : BitVec 32) (k0_hw2 : k0_chk2 i v0), ∀ (k0_h2 : k0_cond2 i v0 = 1#1), ∀ a, (k0_off975 i) a + S1.size a ≤ S37888.size a := fun i v0 k0_hw2 k0_h2 => k0_hw2.2.2.2.2.2.2.2.2.2.2.2.2.2.2.2.2.2.2.2.2.2.2.2.2.2.1 k0_h2
theorem k0_off979_inb : ∀ (i : grid0.Coords) (v0 : BitVec 32) (k0_hw2 : k0_chk2 i v0), ∀ (k0_h2 : k0_cond2 i v0 = 1#1), ∀ a, (k0_off979 i) a + S1.size a ≤ S37888.size a := fun i v0 k0_hw2 k0_h2 => k0_hw2.2.2.2.2.2.2.2.2.2.2.2.2.2.2.2.2.2.2.2.2.2.2.2.2.2.2.1 k0_h2
theorem k0_off983_inb : ∀ (i : grid0.Coords) (v0 : BitVec 32) (k0_hw2 : k0_chk2 i v0), ∀ (k0_h2 : k0_cond2 i v0 = 1#1), ∀ a, (k0_off983 i) a + S1.size a ≤ S37888.size a := fun i v0 k0_hw2 k0_h2 => k0_hw2.2.2.2.2.2.2.2.2.2.2.2.2.2.2.2.2.2.2.2.2.2.2.2.2.2.2.2.1 k0_h2
theorem k0_off987_inb : ∀ (i : grid0.Coords) (v0 : BitVec 32) (k0_hw2 : k0_chk2 i v0), ∀ (k0_h2 : k0_cond2 i v0 = 1#1), ∀ a, (k0_off987 i) a + S1.size a ≤ S37888.size a := fun i v0 k0_hw2 k0_h2 => k0_hw2.2.2.2.2.2.2.2.2.2.2.2.2.2.2.2.2.2.2.2.2.2.2.2.2.2.2.2.2.1 k0_h2
theorem k0_off991_inb : ∀ (i : grid0.Coords) (v0 : BitVec 32) (k0_hw2 : k0_chk2 i v0), ∀ (k0_h2 : k0_cond2 i v0 = 1#1), ∀ a, (k0_off991 i) a + S1.size a ≤ S37888.size a := fun i v0 k0_hw2 k0_h2 => k0_hw2.2.2.2.2.2.2.2.2.2.2.2.2.2.2.2.2.2.2.2.2.2.2.2.2.2.2.2.2.2.1 k0_h2
theorem k0_off995_inb : ∀ (i : grid0.Coords) (v0 : BitVec 32) (k0_hw2 : k0_chk2 i v0), ∀ (k0_h2 : k0_cond2 i v0 = 1#1), ∀ a, (k0_off995 i) a + S1.size a ≤ S37888.size a := fun i v0 k0_hw2 k0_h2 => k0_hw2.2.2.2.2.2.2.2.2.2.2.2.2.2.2.2.2.2.2.2.2.2.2.2.2.2.2.2.2.2.2.1 k0_h2
theorem k0_off999_inb : ∀ (i : grid0.Coords) (v0 : BitVec 32) (k0_hw2 : k0_chk2 i v0), ∀ (k0_h2 : k0_cond2 i v0 = 1#1), ∀ a, (k0_off999 i) a + S1.size a ≤ S37888.size a := fun i v0 k0_hw2 k0_h2 => k0_hw2.2.2.2.2.2.2.2.2.2.2.2.2.2.2.2.2.2.2.2.2.2.2.2.2.2.2.2.2.2.2.2.1 k0_h2
theorem k0_off1003_inb : ∀ (i : grid0.Coords) (v0 : BitVec 32) (k0_hw2 : k0_chk2 i v0), ∀ (k0_h2 : k0_cond2 i v0 = 1#1), ∀ a, (k0_off1003 i) a + S1.size a ≤ S37888.size a := fun i v0 k0_hw2 k0_h2 => k0_hw2.2.2.2.2.2.2.2.2.2.2.2.2.2.2.2.2.2.2.2.2.2.2.2.2.2.2.2.2.2.2.2.2.1 k0_h2
theorem k0_off1007_inb : ∀ (i : grid0.Coords) (v0 : BitVec 32) (k0_hw2 : k0_chk2 i v0), ∀ (k0_h2 : k0_cond2 i v0 = 1#1), ∀ a, (k0_off1007 i) a + S1.size a ≤ S37888.size a := fun i v0 k0_hw2 k0_h2 => k0_hw2.2.2.2.2.2.2.2.2.2.2.2.2.2.2.2.2.2.2.2.2.2.2.2.2.2.2.2.2.2.2.2.2.2.1 k0_h2
theorem k0_off1011_inb : ∀ (i : grid0.Coords) (v0 : BitVec 32) (k0_hw2 : k0_chk2 i v0), ∀ (k0_h2 : k0_cond2 i v0 = 1#1), ∀ a, (k0_off1011 i) a + S1.size a ≤ S37888.size a := fun i v0 k0_hw2 k0_h2 => k0_hw2.2.2.2.2.2.2.2.2.2.2.2.2.2.2.2.2.2.2.2.2.2.2.2.2.2.2.2.2.2.2.2.2.2.2.1 k0_h2
theorem k0_off1015_inb : ∀ (i : grid0.Coords) (v0 : BitVec 32) (k0_hw2 : k0_chk2 i v0), ∀ (k0_h2 : k0_cond2 i v0 = 1#1), ∀ a, (k0_off1015 i) a + S1.size a ≤ S37888.size a := fun i v0 k0_hw2 k0_h2 => k0_hw2.2.2.2.2.2.2.2.2.2.2.2.2.2.2.2.2.2.2.2.2.2.2.2.2.2.2.2.2.2.2.2.2.2.2.2.1 k0_h2
theorem k0_off1019_inb : ∀ (i : grid0.Coords) (v0 : BitVec 32) (k0_hw2 : k0_chk2 i v0), ∀ (k0_h2 : k0_cond2 i v0 = 1#1), ∀ a, (k0_off1019 i) a + S1.size a ≤ S37888.size a := fun i v0 k0_hw2 k0_h2 => k0_hw2.2.2.2.2.2.2.2.2.2.2.2.2.2.2.2.2.2.2.2.2.2.2.2.2.2.2.2.2.2.2.2.2.2.2.2.2.1 k0_h2
theorem k0_off1023_inb : ∀ (i : grid0.Coords) (v0 : BitVec 32) (k0_hw2 : k0_chk2 i v0), ∀ (k0_h2 : k0_cond2 i v0 = 1#1), ∀ a, (k0_off1023 i) a + S1.size a ≤ S37888.size a := fun i v0 k0_hw2 k0_h2 => k0_hw2.2.2.2.2.2.2.2.2.2.2.2.2.2.2.2.2.2.2.2.2.2.2.2.2.2.2.2.2.2.2.2.2.2.2.2.2.2.1 k0_h2
theorem k0_off1027_inb : ∀ (i : grid0.Coords) (v0 : BitVec 32) (k0_hw2 : k0_chk2 i v0), ∀ (k0_h2 : k0_cond2 i v0 = 1#1), ∀ a, (k0_off1027 i) a + S1.size a ≤ S37888.size a := fun i v0 k0_hw2 k0_h2 => k0_hw2.2.2.2.2.2.2.2.2.2.2.2.2.2.2.2.2.2.2.2.2.2.2.2.2.2.2.2.2.2.2.2.2.2.2.2.2.2.2 k0_h2

def k0_off1028 (i : grid0.Coords) : Fin 1 → Nat :=
  let arg0 : BitVec 32 := BitVec.ofNat 32 (i 0).val
  let c1_i32_3075 : BitVec 32 := 1#32
  let v5380 : BitVec 32 := Scalar.addi arg0 c1_i32_3075
  let c2_i32_3076 : BitVec 32 := 2#32
  let c0_i32_3077 : BitVec 32 := 0#32
  let v5381 : BitVec 1 := Scalar.cmpi .eq c2_i32_3076 c0_i32_3077
  let c1_i32_3078 : BitVec 32 := 1#32
  let v5382 : BitVec 32 := Scalar.select v5381 c1_i32_3078 c2_i32_3076
  let v5383 : BitVec 32 := Scalar.remsi v5380 v5382
  let c0_i32_3080 : BitVec 32 := 0#32
  let v5385 : BitVec 1 := Scalar.cmpi .slt v5383 c0_i32_3080
  let c0_i32_3081 : BitVec 32 := 0#32
  let v5386 : BitVec 1 := Scalar.cmpi .slt v5382 c0_i32_3081
  let v5387 : BitVec 1 := Scalar.xori v5385 v5386
  let c0_i32_3079 : BitVec 32 := 0#32
  let v5384 : BitVec 1 := Scalar.cmpi .ne v5383 c0_i32_3079
  let v5388 : BitVec 1 := Scalar.andi v5387 v5384
  let v5389 : BitVec 32 := Scalar.addi v5383 v5382
  let v5390 : BitVec 32 := Scalar.select v5388 v5389 v5383
  ![v5390.toNat]
def k0_off1029 (i : grid0.Coords) : Fin 3 → Nat :=
  let arg0 : BitVec 32 := BitVec.ofNat 32 (i 0).val
  let c1_i32_3075 : BitVec 32 := 1#32
  let v5380 : BitVec 32 := Scalar.addi arg0 c1_i32_3075
  let c2_i32_3076 : BitVec 32 := 2#32
  let c0_i32_3077 : BitVec 32 := 0#32
  let v5381 : BitVec 1 := Scalar.cmpi .eq c2_i32_3076 c0_i32_3077
  let c1_i32_3078 : BitVec 32 := 1#32
  let v5382 : BitVec 32 := Scalar.select v5381 c1_i32_3078 c2_i32_3076
  let v5383 : BitVec 32 := Scalar.remsi v5380 v5382
  let c0_i32_3080 : BitVec 32 := 0#32
  let v5385 : BitVec 1 := Scalar.cmpi .slt v5383 c0_i32_3080
  let c0_i32_3081 : BitVec 32 := 0#32
  let v5386 : BitVec 1 := Scalar.cmpi .slt v5382 c0_i32_3081
  let v5387 : BitVec 1 := Scalar.xori v5385 v5386
  let c0_i32_3079 : BitVec 32 := 0#32
  let v5384 : BitVec 1 := Scalar.cmpi .ne v5383 c0_i32_3079
  let v5388 : BitVec 1 := Scalar.andi v5387 v5384
  let v5389 : BitVec 32 := Scalar.addi v5383 v5382
  let v5390 : BitVec 32 := Scalar.select v5388 v5389 v5383
  let c255_i32_3083 : BitVec 32 := 255#32
  let c0_i32_3084 : BitVec 32 := 0#32
  ![v5390.toNat, 255, 0]
def k0_off1030 (v5394 : BitVec 32) : Fin 2 → Nat :=
  let c0_i32_3085 : BitVec 32 := 0#32
  ![v5394.toNat, 0]

def k0_chk258 (i : grid0.Coords) (v0 : BitVec 32) (v5394 : BitVec 32) : Prop :=
  (∀ (k0_h2 : k0_cond2 i v0 = 1#1), ∀ a, (k0_off1030 v5394) a + S1x4096.size a ≤ S16896x4096.size a)
theorem k0_off1030_inb : ∀ (i : grid0.Coords) (v0 : BitVec 32) (v5394 : BitVec 32) (k0_hw258 : k0_chk258 i v0 v5394), ∀ (k0_h2 : k0_cond2 i v0 = 1#1), ∀ a, (k0_off1030 v5394) a + S1x4096.size a ≤ S16896x4096.size a := fun i v0 v5394 k0_hw258 k0_h2 => k0_hw258 k0_h2

def k0_off1031 (i : grid0.Coords) : Fin 3 → Nat :=
  let arg0 : BitVec 32 := BitVec.ofNat 32 (i 0).val
  let c2_i32_3086 : BitVec 32 := 2#32
  let c0_i32_3087 : BitVec 32 := 0#32
  let v5400 : BitVec 1 := Scalar.cmpi .eq c2_i32_3086 c0_i32_3087
  let c1_i32_3088 : BitVec 32 := 1#32
  let v5401 : BitVec 32 := Scalar.select v5400 c1_i32_3088 c2_i32_3086
  let v5402 : BitVec 32 := Scalar.remsi arg0 v5401
  let c0_i32_3090 : BitVec 32 := 0#32
  let v5404 : BitVec 1 := Scalar.cmpi .slt v5402 c0_i32_3090
  let c0_i32_3091 : BitVec 32 := 0#32
  let v5405 : BitVec 1 := Scalar.cmpi .slt v5401 c0_i32_3091
  let v5406 : BitVec 1 := Scalar.xori v5404 v5405
  let c0_i32_3089 : BitVec 32 := 0#32
  let v5403 : BitVec 1 := Scalar.cmpi .ne v5402 c0_i32_3089
  let v5407 : BitVec 1 := Scalar.andi v5406 v5403
  let v5408 : BitVec 32 := Scalar.addi v5402 v5401
  let v5409 : BitVec 32 := Scalar.select v5407 v5408 v5402
  let v5410 : Index := Scalar.indexCast v5409
  let c0_3092 : Index := 0#32
  let c0_3093 : Index := 0#32
  ![v5410.toNat, 0, 0]
@[reducible] def k0_t3_loop : Scf.Loop 32 :=
  let c0_i32_8 : BitVec 32 := 0#32
  let c256_i32 : BitVec 32 := 256#32
  let v23 : BitVec 32 := Scalar.addi c0_i32_8 c256_i32
  let c1_i32_9 : BitVec 32 := 1#32
  ⟨c0_i32_8, v23, c1_i32_9⟩
def k0_off1032 (i : grid0.Coords) : Fin 1 → Nat :=
  let arg0 : BitVec 32 := BitVec.ofNat 32 (i 0).val
  let c2_i32 : BitVec 32 := 2#32
  let c0_i32_4 : BitVec 32 := 0#32
  let v13 : BitVec 1 := Scalar.cmpi .eq c2_i32 c0_i32_4
  let c1_i32 : BitVec 32 := 1#32
  let v14 : BitVec 32 := Scalar.select v13 c1_i32 c2_i32
  let v15 : BitVec 32 := Scalar.remsi arg0 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  ![v22.toNat]
def k0_off1033 (i : grid0.Coords) (k0_t3 : Fin k0_t3_loop.trips) : Fin 3 → Nat :=
  let arg0 : BitVec 32 := BitVec.ofNat 32 (i 0).val
  let c2_i32 : BitVec 32 := 2#32
  let c0_i32_4 : BitVec 32 := 0#32
  let v13 : BitVec 1 := Scalar.cmpi .eq c2_i32 c0_i32_4
  let c1_i32 : BitVec 32 := 1#32
  let v14 : BitVec 32 := Scalar.select v13 c1_i32 c2_i32
  let v15 : BitVec 32 := Scalar.remsi arg0 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_8 : BitVec 32 := 0#32
  let c1_i32_9 : BitVec 32 := 1#32
  let arg10 : BitVec 32 := Scf.iv c0_i32_8 c1_i32_9 k0_t3
  let c0_i32_11 : BitVec 32 := 0#32
  ![v22.toNat, arg10.toNat, 0]
def k0_cond4 (i : grid0.Coords) (v0 : BitVec 32) : BitVec 1 :=
  let arg0 : BitVec 32 := BitVec.ofNat 32 (i 0).val
  let v10 : BitVec 1 := Scalar.cmpi .sge arg0 v0
  let v11 : BitVec 32 := Scalar.extui v10
  let c0_i32_3 : BitVec 32 := 0#32
  let v12 : BitVec 1 := Scalar.cmpi .ne v11 c0_i32_3
  v12

def cc0_transform_1 (k0_off1_inb : ∀ i : grid0.Coords, ∀ a, (k0_off1 i) a + S1.size a ≤ S148.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S148) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S148.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S148) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpReferenceIdeal.lean ====
abbrev S16896x4096 : Shape := ⟨2, ![16896, 4096]⟩
abbrev S37888 : Shape := ⟨1, ![37888]⟩
abbrev S2x16x4096x1024 : Shape := ⟨4, ![2, 16, 4096, 1024]⟩
abbrev S148 : Shape := ⟨1, ![148]⟩
abbrev S1 : Shape := ⟨1, ![1]⟩
abbrev S_ : Shape := ⟨0, ![]⟩
abbrev S37888x1 : Shape := ⟨2, ![37888, 1]⟩
abbrev S37888x4096 : Shape := ⟨2, ![37888, 4096]⟩
abbrev S1x16x4096x1024 : Shape := ⟨4, ![1, 16, 4096, 1024]⟩
abbrev S16x4096x1024 : Shape := ⟨3, ![16, 4096, 1024]⟩
abbrev S37888x16x1024 : Shape := ⟨3, ![37888, 16, 1024]⟩
abbrev S148x256 : Shape := ⟨2, ![148, 256]⟩
abbrev S16 : Shape := ⟨1, ![16]⟩
abbrev S1x16 : Shape := ⟨2, ![1, 16]⟩
abbrev S37888x16 : Shape := ⟨2, ![37888, 16]⟩
abbrev S37888x16x1 : Shape := ⟨3, ![37888, 16, 1]⟩
abbrev S37888x1024 : Shape := ⟨2, ![37888, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S37888, .i32⟩
  | .hbm, ⟨2, _⟩ => ⟨S2x16x4096x1024, .bf16⟩
  | .hbm, ⟨3, _⟩ => ⟨S2x16x4096x1024, .bf16⟩
  | .hbm, ⟨4, _⟩ => ⟨S148, .i32⟩
  | .hbm, ⟨5, _⟩ => ⟨S1, .i32⟩
  | .hbm, ⟨6, _⟩ => ⟨S_, .i32⟩
  | .hbm, ⟨7, _⟩ => ⟨S37888, .i32⟩
  | .hbm, ⟨8, _⟩ => ⟨S37888, .i1⟩
  | .hbm, ⟨9, _⟩ => ⟨S_, .i32⟩
  | .hbm, ⟨10, _⟩ => ⟨S37888, .i32⟩
  | .hbm, ⟨11, _⟩ => ⟨S37888, .i32⟩
  | .hbm, ⟨12, _⟩ => ⟨S37888, .i32⟩
  | .hbm, ⟨13, _⟩ => ⟨S37888x1, .i32⟩
  | .hbm, ⟨14, _⟩ => ⟨S37888x4096, .f32⟩
  | .hbm, ⟨15, _⟩ => ⟨S1x16x4096x1024, .bf16⟩
  | .hbm, ⟨16, _⟩ => ⟨S16x4096x1024, .bf16⟩
  | .hbm, ⟨17, _⟩ => ⟨S16x4096x1024, .f32⟩
  | .hbm, ⟨18, _⟩ => ⟨S37888x16x1024, .f32⟩
  | .hbm, ⟨19, _⟩ => ⟨S1x16x4096x1024, .bf16⟩
  | .hbm, ⟨20, _⟩ => ⟨S16x4096x1024, .bf16⟩
  | .hbm, ⟨21, _⟩ => ⟨S16x4096x1024, .f32⟩
  | .hbm, ⟨22, _⟩ => ⟨S37888x16x1024, .f32⟩
  | .hbm, ⟨23, _⟩ => ⟨S37888, .i32⟩
  | .hbm, ⟨24, _⟩ => ⟨S_, .i32⟩
  | .hbm, ⟨25, _⟩ => ⟨S_, .i32⟩
  | .hbm, ⟨26, _⟩ => ⟨S37888, .i32⟩
  | .hbm, ⟨27, _⟩ => ⟨S37888, .i32⟩
  | .hbm, ⟨28, _⟩ => ⟨S37888, .i32⟩
  | .hbm, ⟨29, _⟩ => ⟨S_, .i32⟩
  | .hbm, ⟨30, _⟩ => ⟨S37888, .i32⟩
  | .hbm, ⟨31, _⟩ => ⟨S37888, .i1⟩
  | .hbm, ⟨32, _⟩ => ⟨S37888, .i32⟩
  | .hbm, ⟨33, _⟩ => ⟨S37888, .i32⟩
  | .hbm, ⟨34, _⟩ => ⟨S_, .i32⟩
  | .hbm, ⟨35, _⟩ => ⟨S37888, .i32⟩
  | .hbm, ⟨36, _⟩ => ⟨S37888, .i1⟩
  | .hbm, ⟨37, _⟩ => ⟨S37888, .i1⟩
  | .hbm, ⟨38, _⟩ => ⟨S_, .i32⟩
  | .hbm, ⟨39, _⟩ => ⟨S37888, .i32⟩
  | .hbm, ⟨40, _⟩ => ⟨S37888, .i32⟩
  | .hbm, ⟨41, _⟩ => ⟨S37888, .i32⟩
  | .hbm, ⟨42, _⟩ => ⟨S148x256, .i32⟩
  | .hbm, ⟨43, _⟩ => ⟨S37888, .i32⟩
  | .hbm, ⟨44, _⟩ => ⟨S37888x1, .i32⟩
  | .hbm, ⟨45, _⟩ => ⟨S16, .i32⟩
  | .hbm, ⟨46, _⟩ => ⟨S1x16, .i32⟩
  | .hbm, ⟨47, _⟩ => ⟨S37888x16, .i32⟩
  | .hbm, ⟨48, _⟩ => ⟨S37888x16, .i32⟩
  | .hbm, ⟨49, _⟩ => ⟨S37888x16, .i1⟩
  | .hbm, ⟨50, _⟩ => ⟨S_, .i32⟩
  | .hbm, ⟨51, _⟩ => ⟨S37888, .i32⟩
  | .hbm, ⟨52, _⟩ => ⟨S37888, .i1⟩
  | .hbm, ⟨53, _⟩ => ⟨S37888x1, .i1⟩
  | .hbm, ⟨54, _⟩ => ⟨S37888x16, .i1⟩
  | .hbm, ⟨55, _⟩ => ⟨S37888x16, .i1⟩
  | .hbm, ⟨56, _⟩ => ⟨S37888x16, .f32⟩
  | .hbm, ⟨57, _⟩ => ⟨S37888x16x1, .f32⟩
  | .hbm, ⟨58, _⟩ => ⟨S37888x16x1024, .f32⟩
  | .hbm, ⟨59, _⟩ => ⟨S37888x16x1024, .f32⟩
  | .hbm, ⟨60, _⟩ => ⟨S_, .f32⟩
  | .hbm, ⟨61, _⟩ => ⟨S37888x16x1024, .f32⟩
  | .hbm, ⟨62, _⟩ => ⟨S37888x16x1024, .f32⟩
  | .hbm, ⟨63, _⟩ => ⟨S_, .f32⟩
  | .hbm, ⟨64, _⟩ => ⟨S37888x16x1024, .f32⟩
  | .hbm, ⟨65, _⟩ => ⟨S37888x16x1024, .f32⟩
  | .hbm, ⟨66, _⟩ => ⟨S37888x16x1024, .f32⟩
  | .hbm, ⟨67, _⟩ => ⟨S37888x16x1024, .f32⟩
  | .hbm, ⟨68, _⟩ => ⟨S37888x16x1024, .f32⟩
  | .hbm, ⟨69, _⟩ => ⟨S37888x16x1024, .f32⟩
  | .hbm, ⟨70, _⟩ => ⟨S_, .f32⟩
  | .hbm, ⟨71, _⟩ => ⟨S37888x1024, .f32⟩
  | .hbm, ⟨72, _⟩ => ⟨S37888x1024, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]
-- ==== Norm.lean ====
abbrev S2x8192x4096 : Shape := ⟨3, ![2, 8192, 4096]⟩
abbrev S4096 : Shape := ⟨1, ![4096]⟩
abbrev S2x1x4096 : Shape := ⟨3, ![2, 1, 4096]⟩
abbrev S4096x8192 : Shape := ⟨2, ![4096, 8192]⟩
abbrev S8192 : Shape := ⟨1, ![8192]⟩
abbrev S1x4096 : Shape := ⟨2, ![1, 4096]⟩
abbrev S1x8192 : Shape := ⟨2, ![1, 8192]⟩
abbrev S2x8192x8192 : Shape := ⟨3, ![2, 8192, 8192]⟩
abbrev S1x512x4096 : Shape := ⟨3, ![1, 512, 4096]⟩
abbrev S1x1x4096 : Shape := ⟨3, ![1, 1, 4096]⟩
abbrev S4096x1024 : Shape := ⟨2, ![4096, 1024]⟩
abbrev S1x1024 : Shape := ⟨2, ![1, 1024]⟩
abbrev S1x512x1024 : Shape := ⟨3, ![1, 512, 1024]⟩
abbrev S512x4096 : Shape := ⟨2, ![512, 4096]⟩
abbrev S1x64x4096 : Shape := ⟨3, ![1, 64, 4096]⟩
abbrev S1x64 : Shape := ⟨2, ![1, 64]⟩
abbrev S1x64x1 : Shape := ⟨3, ![1, 64, 1]⟩
abbrev S64x4096 : Shape := ⟨2, ![64, 4096]⟩
abbrev S512x1024 : Shape := ⟨2, ![512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S4096x8192, .bf16⟩
  | .hbm, ⟨5, _⟩ => ⟨S8192, .f32⟩
  | .hbm, ⟨6, _⟩ => ⟨S1x4096, .f32⟩
  | .hbm, ⟨7, _⟩ => ⟨S1x8192, .f32⟩
  | .hbm, ⟨8, _⟩ => ⟨S2x8192x8192, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x1024, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_10 : BitVec 32 := 0#32
  let c8_i32 : BitVec 32 := 8#32
  let v11 : BitVec 32 := Scalar.addi c0_i32_10 c8_i32
  let c1_i32 : BitVec 32 := 1#32
  ⟨c0_i32_10, v11, c1_i32⟩
def k0_mult1 (k0_t1 : Fin k0_t1_loop.trips) : BitVec 32 :=
  let c0_i32_10 : BitVec 32 := 0#32
  let c1_i32 : BitVec 32 := 1#32
  let arg11 : BitVec 32 := Scf.iv c0_i32_10 c1_i32 k0_t1
  let c64_i32 : BitVec 32 := 64#32
  let v12 : BitVec 32 := Scalar.muli arg11 c64_i32
  v12
def k0_off1 (k0_t1 : Fin k0_t1_loop.trips) : Fin 3 → Nat :=
  let c0_12 : Index := 0#32
  let c0_i32_10 : BitVec 32 := 0#32
  let c1_i32 : BitVec 32 := 1#32
  let arg11 : BitVec 32 := Scf.iv c0_i32_10 c1_i32 k0_t1
  let c64_i32 : BitVec 32 := 64#32
  let v12 : BitVec 32 := Scalar.muli arg11 c64_i32
  let v13 : BitVec 32 := v12
  let v14 : Index := Scalar.indexCast v13
  let c0_13 : Index := 0#32
  ![0, v14.toNat, 0]
def k0_off2 (k0_t1 : Fin k0_t1_loop.trips) : Fin 2 → Nat :=
  let c0_i32_17 : BitVec 32 := 0#32
  let c0_i32_10 : BitVec 32 := 0#32
  let c1_i32 : BitVec 32 := 1#32
  let arg11 : BitVec 32 := Scf.iv c0_i32_10 c1_i32 k0_t1
  let c64_i32 : BitVec 32 := 64#32
  let v12 : BitVec 32 := Scalar.muli arg11 c64_i32
  let v13 : BitVec 32 := v12
  let v37 : BitVec 32 := Scalar.addi c0_i32_17 v13
  let v38 : Index := Scalar.indexCast v37
  let c0_18 : Index := 0#32
  ![v38.toNat, 0]
def k0_cond2 (i : grid0.Coords) : BitVec 1 :=
  let arg1 : BitVec 32 := BitVec.ofNat 32 (i 1).val
  let c0_i32 : BitVec 32 := 0#32
  let v0 : BitVec 1 := Scalar.cmpi .sge arg1 c0_i32
  let v5 : BitVec 32 := Scalar.extui v0
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== NormReferenceIdeal.lean ====
abbrev S2x8192x4096 : Shape := ⟨3, ![2, 8192, 4096]⟩
abbrev S4096 : Shape := ⟨1, ![4096]⟩
abbrev S2x1x4096 : Shape := ⟨3, ![2, 1, 4096]⟩
abbrev S4096x8192 : Shape := ⟨2, ![4096, 8192]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x8192 : Shape := ⟨3, ![2, 8192, 8192]⟩
abbrev S1x1x8192 : Shape := ⟨3, ![1, 1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S4096x8192, .bf16⟩
  | .hbm, ⟨5, _⟩ => ⟨S8192, .f32⟩
  | .hbm, ⟨6, _⟩ => ⟨S2x8192x4096, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x4096, .f32⟩
  | .hbm, ⟨18, _⟩ => ⟨S2x8192x4096, .f32⟩
  | .hbm, ⟨19, _⟩ => ⟨S1x1x4096, .f32⟩
  | .hbm, ⟨20, _⟩ => ⟨S2x8192x4096, .f32⟩
  | .hbm, ⟨21, _⟩ => ⟨S2x8192x4096, .f32⟩
  | .hbm, ⟨22, _⟩ => ⟨S_, .f32⟩
  | .hbm, ⟨23, _⟩ => ⟨S2x1x4096, .f32⟩
  | .hbm, ⟨24, _⟩ => ⟨S2x1x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S4096x8192, .f32⟩
  | .hbm, ⟨30, _⟩ => ⟨S2x8192x8192, .f32⟩
  | .hbm, ⟨31, _⟩ => ⟨S1x1x8192, .f32⟩
  | .hbm, ⟨32, _⟩ => ⟨S2x8192x8192, .f32⟩
  | .hbm, ⟨33, _⟩ => ⟨S2x8192x8192, .f32⟩
  | .hbm, ⟨34, _⟩ => ⟨S2x8192x8192, .f32⟩
  | .hbm, ⟨35, _⟩ => ⟨S2x8192x8192, .f32⟩
  | .hbm, ⟨36, _⟩ => ⟨S_, .f32⟩
  | .hbm, ⟨37, _⟩ => ⟨S2x8192x8192, .f32⟩
  | .hbm, ⟨38, _⟩ => ⟨S2x8192x8192, .f32⟩
  | .hbm, ⟨39, _⟩ => ⟨S2x8192x8192, .f32⟩
  | .hbm, ⟨40, _⟩ => ⟨S_, .f32⟩
  | .hbm, ⟨41, _⟩ => ⟨S2x8192x8192, .f32⟩
  | .hbm, ⟨42, _⟩ => ⟨S2x8192x8192, .f32⟩
  | .hbm, ⟨43, _⟩ => ⟨S2x8192x8192, .f32⟩
  | .hbm, ⟨44, _⟩ => ⟨S_, .f32⟩
  | .hbm, ⟨45, _⟩ => ⟨S2x8192x8192, .f32⟩
  | .hbm, ⟨46, _⟩ => ⟨S2x8192x8192, .f32⟩
  | .hbm, ⟨47, _⟩ => ⟨S_, .f32⟩
  | .hbm, ⟨48, _⟩ => ⟨S2x8192x8192, .f32⟩
  | .hbm, ⟨49, _⟩ => ⟨S2x8192x8192, .f32⟩
  | .hbm, ⟨50, _⟩ => ⟨S2x8192x8192, .f32⟩
  | .hbm, ⟨51, _⟩ => ⟨S2x8192x8192, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Query.lean ====
abbrev S2x8192x4096 : Shape := ⟨3, ![2, 8192, 4096]⟩
abbrev S4096 : Shape := ⟨1, ![4096]⟩
abbrev S2x1x4096 : Shape := ⟨3, ![2, 1, 4096]⟩
abbrev S4096x4096 : Shape := ⟨2, ![4096, 4096]⟩
abbrev S_ : Shape := ⟨0, ![]⟩
abbrev S1x4096 : Shape := ⟨2, ![1, 4096]⟩
abbrev S1x512x4096 : Shape := ⟨3, ![1, 512, 4096]⟩
abbrev S1x1x4096 : Shape := ⟨3, ![1, 1, 4096]⟩
abbrev S4096x1024 : Shape := ⟨2, ![4096, 1024]⟩
abbrev S1x1024 : Shape := ⟨2, ![1, 1024]⟩
abbrev S1x512x1024 : Shape := ⟨3, ![1, 512, 1024]⟩
abbrev S512x4096 : Shape := ⟨2, ![512, 4096]⟩
abbrev S1x64x4096 : Shape := ⟨3, ![1, 64, 4096]⟩
abbrev S1x64 : Shape := ⟨2, ![1, 64]⟩
abbrev S1x64x1 : Shape := ⟨3, ![1, 64, 1]⟩
abbrev S64x4096 : Shape := ⟨2, ![64, 4096]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S4096x4096, .bf16⟩
  | .hbm, ⟨5, _⟩ => ⟨S_, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S2x8192x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x1024, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 16, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_10 : BitVec 32 := 0#32
  let c8_i32 : BitVec 32 := 8#32
  let v11 : BitVec 32 := Scalar.addi c0_i32_10 c8_i32
  let c1_i32 : BitVec 32 := 1#32
  ⟨c0_i32_10, v11, c1_i32⟩
def k0_mult1 (k0_t1 : Fin k0_t1_loop.trips) : BitVec 32 :=
  let c0_i32_10 : BitVec 32 := 0#32
  let c1_i32 : BitVec 32 := 1#32
  let arg11 : BitVec 32 := Scf.iv c0_i32_10 c1_i32 k0_t1
  let c64_i32 : BitVec 32 := 64#32
  let v12 : BitVec 32 := Scalar.muli arg11 c64_i32
  v12
def k0_off1 (k0_t1 : Fin k0_t1_loop.trips) : Fin 3 → Nat :=
  let c0_12 : Index := 0#32
  let c0_i32_10 : BitVec 32 := 0#32
  let c1_i32 : BitVec 32 := 1#32
  let arg11 : BitVec 32 := Scf.iv c0_i32_10 c1_i32 k0_t1
  let c64_i32 : BitVec 32 := 64#32
  let v12 : BitVec 32 := Scalar.muli arg11 c64_i32
  let v13 : BitVec 32 := v12
  let v14 : Index := Scalar.indexCast v13
  let c0_13 : Index := 0#32
  ![0, v14.toNat, 0]
def k0_off2 (k0_t1 : Fin k0_t1_loop.trips) : Fin 2 → Nat :=
  let c0_i32_17 : BitVec 32 := 0#32
  let c0_i32_10 : BitVec 32 := 0#32
  let c1_i32 : BitVec 32 := 1#32
  let arg11 : BitVec 32 := Scf.iv c0_i32_10 c1_i32 k0_t1
  let c64_i32 : BitVec 32 := 64#32
  let v12 : BitVec 32 := Scalar.muli arg11 c64_i32
  let v13 : BitVec 32 := v12
  let v37 : BitVec 32 := Scalar.addi c0_i32_17 v13
  let v38 : Index := Scalar.indexCast v37
  let c0_18 : Index := 0#32
  ![v38.toNat, 0]
def k0_cond2 (i : grid0.Coords) : BitVec 1 :=
  let arg1 : BitVec 32 := BitVec.ofNat 32 (i 1).val
  let c0_i32 : BitVec 32 := 0#32
  let v0 : BitVec 1 := Scalar.cmpi .sge arg1 c0_i32
  let v5 : BitVec 32 := Scalar.extui v0
  let c0_i32_2 : BitVec 32 := 0#32
  let v6 : BitVec 1 := Scalar.cmpi .ne v5 c0_i32_2
  v6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== QueryIdeal.lean ====
variable {F : FTy → Type} [FloatOps F] [Named F]
def κ : String → Option EReal := fun
  | "query_scale" => some (((Real.sqrt 128)⁻¹ * (Real.log 2)⁻¹ : ℝ) : EReal)
  | _ => none
-- ==== QueryReferenceIdeal.lean ====
abbrev S2x8192x4096 : Shape := ⟨3, ![2, 8192, 4096]⟩
abbrev S4096 : Shape := ⟨1, ![4096]⟩
abbrev S2x1x4096 : Shape := ⟨3, ![2, 1, 4096]⟩
abbrev S4096x4096 : Shape := ⟨2, ![4096, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x1x4096, .f32⟩
  | .hbm, ⟨3, _⟩ => ⟨S2x1x4096, .f32⟩
  | .hbm, ⟨4, _⟩ => ⟨S4096x4096, .bf16⟩
  | .hbm, ⟨5, _⟩ => ⟨S2x8192x4096, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S2x8192x4096, .f32⟩
  | .hbm, ⟨20, _⟩ => ⟨S2x8192x4096, .f32⟩
  | .hbm, ⟨21, _⟩ => ⟨S_, .f32⟩
  | .hbm, ⟨22, _⟩ => ⟨S2x1x4096, .f32⟩
  | .hbm, ⟨23, _⟩ => ⟨S2x1x4096, .f32⟩
  | .hbm, ⟨24, _⟩ => ⟨S2x8192x4096, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S4096x4096, .f32⟩
  | .hbm, ⟨29, _⟩ => ⟨S2x8192x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x8192x4096, .f32⟩
  | .hbm, ⟨36, _⟩ => ⟨S2x8192x4096, .f32⟩
  | .hbm, ⟨37, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Softmax.lean ====
module

public import Idealize.ShloMosaic.PureOps.Ideal.Laws
public import Idealize.ShloMosaic.Lib.IdealHost

@[expose] public section

noncomputable section

namespace Cert.Attention

open Idealize.ShloMosaic

/-- A nonnegative real factor moves into a finite sum of extended reals, infinite terms included. -/
theorem coe_mul_sum {ι : Type} (c : ℝ) (hc : 0 ≤ c) (T : Finset ι) (f : ι → EReal) :
    (c : EReal) * ∑ i ∈ T, f i = ∑ i ∈ T, (c : EReal) * f i := by
  classical
  induction T using Finset.induction_on with
  | empty => simp
  | insert a T ha ih =>
    rw [Finset.sum_insert ha, Finset.sum_insert ha, ← ih]
    exact EReal.left_distrib_of_nonneg_of_ne_top (by exact_mod_cast hc) (EReal.coe_ne_top c) _ _

/-- The coercion of a finite sum of reals is the sum of the coercions. -/
theorem coe_sum {ι : Type} (T : Finset ι) (f : ι → ℝ) : ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- The maximum of a finite family none of whose members is `⊤` and one of which is real is a real number. -/
theorem fold_max_real {n : ℕ} (s : Fin n → EReal) (htop : ∀ c, s c ≠ ⊤) (hex : ∃ c, s c ≠ ⊥) :
    ∃ m : ℝ, (Finset.univ : Finset (Fin n)).fold max ⊥ s = (m : EReal) := by
  obtain ⟨c, hc⟩ := hex
  have h1 : (Finset.univ : Finset (Fin n)).fold max ⊥ s < ⊤ :=
    (Finset.fold_max_lt (⊤ : EReal)).2 ⟨bot_lt_top, fun x _ => lt_top_iff_ne_top.2 (htop x)⟩
  have h2 : s c ≤ (Finset.univ : Finset (Fin n)).fold max ⊥ s :=
    (Finset.le_fold_max (s c)).2 (Or.inr ⟨c, Finset.mem_univ c, le_rfl⟩)
  have h3 : (Finset.univ : Finset (Fin n)).fold max ⊥ s ≠ ⊥ := fun h => hc (le_bot_iff.1 (h ▸ h2))
  exact ⟨_, (EReal.coe_toReal h1.ne h3).symm⟩

/-- The softmax weight of a logit before normalising: `eˣ` at a real `x`, nothing at `⊥`. -/
def weight (s : EReal) : ℝ := if s = ⊥ then 0 else Real.exp s.toReal

theorem weight_bot : weight ⊥ = 0 := if_pos rfl

theorem weight_coe (x : ℝ) : weight (x : EReal) = Real.exp x := by
  rw [weight, if_neg (EReal.coe_ne_bot x), EReal.toReal_coe]

theorem weight_nonneg (s : EReal) : 0 ≤ weight s := by
  unfold weight; split
  · exact le_rfl
  · exact (Real.exp_pos _).le

/-- A logit less a real shift, exponentiated: the weight times the shift's own factor. -/
theorem exp_sub_eq (s : EReal) (hs : s ≠ ⊤) (m : ℝ) :
    Ideal.exp (s - (m : EReal)) = ((weight s * Real.exp (-m) : ℝ) : EReal) := by
  induction s with
  | bot => rw [EReal.bot_sub, weight_bot, zero_mul]; rfl
  | top => exact absurd rfl hs
  | coe x =>
    rw [weight_coe, ← Real.exp_add, ← EReal.coe_sub]
    show ((Real.exp (x - m) : ℝ) : EReal) = _
    rw [sub_eq_add_neg]

/-- The same weight through base two: the logit divided by `log 2`, less a real shift, as a power of two. -/
theorem exp2_sub_eq (x m : ℝ) :
    Ideal.exp2 (((x * (Real.log 2)⁻¹ : ℝ) : EReal) - (m : EReal)) = ((Real.exp x * Real.exp (-(m * Real.log 2)) : ℝ) : EReal) := by
  rw [← EReal.coe_sub]
  show ((Real.rpow 2 (x * (Real.log 2)⁻¹ - m) : ℝ) : EReal) = _
  have hl : Real.log 2 ≠ 0 := (Real.log_pos (by norm_num)).ne'
  have : Real.rpow 2 (x * (Real.log 2)⁻¹ - m) = Real.exp x * Real.exp (-(m * Real.log 2)) := by
    show (2 : ℝ) ^ (x * (Real.log 2)⁻¹ - m) = _
    rw [Real.rpow_def_of_pos (by norm_num), ← Real.exp_add]
    congr 1
    field_simp
    ring
  rw [this]

/-- ATTENTION OF ONE QUERY OVER A WINDOW. `s` are the logits of a window of keys in base two, `s'` the logits of every key
    in base `e`; inside the window they name one weight, outside it `s'` is `⊥`. Summing the weighted values over the
    window and multiplying by the reciprocal of the weights' sum is the softmax over every key applied to the values,
    whatever the values are. -/
theorem window_softmax {K W : ℕ} (f : Fin W → Fin K) (hf : Function.Injective f) (s : Fin W → EReal) (s' v : Fin K → EReal)
    (hin : ∀ c, (s c = ⊥ ∧ s' (f c) = ⊥) ∨ ∃ x : ℝ, s' (f c) = (x : EReal) ∧ s c = ((x * (Real.log 2)⁻¹ : ℝ) : EReal))
    (hout : ∀ κ, (∀ c, f c ≠ κ) → s' κ = ⊥) (hex : ∃ c, s c ≠ ⊥) :
    (∑ c, Ideal.exp2 (s c - (Finset.univ : Finset (Fin W)).fold max ⊥ s) * v (f c))
        * Ideal.div 1 (∑ c, Ideal.exp2 (s c - (Finset.univ : Finset (Fin W)).fold max ⊥ s) * 1)
      = ∑ κ, v κ * Ideal.div (Ideal.exp (s' κ - (Finset.univ : Finset (Fin K)).fold max ⊥ s'))
          (∑ κ', Ideal.exp (s' κ' - (Finset.univ : Finset (Fin K)).fold max ⊥ s')) := by
  classical
  have hstop : ∀ c, s c ≠ ⊤ := fun c => by
    rcases hin c with ⟨h, _⟩ | ⟨x, _, h⟩ <;> rw [h]
    · exact bot_ne_top
    · exact EReal.coe_ne_top _
  have hs'top : ∀ κ, s' κ ≠ ⊤ := fun κ => by
    by_cases h : ∃ c, f c = κ
    · obtain ⟨c, rfl⟩ := h
      rcases hin c with ⟨_, h⟩ | ⟨x, h, _⟩ <;> rw [h]
      · exact bot_ne_top
      · exact EReal.coe_ne_top _
    · rw [hout κ fun c hc => h ⟨c, hc⟩]; exact bot_ne_top
  obtain ⟨c₀, hc₀⟩ := hex
  have hc₀' : s' (f c₀) ≠ ⊥ := by
    rcases hin c₀ with ⟨h, _⟩ | ⟨x, h, _⟩
    · exact absurd h hc₀
    · rw [h]; exact EReal.coe_ne_bot x
  obtain ⟨m, hm⟩ := fold_max_real s hstop ⟨c₀, hc₀⟩
  obtain ⟨m', hm'⟩ := fold_max_real s' hs'top ⟨f c₀, hc₀'⟩
  rw [hm, hm']
  set w : Fin K → ℝ := fun κ => weight (s' κ) with hw
  set a : ℝ := Real.exp (-(m * Real.log 2)) with ha
  set b : ℝ := Real.exp (-m') with hb
  have hapos : 0 < a := Real.exp_pos _
  have hbpos : 0 < b := Real.exp_pos _
  have hE : ∀ κ, Ideal.exp (s' κ - (m' : EReal)) = ((w κ * b : ℝ) : EReal) := fun κ => exp_sub_eq _ (hs'top κ) m'
  have hE2 : ∀ c, Ideal.exp2 (s c - (m : EReal)) = ((w (f c) * a : ℝ) : EReal) := fun c => by
    rcases hin c with ⟨h, h'⟩ | ⟨x, h', h⟩
    · rw [h, EReal.bot_sub, hw]
      simp only [h', weight_bot, zero_mul]; rfl
    · rw [h, exp2_sub_eq, hw]
      simp only [h', weight_coe]; rfl
  have hw0 : ∀ κ, (∀ c, f c ≠ κ) → w κ = 0 := fun κ h => by rw [hw]; simp only [hout κ h, weight_bot]
  have hwn : ∀ κ, 0 ≤ w κ := fun κ => weight_nonneg _
  set Z : ℝ := ∑ κ, w κ with hZ
  have hZpos : 0 < Z := by
    refine Finset.sum_pos' (fun κ _ => hwn κ) ⟨f c₀, Finset.mem_univ _, ?_⟩
    show 0 < weight (s' (f c₀))
    rw [weight, if_neg hc₀']; exact Real.exp_pos _
  have hsub : ∀ g : Fin K → EReal, (∀ κ, (∀ c, f c ≠ κ) → g κ = 0) → ∑ c, g (f c) = ∑ κ, g κ := fun g hg => by
    rw [← Finset.sum_image (s := Finset.univ) (g := f) (f := g) (fun x _ y _ h => hf h)]
    refine Finset.sum_subset (Finset.subset_univ _) fun κ _ hκ => hg κ fun c hc => hκ ?_
    exact Finset.mem_image.2 ⟨c, Finset.mem_univ c, hc⟩
  have hZ1 : ∑ c, Ideal.exp2 (s c - (m : EReal)) * 1 = ((Z * a : ℝ) : EReal) := by
    simp only [hE2, mul_one]
    rw [hsub (fun κ => ((w κ * a : ℝ) : EReal)) (fun κ h => by simp [hw0 κ h]), ← coe_sum, hZ, Finset.sum_mul]
  have hZ2 : ∑ κ', Ideal.exp (s' κ' - (m' : EReal)) = ((Z * b : ℝ) : EReal) := by
    simp only [hE]; rw [← coe_sum, hZ, Finset.sum_mul]
  have hne1 : Z * a ≠ 0 := (mul_pos hZpos hapos).ne'
  have hne2 : Z * b ≠ 0 := (mul_pos hZpos hbpos).ne'
  rw [hZ1, hZ2]
  have hd1 : Ideal.div 1 ((Z * a : ℝ) : EReal) = (((Z * a)⁻¹ : ℝ) : EReal) := by
    unfold Ideal.div
    rw [if_neg (by exact_mod_cast hne1), one_mul, EReal.coe_inv]
  have hd2 : ∀ κ, Ideal.div (Ideal.exp (s' κ - (m' : EReal))) ((Z * b : ℝ) : EReal) = ((w κ * Z⁻¹ : ℝ) : EReal) := fun κ => by
    unfold Ideal.div
    rw [if_neg (by exact_mod_cast hne2), hE, ← EReal.coe_inv, ← EReal.coe_mul]
    congr 1; field_simp
  rw [hd1, mul_comm, coe_mul_sum _ (inv_nonneg.2 (mul_pos hZpos hapos).le)]
  simp only [hd2, hE2]
  rw [← hsub (fun κ => v κ * ((w κ * Z⁻¹ : ℝ) : EReal)) (fun κ h => by simp [hw0 κ h])]
  refine Finset.sum_congr rfl fun c _ => ?_
  rw [← mul_assoc, ← EReal.coe_mul, mul_comm]
  congr 2; field_simp

end Cert.Attention

end
-- ==== Proof.Pass.lean ====
module

public import proofs.«01_k».proof.Proof.Gen.KernelIdeal.Value
public import proofs.«01_k».proof.Proof.Softmax
public import Idealize.ShloMosaic.Lib.ValueIdx
public import Idealize.ShloMosaic.Lib.ValueIdxCoords
public import Idealize.ShloMosaic.Lib.MatmulPlain

@[expose] public section

noncomputable section

namespace Cert.Attention

open Cert.KernelIdeal Cert.KernelIdeal.Gen Idealize.ShloMosaic Idealize.ShloMosaic.TcCoe Idealize.SL.Sem
open Idealize.ShloMosaic.ValueIdx

/-! ## One pass over a window of 640 keys, as vectors -/

/-- The four heads' queries, one head under another: rows `r * 128 + i` are head `r`, query `i`. -/
def stackQ (q : FVec Ideal S1x128x512 .bf16) : FVec Ideal S512x128 .bf16 :=
  concatenate S512x128 0
    [⟨S128x128, extractStridedSlice S128x128 ![0, 0] (shapeCast S128x512 q shapeCasts_S1x128x512_S128x512) slices_S128x512_o0_0_S128x128⟩,
     ⟨S128x128, extractStridedSlice S128x128 ![0, 128] (shapeCast S128x512 q shapeCasts_S1x128x512_S128x512) slices_S128x512_o0_128_S128x128⟩,
     ⟨S128x128, extractStridedSlice S128x128 ![0, 256] (shapeCast S128x512 q shapeCasts_S1x128x512_S128x512) slices_S128x512_o0_256_S128x128⟩,
     ⟨S128x128, extractStridedSlice S128x128 ![0, 384] (shapeCast S128x512 q shapeCasts_S1x128x512_S128x512) slices_S128x512_o0_384_S128x128⟩]
    concatenates_S128x128_S128x128_S128x128_S128x128_S512x128_d0

/-- The logits of a pass: queries against the window's keys, and the bias tile in base two. -/
def logits (bias : FVec Ideal S4x128x640 .f32) (k : FVec Ideal S1x640x128 .bf16) (q : FVec Ideal S1x128x512 .bf16) : FVec Ideal S512x640 .f32 :=
  addf (matmul (F := Ideal) dot_S512x128_S640x128_S512x640_1_1_0_0_n_n none (stackQ q) (shapeCast S640x128 k shapeCasts_S1x640x128_S640x128)
      (constant S512x640 .f32 0x00000000#32))
    (mulf (shapeCast S512x640 (shapeCast S4x128x640 bias shapeCasts_S4x128x640_S4x128x640) shapeCasts_S4x128x640_S512x640)
      (broadcast S512x640 (Named.named (F := Ideal) κ "log2e" 0x3FB8AA3B#32)))

/-- The mask of the first query block: of the window of pair `w`, the columns before the first key are nothing. -/
def maskWindow (w : BitVec 32) (s : FVec Ideal S512x640 .f32) : FVec Ideal S512x640 .f32 :=
  select (cmpi .sge (iota .tc S512x640 32 [1] iota_S512x640_d1_w32) (broadcast S512x640 (Scalar.muli (Scalar.subi 8#32 w) 64#32))) s
    (broadcast S512x640 (Named.named (F := Ideal) κ "mask" 0xF149F2CA#32))

/-- The weights of a row of logits: two to the logit less the row's maximum. -/
def weights (s : FVec Ideal S512x640 .f32) : FVec Ideal S512x640 .bf16 :=
  truncf .bf16 (exp2 (subf s (broadcastTo S512x640 (shapeCast S512x1
    (multiReduction .maximumf [1] S512 s 0xFF800000#32 reduces_S512x640_S512 (.inl rfl) rfl) shapeCasts_S512_S512x1) broadcasts_S512x1_S512x640)))
    bitsLt_bf16_f32

/-- The values with a block of ones beside them, so that one product yields both the weighted sum and the weights' sum. -/
def withOnes (v : FVec Ideal S1x640x128 .bf16) : FVec Ideal S640x256 .bf16 :=
  concatenate S640x256 1 [⟨S640x128, shapeCast S640x128 v shapeCasts_S1x640x128_S640x128⟩, ⟨S640x128, k0_pay1 (F := Ideal)⟩]
    concatenates_S640x128_S640x128_S640x256_d1

/-- A pass's product: weighted values and, from column 128, the weights' sums. -/
def products (s : FVec Ideal S512x640 .f32) (v : FVec Ideal S1x640x128 .bf16) : FVec Ideal S512x256 .f32 :=
  matmul (F := Ideal) dot_S512x640_S640x256_S512x256_1_0_0_1_n_n none (weights s) (withOnes v) (constant S512x256 .f32 0x00000000#32)

/-- A pass's result: the weighted values times the reciprocal of the weights' sum. -/
def attend (s : FVec Ideal S512x640 .f32) (v : FVec Ideal S1x640x128 .bf16) : FVec Ideal S512x128 .f32 :=
  mulf (extractStridedSlice S512x128 ![0, 0] (products s v) slices_S512x256_o0_0_S512x128)
    (broadcastTo S512x128 (divf (broadcast S512x1 (Scalar.ofBits (F := Ideal) .f32 0x3F800000#32))
      (extractStridedSlice S512x1 ![0, 128] (products s v) slices_S512x256_o0_128_S512x1)) broadcasts_S512x1_S512x128)

/-! ## The same at an index -/

/-- The stacked queries at row `r * 128 + i` and column `d` are query `i`'s column `r * 128 + d`. -/
theorem stackQ_apply (q : FVec Ideal S1x128x512 .bf16) (r : Fin 4) (i d : Fin 128) (R : Fin 512) (hR : R.val = r.val * 128 + i.val) :
    stackQ q (ix2 R d) = q (ix3 0 i ⟨r.val * 128 + d.val, by omega⟩) := by
  have hq : ∀ e : Fin 512, shapeCast S128x512 q shapeCasts_S1x128x512_S128x512 (ix2 i e) = q (ix3 0 i e) := fun e =>
    shapeCast_apply q _ _ _ (by rw [Shape.rowMajor_val_three, Shape.rowMajor_val_two]; show (0 * 128 + i.val) * 512 + e.val = i.val * 512 + e.val; omega)
  unfold stackQ
  match r, hR with
  | ⟨0, _⟩, hR =>
    have hR' : R.val = 0 * 128 + i.val := hR
    refine (concatenate_apply_piece 0 _ _ (ix2 R d) 0 (by show 0 < 4; decide) S128x128 _ rfl rfl 0 rfl (ix2 i d) ?_ ?_).trans ?_
    · intro b hb; match b, hb with
      | ⟨0, _⟩, hb => exact absurd rfl hb
      | ⟨1, _⟩, _ => rfl
    · show 0 + i.val = R.val; omega
    · exact (extractStridedSlice_apply _ _ _ _ (ix2 i ⟨0 * 128 + d.val, by omega⟩) (fun a => match a with
        | ⟨0, _⟩ => (Nat.zero_add _).symm
        | ⟨1, _⟩ => by show 0 * 128 + d.val = 0 + d.val; omega)).trans (hq _)
  | ⟨1, _⟩, hR =>
    have hR' : R.val = 1 * 128 + i.val := hR
    refine (concatenate_apply_piece 0 _ _ (ix2 R d) 1 (by show 1 < 4; decide) S128x128 _ rfl rfl 128 rfl (ix2 i d) ?_ ?_).trans ?_
    · intro b hb; match b, hb with
      | ⟨0, _⟩, hb => exact absurd rfl hb
      | ⟨1, _⟩, _ => rfl
    · show 128 + i.val = R.val; omega
    · exact (extractStridedSlice_apply _ _ _ _ (ix2 i ⟨1 * 128 + d.val, by omega⟩) (fun a => match a with
        | ⟨0, _⟩ => (Nat.zero_add _).symm
        | ⟨1, _⟩ => by show 1 * 128 + d.val = 128 + d.val; omega)).trans (hq _)
  | ⟨2, _⟩, hR =>
    have hR' : R.val = 2 * 128 + i.val := hR
    refine (concatenate_apply_piece 0 _ _ (ix2 R d) 2 (by show 2 < 4; decide) S128x128 _ rfl rfl 256 rfl (ix2 i d) ?_ ?_).trans ?_
    · intro b hb; match b, hb with
      | ⟨0, _⟩, hb => exact absurd rfl hb
      | ⟨1, _⟩, _ => rfl
    · show 256 + i.val = R.val; omega
    · exact (extractStridedSlice_apply _ _ _ _ (ix2 i ⟨2 * 128 + d.val, by omega⟩) (fun a => match a with
        | ⟨0, _⟩ => (Nat.zero_add _).symm
        | ⟨1, _⟩ => by show 2 * 128 + d.val = 256 + d.val; omega)).trans (hq _)
  | ⟨3, _⟩, hR =>
    have hR' : R.val = 3 * 128 + i.val := hR
    refine (concatenate_apply_piece 0 _ _ (ix2 R d) 3 (by show 3 < 4; decide) S128x128 _ rfl rfl 384 rfl (ix2 i d) ?_ ?_).trans ?_
    · intro b hb; match b, hb with
      | ⟨0, _⟩, hb => exact absurd rfl hb
      | ⟨1, _⟩, _ => rfl
    · show 384 + i.val = R.val; omega
    · exact (extractStridedSlice_apply _ _ _ _ (ix2 i ⟨3 * 128 + d.val, by omega⟩) (fun a => match a with
        | ⟨0, _⟩ => (Nat.zero_add _).symm
        | ⟨1, _⟩ => by show 3 * 128 + d.val = 384 + d.val; omega)).trans (hq _)

/-- A key or value window without its leading axis. -/
theorem window_apply (k : FVec Ideal S1x640x128 .bf16) (c : Fin 640) (d : Fin 128) :
    shapeCast S640x128 k shapeCasts_S1x640x128_S640x128 (ix2 c d) = k (ix3 0 c d) :=
  shapeCast_apply k _ _ _ (by rw [Shape.rowMajor_val_three, Shape.rowMajor_val_two]; show (0 * 640 + c.val) * 128 + d.val = c.val * 128 + d.val; omega)

theorem log2e_eq : (Named.named (F := Ideal) (φ := .f32) κ "log2e" 0x3FB8AA3B#32) = (((Real.log 2)⁻¹ : ℝ) : EReal) :=
  IdealRules.named_const.ideal_named_scalar _ _ _ _ rfl

theorem mask_eq : (Named.named (F := Ideal) (φ := .f32) κ "mask" 0xF149F2CA#32) = (⊥ : EReal) :=
  IdealRules.named_const.ideal_named_scalar _ _ _ _ rfl

/-- A logit: the query's product with the key, and the bias divided by `log 2`. -/
theorem logits_apply (bias : FVec Ideal S4x128x640 .f32) (k : FVec Ideal S1x640x128 .bf16) (q : FVec Ideal S1x128x512 .bf16)
    (r : Fin 4) (i : Fin 128) (c : Fin 640) (R : Fin 512) (hR : R.val = r.val * 128 + i.val) :
    logits bias k q (ix2 R c)
      = (∑ d : Fin 128, q (ix3 0 i ⟨r.val * 128 + d.val, by omega⟩) * k (ix3 0 c d)) + bias (ix3 r i c) * (((Real.log 2)⁻¹ : ℝ) : EReal) := by
  unfold logits
  rw [addf_apply, mulf_apply, broadcast_apply, log2e_eq, shapeCast_self]
  congr 1
  · refine (Ideal.matmul_transposedRhs_apply (M := 512) (K := 128) (N := 640) (φ₁ := .bf16) (φ₂ := .bf16) none (stackQ q) (shapeCast S640x128 k shapeCasts_S1x640x128_S640x128) (constant S512x640 .f32 0x00000000#32) R c).trans ?_
    rw [constant_apply, Ideal.ofBits_zero_f32, zero_add]
    refine Finset.sum_congr rfl fun d _ => ?_
    rw [stackQ_apply q r i d R hR, window_apply]
  · congr 1
    exact shapeCast_apply bias _ _ _ (by
      rw [Shape.rowMajor_val_three, Shape.rowMajor_val_two]
      show (r.val * 128 + i.val) * 640 + c.val = R.val * 640 + c.val
      rw [hR])

/-- A power of two at an index. -/
theorem exp2_apply {S : Shape} (x : FVec Ideal S .f32) (j : S.Idx) : exp2 x j = Ideal.exp2 (x j) := rfl

/-- A row's weight at a column: two to the logit less the row's greatest logit. -/
theorem weights_apply (s : FVec Ideal S512x640 .f32) (R : Fin 512) (c : Fin 640) :
    weights s (ix2 R c) = Ideal.exp2 (s (ix2 R c) - (Finset.univ : Finset (Fin 640)).fold max ⊥ fun c' => s (ix2 R c')) := by
  unfold weights
  rw [truncf_apply, exp2_apply, subf_apply]
  refine congrArg Ideal.exp2 (congrArg (s (ix2 R c) - ·) ?_)
  refine (broadcastTo_apply _ _ _ (ix2 R 0) (fun a => match a with
    | ⟨0, _⟩ => rfl
    | ⟨1, _⟩ => rfl)).trans ?_
  refine (shapeCast_apply _ _ _ (ix1 R) (by rw [Shape.rowMajor_val_one, Shape.rowMajor_val_two]; show R.val = R.val * 1 + 0; omega)).trans ?_
  refine (Ideal.multiReduction_maximumf_single s _ _ _ rfl (ix1 R)).trans ?_
  have hb : FloatOps.ofBits (F := Ideal) .f32 0xFF800000#32 = (⊥ : EReal) := by
    show Ideal.ofBits .f32 0xFF800000#32 = _
    simp [Ideal.ofBits, Ideal.ieee]
  refine (congrArg (fun b => (Finset.univ : Finset (Fin 640)).fold max b (s ∘ reduces_S512x640_S512.lift (ix1 R))) hb).trans ?_
  refine congrArg (fun g => (Finset.univ : Finset (Fin 640)).fold max ⊥ g) (funext fun c' => congrArg s ?_)
  funext a; apply Fin.ext
  match a with
  | ⟨0, _⟩ => rfl
  | ⟨1, _⟩ => rfl

/-- A pass's result at a row and a column: the weighted sum of the column's values times the reciprocal of the weights' sum. -/
theorem attend_apply (s : FVec Ideal S512x640 .f32) (v : FVec Ideal S1x640x128 .bf16) (R : Fin 512) (d : Fin 128) :
    attend s v (ix2 R d)
      = (∑ c : Fin 640, Ideal.exp2 (s (ix2 R c) - (Finset.univ : Finset (Fin 640)).fold max ⊥ fun c' => s (ix2 R c')) * v (ix3 0 c d))
        * Ideal.div 1 (∑ c : Fin 640, Ideal.exp2 (s (ix2 R c) - (Finset.univ : Finset (Fin 640)).fold max ⊥ fun c' => s (ix2 R c')) * 1) := by
  have hp : ∀ e : Fin 256, products s v (ix2 R e) = ∑ c : Fin 640, weights s (ix2 R c) * withOnes v (ix2 c e) := fun e => by
    unfold products
    refine (Ideal.matmul_plain_apply (M := 512) (K := 640) (N := 256) (φ₁ := .bf16) (φ₂ := .bf16) none (weights s) (withOnes v) (constant S512x256 .f32 0x00000000#32) R e).trans ?_
    rw [constant_apply, Ideal.ofBits_zero_f32, zero_add]
  unfold attend
  rw [mulf_apply]
  congr 1
  · refine (extractStridedSlice_apply _ _ _ _ (ix2 R ⟨d.val, by omega⟩) (fun a => match a with
      | ⟨0, _⟩ => (Nat.zero_add _).symm
      | ⟨1, _⟩ => (Nat.zero_add _).symm)).trans ?_
    rw [hp]
    refine Finset.sum_congr rfl fun c _ => ?_
    rw [weights_apply]
    congr 1
    unfold withOnes
    refine (concatenate_pair_apply_left (s₁ := S640x128) (s₂ := S640x128) (t := S640x256) 1 _ _ _ (ix2 c (⟨d.val, by omega⟩ : Fin 256)) rfl (ix2 c d) (fun b => match b with
      | ⟨0, _⟩ => rfl
      | ⟨1, _⟩ => rfl)).trans (window_apply v c d)
  · refine (broadcastTo_apply _ _ _ (ix2 R 0) (fun a => match a with
      | ⟨0, _⟩ => rfl
      | ⟨1, _⟩ => rfl)).trans ?_
    rw [divf_apply, broadcast_apply]
    have h1 : Scalar.ofBits (F := Ideal) .f32 0x3F800000#32 = (1 : EReal) := Ideal.ofBits_one_f32
    rw [h1]
    congr 1
    refine (extractStridedSlice_apply _ _ _ _ (ix2 R ⟨128, by omega⟩) (fun a => match a with
      | ⟨0, _⟩ => (Nat.zero_add _).symm
      | ⟨1, _⟩ => rfl)).trans ?_
    rw [hp]
    refine Finset.sum_congr rfl fun c _ => ?_
    rw [weights_apply]
    congr 1
    unfold withOnes
    refine (concatenate_pair_apply_right (s₁ := S640x128) (s₂ := S640x128) (t := S640x256) 1 _ _ _ (ix2 c (⟨128, by omega⟩ : Fin 256)) rfl rfl (ix2 c (0 : Fin 128)) (fun b hb => match b, hb with
      | ⟨0, _⟩, _ => rfl
      | ⟨1, _⟩, hb => absurd rfl hb) rfl).trans ?_
    exact Ideal.ofBits_one_bf16

/-- The mask at an index: a column from the threshold on keeps its logit, an earlier one has none. -/
theorem maskWindow_apply (w : BitVec 32) (s : FVec Ideal S512x640 .f32) (T : ℤ) (hw : ((8#32 - w) * 64#32).toInt = T) (R : Fin 512) (c : Fin 640) :
    maskWindow w s (ix2 R c) = if T ≤ (c.val : ℤ) then s (ix2 R c) else ⊥ := by
  unfold maskWindow
  rw [select_apply, broadcast_apply, mask_eq]
  have hi : iota .tc S512x640 32 [1] iota_S512x640_d1_w32 (ix2 R c) = BitVec.ofNat 32 c.val := iota_single_apply ..
  have hc : (cmpi .sge (iota .tc S512x640 32 [1] iota_S512x640_d1_w32) (broadcast S512x640 (Scalar.muli (Scalar.subi 8#32 w) 64#32)) (ix2 R c))
      = BitVec.ofBool (decide (T ≤ (c.val : ℤ))) := by
    show BitVec.ofBool (((8#32 - w) * 64#32).sle (iota .tc S512x640 32 [1] iota_S512x640_d1_w32 (ix2 R c))) = _
    rw [hi, BitVec.sle, hw]
    have : (BitVec.ofNat 32 c.val).toInt = (c.val : ℤ) := by
      rw [BitVec.toInt_eq_toNat_of_lt]
      · rw [BitVec.toNat_ofNat]; have := c.isLt; omega
      · rw [BitVec.toNat_ofNat]; have := c.isLt; omega
    rw [this]
  rw [hc]
  by_cases h : T ≤ (c.val : ℤ)
  · rw [if_pos h, decide_eq_true h]; rfl
  · rw [if_neg h, decide_eq_false h]; rfl

end Cert.Attention

end
-- ==== Proof.Block.lean ====
module

public import proofs.«01_k».proof.Proof.Pass
public import Idealize.ShloMosaic.Lib.Pipeline.ValueKit

@[expose] public section

noncomputable section

namespace Cert.Attention

open Cert.KernelIdeal Cert.KernelIdeal.Gen Idealize.ShloMosaic.TcCoe Idealize.ShloMosaic.Tactic Idealize.SL.Sem
open Idealize.ShloMosaic hiding ix1 ix2 ix3 ix4
open Idealize.ShloMosaic.ValueIdx

/-! ## One output block, from the grid point's input blocks -/

/-- The logit that query `i` of pass `p` and head `r` has for the window's column `c`: nothing before the first key. -/
def blockLogit (jq : ℕ) (x0 : Vec Ideal S1x512x512 .bf16) (x1 : Vec Ideal S1x8704x128 .bf16) (x3 : Vec Ideal S4x128x640 .f32)
    (hjq : jq < 16) (p r : Fin 4) (i : Fin 128) (c : Fin 640) : EReal :=
  if 512 ≤ jq * 512 + p.val * 128 + c.val then
    (∑ d : Fin 128, x0 (ix3 0 ⟨p.val * 128 + i.val, by omega⟩ ⟨r.val * 128 + d.val, by omega⟩)
      * x1 (ix3 0 ⟨jq * 512 + p.val * 128 + c.val, by omega⟩ d)) + x3 (ix3 r i c) * (((Real.log 2)⁻¹ : ℝ) : EReal)
  else ⊥

/-- The weight of a column: two to the logit less the greatest logit. -/
def rowWeight (s : Fin 640 → EReal) (c : Fin 640) : EReal := Ideal.exp2 (s c - (Finset.univ : Finset (Fin 640)).fold max ⊥ s)

/-- The block's entry for query `i` of pass `p`, head `r`, column `d`. -/
def blockEntry (jq : ℕ) (x0 : Vec Ideal S1x512x512 .bf16) (x1 x2 : Vec Ideal S1x8704x128 .bf16) (x3 : Vec Ideal S4x128x640 .f32)
    (hjq : jq < 16) (p r : Fin 4) (i d : Fin 128) : EReal :=
  (∑ c : Fin 640, rowWeight (blockLogit jq x0 x1 x3 hjq p r i) c * x2 (ix3 0 ⟨jq * 512 + p.val * 128 + c.val, by omega⟩ d))
    * Ideal.div 1 (∑ c : Fin 640, rowWeight (blockLogit jq x0 x1 x3 hjq p r i) c * 1)

/-- The block as a function of its index. -/
def blockOut (jq : ℕ) (x0 : Vec Ideal S1x512x512 .bf16) (x1 x2 : Vec Ideal S1x8704x128 .bf16) (x3 : Vec Ideal S4x128x640 .f32)
    (hjq : jq < 16) (y : S1x512x512.Idx) : EReal :=
  have h1 : (y 1).val < 512 := (y 1).isLt
  have h2 : (y 2).val < 512 := (y 2).isLt
  blockEntry jq x0 x1 x2 x3 hjq ⟨(y 1).val / 128, by omega⟩ ⟨(y 2).val / 128, by omega⟩ ⟨(y 1).val % 128, by omega⟩ ⟨(y 2).val % 128, by omega⟩

/-- What a pass stores for one head: the rows of its result that belong to the head, rounded. -/
def headRows (o : ℕ) (h : S512x128.Slices ![o, 0] S128x128) (a : FVec Ideal S512x128 .f32) : FVec Ideal S1x128x128 .bf16 :=
  shapeCast S1x128x128 (truncf .bf16 (extractStridedSlice S128x128 ![o, 0] a h) bitsLt_bf16_f32) shapeCasts_S128x128_S1x128x128

/-- A stored row at an index. -/
theorem headRows_apply (o : ℕ) (h : S512x128.Slices ![o, 0] S128x128) (a : FVec Ideal S512x128 .f32) (i d : Fin 128) (R : Fin 512)
    (hR : R.val = o + i.val) : headRows o h a (ix3 0 i d) = a (ix2 R d) := by
  unfold headRows
  refine (shapeCast_apply _ _ _ (ix2 i d) (by rw [Shape.rowMajor_val_three, Shape.rowMajor_val_two]; show i.val * 128 + d.val = (0 * 128 + i.val) * 128 + d.val; omega)).trans ?_
  rw [truncf_apply]
  exact extractStridedSlice_apply _ _ _ _ (ix2 R d) (fun a => match a with
    | ⟨0, _⟩ => hR
    | ⟨1, _⟩ => (Nat.zero_add _).symm)

/-- A stored piece of the block is the block's function there. -/
theorem piece_eq (jq : ℕ) (x0 : Vec Ideal S1x512x512 .bf16) (x1 x2 : Vec Ideal S1x8704x128 .bf16) (x3 : Vec Ideal S4x128x640 .f32)
    (hjq : jq < 16) (p r : Fin 4) (o : ℕ) (h : S512x128.Slices ![o, 0] S128x128) (ho : o = r.val * 128)
    (s : FVec Ideal S512x640 .f32) (v : FVec Ideal S1x640x128 .bf16)
    (hs : ∀ (i : Fin 128) (c : Fin 640) (R : Fin 512), R.val = r.val * 128 + i.val → s (ix2 R c) = blockLogit jq x0 x1 x3 hjq p r i c)
    (hv : ∀ (c : Fin 640) (d : Fin 128), v (ix3 0 c d) = x2 (ix3 0 ⟨jq * 512 + p.val * 128 + c.val, by omega⟩ d))
    (x : S1x128x128.Idx) (y : S1x512x512.Idx) (hy1 : (y 1).val = p.val * 128 + (x 1).val) (hy2 : (y 2).val = r.val * 128 + (x 2).val) :
    headRows o h (attend s v) x = blockOut jq x0 x1 x2 x3 hjq y := by
  obtain ⟨i, hi⟩ : ∃ i : Fin 128, i = x 1 := ⟨_, rfl⟩
  obtain ⟨d, hd⟩ : ∃ d : Fin 128, d = x 2 := ⟨_, rfl⟩
  have hx : x = ix3 0 i d := by
    rw [hi, hd]; funext a; apply Fin.ext
    match a with
    | ⟨0, _⟩ => have : (x 0).val < 1 := (x 0).isLt; show (x 0).val = 0; omega
    | ⟨1, _⟩ => rfl
    | ⟨2, _⟩ => rfl
  rw [← hi] at hy1
  rw [← hd] at hy2
  have hout : blockOut jq x0 x1 x2 x3 hjq y = blockEntry jq x0 x1 x2 x3 hjq p r i d := by
    have e1 : (⟨(y 1).val / 128, by omega⟩ : Fin 4) = p := Fin.ext (by show (y 1).val / 128 = p.val; omega)
    have e2 : (⟨(y 2).val / 128, by omega⟩ : Fin 4) = r := Fin.ext (by show (y 2).val / 128 = r.val; omega)
    have e3 : (⟨(y 1).val % 128, by omega⟩ : Fin 128) = i := Fin.ext (by show (y 1).val % 128 = i.val; omega)
    have e4 : (⟨(y 2).val % 128, by omega⟩ : Fin 128) = d := Fin.ext (by show (y 2).val % 128 = d.val; omega)
    exact congr (congr (congr (congrArg (blockEntry jq x0 x1 x2 x3 hjq) e1) e2) e3) e4
  have hR : (⟨r.val * 128 + i.val, by omega⟩ : Fin 512).val = o + i.val := congrArg (· + i.val) ho.symm
  rw [hout, hx, headRows_apply o h _ i d _ hR, attend_apply]
  have hrow : (fun c' => s (ix2 (⟨r.val * 128 + i.val, by omega⟩ : Fin 512) c')) = blockLogit jq x0 x1 x3 hjq p r i :=
    funext fun c => hs i c _ rfl
  simp only [hrow, hv, hs i _ (⟨r.val * 128 + i.val, by omega⟩ : Fin 512) rfl]
  rfl

/-- The logits of a pass over the block's reads, where the pass is not masked. -/
theorem logits_block (jq : ℕ) (x0 : Vec Ideal S1x512x512 .bf16) (x1 : Vec Ideal S1x8704x128 .bf16) (x3 : Vec Ideal S4x128x640 .f32)
    (hjq : jq < 16) (hpos : 1 ≤ jq) (p r : Fin 4) (b : FVec Ideal S4x128x640 .f32) (k : FVec Ideal S1x640x128 .bf16) (q : FVec Ideal S1x128x512 .bf16)
    (hb : ∀ (r : Fin 4) (i : Fin 128) (c : Fin 640), b (ix3 r i c) = x3 (ix3 r i c))
    (hk : ∀ (c : Fin 640) (d : Fin 128), k (ix3 0 c d) = x1 (ix3 0 ⟨jq * 512 + p.val * 128 + c.val, by omega⟩ d))
    (hq : ∀ (i : Fin 128) (e : Fin 512), q (ix3 0 i e) = x0 (ix3 0 ⟨p.val * 128 + i.val, by omega⟩ e))
    (i : Fin 128) (c : Fin 640) (R : Fin 512) (hR : R.val = r.val * 128 + i.val) :
    logits b k q (ix2 R c) = blockLogit jq x0 x1 x3 hjq p r i c := by
  rw [logits_apply b k q r i c R hR, hb]
  simp only [hk, hq]
  unfold blockLogit
  rw [if_pos (by omega)]

/-- … and where it is: at the first query block. -/
theorem masked_block (x0 : Vec Ideal S1x512x512 .bf16) (x1 : Vec Ideal S1x8704x128 .bf16) (x3 : Vec Ideal S4x128x640 .f32)
    (jq : ℕ) (hjq : jq < 16) (hz : jq = 0) (p r : Fin 4) (w : BitVec 32) (hw : ((8#32 - w) * 64#32).toInt = 512 - (p.val : ℤ) * 128)
    (b : FVec Ideal S4x128x640 .f32) (k : FVec Ideal S1x640x128 .bf16) (q : FVec Ideal S1x128x512 .bf16)
    (hb : ∀ (r : Fin 4) (i : Fin 128) (c : Fin 640), b (ix3 r i c) = x3 (ix3 r i c))
    (hk : ∀ (c : Fin 640) (d : Fin 128), k (ix3 0 c d) = x1 (ix3 0 ⟨jq * 512 + p.val * 128 + c.val, by omega⟩ d))
    (hq : ∀ (i : Fin 128) (e : Fin 512), q (ix3 0 i e) = x0 (ix3 0 ⟨p.val * 128 + i.val, by omega⟩ e))
    (i : Fin 128) (c : Fin 640) (R : Fin 512) (hR : R.val = r.val * 128 + i.val) :
    maskWindow w (logits b k q) (ix2 R c) = blockLogit jq x0 x1 x3 hjq p r i c := by
  rw [maskWindow_apply w _ _ hw, logits_apply b k q r i c R hR, hb]
  simp only [hk, hq]
  unfold blockLogit
  by_cases h : 512 ≤ jq * 512 + p.val * 128 + c.val
  · rw [if_pos h, if_pos (by omega)]
  · rw [if_neg h, if_neg (by omega)]

/-- The word at which a pass's window begins. -/
def startWord (jq : Fin 16) (w : BitVec 32) : ℕ :=
  BitVec.toNat (Scalar.indexCast (Scalar.muli (Scalar.addi (Scalar.muli (BitVec.ofNat 32 jq.val) 8#32) w) 64#32))

theorem startWord_eq : ∀ (jq : Fin 16) (p : Fin 4), startWord jq (BitVec.ofNat 32 (2 * p.val)) = jq.val * 512 + p.val * 128 := by
  decide +kernel

theorem threshold_eq : ∀ (jq : Fin 16) (p : Fin 4), jq.val = 0 →
    ((8#32 - Scalar.addi (Scalar.muli (BitVec.ofNat 32 jq.val) 8#32) (BitVec.ofNat 32 (2 * p.val))) * 64#32).toInt = 512 - (p.val : ℤ) * 128 := by
  decide +kernel

/-- A window of keys or values read at an index. -/
theorem ld_window (x : Vec Ideal S1x8704x128 .bf16) (o B : ℕ) (hin) (hB : o = B) (c : Fin 640) (d : Fin 128) (hlt : B + c.val < 8704) :
    (View.ld x (Rect.unit ![0, o, 0] ![1, 640, 128] hin) : FVec Ideal S1x640x128 .bf16) (ix3 0 c d) = x (ix3 0 ⟨B + c.val, hlt⟩ d) := by
  subst hB
  exact View.ld_unit_apply_of x _ _ hin (ix3 0 c d) (ix3 0 ⟨o + c.val, hlt⟩ d) (fun a => match a with
    | ⟨0, _⟩ => rfl
    | ⟨1, _⟩ => rfl
    | ⟨2, _⟩ => (Nat.zero_add _).symm)

/-- The queries of a pass read at an index. -/
theorem ld_queries (x : Vec Ideal S1x512x512 .bf16) (o : ℕ) (hin) (i : Fin 128) (e : Fin 512) (hlt : o + i.val < 512) :
    (View.ld x (Rect.unit ![0, o, 0] ![1, 128, 512] hin) : FVec Ideal S1x128x512 .bf16) (ix3 0 i e) = x (ix3 0 ⟨o + i.val, hlt⟩ e) :=
  View.ld_unit_apply_of x _ _ hin (ix3 0 i e) (ix3 0 ⟨o + i.val, hlt⟩ e) (fun a => match a with
    | ⟨0, _⟩ => rfl
    | ⟨1, _⟩ => rfl
    | ⟨2, _⟩ => (Nat.zero_add _).symm)

/-- The bias block read at an index. -/
theorem ld_bias (x : Vec Ideal S4x128x640 .f32) (hin) (r : Fin 4) (i : Fin 128) (c : Fin 640) :
    (View.ld x (Rect.unit ![0, 0, 0] ![4, 128, 640] hin) : FVec Ideal S4x128x640 .f32) (ix3 r i c) = x (ix3 r i c) :=
  View.ld_unit_apply_of x _ _ hin (ix3 r i c) (ix3 r i c) (fun a => match a with
    | ⟨0, _⟩ => (Nat.zero_add _).symm
    | ⟨1, _⟩ => (Nat.zero_add _).symm
    | ⟨2, _⟩ => (Nat.zero_add _).symm)

/-- A pass's piece where the pass is not masked. -/
theorem pieceB (jq : Fin 16) (hpos : 1 ≤ jq.val) (x0 : Vec Ideal S1x512x512 .bf16) (x1 x2 : Vec Ideal S1x8704x128 .bf16) (x3 : Vec Ideal S4x128x640 .f32)
    (p r : Fin 4) (op o : ℕ) (w : BitVec 32) (hp : op = p.val * 128) (hwp : w = BitVec.ofNat 32 (2 * p.val)) (ho : o = r.val * 128)
    (h : S512x128.Slices ![o, 0] S128x128) (hin hb hk hv hq)
    (x : (Rect.unit (s := S1x512x512) ![0, op, o] ![1, 128, 128] hin).shape.Idx) :
    headRows o h (attend (logits (View.ld x3 (Rect.unit ![0, 0, 0] ![4, 128, 640] hb))
        (View.ld x1 (Rect.unit ![0, startWord jq w, 0] ![1, 640, 128] hk)) (View.ld x0 (Rect.unit ![0, op, 0] ![1, 128, 512] hq)))
      (View.ld x2 (Rect.unit ![0, startWord jq w, 0] ![1, 640, 128] hv))) x
      = blockOut jq.val x0 x1 x2 x3 jq.isLt ((Rect.unit (s := S1x512x512) ![0, op, o] ![1, 128, 128] hin).emb x) := by
  have e1 : (((Rect.unit (s := S1x512x512) ![0, op, o] ![1, 128, 128] hin).emb x) 1).val = op + (x 1).val := ValueKit.rect_emb_unit_val _ _ _ x 1
  have e2 : (((Rect.unit (s := S1x512x512) ![0, op, o] ![1, 128, 128] hin).emb x) 2).val = o + (x 2).val := ValueKit.rect_emb_unit_val _ _ _ x 2
  subst hwp
  have hs := startWord_eq jq p
  have := jq.isLt
  refine piece_eq jq.val x0 x1 x2 x3 jq.isLt p r o h ho _ _ (fun i c R hR => ?_) (fun c d => ld_window x2 _ _ hv hs c d (by omega)) x _ (e1.trans (congrArg (· + (x 1).val) hp)) (e2.trans (congrArg (· + (x 2).val) ho))
  refine logits_block jq.val x0 x1 x3 jq.isLt hpos p r _ _ _ (fun r i c => ld_bias x3 hb r i c) (fun c d => ld_window x1 _ _ hk hs c d (by omega))
    (fun i e => ?_) i c R hR
  subst hp
  exact ld_queries x0 _ hq i e (by omega)

/-- A pass's piece at the first query block, where the pass is masked. -/
theorem pieceA (jq : Fin 16) (hz : jq.val = 0) (x0 : Vec Ideal S1x512x512 .bf16) (x1 x2 : Vec Ideal S1x8704x128 .bf16) (x3 : Vec Ideal S4x128x640 .f32)
    (p r : Fin 4) (op o : ℕ) (w : BitVec 32) (hp : op = p.val * 128) (hwp : w = BitVec.ofNat 32 (2 * p.val)) (ho : o = r.val * 128)
    (h : S512x128.Slices ![o, 0] S128x128) (hin hb hk hv hq)
    (x : (Rect.unit (s := S1x512x512) ![0, op, o] ![1, 128, 128] hin).shape.Idx) :
    headRows o h (attend (maskWindow (Scalar.addi (Scalar.muli (BitVec.ofNat 32 jq.val) 8#32) w) (logits (View.ld x3 (Rect.unit ![0, 0, 0] ![4, 128, 640] hb))
        (View.ld x1 (Rect.unit ![0, startWord jq w, 0] ![1, 640, 128] hk)) (View.ld x0 (Rect.unit ![0, op, 0] ![1, 128, 512] hq))))
      (View.ld x2 (Rect.unit ![0, startWord jq w, 0] ![1, 640, 128] hv))) x
      = blockOut jq.val x0 x1 x2 x3 jq.isLt ((Rect.unit (s := S1x512x512) ![0, op, o] ![1, 128, 128] hin).emb x) := by
  have e1 : (((Rect.unit (s := S1x512x512) ![0, op, o] ![1, 128, 128] hin).emb x) 1).val = op + (x 1).val := ValueKit.rect_emb_unit_val _ _ _ x 1
  have e2 : (((Rect.unit (s := S1x512x512) ![0, op, o] ![1, 128, 128] hin).emb x) 2).val = o + (x 2).val := ValueKit.rect_emb_unit_val _ _ _ x 2
  subst hwp
  have hs := startWord_eq jq p
  have := jq.isLt
  refine piece_eq jq.val x0 x1 x2 x3 jq.isLt p r o h ho _ _ (fun i c R hR => ?_) (fun c d => ld_window x2 _ _ hv hs c d (by omega)) x _ (e1.trans (congrArg (· + (x 1).val) hp)) (e2.trans (congrArg (· + (x 2).val) ho))
  refine masked_block x0 x1 x3 jq.val jq.isLt hz p r _ (threshold_eq jq p hz) _ _ _ (fun r i c => ld_bias x3 hb r i c) (fun c d => ld_window x1 _ _ hk hs c d (by omega))
    (fun i e => ?_) i c R hR
  subst hp
  exact ld_queries x0 _ hq i e (by omega)

/-- The block that the kernel's body leaves away from the first query block. -/
theorem out_B (c : Dev nD) (i : grid0.Coords) (arg3 : Memref sig .tc .vmem S1x512x512 .bf16) (harg3 : arg3.IsWhole) (arg4 : Memref sig .tc .vmem S1x8704x128 .bf16) (harg4 : arg4.IsWhole) (arg5 : Memref sig .tc .vmem S1x8704x128 .bf16) (harg5 : arg5.IsWhole) (arg6 : Memref sig .tc .vmem S4x128x640 .f32) (harg6 : arg6.IsWhole) (arg7 : Memref sig .tc .vmem S1x512x512 .bf16) (harg7 : arg7.IsWhole) (hc0 : ¬cond0_0 i) (hc1 : cond0_1 i) (x0 : Vec Ideal S1x512x512 .bf16) (x1 : Vec Ideal S1x8704x128 .bf16) (x2 : Vec Ideal S1x8704x128 .bf16) (x3 : Vec Ideal S4x128x640 .f32)
    (hpos : 1 ≤ (i 2).val) (y : S1x512x512.Idx) :
    out0_B_4 (F := Ideal) c i arg3 harg3 arg4 harg4 arg5 harg5 arg6 harg6 arg7 harg7 hc0 hc1 x0 x1 x2 x3 y = blockOut (i 2).val x0 x1 x2 x3 (i 2).isLt y := by
  unfold out0_B_4
  rw [View.read_writes_eq_canon _ _ _ (cover0_B_4 c i arg3 harg3 arg4 harg4 arg5 harg5 arg6 harg6 arg7 harg7 hc0 hc1 x0 x1 x2 x3)]
  refine View.canon_apply_of_pieces (blockOut (i 2).val x0 x1 x2 x3 (i 2).isLt) _ ?_ y (cover0_B_4 c i arg3 harg3 arg4 harg4 arg5 harg5 arg6 harg6 arg7 harg7 hc0 hc1 x0 x1 x2 x3 y)
  unfold kernelRun0_B
  dsimp only
  sl_unfold_words
  simp only [View.readAt_eq_ld, harg3.read_unread, harg4.read_unread, harg5.read_unread, harg6.read_unread]
  refine List.forall_mem_cons.2 ⟨pieceB (i 2) hpos x0 x1 x2 x3 3 3 384 384 6#32 rfl rfl rfl slices_S512x128_o384_0_S128x128 inb_S1x512x512_S1x128x128_0_384_384 _ _ _ _, ?_⟩
  refine List.forall_mem_cons.2 ⟨pieceB (i 2) hpos x0 x1 x2 x3 3 2 384 256 6#32 rfl rfl rfl slices_S512x128_o256_0_S128x128 inb_S1x512x512_S1x128x128_0_384_256 _ _ _ _, ?_⟩
  refine List.forall_mem_cons.2 ⟨pieceB (i 2) hpos x0 x1 x2 x3 3 1 384 128 6#32 rfl rfl rfl slices_S512x128_o128_0_S128x128 inb_S1x512x512_S1x128x128_0_384_128 _ _ _ _, ?_⟩
  refine List.forall_mem_cons.2 ⟨pieceB (i 2) hpos x0 x1 x2 x3 3 0 384 0 6#32 rfl rfl rfl slices_S512x128_o0_0_S128x128 inb_S1x512x512_S1x128x128_0_384_0 _ _ _ _, ?_⟩
  refine List.forall_mem_cons.2 ⟨pieceB (i 2) hpos x0 x1 x2 x3 2 3 256 384 4#32 rfl rfl rfl slices_S512x128_o384_0_S128x128 inb_S1x512x512_S1x128x128_0_256_384 _ _ _ _, ?_⟩
  refine List.forall_mem_cons.2 ⟨pieceB (i 2) hpos x0 x1 x2 x3 2 2 256 256 4#32 rfl rfl rfl slices_S512x128_o256_0_S128x128 inb_S1x512x512_S1x128x128_0_256_256 _ _ _ _, ?_⟩
  refine List.forall_mem_cons.2 ⟨pieceB (i 2) hpos x0 x1 x2 x3 2 1 256 128 4#32 rfl rfl rfl slices_S512x128_o128_0_S128x128 inb_S1x512x512_S1x128x128_0_256_128 _ _ _ _, ?_⟩
  refine List.forall_mem_cons.2 ⟨pieceB (i 2) hpos x0 x1 x2 x3 2 0 256 0 4#32 rfl rfl rfl slices_S512x128_o0_0_S128x128 inb_S1x512x512_S1x128x128_0_256_0 _ _ _ _, ?_⟩
  refine List.forall_mem_cons.2 ⟨pieceB (i 2) hpos x0 x1 x2 x3 1 3 128 384 2#32 rfl rfl rfl slices_S512x128_o384_0_S128x128 inb_S1x512x512_S1x128x128_0_128_384 _ _ _ _, ?_⟩
  refine List.forall_mem_cons.2 ⟨pieceB (i 2) hpos x0 x1 x2 x3 1 2 128 256 2#32 rfl rfl rfl slices_S512x128_o256_0_S128x128 inb_S1x512x512_S1x128x128_0_128_256 _ _ _ _, ?_⟩
  refine List.forall_mem_cons.2 ⟨pieceB (i 2) hpos x0 x1 x2 x3 1 1 128 128 2#32 rfl rfl rfl slices_S512x128_o128_0_S128x128 inb_S1x512x512_S1x128x128_0_128_128 _ _ _ _, ?_⟩
  refine List.forall_mem_cons.2 ⟨pieceB (i 2) hpos x0 x1 x2 x3 1 0 128 0 2#32 rfl rfl rfl slices_S512x128_o0_0_S128x128 inb_S1x512x512_S1x128x128_0_128_0 _ _ _ _, ?_⟩
  refine List.forall_mem_cons.2 ⟨pieceB (i 2) hpos x0 x1 x2 x3 0 3 0 384 0#32 rfl rfl rfl slices_S512x128_o384_0_S128x128 inb_S1x512x512_S1x128x128_0_0_384 _ _ _ _, ?_⟩
  refine List.forall_mem_cons.2 ⟨pieceB (i 2) hpos x0 x1 x2 x3 0 2 0 256 0#32 rfl rfl rfl slices_S512x128_o256_0_S128x128 inb_S1x512x512_S1x128x128_0_0_256 _ _ _ _, ?_⟩
  refine List.forall_mem_cons.2 ⟨pieceB (i 2) hpos x0 x1 x2 x3 0 1 0 128 0#32 rfl rfl rfl slices_S512x128_o128_0_S128x128 inb_S1x512x512_S1x128x128_0_0_128 _ _ _ _, ?_⟩
  refine List.forall_mem_cons.2 ⟨pieceB (i 2) hpos x0 x1 x2 x3 0 0 0 0 0#32 rfl rfl rfl slices_S512x128_o0_0_S128x128 inb_S1x512x512_S1x128x128_0_0_0 _ _ _ _, ?_⟩
  exact fun _ h => absurd h List.not_mem_nil

/-- The block that the kernel's body leaves at the first query block. -/
theorem out_A (c : Dev nD) (i : grid0.Coords) (arg3 : Memref sig .tc .vmem S1x512x512 .bf16) (harg3 : arg3.IsWhole) (arg4 : Memref sig .tc .vmem S1x8704x128 .bf16) (harg4 : arg4.IsWhole) (arg5 : Memref sig .tc .vmem S1x8704x128 .bf16) (harg5 : arg5.IsWhole) (arg6 : Memref sig .tc .vmem S4x128x640 .f32) (harg6 : arg6.IsWhole) (arg7 : Memref sig .tc .vmem S1x512x512 .bf16) (harg7 : arg7.IsWhole) (hc0 : cond0_0 i) (hc1 : ¬cond0_1 i) (x0 : Vec Ideal S1x512x512 .bf16) (x1 : Vec Ideal S1x8704x128 .bf16) (x2 : Vec Ideal S1x8704x128 .bf16) (x3 : Vec Ideal S4x128x640 .f32)
    (hz : (i 2).val = 0) (y : S1x512x512.Idx) :
    out0_A_4 (F := Ideal) c i arg3 harg3 arg4 harg4 arg5 harg5 arg6 harg6 arg7 harg7 hc0 hc1 x0 x1 x2 x3 y = blockOut (i 2).val x0 x1 x2 x3 (i 2).isLt y := by
  unfold out0_A_4
  rw [View.read_writes_eq_canon _ _ _ (cover0_A_4 c i arg3 harg3 arg4 harg4 arg5 harg5 arg6 harg6 arg7 harg7 hc0 hc1 x0 x1 x2 x3)]
  refine View.canon_apply_of_pieces (blockOut (i 2).val x0 x1 x2 x3 (i 2).isLt) _ ?_ y (cover0_A_4 c i arg3 harg3 arg4 harg4 arg5 harg5 arg6 harg6 arg7 harg7 hc0 hc1 x0 x1 x2 x3 y)
  unfold kernelRun0_A
  dsimp only
  sl_unfold_words
  simp only [View.readAt_eq_ld, harg3.read_unread, harg4.read_unread, harg5.read_unread, harg6.read_unread]
  refine List.forall_mem_cons.2 ⟨pieceA (i 2) hz x0 x1 x2 x3 3 3 384 384 6#32 rfl rfl rfl slices_S512x128_o384_0_S128x128 inb_S1x512x512_S1x128x128_0_384_384 _ _ _ _, ?_⟩
  refine List.forall_mem_cons.2 ⟨pieceA (i 2) hz x0 x1 x2 x3 3 2 384 256 6#32 rfl rfl rfl slices_S512x128_o256_0_S128x128 inb_S1x512x512_S1x128x128_0_384_256 _ _ _ _, ?_⟩
  refine List.forall_mem_cons.2 ⟨pieceA (i 2) hz x0 x1 x2 x3 3 1 384 128 6#32 rfl rfl rfl slices_S512x128_o128_0_S128x128 inb_S1x512x512_S1x128x128_0_384_128 _ _ _ _, ?_⟩
  refine List.forall_mem_cons.2 ⟨pieceA (i 2) hz x0 x1 x2 x3 3 0 384 0 6#32 rfl rfl rfl slices_S512x128_o0_0_S128x128 inb_S1x512x512_S1x128x128_0_384_0 _ _ _ _, ?_⟩
  refine List.forall_mem_cons.2 ⟨pieceA (i 2) hz x0 x1 x2 x3 2 3 256 384 4#32 rfl rfl rfl slices_S512x128_o384_0_S128x128 inb_S1x512x512_S1x128x128_0_256_384 _ _ _ _, ?_⟩
  refine List.forall_mem_cons.2 ⟨pieceA (i 2) hz x0 x1 x2 x3 2 2 256 256 4#32 rfl rfl rfl slices_S512x128_o256_0_S128x128 inb_S1x512x512_S1x128x128_0_256_256 _ _ _ _, ?_⟩
  refine List.forall_mem_cons.2 ⟨pieceA (i 2) hz x0 x1 x2 x3 2 1 256 128 4#32 rfl rfl rfl slices_S512x128_o128_0_S128x128 inb_S1x512x512_S1x128x128_0_256_128 _ _ _ _, ?_⟩
  refine List.forall_mem_cons.2 ⟨pieceA (i 2) hz x0 x1 x2 x3 2 0 256 0 4#32 rfl rfl rfl slices_S512x128_o0_0_S128x128 inb_S1x512x512_S1x128x128_0_256_0 _ _ _ _, ?_⟩
  refine List.forall_mem_cons.2 ⟨pieceA (i 2) hz x0 x1 x2 x3 1 3 128 384 2#32 rfl rfl rfl slices_S512x128_o384_0_S128x128 inb_S1x512x512_S1x128x128_0_128_384 _ _ _ _, ?_⟩
  refine List.forall_mem_cons.2 ⟨pieceA (i 2) hz x0 x1 x2 x3 1 2 128 256 2#32 rfl rfl rfl slices_S512x128_o256_0_S128x128 inb_S1x512x512_S1x128x128_0_128_256 _ _ _ _, ?_⟩
  refine List.forall_mem_cons.2 ⟨pieceA (i 2) hz x0 x1 x2 x3 1 1 128 128 2#32 rfl rfl rfl slices_S512x128_o128_0_S128x128 inb_S1x512x512_S1x128x128_0_128_128 _ _ _ _, ?_⟩
  refine List.forall_mem_cons.2 ⟨pieceA (i 2) hz x0 x1 x2 x3 1 0 128 0 2#32 rfl rfl rfl slices_S512x128_o0_0_S128x128 inb_S1x512x512_S1x128x128_0_128_0 _ _ _ _, ?_⟩
  refine List.forall_mem_cons.2 ⟨pieceA (i 2) hz x0 x1 x2 x3 0 3 0 384 0#32 rfl rfl rfl slices_S512x128_o384_0_S128x128 inb_S1x512x512_S1x128x128_0_0_384 _ _ _ _, ?_⟩
  refine List.forall_mem_cons.2 ⟨pieceA (i 2) hz x0 x1 x2 x3 0 2 0 256 0#32 rfl rfl rfl slices_S512x128_o256_0_S128x128 inb_S1x512x512_S1x128x128_0_0_256 _ _ _ _, ?_⟩
  refine List.forall_mem_cons.2 ⟨pieceA (i 2) hz x0 x1 x2 x3 0 1 0 128 0#32 rfl rfl rfl slices_S512x128_o128_0_S128x128 inb_S1x512x512_S1x128x128_0_0_128 _ _ _ _, ?_⟩
  refine List.forall_mem_cons.2 ⟨pieceA (i 2) hz x0 x1 x2 x3 0 0 0 0 0#32 rfl rfl rfl slices_S512x128_o0_0_S128x128 inb_S1x512x512_S1x128x128_0_0_0 _ _ _ _, ?_⟩
  exact fun _ h => absurd h List.not_mem_nil

end Cert.Attention

end
-- ==== Proof.Words.lean ====
module

public import Idealize.ShloMosaic.Lib.ValueIdxCore
public import Idealize.ShloMosaic.Lib.Pipeline.Value
public import Mathlib.Data.Fin.VecNotation

@[expose] public section

noncomputable section

namespace Cert.Attention

open Idealize.ShloMosaic
open Idealize.ShloMosaic.ValueIdx

/-! ## The position arithmetic of host integers -/

/-- The sign of a word. -/
def signWord (w : BitVec 32) : BitVec 32 := if w = 0 then 0 else if w.msb then -1 else 1

/-- The quotient by 64 rounded down, as the host spells it. -/
def floorWord (w : BitVec 32) : BitVec 32 :=
  Scalar.select (IntOp.andi (IntOp.cmpi .ne (signWord w) (signWord 64#32)) (IntOp.cmpi .ne (IntOp.remsi .host w 64#32) 0#32))
    (IntOp.subi (IntOp.divsi .host w 64#32) 1#32) (IntOp.divsi .host w 64#32)

/-- A distance clipped to the table's reach and moved to a column of the table. -/
def clipWord (d : BitVec 32) : BitVec 32 := IntOp.addi (IntOp.minsi 128#32 (IntOp.maxsi 4294967168#32 d)) 128#32

/-- The same with the wrap of negative indices, which never occurs. -/
def relWord (d : BitVec 32) : BitVec 32 :=
  Scalar.select (IntOp.cmpi .slt (clipWord d) 0#32) (IntOp.addi (clipWord d) 257#32) (clipWord d)

/-- The distance that entry `k` of the sheared row stands for. -/
def shearWord (k : BitVec 32) : BitVec 32 := IntOp.subi 512#32 (Scalar.select (IntOp.cmpi .slt k 640#32) k (IntOp.subi k 767#32))

/-- The table's column for a distance. -/
def relCol (e : ℤ) : Fin 257 := ⟨(max (-128) (min e 128) + 128).toNat, by omega⟩

theorem floorWord_nat : ∀ (a : Fin 128) (b : Fin 64), (floorWord (BitVec.ofNat 32 (a.val * 64 + b.val))).toInt = a.val := by
  decide +kernel

theorem floorWord_sub : ∀ (a : Fin 136) (b : Fin 64), (floorWord (BitVec.ofNat 32 (a.val * 64 + b.val) - 512#32)).toInt = (a.val : ℤ) - 8 := by
  decide +kernel

theorem floorWord_nat' (n : ℕ) (h : n < 8192) : (floorWord (BitVec.ofNat 32 n)).toInt = (n / 64 : ℕ) := by
  have := floorWord_nat ⟨n / 64, by omega⟩ ⟨n % 64, by omega⟩
  simpa only [show n / 64 * 64 + n % 64 = n by omega] using this

theorem floorWord_sub' (n : ℕ) (h : n < 8704) : (floorWord (BitVec.ofNat 32 n - 512#32)).toInt = ((n / 64 : ℕ) : ℤ) - 8 := by
  have := floorWord_sub ⟨n / 64, by omega⟩ ⟨n % 64, by omega⟩
  simpa only [show n / 64 * 64 + n % 64 = n by omega] using this

theorem shearWord_toInt : ∀ k : Fin 767, (shearWord (BitVec.ofNat 32 k.val)).toInt = 512 - (if k.val < 640 then (k.val : ℤ) else k.val - 767) := by
  decide +kernel

/-- A comparison's word says whether the comparison holds. -/
theorem slt_iff (x y : BitVec 32) : x.slt y = decide (x.toInt < y.toInt) := rfl

/-- The clipped distance as an integer. -/
theorem clipWord_toInt (d : BitVec 32) : (clipWord d).toInt = max (-128) (min d.toInt 128) + 128 := by
  have h1 : (4294967168#32).toInt = -128 := by decide
  have h2 : (128#32).toInt = 128 := by decide
  have hm : (IntOp.maxsi 4294967168#32 d).toInt = max (-128) d.toInt := by
    unfold IntOp.maxsi
    rw [slt_iff, h1]
    by_cases h : d.toInt < -128
    · rw [decide_eq_true h, if_pos rfl, h1]; omega
    · rw [decide_eq_false h, if_neg (by decide)]; omega
  have hn : (IntOp.minsi 128#32 (IntOp.maxsi 4294967168#32 d)).toInt = min 128 (max (-128) d.toInt) := by
    unfold IntOp.minsi
    rw [slt_iff, h2, hm]
    by_cases h : 128 < max (-128) d.toInt
    · rw [decide_eq_true h, if_pos rfl, h2]; omega
    · rw [decide_eq_false h, if_neg (by decide), hm]; omega
  unfold clipWord IntOp.addi
  rw [BitVec.toInt_add, hn, h2]
  rw [Int.bmod_eq_of_le (by omega) (by omega)]
  omega

/-- The table's column as the gather reads it. -/
theorem relWord_col (d : BitVec 32) : min (relWord d).toInt.toNat 256 = (relCol d.toInt).val := by
  have hc := clipWord_toInt d
  have h0 : (0#32).toInt = 0 := by decide
  have hr : relWord d = clipWord d := by
    unfold relWord IntOp.cmpi Scalar.select
    dsimp only
    rw [slt_iff, h0, decide_eq_false (by omega)]
    rfl
  rw [hr, hc]
  show _ = (max (-128) (min d.toInt 128) + 128).toNat
  omega

/-- The distance of a query position from a key position that begins 512 before the first query. -/
theorem distance_toInt (n κ : ℕ) (hn : n < 8192) (hκ : κ < 8704) :
    (BitVec.ofNat 32 n - (BitVec.ofNat 32 κ - 512#32)).toInt = (n : ℤ) - κ + 512 := by
  have e1 : (BitVec.ofNat 32 n).toInt = n := by
    rw [BitVec.toInt_eq_toNat_of_lt] <;> rw [BitVec.toNat_ofNat] <;> omega
  have e2 : (BitVec.ofNat 32 κ).toInt = κ := by
    rw [BitVec.toInt_eq_toNat_of_lt] <;> rw [BitVec.toNat_ofNat] <;> omega
  have e3 : (512#32).toInt = 512 := by decide
  have e4 : (BitVec.ofNat 32 κ - 512#32).toInt = (κ : ℤ) - 512 := by
    rw [BitVec.toInt_sub, e2, e3, Int.bmod_eq_of_le (by omega) (by omega)]
  rw [BitVec.toInt_sub, e1, e4, Int.bmod_eq_of_le (by omega) (by omega)]
  omega

/-! ## A gather of columns of a table, read at an index -/

/-- Columns of a table picked by one list of indices. -/
theorem gather_cols1_apply {N C R : ℕ} {α : Type} (hC : 0 < C)
    (g : GatherDims ⟨2, ![N, C]⟩ ⟨2, ![R, 1]⟩ ⟨2, ![N, R]⟩)
    (ho : g.offsetDims = [0]) (hc : g.collapsedSliceDims = [1]) (hb : g.operandBatchingDims = []) (hsb : g.startIndicesBatchingDims = [])
    (hm : g.startIndexMap = [1]) (hv : g.indexVectorDim = 1) (hs : g.sliceSizes = ![N, 1])
    (x : (⟨2, ![N, C]⟩ : Shape).Idx → α) (idx : IVec ⟨2, ![R, 1]⟩ 32) (h : Fin N) (k : Fin R) :
    Host.gather g x idx (ix2 h k) = x (ix2 h ⟨min (idx (ix2 k 0)).toInt.toNat (C - 1), by omega⟩) := by
  obtain ⟨od, cd, bd, sb, sm, iv, ss, wf⟩ := g
  dsimp only at ho hc hb hsb hm hv hs
  subst ho hc hb hsb hm hv hs
  unfold Host.gather
  congr 1
  funext a
  refine Fin.ext ?_
  show GatherDims.start _ (ix2 h k) idx a + GatherDims.batchCoord _ (ix2 h k) a + GatherDims.offCoord _ (ix2 h k) a = _
  rw [GatherDims.batchCoord_eq_zero _ _ _ List.not_mem_nil]
  match a with
  | ⟨0, _⟩ =>
    refine (congrArg₂ (· + ·) (congrArg (· + 0) (dif_neg (show ¬((0 : Fin 2) ∈ [(1 : Fin 2)]) by decide)))
      (dif_pos ((GatherDims.mem_sKept _ _).mpr ⟨show ¬((0 : Fin 2) ∈ [(1 : Fin 2)]) by decide, List.not_mem_nil⟩))).trans ?_
    show 0 + 0 + h.val = h.val
    omega
  | ⟨1, _⟩ =>
    rw [GatherDims.offCoord_eq_zero _ _ _ (fun h => ((GatherDims.mem_sKept _ _).mp h).1 (List.mem_singleton.mpr rfl))]
    refine (congrArg (fun n => n + 0 + 0) (dif_pos (show (1 : Fin 2) ∈ [(1 : Fin 2)] from List.mem_singleton.mpr rfl))).trans ?_
    refine congrArg (fun w : BitVec 32 => min w.toInt.toNat (C - 1)) (congrArg idx (funext fun b => Fin.ext ?_))
    match b with
    | ⟨0, _⟩ => rfl
    | ⟨1, _⟩ => rfl

/-- Columns of a table picked by a rectangle of indices. -/
theorem gather_cols2_apply {N C R Q : ℕ} {α : Type} (hC : 0 < C)
    (g : GatherDims ⟨2, ![N, C]⟩ ⟨3, ![R, Q, 1]⟩ ⟨3, ![N, R, Q]⟩)
    (ho : g.offsetDims = [0]) (hc : g.collapsedSliceDims = [1]) (hb : g.operandBatchingDims = []) (hsb : g.startIndicesBatchingDims = [])
    (hm : g.startIndexMap = [1]) (hv : g.indexVectorDim = 2) (hs : g.sliceSizes = ![N, 1])
    (x : (⟨2, ![N, C]⟩ : Shape).Idx → α) (idx : IVec ⟨3, ![R, Q, 1]⟩ 32) (h : Fin N) (k : Fin R) (l : Fin Q) :
    Host.gather g x idx (ix3 h k l) = x (ix2 h ⟨min (idx (ix3 k l 0)).toInt.toNat (C - 1), by omega⟩) := by
  obtain ⟨od, cd, bd, sb, sm, iv, ss, wf⟩ := g
  dsimp only at ho hc hb hsb hm hv hs
  subst ho hc hb hsb hm hv hs
  unfold Host.gather
  congr 1
  funext a
  refine Fin.ext ?_
  show GatherDims.start _ (ix3 h k l) idx a + GatherDims.batchCoord _ (ix3 h k l) a + GatherDims.offCoord _ (ix3 h k l) a = _
  rw [GatherDims.batchCoord_eq_zero _ _ _ List.not_mem_nil]
  match a with
  | ⟨0, _⟩ =>
    refine (congrArg₂ (· + ·) (congrArg (· + 0) (dif_neg (show ¬((0 : Fin 2) ∈ [(1 : Fin 2)]) by decide)))
      (dif_pos ((GatherDims.mem_sKept _ _).mpr ⟨show ¬((0 : Fin 2) ∈ [(1 : Fin 2)]) by decide, List.not_mem_nil⟩))).trans ?_
    show 0 + 0 + h.val = h.val
    omega
  | ⟨1, _⟩ =>
    rw [GatherDims.offCoord_eq_zero _ _ _ (fun h => ((GatherDims.mem_sKept _ _).mp h).1 (List.mem_singleton.mpr rfl))]
    refine (congrArg (fun n => n + 0 + 0) (dif_pos (show (1 : Fin 2) ∈ [(1 : Fin 2)] from List.mem_singleton.mpr rfl))).trans ?_
    refine congrArg (fun w : BitVec 32 => min w.toInt.toNat (C - 1)) (congrArg idx (funext fun b => Fin.ext ?_))
    match b with
    | ⟨0, _⟩ => rfl
    | ⟨1, _⟩ => rfl
    | ⟨2, _⟩ => rfl

end Cert.Attention

end
-- ==== Proof.Bias.lean ====
module

public import proofs.«01_k».proof.Proof.Words
public import proofs.«01_k».proof.Proof.Gen.KernelIdeal.Value
public import Idealize.ShloMosaic.Lib.StableHlo.RunRead

@[expose] public section

noncomputable section

namespace Cert.Attention

open Cert.KernelIdeal Cert.KernelIdeal.Gen Idealize.ShloMosaic.TcCoe Idealize.ShloMosaic.Tactic Idealize.SL.Sem
open Idealize.ShloMosaic
open Idealize.ShloMosaic.ValueIdx

/-! ## The host's bias tiles -/

/-- The table's columns along the sheared row. -/
def relIdx : IVec S767 32 :=
  let all (w : BitVec 32) : IVec S767 32 := broadcastInDim S767 ![] bcast_S_S767 (constantI S_ 32 w)
  let step := select (cmpi .slt (iotaInDim S767 32 0) (all 640#32)) (iotaInDim S767 32 0) (subi (iotaInDim S767 32 0) (all 767#32))
  let col := addi (minsi (all 128#32) (maxsi (all 4294967168#32) (subi (all 512#32) step))) (all 128#32)
  select (cmpi .slt col (all 0#32)) (addi col (all 257#32)) col

theorem relIdx_apply (i : S767.Idx) : relIdx i = relWord (shearWord (BitVec.ofNat 32 (i 0).val)) := rfl

/-- Every head's sheared row. -/
def shearLine (x : Vec Ideal S32x257 .f32) : Vec Ideal S32x767 .f32 :=
  Host.gather gather_S32x257_S767x1_S32x767_0_1_n_n_1_1_321 x (broadcastInDim S767x1 ![0] bcast_S767_S767x1_0 relIdx)

/-- Every head's tile: the row repeated, one entry short at each repetition. -/
def sheared (x : Vec Ideal S32x257 .f32) : Vec Ideal S32x128x640 .f32 :=
  extractStridedSlice S32x128x640 ![0, 0, 0]
    (shapeCast S32x128x766
      (extractStridedSlice S32x98048 ![0, 0]
        (shapeCast S32x98176
          (broadcastInDim S1x32x128x767 ![0, 1, 2, 3] bcast_S1x32x1x767_S1x32x128x767_0_1_2_3
            (shapeCast S1x32x1x767 (shearLine x) shapeCasts_S32x767_S1x32x1x767))
          shapeCasts_S1x32x128x767_S32x98176)
        slices_S32x98176_S32x98048_0_0)
      shapeCasts_S32x98048_S32x128x766)
    slices_S32x128x766_S32x128x640_0_0_0

/-- The quotients by 64 rounded down of a vector of words. -/
def floorVec (s : Shape) (h : S_.BroadcastsInDim s ![]) (x : IVec s 32) : IVec s 32 :=
  let all (w : IVec S_ 32) : IVec s 32 := broadcastInDim s ![] h w
  select (andi (cmpi .ne (signi x) (all (signi (constantI S_ 32 64#32)))) (cmpi .ne (Host.remsi x (all (constantI S_ 32 64#32))) (all (constantI S_ 32 0#32))))
    (subi (Host.divsi x (all (constantI S_ 32 64#32))) (all (constantI S_ 32 1#32))) (Host.divsi x (all (constantI S_ 32 64#32)))

theorem floorVec_apply (s : Shape) (h : S_.BroadcastsInDim s ![]) (x : IVec s 32) (i : s.Idx) : floorVec s h x i = floorWord (x i) := rfl

/-- The chunk of each query of a pair of chunks. -/
def rowChunk : IVec S128x1 32 := floorVec S128x1 bcast_S_S128x1 (broadcastInDim S128x1 ![0] bcast_S128_S128x1_0 (iotaInDim S128 32 0))

/-- The chunk of each key of a window. -/
def colChunk : IVec S1x640 32 := floorVec S1x640 bcast_S_S1x640 (broadcastInDim S1x640 ![1] bcast_S640_S1x640_1 (iotaInDim S640 32 0))

/-- Which keys of the window each query sees: its own chunk and the eight before it. -/
def seen : IVec S128x640 1 :=
  andi (cmpi .sge (broadcastInDim S128x640 ![0, 1] bcast_S1x640_S128x640_0_1 colChunk) (broadcastInDim S128x640 ![0, 1] bcast_S128x1_S128x640_0_1 rowChunk))
    (cmpi .sle (broadcastInDim S128x640 ![0, 1] bcast_S1x640_S128x640_0_1 colChunk)
      (broadcastInDim S128x640 ![0, 1] bcast_S128x1_S128x640_0_1 (addi rowChunk (broadcastInDim S128x1 ![] bcast_S_S128x1 (constantI S_ 32 8#32)))))

/-- The bias tiles: the sheared rows where a query sees a key, and nothing elsewhere. -/
def biasTiles (x : Vec Ideal S32x257 .f32) : Vec Ideal S32x128x640 .f32 :=
  select (broadcastInDim S32x128x640 ![0, 1, 2] bcast_S1x128x640_S32x128x640_0_1_2
      (broadcastInDim S1x128x640 ![1, 2] bcast_S128x640_S1x128x640_1_2 seen)) (sheared x)
    (broadcastInDim S32x128x640 ![] bcast_S_S32x128x640 (constant (F := Ideal) S_ .f32 0xFF800000#32))

set_option maxRecDepth 4000 in
set_option maxHeartbeats 1000000 in
set_option pp.maxSteps 150 in
/-- The host's operations before the kernel leave the bias tiles of the table. -/
theorem bias_eq (m : (l : Loc nD τ sig) → Buf (Elt Ideal) l) (c : Dev nD) : V m c main_v40 = biasTiles (m ((c : Thread nD τ).loc main_arg2)) := by
  unfold_abbrev_sides
  after_reads_simp
  simp only [StableHlo.TRef.ofBuf_toBuf, id]
  unfold biasTiles seen sheared rowChunk colChunk floorVec shearLine relIdx
  rfl

/-! ## The tiles at an index -/

/-- Entry `k` of a head's sheared row. -/
theorem shearLine_apply (x : Vec Ideal S32x257 .f32) (h : Fin 32) (k : Fin 767) :
    shearLine x (ix2 h k) = x (ix2 h (relCol (512 - (if k.val < 640 then (k.val : ℤ) else k.val - 767)))) := by
  refine (gather_cols1_apply (N := 32) (C := 257) (R := 767) (by decide) _ rfl rfl rfl rfl rfl rfl rfl x _ h k).trans ?_
  refine congrArg (fun e => x (ix2 h e)) (Fin.ext ?_)
  have hi : broadcastInDim S767x1 ![0] bcast_S767_S767x1_0 relIdx (ix2 k 0) = relWord (shearWord (BitVec.ofNat 32 k.val)) :=
    broadcastInDim_apply _ _ _ _ (ix1 k) (fun a => match a with | ⟨0, _⟩ => rfl)
  show min (broadcastInDim S767x1 ![0] bcast_S767_S767x1_0 relIdx (ix2 k 0)).toInt.toNat 256 = _
  rw [hi, relWord_col, shearWord_toInt]

/-- A tile's entry for query `i` and column `c` is the table's at their distance. -/
theorem sheared_apply (x : Vec Ideal S32x257 .f32) (h : Fin 32) (i : Fin 128) (c : Fin 640) :
    sheared x (ix3 h i c) = x (ix2 h (relCol (512 - ((c.val : ℤ) - i.val)))) := by
  have hf : i.val * 766 + c.val < 98048 := by omega
  obtain ⟨i', k, hk⟩ : ∃ (i' : Fin 128) (k : Fin 767), i'.val * 767 + k.val = i.val * 766 + c.val :=
    ⟨⟨(i.val * 766 + c.val) / 767, by omega⟩, ⟨(i.val * 766 + c.val) % 767, by omega⟩, by show (i.val * 766 + c.val) / 767 * 767 + (i.val * 766 + c.val) % 767 = _; omega⟩
  have hd : (if k.val < 640 then (k.val : ℤ) else k.val - 767) = (c.val : ℤ) - i.val := by
    split <;> omega
  refine (extractStridedSlice_apply _ _ _ _ (ix3 h i ⟨c.val, by omega⟩ : S32x128x766.Idx) (fun a => match a with
    | ⟨0, _⟩ => (Nat.zero_add _).symm
    | ⟨1, _⟩ => (Nat.zero_add _).symm
    | ⟨2, _⟩ => (Nat.zero_add _).symm)).trans ?_
  refine (shapeCast_apply _ _ _ (ix2 h ⟨i.val * 766 + c.val, hf⟩ : S32x98048.Idx) (by
    rw [Shape.rowMajor_val_three, Shape.rowMajor_val_two]
    show h.val * 98048 + (i.val * 766 + c.val) = (h.val * 128 + i.val) * 766 + c.val
    omega)).trans ?_
  refine (extractStridedSlice_apply _ _ _ _ (ix2 h ⟨i.val * 766 + c.val, by omega⟩ : S32x98176.Idx) (fun a => match a with
    | ⟨0, _⟩ => (Nat.zero_add _).symm
    | ⟨1, _⟩ => (Nat.zero_add _).symm)).trans ?_
  refine (shapeCast_apply _ _ _ (ix4 0 h i' k : S1x32x128x767.Idx) (by
    rw [Shape.rowMajor_val_four, Shape.rowMajor_val_two]
    show ((0 * 32 + h.val) * 128 + i'.val) * 767 + k.val = h.val * 98176 + (i.val * 766 + c.val)
    omega)).trans ?_
  refine (broadcastInDim_apply _ _ _ _ (ix4 0 h 0 k : S1x32x1x767.Idx) (fun a => match a with
    | ⟨0, _⟩ => rfl
    | ⟨1, _⟩ => rfl
    | ⟨2, _⟩ => rfl
    | ⟨3, _⟩ => rfl)).trans ?_
  refine (shapeCast_apply _ _ _ (ix2 h k : S32x767.Idx) (by
    rw [Shape.rowMajor_val_four, Shape.rowMajor_val_two]
    show h.val * 767 + k.val = ((0 * 32 + h.val) * 1 + 0) * 767 + k.val
    omega)).trans ?_
  rw [shearLine_apply, hd]

/-- Whether a query sees a key of its window. -/
theorem seen_apply (i : Fin 128) (c : Fin 640) :
    seen (ix2 i c) = BitVec.ofBool (decide (i.val / 64 ≤ c.val / 64 ∧ c.val / 64 ≤ i.val / 64 + 8)) := by
  have hr : ∀ a : Fin 1, rowChunk (ix2 i a) = floorWord (BitVec.ofNat 32 i.val) := fun a =>
    congrArg floorWord (broadcastInDim_apply _ _ _ _ (ix1 i) (fun a => match a with | ⟨0, _⟩ => rfl))
  have hc : colChunk (ix2 0 c) = floorWord (BitVec.ofNat 32 c.val) :=
    congrArg floorWord (broadcastInDim_apply _ _ _ _ (ix1 c) (fun a => match a with | ⟨0, _⟩ => rfl))
  have hc' : broadcastInDim S128x640 ![0, 1] bcast_S1x640_S128x640_0_1 colChunk (ix2 i c) = floorWord (BitVec.ofNat 32 c.val) :=
    (broadcastInDim_apply _ _ _ _ (ix2 0 c : S1x640.Idx) (fun a => match a with | ⟨0, _⟩ => rfl | ⟨1, _⟩ => rfl)).trans hc
  have hr' : ∀ f : IVec S128x1 32, broadcastInDim S128x640 ![0, 1] bcast_S128x1_S128x640_0_1 f (ix2 i c) = f (ix2 i 0) := fun f =>
    broadcastInDim_apply _ _ _ _ (ix2 i 0 : S128x1.Idx) (fun a => match a with | ⟨0, _⟩ => rfl | ⟨1, _⟩ => rfl)
  show IntOp.andi (IntOp.cmpi .sge (broadcastInDim S128x640 ![0, 1] bcast_S1x640_S128x640_0_1 colChunk (ix2 i c))
      (broadcastInDim S128x640 ![0, 1] bcast_S128x1_S128x640_0_1 rowChunk (ix2 i c)))
    (IntOp.cmpi .sle (broadcastInDim S128x640 ![0, 1] bcast_S1x640_S128x640_0_1 colChunk (ix2 i c))
      (broadcastInDim S128x640 ![0, 1] bcast_S128x1_S128x640_0_1 (addi rowChunk (broadcastInDim S128x1 ![] bcast_S_S128x1 (constantI S_ 32 8#32))) (ix2 i c))) = _
  rw [hc', hr', hr', hr]
  have e8 : addi rowChunk (broadcastInDim S128x1 ![] bcast_S_S128x1 (constantI S_ 32 8#32)) (ix2 i 0) = floorWord (BitVec.ofNat 32 i.val) + 8#32 := by
    show rowChunk (ix2 i 0) + 8#32 = _
    rw [hr]
  rw [e8]
  have h1 := floorWord_nat' i.val (by omega)
  have h2 := floorWord_nat' c.val (by omega)
  have h3 : (floorWord (BitVec.ofNat 32 i.val) + 8#32).toInt = (i.val / 64 : ℕ) + 8 := by
    rw [BitVec.toInt_add, h1, show (8#32).toInt = 8 from rfl, Int.bmod_eq_of_le (by omega) (by omega)]
  unfold IntOp.andi IntOp.cmpi
  dsimp only
  rw [BitVec.sle_eq_decide, BitVec.sle_eq_decide, h1, h2, h3]
  by_cases ha : i.val / 64 ≤ c.val / 64 <;> by_cases hb : c.val / 64 ≤ i.val / 64 + 8
  · rw [decide_eq_true (show ((i.val / 64 : ℕ) : ℤ) ≤ (c.val / 64 : ℕ) by omega), decide_eq_true (show ((c.val / 64 : ℕ) : ℤ) ≤ (i.val / 64 : ℕ) + 8 by omega),
      decide_eq_true ⟨ha, hb⟩]; rfl
  · rw [decide_eq_true (show ((i.val / 64 : ℕ) : ℤ) ≤ (c.val / 64 : ℕ) by omega), decide_eq_false (show ¬((c.val / 64 : ℕ) : ℤ) ≤ (i.val / 64 : ℕ) + 8 by omega),
      decide_eq_false (fun h => hb h.2)]; rfl
  · rw [decide_eq_false (show ¬((i.val / 64 : ℕ) : ℤ) ≤ (c.val / 64 : ℕ) by omega), decide_eq_true (show ((c.val / 64 : ℕ) : ℤ) ≤ (i.val / 64 : ℕ) + 8 by omega),
      decide_eq_false (fun h => ha h.1)]; rfl
  · rw [decide_eq_false (show ¬((i.val / 64 : ℕ) : ℤ) ≤ (c.val / 64 : ℕ) by omega), decide_eq_false (show ¬((c.val / 64 : ℕ) : ℤ) ≤ (i.val / 64 : ℕ) + 8 by omega),
      decide_eq_false (fun h => ha h.1)]; rfl

/-- The tile's entry: the table's at the distance where the query sees the key, nothing elsewhere. -/
theorem biasTiles_apply (x : Vec Ideal S32x257 .f32) (h : Fin 32) (i : Fin 128) (c : Fin 640) :
    biasTiles x (ix3 h i c) = if i.val / 64 ≤ c.val / 64 ∧ c.val / 64 ≤ i.val / 64 + 8 then x (ix2 h (relCol (512 - ((c.val : ℤ) - i.val)))) else (⊥ : EReal) := by
  have hs : broadcastInDim S32x128x640 ![0, 1, 2] bcast_S1x128x640_S32x128x640_0_1_2
      (broadcastInDim S1x128x640 ![1, 2] bcast_S128x640_S1x128x640_1_2 seen) (ix3 h i c) = seen (ix2 i c) :=
    (broadcastInDim_apply _ _ _ _ (ix3 0 i c : S1x128x640.Idx) (fun a => match a with | ⟨0, _⟩ => rfl | ⟨1, _⟩ => rfl | ⟨2, _⟩ => rfl)).trans
      (broadcastInDim_apply _ _ _ _ (ix2 i c) (fun a => match a with | ⟨0, _⟩ => rfl | ⟨1, _⟩ => rfl))
  have hb : broadcastInDim S32x128x640 ![] bcast_S_S32x128x640 (constant (F := Ideal) S_ .f32 0xFF800000#32) (ix3 h i c) = (⊥ : EReal) := by
    show Ideal.ofBits .f32 0xFF800000#32 = ⊥
    simp [Ideal.ofBits, Ideal.ieee]
  show Scalar.select _ (sheared x (ix3 h i c)) _ = _
  rw [hs, hb, seen_apply, sheared_apply]
  by_cases hv : i.val / 64 ≤ c.val / 64 ∧ c.val / 64 ≤ i.val / 64 + 8
  · rw [if_pos hv, decide_eq_true hv]; rfl
  · rw [if_neg hv, decide_eq_false hv]; rfl

end Cert.Attention

end
-- ==== Proof.Ref.lean ====
module

public import proofs.«01_k».proof.Proof.Words
public import proofs.«01_k».proof.Proof.Gen.ReferenceIdeal.Read

@[expose] public section

noncomputable section

namespace Cert.Attention

open Cert.ReferenceIdeal Cert.ReferenceIdeal.Gen Cert.ReferenceIdeal.Read Idealize.ShloMosaic Idealize.ShloMosaic.TcCoe Idealize.SL.Sem
open Idealize.ShloMosaic.ValueIdx

/-! ## The reference at an index -/

/-- Whether query `n` sees padded key `κ`: not padding, and in the query's chunk or one of the eight before it. -/
def sees (n κ : ℕ) : Prop := 512 ≤ κ ∧ κ / 64 ≤ n / 64 + 8 ∧ n / 64 ≤ κ / 64

instance (n κ : ℕ) : Decidable (sees n κ) := by unfold sees; infer_instance

variable (x0 : Vec Ideal S2x8192x4096 .bf16) (x1 : Vec Ideal S2x8704x2048 .bf16) (x2 : Vec Ideal S32x257 .f32)

/-- The reference's logit of a visible pair: the product of key and query in units of the natural exponent, and the table's entry. -/
def visibleLogit (b : Fin 2) (g : Fin 8) (r : Fin 4) (n : Fin 8192) (κ : Fin 8704) : EReal :=
  (∑ d : Fin 128, x1 (ix3 b κ ⟨g.val * 128 + d.val, by omega⟩) * x0 (ix3 b n ⟨g.val * 512 + r.val * 128 + d.val, by omega⟩)) * ((Real.log 2 : ℝ) : EReal)
    + x2 (ix2 ⟨g.val * 4 + r.val, by omega⟩ (relCol ((n.val : ℤ) - κ.val + 512)))

/-- The reference's masked logit. -/
def refLogit (b : Fin 2) (g : Fin 8) (r : Fin 4) (n : Fin 8192) (κ : Fin 8704) : EReal :=
  if sees n.val κ.val then visibleLogit x0 x1 x2 b g r n κ else ⊥

theorem keys_apply (b : Fin 2) (κ : Fin 8704) (g : Fin 8) (d : Fin 128) :
    val_main_v3 (F := Ideal) x1 (ix4 b κ g d) = x1 (ix3 b κ ⟨g.val * 128 + d.val, by omega⟩) := by
  unfold val_main_v3
  refine (shapeCast_apply _ _ _ (ix5 b κ 0 g d : S2x8704x1x8x128.Idx) (by
    rw [Shape.rowMajor_val_five, Shape.rowMajor_val_four]
    show (((b.val * 8704 + κ.val) * 1 + 0) * 8 + g.val) * 128 + d.val = ((b.val * 8704 + κ.val) * 8 + g.val) * 128 + d.val
    omega)).trans ?_
  unfold val_main_v2
  refine (extractStridedSlice_apply _ _ _ _ (ix5 b κ 0 g d : S2x8704x2x8x128.Idx) (fun a => match a with
    | ⟨0, _⟩ => (Nat.zero_add _).symm
    | ⟨1, _⟩ => (Nat.zero_add _).symm
    | ⟨2, _⟩ => rfl
    | ⟨3, _⟩ => (Nat.zero_add _).symm
    | ⟨4, _⟩ => (Nat.zero_add _).symm)).trans ?_
  unfold val_main_v1
  refine (shapeCast_apply _ _ _ (ix3 b κ ⟨g.val * 128 + d.val, by omega⟩ : S2x8704x2048.Idx) (by
    rw [Shape.rowMajor_val_five, Shape.rowMajor_val_three]
    show (b.val * 8704 + κ.val) * 2048 + (g.val * 128 + d.val) = (((b.val * 8704 + κ.val) * 2 + 0) * 8 + g.val) * 128 + d.val
    omega)).trans ?_
  rfl

theorem values_apply (b : Fin 2) (κ : Fin 8704) (g : Fin 8) (d : Fin 128) :
    val_main_v5 (F := Ideal) x1 (ix4 b κ g d) = x1 (ix3 b κ ⟨1024 + g.val * 128 + d.val, by omega⟩) := by
  unfold val_main_v5
  refine (shapeCast_apply _ _ _ (ix5 b κ 0 g d : S2x8704x1x8x128.Idx) (by
    rw [Shape.rowMajor_val_five, Shape.rowMajor_val_four]
    show (((b.val * 8704 + κ.val) * 1 + 0) * 8 + g.val) * 128 + d.val = ((b.val * 8704 + κ.val) * 8 + g.val) * 128 + d.val
    omega)).trans ?_
  unfold val_main_v4
  refine (extractStridedSlice_apply _ _ _ _ (ix5 b κ 1 g d : S2x8704x2x8x128.Idx) (fun a => match a with
    | ⟨0, _⟩ => (Nat.zero_add _).symm
    | ⟨1, _⟩ => (Nat.zero_add _).symm
    | ⟨2, _⟩ => rfl
    | ⟨3, _⟩ => (Nat.zero_add _).symm
    | ⟨4, _⟩ => (Nat.zero_add _).symm)).trans ?_
  unfold val_main_v1
  refine (shapeCast_apply _ _ _ (ix3 b κ ⟨1024 + g.val * 128 + d.val, by omega⟩ : S2x8704x2048.Idx) (by
    rw [Shape.rowMajor_val_five, Shape.rowMajor_val_three]
    show (b.val * 8704 + κ.val) * 2048 + (1024 + g.val * 128 + d.val) = (((b.val * 8704 + κ.val) * 2 + 1) * 8 + g.val) * 128 + d.val
    omega)).trans ?_
  rfl

theorem queries_apply (b : Fin 2) (n : Fin 8192) (g : Fin 8) (r : Fin 4) (d : Fin 128) :
    val_main_v11 (F := Ideal) x0 (ix5 b n g r d) = x0 (ix3 b n ⟨g.val * 512 + r.val * 128 + d.val, by omega⟩) := by
  unfold val_main_v11
  refine (shapeCast_apply _ _ _ (ix3 b n ⟨g.val * 512 + r.val * 128 + d.val, by omega⟩ : S2x8192x4096.Idx) (by
    rw [Shape.rowMajor_val_five, Shape.rowMajor_val_three]
    show (b.val * 8192 + n.val) * 4096 + (g.val * 512 + r.val * 128 + d.val) = (((b.val * 8192 + n.val) * 8 + g.val) * 4 + r.val) * 128 + d.val
    omega)).trans ?_
  rfl

/-- The word two, and the host's logarithm of it. -/
theorem logTwo_eq (i : S_.Idx) : val_main_v14 (F := Ideal) i = ((Real.log 2 : ℝ) : EReal) := by
  show Ideal.log (Ideal.ofBits .f32 0x40000000#32) = _
  have h2 : Ideal.ofBits .f32 0x40000000#32 = ((2 : ℝ) : EReal) := by
    simp [Ideal.ofBits, Ideal.ieee]
    rw [← EReal.coe_mul]
    norm_num
  rw [h2]
  exact if_neg (by norm_num)

theorem products_apply (b : Fin 2) (g : Fin 8) (r : Fin 4) (n : Fin 8192) (κ : Fin 8704) :
    val_main_v16 (F := Ideal) x0 x1 (ix5 b g r n κ)
      = (∑ d : Fin 128, x1 (ix3 b κ ⟨g.val * 128 + d.val, by omega⟩) * x0 (ix3 b n ⟨g.val * 512 + r.val * 128 + d.val, by omega⟩)) * ((Real.log 2 : ℝ) : EReal) := by
  refine (val_main_v16_apply x0 x1 _).trans ?_
  refine congrArg₂ (fun x y : EReal => x * y) ?_ ((val_main_v15_apply _).trans (logTwo_eq _))
  refine (val_main_v13_apply x0 x1 _).trans ((val_main_v12_apply x0 x1 _).trans (Finset.sum_congr rfl fun d _ => congrArg₂ (fun x y : EReal => x * y) ?_ ?_))
  · refine (congrArg (val_main_v3 (F := Ideal) x1) (funext fun a => ?_)).trans (keys_apply x1 b κ g d)
    match a with | ⟨0, _⟩ => rfl | ⟨1, _⟩ => rfl | ⟨2, _⟩ => rfl | ⟨3, _⟩ => rfl
  · refine (congrArg (val_main_v11 (F := Ideal) x0) (funext fun a => ?_)).trans (queries_apply x0 b n g r d)
    match a with | ⟨0, _⟩ => rfl | ⟨1, _⟩ => rfl | ⟨2, _⟩ => rfl | ⟨3, _⟩ => rfl | ⟨4, _⟩ => rfl

/-- The table's entry for a pair. -/
theorem relative_apply (b : Fin 2) (g : Fin 8) (r : Fin 4) (n : Fin 8192) (κ : Fin 8704) :
    val_main_v54 (F := Ideal) x2 (ix5 b g r n κ) = x2 (ix2 ⟨g.val * 4 + r.val, by omega⟩ (relCol ((n.val : ℤ) - κ.val + 512))) := by
  refine (val_main_v54_apply x2 _).trans ((val_main_v53_apply x2 _).trans ?_)
  refine (congrArg (val_main_v32 (F := Ideal) x2) (show _ = (ix4 g r n κ : S8x4x8192x8704.Idx) from funext fun a => ?_)).trans ?_
  · match a with | ⟨0, _⟩ => rfl | ⟨1, _⟩ => rfl | ⟨2, _⟩ => rfl | ⟨3, _⟩ => rfl
  unfold val_main_v32
  refine (shapeCast_apply _ _ _ (ix3 ⟨g.val * 4 + r.val, by omega⟩ n κ : S32x8192x8704.Idx) (by
    rw [Shape.rowMajor_val_four, Shape.rowMajor_val_three]; rfl)).trans ?_
  unfold val_main_v31
  refine (gather_cols2_apply (N := 32) (C := 257) (R := 8192) (Q := 8704) (by decide) _ rfl rfl rfl rfl rfl rfl rfl x2 _ _ n κ).trans ?_
  refine congrArg (fun e => x2 (ix2 ⟨g.val * 4 + r.val, by omega⟩ e)) (Fin.ext ?_)
  have hi : val_main_v30 (F := Ideal) (ix3 n κ 0) = relWord (BitVec.ofNat 32 n.val - (BitVec.ofNat 32 κ.val - 512#32)) := rfl
  show min (val_main_v30 (F := Ideal) (ix3 n κ 0)).toInt.toNat 256 = _
  rw [hi, relWord_col, distance_toInt _ _ n.isLt κ.isLt]

theorem ofBool_and (a b : Bool) : IntOp.andi (BitVec.ofBool a) (BitVec.ofBool b) = BitVec.ofBool (a && b) := by
  cases a <;> cases b <;> rfl

/-- The visibility bit. -/
theorem visible_apply (n : Fin 8192) (κ : Fin 8704) : val_main_v52 (F := Ideal) (ix2 n κ) = BitVec.ofBool (decide (sees n.val κ.val)) := by
  have e : val_main_v52 (F := Ideal) (ix2 n κ)
      = IntOp.andi (IntOp.andi (IntOp.cmpi .sge (BitVec.ofNat 32 κ.val - 512#32) 0#32)
            (IntOp.cmpi .sle (floorWord (BitVec.ofNat 32 κ.val - 512#32)) (floorWord (BitVec.ofNat 32 n.val))))
          (IntOp.cmpi .sge (floorWord (BitVec.ofNat 32 κ.val - 512#32)) (floorWord (BitVec.ofNat 32 n.val) - 8#32)) := rfl
  rw [e]
  have h1 := floorWord_nat' n.val n.isLt
  have h2 := floorWord_sub' κ.val κ.isLt
  have h3 : (floorWord (BitVec.ofNat 32 n.val) - 8#32).toInt = (n.val / 64 : ℕ) - 8 := by
    have := n.isLt
    rw [BitVec.toInt_sub, h1, show (8#32).toInt = 8 from rfl, Int.bmod_eq_of_le (by omega) (by omega)]
  have h4 : (BitVec.ofNat 32 κ.val - 512#32).toInt = (κ.val : ℤ) - 512 := by
    have hκ := κ.isLt
    have e2 : (BitVec.ofNat 32 κ.val).toInt = κ.val := by
      rw [BitVec.toInt_eq_toNat_of_lt] <;> rw [BitVec.toNat_ofNat] <;> omega
    rw [BitVec.toInt_sub, e2, show (512#32).toInt = 512 from rfl, Int.bmod_eq_of_le (by omega) (by omega)]
  unfold IntOp.cmpi
  dsimp only
  rw [ofBool_and, ofBool_and]
  refine congrArg BitVec.ofBool ?_
  rw [BitVec.sle_eq_decide, BitVec.sle_eq_decide, BitVec.sle_eq_decide, h1, h2, h3, h4, show (0#32).toInt = 0 from rfl,
    ← Bool.decide_and, ← Bool.decide_and]
  refine decide_eq_decide.mpr ?_
  unfold sees
  omega

/-- The reference's masked logits are `refLogit`. -/
theorem refLogit_apply (b : Fin 2) (g : Fin 8) (r : Fin 4) (n : Fin 8192) (κ : Fin 8704) :
    val_main_v56 (F := Ideal) x0 x1 x2 (ix5 b g r n κ) = refLogit x0 x1 x2 b g r n κ := by
  refine (val_main_v56_apply x0 x1 x2 _).trans ?_
  have hc : val_main_call3_v1 (F := Ideal) (ix5 b g r n κ) = BitVec.ofBool (decide (sees n.val κ.val)) := by
    refine (val_main_call3_v1_apply _).trans ((congrArg (val_main_v52 (F := Ideal)) (funext fun a => ?_)).trans (visible_apply n κ))
    match a with | ⟨0, _⟩ => rfl | ⟨1, _⟩ => rfl
  have hb : val_main_call3_v2 (F := Ideal) (ix5 b g r n κ) = (⊥ : EReal) := by
    show Ideal.ofBits .f32 0xFF800000#32 = ⊥
    simp [Ideal.ofBits, Ideal.ieee]
  have hv : val_main_v55 (F := Ideal) x0 x1 x2 (ix5 b g r n κ) = visibleLogit x0 x1 x2 b g r n κ :=
    (val_main_v55_apply x0 x1 x2 _).trans (congrArg₂ (fun x y : EReal => x + y) (products_apply x0 x1 b g r n κ) (relative_apply x2 b g r n κ))
  rw [hc, hb, hv]
  unfold refLogit
  by_cases h : sees n.val κ.val
  · rw [if_pos h, decide_eq_true h]; rfl
  · rw [if_neg h, decide_eq_false h]; rfl

/-- The greatest masked logit of a query. -/
theorem greatest_apply (b : Fin 2) (g : Fin 8) (r : Fin 4) (n : Fin 8192) :
    val_main_v59 (F := Ideal) x0 x1 x2 (ix4 b g r n) = (Finset.univ : Finset (Fin 8704)).fold max ⊥ (refLogit x0 x1 x2 b g r n) := by
  have hz : Ideal.ofBits .f32 0xFF800000#32 = ⊥ := by simp [Ideal.ofBits, Ideal.ieee]
  refine (val_main_v59_apply x0 x1 x2 _).trans ?_
  have hm : val_main_v57 (F := Ideal) x0 x1 x2 (ix4 b g r n) = (Finset.univ : Finset (Fin 8704)).fold max ⊥ (refLogit x0 x1 x2 b g r n) := by
    unfold val_main_v57
    refine (Host.reduce_eq_fold_single (α := EReal) max (val_main_v56 (F := Ideal) x0 x1 x2) (val_main_cst_10 (F := Ideal))
      reducesTo_S2x8x4x8192x8704_S2x8x4x8192_d4 (by decide) h_S_ (ix4 b g r n)).trans ?_
    refine (congrArg₂ (fun (z : EReal) f => (Finset.univ : Finset (Fin 8704)).fold max z f) hz (funext fun κ => ?_))
    refine Eq.trans (congrArg (val_main_v56 (F := Ideal) x0 x1 x2) (funext fun a => Fin.ext ?_)) (refLogit_apply x0 x1 x2 b g r n κ)
    match a with | ⟨0, _⟩ => rfl | ⟨1, _⟩ => rfl | ⟨2, _⟩ => rfl | ⟨3, _⟩ => rfl | ⟨4, _⟩ => rfl
  rw [hm]
  refine (congrArg (fun z : EReal => max z _) (show val_main_v58 (F := Ideal) (ix4 b g r n) = ⊥ from hz)).trans ?_
  exact max_eq_right bot_le

/-- The exponentials of the reference's softmax. -/
theorem exponential_apply (b : Fin 2) (g : Fin 8) (r : Fin 4) (n : Fin 8192) (κ : Fin 8704) :
    val_main_v63 (F := Ideal) x0 x1 x2 (ix5 b g r n κ)
      = Ideal.exp (refLogit x0 x1 x2 b g r n κ - (Finset.univ : Finset (Fin 8704)).fold max ⊥ (refLogit x0 x1 x2 b g r n)) := by
  refine (val_main_v63_apply x0 x1 x2 _).trans (congrArg Ideal.exp ?_)
  refine (val_main_v62_apply x0 x1 x2 _).trans (congrArg₂ (fun x y : EReal => x - y) (refLogit_apply x0 x1 x2 b g r n κ) ?_)
  refine (val_main_v61_apply x0 x1 x2 _).trans ((val_main_v60_apply x0 x1 x2 _).trans (Eq.trans ?_ (greatest_apply x0 x1 x2 b g r n)))
  refine congrArg (val_main_v59 (F := Ideal) x0 x1 x2) (funext fun a => ?_)
  match a with | ⟨0, _⟩ => rfl | ⟨1, _⟩ => rfl | ⟨2, _⟩ => rfl | ⟨3, _⟩ => rfl

/-- The softmax's weights. -/
theorem softmax_apply (b : Fin 2) (g : Fin 8) (r : Fin 4) (n : Fin 8192) (κ : Fin 8704) :
    val_main_v67 (F := Ideal) x0 x1 x2 (ix5 b g r n κ)
      = Ideal.div (Ideal.exp (refLogit x0 x1 x2 b g r n κ - (Finset.univ : Finset (Fin 8704)).fold max ⊥ (refLogit x0 x1 x2 b g r n)))
        (∑ κ' : Fin 8704, Ideal.exp (refLogit x0 x1 x2 b g r n κ' - (Finset.univ : Finset (Fin 8704)).fold max ⊥ (refLogit x0 x1 x2 b g r n))) := by
  refine (val_main_v67_apply x0 x1 x2 _).trans (congrArg₂ Ideal.div (exponential_apply x0 x1 x2 b g r n κ) ?_)
  refine (val_main_v66_apply x0 x1 x2 _).trans ((val_main_v65_apply x0 x1 x2 _).trans ((val_main_v64_apply x0 x1 x2 _).trans ?_))
  refine (congrArg (fun z : EReal => z + _) (show val_main_cst_12 (F := Ideal) (Shape.Idx.first h_S_) = (0 : EReal) from Ideal.ofBits_zero_f32)).trans ?_
  refine (zero_add _).trans (Finset.sum_congr rfl fun κ' _ => ?_)
  refine Eq.trans (congrArg (val_main_v63 (F := Ideal) x0 x1 x2) (funext fun a => ?_)) (exponential_apply x0 x1 x2 b g r n κ')
  match a with | ⟨0, _⟩ => rfl | ⟨1, _⟩ => rfl | ⟨2, _⟩ => rfl | ⟨3, _⟩ => rfl | ⟨4, _⟩ => rfl

/-- The reference's result: the values weighted by the softmax of the masked logits. -/
theorem reference_apply (b : Fin 2) (n : Fin 8192) (g : Fin 8) (r : Fin 4) (d : Fin 128) :
    val_main_v71 (F := Ideal) x0 x1 x2 (ix3 b n ⟨g.val * 512 + r.val * 128 + d.val, by omega⟩)
      = ∑ κ : Fin 8704, x1 (ix3 b κ ⟨1024 + g.val * 128 + d.val, by omega⟩)
        * Ideal.div (Ideal.exp (refLogit x0 x1 x2 b g r n κ - (Finset.univ : Finset (Fin 8704)).fold max ⊥ (refLogit x0 x1 x2 b g r n)))
          (∑ κ' : Fin 8704, Ideal.exp (refLogit x0 x1 x2 b g r n κ' - (Finset.univ : Finset (Fin 8704)).fold max ⊥ (refLogit x0 x1 x2 b g r n))) := by
  refine (val_main_v71_apply x0 x1 x2 _).trans ?_
  show val_main_v70 (F := Ideal) x0 x1 x2 _ = _
  unfold val_main_v70
  refine (shapeCast_apply _ _ _ (ix5 b n g r d : S2x8192x8x4x128.Idx) (by
    rw [Shape.rowMajor_val_five, Shape.rowMajor_val_three]
    show (((b.val * 8192 + n.val) * 8 + g.val) * 4 + r.val) * 128 + d.val = (b.val * 8192 + n.val) * 4096 + (g.val * 512 + r.val * 128 + d.val)
    omega)).trans ?_
  refine (val_main_v69_apply x0 x1 x2 _).trans ((val_main_v68_apply x0 x1 x2 _).trans (Finset.sum_congr rfl fun κ _ => congrArg₂ (fun x y : EReal => x * y) ?_ ?_))
  · refine (congrArg (val_main_v5 (F := Ideal) x1) (funext fun a => ?_)).trans (values_apply x1 b κ g d)
    match a with | ⟨0, _⟩ => rfl | ⟨1, _⟩ => rfl | ⟨2, _⟩ => rfl | ⟨3, _⟩ => rfl
  · refine (congrArg (val_main_v67 (F := Ideal) x0 x1 x2) (funext fun a => ?_)).trans (softmax_apply x0 x1 x2 b g r n κ)
    match a with | ⟨0, _⟩ => rfl | ⟨1, _⟩ => rfl | ⟨2, _⟩ => rfl | ⟨3, _⟩ => rfl | ⟨4, _⟩ => rfl

end Cert.Attention

end
-- ==== Proof.Equal.lean ====
module

public import proofs.«01_k».proof.Proof.Block
public import proofs.«01_k».proof.Proof.Bias
public import proofs.«01_k».proof.Proof.Ref
public import proofs.«01_k».proof.Proof.Softmax

@[expose] public section

noncomputable section

namespace Cert.Attention

open Idealize.ShloMosaic hiding ix1 ix2 ix3 ix4
open Idealize.ShloMosaic.ValueIdx

/-! ## The kernel's whole result and its equality with the reference -/

variable (x0 : Vec Ideal KernelIdeal.S2x8192x4096 .bf16) (x1 : Vec Ideal KernelIdeal.S2x8704x2048 .bf16)

/-- The padded key behind column `c` of the window of query `n`. -/
def keyOf (n : Fin 8192) (c : Fin 640) : Fin 8704 := ⟨n.val / 128 * 128 + c.val, by omega⟩

/-- The kernel's logit of query `n` for the window's column `c`, from bias tiles `T`. -/
def kernelLogit (T : Vec Ideal KernelIdeal.S32x128x640 .f32) (b : Fin 2) (g : Fin 8) (r : Fin 4) (n : Fin 8192) (c : Fin 640) : EReal :=
  if 512 ≤ (keyOf n c).val then
    (∑ d : Fin 128, x0 (ix3 b n ⟨g.val * 512 + r.val * 128 + d.val, by omega⟩) * x1 (ix3 b (keyOf n c) ⟨g.val * 128 + d.val, by omega⟩))
      + T (ix3 ⟨g.val * 4 + r.val, by omega⟩ ⟨n.val % 128, by omega⟩ c) * (((Real.log 2)⁻¹ : ℝ) : EReal)
  else ⊥

/-- The kernel's result for a query, a head and a column of the head. -/
def kernelEntry (T : Vec Ideal KernelIdeal.S32x128x640 .f32) (b : Fin 2) (n : Fin 8192) (g : Fin 8) (r : Fin 4) (d : Fin 128) : EReal :=
  (∑ c, rowWeight (kernelLogit x0 x1 T b g r n) c * x1 (ix3 b (keyOf n c) ⟨1024 + g.val * 128 + d.val, by omega⟩))
    * Ideal.div 1 (∑ c, rowWeight (kernelLogit x0 x1 T b g r n) c * 1)

/-- The kernel's whole result. -/
def kernelArray (T : Vec Ideal KernelIdeal.S32x128x640 .f32) : Vec Ideal KernelIdeal.S2x8192x4096 .bf16 := fun i =>
  kernelEntry x0 x1 T (i 0) (i 1) ⟨(i 2).val / 512, by have : (i 2).val < 4096 := (i 2).isLt; omega⟩
    ⟨(i 2).val % 512 / 128, by omega⟩ ⟨(i 2).val % 128, by omega⟩

/-- The array at an index given by head and column of the head. -/
theorem kernelArray_apply (T : Vec Ideal KernelIdeal.S32x128x640 .f32) (b : Fin 2) (n : Fin 8192) (g : Fin 8) (r : Fin 4) (d : Fin 128) (e : Fin 4096)
    (he : e.val = g.val * 512 + r.val * 128 + d.val) : kernelArray x0 x1 T (ix3 b n e) = kernelEntry x0 x1 T b n g r d := by
  show kernelEntry x0 x1 T b n ⟨e.val / 512, _⟩ ⟨e.val % 512 / 128, _⟩ ⟨e.val % 128, _⟩ = _
  congr 1
  · exact Fin.ext (by show e.val / 512 = g.val; omega)
  · exact Fin.ext (by show e.val % 512 / 128 = r.val; omega)
  · exact Fin.ext (by show e.val % 128 = d.val; omega)

/-- Whether a window's column is seen is the reference's visibility of its key. -/
theorem sees_keyOf (n : Fin 8192) (c : Fin 640) :
    sees n.val (keyOf n c).val ↔ 512 ≤ (keyOf n c).val ∧ (n.val % 128) / 64 ≤ c.val / 64 ∧ c.val / 64 ≤ (n.val % 128) / 64 + 8 := by
  show sees n.val (n.val / 128 * 128 + c.val) ↔ 512 ≤ n.val / 128 * 128 + c.val ∧ _
  unfold sees
  omega

/-- Every key a query sees is in its window. -/
theorem exists_keyOf (n : Fin 8192) (κ : Fin 8704) (h : sees n.val κ.val) : ∃ c, keyOf n c = κ := by
  unfold sees at h
  exact ⟨⟨κ.val - n.val / 128 * 128, by omega⟩, Fin.ext (by show n.val / 128 * 128 + (κ.val - n.val / 128 * 128) = κ.val; omega)⟩

theorem keyOf_injective (n : Fin 8192) : Function.Injective (keyOf n) := fun c c' h => by
  have : n.val / 128 * 128 + c.val = n.val / 128 * 128 + c'.val := congrArg Fin.val h
  exact Fin.ext (by omega)

variable (x2 : Vec Ideal KernelIdeal.S32x257 .f32)

/-- The sum of the coerced reals is the coerced sum. -/
theorem coe_sum128 (f : Fin 128 → ℝ) : (∑ d, ((f d : ℝ) : EReal)) = ((∑ d, f d : ℝ) : EReal) :=
  (map_sum (⟨⟨fun x : ℝ => (x : EReal), rfl⟩, fun a b => EReal.coe_add a b⟩ : ℝ →+ EReal) f Finset.univ).symm

/-- With real operands a seen column's two logits are one real, in units of base two and of the natural exponent. -/
theorem logits_real (hq : ∀ i, ∃ a : ℝ, x0 i = (a : EReal)) (hk : ∀ b κ (e : Fin 1024), ∃ a : ℝ, x1 (ix3 b κ ⟨e.val, by omega⟩) = (a : EReal))
    (ht : ∀ i, ∃ a : ℝ, x2 i = (a : EReal)) (b : Fin 2) (g : Fin 8) (r : Fin 4) (n : Fin 8192) (c : Fin 640) (h : sees n.val (keyOf n c).val) :
    ∃ x : ℝ, refLogit x0 x1 x2 b g r n (keyOf n c) = (x : EReal) ∧ kernelLogit x0 x1 (biasTiles x2) b g r n c = ((x * (Real.log 2)⁻¹ : ℝ) : EReal) := by
  have hl : Real.log 2 ≠ 0 := (Real.log_pos one_lt_two).ne'
  choose q hq using hq
  choose t ht using ht
  have hk' : ∀ d : Fin 128, ∃ a : ℝ, x1 (ix3 b (keyOf n c) ⟨g.val * 128 + d.val, by omega⟩) = (a : EReal) := fun d => hk b (keyOf n c) ⟨g.val * 128 + d.val, by omega⟩
  choose k hk' using hk'
  set e : Fin 257 := relCol ((n.val : ℤ) - (keyOf n c).val + 512) with he
  obtain ⟨h1, h2⟩ := (sees_keyOf n c).mp h
  refine ⟨(∑ d : Fin 128, k d * q (ix3 b n ⟨g.val * 512 + r.val * 128 + d.val, by omega⟩)) * Real.log 2 + t (ix2 ⟨g.val * 4 + r.val, by omega⟩ e), ?_, ?_⟩
  · unfold refLogit visibleLogit
    rw [if_pos h, ← he]
    rw [EReal.coe_add, EReal.coe_mul, ← coe_sum128]
    refine congrArg₂ (fun x y : EReal => x + y) (congrArg (fun x : EReal => x * _) (Finset.sum_congr rfl fun d _ => ?_)) (ht _)
    rw [EReal.coe_mul]
    exact congrArg₂ (fun x y : EReal => x * y) (hk' d) (hq _)
  · unfold kernelLogit
    rw [if_pos h1, biasTiles_apply, if_pos h2]
    have hd : (512 : ℤ) - ((c.val : ℤ) - (n.val % 128 : ℕ)) = (n.val : ℤ) - (keyOf n c).val + 512 := by
      show (512 : ℤ) - ((c.val : ℤ) - (n.val % 128 : ℕ)) = (n.val : ℤ) - (n.val / 128 * 128 + c.val : ℕ) + 512
      omega
    have hx : ((∑ d : Fin 128, k d * q (ix3 b n ⟨g.val * 512 + r.val * 128 + d.val, by omega⟩)) * Real.log 2 + t (ix2 ⟨g.val * 4 + r.val, by omega⟩ e)) * (Real.log 2)⁻¹
        = (∑ d : Fin 128, q (ix3 b n ⟨g.val * 512 + r.val * 128 + d.val, by omega⟩) * k d) + t (ix2 ⟨g.val * 4 + r.val, by omega⟩ e) * (Real.log 2)⁻¹ := by
      rw [add_mul, mul_assoc, mul_inv_cancel₀ hl, mul_one]
      exact congrArg (· + _) (Finset.sum_congr rfl fun d _ => mul_comm _ _)
    rw [hx, EReal.coe_add, EReal.coe_mul, ← coe_sum128]
    refine congrArg₂ (fun x y : EReal => x + y) (Finset.sum_congr rfl fun d _ => ?_) (congrArg (fun x : EReal => x * _) ?_)
    · rw [EReal.coe_mul]
      exact congrArg₂ (fun x y : EReal => x * y) (hq _) (hk' d)
    · refine Eq.trans (congrArg (fun z => x2 (ix2 ⟨g.val * 4 + r.val, _⟩ (relCol z))) hd) ?_
      exact ht _

/-- A column that is not seen has no logit on either side. -/
theorem logits_bot (b : Fin 2) (g : Fin 8) (r : Fin 4) (n : Fin 8192) (c : Fin 640) (h : ¬sees n.val (keyOf n c).val) :
    kernelLogit x0 x1 (biasTiles x2) b g r n c = ⊥ ∧ refLogit x0 x1 x2 b g r n (keyOf n c) = ⊥ := by
  refine ⟨?_, if_neg h⟩
  unfold kernelLogit
  by_cases h1 : 512 ≤ (keyOf n c).val
  · rw [if_pos h1, biasTiles_apply, if_neg (fun h2 => h ((sees_keyOf n c).mpr ⟨h1, h2⟩)),
      EReal.bot_mul_coe_of_pos (inv_pos.mpr (Real.log_pos one_lt_two)), EReal.add_bot]
  · rw [if_neg h1]

/-- The kernel's array is the reference's, where queries, keys and table are real. -/
theorem kernelArray_eq (hq : ∀ i, ∃ a : ℝ, x0 i = (a : EReal)) (hk : ∀ b κ (e : Fin 1024), ∃ a : ℝ, x1 (ix3 b κ ⟨e.val, by omega⟩) = (a : EReal))
    (ht : ∀ i, ∃ a : ℝ, x2 i = (a : EReal)) :
    kernelArray x0 x1 (biasTiles x2) = ReferenceIdeal.Read.val_main_v71 (F := Ideal) x0 x1 x2 := by
  funext i
  obtain ⟨b, n, e, rfl⟩ : ∃ (b : Fin 2) (n : Fin 8192) (e : Fin 4096), i = ix3 b n e := ⟨i 0, i 1, i 2, ValueIdx.eq_ix3 i⟩
  obtain ⟨g, r, d, he⟩ : ∃ (g : Fin 8) (r : Fin 4) (d : Fin 128), e.val = g.val * 512 + r.val * 128 + d.val :=
    ⟨⟨e.val / 512, by omega⟩, ⟨e.val % 512 / 128, by omega⟩, ⟨e.val % 128, by omega⟩, by show e.val = e.val / 512 * 512 + e.val % 512 / 128 * 128 + e.val % 128; omega⟩
  refine (kernelArray_apply x0 x1 _ b n g r d _ he).trans (Eq.trans ?_ ((reference_apply x0 x1 x2 b n g r d).symm.trans
    (congrArg (fun e' => ReferenceIdeal.Read.val_main_v71 (F := Ideal) x0 x1 x2 (ix3 b n e')) (Fin.ext he.symm))))
  refine window_softmax (keyOf n) (keyOf_injective n) (kernelLogit x0 x1 (biasTiles x2) b g r n) (refLogit x0 x1 x2 b g r n)
    (fun κ => x1 (ix3 b κ ⟨1024 + g.val * 128 + d.val, by omega⟩)) (fun c => ?_) (fun κ hκ => ?_) ?_
  · by_cases h : sees n.val (keyOf n c).val
    · exact .inr (logits_real x0 x1 x2 hq hk ht b g r n c h)
    · exact .inl (logits_bot x0 x1 x2 b g r n c h)
  · exact if_neg fun h => (exists_keyOf n κ h).elim hκ
  · have h : sees n.val (keyOf n ⟨n.val % 128 + 512, by omega⟩).val := by
      show sees n.val (n.val / 128 * 128 + (n.val % 128 + 512))
      unfold sees
      omega
    obtain ⟨x, -, hx⟩ := logits_real x0 x1 x2 hq hk ht b g r n _ h
    exact ⟨_, by rw [hx]; exact EReal.coe_ne_bot _⟩

end Cert.Attention

end
-- ==== Proof.Whole.lean ====
module

public import proofs.«01_k».proof.Proof.Equal

@[expose] public section

noncomputable section

namespace Cert.Attention

open Cert.KernelIdeal Cert.KernelIdeal.Gen Idealize.ShloMosaic.TcCoe Idealize.ShloMosaic.Tactic Idealize.SL.Sem
open Idealize.ShloMosaic hiding ix1 ix2 ix3 ix4
open Idealize.ShloMosaic.ValueIdx

/-! ## From the grid's blocks to the whole result -/

/-- The grid's coordinates at a point: batch, group of heads, block of queries. -/
theorem coords_at : ∀ t : Fin cfg0.N, (grid0.coords t 0).val = t.val / 128 ∧ (grid0.coords t 1).val = t.val / 16 % 8 ∧ (grid0.coords t 2).val = t.val % 16 := by
  decide +kernel

theorem index_q : ∀ t : Fin cfg0.N, win0_0.index t 0 = t.val / 128 ∧ win0_0.index t 1 = t.val % 16 ∧ win0_0.index t 2 = t.val / 16 % 8 := by
  decide +kernel

theorem index_k : ∀ t : Fin cfg0.N, win0_1.index t 0 = t.val / 128 ∧ win0_1.index t 1 = 0 ∧ win0_1.index t 2 = t.val / 16 % 8 := by
  decide +kernel

theorem index_v : ∀ t : Fin cfg0.N, win0_2.index t 0 = t.val / 128 ∧ win0_2.index t 1 = 0 ∧ win0_2.index t 2 = 8 + t.val / 16 % 8 := by
  decide +kernel

theorem index_bias : ∀ t : Fin cfg0.N, win0_3.index t 0 = t.val / 16 % 8 ∧ win0_3.index t 1 = 0 ∧ win0_3.index t 2 = 0 := by
  decide +kernel

theorem index_out : ∀ t : Fin cfg0.N, win0_4.index t 0 = t.val / 128 ∧ win0_4.index t 1 = t.val % 16 ∧ win0_4.index t 2 = t.val / 16 % 8 := by
  decide +kernel

/-- A point's batch, group and block of queries as bounded numbers. -/
def batchOf (t : Fin cfg0.N) : Fin 2 := ⟨t.val / 128, by have h : t.val < 256 := t.isLt; omega⟩

def groupOf (t : Fin cfg0.N) : Fin 8 := ⟨t.val / 16 % 8, by omega⟩

variable (m : (l : Loc nD τ sig) → Buf (Elt Ideal) l) (c : Dev nD) (t : Fin cfg0.N)

/-- The block of queries at a point. -/
theorem block_q (y e : Fin 512) : iblk m c 0 t (ix3 0 y e)
    = m ((c : Thread nD τ).loc main_arg0) (ix3 (batchOf t) ⟨t.val % 16 * 512 + y.val, by omega⟩ ⟨t.val / 16 % 8 * 512 + e.val, by omega⟩) := by
  obtain ⟨h0, h1, h2⟩ := index_q t
  show V m c main_arg0 (((cfg0.win 0).blk t).view.emb (ix3 0 y e)) = _
  rw [V_main_arg0]
  refine congrArg (m ((c : Thread nD τ).loc main_arg0)) (funext fun a => Fin.ext ?_)
  match a with
  | ⟨0, _⟩ => show win0_0.index t 0 * 1 + 1 * 0 = t.val / 128; omega
  | ⟨1, _⟩ => show win0_0.index t 1 * 512 + 1 * y.val = t.val % 16 * 512 + y.val; omega
  | ⟨2, _⟩ => show win0_0.index t 2 * 512 + 1 * e.val = t.val / 16 % 8 * 512 + e.val; omega

/-- The block of keys at a point: every key of the group. -/
theorem block_k (κ : Fin 8704) (d : Fin 128) : iblk m c 1 t (ix3 0 κ d)
    = m ((c : Thread nD τ).loc main_arg1) (ix3 (batchOf t) κ ⟨t.val / 16 % 8 * 128 + d.val, by omega⟩) := by
  obtain ⟨h0, h1, h2⟩ := index_k t
  show V m c main_arg1 (((cfg0.win 1).blk t).view.emb (ix3 0 κ d)) = _
  rw [V_main_arg1]
  refine congrArg (m ((c : Thread nD τ).loc main_arg1)) (funext fun a => Fin.ext ?_)
  match a with
  | ⟨0, _⟩ => show win0_1.index t 0 * 1 + 1 * 0 = t.val / 128; omega
  | ⟨1, _⟩ => show win0_1.index t 1 * 8704 + 1 * κ.val = κ.val; omega
  | ⟨2, _⟩ => show win0_1.index t 2 * 128 + 1 * d.val = t.val / 16 % 8 * 128 + d.val; omega

/-- The block of values at a point: every value of the group. -/
theorem block_v (κ : Fin 8704) (d : Fin 128) : iblk m c 2 t (ix3 0 κ d)
    = m ((c : Thread nD τ).loc main_arg1) (ix3 (batchOf t) κ ⟨1024 + t.val / 16 % 8 * 128 + d.val, by omega⟩) := by
  obtain ⟨h0, h1, h2⟩ := index_v t
  show V m c main_arg1 (((cfg0.win 2).blk t).view.emb (ix3 0 κ d)) = _
  rw [V_main_arg1]
  refine congrArg (m ((c : Thread nD τ).loc main_arg1)) (funext fun a => Fin.ext ?_)
  match a with
  | ⟨0, _⟩ => show win0_2.index t 0 * 1 + 1 * 0 = t.val / 128; omega
  | ⟨1, _⟩ => show win0_2.index t 1 * 8704 + 1 * κ.val = κ.val; omega
  | ⟨2, _⟩ => show win0_2.index t 2 * 128 + 1 * d.val = 1024 + t.val / 16 % 8 * 128 + d.val; omega

/-- The block of bias tiles at a point: the group's four heads. -/
theorem block_bias (r : Fin 4) (i : Fin 128) (e : Fin 640) : iblk m c 3 t (ix3 r i e)
    = biasTiles (m ((c : Thread nD τ).loc main_arg2)) (ix3 ⟨t.val / 16 % 8 * 4 + r.val, by omega⟩ i e) := by
  obtain ⟨h0, h1, h2⟩ := index_bias t
  show V m c main_v40 (((cfg0.win 3).blk t).view.emb (ix3 r i e)) = _
  rw [bias_eq]
  refine congrArg (biasTiles (m ((c : Thread nD τ).loc main_arg2))) (funext fun a => Fin.ext ?_)
  match a with
  | ⟨0, _⟩ => show win0_3.index t 0 * 4 + 1 * r.val = t.val / 16 % 8 * 4 + r.val; omega
  | ⟨1, _⟩ => show win0_3.index t 1 * 128 + 1 * i.val = i.val; omega
  | ⟨2, _⟩ => show win0_3.index t 2 * 640 + 1 * e.val = e.val; omega

/-- Where an output block's entry lies in the result. -/
theorem emb_out (y e : Fin 512) : ((cfg0.win 4).blk t).view.emb (ix3 0 y e)
    = (ix3 (batchOf t) ⟨t.val % 16 * 512 + y.val, by omega⟩ ⟨t.val / 16 % 8 * 512 + e.val, by omega⟩ : S2x8192x4096.Idx) := by
  obtain ⟨h0, h1, h2⟩ := index_out t
  refine funext fun a => Fin.ext ?_
  match a with
  | ⟨0, _⟩ => show win0_4.index t 0 * 1 + 1 * 0 = t.val / 128; omega
  | ⟨1, _⟩ => show win0_4.index t 1 * 512 + 1 * y.val = t.val % 16 * 512 + y.val; omega
  | ⟨2, _⟩ => show win0_4.index t 2 * 512 + 1 * e.val = t.val / 16 % 8 * 512 + e.val; omega

/-- A block's logit is the whole array's. -/
theorem blockLogit_eq (jq : ℕ) (hjq : jq < 16) (hj : jq = t.val % 16) (p r : Fin 4) (i : Fin 128) (e : Fin 640) :
    blockLogit jq (iblk m c 0 t) (iblk m c 1 t) (iblk m c 3 t) hjq p r i e
      = kernelLogit (m ((c : Thread nD τ).loc main_arg0)) (m ((c : Thread nD τ).loc main_arg1)) (biasTiles (m ((c : Thread nD τ).loc main_arg2)))
        (batchOf t) (groupOf t) r ⟨t.val % 16 * 512 + p.val * 128 + i.val, by omega⟩ e := by
  subst hj
  have hk : (keyOf ⟨t.val % 16 * 512 + p.val * 128 + i.val, by omega⟩ e : Fin 8704) = ⟨t.val % 16 * 512 + p.val * 128 + e.val, by omega⟩ :=
    Fin.ext (by show (t.val % 16 * 512 + p.val * 128 + i.val) / 128 * 128 + e.val = t.val % 16 * 512 + p.val * 128 + e.val; omega)
  unfold blockLogit kernelLogit
  rw [hk]
  refine if_congr Iff.rfl (congrArg₂ (fun x y : EReal => x + y) (Finset.sum_congr rfl fun d _ => congrArg₂ (fun x y : EReal => x * y) ?_ ?_) (congrArg (fun x : EReal => x * _) ?_)) rfl
  · refine (block_q m c t _ _).trans (congrArg (m ((c : Thread nD τ).loc main_arg0)) (funext fun a => Fin.ext ?_))
    match a with
    | ⟨0, _⟩ => rfl
    | ⟨1, _⟩ => show t.val % 16 * 512 + (p.val * 128 + i.val) = t.val % 16 * 512 + p.val * 128 + i.val; omega
    | ⟨2, _⟩ => show t.val / 16 % 8 * 512 + (r.val * 128 + d.val) = t.val / 16 % 8 * 512 + r.val * 128 + d.val; omega
  · exact block_k m c t _ _
  · refine (block_bias m c t _ _ _).trans (congrArg (biasTiles (m ((c : Thread nD τ).loc main_arg2))) (funext fun a => Fin.ext ?_))
    match a with
    | ⟨0, _⟩ => rfl
    | ⟨1, _⟩ => show i.val = (t.val % 16 * 512 + p.val * 128 + i.val) % 128; omega
    | ⟨2, _⟩ => rfl

/-- The whole result. -/
def wholeOut : Buf (Elt Ideal) ((c : Thread nD τ).loc main_v41) :=
  kernelArray (m ((c : Thread nD τ).loc main_arg0)) (m ((c : Thread nD τ).loc main_arg1)) (biasTiles (m ((c : Thread nD τ).loc main_arg2)))

/-- Rows of equal logits and equal values attend equally. -/
theorem attend_congr (s s' v v' : Fin 640 → EReal) (hs : s = s') (hv : ∀ w, v w = v' w) :
    (∑ w, rowWeight s w * v w) * Ideal.div 1 (∑ w, rowWeight s w * 1) = (∑ w, rowWeight s' w * v' w) * Ideal.div 1 (∑ w, rowWeight s' w * 1) := by
  obtain rfl := hs
  obtain rfl : v = v' := funext hv
  rfl

/-- A query's stretch of keys begins where its pass begins. -/
theorem pass_start (jq x p i n : ℕ) (hj : jq = x) (hi : i < 128) (hn : n = x * 512 + p * 128 + i) :
    jq * 512 + p * 128 = n / 128 * 128 := by omega

/-- A block's result for a query, a head and a column of the head is the whole array's. -/
theorem blockEntry_eq (jq : ℕ) (hjq : jq < 16) (hj : jq = t.val % 16) (p r : Fin 4) (i d : Fin 128) (n : Fin 8192)
    (hn : n.val = t.val % 16 * 512 + p.val * 128 + i.val) :
    blockEntry jq (iblk m c 0 t) (iblk m c 1 t) (iblk m c 2 t) (iblk m c 3 t) hjq p r i d
      = kernelEntry (m ((c : Thread nD τ).loc main_arg0)) (m ((c : Thread nD τ).loc main_arg1)) (biasTiles (m ((c : Thread nD τ).loc main_arg2)))
        (batchOf t) n (groupOf t) r d := by
  have hl : blockLogit jq (iblk m c 0 t) (iblk m c 1 t) (iblk m c 3 t) hjq p r i
      = kernelLogit (m ((c : Thread nD τ).loc main_arg0)) (m ((c : Thread nD τ).loc main_arg1)) (biasTiles (m ((c : Thread nD τ).loc main_arg2)))
        (batchOf t) (groupOf t) r n :=
    funext fun w => (blockLogit_eq m c t jq hjq hj p r i w).trans
      (congrArg (fun n => kernelLogit (m ((c : Thread nD τ).loc main_arg0)) (m ((c : Thread nD τ).loc main_arg1)) (biasTiles (m ((c : Thread nD τ).loc main_arg2)))
        (batchOf t) (groupOf t) r n w) (Fin.ext hn.symm))
  exact attend_congr _ _ (fun w => iblk m c 2 t (ix3 0 ⟨jq * 512 + p.val * 128 + w.val, by omega⟩ d))
    (fun w => m ((c : Thread nD τ).loc main_arg1) (ix3 (batchOf t) (keyOf n w) ⟨1024 + (groupOf t).val * 128 + d.val, by omega⟩)) hl fun w =>
    (block_v m c t _ _).trans (congrArg (fun κ => m ((c : Thread nD τ).loc main_arg1) (ix3 (batchOf t) κ ⟨1024 + t.val / 16 % 8 * 128 + d.val, by omega⟩))
      (Fin.ext (congrArg (· + w.val) (pass_start jq _ _ _ n.val hj i.isLt hn))))

/-- A block's result is the whole array's at the block's place. -/
theorem blockOut_eq (jq : ℕ) (hjq : jq < 16) (hj : jq = t.val % 16) (j : S1x512x512.Idx) :
    blockOut jq (iblk m c 0 t) (iblk m c 1 t) (iblk m c 2 t) (iblk m c 3 t) hjq j = wholeOut m c (((cfg0.win 4).blk t).view.emb j) := by
  obtain ⟨z, y, e, rfl⟩ : ∃ (z : Fin 1) (y e : Fin 512), j = ix3 z y e := ⟨j 0, j 1, j 2, ValueIdx.eq_ix3 j⟩
  obtain rfl : z = 0 := Subsingleton.elim _ _
  unfold wholeOut blockOut
  refine (blockEntry_eq m c t jq hjq hj _ _ _ _ ⟨t.val % 16 * 512 + y.val, by omega⟩ ?_).trans ?_
  · show t.val % 16 * 512 + y.val = t.val % 16 * 512 + y.val / 128 * 128 + y.val % 128
    omega
  · refine ((congrArg (kernelArray _ _ _) (emb_out t y e)).trans (kernelArray_apply _ _ _ (batchOf t) _ (groupOf t) _ _ _ ?_)).symm
    show t.val / 16 % 8 * 512 + e.val = t.val / 16 % 8 * 512 + e.val / 128 * 128 + e.val % 128
    omega

/-- What a point writes back is its block of the whole result. -/
theorem flushed_out : (dats m 0 c).flushed 4 t = ((cfg0.win 4).blk t).view.read (Elt Ideal) (wholeOut m c) := by
  obtain ⟨-, -, h2⟩ := coords_at t
  by_cases h : t.val % 16 = 0
  · rw [Value.flushed4_A m c t h (by omega)]
    funext j
    refine (out_A c (grid0.coords t) _ _ _ _ _ _ _ _ _ _ _ _ (iblk m c 0 t) (iblk m c 1 t) (iblk m c 2 t) (iblk m c 3 t) (by omega) j).trans ?_
    exact blockOut_eq m c t _ _ h2 j
  · rw [Value.flushed4_B m c t h (by omega)]
    funext j
    refine (out_B c (grid0.coords t) _ _ _ _ _ _ _ _ _ _ _ _ (iblk m c 0 t) (iblk m c 1 t) (iblk m c 2 t) (iblk m c 3 t) (by omega) j).trans ?_
    exact blockOut_eq m c t _ _ h2 j

/-- Every entry of the result is in some point's block. -/
theorem cover_out (i : S2x8192x4096.Idx) : ∃ t : Fin cfg0.N, (cfg0.win 4).flush t = true ∧ i ∈ ((cfg0.win 4).blk t).view.set := by
  obtain ⟨b, n, e, rfl⟩ : ∃ (b : Fin 2) (n : Fin 8192) (e : Fin 4096), i = ix3 b n e := ⟨i 0, i 1, i 2, ValueIdx.eq_ix3 i⟩
  have ht : b.val * 128 + e.val / 512 * 16 + n.val / 512 < 256 := by omega
  refine ⟨(⟨b.val * 128 + e.val / 512 * 16 + n.val / 512, ht⟩ : Fin cfg0.N), flush0_4 _, ?_⟩
  have h := ((cfg0.win 4).blk (⟨b.val * 128 + e.val / 512 * 16 + n.val / 512, ht⟩ : Fin cfg0.N)).view.emb_mem_set (ix3 0 ⟨n.val % 512, by omega⟩ ⟨e.val % 512, by omega⟩)
  rw [emb_out] at h
  refine cast (congrArg (· ∈ ((cfg0.win 4).blk (⟨b.val * 128 + e.val / 512 * 16 + n.val / 512, ht⟩ : Fin cfg0.N)).view.set) (funext fun a => Fin.ext ?_)) h
  match a with
  | ⟨0, _⟩ => show (b.val * 128 + e.val / 512 * 16 + n.val / 512) / 128 = b.val; omega
  | ⟨1, _⟩ => show (b.val * 128 + e.val / 512 * 16 + n.val / 512) % 16 * 512 + n.val % 512 = n.val; omega
  | ⟨2, _⟩ => show (b.val * 128 + e.val / 512 * 16 + n.val / 512) / 16 % 8 * 512 + e.val % 512 = e.val; omega

/-- The result array after the run. -/
theorem arrAt_out : (dats m 0 c).arrAt 4 cfg0.N = wholeOut m c :=
  (dats m 0 c).arrAt_eq_of_cover 4 (wholeOut m c) (fun t _ => flushed_out m c t) cover_out

end Cert.Attention

end
-- ==== Proof.Finite.lean ====
/- The precondition read back: where it holds, every query, every key and every entry of the bias table is a real number. -/
module

public import proofs.«01_k».proof.Defs
public import Idealize.ShloMosaic.Lib.ReduceAll
public import Idealize.ShloMosaic.Lib.Pointwise
public import Idealize.ShloMosaic.Lib.ValueIdx

@[expose] public section

noncomputable section

namespace Cert.Finite

open Idealize.ShloMosaic Cert.Pre_finite_logits

/-- The side conditions that the precondition's operations state. -/
theorem facts : Cert.Pre_finite_logits.Facts where
  slices_S2x8704x2048_S2x8704x1024_0_0_0 := by decide
  bitsLt_bf16_f32 := by decide
  bcast_S_S2x8192x4096 := by decide
  reducesTo_S2x8192x4096_S_d0_1_2 := by decide
  h_S_ := by decide
  bcast_S_S2x8704x1024 := by decide
  reducesTo_S2x8704x1024_S_d0_1_2 := by decide
  bcast_S_S32x257 := by decide
  reducesTo_S32x257_S_d0_1 := by decide

/-- The word of positive infinity is the top of the extended reals. -/
theorem top_word : (FloatOps.ofBits .f32 0x7F800000#32 : Ideal .f32) = (⊤ : EReal) := by
  show Ideal.ofBits .f32 0x7F800000#32 = ⊤
  simp [Ideal.ofBits, Ideal.ieee]

/-- An extended real whose absolute value is below the top is a real number. -/
theorem real_of_abs_lt (x : EReal) (h : max x (-x) < ⊤) : ∃ a : ℝ, x = a := by
  induction x with
  | bot => simp at h
  | top => simp at h
  | coe a => exact ⟨a, rfl⟩

/-- The comparison with positive infinity, read back at one element. -/
theorem real_of_cmp (x : EReal) (h : Ideal.cmp .olt (max x (-x)) (Ideal.ofBits .f32 0x7F800000#32) = 1#1) : ∃ a : ℝ, x = (a : EReal) := by
  rw [show (Ideal.ofBits .f32 0x7F800000#32 : EReal) = ⊤ from top_word] at h
  refine real_of_abs_lt x ?_
  by_contra hn
  simp [Ideal.cmp, hn] at h

instance : Subsingleton S_.Idx := ⟨fun a b => funext fun i => i.elim0⟩

/-- Where the precondition holds, every query, every key and every entry of the bias table is a real number. -/
theorem real_of_pre [Facts] (x0 : FVec Ideal S2x8192x4096 .bf16) (x1 : FVec Ideal S2x8704x2048 .bf16) (x2 : FVec Ideal S32x257 .f32)
    (h : fn x0 x1 x2 = fun _ => 1#1) :
    (∀ i, ∃ a : ℝ, x0 i = (a : EReal)) ∧ (∀ (b : Fin 2) (κ : Fin 8704) (e : Fin 1024), ∃ a : ℝ, x1 (ix3 b κ ⟨e.val, by omega⟩) = (a : EReal))
      ∧ ∀ i, ∃ a : ℝ, x2 i = (a : EReal) := by
  have h0 := congrFun h (fun i => i.elim0)
  obtain ⟨h01, h2⟩ := IntOp.andi_eq_one.1 h0
  obtain ⟨h0, h1⟩ := IntOp.andi_eq_one.1 h01
  refine ⟨fun i => ?_, fun b κ e => ?_, fun i => ?_⟩
  · exact real_of_cmp _ (Host.reduce_andi_all _ _ _ _ _ h0 i)
  · have h := real_of_cmp _ (Host.reduce_andi_all _ _ _ _ _ h1 (ix3 b κ e))
    obtain ⟨a, ha⟩ := h
    refine ⟨a, Eq.trans (congrArg x1 (funext fun i => Fin.ext ?_)) ha⟩
    match i with
    | ⟨0, _⟩ => exact (Nat.zero_add _).symm
    | ⟨1, _⟩ => exact (Nat.zero_add _).symm
    | ⟨2, _⟩ => exact (Nat.zero_add _).symm
  · exact real_of_cmp _ (Host.reduce_andi_all _ _ _ _ _ h2 i)

end Cert.Finite

end
-- ==== Proof.ResidualValue.lean ====
module

public import proofs.«01_k».proof.Proof.Gen.ResidualIdeal.Value
public import proofs.«01_k».proof.Proof.Gen.ResidualReferenceIdeal.Read
public import Idealize.ShloMosaic.Lib.ValueIdx
public import Idealize.ShloMosaic.Lib.ValueIdxCoords
public import Idealize.ShloMosaic.Lib.MatmulPlain

@[expose] public section

noncomputable section

namespace Cert.ResidualValue

open Cert.ResidualIdeal Cert.ResidualIdeal.Gen Idealize.ShloMosaic Idealize.ShloMosaic.TcCoe Idealize.ShloMosaic.Tactic Idealize.SL.Sem
open Idealize.ShloMosaic.ValueIdx

/-! ## The projection added to the residual: what a block holds, and what the whole array holds -/

/-- The result at an index: the residual, and the gate times the row's product with the column of the weights. -/
def entry (x : S2x8192x4096.Idx → EReal) (w : S4096x4096.Idx → EReal) (h : S2x8192x4096.Idx → EReal) (g : S2x1x4096.Idx → EReal)
    (b : Fin 2) (n : Fin 8192) (e : Fin 4096) : EReal :=
  h (ix3 b n e) + g (ix3 b 0 e) * ∑ d : Fin 4096, x (ix3 b n d) * w (ix2 d e)

/-- The whole result. -/
def array (x : S2x8192x4096.Idx → EReal) (w : S4096x4096.Idx → EReal) (h : S2x8192x4096.Idx → EReal) (g : S2x1x4096.Idx → EReal) :
    S2x8192x4096.Idx → EReal :=
  fun i => entry x w h g (i 0) (i 1) (i 2)

/-- A block's result at a row and a column. -/
theorem out_apply (x0 : Vec Ideal S1x512x4096 .bf16) (x1 : Vec Ideal S4096x1024 .bf16) (x2 : Vec Ideal S1x512x1024 .f32) (x3 : Vec Ideal S1x1x1024 .f32)
    (y : Fin 512) (e : Fin 1024) :
    out0_4 x0 x1 x2 x3 (ix3 0 y e)
      = x2 (ix3 0 y e) + x3 (ix3 0 0 e) * ∑ d : Fin 4096, x0 (ix3 0 y d) * x1 (ix2 d e) := by
  have hz3 : (![0, 0, 0] : Fin 3 → ℕ) = fun _ => 0 := by funext a; fin_cases a <;> rfl
  have hz2 : (![0, 0] : Fin 2 → ℕ) = fun _ => 0 := by funext a; fin_cases a <;> rfl
  have e0 : View.ld x0 r0_0 = x0 := View.ld_unit_zero (S := S1x512x4096) hz3 _ x0
  have e1 : View.ld x1 r0_1 = x1 := View.ld_unit_zero (S := S4096x1024) hz2 _ x1
  have e2 : View.ld x2 r0_2 = x2 := View.ld_unit_zero (S := S1x512x1024) hz3 _ x2
  have e3 : View.ld x3 r0_3 = x3 := View.ld_unit_zero (S := S1x1x1024) hz3 _ x3
  unfold out0_4
  rw [e0, e1, e2, e3]
  have hc : ∀ w : Vec Ideal S1x512x1024 .f32, View.canon [(⟨r0_2, w⟩ : View.Piece (Elt Ideal) S1x512x1024 .f32)] = w := fun w => View.canon_unit_zero (S := S1x512x1024) hz3 _ w
  rw [hc]
  unfold k0_pay1
  rw [addf_apply, mulf_apply]
  refine congrArg (x2 (ix3 0 y e) + ·) ?_
  refine congrArg₂ (fun u v : EReal => u * v) ?_ ?_
  · exact broadcastTo_apply _ _ _ (ix3 0 0 e) (fun a => match a with
      | ⟨0, _⟩ => rfl
      | ⟨1, _⟩ => rfl
      | ⟨2, _⟩ => rfl)
  · refine (shapeCast_apply _ _ _ (ix2 y e) (by rw [Shape.rowMajor_val_three, Shape.rowMajor_val_two]; show y.val * 1024 + e.val = (0 * 512 + y.val) * 1024 + e.val; omega)).trans ?_
    refine (Ideal.matmul_plain_apply (M := 512) (K := 4096) (N := 1024) (φ₁ := .bf16) (φ₂ := .bf16) none (shapeCast S512x4096 x0 shapeCasts_S1x512x4096_S512x4096) x1 (constant S512x1024 .f32 0x00000000#32) y e).trans ?_
    rw [constant_apply, Ideal.ofBits_zero_f32, zero_add]
    refine Finset.sum_congr rfl fun d _ => congrArg (· * x1 (ix2 d e)) ?_
    exact shapeCast_apply x0 _ _ (ix3 0 y d) (by rw [Shape.rowMajor_val_three, Shape.rowMajor_val_two]; show (0 * 512 + y.val) * 4096 + d.val = y.val * 4096 + d.val; omega)

/-! ## Where the blocks lie -/

theorem index_x : ∀ t : Fin cfg0.N, win0_0.index t 0 = t.val / 64 ∧ win0_0.index t 1 = t.val / 4 % 16 ∧ win0_0.index t 2 = 0 := by
  decide +kernel

theorem index_w : ∀ t : Fin cfg0.N, win0_1.index t 0 = 0 ∧ win0_1.index t 1 = t.val % 4 := by
  decide +kernel

theorem index_h : ∀ t : Fin cfg0.N, win0_2.index t 0 = t.val / 64 ∧ win0_2.index t 1 = t.val / 4 % 16 ∧ win0_2.index t 2 = t.val % 4 := by
  decide +kernel

theorem index_g : ∀ t : Fin cfg0.N, win0_3.index t 0 = t.val / 64 ∧ win0_3.index t 1 = 0 ∧ win0_3.index t 2 = t.val % 4 := by
  decide +kernel

theorem index_out : ∀ t : Fin cfg0.N, win0_4.index t 0 = t.val / 64 ∧ win0_4.index t 1 = t.val / 4 % 16 ∧ win0_4.index t 2 = t.val % 4 := by
  decide +kernel

/-- A point's batch, its first row and its first column, as bounded numbers. -/
def batchOf (t : Fin cfg0.N) : Fin 2 := ⟨t.val / 64, by have h : t.val < 128 := t.isLt; omega⟩

def rowOf (t : Fin cfg0.N) (y : Fin 512) : Fin 8192 := ⟨t.val / 4 % 16 * 512 + y.val, by omega⟩

def colOf (t : Fin cfg0.N) (e : Fin 1024) : Fin 4096 := ⟨t.val % 4 * 1024 + e.val, by omega⟩

variable (m : (l : Loc nD τ sig) → Buf (Elt Ideal) l) (c : Dev nD) (t : Fin cfg0.N)

theorem block_x (y : Fin 512) (d : Fin 4096) : iblk m c 0 t (ix3 0 y d) = m ((c : Thread nD τ).loc main_arg0) (ix3 (batchOf t) (rowOf t y) d) := by
  obtain ⟨h0, h1, h2⟩ := index_x t
  show V m c main_arg0 (((cfg0.win 0).blk t).view.emb (ix3 0 y d)) = _
  rw [V_main_arg0]
  refine congrArg (m ((c : Thread nD τ).loc main_arg0)) (funext fun a => Fin.ext ?_)
  match a with
  | ⟨0, _⟩ => show win0_0.index t 0 * 1 + 1 * 0 = t.val / 64; omega
  | ⟨1, _⟩ => show win0_0.index t 1 * 512 + 1 * y.val = t.val / 4 % 16 * 512 + y.val; omega
  | ⟨2, _⟩ => show win0_0.index t 2 * 4096 + 1 * d.val = d.val; omega

theorem block_w (d : Fin 4096) (e : Fin 1024) : iblk m c 1 t (ix2 d e) = m ((c : Thread nD τ).loc main_arg1) (ix2 d (colOf t e)) := by
  obtain ⟨h0, h1⟩ := index_w t
  show V m c main_arg1 (((cfg0.win 1).blk t).view.emb (ix2 d e)) = _
  rw [V_main_arg1]
  refine congrArg (m ((c : Thread nD τ).loc main_arg1)) (funext fun a => Fin.ext ?_)
  match a with
  | ⟨0, _⟩ => show win0_1.index t 0 * 4096 + 1 * d.val = d.val; omega
  | ⟨1, _⟩ => show win0_1.index t 1 * 1024 + 1 * e.val = t.val % 4 * 1024 + e.val; omega

theorem block_h (y : Fin 512) (e : Fin 1024) : iblk m c 2 t (ix3 0 y e) = m ((c : Thread nD τ).loc main_arg2) (ix3 (batchOf t) (rowOf t y) (colOf t e)) := by
  obtain ⟨h0, h1, h2⟩ := index_h t
  show V m c main_arg2 (((cfg0.win 2).blk t).view.emb (ix3 0 y e)) = _
  rw [V_main_arg2]
  refine congrArg (m ((c : Thread nD τ).loc main_arg2)) (funext fun a => Fin.ext ?_)
  match a with
  | ⟨0, _⟩ => show win0_2.index t 0 * 1 + 1 * 0 = t.val / 64; omega
  | ⟨1, _⟩ => show win0_2.index t 1 * 512 + 1 * y.val = t.val / 4 % 16 * 512 + y.val; omega
  | ⟨2, _⟩ => show win0_2.index t 2 * 1024 + 1 * e.val = t.val % 4 * 1024 + e.val; omega

theorem block_g (e : Fin 1024) : iblk m c 3 t (ix3 0 0 e) = m ((c : Thread nD τ).loc main_arg3) (ix3 (batchOf t) 0 (colOf t e)) := by
  obtain ⟨h0, h1, h2⟩ := index_g t
  show V m c main_arg3 (((cfg0.win 3).blk t).view.emb (ix3 0 0 e)) = _
  rw [V_main_arg3]
  refine congrArg (m ((c : Thread nD τ).loc main_arg3)) (funext fun a => Fin.ext ?_)
  match a with
  | ⟨0, _⟩ => show win0_3.index t 0 * 1 + 1 * 0 = t.val / 64; omega
  | ⟨1, _⟩ => show win0_3.index t 1 * 1 + 1 * 0 = 0; omega
  | ⟨2, _⟩ => show win0_3.index t 2 * 1024 + 1 * e.val = t.val % 4 * 1024 + e.val; omega

/-- Where an output block's entry lies in the result. -/
theorem emb_out (y : Fin 512) (e : Fin 1024) : ((cfg0.win 4).blk t).view.emb (ix3 0 y e) = (ix3 (batchOf t) (rowOf t y) (colOf t e) : S2x8192x4096.Idx) := by
  obtain ⟨h0, h1, h2⟩ := index_out t
  refine funext fun a => Fin.ext ?_
  match a with
  | ⟨0, _⟩ => show win0_4.index t 0 * 1 + 1 * 0 = t.val / 64; omega
  | ⟨1, _⟩ => show win0_4.index t 1 * 512 + 1 * y.val = t.val / 4 % 16 * 512 + y.val; omega
  | ⟨2, _⟩ => show win0_4.index t 2 * 1024 + 1 * e.val = t.val % 4 * 1024 + e.val; omega

/-- The whole result, of the launch memory. -/
def wholeOut : Buf (Elt Ideal) ((c : Thread nD τ).loc main_v0) :=
  array (m ((c : Thread nD τ).loc main_arg0)) (m ((c : Thread nD τ).loc main_arg1)) (m ((c : Thread nD τ).loc main_arg2)) (m ((c : Thread nD τ).loc main_arg3))

/-- What a point writes back is its block of the whole result. -/
theorem flushed_out : (dats m 0 c).flushed 4 t = ((cfg0.win 4).blk t).view.read (Elt Ideal) (wholeOut m c) := by
  rw [Value.flushed4 m c t]
  funext j
  obtain ⟨z, y, e, rfl⟩ : ∃ (z : Fin 1) (y : Fin 512) (e : Fin 1024), j = ix3 z y e := ⟨j 0, j 1, j 2, ValueIdx.eq_ix3 j⟩
  obtain rfl : z = 0 := Subsingleton.elim _ _
  refine (out_apply (iblk m c 0 t) (iblk m c 1 t) (iblk m c 2 t) (iblk m c 3 t) y e).trans ?_
  refine Eq.trans ?_ (congrArg (wholeOut m c) (emb_out t y e)).symm
  show _ = entry _ _ _ _ (batchOf t) (rowOf t y) (colOf t e)
  unfold entry
  refine congrArg₂ (fun u v : EReal => u + v) (block_h m c t y e) (congrArg₂ (fun u v : EReal => u * v) (block_g m c t e) ?_)
  exact Finset.sum_congr rfl fun d _ => congrArg₂ (fun u v : EReal => u * v) (block_x m c t y d) (block_w m c t d e)

/-- Every entry of the result is in some point's block. -/
theorem cover_out (i : S2x8192x4096.Idx) : ∃ t : Fin cfg0.N, (cfg0.win 4).flush t = true ∧ i ∈ ((cfg0.win 4).blk t).view.set := by
  obtain ⟨b, n, e, rfl⟩ : ∃ (b : Fin 2) (n : Fin 8192) (e : Fin 4096), i = ix3 b n e := ⟨i 0, i 1, i 2, ValueIdx.eq_ix3 i⟩
  have ht : b.val * 64 + n.val / 512 * 4 + e.val / 1024 < 128 := by omega
  refine ⟨(⟨b.val * 64 + n.val / 512 * 4 + e.val / 1024, ht⟩ : Fin cfg0.N), flush0_4 _, ?_⟩
  have h := ((cfg0.win 4).blk (⟨b.val * 64 + n.val / 512 * 4 + e.val / 1024, ht⟩ : Fin cfg0.N)).view.emb_mem_set (ix3 0 ⟨n.val % 512, by omega⟩ ⟨e.val % 1024, by omega⟩)
  rw [emb_out] at h
  refine cast (congrArg (· ∈ ((cfg0.win 4).blk (⟨b.val * 64 + n.val / 512 * 4 + e.val / 1024, ht⟩ : Fin cfg0.N)).view.set) (funext fun a => Fin.ext ?_)) h
  match a with
  | ⟨0, _⟩ => show (b.val * 64 + n.val / 512 * 4 + e.val / 1024) / 64 = b.val; omega
  | ⟨1, _⟩ => show (b.val * 64 + n.val / 512 * 4 + e.val / 1024) / 4 % 16 * 512 + n.val % 512 = n.val; omega
  | ⟨2, _⟩ => show (b.val * 64 + n.val / 512 * 4 + e.val / 1024) % 4 * 1024 + e.val % 1024 = e.val; omega

/-- The result array after the run. -/
theorem arrAt_out : (dats m 0 c).arrAt 4 cfg0.N = wholeOut m c :=
  (dats m 0 c).arrAt_eq_of_cover 4 (wholeOut m c) (fun t _ => flushed_out m c t) cover_out

/-! ## The reference -/

/-- The reference's result is the same array. -/
theorem reference_eq (x : S2x8192x4096.Idx → EReal) (w : S4096x4096.Idx → EReal) (h : S2x8192x4096.Idx → EReal) (g : S2x1x4096.Idx → EReal) :
    Cert.ResidualReferenceIdeal.Read.val_main_v5 (F := Ideal) x w h g = array x w h g := by
  funext i
  obtain ⟨b, n, e, rfl⟩ : ∃ (b : Fin 2) (n : Fin 8192) (e : Fin 4096), i = ix3 b n e := ⟨i 0, i 1, i 2, ValueIdx.eq_ix3 i⟩
  show h (ix3 b n e) + Cert.ResidualReferenceIdeal.Read.val_main_v3 (F := Ideal) g (ix3 b n e) * Cert.ResidualReferenceIdeal.Read.val_main_v2 (F := Ideal) x w (ix3 b n e) = entry x w h g b n e
  rw [Cert.ResidualReferenceIdeal.Read.val_main_v3_apply, Cert.ResidualReferenceIdeal.Read.val_main_v2_apply]
  unfold entry
  refine congrArg (h (ix3 b n e) + ·) (congrArg₂ (fun u v : EReal => u * v) (congrArg g (funext fun a => Fin.ext ?_)) ?_)
  · match a with
    | ⟨0, _⟩ => rfl
    | ⟨1, _⟩ => rfl
    | ⟨2, _⟩ => rfl
  · refine Finset.sum_congr rfl fun d _ => congrArg₂ (fun u v : EReal => u * v) (congrArg x (funext fun a => Fin.ext ?_)) (congrArg w (funext fun a => Fin.ext ?_))
    · match a with
      | ⟨0, _⟩ => rfl
      | ⟨1, _⟩ => rfl
      | ⟨2, _⟩ => rfl
    · match a with
      | ⟨0, _⟩ => rfl
      | ⟨1, _⟩ => rfl

end Cert.ResidualValue

end
-- ==== Proof.DownTables.lean ====
/- The expert of every tile is one of the sixteen, where the precondition holds. -/
module

public import proofs.«01_k».proof.Defs
public import Idealize.ShloMosaic.Lib.ReduceAll
public import Idealize.ShloMosaic.Lib.Pointwise
public import Idealize.ShloMosaic.Lib.ValueIdx
public import Idealize.ShloMosaic.Lib.StableHlo.Predicate

@[expose] public section

noncomputable section

namespace Cert.DownTables

open Idealize.ShloMosaic Cert.Pre_experts_in_range

/-- The side conditions that the precondition's operations state. -/
theorem facts : Cert.Pre_experts_in_range.Facts where
  bcast_S_S148 := by decide
  reducesTo_S148_S_d0 := by decide
  h_S_ := by decide

/-- A word at least zero and below sixteen, compared as signed words, is a number below sixteen. -/
theorem lt_of_cmp (w : BitVec 32) (h0 : IntOp.cmpi .sge w 0#32 = 1#1) (h1 : IntOp.cmpi .slt w 16#32 = 1#1) : w.toNat < 16 := by
  have a0 : (0#32).sle w = true := by
    simp only [IntOp.cmpi] at h0
    cases h : (0#32).sle w <;> simp_all
  have a1 : w.slt 16#32 = true := by
    simp only [IntOp.cmpi] at h1
    cases h : w.slt 16#32 <;> simp_all
  simp only [BitVec.sle, BitVec.slt, decide_eq_true_eq] at a0 a1
  have e16 : (16#32).toInt = 16 := by decide
  have e0 : (0#32).toInt = 0 := by decide
  rw [e16] at a1
  rw [e0] at a0
  rw [BitVec.toInt_eq_toNat_cond] at a0 a1
  split at a0 <;> omega

instance : Subsingleton S_.Idx := ⟨fun a b => funext fun i => i.elim0⟩

/-- Where the precondition holds, every tile's expert is one of the sixteen. -/
theorem lt_of_pre [Facts] {F : FTy → Type} [FloatOps F] (x0 : FVec F S37888x1024 .bf16) (x1 : FVec F S2x16x1024x4096 .bf16) (x2 : IVec S148 32)
    (x3 : IVec S1 32) (h : fn x0 x1 x2 x3 = fun _ => 1#1) (i : S148.Idx) : (x2 i).toNat < 16 := by
  have h0 := congrFun h (fun i => i.elim0)
  obtain ⟨ha, hb⟩ := IntOp.andi_eq_one.1 (Host.reduce_andi_all _ _ _ _ _ h0 i)
  exact lt_of_cmp (x2 i) ha hb

end Cert.DownTables

end
-- ==== Proof.DownIdealRun.lean ====
module

public import proofs.«01_k».proof.Proof.Gen.DownIdeal.Launch
public import proofs.«01_k».proof.Proof.Gen.DownIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The experts' second product: its run, at any admissible contents of its two tables. Each grid point loads the word
    that counts the used tiles, and either stores the product of its tile with its expert's weights or stores zeros. -/

namespace Cert.DownIdeal.Run

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles of the body's loads and stores: each the whole buffer. -/
abbrev rX : Rect S256x1024 := Rect.unit (s := S256x1024) ![0, 0] S256x1024.size inb_S256x1024_S256x1024_0_0
abbrev rW : Rect S1x1x1024x4096 := Rect.unit (s := S1x1x1024x4096) ![0, 0, 0, 0] S1x1x1024x4096.size inb_S1x1x1024x4096_S1x1x1024x4096_0_0_0_0
abbrev rO : Rect S256x4096 := Rect.unit (s := S256x4096) ![0, 0] S256x4096.size inb_S256x4096_S256x4096_0_0
abbrev rN : Rect S1 := Rect.unit (s := S1) ![0] S1.size inb_S1_S1_0

/-- The one index of the table that counts the used tiles. -/
abbrev iN : S1.Idx := rN.emb (Shape.Idx.first (s := S1) (numel1_S1.symm ▸ Nat.one_pos))

/-- What a point stores: the product while its tile is a used one, zeros after. -/
def outAt (i : grid0.Coords) (n : BitVec 32) (x : Vec F S256x1024 .bf16) (w : Vec F S1x1x1024x4096 .bf16) : Vec F S256x4096 .f32 :=
  if k0_cond1 i n = 1#1 then View.canon [⟨rO, k0_pay1 (View.ld x rX) (View.ld w rW)⟩] else View.canon [⟨rO, k0_pay2 (F := F)⟩]

/-- A store of the whole buffer covers it. -/
theorem cover_out (p : Vec F S256x4096 .f32) (y : S256x4096.Idx) :
    ∃ pc ∈ ([⟨rO, p⟩] : List (View.Piece (Elt F) S256x4096 .f32)), y ∈ pc.1.set :=
  View.cover_of_tiled [⟨rO, p⟩] S256x4096.size (by rfl) y

/-- A comparison widened and compared with zero is the comparison. -/
theorem cond1_iff (i : grid0.Coords) (n : BitVec 32) : k0_cond1 i n = 1#1 ↔ (BitVec.ofNat 32 (i 0).val).slt n = true := by
  unfold k0_cond1
  simp only [Scalar.cmpi, Scalar.extui, IntOp.cmpi]
  cases h : (BitVec.ofNat 32 (i 0).val).slt n <;> simp [h]

theorem cond2_iff (i : grid0.Coords) (n : BitVec 32) : k0_cond2 i n = 1#1 ↔ ¬ k0_cond1 i n = 1#1 := by
  rw [cond1_iff]
  unfold k0_cond2
  simp only [Scalar.cmpi, Scalar.extui, IntOp.cmpi]
  cases h : (BitVec.ofNat 32 (i 0).val).slt n <;> simp [h, BitVec.sle_eq_not_slt]

/-! ## The body -/

/-- The word that counts the used tiles, of a table's contents `f`, as the body's loads read it. -/
theorem tbl_read (c : Dev nD) (f : Buf (Elt F) ((c : Thread nD τ).loc main_arg3)) :
    (((Memref.whole main_arg3).access rN : View sig .tc _ _ _).read (Elt F) f) (Shape.Idx.first (s := S1) (numel1_S1.symm ▸ Nat.one_pos))
      = f iN := rfl

set_option maxHeartbeats 1000000 in
/-- The body on whole staging buffers: the inputs as they were, the output at `outAt`, the count's table kept. -/
theorem sound_kernel (c : Dev nD) (i : grid0.Coords) (arg3 : Memref sig .tc .vmem S256x1024 .bf16) (harg3 : arg3.IsWhole)
    (arg4 : Memref sig .tc .vmem S1x1x1024x4096 .bf16) (harg4 : arg4.IsWhole) (arg5 : Memref sig .tc .vmem S256x4096 .f32) (harg5 : arg5.IsWhole)
    (f : Buf (Elt F) ((c : Thread nD τ).loc main_arg3)) (x : Vec F S256x1024 .bf16) (w : Vec F S1x1x1024x4096 .bf16) (K : PUnit → sProp 𝕄) :
    iprop((((c : Thread nD τ).loc main_arg3) ↦{fullShare.right} f) ∗ owns (c : Thread nD τ) arg3 fullShare x ∗ owns (c : Thread nD τ) arg4 fullShare w
        ∗ (∃ d, owns (c : Thread nD τ) arg5 fullShare d)
        ∗ (iprop((((c : Thread nD τ).loc main_arg3) ↦{fullShare.right} f) ∗ owns (c : Thread nD τ) arg3 fullShare x ∗ owns (c : Thread nD τ) arg4 fullShare w
            ∗ owns (c : Thread nD τ) arg5 fullShare (outAt i (f iN) x w)) -∗ K ⟨⟩))
      ⊢ wp frame (wpE (defs₀ (F := F)) Variants.none c none) Set.univ
          (cc0_moe_down i (Memref.whole main_arg2) (Memref.isWhole_whole _) (Memref.whole main_arg3) (Memref.isWhole_whole _) arg3 harg3 arg4 harg4 arg5 harg5) K := by
  simp only [cc0_moe_down_eq_skeleton]; unfold cc0_moe_down_skel
  unfold smemLoad smemLoadElt owns
  iintro ⟨Ht, ⟨%f0, %hf0, H0⟩, ⟨%f1, %hf1, H1⟩, ⟨%d2, %f2, -, H2⟩, Hk⟩
  subst hf0 hf1
  simp only [Prog.bind_op, Prog.bind_ret]
  iapply (wp_load_rect Variants.none (c : Thread nD τ) none Set.univ (m := Memref.whole main_arg3) (r := rN) (Finset.subset_univ _)) $$ Ht
  iintro Ht
  rw [tbl_read c f]
  by_cases h1 : k0_cond1 i (f iN) = 1#1
  · rw [dif_pos h1]
    have h2 : ¬ k0_cond2 i (f iN) = 1#1 := fun h => (cond2_iff i _).1 h h1
    sl_exec
    iapply (wp_load_rect Variants.none (c : Thread nD τ) none Set.univ (m := Memref.whole main_arg3) (r := rN) (Finset.subset_univ _)) $$ Ht
    iintro Ht
    rw [tbl_read c f]
    rw [dif_neg h2]
    sl_step
    iapply Hk
    isplitl [Ht]; · iexact Ht
    isplitl [H0]
    · iexists f0; isplitr; · ipureintro; rfl
      iexact H0
    isplitl [H1]
    · iexists f1; isplitr; · ipureintro; rfl
      iexact H1
    iexists _; isplitr
    swap; · iexact H2
    ipureintro
    unfold outAt
    rw [if_pos h1]
    exact View.read_writes_eq_canon _ _ _ (cover_out _)
  · rw [dif_neg h1]
    have h2 : k0_cond2 i (f iN) = 1#1 := (cond2_iff i _).2 h1
    iapply (wp_load_rect Variants.none (c : Thread nD τ) none Set.univ (m := Memref.whole main_arg3) (r := rN) (Finset.subset_univ _)) $$ Ht
    iintro Ht
    rw [tbl_read c f]
    rw [dif_pos h2]
    sl_exec
    sl_step
    iapply Hk
    isplitl [Ht]; · iexact Ht
    isplitl [H0]
    · iexists f0; isplitr; · ipureintro; rfl
      iexact H0
    isplitl [H1]
    · iexists f1; isplitr; · ipureintro; rfl
      iexact H1
    iexists _; isplitr
    swap; · iexact H2
    ipureintro
    unfold outAt
    rw [if_neg h1]
    exact View.read_writes_eq_canon _ _ _ (cover_out _)

/-! ## The pipeline's proof data -/

variable (m : (ℓ : Loc nD τ sig) → Buf (Elt F) ℓ) (ρ : Dev nD → PrngReg) (a : (pcfg0 (F := F)).Adm)

/-- Core `c`'s buffers when the region is entered: as launched. -/
abbrev V (c : Dev nD) (b : Ref sig .tc) : Buf (Elt F) ((c : Thread nD τ).loc b) := m ((c : Thread nD τ).loc b)

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The count of used tiles, of the tables' contents. -/
abbrev used : BitVec 32 := a.1 1 iN

/-- The two tables' halves, one by one. -/
theorem prefHeld_pair (c : Dev nD) (q : Fin 2 → PosShare TreeShare) (v : pre0.Contents (Elt F)) :
    (Pipeline.prefHeld pre0 c q v : sProp 𝕄)
      = iprop((((c : Thread nD τ).loc main_arg2) ↦{q 0} (show Buf (Elt F) ((c : Thread nD τ).loc main_arg2) from v 0))
          ∗ (((c : Thread nD τ).loc main_arg3) ↦{q 1} (show Buf (Elt F) ((c : Thread nD τ).loc main_arg3) from v 1))) := by
  unfold Pipeline.prefHeld
  rw [show (Finset.univ : Finset (Fin 2)) = insert 0 {1} from by decide, bigSep_insert (by decide), bigSep_singleton]
  rfl

/-- The proof data: the arrays as the region finds them; after point `t` each input's buffer at its block, the output's at
    `outAt` of the blocks; the tables' halves kept. -/
def dats (p : Fin 1) (c : Dev nD) : Dat τ (Elt F) Unit ℕ (UR sig nD τ) ℕ (Pipeline.pin (pcfgs (F := F)) (fun _ => a) p) c where
  A w := V m c (Pipeline.arrRef spec0 w)
  after w t := match w with
    | ⟨0, _⟩ => iblk m a c 0 t
    | ⟨1, _⟩ => iblk m a c 1 t
    | ⟨2, _⟩ => outAt (grid0.coords t) (used a) (iblk m a c 0 t) (iblk m a c 1 t)
  Φ _ := iprop(Pipeline.ΦA spec0 c ∗ Pipeline.ΦT pre0 a.1 c)
  q _ := fullShare
  owed _ := 0

theorem A_eq (c : Dev nD) (w : Fin (cfg0 a).W) : (dats m a 0 c).A w = V m c (Pipeline.arrRef spec0 w) := by dsimp only [dats]
theorem after_0 (c : Dev nD) (t : Fin (cfg0 a).N) : (dats m a 0 c).after 0 t = iblk m a c 0 t := by dsimp only [dats]; rfl
theorem after_1 (c : Dev nD) (t : Fin (cfg0 a).N) : (dats m a 0 c).after 1 t = iblk m a c 1 t := by dsimp only [dats]; rfl
theorem after_2 (c : Dev nD) (t : Fin (cfg0 a).N) :
    (dats m a 0 c).after 2 t = outAt (grid0.coords t) (used a) (iblk m a c 0 t) (iblk m a c 1 t) := by dsimp only [dats]; rfl

/-- Each input's buffer holds its block at every point. -/
theorem before_0 (c : Dev nD) (t : Fin (cfg0 a).N) (d) : (dats m a 0 c).before 0 t d = iblk m a c 0 t :=
  ((dats m a 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dats m a 0 c).before 1 t d = iblk m a c 1 t :=
  ((dats m a 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The output is stored at every point. -/
theorem live (t : Fin (cfg0 a).N) : (cfg0 a).idle 2 ((cfg0 a).grid.coords t) = false := by
  show (!(k0_cond1 (grid0.coords t) (a.1.atD 1 ![0]) == 1#1) && !(k0_cond2 (grid0.coords t) (a.1.atD 1 ![0]) == 1#1)) = false
  by_cases h : k0_cond1 (grid0.coords t) (a.1.atD 1 ![0]) = 1#1
  · rw [h]; rfl
  · rw [(cond2_iff (grid0.coords t) _).2 h]; simp

/-! ## The body obligation -/

/-- What the body is called with at point `t`, the windows one by one, -/
def bodyPre (c : Dev nD) (t : Fin (cfg0 a).N) : sProp 𝕄 :=
  iprop((dats m a 0 c).Φ t.castSucc ∗ (dats m a 0 c).owesAt () t.castSucc
    ∗ (∃ d, owns (c : Thread nD τ) (((cfg0 a).win 0).stage ((cfg0 a).slots t 0)) fullShare ((dats m a 0 c).before 0 t d))
    ∗ (∃ d, owns (c : Thread nD τ) (((cfg0 a).win 1).stage ((cfg0 a).slots t 1)) fullShare ((dats m a 0 c).before 1 t d))
    ∗ (∃ d, owns (c : Thread nD τ) (((cfg0 a).win 2).stage ((cfg0 a).slots t 2)) fullShare ((dats m a 0 c).before 2 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (((cfg0 a).win 0).stage ((cfg0 a).slots t 0)) fullShare ((dats m a 0 c).after 0 t)
    ∗ owns (c : Thread nD τ) (((cfg0 a).win 1).stage ((cfg0 a).slots t 1)) fullShare ((dats m a 0 c).after 1 t)
    ∗ owns (c : Thread nD τ) (((cfg0 a).win 2).stage ((cfg0 a).slots t 2)) fullShare ((dats m a 0 c).after 2 t))

/-- The body at point `t`, on what the pipeline calls it with. -/
abbrev bodyAt (t : Fin (cfg0 a).N) : Prog (TpuEff nD τ sig (Elt F) Λ₀ .tc) PUnit :=
  cc0_moe_down (grid0.coords t) (Memref.whole main_arg2) (Memref.isWhole_whole _) (Memref.whole main_arg3) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

theorem sound_body (c : Dev nD) (t : Fin (cfg0 a).N) :
    bodyPre m a c t ⊢ wp frame (wpE (defs₀ (F := F)) Variants.none c none) Set.univ (bodyAt a t) (fun _ => bodyPost m a c t) := by
  unfold bodyPre bodyPost
  simp only [before_0, before_1]
  rw [show (dats m a 0 c).Φ t.succ = iprop(Pipeline.ΦA spec0 c ∗ Pipeline.ΦT pre0 a.1 c) from rfl,
    show (dats m a 0 c).Φ t.castSucc = iprop(Pipeline.ΦA spec0 c ∗ Pipeline.ΦT pre0 a.1 c) from rfl,
    show (dats m a 0 c).owesAt () t.succ = (dats m a 0 c).owesAt () t.castSucc from rfl,
    after_0, after_1, after_2]
  unfold Pipeline.ΦT
  rw [prefHeld_pair]
  iintro ⟨⟨HΦ, ⟨HT, HN⟩⟩, Ho, ⟨%d0, H0⟩, ⟨%d1, H1⟩, ⟨%d2, H2⟩⟩
  iapply (sound_kernel c (grid0.coords t) _ _ _ _ _ _ (a.1 1) (iblk m a c 0 t) (iblk m a c 1 t) _)
  isplitl [HN]; · iexact HN
  isplitl [H0]; · iexact H0
  isplitl [H1]; · iexact H1
  isplitl [H2]; · iexists _; iexact H2
  iintro ⟨HN, H0, H1, H2⟩
  isplitl [HΦ HT HN]
  · isplitl [HΦ]; · iexact HΦ
    isplitl [HT]; · iexact HT
    iexact HN
  isplitl [Ho]; · iexact Ho
  isplitl [H0]; · iexact H0
  isplitl [H1]; · iexact H1
  iexact H2

theorem defs₀_row (t : Fin (cfg0 a).N) :
    defs₀ (F := F) .tc (cfg0 a).body ((cfg0 a).bodyArgs t ((cfg0 a).slots t)) = bodyAt a t := by
  unfold defs₀; rw [Defs.onTc_tc]

theorem of_live {b : Bool} (h : b = false) {P : Bool → sProp 𝕄} {Q : sProp 𝕄} (hP : P false = Q) : Q ⊢ P b := by
  subst h; rw [hP]

theorem body_obligation (c : Dev nD) : BodyObligation (dats (F := F) m a 0 c) (defs₀ (F := F)) Variants.none () Set.univ := fun t => by
  rw [bigSep_W0, bigSep_W0]
  refine triple_restated (sound_body m a c t) (congrArg (wp frame (wpE (defs₀ (F := F)) Variants.none c none) Set.univ) (defs₀_row a t).symm) .rfl fun _ => ?_
  refine sep_mono .rfl (sep_mono .rfl (sep_mono .rfl (sep_mono .rfl ?_)))
  exact of_live (live a t) (P := fun b => match b with
    | true => match ((cfg0 a).win 2).flush t with
      | false => iprop(∃ d, owns (c : Thread nD τ) (((cfg0 a).win 2).stage ((cfg0 a).slots t 2)) fullShare ((dats m a 0 c).before 2 t d))
      | true => owns (c : Thread nD τ) (((cfg0 a).win 2).stage ((cfg0 a).slots t 2)) fullShare ((dats m a 0 c).after 2 t)
    | false => owns (c : Thread nD τ) (((cfg0 a).win 2).stage ((cfg0 a).slots t 2)) fullShare ((dats m a 0 c).after 2 t)) rfl

/-! ## The run -/

set_option backward.isDefEq.respectTransparency.types false in
set_option maxHeartbeats 800000 in
/-- The launch: the arrays end at what the proof data says, every other buffer as it was, every counter at zero. -/
theorem run_main (hpf : ∀ c k, V m c (pre0.ref k) = a.1 k) :
    θ_run defs (onTc (τ := τ) (main (F := F))) (s₀ m ρ)
      (fun r => (Pipeline.FramePost (Pipeline.pin (pcfgs (F := F)) (fun _ => a)) (dats m a) 0 (V m)) r ∧ r.2.sem = fun _ => 0) :=
  Pipeline.θ_run_frameP (Q' := _) pcfgs (fun _ => a) (dats m a) (0 : Fin 1) launch0 defs₀ Variants.none m ρ main
    (hbody := fun c => (body_obligation m a c).loose) (hshare := fun c => (dats m a 0 c).share_full fun _ => rfl)
    (howed := fun _ _ => rfl) (V := V m) (hmain := Pipeline.hmainP_region pcfgs 0 defs₀ Variants.none m main fun c => (main_chain c).trans rfl)
    (hA := A_eq m a) (hpf := hpf) (hΦ := fun _ _ => rfl)

/-! ## Tables that name blocks inside the weights -/

/-- Tables whose experts are all among the sixteen name blocks inside the weights. -/
theorem ok_of_lt (pf : pre0.Contents (Elt F)) (h : ∀ i : S148.Idx, (show BitVec 32 from pf 0 i).toNat < 16) : ok0 pf := fun i => by
  have hb := h ((Rect.unit (s := S148) ![(Scalar.indexCast (BitVec.ofNat 32 (i 0).val)).toNat] S1.size (facts₀.k0_off1_inb i)).emb (Shape.Idx.first (s := S1) (by decide)))
  refine ⟨fun a => ?_, .inr (Affine.block_words_dvd (of_decide_eq_true rfl) (by decide))⟩
  match a with
  | ⟨0, _⟩ => show (0 + 1) * 1 ≤ 2; omega
  | ⟨1, _⟩ => exact (Nat.mul_one _).trans_le hb
  | ⟨2, _⟩ => show (0 + 1) * 1024 ≤ 1024; omega
  | ⟨3, _⟩ => show (0 + 1) * 4096 ≤ 4096; omega

/-- The launch memory's tables, admissible. -/
def adm (h : ∀ (c : Dev nD) (i : S148.Idx), (show BitVec 32 from m ((c : Thread nD τ).loc main_arg2) i).toNat < 16) : (pcfg0 (F := F)).Adm :=
  ⟨fun k => m (((0 : Dev nD) : Thread nD τ).loc (pre0.ref k)), ok_of_lt _ (h 0)⟩

/-- The run of a launch whose experts are all among the sixteen: the result at what the proof data says, the arguments
    as they were, every counter at zero. -/
theorem run_value (h : ∀ (c : Dev nD) (i : S148.Idx), (show BitVec 32 from m ((c : Thread nD τ).loc main_arg2) i).toNat < 16) :
    θ_run defs (onTc (τ := τ) (main (F := F))) ⟨m, fun _ => 0, ρ⟩ (fun r => (∀ c : Dev nD,
      r.2.mem ((c.tc : Thread nD τ).loc main_v0) = (dats m (adm m h) 0 c).arrAt 2 (cfg0 (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r hr => ⟨fun c => ?_, hr.2⟩) (run_main m ρ (adm m h) fun c k => by
    obtain rfl : c = 0 := Subsingleton.elim _ _
    rfl)
  exact ⟨(hr.1 c).1 2, ((hr.1 c).1 0).trans (((dats m (adm m h) 0 c).arrAt_in 0 rfl _).trans (A_eq m (adm m h) c 0)),
    ((hr.1 c).1 1).trans (((dats m (adm m h) 0 c).arrAt_in 1 rfl _).trans (A_eq m (adm m h) c 1)),
    (hr.1 c).2 main_arg2 (Pipeline.mem_restRefs_of main_arg2 rfl (show ∀ w : Fin 3, (spec0 w).arr.view.ref ≠ main_arg2 by decide)), (hr.1 c).2 main_arg3 (Pipeline.mem_restRefs_of main_arg3 rfl (show ∀ w : Fin 3, (spec0 w).arr.view.ref ≠ main_arg3 by decide))⟩

end Cert.DownIdeal.Run

end
-- ==== Proof.DownValue.lean ====
module

public import proofs.«01_k».proof.Proof.DownIdealRun
public import proofs.«01_k».proof.Proof.Gen.DownReferenceIdeal.Read
public import Idealize.ShloMosaic.Lib.ValueIdx
public import Idealize.ShloMosaic.Lib.ValueIdxCoords
public import Idealize.ShloMosaic.Lib.MatmulPlain

@[expose] public section

noncomputable section

namespace Cert.DownValue

open Cert.DownIdeal Cert.DownIdeal.Gen Cert.DownIdeal.Run Idealize.ShloMosaic Idealize.ShloMosaic.TcCoe Idealize.ShloMosaic.Tactic Idealize.SL.Sem
open Idealize.ShloMosaic.ValueIdx

/-! ## The experts' second product: what a block holds, and what the whole array holds -/

/-- A row's tile. -/
def tileOf (n : Fin 37888) : Fin 148 := ⟨n.val / 256, by omega⟩

/-- The expert a word names. -/
def expertOf (v : BitVec 32) : Fin 16 := ⟨v.toNat % 16, Nat.mod_lt _ (by decide)⟩

/-- A row's product with a column of an expert's weights. -/
def product (x : S37888x1024.Idx → EReal) (w : S2x16x1024x4096.Idx → EReal) (n : Fin 37888) (k : Fin 16) (e : Fin 4096) : EReal :=
  ∑ d : Fin 1024, x (ix2 n d) * w (ix4 0 k d e)

/-- The result at an index: the row's product with its expert's column where the row's tile is used, and zero elsewhere. -/
def entry (x : S37888x1024.Idx → EReal) (w : S2x16x1024x4096.Idx → EReal) (q : S148.Idx → BitVec 32) (u : BitVec 32)
    (n : Fin 37888) (e : Fin 4096) : EReal :=
  if (BitVec.ofNat 32 (tileOf n).val).slt u = true then product x w n (expertOf (q (ix1 (tileOf n)))) e else 0

/-- The whole result. -/
def array (x : S37888x1024.Idx → EReal) (w : S2x16x1024x4096.Idx → EReal) (q : S148.Idx → BitVec 32) (u : S1.Idx → BitVec 32) :
    S37888x4096.Idx → EReal :=
  fun i => entry x w q (u (ix1 0)) (i 0) (i 1)

/-- A block's result at a row and a column. -/
theorem out_apply (i : grid0.Coords) (n : BitVec 32) (x : Vec Ideal S256x1024 .bf16) (w : Vec Ideal S1x1x1024x4096 .bf16) (y : Fin 256) (e : Fin 4096) :
    outAt i n x w (ix2 y e)
      = if (BitVec.ofNat 32 (i 0).val).slt n = true then ∑ d : Fin 1024, x (ix2 y d) * w (ix4 0 0 d e) else (0 : EReal) := by
  have hz4 : (![0, 0, 0, 0] : Fin 4 → ℕ) = fun _ => 0 := by funext a; fin_cases a <;> rfl
  have hz2 : (![0, 0] : Fin 2 → ℕ) = fun _ => 0 := by funext a; fin_cases a <;> rfl
  have hc : ∀ v : Vec Ideal S256x4096 .f32, View.canon [(⟨rO, v⟩ : View.Piece (Elt Ideal) S256x4096 .f32)] = v := fun v => View.canon_unit_zero (S := S256x4096) hz2 _ v
  have e0 : View.ld x rX = x := View.ld_unit_zero (S := S256x1024) hz2 _ x
  have e1 : View.ld w rW = w := View.ld_unit_zero (S := S1x1x1024x4096) hz4 _ w
  unfold outAt
  by_cases h : k0_cond1 i n = 1#1
  · rw [if_pos h, if_pos ((cond1_iff i n).1 h), hc, e0, e1]
    unfold k0_pay1
    refine (Ideal.matmul_plain_apply (M := 256) (K := 1024) (N := 4096) (φ₁ := .bf16) (φ₂ := .bf16) none x (shapeCast S1024x4096 w shapeCasts_S1x1x1024x4096_S1024x4096) (constant S256x4096 .f32 0x00000000#32) y e).trans ?_
    rw [constant_apply, Ideal.ofBits_zero_f32, zero_add]
    refine Finset.sum_congr rfl fun d _ => congrArg (x (ix2 y d) * ·) ?_
    exact shapeCast_apply w _ _ (ix4 0 0 d e) (by rw [Shape.rowMajor_val_four, Shape.rowMajor_val_two]; show ((0 * 1 + 0) * 1024 + d.val) * 4096 + e.val = d.val * 4096 + e.val; omega)
  · rw [if_neg h, if_neg (fun hn => h ((cond1_iff i n).2 hn)), hc]
    unfold k0_pay2
    exact Ideal.ofBits_zero_f32

/-! ## Where the blocks lie -/

/-- A point's row, as a bounded number. -/
def tileAt (t : Fin grid0.N) : Fin 148 := ⟨t.val, t.isLt⟩

def rowOf (t : Fin 148) (y : Fin 256) : Fin 37888 := ⟨t.val * 256 + y.val, by omega⟩

theorem coord : ∀ t : Fin grid0.N, (grid0.coords t 0).val = t.val := by
  decide +kernel

theorem word_coord : ∀ t : Fin grid0.N, (Scalar.indexCast (BitVec.ofNat 32 (grid0.coords t 0).val)).toNat = t.val := by
  decide +kernel

variable (m : (l : Loc nD τ sig) → Buf (Elt Ideal) l)
  (h : ∀ (c : Dev nD) (i : S148.Idx), (show BitVec 32 from m ((c : Thread nD τ).loc main_arg2) i).toNat < 16) (c : Dev nD)

theorem block_x (t : Fin grid0.N) (y : Fin 256) (d : Fin 1024) :
    iblk m (adm m h) c 0 t (ix2 y d) = m ((c : Thread nD τ).loc main_arg0) (ix2 (rowOf (tileAt t) y) d) := by
  show m ((c : Thread nD τ).loc main_arg0) ((((cfg0 (adm m h)).win 0).blk t).view.emb (ix2 y d)) = _
  refine congrArg (m ((c : Thread nD τ).loc main_arg0)) (funext fun a => Fin.ext ?_)
  match a with
  | ⟨0, _⟩ => show (Scalar.indexCast (BitVec.ofNat 32 (grid0.coords t 0).val)).toNat * 256 + 1 * y.val = t.val * 256 + y.val; rw [word_coord]; omega
  | ⟨1, _⟩ => show 0 * 1024 + 1 * d.val = d.val; omega

/-- The word the index map loads is the tile's. -/
theorem table_word (t : Fin grid0.N) :
    (show BitVec 32 from (adm m h).1.at 0 (Rect.unit (s := S148) ![(Scalar.indexCast (BitVec.ofNat 32 (grid0.coords t 0).val)).toNat] S1.size (facts₀.k0_off1_inb (grid0.coords t))) facts₀.numel1_S1)
      = m ((c : Thread nD τ).loc main_arg2) (ix1 (tileAt t)) := by
  obtain rfl : c = 0 := Subsingleton.elim _ _
  refine congrArg (m (((0 : Dev nD) : Thread nD τ).loc main_arg2)) (funext fun a => Fin.ext ?_)
  match a with
  | ⟨0, _⟩ => show (Scalar.indexCast (BitVec.ofNat 32 (grid0.coords t 0).val)).toNat + 1 * 0 = t.val; rw [word_coord]; omega

theorem block_w (t : Fin grid0.N) (d : Fin 1024) (e : Fin 4096) :
    iblk m (adm m h) c 1 t (ix4 0 0 d e) = m ((c : Thread nD τ).loc main_arg1) (ix4 0 (expertOf (m ((c : Thread nD τ).loc main_arg2) (ix1 (tileAt t)))) d e) := by
  show m ((c : Thread nD τ).loc main_arg1) ((((cfg0 (adm m h)).win 1).blk t).view.emb (ix4 0 0 d e)) = _
  refine congrArg (m ((c : Thread nD τ).loc main_arg1)) (funext fun a => Fin.ext ?_)
  match a with
  | ⟨0, _⟩ => show 0 * 1 + 1 * 0 = 0; omega
  | ⟨1, _⟩ =>
    show (BitVec.toNat ((adm m h).1.at 0 (Rect.unit (s := S148) ![(Scalar.indexCast (BitVec.ofNat 32 (grid0.coords t 0).val)).toNat] S1.size (facts₀.k0_off1_inb (grid0.coords t))) facts₀.numel1_S1)) * 1 + 1 * 0 = (BitVec.toNat (m ((c : Thread nD τ).loc main_arg2) (ix1 (tileAt t)))) % 16
    have e1 := congrArg BitVec.toNat (table_word m h c t)
    have e2 := h c (ix1 (tileAt t))
    refine ((Nat.mul_one _).trans e1).trans (Nat.mod_eq_of_lt e2).symm
  | ⟨2, _⟩ => show 0 * 1024 + 1 * d.val = d.val; omega
  | ⟨3, _⟩ => show 0 * 4096 + 1 * e.val = e.val; omega

/-- Where an output block's entry lies in the result. -/
theorem emb_out (t : Fin grid0.N) (y : Fin 256) (e : Fin 4096) :
    (((cfg0 (adm m h)).win 2).blk t).view.emb (ix2 y e) = (ix2 (rowOf (tileAt t) y) e : S37888x4096.Idx) := by
  refine funext fun a => Fin.ext ?_
  match a with
  | ⟨0, _⟩ => show (Scalar.indexCast (BitVec.ofNat 32 (grid0.coords t 0).val)).toNat * 256 + 1 * y.val = t.val * 256 + y.val; rw [word_coord]; omega
  | ⟨1, _⟩ => show 0 * 4096 + 1 * e.val = e.val; omega

/-- Every point writes its block back. -/
theorem flush_out (t : Fin grid0.N) : ((cfg0 (adm m h)).win 2).flush t = true :=
  (Pipeline.Window.flush_reads ((cfg0 (adm m h)).win 2) rfl 0 (show 1 < grid0.bound 0 by decide) (show grid0.fixedAfter spec0_2.reads 0 = true by decide) (Pipeline.Window.sep_of_coord cc0_transform_2 0 0 (fun _ => rfl) (by decide)) (P := 1) (m := 0) (show grid0.stride 0 = 1 by decide) rfl t).mpr (Nat.mod_one _)

/-- The whole result, of the launch memory. -/
def wholeOut : Buf (Elt Ideal) ((c : Thread nD τ).loc main_v0) :=
  array (m ((c : Thread nD τ).loc main_arg0)) (m ((c : Thread nD τ).loc main_arg1)) (m ((c : Thread nD τ).loc main_arg2)) (m ((c : Thread nD τ).loc main_arg3))

/-- What a point writes back is its block of the whole result. -/
theorem flushed_out (t : Fin grid0.N) : (dats m (adm m h) 0 c).flushed 2 t = (((cfg0 (adm m h)).win 2).blk t).view.read (Elt Ideal) (wholeOut m c) := by
  show ((cfg0 (adm m h)).win 2).cut (grid0.coords t) ((dats m (adm m h) 0 c).after 2 t) = _
  rw [after_2]
  funext j
  obtain ⟨y, e, rfl⟩ : ∃ (y : Fin 256) (e : Fin 4096), j = ix2 y e := ⟨(show S256x4096.Idx from j) 0, (show S256x4096.Idx from j) 1, ValueIdx.eq_ix2 (show S256x4096.Idx from j)⟩
  refine (out_apply (grid0.coords t) (used (adm m h)) (iblk m (adm m h) c 0 t) (iblk m (adm m h) c 1 t) y e).trans ?_
  refine Eq.trans ?_ (congrArg (wholeOut m c) (emb_out m h t y e)).symm
  show _ = entry _ _ _ _ (rowOf (tileAt t) y) e
  have ht : tileOf (rowOf (tileAt t) y) = tileAt t := Fin.ext (show (t.val * 256 + y.val) / 256 = t.val by omega)
  have hu : used (adm m h) = (show BitVec 32 from m ((c : Thread nD τ).loc main_arg3) (ix1 0)) := by
    obtain rfl : c = 0 := Subsingleton.elim _ _
    exact congrArg (m (((0 : Dev nD) : Thread nD τ).loc main_arg3)) (funext fun a => match a with | ⟨0, _⟩ => rfl)
  unfold entry
  rw [ht, coord, hu]
  refine if_congr Iff.rfl ?_ rfl
  exact Finset.sum_congr rfl fun d _ => congrArg₂ (fun u v : EReal => u * v) (block_x m h c t y d) (block_w m h c t d e)

/-- Every entry of the result is in some point's block. -/
theorem cover_out (i : S37888x4096.Idx) : ∃ t : Fin grid0.N, ((cfg0 (adm m h)).win 2).flush t = true ∧ i ∈ (((cfg0 (adm m h)).win 2).blk t).view.set := by
  obtain ⟨n, e, rfl⟩ : ∃ (n : Fin 37888) (e : Fin 4096), i = ix2 n e := ⟨i 0, i 1, ValueIdx.eq_ix2 i⟩
  have ht : n.val / 256 < 148 := by omega
  refine ⟨(⟨n.val / 256, ht⟩ : Fin grid0.N), flush_out m h _, ?_⟩
  have hm := (((cfg0 (adm m h)).win 2).blk (⟨n.val / 256, ht⟩ : Fin grid0.N)).view.emb_mem_set (ix2 ⟨n.val % 256, by omega⟩ e)
  rw [emb_out] at hm
  refine cast (congrArg (· ∈ (((cfg0 (adm m h)).win 2).blk (⟨n.val / 256, ht⟩ : Fin grid0.N)).view.set) (funext fun a => Fin.ext ?_)) hm
  match a with
  | ⟨0, _⟩ => show n.val / 256 * 256 + n.val % 256 = n.val; omega
  | ⟨1, _⟩ => rfl

/-- The result array after the run. -/
theorem arrAt_out : (dats m (adm m h) 0 c).arrAt 2 (cfg0 (adm m h)).N = wholeOut m c :=
  (dats m (adm m h) 0 c).arrAt_eq_of_cover 2 (wholeOut m c) (fun t _ => flushed_out m h c t) (cover_out m h)

end Cert.DownValue

end
-- ==== Proof.DownWord.lean ====
module

public import Idealize.ShloMosaic.Lib.ValueIdxCore
public import Idealize.ShloMosaic.Lib.Pipeline.Value
public import Mathlib.Data.Fin.VecNotation

@[expose] public section

noncomputable section

namespace Cert.DownValue

open Idealize.ShloMosaic

/-! ## The tile of a row, in host integers -/

/-- The sign of a word. -/
def sgn (w : BitVec 32) : BitVec 32 := if w = 0 then 0 else if w.msb then -1 else 1

/-- The quotient by 256 rounded down, as the host spells it. -/
def tileWord (w : BitVec 32) : BitVec 32 :=
  Scalar.select (IntOp.andi (IntOp.cmpi .ne (sgn w) (sgn 256#32)) (IntOp.cmpi .ne (IntOp.remsi .host w 256#32) 0#32))
    (IntOp.subi (IntOp.divsi .host w 256#32) 1#32) (IntOp.divsi .host w 256#32)

set_option maxRecDepth 16384 in
theorem tileWord_nat : ∀ (a : Fin 148) (b : Fin 256), tileWord (BitVec.ofNat 32 (a.val * 256 + b.val)) = BitVec.ofNat 32 a.val := by
  decide +kernel

end Cert.DownValue

end
-- ==== Proof.DownRef.lean ====
module

public import proofs.«01_k».proof.Proof.DownValue
public import proofs.«01_k».proof.Proof.DownWord
public import Idealize.ShloMosaic.Lib.Pointwise
public import Idealize.ShloMosaic.Lib.StableHlo.Predicate

@[expose] public section

noncomputable section

namespace Cert.DownValue

open Cert.DownReferenceIdeal Cert.DownReferenceIdeal.Read Idealize.ShloMosaic.ValueIdx
open Idealize.ShloMosaic hiding ix1 ix2 ix3 ix4

/-! ## The reference: every expert's product, gated by the tile's expert and by the count of used tiles -/

/-- A row's tile, as the host computes it. -/
theorem tile_apply (n : Fin 37888) : val_main_v5 (F := Ideal) (ix1 n) = BitVec.ofNat 32 (tileOf n).val := by
  have h := tileWord_nat ⟨n.val / 256, by omega⟩ ⟨n.val % 256, by omega⟩
  rw [show n.val / 256 * 256 + n.val % 256 = n.val by omega] at h
  exact Eq.trans rfl h

/-- The gate of a row and an expert: whether the row's tile is the expert's and is used. -/
theorem gate_apply (q : S148.Idx → BitVec 32) (u : S1.Idx → BitVec 32) (n : Fin 37888) (k : Fin 16) (e : Fin 4096) :
    val_main_v23 (F := Ideal) q u (ix3 n k e)
      = if q (ix1 (tileOf n)) = BitVec.ofNat 32 k.val ∧ (BitVec.ofNat 32 (tileOf n).val).slt (u (ix1 0)) = true then (1 : EReal) else 0 := by
  have h1 : val_main_v11 (F := Ideal) q (ix2 n k) = q (ix1 (tileOf n)) := by
    rw [val_main_v11_apply, val_main_v8_apply, val_main_v7_apply, val_main_v6_apply]
    exact congrArg q (funext fun a => Fin.ext (match a with | ⟨0, _⟩ => rfl))
  have h2 : val_main_v12 (F := Ideal) (ix2 n k) = BitVec.ofNat 32 k.val := by
    rw [val_main_v12_apply, val_main_v10_apply, val_main_v9_apply]
  have h3 : val_main_v18 (F := Ideal) u (ix2 n k) = IntOp.cmpi .slt (BitVec.ofNat 32 (tileOf n).val) (u (ix1 0)) := by
    rw [val_main_v18_apply, val_main_v17_apply, val_main_v16_apply, val_main_v15_apply]
    refine congrArg₂ (IntOp.cmpi .slt) (Eq.trans (congrArg (val_main_v5 (F := Ideal)) (funext fun a => match a with | ⟨0, _⟩ => rfl)) (tile_apply n)) ?_
    exact shapeCast_apply u _ _ (ix1 0) rfl
  rw [val_main_v23_apply, val_main_v21_apply]
  rw [show (idx_main_v21 (idx_main_v23 (ix3 n k e)) : S37888x16.Idx) = ix2 n k from funext fun a => match a with | ⟨0, _⟩ => rfl | ⟨1, _⟩ => rfl]
  rw [val_main_v20_apply, val_main_v19_apply, val_main_v13_apply, h1, h2, h3]
  generalize q (ix1 (tileOf n)) = a
  generalize BitVec.ofNat 32 k.val = b
  simp only [IntOp.cmpi]
  generalize (BitVec.ofNat 32 (tileOf n).val).slt (u (ix1 0)) = s
  by_cases hab : a = b
  · cases s <;> simp [hab, IntOp.andi, FloatOps.uitofp]
  · have hf : (a == b) = false := beq_eq_false_iff_ne.2 hab
    cases s <;> simp [hab, hf, IntOp.andi, FloatOps.uitofp]

/-- Every expert's product. -/
theorem product_apply (x : S37888x1024.Idx → EReal) (w : S2x16x1024x4096.Idx → EReal) (n : Fin 37888) (k : Fin 16) (e : Fin 4096) :
    val_main_v22 (F := Ideal) x w (ix3 n k e) = product x w n k e := by
  rw [val_main_v22_apply]
  unfold product
  refine Finset.sum_congr rfl fun d _ => congrArg₂ (fun u v : EReal => u * v) (congrArg x (funext fun a => Fin.ext ?_)) ?_
  · match a with
    | ⟨0, _⟩ => rfl
    | ⟨1, _⟩ => rfl
  · show val_main_v2 (F := Ideal) w (ridx_main_v22 (ix3 n k e) d) = _
    rw [val_main_v2_apply, val_main_v1_apply]
    refine congrArg w (funext fun a => Fin.ext ?_)
    match a with
    | ⟨0, _⟩ => rfl
    | ⟨1, _⟩ => show ((k.val * 1024 + d.val) * 4096 + e.val) / 4194304 % 16 = k.val; omega
    | ⟨2, _⟩ => show ((k.val * 1024 + d.val) * 4096 + e.val) / 4096 % 1024 = d.val; omega
    | ⟨3, _⟩ => show ((k.val * 1024 + d.val) * 4096 + e.val) % 4096 = e.val; omega

/-- The reference's result is the same array, where every tile's expert is one of the sixteen. -/
theorem reference_eq (x : S37888x1024.Idx → EReal) (w : S2x16x1024x4096.Idx → EReal) (q : S148.Idx → BitVec 32) (u : S1.Idx → BitVec 32)
    (hq : ∀ i, (q i).toNat < 16) : val_main_v25 (F := Ideal) x w q u = array x w q u := by
  funext i
  obtain ⟨n, e, rfl⟩ : ∃ (n : Fin 37888) (e : Fin 4096), i = ix2 n e := ⟨i 0, i 1, ValueIdx.eq_ix2 i⟩
  show _ = entry x w q (u (ix1 0)) n e
  rw [val_main_v25_apply, val_main_cst_apply, show (FloatOps.ofBits .f32 0x00000000#32 : Ideal .f32) = (0 : EReal) from Ideal.ofBits_zero_f32, zero_add]
  have hk : ∀ k : Fin 16, val_main_v24 (F := Ideal) x w q u (idx_main_v25 (ix2 n e) k)
      = if k = expertOf (q (ix1 (tileOf n))) then entry x w q (u (ix1 0)) n e else (0 : EReal) := fun k => by
    rw [show (idx_main_v25 (ix2 n e) k : S37888x16x4096.Idx) = ix3 n k e from funext fun a => match a with | ⟨0, _⟩ => rfl | ⟨1, _⟩ => rfl | ⟨2, _⟩ => rfl]
    rw [val_main_v24_apply, gate_apply, product_apply]
    have hb : q (ix1 (tileOf n)) = BitVec.ofNat 32 k.val ↔ k = expertOf (q (ix1 (tileOf n))) := by
      have hlt := hq (ix1 (tileOf n))
      have hk := k.isLt
      rw [Fin.ext_iff, BitVec.toNat_inj.symm, BitVec.toNat_ofNat]
      show _ ↔ k.val = (q (ix1 (tileOf n))).toNat % 16
      omega
    show (if _ then (1 : EReal) else 0) * product x w n k e = _
    unfold entry
    by_cases h1 : k = expertOf (q (ix1 (tileOf n)))
    · rw [if_pos h1, ← h1]
      by_cases h2 : (BitVec.ofNat 32 (tileOf n).val).slt (u (ix1 0)) = true
      · rw [if_pos ⟨hb.2 h1, h2⟩, if_pos h2, one_mul]
      · rw [if_neg (fun hh => h2 hh.2), if_neg h2, zero_mul]
    · rw [if_neg (fun hh => h1 (hb.1 hh.1)), if_neg h1, zero_mul]
  rw [Finset.sum_congr rfl fun k _ => hk k, Finset.sum_ite_eq' Finset.univ (expertOf (q (ix1 (tileOf n))))]
  rw [if_pos (Finset.mem_univ _)]

end Cert.DownValue

end
-- ==== Proof.UpTables.lean ====
/- The three tables are in range, where the precondition holds. -/
module

public import proofs.«01_k».proof.Defs
public import Idealize.ShloMosaic.Lib.ReduceAll
public import Idealize.ShloMosaic.Lib.Pointwise
public import Idealize.ShloMosaic.Lib.ValueIdx
public import Idealize.ShloMosaic.Lib.StableHlo.Predicate

@[expose] public section

noncomputable section

namespace Cert.UpTables

open Idealize.ShloMosaic Cert.Pre_tables_in_range

/-- The side conditions that the precondition's operations state. -/
theorem facts : Cert.Pre_tables_in_range.Facts where
  bcast_S_S37888 := by decide
  reducesTo_S37888_S_d0 := by decide
  h_S_ := by decide
  bcast_S_S148 := by decide
  reducesTo_S148_S_d0 := by decide
  bcast_S_S1 := by decide
  reducesTo_S1_S_d0 := by decide

theorem sle_of_cmp (w v : BitVec 32) (h : IntOp.cmpi .sle w v = 1#1) : w.toInt ≤ v.toInt := by
  simp only [IntOp.cmpi] at h
  have a : w.sle v = true := by cases hs : w.sle v <;> simp_all
  simpa only [BitVec.sle, decide_eq_true_eq] using a

theorem sge_of_cmp (w v : BitVec 32) (h : IntOp.cmpi .sge w v = 1#1) : v.toInt ≤ w.toInt := by
  simp only [IntOp.cmpi] at h
  have a : v.sle w = true := by cases hs : v.sle w <;> simp_all
  simpa only [BitVec.sle, decide_eq_true_eq] using a

theorem slt_of_cmp (w v : BitVec 32) (h : IntOp.cmpi .slt w v = 1#1) : w.toInt < v.toInt := by
  simp only [IntOp.cmpi] at h
  have a : w.slt v = true := by cases hs : w.slt v <;> simp_all
  simpa only [BitVec.slt, decide_eq_true_eq] using a

/-- A word that is at least zero as a signed word is the same number unsigned. -/
theorem toInt_of_nonneg (w : BitVec 32) (h : (0#32).toInt ≤ w.toInt) : w.toInt = w.toNat := by
  have e0 : (0#32).toInt = 0 := by decide
  rw [e0] at h
  rw [BitVec.toInt_eq_toNat_cond] at h ⊢
  split at h <;> omega

instance : Subsingleton S_.Idx := ⟨fun a b => funext fun i => i.elim0⟩

section
variable [Facts] {F : FTy → Type} [FloatOps F] (x0 : FVec F S16896x4096 .f32) (x1 : IVec S37888 32) (x2 x3 : FVec F S2x16x4096x1024 .bf16)
  (x4 : IVec S148 32) (x5 : IVec S1 32) (h : fn x0 x1 x2 x3 x4 x5 = fun _ => 1#1)
include h

theorem src_of_pre (i : S37888.Idx) : (x1 i).toNat < 16896 := by
  have h0 := congrFun h (fun i => i.elim0)
  obtain ⟨h1, -⟩ := IntOp.andi_eq_one.1 h0
  obtain ⟨h2, -⟩ := IntOp.andi_eq_one.1 h1
  obtain ⟨ha, hb⟩ := IntOp.andi_eq_one.1 (Host.reduce_andi_all _ _ _ _ _ h2 i)
  have a := sge_of_cmp _ _ ha
  have b := slt_of_cmp _ _ hb
  rw [toInt_of_nonneg _ a] at b
  have e : (16896#32).toInt = 16896 := by decide
  have b' : ((x1 i).toNat : ℤ) < 16896 := e ▸ b
  omega

theorem expert_of_pre (i : S148.Idx) : (x4 i).toNat < 16 := by
  have h0 := congrFun h (fun i => i.elim0)
  obtain ⟨h1, -⟩ := IntOp.andi_eq_one.1 h0
  obtain ⟨-, h2⟩ := IntOp.andi_eq_one.1 h1
  obtain ⟨ha, hb⟩ := IntOp.andi_eq_one.1 (Host.reduce_andi_all _ _ _ _ _ h2 i)
  have a := sge_of_cmp _ _ ha
  have b := slt_of_cmp _ _ hb
  rw [toInt_of_nonneg _ a] at b
  have e : (16#32).toInt = 16 := by decide
  have b' : ((x4 i).toNat : ℤ) < 16 := e ▸ b
  omega

theorem count_of_pre (i : S1.Idx) : (x5 i).toNat ≤ 147 := by
  have h0 := congrFun h (fun i => i.elim0)
  obtain ⟨-, h2⟩ := IntOp.andi_eq_one.1 h0
  obtain ⟨ha, hb⟩ := IntOp.andi_eq_one.1 (Host.reduce_andi_all _ _ _ _ _ h2 i)
  have a := sge_of_cmp _ _ ha
  have b := sle_of_cmp _ _ hb
  rw [toInt_of_nonneg _ a] at b
  have e : (147#32).toInt = 147 := by decide
  have b' : ((x5 i).toNat : ℤ) ≤ 147 := e ▸ b
  omega

end

end Cert.UpTables

end
-- ==== Proof.UpIdealSteps.lean ====
module

public import proofs.«01_k».proof.Proof.Gen.UpIdeal.Skeleton
public import Idealize.ShloMosaic.Lib.Pipeline.Regions

@[expose] public section

/-! ## The body's 256 row copies, as one recursion

The kernel starts the copies of the next tile's 256 rows one after the other, written out. Here that
long sequence is named: `startRow` starts one row, `starts` starts the last `n` rows and goes on.
`unrolled` says that the written-out sequence is the loop of waits followed by `starts 256`.
-/

noncomputable section

namespace Cert.UpIdeal.Steps

open Cert.UpIdeal Cert.UpIdeal.Gen
open Idealize.ShloMosaic Idealize.SL.Sem

variable {F : FTy → Type} [FloatOps F]

/-- The programs of the kernel's body. -/
abbrev P (F : FTy → Type) [FloatOps F] (α : Type) := Prog (TpuEff nD τ sig (Elt F) Λ₀ .tc) α

/-- Where the number of row `r` of the next tile lies in the list of row numbers. -/
def offS (i : grid0.Coords) (r : ℕ) : Fin 1 → ℕ :=
  ![(Scalar.indexCast (Scalar.addi (Scalar.muli (Scalar.addi (BitVec.ofNat 32 (i 0).val) 1#32) 256#32)
    (BitVec.ofNat 32 r))).toNat]

/-- Row `r` of the slot the next tile goes to. -/
def offD (i : grid0.Coords) (r : ℕ) : Fin 3 → ℕ := ![k0_off8 i 0, r, 0]

/-- The row of the operand a word names. -/
def rowAt (A4 : Memref sig .tc .hbm S16896x4096 .f32) (o : Fin 2 → ℕ)
    (h : ∀ a, o a + S1x4096.size a ≤ S16896x4096.size a) : Memref sig .tc .hbm S1x4096 .f32 :=
  A4.slice (Rect.unit (s := S16896x4096) o S1x4096.size h) (fun _ => rfl)

/-- A row of a slot. -/
def slotRow (A8 : Memref sig .tc .vmem S2x256x4096 .f32) (o : Fin 3 → ℕ)
    (h : ∀ a, o a + S1x1x4096.size a ≤ S2x256x4096.size a) : Memref sig .tc .vmem S1x4096 .f32 :=
  (A8.slice (Rect.unit (s := S2x256x4096) o S1x1x4096.size h) (fun _ => rfl)).squeeze S1x4096
    squeezes_S1x1x4096_S1x4096

/-- A slot's semaphore. -/
def slotSem (A9 : DmaSems sig S2) (o : Fin 1 → ℕ) (h : ∀ a, o a + S1.size a ≤ S2.size a) :=
  ((A9.slice (Rect.unit (s := S2) o S1.size h)).squeeze S_ squeezes_S1_S_).sem

/-- Read a row's number, check it, start the row's copy, go on. -/
def startRow {α : Type} (A1 : Memref sig .tc .smem S37888 .i32) (A4 : Memref sig .tc .hbm S16896x4096 .f32)
    (A8 : Memref sig .tc .vmem S2x256x4096 .f32) (A9 : DmaSems sig S2)
    (oS : Fin 1 → ℕ) (hS : ∀ a, oS a + S1.size a ≤ S37888.size a)
    (oM : Fin 1 → ℕ) (hM : ∀ a, oM a + S1.size a ≤ S2.size a)
    (oD : Fin 3 → ℕ) (hD : ∀ a, oD a + S1x1x4096.size a ≤ S2x256x4096.size a)
    (C : BitVec 32 → Prop) (dec : ∀ v, Decidable (C v))
    (hC : ∀ v, C v → ∀ a, k0_off10 v a + S1x4096.size a ≤ S16896x4096.size a) (k : P F α) : P F α := do
  let v : Elt F .i32 ← smemLoad A1 (Rect.unit (s := S37888) oS S1.size hS) numel1_S1 rfl
  have hw : C v := (← Prog.lift (TpuEff.assume (C v) (dec v))).down
  Prog.lift (.enqueueDma (rowAt A4 (k0_off10 v) (hC v hw)) (.here (slotRow A8 oD hD)) (.dma (slotSem A9 oM hM))
    (View.wordExact_bits rfl) ((View.wordExact_bits rfl).reshape _ _) ⟨Or.inl rfl, trivial⟩)
  k

/-- Start the last `n` of the 256 rows of the next tile, then go on. -/
def starts {α : Type} (A1 : Memref sig .tc .smem S37888 .i32) (A4 : Memref sig .tc .hbm S16896x4096 .f32)
    (A8 : Memref sig .tc .vmem S2x256x4096 .f32) (A9 : DmaSems sig S2) (i : grid0.Coords) (v0 : BitVec 32)
    (h2 : k0_cond2 i v0 = 1#1)
    (hS : ∀ r, r ≤ 255 → ∀ a, offS i r a + S1.size a ≤ S37888.size a)
    (hD : ∀ r, r ≤ 255 → ∀ a, offD i r a + S1x1x4096.size a ≤ S2x256x4096.size a)
    (k : P F α) (n : ℕ) : P F α :=
  Nat.rec k (fun m ih => startRow A1 A4 A8 A9 (offS i (255 - m)) (hS _ (Nat.sub_le _ _)) (k0_off8 i)
    (k0_off8_inb i) (offD i (255 - m)) (hD _ (Nat.sub_le _ _)) (k0_chk3 i v0) (k0_chk3.dec i v0)
    (fun v hw => hw h2) ih) n

theorem starts_zero {α : Type} (A1 : Memref sig .tc .smem S37888 .i32) (A4 A8 A9) (i : grid0.Coords) (v0 : BitVec 32)
    (h2 : k0_cond2 i v0 = 1#1) (hS hD) (k : P F α) : starts A1 A4 A8 A9 i v0 h2 hS hD k 0 = k := rfl

theorem starts_succ {α : Type} (A1 : Memref sig .tc .smem S37888 .i32) (A4 A8 A9) (i : grid0.Coords) (v0 : BitVec 32)
    (h2 : k0_cond2 i v0 = 1#1) (hS hD) (k : P F α) (m : ℕ) : starts A1 A4 A8 A9 i v0 h2 hS hD k (m + 1)
      = startRow A1 A4 A8 A9 (offS i (255 - m)) (hS _ (Nat.sub_le _ _)) (k0_off8 i)
          (k0_off8_inb i) (offD i (255 - m)) (hD _ (Nat.sub_le _ _)) (k0_chk3 i v0) (k0_chk3.dec i v0)
          (fun v hw => hw h2) (starts A1 A4 A8 A9 i v0 h2 hS hD k m) := rfl

/-- Three sequences nested to the left, the first of them begun by `f`, as one begun by `f`. -/
theorem move {E : Type → Type} {α β γ δ : Type} (f : Prog E α) (r : α → Prog E β) (s : β → Prog E γ)
    (t : γ → Prog E δ) (k : α → Prog E δ) (h : ∀ u, ((r u).bind s).bind t = k u) :
    ((f.bind r).bind s).bind t = f.bind k := by
  exact (congrArg (fun q => Prog.bind q t) (Prog.bind_assoc f r s)).trans
    ((Prog.bind_assoc f _ t).trans (congrArg (Prog.bind f) (funext h)))

set_option maxRecDepth 100000 in
set_option maxHeartbeats 0 in
/-- The written-out sequence of a used tile, followed by `K`. -/
theorem unrolled (i : grid0.Coords) (arg1 : Memref sig .tc .smem S37888 .i32) (harg1 : arg1.IsWhole)
    (arg2 : Memref sig .tc .smem S148 .i32) (harg2 : arg2.IsWhole) (arg3 : Memref sig .tc .smem S1 .i32)
    (harg3 : arg3.IsWhole) (arg4 : Memref sig .tc .hbm S16896x4096 .f32) (harg4 : arg4.IsWhole)
    (arg5 : Memref sig .tc .vmem S1x1x4096x1024 .bf16) (harg5 : arg5.IsWhole)
    (arg6 : Memref sig .tc .vmem S1x1x4096x1024 .bf16) (harg6 : arg6.IsWhole)
    (arg7 : Memref sig .tc .vmem S256x1024 .bf16) (harg7 : arg7.IsWhole)
    (arg8 : Memref sig .tc .vmem S2x256x4096 .f32) (harg8 : arg8.IsWhole) (arg9 : DmaSems sig S2)
    (v0 : BitVec 32) (hw2 : k0_chk2 i v0) (h2 : k0_cond2 i v0 = 1#1)
    (hS : ∀ r, r ≤ 255 → ∀ a, offS i r a + S1.size a ≤ S37888.size a)
    (hD : ∀ r, r ≤ 255 → ∀ a, offD i r a + S1x1x4096.size a ≤ S2x256x4096.size a)
    (K : FVec F S256x4096 .bf16 → FVec F S4096x1024 .bf16 → P F PUnit) :
    (Prog.bind (k0_part155 (F := F) i arg1 harg1 arg2 harg2 arg3 harg3 arg4 harg4 arg5 harg5 arg6 harg6 arg7 harg7
        arg8 harg8 arg9 (BitVec.ofNat 32 (i 0).val) v0 hw2 h2) fun x =>
      Prog.bind (k0_part156 (F := F) i arg1 harg1 arg2 harg2 arg3 harg3 arg4 harg4 arg5 harg5 arg6 harg6 arg7 harg7
        arg8 harg8 arg9 (BitVec.ofNat 32 (i 0).val) v0 hw2 h2 x.1 x.2.1 x.2.2.1 x.2.2.2.1 x.2.2.2.2) fun y =>
      Prog.bind (k0_part157 (F := F) i arg1 harg1 arg2 harg2 arg3 harg3 arg4 harg4 arg5 harg5 arg6 harg6 arg7 harg7
        arg8 harg8 arg9 (BitVec.ofNat 32 (i 0).val) v0 hw2 h2 y.1 y.2.1 y.2.2.1 y.2.2.2.1 y.2.2.2.2) fun z =>
      K z.1 z.2)
    = Prog.bind (Scf.Loop.for k0_t2_loop k0_t2_ok ⟨⟩ (k0_t2_body i arg1 harg1 arg2 harg2 arg3 harg3 arg4 harg4 arg5
        harg5 arg6 harg6 arg7 harg7 arg8 harg8 arg9 (BitVec.ofNat 32 (i 0).val) v0 hw2 h2)) fun _ =>
      starts arg1 arg4 arg8 arg9 i v0 h2 hS hD
        (Prog.bind (Prog.lift (.load arg8 (Rect.unit (s := S2x256x4096) (k0_off1031 i) S1x256x4096.size
            (k0_off1031_inb i)).toLoadRect (View.loadsAt_vmem h_S1x256x4096))) fun v5411 =>
          Prog.bind (Prog.lift (.load arg5 (Rect.unit (s := S1x1x4096x1024) ![0, 0, 0, 0] S1x1x4096x1024.size
            inb_S1x1x4096x1024_S1x1x4096x1024_0_0_0_0).toLoadRect (View.loadsAt_vmem h_S1x1x4096x1024))) fun v5414 =>
          K (k0_pay3 v5411) (k0_pay4 v5414)) 256 := by
  refine move _ _ _ _ _ fun u => ?_
  chain_rfl

end Cert.UpIdeal.Steps

end
-- ==== Proof.UpIdealCopy.lean ====
module

public import proofs.«01_k».proof.Proof.UpIdealSteps
public import proofs.«01_k».proof.Proof.Gen.UpIdeal.Launch
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.WordCmp
public import Idealize.ShloMosaic.Lib.Pointwise.Index

@[expose] public section

set_option maxRecDepth 16384

noncomputable section

/-! The experts' first product: the copies of its rows. A tile's 256 rows are copied, each by a transfer of its own, into
    one of two slots, all completing on the slot's one semaphore; the tile is used once all 256 are in. -/

namespace Cert.UpIdeal.Copy

open Cert.UpIdeal Cert.UpIdeal.Gen Cert.UpIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ
/-- The counters the copies' batches are held in. -/
abbrev counters (F : FTy → Type) : UEmb Counters (MT nD τ sig Unit (Elt F) ℕ (Pipeline.UD sig nD τ) ℕ) := countersEmb (U := Pipeline.UD sig nD τ)

/-! ## The pieces of the buffers -/

theorem row_inb (s : Fin 2) (r : Fin 256) : ∀ a, (![s.val, r.val, 0] : Fin 3 → ℕ) a + S1x1x4096.size a ≤ S2x256x4096.size a
  | ⟨0, _⟩ => s.isLt
  | ⟨1, _⟩ => r.isLt
  | ⟨2, _⟩ => Nat.le_refl 4096

theorem sem_inb (s : Fin 2) : ∀ a, (![s.val] : Fin 1 → ℕ) a + S1.size a ≤ S2.size a
  | ⟨0, _⟩ => s.isLt

theorem src_inb (w : Fin 16896) : ∀ a, (![w.val, 0] : Fin 2 → ℕ) a + S1x4096.size a ≤ S16896x4096.size a
  | ⟨0, _⟩ => w.isLt
  | ⟨1, _⟩ => Nat.le_refl 4096

/-- Row `r` of slot `s`. -/
def row (s : Fin 2) (r : Fin 256) : Memref sig .tc .vmem S1x4096 .f32 :=
  slotRow (Memref.whole cc0_scratch0) ![s.val, r.val, 0] (row_inb s r)

/-- Slot `s`'s semaphore. -/
def sem (s : Fin 2) : DmaSem sig := slotSem cc0_scratch1 ![s.val] (sem_inb s)

/-- Row `w` of the operand. -/
def src (w : Fin 16896) : Memref sig .tc .hbm S1x4096 .f32 :=
  rowAt (Memref.whole main_arg0) ![w.val, 0] (src_inb w)

/-- The row number the list of numbers holds for row `r` of tile `u`. -/
def wordAt (sv : S37888.Idx → BitVec 32) (u r : ℕ) : BitVec 32 :=
  sv (ix1 (⟨(256 * u + r) % 37888, Nat.mod_lt _ (by decide)⟩ : Fin 37888))

def numAt (sv : S37888.Idx → BitVec 32) (u r : ℕ) : Fin 16896 :=
  ⟨(wordAt sv u r).toNat % 16896, Nat.mod_lt _ (by decide)⟩

/-- What a slot holds once tile `u`'s rows are in. -/
def G (xs : S16896x4096.Idx → Elt F .f32) (sv : S37888.Idx → BitVec 32) (u : ℕ) : S2x256x4096.Idx → Elt F .f32 :=
  fun j => xs (ix2 (numAt sv u (j 1).val) (show Fin 4096 from j 2))

/-- One row's worth of a semaphore. -/
def N : ℕ := (row 0 0).view.dmaCredit

theorem N_pos : 0 < N := View.dmaCredit_pos _ (by decide)
theorem amount_row (s s' : Fin 2) (r : Fin 256) : (row s r).view.amount (.dma (sem s')) = N := rfl
theorem credit_row (s : Fin 2) (r : Fin 256) : (row s r).view.dmaCredit = 1 * N := (Nat.one_mul N).symm

/-! ## Where a row's elements lie -/

theorem emb_row (s : Fin 2) (r : Fin 256) (p : S1x4096.Idx) :
    (row s r).view.emb p = ix3 s r (show Fin 4096 from p 1) := by
  have hq : Shape.reshapeEquiv (squeezes_S1x1x4096_S1x4096).numel_eq p = (ix3 (0 : Fin 1) (0 : Fin 1) (show Fin 4096 from p 1)) := by
    apply (Shape.rowMajor _).injective
    apply Fin.ext
    rw [Shape.rowMajor_reshapeEquiv, Shape.rowMajor_val_two, Shape.rowMajor_val_three]
    have h0 : (p 0).val = 0 := Nat.lt_one_iff.mp (p 0).isLt
    show (p 0).val * 4096 + (p 1).val = (0 * 1 + 0) * 4096 + (p 1).val
    omega
  show (Rect.unit (s := S2x256x4096) ![s.val, r.val, 0] S1x1x4096.size (row_inb s r)).emb (Shape.reshapeEquiv _ p) = _
  rw [hq]
  funext a
  apply Fin.ext
  rw [Rect.emb_apply]
  match a with
  | ⟨0, _⟩ => show s.val + 1 * 0 = s.val; omega
  | ⟨1, _⟩ => show r.val + 1 * 0 = r.val; omega
  | ⟨2, _⟩ => show 0 + 1 * (p 1).val = (p 1).val; omega

theorem emb_src (w : Fin 16896) (p : S1x4096.Idx) : (src w).view.emb p = ix2 w (show Fin 4096 from p 1) := by
  show (Rect.unit (s := S16896x4096) ![w.val, 0] S1x4096.size (src_inb w)).emb p = _
  funext a
  apply Fin.ext
  rw [Rect.emb_apply]
  match a with
  | ⟨0, _⟩ =>
    have h0 : (p 0).val = 0 := Nat.lt_one_iff.mp (p 0).isLt
    show w.val + 1 * (p 0).val = w.val; omega
  | ⟨1, _⟩ => show 0 + 1 * (p 1).val = (p 1).val; omega

/-! ## What is held -/

variable (c : Dev nD) (xs : S16896x4096.Idx → Elt F .f32) (sv : S37888.Idx → BitVec 32)

/-- The operand's share row `r` of slot `s` is read under. -/
abbrev tok (s : Fin 2) (r : Fin 256) : PosShare TreeShare := shareTokN fullShare (256 * s.val + r.val)

/-- The same contents, as contents of a row's buffer, -/
def rowBuf (s : Fin 2) (u : ℕ) (r : Fin 256) : Buf (Elt F) ((row s r).view.loc (c : Thread nD τ)) := G xs sv u
/-- and the operand as the contents of its own. -/
def srcBuf (w : Fin 16896) : Buf (Elt F) ((src w).view.loc (c : Thread nD τ)) := xs

/-- A row of a slot at anything; -/
abbrev rowFree (s : Fin 2) (r : Fin 256) : sProp 𝕄 :=
  iprop(∃ f, (row s r).view.loc (c : Thread nD τ) ↦[(row s r).view.set]{fullShare} f)
/-- a row of a slot holding its row of tile `u`; -/
abbrev rowHas (s : Fin 2) (u : ℕ) (r : Fin 256) : sProp 𝕄 :=
  (row s r).view.loc (c : Thread nD τ) ↦[(row s r).view.set]{fullShare} (rowBuf c xs sv s u r)
/-- a share of the operand's row that goes there; -/
abbrev part (s : Fin 2) (u : ℕ) (r : Fin 256) : sProp 𝕄 :=
  (src (numAt sv u r.val)).view.loc (c : Thread nD τ) ↦[(src (numAt sv u r.val)).view.set]{tok s r} (srcBuf c xs (numAt sv u r.val))
/-- the same share of the operand's other rows. -/
abbrev others (s : Fin 2) (u : ℕ) (r : Fin 256) : sProp 𝕄 :=
  (src (numAt sv u r.val)).view.loc (c : Thread nD τ) ↦[Finset.univ \ (src (numAt sv u r.val)).view.set]{tok s r} (srcBuf c xs (numAt sv u r.val))
/-- That share of the whole operand. -/
abbrev share (s : Fin 2) (r : Fin 256) : sProp 𝕄 :=
  ((c : Thread nD τ).loc main_arg0) ↦{tok s r} xs

/-- What the copy of row `r` of tile `u` brings. -/
abbrev D (s : Fin 2) (u : ℕ) (r : Fin 256) : sProp 𝕄 := iprop(rowHas c xs sv s u r ∗ part c xs sv s u r)

instance D_storable (s : Fin 2) (u : ℕ) (r : Fin 256) : Storable (upEmb : UEmb _ 𝕄) (D c xs sv s u r) := by
  infer_instance

/-- Tile `u`'s copies into slot `s`, `j` of them started and `w` units waited for. -/
abbrev batch (s : Fin 2) (u j w : ℕ) : sProp 𝕄 := Batch (counters F) (c : Thread nD τ) (.dma (sem s)) () N (D c xs sv s u) j w

/-- A slot with no copy under way. -/
def Free (s : Fin 2) : sProp 𝕄 :=
  iprop(semVal ((c : Thread nD τ), SemLoc.dma (sem s)) 0 ∗ bigSep Finset.univ (rowFree (F := F) c s) ∗ bigSep Finset.univ (share c xs s))

/-- A slot some of whose copies are started. -/
def Issue (s : Fin 2) (u j : ℕ) : sProp 𝕄 :=
  iprop(batch c xs sv s u j 0 ∗ bigSep (pending j) (fun r => iprop(rowFree (F := F) c s r ∗ part c xs sv s u r))
    ∗ bigSep Finset.univ (others c xs sv s u))

/-- A slot all of whose copies are started. -/
def Flight (s : Fin 2) (u : ℕ) : sProp 𝕄 := iprop(batch c xs sv s u 256 0 ∗ bigSep Finset.univ (others c xs sv s u))

/-- A slot whose copies are all in. -/
def Full (s : Fin 2) (u : ℕ) : sProp 𝕄 :=
  iprop(semVal ((c : Thread nD τ), SemLoc.dma (sem s)) 0 ∗ bigSep Finset.univ (rowHas c xs sv s u) ∗ bigSep Finset.univ (share c xs s))

theorem share_split (s : Fin 2) (u : ℕ) (r : Fin 256) :
    (share c xs s r : sProp 𝕄) ⊣⊢ iprop(part c xs sv s u r ∗ others c xs sv s u r) :=
  pointsTo_split_subset (Finset.subset_univ _)

theorem has_free (s : Fin 2) (u : ℕ) (r : Fin 256) : (rowHas c xs sv s u r : sProp 𝕄) ⊢ rowFree c s r := by
  iintro H
  iexists (rowBuf c xs sv s u r)
  iexact H

/-- What a row's copy leaves is the row of the tile. -/
theorem landed (s : Fin 2) (u : ℕ) (r : Fin 256) (fd : Buf (Elt F) ((row s r).view.loc (c : Thread nD τ))) :
    iprop(((row s r).view.loc (c : Thread nD τ) ↦[(row s r).view.set]{fullShare}
        (row s r).view.write (Elt F) fd (ReadAs.same.apply ((src (numAt sv u r.val)).view.read (Elt F) (srcBuf c xs (numAt sv u r.val)))) Finset.univ)
      ∗ part c xs sv s u r) ⊢ (D c xs sv s u r : sProp 𝕄) := by
  refine sep_mono_l (Entails.of_eq (pointsTo_congr fun i hi => ?_))
  obtain ⟨p, -, rfl⟩ := Finset.mem_map.mp hi
  refine (View.write_emb_of_mem (v := (row s r).view) fd _ (Finset.mem_univ p)).trans ?_
  show xs ((src (numAt sv u r.val)).view.emb p) = G xs sv u ((row s r).view.emb p)
  rw [emb_row, emb_src]
  rfl

/-- A free slot is ready for its copies. -/
theorem free_issue (s : Fin 2) (u : ℕ) : Free c xs s ⊢ (iprop(|={Set.univ}=> Issue c xs sv s u 0) : sProp 𝕄) := by
  unfold Free Issue
  iintro ⟨Hs, Hr, Hx⟩
  imod (batch_alloc' (counters F) (c : Thread nD τ) () N (D c xs sv s u) (sm := .dma (sem s)) (E := Set.univ)) $$ Hs with HB
  imodintro
  isplitl [HB]; · iexact HB
  rw [show pending (n := 256) 0 = Finset.univ from Finset.filter_true_of_mem fun r _ => Nat.zero_le _,
    show (bigSep Finset.univ (fun r => iprop(rowFree (F := F) c s r ∗ part c xs sv s u r)) : sProp 𝕄)
      = iprop(bigSep Finset.univ (rowFree (F := F) c s) ∗ bigSep Finset.univ (part c xs sv s u)) from bigSep_sep _ _ _]
  ihave Hx' := (show (bigSep Finset.univ (share c xs s) : sProp 𝕄) ⊢ iprop(bigSep Finset.univ (part c xs sv s u) ∗ bigSep Finset.univ (others c xs sv s u)) from
    (bigSep_mono fun r _ => (share_split c xs sv s u r).1).trans (Entails.of_eq (bigSep_sep _ _ _))) $$ Hx
  icases Hx' with ⟨Hp, Ho⟩
  isplitl [Hr Hp]
  · isplitl [Hr]; · iexact Hr
    iexact Hp
  iexact Ho

theorem issue_flight (s : Fin 2) (u : ℕ) : Issue c xs sv s u 256 ⊢ (Flight c xs sv s u : sProp 𝕄) := by
  unfold Issue Flight
  iintro ⟨HB, -, Ho⟩
  isplitl [HB]; · iexact HB
  iexact Ho

/-- All units waited for, the copies are in. -/
theorem drained (s : Fin 2) (u : ℕ) : iprop(batch c xs sv s u 256 (N * 256) ∗ bigSep Finset.univ (others c xs sv s u))
    ⊢ (iprop(|={Set.univ}=> Full c xs sv s u) : sProp 𝕄) := by
  unfold Full
  iintro ⟨HB, Ho⟩
  imod (batch_collect' (counters F) (c : Thread nD τ) N_pos) $$ HB with ⟨HD, Hs⟩
  imodintro
  isplitl [Hs]; · iexact Hs
  ihave HD' := (show (bigSep Finset.univ (D c xs sv s u) : sProp 𝕄) ⊢ iprop(bigSep Finset.univ (rowHas c xs sv s u) ∗ bigSep Finset.univ (part c xs sv s u)) from
    Entails.of_eq (bigSep_sep _ _ _)) $$ HD
  icases HD' with ⟨Hr, Hp⟩
  isplitl [Hr]; · iexact Hr
  iapply (show iprop(bigSep Finset.univ (part c xs sv s u) ∗ bigSep Finset.univ (others c xs sv s u)) ⊢ (bigSep Finset.univ (share c xs s) : sProp 𝕄) from
    (Entails.of_eq (bigSep_sep _ _ _).symm).trans (bigSep_mono fun r _ => (share_split c xs sv s u r).2))
  isplitl [Hp]; · iexact Hp
  iexact Ho

theorem full_free (s : Fin 2) (u : ℕ) : Full c xs sv s u ⊢ (Free c xs s : sProp 𝕄) := by
  unfold Full Free
  iintro ⟨Hs, Hr, Hx⟩
  isplitl [Hs]; · iexact Hs
  isplitl [Hr]
  · iapply (show (bigSep Finset.univ (rowHas c xs sv s u) : sProp 𝕄) ⊢ bigSep Finset.univ (rowFree c s) from
      bigSep_mono fun r _ => has_free c xs sv s u r)
    iexact Hr
  iexact Hx

/-! ## Starting the copies -/

theorem rowAt_src (o : Fin 2 → ℕ) (h) (w : Fin 16896) (e : o = ![w.val, 0]) : rowAt (Memref.whole main_arg0) o h = src w := by
  subst e; rfl

theorem ret_bind' {E : Type → Type} {α β : Type} (a : α) (k : α → Prog E β) : (Prog.ret a).bind k = k a := rfl

/-- The list of row numbers, held to be read. -/
abbrev table (q : PosShare TreeShare) : sProp 𝕄 := ((c : Thread nD τ).loc main_arg1) ↦{q} sv

/-- One row's copy started. -/
theorem wp_start (s : Fin 2) (u : ℕ) (j : Fin 256) (m : Memref sig .tc .hbm S1x4096 .f32) (hm : m = src (numAt sv u j.val))
    {h1 h2 h3} {α : Type} (k : PUnit → P F α) (Q : α → sProp 𝕄) :
    iprop(part c xs sv s u j ∗ rowFree (F := F) c s j ∗ batch c xs sv s u j.val 0)
      ⊢ (iprop((batch c xs sv s u (j.val + 1) 0 -∗ wp frame (wpE (defs₀ (F := F)) Variants.none c none) Set.univ (k ⟨⟩) Q)
        -∗ wp frame (wpE (defs₀ (F := F)) Variants.none c none) Set.univ
          (.op (.enqueueDmaAs m (.here (row s j)) ReadAs.same (.dma (sem s)) h1 h2 h3) k) Q) : sProp 𝕄) := by
  subst hm
  iintro ⟨Hx, ⟨%fd, Hd⟩, HB⟩ Hk
  iapply (wp_dmaBatch (counters F) Variants.none (c : Thread nD τ) none (src := src (numAt sv u j.val)) (dst := row s j) (sm := .dma (sem s)) (via := ReadAs.same)
    (D := D c xs sv s u) (Sd := (row s j).view.set) (fd := fd) (fs := srcBuf c xs (numAt sv u j.val)) (q := tok s j)
    () N (amount_row s s j) (Finset.Subset.refl _) j.isLt (Nat.zero_le _) (landed c xs sv s u j fd)) $$ [Hx Hd HB]
  · isplitl [Hx]; · iexact Hx
    isplitl [Hd]; · iexact Hd
    iexact HB
  iexact Hk

set_option maxHeartbeats 1000000 in
theorem wp_startRow (q : PosShare TreeShare) (hsv : ∀ p, (sv p).toNat < 16896) {α : Type} (k : P F α) (Q : α → sProp 𝕄)
    (s : Fin 2) (u : ℕ) (j : Fin 256) (hu : 256 * u + j.val < 37888)
    (oS : Fin 1 → ℕ) (hS) (oM : Fin 1 → ℕ) (hM) (oD : Fin 3 → ℕ) (hD) (C : BitVec 32 → Prop) (dec) (hC)
    (hoS : oS = ![256 * u + j.val]) (hoM : oM = ![s.val]) (hoD : oD = ![s.val, j.val, 0])
    (hok : ∀ v : BitVec 32, v.toNat < 16896 → C v) :
    iprop(table c sv q ∗ Issue c xs sv s u j.val)
      ⊢ (iprop((iprop(table c sv q ∗ Issue c xs sv s u (j.val + 1)) -∗ wp frame (wpE (defs₀ (F := F)) Variants.none c none) Set.univ k Q)
        -∗ wp frame (wpE (defs₀ (F := F)) Variants.none c none) Set.univ
          (startRow (Memref.whole main_arg1) (Memref.whole main_arg0) (Memref.whole cc0_scratch0) cc0_scratch1 oS hS oM hM oD hD C dec hC k) Q) : sProp 𝕄) := by
  subst hoS hoM hoD
  unfold startRow smemLoad smemLoadElt Issue
  iintro ⟨HT, HB, Hp, Ho⟩ Hk
  simp only [Prog.bind_op, ret_bind']
  iapply (wp_load_rect (m := Memref.whole main_arg1) (r := Rect.unit (s := S37888) ![256 * u + j.val] S1.size hS)
    (S := Finset.univ) (q := q) (f := (sv : Buf (Elt F) (((Memref.whole main_arg1).access (Rect.unit (s := S37888) ![256 * u + j.val] S1.size hS)).loc (c : Thread nD τ))))
    Variants.none (c : Thread nD τ) none Set.univ (Finset.subset_univ _)) $$ HT
  iintro HT
  have hv : ∀ z, View.read (Elt F) ((Memref.whole main_arg1).access (Rect.unit (s := S37888) ![256 * u + j.val] S1.size hS)) sv z = wordAt sv u j.val := by
    intro z
    show sv _ = sv _
    congr 1
    funext a
    apply Fin.ext
    match a with
    | ⟨0, _⟩ =>
      have h0 : (z 0).val = 0 := Nat.lt_one_iff.mp (z 0).isLt
      show 256 * u + j.val + 1 * (z 0).val = (256 * u + j.val) % 37888
      rw [Nat.mod_eq_of_lt hu]; omega
  simp only [hv, ret_bind']
  have hw : (wordAt sv u j.val).toNat < 16896 := hsv _
  iapply (wp_assume Variants.none (c : Thread nD τ) none Set.univ (hok _ hw))
  simp only [Prog.bind_op, ret_bind']
  have hoff : k0_off10 (wordAt sv u j.val) = ![(numAt sv u j.val).val, 0] := by
    show ![(wordAt sv u j.val).toNat, 0] = ![(wordAt sv u j.val).toNat % 16896, 0]
    rw [Nat.mod_eq_of_lt hw]
  ihave Hp := (show (bigSep (pending j.val) (fun r => iprop(rowFree (F := F) c s r ∗ part c xs sv s u r)) : sProp 𝕄)
    ⊢ iprop((rowFree (F := F) c s j ∗ part c xs sv s u j) ∗ bigSep (pending (j.val + 1)) (fun r => iprop(rowFree (F := F) c s r ∗ part c xs sv s u r))) from
      Entails.of_eq (bigSep_pending_step _ j.val j.isLt)) $$ Hp
  icases Hp with ⟨⟨Hd, Hx⟩, Hp⟩
  iapply (wp_start c xs sv s u j _ (rowAt_src _ _ (numAt sv u j.val) hoff) (fun _ => k) Q) $$ [Hx Hd HB]
  · isplitl [Hx]; · iexact Hx
    isplitl [Hd]; · iexact Hd
    iexact HB
  iintro HB
  iapply Hk
  isplitl [HT]; · iexact HT
  isplitl [HB]; · iexact HB
  isplitl [Hp]; · iexact Hp
  iexact Ho

/-! ## The offsets the kernel computes -/

theorem i0_lt (i : grid0.Coords) : (i 0).val < 148 := (i 0).isLt

/-- The grid point of a tile. -/
def at_ (n : Fin 148) : grid0.Coords := fun | ⟨0, _⟩ => n

theorem eq_at (i : grid0.Coords) : i = at_ (i 0) := by
  funext a
  match a with
  | ⟨0, _⟩ => rfl

theorem off8_eq (i : grid0.Coords) : k0_off8 i = ![((i 0).val + 1) % 2] := by
  rw [eq_at i]
  exact (by decide +kernel : ∀ n : Fin 148, k0_off8 (at_ n) = ![(n.val + 1) % 2]) (i 0)

theorem off5_eq (i : grid0.Coords) : k0_off5 i = ![(i 0).val % 2] := by
  rw [eq_at i]
  exact (by decide +kernel : ∀ n : Fin 148, k0_off5 (at_ n) = ![n.val % 2]) (i 0)

theorem off1032_eq (i : grid0.Coords) : k0_off1032 i = ![(i 0).val % 2] := by
  rw [eq_at i]
  exact (by decide +kernel : ∀ n : Fin 148, k0_off1032 (at_ n) = ![n.val % 2]) (i 0)

theorem off1031_eq (i : grid0.Coords) : k0_off1031 i = ![(i 0).val % 2, 0, 0] := by
  rw [eq_at i]
  exact (by decide +kernel : ∀ n : Fin 148, k0_off1031 (at_ n) = ![n.val % 2, 0, 0]) (i 0)

theorem offS_eq (i : grid0.Coords) (r : ℕ) (hr : r ≤ 255) : offS i r = ![256 * ((i 0).val + 1) + r] := by
  have hi := i0_lt i
  have h : ((BitVec.ofNat 32 (i 0).val + 1#32) * 256#32 + BitVec.ofNat 32 r).toNat = 256 * ((i 0).val + 1) + r := by
    simp only [BitVec.toNat_add, BitVec.toNat_mul, BitVec.toNat_ofNat]
    omega
  show ![((BitVec.ofNat 32 (i 0).val + 1#32) * 256#32 + BitVec.ofNat 32 r).toNat] = _
  rw [h]

/-- The slot of a tile. -/
def slot (u : ℕ) : Fin 2 := ⟨u % 2, Nat.mod_lt _ (by decide)⟩

theorem wp_starts (q : PosShare TreeShare) (hsv : ∀ p, (sv p).toNat < 16896) {α : Type} (k : P F α) (Q : α → sProp 𝕄)
    (i : grid0.Coords) (hi : (i 0).val + 1 ≤ 147) (v0 : BitVec 32) (h2) (hS) (hD) : ∀ n, n ≤ 256 →
    (iprop(table c sv q ∗ Issue c xs sv (slot ((i 0).val + 1)) ((i 0).val + 1) (256 - n))
      ⊢ (iprop((iprop(table c sv q ∗ Issue c xs sv (slot ((i 0).val + 1)) ((i 0).val + 1) 256)
          -∗ wp frame (wpE (defs₀ (F := F)) Variants.none c none) Set.univ k Q)
        -∗ wp frame (wpE (defs₀ (F := F)) Variants.none c none) Set.univ
          (starts (Memref.whole main_arg1) (Memref.whole main_arg0) (Memref.whole cc0_scratch0) cc0_scratch1 i v0 h2 hS hD k n) Q) : sProp 𝕄))
  | 0, _ => by
    rw [starts_zero]
    iintro H Hk
    iapply Hk
    iexact H
  | m + 1, hm => by
    rw [starts_succ]
    iintro H Hk
    have e1 : 256 - (m + 1) = 255 - m := by omega
    have e2 : 255 - m + 1 = 256 - m := by omega
    rw [e1]
    iapply (wp_startRow c xs sv q hsv (starts (Memref.whole main_arg1) (Memref.whole main_arg0) (Memref.whole cc0_scratch0) cc0_scratch1 i v0 h2 hS hD k m)
      Q (slot ((i 0).val + 1)) ((i 0).val + 1) (⟨255 - m, by omega⟩ : Fin 256) (show 256 * ((i 0).val + 1) + (255 - m) < 37888 by omega)
      _ _ _ _ _ _ _ _ _ (offS_eq i (255 - m) (by omega)) (off8_eq i) (by
        show ![k0_off8 i 0, 255 - m, 0] = ![((i 0).val + 1) % 2, 255 - m, 0]
        rw [off8_eq]; rfl)
      (fun v hv _ a => by
        match a with
        | ⟨0, _⟩ => exact hv
        | ⟨1, _⟩ => exact Nat.le_refl 4096)) $$ H
    rw [e2]
    iintro H
    iapply (wp_starts q hsv k Q i hi v0 h2 hS hD m (by omega)) $$ H
    iexact Hk

/-! ## The three loops -/

variable {m2 : Memref sig .tc .smem S148 .i32} {m3 : Memref sig .tc .smem S1 .i32} {m5 m6 : Memref sig .tc .vmem S1x1x4096x1024 .bf16}
  {m7 : Memref sig .tc .vmem S256x1024 .bf16} (hm1 : (Memref.whole (main_arg1 : Ref sig .tc)).IsWhole) (hm2 : m2.IsWhole) (hm3 : m3.IsWhole)
  (hm4 : (Memref.whole (main_arg0 : Ref sig .tc)).IsWhole) (hm5 : m5.IsWhole) (hm6 : m6.IsWhole) (hm7 : m7.IsWhole) (hm8 : (Memref.whole (cc0_scratch0 : Ref sig .tc)).IsWhole)

theorem trips1 : k0_t1_loop.trips = 256 := by decide +kernel
theorem trips2 : k0_t2_loop.trips = 256 := by decide +kernel
theorem trips3 : k0_t3_loop.trips = 256 := by decide +kernel

/-- The first tile's rows are started, one a trip. -/
theorem wp_first (q : PosShare TreeShare) (hsv : ∀ p, (sv p).toNat < 16896) {α : Type} (k : Unit → P F α) (Q : α → sProp 𝕄)
    (i : grid0.Coords) (h1 : k0_cond1 i = 1#1) :
    iprop(table c sv q ∗ Issue c xs sv 0 0 0)
      ⊢ (iprop((iprop(table c sv q ∗ Issue c xs sv 0 0 256)
          -∗ wp frame (wpE (defs₀ (F := F)) Variants.none c none) Set.univ (k ⟨⟩) Q)
        -∗ wp frame (wpE (defs₀ (F := F)) Variants.none c none) Set.univ
          ((Scf.Loop.for k0_t1_loop (k0_t1_ok i h1) ⟨⟩ (k0_t1_body i (Memref.whole main_arg1) hm1 m2 hm2 m3 hm3 (Memref.whole main_arg0) hm4 m5 hm5 m6 hm6 m7 hm7 (Memref.whole cc0_scratch0) hm8 cc0_scratch1 h1)).bind k) Q) : sProp 𝕄) := by
  have hb := fun (t : Fin k0_t1_loop.trips) (acc : Unit) => (show
      (iprop(table c sv q ∗ Issue c xs sv 0 0 t.val) : sProp 𝕄) ⊢ wp frame (wpE (defs₀ (F := F)) Variants.none c none) Set.univ
        (k0_t1_body i (Memref.whole main_arg1) hm1 m2 hm2 m3 hm3 (Memref.whole main_arg0) hm4 m5 hm5 m6 hm6 m7 hm7 (Memref.whole cc0_scratch0) hm8 cc0_scratch1 h1 t acc) (fun _ => iprop(table c sv q ∗ Issue c xs sv 0 0 (t.val + 1))) from by
    have ht : t.val < 256 := trips1 ▸ t.isLt
    have hp : k0_t1_body (F := F) i (Memref.whole main_arg1) hm1 m2 hm2 m3 hm3 (Memref.whole main_arg0) hm4 m5 hm5 m6 hm6 m7 hm7 (Memref.whole cc0_scratch0) hm8 cc0_scratch1 h1 t acc
        = startRow (Memref.whole main_arg1) (Memref.whole main_arg0) (Memref.whole cc0_scratch0) cc0_scratch1
            (k0_off2 t) (k0_off2_inb i t h1) ![0] inb_S2_S1_0 (k0_off3 t) (k0_off3_inb i t h1) (k0_chk1 i) (k0_chk1.dec i)
            (fun v hw => k0_off4_inb i v hw h1) (Prog.ret ⟨⟩) := rfl
    rw [hp]
    iintro H
    iapply (wp_startRow c xs sv q hsv (Prog.ret ⟨⟩) (fun _ => iprop(table c sv q ∗ Issue c xs sv 0 0 (t.val + 1)))
      0 0 (⟨t.val, ht⟩ : Fin 256) (show 256 * 0 + t.val < 37888 by omega)
      (k0_off2 t) (k0_off2_inb i t h1) ![0] inb_S2_S1_0 (k0_off3 t) (k0_off3_inb i t h1) (k0_chk1 i) (k0_chk1.dec i) (fun v hw => k0_off4_inb i v hw h1)
      ((k0_off2_eq t).trans (by rw [Nat.mul_zero, Nat.zero_add])) rfl (k0_off3_eq t)
      (fun v hv _ a => by
        match a with
        | ⟨0, _⟩ => exact hv
        | ⟨1, _⟩ => exact Nat.le_refl 4096)) $$ H
    iintro H
    rw [wp_ret]
    imodintro
    iexact H)
  have h := Scf.wp_for_bind frame (wpE (defs₀ (F := F)) Variants.none (c : Thread nD τ) none) Set.univ k0_t1_loop.lb k0_t1_loop.ub k0_t1_loop.st
    (k0_t1_ok i h1) ⟨⟩ (k0_t1_body i (Memref.whole main_arg1) hm1 m2 hm2 m3 hm3 (Memref.whole main_arg0) hm4 m5 hm5 m6 hm6 m7 hm7 (Memref.whole cc0_scratch0) hm8 cc0_scratch1 h1) (fun n _ => iprop(table c sv q ∗ Issue c xs sv 0 0 n)) hb (kk := k) (Q := Q)
  iintro H Hk
  iapply h $$ H
  iintro %acc H
  iapply Hk
  iexact H

theorem count_le (M n : ℕ) (hn : n < 256) : n * M + 1 * M ≤ M * 256 := by
  rw [← Nat.add_mul, Nat.mul_comm M]
  exact Nat.mul_le_mul_right M hn

/-- Waiting for one row. -/
theorem wp_wait (s : Fin 2) (u n : ℕ) (hn : n < 256) (o : Fin 1 → ℕ) (ho) (eo : o = ![s.val])
    {m : Memref sig .tc .hbm S1x4096 .f32} (oD : Fin 3 → ℕ) (hD) {h1 h2} {α : Type} (k : PUnit → P F α) (Q : α → sProp 𝕄) :
    iprop(batch c xs sv s u 256 (n * N) ∗ ∃ W, owes (c : Thread nD τ) 0 W)
      ⊢ (iprop((iprop(batch c xs sv s u 256 ((n + 1) * N) ∗ ∃ W, owes (c : Thread nD τ) 0 W)
          -∗ wp frame (wpE (defs₀ (F := F)) Variants.none c none) Set.univ (k ⟨⟩) Q)
        -∗ wp frame (wpE (defs₀ (F := F)) Variants.none c none) Set.univ
          (.op (.waitDma2 (slotSem cc0_scratch1 o ho) m (slotRow (Memref.whole cc0_scratch0) oD hD) h1 h2) k) Q) : sProp 𝕄) := by
  subst eo
  iintro ⟨HB, ⟨%W, HO⟩⟩ Hk
  iapply (wp_waitBatchMul (counters F) Variants.none (c : Thread nD τ) none (sem := sem s) (dstw := slotRow (Memref.whole cc0_scratch0) oD hD) (srcw := m) (W := W) () 1
    (show (slotRow (Memref.whole cc0_scratch0) oD hD).view.dmaCredit = 1 * N from (Nat.one_mul N).symm)
    (D := D c xs sv s u) (j := 256) (u := n * N) (count_le N n hn)) $$ [HB HO]
  · isplitl [HB]; · iexact HB
    iexact HO
  rw [← Nat.add_mul]
  iintro ⟨HB, HO⟩
  iapply Hk
  isplitl [HB]; · iexact HB
  iexists _
  iexact HO

/-- A used tile's rows are waited for. -/
theorem wp_drain2 (u : ℕ) {α : Type} (k : Unit → P F α) (Q : α → sProp 𝕄) (i : grid0.Coords) (v0) (hw2) (h2) :
    iprop(Flight c xs sv (slot (i 0).val) u ∗ ∃ W, owes (c : Thread nD τ) 0 W)
      ⊢ (iprop((iprop(Full c xs sv (slot (i 0).val) u ∗ ∃ W, owes (c : Thread nD τ) 0 W)
          -∗ wp frame (wpE (defs₀ (F := F)) Variants.none c none) Set.univ (k ⟨⟩) Q)
        -∗ wp frame (wpE (defs₀ (F := F)) Variants.none c none) Set.univ
          ((Scf.Loop.for k0_t2_loop k0_t2_ok ⟨⟩ (k0_t2_body i (Memref.whole main_arg1) hm1 m2 hm2 m3 hm3 (Memref.whole main_arg0) hm4 m5 hm5 m6 hm6 m7 hm7 (Memref.whole cc0_scratch0) hm8 cc0_scratch1 (BitVec.ofNat 32 (i 0).val) v0 hw2 h2)).bind k) Q) : sProp 𝕄) := by
  have hb := fun (t : Fin k0_t2_loop.trips) (acc : Unit) => (show
      (iprop(batch c xs sv (slot (i 0).val) u 256 (t.val * N) ∗ ∃ W, owes (c : Thread nD τ) 0 W) : sProp 𝕄) ⊢ wp frame (wpE (defs₀ (F := F)) Variants.none c none) Set.univ
        ((k0_t2_body i (Memref.whole main_arg1) hm1 m2 hm2 m3 hm3 (Memref.whole main_arg0) hm4 m5 hm5 m6 hm6 m7 hm7 (Memref.whole cc0_scratch0) hm8 cc0_scratch1 (BitVec.ofNat 32 (i 0).val) v0 hw2 h2) t acc) (fun _ => iprop(batch c xs sv (slot (i 0).val) u 256 ((t.val + 1) * N) ∗ ∃ W, owes (c : Thread nD τ) 0 W)) from by
    have ht : t.val < 256 := trips2 ▸ t.isLt
    have hp : k0_t2_body (F := F) i (Memref.whole main_arg1) hm1 m2 hm2 m3 hm3 (Memref.whole main_arg0) hm4 m5 hm5 m6 hm6 m7 hm7 (Memref.whole cc0_scratch0) hm8 cc0_scratch1 (BitVec.ofNat 32 (i 0).val) v0 hw2 h2 t acc
        = .op (.waitDma2 (slotSem cc0_scratch1 (k0_off5 i) (k0_off5_inb i)) (rowAt (Memref.whole main_arg0) ![0, 0] inb_S16896x4096_S1x4096_0_0)
            (slotRow (Memref.whole cc0_scratch0) (k0_off6 i t) (k0_off6_inb i t)) (View.wordExact_bits rfl) ((View.wordExact_bits rfl).reshape _ _)) (fun _ => Prog.ret ⟨⟩) := rfl
    rw [hp]
    iintro H
    iapply (wp_wait c xs sv (slot (i 0).val) u t.val ht (k0_off5 i) (k0_off5_inb i) (off5_eq i)
        (k0_off6 i t) (k0_off6_inb i t) (m := rowAt (Memref.whole main_arg0) ![0, 0] inb_S16896x4096_S1x4096_0_0)
        (h1 := View.wordExact_bits rfl) (h2 := (View.wordExact_bits rfl).reshape _ _) (fun _ => Prog.ret ⟨⟩)
        (fun _ => iprop(batch c xs sv (slot (i 0).val) u 256 ((t.val + 1) * N) ∗ ∃ W, owes (c : Thread nD τ) 0 W))) $$ H
    iintro H
    rw [wp_ret]
    imodintro
    iexact H)
  have h := Scf.wp_for_bind frame (wpE (defs₀ (F := F)) Variants.none (c : Thread nD τ) none) Set.univ k0_t2_loop.lb k0_t2_loop.ub k0_t2_loop.st
    k0_t2_ok ⟨⟩ (k0_t2_body i (Memref.whole main_arg1) hm1 m2 hm2 m3 hm3 (Memref.whole main_arg0) hm4 m5 hm5 m6 hm6 m7 hm7 (Memref.whole cc0_scratch0) hm8 cc0_scratch1 (BitVec.ofNat 32 (i 0).val) v0 hw2 h2) (fun n _ => iprop(batch c xs sv (slot (i 0).val) u 256 (n * N) ∗ ∃ W, owes (c : Thread nD τ) 0 W)) hb (kk := k) (Q := Q)
  have e1 : k0_t2_loop.trips * N = N * 256 := by rw [trips2]; exact Nat.mul_comm _ _
  unfold Flight
  iintro ⟨⟨HB, Ho⟩, HO⟩ Hk
  iapply h $$ [HB HO]
  · rw [Nat.zero_mul]
    isplitl [HB]; · iexact HB
    iexact HO
  rw [show Scf.trips k0_t2_loop.lb k0_t2_loop.ub k0_t2_loop.st * N = N * 256 from e1]
  iintro %acc ⟨HB, HO⟩
  imod (drained c xs sv (slot (i 0).val) u) $$ [HB Ho] with HF
  · isplitl [HB]; · iexact HB
    iexact Ho
  iapply Hk
  isplitl [HF]; · iexact HF
  iexact HO

/-- The rows started past the last used tile are waited for. -/
theorem wp_drain3 (u : ℕ) {α : Type} (k : Unit → P F α) (Q : α → sProp 𝕄) (i : grid0.Coords) :
    iprop(Flight c xs sv (slot (i 0).val) u ∗ ∃ W, owes (c : Thread nD τ) 0 W)
      ⊢ (iprop((iprop(Full c xs sv (slot (i 0).val) u ∗ ∃ W, owes (c : Thread nD τ) 0 W)
          -∗ wp frame (wpE (defs₀ (F := F)) Variants.none c none) Set.univ (k ⟨⟩) Q)
        -∗ wp frame (wpE (defs₀ (F := F)) Variants.none c none) Set.univ
          ((Scf.Loop.for k0_t3_loop k0_t3_ok ⟨⟩ (k0_t3_body i (Memref.whole main_arg1) hm1 m2 hm2 m3 hm3 (Memref.whole main_arg0) hm4 m5 hm5 m6 hm6 m7 hm7 (Memref.whole cc0_scratch0) hm8 cc0_scratch1)).bind k) Q) : sProp 𝕄) := by
  have hb := fun (t : Fin k0_t3_loop.trips) (acc : Unit) => (show
      (iprop(batch c xs sv (slot (i 0).val) u 256 (t.val * N) ∗ ∃ W, owes (c : Thread nD τ) 0 W) : sProp 𝕄) ⊢ wp frame (wpE (defs₀ (F := F)) Variants.none c none) Set.univ
        ((k0_t3_body i (Memref.whole main_arg1) hm1 m2 hm2 m3 hm3 (Memref.whole main_arg0) hm4 m5 hm5 m6 hm6 m7 hm7 (Memref.whole cc0_scratch0) hm8 cc0_scratch1) t acc) (fun _ => iprop(batch c xs sv (slot (i 0).val) u 256 ((t.val + 1) * N) ∗ ∃ W, owes (c : Thread nD τ) 0 W)) from by
    have ht : t.val < 256 := trips3 ▸ t.isLt
    have hp : k0_t3_body (F := F) i (Memref.whole main_arg1) hm1 m2 hm2 m3 hm3 (Memref.whole main_arg0) hm4 m5 hm5 m6 hm6 m7 hm7 (Memref.whole cc0_scratch0) hm8 cc0_scratch1 t acc
        = .op (.waitDma2 (slotSem cc0_scratch1 (k0_off1032 i) (k0_off1032_inb i)) (rowAt (Memref.whole main_arg0) ![0, 0] inb_S16896x4096_S1x4096_0_0)
            (slotRow (Memref.whole cc0_scratch0) (k0_off1033 i t) (k0_off1033_inb i t)) (View.wordExact_bits rfl) ((View.wordExact_bits rfl).reshape _ _)) (fun _ => Prog.ret ⟨⟩) := rfl
    rw [hp]
    iintro H
    iapply (wp_wait c xs sv (slot (i 0).val) u t.val ht (k0_off1032 i) (k0_off1032_inb i) (off1032_eq i)
        (k0_off1033 i t) (k0_off1033_inb i t) (m := rowAt (Memref.whole main_arg0) ![0, 0] inb_S16896x4096_S1x4096_0_0)
        (h1 := View.wordExact_bits rfl) (h2 := (View.wordExact_bits rfl).reshape _ _) (fun _ => Prog.ret ⟨⟩)
        (fun _ => iprop(batch c xs sv (slot (i 0).val) u 256 ((t.val + 1) * N) ∗ ∃ W, owes (c : Thread nD τ) 0 W))) $$ H
    iintro H
    rw [wp_ret]
    imodintro
    iexact H)
  have h := Scf.wp_for_bind frame (wpE (defs₀ (F := F)) Variants.none (c : Thread nD τ) none) Set.univ k0_t3_loop.lb k0_t3_loop.ub k0_t3_loop.st
    k0_t3_ok ⟨⟩ (k0_t3_body i (Memref.whole main_arg1) hm1 m2 hm2 m3 hm3 (Memref.whole main_arg0) hm4 m5 hm5 m6 hm6 m7 hm7 (Memref.whole cc0_scratch0) hm8 cc0_scratch1) (fun n _ => iprop(batch c xs sv (slot (i 0).val) u 256 (n * N) ∗ ∃ W, owes (c : Thread nD τ) 0 W)) hb (kk := k) (Q := Q)
  have e1 : k0_t3_loop.trips * N = N * 256 := by rw [trips3]; exact Nat.mul_comm _ _
  unfold Flight
  iintro ⟨⟨HB, Ho⟩, HO⟩ Hk
  iapply h $$ [HB HO]
  · rw [Nat.zero_mul]
    isplitl [HB]; · iexact HB
    iexact HO
  rw [show Scf.trips k0_t3_loop.lb k0_t3_loop.ub k0_t3_loop.st * N = N * 256 from e1]
  iintro %acc ⟨HB, HO⟩
  imod (drained c xs sv (slot (i 0).val) u) $$ [HB Ho] with HF
  · isplitl [HB]; · iexact HB
    iexact Ho
  iapply Hk
  isplitl [HF]; · iexact HF
  iexact HO

end Cert.UpIdeal.Copy

end
-- ==== Proof.UpIdealBody.lean ====
module

public import proofs.«01_k».proof.Proof.UpIdealCopy

@[expose] public section

set_option maxRecDepth 16384

noncomputable section

/-! The experts' first product: one grid point. The first point starts the first tile's rows. A point of a used tile waits for
    its rows, starts the next tile's into the other slot, and stores the tile's gated product; the point after the last used
    tile waits for the rows started in vain; points from there on store zeros. -/

namespace Cert.UpIdeal.Body

open Cert.UpIdeal Cert.UpIdeal.Gen Cert.UpIdeal.Steps Cert.UpIdeal.Copy
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

abbrev rW : Rect S1x1x4096x1024 := Rect.unit (s := S1x1x4096x1024) ![0, 0, 0, 0] S1x1x4096x1024.size inb_S1x1x4096x1024_S1x1x4096x1024_0_0_0_0
abbrev rO : Rect S256x1024 := Rect.unit (s := S256x1024) ![0, 0] S256x1024.size inb_S256x1024_S256x1024_0_0
abbrev rN : Rect S1 := Rect.unit (s := S1) ![0] S1.size inb_S1_S1_0

/-- The one index of the table that counts the used tiles. -/
abbrev iN : S1.Idx := rN.emb (Shape.Idx.first (s := S1) (numel1_S1.symm ▸ Nat.one_pos))

/-! ## The conditions -/

theorem slt_iff (i : ℕ) (hi : i < 148) (n : BitVec 32) (hn : n.toNat ≤ 147) : (BitVec.ofNat 32 i).slt n = true ↔ i < n.toNat := by
  have h1 : (BitVec.ofNat 32 i).toNat = i := by rw [BitVec.toNat_ofNat]; omega
  rw [BitVec.slt_iff_toInt_lt, BitVec.toInt_eq_toNat_of_lt (by rw [h1]; omega), BitVec.toInt_eq_toNat_of_lt (by omega), h1]
  omega

theorem cond1_iff (i : grid0.Coords) : k0_cond1 i = 1#1 ↔ (i 0).val = 0 := by
  rw [eq_at i]
  exact (by decide +kernel : ∀ n : Fin 148, k0_cond1 (at_ n) = 1#1 ↔ n.val = 0) (i 0)

theorem cond2_iff (i : grid0.Coords) (n : BitVec 32) (hn : n.toNat ≤ 147) : k0_cond2 i n = 1#1 ↔ (i 0).val < n.toNat := by
  rw [← slt_iff _ (i0_lt i) n hn]
  unfold k0_cond2
  simp only [Scalar.cmpi, Scalar.extui, IntOp.cmpi]
  cases h : (BitVec.ofNat 32 (i 0).val).slt n <;> simp [h]

theorem cond4_iff (i : grid0.Coords) (n : BitVec 32) (hn : n.toNat ≤ 147) : k0_cond4 i n = 1#1 ↔ ¬ (i 0).val < n.toNat := by
  rw [← slt_iff _ (i0_lt i) n hn]
  unfold k0_cond4
  simp only [Scalar.cmpi, Scalar.extui, IntOp.cmpi]
  cases h : (BitVec.ofNat 32 (i 0).val).slt n <;> simp [h, BitVec.sle_eq_not_slt]

theorem cond3_iff (i : grid0.Coords) (n : BitVec 32) (hn : n.toNat ≤ 147) :
    Scalar.cmpi .ne (Scalar.extui (Scalar.cmpi .eq (BitVec.ofNat 32 (i 0).val) n) : BitVec 32) 0#32 = 1#1 ↔ (i 0).val = n.toNat := by
  have hi := i0_lt i
  have h1 : (BitVec.ofNat 32 (i 0).val).toNat = (i 0).val := by rw [BitVec.toNat_ofNat]; omega
  have e : (BitVec.ofNat 32 (i 0).val = n) ↔ (i 0).val = n.toNat :=
    ⟨fun h => by rw [← h, h1], fun h => BitVec.eq_of_toNat_eq (by rw [h1, h])⟩
  rw [← e]
  simp only [Scalar.cmpi, Scalar.extui, IntOp.cmpi]
  by_cases h : BitVec.ofNat 32 (i 0).val = n
  · simp [h]
  · have hb : (BitVec.ofNat 32 (i 0).val == n) = false := beq_eq_false_iff_ne.mpr h
    rw [hb]
    exact iff_of_false (by decide) h

/-- The places of the next tile's row numbers lie in the list, at a used tile. -/
theorem offS_inb (i : grid0.Coords) (h : (i 0).val + 1 ≤ 147) (r : ℕ) (hr : r ≤ 255) : ∀ a, offS i r a + S1.size a ≤ S37888.size a
  | ⟨0, _⟩ => by
    rw [offS_eq i r hr]
    show 256 * ((i 0).val + 1) + r + 1 ≤ 37888
    omega

theorem offD_inb (i : grid0.Coords) (r : ℕ) (hr : r ≤ 255) : ∀ a, offD i r a + S1x1x4096.size a ≤ S2x256x4096.size a
  | ⟨0, _⟩ => by
    show k0_off8 i 0 + 1 ≤ 2
    rw [off8_eq i]
    show ((i 0).val + 1) % 2 + 1 ≤ 2
    omega
  | ⟨1, _⟩ => by show r + 1 ≤ 256; omega
  | ⟨2, _⟩ => Nat.le_refl 4096

set_option maxHeartbeats 4000000 in
theorem chk2_ok (i : grid0.Coords) (n : BitVec 32) (hn : n.toNat ≤ 147) : k0_chk2 i n := by
  have H : ∀ r, r ≤ 255 → k0_cond2 i n = 1#1 → ∀ a, offS i r a + S1.size a ≤ S37888.size a := fun r hr h =>
    offS_inb i (by have := (cond2_iff i n hn).1 h; omega) r hr
  exact ⟨⟨fun h => H 0 (by decide) h, fun h => H 1 (by decide) h, fun h => H 2 (by decide) h, fun h => H 3 (by decide) h, fun h => H 4 (by decide) h, fun h => H 5 (by decide) h, fun h => H 6 (by decide) h, fun h => H 7 (by decide) h, fun h => H 8 (by decide) h, fun h => H 9 (by decide) h, fun h => H 10 (by decide) h, fun h => H 11 (by decide) h, fun h => H 12 (by decide) h, fun h => H 13 (by decide) h, fun h => H 14 (by decide) h, fun h => H 15 (by decide) h, fun h => H 16 (by decide) h, fun h => H 17 (by decide) h, fun h => H 18 (by decide) h, fun h => H 19 (by decide) h, fun h => H 20 (by decide) h, fun h => H 21 (by decide) h, fun h => H 22 (by decide) h, fun h => H 23 (by decide) h, fun h => H 24 (by decide) h, fun h => H 25 (by decide) h, fun h => H 26 (by decide) h, fun h => H 27 (by decide) h, fun h => H 28 (by decide) h, fun h => H 29 (by decide) h, fun h => H 30 (by decide) h, fun h => H 31 (by decide) h⟩, ⟨fun h => H 32 (by decide) h, fun h => H 33 (by decide) h, fun h => H 34 (by decide) h, fun h => H 35 (by decide) h, fun h => H 36 (by decide) h, fun h => H 37 (by decide) h, fun h => H 38 (by decide) h, fun h => H 39 (by decide) h, fun h => H 40 (by decide) h, fun h => H 41 (by decide) h, fun h => H 42 (by decide) h, fun h => H 43 (by decide) h, fun h => H 44 (by decide) h, fun h => H 45 (by decide) h, fun h => H 46 (by decide) h, fun h => H 47 (by decide) h, fun h => H 48 (by decide) h, fun h => H 49 (by decide) h, fun h => H 50 (by decide) h, fun h => H 51 (by decide) h, fun h => H 52 (by decide) h, fun h => H 53 (by decide) h, fun h => H 54 (by decide) h, fun h => H 55 (by decide) h, fun h => H 56 (by decide) h, fun h => H 57 (by decide) h, fun h => H 58 (by decide) h, fun h => H 59 (by decide) h, fun h => H 60 (by decide) h, fun h => H 61 (by decide) h, fun h => H 62 (by decide) h, fun h => H 63 (by decide) h⟩, ⟨fun h => H 64 (by decide) h, fun h => H 65 (by decide) h, fun h => H 66 (by decide) h, fun h => H 67 (by decide) h, fun h => H 68 (by decide) h, fun h => H 69 (by decide) h, fun h => H 70 (by decide) h, fun h => H 71 (by decide) h, fun h => H 72 (by decide) h, fun h => H 73 (by decide) h, fun h => H 74 (by decide) h, fun h => H 75 (by decide) h, fun h => H 76 (by decide) h, fun h => H 77 (by decide) h, fun h => H 78 (by decide) h, fun h => H 79 (by decide) h, fun h => H 80 (by decide) h, fun h => H 81 (by decide) h, fun h => H 82 (by decide) h, fun h => H 83 (by decide) h, fun h => H 84 (by decide) h, fun h => H 85 (by decide) h, fun h => H 86 (by decide) h, fun h => H 87 (by decide) h, fun h => H 88 (by decide) h, fun h => H 89 (by decide) h, fun h => H 90 (by decide) h, fun h => H 91 (by decide) h, fun h => H 92 (by decide) h, fun h => H 93 (by decide) h, fun h => H 94 (by decide) h, fun h => H 95 (by decide) h⟩, ⟨fun h => H 96 (by decide) h, fun h => H 97 (by decide) h, fun h => H 98 (by decide) h, fun h => H 99 (by decide) h, fun h => H 100 (by decide) h, fun h => H 101 (by decide) h, fun h => H 102 (by decide) h, fun h => H 103 (by decide) h, fun h => H 104 (by decide) h, fun h => H 105 (by decide) h, fun h => H 106 (by decide) h, fun h => H 107 (by decide) h, fun h => H 108 (by decide) h, fun h => H 109 (by decide) h, fun h => H 110 (by decide) h, fun h => H 111 (by decide) h, fun h => H 112 (by decide) h, fun h => H 113 (by decide) h, fun h => H 114 (by decide) h, fun h => H 115 (by decide) h, fun h => H 116 (by decide) h, fun h => H 117 (by decide) h, fun h => H 118 (by decide) h, fun h => H 119 (by decide) h, fun h => H 120 (by decide) h, fun h => H 121 (by decide) h, fun h => H 122 (by decide) h, fun h => H 123 (by decide) h, fun h => H 124 (by decide) h, fun h => H 125 (by decide) h, fun h => H 126 (by decide) h, fun h => H 127 (by decide) h⟩, ⟨fun h => H 128 (by decide) h, fun h => H 129 (by decide) h, fun h => H 130 (by decide) h, fun h => H 131 (by decide) h, fun h => H 132 (by decide) h, fun h => H 133 (by decide) h, fun h => H 134 (by decide) h, fun h => H 135 (by decide) h, fun h => H 136 (by decide) h, fun h => H 137 (by decide) h, fun h => H 138 (by decide) h, fun h => H 139 (by decide) h, fun h => H 140 (by decide) h, fun h => H 141 (by decide) h, fun h => H 142 (by decide) h, fun h => H 143 (by decide) h, fun h => H 144 (by decide) h, fun h => H 145 (by decide) h, fun h => H 146 (by decide) h, fun h => H 147 (by decide) h, fun h => H 148 (by decide) h, fun h => H 149 (by decide) h, fun h => H 150 (by decide) h, fun h => H 151 (by decide) h, fun h => H 152 (by decide) h, fun h => H 153 (by decide) h, fun h => H 154 (by decide) h, fun h => H 155 (by decide) h, fun h => H 156 (by decide) h, fun h => H 157 (by decide) h, fun h => H 158 (by decide) h, fun h => H 159 (by decide) h⟩, ⟨fun h => H 160 (by decide) h, fun h => H 161 (by decide) h, fun h => H 162 (by decide) h, fun h => H 163 (by decide) h, fun h => H 164 (by decide) h, fun h => H 165 (by decide) h, fun h => H 166 (by decide) h, fun h => H 167 (by decide) h, fun h => H 168 (by decide) h, fun h => H 169 (by decide) h, fun h => H 170 (by decide) h, fun h => H 171 (by decide) h, fun h => H 172 (by decide) h, fun h => H 173 (by decide) h, fun h => H 174 (by decide) h, fun h => H 175 (by decide) h, fun h => H 176 (by decide) h, fun h => H 177 (by decide) h, fun h => H 178 (by decide) h, fun h => H 179 (by decide) h, fun h => H 180 (by decide) h, fun h => H 181 (by decide) h, fun h => H 182 (by decide) h, fun h => H 183 (by decide) h, fun h => H 184 (by decide) h, fun h => H 185 (by decide) h, fun h => H 186 (by decide) h, fun h => H 187 (by decide) h, fun h => H 188 (by decide) h, fun h => H 189 (by decide) h, fun h => H 190 (by decide) h, fun h => H 191 (by decide) h⟩, ⟨fun h => H 192 (by decide) h, fun h => H 193 (by decide) h, fun h => H 194 (by decide) h, fun h => H 195 (by decide) h, fun h => H 196 (by decide) h, fun h => H 197 (by decide) h, fun h => H 198 (by decide) h, fun h => H 199 (by decide) h, fun h => H 200 (by decide) h, fun h => H 201 (by decide) h, fun h => H 202 (by decide) h, fun h => H 203 (by decide) h, fun h => H 204 (by decide) h, fun h => H 205 (by decide) h, fun h => H 206 (by decide) h, fun h => H 207 (by decide) h, fun h => H 208 (by decide) h, fun h => H 209 (by decide) h, fun h => H 210 (by decide) h, fun h => H 211 (by decide) h, fun h => H 212 (by decide) h, fun h => H 213 (by decide) h, fun h => H 214 (by decide) h, fun h => H 215 (by decide) h, fun h => H 216 (by decide) h, fun h => H 217 (by decide) h, fun h => H 218 (by decide) h, fun h => H 219 (by decide) h, fun h => H 220 (by decide) h, fun h => H 221 (by decide) h, fun h => H 222 (by decide) h, fun h => H 223 (by decide) h⟩, ⟨fun h => H 224 (by decide) h, fun h => H 225 (by decide) h, fun h => H 226 (by decide) h, fun h => H 227 (by decide) h, fun h => H 228 (by decide) h, fun h => H 229 (by decide) h, fun h => H 230 (by decide) h, fun h => H 231 (by decide) h, fun h => H 232 (by decide) h, fun h => H 233 (by decide) h, fun h => H 234 (by decide) h, fun h => H 235 (by decide) h, fun h => H 236 (by decide) h, fun h => H 237 (by decide) h, fun h => H 238 (by decide) h, fun h => H 239 (by decide) h, fun h => H 240 (by decide) h, fun h => H 241 (by decide) h, fun h => H 242 (by decide) h, fun h => H 243 (by decide) h, fun h => H 244 (by decide) h, fun h => H 245 (by decide) h, fun h => H 246 (by decide) h, fun h => H 247 (by decide) h, fun h => H 248 (by decide) h, fun h => H 249 (by decide) h, fun h => H 250 (by decide) h, fun h => H 251 (by decide) h, fun h => H 252 (by decide) h, fun h => H 253 (by decide) h, fun h => H 254 (by decide) h, fun h => H 255 (by decide) h⟩⟩

/-! ## A slot's rows, together -/

variable (c : Dev nD) (xs : S16896x4096.Idx → Elt F .f32) (sv : S37888.Idx → BitVec 32)

/-- A tile's rows. -/
def tile (u : ℕ) : Vec F S1x256x4096 .f32 := fun z => xs (ix2 (numAt sv u (z 1).val) (show Fin 4096 from z 2))

/-- The elements of a row of a slot, -/
abbrev rowSet (s : Fin 2) (r : Fin 256) : Finset (S2x256x4096.Idx) := (row s r).view.set

/-- and of a slot. -/
abbrev slotSet (s : Fin 2) : Finset (S2x256x4096.Idx) := Finset.univ.biUnion fun r : Fin 256 => rowSet s r

theorem mem_row (s : Fin 2) (r : Fin 256) (y : S2x256x4096.Idx) (h : y ∈ rowSet s r) : y 1 = r := by
  obtain ⟨p, -, hp⟩ := Finset.mem_map.mp h
  have e : y = ix3 s r (show Fin 4096 from p 1) := hp.symm.trans (emb_row s r p)
  rw [e]
  rfl

theorem row_disj (s : Fin 2) : ∀ r ∈ (Finset.univ : Finset (Fin 256)), ∀ r' ∈ (Finset.univ : Finset (Fin 256)), r ≠ r' → Disjoint (rowSet s r) (rowSet s r') := by
  intro r _ r' _ hne
  refine Finset.disjoint_left.mpr fun y h h' => hne ?_
  rw [← mem_row s r y h, ← mem_row s r' y h']

/-- The slot's contents, as contents of the scratch buffer. -/
def slotBuf (u : ℕ) : Buf (Elt F) ((c : Thread nD τ).loc cc0_scratch0) := G xs sv u

theorem rows_join (s : Fin 2) (u : ℕ) : (bigSep Finset.univ (rowHas c xs sv s u) : sProp 𝕄)
    = (((c : Thread nD τ).loc cc0_scratch0) ↦[slotSet s]{fullShare} (slotBuf c xs sv u)) :=
  (pointsTo_biUnion (Ix := Unit) (Val := Elt F) (Name := ℕ) (U := Pipeline.UD sig nD τ) (Lvl := ℕ) (ℓ := (c : Thread nD τ).loc cc0_scratch0) (q := fullShare) (f := slotBuf c xs sv u) Finset.univ (rowSet s) (row_disj s)).symm

theorem load_sub (i : grid0.Coords) (o : Fin 3 → ℕ) (ho) (eo : o = ![(i 0).val % 2, 0, 0]) :
    (((Memref.whole cc0_scratch0).access (Rect.unit (s := S2x256x4096) o S1x256x4096.size ho)).set : Finset S2x256x4096.Idx) ⊆ slotSet (slot (i 0).val) := by
  subst eo
  intro y hy
  obtain ⟨p, -, rfl⟩ := Finset.mem_map.mp hy
  refine Finset.mem_biUnion.mpr ⟨(show Fin 256 from p 1), Finset.mem_univ _, ?_⟩
  have h := View.emb_mem_set (row (slot (i 0).val) (show Fin 256 from p 1)).view (ix2 (0 : Fin 1) (show Fin 4096 from p 2))
  rw [emb_row] at h
  refine cast (congrArg (· ∈ _) ?_) h
  funext a
  apply Fin.ext
  have h0 : (p 0).val = 0 := Nat.lt_one_iff.mp (p 0).isLt
  match a with
  | ⟨0, _⟩ => show (i 0).val % 2 = (i 0).val % 2 + 1 * (p 0).val; omega
  | ⟨1, _⟩ => show (p 1).val = 0 + 1 * (p 1).val; omega
  | ⟨2, _⟩ => show (p 2).val = 0 + 1 * (p 2).val; omega

theorem load_read (i : grid0.Coords) (o : Fin 3 → ℕ) (ho) (eo : o = ![(i 0).val % 2, 0, 0]) (u : ℕ) :
    (((Memref.whole cc0_scratch0).access (Rect.unit (s := S2x256x4096) o S1x256x4096.size ho)).read (Elt F) (slotBuf c xs sv u)) = tile xs sv u := by
  subst eo
  funext z
  show G xs sv u _ = _
  unfold G tile
  have e1 : ∀ a : Fin 3, a ≠ 0 → ((((Memref.whole cc0_scratch0).access (Rect.unit (s := S2x256x4096) ![(i 0).val % 2, 0, 0] S1x256x4096.size ho)).emb z : S2x256x4096.Idx) a).val = (z a).val := by
    intro a ha
    match a with
    | ⟨0, _⟩ => exact absurd rfl ha
    | ⟨1, _⟩ => show 0 + 1 * (z 1).val = (z 1).val; omega
    | ⟨2, _⟩ => show 0 + 1 * (z 2).val = (z 2).val; omega
  congr 1
  congr 1
  · exact congrArg _ (e1 1 (by decide))
  · exact Fin.ext (e1 2 (by decide))

/-! ## The slots between points -/

/-- The slots as point `t` finds them, `n` tiles being used: tile `t`'s rows on the way if the previous point started them. -/
def slots (n t : ℕ) : sProp 𝕄 :=
  if 1 ≤ t ∧ t ≤ n then iprop(Flight c xs sv (slot t) t ∗ Free c xs (slot (t + 1))) else iprop(Free c xs 0 ∗ Free c xs 1)

/-- The slots once the first tile's rows are started too. -/
def mid (n t : ℕ) : sProp 𝕄 :=
  if t ≤ n then iprop(Flight c xs sv (slot t) t ∗ Free c xs (slot (t + 1))) else iprop(Free c xs 0 ∗ Free c xs 1)

theorem free_both (t : ℕ) : iprop(Free c xs (slot t) ∗ Free c xs (slot (t + 1))) ⊢ (iprop(Free c xs 0 ∗ Free c xs 1) : sProp 𝕄) := by
  rcases Nat.mod_two_eq_zero_or_one t with h | h
  · rw [show slot t = 0 from Fin.ext h, show slot (t + 1) = 1 from Fin.ext (show (t + 1) % 2 = 1 by omega)]
  · rw [show slot t = 1 from Fin.ext h, show slot (t + 1) = 0 from Fin.ext (show (t + 1) % 2 = 0 by omega)]
    iintro ⟨H1, H0⟩
    isplitl [H0]; · iexact H0
    iexact H1

/-- What a point stores: the product while its tile is a used one, zeros after. -/
def outAt (i : grid0.Coords) (n : BitVec 32) (wg wu : Vec F S1x1x4096x1024 .bf16) : Vec F S256x1024 .bf16 :=
  if k0_cond2 i n = 1#1 then View.canon [⟨rO, k0_pay1 (k0_pay3 (tile xs sv (i 0).val)) (k0_pay4 (View.ld wg rW)) (View.ld wu rW)⟩]
  else View.canon [⟨rO, k0_pay2 (F := F)⟩]

theorem cover_out (p : Vec F S256x1024 .bf16) (y : S256x1024.Idx) :
    ∃ pc ∈ ([⟨rO, p⟩] : List (View.Piece (Elt F) S256x1024 .bf16)), y ∈ pc.1.set :=
  View.cover_of_tiled [⟨rO, p⟩] S256x1024.size (by rfl) y

theorem tbl_read (f : Buf (Elt F) ((c : Thread nD τ).loc main_arg5)) :
    (((Memref.whole main_arg5).access rN : View sig .tc _ _ _).read (Elt F) f) (Shape.Idx.first (s := S1) (numel1_S1.symm ▸ Nat.one_pos))
      = f iN := rfl

/-! ## The body in parts -/

variable (m2 : Memref sig .tc .smem S148 .i32) (hm2 : m2.IsWhole)
    (m5 : Memref sig .tc .vmem S1x1x4096x1024 .bf16) (hm5 : m5.IsWhole) (m6 : Memref sig .tc .vmem S1x1x4096x1024 .bf16) (hm6 : m6.IsWhole)
    (m7 : Memref sig .tc .vmem S256x1024 .bf16) (hm7 : m7.IsWhole)

/-- Store zeros, past the used tiles. -/
def zeros (i : grid0.Coords) (n : BitVec 32) : P F PUnit :=
  if h4 : k0_cond4 i n = 1#1 then do
    let v : Vec F S256x1024 .bf16 ← Prog.lift (.load m7 rO.toLoadRect (View.loadsAt_vmem h_S256x1024))
    Prog.lift (.store m7 rO (k0_pay2 (F := F)) Finset.univ (View.stores_vmem h_S256x1024 (hm7.storeExact_slice rfl _ packedbf16_S256x1024_S256x1024_0_0) (fun _ => rfl)) (.inl rfl))
    pure ⟨⟩
  else do
    pure ⟨⟩

/-- At the point after the last used tile, wait for the rows started in vain; then the zeros. -/
def after (i : grid0.Coords) (n : BitVec 32) : P F PUnit :=
  if Scalar.cmpi .ne (Scalar.extui (Scalar.cmpi .eq (BitVec.ofNat 32 (i 0).val) n) : BitVec 32) 0#32 = 1#1 then
    (Scf.Loop.for k0_t3_loop k0_t3_ok ⟨⟩ (k0_t3_body i (Memref.whole main_arg1) (Memref.isWhole_whole _) m2 hm2 (Memref.whole main_arg5) (Memref.isWhole_whole _) (Memref.whole main_arg0) (Memref.isWhole_whole _) m5 hm5 m6 hm6 m7 hm7 (Memref.whole cc0_scratch0) (Memref.isWhole_whole _) cc0_scratch1)).bind fun _ => zeros m7 hm7 i n
  else zeros m7 hm7 i n

/-- The last load and the store of a used tile, from its rows `x` and its first weights `w`. -/
def product (i : grid0.Coords) (n : BitVec 32) (x : FVec F S256x4096 .bf16) (w : FVec F S4096x1024 .bf16) : P F PUnit := do
  let v : Vec F S1x1x4096x1024 .bf16 ← Prog.lift (.load m6 rW.toLoadRect (View.loadsAt_vmem h_S1x1x4096x1024))
  let v' : Vec F S256x1024 .bf16 ← Prog.lift (.load m7 rO.toLoadRect (View.loadsAt_vmem h_S256x1024))
  Prog.lift (.store m7 rO (k0_pay1 x w v) Finset.univ (View.stores_vmem h_S256x1024 (hm7.storeExact_slice rfl _ packedbf16_S256x1024_S256x1024_0_0) (fun _ => rfl)) (.inl rfl))
  after m2 hm2 m5 hm5 m6 hm6 m7 hm7 i n

/-- A used tile's loads of its weights and its store, from its rows `x`. -/
def weights (i : grid0.Coords) (n : BitVec 32) (x : FVec F S256x4096 .bf16) : P F PUnit :=
  Prog.op (.load m5 rW.toLoadRect (View.loadsAt_vmem h_S1x1x4096x1024)) fun (w : Vec F S1x1x4096x1024 .bf16) =>
  Prog.op (.load m6 rW.toLoadRect (View.loadsAt_vmem h_S1x1x4096x1024)) fun (v : Vec F S1x1x4096x1024 .bf16) =>
  Prog.op (.load m7 rO.toLoadRect (View.loadsAt_vmem h_S256x1024)) fun (_ : Vec F S256x1024 .bf16) =>
  Prog.op (.store m7 rO (k0_pay1 x (k0_pay4 w) v) Finset.univ (View.stores_vmem h_S256x1024 (hm7.storeExact_slice rfl _ packedbf16_S256x1024_S256x1024_0_0) (fun _ => rfl)) (.inl rfl)) fun _ =>
  after m2 hm2 m5 hm5 m6 hm6 m7 hm7 i n

/-- A used tile's part, as the kernel writes it out. -/
def used (i : grid0.Coords) (n : BitVec 32) (hw2 : k0_chk2 i n) (h2 : k0_cond2 i n = 1#1) : P F PUnit :=
  Prog.bind (k0_part155 (F := F) i (Memref.whole main_arg1) (Memref.isWhole_whole _) m2 hm2 (Memref.whole main_arg5) (Memref.isWhole_whole _) (Memref.whole main_arg0) (Memref.isWhole_whole _) m5 hm5 m6 hm6 m7 hm7 (Memref.whole cc0_scratch0) (Memref.isWhole_whole _) cc0_scratch1 (BitVec.ofNat 32 (i 0).val) n hw2 h2) fun x =>
    Prog.bind (k0_part156 (F := F) i (Memref.whole main_arg1) (Memref.isWhole_whole _) m2 hm2 (Memref.whole main_arg5) (Memref.isWhole_whole _) (Memref.whole main_arg0) (Memref.isWhole_whole _) m5 hm5 m6 hm6 m7 hm7 (Memref.whole cc0_scratch0) (Memref.isWhole_whole _) cc0_scratch1 (BitVec.ofNat 32 (i 0).val) n hw2 h2 x.1 x.2.1 x.2.2.1 x.2.2.2.1 x.2.2.2.2) fun y =>
    Prog.bind (k0_part157 (F := F) i (Memref.whole main_arg1) (Memref.isWhole_whole _) m2 hm2 (Memref.whole main_arg5) (Memref.isWhole_whole _) (Memref.whole main_arg0) (Memref.isWhole_whole _) m5 hm5 m6 hm6 m7 hm7 (Memref.whole cc0_scratch0) (Memref.isWhole_whole _) cc0_scratch1 (BitVec.ofNat 32 (i 0).val) n hw2 h2 y.1 y.2.1 y.2.2.1 y.2.2.2.1 y.2.2.2.2) fun z =>
    product m2 hm2 m5 hm5 m6 hm6 m7 hm7 i n z.1 z.2

/-- What follows the first point's loop. -/
def rest (i : grid0.Coords) (n : BitVec 32) (hw2 : k0_chk2 i n) : P F PUnit :=
  if h2 : k0_cond2 i n = 1#1 then used m2 hm2 m5 hm5 m6 hm6 m7 hm7 i n hw2 h2
  else after m2 hm2 m5 hm5 m6 hm6 m7 hm7 i n

/-- What a point leaves, at slots `S` and result `o`. -/
abbrev left (q : PosShare TreeShare) (wg wu : Vec F S1x1x4096x1024 .bf16) (S : sProp 𝕄) (o : Vec F S256x1024 .bf16) : sProp 𝕄 :=
  iprop(table c sv q ∗ S ∗ (∃ W, owes (c : Thread nD τ) 0 W) ∗ owns (c : Thread nD τ) m5 fullShare wg ∗ owns (c : Thread nD τ) m6 fullShare wu ∗ owns (c : Thread nD τ) m7 fullShare o)

/-- What the rest of a point starts from. -/
abbrev held (q : PosShare TreeShare) (wg wu : Vec F S1x1x4096x1024 .bf16) (S : sProp 𝕄) : sProp 𝕄 :=
  iprop(table c sv q ∗ S ∗ (∃ W, owes (c : Thread nD τ) 0 W) ∗ owns (c : Thread nD τ) m5 fullShare wg ∗ owns (c : Thread nD τ) m6 fullShare wu ∗ (∃ d, owns (c : Thread nD τ) m7 fullShare d))

set_option maxHeartbeats 1000000 in
/-- Past the used tiles: zeros. -/
theorem wp_zeros (i : grid0.Coords) (n : BitVec 32) (hn : n.toNat ≤ 147) (hi : ¬ (i 0).val < n.toNat) (q : PosShare TreeShare)
    (wg wu : Vec F S1x1x4096x1024 .bf16) (S : sProp 𝕄) (K : PUnit → sProp 𝕄) :
    iprop(held c sv m5 m6 m7 q wg wu S ∗ (left c sv m5 m6 m7 q wg wu S (outAt xs sv i n wg wu) -∗ K ⟨⟩))
      ⊢ wp frame (wpE (defs₀ (F := F)) Variants.none c none) Set.univ (zeros m7 hm7 i n) K := by
  unfold zeros
  rw [dif_pos ((cond4_iff i n hn).2 hi)]
  unfold left held owns
  iintro ⟨⟨HT, HS, HO, H0, H1, ⟨%d2, %f2, -, H2⟩⟩, Hk⟩
  sl_exec
  sl_step
  iapply Hk
  isplitl [HT]; · iexact HT
  isplitl [HS]; · iexact HS
  isplitl [HO]; · iexact HO
  isplitl [H0]; · iexact H0
  isplitl [H1]; · iexact H1
  iexists _; isplitr
  swap; · iexact H2
  ipureintro
  unfold outAt
  rw [if_neg (fun h => hi ((cond2_iff i n hn).1 h))]
  exact View.read_writes_eq_canon _ _ _ (cover_out _)

/-- A point that is not a used tile's. -/
theorem wp_after (i : grid0.Coords) (n : BitVec 32) (hn : n.toNat ≤ 147) (hi : ¬ (i 0).val < n.toNat) (q : PosShare TreeShare)
    (wg wu : Vec F S1x1x4096x1024 .bf16) (K : PUnit → sProp 𝕄) :
    iprop(held c sv m5 m6 m7 q wg wu (mid c xs sv n.toNat (i 0).val)
        ∗ (left c sv m5 m6 m7 q wg wu (slots c xs sv n.toNat ((i 0).val + 1)) (outAt xs sv i n wg wu) -∗ K ⟨⟩))
      ⊢ wp frame (wpE (defs₀ (F := F)) Variants.none c none) Set.univ (after m2 hm2 m5 hm5 m6 hm6 m7 hm7 i n) K := by
  have es : (slots c xs sv n.toNat ((i 0).val + 1) : sProp 𝕄) = iprop(Free c xs 0 ∗ Free c xs 1) := by
    unfold slots; rw [if_neg (by omega)]
  unfold after
  rw [es]
  by_cases h : (i 0).val = n.toNat
  · rw [if_pos ((cond3_iff i n hn).2 h)]
    rw [show (mid c xs sv n.toNat (i 0).val : sProp 𝕄) = iprop(Flight c xs sv (slot (i 0).val) (i 0).val ∗ Free c xs (slot ((i 0).val + 1))) from by
      unfold mid; rw [if_pos (by omega)]]
    iintro ⟨⟨HT, ⟨HF, HS⟩, HO, H0, H1, H2⟩, Hk⟩
    iapply (wp_drain3 c xs sv (Memref.isWhole_whole _) hm2 (Memref.isWhole_whole _) (Memref.isWhole_whole _) hm5 hm6 hm7 (Memref.isWhole_whole _)
      (i 0).val (fun _ => zeros m7 hm7 i n) K i) $$ [HF HO]
    · isplitl [HF]; · iexact HF
      iexact HO
    iintro ⟨HF, HO⟩
    ihave HF := (full_free c xs sv (slot (i 0).val) (i 0).val) $$ HF
    ihave HS := (free_both c xs (i 0).val) $$ [HF HS]
    · isplitl [HF]; · iexact HF
      iexact HS
    iapply (wp_zeros c xs sv m5 m6 m7 hm7 i n hn hi q wg wu iprop(Free c xs 0 ∗ Free c xs 1) K)
    isplitr [Hk]
    · isplitl [HT]; · iexact HT
      isplitl [HS]; · iexact HS
      isplitl [HO]; · iexact HO
      isplitl [H0]; · iexact H0
      isplitl [H1]; · iexact H1
      iexact H2
    iexact Hk
  · rw [if_neg (fun h' => h ((cond3_iff i n hn).1 h'))]
    rw [show (mid c xs sv n.toNat (i 0).val : sProp 𝕄) = iprop(Free c xs 0 ∗ Free c xs 1) from by
      unfold mid; rw [if_neg (by omega)]]
    exact wp_zeros c xs sv m5 m6 m7 hm7 i n hn hi q wg wu iprop(Free c xs 0 ∗ Free c xs 1) K

set_option maxHeartbeats 2000000 in
/-- A used tile's point. -/
theorem wp_used (i : grid0.Coords) (n : BitVec 32) (hn : n.toNat ≤ 147) (hi : (i 0).val < n.toNat) (hsv : ∀ p, (sv p).toNat < 16896) (q : PosShare TreeShare)
    (hw2 : k0_chk2 i n) (h2 : k0_cond2 i n = 1#1) (wg wu : Vec F S1x1x4096x1024 .bf16) (K : PUnit → sProp 𝕄) :
    iprop(held c sv m5 m6 m7 q wg wu (mid c xs sv n.toNat (i 0).val)
        ∗ (left c sv m5 m6 m7 q wg wu (slots c xs sv n.toNat ((i 0).val + 1)) (outAt xs sv i n wg wu) -∗ K ⟨⟩))
      ⊢ wp frame (wpE (defs₀ (F := F)) Variants.none c none) Set.univ (used m2 hm2 m5 hm5 m6 hm6 m7 hm7 i n hw2 h2) K := by
  have es : (slots c xs sv n.toNat ((i 0).val + 1) : sProp 𝕄)
      = iprop(Flight c xs sv (slot ((i 0).val + 1)) ((i 0).val + 1) ∗ Free c xs (slot (i 0).val)) := by
    unfold slots
    rw [if_pos (by omega), show slot ((i 0).val + 1 + 1) = slot (i 0).val from Fin.ext (show ((i 0).val + 1 + 1) % 2 = (i 0).val % 2 by omega)]
  have hu : used (F := F) m2 hm2 m5 hm5 m6 hm6 m7 hm7 i n hw2 h2 = _ :=
    unrolled i _ _ m2 hm2 _ _ _ _ m5 hm5 m6 hm6 m7 hm7 _ _ cc0_scratch1 n hw2 h2 (offS_inb i (by omega)) (offD_inb i)
      (fun x w => product m2 hm2 m5 hm5 m6 hm6 m7 hm7 i n x w)
  rw [hu, es, show (mid c xs sv n.toNat (i 0).val : sProp 𝕄) = iprop(Flight c xs sv (slot (i 0).val) (i 0).val ∗ Free c xs (slot ((i 0).val + 1))) from by
      unfold mid; rw [if_pos (by omega)]]
  iintro ⟨⟨HT, ⟨HF, HS⟩, HO, H0, H1, H2⟩, Hk⟩
  iapply (wp_drain2 c xs sv (Memref.isWhole_whole _) hm2 (Memref.isWhole_whole _) (Memref.isWhole_whole _) hm5 hm6 hm7 (Memref.isWhole_whole _)
      (i 0).val _ K i n hw2 h2) $$ [HF HO]
  · isplitl [HF]; · iexact HF
    iexact HO
  iintro ⟨HF, HO⟩
  imod (free_issue c xs sv (slot ((i 0).val + 1)) ((i 0).val + 1)) $$ HS with HS
  iapply (wp_starts c xs sv q hsv _ K i (by omega) n h2 (offS_inb i (by omega)) (offD_inb i) 256 (Nat.le_refl _)) $$ [HT HS]
  · isplitl [HT]; · iexact HT
    iexact HS
  iintro ⟨HT, HS⟩
  ihave HS := (issue_flight c xs sv (slot ((i 0).val + 1)) ((i 0).val + 1)) $$ HS
  unfold Full
  icases HF with ⟨Hs, Hr, Hx⟩
  ihave Hr := (Entails.of_eq (rows_join c xs sv (slot (i 0).val) (i 0).val)) $$ Hr
  simp only [Prog.lift, Prog.bind_op, ret_bind']
  iapply (wp_load_rect (m := Memref.whole cc0_scratch0) (r := Rect.unit (s := S2x256x4096) (k0_off1031 i) S1x256x4096.size (k0_off1031_inb i))
    (S := slotSet (slot (i 0).val)) (q := fullShare) (f := slotBuf c xs sv (i 0).val)
    Variants.none (c : Thread nD τ) none Set.univ (load_sub i _ _ (off1031_eq i))) $$ Hr
  iintro Hr
  rw [load_read c xs sv i _ _ (off1031_eq i) (i 0).val]
  ihave Hr := (show (((c : Thread nD τ).loc cc0_scratch0) ↦[slotSet (slot (i 0).val)]{fullShare} (slotBuf c xs sv (i 0).val) : sProp 𝕄)
    ⊢ bigSep Finset.univ (rowHas c xs sv (slot (i 0).val) (i 0).val) from Entails.of_eq (rows_join c xs sv (slot (i 0).val) (i 0).val).symm) $$ Hr
  ihave HF := (full_free c xs sv (slot (i 0).val) (i 0).val) $$ [Hs Hr Hx]
  · unfold Full
    isplitl [Hs]; · iexact Hs
    isplitl [Hr]; · iexact Hr
    iexact Hx
  iapply (show wp frame (wpE (defs₀ (F := F)) Variants.none c none) Set.univ (weights m2 hm2 m5 hm5 m6 hm6 m7 hm7 i n (k0_pay3 (tile xs sv (i 0).val))) K ⊢ _ from .rfl)
  unfold weights after zeros left owns
  icases H0 with ⟨%f0, %hf0, H0⟩
  icases H1 with ⟨%f1, %hf1, H1⟩
  icases H2 with ⟨%d2, %f2, -, H2⟩
  subst hf0 hf1
  simp only [Prog.lift, Prog.bind_op, ret_bind']
  sl_exec
  rw [if_neg (fun h' => absurd ((cond3_iff i n hn).1 h') (by omega)), dif_neg (fun h' => (cond4_iff i n hn).1 h' hi)]
  sl_step
  iapply Hk
  isplitl [HT]; · iexact HT
  isplitl [HS HF]
  · isplitl [HS]; · iexact HS
    iexact HF
  isplitl [HO]; · iexact HO
  isplitl [H0]
  · iexists f0; isplitr; · ipureintro; rfl
    iexact H0
  isplitl [H1]
  · iexists f1; isplitr; · ipureintro; rfl
    iexact H1
  iexists _; isplitr
  swap; · iexact H2
  ipureintro
  unfold outAt
  rw [if_pos h2]
  exact View.read_writes_eq_canon _ _ _ (cover_out _)

set_option maxHeartbeats 2000000 in
/-- One point of the grid. -/
theorem sound_kernel (i : grid0.Coords) (q q' : PosShare TreeShare)
    (f : Buf (Elt F) ((c : Thread nD τ).loc main_arg5)) (n : BitVec 32) (hf : f iN = n) (hn : n.toNat ≤ 147) (hsv : ∀ p, (sv p).toNat < 16896)
    (wg wu : Vec F S1x1x4096x1024 .bf16) (K : PUnit → sProp 𝕄) :
    iprop((((c : Thread nD τ).loc main_arg5) ↦{q'} f) ∗ held c sv m5 m6 m7 q wg wu (slots c xs sv n.toNat (i 0).val)
        ∗ (iprop((((c : Thread nD τ).loc main_arg5) ↦{q'} f) ∗ left c sv m5 m6 m7 q wg wu (slots c xs sv n.toNat ((i 0).val + 1)) (outAt xs sv i n wg wu)) -∗ K ⟨⟩))
      ⊢ wp frame (wpE (defs₀ (F := F)) Variants.none c none) Set.univ (cc0_moe_up i (Memref.whole main_arg1) (Memref.isWhole_whole _) m2 hm2 (Memref.whole main_arg5) (Memref.isWhole_whole _) (Memref.whole main_arg0) (Memref.isWhole_whole _) m5 hm5 m6 hm6 m7 hm7 (Memref.whole cc0_scratch0) (Memref.isWhole_whole _) cc0_scratch1) K := by
  have hr : ∀ hw2 : k0_chk2 i n, iprop(held c sv m5 m6 m7 q wg wu (mid c xs sv n.toNat (i 0).val)
        ∗ (left c sv m5 m6 m7 q wg wu (slots c xs sv n.toNat ((i 0).val + 1)) (outAt xs sv i n wg wu) -∗ K ⟨⟩))
      ⊢ wp frame (wpE (defs₀ (F := F)) Variants.none c none) Set.univ (rest m2 hm2 m5 hm5 m6 hm6 m7 hm7 i n hw2) K := by
    intro hw2
    unfold rest
    by_cases hi : (i 0).val < n.toNat
    · rw [dif_pos ((cond2_iff i n hn).2 hi)]
      exact wp_used c xs sv m2 hm2 m5 hm5 m6 hm6 m7 hm7 i n hn hi hsv q hw2 _ wg wu K
    · rw [dif_neg (fun h => hi ((cond2_iff i n hn).1 h))]
      exact wp_after c xs sv m2 hm2 m5 hm5 m6 hm6 m7 hm7 i n hn hi q wg wu K
  simp only [cc0_moe_up_eq_skeleton]; unfold cc0_moe_up_skel
  unfold smemLoad smemLoadElt
  iintro ⟨HN, ⟨HT, HS, HO, H0, H1, H2⟩, Hk⟩
  simp only [Prog.bind_op, ret_bind']
  iapply (wp_load_rect Variants.none (c : Thread nD τ) none Set.univ (m := Memref.whole main_arg5) (r := rN) (Finset.subset_univ _)) $$ HN
  iintro HN
  rw [tbl_read c f, hf]
  simp only [ret_bind']
  iapply (wp_assume Variants.none (c : Thread nD τ) none Set.univ (chk2_ok i n hn))
  simp only [ret_bind']
  by_cases h1 : k0_cond1 i = 1#1
  · rw [dif_pos h1]
    have h0 : (i 0).val = 0 := (cond1_iff i).1 h1
    ihave HS := (Entails.of_eq (show (slots c xs sv n.toNat (i 0).val : sProp 𝕄) = iprop(Free c xs 0 ∗ Free c xs 1) from by
      unfold slots; rw [if_neg (by omega)])) $$ HS
    icases HS with ⟨HA, HB⟩
    imod (free_issue c xs sv 0 0) $$ HA with HA
    iapply (wp_first c xs sv (Memref.isWhole_whole _) hm2 (Memref.isWhole_whole _) (Memref.isWhole_whole _) hm5 hm6 hm7 (Memref.isWhole_whole _)
      q hsv (fun _ => rest m2 hm2 m5 hm5 m6 hm6 m7 hm7 i n (chk2_ok i n hn)) K i h1) $$ [HT HA]
    · isplitl [HT]; · iexact HT
      iexact HA
    iintro ⟨HT, HA⟩
    ihave HA := (issue_flight c xs sv 0 0) $$ HA
    iapply (hr (chk2_ok i n hn))
    isplitr [HN Hk]
    · isplitl [HT]; · iexact HT
      isplitl [HA HB]
      · rw [show (mid c xs sv n.toNat (i 0).val : sProp 𝕄) = iprop(Flight c xs sv 0 0 ∗ Free c xs 1) from by
          unfold mid; rw [h0, if_pos (Nat.zero_le _)]; rfl]
        isplitl [HA]; · iexact HA
        iexact HB
      isplitl [HO]; · iexact HO
      isplitl [H0]; · iexact H0
      isplitl [H1]; · iexact H1
      iexact H2
    iintro H
    iapply Hk
    isplitl [HN]; · iexact HN
    iexact H
  · rw [dif_neg h1]
    have h0 : (i 0).val ≠ 0 := fun h => h1 ((cond1_iff i).2 h)
    ihave HS := (Entails.of_eq (show (slots c xs sv n.toNat (i 0).val : sProp 𝕄) = mid c xs sv n.toNat (i 0).val from by
      unfold slots mid
      by_cases h : (i 0).val ≤ n.toNat
      · rw [if_pos h, if_pos ⟨by omega, h⟩]
      · rw [if_neg h, if_neg (fun h' => h h'.2)])) $$ HS
    iapply (hr (chk2_ok i n hn))
    isplitr [HN Hk]
    · isplitl [HT]; · iexact HT
      isplitl [HS]; · iexact HS
      isplitl [HO]; · iexact HO
      isplitl [H0]; · iexact H0
      isplitl [H1]; · iexact H1
      iexact H2
    iintro H
    iapply Hk
    isplitl [HN]; · iexact HN
    iexact H

end Cert.UpIdeal.Body

end
-- ==== Proof.UpIdealRun.lean ====
module

public import proofs.«01_k».proof.Proof.UpIdealBody
public import Idealize.ShloMosaic.Lib.Pipeline.FrameBody
public import Idealize.ShloMosaic.Lib.Claim

@[expose] public section

set_option maxRecDepth 16384

noncomputable section

/-! The experts' first product: its run, at admissible contents of its three tables. Between points the two slots of the
    scratch buffer are held as the tile next to come leaves them, and the operand the copies read is held in shares, one per
    row of a slot and one left over. -/

namespace Cert.UpIdeal.Run

open Cert.UpIdeal Cert.UpIdeal.Gen Cert.UpIdeal.Steps Cert.UpIdeal.Copy Cert.UpIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

/-! ## The scratch buffer and the operand, whole and in parts -/

/-- A row of a slot, by the pair. -/
abbrev rowOf (b : Fin 2 × Fin 256) : Finset (S2x256x4096.Idx) := rowSet b.1 b.2

theorem mem_rowOf (b : Fin 2 × Fin 256) (y : S2x256x4096.Idx) (h : y ∈ rowOf b) : b = (y 0, y 1) := by
  obtain ⟨p, -, hp⟩ := Finset.mem_map.mp h
  have e : y = ix3 b.1 b.2 (show Fin 4096 from p 1) := hp.symm.trans (emb_row b.1 b.2 p)
  rw [e]
  rfl

theorem rowOf_disj (b b' : Fin 2 × Fin 256) (hne : b ≠ b') : Disjoint (rowOf b) (rowOf b') :=
  Finset.disjoint_left.mpr fun y h h' => hne ((mem_rowOf b y h).trans (mem_rowOf b' y h').symm)

theorem rowOf_cover : (Finset.univ : Finset (Fin 2 × Fin 256)).biUnion rowOf = Finset.univ := by
  refine Finset.eq_univ_iff_forall.mpr fun y => Finset.mem_biUnion.mpr ⟨(y 0, y 1), Finset.mem_univ _, ?_⟩
  have h := View.emb_mem_set (row (y 0) (y 1)).view (ix2 (0 : Fin 1) (show Fin 4096 from y 2))
  refine cast (congrArg (· ∈ _) ((emb_row (y 0) (y 1) _).trans ?_)) h
  funext a
  match a with
  | ⟨0, _⟩ => rfl
  | ⟨1, _⟩ => rfl
  | ⟨2, _⟩ => rfl

variable (c : Dev nD)

theorem row_any (b : Fin 2 × Fin 256) (f : Buf (Elt F) ((c : Thread nD τ).loc cc0_scratch0)) :
    ((((c : Thread nD τ).loc cc0_scratch0) ↦[rowOf b]{fullShare} f) : sProp 𝕄) ⊢ rowFree c b.1 b.2 := by
  iintro H
  iexists f
  iexact H

/-- The scratch buffer's rows, slot by slot, -/
theorem rows_split : iprop(∃ f : Buf (Elt F) ((c : Thread nD τ).loc cc0_scratch0), ((c : Thread nD τ).loc cc0_scratch0) ↦{fullShare} f)
    ⊢ (iprop(bigSep Finset.univ (rowFree (F := F) c 0) ∗ bigSep Finset.univ (rowFree (F := F) c 1)) : sProp 𝕄) := by
  have h1 : ∀ f : Buf (Elt F) ((c : Thread nD τ).loc cc0_scratch0), ((((c : Thread nD τ).loc cc0_scratch0) ↦{fullShare} f) : sProp 𝕄)
      = bigSep Finset.univ (fun b => ((c : Thread nD τ).loc cc0_scratch0) ↦[rowOf b]{fullShare} f) := fun f =>
    Ring.pointsTo_blocks (Ix := Unit) (Val := Elt F) (Name := ℕ) (U := Pipeline.UD sig nD τ) (Lvl := ℕ) (ℓ := (c : Thread nD τ).loc cc0_scratch0) rowOf rowOf_disj rowOf_cover f
  have h2 : ∀ f : Buf (Elt F) ((c : Thread nD τ).loc cc0_scratch0), (bigSep Finset.univ (fun b => ((c : Thread nD τ).loc cc0_scratch0) ↦[rowOf b]{fullShare} f) : sProp 𝕄)
      ⊢ bigSep Finset.univ (fun b : Fin 2 × Fin 256 => rowFree (F := F) c b.1 b.2) := fun f => bigSep_mono fun b _ => row_any c b f
  have h3 : (bigSep Finset.univ (fun b : Fin 2 × Fin 256 => rowFree (F := F) c b.1 b.2) : sProp 𝕄)
      = iprop(bigSep Finset.univ (rowFree (F := F) c 0) ∗ bigSep Finset.univ (rowFree (F := F) c 1)) := (bigSep_univ_prod _).trans (bigSep_fin_two _)
  iintro ⟨%f, H⟩
  iapply ((Entails.of_eq (h1 f)).trans ((h2 f).trans (Entails.of_eq h3)))
  iexact H

/-- and together again. -/
theorem rows_whole (f₀ : Buf (Elt F) ((c : Thread nD τ).loc cc0_scratch0)) : iprop(bigSep Finset.univ (rowFree (F := F) c 0) ∗ bigSep Finset.univ (rowFree (F := F) c 1))
    ⊢ (iprop(∃ f : Buf (Elt F) ((c : Thread nD τ).loc cc0_scratch0), ((c : Thread nD τ).loc cc0_scratch0) ↦{fullShare} f) : sProp 𝕄) :=
  (Entails.of_eq (((bigSep_univ_prod (fun b : Fin 2 × Fin 256 => rowFree (F := F) c b.1 b.2)).trans (bigSep_fin_two _)).symm)).trans
    (Ring.pointsTo_blocks_join_exists (Ix := Unit) (Val := Elt F) (Name := ℕ) (U := Pipeline.UD sig nD τ) (Lvl := ℕ) (ℓ := (c : Thread nD τ).loc cc0_scratch0) rowOf rowOf_disj rowOf_cover f₀)

theorem two_families (P : ℕ → sProp 𝕄) : bigSep Finset.univ (fun i : Fin 512 => P i.val)
    = iprop(bigSep Finset.univ (fun r : Fin 256 => P (256 * (0 : Fin 2).val + r.val)) ∗ bigSep Finset.univ (fun r : Fin 256 => P (256 * (1 : Fin 2).val + r.val))) := by
  rw [bigSep_univ_equiv (finProdFinEquiv (m := 2) (n := 256)) (fun i => P i.val), bigSep_univ_prod, bigSep_fin_two]
  have e : ∀ (s : Fin 2) (r : Fin 256), (finProdFinEquiv (s, r)).val = 256 * s.val + r.val := fun s r => Nat.add_comm _ _
  simp only [e]
  rfl

/-- The operand's shares: one per row of a slot, and one left over. -/
theorem operand_shares (xs : S16896x4096.Idx → Elt F .f32) : ((((c : Thread nD τ).loc main_arg0) ↦{fullShare} xs) : sProp 𝕄)
    ⊣⊢ iprop((((c : Thread nD τ).loc main_arg0) ↦{shareDrop fullShare 512} xs) ∗ bigSep Finset.univ (share c xs 0) ∗ bigSep Finset.univ (share c xs 1)) := by
  have h := pointsTo_toks (Ix := Unit) (Val := Elt F) (Name := ℕ) (U := Pipeline.UD sig nD τ) (Lvl := ℕ) (ℓ := (c : Thread nD τ).loc main_arg0) (S := Finset.univ) (f := xs) fullShare 512
  rw [two_families (fun i => ((c : Thread nD τ).loc main_arg0) ↦{shareTokN fullShare i} xs)] at h
  exact h

/-! ## The kernel's own semaphores, and the operand it reads -/

/-- The two slots' semaphores. -/
abbrev osem0 : Fin 2 → SemLoc sig := fun j => (![SemLoc.dma 6, SemLoc.dma 7] : Fin 2 → SemLoc sig) j
theorem ownSemFacts0 : Pipeline.OwnSemFacts spec0 osem0 := by decide
theorem sem_0 : sem 0 = 6 := by decide
theorem sem_1 : sem 1 = 7 := by decide

theorem ownSems00_eq : (Pipeline.ownSems0 (Ix := Unit) (Name := ℕ) (U := Pipeline.UD sig nD τ) (Lvl := ℕ) (Val := Elt F) (τ := τ) osem0 c : sProp 𝕄)
    = iprop(semVal ((c : Thread nD τ), SemLoc.dma (sem 0)) 0 ∗ semVal ((c : Thread nD τ), SemLoc.dma (sem 1)) 0) := by
  rw [sem_0, sem_1]
  unfold Pipeline.ownSems0
  rw [bigSep_fin_two]
  rfl

def H0 : Finset (Ref sig .tc) := {main_arg0}
theorem H0_sub : H0 ⊆ Pipeline.restRefsP sig pre0 spec0 := by decide

/-! ## The pipeline's proof data -/

variable (m : (ℓ : Loc nD τ sig) → Buf (Elt F) ℓ) (ρ : Dev nD → PrngReg) (a : (pcfg0 (F := F)).Adm)

/-- Core `c`'s buffers when the region is entered: as launched. -/
abbrev V (c : Dev nD) (b : Ref sig .tc) : Buf (Elt F) ((c : Thread nD τ).loc b) := m ((c : Thread nD τ).loc b)

/-- Window `w`'s block at point `t`. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V m c (Pipeline.arrRef spec0 w))

/-- The operand, -/
abbrev opd (c : Dev nD) : S16896x4096.Idx → Elt F .f32 := V m c main_arg0
/-- the row numbers, -/
abbrev nums : S37888.Idx → BitVec 32 := a.1 0
/-- and the count of used tiles. -/
abbrev used : BitVec 32 := a.1 2 iN

/-- The three tables' halves, one by one. -/
theorem prefHeld_three (q : Fin 3 → PosShare TreeShare) (v : pre0.Contents (Elt F)) :
    (Pipeline.prefHeld pre0 c q v : sProp 𝕄)
      = iprop((((c : Thread nD τ).loc main_arg1) ↦{q 0} (show Buf (Elt F) ((c : Thread nD τ).loc main_arg1) from v 0))
          ∗ (((c : Thread nD τ).loc main_arg4) ↦{q 1} (show Buf (Elt F) ((c : Thread nD τ).loc main_arg4) from v 1))
          ∗ (((c : Thread nD τ).loc main_arg5) ↦{q 2} (show Buf (Elt F) ((c : Thread nD τ).loc main_arg5) from v 2))) := by
  unfold Pipeline.prefHeld
  rw [show (Finset.univ : Finset (Fin 3)) = insert 0 (insert 1 {2}) from by decide, bigSep_insert (by decide), bigSep_insert (by decide), bigSep_singleton]
  rfl

/-- What is held between points. -/
def inv (c : Dev nD) (t : ℕ) : sProp 𝕄 :=
  iprop((∃ r, prngReg c r) ∗ slots c (opd m c) (nums a) (used a).toNat t ∗ (((c : Thread nD τ).loc main_arg0) ↦{shareDrop fullShare 512} (opd m c)) ∗ Pipeline.ΦT pre0 a.1 c)

/-- The proof data: the arrays as the region finds them; after point `t` each input's buffer at its block, the output's at
    `outAt` of the blocks. -/
def dats (p : Fin 1) (c : Dev nD) : Dat τ (Elt F) Unit ℕ (Pipeline.UD sig nD τ) ℕ (Pipeline.pin (pcfgs (F := F)) (fun _ => a) p) c where
  A w := V m c (Pipeline.arrRef spec0 w)
  after w t := match w with
    | ⟨0, _⟩ => iblk m a c 0 t
    | ⟨1, _⟩ => iblk m a c 1 t
    | ⟨2, _⟩ => outAt (opd m c) (nums a) (grid0.coords t) (used a) (iblk m a c 0 t) (iblk m a c 1 t)
  Φ t := inv m a c t.val
  q _ := fullShare
  owed _ := 0

theorem A_eq (c : Dev nD) (w : Fin (cfg0 a).W) : (dats m a 0 c).A w = V m c (Pipeline.arrRef spec0 w) := by dsimp only [dats]
theorem after_0 (c : Dev nD) (t : Fin (cfg0 a).N) : (dats m a 0 c).after 0 t = iblk m a c 0 t := by dsimp only [dats]; rfl
theorem after_1 (c : Dev nD) (t : Fin (cfg0 a).N) : (dats m a 0 c).after 1 t = iblk m a c 1 t := by dsimp only [dats]; rfl
theorem after_2 (c : Dev nD) (t : Fin (cfg0 a).N) :
    (dats m a 0 c).after 2 t = outAt (opd m c) (nums a) (grid0.coords t) (used a) (iblk m a c 0 t) (iblk m a c 1 t) := by dsimp only [dats]; rfl

/-- Each input's buffer holds its block at every point. -/
theorem before_0 (c : Dev nD) (t : Fin (cfg0 a).N) (d) : (dats m a 0 c).before 0 t d = iblk m a c 0 t :=
  ((dats m a 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dats m a 0 c).before 1 t d = iblk m a c 1 t :=
  ((dats m a 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

variable (hn : (used a).toNat ≤ 147) (hsv : ∀ p, (nums a p).toNat < 16896)

include hn in
/-- The output is stored at every point. -/
theorem live (t : Fin (cfg0 a).N) : (cfg0 a).idle 2 ((cfg0 a).grid.coords t) = false := by
  have e : (a.1.atD 2 ![0] : BitVec 32) = used a := rfl
  show (!(k0_cond2 (grid0.coords t) (a.1.atD 2 ![0]) == 1#1) && !(k0_cond4 (grid0.coords t) (a.1.atD 2 ![0]) == 1#1)) = false
  rw [e]
  by_cases h : k0_cond2 (grid0.coords t) (used a) = 1#1
  · rw [h]; rfl
  · rw [(cond4_iff (grid0.coords t) _ hn).2 fun h' => h ((cond2_iff (grid0.coords t) _ hn).2 h')]; simp

/-! ## The body obligation -/

/-- What the body is called with at point `t`, the windows one by one, -/
def bodyPre (c : Dev nD) (t : Fin (cfg0 a).N) : sProp 𝕄 :=
  iprop((dats m a 0 c).Φ t.castSucc ∗ (dats m a 0 c).owesAt () t.castSucc
    ∗ (∃ d, owns (c : Thread nD τ) (((cfg0 a).win 0).stage ((cfg0 a).slots t 0)) fullShare ((dats m a 0 c).before 0 t d))
    ∗ (∃ d, owns (c : Thread nD τ) (((cfg0 a).win 1).stage ((cfg0 a).slots t 1)) fullShare ((dats m a 0 c).before 1 t d))
    ∗ (∃ d, owns (c : Thread nD τ) (((cfg0 a).win 2).stage ((cfg0 a).slots t 2)) fullShare ((dats m a 0 c).before 2 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (((cfg0 a).win 0).stage ((cfg0 a).slots t 0)) fullShare ((dats m a 0 c).after 0 t)
    ∗ owns (c : Thread nD τ) (((cfg0 a).win 1).stage ((cfg0 a).slots t 1)) fullShare ((dats m a 0 c).after 1 t)
    ∗ owns (c : Thread nD τ) (((cfg0 a).win 2).stage ((cfg0 a).slots t 2)) fullShare ((dats m a 0 c).after 2 t))

/-- The body at point `t`, on what the pipeline calls it with. -/
abbrev bodyAt (t : Fin (cfg0 a).N) : Prog (TpuEff nD τ sig (Elt F) Λ₀ .tc) PUnit :=
  cc0_moe_up (grid0.coords t) (Memref.whole main_arg1) (Memref.isWhole_whole _) (Memref.whole main_arg4) (Memref.isWhole_whole _)
    (Memref.whole main_arg5) (Memref.isWhole_whole _) (Memref.whole main_arg0) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) cc0_scratch1

theorem coord_val (t : Fin (cfg0 a).N) : ((grid0.coords t) 0).val = t.val := by
  exact (by decide +kernel : ∀ t : Fin grid0.N, ((grid0.coords t) 0).val = t.val) t

include hn hsv in
set_option maxHeartbeats 1000000 in
theorem sound_body (c : Dev nD) (t : Fin (cfg0 a).N) :
    bodyPre m a c t ⊢ wp frame (wpE (defs₀ (F := F)) Variants.none c none) Set.univ (bodyAt a t) (fun _ => bodyPost m a c t) := by
  unfold bodyPre bodyPost
  simp only [before_0, before_1]
  unfold Dat.owesAt Pipeline.owesWithin
  rw [show (dats m a 0 c).owed t.castSucc = 0 from rfl, show (dats m a 0 c).owed t.succ = 0 from rfl,
    show (dats m a 0 c).Φ t.succ = inv m a c (((grid0.coords t) 0).val + 1) from by rw [coord_val]; rfl,
    show (dats m a 0 c).Φ t.castSucc = inv m a c ((grid0.coords t) 0).val from by rw [coord_val]; rfl,
    after_0, after_1, after_2]
  unfold inv Pipeline.ΦT
  rw [prefHeld_three]
  iintro ⟨⟨Hg, HS, HX, ⟨HT, HE, HN⟩⟩, ⟨%W, -, HW⟩, ⟨%d0, H0⟩, ⟨%d1, H1⟩, ⟨%d2, H2⟩⟩
  iapply (sound_kernel c (opd m c) (nums a) (Memref.whole main_arg4) (Memref.isWhole_whole _) _ _ _ _ _ _ (grid0.coords t) _ _ (a.1 2) (used a) rfl hn hsv (iblk m a c 0 t) (iblk m a c 1 t) _)
  isplitl [HN]; · iexact HN
  isplitl [HT HS HW H0 H1 H2]
  · isplitl [HT]; · iexact HT
    isplitl [HS]; · iexact HS
    isplitl [HW]; · iexists W; iexact HW
    isplitl [H0]; · iexact H0
    isplitl [H1]; · iexact H1
    iexists _; iexact H2
  iintro ⟨HN, HT, HS, ⟨%W', HW⟩, H0, H1, H2⟩
  isplitl [Hg HS HX HT HE HN]
  · isplitl [Hg]; · iexact Hg
    isplitl [HS]; · iexact HS
    isplitl [HX]; · iexact HX
    isplitl [HT]; · iexact HT
    isplitl [HE]; · iexact HE
    iexact HN
  isplitl [HW]
  · iexists W'; isplitr; · ipureintro; exact fun _ _ => Or.inl trivial
    iexact HW
  isplitl [H0]; · iexact H0
  isplitl [H1]; · iexact H1
  iexact H2

theorem defs₀_row (t : Fin (cfg0 a).N) :
    defs₀ (F := F) .tc (cfg0 a).body ((cfg0 a).bodyArgs t ((cfg0 a).slots t)) = bodyAt a t := by
  unfold defs₀; rw [Defs.onTc_tc]

theorem of_live {b : Bool} (h : b = false) {P : Bool → sProp 𝕄} {Q : sProp 𝕄} (hP : P false = Q) : Q ⊢ P b := by
  subst h; rw [hP]

include hn hsv in
theorem body_obligation (c : Dev nD) : BodyObligation (dats (F := F) m a 0 c) (defs₀ (F := F)) Variants.none () Set.univ := fun t => by
  rw [bigSep_W0, bigSep_W0]
  refine triple_restated (sound_body m a hn hsv c t) (congrArg (wp frame (wpE (defs₀ (F := F)) Variants.none c none) Set.univ) (defs₀_row a t).symm) .rfl fun _ => ?_
  refine sep_mono .rfl (sep_mono .rfl (sep_mono .rfl (sep_mono .rfl ?_)))
  exact of_live (live a hn t) (P := fun b => match b with
    | true => match ((cfg0 a).win 2).flush t with
      | false => iprop(∃ d, owns (c : Thread nD τ) (((cfg0 a).win 2).stage ((cfg0 a).slots t 2)) fullShare ((dats m a 0 c).before 2 t d))
      | true => owns (c : Thread nD τ) (((cfg0 a).win 2).stage ((cfg0 a).slots t 2)) fullShare ((dats m a 0 c).after 2 t)
    | false => owns (c : Thread nD τ) (((cfg0 a).win 2).stage ((cfg0 a).slots t 2)) fullShare ((dats m a 0 c).after 2 t)) rfl

/-! ## What the launch hands in, and what it takes back -/

theorem enter (c : Dev nD) : iprop(Pipeline.ΦD osem0 spec0 H0 (V m) c ∗ Pipeline.ΦT pre0 a.1 c) ⊢ (inv m a c 0 : sProp 𝕄) := by
  rw [Pipeline.ΦD_eq, scopedRest0_eq, ownSems00_eq, show (bigSep H0 (fun b => ((c.tc : Thread nD τ).loc b) ↦{fullShare} V m c b) : sProp 𝕄) = _ from bigSep_singleton]
  unfold inv
  rw [show (slots c (opd m c) (nums a) (used a).toNat 0 : sProp 𝕄) = iprop(Free c (opd m c) 0 ∗ Free c (opd m c) 1) from by
    unfold slots; rw [if_neg (by omega)]]
  unfold Free
  iintro ⟨⟨HR, Hg, ⟨Hs0, Hs1⟩, HX⟩, HT⟩
  ihave HR := (rows_split c) $$ HR
  icases HR with ⟨Hr0, Hr1⟩
  ihave HX := (operand_shares c (opd m c)).1 $$ HX
  icases HX with ⟨HX, Hx0, Hx1⟩
  isplitl [Hg]; · iexact Hg
  isplitr [HX HT]
  · isplitl [Hs0 Hr0 Hx0]
    · isplitl [Hs0]; · iexact Hs0
      isplitl [Hr0]; · iexact Hr0
      iexact Hx0
    isplitl [Hs1]; · iexact Hs1
    isplitl [Hr1]; · iexact Hr1
    iexact Hx1
  isplitl [HX]; · iexact HX
  iexact HT

include hn in
theorem leave (c : Dev nD) : (inv m a c 148 : sProp 𝕄) ⊢ Pipeline.ΦD osem0 spec0 H0 (V m) c := by
  rw [Pipeline.ΦD_eq, scopedRest0_eq, ownSems00_eq, show (bigSep H0 (fun b => ((c.tc : Thread nD τ).loc b) ↦{fullShare} V m c b) : sProp 𝕄) = _ from bigSep_singleton]
  unfold inv
  rw [show (slots c (opd m c) (nums a) (used a).toNat 148 : sProp 𝕄) = iprop(Free c (opd m c) 0 ∗ Free c (opd m c) 1) from by
    unfold slots; rw [if_neg (by omega)]]
  unfold Free
  iintro ⟨Hg, ⟨⟨Hs0, Hr0, Hx0⟩, ⟨Hs1, Hr1, Hx1⟩⟩, HX, -⟩
  ihave HR := (rows_whole c (m ((c : Thread nD τ).loc cc0_scratch0))) $$ [Hr0 Hr1]
  · isplitl [Hr0]; · iexact Hr0
    iexact Hr1
  ihave HX := (operand_shares c (opd m c)).2 $$ [HX Hx0 Hx1]
  · isplitl [HX]; · iexact HX
    isplitl [Hx0]; · iexact Hx0
    iexact Hx1
  isplitl [HR]; · iexact HR
  isplitl [Hg]; · iexact Hg
  isplitl [Hs0 Hs1]
  · isplitl [Hs0]; · iexact Hs0
    iexact Hs1
  iexact HX

/-! ## The run -/

include hn hsv in
set_option backward.isDefEq.respectTransparency.types false in
set_option maxHeartbeats 800000 in
/-- The launch: the arrays end at what the proof data says, every other buffer as it was, every counter at zero. -/
theorem run_main (hpf : ∀ c k, V m c (pre0.ref k) = a.1 k) :
    θ_run defs (onTc (τ := τ) (main (F := F))) (s₀ m ρ)
      (fun r => (Pipeline.FramePost (Pipeline.pin (pcfgs (F := F)) (fun _ => a)) (dats m a) 0 (V m)) r ∧ r.2.sem = fun _ => 0) :=
  Pipeline.θ_run_frameP_dma (Q' := _) pcfgs (fun _ => a) (dats m a) (0 : Fin 1) launch0 osem0 defs₀ Variants.none ownSemFacts0 H0 H0_sub m ρ main
    (hbody := fun c => (body_obligation m a hn hsv c).loose) (hshare := fun c => (dats m a 0 c).share_full fun _ => rfl)
    (howed := fun _ _ => rfl) (V := V m) (hmain := Pipeline.hmainP_region pcfgs 0 defs₀ Variants.none m main fun c => (main_chain c).trans rfl)
    (hA := A_eq m a) (hpf := hpf) (hin := fun c => enter m a c) (hout := fun c => leave m a hn c)

/-! ## Tables that name blocks inside the weights -/

/-- Tables whose experts are all among the sixteen name blocks inside the weights. -/
theorem ok_of_lt (pf : pre0.Contents (Elt F)) (h : ∀ i : S148.Idx, (show BitVec 32 from pf 1 i).toNat < 16) : ok0 pf := by
  refine ⟨fun i => ?_, fun i => ?_⟩
  all_goals
    have hb := h ((Rect.unit (s := S148) ![(Scalar.indexCast (BitVec.ofNat 32 (i 0).val)).toNat] S1.size (facts₀.k0_off1_inb i)).emb (Shape.Idx.first (s := S1) (by decide)))
    refine ⟨fun a => ?_, .inr (Affine.block_words_dvd (of_decide_eq_true rfl) (by decide))⟩
    match a with
    | ⟨0, _⟩ => show (0 + 1) * 1 ≤ 2; omega
    | ⟨1, _⟩ => exact (Nat.mul_one _).trans_le hb
    | ⟨2, _⟩ => show (0 + 1) * 4096 ≤ 4096; omega
    | ⟨3, _⟩ => show (0 + 1) * 1024 ≤ 1024; omega

/-- What the tables are to hold: row numbers inside the operand, experts among the sixteen, at most 147 used tiles. -/
structure Fits (m : (ℓ : Loc nD τ sig) → Buf (Elt F) ℓ) : Prop where
  src : ∀ (c : Dev nD) (i : S37888.Idx), (show BitVec 32 from m ((c : Thread nD τ).loc main_arg1) i).toNat < 16896
  expert : ∀ (c : Dev nD) (i : S148.Idx), (show BitVec 32 from m ((c : Thread nD τ).loc main_arg4) i).toNat < 16
  count : ∀ (c : Dev nD) (i : S1.Idx), (show BitVec 32 from m ((c : Thread nD τ).loc main_arg5) i).toNat ≤ 147

/-- The launch memory's tables, admissible. -/
def adm (h : Fits m) : (pcfg0 (F := F)).Adm :=
  ⟨fun k => m (((0 : Dev nD) : Thread nD τ).loc (pre0.ref k)), ok_of_lt _ (h.expert 0)⟩

/-- The run of a launch whose tables fit: the result at what the proof data says, the arguments as they were, every counter
    at zero. -/
theorem run_value (h : Fits m) :
    θ_run defs (onTc (τ := τ) (main (F := F))) ⟨m, fun _ => 0, ρ⟩ (fun r => (∀ c : Dev nD,
      r.2.mem ((c.tc : Thread nD τ).loc main_v0) = (dats m (adm m h) 0 c).arrAt 2 (cfg0 (adm m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r hr => ⟨fun c => ?_, hr.2⟩) (run_main m ρ (adm m h) (h.count 0 _) (h.src 0) fun c k => by
    obtain rfl : c = 0 := Subsingleton.elim _ _
    rfl)
  exact ⟨(hr.1 c).1 2,
    (hr.1 c).2 main_arg0 (Pipeline.mem_restRefs_of main_arg0 rfl (show ∀ w : Fin 3, (spec0 w).arr.view.ref ≠ main_arg0 by decide)),
    (hr.1 c).2 main_arg1 (Pipeline.mem_restRefs_of main_arg1 rfl (show ∀ w : Fin 3, (spec0 w).arr.view.ref ≠ main_arg1 by decide)),
    ((hr.1 c).1 0).trans (((dats m (adm m h) 0 c).arrAt_in 0 rfl _).trans (A_eq m (adm m h) c 0)),
    ((hr.1 c).1 1).trans (((dats m (adm m h) 0 c).arrAt_in 1 rfl _).trans (A_eq m (adm m h) c 1)),
    (hr.1 c).2 main_arg4 (Pipeline.mem_restRefs_of main_arg4 rfl (show ∀ w : Fin 3, (spec0 w).arr.view.ref ≠ main_arg4 by decide)),
    (hr.1 c).2 main_arg5 (Pipeline.mem_restRefs_of main_arg5 rfl (show ∀ w : Fin 3, (spec0 w).arr.view.ref ≠ main_arg5 by decide))⟩

end Cert.UpIdeal.Run

end
-- ==== Proof.UpValue.lean ====
module

public import proofs.«01_k».proof.Proof.UpIdealRun
public import proofs.«01_k».proof.Proof.Gen.UpReferenceIdeal.Read
public import Idealize.ShloMosaic.Lib.ValueIdx
public import Idealize.ShloMosaic.Lib.ValueIdxCoords
public import Idealize.ShloMosaic.Lib.MatmulPlain
public import Idealize.ShloMosaic.Lib.IdealHost

@[expose] public section

noncomputable section

namespace Cert.UpValue

open Cert.UpIdeal Cert.UpIdeal.Gen Cert.UpIdeal.Run Cert.UpIdeal.Body Cert.UpIdeal.Copy
open Idealize.ShloMosaic.TcCoe Idealize.ShloMosaic.Tactic Idealize.SL.Sem
open Idealize.ShloMosaic hiding ix1 ix2 ix3 ix4
open Idealize.ShloMosaic.ValueIdx

/-! ## The experts' first product: what a block holds, and what the whole array holds -/

/-- A row's tile. -/
def tileOf (n : Fin 37888) : Fin 148 := ⟨n.val / 256, by omega⟩

/-- The expert a word names. -/
def expertOf (v : BitVec 32) : Fin 16 := ⟨v.toNat % 16, Nat.mod_lt _ (by decide)⟩

/-- The token a word names. -/
def tokenOf (v : BitVec 32) : Fin 16896 := ⟨v.toNat % 16896, Nat.mod_lt _ (by decide)⟩

/-- A token's product with a column of an expert's weights. -/
def product (x : S16896x4096.Idx → EReal) (w : S2x16x4096x1024.Idx → EReal) (r : Fin 16896) (k : Fin 16) (e : Fin 1024) : EReal :=
  ∑ d : Fin 4096, x (ix2 r d) * w (ix4 0 k d e)

/-- The number one, as the programs write it. -/
def one : EReal := Ideal.ofBits .f32 0x3F800000#32

/-- A number times its logistic, times a second number. -/
def gated (g u : EReal) : EReal := g * Ideal.div one (one + Ideal.exp (-g)) * u

/-- The result at an index: the gated product of the row's token by its tile's expert where the tile is used, and zero elsewhere. -/
def entry (x : S16896x4096.Idx → EReal) (s : S37888.Idx → BitVec 32) (wg wu : S2x16x4096x1024.Idx → EReal) (q : S148.Idx → BitVec 32) (u : BitVec 32)
    (n : Fin 37888) (e : Fin 1024) : EReal :=
  if (tileOf n).val < u.toNat then
    gated (product x wg (tokenOf (s (ix1 n))) (expertOf (q (ix1 (tileOf n)))) e) (product x wu (tokenOf (s (ix1 n))) (expertOf (q (ix1 (tileOf n)))) e)
  else 0

/-- The whole result. -/
def array (x : S16896x4096.Idx → EReal) (s : S37888.Idx → BitVec 32) (wg wu : S2x16x4096x1024.Idx → EReal) (q : S148.Idx → BitVec 32) (u : S1.Idx → BitVec 32) :
    S37888x1024.Idx → EReal :=
  fun i => entry x s wg wu q (u (ix1 0)) (i 0) (i 1)

/-- A product of a tile with a weight matrix, at a row and a column. -/
theorem dot_apply (x : FVec Ideal S256x4096 .bf16) (w : FVec Ideal S4096x1024 .bf16) (y : Fin 256) (e : Fin 1024) :
    matmul dot_S256x4096_S4096x1024_S256x1024_1_0_0_1_n_n none x w (constant S256x1024 .f32 0x00000000#32) (ix2 y e)
      = ∑ d : Fin 4096, x (ix2 y d) * w (ix2 d e) := by
  refine (Ideal.matmul_plain_apply (M := 256) (K := 4096) (N := 1024) (φ₁ := .bf16) (φ₂ := .bf16) none x w (constant S256x1024 .f32 0x00000000#32) y e).trans ?_
  rw [constant_apply, Ideal.ofBits_zero_f32, zero_add]

/-- The tile's rows, without the leading axis. -/
theorem rows_apply (x : Vec Ideal S1x256x4096 .f32) (y : Fin 256) (d : Fin 4096) : k0_pay3 (F := Ideal) x (ix2 y d) = x (ix3 0 y d) :=
  shapeCast_apply (t := S256x4096) x shapeCasts_S1x256x4096_S256x4096 (ix2 y d) (ix3 0 y d)
    (by rw [Shape.rowMajor_val_three, Shape.rowMajor_val_two]; show (0 * 256 + y.val) * 4096 + d.val = y.val * 4096 + d.val; omega)

/-- The weights, without the leading axes. -/
theorem weights_apply (w : Vec Ideal S1x1x4096x1024 .bf16) (d : Fin 4096) (e : Fin 1024) :
    shapeCast S4096x1024 w shapeCasts_S1x1x4096x1024_S4096x1024 (ix2 d e) = w (ix4 0 0 d e) :=
  shapeCast_apply w _ _ (ix4 0 0 d e) (by rw [Shape.rowMajor_val_four, Shape.rowMajor_val_two]; show ((0 * 1 + 0) * 4096 + d.val) * 1024 + e.val = d.val * 1024 + e.val; omega)

/-- The gated product of a tile, at a row and a column. -/
theorem gated_apply (x : FVec Ideal S256x4096 .bf16) (wg : FVec Ideal S4096x1024 .bf16) (wu : Vec Ideal S1x1x4096x1024 .bf16) (y : Fin 256) (e : Fin 1024) :
    k0_pay1 (F := Ideal) x wg wu (ix2 y e)
      = gated (∑ d : Fin 4096, x (ix2 y d) * wg (ix2 d e)) (∑ d : Fin 4096, x (ix2 y d) * wu (ix4 0 0 d e)) := by
  have h1 := dot_apply x wg y e
  have h2 := (dot_apply x (shapeCast S4096x1024 wu shapeCasts_S1x1x4096x1024_S4096x1024) y e).trans
    (Finset.sum_congr rfl fun d _ => congrArg (fun v : EReal => x (ix2 y d) * v) (weights_apply wu d e))
  have h3 : ∀ a b : EReal, a * Ideal.div one (one + Ideal.exp (Ideal.ofBits .f32 0x00000000#32 - a)) * b = gated a b := fun a b => by
    rw [Ideal.ofBits_zero_f32, sub_eq_add_neg, zero_add]
    rfl
  rw [← h1, ← h2, ← h3]
  rfl

/-- A block's result at a row and a column. -/
theorem out_apply (xs : S16896x4096.Idx → EReal) (sv : S37888.Idx → BitVec 32) (i : grid0.Coords) (n : BitVec 32) (hn : n.toNat ≤ 147)
    (wg wu : Vec Ideal S1x1x4096x1024 .bf16) (y : Fin 256) (e : Fin 1024) :
    outAt (F := Ideal) xs sv i n wg wu (ix2 y e)
      = if (i 0).val < n.toNat then
          gated (∑ d : Fin 4096, xs (ix2 (numAt sv (i 0).val y.val) d) * wg (ix4 0 0 d e)) (∑ d : Fin 4096, xs (ix2 (numAt sv (i 0).val y.val) d) * wu (ix4 0 0 d e))
        else (0 : EReal) := by
  have hz4 : (![0, 0, 0, 0] : Fin 4 → ℕ) = fun _ => 0 := by funext a; fin_cases a <;> rfl
  have hz2 : (![0, 0] : Fin 2 → ℕ) = fun _ => 0 := by funext a; fin_cases a <;> rfl
  have hc : ∀ v : Vec Ideal S256x1024 .bf16, View.canon [(⟨rO, v⟩ : View.Piece (Elt Ideal) S256x1024 .bf16)] = v := fun v => View.canon_unit_zero (S := S256x1024) hz2 _ v
  have e1 : ∀ w : Vec Ideal S1x1x4096x1024 .bf16, View.ld w rW = w := fun w => View.ld_unit_zero (S := S1x1x4096x1024) hz4 _ w
  unfold outAt
  by_cases h : k0_cond2 i n = 1#1
  · rw [if_pos h, if_pos ((cond2_iff i n hn).1 h), hc, e1, e1, gated_apply]
    refine congrArg₂ gated (Finset.sum_congr rfl fun d _ => congrArg₂ (fun u v : EReal => u * v) ?_ ?_) (Finset.sum_congr rfl fun d _ => congrArg (fun u : EReal => u * wu (ix4 0 0 d e)) ?_)
    · exact (rows_apply _ y d).trans rfl
    · exact weights_apply wg d e
    · exact (rows_apply _ y d).trans rfl
  · rw [if_neg h, if_neg (fun hn' => h ((cond2_iff i n hn).2 hn')), hc]
    unfold k0_pay2
    exact Ideal.ofBits_zero_bf16

/-! ## Where the blocks lie -/

/-- A point's row, as a bounded number. -/
def tileAt (t : Fin grid0.N) : Fin 148 := ⟨t.val, t.isLt⟩

def rowOf (t : Fin 148) (y : Fin 256) : Fin 37888 := ⟨t.val * 256 + y.val, by omega⟩

theorem coord : ∀ t : Fin grid0.N, (grid0.coords t 0).val = t.val := by
  decide +kernel

theorem word_coord : ∀ t : Fin grid0.N, (Scalar.indexCast (BitVec.ofNat 32 (grid0.coords t 0).val)).toNat = t.val := by
  decide +kernel

variable (m : (l : Loc nD τ sig) → Buf (Elt Ideal) l) (h : Fits (F := Ideal) m) (c : Dev nD)

/-- The word the index map loads is the tile's. -/
theorem table_word (t : Fin grid0.N) :
    (show BitVec 32 from (adm m h).1.at 1 (Rect.unit (s := S148) ![(Scalar.indexCast (BitVec.ofNat 32 (grid0.coords t 0).val)).toNat] S1.size (facts₀.k0_off1_inb (grid0.coords t))) facts₀.numel1_S1)
      = m ((c : Thread nD τ).loc main_arg4) (ix1 (tileAt t)) := by
  obtain rfl : c = 0 := Subsingleton.elim _ _
  refine congrArg (m (((0 : Dev nD) : Thread nD τ).loc main_arg4)) (funext fun a => Fin.ext ?_)
  match a with
  | ⟨0, _⟩ => show (Scalar.indexCast (BitVec.ofNat 32 (grid0.coords t 0).val)).toNat + 1 * 0 = t.val; rw [word_coord]; omega

theorem block_g (t : Fin grid0.N) (d : Fin 4096) (e : Fin 1024) :
    iblk m (adm m h) c 0 t (ix4 0 0 d e) = m ((c : Thread nD τ).loc main_arg2) (ix4 0 (expertOf (m ((c : Thread nD τ).loc main_arg4) (ix1 (tileAt t)))) d e) := by
  show m ((c : Thread nD τ).loc main_arg2) ((((cfg0 (adm m h)).win 0).blk t).view.emb (ix4 0 0 d e)) = _
  refine congrArg (m ((c : Thread nD τ).loc main_arg2)) (funext fun a => Fin.ext ?_)
  match a with
  | ⟨0, _⟩ => show 0 * 1 + 1 * 0 = 0; omega
  | ⟨1, _⟩ =>
    show (BitVec.toNat ((adm m h).1.at 1 (Rect.unit (s := S148) ![(Scalar.indexCast (BitVec.ofNat 32 (grid0.coords t 0).val)).toNat] S1.size (facts₀.k0_off1_inb (grid0.coords t))) facts₀.numel1_S1)) * 1 + 1 * 0 = (BitVec.toNat (m ((c : Thread nD τ).loc main_arg4) (ix1 (tileAt t)))) % 16
    have e1 := congrArg BitVec.toNat (table_word m h c t)
    have e2 := h.expert c (ix1 (tileAt t))
    refine ((Nat.mul_one _).trans e1).trans (Nat.mod_eq_of_lt e2).symm
  | ⟨2, _⟩ => show 0 * 4096 + 1 * d.val = d.val; omega
  | ⟨3, _⟩ => show 0 * 1024 + 1 * e.val = e.val; omega

theorem block_u (t : Fin grid0.N) (d : Fin 4096) (e : Fin 1024) :
    iblk m (adm m h) c 1 t (ix4 0 0 d e) = m ((c : Thread nD τ).loc main_arg3) (ix4 0 (expertOf (m ((c : Thread nD τ).loc main_arg4) (ix1 (tileAt t)))) d e) := by
  show m ((c : Thread nD τ).loc main_arg3) ((((cfg0 (adm m h)).win 1).blk t).view.emb (ix4 0 0 d e)) = _
  refine congrArg (m ((c : Thread nD τ).loc main_arg3)) (funext fun a => Fin.ext ?_)
  match a with
  | ⟨0, _⟩ => show 0 * 1 + 1 * 0 = 0; omega
  | ⟨1, _⟩ =>
    show (BitVec.toNat ((adm m h).1.at 1 (Rect.unit (s := S148) ![(Scalar.indexCast (BitVec.ofNat 32 (grid0.coords t 0).val)).toNat] S1.size (facts₀.k0_off1_inb (grid0.coords t))) facts₀.numel1_S1)) * 1 + 1 * 0 = (BitVec.toNat (m ((c : Thread nD τ).loc main_arg4) (ix1 (tileAt t)))) % 16
    have e1 := congrArg BitVec.toNat (table_word m h c t)
    have e2 := h.expert c (ix1 (tileAt t))
    refine ((Nat.mul_one _).trans e1).trans (Nat.mod_eq_of_lt e2).symm
  | ⟨2, _⟩ => show 0 * 4096 + 1 * d.val = d.val; omega
  | ⟨3, _⟩ => show 0 * 1024 + 1 * e.val = e.val; omega

/-- Where an output block's entry lies in the result. -/
theorem emb_out (t : Fin grid0.N) (y : Fin 256) (e : Fin 1024) :
    (((cfg0 (adm m h)).win 2).blk t).view.emb (ix2 y e) = (ix2 (rowOf (tileAt t) y) e : S37888x1024.Idx) := by
  refine funext fun a => Fin.ext ?_
  match a with
  | ⟨0, _⟩ => show (Scalar.indexCast (BitVec.ofNat 32 (grid0.coords t 0).val)).toNat * 256 + 1 * y.val = t.val * 256 + y.val; rw [word_coord]; omega
  | ⟨1, _⟩ => show 0 * 1024 + 1 * e.val = e.val; omega

/-- Every point writes its block back. -/
theorem flush_out (t : Fin grid0.N) : ((cfg0 (adm m h)).win 2).flush t = true :=
  (Pipeline.Window.flush_reads ((cfg0 (adm m h)).win 2) rfl 0 (show 1 < grid0.bound 0 by decide) (show grid0.fixedAfter spec0_2.reads 0 = true by decide) (Pipeline.Window.sep_of_coord cc0_transform_3 0 0 (fun _ => rfl) (by decide)) (P := 1) (m := 0) (show grid0.stride 0 = 1 by decide) rfl t).mpr (Nat.mod_one _)

/-- The whole result, of the launch memory. -/
def wholeOut : Buf (Elt Ideal) ((c : Thread nD τ).loc main_v0) :=
  array (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- The token of a row, as the copies read it. -/
theorem token (t : Fin grid0.N) (y : Fin 256) :
    numAt (nums (adm m h)) t.val y.val = tokenOf (show BitVec 32 from m ((c : Thread nD τ).loc main_arg1) (ix1 (rowOf (tileAt t) y))) := by
  obtain rfl : c = 0 := Subsingleton.elim _ _
  have ht : t.val < 148 := t.isLt
  have hy : y.val < 256 := y.isLt
  refine congrArg tokenOf (congrArg (m (((0 : Dev nD) : Thread nD τ).loc main_arg1)) (funext fun a => match a with | ⟨0, _⟩ => Fin.ext ?_))
  show (256 * t.val + y.val) % 37888 = t.val * 256 + y.val
  omega

/-- What a point writes back is its block of the whole result. -/
theorem flushed_out (t : Fin grid0.N) : (dats m (adm m h) 0 c).flushed 2 t = (((cfg0 (adm m h)).win 2).blk t).view.read (Elt Ideal) (wholeOut m c) := by
  show ((cfg0 (adm m h)).win 2).cut (grid0.coords t) ((dats m (adm m h) 0 c).after 2 t) = _
  rw [after_2]
  funext j
  obtain ⟨y, e, rfl⟩ : ∃ (y : Fin 256) (e : Fin 1024), j = ix2 y e := ⟨(show S256x1024.Idx from j) 0, (show S256x1024.Idx from j) 1, ValueIdx.eq_ix2 (show S256x1024.Idx from j)⟩
  have hu : used (adm m h) = (show BitVec 32 from m ((c : Thread nD τ).loc main_arg5) (ix1 0)) := by
    obtain rfl : c = 0 := Subsingleton.elim _ _
    exact congrArg (m (((0 : Dev nD) : Thread nD τ).loc main_arg5)) (funext fun a => match a with | ⟨0, _⟩ => rfl)
  have hn : (used (adm m h)).toNat ≤ 147 := hu ▸ h.count c (ix1 0)
  refine (out_apply (opd m c) (nums (adm m h)) (grid0.coords t) (used (adm m h)) hn (iblk m (adm m h) c 0 t) (iblk m (adm m h) c 1 t) y e).trans ?_
  refine Eq.trans ?_ (congrArg (wholeOut m c) (emb_out m h t y e)).symm
  show _ = entry _ _ _ _ _ _ (rowOf (tileAt t) y) e
  have ht : tileOf (rowOf (tileAt t) y) = tileAt t := Fin.ext (show (t.val * 256 + y.val) / 256 = t.val by omega)
  unfold entry
  rw [ht, coord, token m h c, hu]
  refine if_congr Iff.rfl ?_ rfl
  exact congrArg₂ gated (Finset.sum_congr rfl fun d _ => congrArg (fun v : EReal => _ * v) (block_g m h c t d e))
    (Finset.sum_congr rfl fun d _ => congrArg (fun v : EReal => _ * v) (block_u m h c t d e))

/-- Every entry of the result is in some point's block. -/
theorem cover_out (i : S37888x1024.Idx) : ∃ t : Fin grid0.N, ((cfg0 (adm m h)).win 2).flush t = true ∧ i ∈ (((cfg0 (adm m h)).win 2).blk t).view.set := by
  obtain ⟨n, e, rfl⟩ : ∃ (n : Fin 37888) (e : Fin 1024), i = ix2 n e := ⟨i 0, i 1, ValueIdx.eq_ix2 i⟩
  have ht : n.val / 256 < 148 := by omega
  refine ⟨(⟨n.val / 256, ht⟩ : Fin grid0.N), flush_out m h _, ?_⟩
  have hm := (((cfg0 (adm m h)).win 2).blk (⟨n.val / 256, ht⟩ : Fin grid0.N)).view.emb_mem_set (ix2 ⟨n.val % 256, by omega⟩ e)
  rw [emb_out] at hm
  refine cast (congrArg (· ∈ (((cfg0 (adm m h)).win 2).blk (⟨n.val / 256, ht⟩ : Fin grid0.N)).view.set) (funext fun a => Fin.ext ?_)) hm
  match a with
  | ⟨0, _⟩ => show n.val / 256 * 256 + n.val % 256 = n.val; omega
  | ⟨1, _⟩ => rfl

/-- The result array after the run. -/
theorem arrAt_out : (dats m (adm m h) 0 c).arrAt 2 (cfg0 (adm m h)).N = wholeOut m c :=
  (dats m (adm m h) 0 c).arrAt_eq_of_cover 2 (wholeOut m c) (fun t _ => flushed_out m h c t) (cover_out m h)

end Cert.UpValue

end
-- ==== Proof.UpRef.lean ====
module

public import proofs.«01_k».proof.Proof.UpValue
public import proofs.«01_k».proof.Proof.DownWord
public import Idealize.ShloMosaic.Lib.Pointwise
public import Idealize.ShloMosaic.Lib.StableHlo.Predicate

@[expose] public section

noncomputable section

namespace Cert.UpValue

open Cert.UpReferenceIdeal Cert.UpReferenceIdeal.Read Idealize.ShloMosaic.ValueIdx
open Idealize.ShloMosaic hiding ix1 ix2 ix3 ix4

/-! ## The reference: every expert's gated product of every row's token, kept for the tile's expert where the tile is used -/

/-- Rows of a table picked by one list of indices. -/
theorem gather_rows_apply {N C R : ℕ} {α : Type} (hN : 0 < N)
    (g : GatherDims ⟨2, ![N, C]⟩ ⟨2, ![R, 1]⟩ ⟨2, ![R, C]⟩)
    (ho : g.offsetDims = [1]) (hc : g.collapsedSliceDims = [0]) (hb : g.operandBatchingDims = []) (hsb : g.startIndicesBatchingDims = [])
    (hm : g.startIndexMap = [0]) (hv : g.indexVectorDim = 1) (hs : g.sliceSizes = ![1, C])
    (x : (⟨2, ![N, C]⟩ : Shape).Idx → α) (idx : IVec ⟨2, ![R, 1]⟩ 32) (k : Fin R) (h : Fin C) :
    Host.gather g x idx (ix2 k h) = x (ix2 ⟨min (idx (ix2 k 0)).toInt.toNat (N - 1), by omega⟩ h) := by
  obtain ⟨od, cd, bd, sb, sm, iv, ss, wf⟩ := g
  dsimp only at ho hc hb hsb hm hv hs
  subst ho hc hb hsb hm hv hs
  unfold Host.gather
  congr 1
  funext a
  refine Fin.ext ?_
  show GatherDims.start _ (ix2 k h) idx a + GatherDims.batchCoord _ (ix2 k h) a + GatherDims.offCoord _ (ix2 k h) a = _
  rw [GatherDims.batchCoord_eq_zero _ _ _ List.not_mem_nil]
  match a with
  | ⟨1, _⟩ =>
    refine (congrArg₂ (· + ·) (congrArg (· + 0) (dif_neg (show ¬((1 : Fin 2) ∈ [(0 : Fin 2)]) by decide)))
      (dif_pos ((GatherDims.mem_sKept _ _).mpr ⟨show ¬((1 : Fin 2) ∈ [(0 : Fin 2)]) by decide, List.not_mem_nil⟩))).trans ?_
    show 0 + 0 + h.val = h.val
    omega
  | ⟨0, _⟩ =>
    rw [GatherDims.offCoord_eq_zero _ _ _ (fun h => ((GatherDims.mem_sKept _ _).mp h).1 (List.mem_singleton.mpr rfl))]
    refine (congrArg (fun n => n + 0 + 0) (dif_pos (show (0 : Fin 2) ∈ [(0 : Fin 2)] from List.mem_singleton.mpr rfl))).trans ?_
    refine congrArg (fun w : BitVec 32 => min w.toInt.toNat (N - 1)) (congrArg idx (funext fun b => Fin.ext ?_))
    match b with
    | ⟨0, _⟩ => rfl
    | ⟨1, _⟩ => rfl

/-- A token's number wrapped when negative, which it never is. -/
theorem wrap_eq (w : BitVec 32) (h : w.toNat < 16896) :
    min (Scalar.select (IntOp.cmpi .slt w 0#32) (IntOp.addi w 16896#32) w).toInt.toNat 16895 = (tokenOf w).val := by
  have e0 : (0#32).toInt = 0 := by decide
  have ew : w.toInt = w.toNat := BitVec.toInt_eq_toNat_of_lt (by omega)
  have hr : Scalar.select (IntOp.cmpi .slt w 0#32) (IntOp.addi w 16896#32) w = w := by
    unfold IntOp.cmpi Scalar.select
    dsimp only
    rw [show w.slt 0#32 = decide (w.toInt < (0#32).toInt) from rfl, e0, decide_eq_false (by omega)]
    rfl
  rw [hr, ew]
  show _ = w.toNat % 16896
  omega

/-- The rows the reference takes. -/
theorem rows_taken (x : S16896x4096.Idx → EReal) (s : S37888.Idx → BitVec 32) (hs : ∀ i, (s i).toNat < 16896) (n : Fin 37888) (d : Fin 4096) :
    val_main_v6 (F := Ideal) x s (ix2 n d) = x (ix2 (tokenOf (s (ix1 n))) d) := by
  unfold val_main_v6
  refine (gather_rows_apply (N := 16896) (C := 4096) (R := 37888) (by decide) _ rfl rfl rfl rfl rfl rfl rfl x _ n d).trans ?_
  refine congrArg x (congrArg (fun r : Fin 16896 => (ix2 r d : S16896x4096.Idx)) (Fin.ext ?_))
  refine Eq.trans (congrArg (fun w : BitVec 32 => min w.toInt.toNat 16895) ?_) (wrap_eq (s (ix1 n)) (hs _))
  rw [val_main_v5_apply, show (idx_main_v5 (ix2 n 0) : S37888.Idx) = ix1 n from funext fun a => match a with | ⟨0, _⟩ => rfl]
  rw [val_main_v4_apply, val_main_v1_apply, val_main_v3_apply, val_main_v0_apply, val_main_v2_apply]
  rfl

/-- The product of a row's token with every expert's gate weights, -/
theorem gate_product (x : S16896x4096.Idx → EReal) (s : S37888.Idx → BitVec 32) (hs : ∀ i, (s i).toNat < 16896) (w : S2x16x4096x1024.Idx → EReal)
    (n : Fin 37888) (k : Fin 16) (e : Fin 1024) : val_main_v10 (F := Ideal) x s w (ix3 n k e) = product x w (tokenOf (s (ix1 n))) k e := by
  rw [val_main_v10_apply]
  unfold product
  refine Finset.sum_congr rfl fun d _ => congrArg₂ (fun u v : EReal => u * v) (Eq.trans (congrArg (val_main_v6 (F := Ideal) x s) ?_) (rows_taken x s hs n d)) ?_
  · exact funext fun a => match a with | ⟨0, _⟩ => rfl | ⟨1, _⟩ => rfl
  · show val_main_v8 (F := Ideal) w (ridx_main_v10 (ix3 n k e) d) = _
    rw [val_main_v8_apply, val_main_v7_apply]
    refine congrArg w (funext fun a => Fin.ext ?_)
    match a with
    | ⟨0, _⟩ => rfl
    | ⟨1, _⟩ => show ((k.val * 4096 + d.val) * 1024 + e.val) / 4194304 % 16 = k.val; omega
    | ⟨2, _⟩ => show ((k.val * 4096 + d.val) * 1024 + e.val) / 1024 % 4096 = d.val; omega
    | ⟨3, _⟩ => show ((k.val * 4096 + d.val) * 1024 + e.val) % 1024 = e.val; omega

/-- and with every expert's other weights. -/
theorem other_product (x : S16896x4096.Idx → EReal) (s : S37888.Idx → BitVec 32) (hs : ∀ i, (s i).toNat < 16896) (w : S2x16x4096x1024.Idx → EReal)
    (n : Fin 37888) (k : Fin 16) (e : Fin 1024) : val_main_v14 (F := Ideal) x s w (ix3 n k e) = product x w (tokenOf (s (ix1 n))) k e := by
  rw [val_main_v14_apply]
  unfold product
  refine Finset.sum_congr rfl fun d _ => congrArg₂ (fun u v : EReal => u * v) (Eq.trans (congrArg (val_main_v6 (F := Ideal) x s) ?_) (rows_taken x s hs n d)) ?_
  · exact funext fun a => match a with | ⟨0, _⟩ => rfl | ⟨1, _⟩ => rfl
  · show val_main_v12 (F := Ideal) w (ridx_main_v14 (ix3 n k e) d) = _
    rw [val_main_v12_apply, val_main_v11_apply]
    refine congrArg w (funext fun a => Fin.ext ?_)
    match a with
    | ⟨0, _⟩ => rfl
    | ⟨1, _⟩ => show ((k.val * 4096 + d.val) * 1024 + e.val) / 4194304 % 16 = k.val; omega
    | ⟨2, _⟩ => show ((k.val * 4096 + d.val) * 1024 + e.val) / 1024 % 4096 = d.val; omega
    | ⟨3, _⟩ => show ((k.val * 4096 + d.val) * 1024 + e.val) % 1024 = e.val; omega

/-- The gated product of a row's token by an expert. -/
theorem gated_product (x : S16896x4096.Idx → EReal) (s : S37888.Idx → BitVec 32) (hs : ∀ i, (s i).toNat < 16896) (wg wu : S2x16x4096x1024.Idx → EReal)
    (n : Fin 37888) (k : Fin 16) (e : Fin 1024) :
    val_main_v34 (F := Ideal) x s wg wu (ix3 n k e) = gated (product x wg (tokenOf (s (ix1 n))) k e) (product x wu (tokenOf (s (ix1 n))) k e) := by
  rw [val_main_v34_apply, val_main_v33_apply, val_main_call1_v5_apply, val_main_call1_v4_apply, val_main_call1_cst_0_apply, val_main_call1_v3_apply,
    val_main_call1_v2_apply, val_main_call1_cst_apply, val_main_call1_v1_apply, val_main_call1_v0_apply, gate_product x s hs, other_product x s hs]
  rfl

/-- A row's tile, as the host computes it. -/
theorem tile_apply (n : Fin 37888) : val_main_v16 (F := Ideal) (ix1 n) = BitVec.ofNat 32 (tileOf n).val := by
  have h := Cert.DownValue.tileWord_nat ⟨n.val / 256, by omega⟩ ⟨n.val % 256, by omega⟩
  rw [show n.val / 256 * 256 + n.val % 256 = n.val by omega] at h
  exact Eq.trans rfl h

/-- A tile's number is below the count as signed words exactly where it is below it. -/
theorem used_iff (n : Fin 37888) (u : BitVec 32) (hu : u.toNat ≤ 147) : (BitVec.ofNat 32 (tileOf n).val).slt u = decide ((tileOf n).val < u.toNat) := by
  have hlt := (tileOf n).isLt
  have ha : (BitVec.ofNat 32 (tileOf n).val).toNat = (tileOf n).val := by rw [BitVec.toNat_ofNat]; omega
  have e1 : (BitVec.ofNat 32 (tileOf n).val).toInt = (tileOf n).val := by rw [BitVec.toInt_eq_toNat_of_lt (by omega), ha]
  have e2 : u.toInt = u.toNat := BitVec.toInt_eq_toNat_of_lt (by omega)
  rw [show (BitVec.ofNat 32 (tileOf n).val).slt u = decide ((BitVec.ofNat 32 (tileOf n).val).toInt < u.toInt) from rfl, e1, e2]
  exact decide_eq_decide.2 Int.ofNat_lt

/-- Whether a row's tile is the expert's and is used. -/
theorem mine_apply (q : S148.Idx → BitVec 32) (u : S1.Idx → BitVec 32) (hu : ∀ i, (u i).toNat ≤ 147) (n : Fin 37888) (k : Fin 16) (e : Fin 1024) :
    val_main_v35 (F := Ideal) q u (ix3 n k e)
      = if q (ix1 (tileOf n)) = BitVec.ofNat 32 k.val ∧ (tileOf n).val < (u (ix1 0)).toNat then (1 : EReal) else 0 := by
  have h1 : val_main_v22 (F := Ideal) q (ix2 n k) = q (ix1 (tileOf n)) := by
    rw [val_main_v22_apply, val_main_v19_apply, val_main_v18_apply, val_main_v17_apply]
    exact congrArg q (funext fun a => Fin.ext (match a with | ⟨0, _⟩ => rfl))
  have h2 : val_main_v23 (F := Ideal) (ix2 n k) = BitVec.ofNat 32 k.val := by
    rw [val_main_v23_apply, val_main_v21_apply, val_main_v20_apply]
  have h3 : val_main_v29 (F := Ideal) u (ix2 n k) = IntOp.cmpi .slt (BitVec.ofNat 32 (tileOf n).val) (u (ix1 0)) := by
    rw [val_main_v29_apply, val_main_v28_apply, val_main_v27_apply, val_main_v26_apply]
    refine congrArg₂ (IntOp.cmpi .slt) (Eq.trans (congrArg (val_main_v16 (F := Ideal)) (funext fun a => match a with | ⟨0, _⟩ => rfl)) (tile_apply n)) ?_
    exact shapeCast_apply u _ _ (ix1 0) rfl
  rw [val_main_v35_apply, val_main_v32_apply]
  rw [show (idx_main_v32 (idx_main_v35 (ix3 n k e)) : S37888x16.Idx) = ix2 n k from funext fun a => match a with | ⟨0, _⟩ => rfl | ⟨1, _⟩ => rfl]
  rw [val_main_v31_apply, val_main_v30_apply, val_main_v24_apply, h1, h2, h3]
  simp only [IntOp.cmpi]
  rw [used_iff n _ (hu _)]
  generalize q (ix1 (tileOf n)) = a
  generalize BitVec.ofNat 32 k.val = b
  by_cases hab : a = b
  · by_cases hs : (tileOf n).val < (u (ix1 0)).toNat <;> simp [hab, hs, IntOp.andi, FloatOps.uitofp]
  · have hf : (a == b) = false := beq_eq_false_iff_ne.2 hab
    by_cases hs : (tileOf n).val < (u (ix1 0)).toNat <;> simp [hab, hf, hs, IntOp.andi, FloatOps.uitofp]

/-- The reference's result is the same array, where the three tables are in range. -/
theorem reference_eq (x : S16896x4096.Idx → EReal) (s : S37888.Idx → BitVec 32) (wg wu : S2x16x4096x1024.Idx → EReal) (q : S148.Idx → BitVec 32)
    (u : S1.Idx → BitVec 32) (hs : ∀ i, (s i).toNat < 16896) (hq : ∀ i, (q i).toNat < 16) (hu : ∀ i, (u i).toNat ≤ 147) :
    val_main_v38 (F := Ideal) x s wg wu q u = array x s wg wu q u := by
  funext i
  obtain ⟨n, e, rfl⟩ : ∃ (n : Fin 37888) (e : Fin 1024), i = ix2 n e := ⟨i 0, i 1, ValueIdx.eq_ix2 i⟩
  show val_main_v37 (F := Ideal) x s wg wu q u (ix2 n e) = entry x s wg wu q (u (ix1 0)) n e
  rw [val_main_v37_apply, val_main_cst_apply, show (FloatOps.ofBits .f32 0x00000000#32 : Ideal .f32) = (0 : EReal) from Ideal.ofBits_zero_f32, zero_add]
  have hk : ∀ k : Fin 16, val_main_v36 (F := Ideal) x s wg wu q u (idx_main_v37 (ix2 n e) k)
      = if k = expertOf (q (ix1 (tileOf n))) then entry x s wg wu q (u (ix1 0)) n e else (0 : EReal) := fun k => by
    rw [show (idx_main_v37 (ix2 n e) k : S37888x16x1024.Idx) = ix3 n k e from funext fun a => match a with | ⟨0, _⟩ => rfl | ⟨1, _⟩ => rfl | ⟨2, _⟩ => rfl]
    rw [val_main_v36_apply, mine_apply q u hu, gated_product x s hs]
    have hb : q (ix1 (tileOf n)) = BitVec.ofNat 32 k.val ↔ k = expertOf (q (ix1 (tileOf n))) := by
      have hlt := hq (ix1 (tileOf n))
      have hk := k.isLt
      rw [Fin.ext_iff, BitVec.toNat_inj.symm, BitVec.toNat_ofNat]
      show _ ↔ k.val = (q (ix1 (tileOf n))).toNat % 16
      omega
    show (if _ then (1 : EReal) else 0) * gated (product x wg _ k e) (product x wu _ k e) = _
    unfold entry
    by_cases h1 : k = expertOf (q (ix1 (tileOf n)))
    · rw [if_pos h1, ← h1]
      by_cases h2 : (tileOf n).val < (u (ix1 0)).toNat
      · rw [if_pos ⟨hb.2 h1, h2⟩, if_pos h2, one_mul]
      · rw [if_neg (fun hh => h2 hh.2), if_neg h2, zero_mul]
    · rw [if_neg (fun hh => h1 (hb.1 hh.1)), if_neg h1, zero_mul]
  rw [Finset.sum_congr rfl fun k _ => hk k, Finset.sum_ite_eq' Finset.univ (expertOf (q (ix1 (tileOf n))))]
  rw [if_pos (Finset.mem_univ _)]

end Cert.UpValue

end
-- ==== Proof.NormValue.lean ====
module

public import proofs.«01_k».proof.Proof.Gen.NormIdeal.Value
public import proofs.«01_k».proof.Proof.Gen.NormReferenceIdeal.Read
public import Idealize.ShloMosaic.Lib.ValueIdx
public import Idealize.ShloMosaic.Lib.ValueIdxCoords
public import Idealize.ShloMosaic.Lib.MatmulPlain
public import Idealize.ShloMosaic.Lib.StableHlo.RunRead
public import Idealize.ShloMosaic.Lib.Pointwise.ElementwiseCore
public import Idealize.ShloMosaic.Lib.Pipeline.ValueKit.Tiles

@[expose] public section

noncomputable section

namespace Cert.NormValue

open Cert.NormIdeal Cert.NormIdeal.Gen Idealize.ShloMosaic Idealize.ShloMosaic.TcCoe Idealize.ShloMosaic.Tactic Idealize.SL.Sem
open Idealize.ShloMosaic.ValueIdx

/-! ## The normed rows times the weights: what a block holds, and what the whole array holds -/

/-- A row divided by its root mean square, times the gain and the modulation, plus the shift: its entry at a column. -/
def normAt (x : Fin 4096 → EReal) (g sh sc : EReal) (d : Fin 4096) : EReal :=
  x d * Ideal.rsqrt (FloatOps.divf (F := Ideal) (φ := .f32) (∑ k : Fin 4096, x k * x k) (FloatOps.ofBits (F := Ideal) .f32 0x45800000#32)
      + FloatOps.ofBits (F := Ideal) .f32 0x358637BD#32) * g * (FloatOps.ofBits (F := Ideal) .f32 0x3F800000#32 + sc) + sh

/-- The activation, written with the hyperbolic tangent. -/
def gelu (z : EReal) : EReal :=
  z * (FloatOps.ofBits (F := Ideal) .f32 0x3F000000#32 * (FloatOps.ofBits (F := Ideal) .f32 0x3F800000#32
    + Ideal.tanh (FloatOps.ofBits (F := Ideal) .f32 0x3F4C422A#32 * (z + FloatOps.ofBits (F := Ideal) .f32 0x3D372713#32 * (z * (z * z))))))

/-- The result at an index: the activation of the normed row's product with the column of the weights, plus the bias. -/
def entry (x : S2x8192x4096.Idx → EReal) (g : S4096.Idx → EReal) (sh sc : S2x1x4096.Idx → EReal) (w : S4096x8192.Idx → EReal) (bias : S8192.Idx → EReal)
    (b : Fin 2) (n : Fin 8192) (e : Fin 8192) : EReal :=
  gelu ((∑ d : Fin 4096, normAt (fun k => x (ix3 b n k)) (g (ix1 d)) (sh (ix3 b 0 d)) (sc (ix3 b 0 d)) d * w (ix2 d e)) + bias (ix1 e))

/-- The whole result. -/
def array (x : S2x8192x4096.Idx → EReal) (g : S4096.Idx → EReal) (sh sc : S2x1x4096.Idx → EReal) (w : S4096x8192.Idx → EReal) (bias : S8192.Idx → EReal) :
    S2x8192x8192.Idx → EReal :=
  fun i => entry x g sh sc w bias (i 0) (i 1) (i 2)

/-- What one trip of the loop stores: its sixty-four rows, normed. -/
theorem rows_apply (g : Vec Ideal S1x4096 .f32) (sh sc : Vec Ideal S1x1x4096 .f32) (x : Vec Ideal S1x64x4096 .f32) (i : Fin 64) (d : Fin 4096) :
    k0_pay1 g sh sc x (ix2 i d) = normAt (fun k => x (ix3 0 i k)) (g (ix2 0 d)) (sh (ix3 0 0 d)) (sc (ix3 0 0 d)) d := by
  unfold k0_pay1
  dsimp only
  rw [shapeCast_self, truncf_apply]
  refine (shapeCast_apply _ _ _ (ix3 0 i d) (by rw [Shape.rowMajor_val_three, Shape.rowMajor_val_two]; show (0 * 64 + i.val) * 4096 + d.val = i.val * 4096 + d.val; omega)).trans ?_
  rw [addf_apply, mulf_apply, mulf_apply, mulf_apply]
  unfold normAt
  refine congrArg₂ (fun u v : EReal => u + v) (congrArg₂ (fun u v : EReal => u * v) (congrArg₂ (fun u v : EReal => u * v) (congrArg₂ (fun u v : EReal => u * v) rfl ?_) ?_) ?_) ?_
  · refine (broadcastTo_apply _ _ _ (ix3 0 i 0) (fun a => match a with
      | ⟨0, _⟩ => rfl
      | ⟨1, _⟩ => rfl
      | ⟨2, _⟩ => rfl)).trans ?_
    rw [rsqrt_apply, addf_apply, divf_apply, broadcast_apply, broadcast_apply]
    refine congrArg (fun s : EReal => Ideal.rsqrt (FloatOps.divf (F := Ideal) (φ := .f32) s (FloatOps.ofBits (F := Ideal) .f32 0x45800000#32)
      + FloatOps.ofBits (F := Ideal) .f32 0x358637BD#32)) ?_
    refine (shapeCast_apply _ _ _ (ix2 0 i) (by rw [Shape.rowMajor_val_three, Shape.rowMajor_val_two]; show 0 * 64 + i.val = (0 * 64 + i.val) * 1 + 0; omega)).trans ?_
    refine (Ideal.multiReduction_add_single (mulf (F := Ideal) (φ := .f32) x x) _ _ _ rfl (ix2 0 i)).trans ?_
    refine Finset.sum_congr rfl fun k _ => ?_
    have e : reduces_S1x64x4096_S1x64.lift (ix2 0 i) k = (ix3 0 i k : S1x64x4096.Idx) := by
      funext a; apply Fin.ext
      match a with
      | ⟨0, _⟩ => rfl
      | ⟨1, _⟩ => rfl
      | ⟨2, _⟩ => rfl
    exact congrArg (mulf (F := Ideal) (φ := .f32) x x) e
  · refine (broadcastTo_apply _ _ _ (ix3 0 0 d) (fun a => match a with
      | ⟨0, _⟩ => rfl
      | ⟨1, _⟩ => rfl
      | ⟨2, _⟩ => rfl)).trans ?_
    refine (shapeCast_apply _ _ _ (ix2 0 d) (by rw [Shape.rowMajor_val_three, Shape.rowMajor_val_two]; show 0 * 4096 + d.val = (0 * 1 + 0) * 4096 + d.val; omega)).trans ?_
    rw [shapeCast_self]
  · exact broadcastTo_apply _ _ _ (ix3 0 0 d) (fun a => match a with
      | ⟨0, _⟩ => rfl
      | ⟨1, _⟩ => rfl
      | ⟨2, _⟩ => rfl)
  · exact broadcastTo_apply _ _ _ (ix3 0 0 d) (fun a => match a with
      | ⟨0, _⟩ => rfl
      | ⟨1, _⟩ => rfl
      | ⟨2, _⟩ => rfl)

/-- The product of a block of rows with a block of columns, plus the bias of the column. -/
theorem product_apply (s : Vec Ideal S512x4096 .bf16) (w : Vec Ideal S4096x1024 .bf16) (bias : Vec Ideal S1x1024 .f32) (y : Fin 512) (e : Fin 1024) :
    addf (F := Ideal) (φ := .f32) (matmul (φ₁ := .bf16) (φ₂ := .bf16) dot_S512x4096_S4096x1024_S512x1024_1_0_0_1_n_n none s w (constant S512x1024 .f32 0x00000000#32))
      (broadcastTo S512x1024 (shapeCast S1x1024 bias shapeCasts_S1x1024_S1x1024) broadcasts_S1x1024_S512x1024) (ix2 y e)
        = (∑ d : Fin 4096, s (ix2 y d) * w (ix2 d e)) + bias (ix2 0 e) := by
  rw [addf_apply, shapeCast_self]
  refine congrArg₂ (fun u v : EReal => u + v) ?_ ?_
  · refine (Ideal.matmul_plain_apply (M := 512) (K := 4096) (N := 1024) (φ₁ := .bf16) (φ₂ := .bf16) none s w (constant S512x1024 .f32 0x00000000#32) y e).trans ?_
    rw [constant_apply, Ideal.ofBits_zero_f32, zero_add]
  · exact broadcastTo_apply _ _ _ (ix2 0 e) (fun a => match a with
      | ⟨0, _⟩ => rfl
      | ⟨1, _⟩ => rfl)

/-- What a point stores, of the normed rows that the scratch holds. -/
theorem out_apply (s : Vec Ideal S512x4096 .bf16) (w : Vec Ideal S4096x1024 .bf16) (bias : Vec Ideal S1x1024 .f32) (y : Fin 512) (e : Fin 1024) :
    k0_pay2 s w bias (ix3 0 y e) = gelu ((∑ d : Fin 4096, s (ix2 y d) * w (ix2 d e)) + bias (ix2 0 e)) := by
  unfold k0_pay2
  rw [truncf_apply]
  refine (shapeCast_apply _ _ _ (ix2 y e) (by rw [Shape.rowMajor_val_three, Shape.rowMajor_val_two]; show y.val * 1024 + e.val = (0 * 512 + y.val) * 1024 + e.val; omega)).trans ?_
  have hz := product_apply s w bias y e
  generalize addf (F := Ideal) (φ := .f32) (matmul (φ₁ := .bf16) (φ₂ := .bf16) dot_S512x4096_S4096x1024_S512x1024_1_0_0_1_n_n none s w (constant S512x1024 .f32 0x00000000#32))
      (broadcastTo S512x1024 (shapeCast S1x1024 bias shapeCasts_S1x1024_S1x1024) broadcasts_S1x1024_S512x1024) = z at hz ⊢
  rw [← hz]
  rfl

theorem zero2 : (![0, 0] : Fin 2 → ℕ) = fun _ => 0 := by funext a; fin_cases a <;> rfl

theorem zero3 : (![0, 0, 0] : Fin 3 → ℕ) = fun _ => 0 := by funext a; fin_cases a <;> rfl

/-- A load of a whole buffer is what the buffer holds. -/
theorem read_whole {σ : RefSig} {S : Shape} {φ : EltTy} (M : Memref σ .tc .vmem S φ) (h : M.IsWhole) {off : Fin S.rank → ℕ} (hz : off = fun _ => 0)
    (inb : ∀ a, off a + S.size a ≤ S.size a) (x : Vec Ideal S φ) :
    View.readAt (Elt Ideal) M.view (Rect.unit (s := S) off S.size inb).toLoadRect (h.unread x) = x := by
  rw [View.readAt_eq_ld, h.read_unread]
  exact View.ld_unit_zero hz inb x

/-- One piece that covers the block, read back. -/
theorem canon_block (v : Vec Ideal S1x512x1024 .bf16) :
    View.canon [(⟨Rect.unit (s := S1x512x1024) ![0, 0, 0] ![1, 512, 1024] inb_S1x512x1024_S1x512x1024_0_0_0, v⟩ : View.Piece (Elt Ideal) S1x512x1024 .bf16)] = v :=
  View.canon_unit_zero (S := S1x512x1024) zero3 _ v

/-- The block of normed rows that the scratch holds. -/
def normed (x : S1x512x4096.Idx → EReal) (g : S1x4096.Idx → EReal) (sh sc : S1x1x4096.Idx → EReal) : S512x4096.Idx → EReal :=
  fun i => normAt (fun k => x (ix3 0 (i 0) k)) (g (ix2 0 (i 1))) (sh (ix3 0 0 (i 1))) (sc (ix3 0 0 (i 1))) (i 1)

section Loop

variable (c : Dev nD) (i : grid0.Coords) (arg3 : Memref sig .tc .vmem S1x512x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .bf16) (harg9 : arg9.IsWhole) (arg10 : Memref sig .tc .vmem S512x4096 .bf16) (harg10 : arg10.IsWhole)
  (𝒱 : Variants) (bd : Option 𝒱.V) (h1 : k0_cond1 i = 1#1)
  (x0 : Vec Ideal S1x512x4096 .f32) (x1 : Vec Ideal S1x4096 .f32) (x2 x3 : Vec Ideal S1x1x4096 .f32) (x4 : Vec Ideal S4096x1024 .bf16) (x5 : Vec Ideal S1x1024 .f32)

/-- A trip writes one piece: its rows, normed. -/
theorem trip_pieces (k : Fin k0_t1_loop.trips) (p : View.Piece (Elt Ideal) S512x4096 .bf16)
    (hp : p ∈ tripL_k0_t1 (F := Ideal) 𝒱 c bd i arg3 harg3 arg4 harg4 arg5 harg5 arg6 harg6 arg7 harg7 arg8 harg8 arg9 harg9 arg10 harg10 h1 x1 x2 x3 (harg3.unread x0) k)
    (x : p.1.shape.Idx) : p.2 x = normed x0 x1 x2 x3 (p.1.emb x) := by
  have e : tripL_k0_t1 (F := Ideal) 𝒱 c bd i arg3 harg3 arg4 harg4 arg5 harg5 arg6 harg6 arg7 harg7 arg8 harg8 arg9 harg9 arg10 harg10 h1 x1 x2 x3 (harg3.unread x0) k
      = [⟨Rect.unit (s := S512x4096) (k0_off2 k) S64x4096.size (k0_off2_inb i k h1),
          k0_pay1 x1 x2 x3 (View.ld x0 (Rect.unit (s := S1x512x4096) (k0_off1 k) S1x64x4096.size (k0_off1_inb i k h1)))⟩] := by
    have e' : View.ld x0 (Rect.unit (s := S1x512x4096) (k0_off1 k) S1x64x4096.size (k0_off1_inb i k h1))
        = View.readAt (Elt Ideal) arg3.view (Rect.unit (s := S1x512x4096) (k0_off1 k) S1x64x4096.size (k0_off1_inb i k h1)).toLoadRect (harg3.unread x0) := by
      rw [View.readAt_eq_ld, harg3.read_unread]
    rw [e']
    unfold tripL_k0_t1 trip_k0_t1
    rfl
  rw [e] at hp
  obtain rfl := List.mem_singleton.1 hp
  have h8 : k.val < 8 := Nat.lt_of_lt_of_le k.isLt k0_t1_abs.2.1
  obtain ⟨r, d, rfl⟩ : ∃ (r : Fin 64) (d : Fin 4096), x = ix2 r d := ⟨x 0, x 1, ValueIdx.eq_ix2 x⟩
  have ee : (Rect.unit (s := S512x4096) (k0_off2 k) S64x4096.size (k0_off2_inb i k h1)).emb (ix2 r d) = (ix2 ⟨64 * k.val + r.val, by omega⟩ d : S512x4096.Idx) := by
    refine funext fun a => Fin.ext ((Rect.idx_unit_val _ _ _ _ a).trans ?_)
    have ho := k0_off2_eq k
    match a with
    | ⟨0, _⟩ => show k0_off2 k 0 + r.val = 64 * k.val + r.val; rw [ho]; rfl
    | ⟨1, _⟩ => show k0_off2 k 1 + d.val = d.val; rw [ho]; show 0 + d.val = d.val; omega
  refine Eq.trans ?_ (congrArg (normed x0 x1 x2 x3) ee).symm
  refine (rows_apply x1 x2 x3 _ r d).trans ?_
  show normAt _ _ _ _ d = normAt _ _ _ _ d
  refine congrArg (fun f => normAt f _ _ _ d) (funext fun j => ?_)
  refine View.ld_unit_apply_of x0 _ _ _ _ (ix3 0 ⟨64 * k.val + r.val, by omega⟩ j) fun a => ?_
  have ho := k0_off1_eq k
  match a with
  | ⟨0, _⟩ => show 0 = k0_off1 k 0 + 0; rw [ho]; rfl
  | ⟨1, _⟩ => show 64 * k.val + r.val = k0_off1 k 1 + r.val; rw [ho]; rfl
  | ⟨2, _⟩ => show j.val = k0_off1 k 2 + j.val; rw [ho]; show j.val = 0 + j.val; omega

/-- Whatever the loop has written after some trips is normed rows. -/
theorem loop_pieces : ∀ n : ℕ, n ≤ k0_t1_loop.trips →
    ∀ p ∈ pb_k0_t1 (F := Ideal) 𝒱 c bd i arg3 harg3 arg4 harg4 arg5 harg5 arg6 harg6 arg7 harg7 arg8 harg8 arg9 harg9 arg10 harg10 h1 x1 x2 x3 (harg3.unread x0) n,
      ∀ x : p.1.shape.Idx, p.2 x = normed x0 x1 x2 x3 (p.1.emb x)
  | 0, _ => fun p hp => absurd hp List.not_mem_nil
  | n + 1, hn => fun p hp => by
    have hs := pb_k0_t1_succ (F := Ideal) 𝒱 c bd i arg3 harg3 arg4 harg4 arg5 harg5 arg6 harg6 arg7 harg7 arg8 harg8 arg9 harg9 arg10 harg10 h1 x1 x2 x3 (harg3.unread x0) ⟨n, hn⟩
    rcases List.mem_append.1 (hs ▸ hp) with h | h
    · exact trip_pieces c i arg3 harg3 arg4 harg4 arg5 harg5 arg6 harg6 arg7 harg7 arg8 harg8 arg9 harg9 arg10 harg10 𝒱 bd h1 x0 x1 x2 x3 ⟨n, hn⟩ p h
    · exact loop_pieces n (Nat.le_of_succ_le hn) p h

/-- The scratch after all trips. -/
theorem loop_canon :
    View.canon (pb_k0_t1 (F := Ideal) 𝒱 c bd i arg3 harg3 arg4 harg4 arg5 harg5 arg6 harg6 arg7 harg7 arg8 harg8 arg9 harg9 arg10 harg10 h1 x1 x2 x3 (harg3.unread x0) (Scf.trips (0#32) (Scalar.addi 0#32 8#32) 1#32)) = normed x0 x1 x2 x3 :=
  funext fun y => View.canon_apply_of_pieces (normed x0 x1 x2 x3) (pb_k0_t1 (F := Ideal) 𝒱 c bd i arg3 harg3 arg4 harg4 arg5 harg5 arg6 harg6 arg7 harg7 arg8 harg8 arg9 harg9 arg10 harg10 h1 x1 x2 x3 (harg3.unread x0) (Scf.trips (0#32) (Scalar.addi 0#32 8#32) 1#32))
    (loop_pieces c i arg3 harg3 arg4 harg4 arg5 harg5 arg6 harg6 arg7 harg7 arg8 harg8 arg9 harg9 arg10 harg10 𝒱 bd h1 x0 x1 x2 x3 _ le_rfl) y
    (View.cover_of_tiledL (pb_k0_t1 (F := Ideal) 𝒱 c bd i arg3 harg3 arg4 harg4 arg5 harg5 arg6 harg6 arg7 harg7 arg8 harg8 arg9 harg9 arg10 harg10 h1 x1 x2 x3 (harg3.unread x0) (Scf.trips (0#32) (Scalar.addi 0#32 8#32) 1#32)) S64x4096.size (by sl_kernel_rfl) y)

/-- What a point that fills the scratch leaves in it. -/
theorem scratch_A (hc0 : cond0_0 i) (hc1 : cond0_1 i) :
    sout0_A_0 (F := Ideal) c i arg3 harg3 arg4 harg4 arg5 harg5 arg6 harg6 arg7 harg7 arg8 harg8 arg9 harg9 arg10 harg10 hc0 hc1 x0 x1 x2 x3 x4 x5 = normed x0 x1 x2 x3 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [read_whole arg4 harg4 zero2 inb_S1x4096_S1x4096_0_0 x1, read_whole arg5 harg5 zero3 inb_S1x1x4096_S1x1x4096_0_0_0 x2, read_whole arg6 harg6 zero3 inb_S1x1x4096_S1x1x4096_0_0_0 x3]
  exact loop_canon c i arg3 harg3 arg4 harg4 arg5 harg5 arg6 harg6 arg7 harg7 arg8 harg8 arg9 harg9 arg10 harg10 Variants.none none hc0 x0 x1 x2 x3

/-- What a point that fills the scratch stores. -/
theorem block_A (hc0 : cond0_0 i) (hc1 : cond0_1 i) (y : Fin 512) (e : Fin 1024) :
    out0_A_6 (F := Ideal) c i arg3 harg3 arg4 harg4 arg5 harg5 arg6 harg6 arg7 harg7 arg8 harg8 arg9 harg9 arg10 harg10 hc0 hc1 x0 x1 x2 x3 x4 x5 (ix3 0 y e)
      = gelu ((∑ d : Fin 4096, normed x0 x1 x2 x3 (ix2 y d) * x4 (ix2 d e)) + x5 (ix2 0 e)) := by
  unfold out0_A_6
  rw [View.read_writes_eq_canon _ _ _ (cover0_A_6 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [canon_block, View.readCov_eq_canon', read_whole arg4 harg4 zero2 inb_S1x4096_S1x4096_0_0 x1, read_whole arg5 harg5 zero3 inb_S1x1x4096_S1x1x4096_0_0_0 x2, read_whole arg6 harg6 zero3 inb_S1x1x4096_S1x1x4096_0_0_0 x3,
    read_whole arg7 harg7 zero2 inb_S4096x1024_S4096x1024_0_0 x4, read_whole arg8 harg8 zero2 inb_S1x1024_S1x1024_0_0 x5]
  refine (out_apply _ x4 x5 y e).trans ?_
  rw [loop_canon c i arg3 harg3 arg4 harg4 arg5 harg5 arg6 harg6 arg7 harg7 arg8 harg8 arg9 harg9 arg10 harg10 Variants.none none hc0 x0 x1 x2 x3]
  refine congrArg gelu (congrArg (· + x5 (ix2 0 e)) (Finset.sum_congr rfl fun d _ => congrArg (· * x4 (ix2 d e)) ?_))
  exact congrFun (View.ld_unit_zero (Val := Elt Ideal) (S := S512x4096) (e := .bf16) zero2 inb_S512x4096_S512x4096_0_0 (normed x0 x1 x2 x3)) (ix2 y d)

/-- What a point that finds the scratch filled stores. -/
theorem block_B (hc0 : ¬cond0_0 i) (hc1 : cond0_1 i) (s : Vec Ideal S512x4096 .bf16) (y : Fin 512) (e : Fin 1024) :
    out0_B_6 (F := Ideal) c i arg3 harg3 arg4 harg4 arg5 harg5 arg6 harg6 arg7 harg7 arg8 harg8 arg9 harg9 arg10 harg10 hc0 hc1 x0 x1 x2 x3 x4 x5 s (ix3 0 y e)
      = gelu ((∑ d : Fin 4096, s (ix2 y d) * x4 (ix2 d e)) + x5 (ix2 0 e)) := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 s)]
  unfold kernelRun0_B
  dsimp only
  sl_unfold_words
  rw [canon_block, read_whole arg10 harg10 zero2 inb_S512x4096_S512x4096_0_0 s, read_whole arg7 harg7 zero2 inb_S4096x1024_S4096x1024_0_0 x4, read_whole arg8 harg8 zero2 inb_S1x1024_S1x1024_0_0 x5]
  exact out_apply s x4 x5 y e

end Loop

/-! ## Where the blocks lie -/

theorem index_x : ∀ t : Fin cfg0.N, win0_0.index t 0 = t.val / 128 ∧ win0_0.index t 1 = t.val / 8 % 16 ∧ win0_0.index t 2 = 0 := by
  decide +kernel

theorem index_gain : ∀ t : Fin cfg0.N, win0_1.index t 0 = 0 ∧ win0_1.index t 1 = 0 := by
  decide +kernel

theorem index_shift : ∀ t : Fin cfg0.N, win0_2.index t 0 = t.val / 128 ∧ win0_2.index t 1 = 0 ∧ win0_2.index t 2 = 0 := by
  decide +kernel

theorem index_scale : ∀ t : Fin cfg0.N, win0_3.index t 0 = t.val / 128 ∧ win0_3.index t 1 = 0 ∧ win0_3.index t 2 = 0 := by
  decide +kernel

theorem index_w : ∀ t : Fin cfg0.N, win0_4.index t 0 = 0 ∧ win0_4.index t 1 = t.val % 8 := by
  decide +kernel

theorem index_bias : ∀ t : Fin cfg0.N, win0_5.index t 0 = 0 ∧ win0_5.index t 1 = t.val % 8 := by
  decide +kernel

theorem index_out : ∀ t : Fin cfg0.N, win0_6.index t 0 = t.val / 128 ∧ win0_6.index t 1 = t.val / 8 % 16 ∧ win0_6.index t 2 = t.val % 8 := by
  decide +kernel

/-- A point's batch, a row of its block and a column of its block, as bounded numbers. -/
def batchOf (t : Fin cfg0.N) : Fin 2 := ⟨t.val / 128, by have h : t.val < 256 := t.isLt; omega⟩

def rowOf (t : Fin cfg0.N) (y : Fin 512) : Fin 8192 := ⟨t.val / 8 % 16 * 512 + y.val, by omega⟩

def colOf (t : Fin cfg0.N) (e : Fin 1024) : Fin 8192 := ⟨t.val % 8 * 1024 + e.val, by omega⟩

variable (m : (l : Loc nD τ sig) → Buf (Elt Ideal) l) (c : Dev nD)

/-- The host lays the gain and the bias out as one row each before the kernel. -/
theorem gain_row : V m c main_v0 = shapeCast S1x4096 (m ((c : Thread nD τ).loc main_arg1)) shapeCasts_S4096_S1x4096 := by
  entry_read
  rfl

theorem bias_row : V m c main_v1 = shapeCast S1x8192 (m ((c : Thread nD τ).loc main_arg5)) shapeCasts_S8192_S1x8192 := by
  entry_read
  rfl

variable (t : Fin cfg0.N)

theorem block_x (y : Fin 512) (d : Fin 4096) : iblk m c 0 t (ix3 0 y d) = m ((c : Thread nD τ).loc main_arg0) (ix3 (batchOf t) (rowOf t y) d) := by
  obtain ⟨h0, h1, h2⟩ := index_x t
  show V m c main_arg0 (((cfg0.win 0).blk t).view.emb (ix3 0 y d)) = _
  rw [V_main_arg0]
  refine congrArg (m ((c : Thread nD τ).loc main_arg0)) (funext fun a => Fin.ext ?_)
  match a with
  | ⟨0, _⟩ => show win0_0.index t 0 * 1 + 1 * 0 = t.val / 128; omega
  | ⟨1, _⟩ => show win0_0.index t 1 * 512 + 1 * y.val = t.val / 8 % 16 * 512 + y.val; omega
  | ⟨2, _⟩ => show win0_0.index t 2 * 4096 + 1 * d.val = d.val; omega

theorem block_gain (d : Fin 4096) : iblk m c 1 t (ix2 0 d) = m ((c : Thread nD τ).loc main_arg1) (ix1 d) := by
  obtain ⟨h0, h1⟩ := index_gain t
  show V m c main_v0 (((cfg0.win 1).blk t).view.emb (ix2 0 d)) = _
  rw [gain_row]
  refine shapeCast_apply _ _ _ (ix1 d) ?_
  rw [Shape.rowMajor_val_one, Shape.rowMajor_val_two]
  show d.val = (win0_1.index t 0 * 1 + 1 * 0) * 4096 + (win0_1.index t 1 * 4096 + 1 * d.val)
  omega

theorem block_shift (d : Fin 4096) : iblk m c 2 t (ix3 0 0 d) = m ((c : Thread nD τ).loc main_arg2) (ix3 (batchOf t) 0 d) := by
  obtain ⟨h0, h1, h2⟩ := index_shift t
  show V m c main_arg2 (((cfg0.win 2).blk t).view.emb (ix3 0 0 d)) = _
  rw [V_main_arg2]
  refine congrArg (m ((c : Thread nD τ).loc main_arg2)) (funext fun a => Fin.ext ?_)
  match a with
  | ⟨0, _⟩ => show win0_2.index t 0 * 1 + 1 * 0 = t.val / 128; omega
  | ⟨1, _⟩ => show win0_2.index t 1 * 1 + 1 * 0 = 0; omega
  | ⟨2, _⟩ => show win0_2.index t 2 * 4096 + 1 * d.val = d.val; omega

theorem block_scale (d : Fin 4096) : iblk m c 3 t (ix3 0 0 d) = m ((c : Thread nD τ).loc main_arg3) (ix3 (batchOf t) 0 d) := by
  obtain ⟨h0, h1, h2⟩ := index_scale t
  show V m c main_arg3 (((cfg0.win 3).blk t).view.emb (ix3 0 0 d)) = _
  rw [V_main_arg3]
  refine congrArg (m ((c : Thread nD τ).loc main_arg3)) (funext fun a => Fin.ext ?_)
  match a with
  | ⟨0, _⟩ => show win0_3.index t 0 * 1 + 1 * 0 = t.val / 128; omega
  | ⟨1, _⟩ => show win0_3.index t 1 * 1 + 1 * 0 = 0; omega
  | ⟨2, _⟩ => show win0_3.index t 2 * 4096 + 1 * d.val = d.val; omega

theorem block_w (d : Fin 4096) (e : Fin 1024) : iblk m c 4 t (ix2 d e) = m ((c : Thread nD τ).loc main_arg4) (ix2 d (colOf t e)) := by
  obtain ⟨h0, h1⟩ := index_w t
  show V m c main_arg4 (((cfg0.win 4).blk t).view.emb (ix2 d e)) = _
  rw [V_main_arg4]
  refine congrArg (m ((c : Thread nD τ).loc main_arg4)) (funext fun a => Fin.ext ?_)
  match a with
  | ⟨0, _⟩ => show win0_4.index t 0 * 4096 + 1 * d.val = d.val; omega
  | ⟨1, _⟩ => show win0_4.index t 1 * 1024 + 1 * e.val = t.val % 8 * 1024 + e.val; omega

theorem block_bias (e : Fin 1024) : iblk m c 5 t (ix2 0 e) = m ((c : Thread nD τ).loc main_arg5) (ix1 (colOf t e)) := by
  obtain ⟨h0, h1⟩ := index_bias t
  show V m c main_v1 (((cfg0.win 5).blk t).view.emb (ix2 0 e)) = _
  rw [bias_row]
  refine shapeCast_apply _ _ _ (ix1 (colOf t e)) ?_
  rw [Shape.rowMajor_val_one, Shape.rowMajor_val_two]
  show t.val % 8 * 1024 + e.val = (win0_5.index t 0 * 1 + 1 * 0) * 8192 + (win0_5.index t 1 * 1024 + 1 * e.val)
  omega

/-- Where an output block's entry lies in the result. -/
theorem emb_out (y : Fin 512) (e : Fin 1024) : ((cfg0.win 6).blk t).view.emb (ix3 0 y e) = (ix3 (batchOf t) (rowOf t y) (colOf t e) : S2x8192x8192.Idx) := by
  obtain ⟨h0, h1, h2⟩ := index_out t
  refine funext fun a => Fin.ext ?_
  match a with
  | ⟨0, _⟩ => show win0_6.index t 0 * 1 + 1 * 0 = t.val / 128; omega
  | ⟨1, _⟩ => show win0_6.index t 1 * 512 + 1 * y.val = t.val / 8 % 16 * 512 + y.val; omega
  | ⟨2, _⟩ => show win0_6.index t 2 * 1024 + 1 * e.val = t.val % 8 * 1024 + e.val; omega

/-! ## What the scratch holds -/

/-- The normed rows of the batch and the row block given, of the launch memory. -/
def rowsOf (b : Fin 2) (r : Fin 512 → Fin 8192) : S512x4096.Idx → EReal :=
  fun i => normAt (fun k => m ((c : Thread nD τ).loc main_arg0) (ix3 b (r (i 0)) k)) (m ((c : Thread nD τ).loc main_arg1) (ix1 (i 1)))
    (m ((c : Thread nD τ).loc main_arg2) (ix3 b 0 (i 1))) (m ((c : Thread nD τ).loc main_arg3) (ix3 b 0 (i 1))) (i 1)

theorem normed_block : normed (iblk m c 0 t) (iblk m c 1 t) (iblk m c 2 t) (iblk m c 3 t) = rowsOf m c (batchOf t) (rowOf t) := by
  funext i
  obtain ⟨y, d, rfl⟩ : ∃ (y : Fin 512) (d : Fin 4096), i = ix2 y d := ⟨i 0, i 1, ValueIdx.eq_ix2 i⟩
  show normAt (fun k => iblk m c 0 t (ix3 0 y k)) (iblk m c 1 t (ix2 0 d)) (iblk m c 2 t (ix3 0 0 d)) (iblk m c 3 t (ix3 0 0 d)) d
    = normAt _ _ _ _ d
  rw [block_gain, block_shift, block_scale]
  exact congrArg (fun f => normAt f _ _ _ d) (funext fun k => block_x m c t y k)

/-- A point that is not the first of its row block finds the scratch as the block's first point filled it. -/
theorem scratch_eq (n : ℕ) : ∀ h : n < cfg0.N, (outsAt0 m c n h).2 = rowsOf m c (batchOf ⟨n, h⟩) (rowOf ⟨n, h⟩) := by
  induction n using Nat.strong_induction_on with
  | _ n ih =>
    intro h
    by_cases h0 : n % 8 = 0
    · rw [outsAt0_A m c ⟨n, h⟩ h0]
      dsimp only
      rw [scratch_A]
      exact normed_block m c ⟨n, h⟩
    · have hl : n - 1 < cfg0.N := Nat.lt_of_le_of_lt (Nat.sub_le _ _) h
      have hb : batchOf ⟨n - 1, hl⟩ = batchOf ⟨n, h⟩ := Fin.ext (by show (n - 1) / 128 = n / 128; omega)
      have hr : rowOf ⟨n - 1, hl⟩ = rowOf ⟨n, h⟩ := funext fun y => Fin.ext (by show (n - 1) / 8 % 16 * 512 + y.val = n / 8 % 16 * 512 + y.val; omega)
      rw [outsAt0_B m c ⟨n, h⟩ h0]
      dsimp only
      unfold sout0_B_0
      rw [ih (n - 1) (by omega) hl, hb, hr]

/-! ## The whole result -/

/-- The whole result, of the launch memory. -/
def wholeOut : Buf (Elt Ideal) ((c : Thread nD τ).loc main_v2) :=
  array (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- A point's result, of the rows that the scratch holds, is its block of the whole result. -/
theorem block_out (s : Vec Ideal S512x4096 .bf16) (hs : s = rowsOf m c (batchOf t) (rowOf t)) (y : Fin 512) (e : Fin 1024) :
    gelu ((∑ d : Fin 4096, s (ix2 y d) * (iblk m c 4 t : Vec Ideal S4096x1024 .bf16) (ix2 d e)) + (iblk m c 5 t : Vec Ideal S1x1024 .f32) (ix2 0 e))
      = wholeOut m c (((cfg0.win 6).blk t).view.emb (ix3 0 y e)) := by
  refine Eq.trans ?_ (congrArg (wholeOut m c) (emb_out t y e)).symm
  show _ = entry _ _ _ _ _ _ (batchOf t) (rowOf t y) (colOf t e)
  unfold entry
  refine congrArg gelu (congrArg₂ (fun u v : EReal => u + v) (Finset.sum_congr rfl fun d _ => congrArg₂ (fun u v : EReal => u * v) ?_ (block_w m c t d e)) (block_bias m c t e))
  rw [hs]
  rfl

/-- What a point writes back is its block of the whole result. -/
theorem flushed_out : (dats m 0 c).flushed 6 t = ((cfg0.win 6).blk t).view.read (Elt Ideal) (wholeOut m c) := by
  by_cases h0 : t.val % 8 = 0
  · rw [Value.flushed6_A m c t h0]
    funext j
    obtain ⟨z, y, e, rfl⟩ : ∃ (z : Fin 1) (y : Fin 512) (e : Fin 1024), j = ix3 z y e := ⟨j 0, j 1, j 2, ValueIdx.eq_ix3 j⟩
    obtain rfl : z = 0 := Subsingleton.elim _ _
    exact (block_A _ _ _ _ _ _ _ _ _ _ _ _ _ _ _ _ _ _ _ _ _ _ _ _ _ _ y e).trans (block_out m c t _ (normed_block m c t) y e)
  · rw [Value.flushed6_B m c t h0]
    funext j
    obtain ⟨z, y, e, rfl⟩ : ∃ (z : Fin 1) (y : Fin 512) (e : Fin 1024), j = ix3 z y e := ⟨j 0, j 1, j 2, ValueIdx.eq_ix3 j⟩
    obtain rfl : z = 0 := Subsingleton.elim _ _
    refine (block_B _ _ _ _ _ _ _ _ _ _ _ _ _ _ _ _ _ _ _ _ _ _ _ _ _ _ _ y e).trans (block_out m c t _ ?_ y e)
    refine Eq.trans ?_ (scratch_eq m c t.val t.isLt)
    rw [outsAt0_B m c t h0]
    rfl

/-- Every entry of the result is in some point's block. -/
theorem cover_out (i : S2x8192x8192.Idx) : ∃ t : Fin cfg0.N, (cfg0.win 6).flush t = true ∧ i ∈ ((cfg0.win 6).blk t).view.set := by
  obtain ⟨b, n, e, rfl⟩ : ∃ (b : Fin 2) (n : Fin 8192) (e : Fin 8192), i = ix3 b n e := ⟨i 0, i 1, i 2, ValueIdx.eq_ix3 i⟩
  have ht : b.val * 128 + n.val / 512 * 8 + e.val / 1024 < 256 := by omega
  refine ⟨(⟨b.val * 128 + n.val / 512 * 8 + e.val / 1024, ht⟩ : Fin cfg0.N), flush0_6 _, ?_⟩
  have h := ((cfg0.win 6).blk (⟨b.val * 128 + n.val / 512 * 8 + e.val / 1024, ht⟩ : Fin cfg0.N)).view.emb_mem_set (ix3 0 ⟨n.val % 512, by omega⟩ ⟨e.val % 1024, by omega⟩)
  rw [emb_out] at h
  refine cast (congrArg (· ∈ ((cfg0.win 6).blk (⟨b.val * 128 + n.val / 512 * 8 + e.val / 1024, ht⟩ : Fin cfg0.N)).view.set) (funext fun a => Fin.ext ?_)) h
  match a with
  | ⟨0, _⟩ => show (b.val * 128 + n.val / 512 * 8 + e.val / 1024) / 128 = b.val; omega
  | ⟨1, _⟩ => show (b.val * 128 + n.val / 512 * 8 + e.val / 1024) / 8 % 16 * 512 + n.val % 512 = n.val; omega
  | ⟨2, _⟩ => show (b.val * 128 + n.val / 512 * 8 + e.val / 1024) % 8 * 1024 + e.val % 1024 = e.val; omega

/-- The result array after the run. -/
theorem arrAt_out : (dats m 0 c).arrAt 6 cfg0.N = wholeOut m c :=
  (dats m 0 c).arrAt_eq_of_cover 6 (wholeOut m c) (fun t _ => flushed_out m c t) cover_out

/-! ## The reference -/

open Cert.NormReferenceIdeal.Read in
/-- The reference's normed row at a column. -/
theorem reference_rows (x : S2x8192x4096.Idx → EReal) (g : S4096.Idx → EReal) (sh sc : S2x1x4096.Idx → EReal) (b : Fin 2) (n : Fin 8192) (d : Fin 4096) :
    val_main_v18 (F := Ideal) x g sh sc (ix3 b n d) = normAt (fun k => x (ix3 b n k)) (g (ix1 d)) (sh (ix3 b 0 d)) (sc (ix3 b 0 d)) d := by
  have i8 : idx_main_v8 (ix3 b n d) = ix3 b n 0 := funext fun a => Fin.ext (match a with | ⟨0, _⟩ => rfl | ⟨1, _⟩ => rfl | ⟨2, _⟩ => rfl)
  have i2 : idx_main_v2 (ix3 b n 0) = ix2 b n := funext fun a => Fin.ext (match a with | ⟨0, _⟩ => rfl | ⟨1, _⟩ => rfl)
  have i1 : ∀ k, idx_main_v1 (ix2 b n) k = ix3 b n k := fun k => funext fun a => Fin.ext (match a with | ⟨0, _⟩ => rfl | ⟨1, _⟩ => rfl | ⟨2, _⟩ => rfl)
  have i10 : idx_main_v10 (idx_main_v11 (ix3 b n d)) = ix1 d := funext fun a => Fin.ext (match a with | ⟨0, _⟩ => rfl)
  have i15 : idx_main_v15 (ix3 b n d) = ix3 b 0 d := funext fun a => Fin.ext (match a with | ⟨0, _⟩ => rfl | ⟨1, _⟩ => rfl | ⟨2, _⟩ => rfl)
  have i17 : idx_main_v17 (ix3 b n d) = ix3 b 0 d := funext fun a => Fin.ext (match a with | ⟨0, _⟩ => rfl | ⟨1, _⟩ => rfl | ⟨2, _⟩ => rfl)
  have h1 : val_main_v1 (F := Ideal) x (ix2 b n) = ∑ k : Fin 4096, x (ix3 b n k) * x (ix3 b n k) := by
    rw [val_main_v1_apply, val_main_cst_apply]
    refine (congrArg (· + _) Ideal.ofBits_zero_f32).trans ((zero_add _).trans (Finset.sum_congr rfl fun k _ => ?_))
    rw [i1, val_main_v0_apply]
    rfl
  rw [val_main_v18_apply, val_main_v16_apply, val_main_v12_apply, val_main_v9_apply, val_main_v8_apply, i8, val_main_v7_apply, val_main_v6_apply, val_main_v4_apply,
    val_main_v2_apply, i2, h1, val_main_v3_apply, val_main_cst_0_apply, val_main_v5_apply, val_main_cst_1_apply, val_main_v11_apply, val_main_v10_apply, i10,
    val_main_v15_apply, i15, val_main_v14_apply, val_main_v13_apply, val_main_cst_2_apply, val_main_v17_apply, i17]
  rfl

open Cert.NormReferenceIdeal.Read in
/-- The reference's result is the same array: it takes the cube of the product as `(z · z) · z`. -/
theorem reference_eq (x : S2x8192x4096.Idx → EReal) (g : S4096.Idx → EReal) (sh sc : S2x1x4096.Idx → EReal) (w : S4096x8192.Idx → EReal) (bias : S8192.Idx → EReal) :
    val_main_v37 (F := Ideal) x g sh sc w bias = array x g sh sc w bias := by
  funext i
  obtain ⟨b, n, e, rfl⟩ : ∃ (b : Fin 2) (n : Fin 8192) (e : Fin 8192), i = ix3 b n e := ⟨i 0, i 1, i 2, ValueIdx.eq_ix3 i⟩
  have i21 : idx_main_v21 (idx_main_v22 (ix3 b n e)) = ix1 e := funext fun a => Fin.ext (match a with | ⟨0, _⟩ => rfl)
  have hz : val_main_v23 (F := Ideal) x g sh sc w bias (ix3 b n e)
      = (∑ d : Fin 4096, normAt (fun k => x (ix3 b n k)) (g (ix1 d)) (sh (ix3 b 0 d)) (sc (ix3 b 0 d)) d * w (ix2 d e)) + bias (ix1 e) := by
    rw [val_main_v23_apply, val_main_v22_apply, val_main_v21_apply, i21, val_main_v20_apply]
    refine congrArg (fun s : EReal => s + bias (ix1 e)) (Finset.sum_congr rfl fun d _ => congrArg₂ (fun u v : EReal => u * v) ?_ ?_)
    · have il : lidx_main_v20 (ix3 b n e) d = ix3 b n d := funext fun a => Fin.ext (match a with | ⟨0, _⟩ => rfl | ⟨1, _⟩ => rfl | ⟨2, _⟩ => rfl)
      rw [il]
      exact reference_rows x g sh sc b n d
    · exact congrArg w (funext fun a => Fin.ext (match a with | ⟨0, _⟩ => rfl | ⟨1, _⟩ => rfl))
  rw [val_main_v37_apply, val_main_v36_apply, val_main_v35_apply, val_main_v34_apply, val_main_cst_6_apply, val_main_v33_apply, val_main_v32_apply, val_main_cst_5_apply,
    val_main_v31_apply, val_main_v30_apply, val_main_v29_apply, val_main_cst_4_apply, val_main_v28_apply, val_main_v27_apply, val_main_v26_apply, val_main_cst_3_apply,
    val_main_v25_apply, val_main_v24_apply, hz]
  show _ = gelu ((∑ d : Fin 4096, normAt (fun k => x (ix3 b n k)) (g (ix1 d)) (sh (ix3 b 0 d)) (sc (ix3 b 0 d)) d * w (ix2 d e)) + bias (ix1 e))
  generalize (∑ d : Fin 4096, normAt (fun k => x (ix3 b n k)) (g (ix1 d)) (sh (ix3 b 0 d)) (sc (ix3 b 0 d)) d * w (ix2 d e)) + bias (ix1 e) = z
  unfold gelu
  rw [mul_comm z (z * z)]
  rfl

end Cert.NormValue

end
-- ==== Proof.QueryValue.lean ====
module

public import proofs.«01_k».proof.Proof.Gen.QueryIdeal.Value
public import proofs.«01_k».proof.Proof.Gen.QueryReferenceIdeal.Read
public import proofs.«01_k».proof.Proof.NormValue
public import proofs.«01_k».proof.Proof.Ref
public import Idealize.ShloMosaic.Lib.ValueIdx
public import Idealize.ShloMosaic.Lib.ValueIdxCoords
public import Idealize.ShloMosaic.Lib.MatmulPlain
public import Idealize.ShloMosaic.Lib.StableHlo.RunRead
public import Idealize.ShloMosaic.Lib.Pointwise.ElementwiseCore
public import Idealize.ShloMosaic.Lib.Pipeline.ValueKit.Tiles

@[expose] public section

noncomputable section

namespace Cert.QueryValue

open Cert.QueryIdeal Cert.QueryIdeal.Gen Idealize.ShloMosaic Idealize.ShloMosaic.TcCoe Idealize.ShloMosaic.Tactic Idealize.SL.Sem
open Idealize.ShloMosaic.ValueIdx
open Cert.NormValue (normAt normed rows_apply product_apply read_whole canon_block zero2 zero3)

/-! ## The queries: the normed rows times the weights, scaled; what a block holds, and what the whole array holds -/

/-- The factor of the queries: the reciprocal root of the 128 entries of a head, divided by the logarithm of 2. -/
def scale : EReal := (((Real.sqrt 128)⁻¹ * (Real.log 2)⁻¹ : ℝ) : EReal)

/-- The result at an index: the normed row's product with the column of the weights, scaled. -/
def entry (x : S2x8192x4096.Idx → EReal) (g : S4096.Idx → EReal) (sh sc : S2x1x4096.Idx → EReal) (w : S4096x4096.Idx → EReal)
    (b : Fin 2) (n : Fin 8192) (e : Fin 4096) : EReal :=
  (∑ d : Fin 4096, normAt (fun k => x (ix3 b n k)) (g (ix1 d)) (sh (ix3 b 0 d)) (sc (ix3 b 0 d)) d * w (ix2 d e)) * scale

/-- The whole result. -/
def array (x : S2x8192x4096.Idx → EReal) (g : S4096.Idx → EReal) (sh sc : S2x1x4096.Idx → EReal) (w : S4096x4096.Idx → EReal) :
    S2x8192x4096.Idx → EReal :=
  fun i => entry x g sh sc w (i 0) (i 1) (i 2)

theorem named_scale : Named.named (F := Ideal) (φ := .f32) κ "query_scale" 0x3E0293EE#32 = scale :=
  IdealRules.named_const.ideal_named_scalar _ _ _ _ rfl

/-- What a point stores, of the normed rows that the scratch holds. -/
theorem out_apply (s : Vec Ideal S512x4096 .bf16) (w : Vec Ideal S4096x1024 .bf16) (bias : Vec Ideal S1x1024 .f32) (y : Fin 512) (e : Fin 1024) :
    k0_pay2 s w bias (ix3 0 y e) = ((∑ d : Fin 4096, s (ix2 y d) * w (ix2 d e)) + bias (ix2 0 e)) * scale := by
  unfold k0_pay2
  rw [truncf_apply]
  refine (shapeCast_apply _ _ _ (ix2 y e) (by rw [Shape.rowMajor_val_three, Shape.rowMajor_val_two]; show y.val * 1024 + e.val = (0 * 512 + y.val) * 1024 + e.val; omega)).trans ?_
  rw [mulf_apply, broadcast_apply]
  exact congrArg₂ (fun u v : EReal => u * v) (product_apply s w bias y e) named_scale

section Loop

variable (c : Dev nD) (i : grid0.Coords) (arg3 : Memref sig .tc .vmem S1x512x4096 .f32) (harg3 : arg3.IsWhole) (arg4 : Memref sig .tc .vmem S1x4096 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .bf16) (harg9 : arg9.IsWhole) (arg10 : Memref sig .tc .vmem S512x4096 .bf16) (harg10 : arg10.IsWhole)
  (𝒱 : Variants) (bd : Option 𝒱.V) (h1 : k0_cond1 i = 1#1)
  (x0 : Vec Ideal S1x512x4096 .f32) (x1 : Vec Ideal S1x4096 .f32) (x2 x3 : Vec Ideal S1x1x4096 .f32) (x4 : Vec Ideal S4096x1024 .bf16) (x5 : Vec Ideal S1x1024 .f32)

/-- A trip writes one piece: its rows, normed. -/
theorem trip_pieces (k : Fin k0_t1_loop.trips) (p : View.Piece (Elt Ideal) S512x4096 .bf16)
    (hp : p ∈ tripL_k0_t1 (F := Ideal) 𝒱 c bd i arg3 harg3 arg4 harg4 arg5 harg5 arg6 harg6 arg7 harg7 arg8 harg8 arg9 harg9 arg10 harg10 h1 x1 x2 x3 (harg3.unread x0) k)
    (x : p.1.shape.Idx) : p.2 x = normed x0 x1 x2 x3 (p.1.emb x) := by
  have e : tripL_k0_t1 (F := Ideal) 𝒱 c bd i arg3 harg3 arg4 harg4 arg5 harg5 arg6 harg6 arg7 harg7 arg8 harg8 arg9 harg9 arg10 harg10 h1 x1 x2 x3 (harg3.unread x0) k
      = [⟨Rect.unit (s := S512x4096) (k0_off2 k) S64x4096.size (k0_off2_inb i k h1),
          k0_pay1 x1 x2 x3 (View.ld x0 (Rect.unit (s := S1x512x4096) (k0_off1 k) S1x64x4096.size (k0_off1_inb i k h1)))⟩] := by
    have e' : View.ld x0 (Rect.unit (s := S1x512x4096) (k0_off1 k) S1x64x4096.size (k0_off1_inb i k h1))
        = View.readAt (Elt Ideal) arg3.view (Rect.unit (s := S1x512x4096) (k0_off1 k) S1x64x4096.size (k0_off1_inb i k h1)).toLoadRect (harg3.unread x0) := by
      rw [View.readAt_eq_ld, harg3.read_unread]
    rw [e']
    unfold tripL_k0_t1 trip_k0_t1
    rfl
  rw [e] at hp
  obtain rfl := List.mem_singleton.1 hp
  have h8 : k.val < 8 := Nat.lt_of_lt_of_le k.isLt k0_t1_abs.2.1
  obtain ⟨r, d, rfl⟩ : ∃ (r : Fin 64) (d : Fin 4096), x = ix2 r d := ⟨x 0, x 1, ValueIdx.eq_ix2 x⟩
  have ee : (Rect.unit (s := S512x4096) (k0_off2 k) S64x4096.size (k0_off2_inb i k h1)).emb (ix2 r d) = (ix2 ⟨64 * k.val + r.val, by omega⟩ d : S512x4096.Idx) := by
    refine funext fun a => Fin.ext ((Rect.idx_unit_val _ _ _ _ a).trans ?_)
    have ho := k0_off2_eq k
    match a with
    | ⟨0, _⟩ => show k0_off2 k 0 + r.val = 64 * k.val + r.val; rw [ho]; rfl
    | ⟨1, _⟩ => show k0_off2 k 1 + d.val = d.val; rw [ho]; show 0 + d.val = d.val; omega
  refine Eq.trans ?_ (congrArg (normed x0 x1 x2 x3) ee).symm
  refine (rows_apply x1 x2 x3 _ r d).trans ?_
  show normAt _ _ _ _ d = normAt _ _ _ _ d
  refine congrArg (fun f => normAt f _ _ _ d) (funext fun j => ?_)
  refine View.ld_unit_apply_of x0 _ _ _ _ (ix3 0 ⟨64 * k.val + r.val, by omega⟩ j) fun a => ?_
  have ho := k0_off1_eq k
  match a with
  | ⟨0, _⟩ => show 0 = k0_off1 k 0 + 0; rw [ho]; rfl
  | ⟨1, _⟩ => show 64 * k.val + r.val = k0_off1 k 1 + r.val; rw [ho]; rfl
  | ⟨2, _⟩ => show j.val = k0_off1 k 2 + j.val; rw [ho]; show j.val = 0 + j.val; omega

/-- Whatever the loop has written after some trips is normed rows. -/
theorem loop_pieces : ∀ n : ℕ, n ≤ k0_t1_loop.trips →
    ∀ p ∈ pb_k0_t1 (F := Ideal) 𝒱 c bd i arg3 harg3 arg4 harg4 arg5 harg5 arg6 harg6 arg7 harg7 arg8 harg8 arg9 harg9 arg10 harg10 h1 x1 x2 x3 (harg3.unread x0) n,
      ∀ x : p.1.shape.Idx, p.2 x = normed x0 x1 x2 x3 (p.1.emb x)
  | 0, _ => fun p hp => absurd hp List.not_mem_nil
  | n + 1, hn => fun p hp => by
    have hs := pb_k0_t1_succ (F := Ideal) 𝒱 c bd i arg3 harg3 arg4 harg4 arg5 harg5 arg6 harg6 arg7 harg7 arg8 harg8 arg9 harg9 arg10 harg10 h1 x1 x2 x3 (harg3.unread x0) ⟨n, hn⟩
    rcases List.mem_append.1 (hs ▸ hp) with h | h
    · exact trip_pieces c i arg3 harg3 arg4 harg4 arg5 harg5 arg6 harg6 arg7 harg7 arg8 harg8 arg9 harg9 arg10 harg10 𝒱 bd h1 x0 x1 x2 x3 ⟨n, hn⟩ p h
    · exact loop_pieces n (Nat.le_of_succ_le hn) p h

/-- The scratch after all trips. -/
theorem loop_canon :
    View.canon (pb_k0_t1 (F := Ideal) 𝒱 c bd i arg3 harg3 arg4 harg4 arg5 harg5 arg6 harg6 arg7 harg7 arg8 harg8 arg9 harg9 arg10 harg10 h1 x1 x2 x3 (harg3.unread x0) (Scf.trips (0#32) (Scalar.addi 0#32 8#32) 1#32)) = normed x0 x1 x2 x3 :=
  funext fun y => View.canon_apply_of_pieces (normed x0 x1 x2 x3) (pb_k0_t1 (F := Ideal) 𝒱 c bd i arg3 harg3 arg4 harg4 arg5 harg5 arg6 harg6 arg7 harg7 arg8 harg8 arg9 harg9 arg10 harg10 h1 x1 x2 x3 (harg3.unread x0) (Scf.trips (0#32) (Scalar.addi 0#32 8#32) 1#32))
    (loop_pieces c i arg3 harg3 arg4 harg4 arg5 harg5 arg6 harg6 arg7 harg7 arg8 harg8 arg9 harg9 arg10 harg10 𝒱 bd h1 x0 x1 x2 x3 _ le_rfl) y
    (View.cover_of_tiledL (pb_k0_t1 (F := Ideal) 𝒱 c bd i arg3 harg3 arg4 harg4 arg5 harg5 arg6 harg6 arg7 harg7 arg8 harg8 arg9 harg9 arg10 harg10 h1 x1 x2 x3 (harg3.unread x0) (Scf.trips (0#32) (Scalar.addi 0#32 8#32) 1#32)) S64x4096.size (by sl_kernel_rfl) y)

/-- What a point that fills the scratch leaves in it. -/
theorem scratch_A (hc0 : cond0_0 i) (hc1 : cond0_1 i) :
    sout0_A_0 (F := Ideal) c i arg3 harg3 arg4 harg4 arg5 harg5 arg6 harg6 arg7 harg7 arg8 harg8 arg9 harg9 arg10 harg10 hc0 hc1 x0 x1 x2 x3 x4 x5 = normed x0 x1 x2 x3 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [read_whole arg4 harg4 zero2 inb_S1x4096_S1x4096_0_0 x1, read_whole arg5 harg5 zero3 inb_S1x1x4096_S1x1x4096_0_0_0 x2, read_whole arg6 harg6 zero3 inb_S1x1x4096_S1x1x4096_0_0_0 x3]
  exact loop_canon c i arg3 harg3 arg4 harg4 arg5 harg5 arg6 harg6 arg7 harg7 arg8 harg8 arg9 harg9 arg10 harg10 Variants.none none hc0 x0 x1 x2 x3

/-- What a point that fills the scratch stores. -/
theorem block_A (hc0 : cond0_0 i) (hc1 : cond0_1 i) (y : Fin 512) (e : Fin 1024) :
    out0_A_6 (F := Ideal) c i arg3 harg3 arg4 harg4 arg5 harg5 arg6 harg6 arg7 harg7 arg8 harg8 arg9 harg9 arg10 harg10 hc0 hc1 x0 x1 x2 x3 x4 x5 (ix3 0 y e)
      = ((∑ d : Fin 4096, normed x0 x1 x2 x3 (ix2 y d) * x4 (ix2 d e)) + x5 (ix2 0 e)) * scale := by
  unfold out0_A_6
  rw [View.read_writes_eq_canon _ _ _ (cover0_A_6 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [canon_block, View.readCov_eq_canon', read_whole arg4 harg4 zero2 inb_S1x4096_S1x4096_0_0 x1, read_whole arg5 harg5 zero3 inb_S1x1x4096_S1x1x4096_0_0_0 x2, read_whole arg6 harg6 zero3 inb_S1x1x4096_S1x1x4096_0_0_0 x3,
    read_whole arg7 harg7 zero2 inb_S4096x1024_S4096x1024_0_0 x4, read_whole arg8 harg8 zero2 inb_S1x1024_S1x1024_0_0 x5]
  refine (out_apply _ x4 x5 y e).trans ?_
  rw [loop_canon c i arg3 harg3 arg4 harg4 arg5 harg5 arg6 harg6 arg7 harg7 arg8 harg8 arg9 harg9 arg10 harg10 Variants.none none hc0 x0 x1 x2 x3]
  refine congrArg (· * scale) (congrArg (· + x5 (ix2 0 e)) (Finset.sum_congr rfl fun d _ => congrArg (· * x4 (ix2 d e)) ?_))
  exact congrFun (View.ld_unit_zero (Val := Elt Ideal) (S := S512x4096) (e := .bf16) zero2 inb_S512x4096_S512x4096_0_0 (normed x0 x1 x2 x3)) (ix2 y d)

/-- What a point that finds the scratch filled stores. -/
theorem block_B (hc0 : ¬cond0_0 i) (hc1 : cond0_1 i) (s : Vec Ideal S512x4096 .bf16) (y : Fin 512) (e : Fin 1024) :
    out0_B_6 (F := Ideal) c i arg3 harg3 arg4 harg4 arg5 harg5 arg6 harg6 arg7 harg7 arg8 harg8 arg9 harg9 arg10 harg10 hc0 hc1 x0 x1 x2 x3 x4 x5 s (ix3 0 y e)
      = ((∑ d : Fin 4096, s (ix2 y d) * x4 (ix2 d e)) + x5 (ix2 0 e)) * scale := by
  unfold out0_B_6
  rw [View.read_writes_eq_canon _ _ _ (cover0_B_6 c i arg3 harg3 arg4 harg4 arg5 harg5 arg6 harg6 arg7 harg7 arg8 harg8 arg9 harg9 arg10 harg10 hc0 hc1 x0 x1 x2 x3 x4 x5 s)]
  unfold kernelRun0_B
  dsimp only
  sl_unfold_words
  rw [canon_block, read_whole arg10 harg10 zero2 inb_S512x4096_S512x4096_0_0 s, read_whole arg7 harg7 zero2 inb_S4096x1024_S4096x1024_0_0 x4, read_whole arg8 harg8 zero2 inb_S1x1024_S1x1024_0_0 x5]
  exact out_apply s x4 x5 y e

end Loop

/-! ## Where the blocks lie -/

theorem index_x : ∀ t : Fin cfg0.N, win0_0.index t 0 = t.val / 64 ∧ win0_0.index t 1 = t.val / 4 % 16 ∧ win0_0.index t 2 = 0 := by
  decide +kernel

theorem index_gain : ∀ t : Fin cfg0.N, win0_1.index t 0 = 0 ∧ win0_1.index t 1 = 0 := by
  decide +kernel

theorem index_shift : ∀ t : Fin cfg0.N, win0_2.index t 0 = t.val / 64 ∧ win0_2.index t 1 = 0 ∧ win0_2.index t 2 = 0 := by
  decide +kernel

theorem index_scale : ∀ t : Fin cfg0.N, win0_3.index t 0 = t.val / 64 ∧ win0_3.index t 1 = 0 ∧ win0_3.index t 2 = 0 := by
  decide +kernel

theorem index_w : ∀ t : Fin cfg0.N, win0_4.index t 0 = 0 ∧ win0_4.index t 1 = t.val % 4 := by
  decide +kernel

theorem index_out : ∀ t : Fin cfg0.N, win0_6.index t 0 = t.val / 64 ∧ win0_6.index t 1 = t.val / 4 % 16 ∧ win0_6.index t 2 = t.val % 4 := by
  decide +kernel

/-- A point's batch, a row of its block and a column of its block, as bounded numbers. -/
def batchOf (t : Fin cfg0.N) : Fin 2 := ⟨t.val / 64, by have h : t.val < 128 := t.isLt; omega⟩

def rowOf (t : Fin cfg0.N) (y : Fin 512) : Fin 8192 := ⟨t.val / 4 % 16 * 512 + y.val, by omega⟩

def colOf (t : Fin cfg0.N) (e : Fin 1024) : Fin 4096 := ⟨t.val % 4 * 1024 + e.val, by omega⟩

variable (m : (l : Loc nD τ sig) → Buf (Elt Ideal) l) (c : Dev nD)

/-- The host lays the gain out as one row before the kernel, and the zeros that stand for a bias. -/
theorem gain_row : V m c main_v1 = shapeCast S1x4096 (m ((c : Thread nD τ).loc main_arg1)) shapeCasts_S4096_S1x4096 := by
  entry_read
  rfl

theorem bias_row : V m c main_v2 = shapeCast S1x4096 (broadcastInDim S4096 ![] bcast_S_S4096 (constant (F := Ideal) S_ .f32 0x00000000#32)) shapeCasts_S4096_S1x4096 := by
  entry_read
  rfl

variable (t : Fin cfg0.N)

theorem block_x (y : Fin 512) (d : Fin 4096) : iblk m c 0 t (ix3 0 y d) = m ((c : Thread nD τ).loc main_arg0) (ix3 (batchOf t) (rowOf t y) d) := by
  obtain ⟨h0, h1, h2⟩ := index_x t
  show V m c main_arg0 (((cfg0.win 0).blk t).view.emb (ix3 0 y d)) = _
  rw [V_main_arg0]
  refine congrArg (m ((c : Thread nD τ).loc main_arg0)) (funext fun a => Fin.ext ?_)
  match a with
  | ⟨0, _⟩ => show win0_0.index t 0 * 1 + 1 * 0 = t.val / 64; omega
  | ⟨1, _⟩ => show win0_0.index t 1 * 512 + 1 * y.val = t.val / 4 % 16 * 512 + y.val; omega
  | ⟨2, _⟩ => show win0_0.index t 2 * 4096 + 1 * d.val = d.val; omega

theorem block_gain (d : Fin 4096) : iblk m c 1 t (ix2 0 d) = m ((c : Thread nD τ).loc main_arg1) (ix1 d) := by
  obtain ⟨h0, h1⟩ := index_gain t
  show V m c main_v1 (((cfg0.win 1).blk t).view.emb (ix2 0 d)) = _
  rw [gain_row]
  refine shapeCast_apply _ _ _ (ix1 d) ?_
  rw [Shape.rowMajor_val_one, Shape.rowMajor_val_two]
  show d.val = (win0_1.index t 0 * 1 + 1 * 0) * 4096 + (win0_1.index t 1 * 4096 + 1 * d.val)
  omega

theorem block_shift (d : Fin 4096) : iblk m c 2 t (ix3 0 0 d) = m ((c : Thread nD τ).loc main_arg2) (ix3 (batchOf t) 0 d) := by
  obtain ⟨h0, h1, h2⟩ := index_shift t
  show V m c main_arg2 (((cfg0.win 2).blk t).view.emb (ix3 0 0 d)) = _
  rw [V_main_arg2]
  refine congrArg (m ((c : Thread nD τ).loc main_arg2)) (funext fun a => Fin.ext ?_)
  match a with
  | ⟨0, _⟩ => show win0_2.index t 0 * 1 + 1 * 0 = t.val / 64; omega
  | ⟨1, _⟩ => show win0_2.index t 1 * 1 + 1 * 0 = 0; omega
  | ⟨2, _⟩ => show win0_2.index t 2 * 4096 + 1 * d.val = d.val; omega

theorem block_scale (d : Fin 4096) : iblk m c 3 t (ix3 0 0 d) = m ((c : Thread nD τ).loc main_arg3) (ix3 (batchOf t) 0 d) := by
  obtain ⟨h0, h1, h2⟩ := index_scale t
  show V m c main_arg3 (((cfg0.win 3).blk t).view.emb (ix3 0 0 d)) = _
  rw [V_main_arg3]
  refine congrArg (m ((c : Thread nD τ).loc main_arg3)) (funext fun a => Fin.ext ?_)
  match a with
  | ⟨0, _⟩ => show win0_3.index t 0 * 1 + 1 * 0 = t.val / 64; omega
  | ⟨1, _⟩ => show win0_3.index t 1 * 1 + 1 * 0 = 0; omega
  | ⟨2, _⟩ => show win0_3.index t 2 * 4096 + 1 * d.val = d.val; omega

theorem block_w (d : Fin 4096) (e : Fin 1024) : iblk m c 4 t (ix2 d e) = m ((c : Thread nD τ).loc main_arg4) (ix2 d (colOf t e)) := by
  obtain ⟨h0, h1⟩ := index_w t
  show V m c main_arg4 (((cfg0.win 4).blk t).view.emb (ix2 d e)) = _
  rw [V_main_arg4]
  refine congrArg (m ((c : Thread nD τ).loc main_arg4)) (funext fun a => Fin.ext ?_)
  match a with
  | ⟨0, _⟩ => show win0_4.index t 0 * 4096 + 1 * d.val = d.val; omega
  | ⟨1, _⟩ => show win0_4.index t 1 * 1024 + 1 * e.val = t.val % 4 * 1024 + e.val; omega

theorem block_bias (e : Fin 1024) : iblk m c 5 t (ix2 0 e) = (0 : EReal) := by
  show V m c main_v2 (((cfg0.win 5).blk t).view.emb (ix2 0 e)) = _
  rw [bias_row]
  exact Ideal.ofBits_zero_f32

/-- Where an output block's entry lies in the result. -/
theorem emb_out (y : Fin 512) (e : Fin 1024) : ((cfg0.win 6).blk t).view.emb (ix3 0 y e) = (ix3 (batchOf t) (rowOf t y) (colOf t e) : S2x8192x4096.Idx) := by
  obtain ⟨h0, h1, h2⟩ := index_out t
  refine funext fun a => Fin.ext ?_
  match a with
  | ⟨0, _⟩ => show win0_6.index t 0 * 1 + 1 * 0 = t.val / 64; omega
  | ⟨1, _⟩ => show win0_6.index t 1 * 512 + 1 * y.val = t.val / 4 % 16 * 512 + y.val; omega
  | ⟨2, _⟩ => show win0_6.index t 2 * 1024 + 1 * e.val = t.val % 4 * 1024 + e.val; omega

/-! ## What the scratch holds -/

/-- The normed rows of the batch and the row block given, of the launch memory. -/
def rowsOf (b : Fin 2) (r : Fin 512 → Fin 8192) : S512x4096.Idx → EReal :=
  fun i => normAt (fun k => m ((c : Thread nD τ).loc main_arg0) (ix3 b (r (i 0)) k)) (m ((c : Thread nD τ).loc main_arg1) (ix1 (i 1)))
    (m ((c : Thread nD τ).loc main_arg2) (ix3 b 0 (i 1))) (m ((c : Thread nD τ).loc main_arg3) (ix3 b 0 (i 1))) (i 1)

theorem normed_block : normed (iblk m c 0 t) (iblk m c 1 t) (iblk m c 2 t) (iblk m c 3 t) = rowsOf m c (batchOf t) (rowOf t) := by
  funext i
  obtain ⟨y, d, rfl⟩ : ∃ (y : Fin 512) (d : Fin 4096), i = ix2 y d := ⟨i 0, i 1, ValueIdx.eq_ix2 i⟩
  show normAt (fun k => iblk m c 0 t (ix3 0 y k)) (iblk m c 1 t (ix2 0 d)) (iblk m c 2 t (ix3 0 0 d)) (iblk m c 3 t (ix3 0 0 d)) d
    = normAt _ _ _ _ d
  rw [block_gain, block_shift, block_scale]
  exact congrArg (fun f => normAt f _ _ _ d) (funext fun k => block_x m c t y k)

/-- A point that is not the first of its row block finds the scratch as the block's first point filled it. -/
theorem scratch_eq (n : ℕ) : ∀ h : n < cfg0.N, (outsAt0 m c n h).2 = rowsOf m c (batchOf ⟨n, h⟩) (rowOf ⟨n, h⟩) := by
  induction n using Nat.strong_induction_on with
  | _ n ih =>
    intro h
    by_cases h0 : n % 4 = 0
    · rw [outsAt0_A m c ⟨n, h⟩ h0]
      dsimp only
      rw [scratch_A]
      exact normed_block m c ⟨n, h⟩
    · have hl : n - 1 < cfg0.N := Nat.lt_of_le_of_lt (Nat.sub_le _ _) h
      have hb : batchOf ⟨n - 1, hl⟩ = batchOf ⟨n, h⟩ := Fin.ext (by show (n - 1) / 64 = n / 64; omega)
      have hr : rowOf ⟨n - 1, hl⟩ = rowOf ⟨n, h⟩ := funext fun y => Fin.ext (by show (n - 1) / 4 % 16 * 512 + y.val = n / 4 % 16 * 512 + y.val; omega)
      rw [outsAt0_B m c ⟨n, h⟩ h0]
      dsimp only
      unfold sout0_B_0
      rw [ih (n - 1) (by omega) hl, hb, hr]

/-! ## The whole result -/

/-- The whole result, of the launch memory. -/
def wholeOut : Buf (Elt Ideal) ((c : Thread nD τ).loc main_v3) :=
  array (m ((c : Thread nD τ).loc main_arg0)) (m ((c : Thread nD τ).loc main_arg1)) (m ((c : Thread nD τ).loc main_arg2)) (m ((c : Thread nD τ).loc main_arg3))
    (m ((c : Thread nD τ).loc main_arg4))

/-- A point's result, of the rows that the scratch holds, is its block of the whole result. -/
theorem block_out (s : Vec Ideal S512x4096 .bf16) (hs : s = rowsOf m c (batchOf t) (rowOf t)) (y : Fin 512) (e : Fin 1024) :
    ((∑ d : Fin 4096, s (ix2 y d) * (iblk m c 4 t : Vec Ideal S4096x1024 .bf16) (ix2 d e)) + (iblk m c 5 t : Vec Ideal S1x1024 .f32) (ix2 0 e)) * scale
      = wholeOut m c (((cfg0.win 6).blk t).view.emb (ix3 0 y e)) := by
  refine Eq.trans ?_ (congrArg (wholeOut m c) (emb_out t y e)).symm
  show _ = entry _ _ _ _ _ (batchOf t) (rowOf t y) (colOf t e)
  unfold entry
  refine congrArg (· * scale) ((congrArg₂ (fun u v : EReal => u + v) (Finset.sum_congr rfl fun d _ => congrArg₂ (fun u v : EReal => u * v) ?_ (block_w m c t d e)) (block_bias m c t e)).trans (add_zero _))
  rw [hs]
  rfl

/-- What a point writes back is its block of the whole result. -/
theorem flushed_out : (dats m 0 c).flushed 6 t = ((cfg0.win 6).blk t).view.read (Elt Ideal) (wholeOut m c) := by
  by_cases h0 : t.val % 4 = 0
  · rw [Value.flushed6_A m c t h0]
    funext j
    obtain ⟨z, y, e, rfl⟩ : ∃ (z : Fin 1) (y : Fin 512) (e : Fin 1024), j = ix3 z y e := ⟨j 0, j 1, j 2, ValueIdx.eq_ix3 j⟩
    obtain rfl : z = 0 := Subsingleton.elim _ _
    exact (block_A _ _ _ _ _ _ _ _ _ _ _ _ _ _ _ _ _ _ _ _ _ _ _ _ _ _ y e).trans (block_out m c t _ (normed_block m c t) y e)
  · rw [Value.flushed6_B m c t h0]
    funext j
    obtain ⟨z, y, e, rfl⟩ : ∃ (z : Fin 1) (y : Fin 512) (e : Fin 1024), j = ix3 z y e := ⟨j 0, j 1, j 2, ValueIdx.eq_ix3 j⟩
    obtain rfl : z = 0 := Subsingleton.elim _ _
    refine (block_B _ _ _ _ _ _ _ _ _ _ _ _ _ _ _ _ _ _ _ _ _ _ _ _ _ _ _ y e).trans (block_out m c t _ ?_ y e)
    refine Eq.trans ?_ (scratch_eq m c t.val t.isLt)
    rw [outsAt0_B m c t h0]
    rfl

/-- Every entry of the result is in some point's block. -/
theorem cover_out (i : S2x8192x4096.Idx) : ∃ t : Fin cfg0.N, (cfg0.win 6).flush t = true ∧ i ∈ ((cfg0.win 6).blk t).view.set := by
  obtain ⟨b, n, e, rfl⟩ : ∃ (b : Fin 2) (n : Fin 8192) (e : Fin 4096), i = ix3 b n e := ⟨i 0, i 1, i 2, ValueIdx.eq_ix3 i⟩
  have ht : b.val * 64 + n.val / 512 * 4 + e.val / 1024 < 128 := by omega
  refine ⟨(⟨b.val * 64 + n.val / 512 * 4 + e.val / 1024, ht⟩ : Fin cfg0.N), flush0_6 _, ?_⟩
  have h := ((cfg0.win 6).blk (⟨b.val * 64 + n.val / 512 * 4 + e.val / 1024, ht⟩ : Fin cfg0.N)).view.emb_mem_set (ix3 0 ⟨n.val % 512, by omega⟩ ⟨e.val % 1024, by omega⟩)
  rw [emb_out] at h
  refine cast (congrArg (· ∈ ((cfg0.win 6).blk (⟨b.val * 64 + n.val / 512 * 4 + e.val / 1024, ht⟩ : Fin cfg0.N)).view.set) (funext fun a => Fin.ext ?_)) h
  match a with
  | ⟨0, _⟩ => show (b.val * 64 + n.val / 512 * 4 + e.val / 1024) / 64 = b.val; omega
  | ⟨1, _⟩ => show (b.val * 64 + n.val / 512 * 4 + e.val / 1024) / 4 % 16 * 512 + n.val % 512 = n.val; omega
  | ⟨2, _⟩ => show (b.val * 64 + n.val / 512 * 4 + e.val / 1024) % 4 * 1024 + e.val % 1024 = e.val; omega

/-- The result array after the run. -/
theorem arrAt_out : (dats m 0 c).arrAt 6 cfg0.N = wholeOut m c :=
  (dats m 0 c).arrAt_eq_of_cover 6 (wholeOut m c) (fun t _ => flushed_out m c t) cover_out

/-! ## The reference -/

open Cert.QueryReferenceIdeal.Read in
/-- The reference's factor: the reciprocal root of 128 divided by the logarithm of 2. -/
theorem reference_scale (i : Cert.QueryReferenceIdeal.S_.Idx) : val_main_v23 (F := Ideal) i = scale := by
  have h128 : Ideal.ofBits .f32 0x43000000#32 = ((128 : ℝ) : EReal) := by
    simp [Ideal.ofBits, Ideal.ieee]
    rw [← EReal.coe_mul]
    norm_num
  have hl : Real.log 2 ≠ 0 := (Real.log_pos one_lt_two).ne'
  have hr : Ideal.rsqrt ((128 : ℝ) : EReal) = (((Real.sqrt 128)⁻¹ : ℝ) : EReal) := by
    rw [Ideal.rsqrt_coe, if_neg (by norm_num), if_neg (by norm_num)]
  show Ideal.div (Ideal.rsqrt (Ideal.ofBits .f32 0x43000000#32)) (Ideal.log (Ideal.ofBits .f32 0x40000000#32)) = _
  have h2 : Ideal.log (Ideal.ofBits .f32 0x40000000#32) = ((Real.log 2 : ℝ) : EReal) := Cert.Attention.logTwo_eq fun a => a.elim0
  rw [h128, hr, h2, Ideal.div_coe hl, ← EReal.coe_mul, one_div]
  rfl

open Cert.QueryReferenceIdeal.Read in
/-- The reference's result is the same array. -/
theorem reference_eq (x : S2x8192x4096.Idx → EReal) (g : S4096.Idx → EReal) (sh sc : S2x1x4096.Idx → EReal) (w : S4096x4096.Idx → EReal) :
    val_main_v26 (F := Ideal) x g sh sc w = array x g sh sc w := by
  funext i
  obtain ⟨b, n, e, rfl⟩ : ∃ (b : Fin 2) (n : Fin 8192) (e : Fin 4096), i = ix3 b n e := ⟨i 0, i 1, i 2, ValueIdx.eq_ix3 i⟩
  rw [val_main_v26_apply, val_main_v25_apply, val_main_v24_apply, reference_scale, val_main_v20_apply]
  refine congrArg (fun s : EReal => s * scale) (Finset.sum_congr rfl fun d _ => congrArg₂ (fun u v : EReal => u * v) ?_ ?_)
  · have il : lidx_main_v20 (ix3 b n e) d = ix3 b n d := funext fun a => Fin.ext (match a with | ⟨0, _⟩ => rfl | ⟨1, _⟩ => rfl | ⟨2, _⟩ => rfl)
    rw [il]
    exact Cert.NormValue.reference_rows x g sh sc b n d
  · exact congrArg w (funext fun a => Fin.ext (match a with | ⟨0, _⟩ => rfl | ⟨1, _⟩ => rfl))

end Cert.QueryValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Residual
public import proofs.«01_k».proof.Proof.Gen.Residual.Skeleton
public import proofs.«01_k».proof.Proof.Gen.Residual.Launch
public import proofs.«01_k».proof.Proof.Gen.Residual.Points
public import proofs.«01_k».proof.Proof.Gen.Residual.Frame
public import proofs.«01_k».proof.Proof.Gen.ResidualIdeal
public import proofs.«01_k».proof.Proof.Gen.ResidualIdeal.Skeleton
public import proofs.«01_k».proof.Proof.Gen.ResidualIdeal.Launch
public import proofs.«01_k».proof.Proof.Gen.ResidualIdeal.Points
public import proofs.«01_k».proof.Proof.Gen.ResidualIdeal.Frame
public import proofs.«01_k».proof.Proof.Gen.ResidualReferenceIdeal
public import proofs.«01_k».proof.Proof.Gen.ResidualReferenceIdeal.Run
public import proofs.«01_k».proof.Proof.Gen.ResidualReferenceIdeal.Read
public import proofs.«01_k».proof.Proof.Gen.ResidualIdeal.Value
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Up
public import proofs.«01_k».proof.Proof.Gen.Up.Skeleton
public import proofs.«01_k».proof.Proof.Gen.Up.Launch
public import proofs.«01_k».proof.Proof.Gen.Up.Loops
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Loops
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Whole
public import proofs.«01_k».proof.Proof.Finite
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.NormIdeal.Value
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryReferenceIdeal
public import proofs.«01_k».proof.Proof.Gen.QueryReferenceIdeal.Run
public import proofs.«01_k».proof.Proof.Gen.QueryReferenceIdeal.Read
public import proofs.«01_k».proof.Proof.Gen.QueryIdeal.Value
public import proofs.«01_k».proof.Proof.ResidualValue
public import proofs.«01_k».proof.Proof.DownRun
public import proofs.«01_k».proof.Proof.DownTables
public import proofs.«01_k».proof.Proof.DownRef
public import proofs.«01_k».proof.Proof.UpRun
public import proofs.«01_k».proof.Proof.UpTables
public import proofs.«01_k».proof.Proof.UpRef
public import proofs.«01_k».proof.Proof.NormValue
public import proofs.«01_k».proof.Proof.QueryValue
public import Idealize.ShloMosaic.Adequacy
public import Idealize.ShloMosaic.Init

@[expose] public section

noncomputable section

namespace Cert.Proof

open Idealize.ShloMosaic Idealize.SL.Sem

attribute [local instance] Cert.Finite.facts

/-- The reference runs, keeps its arguments and, having no semaphores, ends with every counter at zero. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two named constants: the word that scales the bias stands for 1 / ln 2, the word of the mask for −∞. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The kernel and the reference compute the same array: both end with the kernel's array of softmax rows, which is the reference's. -/
theorem algebraic : Cert.algebraic_KernelIdeal_ReferenceIdeal_pre_finite_logits := by
  intro m g m' g' hpre hargs
  refine ⟨fun c => Cert.Attention.wholeOut m c, ?_, ?_⟩
  · exact (θ_run Cert.KernelIdeal.defs _ _).mono (fun _ h c => ⟨(h c).1.trans (Cert.Attention.arrAt_out m c), (h c).2⟩) (Cert.KernelIdeal.Value.run_blocks m g)
  · refine (θ_run Cert.ReferenceIdeal.defs _ _).mono (fun _ h c => ⟨(h c).1.trans ?_, (h c).2⟩) (Cert.ReferenceIdeal.Value.run m' g')
    obtain ⟨hq, hk, ht⟩ := Cert.Finite.real_of_pre _ _ _ (hpre c)
    obtain ⟨e0, e1, e2⟩ := hargs c
    rw [Cert.ReferenceIdeal.Read.val_main_v71_eq, e0, e1, e2]
    exact (Cert.Attention.kernelArray_eq _ _ _ hq hk ht).symm

/-- The reference of the gated product runs, keeps its arguments and, having no semaphores, ends with every counter at zero. -/
theorem residual_reference_frame : Cert.quiescent_ResidualReferenceIdeal := fun m ρ _ =>
  (θ_run Cert.ResidualReferenceIdeal.defs _ _).mono (fun r h => ⟨fun c => (h c).2, Idealize.ShloMosaic.sem_eq_zero_of_no_sems (by decide) r.2⟩)
    (Cert.ResidualReferenceIdeal.Value.run (F := Ideal) m ρ)

/-- The gated product: kernel and reference end with the same array. -/
theorem residual_algebraic : Cert.algebraic_ResidualIdeal_ResidualReferenceIdeal := by
  intro m g m' g' _ hargs
  refine ⟨fun c => Cert.ResidualValue.wholeOut m c, ?_, ?_⟩
  · exact (θ_run Cert.ResidualIdeal.defs _ _).mono (fun _ h c => ⟨(h c).1.trans (Cert.ResidualValue.arrAt_out m c), (h c).2⟩) (Cert.ResidualIdeal.Value.run_blocks m g)
  · refine (θ_run Cert.ResidualReferenceIdeal.defs _ _).mono (fun _ h c => ⟨(h c).1.trans ?_, (h c).2⟩) (Cert.ResidualReferenceIdeal.Value.run m' g')
    obtain ⟨e0, e1, e2, e3⟩ := hargs c
    rw [Cert.ResidualReferenceIdeal.Read.val_main_v5_eq, e0, e1, e2, e3]
    exact Cert.ResidualValue.reference_eq _ _ _ _

/-- The experts' second product: every execution ends, faults nowhere and leaves the arguments as they were, where every
    tile's expert is one of the sixteen. -/
theorem down_frame : Cert.quiescent_Down (hPre_experts_in_range := Cert.DownTables.facts) := fun m ρ hp =>
  (θ_run Cert.Down.defs _ _).mono (fun _ h => ⟨fun c => (h.1 c).2, h.2⟩)
    (Cert.Down.Run.run_value (F := Bits) m ρ fun c i => @Cert.DownTables.lt_of_pre Cert.DownTables.facts Bits _ _ _ _ _ (hp c) i)

theorem down_ideal_frame : Cert.quiescent_DownIdeal (hPre_experts_in_range := Cert.DownTables.facts) := fun m ρ hp =>
  (θ_run Cert.DownIdeal.defs _ _).mono (fun _ h => ⟨fun c => (h.1 c).2, h.2⟩)
    (Cert.DownIdeal.Run.run_value (F := Ideal) m ρ fun c i => @Cert.DownTables.lt_of_pre Cert.DownTables.facts Ideal _ _ _ _ _ (hp c) i)

theorem down_reference_frame : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- The experts' second product: kernel and reference end with the same array, where every tile's expert is one of the
    sixteen. -/
theorem down_algebraic : Cert.algebraic_DownIdeal_DownReferenceIdeal (hPre_experts_in_range := Cert.DownTables.facts) := by
  intro m g m' g' hp hargs
  have hlt : ∀ (c : Dev Cert.DownIdeal.nD) (i : Cert.DownIdeal.S148.Idx), (show BitVec 32 from m ((c.tc : Thread Cert.DownIdeal.nD Cert.DownIdeal.τ).loc Cert.DownIdeal.main_arg2) i).toNat < 16 :=
    fun c i => @Cert.DownTables.lt_of_pre Cert.DownTables.facts Ideal _ _ _ _ _ (hp c) i
  refine ⟨fun c => Cert.DownValue.wholeOut m c, ?_, ?_⟩
  · exact (θ_run Cert.DownIdeal.defs _ _).mono (fun _ h c => ⟨(h.1 c).1.trans (Cert.DownValue.arrAt_out m hlt c), (h.1 c).2⟩)
      (Cert.DownIdeal.Run.run_value (F := Ideal) m g hlt)
  · refine (θ_run Cert.DownReferenceIdeal.defs _ _).mono (fun _ h c => ⟨(h c).1.trans ?_, (h c).2⟩) (Cert.DownReferenceIdeal.Value.run m' g')
    obtain ⟨e0, e1, e2, e3⟩ := hargs c
    rw [Cert.DownReferenceIdeal.Read.val_main_v25_eq, e0, e1, e2, e3]
    exact Cert.DownValue.reference_eq _ _ _ _ (hlt c)

/-- The experts' first product: every execution ends, faults nowhere and leaves the arguments as they were, where the
    three tables are in range. -/
theorem up_frame : Cert.quiescent_Up (hPre_tables_in_range := Cert.UpTables.facts) := fun m ρ hp =>
  (θ_run Cert.Up.defs _ _).mono (fun _ h => ⟨fun c => (h.1 c).2, h.2⟩)
    (Cert.Up.Run.run_value (F := Bits) m ρ
      { src := fun c i => @Cert.UpTables.src_of_pre Cert.UpTables.facts Bits _ _ _ _ _ _ _ (hp c) i
        expert := fun c i => @Cert.UpTables.expert_of_pre Cert.UpTables.facts Bits _ _ _ _ _ _ _ (hp c) i
        count := fun c i => @Cert.UpTables.count_of_pre Cert.UpTables.facts Bits _ _ _ _ _ _ _ (hp c) i })

/-- The tables of the idealized program are in range where the precondition holds. -/
theorem up_fits (m : (ℓ : Loc Cert.UpIdeal.nD Cert.UpIdeal.τ Cert.UpIdeal.sig) → Buf (Elt Ideal) ℓ)
    (hp : Cert.Pre_UpIdeal (hPre_tables_in_range := Cert.UpTables.facts) m) : Cert.UpIdeal.Run.Fits (F := Ideal) m where
  src := fun c i => @Cert.UpTables.src_of_pre Cert.UpTables.facts Ideal _ _ _ _ _ _ _ (hp c) i
  expert := fun c i => @Cert.UpTables.expert_of_pre Cert.UpTables.facts Ideal _ _ _ _ _ _ _ (hp c) i
  count := fun c i => @Cert.UpTables.count_of_pre Cert.UpTables.facts Ideal _ _ _ _ _ _ _ (hp c) i

theorem up_ideal_frame : Cert.quiescent_UpIdeal (hPre_tables_in_range := Cert.UpTables.facts) := fun m ρ hp =>
  (θ_run Cert.UpIdeal.defs _ _).mono (fun _ h => ⟨fun c => (h.1 c).2, h.2⟩)
    (Cert.UpIdeal.Run.run_value (F := Ideal) m ρ (up_fits m hp))

theorem up_reference_frame : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run (F := Ideal) m ρ)

/-- The experts' first product: kernel and reference end with the same array, where the three tables are in range. -/
theorem up_algebraic : Cert.algebraic_UpIdeal_UpReferenceIdeal (hPre_tables_in_range := Cert.UpTables.facts) := by
  intro m g m' g' hp hargs
  have hf := up_fits m hp
  refine ⟨fun c => Cert.UpValue.wholeOut m c, ?_, ?_⟩
  · exact (θ_run Cert.UpIdeal.defs _ _).mono (fun _ h c => ⟨(h.1 c).1.trans (Cert.UpValue.arrAt_out m hf c), (h.1 c).2⟩)
      (Cert.UpIdeal.Run.run_value (F := Ideal) m g hf)
  · refine (θ_run Cert.UpReferenceIdeal.defs _ _).mono (fun _ h c => ⟨(h c).1.trans ?_, (h c).2⟩) (Cert.UpReferenceIdeal.Value.run m' g')
    obtain ⟨e0, e1, e2, e3, e4, e5⟩ := hargs c
    rw [Cert.UpReferenceIdeal.Read.val_main_v38_eq, e0, e1, e2, e3, e4, e5]
    exact Cert.UpValue.reference_eq _ _ _ _ _ _ (hf.src c) (hf.expert c) (hf.count c)

/-- The reference of the normed rows' product runs, keeps its arguments and, having no semaphores, ends with every counter at zero. -/
theorem norm_reference_frame : Cert.quiescent_NormReferenceIdeal := fun m ρ _ =>
  (θ_run Cert.NormReferenceIdeal.defs _ _).mono (fun r h => ⟨fun c => (h c).2, Idealize.ShloMosaic.sem_eq_zero_of_no_sems (by decide) r.2⟩)
    (Cert.NormReferenceIdeal.Value.run (F := Ideal) m ρ)

/-- The normed rows' product: kernel and reference end with the same array. -/
theorem norm_algebraic : Cert.algebraic_NormIdeal_NormReferenceIdeal := by
  intro m g m' g' _ hargs
  refine ⟨fun c => Cert.NormValue.wholeOut m c, ?_, ?_⟩
  · exact (θ_run Cert.NormIdeal.defs _ _).mono (fun _ h c => ⟨(h c).1.trans (Cert.NormValue.arrAt_out m c), (h c).2⟩) (Cert.NormIdeal.Value.run_blocks m g)
  · refine (θ_run Cert.NormReferenceIdeal.defs _ _).mono (fun _ h c => ⟨(h c).1.trans ?_, (h c).2⟩) (Cert.NormReferenceIdeal.Value.run m' g')
    obtain ⟨e0, e1, e2, e3, e4, e5⟩ := hargs c
    rw [Cert.NormReferenceIdeal.Read.val_main_v37_eq, e0, e1, e2, e3, e4, e5]
    exact Cert.NormValue.reference_eq _ _ _ _ _ _

/-- The reference of the queries runs, keeps its arguments and, having no semaphores, ends with every counter at zero. -/
theorem query_reference_frame : Cert.quiescent_QueryReferenceIdeal := fun m ρ _ =>
  (θ_run Cert.QueryReferenceIdeal.defs _ _).mono (fun r h => ⟨fun c => (h c).2, Idealize.ShloMosaic.sem_eq_zero_of_no_sems (by decide) r.2⟩)
    (Cert.QueryReferenceIdeal.Value.run (F := Ideal) m ρ)

/-- The named constant of the queries: the word that scales them stands for 1 / (√128 · ln 2). -/
theorem query_preserves : Cert.preserves_Query_QueryIdeal :=
  IdealRules.named_const.statement Cert.QueryIdeal.κ "query_scale" .f32 0x3E0293EE#32 (((Real.sqrt 128)⁻¹ * (Real.log 2)⁻¹ : ℝ) : EReal) rfl

/-- The queries: kernel and reference end with the same array. -/
theorem query_algebraic : Cert.algebraic_QueryIdeal_QueryReferenceIdeal := by
  intro m g m' g' _ hargs
  refine ⟨fun c => Cert.QueryValue.wholeOut m c, ?_, ?_⟩
  · exact (θ_run Cert.QueryIdeal.defs _ _).mono (fun _ h c => ⟨(h c).1.trans (Cert.QueryValue.arrAt_out m c), (h c).2⟩) (Cert.QueryIdeal.Value.run_blocks m g)
  · refine (θ_run Cert.QueryReferenceIdeal.defs _ _).mono (fun _ h c => ⟨(h c).1.trans ?_, (h c).2⟩) (Cert.QueryReferenceIdeal.Value.run m' g')
    obtain ⟨e0, e1, e2, e3, e4⟩ := hargs c
    rw [Cert.QueryReferenceIdeal.Read.val_main_v26_eq, e0, e1, e2, e3, e4]
    exact Cert.QueryValue.reference_eq _ _ _ _ _

/-- Every claim of the certificate. -/
theorem claim : Cert.Claim :=
  ⟨Cert.Kernel.Gen.facts, Cert.KernelIdeal.Gen.facts, Cert.ReferenceIdeal.Gen.facts,
    Cert.Residual.Gen.facts, Cert.ResidualIdeal.Gen.facts, Cert.ResidualReferenceIdeal.Gen.facts,
    Cert.Down.Gen.facts, Cert.DownIdeal.Gen.facts, Cert.DownReferenceIdeal.Gen.facts,
    Cert.Up.Gen.facts, Cert.UpIdeal.Gen.facts, Cert.UpReferenceIdeal.Gen.facts,
    Cert.Norm.Gen.facts, Cert.NormIdeal.Gen.facts, Cert.NormReferenceIdeal.Gen.facts,
    Cert.Query.Gen.facts, Cert.QueryIdeal.Gen.facts, Cert.QueryReferenceIdeal.Gen.facts, Cert.Finite.facts, Cert.DownTables.facts, Cert.UpTables.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Residual.Gen.frame m ρ, fun m ρ _ => Cert.ResidualIdeal.Gen.frame m ρ, residual_reference_frame,
    down_frame, down_ideal_frame, down_reference_frame, fun m ρ _ => down_reference_frame m ρ trivial,
    up_frame, up_ideal_frame, up_reference_frame, fun m ρ _ => up_reference_frame m ρ trivial,
    fun m ρ _ => Cert.Norm.Gen.frame m ρ, fun m ρ _ => Cert.NormIdeal.Gen.frame m ρ, norm_reference_frame,
    fun m ρ _ => Cert.Query.Gen.frame m ρ, fun m ρ _ => Cert.QueryIdeal.Gen.frame m ρ, query_reference_frame,
    preserves, algebraic, trivial, residual_algebraic, trivial, down_algebraic, trivial, up_algebraic, trivial, norm_algebraic, query_preserves, query_algebraic⟩

end Cert.Proof

end
